-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v26) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hPre_fits : Cert.Pre_fits.Facts),
    quiescent_Kernel (hKernel := hKernel) (hPre_fits := hPre_fits)
    ∧ quiescent_KernelIdeal (hKernelIdeal := hKernelIdeal) (hPre_fits := hPre_fits)
    ∧ quiescent_ReferenceIdeal (hReferenceIdeal := hReferenceIdeal) (hPre_fits := hPre_fits)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal (hKernelIdeal := hKernelIdeal) (hReferenceIdeal := hReferenceIdeal) (hPre_fits := hPre_fits)
    ∧ preserves_Dense_DenseIdeal
    ∧ algebraic_DenseIdeal_DenseReferenceIdeal (hDenseIdeal := hDenseIdeal) (hDenseReferenceIdeal := hDenseReferenceIdeal)
-- ==== Pre_fits.lean ====
abbrev S16384 : Shape := ⟨1, ![16384]⟩
abbrev S1000000x64 : Shape := ⟨2, ![1000000, 64]⟩
abbrev S49152 : Shape := ⟨1, ![49152]⟩
abbrev S32 : Shape := ⟨1, ![32]⟩
abbrev S32x1 : Shape := ⟨2, ![32, 1]⟩
abbrev S_ : Shape := ⟨0, ![]⟩
abbrev S1x49152 : Shape := ⟨2, ![1, 49152]⟩
abbrev S32x49152 : Shape := ⟨2, ![32, 49152]⟩

class Facts : Prop where
  concatenates_S16384_S16384_S16384_S49152_d0 : Shape.Concatenates [S16384, S16384, S16384] S49152 0
  bcast_S32_S32x1_0 : S32.BroadcastsInDim S32x1 (![0] : Fin 1 → Fin S32x1.rank)
  bcast_S_S32x1 : S_.BroadcastsInDim S32x1 (![] : Fin 0 → Fin S32x1.rank)
  bcast_S49152_S1x49152_1 : S49152.BroadcastsInDim S1x49152 (![1] : Fin 1 → Fin S1x49152.rank)
  bcast_S1x49152_S32x49152_0_1 : S1x49152.BroadcastsInDim S32x49152 (![0, 1] : Fin 2 → Fin S32x49152.rank)
  bcast_S32x1_S32x49152_0_1 : S32x1.BroadcastsInDim S32x49152 (![0, 1] : Fin 2 → Fin S32x49152.rank)
  bcast_S_S1x49152 : S_.BroadcastsInDim S1x49152 (![] : Fin 0 → Fin S1x49152.rank)
  bcast_S_S49152 : S_.BroadcastsInDim S49152 (![] : Fin 0 → Fin S49152.rank)
  natLt_1_32 : 1 < 32
  reducesTo_S32x49152_S32_d1 : S32x49152.ReducesTo [1] S32
  h_S_ : 0 < S_.numel
  bcast_S_S32 : S_.BroadcastsInDim S32 (![] : Fin 0 → Fin S32.rank)
  reducesTo_S49152_S_d0 : S49152.ReducesTo [0] S_

variable [Facts]

def fn_part1 {F : FTy → Type} [FloatOps F] (main_v0 : IVec S49152 32) (main_v20 : IVec S32x49152 1) : IVec S49152 1 × IVec S32 1 × IVec S_ 1 :=
  let main_c_2 : IVec S_ 32 := constantI S_ 32 0#32
  let main_v21 : IVec S49152 32 := broadcastInDim S49152 ![] bcast_S_S49152 main_c_2
  let main_v22 : IVec S49152 1 := cmpi .sge main_v0 main_v21
  let main_c_3 : IVec S_ 32 := constantI S_ 32 1000000#32
  let main_v23 : IVec S49152 32 := broadcastInDim S49152 ![] bcast_S_S49152 main_c_3
  let main_v24 : IVec S49152 1 := cmpi .slt main_v0 main_v23
  let main_v25 : IVec S49152 1 := andi main_v22 main_v24
  let main_v26 : IVec S32x49152 32 := (extui 32 · natLt_1_32) main_v20
  let main_c_4 : IVec S_ 32 := constantI S_ 32 0#32
  let main_v27 : IVec S32 32 := (fun x v => Host.reduce IntOp.addi x v reducesTo_S32x49152_S32_d1 h_S_) main_v26 main_c_4
  let main_c_5 : IVec S_ 32 := constantI S_ 32 1744#32
  let main_v28 : IVec S32 32 := broadcastInDim S32 ![] bcast_S_S32 main_c_5
  let main_v29 : IVec S32 1 := cmpi .sle main_v27 main_v28
  let main_c_6 : IVec S_ 32 := constantI S_ 32 999936#32
  let main_v30 : IVec S49152 32 := broadcastInDim S49152 ![] bcast_S_S49152 main_c_6
  let main_v31 : IVec S49152 1 := cmpi .sge main_v0 main_v30
  let main_v32 : IVec S49152 32 := (extui 32 · natLt_1_32) main_v31
  let main_c_7 : IVec S_ 32 := constantI S_ 32 0#32
  let main_v33 : IVec S_ 32 := (fun x v => Host.reduce IntOp.addi x v reducesTo_S49152_S_d0 h_S_) main_v32 main_c_7
  let main_c_8 : IVec S_ 32 := constantI S_ 32 208#32
  let main_v34 : IVec S_ 1 := cmpi .sle main_v33 main_c_8
  (main_v25, main_v29, main_v34)

def fn {F : FTy → Type} [FloatOps F] (main_arg0 : IVec S16384 32) (main_arg1 : IVec S16384 32) (main_arg2 : IVec S16384 32) (main_arg3 : FVec F S1000000x64 .f32) : IVec S49152 1 × IVec S32 1 × IVec S_ 1 :=
  let main_v0 : IVec S49152 32 := concatenate S49152 0 [⟨S16384, main_arg0⟩, ⟨S16384, main_arg1⟩, ⟨S16384, main_arg2⟩] concatenates_S16384_S16384_S16384_S49152_d0
  let main_v1 : IVec S32 32 := iotaInDim S32 32 0
  let main_v2 : IVec S32x1 32 := broadcastInDim S32x1 ![0] bcast_S32_S32x1_0 main_v1
  let main_c : IVec S_ 32 := constantI S_ 32 31250#32
  let main_v3 : IVec S32x1 32 := broadcastInDim S32x1 ![] bcast_S_S32x1 main_c
  let main_v4 : IVec S32x1 32 := muli main_v3 main_v2
  let main_v5 : IVec S1x49152 32 := broadcastInDim S1x49152 ![1] bcast_S49152_S1x49152_1 main_v0
  let main_v6 : IVec S32x49152 32 := broadcastInDim S32x49152 ![0, 1] bcast_S1x49152_S32x49152_0_1 main_v5
  let main_v7 : IVec S32x49152 32 := broadcastInDim S32x49152 ![0, 1] bcast_S32x1_S32x49152_0_1 main_v4
  let main_v8 : IVec S32x49152 1 := cmpi .sge main_v6 main_v7
  let main_v9 : IVec S1x49152 32 := broadcastInDim S1x49152 ![1] bcast_S49152_S1x49152_1 main_v0
  let main_c_0 : IVec S_ 32 := constantI S_ 32 31250#32
  let main_v10 : IVec S32x1 32 := broadcastInDim S32x1 ![] bcast_S_S32x1 main_c_0
  let main_v11 : IVec S32x1 32 := addi main_v4 main_v10
  let main_v12 : IVec S32x49152 32 := broadcastInDim S32x49152 ![0, 1] bcast_S1x49152_S32x49152_0_1 main_v9
  let main_v13 : IVec S32x49152 32 := broadcastInDim S32x49152 ![0, 1] bcast_S32x1_S32x49152_0_1 main_v11
  let main_v14 : IVec S32x49152 1 := cmpi .slt main_v12 main_v13
  let main_v15 : IVec S32x49152 1 := andi main_v8 main_v14
  let main_v16 : IVec S1x49152 32 := broadcastInDim S1x49152 ![1] bcast_S49152_S1x49152_1 main_v0
  let main_c_1 : IVec S_ 32 := constantI S_ 32 999936#32
  let main_v17 : IVec S1x49152 32 := broadcastInDim S1x49152 ![] bcast_S_S1x49152 main_c_1
  let main_v18 : IVec S1x49152 1 := cmpi .slt main_v16 main_v17
  let main_v19 : IVec S32x49152 1 := broadcastInDim S32x49152 ![0, 1] bcast_S1x49152_S32x49152_0_1 main_v18
  let main_v20 : IVec S32x49152 1 := andi main_v15 main_v19
  fn_part1 (F := F) main_v0 main_v20
-- ==== Kernel.lean ====
abbrev S16384 : Shape := ⟨1, ![16384]⟩
abbrev S1000000x64 : Shape := ⟨2, ![1000000, 64]⟩
abbrev S49152 : Shape := ⟨1, ![49152]⟩
abbrev S64x1000000 : Shape := ⟨2, ![64, 1000000]⟩
abbrev S64x32 : Shape := ⟨2, ![64, 32]⟩
abbrev S2048 : Shape := ⟨1, ![2048]⟩
abbrev S3407872 : Shape := ⟨1, ![3407872]⟩
abbrev S4096 : Shape := ⟨1, ![4096]⟩
abbrev S1792 : Shape := ⟨1, ![1792]⟩
abbrev S256 : Shape := ⟨1, ![256]⟩
abbrev S1x31488 : Shape := ⟨2, ![1, 31488]⟩
abbrev S57344 : Shape := ⟨1, ![57344]⟩
abbrev S8192 : Shape := ⟨1, ![8192]⟩
abbrev S_ : Shape := ⟨0, ![]⟩
abbrev S16 : Shape := ⟨1, ![16]⟩
abbrev S1 : Shape := ⟨1, ![1]⟩
abbrev S32 : Shape := ⟨1, ![32]⟩
abbrev S2x53248x32 : Shape := ⟨3, ![2, 53248, 32]⟩
abbrev S2x49152x32 : Shape := ⟨3, ![2, 49152, 32]⟩

abbrev nBuf : Table → Nat
  | .hbm => 13
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S49152, .i32⟩
  | .hbm, ⟨5, _⟩ => ⟨S64x1000000, .f32⟩
  | .hbm, ⟨6, _⟩ => ⟨S64x32, .f32⟩
  | .hbm, ⟨7, _⟩ => ⟨S2048, .f32⟩
  | .hbm, ⟨8, _⟩ => ⟨S64x32, .f32⟩
  | .hbm, ⟨9, _⟩ => ⟨S2048, .f32⟩
  | .hbm, ⟨10, _⟩ => ⟨S3407872, .f32⟩
  | .hbm, ⟨11, _⟩ => ⟨S2x53248x32, .f32⟩
  | .hbm, ⟨12, _⟩ => ⟨S2x49152x32, .f32⟩
  | .local .scVector .vmem, ⟨0, _⟩ => ⟨S4096, .i32⟩
  | .local .scVector .vmem, ⟨1, _⟩ => ⟨S1792, .i32⟩
  | .local .scVector .vmem, ⟨2, _⟩ => ⟨S1792, .i32⟩
  | .local .scVector .vmem, ⟨3, _⟩ => ⟨S256, .i32⟩
  | .local .scVector .vmem, ⟨4, _⟩ => ⟨S256, .i32⟩
  | .local .scVector .vmem, ⟨5, _⟩ => ⟨S1x31488, .f32⟩
  | .local .scVector .vmem, ⟨6, _⟩ => ⟨S57344, .f32⟩
  | .local .scVector .vmem, ⟨7, _⟩ => ⟨S8192, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v1_scv : Ref sig .scVector := ⟨.hbm, 5, rfl⟩
abbrev main_v3_scv : Ref sig .scVector := ⟨.hbm, 7, rfl⟩
abbrev main_v5_scv : Ref sig .scVector := ⟨.hbm, 9, rfl⟩
abbrev main_v0_scv : Ref sig .scVector := ⟨.hbm, 4, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31250_i32 : BitVec 32 := 31250#32
  let v2 : BitVec 32 := Scalar.muli v1 c31250_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v2 c128_i32
  let c0_i32_4 : BitVec 32 := 0#32
  let v17 : BitVec 1 := Scalar.cmpi .ne v16 c0_i32_4
  let v18 : BitVec 1 := Scalar.andi v15 v17
  let v4 : BitVec 32 := Scalar.divsi v2 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c968448_i32 : BitVec 32 := 968448#32
  let v22 : BitVec 32 := Scalar.minsi v21 c968448_i32
  v22
@[reducible] def k0_t1_loop : Scf.Loop 32 :=
  let c0_i32_280 : BitVec 32 := 0#32
  let c256_i32 : BitVec 32 := 256#32
  let v538 : BitVec 32 := Scalar.addi c0_i32_280 c256_i32
  let c1_i32_281 : BitVec 32 := 1#32
  ⟨c0_i32_280, v538, c1_i32_281⟩
def k0_off1 (k0_t1 : Fin k0_t1_loop.trips) : Fin 1 → Nat :=
  let c0_i32_280 : BitVec 32 := 0#32
  let c1_i32_281 : BitVec 32 := 1#32
  let arg18 : BitVec 32 := Scf.iv c0_i32_280 c1_i32_281 k0_t1
  let c16_i32 : BitVec 32 := 16#32
  let v13951 : BitVec 32 := Scalar.muli arg18 c16_i32
  let v13952 : Index := Scalar.indexCast v13951
  ![v13952.toNat]

def k0_chk1 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx1_inb : ∀ (v13982 : IVec S16 32) (k0_hw1 : k0_chk1 v13982), ∀ a x, ((![v13982] : Fin 1 → IVec S16 32) a x).toNat < S1792.size a := fun v13982 k0_hw1 => k0_hw1.1
theorem k0_idx2_inb : ∀ (v13982 : IVec S16 32) (k0_hw1 : k0_chk1 v13982), ∀ a x, ((![v13982] : Fin 1 → IVec S16 32) a x).toNat < S1792.size a := fun v13982 k0_hw1 => k0_hw1.2

def k0_chk2 (v13996 : IVec S16 32) : Prop :=
  (∀ a x, ((![v13996] : Fin 1 → IVec S16 32) a x).toNat < S256.size a) ∧
  (∀ a x, ((![v13996] : Fin 1 → IVec S16 32) a x).toNat < S256.size a)
theorem k0_idx3_inb : ∀ (v13996 : IVec S16 32) (k0_hw2 : k0_chk2 v13996), ∀ a x, ((![v13996] : Fin 1 → IVec S16 32) a x).toNat < S256.size a := fun v13996 k0_hw2 => k0_hw2.1
theorem k0_idx4_inb : ∀ (v13996 : IVec S16 32) (k0_hw2 : k0_chk2 v13996), ∀ a x, ((![v13996] : Fin 1 → IVec S16 32) a x).toNat < S256.size a := fun v13996 k0_hw2 => k0_hw2.2
@[reducible] def k0_t2_loop : Scf.Loop 32 :=
  let c0_i32_283 : BitVec 32 := 0#32
  let c256_i32_284 : BitVec 32 := 256#32
  let v540 : BitVec 32 := Scalar.addi c0_i32_283 c256_i32_284
  let c1_i32_285 : BitVec 32 := 1#32
  ⟨c0_i32_283, v540, c1_i32_285⟩
def k0_off2 (k0_t2 : Fin k0_t2_loop.trips) : Fin 1 → Nat :=
  let c0_i32_283 : BitVec 32 := 0#32
  let c1_i32_285 : BitVec 32 := 1#32
  let arg18 : BitVec 32 := Scf.iv c0_i32_283 c1_i32_285 k0_t2
  let c16_i32 : BitVec 32 := 16#32
  let v13951 : BitVec 32 := Scalar.muli arg18 c16_i32
  let v13952 : Index := Scalar.indexCast v13951
  ![v13952.toNat]

def k0_chk3 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx5_inb : ∀ (v13982 : IVec S16 32) (k0_hw3 : k0_chk3 v13982), ∀ a x, ((![v13982] : Fin 1 → IVec S16 32) a x).toNat < S1792.size a := fun v13982 k0_hw3 => k0_hw3.1
theorem k0_idx6_inb : ∀ (v13982 : IVec S16 32) (k0_hw3 : k0_chk3 v13982), ∀ a x, ((![v13982] : Fin 1 → IVec S16 32) a x).toNat < S1792.size a := fun v13982 k0_hw3 => k0_hw3.2

def k0_chk4 (v13996 : IVec S16 32) : Prop :=
  (∀ a x, ((![v13996] : Fin 1 → IVec S16 32) a x).toNat < S256.size a) ∧
  (∀ a x, ((![v13996] : Fin 1 → IVec S16 32) a x).toNat < S256.size a)
theorem k0_idx7_inb : ∀ (v13996 : IVec S16 32) (k0_hw4 : k0_chk4 v13996), ∀ a x, ((![v13996] : Fin 1 → IVec S16 32) a x).toNat < S256.size a := fun v13996 k0_hw4 => k0_hw4.1
theorem k0_idx8_inb : ∀ (v13996 : IVec S16 32) (k0_hw4 : k0_chk4 v13996), ∀ a x, ((![v13996] : Fin 1 → IVec S16 32) a x).toNat < S256.size a := fun v13996 k0_hw4 => k0_hw4.2
@[reducible] def k0_t3_loop : Scf.Loop 32 :=
  let c0_i32_287 : BitVec 32 := 0#32
  let c256_i32_288 : BitVec 32 := 256#32
  let v542 : BitVec 32 := Scalar.addi c0_i32_287 c256_i32_288
  let c1_i32_289 : BitVec 32 := 1#32
  ⟨c0_i32_287, v542, c1_i32_289⟩
def k0_off3 (k0_t3 : Fin k0_t3_loop.trips) : Fin 1 → Nat :=
  let c0_i32_287 : BitVec 32 := 0#32
  let c1_i32_289 : BitVec 32 := 1#32
  let arg18 : BitVec 32 := Scf.iv c0_i32_287 c1_i32_289 k0_t3
  let c16_i32 : BitVec 32 := 16#32
  let v13951 : BitVec 32 := Scalar.muli arg18 c16_i32
  let v13952 : Index := Scalar.indexCast v13951
  ![v13952.toNat]

def k0_chk5 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx9_inb : ∀ (v13982 : IVec S16 32) (k0_hw5 : k0_chk5 v13982), ∀ a x, ((![v13982] : Fin 1 → IVec S16 32) a x).toNat < S1792.size a := fun v13982 k0_hw5 => k0_hw5.1
theorem k0_idx10_inb : ∀ (v13982 : IVec S16 32) (k0_hw5 : k0_chk5 v13982), ∀ a x, ((![v13982] : Fin 1 → IVec S16 32) a x).toNat < S1792.size a := fun v13982 k0_hw5 => k0_hw5.2

def k0_chk6 (v13996 : IVec S16 32) : Prop :=
  (∀ a x, ((![v13996] : Fin 1 → IVec S16 32) a x).toNat < S256.size a) ∧
  (∀ a x, ((![v13996] : Fin 1 → IVec S16 32) a x).toNat < S256.size a)
theorem k0_idx11_inb : ∀ (v13996 : IVec S16 32) (k0_hw6 : k0_chk6 v13996), ∀ a x, ((![v13996] : Fin 1 → IVec S16 32) a x).toNat < S256.size a := fun v13996 k0_hw6 => k0_hw6.1
theorem k0_idx12_inb : ∀ (v13996 : IVec S16 32) (k0_hw6 : k0_chk6 v13996), ∀ a x, ((![v13996] : Fin 1 → IVec S16 32) a x).toNat < S256.size a := fun v13996 k0_hw6 => k0_hw6.2
@[reducible] def k0_t4_loop : Scf.Loop 32 :=
  let c0_i32_291 : BitVec 32 := 0#32
  let c256_i32_292 : BitVec 32 := 256#32
  let v544 : BitVec 32 := Scalar.addi c0_i32_291 c256_i32_292
  let c1_i32_293 : BitVec 32 := 1#32
  ⟨c0_i32_291, v544, c1_i32_293⟩
def k0_off4 (k0_t4 : Fin k0_t4_loop.trips) : Fin 1 → Nat :=
  let c0_i32_291 : BitVec 32 := 0#32
  let c1_i32_293 : BitVec 32 := 1#32
  let arg18 : BitVec 32 := Scf.iv c0_i32_291 c1_i32_293 k0_t4
  let c16_i32 : BitVec 32 := 16#32
  let v13951 : BitVec 32 := Scalar.muli arg18 c16_i32
  let v13952 : Index := Scalar.indexCast v13951
  ![v13952.toNat]

def k0_chk7 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx13_inb : ∀ (v13982 : IVec S16 32) (k0_hw7 : k0_chk7 v13982), ∀ a x, ((![v13982] : Fin 1 → IVec S16 32) a x).toNat < S1792.size a := fun v13982 k0_hw7 => k0_hw7.1
theorem k0_idx14_inb : ∀ (v13982 : IVec S16 32) (k0_hw7 : k0_chk7 v13982), ∀ a x, ((![v13982] : Fin 1 → IVec S16 32) a x).toNat < S1792.size a := fun v13982 k0_hw7 => k0_hw7.2

def k0_chk8 (v13996 : IVec S16 32) : Prop :=
  (∀ a x, ((![v13996] : Fin 1 → IVec S16 32) a x).toNat < S256.size a) ∧
  (∀ a x, ((![v13996] : Fin 1 → IVec S16 32) a x).toNat < S256.size a)
theorem k0_idx15_inb : ∀ (v13996 : IVec S16 32) (k0_hw8 : k0_chk8 v13996), ∀ a x, ((![v13996] : Fin 1 → IVec S16 32) a x).toNat < S256.size a := fun v13996 k0_hw8 => k0_hw8.1
theorem k0_idx16_inb : ∀ (v13996 : IVec S16 32) (k0_hw8 : k0_chk8 v13996), ∀ a x, ((![v13996] : Fin 1 → IVec S16 32) a x).toNat < S256.size a := fun v13996 k0_hw8 => k0_hw8.2
@[reducible] def k0_t5_loop : Scf.Loop 32 :=
  let c0_i32_295 : BitVec 32 := 0#32
  let c256_i32_296 : BitVec 32 := 256#32
  let v546 : BitVec 32 := Scalar.addi c0_i32_295 c256_i32_296
  let c1_i32_297 : BitVec 32 := 1#32
  ⟨c0_i32_295, v546, c1_i32_297⟩
def k0_off5 (k0_t5 : Fin k0_t5_loop.trips) : Fin 1 → Nat :=
  let c0_i32_295 : BitVec 32 := 0#32
  let c1_i32_297 : BitVec 32 := 1#32
  let arg18 : BitVec 32 := Scf.iv c0_i32_295 c1_i32_297 k0_t5
  let c16_i32 : BitVec 32 := 16#32
  let v13951 : BitVec 32 := Scalar.muli arg18 c16_i32
  let v13952 : Index := Scalar.indexCast v13951
  ![v13952.toNat]

def k0_chk9 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx17_inb : ∀ (v13982 : IVec S16 32) (k0_hw9 : k0_chk9 v13982), ∀ a x, ((![v13982] : Fin 1 → IVec S16 32) a x).toNat < S1792.size a := fun v13982 k0_hw9 => k0_hw9.1
theorem k0_idx18_inb : ∀ (v13982 : IVec S16 32) (k0_hw9 : k0_chk9 v13982), ∀ a x, ((![v13982] : Fin 1 → IVec S16 32) a x).toNat < S1792.size a := fun v13982 k0_hw9 => k0_hw9.2

def k0_chk10 (v13996 : IVec S16 32) : Prop :=
  (∀ a x, ((![v13996] : Fin 1 → IVec S16 32) a x).toNat < S256.size a) ∧
  (∀ a x, ((![v13996] : Fin 1 → IVec S16 32) a x).toNat < S256.size a)
theorem k0_idx19_inb : ∀ (v13996 : IVec S16 32) (k0_hw10 : k0_chk10 v13996), ∀ a x, ((![v13996] : Fin 1 → IVec S16 32) a x).toNat < S256.size a := fun v13996 k0_hw10 => k0_hw10.1
theorem k0_idx20_inb : ∀ (v13996 : IVec S16 32) (k0_hw10 : k0_chk10 v13996), ∀ a x, ((![v13996] : Fin 1 → IVec S16 32) a x).toNat < S256.size a := fun v13996 k0_hw10 => k0_hw10.2
@[reducible] def k0_t6_loop : Scf.Loop 32 :=
  let c0_i32_299 : BitVec 32 := 0#32
  let c256_i32_300 : BitVec 32 := 256#32
  let v548 : BitVec 32 := Scalar.addi c0_i32_299 c256_i32_300
  let c1_i32_301 : BitVec 32 := 1#32
  ⟨c0_i32_299, v548, c1_i32_301⟩
def k0_off6 (k0_t6 : Fin k0_t6_loop.trips) : Fin 1 → Nat :=
  let c0_i32_299 : BitVec 32 := 0#32
  let c1_i32_301 : BitVec 32 := 1#32
  let arg18 : BitVec 32 := Scf.iv c0_i32_299 c1_i32_301 k0_t6
  let c16_i32 : BitVec 32 := 16#32
  let v13951 : BitVec 32 := Scalar.muli arg18 c16_i32
  let v13952 : Index := Scalar.indexCast v13951
  ![v13952.toNat]

def k0_chk11 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx21_inb : ∀ (v13982 : IVec S16 32) (k0_hw11 : k0_chk11 v13982), ∀ a x, ((![v13982] : Fin 1 → IVec S16 32) a x).toNat < S1792.size a := fun v13982 k0_hw11 => k0_hw11.1
theorem k0_idx22_inb : ∀ (v13982 : IVec S16 32) (k0_hw11 : k0_chk11 v13982), ∀ a x, ((![v13982] : Fin 1 → IVec S16 32) a x).toNat < S1792.size a := fun v13982 k0_hw11 => k0_hw11.2

def k0_chk12 (v13996 : IVec S16 32) : Prop :=
  (∀ a x, ((![v13996] : Fin 1 → IVec S16 32) a x).toNat < S256.size a) ∧
  (∀ a x, ((![v13996] : Fin 1 → IVec S16 32) a x).toNat < S256.size a)
theorem k0_idx23_inb : ∀ (v13996 : IVec S16 32) (k0_hw12 : k0_chk12 v13996), ∀ a x, ((![v13996] : Fin 1 → IVec S16 32) a x).toNat < S256.size a := fun v13996 k0_hw12 => k0_hw12.1
theorem k0_idx24_inb : ∀ (v13996 : IVec S16 32) (k0_hw12 : k0_chk12 v13996), ∀ a x, ((![v13996] : Fin 1 → IVec S16 32) a x).toNat < S256.size a := fun v13996 k0_hw12 => k0_hw12.2
@[reducible] def k0_t7_loop : Scf.Loop 32 :=
  let c0_i32_303 : BitVec 32 := 0#32
  let c256_i32_304 : BitVec 32 := 256#32
  let v550 : BitVec 32 := Scalar.addi c0_i32_303 c256_i32_304
  let c1_i32_305 : BitVec 32 := 1#32
  ⟨c0_i32_303, v550, c1_i32_305⟩
def k0_off7 (k0_t7 : Fin k0_t7_loop.trips) : Fin 1 → Nat :=
  let c0_i32_303 : BitVec 32 := 0#32
  let c1_i32_305 : BitVec 32 := 1#32
  let arg18 : BitVec 32 := Scf.iv c0_i32_303 c1_i32_305 k0_t7
  let c16_i32 : BitVec 32 := 16#32
  let v13951 : BitVec 32 := Scalar.muli arg18 c16_i32
  let v13952 : Index := Scalar.indexCast v13951
  ![v13952.toNat]

def k0_chk13 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx25_inb : ∀ (v13982 : IVec S16 32) (k0_hw13 : k0_chk13 v13982), ∀ a x, ((![v13982] : Fin 1 → IVec S16 32) a x).toNat < S1792.size a := fun v13982 k0_hw13 => k0_hw13.1
theorem k0_idx26_inb : ∀ (v13982 : IVec S16 32) (k0_hw13 : k0_chk13 v13982), ∀ a x, ((![v13982] : Fin 1 → IVec S16 32) a x).toNat < S1792.size a := fun v13982 k0_hw13 => k0_hw13.2

def k0_chk14 (v13996 : IVec S16 32) : Prop :=
  (∀ a x, ((![v13996] : Fin 1 → IVec S16 32) a x).toNat < S256.size a) ∧
  (∀ a x, ((![v13996] : Fin 1 → IVec S16 32) a x).toNat < S256.size a)
theorem k0_idx27_inb : ∀ (v13996 : IVec S16 32) (k0_hw14 : k0_chk14 v13996), ∀ a x, ((![v13996] : Fin 1 → IVec S16 32) a x).toNat < S256.size a := fun v13996 k0_hw14 => k0_hw14.1
theorem k0_idx28_inb : ∀ (v13996 : IVec S16 32) (k0_hw14 : k0_chk14 v13996), ∀ a x, ((![v13996] : Fin 1 → IVec S16 32) a x).toNat < S256.size a := fun v13996 k0_hw14 => k0_hw14.2
@[reducible] def k0_t8_loop : Scf.Loop 32 :=
  let c0_i32_307 : BitVec 32 := 0#32
  let c256_i32_308 : BitVec 32 := 256#32
  let v552 : BitVec 32 := Scalar.addi c0_i32_307 c256_i32_308
  let c1_i32_309 : BitVec 32 := 1#32
  ⟨c0_i32_307, v552, c1_i32_309⟩
def k0_off8 (k0_t8 : Fin k0_t8_loop.trips) : Fin 1 → Nat :=
  let c0_i32_307 : BitVec 32 := 0#32
  let c1_i32_309 : BitVec 32 := 1#32
  let arg18 : BitVec 32 := Scf.iv c0_i32_307 c1_i32_309 k0_t8
  let c16_i32 : BitVec 32 := 16#32
  let v13951 : BitVec 32 := Scalar.muli arg18 c16_i32
  let v13952 : Index := Scalar.indexCast v13951
  ![v13952.toNat]

def k0_chk15 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx29_inb : ∀ (v13982 : IVec S16 32) (k0_hw15 : k0_chk15 v13982), ∀ a x, ((![v13982] : Fin 1 → IVec S16 32) a x).toNat < S1792.size a := fun v13982 k0_hw15 => k0_hw15.1
theorem k0_idx30_inb : ∀ (v13982 : IVec S16 32) (k0_hw15 : k0_chk15 v13982), ∀ a x, ((![v13982] : Fin 1 → IVec S16 32) a x).toNat < S1792.size a := fun v13982 k0_hw15 => k0_hw15.2

def k0_chk16 (v13996 : IVec S16 32) : Prop :=
  (∀ a x, ((![v13996] : Fin 1 → IVec S16 32) a x).toNat < S256.size a) ∧
  (∀ a x, ((![v13996] : Fin 1 → IVec S16 32) a x).toNat < S256.size a)
theorem k0_idx31_inb : ∀ (v13996 : IVec S16 32) (k0_hw16 : k0_chk16 v13996), ∀ a x, ((![v13996] : Fin 1 → IVec S16 32) a x).toNat < S256.size a := fun v13996 k0_hw16 => k0_hw16.1
theorem k0_idx32_inb : ∀ (v13996 : IVec S16 32) (k0_hw16 : k0_chk16 v13996), ∀ a x, ((![v13996] : Fin 1 → IVec S16 32) a x).toNat < S256.size a := fun v13996 k0_hw16 => k0_hw16.2
@[reducible] def k0_t9_loop : Scf.Loop 32 :=
  let c0_i32_311 : BitVec 32 := 0#32
  let c256_i32_312 : BitVec 32 := 256#32
  let v554 : BitVec 32 := Scalar.addi c0_i32_311 c256_i32_312
  let c1_i32_313 : BitVec 32 := 1#32
  ⟨c0_i32_311, v554, c1_i32_313⟩
def k0_off9 (k0_t9 : Fin k0_t9_loop.trips) : Fin 1 → Nat :=
  let c0_i32_311 : BitVec 32 := 0#32
  let c1_i32_313 : BitVec 32 := 1#32
  let arg18 : BitVec 32 := Scf.iv c0_i32_311 c1_i32_313 k0_t9
  let c16_i32 : BitVec 32 := 16#32
  let v13951 : BitVec 32 := Scalar.muli arg18 c16_i32
  let v13952 : Index := Scalar.indexCast v13951
  ![v13952.toNat]

def k0_chk17 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx33_inb : ∀ (v13982 : IVec S16 32) (k0_hw17 : k0_chk17 v13982), ∀ a x, ((![v13982] : Fin 1 → IVec S16 32) a x).toNat < S1792.size a := fun v13982 k0_hw17 => k0_hw17.1
theorem k0_idx34_inb : ∀ (v13982 : IVec S16 32) (k0_hw17 : k0_chk17 v13982), ∀ a x, ((![v13982] : Fin 1 → IVec S16 32) a x).toNat < S1792.size a := fun v13982 k0_hw17 => k0_hw17.2

def k0_chk18 (v13996 : IVec S16 32) : Prop :=
  (∀ a x, ((![v13996] : Fin 1 → IVec S16 32) a x).toNat < S256.size a) ∧
  (∀ a x, ((![v13996] : Fin 1 → IVec S16 32) a x).toNat < S256.size a)
theorem k0_idx35_inb : ∀ (v13996 : IVec S16 32) (k0_hw18 : k0_chk18 v13996), ∀ a x, ((![v13996] : Fin 1 → IVec S16 32) a x).toNat < S256.size a := fun v13996 k0_hw18 => k0_hw18.1
theorem k0_idx36_inb : ∀ (v13996 : IVec S16 32) (k0_hw18 : k0_chk18 v13996), ∀ a x, ((![v13996] : Fin 1 → IVec S16 32) a x).toNat < S256.size a := fun v13996 k0_hw18 => k0_hw18.2
@[reducible] def k0_t10_loop : Scf.Loop 32 :=
  let c0_i32_315 : BitVec 32 := 0#32
  let c256_i32_316 : BitVec 32 := 256#32
  let v556 : BitVec 32 := Scalar.addi c0_i32_315 c256_i32_316
  let c1_i32_317 : BitVec 32 := 1#32
  ⟨c0_i32_315, v556, c1_i32_317⟩
def k0_off10 (k0_t10 : Fin k0_t10_loop.trips) : Fin 1 → Nat :=
  let c0_i32_315 : BitVec 32 := 0#32
  let c1_i32_317 : BitVec 32 := 1#32
  let arg18 : BitVec 32 := Scf.iv c0_i32_315 c1_i32_317 k0_t10
  let c16_i32 : BitVec 32 := 16#32
  let v13951 : BitVec 32 := Scalar.muli arg18 c16_i32
  let v13952 : Index := Scalar.indexCast v13951
  ![v13952.toNat]

def k0_chk19 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx37_inb : ∀ (v13982 : IVec S16 32) (k0_hw19 : k0_chk19 v13982), ∀ a x, ((![v13982] : Fin 1 → IVec S16 32) a x).toNat < S1792.size a := fun v13982 k0_hw19 => k0_hw19.1
theorem k0_idx38_inb : ∀ (v13982 : IVec S16 32) (k0_hw19 : k0_chk19 v13982), ∀ a x, ((![v13982] : Fin 1 → IVec S16 32) a x).toNat < S1792.size a := fun v13982 k0_hw19 => k0_hw19.2

def k0_chk20 (v13996 : IVec S16 32) : Prop :=
  (∀ a x, ((![v13996] : Fin 1 → IVec S16 32) a x).toNat < S256.size a) ∧
  (∀ a x, ((![v13996] : Fin 1 → IVec S16 32) a x).toNat < S256.size a)
theorem k0_idx39_inb : ∀ (v13996 : IVec S16 32) (k0_hw20 : k0_chk20 v13996), ∀ a x, ((![v13996] : Fin 1 → IVec S16 32) a x).toNat < S256.size a := fun v13996 k0_hw20 => k0_hw20.1
theorem k0_idx40_inb : ∀ (v13996 : IVec S16 32) (k0_hw20 : k0_chk20 v13996), ∀ a x, ((![v13996] : Fin 1 → IVec S16 32) a x).toNat < S256.size a := fun v13996 k0_hw20 => k0_hw20.2
@[reducible] def k0_t11_loop : Scf.Loop 32 :=
  let c0_i32_319 : BitVec 32 := 0#32
  let c256_i32_320 : BitVec 32 := 256#32
  let v558 : BitVec 32 := Scalar.addi c0_i32_319 c256_i32_320
  let c1_i32_321 : BitVec 32 := 1#32
  ⟨c0_i32_319, v558, c1_i32_321⟩
def k0_off11 (k0_t11 : Fin k0_t11_loop.trips) : Fin 1 → Nat :=
  let c0_i32_319 : BitVec 32 := 0#32
  let c1_i32_321 : BitVec 32 := 1#32
  let arg18 : BitVec 32 := Scf.iv c0_i32_319 c1_i32_321 k0_t11
  let c16_i32 : BitVec 32 := 16#32
  let v13951 : BitVec 32 := Scalar.muli arg18 c16_i32
  let v13952 : Index := Scalar.indexCast v13951
  ![v13952.toNat]

def k0_chk21 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx41_inb : ∀ (v13982 : IVec S16 32) (k0_hw21 : k0_chk21 v13982), ∀ a x, ((![v13982] : Fin 1 → IVec S16 32) a x).toNat < S1792.size a := fun v13982 k0_hw21 => k0_hw21.1
theorem k0_idx42_inb : ∀ (v13982 : IVec S16 32) (k0_hw21 : k0_chk21 v13982), ∀ a x, ((![v13982] : Fin 1 → IVec S16 32) a x).toNat < S1792.size a := fun v13982 k0_hw21 => k0_hw21.2

def k0_chk22 (v13996 : IVec S16 32) : Prop :=
  (∀ a x, ((![v13996] : Fin 1 → IVec S16 32) a x).toNat < S256.size a) ∧
  (∀ a x, ((![v13996] : Fin 1 → IVec S16 32) a x).toNat < S256.size a)
theorem k0_idx43_inb : ∀ (v13996 : IVec S16 32) (k0_hw22 : k0_chk22 v13996), ∀ a x, ((![v13996] : Fin 1 → IVec S16 32) a x).toNat < S256.size a := fun v13996 k0_hw22 => k0_hw22.1
theorem k0_idx44_inb : ∀ (v13996 : IVec S16 32) (k0_hw22 : k0_chk22 v13996), ∀ a x, ((![v13996] : Fin 1 → IVec S16 32) a x).toNat < S256.size a := fun v13996 k0_hw22 => k0_hw22.2
@[reducible] def k0_t12_loop : Scf.Loop 32 :=
  let c0_i32_323 : BitVec 32 := 0#32
  let c256_i32_324 : BitVec 32 := 256#32
  let v560 : BitVec 32 := Scalar.addi c0_i32_323 c256_i32_324
  let c1_i32_325 : BitVec 32 := 1#32
  ⟨c0_i32_323, v560, c1_i32_325⟩
def k0_off12 (k0_t12 : Fin k0_t12_loop.trips) : Fin 1 → Nat :=
  let c0_i32_323 : BitVec 32 := 0#32
  let c1_i32_325 : BitVec 32 := 1#32
  let arg18 : BitVec 32 := Scf.iv c0_i32_323 c1_i32_325 k0_t12
  let c16_i32 : BitVec 32 := 16#32
  let v13951 : BitVec 32 := Scalar.muli arg18 c16_i32
  let v13952 : Index := Scalar.indexCast v13951
  ![v13952.toNat]

def k0_chk23 (v13982 : IVec S16 32) : Prop :=
  (∀ a x, ((![v13982] : Fin 1 → IVec S16 32) a x).toNat < S1792.size a) ∧
  (∀ a x, ((![v13982] : Fin 1 → IVec S16 32) a x).toNat < S1792.size a)
theorem k0_idx45_inb : ∀ (v13982 : IVec S16 32) (k0_hw23 : k0_chk23 v13982), ∀ a x, ((![v13982] : Fin 1 → IVec S16 32) a x).toNat < S1792.size a := fun v13982 k0_hw23 => k0_hw23.1
theorem k0_idx46_inb : ∀ (v13982 : IVec S16 32) (k0_hw23 : k0_chk23 v13982), ∀ a x, ((![v13982] : Fin 1 → IVec S16 32) a x).toNat < S1792.size a := fun v13982 k0_hw23 => k0_hw23.2

def k0_chk24 (v13996 : IVec S16 32) : Prop :=
  (∀ a x, ((![v13996] : Fin 1 → IVec S16 32) a x).toNat < S256.size a) ∧
  (∀ a x, ((![v13996] : Fin 1 → IVec S16 32) a x).toNat < S256.size a)
theorem k0_idx47_inb : ∀ (v13996 : IVec S16 32) (k0_hw24 : k0_chk24 v13996), ∀ a x, ((![v13996] : Fin 1 → IVec S16 32) a x).toNat < S256.size a := fun v13996 k0_hw24 => k0_hw24.1
theorem k0_idx48_inb : ∀ (v13996 : IVec S16 32) (k0_hw24 : k0_chk24 v13996), ∀ a x, ((![v13996] : Fin 1 → IVec S16 32) a x).toNat < S256.size a := fun v13996 k0_hw24 => k0_hw24.2
def k0_mult2 (v573 : BitVec 32) : BitVec 32 :=
  let c999936_i32_335 : BitVec 32 := 999936#32
  let v574 : BitVec 32 := Scalar.subi v573 c999936_i32_335
  let c32_i32 : BitVec 32 := 32#32
  let v575 : BitVec 32 := Scalar.muli v574 c32_i32
  v575

def k0_off13 (v573 : BitVec 32) : Fin 1 → Nat :=
  let c999936_i32_335 : BitVec 32 := 999936#32
  let v574 : BitVec 32 := Scalar.subi v573 c999936_i32_335
  let c32_i32 : BitVec 32 := 32#32
  let v575 : BitVec 32 := Scalar.muli v574 c32_i32
  let v576 : BitVec 32 := v575
  ![v576.toNat]
def k0_mult3 (v582 : BitVec 32) : BitVec 32 :=
  let c999936_i32_338 : BitVec 32 := 999936#32
  let v583 : BitVec 32 := Scalar.subi v582 c999936_i32_338
  let c32_i32_339 : BitVec 32 := 32#32
  let v584 : BitVec 32 := Scalar.muli v583 c32_i32_339
  v584

def k0_off14 (v582 : BitVec 32) : Fin 1 → Nat :=
  let c999936_i32_338 : BitVec 32 := 999936#32
  let v583 : BitVec 32 := Scalar.subi v582 c999936_i32_338
  let c32_i32_339 : BitVec 32 := 32#32
  let v584 : BitVec 32 := Scalar.muli v583 c32_i32_339
  let v585 : BitVec 32 := v584
  ![v585.toNat]
def k0_mult4 (v591 : BitVec 32) : BitVec 32 :=
  let c999936_i32_342 : BitVec 32 := 999936#32
  let v592 : BitVec 32 := Scalar.subi v591 c999936_i32_342
  let c32_i32_343 : BitVec 32 := 32#32
  let v593 : BitVec 32 := Scalar.muli v592 c32_i32_343
  v593

def k0_off15 (v591 : BitVec 32) : Fin 1 → Nat :=
  let c999936_i32_342 : BitVec 32 := 999936#32
  let v592 : BitVec 32 := Scalar.subi v591 c999936_i32_342
  let c32_i32_343 : BitVec 32 := 32#32
  let v593 : BitVec 32 := Scalar.muli v592 c32_i32_343
  let v594 : BitVec 32 := v593
  ![v594.toNat]
def k0_mult5 (v600 : BitVec 32) : BitVec 32 :=
  let c999936_i32_345 : BitVec 32 := 999936#32
  let v601 : BitVec 32 := Scalar.subi v600 c999936_i32_345
  let c32_i32_346 : BitVec 32 := 32#32
  let v602 : BitVec 32 := Scalar.muli v601 c32_i32_346
  v602

def k0_off16 (v600 : BitVec 32) : Fin 1 → Nat :=
  let c999936_i32_345 : BitVec 32 := 999936#32
  let v601 : BitVec 32 := Scalar.subi v600 c999936_i32_345
  let c32_i32_346 : BitVec 32 := 32#32
  let v602 : BitVec 32 := Scalar.muli v601 c32_i32_346
  let v603 : BitVec 32 := v602
  ![v603.toNat]
def k0_mult6 (v609 : BitVec 32) : BitVec 32 :=
  let c999936_i32_348 : BitVec 32 := 999936#32
  let v610 : BitVec 32 := Scalar.subi v609 c999936_i32_348
  let c32_i32_349 : BitVec 32 := 32#32
  let v611 : BitVec 32 := Scalar.muli v610 c32_i32_349
  v611

def k0_off17 (v609 : BitVec 32) : Fin 1 → Nat :=
  let c999936_i32_348 : BitVec 32 := 999936#32
  let v610 : BitVec 32 := Scalar.subi v609 c999936_i32_348
  let c32_i32_349 : BitVec 32 := 32#32
  let v611 : BitVec 32 := Scalar.muli v610 c32_i32_349
  let v612 : BitVec 32 := v611
  ![v612.toNat]
def k0_mult7 (v618 : BitVec 32) : BitVec 32 :=
  let c999936_i32_352 : BitVec 32 := 999936#32
  let v619 : BitVec 32 := Scalar.subi v618 c999936_i32_352
  let c32_i32_353 : BitVec 32 := 32#32
  let v620 : BitVec 32 := Scalar.muli v619 c32_i32_353
  v620

def k0_off18 (v618 : BitVec 32) : Fin 1 → Nat :=
  let c999936_i32_352 : BitVec 32 := 999936#32
  let v619 : BitVec 32 := Scalar.subi v618 c999936_i32_352
  let c32_i32_353 : BitVec 32 := 32#32
  let v620 : BitVec 32 := Scalar.muli v619 c32_i32_353
  let v621 : BitVec 32 := v620
  ![v621.toNat]
def k0_mult8 (v627 : BitVec 32) : BitVec 32 :=
  let c999936_i32_355 : BitVec 32 := 999936#32
  let v628 : BitVec 32 := Scalar.subi v627 c999936_i32_355
  let c32_i32_356 : BitVec 32 := 32#32
  let v629 : BitVec 32 := Scalar.muli v628 c32_i32_356
  v629

def k0_off19 (v627 : BitVec 32) : Fin 1 → Nat :=
  let c999936_i32_355 : BitVec 32 := 999936#32
  let v628 : BitVec 32 := Scalar.subi v627 c999936_i32_355
  let c32_i32_356 : BitVec 32 := 32#32
  let v629 : BitVec 32 := Scalar.muli v628 c32_i32_356
  let v630 : BitVec 32 := v629
  ![v630.toNat]
def k0_mult9 (v636 : BitVec 32) : BitVec 32 :=
  let c999936_i32_358 : BitVec 32 := 999936#32
  let v637 : BitVec 32 := Scalar.subi v636 c999936_i32_358
  let c32_i32_359 : BitVec 32 := 32#32
  let v638 : BitVec 32 := Scalar.muli v637 c32_i32_359
  v638

def k0_off20 (v636 : BitVec 32) : Fin 1 → Nat :=
  let c999936_i32_358 : BitVec 32 := 999936#32
  let v637 : BitVec 32 := Scalar.subi v636 c999936_i32_358
  let c32_i32_359 : BitVec 32 := 32#32
  let v638 : BitVec 32 := Scalar.muli v637 c32_i32_359
  let v639 : BitVec 32 := v638
  ![v639.toNat]
def k0_mult10 (v645 : BitVec 32) : BitVec 32 :=
  let c999936_i32_361 : BitVec 32 := 999936#32
  let v646 : BitVec 32 := Scalar.subi v645 c999936_i32_361
  let c32_i32_362 : BitVec 32 := 32#32
  let v647 : BitVec 32 := Scalar.muli v646 c32_i32_362
  v647

def k0_off21 (v645 : BitVec 32) : Fin 1 → Nat :=
  let c999936_i32_361 : BitVec 32 := 999936#32
  let v646 : BitVec 32 := Scalar.subi v645 c999936_i32_361
  let c32_i32_362 : BitVec 32 := 32#32
  let v647 : BitVec 32 := Scalar.muli v646 c32_i32_362
  let v648 : BitVec 32 := v647
  ![v648.toNat]
def k0_mult11 (v654 : BitVec 32) : BitVec 32 :=
  let c999936_i32_365 : BitVec 32 := 999936#32
  let v655 : BitVec 32 := Scalar.subi v654 c999936_i32_365
  let c32_i32_366 : BitVec 32 := 32#32
  let v656 : BitVec 32 := Scalar.muli v655 c32_i32_366
  v656

def k0_off22 (v654 : BitVec 32) : Fin 1 → Nat :=
  let c999936_i32_365 : BitVec 32 := 999936#32
  let v655 : BitVec 32 := Scalar.subi v654 c999936_i32_365
  let c32_i32_366 : BitVec 32 := 32#32
  let v656 : BitVec 32 := Scalar.muli v655 c32_i32_366
  let v657 : BitVec 32 := v656
  ![v657.toNat]
def k0_mult12 (v663 : BitVec 32) : BitVec 32 :=
  let c999936_i32_368 : BitVec 32 := 999936#32
  let v664 : BitVec 32 := Scalar.subi v663 c999936_i32_368
  let c32_i32_369 : BitVec 32 := 32#32
  let v665 : BitVec 32 := Scalar.muli v664 c32_i32_369
  v665

def k0_off23 (v663 : BitVec 32) : Fin 1 → Nat :=
  let c999936_i32_368 : BitVec 32 := 999936#32
  let v664 : BitVec 32 := Scalar.subi v663 c999936_i32_368
  let c32_i32_369 : BitVec 32 := 32#32
  let v665 : BitVec 32 := Scalar.muli v664 c32_i32_369
  let v666 : BitVec 32 := v665
  ![v666.toNat]
def k0_mult13 (v672 : BitVec 32) : BitVec 32 :=
  let c999936_i32_371 : BitVec 32 := 999936#32
  let v673 : BitVec 32 := Scalar.subi v672 c999936_i32_371
  let c32_i32_372 : BitVec 32 := 32#32
  let v674 : BitVec 32 := Scalar.muli v673 c32_i32_372
  v674

def k0_off24 (v672 : BitVec 32) : Fin 1 → Nat :=
  let c999936_i32_371 : BitVec 32 := 999936#32
  let v673 : BitVec 32 := Scalar.subi v672 c999936_i32_371
  let c32_i32_372 : BitVec 32 := 32#32
  let v674 : BitVec 32 := Scalar.muli v673 c32_i32_372
  let v675 : BitVec 32 := v674
  ![v675.toNat]
def k0_mult14 (v681 : BitVec 32) : BitVec 32 :=
  let c999936_i32_374 : BitVec 32 := 999936#32
  let v682 : BitVec 32 := Scalar.subi v681 c999936_i32_374
  let c32_i32_375 : BitVec 32 := 32#32
  let v683 : BitVec 32 := Scalar.muli v682 c32_i32_375
  v683

def k0_off25 (v681 : BitVec 32) : Fin 1 → Nat :=
  let c999936_i32_374 : BitVec 32 := 999936#32
  let v682 : BitVec 32 := Scalar.subi v681 c999936_i32_374
  let c32_i32_375 : BitVec 32 := 32#32
  let v683 : BitVec 32 := Scalar.muli v682 c32_i32_375
  let v684 : BitVec 32 := v683
  ![v684.toNat]
def k0_mult15 (v690 : BitVec 32) : BitVec 32 :=
  let c999936_i32_377 : BitVec 32 := 999936#32
  let v691 : BitVec 32 := Scalar.subi v690 c999936_i32_377
  let c32_i32_378 : BitVec 32 := 32#32
  let v692 : BitVec 32 := Scalar.muli v691 c32_i32_378
  v692

def k0_off26 (v690 : BitVec 32) : Fin 1 → Nat :=
  let c999936_i32_377 : BitVec 32 := 999936#32
  let v691 : BitVec 32 := Scalar.subi v690 c999936_i32_377
  let c32_i32_378 : BitVec 32 := 32#32
  let v692 : BitVec 32 := Scalar.muli v691 c32_i32_378
  let v693 : BitVec 32 := v692
  ![v693.toNat]
def k0_mult16 (v699 : BitVec 32) : BitVec 32 :=
  let c999936_i32_380 : BitVec 32 := 999936#32
  let v700 : BitVec 32 := Scalar.subi v699 c999936_i32_380
  let c32_i32_381 : BitVec 32 := 32#32
  let v701 : BitVec 32 := Scalar.muli v700 c32_i32_381
  v701

def k0_off27 (v699 : BitVec 32) : Fin 1 → Nat :=
  let c999936_i32_380 : BitVec 32 := 999936#32
  let v700 : BitVec 32 := Scalar.subi v699 c999936_i32_380
  let c32_i32_381 : BitVec 32 := 32#32
  let v701 : BitVec 32 := Scalar.muli v700 c32_i32_381
  let v702 : BitVec 32 := v701
  ![v702.toNat]
def k0_mult17 (v708 : BitVec 32) : BitVec 32 :=
  let c999936_i32_383 : BitVec 32 := 999936#32
  let v709 : BitVec 32 := Scalar.subi v708 c999936_i32_383
  let c32_i32_384 : BitVec 32 := 32#32
  let v710 : BitVec 32 := Scalar.muli v709 c32_i32_384
  v710

def k0_off28 (v708 : BitVec 32) : Fin 1 → Nat :=
  let c999936_i32_383 : BitVec 32 := 999936#32
  let v709 : BitVec 32 := Scalar.subi v708 c999936_i32_383
  let c32_i32_384 : BitVec 32 := 32#32
  let v710 : BitVec 32 := Scalar.muli v709 c32_i32_384
  let v711 : BitVec 32 := v710
  ![v711.toNat]

def k0_chk40 (v708 : BitVec 32) : Prop :=
  (8 ∣ (k0_mult17 v708).toNat) ∧
  (∀ a, (k0_off28 v708) a + S32.size a ≤ S2048.size a)
theorem k0_mult17_dvd : ∀ (v708 : BitVec 32) (k0_hw40 : k0_chk40 v708), 8 ∣ (k0_mult17 v708).toNat := fun v708 k0_hw40 => k0_hw40.1
theorem k0_off28_inb : ∀ (v708 : BitVec 32) (k0_hw40 : k0_chk40 v708), ∀ a, (k0_off28 v708) a + S32.size a ≤ S2048.size a := fun v708 k0_hw40 => k0_hw40.2

def k0_off29 (v573 : BitVec 32) : Fin 1 → Nat :=
  let c999936_i32_335 : BitVec 32 := 999936#32
  let v574 : BitVec 32 := Scalar.subi v573 c999936_i32_335
  let c32_i32 : BitVec 32 := 32#32
  let v575 : BitVec 32 := Scalar.muli v574 c32_i32
  let v576 : BitVec 32 := v575
  ![v576.toNat]

def k0_chk25 (v573 : BitVec 32) : Prop :=
  (8 ∣ (k0_mult2 v573).toNat) ∧
  (∀ a, (k0_off13 v573) a + S32.size a ≤ S2048.size a) ∧
  (∀ a, (k0_off29 v573) a + S32.size a ≤ S2048.size a)
theorem k0_mult2_dvd : ∀ (v573 : BitVec 32) (k0_hw25 : k0_chk25 v573), 8 ∣ (k0_mult2 v573).toNat := fun v573 k0_hw25 => k0_hw25.1
theorem k0_off13_inb : ∀ (v573 : BitVec 32) (k0_hw25 : k0_chk25 v573), ∀ a, (k0_off13 v573) a + S32.size a ≤ S2048.size a := fun v573 k0_hw25 => k0_hw25.2.1
theorem k0_off29_inb : ∀ (v573 : BitVec 32) (k0_hw25 : k0_chk25 v573), ∀ a, (k0_off29 v573) a + S32.size a ≤ S2048.size a := fun v573 k0_hw25 => k0_hw25.2.2

def k0_off30 (v582 : BitVec 32) : Fin 1 → Nat :=
  let c999936_i32_338 : BitVec 32 := 999936#32
  let v583 : BitVec 32 := Scalar.subi v582 c999936_i32_338
  let c32_i32_339 : BitVec 32 := 32#32
  let v584 : BitVec 32 := Scalar.muli v583 c32_i32_339
  let v585 : BitVec 32 := v584
  ![v585.toNat]

def k0_chk26 (v582 : BitVec 32) : Prop :=
  (8 ∣ (k0_mult3 v582).toNat) ∧
  (∀ a, (k0_off14 v582) a + S32.size a ≤ S2048.size a) ∧
  (∀ a, (k0_off30 v582) a + S32.size a ≤ S2048.size a)
theorem k0_mult3_dvd : ∀ (v582 : BitVec 32) (k0_hw26 : k0_chk26 v582), 8 ∣ (k0_mult3 v582).toNat := fun v582 k0_hw26 => k0_hw26.1
theorem k0_off14_inb : ∀ (v582 : BitVec 32) (k0_hw26 : k0_chk26 v582), ∀ a, (k0_off14 v582) a + S32.size a ≤ S2048.size a := fun v582 k0_hw26 => k0_hw26.2.1
theorem k0_off30_inb : ∀ (v582 : BitVec 32) (k0_hw26 : k0_chk26 v582), ∀ a, (k0_off30 v582) a + S32.size a ≤ S2048.size a := fun v582 k0_hw26 => k0_hw26.2.2

def k0_off31 (v591 : BitVec 32) : Fin 1 → Nat :=
  let c999936_i32_342 : BitVec 32 := 999936#32
  let v592 : BitVec 32 := Scalar.subi v591 c999936_i32_342
  let c32_i32_343 : BitVec 32 := 32#32
  let v593 : BitVec 32 := Scalar.muli v592 c32_i32_343
  let v594 : BitVec 32 := v593
  ![v594.toNat]

def k0_chk27 (v591 : BitVec 32) : Prop :=
  (8 ∣ (k0_mult4 v591).toNat) ∧
  (∀ a, (k0_off15 v591) a + S32.size a ≤ S2048.size a) ∧
  (∀ a, (k0_off31 v591) a + S32.size a ≤ S2048.size a)
theorem k0_mult4_dvd : ∀ (v591 : BitVec 32) (k0_hw27 : k0_chk27 v591), 8 ∣ (k0_mult4 v591).toNat := fun v591 k0_hw27 => k0_hw27.1
theorem k0_off15_inb : ∀ (v591 : BitVec 32) (k0_hw27 : k0_chk27 v591), ∀ a, (k0_off15 v591) a + S32.size a ≤ S2048.size a := fun v591 k0_hw27 => k0_hw27.2.1
theorem k0_off31_inb : ∀ (v591 : BitVec 32) (k0_hw27 : k0_chk27 v591), ∀ a, (k0_off31 v591) a + S32.size a ≤ S2048.size a := fun v591 k0_hw27 => k0_hw27.2.2

def k0_off32 (v600 : BitVec 32) : Fin 1 → Nat :=
  let c999936_i32_345 : BitVec 32 := 999936#32
  let v601 : BitVec 32 := Scalar.subi v600 c999936_i32_345
  let c32_i32_346 : BitVec 32 := 32#32
  let v602 : BitVec 32 := Scalar.muli v601 c32_i32_346
  let v603 : BitVec 32 := v602
  ![v603.toNat]

def k0_chk28 (v600 : BitVec 32) : Prop :=
  (8 ∣ (k0_mult5 v600).toNat) ∧
  (∀ a, (k0_off16 v600) a + S32.size a ≤ S2048.size a) ∧
  (∀ a, (k0_off32 v600) a + S32.size a ≤ S2048.size a)
theorem k0_mult5_dvd : ∀ (v600 : BitVec 32) (k0_hw28 : k0_chk28 v600), 8 ∣ (k0_mult5 v600).toNat := fun v600 k0_hw28 => k0_hw28.1
theorem k0_off16_inb : ∀ (v600 : BitVec 32) (k0_hw28 : k0_chk28 v600), ∀ a, (k0_off16 v600) a + S32.size a ≤ S2048.size a := fun v600 k0_hw28 => k0_hw28.2.1
theorem k0_off32_inb : ∀ (v600 : BitVec 32) (k0_hw28 : k0_chk28 v600), ∀ a, (k0_off32 v600) a + S32.size a ≤ S2048.size a := fun v600 k0_hw28 => k0_hw28.2.2

def k0_off33 (v609 : BitVec 32) : Fin 1 → Nat :=
  let c999936_i32_348 : BitVec 32 := 999936#32
  let v610 : BitVec 32 := Scalar.subi v609 c999936_i32_348
  let c32_i32_349 : BitVec 32 := 32#32
  let v611 : BitVec 32 := Scalar.muli v610 c32_i32_349
  let v612 : BitVec 32 := v611
  ![v612.toNat]

def k0_chk29 (v609 : BitVec 32) : Prop :=
  (8 ∣ (k0_mult6 v609).toNat) ∧
  (∀ a, (k0_off17 v609) a + S32.size a ≤ S2048.size a) ∧
  (∀ a, (k0_off33 v609) a + S32.size a ≤ S2048.size a)
theorem k0_mult6_dvd : ∀ (v609 : BitVec 32) (k0_hw29 : k0_chk29 v609), 8 ∣ (k0_mult6 v609).toNat := fun v609 k0_hw29 => k0_hw29.1
theorem k0_off17_inb : ∀ (v609 : BitVec 32) (k0_hw29 : k0_chk29 v609), ∀ a, (k0_off17 v609) a + S32.size a ≤ S2048.size a := fun v609 k0_hw29 => k0_hw29.2.1
theorem k0_off33_inb : ∀ (v609 : BitVec 32) (k0_hw29 : k0_chk29 v609), ∀ a, (k0_off33 v609) a + S32.size a ≤ S2048.size a := fun v609 k0_hw29 => k0_hw29.2.2

def k0_off34 (v618 : BitVec 32) : Fin 1 → Nat :=
  let c999936_i32_352 : BitVec 32 := 999936#32
  let v619 : BitVec 32 := Scalar.subi v618 c999936_i32_352
  let c32_i32_353 : BitVec 32 := 32#32
  let v620 : BitVec 32 := Scalar.muli v619 c32_i32_353
  let v621 : BitVec 32 := v620
  ![v621.toNat]

def k0_chk30 (v618 : BitVec 32) : Prop :=
  (8 ∣ (k0_mult7 v618).toNat) ∧
  (∀ a, (k0_off18 v618) a + S32.size a ≤ S2048.size a) ∧
  (∀ a, (k0_off34 v618) a + S32.size a ≤ S2048.size a)
theorem k0_mult7_dvd : ∀ (v618 : BitVec 32) (k0_hw30 : k0_chk30 v618), 8 ∣ (k0_mult7 v618).toNat := fun v618 k0_hw30 => k0_hw30.1
theorem k0_off18_inb : ∀ (v618 : BitVec 32) (k0_hw30 : k0_chk30 v618), ∀ a, (k0_off18 v618) a + S32.size a ≤ S2048.size a := fun v618 k0_hw30 => k0_hw30.2.1
theorem k0_off34_inb : ∀ (v618 : BitVec 32) (k0_hw30 : k0_chk30 v618), ∀ a, (k0_off34 v618) a + S32.size a ≤ S2048.size a := fun v618 k0_hw30 => k0_hw30.2.2

def k0_off35 (v627 : BitVec 32) : Fin 1 → Nat :=
  let c999936_i32_355 : BitVec 32 := 999936#32
  let v628 : BitVec 32 := Scalar.subi v627 c999936_i32_355
  let c32_i32_356 : BitVec 32 := 32#32
  let v629 : BitVec 32 := Scalar.muli v628 c32_i32_356
  let v630 : BitVec 32 := v629
  ![v630.toNat]

def k0_chk31 (v627 : BitVec 32) : Prop :=
  (8 ∣ (k0_mult8 v627).toNat) ∧
  (∀ a, (k0_off19 v627) a + S32.size a ≤ S2048.size a) ∧
  (∀ a, (k0_off35 v627) a + S32.size a ≤ S2048.size a)
theorem k0_mult8_dvd : ∀ (v627 : BitVec 32) (k0_hw31 : k0_chk31 v627), 8 ∣ (k0_mult8 v627).toNat := fun v627 k0_hw31 => k0_hw31.1
theorem k0_off19_inb : ∀ (v627 : BitVec 32) (k0_hw31 : k0_chk31 v627), ∀ a, (k0_off19 v627) a + S32.size a ≤ S2048.size a := fun v627 k0_hw31 => k0_hw31.2.1
theorem k0_off35_inb : ∀ (v627 : BitVec 32) (k0_hw31 : k0_chk31 v627), ∀ a, (k0_off35 v627) a + S32.size a ≤ S2048.size a := fun v627 k0_hw31 => k0_hw31.2.2

def k0_off36 (v636 : BitVec 32) : Fin 1 → Nat :=
  let c999936_i32_358 : BitVec 32 := 999936#32
  let v637 : BitVec 32 := Scalar.subi v636 c999936_i32_358
  let c32_i32_359 : BitVec 32 := 32#32
  let v638 : BitVec 32 := Scalar.muli v637 c32_i32_359
  let v639 : BitVec 32 := v638
  ![v639.toNat]

def k0_chk32 (v636 : BitVec 32) : Prop :=
  (8 ∣ (k0_mult9 v636).toNat) ∧
  (∀ a, (k0_off20 v636) a + S32.size a ≤ S2048.size a) ∧
  (∀ a, (k0_off36 v636) a + S32.size a ≤ S2048.size a)
theorem k0_mult9_dvd : ∀ (v636 : BitVec 32) (k0_hw32 : k0_chk32 v636), 8 ∣ (k0_mult9 v636).toNat := fun v636 k0_hw32 => k0_hw32.1
theorem k0_off20_inb : ∀ (v636 : BitVec 32) (k0_hw32 : k0_chk32 v636), ∀ a, (k0_off20 v636) a + S32.size a ≤ S2048.size a := fun v636 k0_hw32 => k0_hw32.2.1
theorem k0_off36_inb : ∀ (v636 : BitVec 32) (k0_hw32 : k0_chk32 v636), ∀ a, (k0_off36 v636) a + S32.size a ≤ S2048.size a := fun v636 k0_hw32 => k0_hw32.2.2

def k0_off37 (v645 : BitVec 32) : Fin 1 → Nat :=
  let c999936_i32_361 : BitVec 32 := 999936#32
  let v646 : BitVec 32 := Scalar.subi v645 c999936_i32_361
  let c32_i32_362 : BitVec 32 := 32#32
  let v647 : BitVec 32 := Scalar.muli v646 c32_i32_362
  let v648 : BitVec 32 := v647
  ![v648.toNat]

def k0_chk33 (v645 : BitVec 32) : Prop :=
  (8 ∣ (k0_mult10 v645).toNat) ∧
  (∀ a, (k0_off21 v645) a + S32.size a ≤ S2048.size a) ∧
  (∀ a, (k0_off37 v645) a + S32.size a ≤ S2048.size a)
theorem k0_mult10_dvd : ∀ (v645 : BitVec 32) (k0_hw33 : k0_chk33 v645), 8 ∣ (k0_mult10 v645).toNat := fun v645 k0_hw33 => k0_hw33.1
theorem k0_off21_inb : ∀ (v645 : BitVec 32) (k0_hw33 : k0_chk33 v645), ∀ a, (k0_off21 v645) a + S32.size a ≤ S2048.size a := fun v645 k0_hw33 => k0_hw33.2.1
theorem k0_off37_inb : ∀ (v645 : BitVec 32) (k0_hw33 : k0_chk33 v645), ∀ a, (k0_off37 v645) a + S32.size a ≤ S2048.size a := fun v645 k0_hw33 => k0_hw33.2.2

def k0_off38 (v654 : BitVec 32) : Fin 1 → Nat :=
  let c999936_i32_365 : BitVec 32 := 999936#32
  let v655 : BitVec 32 := Scalar.subi v654 c999936_i32_365
  let c32_i32_366 : BitVec 32 := 32#32
  let v656 : BitVec 32 := Scalar.muli v655 c32_i32_366
  let v657 : BitVec 32 := v656
  ![v657.toNat]

def k0_chk34 (v654 : BitVec 32) : Prop :=
  (8 ∣ (k0_mult11 v654).toNat) ∧
  (∀ a, (k0_off22 v654) a + S32.size a ≤ S2048.size a) ∧
  (∀ a, (k0_off38 v654) a + S32.size a ≤ S2048.size a)
theorem k0_mult11_dvd : ∀ (v654 : BitVec 32) (k0_hw34 : k0_chk34 v654), 8 ∣ (k0_mult11 v654).toNat := fun v654 k0_hw34 => k0_hw34.1
theorem k0_off22_inb : ∀ (v654 : BitVec 32) (k0_hw34 : k0_chk34 v654), ∀ a, (k0_off22 v654) a + S32.size a ≤ S2048.size a := fun v654 k0_hw34 => k0_hw34.2.1
theorem k0_off38_inb : ∀ (v654 : BitVec 32) (k0_hw34 : k0_chk34 v654), ∀ a, (k0_off38 v654) a + S32.size a ≤ S2048.size a := fun v654 k0_hw34 => k0_hw34.2.2

def k0_off39 (v663 : BitVec 32) : Fin 1 → Nat :=
  let c999936_i32_368 : BitVec 32 := 999936#32
  let v664 : BitVec 32 := Scalar.subi v663 c999936_i32_368
  let c32_i32_369 : BitVec 32 := 32#32
  let v665 : BitVec 32 := Scalar.muli v664 c32_i32_369
  let v666 : BitVec 32 := v665
  ![v666.toNat]

def k0_chk35 (v663 : BitVec 32) : Prop :=
  (8 ∣ (k0_mult12 v663).toNat) ∧
  (∀ a, (k0_off23 v663) a + S32.size a ≤ S2048.size a) ∧
  (∀ a, (k0_off39 v663) a + S32.size a ≤ S2048.size a)
theorem k0_mult12_dvd : ∀ (v663 : BitVec 32) (k0_hw35 : k0_chk35 v663), 8 ∣ (k0_mult12 v663).toNat := fun v663 k0_hw35 => k0_hw35.1
theorem k0_off23_inb : ∀ (v663 : BitVec 32) (k0_hw35 : k0_chk35 v663), ∀ a, (k0_off23 v663) a + S32.size a ≤ S2048.size a := fun v663 k0_hw35 => k0_hw35.2.1
theorem k0_off39_inb : ∀ (v663 : BitVec 32) (k0_hw35 : k0_chk35 v663), ∀ a, (k0_off39 v663) a + S32.size a ≤ S2048.size a := fun v663 k0_hw35 => k0_hw35.2.2

def k0_off40 (v672 : BitVec 32) : Fin 1 → Nat :=
  let c999936_i32_371 : BitVec 32 := 999936#32
  let v673 : BitVec 32 := Scalar.subi v672 c999936_i32_371
  let c32_i32_372 : BitVec 32 := 32#32
  let v674 : BitVec 32 := Scalar.muli v673 c32_i32_372
  let v675 : BitVec 32 := v674
  ![v675.toNat]

def k0_chk36 (v672 : BitVec 32) : Prop :=
  (8 ∣ (k0_mult13 v672).toNat) ∧
  (∀ a, (k0_off24 v672) a + S32.size a ≤ S2048.size a) ∧
  (∀ a, (k0_off40 v672) a + S32.size a ≤ S2048.size a)
theorem k0_mult13_dvd : ∀ (v672 : BitVec 32) (k0_hw36 : k0_chk36 v672), 8 ∣ (k0_mult13 v672).toNat := fun v672 k0_hw36 => k0_hw36.1
theorem k0_off24_inb : ∀ (v672 : BitVec 32) (k0_hw36 : k0_chk36 v672), ∀ a, (k0_off24 v672) a + S32.size a ≤ S2048.size a := fun v672 k0_hw36 => k0_hw36.2.1
theorem k0_off40_inb : ∀ (v672 : BitVec 32) (k0_hw36 : k0_chk36 v672), ∀ a, (k0_off40 v672) a + S32.size a ≤ S2048.size a := fun v672 k0_hw36 => k0_hw36.2.2

def k0_off41 (v681 : BitVec 32) : Fin 1 → Nat :=
  let c999936_i32_374 : BitVec 32 := 999936#32
  let v682 : BitVec 32 := Scalar.subi v681 c999936_i32_374
  let c32_i32_375 : BitVec 32 := 32#32
  let v683 : BitVec 32 := Scalar.muli v682 c32_i32_375
  let v684 : BitVec 32 := v683
  ![v684.toNat]

def k0_chk37 (v681 : BitVec 32) : Prop :=
  (8 ∣ (k0_mult14 v681).toNat) ∧
  (∀ a, (k0_off25 v681) a + S32.size a ≤ S2048.size a) ∧
  (∀ a, (k0_off41 v681) a + S32.size a ≤ S2048.size a)
theorem k0_mult14_dvd : ∀ (v681 : BitVec 32) (k0_hw37 : k0_chk37 v681), 8 ∣ (k0_mult14 v681).toNat := fun v681 k0_hw37 => k0_hw37.1
theorem k0_off25_inb : ∀ (v681 : BitVec 32) (k0_hw37 : k0_chk37 v681), ∀ a, (k0_off25 v681) a + S32.size a ≤ S2048.size a := fun v681 k0_hw37 => k0_hw37.2.1
theorem k0_off41_inb : ∀ (v681 : BitVec 32) (k0_hw37 : k0_chk37 v681), ∀ a, (k0_off41 v681) a + S32.size a ≤ S2048.size a := fun v681 k0_hw37 => k0_hw37.2.2

def k0_off42 (v690 : BitVec 32) : Fin 1 → Nat :=
  let c999936_i32_377 : BitVec 32 := 999936#32
  let v691 : BitVec 32 := Scalar.subi v690 c999936_i32_377
  let c32_i32_378 : BitVec 32 := 32#32
  let v692 : BitVec 32 := Scalar.muli v691 c32_i32_378
  let v693 : BitVec 32 := v692
  ![v693.toNat]

def k0_chk38 (v690 : BitVec 32) : Prop :=
  (8 ∣ (k0_mult15 v690).toNat) ∧
  (∀ a, (k0_off26 v690) a + S32.size a ≤ S2048.size a) ∧
  (∀ a, (k0_off42 v690) a + S32.size a ≤ S2048.size a)
theorem k0_mult15_dvd : ∀ (v690 : BitVec 32) (k0_hw38 : k0_chk38 v690), 8 ∣ (k0_mult15 v690).toNat := fun v690 k0_hw38 => k0_hw38.1
theorem k0_off26_inb : ∀ (v690 : BitVec 32) (k0_hw38 : k0_chk38 v690), ∀ a, (k0_off26 v690) a + S32.size a ≤ S2048.size a := fun v690 k0_hw38 => k0_hw38.2.1
theorem k0_off42_inb : ∀ (v690 : BitVec 32) (k0_hw38 : k0_chk38 v690), ∀ a, (k0_off42 v690) a + S32.size a ≤ S2048.size a := fun v690 k0_hw38 => k0_hw38.2.2

def k0_off43 (v699 : BitVec 32) : Fin 1 → Nat :=
  let c999936_i32_380 : BitVec 32 := 999936#32
  let v700 : BitVec 32 := Scalar.subi v699 c999936_i32_380
  let c32_i32_381 : BitVec 32 := 32#32
  let v701 : BitVec 32 := Scalar.muli v700 c32_i32_381
  let v702 : BitVec 32 := v701
  ![v702.toNat]

def k0_chk39 (v699 : BitVec 32) : Prop :=
  (8 ∣ (k0_mult16 v699).toNat) ∧
  (∀ a, (k0_off27 v699) a + S32.size a ≤ S2048.size a) ∧
  (∀ a, (k0_off43 v699) a + S32.size a ≤ S2048.size a)
theorem k0_mult16_dvd : ∀ (v699 : BitVec 32) (k0_hw39 : k0_chk39 v699), 8 ∣ (k0_mult16 v699).toNat := fun v699 k0_hw39 => k0_hw39.1
theorem k0_off27_inb : ∀ (v699 : BitVec 32) (k0_hw39 : k0_chk39 v699), ∀ a, (k0_off27 v699) a + S32.size a ≤ S2048.size a := fun v699 k0_hw39 => k0_hw39.2.1
theorem k0_off43_inb : ∀ (v699 : BitVec 32) (k0_hw39 : k0_chk39 v699), ∀ a, (k0_off43 v699) a + S32.size a ≤ S2048.size a := fun v699 k0_hw39 => k0_hw39.2.2

def k0_mult18 (v781 : BitVec 32) : BitVec 32 :=
  let c0_i32_419 : BitVec 32 := 0#32
  let c32_i32_418 : BitVec 32 := 32#32
  let v782 : BitVec 32 := Scalar.muli v781 c32_i32_418
  let v783 : BitVec 32 := Scalar.addi c0_i32_419 v782
  v783

def k0_off44 (v781 : BitVec 32) : Fin 1 → Nat :=
  let c0_i32_419 : BitVec 32 := 0#32
  let c32_i32_418 : BitVec 32 := 32#32
  let v782 : BitVec 32 := Scalar.muli v781 c32_i32_418
  let v783 : BitVec 32 := Scalar.addi c0_i32_419 v782
  let v784 : BitVec 32 := v783
  ![v784.toNat]
def k0_mult19 (v790 : BitVec 32) : BitVec 32 :=
  let c0_i32_423 : BitVec 32 := 0#32
  let c32_i32_422 : BitVec 32 := 32#32
  let v791 : BitVec 32 := Scalar.muli v790 c32_i32_422
  let v792 : BitVec 32 := Scalar.addi c0_i32_423 v791
  v792

def k0_off45 (v790 : BitVec 32) : Fin 1 → Nat :=
  let c0_i32_423 : BitVec 32 := 0#32
  let c32_i32_422 : BitVec 32 := 32#32
  let v791 : BitVec 32 := Scalar.muli v790 c32_i32_422
  let v792 : BitVec 32 := Scalar.addi c0_i32_423 v791
  let v793 : BitVec 32 := v792
  ![v793.toNat]
def k0_mult20 (v799 : BitVec 32) : BitVec 32 :=
  let c0_i32_427 : BitVec 32 := 0#32
  let c32_i32_426 : BitVec 32 := 32#32
  let v800 : BitVec 32 := Scalar.muli v799 c32_i32_426
  let v801 : BitVec 32 := Scalar.addi c0_i32_427 v800
  v801

def k0_off46 (v799 : BitVec 32) : Fin 1 → Nat :=
  let c0_i32_427 : BitVec 32 := 0#32
  let c32_i32_426 : BitVec 32 := 32#32
  let v800 : BitVec 32 := Scalar.muli v799 c32_i32_426
  let v801 : BitVec 32 := Scalar.addi c0_i32_427 v800
  let v802 : BitVec 32 := v801
  ![v802.toNat]
def k0_mult21 (v808 : BitVec 32) : BitVec 32 :=
  let c0_i32_431 : BitVec 32 := 0#32
  let c32_i32_430 : BitVec 32 := 32#32
  let v809 : BitVec 32 := Scalar.muli v808 c32_i32_430
  let v810 : BitVec 32 := Scalar.addi c0_i32_431 v809
  v810

def k0_off47 (v808 : BitVec 32) : Fin 1 → Nat :=
  let c0_i32_431 : BitVec 32 := 0#32
  let c32_i32_430 : BitVec 32 := 32#32
  let v809 : BitVec 32 := Scalar.muli v808 c32_i32_430
  let v810 : BitVec 32 := Scalar.addi c0_i32_431 v809
  let v811 : BitVec 32 := v810
  ![v811.toNat]
def k0_mult22 (v817 : BitVec 32) : BitVec 32 :=
  let c0_i32_435 : BitVec 32 := 0#32
  let c32_i32_434 : BitVec 32 := 32#32
  let v818 : BitVec 32 := Scalar.muli v817 c32_i32_434
  let v819 : BitVec 32 := Scalar.addi c0_i32_435 v818
  v819

def k0_off48 (v817 : BitVec 32) : Fin 1 → Nat :=
  let c0_i32_435 : BitVec 32 := 0#32
  let c32_i32_434 : BitVec 32 := 32#32
  let v818 : BitVec 32 := Scalar.muli v817 c32_i32_434
  let v819 : BitVec 32 := Scalar.addi c0_i32_435 v818
  let v820 : BitVec 32 := v819
  ![v820.toNat]
def k0_mult23 (v826 : BitVec 32) : BitVec 32 :=
  let c0_i32_439 : BitVec 32 := 0#32
  let c32_i32_438 : BitVec 32 := 32#32
  let v827 : BitVec 32 := Scalar.muli v826 c32_i32_438
  let v828 : BitVec 32 := Scalar.addi c0_i32_439 v827
  v828

def k0_off49 (v826 : BitVec 32) : Fin 1 → Nat :=
  let c0_i32_439 : BitVec 32 := 0#32
  let c32_i32_438 : BitVec 32 := 32#32
  let v827 : BitVec 32 := Scalar.muli v826 c32_i32_438
  let v828 : BitVec 32 := Scalar.addi c0_i32_439 v827
  let v829 : BitVec 32 := v828
  ![v829.toNat]
def k0_mult24 (v835 : BitVec 32) : BitVec 32 :=
  let c0_i32_443 : BitVec 32 := 0#32
  let c32_i32_442 : BitVec 32 := 32#32
  let v836 : BitVec 32 := Scalar.muli v835 c32_i32_442
  let v837 : BitVec 32 := Scalar.addi c0_i32_443 v836
  v837

def k0_off50 (v835 : BitVec 32) : Fin 1 → Nat :=
  let c0_i32_443 : BitVec 32 := 0#32
  let c32_i32_442 : BitVec 32 := 32#32
  let v836 : BitVec 32 := Scalar.muli v835 c32_i32_442
  let v837 : BitVec 32 := Scalar.addi c0_i32_443 v836
  let v838 : BitVec 32 := v837
  ![v838.toNat]
def k0_mult25 (v844 : BitVec 32) : BitVec 32 :=
  let c0_i32_447 : BitVec 32 := 0#32
  let c32_i32_446 : BitVec 32 := 32#32
  let v845 : BitVec 32 := Scalar.muli v844 c32_i32_446
  let v846 : BitVec 32 := Scalar.addi c0_i32_447 v845
  v846

def k0_off51 (v844 : BitVec 32) : Fin 1 → Nat :=
  let c0_i32_447 : BitVec 32 := 0#32
  let c32_i32_446 : BitVec 32 := 32#32
  let v845 : BitVec 32 := Scalar.muli v844 c32_i32_446
  let v846 : BitVec 32 := Scalar.addi c0_i32_447 v845
  let v847 : BitVec 32 := v846
  ![v847.toNat]
def k0_mult26 (v853 : BitVec 32) : BitVec 32 :=
  let c0_i32_451 : BitVec 32 := 0#32
  let c32_i32_450 : BitVec 32 := 32#32
  let v854 : BitVec 32 := Scalar.muli v853 c32_i32_450
  let v855 : BitVec 32 := Scalar.addi c0_i32_451 v854
  v855

def k0_off52 (v853 : BitVec 32) : Fin 1 → Nat :=
  let c0_i32_451 : BitVec 32 := 0#32
  let c32_i32_450 : BitVec 32 := 32#32
  let v854 : BitVec 32 := Scalar.muli v853 c32_i32_450
  let v855 : BitVec 32 := Scalar.addi c0_i32_451 v854
  let v856 : BitVec 32 := v855
  ![v856.toNat]
def k0_mult27 (v862 : BitVec 32) : BitVec 32 :=
  let c0_i32_455 : BitVec 32 := 0#32
  let c32_i32_454 : BitVec 32 := 32#32
  let v863 : BitVec 32 := Scalar.muli v862 c32_i32_454
  let v864 : BitVec 32 := Scalar.addi c0_i32_455 v863
  v864

def k0_off53 (v862 : BitVec 32) : Fin 1 → Nat :=
  let c0_i32_455 : BitVec 32 := 0#32
  let c32_i32_454 : BitVec 32 := 32#32
  let v863 : BitVec 32 := Scalar.muli v862 c32_i32_454
  let v864 : BitVec 32 := Scalar.addi c0_i32_455 v863
  let v865 : BitVec 32 := v864
  ![v865.toNat]
def k0_mult28 (v871 : BitVec 32) : BitVec 32 :=
  let c0_i32_459 : BitVec 32 := 0#32
  let c32_i32_458 : BitVec 32 := 32#32
  let v872 : BitVec 32 := Scalar.muli v871 c32_i32_458
  let v873 : BitVec 32 := Scalar.addi c0_i32_459 v872
  v873

def k0_off54 (v871 : BitVec 32) : Fin 1 → Nat :=
  let c0_i32_459 : BitVec 32 := 0#32
  let c32_i32_458 : BitVec 32 := 32#32
  let v872 : BitVec 32 := Scalar.muli v871 c32_i32_458
  let v873 : BitVec 32 := Scalar.addi c0_i32_459 v872
  let v874 : BitVec 32 := v873
  ![v874.toNat]
def k0_mult29 (v880 : BitVec 32) : BitVec 32 :=
  let c0_i32_463 : BitVec 32 := 0#32
  let c32_i32_462 : BitVec 32 := 32#32
  let v881 : BitVec 32 := Scalar.muli v880 c32_i32_462
  let v882 : BitVec 32 := Scalar.addi c0_i32_463 v881
  v882

def k0_off55 (v880 : BitVec 32) : Fin 1 → Nat :=
  let c0_i32_463 : BitVec 32 := 0#32
  let c32_i32_462 : BitVec 32 := 32#32
  let v881 : BitVec 32 := Scalar.muli v880 c32_i32_462
  let v882 : BitVec 32 := Scalar.addi c0_i32_463 v881
  let v883 : BitVec 32 := v882
  ![v883.toNat]
def k0_mult30 (v889 : BitVec 32) : BitVec 32 :=
  let c0_i32_467 : BitVec 32 := 0#32
  let c32_i32_466 : BitVec 32 := 32#32
  let v890 : BitVec 32 := Scalar.muli v889 c32_i32_466
  let v891 : BitVec 32 := Scalar.addi c0_i32_467 v890
  v891

def k0_off56 (v889 : BitVec 32) : Fin 1 → Nat :=
  let c0_i32_467 : BitVec 32 := 0#32
  let c32_i32_466 : BitVec 32 := 32#32
  let v890 : BitVec 32 := Scalar.muli v889 c32_i32_466
  let v891 : BitVec 32 := Scalar.addi c0_i32_467 v890
  let v892 : BitVec 32 := v891
  ![v892.toNat]
def k0_mult31 (v898 : BitVec 32) : BitVec 32 :=
  let c0_i32_471 : BitVec 32 := 0#32
  let c32_i32_470 : BitVec 32 := 32#32
  let v899 : BitVec 32 := Scalar.muli v898 c32_i32_470
  let v900 : BitVec 32 := Scalar.addi c0_i32_471 v899
  v900

def k0_off57 (v898 : BitVec 32) : Fin 1 → Nat :=
  let c0_i32_471 : BitVec 32 := 0#32
  let c32_i32_470 : BitVec 32 := 32#32
  let v899 : BitVec 32 := Scalar.muli v898 c32_i32_470
  let v900 : BitVec 32 := Scalar.addi c0_i32_471 v899
  let v901 : BitVec 32 := v900
  ![v901.toNat]
def k0_mult32 (v907 : BitVec 32) : BitVec 32 :=
  let c0_i32_475 : BitVec 32 := 0#32
  let c32_i32_474 : BitVec 32 := 32#32
  let v908 : BitVec 32 := Scalar.muli v907 c32_i32_474
  let v909 : BitVec 32 := Scalar.addi c0_i32_475 v908
  v909

def k0_off58 (v907 : BitVec 32) : Fin 1 → Nat :=
  let c0_i32_475 : BitVec 32 := 0#32
  let c32_i32_474 : BitVec 32 := 32#32
  let v908 : BitVec 32 := Scalar.muli v907 c32_i32_474
  let v909 : BitVec 32 := Scalar.addi c0_i32_475 v908
  let v910 : BitVec 32 := v909
  ![v910.toNat]
def k0_mult33 (v916 : BitVec 32) : BitVec 32 :=
  let c0_i32_479 : BitVec 32 := 0#32
  let c32_i32_478 : BitVec 32 := 32#32
  let v917 : BitVec 32 := Scalar.muli v916 c32_i32_478
  let v918 : BitVec 32 := Scalar.addi c0_i32_479 v917
  v918

def k0_off59 (v916 : BitVec 32) : Fin 1 → Nat :=
  let c0_i32_479 : BitVec 32 := 0#32
  let c32_i32_478 : BitVec 32 := 32#32
  let v917 : BitVec 32 := Scalar.muli v916 c32_i32_478
  let v918 : BitVec 32 := Scalar.addi c0_i32_479 v917
  let v919 : BitVec 32 := v918
  ![v919.toNat]

def k0_chk56 (v916 : BitVec 32) : Prop :=
  (8 ∣ (k0_mult33 v916).toNat) ∧
  (∀ a, (k0_off59 v916) a + S32.size a ≤ S3407872.size a)
theorem k0_mult33_dvd : ∀ (v916 : BitVec 32) (k0_hw56 : k0_chk56 v916), 8 ∣ (k0_mult33 v916).toNat := fun v916 k0_hw56 => k0_hw56.1
theorem k0_off59_inb : ∀ (v916 : BitVec 32) (k0_hw56 : k0_chk56 v916), ∀ a, (k0_off59 v916) a + S32.size a ≤ S3407872.size a := fun v916 k0_hw56 => k0_hw56.2

def k0_off60 (v781 : BitVec 32) : Fin 1 → Nat :=
  let c0_i32_419 : BitVec 32 := 0#32
  let c32_i32_418 : BitVec 32 := 32#32
  let v782 : BitVec 32 := Scalar.muli v781 c32_i32_418
  let v783 : BitVec 32 := Scalar.addi c0_i32_419 v782
  let v784 : BitVec 32 := v783
  ![v784.toNat]

def k0_chk41 (v781 : BitVec 32) : Prop :=
  (8 ∣ (k0_mult18 v781).toNat) ∧
  (∀ a, (k0_off44 v781) a + S32.size a ≤ S3407872.size a) ∧
  (∀ a, (k0_off60 v781) a + S32.size a ≤ S3407872.size a)
theorem k0_mult18_dvd : ∀ (v781 : BitVec 32) (k0_hw41 : k0_chk41 v781), 8 ∣ (k0_mult18 v781).toNat := fun v781 k0_hw41 => k0_hw41.1
theorem k0_off44_inb : ∀ (v781 : BitVec 32) (k0_hw41 : k0_chk41 v781), ∀ a, (k0_off44 v781) a + S32.size a ≤ S3407872.size a := fun v781 k0_hw41 => k0_hw41.2.1
theorem k0_off60_inb : ∀ (v781 : BitVec 32) (k0_hw41 : k0_chk41 v781), ∀ a, (k0_off60 v781) a + S32.size a ≤ S3407872.size a := fun v781 k0_hw41 => k0_hw41.2.2

def k0_off61 (v790 : BitVec 32) : Fin 1 → Nat :=
  let c0_i32_423 : BitVec 32 := 0#32
  let c32_i32_422 : BitVec 32 := 32#32
  let v791 : BitVec 32 := Scalar.muli v790 c32_i32_422
  let v792 : BitVec 32 := Scalar.addi c0_i32_423 v791
  let v793 : BitVec 32 := v792
  ![v793.toNat]

def k0_chk42 (v790 : BitVec 32) : Prop :=
  (8 ∣ (k0_mult19 v790).toNat) ∧
  (∀ a, (k0_off45 v790) a + S32.size a ≤ S3407872.size a) ∧
  (∀ a, (k0_off61 v790) a + S32.size a ≤ S3407872.size a)
theorem k0_mult19_dvd : ∀ (v790 : BitVec 32) (k0_hw42 : k0_chk42 v790), 8 ∣ (k0_mult19 v790).toNat := fun v790 k0_hw42 => k0_hw42.1
theorem k0_off45_inb : ∀ (v790 : BitVec 32) (k0_hw42 : k0_chk42 v790), ∀ a, (k0_off45 v790) a + S32.size a ≤ S3407872.size a := fun v790 k0_hw42 => k0_hw42.2.1
theorem k0_off61_inb : ∀ (v790 : BitVec 32) (k0_hw42 : k0_chk42 v790), ∀ a, (k0_off61 v790) a + S32.size a ≤ S3407872.size a := fun v790 k0_hw42 => k0_hw42.2.2

def k0_off62 (v799 : BitVec 32) : Fin 1 → Nat :=
  let c0_i32_427 : BitVec 32 := 0#32
  let c32_i32_426 : BitVec 32 := 32#32
  let v800 : BitVec 32 := Scalar.muli v799 c32_i32_426
  let v801 : BitVec 32 := Scalar.addi c0_i32_427 v800
  let v802 : BitVec 32 := v801
  ![v802.toNat]

def k0_chk43 (v799 : BitVec 32) : Prop :=
  (8 ∣ (k0_mult20 v799).toNat) ∧
  (∀ a, (k0_off46 v799) a + S32.size a ≤ S3407872.size a) ∧
  (∀ a, (k0_off62 v799) a + S32.size a ≤ S3407872.size a)
theorem k0_mult20_dvd : ∀ (v799 : BitVec 32) (k0_hw43 : k0_chk43 v799), 8 ∣ (k0_mult20 v799).toNat := fun v799 k0_hw43 => k0_hw43.1
theorem k0_off46_inb : ∀ (v799 : BitVec 32) (k0_hw43 : k0_chk43 v799), ∀ a, (k0_off46 v799) a + S32.size a ≤ S3407872.size a := fun v799 k0_hw43 => k0_hw43.2.1
theorem k0_off62_inb : ∀ (v799 : BitVec 32) (k0_hw43 : k0_chk43 v799), ∀ a, (k0_off62 v799) a + S32.size a ≤ S3407872.size a := fun v799 k0_hw43 => k0_hw43.2.2

def k0_off63 (v808 : BitVec 32) : Fin 1 → Nat :=
  let c0_i32_431 : BitVec 32 := 0#32
  let c32_i32_430 : BitVec 32 := 32#32
  let v809 : BitVec 32 := Scalar.muli v808 c32_i32_430
  let v810 : BitVec 32 := Scalar.addi c0_i32_431 v809
  let v811 : BitVec 32 := v810
  ![v811.toNat]

def k0_chk44 (v808 : BitVec 32) : Prop :=
  (8 ∣ (k0_mult21 v808).toNat) ∧
  (∀ a, (k0_off47 v808) a + S32.size a ≤ S3407872.size a) ∧
  (∀ a, (k0_off63 v808) a + S32.size a ≤ S3407872.size a)
theorem k0_mult21_dvd : ∀ (v808 : BitVec 32) (k0_hw44 : k0_chk44 v808), 8 ∣ (k0_mult21 v808).toNat := fun v808 k0_hw44 => k0_hw44.1
theorem k0_off47_inb : ∀ (v808 : BitVec 32) (k0_hw44 : k0_chk44 v808), ∀ a, (k0_off47 v808) a + S32.size a ≤ S3407872.size a := fun v808 k0_hw44 => k0_hw44.2.1
theorem k0_off63_inb : ∀ (v808 : BitVec 32) (k0_hw44 : k0_chk44 v808), ∀ a, (k0_off63 v808) a + S32.size a ≤ S3407872.size a := fun v808 k0_hw44 => k0_hw44.2.2

def k0_off64 (v817 : BitVec 32) : Fin 1 → Nat :=
  let c0_i32_435 : BitVec 32 := 0#32
  let c32_i32_434 : BitVec 32 := 32#32
  let v818 : BitVec 32 := Scalar.muli v817 c32_i32_434
  let v819 : BitVec 32 := Scalar.addi c0_i32_435 v818
  let v820 : BitVec 32 := v819
  ![v820.toNat]

def k0_chk45 (v817 : BitVec 32) : Prop :=
  (8 ∣ (k0_mult22 v817).toNat) ∧
  (∀ a, (k0_off48 v817) a + S32.size a ≤ S3407872.size a) ∧
  (∀ a, (k0_off64 v817) a + S32.size a ≤ S3407872.size a)
theorem k0_mult22_dvd : ∀ (v817 : BitVec 32) (k0_hw45 : k0_chk45 v817), 8 ∣ (k0_mult22 v817).toNat := fun v817 k0_hw45 => k0_hw45.1
theorem k0_off48_inb : ∀ (v817 : BitVec 32) (k0_hw45 : k0_chk45 v817), ∀ a, (k0_off48 v817) a + S32.size a ≤ S3407872.size a := fun v817 k0_hw45 => k0_hw45.2.1
theorem k0_off64_inb : ∀ (v817 : BitVec 32) (k0_hw45 : k0_chk45 v817), ∀ a, (k0_off64 v817) a + S32.size a ≤ S3407872.size a := fun v817 k0_hw45 => k0_hw45.2.2

def k0_off65 (v826 : BitVec 32) : Fin 1 → Nat :=
  let c0_i32_439 : BitVec 32 := 0#32
  let c32_i32_438 : BitVec 32 := 32#32
  let v827 : BitVec 32 := Scalar.muli v826 c32_i32_438
  let v828 : BitVec 32 := Scalar.addi c0_i32_439 v827
  let v829 : BitVec 32 := v828
  ![v829.toNat]

def k0_chk46 (v826 : BitVec 32) : Prop :=
  (8 ∣ (k0_mult23 v826).toNat) ∧
  (∀ a, (k0_off49 v826) a + S32.size a ≤ S3407872.size a) ∧
  (∀ a, (k0_off65 v826) a + S32.size a ≤ S3407872.size a)
theorem k0_mult23_dvd : ∀ (v826 : BitVec 32) (k0_hw46 : k0_chk46 v826), 8 ∣ (k0_mult23 v826).toNat := fun v826 k0_hw46 => k0_hw46.1
theorem k0_off49_inb : ∀ (v826 : BitVec 32) (k0_hw46 : k0_chk46 v826), ∀ a, (k0_off49 v826) a + S32.size a ≤ S3407872.size a := fun v826 k0_hw46 => k0_hw46.2.1
theorem k0_off65_inb : ∀ (v826 : BitVec 32) (k0_hw46 : k0_chk46 v826), ∀ a, (k0_off65 v826) a + S32.size a ≤ S3407872.size a := fun v826 k0_hw46 => k0_hw46.2.2

def k0_off66 (v835 : BitVec 32) : Fin 1 → Nat :=
  let c0_i32_443 : BitVec 32 := 0#32
  let c32_i32_442 : BitVec 32 := 32#32
  let v836 : BitVec 32 := Scalar.muli v835 c32_i32_442
  let v837 : BitVec 32 := Scalar.addi c0_i32_443 v836
  let v838 : BitVec 32 := v837
  ![v838.toNat]

def k0_chk47 (v835 : BitVec 32) : Prop :=
  (8 ∣ (k0_mult24 v835).toNat) ∧
  (∀ a, (k0_off50 v835) a + S32.size a ≤ S3407872.size a) ∧
  (∀ a, (k0_off66 v835) a + S32.size a ≤ S3407872.size a)
theorem k0_mult24_dvd : ∀ (v835 : BitVec 32) (k0_hw47 : k0_chk47 v835), 8 ∣ (k0_mult24 v835).toNat := fun v835 k0_hw47 => k0_hw47.1
theorem k0_off50_inb : ∀ (v835 : BitVec 32) (k0_hw47 : k0_chk47 v835), ∀ a, (k0_off50 v835) a + S32.size a ≤ S3407872.size a := fun v835 k0_hw47 => k0_hw47.2.1
theorem k0_off66_inb : ∀ (v835 : BitVec 32) (k0_hw47 : k0_chk47 v835), ∀ a, (k0_off66 v835) a + S32.size a ≤ S3407872.size a := fun v835 k0_hw47 => k0_hw47.2.2

def k0_off67 (v844 : BitVec 32) : Fin 1 → Nat :=
  let c0_i32_447 : BitVec 32 := 0#32
  let c32_i32_446 : BitVec 32 := 32#32
  let v845 : BitVec 32 := Scalar.muli v844 c32_i32_446
  let v846 : BitVec 32 := Scalar.addi c0_i32_447 v845
  let v847 : BitVec 32 := v846
  ![v847.toNat]

def k0_chk48 (v844 : BitVec 32) : Prop :=
  (8 ∣ (k0_mult25 v844).toNat) ∧
  (∀ a, (k0_off51 v844) a + S32.size a ≤ S3407872.size a) ∧
  (∀ a, (k0_off67 v844) a + S32.size a ≤ S3407872.size a)
theorem k0_mult25_dvd : ∀ (v844 : BitVec 32) (k0_hw48 : k0_chk48 v844), 8 ∣ (k0_mult25 v844).toNat := fun v844 k0_hw48 => k0_hw48.1
theorem k0_off51_inb : ∀ (v844 : BitVec 32) (k0_hw48 : k0_chk48 v844), ∀ a, (k0_off51 v844) a + S32.size a ≤ S3407872.size a := fun v844 k0_hw48 => k0_hw48.2.1
theorem k0_off67_inb : ∀ (v844 : BitVec 32) (k0_hw48 : k0_chk48 v844), ∀ a, (k0_off67 v844) a + S32.size a ≤ S3407872.size a := fun v844 k0_hw48 => k0_hw48.2.2

def k0_off68 (v853 : BitVec 32) : Fin 1 → Nat :=
  let c0_i32_451 : BitVec 32 := 0#32
  let c32_i32_450 : BitVec 32 := 32#32
  let v854 : BitVec 32 := Scalar.muli v853 c32_i32_450
  let v855 : BitVec 32 := Scalar.addi c0_i32_451 v854
  let v856 : BitVec 32 := v855
  ![v856.toNat]

def k0_chk49 (v853 : BitVec 32) : Prop :=
  (8 ∣ (k0_mult26 v853).toNat) ∧
  (∀ a, (k0_off52 v853) a + S32.size a ≤ S3407872.size a) ∧
  (∀ a, (k0_off68 v853) a + S32.size a ≤ S3407872.size a)
theorem k0_mult26_dvd : ∀ (v853 : BitVec 32) (k0_hw49 : k0_chk49 v853), 8 ∣ (k0_mult26 v853).toNat := fun v853 k0_hw49 => k0_hw49.1
theorem k0_off52_inb : ∀ (v853 : BitVec 32) (k0_hw49 : k0_chk49 v853), ∀ a, (k0_off52 v853) a + S32.size a ≤ S3407872.size a := fun v853 k0_hw49 => k0_hw49.2.1
theorem k0_off68_inb : ∀ (v853 : BitVec 32) (k0_hw49 : k0_chk49 v853), ∀ a, (k0_off68 v853) a + S32.size a ≤ S3407872.size a := fun v853 k0_hw49 => k0_hw49.2.2

def k0_off69 (v862 : BitVec 32) : Fin 1 → Nat :=
  let c0_i32_455 : BitVec 32 := 0#32
  let c32_i32_454 : BitVec 32 := 32#32
  let v863 : BitVec 32 := Scalar.muli v862 c32_i32_454
  let v864 : BitVec 32 := Scalar.addi c0_i32_455 v863
  let v865 : BitVec 32 := v864
  ![v865.toNat]

def k0_chk50 (v862 : BitVec 32) : Prop :=
  (8 ∣ (k0_mult27 v862).toNat) ∧
  (∀ a, (k0_off53 v862) a + S32.size a ≤ S3407872.size a) ∧
  (∀ a, (k0_off69 v862) a + S32.size a ≤ S3407872.size a)
theorem k0_mult27_dvd : ∀ (v862 : BitVec 32) (k0_hw50 : k0_chk50 v862), 8 ∣ (k0_mult27 v862).toNat := fun v862 k0_hw50 => k0_hw50.1
theorem k0_off53_inb : ∀ (v862 : BitVec 32) (k0_hw50 : k0_chk50 v862), ∀ a, (k0_off53 v862) a + S32.size a ≤ S3407872.size a := fun v862 k0_hw50 => k0_hw50.2.1
theorem k0_off69_inb : ∀ (v862 : BitVec 32) (k0_hw50 : k0_chk50 v862), ∀ a, (k0_off69 v862) a + S32.size a ≤ S3407872.size a := fun v862 k0_hw50 => k0_hw50.2.2

def k0_off70 (v871 : BitVec 32) : Fin 1 → Nat :=
  let c0_i32_459 : BitVec 32 := 0#32
  let c32_i32_458 : BitVec 32 := 32#32
  let v872 : BitVec 32 := Scalar.muli v871 c32_i32_458
  let v873 : BitVec 32 := Scalar.addi c0_i32_459 v872
  let v874 : BitVec 32 := v873
  ![v874.toNat]

def k0_chk51 (v871 : BitVec 32) : Prop :=
  (8 ∣ (k0_mult28 v871).toNat) ∧
  (∀ a, (k0_off54 v871) a + S32.size a ≤ S3407872.size a) ∧
  (∀ a, (k0_off70 v871) a + S32.size a ≤ S3407872.size a)
theorem k0_mult28_dvd : ∀ (v871 : BitVec 32) (k0_hw51 : k0_chk51 v871), 8 ∣ (k0_mult28 v871).toNat := fun v871 k0_hw51 => k0_hw51.1
theorem k0_off54_inb : ∀ (v871 : BitVec 32) (k0_hw51 : k0_chk51 v871), ∀ a, (k0_off54 v871) a + S32.size a ≤ S3407872.size a := fun v871 k0_hw51 => k0_hw51.2.1
theorem k0_off70_inb : ∀ (v871 : BitVec 32) (k0_hw51 : k0_chk51 v871), ∀ a, (k0_off70 v871) a + S32.size a ≤ S3407872.size a := fun v871 k0_hw51 => k0_hw51.2.2

def k0_off71 (v880 : BitVec 32) : Fin 1 → Nat :=
  let c0_i32_463 : BitVec 32 := 0#32
  let c32_i32_462 : BitVec 32 := 32#32
  let v881 : BitVec 32 := Scalar.muli v880 c32_i32_462
  let v882 : BitVec 32 := Scalar.addi c0_i32_463 v881
  let v883 : BitVec 32 := v882
  ![v883.toNat]

def k0_chk52 (v880 : BitVec 32) : Prop :=
  (8 ∣ (k0_mult29 v880).toNat) ∧
  (∀ a, (k0_off55 v880) a + S32.size a ≤ S3407872.size a) ∧
  (∀ a, (k0_off71 v880) a + S32.size a ≤ S3407872.size a)
theorem k0_mult29_dvd : ∀ (v880 : BitVec 32) (k0_hw52 : k0_chk52 v880), 8 ∣ (k0_mult29 v880).toNat := fun v880 k0_hw52 => k0_hw52.1
theorem k0_off55_inb : ∀ (v880 : BitVec 32) (k0_hw52 : k0_chk52 v880), ∀ a, (k0_off55 v880) a + S32.size a ≤ S3407872.size a := fun v880 k0_hw52 => k0_hw52.2.1
theorem k0_off71_inb : ∀ (v880 : BitVec 32) (k0_hw52 : k0_chk52 v880), ∀ a, (k0_off71 v880) a + S32.size a ≤ S3407872.size a := fun v880 k0_hw52 => k0_hw52.2.2

def k0_off72 (v889 : BitVec 32) : Fin 1 → Nat :=
  let c0_i32_467 : BitVec 32 := 0#32
  let c32_i32_466 : BitVec 32 := 32#32
  let v890 : BitVec 32 := Scalar.muli v889 c32_i32_466
  let v891 : BitVec 32 := Scalar.addi c0_i32_467 v890
  let v892 : BitVec 32 := v891
  ![v892.toNat]

def k0_chk53 (v889 : BitVec 32) : Prop :=
  (8 ∣ (k0_mult30 v889).toNat) ∧
  (∀ a, (k0_off56 v889) a + S32.size a ≤ S3407872.size a) ∧
  (∀ a, (k0_off72 v889) a + S32.size a ≤ S3407872.size a)
theorem k0_mult30_dvd : ∀ (v889 : BitVec 32) (k0_hw53 : k0_chk53 v889), 8 ∣ (k0_mult30 v889).toNat := fun v889 k0_hw53 => k0_hw53.1
theorem k0_off56_inb : ∀ (v889 : BitVec 32) (k0_hw53 : k0_chk53 v889), ∀ a, (k0_off56 v889) a + S32.size a ≤ S3407872.size a := fun v889 k0_hw53 => k0_hw53.2.1
theorem k0_off72_inb : ∀ (v889 : BitVec 32) (k0_hw53 : k0_chk53 v889), ∀ a, (k0_off72 v889) a + S32.size a ≤ S3407872.size a := fun v889 k0_hw53 => k0_hw53.2.2

def k0_off73 (v898 : BitVec 32) : Fin 1 → Nat :=
  let c0_i32_471 : BitVec 32 := 0#32
  let c32_i32_470 : BitVec 32 := 32#32
  let v899 : BitVec 32 := Scalar.muli v898 c32_i32_470
  let v900 : BitVec 32 := Scalar.addi c0_i32_471 v899
  let v901 : BitVec 32 := v900
  ![v901.toNat]

def k0_chk54 (v898 : BitVec 32) : Prop :=
  (8 ∣ (k0_mult31 v898).toNat) ∧
  (∀ a, (k0_off57 v898) a + S32.size a ≤ S3407872.size a) ∧
  (∀ a, (k0_off73 v898) a + S32.size a ≤ S3407872.size a)
theorem k0_mult31_dvd : ∀ (v898 : BitVec 32) (k0_hw54 : k0_chk54 v898), 8 ∣ (k0_mult31 v898).toNat := fun v898 k0_hw54 => k0_hw54.1
theorem k0_off57_inb : ∀ (v898 : BitVec 32) (k0_hw54 : k0_chk54 v898), ∀ a, (k0_off57 v898) a + S32.size a ≤ S3407872.size a := fun v898 k0_hw54 => k0_hw54.2.1
theorem k0_off73_inb : ∀ (v898 : BitVec 32) (k0_hw54 : k0_chk54 v898), ∀ a, (k0_off73 v898) a + S32.size a ≤ S3407872.size a := fun v898 k0_hw54 => k0_hw54.2.2

def k0_off74 (v907 : BitVec 32) : Fin 1 → Nat :=
  let c0_i32_475 : BitVec 32 := 0#32
  let c32_i32_474 : BitVec 32 := 32#32
  let v908 : BitVec 32 := Scalar.muli v907 c32_i32_474
  let v909 : BitVec 32 := Scalar.addi c0_i32_475 v908
  let v910 : BitVec 32 := v909
  ![v910.toNat]

def k0_chk55 (v907 : BitVec 32) : Prop :=
  (8 ∣ (k0_mult32 v907).toNat) ∧
  (∀ a, (k0_off58 v907) a + S32.size a ≤ S3407872.size a) ∧
  (∀ a, (k0_off74 v907) a + S32.size a ≤ S3407872.size a)
theorem k0_mult32_dvd : ∀ (v907 : BitVec 32) (k0_hw55 : k0_chk55 v907), 8 ∣ (k0_mult32 v907).toNat := fun v907 k0_hw55 => k0_hw55.1
theorem k0_off58_inb : ∀ (v907 : BitVec 32) (k0_hw55 : k0_chk55 v907), ∀ a, (k0_off58 v907) a + S32.size a ≤ S3407872.size a := fun v907 k0_hw55 => k0_hw55.2.1
theorem k0_off74_inb : ∀ (v907 : BitVec 32) (k0_hw55 : k0_chk55 v907), ∀ a, (k0_off74 v907) a + S32.size a ≤ S3407872.size a := fun v907 k0_hw55 => k0_hw55.2.2

def k0_mult34 (v991 : BitVec 32) : BitVec 32 :=
  let c999936_i32_516 : BitVec 32 := 999936#32
  let v992 : BitVec 32 := Scalar.subi v991 c999936_i32_516
  let c32_i32_517 : BitVec 32 := 32#32
  let v993 : BitVec 32 := Scalar.muli v992 c32_i32_517
  v993

def k0_off75 (v991 : BitVec 32) : Fin 1 → Nat :=
  let c999936_i32_516 : BitVec 32 := 999936#32
  let v992 : BitVec 32 := Scalar.subi v991 c999936_i32_516
  let c32_i32_517 : BitVec 32 := 32#32
  let v993 : BitVec 32 := Scalar.muli v992 c32_i32_517
  let v994 : BitVec 32 := v993
  ![v994.toNat]
def k0_mult35 (v1000 : BitVec 32) : BitVec 32 :=
  let c999936_i32_519 : BitVec 32 := 999936#32
  let v1001 : BitVec 32 := Scalar.subi v1000 c999936_i32_519
  let c32_i32_520 : BitVec 32 := 32#32
  let v1002 : BitVec 32 := Scalar.muli v1001 c32_i32_520
  v1002

def k0_off76 (v1000 : BitVec 32) : Fin 1 → Nat :=
  let c999936_i32_519 : BitVec 32 := 999936#32
  let v1001 : BitVec 32 := Scalar.subi v1000 c999936_i32_519
  let c32_i32_520 : BitVec 32 := 32#32
  let v1002 : BitVec 32 := Scalar.muli v1001 c32_i32_520
  let v1003 : BitVec 32 := v1002
  ![v1003.toNat]
def k0_mult36 (v1009 : BitVec 32) : BitVec 32 :=
  let c999936_i32_522 : BitVec 32 := 999936#32
  let v1010 : BitVec 32 := Scalar.subi v1009 c999936_i32_522
  let c32_i32_523 : BitVec 32 := 32#32
  let v1011 : BitVec 32 := Scalar.muli v1010 c32_i32_523
  v1011

def k0_off77 (v1009 : BitVec 32) : Fin 1 → Nat :=
  let c999936_i32_522 : BitVec 32 := 999936#32
  let v1010 : BitVec 32 := Scalar.subi v1009 c999936_i32_522
  let c32_i32_523 : BitVec 32 := 32#32
  let v1011 : BitVec 32 := Scalar.muli v1010 c32_i32_523
  let v1012 : BitVec 32 := v1011
  ![v1012.toNat]
def k0_mult37 (v1018 : BitVec 32) : BitVec 32 :=
  let c999936_i32_525 : BitVec 32 := 999936#32
  let v1019 : BitVec 32 := Scalar.subi v1018 c999936_i32_525
  let c32_i32_526 : BitVec 32 := 32#32
  let v1020 : BitVec 32 := Scalar.muli v1019 c32_i32_526
  v1020

def k0_off78 (v1018 : BitVec 32) : Fin 1 → Nat :=
  let c999936_i32_525 : BitVec 32 := 999936#32
  let v1019 : BitVec 32 := Scalar.subi v1018 c999936_i32_525
  let c32_i32_526 : BitVec 32 := 32#32
  let v1020 : BitVec 32 := Scalar.muli v1019 c32_i32_526
  let v1021 : BitVec 32 := v1020
  ![v1021.toNat]
def k0_mult38 (v1027 : BitVec 32) : BitVec 32 :=
  let c999936_i32_528 : BitVec 32 := 999936#32
  let v1028 : BitVec 32 := Scalar.subi v1027 c999936_i32_528
  let c32_i32_529 : BitVec 32 := 32#32
  let v1029 : BitVec 32 := Scalar.muli v1028 c32_i32_529
  v1029

def k0_off79 (v1027 : BitVec 32) : Fin 1 → Nat :=
  let c999936_i32_528 : BitVec 32 := 999936#32
  let v1028 : BitVec 32 := Scalar.subi v1027 c999936_i32_528
  let c32_i32_529 : BitVec 32 := 32#32
  let v1029 : BitVec 32 := Scalar.muli v1028 c32_i32_529
  let v1030 : BitVec 32 := v1029
  ![v1030.toNat]
def k0_mult39 (v1036 : BitVec 32) : BitVec 32 :=
  let c999936_i32_531 : BitVec 32 := 999936#32
  let v1037 : BitVec 32 := Scalar.subi v1036 c999936_i32_531
  let c32_i32_532 : BitVec 32 := 32#32
  let v1038 : BitVec 32 := Scalar.muli v1037 c32_i32_532
  v1038

def k0_off80 (v1036 : BitVec 32) : Fin 1 → Nat :=
  let c999936_i32_531 : BitVec 32 := 999936#32
  let v1037 : BitVec 32 := Scalar.subi v1036 c999936_i32_531
  let c32_i32_532 : BitVec 32 := 32#32
  let v1038 : BitVec 32 := Scalar.muli v1037 c32_i32_532
  let v1039 : BitVec 32 := v1038
  ![v1039.toNat]
def k0_mult40 (v1045 : BitVec 32) : BitVec 32 :=
  let c999936_i32_534 : BitVec 32 := 999936#32
  let v1046 : BitVec 32 := Scalar.subi v1045 c999936_i32_534
  let c32_i32_535 : BitVec 32 := 32#32
  let v1047 : BitVec 32 := Scalar.muli v1046 c32_i32_535
  v1047

def k0_off81 (v1045 : BitVec 32) : Fin 1 → Nat :=
  let c999936_i32_534 : BitVec 32 := 999936#32
  let v1046 : BitVec 32 := Scalar.subi v1045 c999936_i32_534
  let c32_i32_535 : BitVec 32 := 32#32
  let v1047 : BitVec 32 := Scalar.muli v1046 c32_i32_535
  let v1048 : BitVec 32 := v1047
  ![v1048.toNat]
def k0_mult41 (v1054 : BitVec 32) : BitVec 32 :=
  let c999936_i32_537 : BitVec 32 := 999936#32
  let v1055 : BitVec 32 := Scalar.subi v1054 c999936_i32_537
  let c32_i32_538 : BitVec 32 := 32#32
  let v1056 : BitVec 32 := Scalar.muli v1055 c32_i32_538
  v1056

def k0_off82 (v1054 : BitVec 32) : Fin 1 → Nat :=
  let c999936_i32_537 : BitVec 32 := 999936#32
  let v1055 : BitVec 32 := Scalar.subi v1054 c999936_i32_537
  let c32_i32_538 : BitVec 32 := 32#32
  let v1056 : BitVec 32 := Scalar.muli v1055 c32_i32_538
  let v1057 : BitVec 32 := v1056
  ![v1057.toNat]
def k0_mult42 (v1063 : BitVec 32) : BitVec 32 :=
  let c999936_i32_540 : BitVec 32 := 999936#32
  let v1064 : BitVec 32 := Scalar.subi v1063 c999936_i32_540
  let c32_i32_541 : BitVec 32 := 32#32
  let v1065 : BitVec 32 := Scalar.muli v1064 c32_i32_541
  v1065

def k0_off83 (v1063 : BitVec 32) : Fin 1 → Nat :=
  let c999936_i32_540 : BitVec 32 := 999936#32
  let v1064 : BitVec 32 := Scalar.subi v1063 c999936_i32_540
  let c32_i32_541 : BitVec 32 := 32#32
  let v1065 : BitVec 32 := Scalar.muli v1064 c32_i32_541
  let v1066 : BitVec 32 := v1065
  ![v1066.toNat]
def k0_mult43 (v1072 : BitVec 32) : BitVec 32 :=
  let c999936_i32_543 : BitVec 32 := 999936#32
  let v1073 : BitVec 32 := Scalar.subi v1072 c999936_i32_543
  let c32_i32_544 : BitVec 32 := 32#32
  let v1074 : BitVec 32 := Scalar.muli v1073 c32_i32_544
  v1074

def k0_off84 (v1072 : BitVec 32) : Fin 1 → Nat :=
  let c999936_i32_543 : BitVec 32 := 999936#32
  let v1073 : BitVec 32 := Scalar.subi v1072 c999936_i32_543
  let c32_i32_544 : BitVec 32 := 32#32
  let v1074 : BitVec 32 := Scalar.muli v1073 c32_i32_544
  let v1075 : BitVec 32 := v1074
  ![v1075.toNat]
def k0_mult44 (v1081 : BitVec 32) : BitVec 32 :=
  let c999936_i32_546 : BitVec 32 := 999936#32
  let v1082 : BitVec 32 := Scalar.subi v1081 c999936_i32_546
  let c32_i32_547 : BitVec 32 := 32#32
  let v1083 : BitVec 32 := Scalar.muli v1082 c32_i32_547
  v1083

def k0_off85 (v1081 : BitVec 32) : Fin 1 → Nat :=
  let c999936_i32_546 : BitVec 32 := 999936#32
  let v1082 : BitVec 32 := Scalar.subi v1081 c999936_i32_546
  let c32_i32_547 : BitVec 32 := 32#32
  let v1083 : BitVec 32 := Scalar.muli v1082 c32_i32_547
  let v1084 : BitVec 32 := v1083
  ![v1084.toNat]
def k0_mult45 (v1090 : BitVec 32) : BitVec 32 :=
  let c999936_i32_549 : BitVec 32 := 999936#32
  let v1091 : BitVec 32 := Scalar.subi v1090 c999936_i32_549
  let c32_i32_550 : BitVec 32 := 32#32
  let v1092 : BitVec 32 := Scalar.muli v1091 c32_i32_550
  v1092

def k0_off86 (v1090 : BitVec 32) : Fin 1 → Nat :=
  let c999936_i32_549 : BitVec 32 := 999936#32
  let v1091 : BitVec 32 := Scalar.subi v1090 c999936_i32_549
  let c32_i32_550 : BitVec 32 := 32#32
  let v1092 : BitVec 32 := Scalar.muli v1091 c32_i32_550
  let v1093 : BitVec 32 := v1092
  ![v1093.toNat]
def k0_mult46 (v1099 : BitVec 32) : BitVec 32 :=
  let c999936_i32_552 : BitVec 32 := 999936#32
  let v1100 : BitVec 32 := Scalar.subi v1099 c999936_i32_552
  let c32_i32_553 : BitVec 32 := 32#32
  let v1101 : BitVec 32 := Scalar.muli v1100 c32_i32_553
  v1101

def k0_off87 (v1099 : BitVec 32) : Fin 1 → Nat :=
  let c999936_i32_552 : BitVec 32 := 999936#32
  let v1100 : BitVec 32 := Scalar.subi v1099 c999936_i32_552
  let c32_i32_553 : BitVec 32 := 32#32
  let v1101 : BitVec 32 := Scalar.muli v1100 c32_i32_553
  let v1102 : BitVec 32 := v1101
  ![v1102.toNat]
def k0_mult47 (v1108 : BitVec 32) : BitVec 32 :=
  let c999936_i32_555 : BitVec 32 := 999936#32
  let v1109 : BitVec 32 := Scalar.subi v1108 c999936_i32_555
  let c32_i32_556 : BitVec 32 := 32#32
  let v1110 : BitVec 32 := Scalar.muli v1109 c32_i32_556
  v1110

def k0_off88 (v1108 : BitVec 32) : Fin 1 → Nat :=
  let c999936_i32_555 : BitVec 32 := 999936#32
  let v1109 : BitVec 32 := Scalar.subi v1108 c999936_i32_555
  let c32_i32_556 : BitVec 32 := 32#32
  let v1110 : BitVec 32 := Scalar.muli v1109 c32_i32_556
  let v1111 : BitVec 32 := v1110
  ![v1111.toNat]
def k0_mult48 (v1117 : BitVec 32) : BitVec 32 :=
  let c999936_i32_558 : BitVec 32 := 999936#32
  let v1118 : BitVec 32 := Scalar.subi v1117 c999936_i32_558
  let c32_i32_559 : BitVec 32 := 32#32
  let v1119 : BitVec 32 := Scalar.muli v1118 c32_i32_559
  v1119

def k0_off89 (v1117 : BitVec 32) : Fin 1 → Nat :=
  let c999936_i32_558 : BitVec 32 := 999936#32
  let v1118 : BitVec 32 := Scalar.subi v1117 c999936_i32_558
  let c32_i32_559 : BitVec 32 := 32#32
  let v1119 : BitVec 32 := Scalar.muli v1118 c32_i32_559
  let v1120 : BitVec 32 := v1119
  ![v1120.toNat]
def k0_mult49 (v1126 : BitVec 32) : BitVec 32 :=
  let c999936_i32_561 : BitVec 32 := 999936#32
  let v1127 : BitVec 32 := Scalar.subi v1126 c999936_i32_561
  let c32_i32_562 : BitVec 32 := 32#32
  let v1128 : BitVec 32 := Scalar.muli v1127 c32_i32_562
  v1128

def k0_off90 (v1126 : BitVec 32) : Fin 1 → Nat :=
  let c999936_i32_561 : BitVec 32 := 999936#32
  let v1127 : BitVec 32 := Scalar.subi v1126 c999936_i32_561
  let c32_i32_562 : BitVec 32 := 32#32
  let v1128 : BitVec 32 := Scalar.muli v1127 c32_i32_562
  let v1129 : BitVec 32 := v1128
  ![v1129.toNat]

def k0_chk72 (v1126 : BitVec 32) : Prop :=
  (8 ∣ (k0_mult49 v1126).toNat) ∧
  (∀ a, (k0_off90 v1126) a + S32.size a ≤ S2048.size a)
theorem k0_mult49_dvd : ∀ (v1126 : BitVec 32) (k0_hw72 : k0_chk72 v1126), 8 ∣ (k0_mult49 v1126).toNat := fun v1126 k0_hw72 => k0_hw72.1
theorem k0_off90_inb : ∀ (v1126 : BitVec 32) (k0_hw72 : k0_chk72 v1126), ∀ a, (k0_off90 v1126) a + S32.size a ≤ S2048.size a := fun v1126 k0_hw72 => k0_hw72.2

def k0_off91 (v991 : BitVec 32) : Fin 1 → Nat :=
  let c999936_i32_516 : BitVec 32 := 999936#32
  let v992 : BitVec 32 := Scalar.subi v991 c999936_i32_516
  let c32_i32_517 : BitVec 32 := 32#32
  let v993 : BitVec 32 := Scalar.muli v992 c32_i32_517
  let v994 : BitVec 32 := v993
  ![v994.toNat]

def k0_chk57 (v991 : BitVec 32) : Prop :=
  (8 ∣ (k0_mult34 v991).toNat) ∧
  (∀ a, (k0_off75 v991) a + S32.size a ≤ S2048.size a) ∧
  (∀ a, (k0_off91 v991) a + S32.size a ≤ S2048.size a)
theorem k0_mult34_dvd : ∀ (v991 : BitVec 32) (k0_hw57 : k0_chk57 v991), 8 ∣ (k0_mult34 v991).toNat := fun v991 k0_hw57 => k0_hw57.1
theorem k0_off75_inb : ∀ (v991 : BitVec 32) (k0_hw57 : k0_chk57 v991), ∀ a, (k0_off75 v991) a + S32.size a ≤ S2048.size a := fun v991 k0_hw57 => k0_hw57.2.1
theorem k0_off91_inb : ∀ (v991 : BitVec 32) (k0_hw57 : k0_chk57 v991), ∀ a, (k0_off91 v991) a + S32.size a ≤ S2048.size a := fun v991 k0_hw57 => k0_hw57.2.2

def k0_off92 (v1000 : BitVec 32) : Fin 1 → Nat :=
  let c999936_i32_519 : BitVec 32 := 999936#32
  let v1001 : BitVec 32 := Scalar.subi v1000 c999936_i32_519
  let c32_i32_520 : BitVec 32 := 32#32
  let v1002 : BitVec 32 := Scalar.muli v1001 c32_i32_520
  let v1003 : BitVec 32 := v1002
  ![v1003.toNat]

def k0_chk58 (v1000 : BitVec 32) : Prop :=
  (8 ∣ (k0_mult35 v1000).toNat) ∧
  (∀ a, (k0_off76 v1000) a + S32.size a ≤ S2048.size a) ∧
  (∀ a, (k0_off92 v1000) a + S32.size a ≤ S2048.size a)
theorem k0_mult35_dvd : ∀ (v1000 : BitVec 32) (k0_hw58 : k0_chk58 v1000), 8 ∣ (k0_mult35 v1000).toNat := fun v1000 k0_hw58 => k0_hw58.1
theorem k0_off76_inb : ∀ (v1000 : BitVec 32) (k0_hw58 : k0_chk58 v1000), ∀ a, (k0_off76 v1000) a + S32.size a ≤ S2048.size a := fun v1000 k0_hw58 => k0_hw58.2.1
theorem k0_off92_inb : ∀ (v1000 : BitVec 32) (k0_hw58 : k0_chk58 v1000), ∀ a, (k0_off92 v1000) a + S32.size a ≤ S2048.size a := fun v1000 k0_hw58 => k0_hw58.2.2

def k0_off93 (v1009 : BitVec 32) : Fin 1 → Nat :=
  let c999936_i32_522 : BitVec 32 := 999936#32
  let v1010 : BitVec 32 := Scalar.subi v1009 c999936_i32_522
  let c32_i32_523 : BitVec 32 := 32#32
  let v1011 : BitVec 32 := Scalar.muli v1010 c32_i32_523
  let v1012 : BitVec 32 := v1011
  ![v1012.toNat]

def k0_chk59 (v1009 : BitVec 32) : Prop :=
  (8 ∣ (k0_mult36 v1009).toNat) ∧
  (∀ a, (k0_off77 v1009) a + S32.size a ≤ S2048.size a) ∧
  (∀ a, (k0_off93 v1009) a + S32.size a ≤ S2048.size a)
theorem k0_mult36_dvd : ∀ (v1009 : BitVec 32) (k0_hw59 : k0_chk59 v1009), 8 ∣ (k0_mult36 v1009).toNat := fun v1009 k0_hw59 => k0_hw59.1
theorem k0_off77_inb : ∀ (v1009 : BitVec 32) (k0_hw59 : k0_chk59 v1009), ∀ a, (k0_off77 v1009) a + S32.size a ≤ S2048.size a := fun v1009 k0_hw59 => k0_hw59.2.1
theorem k0_off93_inb : ∀ (v1009 : BitVec 32) (k0_hw59 : k0_chk59 v1009), ∀ a, (k0_off93 v1009) a + S32.size a ≤ S2048.size a := fun v1009 k0_hw59 => k0_hw59.2.2

def k0_off94 (v1018 : BitVec 32) : Fin 1 → Nat :=
  let c999936_i32_525 : BitVec 32 := 999936#32
  let v1019 : BitVec 32 := Scalar.subi v1018 c999936_i32_525
  let c32_i32_526 : BitVec 32 := 32#32
  let v1020 : BitVec 32 := Scalar.muli v1019 c32_i32_526
  let v1021 : BitVec 32 := v1020
  ![v1021.toNat]

def k0_chk60 (v1018 : BitVec 32) : Prop :=
  (8 ∣ (k0_mult37 v1018).toNat) ∧
  (∀ a, (k0_off78 v1018) a + S32.size a ≤ S2048.size a) ∧
  (∀ a, (k0_off94 v1018) a + S32.size a ≤ S2048.size a)
theorem k0_mult37_dvd : ∀ (v1018 : BitVec 32) (k0_hw60 : k0_chk60 v1018), 8 ∣ (k0_mult37 v1018).toNat := fun v1018 k0_hw60 => k0_hw60.1
theorem k0_off78_inb : ∀ (v1018 : BitVec 32) (k0_hw60 : k0_chk60 v1018), ∀ a, (k0_off78 v1018) a + S32.size a ≤ S2048.size a := fun v1018 k0_hw60 => k0_hw60.2.1
theorem k0_off94_inb : ∀ (v1018 : BitVec 32) (k0_hw60 : k0_chk60 v1018), ∀ a, (k0_off94 v1018) a + S32.size a ≤ S2048.size a := fun v1018 k0_hw60 => k0_hw60.2.2

def k0_off95 (v1027 : BitVec 32) : Fin 1 → Nat :=
  let c999936_i32_528 : BitVec 32 := 999936#32
  let v1028 : BitVec 32 := Scalar.subi v1027 c999936_i32_528
  let c32_i32_529 : BitVec 32 := 32#32
  let v1029 : BitVec 32 := Scalar.muli v1028 c32_i32_529
  let v1030 : BitVec 32 := v1029
  ![v1030.toNat]

def k0_chk61 (v1027 : BitVec 32) : Prop :=
  (8 ∣ (k0_mult38 v1027).toNat) ∧
  (∀ a, (k0_off79 v1027) a + S32.size a ≤ S2048.size a) ∧
  (∀ a, (k0_off95 v1027) a + S32.size a ≤ S2048.size a)
theorem k0_mult38_dvd : ∀ (v1027 : BitVec 32) (k0_hw61 : k0_chk61 v1027), 8 ∣ (k0_mult38 v1027).toNat := fun v1027 k0_hw61 => k0_hw61.1
theorem k0_off79_inb : ∀ (v1027 : BitVec 32) (k0_hw61 : k0_chk61 v1027), ∀ a, (k0_off79 v1027) a + S32.size a ≤ S2048.size a := fun v1027 k0_hw61 => k0_hw61.2.1
theorem k0_off95_inb : ∀ (v1027 : BitVec 32) (k0_hw61 : k0_chk61 v1027), ∀ a, (k0_off95 v1027) a + S32.size a ≤ S2048.size a := fun v1027 k0_hw61 => k0_hw61.2.2

def k0_off96 (v1036 : BitVec 32) : Fin 1 → Nat :=
  let c999936_i32_531 : BitVec 32 := 999936#32
  let v1037 : BitVec 32 := Scalar.subi v1036 c999936_i32_531
  let c32_i32_532 : BitVec 32 := 32#32
  let v1038 : BitVec 32 := Scalar.muli v1037 c32_i32_532
  let v1039 : BitVec 32 := v1038
  ![v1039.toNat]

def k0_chk62 (v1036 : BitVec 32) : Prop :=
  (8 ∣ (k0_mult39 v1036).toNat) ∧
  (∀ a, (k0_off80 v1036) a + S32.size a ≤ S2048.size a) ∧
  (∀ a, (k0_off96 v1036) a + S32.size a ≤ S2048.size a)
theorem k0_mult39_dvd : ∀ (v1036 : BitVec 32) (k0_hw62 : k0_chk62 v1036), 8 ∣ (k0_mult39 v1036).toNat := fun v1036 k0_hw62 => k0_hw62.1
theorem k0_off80_inb : ∀ (v1036 : BitVec 32) (k0_hw62 : k0_chk62 v1036), ∀ a, (k0_off80 v1036) a + S32.size a ≤ S2048.size a := fun v1036 k0_hw62 => k0_hw62.2.1
theorem k0_off96_inb : ∀ (v1036 : BitVec 32) (k0_hw62 : k0_chk62 v1036), ∀ a, (k0_off96 v1036) a + S32.size a ≤ S2048.size a := fun v1036 k0_hw62 => k0_hw62.2.2

def k0_off97 (v1045 : BitVec 32) : Fin 1 → Nat :=
  let c999936_i32_534 : BitVec 32 := 999936#32
  let v1046 : BitVec 32 := Scalar.subi v1045 c999936_i32_534
  let c32_i32_535 : BitVec 32 := 32#32
  let v1047 : BitVec 32 := Scalar.muli v1046 c32_i32_535
  let v1048 : BitVec 32 := v1047
  ![v1048.toNat]

def k0_chk63 (v1045 : BitVec 32) : Prop :=
  (8 ∣ (k0_mult40 v1045).toNat) ∧
  (∀ a, (k0_off81 v1045) a + S32.size a ≤ S2048.size a) ∧
  (∀ a, (k0_off97 v1045) a + S32.size a ≤ S2048.size a)
theorem k0_mult40_dvd : ∀ (v1045 : BitVec 32) (k0_hw63 : k0_chk63 v1045), 8 ∣ (k0_mult40 v1045).toNat := fun v1045 k0_hw63 => k0_hw63.1
theorem k0_off81_inb : ∀ (v1045 : BitVec 32) (k0_hw63 : k0_chk63 v1045), ∀ a, (k0_off81 v1045) a + S32.size a ≤ S2048.size a := fun v1045 k0_hw63 => k0_hw63.2.1
theorem k0_off97_inb : ∀ (v1045 : BitVec 32) (k0_hw63 : k0_chk63 v1045), ∀ a, (k0_off97 v1045) a + S32.size a ≤ S2048.size a := fun v1045 k0_hw63 => k0_hw63.2.2

def k0_off98 (v1054 : BitVec 32) : Fin 1 → Nat :=
  let c999936_i32_537 : BitVec 32 := 999936#32
  let v1055 : BitVec 32 := Scalar.subi v1054 c999936_i32_537
  let c32_i32_538 : BitVec 32 := 32#32
  let v1056 : BitVec 32 := Scalar.muli v1055 c32_i32_538
  let v1057 : BitVec 32 := v1056
  ![v1057.toNat]

def k0_chk64 (v1054 : BitVec 32) : Prop :=
  (8 ∣ (k0_mult41 v1054).toNat) ∧
  (∀ a, (k0_off82 v1054) a + S32.size a ≤ S2048.size a) ∧
  (∀ a, (k0_off98 v1054) a + S32.size a ≤ S2048.size a)
theorem k0_mult41_dvd : ∀ (v1054 : BitVec 32) (k0_hw64 : k0_chk64 v1054), 8 ∣ (k0_mult41 v1054).toNat := fun v1054 k0_hw64 => k0_hw64.1
theorem k0_off82_inb : ∀ (v1054 : BitVec 32) (k0_hw64 : k0_chk64 v1054), ∀ a, (k0_off82 v1054) a + S32.size a ≤ S2048.size a := fun v1054 k0_hw64 => k0_hw64.2.1
theorem k0_off98_inb : ∀ (v1054 : BitVec 32) (k0_hw64 : k0_chk64 v1054), ∀ a, (k0_off98 v1054) a + S32.size a ≤ S2048.size a := fun v1054 k0_hw64 => k0_hw64.2.2

def k0_off99 (v1063 : BitVec 32) : Fin 1 → Nat :=
  let c999936_i32_540 : BitVec 32 := 999936#32
  let v1064 : BitVec 32 := Scalar.subi v1063 c999936_i32_540
  let c32_i32_541 : BitVec 32 := 32#32
  let v1065 : BitVec 32 := Scalar.muli v1064 c32_i32_541
  let v1066 : BitVec 32 := v1065
  ![v1066.toNat]

def k0_chk65 (v1063 : BitVec 32) : Prop :=
  (8 ∣ (k0_mult42 v1063).toNat) ∧
  (∀ a, (k0_off83 v1063) a + S32.size a ≤ S2048.size a) ∧
  (∀ a, (k0_off99 v1063) a + S32.size a ≤ S2048.size a)
theorem k0_mult42_dvd : ∀ (v1063 : BitVec 32) (k0_hw65 : k0_chk65 v1063), 8 ∣ (k0_mult42 v1063).toNat := fun v1063 k0_hw65 => k0_hw65.1
theorem k0_off83_inb : ∀ (v1063 : BitVec 32) (k0_hw65 : k0_chk65 v1063), ∀ a, (k0_off83 v1063) a + S32.size a ≤ S2048.size a := fun v1063 k0_hw65 => k0_hw65.2.1
theorem k0_off99_inb : ∀ (v1063 : BitVec 32) (k0_hw65 : k0_chk65 v1063), ∀ a, (k0_off99 v1063) a + S32.size a ≤ S2048.size a := fun v1063 k0_hw65 => k0_hw65.2.2

def k0_off100 (v1072 : BitVec 32) : Fin 1 → Nat :=
  let c999936_i32_543 : BitVec 32 := 999936#32
  let v1073 : BitVec 32 := Scalar.subi v1072 c999936_i32_543
  let c32_i32_544 : BitVec 32 := 32#32
  let v1074 : BitVec 32 := Scalar.muli v1073 c32_i32_544
  let v1075 : BitVec 32 := v1074
  ![v1075.toNat]

def k0_chk66 (v1072 : BitVec 32) : Prop :=
  (8 ∣ (k0_mult43 v1072).toNat) ∧
  (∀ a, (k0_off84 v1072) a + S32.size a ≤ S2048.size a) ∧
  (∀ a, (k0_off100 v1072) a + S32.size a ≤ S2048.size a)
theorem k0_mult43_dvd : ∀ (v1072 : BitVec 32) (k0_hw66 : k0_chk66 v1072), 8 ∣ (k0_mult43 v1072).toNat := fun v1072 k0_hw66 => k0_hw66.1
theorem k0_off84_inb : ∀ (v1072 : BitVec 32) (k0_hw66 : k0_chk66 v1072), ∀ a, (k0_off84 v1072) a + S32.size a ≤ S2048.size a := fun v1072 k0_hw66 => k0_hw66.2.1
theorem k0_off100_inb : ∀ (v1072 : BitVec 32) (k0_hw66 : k0_chk66 v1072), ∀ a, (k0_off100 v1072) a + S32.size a ≤ S2048.size a := fun v1072 k0_hw66 => k0_hw66.2.2

def k0_off101 (v1081 : BitVec 32) : Fin 1 → Nat :=
  let c999936_i32_546 : BitVec 32 := 999936#32
  let v1082 : BitVec 32 := Scalar.subi v1081 c999936_i32_546
  let c32_i32_547 : BitVec 32 := 32#32
  let v1083 : BitVec 32 := Scalar.muli v1082 c32_i32_547
  let v1084 : BitVec 32 := v1083
  ![v1084.toNat]

def k0_chk67 (v1081 : BitVec 32) : Prop :=
  (8 ∣ (k0_mult44 v1081).toNat) ∧
  (∀ a, (k0_off85 v1081) a + S32.size a ≤ S2048.size a) ∧
  (∀ a, (k0_off101 v1081) a + S32.size a ≤ S2048.size a)
theorem k0_mult44_dvd : ∀ (v1081 : BitVec 32) (k0_hw67 : k0_chk67 v1081), 8 ∣ (k0_mult44 v1081).toNat := fun v1081 k0_hw67 => k0_hw67.1
theorem k0_off85_inb : ∀ (v1081 : BitVec 32) (k0_hw67 : k0_chk67 v1081), ∀ a, (k0_off85 v1081) a + S32.size a ≤ S2048.size a := fun v1081 k0_hw67 => k0_hw67.2.1
theorem k0_off101_inb : ∀ (v1081 : BitVec 32) (k0_hw67 : k0_chk67 v1081), ∀ a, (k0_off101 v1081) a + S32.size a ≤ S2048.size a := fun v1081 k0_hw67 => k0_hw67.2.2

def k0_off102 (v1090 : BitVec 32) : Fin 1 → Nat :=
  let c999936_i32_549 : BitVec 32 := 999936#32
  let v1091 : BitVec 32 := Scalar.subi v1090 c999936_i32_549
  let c32_i32_550 : BitVec 32 := 32#32
  let v1092 : BitVec 32 := Scalar.muli v1091 c32_i32_550
  let v1093 : BitVec 32 := v1092
  ![v1093.toNat]

def k0_chk68 (v1090 : BitVec 32) : Prop :=
  (8 ∣ (k0_mult45 v1090).toNat) ∧
  (∀ a, (k0_off86 v1090) a + S32.size a ≤ S2048.size a) ∧
  (∀ a, (k0_off102 v1090) a + S32.size a ≤ S2048.size a)
theorem k0_mult45_dvd : ∀ (v1090 : BitVec 32) (k0_hw68 : k0_chk68 v1090), 8 ∣ (k0_mult45 v1090).toNat := fun v1090 k0_hw68 => k0_hw68.1
theorem k0_off86_inb : ∀ (v1090 : BitVec 32) (k0_hw68 : k0_chk68 v1090), ∀ a, (k0_off86 v1090) a + S32.size a ≤ S2048.size a := fun v1090 k0_hw68 => k0_hw68.2.1
theorem k0_off102_inb : ∀ (v1090 : BitVec 32) (k0_hw68 : k0_chk68 v1090), ∀ a, (k0_off102 v1090) a + S32.size a ≤ S2048.size a := fun v1090 k0_hw68 => k0_hw68.2.2

def k0_off103 (v1099 : BitVec 32) : Fin 1 → Nat :=
  let c999936_i32_552 : BitVec 32 := 999936#32
  let v1100 : BitVec 32 := Scalar.subi v1099 c999936_i32_552
  let c32_i32_553 : BitVec 32 := 32#32
  let v1101 : BitVec 32 := Scalar.muli v1100 c32_i32_553
  let v1102 : BitVec 32 := v1101
  ![v1102.toNat]

def k0_chk69 (v1099 : BitVec 32) : Prop :=
  (8 ∣ (k0_mult46 v1099).toNat) ∧
  (∀ a, (k0_off87 v1099) a + S32.size a ≤ S2048.size a) ∧
  (∀ a, (k0_off103 v1099) a + S32.size a ≤ S2048.size a)
theorem k0_mult46_dvd : ∀ (v1099 : BitVec 32) (k0_hw69 : k0_chk69 v1099), 8 ∣ (k0_mult46 v1099).toNat := fun v1099 k0_hw69 => k0_hw69.1
theorem k0_off87_inb : ∀ (v1099 : BitVec 32) (k0_hw69 : k0_chk69 v1099), ∀ a, (k0_off87 v1099) a + S32.size a ≤ S2048.size a := fun v1099 k0_hw69 => k0_hw69.2.1
theorem k0_off103_inb : ∀ (v1099 : BitVec 32) (k0_hw69 : k0_chk69 v1099), ∀ a, (k0_off103 v1099) a + S32.size a ≤ S2048.size a := fun v1099 k0_hw69 => k0_hw69.2.2

def k0_off104 (v1108 : BitVec 32) : Fin 1 → Nat :=
  let c999936_i32_555 : BitVec 32 := 999936#32
  let v1109 : BitVec 32 := Scalar.subi v1108 c999936_i32_555
  let c32_i32_556 : BitVec 32 := 32#32
  let v1110 : BitVec 32 := Scalar.muli v1109 c32_i32_556
  let v1111 : BitVec 32 := v1110
  ![v1111.toNat]

def k0_chk70 (v1108 : BitVec 32) : Prop :=
  (8 ∣ (k0_mult47 v1108).toNat) ∧
  (∀ a, (k0_off88 v1108) a + S32.size a ≤ S2048.size a) ∧
  (∀ a, (k0_off104 v1108) a + S32.size a ≤ S2048.size a)
theorem k0_mult47_dvd : ∀ (v1108 : BitVec 32) (k0_hw70 : k0_chk70 v1108), 8 ∣ (k0_mult47 v1108).toNat := fun v1108 k0_hw70 => k0_hw70.1
theorem k0_off88_inb : ∀ (v1108 : BitVec 32) (k0_hw70 : k0_chk70 v1108), ∀ a, (k0_off88 v1108) a + S32.size a ≤ S2048.size a := fun v1108 k0_hw70 => k0_hw70.2.1
theorem k0_off104_inb : ∀ (v1108 : BitVec 32) (k0_hw70 : k0_chk70 v1108), ∀ a, (k0_off104 v1108) a + S32.size a ≤ S2048.size a := fun v1108 k0_hw70 => k0_hw70.2.2

def k0_off105 (v1117 : BitVec 32) : Fin 1 → Nat :=
  let c999936_i32_558 : BitVec 32 := 999936#32
  let v1118 : BitVec 32 := Scalar.subi v1117 c999936_i32_558
  let c32_i32_559 : BitVec 32 := 32#32
  let v1119 : BitVec 32 := Scalar.muli v1118 c32_i32_559
  let v1120 : BitVec 32 := v1119
  ![v1120.toNat]

def k0_chk71 (v1117 : BitVec 32) : Prop :=
  (8 ∣ (k0_mult48 v1117).toNat) ∧
  (∀ a, (k0_off89 v1117) a + S32.size a ≤ S2048.size a) ∧
  (∀ a, (k0_off105 v1117) a + S32.size a ≤ S2048.size a)
theorem k0_mult48_dvd : ∀ (v1117 : BitVec 32) (k0_hw71 : k0_chk71 v1117), 8 ∣ (k0_mult48 v1117).toNat := fun v1117 k0_hw71 => k0_hw71.1
theorem k0_off89_inb : ∀ (v1117 : BitVec 32) (k0_hw71 : k0_chk71 v1117), ∀ a, (k0_off89 v1117) a + S32.size a ≤ S2048.size a := fun v1117 k0_hw71 => k0_hw71.2.1
theorem k0_off105_inb : ∀ (v1117 : BitVec 32) (k0_hw71 : k0_chk71 v1117), ∀ a, (k0_off105 v1117) a + S32.size a ≤ S2048.size a := fun v1117 k0_hw71 => k0_hw71.2.2

def k0_mult50 (v1199 : BitVec 32) : BitVec 32 :=
  let c0_i32_597 : BitVec 32 := 0#32
  let c32_i32_596 : BitVec 32 := 32#32
  let v1200 : BitVec 32 := Scalar.muli v1199 c32_i32_596
  let v1201 : BitVec 32 := Scalar.addi c0_i32_597 v1200
  v1201

def k0_off106 (v1199 : BitVec 32) : Fin 1 → Nat :=
  let c0_i32_597 : BitVec 32 := 0#32
  let c32_i32_596 : BitVec 32 := 32#32
  let v1200 : BitVec 32 := Scalar.muli v1199 c32_i32_596
  let v1201 : BitVec 32 := Scalar.addi c0_i32_597 v1200
  let v1202 : BitVec 32 := v1201
  ![v1202.toNat]
def k0_mult51 (v1208 : BitVec 32) : BitVec 32 :=
  let c0_i32_601 : BitVec 32 := 0#32
  let c32_i32_600 : BitVec 32 := 32#32
  let v1209 : BitVec 32 := Scalar.muli v1208 c32_i32_600
  let v1210 : BitVec 32 := Scalar.addi c0_i32_601 v1209
  v1210

def k0_off107 (v1208 : BitVec 32) : Fin 1 → Nat :=
  let c0_i32_601 : BitVec 32 := 0#32
  let c32_i32_600 : BitVec 32 := 32#32
  let v1209 : BitVec 32 := Scalar.muli v1208 c32_i32_600
  let v1210 : BitVec 32 := Scalar.addi c0_i32_601 v1209
  let v1211 : BitVec 32 := v1210
  ![v1211.toNat]
def k0_mult52 (v1217 : BitVec 32) : BitVec 32 :=
  let c0_i32_605 : BitVec 32 := 0#32
  let c32_i32_604 : BitVec 32 := 32#32
  let v1218 : BitVec 32 := Scalar.muli v1217 c32_i32_604
  let v1219 : BitVec 32 := Scalar.addi c0_i32_605 v1218
  v1219

def k0_off108 (v1217 : BitVec 32) : Fin 1 → Nat :=
  let c0_i32_605 : BitVec 32 := 0#32
  let c32_i32_604 : BitVec 32 := 32#32
  let v1218 : BitVec 32 := Scalar.muli v1217 c32_i32_604
  let v1219 : BitVec 32 := Scalar.addi c0_i32_605 v1218
  let v1220 : BitVec 32 := v1219
  ![v1220.toNat]
def k0_mult53 (v1226 : BitVec 32) : BitVec 32 :=
  let c0_i32_609 : BitVec 32 := 0#32
  let c32_i32_608 : BitVec 32 := 32#32
  let v1227 : BitVec 32 := Scalar.muli v1226 c32_i32_608
  let v1228 : BitVec 32 := Scalar.addi c0_i32_609 v1227
  v1228

def k0_off109 (v1226 : BitVec 32) : Fin 1 → Nat :=
  let c0_i32_609 : BitVec 32 := 0#32
  let c32_i32_608 : BitVec 32 := 32#32
  let v1227 : BitVec 32 := Scalar.muli v1226 c32_i32_608
  let v1228 : BitVec 32 := Scalar.addi c0_i32_609 v1227
  let v1229 : BitVec 32 := v1228
  ![v1229.toNat]
def k0_mult54 (v1235 : BitVec 32) : BitVec 32 :=
  let c0_i32_613 : BitVec 32 := 0#32
  let c32_i32_612 : BitVec 32 := 32#32
  let v1236 : BitVec 32 := Scalar.muli v1235 c32_i32_612
  let v1237 : BitVec 32 := Scalar.addi c0_i32_613 v1236
  v1237

def k0_off110 (v1235 : BitVec 32) : Fin 1 → Nat :=
  let c0_i32_613 : BitVec 32 := 0#32
  let c32_i32_612 : BitVec 32 := 32#32
  let v1236 : BitVec 32 := Scalar.muli v1235 c32_i32_612
  let v1237 : BitVec 32 := Scalar.addi c0_i32_613 v1236
  let v1238 : BitVec 32 := v1237
  ![v1238.toNat]
def k0_mult55 (v1244 : BitVec 32) : BitVec 32 :=
  let c0_i32_617 : BitVec 32 := 0#32
  let c32_i32_616 : BitVec 32 := 32#32
  let v1245 : BitVec 32 := Scalar.muli v1244 c32_i32_616
  let v1246 : BitVec 32 := Scalar.addi c0_i32_617 v1245
  v1246

def k0_off111 (v1244 : BitVec 32) : Fin 1 → Nat :=
  let c0_i32_617 : BitVec 32 := 0#32
  let c32_i32_616 : BitVec 32 := 32#32
  let v1245 : BitVec 32 := Scalar.muli v1244 c32_i32_616
  let v1246 : BitVec 32 := Scalar.addi c0_i32_617 v1245
  let v1247 : BitVec 32 := v1246
  ![v1247.toNat]
def k0_mult56 (v1253 : BitVec 32) : BitVec 32 :=
  let c0_i32_621 : BitVec 32 := 0#32
  let c32_i32_620 : BitVec 32 := 32#32
  let v1254 : BitVec 32 := Scalar.muli v1253 c32_i32_620
  let v1255 : BitVec 32 := Scalar.addi c0_i32_621 v1254
  v1255

def k0_off112 (v1253 : BitVec 32) : Fin 1 → Nat :=
  let c0_i32_621 : BitVec 32 := 0#32
  let c32_i32_620 : BitVec 32 := 32#32
  let v1254 : BitVec 32 := Scalar.muli v1253 c32_i32_620
  let v1255 : BitVec 32 := Scalar.addi c0_i32_621 v1254
  let v1256 : BitVec 32 := v1255
  ![v1256.toNat]
def k0_mult57 (v1262 : BitVec 32) : BitVec 32 :=
  let c0_i32_625 : BitVec 32 := 0#32
  let c32_i32_624 : BitVec 32 := 32#32
  let v1263 : BitVec 32 := Scalar.muli v1262 c32_i32_624
  let v1264 : BitVec 32 := Scalar.addi c0_i32_625 v1263
  v1264

def k0_off113 (v1262 : BitVec 32) : Fin 1 → Nat :=
  let c0_i32_625 : BitVec 32 := 0#32
  let c32_i32_624 : BitVec 32 := 32#32
  let v1263 : BitVec 32 := Scalar.muli v1262 c32_i32_624
  let v1264 : BitVec 32 := Scalar.addi c0_i32_625 v1263
  let v1265 : BitVec 32 := v1264
  ![v1265.toNat]
def k0_mult58 (v1271 : BitVec 32) : BitVec 32 :=
  let c0_i32_629 : BitVec 32 := 0#32
  let c32_i32_628 : BitVec 32 := 32#32
  let v1272 : BitVec 32 := Scalar.muli v1271 c32_i32_628
  let v1273 : BitVec 32 := Scalar.addi c0_i32_629 v1272
  v1273

def k0_off114 (v1271 : BitVec 32) : Fin 1 → Nat :=
  let c0_i32_629 : BitVec 32 := 0#32
  let c32_i32_628 : BitVec 32 := 32#32
  let v1272 : BitVec 32 := Scalar.muli v1271 c32_i32_628
  let v1273 : BitVec 32 := Scalar.addi c0_i32_629 v1272
  let v1274 : BitVec 32 := v1273
  ![v1274.toNat]
def k0_mult59 (v1280 : BitVec 32) : BitVec 32 :=
  let c0_i32_633 : BitVec 32 := 0#32
  let c32_i32_632 : BitVec 32 := 32#32
  let v1281 : BitVec 32 := Scalar.muli v1280 c32_i32_632
  let v1282 : BitVec 32 := Scalar.addi c0_i32_633 v1281
  v1282

def k0_off115 (v1280 : BitVec 32) : Fin 1 → Nat :=
  let c0_i32_633 : BitVec 32 := 0#32
  let c32_i32_632 : BitVec 32 := 32#32
  let v1281 : BitVec 32 := Scalar.muli v1280 c32_i32_632
  let v1282 : BitVec 32 := Scalar.addi c0_i32_633 v1281
  let v1283 : BitVec 32 := v1282
  ![v1283.toNat]
def k0_mult60 (v1289 : BitVec 32) : BitVec 32 :=
  let c0_i32_637 : BitVec 32 := 0#32
  let c32_i32_636 : BitVec 32 := 32#32
  let v1290 : BitVec 32 := Scalar.muli v1289 c32_i32_636
  let v1291 : BitVec 32 := Scalar.addi c0_i32_637 v1290
  v1291

def k0_off116 (v1289 : BitVec 32) : Fin 1 → Nat :=
  let c0_i32_637 : BitVec 32 := 0#32
  let c32_i32_636 : BitVec 32 := 32#32
  let v1290 : BitVec 32 := Scalar.muli v1289 c32_i32_636
  let v1291 : BitVec 32 := Scalar.addi c0_i32_637 v1290
  let v1292 : BitVec 32 := v1291
  ![v1292.toNat]
def k0_mult61 (v1298 : BitVec 32) : BitVec 32 :=
  let c0_i32_641 : BitVec 32 := 0#32
  let c32_i32_640 : BitVec 32 := 32#32
  let v1299 : BitVec 32 := Scalar.muli v1298 c32_i32_640
  let v1300 : BitVec 32 := Scalar.addi c0_i32_641 v1299
  v1300

def k0_off117 (v1298 : BitVec 32) : Fin 1 → Nat :=
  let c0_i32_641 : BitVec 32 := 0#32
  let c32_i32_640 : BitVec 32 := 32#32
  let v1299 : BitVec 32 := Scalar.muli v1298 c32_i32_640
  let v1300 : BitVec 32 := Scalar.addi c0_i32_641 v1299
  let v1301 : BitVec 32 := v1300
  ![v1301.toNat]
def k0_mult62 (v1307 : BitVec 32) : BitVec 32 :=
  let c0_i32_645 : BitVec 32 := 0#32
  let c32_i32_644 : BitVec 32 := 32#32
  let v1308 : BitVec 32 := Scalar.muli v1307 c32_i32_644
  let v1309 : BitVec 32 := Scalar.addi c0_i32_645 v1308
  v1309

def k0_off118 (v1307 : BitVec 32) : Fin 1 → Nat :=
  let c0_i32_645 : BitVec 32 := 0#32
  let c32_i32_644 : BitVec 32 := 32#32
  let v1308 : BitVec 32 := Scalar.muli v1307 c32_i32_644
  let v1309 : BitVec 32 := Scalar.addi c0_i32_645 v1308
  let v1310 : BitVec 32 := v1309
  ![v1310.toNat]
def k0_mult63 (v1316 : BitVec 32) : BitVec 32 :=
  let c0_i32_649 : BitVec 32 := 0#32
  let c32_i32_648 : BitVec 32 := 32#32
  let v1317 : BitVec 32 := Scalar.muli v1316 c32_i32_648
  let v1318 : BitVec 32 := Scalar.addi c0_i32_649 v1317
  v1318

def k0_off119 (v1316 : BitVec 32) : Fin 1 → Nat :=
  let c0_i32_649 : BitVec 32 := 0#32
  let c32_i32_648 : BitVec 32 := 32#32
  let v1317 : BitVec 32 := Scalar.muli v1316 c32_i32_648
  let v1318 : BitVec 32 := Scalar.addi c0_i32_649 v1317
  let v1319 : BitVec 32 := v1318
  ![v1319.toNat]
def k0_mult64 (v1325 : BitVec 32) : BitVec 32 :=
  let c0_i32_653 : BitVec 32 := 0#32
  let c32_i32_652 : BitVec 32 := 32#32
  let v1326 : BitVec 32 := Scalar.muli v1325 c32_i32_652
  let v1327 : BitVec 32 := Scalar.addi c0_i32_653 v1326
  v1327

def k0_off120 (v1325 : BitVec 32) : Fin 1 → Nat :=
  let c0_i32_653 : BitVec 32 := 0#32
  let c32_i32_652 : BitVec 32 := 32#32
  let v1326 : BitVec 32 := Scalar.muli v1325 c32_i32_652
  let v1327 : BitVec 32 := Scalar.addi c0_i32_653 v1326
  let v1328 : BitVec 32 := v1327
  ![v1328.toNat]
def k0_mult65 (v1334 : BitVec 32) : BitVec 32 :=
  let c0_i32_657 : BitVec 32 := 0#32
  let c32_i32_656 : BitVec 32 := 32#32
  let v1335 : BitVec 32 := Scalar.muli v1334 c32_i32_656
  let v1336 : BitVec 32 := Scalar.addi c0_i32_657 v1335
  v1336

def k0_off121 (v1334 : BitVec 32) : Fin 1 → Nat :=
  let c0_i32_657 : BitVec 32 := 0#32
  let c32_i32_656 : BitVec 32 := 32#32
  let v1335 : BitVec 32 := Scalar.muli v1334 c32_i32_656
  let v1336 : BitVec 32 := Scalar.addi c0_i32_657 v1335
  let v1337 : BitVec 32 := v1336
  ![v1337.toNat]

def k0_chk88 (v1334 : BitVec 32) : Prop :=
  (8 ∣ (k0_mult65 v1334).toNat) ∧
  (∀ a, (k0_off121 v1334) a + S32.size a ≤ S3407872.size a)
theorem k0_mult65_dvd : ∀ (v1334 : BitVec 32) (k0_hw88 : k0_chk88 v1334), 8 ∣ (k0_mult65 v1334).toNat := fun v1334 k0_hw88 => k0_hw88.1
theorem k0_off121_inb : ∀ (v1334 : BitVec 32) (k0_hw88 : k0_chk88 v1334), ∀ a, (k0_off121 v1334) a + S32.size a ≤ S3407872.size a := fun v1334 k0_hw88 => k0_hw88.2

def k0_off122 (v1199 : BitVec 32) : Fin 1 → Nat :=
  let c0_i32_597 : BitVec 32 := 0#32
  let c32_i32_596 : BitVec 32 := 32#32
  let v1200 : BitVec 32 := Scalar.muli v1199 c32_i32_596
  let v1201 : BitVec 32 := Scalar.addi c0_i32_597 v1200
  let v1202 : BitVec 32 := v1201
  ![v1202.toNat]

def k0_chk73 (v1199 : BitVec 32) : Prop :=
  (8 ∣ (k0_mult50 v1199).toNat) ∧
  (∀ a, (k0_off106 v1199) a + S32.size a ≤ S3407872.size a) ∧
  (∀ a, (k0_off122 v1199) a + S32.size a ≤ S3407872.size a)
theorem k0_mult50_dvd : ∀ (v1199 : BitVec 32) (k0_hw73 : k0_chk73 v1199), 8 ∣ (k0_mult50 v1199).toNat := fun v1199 k0_hw73 => k0_hw73.1
theorem k0_off106_inb : ∀ (v1199 : BitVec 32) (k0_hw73 : k0_chk73 v1199), ∀ a, (k0_off106 v1199) a + S32.size a ≤ S3407872.size a := fun v1199 k0_hw73 => k0_hw73.2.1
theorem k0_off122_inb : ∀ (v1199 : BitVec 32) (k0_hw73 : k0_chk73 v1199), ∀ a, (k0_off122 v1199) a + S32.size a ≤ S3407872.size a := fun v1199 k0_hw73 => k0_hw73.2.2

def k0_off123 (v1208 : BitVec 32) : Fin 1 → Nat :=
  let c0_i32_601 : BitVec 32 := 0#32
  let c32_i32_600 : BitVec 32 := 32#32
  let v1209 : BitVec 32 := Scalar.muli v1208 c32_i32_600
  let v1210 : BitVec 32 := Scalar.addi c0_i32_601 v1209
  let v1211 : BitVec 32 := v1210
  ![v1211.toNat]

def k0_chk74 (v1208 : BitVec 32) : Prop :=
  (8 ∣ (k0_mult51 v1208).toNat) ∧
  (∀ a, (k0_off107 v1208) a + S32.size a ≤ S3407872.size a) ∧
  (∀ a, (k0_off123 v1208) a + S32.size a ≤ S3407872.size a)
theorem k0_mult51_dvd : ∀ (v1208 : BitVec 32) (k0_hw74 : k0_chk74 v1208), 8 ∣ (k0_mult51 v1208).toNat := fun v1208 k0_hw74 => k0_hw74.1
theorem k0_off107_inb : ∀ (v1208 : BitVec 32) (k0_hw74 : k0_chk74 v1208), ∀ a, (k0_off107 v1208) a + S32.size a ≤ S3407872.size a := fun v1208 k0_hw74 => k0_hw74.2.1
theorem k0_off123_inb : ∀ (v1208 : BitVec 32) (k0_hw74 : k0_chk74 v1208), ∀ a, (k0_off123 v1208) a + S32.size a ≤ S3407872.size a := fun v1208 k0_hw74 => k0_hw74.2.2

def k0_off124 (v1217 : BitVec 32) : Fin 1 → Nat :=
  let c0_i32_605 : BitVec 32 := 0#32
  let c32_i32_604 : BitVec 32 := 32#32
  let v1218 : BitVec 32 := Scalar.muli v1217 c32_i32_604
  let v1219 : BitVec 32 := Scalar.addi c0_i32_605 v1218
  let v1220 : BitVec 32 := v1219
  ![v1220.toNat]

def k0_chk75 (v1217 : BitVec 32) : Prop :=
  (8 ∣ (k0_mult52 v1217).toNat) ∧
  (∀ a, (k0_off108 v1217) a + S32.size a ≤ S3407872.size a) ∧
  (∀ a, (k0_off124 v1217) a + S32.size a ≤ S3407872.size a)
theorem k0_mult52_dvd : ∀ (v1217 : BitVec 32) (k0_hw75 : k0_chk75 v1217), 8 ∣ (k0_mult52 v1217).toNat := fun v1217 k0_hw75 => k0_hw75.1
theorem k0_off108_inb : ∀ (v1217 : BitVec 32) (k0_hw75 : k0_chk75 v1217), ∀ a, (k0_off108 v1217) a + S32.size a ≤ S3407872.size a := fun v1217 k0_hw75 => k0_hw75.2.1
theorem k0_off124_inb : ∀ (v1217 : BitVec 32) (k0_hw75 : k0_chk75 v1217), ∀ a, (k0_off124 v1217) a + S32.size a ≤ S3407872.size a := fun v1217 k0_hw75 => k0_hw75.2.2

def k0_off125 (v1226 : BitVec 32) : Fin 1 → Nat :=
  let c0_i32_609 : BitVec 32 := 0#32
  let c32_i32_608 : BitVec 32 := 32#32
  let v1227 : BitVec 32 := Scalar.muli v1226 c32_i32_608
  let v1228 : BitVec 32 := Scalar.addi c0_i32_609 v1227
  let v1229 : BitVec 32 := v1228
  ![v1229.toNat]

def k0_chk76 (v1226 : BitVec 32) : Prop :=
  (8 ∣ (k0_mult53 v1226).toNat) ∧
  (∀ a, (k0_off109 v1226) a + S32.size a ≤ S3407872.size a) ∧
  (∀ a, (k0_off125 v1226) a + S32.size a ≤ S3407872.size a)
theorem k0_mult53_dvd : ∀ (v1226 : BitVec 32) (k0_hw76 : k0_chk76 v1226), 8 ∣ (k0_mult53 v1226).toNat := fun v1226 k0_hw76 => k0_hw76.1
theorem k0_off109_inb : ∀ (v1226 : BitVec 32) (k0_hw76 : k0_chk76 v1226), ∀ a, (k0_off109 v1226) a + S32.size a ≤ S3407872.size a := fun v1226 k0_hw76 => k0_hw76.2.1
theorem k0_off125_inb : ∀ (v1226 : BitVec 32) (k0_hw76 : k0_chk76 v1226), ∀ a, (k0_off125 v1226) a + S32.size a ≤ S3407872.size a := fun v1226 k0_hw76 => k0_hw76.2.2

def k0_off126 (v1235 : BitVec 32) : Fin 1 → Nat :=
  let c0_i32_613 : BitVec 32 := 0#32
  let c32_i32_612 : BitVec 32 := 32#32
  let v1236 : BitVec 32 := Scalar.muli v1235 c32_i32_612
  let v1237 : BitVec 32 := Scalar.addi c0_i32_613 v1236
  let v1238 : BitVec 32 := v1237
  ![v1238.toNat]

def k0_chk77 (v1235 : BitVec 32) : Prop :=
  (8 ∣ (k0_mult54 v1235).toNat) ∧
  (∀ a, (k0_off110 v1235) a + S32.size a ≤ S3407872.size a) ∧
  (∀ a, (k0_off126 v1235) a + S32.size a ≤ S3407872.size a)
theorem k0_mult54_dvd : ∀ (v1235 : BitVec 32) (k0_hw77 : k0_chk77 v1235), 8 ∣ (k0_mult54 v1235).toNat := fun v1235 k0_hw77 => k0_hw77.1
theorem k0_off110_inb : ∀ (v1235 : BitVec 32) (k0_hw77 : k0_chk77 v1235), ∀ a, (k0_off110 v1235) a + S32.size a ≤ S3407872.size a := fun v1235 k0_hw77 => k0_hw77.2.1
theorem k0_off126_inb : ∀ (v1235 : BitVec 32) (k0_hw77 : k0_chk77 v1235), ∀ a, (k0_off126 v1235) a + S32.size a ≤ S3407872.size a := fun v1235 k0_hw77 => k0_hw77.2.2

def k0_off127 (v1244 : BitVec 32) : Fin 1 → Nat :=
  let c0_i32_617 : BitVec 32 := 0#32
  let c32_i32_616 : BitVec 32 := 32#32
  let v1245 : BitVec 32 := Scalar.muli v1244 c32_i32_616
  let v1246 : BitVec 32 := Scalar.addi c0_i32_617 v1245
  let v1247 : BitVec 32 := v1246
  ![v1247.toNat]

def k0_chk78 (v1244 : BitVec 32) : Prop :=
  (8 ∣ (k0_mult55 v1244).toNat) ∧
  (∀ a, (k0_off111 v1244) a + S32.size a ≤ S3407872.size a) ∧
  (∀ a, (k0_off127 v1244) a + S32.size a ≤ S3407872.size a)
theorem k0_mult55_dvd : ∀ (v1244 : BitVec 32) (k0_hw78 : k0_chk78 v1244), 8 ∣ (k0_mult55 v1244).toNat := fun v1244 k0_hw78 => k0_hw78.1
theorem k0_off111_inb : ∀ (v1244 : BitVec 32) (k0_hw78 : k0_chk78 v1244), ∀ a, (k0_off111 v1244) a + S32.size a ≤ S3407872.size a := fun v1244 k0_hw78 => k0_hw78.2.1
theorem k0_off127_inb : ∀ (v1244 : BitVec 32) (k0_hw78 : k0_chk78 v1244), ∀ a, (k0_off127 v1244) a + S32.size a ≤ S3407872.size a := fun v1244 k0_hw78 => k0_hw78.2.2

def k0_off128 (v1253 : BitVec 32) : Fin 1 → Nat :=
  let c0_i32_621 : BitVec 32 := 0#32
  let c32_i32_620 : BitVec 32 := 32#32
  let v1254 : BitVec 32 := Scalar.muli v1253 c32_i32_620
  let v1255 : BitVec 32 := Scalar.addi c0_i32_621 v1254
  let v1256 : BitVec 32 := v1255
  ![v1256.toNat]

def k0_chk79 (v1253 : BitVec 32) : Prop :=
  (8 ∣ (k0_mult56 v1253).toNat) ∧
  (∀ a, (k0_off112 v1253) a + S32.size a ≤ S3407872.size a) ∧
  (∀ a, (k0_off128 v1253) a + S32.size a ≤ S3407872.size a)
theorem k0_mult56_dvd : ∀ (v1253 : BitVec 32) (k0_hw79 : k0_chk79 v1253), 8 ∣ (k0_mult56 v1253).toNat := fun v1253 k0_hw79 => k0_hw79.1
theorem k0_off112_inb : ∀ (v1253 : BitVec 32) (k0_hw79 : k0_chk79 v1253), ∀ a, (k0_off112 v1253) a + S32.size a ≤ S3407872.size a := fun v1253 k0_hw79 => k0_hw79.2.1
theorem k0_off128_inb : ∀ (v1253 : BitVec 32) (k0_hw79 : k0_chk79 v1253), ∀ a, (k0_off128 v1253) a + S32.size a ≤ S3407872.size a := fun v1253 k0_hw79 => k0_hw79.2.2

def k0_off129 (v1262 : BitVec 32) : Fin 1 → Nat :=
  let c0_i32_625 : BitVec 32 := 0#32
  let c32_i32_624 : BitVec 32 := 32#32
  let v1263 : BitVec 32 := Scalar.muli v1262 c32_i32_624
  let v1264 : BitVec 32 := Scalar.addi c0_i32_625 v1263
  let v1265 : BitVec 32 := v1264
  ![v1265.toNat]

def k0_chk80 (v1262 : BitVec 32) : Prop :=
  (8 ∣ (k0_mult57 v1262).toNat) ∧
  (∀ a, (k0_off113 v1262) a + S32.size a ≤ S3407872.size a) ∧
  (∀ a, (k0_off129 v1262) a + S32.size a ≤ S3407872.size a)
theorem k0_mult57_dvd : ∀ (v1262 : BitVec 32) (k0_hw80 : k0_chk80 v1262), 8 ∣ (k0_mult57 v1262).toNat := fun v1262 k0_hw80 => k0_hw80.1
theorem k0_off113_inb : ∀ (v1262 : BitVec 32) (k0_hw80 : k0_chk80 v1262), ∀ a, (k0_off113 v1262) a + S32.size a ≤ S3407872.size a := fun v1262 k0_hw80 => k0_hw80.2.1
theorem k0_off129_inb : ∀ (v1262 : BitVec 32) (k0_hw80 : k0_chk80 v1262), ∀ a, (k0_off129 v1262) a + S32.size a ≤ S3407872.size a := fun v1262 k0_hw80 => k0_hw80.2.2

def k0_off130 (v1271 : BitVec 32) : Fin 1 → Nat :=
  let c0_i32_629 : BitVec 32 := 0#32
  let c32_i32_628 : BitVec 32 := 32#32
  let v1272 : BitVec 32 := Scalar.muli v1271 c32_i32_628
  let v1273 : BitVec 32 := Scalar.addi c0_i32_629 v1272
  let v1274 : BitVec 32 := v1273
  ![v1274.toNat]

def k0_chk81 (v1271 : BitVec 32) : Prop :=
  (8 ∣ (k0_mult58 v1271).toNat) ∧
  (∀ a, (k0_off114 v1271) a + S32.size a ≤ S3407872.size a) ∧
  (∀ a, (k0_off130 v1271) a + S32.size a ≤ S3407872.size a)
theorem k0_mult58_dvd : ∀ (v1271 : BitVec 32) (k0_hw81 : k0_chk81 v1271), 8 ∣ (k0_mult58 v1271).toNat := fun v1271 k0_hw81 => k0_hw81.1
theorem k0_off114_inb : ∀ (v1271 : BitVec 32) (k0_hw81 : k0_chk81 v1271), ∀ a, (k0_off114 v1271) a + S32.size a ≤ S3407872.size a := fun v1271 k0_hw81 => k0_hw81.2.1
theorem k0_off130_inb : ∀ (v1271 : BitVec 32) (k0_hw81 : k0_chk81 v1271), ∀ a, (k0_off130 v1271) a + S32.size a ≤ S3407872.size a := fun v1271 k0_hw81 => k0_hw81.2.2

def k0_off131 (v1280 : BitVec 32) : Fin 1 → Nat :=
  let c0_i32_633 : BitVec 32 := 0#32
  let c32_i32_632 : BitVec 32 := 32#32
  let v1281 : BitVec 32 := Scalar.muli v1280 c32_i32_632
  let v1282 : BitVec 32 := Scalar.addi c0_i32_633 v1281
  let v1283 : BitVec 32 := v1282
  ![v1283.toNat]

def k0_chk82 (v1280 : BitVec 32) : Prop :=
  (8 ∣ (k0_mult59 v1280).toNat) ∧
  (∀ a, (k0_off115 v1280) a + S32.size a ≤ S3407872.size a) ∧
  (∀ a, (k0_off131 v1280) a + S32.size a ≤ S3407872.size a)
theorem k0_mult59_dvd : ∀ (v1280 : BitVec 32) (k0_hw82 : k0_chk82 v1280), 8 ∣ (k0_mult59 v1280).toNat := fun v1280 k0_hw82 => k0_hw82.1
theorem k0_off115_inb : ∀ (v1280 : BitVec 32) (k0_hw82 : k0_chk82 v1280), ∀ a, (k0_off115 v1280) a + S32.size a ≤ S3407872.size a := fun v1280 k0_hw82 => k0_hw82.2.1
theorem k0_off131_inb : ∀ (v1280 : BitVec 32) (k0_hw82 : k0_chk82 v1280), ∀ a, (k0_off131 v1280) a + S32.size a ≤ S3407872.size a := fun v1280 k0_hw82 => k0_hw82.2.2

def k0_off132 (v1289 : BitVec 32) : Fin 1 → Nat :=
  let c0_i32_637 : BitVec 32 := 0#32
  let c32_i32_636 : BitVec 32 := 32#32
  let v1290 : BitVec 32 := Scalar.muli v1289 c32_i32_636
  let v1291 : BitVec 32 := Scalar.addi c0_i32_637 v1290
  let v1292 : BitVec 32 := v1291
  ![v1292.toNat]

def k0_chk83 (v1289 : BitVec 32) : Prop :=
  (8 ∣ (k0_mult60 v1289).toNat) ∧
  (∀ a, (k0_off116 v1289) a + S32.size a ≤ S3407872.size a) ∧
  (∀ a, (k0_off132 v1289) a + S32.size a ≤ S3407872.size a)
theorem k0_mult60_dvd : ∀ (v1289 : BitVec 32) (k0_hw83 : k0_chk83 v1289), 8 ∣ (k0_mult60 v1289).toNat := fun v1289 k0_hw83 => k0_hw83.1
theorem k0_off116_inb : ∀ (v1289 : BitVec 32) (k0_hw83 : k0_chk83 v1289), ∀ a, (k0_off116 v1289) a + S32.size a ≤ S3407872.size a := fun v1289 k0_hw83 => k0_hw83.2.1
theorem k0_off132_inb : ∀ (v1289 : BitVec 32) (k0_hw83 : k0_chk83 v1289), ∀ a, (k0_off132 v1289) a + S32.size a ≤ S3407872.size a := fun v1289 k0_hw83 => k0_hw83.2.2

def k0_off133 (v1298 : BitVec 32) : Fin 1 → Nat :=
  let c0_i32_641 : BitVec 32 := 0#32
  let c32_i32_640 : BitVec 32 := 32#32
  let v1299 : BitVec 32 := Scalar.muli v1298 c32_i32_640
  let v1300 : BitVec 32 := Scalar.addi c0_i32_641 v1299
  let v1301 : BitVec 32 := v1300
  ![v1301.toNat]

def k0_chk84 (v1298 : BitVec 32) : Prop :=
  (8 ∣ (k0_mult61 v1298).toNat) ∧
  (∀ a, (k0_off117 v1298) a + S32.size a ≤ S3407872.size a) ∧
  (∀ a, (k0_off133 v1298) a + S32.size a ≤ S3407872.size a)
theorem k0_mult61_dvd : ∀ (v1298 : BitVec 32) (k0_hw84 : k0_chk84 v1298), 8 ∣ (k0_mult61 v1298).toNat := fun v1298 k0_hw84 => k0_hw84.1
theorem k0_off117_inb : ∀ (v1298 : BitVec 32) (k0_hw84 : k0_chk84 v1298), ∀ a, (k0_off117 v1298) a + S32.size a ≤ S3407872.size a := fun v1298 k0_hw84 => k0_hw84.2.1
theorem k0_off133_inb : ∀ (v1298 : BitVec 32) (k0_hw84 : k0_chk84 v1298), ∀ a, (k0_off133 v1298) a + S32.size a ≤ S3407872.size a := fun v1298 k0_hw84 => k0_hw84.2.2

def k0_off134 (v1307 : BitVec 32) : Fin 1 → Nat :=
  let c0_i32_645 : BitVec 32 := 0#32
  let c32_i32_644 : BitVec 32 := 32#32
  let v1308 : BitVec 32 := Scalar.muli v1307 c32_i32_644
  let v1309 : BitVec 32 := Scalar.addi c0_i32_645 v1308
  let v1310 : BitVec 32 := v1309
  ![v1310.toNat]

def k0_chk85 (v1307 : BitVec 32) : Prop :=
  (8 ∣ (k0_mult62 v1307).toNat) ∧
  (∀ a, (k0_off118 v1307) a + S32.size a ≤ S3407872.size a) ∧
  (∀ a, (k0_off134 v1307) a + S32.size a ≤ S3407872.size a)
theorem k0_mult62_dvd : ∀ (v1307 : BitVec 32) (k0_hw85 : k0_chk85 v1307), 8 ∣ (k0_mult62 v1307).toNat := fun v1307 k0_hw85 => k0_hw85.1
theorem k0_off118_inb : ∀ (v1307 : BitVec 32) (k0_hw85 : k0_chk85 v1307), ∀ a, (k0_off118 v1307) a + S32.size a ≤ S3407872.size a := fun v1307 k0_hw85 => k0_hw85.2.1
theorem k0_off134_inb : ∀ (v1307 : BitVec 32) (k0_hw85 : k0_chk85 v1307), ∀ a, (k0_off134 v1307) a + S32.size a ≤ S3407872.size a := fun v1307 k0_hw85 => k0_hw85.2.2

def k0_off135 (v1316 : BitVec 32) : Fin 1 → Nat :=
  let c0_i32_649 : BitVec 32 := 0#32
  let c32_i32_648 : BitVec 32 := 32#32
  let v1317 : BitVec 32 := Scalar.muli v1316 c32_i32_648
  let v1318 : BitVec 32 := Scalar.addi c0_i32_649 v1317
  let v1319 : BitVec 32 := v1318
  ![v1319.toNat]

def k0_chk86 (v1316 : BitVec 32) : Prop :=
  (8 ∣ (k0_mult63 v1316).toNat) ∧
  (∀ a, (k0_off119 v1316) a + S32.size a ≤ S3407872.size a) ∧
  (∀ a, (k0_off135 v1316) a + S32.size a ≤ S3407872.size a)
theorem k0_mult63_dvd : ∀ (v1316 : BitVec 32) (k0_hw86 : k0_chk86 v1316), 8 ∣ (k0_mult63 v1316).toNat := fun v1316 k0_hw86 => k0_hw86.1
theorem k0_off119_inb : ∀ (v1316 : BitVec 32) (k0_hw86 : k0_chk86 v1316), ∀ a, (k0_off119 v1316) a + S32.size a ≤ S3407872.size a := fun v1316 k0_hw86 => k0_hw86.2.1
theorem k0_off135_inb : ∀ (v1316 : BitVec 32) (k0_hw86 : k0_chk86 v1316), ∀ a, (k0_off135 v1316) a + S32.size a ≤ S3407872.size a := fun v1316 k0_hw86 => k0_hw86.2.2

def k0_off136 (v1325 : BitVec 32) : Fin 1 → Nat :=
  let c0_i32_653 : BitVec 32 := 0#32
  let c32_i32_652 : BitVec 32 := 32#32
  let v1326 : BitVec 32 := Scalar.muli v1325 c32_i32_652
  let v1327 : BitVec 32 := Scalar.addi c0_i32_653 v1326
  let v1328 : BitVec 32 := v1327
  ![v1328.toNat]

def k0_chk87 (v1325 : BitVec 32) : Prop :=
  (8 ∣ (k0_mult64 v1325).toNat) ∧
  (∀ a, (k0_off120 v1325) a + S32.size a ≤ S3407872.size a) ∧
  (∀ a, (k0_off136 v1325) a + S32.size a ≤ S3407872.size a)
theorem k0_mult64_dvd : ∀ (v1325 : BitVec 32) (k0_hw87 : k0_chk87 v1325), 8 ∣ (k0_mult64 v1325).toNat := fun v1325 k0_hw87 => k0_hw87.1
theorem k0_off120_inb : ∀ (v1325 : BitVec 32) (k0_hw87 : k0_chk87 v1325), ∀ a, (k0_off120 v1325) a + S32.size a ≤ S3407872.size a := fun v1325 k0_hw87 => k0_hw87.2.1
theorem k0_off136_inb : ∀ (v1325 : BitVec 32) (k0_hw87 : k0_chk87 v1325), ∀ a, (k0_off136 v1325) a + S32.size a ≤ S3407872.size a := fun v1325 k0_hw87 => k0_hw87.2.2

def k0_mult66 (v1409 : BitVec 32) : BitVec 32 :=
  let c999936_i32_694 : BitVec 32 := 999936#32
  let v1410 : BitVec 32 := Scalar.subi v1409 c999936_i32_694
  let c32_i32_695 : BitVec 32 := 32#32
  let v1411 : BitVec 32 := Scalar.muli v1410 c32_i32_695
  v1411

def k0_off137 (v1409 : BitVec 32) : Fin 1 → Nat :=
  let c999936_i32_694 : BitVec 32 := 999936#32
  let v1410 : BitVec 32 := Scalar.subi v1409 c999936_i32_694
  let c32_i32_695 : BitVec 32 := 32#32
  let v1411 : BitVec 32 := Scalar.muli v1410 c32_i32_695
  let v1412 : BitVec 32 := v1411
  ![v1412.toNat]
def k0_mult67 (v1418 : BitVec 32) : BitVec 32 :=
  let c999936_i32_697 : BitVec 32 := 999936#32
  let v1419 : BitVec 32 := Scalar.subi v1418 c999936_i32_697
  let c32_i32_698 : BitVec 32 := 32#32
  let v1420 : BitVec 32 := Scalar.muli v1419 c32_i32_698
  v1420

def k0_off138 (v1418 : BitVec 32) : Fin 1 → Nat :=
  let c999936_i32_697 : BitVec 32 := 999936#32
  let v1419 : BitVec 32 := Scalar.subi v1418 c999936_i32_697
  let c32_i32_698 : BitVec 32 := 32#32
  let v1420 : BitVec 32 := Scalar.muli v1419 c32_i32_698
  let v1421 : BitVec 32 := v1420
  ![v1421.toNat]
def k0_mult68 (v1427 : BitVec 32) : BitVec 32 :=
  let c999936_i32_700 : BitVec 32 := 999936#32
  let v1428 : BitVec 32 := Scalar.subi v1427 c999936_i32_700
  let c32_i32_701 : BitVec 32 := 32#32
  let v1429 : BitVec 32 := Scalar.muli v1428 c32_i32_701
  v1429

def k0_off139 (v1427 : BitVec 32) : Fin 1 → Nat :=
  let c999936_i32_700 : BitVec 32 := 999936#32
  let v1428 : BitVec 32 := Scalar.subi v1427 c999936_i32_700
  let c32_i32_701 : BitVec 32 := 32#32
  let v1429 : BitVec 32 := Scalar.muli v1428 c32_i32_701
  let v1430 : BitVec 32 := v1429
  ![v1430.toNat]
def k0_mult69 (v1436 : BitVec 32) : BitVec 32 :=
  let c999936_i32_703 : BitVec 32 := 999936#32
  let v1437 : BitVec 32 := Scalar.subi v1436 c999936_i32_703
  let c32_i32_704 : BitVec 32 := 32#32
  let v1438 : BitVec 32 := Scalar.muli v1437 c32_i32_704
  v1438

def k0_off140 (v1436 : BitVec 32) : Fin 1 → Nat :=
  let c999936_i32_703 : BitVec 32 := 999936#32
  let v1437 : BitVec 32 := Scalar.subi v1436 c999936_i32_703
  let c32_i32_704 : BitVec 32 := 32#32
  let v1438 : BitVec 32 := Scalar.muli v1437 c32_i32_704
  let v1439 : BitVec 32 := v1438
  ![v1439.toNat]
def k0_mult70 (v1445 : BitVec 32) : BitVec 32 :=
  let c999936_i32_706 : BitVec 32 := 999936#32
  let v1446 : BitVec 32 := Scalar.subi v1445 c999936_i32_706
  let c32_i32_707 : BitVec 32 := 32#32
  let v1447 : BitVec 32 := Scalar.muli v1446 c32_i32_707
  v1447

def k0_off141 (v1445 : BitVec 32) : Fin 1 → Nat :=
  let c999936_i32_706 : BitVec 32 := 999936#32
  let v1446 : BitVec 32 := Scalar.subi v1445 c999936_i32_706
  let c32_i32_707 : BitVec 32 := 32#32
  let v1447 : BitVec 32 := Scalar.muli v1446 c32_i32_707
  let v1448 : BitVec 32 := v1447
  ![v1448.toNat]
def k0_mult71 (v1454 : BitVec 32) : BitVec 32 :=
  let c999936_i32_709 : BitVec 32 := 999936#32
  let v1455 : BitVec 32 := Scalar.subi v1454 c999936_i32_709
  let c32_i32_710 : BitVec 32 := 32#32
  let v1456 : BitVec 32 := Scalar.muli v1455 c32_i32_710
  v1456

def k0_off142 (v1454 : BitVec 32) : Fin 1 → Nat :=
  let c999936_i32_709 : BitVec 32 := 999936#32
  let v1455 : BitVec 32 := Scalar.subi v1454 c999936_i32_709
  let c32_i32_710 : BitVec 32 := 32#32
  let v1456 : BitVec 32 := Scalar.muli v1455 c32_i32_710
  let v1457 : BitVec 32 := v1456
  ![v1457.toNat]
def k0_mult72 (v1463 : BitVec 32) : BitVec 32 :=
  let c999936_i32_712 : BitVec 32 := 999936#32
  let v1464 : BitVec 32 := Scalar.subi v1463 c999936_i32_712
  let c32_i32_713 : BitVec 32 := 32#32
  let v1465 : BitVec 32 := Scalar.muli v1464 c32_i32_713
  v1465

def k0_off143 (v1463 : BitVec 32) : Fin 1 → Nat :=
  let c999936_i32_712 : BitVec 32 := 999936#32
  let v1464 : BitVec 32 := Scalar.subi v1463 c999936_i32_712
  let c32_i32_713 : BitVec 32 := 32#32
  let v1465 : BitVec 32 := Scalar.muli v1464 c32_i32_713
  let v1466 : BitVec 32 := v1465
  ![v1466.toNat]
def k0_mult73 (v1472 : BitVec 32) : BitVec 32 :=
  let c999936_i32_715 : BitVec 32 := 999936#32
  let v1473 : BitVec 32 := Scalar.subi v1472 c999936_i32_715
  let c32_i32_716 : BitVec 32 := 32#32
  let v1474 : BitVec 32 := Scalar.muli v1473 c32_i32_716
  v1474

def k0_off144 (v1472 : BitVec 32) : Fin 1 → Nat :=
  let c999936_i32_715 : BitVec 32 := 999936#32
  let v1473 : BitVec 32 := Scalar.subi v1472 c999936_i32_715
  let c32_i32_716 : BitVec 32 := 32#32
  let v1474 : BitVec 32 := Scalar.muli v1473 c32_i32_716
  let v1475 : BitVec 32 := v1474
  ![v1475.toNat]
def k0_mult74 (v1481 : BitVec 32) : BitVec 32 :=
  let c999936_i32_718 : BitVec 32 := 999936#32
  let v1482 : BitVec 32 := Scalar.subi v1481 c999936_i32_718
  let c32_i32_719 : BitVec 32 := 32#32
  let v1483 : BitVec 32 := Scalar.muli v1482 c32_i32_719
  v1483

def k0_off145 (v1481 : BitVec 32) : Fin 1 → Nat :=
  let c999936_i32_718 : BitVec 32 := 999936#32
  let v1482 : BitVec 32 := Scalar.subi v1481 c999936_i32_718
  let c32_i32_719 : BitVec 32 := 32#32
  let v1483 : BitVec 32 := Scalar.muli v1482 c32_i32_719
  let v1484 : BitVec 32 := v1483
  ![v1484.toNat]
def k0_mult75 (v1490 : BitVec 32) : BitVec 32 :=
  let c999936_i32_721 : BitVec 32 := 999936#32
  let v1491 : BitVec 32 := Scalar.subi v1490 c999936_i32_721
  let c32_i32_722 : BitVec 32 := 32#32
  let v1492 : BitVec 32 := Scalar.muli v1491 c32_i32_722
  v1492

def k0_off146 (v1490 : BitVec 32) : Fin 1 → Nat :=
  let c999936_i32_721 : BitVec 32 := 999936#32
  let v1491 : BitVec 32 := Scalar.subi v1490 c999936_i32_721
  let c32_i32_722 : BitVec 32 := 32#32
  let v1492 : BitVec 32 := Scalar.muli v1491 c32_i32_722
  let v1493 : BitVec 32 := v1492
  ![v1493.toNat]
def k0_mult76 (v1499 : BitVec 32) : BitVec 32 :=
  let c999936_i32_724 : BitVec 32 := 999936#32
  let v1500 : BitVec 32 := Scalar.subi v1499 c999936_i32_724
  let c32_i32_725 : BitVec 32 := 32#32
  let v1501 : BitVec 32 := Scalar.muli v1500 c32_i32_725
  v1501

def k0_off147 (v1499 : BitVec 32) : Fin 1 → Nat :=
  let c999936_i32_724 : BitVec 32 := 999936#32
  let v1500 : BitVec 32 := Scalar.subi v1499 c999936_i32_724
  let c32_i32_725 : BitVec 32 := 32#32
  let v1501 : BitVec 32 := Scalar.muli v1500 c32_i32_725
  let v1502 : BitVec 32 := v1501
  ![v1502.toNat]
def k0_mult77 (v1508 : BitVec 32) : BitVec 32 :=
  let c999936_i32_727 : BitVec 32 := 999936#32
  let v1509 : BitVec 32 := Scalar.subi v1508 c999936_i32_727
  let c32_i32_728 : BitVec 32 := 32#32
  let v1510 : BitVec 32 := Scalar.muli v1509 c32_i32_728
  v1510

def k0_off148 (v1508 : BitVec 32) : Fin 1 → Nat :=
  let c999936_i32_727 : BitVec 32 := 999936#32
  let v1509 : BitVec 32 := Scalar.subi v1508 c999936_i32_727
  let c32_i32_728 : BitVec 32 := 32#32
  let v1510 : BitVec 32 := Scalar.muli v1509 c32_i32_728
  let v1511 : BitVec 32 := v1510
  ![v1511.toNat]
def k0_mult78 (v1517 : BitVec 32) : BitVec 32 :=
  let c999936_i32_730 : BitVec 32 := 999936#32
  let v1518 : BitVec 32 := Scalar.subi v1517 c999936_i32_730
  let c32_i32_731 : BitVec 32 := 32#32
  let v1519 : BitVec 32 := Scalar.muli v1518 c32_i32_731
  v1519

def k0_off149 (v1517 : BitVec 32) : Fin 1 → Nat :=
  let c999936_i32_730 : BitVec 32 := 999936#32
  let v1518 : BitVec 32 := Scalar.subi v1517 c999936_i32_730
  let c32_i32_731 : BitVec 32 := 32#32
  let v1519 : BitVec 32 := Scalar.muli v1518 c32_i32_731
  let v1520 : BitVec 32 := v1519
  ![v1520.toNat]
def k0_mult79 (v1526 : BitVec 32) : BitVec 32 :=
  let c999936_i32_733 : BitVec 32 := 999936#32
  let v1527 : BitVec 32 := Scalar.subi v1526 c999936_i32_733
  let c32_i32_734 : BitVec 32 := 32#32
  let v1528 : BitVec 32 := Scalar.muli v1527 c32_i32_734
  v1528

def k0_off150 (v1526 : BitVec 32) : Fin 1 → Nat :=
  let c999936_i32_733 : BitVec 32 := 999936#32
  let v1527 : BitVec 32 := Scalar.subi v1526 c999936_i32_733
  let c32_i32_734 : BitVec 32 := 32#32
  let v1528 : BitVec 32 := Scalar.muli v1527 c32_i32_734
  let v1529 : BitVec 32 := v1528
  ![v1529.toNat]
def k0_mult80 (v1535 : BitVec 32) : BitVec 32 :=
  let c999936_i32_736 : BitVec 32 := 999936#32
  let v1536 : BitVec 32 := Scalar.subi v1535 c999936_i32_736
  let c32_i32_737 : BitVec 32 := 32#32
  let v1537 : BitVec 32 := Scalar.muli v1536 c32_i32_737
  v1537

def k0_off151 (v1535 : BitVec 32) : Fin 1 → Nat :=
  let c999936_i32_736 : BitVec 32 := 999936#32
  let v1536 : BitVec 32 := Scalar.subi v1535 c999936_i32_736
  let c32_i32_737 : BitVec 32 := 32#32
  let v1537 : BitVec 32 := Scalar.muli v1536 c32_i32_737
  let v1538 : BitVec 32 := v1537
  ![v1538.toNat]
def k0_mult81 (v1544 : BitVec 32) : BitVec 32 :=
  let c999936_i32_739 : BitVec 32 := 999936#32
  let v1545 : BitVec 32 := Scalar.subi v1544 c999936_i32_739
  let c32_i32_740 : BitVec 32 := 32#32
  let v1546 : BitVec 32 := Scalar.muli v1545 c32_i32_740
  v1546

def k0_off152 (v1544 : BitVec 32) : Fin 1 → Nat :=
  let c999936_i32_739 : BitVec 32 := 999936#32
  let v1545 : BitVec 32 := Scalar.subi v1544 c999936_i32_739
  let c32_i32_740 : BitVec 32 := 32#32
  let v1546 : BitVec 32 := Scalar.muli v1545 c32_i32_740
  let v1547 : BitVec 32 := v1546
  ![v1547.toNat]

def k0_chk104 (v1544 : BitVec 32) : Prop :=
  (8 ∣ (k0_mult81 v1544).toNat) ∧
  (∀ a, (k0_off152 v1544) a + S32.size a ≤ S2048.size a)
theorem k0_mult81_dvd : ∀ (v1544 : BitVec 32) (k0_hw104 : k0_chk104 v1544), 8 ∣ (k0_mult81 v1544).toNat := fun v1544 k0_hw104 => k0_hw104.1
theorem k0_off152_inb : ∀ (v1544 : BitVec 32) (k0_hw104 : k0_chk104 v1544), ∀ a, (k0_off152 v1544) a + S32.size a ≤ S2048.size a := fun v1544 k0_hw104 => k0_hw104.2

def k0_off153 (v1409 : BitVec 32) : Fin 1 → Nat :=
  let c999936_i32_694 : BitVec 32 := 999936#32
  let v1410 : BitVec 32 := Scalar.subi v1409 c999936_i32_694
  let c32_i32_695 : BitVec 32 := 32#32
  let v1411 : BitVec 32 := Scalar.muli v1410 c32_i32_695
  let v1412 : BitVec 32 := v1411
  ![v1412.toNat]

def k0_chk89 (v1409 : BitVec 32) : Prop :=
  (8 ∣ (k0_mult66 v1409).toNat) ∧
  (∀ a, (k0_off137 v1409) a + S32.size a ≤ S2048.size a) ∧
  (∀ a, (k0_off153 v1409) a + S32.size a ≤ S2048.size a)
theorem k0_mult66_dvd : ∀ (v1409 : BitVec 32) (k0_hw89 : k0_chk89 v1409), 8 ∣ (k0_mult66 v1409).toNat := fun v1409 k0_hw89 => k0_hw89.1
theorem k0_off137_inb : ∀ (v1409 : BitVec 32) (k0_hw89 : k0_chk89 v1409), ∀ a, (k0_off137 v1409) a + S32.size a ≤ S2048.size a := fun v1409 k0_hw89 => k0_hw89.2.1
theorem k0_off153_inb : ∀ (v1409 : BitVec 32) (k0_hw89 : k0_chk89 v1409), ∀ a, (k0_off153 v1409) a + S32.size a ≤ S2048.size a := fun v1409 k0_hw89 => k0_hw89.2.2

def k0_off154 (v1418 : BitVec 32) : Fin 1 → Nat :=
  let c999936_i32_697 : BitVec 32 := 999936#32
  let v1419 : BitVec 32 := Scalar.subi v1418 c999936_i32_697
  let c32_i32_698 : BitVec 32 := 32#32
  let v1420 : BitVec 32 := Scalar.muli v1419 c32_i32_698
  let v1421 : BitVec 32 := v1420
  ![v1421.toNat]

def k0_chk90 (v1418 : BitVec 32) : Prop :=
  (8 ∣ (k0_mult67 v1418).toNat) ∧
  (∀ a, (k0_off138 v1418) a + S32.size a ≤ S2048.size a) ∧
  (∀ a, (k0_off154 v1418) a + S32.size a ≤ S2048.size a)
theorem k0_mult67_dvd : ∀ (v1418 : BitVec 32) (k0_hw90 : k0_chk90 v1418), 8 ∣ (k0_mult67 v1418).toNat := fun v1418 k0_hw90 => k0_hw90.1
theorem k0_off138_inb : ∀ (v1418 : BitVec 32) (k0_hw90 : k0_chk90 v1418), ∀ a, (k0_off138 v1418) a + S32.size a ≤ S2048.size a := fun v1418 k0_hw90 => k0_hw90.2.1
theorem k0_off154_inb : ∀ (v1418 : BitVec 32) (k0_hw90 : k0_chk90 v1418), ∀ a, (k0_off154 v1418) a + S32.size a ≤ S2048.size a := fun v1418 k0_hw90 => k0_hw90.2.2

def k0_off155 (v1427 : BitVec 32) : Fin 1 → Nat :=
  let c999936_i32_700 : BitVec 32 := 999936#32
  let v1428 : BitVec 32 := Scalar.subi v1427 c999936_i32_700
  let c32_i32_701 : BitVec 32 := 32#32
  let v1429 : BitVec 32 := Scalar.muli v1428 c32_i32_701
  let v1430 : BitVec 32 := v1429
  ![v1430.toNat]

def k0_chk91 (v1427 : BitVec 32) : Prop :=
  (8 ∣ (k0_mult68 v1427).toNat) ∧
  (∀ a, (k0_off139 v1427) a + S32.size a ≤ S2048.size a) ∧
  (∀ a, (k0_off155 v1427) a + S32.size a ≤ S2048.size a)
theorem k0_mult68_dvd : ∀ (v1427 : BitVec 32) (k0_hw91 : k0_chk91 v1427), 8 ∣ (k0_mult68 v1427).toNat := fun v1427 k0_hw91 => k0_hw91.1
theorem k0_off139_inb : ∀ (v1427 : BitVec 32) (k0_hw91 : k0_chk91 v1427), ∀ a, (k0_off139 v1427) a + S32.size a ≤ S2048.size a := fun v1427 k0_hw91 => k0_hw91.2.1
theorem k0_off155_inb : ∀ (v1427 : BitVec 32) (k0_hw91 : k0_chk91 v1427), ∀ a, (k0_off155 v1427) a + S32.size a ≤ S2048.size a := fun v1427 k0_hw91 => k0_hw91.2.2

def k0_off156 (v1436 : BitVec 32) : Fin 1 → Nat :=
  let c999936_i32_703 : BitVec 32 := 999936#32
  let v1437 : BitVec 32 := Scalar.subi v1436 c999936_i32_703
  let c32_i32_704 : BitVec 32 := 32#32
  let v1438 : BitVec 32 := Scalar.muli v1437 c32_i32_704
  let v1439 : BitVec 32 := v1438
  ![v1439.toNat]

def k0_chk92 (v1436 : BitVec 32) : Prop :=
  (8 ∣ (k0_mult69 v1436).toNat) ∧
  (∀ a, (k0_off140 v1436) a + S32.size a ≤ S2048.size a) ∧
  (∀ a, (k0_off156 v1436) a + S32.size a ≤ S2048.size a)
theorem k0_mult69_dvd : ∀ (v1436 : BitVec 32) (k0_hw92 : k0_chk92 v1436), 8 ∣ (k0_mult69 v1436).toNat := fun v1436 k0_hw92 => k0_hw92.1
theorem k0_off140_inb : ∀ (v1436 : BitVec 32) (k0_hw92 : k0_chk92 v1436), ∀ a, (k0_off140 v1436) a + S32.size a ≤ S2048.size a := fun v1436 k0_hw92 => k0_hw92.2.1
theorem k0_off156_inb : ∀ (v1436 : BitVec 32) (k0_hw92 : k0_chk92 v1436), ∀ a, (k0_off156 v1436) a + S32.size a ≤ S2048.size a := fun v1436 k0_hw92 => k0_hw92.2.2

def k0_off157 (v1445 : BitVec 32) : Fin 1 → Nat :=
  let c999936_i32_706 : BitVec 32 := 999936#32
  let v1446 : BitVec 32 := Scalar.subi v1445 c999936_i32_706
  let c32_i32_707 : BitVec 32 := 32#32
  let v1447 : BitVec 32 := Scalar.muli v1446 c32_i32_707
  let v1448 : BitVec 32 := v1447
  ![v1448.toNat]

def k0_chk93 (v1445 : BitVec 32) : Prop :=
  (8 ∣ (k0_mult70 v1445).toNat) ∧
  (∀ a, (k0_off141 v1445) a + S32.size a ≤ S2048.size a) ∧
  (∀ a, (k0_off157 v1445) a + S32.size a ≤ S2048.size a)
theorem k0_mult70_dvd : ∀ (v1445 : BitVec 32) (k0_hw93 : k0_chk93 v1445), 8 ∣ (k0_mult70 v1445).toNat := fun v1445 k0_hw93 => k0_hw93.1
theorem k0_off141_inb : ∀ (v1445 : BitVec 32) (k0_hw93 : k0_chk93 v1445), ∀ a, (k0_off141 v1445) a + S32.size a ≤ S2048.size a := fun v1445 k0_hw93 => k0_hw93.2.1
theorem k0_off157_inb : ∀ (v1445 : BitVec 32) (k0_hw93 : k0_chk93 v1445), ∀ a, (k0_off157 v1445) a + S32.size a ≤ S2048.size a := fun v1445 k0_hw93 => k0_hw93.2.2

def k0_off158 (v1454 : BitVec 32) : Fin 1 → Nat :=
  let c999936_i32_709 : BitVec 32 := 999936#32
  let v1455 : BitVec 32 := Scalar.subi v1454 c999936_i32_709
  let c32_i32_710 : BitVec 32 := 32#32
  let v1456 : BitVec 32 := Scalar.muli v1455 c32_i32_710
  let v1457 : BitVec 32 := v1456
  ![v1457.toNat]

def k0_chk94 (v1454 : BitVec 32) : Prop :=
  (8 ∣ (k0_mult71 v1454).toNat) ∧
  (∀ a, (k0_off142 v1454) a + S32.size a ≤ S2048.size a) ∧
  (∀ a, (k0_off158 v1454) a + S32.size a ≤ S2048.size a)
theorem k0_mult71_dvd : ∀ (v1454 : BitVec 32) (k0_hw94 : k0_chk94 v1454), 8 ∣ (k0_mult71 v1454).toNat := fun v1454 k0_hw94 => k0_hw94.1
theorem k0_off142_inb : ∀ (v1454 : BitVec 32) (k0_hw94 : k0_chk94 v1454), ∀ a, (k0_off142 v1454) a + S32.size a ≤ S2048.size a := fun v1454 k0_hw94 => k0_hw94.2.1
theorem k0_off158_inb : ∀ (v1454 : BitVec 32) (k0_hw94 : k0_chk94 v1454), ∀ a, (k0_off158 v1454) a + S32.size a ≤ S2048.size a := fun v1454 k0_hw94 => k0_hw94.2.2

def k0_off159 (v1463 : BitVec 32) : Fin 1 → Nat :=
  let c999936_i32_712 : BitVec 32 := 999936#32
  let v1464 : BitVec 32 := Scalar.subi v1463 c999936_i32_712
  let c32_i32_713 : BitVec 32 := 32#32
  let v1465 : BitVec 32 := Scalar.muli v1464 c32_i32_713
  let v1466 : BitVec 32 := v1465
  ![v1466.toNat]

def k0_chk95 (v1463 : BitVec 32) : Prop :=
  (8 ∣ (k0_mult72 v1463).toNat) ∧
  (∀ a, (k0_off143 v1463) a + S32.size a ≤ S2048.size a) ∧
  (∀ a, (k0_off159 v1463) a + S32.size a ≤ S2048.size a)
theorem k0_mult72_dvd : ∀ (v1463 : BitVec 32) (k0_hw95 : k0_chk95 v1463), 8 ∣ (k0_mult72 v1463).toNat := fun v1463 k0_hw95 => k0_hw95.1
theorem k0_off143_inb : ∀ (v1463 : BitVec 32) (k0_hw95 : k0_chk95 v1463), ∀ a, (k0_off143 v1463) a + S32.size a ≤ S2048.size a := fun v1463 k0_hw95 => k0_hw95.2.1
theorem k0_off159_inb : ∀ (v1463 : BitVec 32) (k0_hw95 : k0_chk95 v1463), ∀ a, (k0_off159 v1463) a + S32.size a ≤ S2048.size a := fun v1463 k0_hw95 => k0_hw95.2.2

def k0_off160 (v1472 : BitVec 32) : Fin 1 → Nat :=
  let c999936_i32_715 : BitVec 32 := 999936#32
  let v1473 : BitVec 32 := Scalar.subi v1472 c999936_i32_715
  let c32_i32_716 : BitVec 32 := 32#32
  let v1474 : BitVec 32 := Scalar.muli v1473 c32_i32_716
  let v1475 : BitVec 32 := v1474
  ![v1475.toNat]

def k0_chk96 (v1472 : BitVec 32) : Prop :=
  (8 ∣ (k0_mult73 v1472).toNat) ∧
  (∀ a, (k0_off144 v1472) a + S32.size a ≤ S2048.size a) ∧
  (∀ a, (k0_off160 v1472) a + S32.size a ≤ S2048.size a)
theorem k0_mult73_dvd : ∀ (v1472 : BitVec 32) (k0_hw96 : k0_chk96 v1472), 8 ∣ (k0_mult73 v1472).toNat := fun v1472 k0_hw96 => k0_hw96.1
theorem k0_off144_inb : ∀ (v1472 : BitVec 32) (k0_hw96 : k0_chk96 v1472), ∀ a, (k0_off144 v1472) a + S32.size a ≤ S2048.size a := fun v1472 k0_hw96 => k0_hw96.2.1
theorem k0_off160_inb : ∀ (v1472 : BitVec 32) (k0_hw96 : k0_chk96 v1472), ∀ a, (k0_off160 v1472) a + S32.size a ≤ S2048.size a := fun v1472 k0_hw96 => k0_hw96.2.2

def k0_off161 (v1481 : BitVec 32) : Fin 1 → Nat :=
  let c999936_i32_718 : BitVec 32 := 999936#32
  let v1482 : BitVec 32 := Scalar.subi v1481 c999936_i32_718
  let c32_i32_719 : BitVec 32 := 32#32
  let v1483 : BitVec 32 := Scalar.muli v1482 c32_i32_719
  let v1484 : BitVec 32 := v1483
  ![v1484.toNat]

def k0_chk97 (v1481 : BitVec 32) : Prop :=
  (8 ∣ (k0_mult74 v1481).toNat) ∧
  (∀ a, (k0_off145 v1481) a + S32.size a ≤ S2048.size a) ∧
  (∀ a, (k0_off161 v1481) a + S32.size a ≤ S2048.size a)
theorem k0_mult74_dvd : ∀ (v1481 : BitVec 32) (k0_hw97 : k0_chk97 v1481), 8 ∣ (k0_mult74 v1481).toNat := fun v1481 k0_hw97 => k0_hw97.1
theorem k0_off145_inb : ∀ (v1481 : BitVec 32) (k0_hw97 : k0_chk97 v1481), ∀ a, (k0_off145 v1481) a + S32.size a ≤ S2048.size a := fun v1481 k0_hw97 => k0_hw97.2.1
theorem k0_off161_inb : ∀ (v1481 : BitVec 32) (k0_hw97 : k0_chk97 v1481), ∀ a, (k0_off161 v1481) a + S32.size a ≤ S2048.size a := fun v1481 k0_hw97 => k0_hw97.2.2

def k0_off162 (v1490 : BitVec 32) : Fin 1 → Nat :=
  let c999936_i32_721 : BitVec 32 := 999936#32
  let v1491 : BitVec 32 := Scalar.subi v1490 c999936_i32_721
  let c32_i32_722 : BitVec 32 := 32#32
  let v1492 : BitVec 32 := Scalar.muli v1491 c32_i32_722
  let v1493 : BitVec 32 := v1492
  ![v1493.toNat]

def k0_chk98 (v1490 : BitVec 32) : Prop :=
  (8 ∣ (k0_mult75 v1490).toNat) ∧
  (∀ a, (k0_off146 v1490) a + S32.size a ≤ S2048.size a) ∧
  (∀ a, (k0_off162 v1490) a + S32.size a ≤ S2048.size a)
theorem k0_mult75_dvd : ∀ (v1490 : BitVec 32) (k0_hw98 : k0_chk98 v1490), 8 ∣ (k0_mult75 v1490).toNat := fun v1490 k0_hw98 => k0_hw98.1
theorem k0_off146_inb : ∀ (v1490 : BitVec 32) (k0_hw98 : k0_chk98 v1490), ∀ a, (k0_off146 v1490) a + S32.size a ≤ S2048.size a := fun v1490 k0_hw98 => k0_hw98.2.1
theorem k0_off162_inb : ∀ (v1490 : BitVec 32) (k0_hw98 : k0_chk98 v1490), ∀ a, (k0_off162 v1490) a + S32.size a ≤ S2048.size a := fun v1490 k0_hw98 => k0_hw98.2.2

def k0_off163 (v1499 : BitVec 32) : Fin 1 → Nat :=
  let c999936_i32_724 : BitVec 32 := 999936#32
  let v1500 : BitVec 32 := Scalar.subi v1499 c999936_i32_724
  let c32_i32_725 : BitVec 32 := 32#32
  let v1501 : BitVec 32 := Scalar.muli v1500 c32_i32_725
  let v1502 : BitVec 32 := v1501
  ![v1502.toNat]

def k0_chk99 (v1499 : BitVec 32) : Prop :=
  (8 ∣ (k0_mult76 v1499).toNat) ∧
  (∀ a, (k0_off147 v1499) a + S32.size a ≤ S2048.size a) ∧
  (∀ a, (k0_off163 v1499) a + S32.size a ≤ S2048.size a)
theorem k0_mult76_dvd : ∀ (v1499 : BitVec 32) (k0_hw99 : k0_chk99 v1499), 8 ∣ (k0_mult76 v1499).toNat := fun v1499 k0_hw99 => k0_hw99.1
theorem k0_off147_inb : ∀ (v1499 : BitVec 32) (k0_hw99 : k0_chk99 v1499), ∀ a, (k0_off147 v1499) a + S32.size a ≤ S2048.size a := fun v1499 k0_hw99 => k0_hw99.2.1
theorem k0_off163_inb : ∀ (v1499 : BitVec 32) (k0_hw99 : k0_chk99 v1499), ∀ a, (k0_off163 v1499) a + S32.size a ≤ S2048.size a := fun v1499 k0_hw99 => k0_hw99.2.2

def k0_off164 (v1508 : BitVec 32) : Fin 1 → Nat :=
  let c999936_i32_727 : BitVec 32 := 999936#32
  let v1509 : BitVec 32 := Scalar.subi v1508 c999936_i32_727
  let c32_i32_728 : BitVec 32 := 32#32
  let v1510 : BitVec 32 := Scalar.muli v1509 c32_i32_728
  let v1511 : BitVec 32 := v1510
  ![v1511.toNat]

def k0_chk100 (v1508 : BitVec 32) : Prop :=
  (8 ∣ (k0_mult77 v1508).toNat) ∧
  (∀ a, (k0_off148 v1508) a + S32.size a ≤ S2048.size a) ∧
  (∀ a, (k0_off164 v1508) a + S32.size a ≤ S2048.size a)
theorem k0_mult77_dvd : ∀ (v1508 : BitVec 32) (k0_hw100 : k0_chk100 v1508), 8 ∣ (k0_mult77 v1508).toNat := fun v1508 k0_hw100 => k0_hw100.1
theorem k0_off148_inb : ∀ (v1508 : BitVec 32) (k0_hw100 : k0_chk100 v1508), ∀ a, (k0_off148 v1508) a + S32.size a ≤ S2048.size a := fun v1508 k0_hw100 => k0_hw100.2.1
theorem k0_off164_inb : ∀ (v1508 : BitVec 32) (k0_hw100 : k0_chk100 v1508), ∀ a, (k0_off164 v1508) a + S32.size a ≤ S2048.size a := fun v1508 k0_hw100 => k0_hw100.2.2

def k0_off165 (v1517 : BitVec 32) : Fin 1 → Nat :=
  let c999936_i32_730 : BitVec 32 := 999936#32
  let v1518 : BitVec 32 := Scalar.subi v1517 c999936_i32_730
  let c32_i32_731 : BitVec 32 := 32#32
  let v1519 : BitVec 32 := Scalar.muli v1518 c32_i32_731
  let v1520 : BitVec 32 := v1519
  ![v1520.toNat]

def k0_chk101 (v1517 : BitVec 32) : Prop :=
  (8 ∣ (k0_mult78 v1517).toNat) ∧
  (∀ a, (k0_off149 v1517) a + S32.size a ≤ S2048.size a) ∧
  (∀ a, (k0_off165 v1517) a + S32.size a ≤ S2048.size a)
theorem k0_mult78_dvd : ∀ (v1517 : BitVec 32) (k0_hw101 : k0_chk101 v1517), 8 ∣ (k0_mult78 v1517).toNat := fun v1517 k0_hw101 => k0_hw101.1
theorem k0_off149_inb : ∀ (v1517 : BitVec 32) (k0_hw101 : k0_chk101 v1517), ∀ a, (k0_off149 v1517) a + S32.size a ≤ S2048.size a := fun v1517 k0_hw101 => k0_hw101.2.1
theorem k0_off165_inb : ∀ (v1517 : BitVec 32) (k0_hw101 : k0_chk101 v1517), ∀ a, (k0_off165 v1517) a + S32.size a ≤ S2048.size a := fun v1517 k0_hw101 => k0_hw101.2.2

def k0_off166 (v1526 : BitVec 32) : Fin 1 → Nat :=
  let c999936_i32_733 : BitVec 32 := 999936#32
  let v1527 : BitVec 32 := Scalar.subi v1526 c999936_i32_733
  let c32_i32_734 : BitVec 32 := 32#32
  let v1528 : BitVec 32 := Scalar.muli v1527 c32_i32_734
  let v1529 : BitVec 32 := v1528
  ![v1529.toNat]

def k0_chk102 (v1526 : BitVec 32) : Prop :=
  (8 ∣ (k0_mult79 v1526).toNat) ∧
  (∀ a, (k0_off150 v1526) a + S32.size a ≤ S2048.size a) ∧
  (∀ a, (k0_off166 v1526) a + S32.size a ≤ S2048.size a)
theorem k0_mult79_dvd : ∀ (v1526 : BitVec 32) (k0_hw102 : k0_chk102 v1526), 8 ∣ (k0_mult79 v1526).toNat := fun v1526 k0_hw102 => k0_hw102.1
theorem k0_off150_inb : ∀ (v1526 : BitVec 32) (k0_hw102 : k0_chk102 v1526), ∀ a, (k0_off150 v1526) a + S32.size a ≤ S2048.size a := fun v1526 k0_hw102 => k0_hw102.2.1
theorem k0_off166_inb : ∀ (v1526 : BitVec 32) (k0_hw102 : k0_chk102 v1526), ∀ a, (k0_off166 v1526) a + S32.size a ≤ S2048.size a := fun v1526 k0_hw102 => k0_hw102.2.2

def k0_off167 (v1535 : BitVec 32) : Fin 1 → Nat :=
  let c999936_i32_736 : BitVec 32 := 999936#32
  let v1536 : BitVec 32 := Scalar.subi v1535 c999936_i32_736
  let c32_i32_737 : BitVec 32 := 32#32
  let v1537 : BitVec 32 := Scalar.muli v1536 c32_i32_737
  let v1538 : BitVec 32 := v1537
  ![v1538.toNat]

def k0_chk103 (v1535 : BitVec 32) : Prop :=
  (8 ∣ (k0_mult80 v1535).toNat) ∧
  (∀ a, (k0_off151 v1535) a + S32.size a ≤ S2048.size a) ∧
  (∀ a, (k0_off167 v1535) a + S32.size a ≤ S2048.size a)
theorem k0_mult80_dvd : ∀ (v1535 : BitVec 32) (k0_hw103 : k0_chk103 v1535), 8 ∣ (k0_mult80 v1535).toNat := fun v1535 k0_hw103 => k0_hw103.1
theorem k0_off151_inb : ∀ (v1535 : BitVec 32) (k0_hw103 : k0_chk103 v1535), ∀ a, (k0_off151 v1535) a + S32.size a ≤ S2048.size a := fun v1535 k0_hw103 => k0_hw103.2.1
theorem k0_off167_inb : ∀ (v1535 : BitVec 32) (k0_hw103 : k0_chk103 v1535), ∀ a, (k0_off167 v1535) a + S32.size a ≤ S2048.size a := fun v1535 k0_hw103 => k0_hw103.2.2

def k0_mult82 (v1617 : BitVec 32) : BitVec 32 :=
  let c0_i32_775 : BitVec 32 := 0#32
  let c32_i32_774 : BitVec 32 := 32#32
  let v1618 : BitVec 32 := Scalar.muli v1617 c32_i32_774
  let v1619 : BitVec 32 := Scalar.addi c0_i32_775 v1618
  v1619

def k0_off168 (v1617 : BitVec 32) : Fin 1 → Nat :=
  let c0_i32_775 : BitVec 32 := 0#32
  let c32_i32_774 : BitVec 32 := 32#32
  let v1618 : BitVec 32 := Scalar.muli v1617 c32_i32_774
  let v1619 : BitVec 32 := Scalar.addi c0_i32_775 v1618
  let v1620 : BitVec 32 := v1619
  ![v1620.toNat]
def k0_mult83 (v1626 : BitVec 32) : BitVec 32 :=
  let c0_i32_779 : BitVec 32 := 0#32
  let c32_i32_778 : BitVec 32 := 32#32
  let v1627 : BitVec 32 := Scalar.muli v1626 c32_i32_778
  let v1628 : BitVec 32 := Scalar.addi c0_i32_779 v1627
  v1628

def k0_off169 (v1626 : BitVec 32) : Fin 1 → Nat :=
  let c0_i32_779 : BitVec 32 := 0#32
  let c32_i32_778 : BitVec 32 := 32#32
  let v1627 : BitVec 32 := Scalar.muli v1626 c32_i32_778
  let v1628 : BitVec 32 := Scalar.addi c0_i32_779 v1627
  let v1629 : BitVec 32 := v1628
  ![v1629.toNat]
def k0_mult84 (v1635 : BitVec 32) : BitVec 32 :=
  let c0_i32_783 : BitVec 32 := 0#32
  let c32_i32_782 : BitVec 32 := 32#32
  let v1636 : BitVec 32 := Scalar.muli v1635 c32_i32_782
  let v1637 : BitVec 32 := Scalar.addi c0_i32_783 v1636
  v1637

def k0_off170 (v1635 : BitVec 32) : Fin 1 → Nat :=
  let c0_i32_783 : BitVec 32 := 0#32
  let c32_i32_782 : BitVec 32 := 32#32
  let v1636 : BitVec 32 := Scalar.muli v1635 c32_i32_782
  let v1637 : BitVec 32 := Scalar.addi c0_i32_783 v1636
  let v1638 : BitVec 32 := v1637
  ![v1638.toNat]
def k0_mult85 (v1644 : BitVec 32) : BitVec 32 :=
  let c0_i32_787 : BitVec 32 := 0#32
  let c32_i32_786 : BitVec 32 := 32#32
  let v1645 : BitVec 32 := Scalar.muli v1644 c32_i32_786
  let v1646 : BitVec 32 := Scalar.addi c0_i32_787 v1645
  v1646

def k0_off171 (v1644 : BitVec 32) : Fin 1 → Nat :=
  let c0_i32_787 : BitVec 32 := 0#32
  let c32_i32_786 : BitVec 32 := 32#32
  let v1645 : BitVec 32 := Scalar.muli v1644 c32_i32_786
  let v1646 : BitVec 32 := Scalar.addi c0_i32_787 v1645
  let v1647 : BitVec 32 := v1646
  ![v1647.toNat]
def k0_mult86 (v1653 : BitVec 32) : BitVec 32 :=
  let c0_i32_791 : BitVec 32 := 0#32
  let c32_i32_790 : BitVec 32 := 32#32
  let v1654 : BitVec 32 := Scalar.muli v1653 c32_i32_790
  let v1655 : BitVec 32 := Scalar.addi c0_i32_791 v1654
  v1655

def k0_off172 (v1653 : BitVec 32) : Fin 1 → Nat :=
  let c0_i32_791 : BitVec 32 := 0#32
  let c32_i32_790 : BitVec 32 := 32#32
  let v1654 : BitVec 32 := Scalar.muli v1653 c32_i32_790
  let v1655 : BitVec 32 := Scalar.addi c0_i32_791 v1654
  let v1656 : BitVec 32 := v1655
  ![v1656.toNat]
def k0_mult87 (v1662 : BitVec 32) : BitVec 32 :=
  let c0_i32_795 : BitVec 32 := 0#32
  let c32_i32_794 : BitVec 32 := 32#32
  let v1663 : BitVec 32 := Scalar.muli v1662 c32_i32_794
  let v1664 : BitVec 32 := Scalar.addi c0_i32_795 v1663
  v1664

def k0_off173 (v1662 : BitVec 32) : Fin 1 → Nat :=
  let c0_i32_795 : BitVec 32 := 0#32
  let c32_i32_794 : BitVec 32 := 32#32
  let v1663 : BitVec 32 := Scalar.muli v1662 c32_i32_794
  let v1664 : BitVec 32 := Scalar.addi c0_i32_795 v1663
  let v1665 : BitVec 32 := v1664
  ![v1665.toNat]
def k0_mult88 (v1671 : BitVec 32) : BitVec 32 :=
  let c0_i32_799 : BitVec 32 := 0#32
  let c32_i32_798 : BitVec 32 := 32#32
  let v1672 : BitVec 32 := Scalar.muli v1671 c32_i32_798
  let v1673 : BitVec 32 := Scalar.addi c0_i32_799 v1672
  v1673

def k0_off174 (v1671 : BitVec 32) : Fin 1 → Nat :=
  let c0_i32_799 : BitVec 32 := 0#32
  let c32_i32_798 : BitVec 32 := 32#32
  let v1672 : BitVec 32 := Scalar.muli v1671 c32_i32_798
  let v1673 : BitVec 32 := Scalar.addi c0_i32_799 v1672
  let v1674 : BitVec 32 := v1673
  ![v1674.toNat]
def k0_mult89 (v1680 : BitVec 32) : BitVec 32 :=
  let c0_i32_803 : BitVec 32 := 0#32
  let c32_i32_802 : BitVec 32 := 32#32
  let v1681 : BitVec 32 := Scalar.muli v1680 c32_i32_802
  let v1682 : BitVec 32 := Scalar.addi c0_i32_803 v1681
  v1682

def k0_off175 (v1680 : BitVec 32) : Fin 1 → Nat :=
  let c0_i32_803 : BitVec 32 := 0#32
  let c32_i32_802 : BitVec 32 := 32#32
  let v1681 : BitVec 32 := Scalar.muli v1680 c32_i32_802
  let v1682 : BitVec 32 := Scalar.addi c0_i32_803 v1681
  let v1683 : BitVec 32 := v1682
  ![v1683.toNat]
def k0_mult90 (v1689 : BitVec 32) : BitVec 32 :=
  let c0_i32_807 : BitVec 32 := 0#32
  let c32_i32_806 : BitVec 32 := 32#32
  let v1690 : BitVec 32 := Scalar.muli v1689 c32_i32_806
  let v1691 : BitVec 32 := Scalar.addi c0_i32_807 v1690
  v1691

def k0_off176 (v1689 : BitVec 32) : Fin 1 → Nat :=
  let c0_i32_807 : BitVec 32 := 0#32
  let c32_i32_806 : BitVec 32 := 32#32
  let v1690 : BitVec 32 := Scalar.muli v1689 c32_i32_806
  let v1691 : BitVec 32 := Scalar.addi c0_i32_807 v1690
  let v1692 : BitVec 32 := v1691
  ![v1692.toNat]
def k0_mult91 (v1698 : BitVec 32) : BitVec 32 :=
  let c0_i32_811 : BitVec 32 := 0#32
  let c32_i32_810 : BitVec 32 := 32#32
  let v1699 : BitVec 32 := Scalar.muli v1698 c32_i32_810
  let v1700 : BitVec 32 := Scalar.addi c0_i32_811 v1699
  v1700

def k0_off177 (v1698 : BitVec 32) : Fin 1 → Nat :=
  let c0_i32_811 : BitVec 32 := 0#32
  let c32_i32_810 : BitVec 32 := 32#32
  let v1699 : BitVec 32 := Scalar.muli v1698 c32_i32_810
  let v1700 : BitVec 32 := Scalar.addi c0_i32_811 v1699
  let v1701 : BitVec 32 := v1700
  ![v1701.toNat]
def k0_mult92 (v1707 : BitVec 32) : BitVec 32 :=
  let c0_i32_815 : BitVec 32 := 0#32
  let c32_i32_814 : BitVec 32 := 32#32
  let v1708 : BitVec 32 := Scalar.muli v1707 c32_i32_814
  let v1709 : BitVec 32 := Scalar.addi c0_i32_815 v1708
  v1709

def k0_off178 (v1707 : BitVec 32) : Fin 1 → Nat :=
  let c0_i32_815 : BitVec 32 := 0#32
  let c32_i32_814 : BitVec 32 := 32#32
  let v1708 : BitVec 32 := Scalar.muli v1707 c32_i32_814
  let v1709 : BitVec 32 := Scalar.addi c0_i32_815 v1708
  let v1710 : BitVec 32 := v1709
  ![v1710.toNat]
def k0_mult93 (v1716 : BitVec 32) : BitVec 32 :=
  let c0_i32_819 : BitVec 32 := 0#32
  let c32_i32_818 : BitVec 32 := 32#32
  let v1717 : BitVec 32 := Scalar.muli v1716 c32_i32_818
  let v1718 : BitVec 32 := Scalar.addi c0_i32_819 v1717
  v1718

def k0_off179 (v1716 : BitVec 32) : Fin 1 → Nat :=
  let c0_i32_819 : BitVec 32 := 0#32
  let c32_i32_818 : BitVec 32 := 32#32
  let v1717 : BitVec 32 := Scalar.muli v1716 c32_i32_818
  let v1718 : BitVec 32 := Scalar.addi c0_i32_819 v1717
  let v1719 : BitVec 32 := v1718
  ![v1719.toNat]
def k0_mult94 (v1725 : BitVec 32) : BitVec 32 :=
  let c0_i32_823 : BitVec 32 := 0#32
  let c32_i32_822 : BitVec 32 := 32#32
  let v1726 : BitVec 32 := Scalar.muli v1725 c32_i32_822
  let v1727 : BitVec 32 := Scalar.addi c0_i32_823 v1726
  v1727

def k0_off180 (v1725 : BitVec 32) : Fin 1 → Nat :=
  let c0_i32_823 : BitVec 32 := 0#32
  let c32_i32_822 : BitVec 32 := 32#32
  let v1726 : BitVec 32 := Scalar.muli v1725 c32_i32_822
  let v1727 : BitVec 32 := Scalar.addi c0_i32_823 v1726
  let v1728 : BitVec 32 := v1727
  ![v1728.toNat]
def k0_mult95 (v1734 : BitVec 32) : BitVec 32 :=
  let c0_i32_827 : BitVec 32 := 0#32
  let c32_i32_826 : BitVec 32 := 32#32
  let v1735 : BitVec 32 := Scalar.muli v1734 c32_i32_826
  let v1736 : BitVec 32 := Scalar.addi c0_i32_827 v1735
  v1736

def k0_off181 (v1734 : BitVec 32) : Fin 1 → Nat :=
  let c0_i32_827 : BitVec 32 := 0#32
  let c32_i32_826 : BitVec 32 := 32#32
  let v1735 : BitVec 32 := Scalar.muli v1734 c32_i32_826
  let v1736 : BitVec 32 := Scalar.addi c0_i32_827 v1735
  let v1737 : BitVec 32 := v1736
  ![v1737.toNat]
def k0_mult96 (v1743 : BitVec 32) : BitVec 32 :=
  let c0_i32_831 : BitVec 32 := 0#32
  let c32_i32_830 : BitVec 32 := 32#32
  let v1744 : BitVec 32 := Scalar.muli v1743 c32_i32_830
  let v1745 : BitVec 32 := Scalar.addi c0_i32_831 v1744
  v1745

def k0_off182 (v1743 : BitVec 32) : Fin 1 → Nat :=
  let c0_i32_831 : BitVec 32 := 0#32
  let c32_i32_830 : BitVec 32 := 32#32
  let v1744 : BitVec 32 := Scalar.muli v1743 c32_i32_830
  let v1745 : BitVec 32 := Scalar.addi c0_i32_831 v1744
  let v1746 : BitVec 32 := v1745
  ![v1746.toNat]
def k0_mult97 (v1752 : BitVec 32) : BitVec 32 :=
  let c0_i32_835 : BitVec 32 := 0#32
  let c32_i32_834 : BitVec 32 := 32#32
  let v1753 : BitVec 32 := Scalar.muli v1752 c32_i32_834
  let v1754 : BitVec 32 := Scalar.addi c0_i32_835 v1753
  v1754

def k0_off183 (v1752 : BitVec 32) : Fin 1 → Nat :=
  let c0_i32_835 : BitVec 32 := 0#32
  let c32_i32_834 : BitVec 32 := 32#32
  let v1753 : BitVec 32 := Scalar.muli v1752 c32_i32_834
  let v1754 : BitVec 32 := Scalar.addi c0_i32_835 v1753
  let v1755 : BitVec 32 := v1754
  ![v1755.toNat]

def k0_chk120 (v1752 : BitVec 32) : Prop :=
  (8 ∣ (k0_mult97 v1752).toNat) ∧
  (∀ a, (k0_off183 v1752) a + S32.size a ≤ S3407872.size a)
theorem k0_mult97_dvd : ∀ (v1752 : BitVec 32) (k0_hw120 : k0_chk120 v1752), 8 ∣ (k0_mult97 v1752).toNat := fun v1752 k0_hw120 => k0_hw120.1
theorem k0_off183_inb : ∀ (v1752 : BitVec 32) (k0_hw120 : k0_chk120 v1752), ∀ a, (k0_off183 v1752) a + S32.size a ≤ S3407872.size a := fun v1752 k0_hw120 => k0_hw120.2

def k0_off184 (v1617 : BitVec 32) : Fin 1 → Nat :=
  let c0_i32_775 : BitVec 32 := 0#32
  let c32_i32_774 : BitVec 32 := 32#32
  let v1618 : BitVec 32 := Scalar.muli v1617 c32_i32_774
  let v1619 : BitVec 32 := Scalar.addi c0_i32_775 v1618
  let v1620 : BitVec 32 := v1619
  ![v1620.toNat]

def k0_chk105 (v1617 : BitVec 32) : Prop :=
  (8 ∣ (k0_mult82 v1617).toNat) ∧
  (∀ a, (k0_off168 v1617) a + S32.size a ≤ S3407872.size a) ∧
  (∀ a, (k0_off184 v1617) a + S32.size a ≤ S3407872.size a)
theorem k0_mult82_dvd : ∀ (v1617 : BitVec 32) (k0_hw105 : k0_chk105 v1617), 8 ∣ (k0_mult82 v1617).toNat := fun v1617 k0_hw105 => k0_hw105.1
theorem k0_off168_inb : ∀ (v1617 : BitVec 32) (k0_hw105 : k0_chk105 v1617), ∀ a, (k0_off168 v1617) a + S32.size a ≤ S3407872.size a := fun v1617 k0_hw105 => k0_hw105.2.1
theorem k0_off184_inb : ∀ (v1617 : BitVec 32) (k0_hw105 : k0_chk105 v1617), ∀ a, (k0_off184 v1617) a + S32.size a ≤ S3407872.size a := fun v1617 k0_hw105 => k0_hw105.2.2

def k0_off185 (v1626 : BitVec 32) : Fin 1 → Nat :=
  let c0_i32_779 : BitVec 32 := 0#32
  let c32_i32_778 : BitVec 32 := 32#32
  let v1627 : BitVec 32 := Scalar.muli v1626 c32_i32_778
  let v1628 : BitVec 32 := Scalar.addi c0_i32_779 v1627
  let v1629 : BitVec 32 := v1628
  ![v1629.toNat]

def k0_chk106 (v1626 : BitVec 32) : Prop :=
  (8 ∣ (k0_mult83 v1626).toNat) ∧
  (∀ a, (k0_off169 v1626) a + S32.size a ≤ S3407872.size a) ∧
  (∀ a, (k0_off185 v1626) a + S32.size a ≤ S3407872.size a)
theorem k0_mult83_dvd : ∀ (v1626 : BitVec 32) (k0_hw106 : k0_chk106 v1626), 8 ∣ (k0_mult83 v1626).toNat := fun v1626 k0_hw106 => k0_hw106.1
theorem k0_off169_inb : ∀ (v1626 : BitVec 32) (k0_hw106 : k0_chk106 v1626), ∀ a, (k0_off169 v1626) a + S32.size a ≤ S3407872.size a := fun v1626 k0_hw106 => k0_hw106.2.1
theorem k0_off185_inb : ∀ (v1626 : BitVec 32) (k0_hw106 : k0_chk106 v1626), ∀ a, (k0_off185 v1626) a + S32.size a ≤ S3407872.size a := fun v1626 k0_hw106 => k0_hw106.2.2

def k0_off186 (v1635 : BitVec 32) : Fin 1 → Nat :=
  let c0_i32_783 : BitVec 32 := 0#32
  let c32_i32_782 : BitVec 32 := 32#32
  let v1636 : BitVec 32 := Scalar.muli v1635 c32_i32_782
  let v1637 : BitVec 32 := Scalar.addi c0_i32_783 v1636
  let v1638 : BitVec 32 := v1637
  ![v1638.toNat]

def k0_chk107 (v1635 : BitVec 32) : Prop :=
  (8 ∣ (k0_mult84 v1635).toNat) ∧
  (∀ a, (k0_off170 v1635) a + S32.size a ≤ S3407872.size a) ∧
  (∀ a, (k0_off186 v1635) a + S32.size a ≤ S3407872.size a)
theorem k0_mult84_dvd : ∀ (v1635 : BitVec 32) (k0_hw107 : k0_chk107 v1635), 8 ∣ (k0_mult84 v1635).toNat := fun v1635 k0_hw107 => k0_hw107.1
theorem k0_off170_inb : ∀ (v1635 : BitVec 32) (k0_hw107 : k0_chk107 v1635), ∀ a, (k0_off170 v1635) a + S32.size a ≤ S3407872.size a := fun v1635 k0_hw107 => k0_hw107.2.1
theorem k0_off186_inb : ∀ (v1635 : BitVec 32) (k0_hw107 : k0_chk107 v1635), ∀ a, (k0_off186 v1635) a + S32.size a ≤ S3407872.size a := fun v1635 k0_hw107 => k0_hw107.2.2

def k0_off187 (v1644 : BitVec 32) : Fin 1 → Nat :=
  let c0_i32_787 : BitVec 32 := 0#32
  let c32_i32_786 : BitVec 32 := 32#32
  let v1645 : BitVec 32 := Scalar.muli v1644 c32_i32_786
  let v1646 : BitVec 32 := Scalar.addi c0_i32_787 v1645
  let v1647 : BitVec 32 := v1646
  ![v1647.toNat]

def k0_chk108 (v1644 : BitVec 32) : Prop :=
  (8 ∣ (k0_mult85 v1644).toNat) ∧
  (∀ a, (k0_off171 v1644) a + S32.size a ≤ S3407872.size a) ∧
  (∀ a, (k0_off187 v1644) a + S32.size a ≤ S3407872.size a)
theorem k0_mult85_dvd : ∀ (v1644 : BitVec 32) (k0_hw108 : k0_chk108 v1644), 8 ∣ (k0_mult85 v1644).toNat := fun v1644 k0_hw108 => k0_hw108.1
theorem k0_off171_inb : ∀ (v1644 : BitVec 32) (k0_hw108 : k0_chk108 v1644), ∀ a, (k0_off171 v1644) a + S32.size a ≤ S3407872.size a := fun v1644 k0_hw108 => k0_hw108.2.1
theorem k0_off187_inb : ∀ (v1644 : BitVec 32) (k0_hw108 : k0_chk108 v1644), ∀ a, (k0_off187 v1644) a + S32.size a ≤ S3407872.size a := fun v1644 k0_hw108 => k0_hw108.2.2

def k0_off188 (v1653 : BitVec 32) : Fin 1 → Nat :=
  let c0_i32_791 : BitVec 32 := 0#32
  let c32_i32_790 : BitVec 32 := 32#32
  let v1654 : BitVec 32 := Scalar.muli v1653 c32_i32_790
  let v1655 : BitVec 32 := Scalar.addi c0_i32_791 v1654
  let v1656 : BitVec 32 := v1655
  ![v1656.toNat]

def k0_chk109 (v1653 : BitVec 32) : Prop :=
  (8 ∣ (k0_mult86 v1653).toNat) ∧
  (∀ a, (k0_off172 v1653) a + S32.size a ≤ S3407872.size a) ∧
  (∀ a, (k0_off188 v1653) a + S32.size a ≤ S3407872.size a)
theorem k0_mult86_dvd : ∀ (v1653 : BitVec 32) (k0_hw109 : k0_chk109 v1653), 8 ∣ (k0_mult86 v1653).toNat := fun v1653 k0_hw109 => k0_hw109.1
theorem k0_off172_inb : ∀ (v1653 : BitVec 32) (k0_hw109 : k0_chk109 v1653), ∀ a, (k0_off172 v1653) a + S32.size a ≤ S3407872.size a := fun v1653 k0_hw109 => k0_hw109.2.1
theorem k0_off188_inb : ∀ (v1653 : BitVec 32) (k0_hw109 : k0_chk109 v1653), ∀ a, (k0_off188 v1653) a + S32.size a ≤ S3407872.size a := fun v1653 k0_hw109 => k0_hw109.2.2

def k0_off189 (v1662 : BitVec 32) : Fin 1 → Nat :=
  let c0_i32_795 : BitVec 32 := 0#32
  let c32_i32_794 : BitVec 32 := 32#32
  let v1663 : BitVec 32 := Scalar.muli v1662 c32_i32_794
  let v1664 : BitVec 32 := Scalar.addi c0_i32_795 v1663
  let v1665 : BitVec 32 := v1664
  ![v1665.toNat]

def k0_chk110 (v1662 : BitVec 32) : Prop :=
  (8 ∣ (k0_mult87 v1662).toNat) ∧
  (∀ a, (k0_off173 v1662) a + S32.size a ≤ S3407872.size a) ∧
  (∀ a, (k0_off189 v1662) a + S32.size a ≤ S3407872.size a)
theorem k0_mult87_dvd : ∀ (v1662 : BitVec 32) (k0_hw110 : k0_chk110 v1662), 8 ∣ (k0_mult87 v1662).toNat := fun v1662 k0_hw110 => k0_hw110.1
theorem k0_off173_inb : ∀ (v1662 : BitVec 32) (k0_hw110 : k0_chk110 v1662), ∀ a, (k0_off173 v1662) a + S32.size a ≤ S3407872.size a := fun v1662 k0_hw110 => k0_hw110.2.1
theorem k0_off189_inb : ∀ (v1662 : BitVec 32) (k0_hw110 : k0_chk110 v1662), ∀ a, (k0_off189 v1662) a + S32.size a ≤ S3407872.size a := fun v1662 k0_hw110 => k0_hw110.2.2

def k0_off190 (v1671 : BitVec 32) : Fin 1 → Nat :=
  let c0_i32_799 : BitVec 32 := 0#32
  let c32_i32_798 : BitVec 32 := 32#32
  let v1672 : BitVec 32 := Scalar.muli v1671 c32_i32_798
  let v1673 : BitVec 32 := Scalar.addi c0_i32_799 v1672
  let v1674 : BitVec 32 := v1673
  ![v1674.toNat]

def k0_chk111 (v1671 : BitVec 32) : Prop :=
  (8 ∣ (k0_mult88 v1671).toNat) ∧
  (∀ a, (k0_off174 v1671) a + S32.size a ≤ S3407872.size a) ∧
  (∀ a, (k0_off190 v1671) a + S32.size a ≤ S3407872.size a)
theorem k0_mult88_dvd : ∀ (v1671 : BitVec 32) (k0_hw111 : k0_chk111 v1671), 8 ∣ (k0_mult88 v1671).toNat := fun v1671 k0_hw111 => k0_hw111.1
theorem k0_off174_inb : ∀ (v1671 : BitVec 32) (k0_hw111 : k0_chk111 v1671), ∀ a, (k0_off174 v1671) a + S32.size a ≤ S3407872.size a := fun v1671 k0_hw111 => k0_hw111.2.1
theorem k0_off190_inb : ∀ (v1671 : BitVec 32) (k0_hw111 : k0_chk111 v1671), ∀ a, (k0_off190 v1671) a + S32.size a ≤ S3407872.size a := fun v1671 k0_hw111 => k0_hw111.2.2

def k0_off191 (v1680 : BitVec 32) : Fin 1 → Nat :=
  let c0_i32_803 : BitVec 32 := 0#32
  let c32_i32_802 : BitVec 32 := 32#32
  let v1681 : BitVec 32 := Scalar.muli v1680 c32_i32_802
  let v1682 : BitVec 32 := Scalar.addi c0_i32_803 v1681
  let v1683 : BitVec 32 := v1682
  ![v1683.toNat]

def k0_chk112 (v1680 : BitVec 32) : Prop :=
  (8 ∣ (k0_mult89 v1680).toNat) ∧
  (∀ a, (k0_off175 v1680) a + S32.size a ≤ S3407872.size a) ∧
  (∀ a, (k0_off191 v1680) a + S32.size a ≤ S3407872.size a)
theorem k0_mult89_dvd : ∀ (v1680 : BitVec 32) (k0_hw112 : k0_chk112 v1680), 8 ∣ (k0_mult89 v1680).toNat := fun v1680 k0_hw112 => k0_hw112.1
theorem k0_off175_inb : ∀ (v1680 : BitVec 32) (k0_hw112 : k0_chk112 v1680), ∀ a, (k0_off175 v1680) a + S32.size a ≤ S3407872.size a := fun v1680 k0_hw112 => k0_hw112.2.1
theorem k0_off191_inb : ∀ (v1680 : BitVec 32) (k0_hw112 : k0_chk112 v1680), ∀ a, (k0_off191 v1680) a + S32.size a ≤ S3407872.size a := fun v1680 k0_hw112 => k0_hw112.2.2

def k0_off192 (v1689 : BitVec 32) : Fin 1 → Nat :=
  let c0_i32_807 : BitVec 32 := 0#32
  let c32_i32_806 : BitVec 32 := 32#32
  let v1690 : BitVec 32 := Scalar.muli v1689 c32_i32_806
  let v1691 : BitVec 32 := Scalar.addi c0_i32_807 v1690
  let v1692 : BitVec 32 := v1691
  ![v1692.toNat]

def k0_chk113 (v1689 : BitVec 32) : Prop :=
  (8 ∣ (k0_mult90 v1689).toNat) ∧
  (∀ a, (k0_off176 v1689) a + S32.size a ≤ S3407872.size a) ∧
  (∀ a, (k0_off192 v1689) a + S32.size a ≤ S3407872.size a)
theorem k0_mult90_dvd : ∀ (v1689 : BitVec 32) (k0_hw113 : k0_chk113 v1689), 8 ∣ (k0_mult90 v1689).toNat := fun v1689 k0_hw113 => k0_hw113.1
theorem k0_off176_inb : ∀ (v1689 : BitVec 32) (k0_hw113 : k0_chk113 v1689), ∀ a, (k0_off176 v1689) a + S32.size a ≤ S3407872.size a := fun v1689 k0_hw113 => k0_hw113.2.1
theorem k0_off192_inb : ∀ (v1689 : BitVec 32) (k0_hw113 : k0_chk113 v1689), ∀ a, (k0_off192 v1689) a + S32.size a ≤ S3407872.size a := fun v1689 k0_hw113 => k0_hw113.2.2

def k0_off193 (v1698 : BitVec 32) : Fin 1 → Nat :=
  let c0_i32_811 : BitVec 32 := 0#32
  let c32_i32_810 : BitVec 32 := 32#32
  let v1699 : BitVec 32 := Scalar.muli v1698 c32_i32_810
  let v1700 : BitVec 32 := Scalar.addi c0_i32_811 v1699
  let v1701 : BitVec 32 := v1700
  ![v1701.toNat]

def k0_chk114 (v1698 : BitVec 32) : Prop :=
  (8 ∣ (k0_mult91 v1698).toNat) ∧
  (∀ a, (k0_off177 v1698) a + S32.size a ≤ S3407872.size a) ∧
  (∀ a, (k0_off193 v1698) a + S32.size a ≤ S3407872.size a)
theorem k0_mult91_dvd : ∀ (v1698 : BitVec 32) (k0_hw114 : k0_chk114 v1698), 8 ∣ (k0_mult91 v1698).toNat := fun v1698 k0_hw114 => k0_hw114.1
theorem k0_off177_inb : ∀ (v1698 : BitVec 32) (k0_hw114 : k0_chk114 v1698), ∀ a, (k0_off177 v1698) a + S32.size a ≤ S3407872.size a := fun v1698 k0_hw114 => k0_hw114.2.1
theorem k0_off193_inb : ∀ (v1698 : BitVec 32) (k0_hw114 : k0_chk114 v1698), ∀ a, (k0_off193 v1698) a + S32.size a ≤ S3407872.size a := fun v1698 k0_hw114 => k0_hw114.2.2

def k0_off194 (v1707 : BitVec 32) : Fin 1 → Nat :=
  let c0_i32_815 : BitVec 32 := 0#32
  let c32_i32_814 : BitVec 32 := 32#32
  let v1708 : BitVec 32 := Scalar.muli v1707 c32_i32_814
  let v1709 : BitVec 32 := Scalar.addi c0_i32_815 v1708
  let v1710 : BitVec 32 := v1709
  ![v1710.toNat]

def k0_chk115 (v1707 : BitVec 32) : Prop :=
  (8 ∣ (k0_mult92 v1707).toNat) ∧
  (∀ a, (k0_off178 v1707) a + S32.size a ≤ S3407872.size a) ∧
  (∀ a, (k0_off194 v1707) a + S32.size a ≤ S3407872.size a)
theorem k0_mult92_dvd : ∀ (v1707 : BitVec 32) (k0_hw115 : k0_chk115 v1707), 8 ∣ (k0_mult92 v1707).toNat := fun v1707 k0_hw115 => k0_hw115.1
theorem k0_off178_inb : ∀ (v1707 : BitVec 32) (k0_hw115 : k0_chk115 v1707), ∀ a, (k0_off178 v1707) a + S32.size a ≤ S3407872.size a := fun v1707 k0_hw115 => k0_hw115.2.1
theorem k0_off194_inb : ∀ (v1707 : BitVec 32) (k0_hw115 : k0_chk115 v1707), ∀ a, (k0_off194 v1707) a + S32.size a ≤ S3407872.size a := fun v1707 k0_hw115 => k0_hw115.2.2

def k0_off195 (v1716 : BitVec 32) : Fin 1 → Nat :=
  let c0_i32_819 : BitVec 32 := 0#32
  let c32_i32_818 : BitVec 32 := 32#32
  let v1717 : BitVec 32 := Scalar.muli v1716 c32_i32_818
  let v1718 : BitVec 32 := Scalar.addi c0_i32_819 v1717
  let v1719 : BitVec 32 := v1718
  ![v1719.toNat]

def k0_chk116 (v1716 : BitVec 32) : Prop :=
  (8 ∣ (k0_mult93 v1716).toNat) ∧
  (∀ a, (k0_off179 v1716) a + S32.size a ≤ S3407872.size a) ∧
  (∀ a, (k0_off195 v1716) a + S32.size a ≤ S3407872.size a)
theorem k0_mult93_dvd : ∀ (v1716 : BitVec 32) (k0_hw116 : k0_chk116 v1716), 8 ∣ (k0_mult93 v1716).toNat := fun v1716 k0_hw116 => k0_hw116.1
theorem k0_off179_inb : ∀ (v1716 : BitVec 32) (k0_hw116 : k0_chk116 v1716), ∀ a, (k0_off179 v1716) a + S32.size a ≤ S3407872.size a := fun v1716 k0_hw116 => k0_hw116.2.1
theorem k0_off195_inb : ∀ (v1716 : BitVec 32) (k0_hw116 : k0_chk116 v1716), ∀ a, (k0_off195 v1716) a + S32.size a ≤ S3407872.size a := fun v1716 k0_hw116 => k0_hw116.2.2

def k0_off196 (v1725 : BitVec 32) : Fin 1 → Nat :=
  let c0_i32_823 : BitVec 32 := 0#32
  let c32_i32_822 : BitVec 32 := 32#32
  let v1726 : BitVec 32 := Scalar.muli v1725 c32_i32_822
  let v1727 : BitVec 32 := Scalar.addi c0_i32_823 v1726
  let v1728 : BitVec 32 := v1727
  ![v1728.toNat]

def k0_chk117 (v1725 : BitVec 32) : Prop :=
  (8 ∣ (k0_mult94 v1725).toNat) ∧
  (∀ a, (k0_off180 v1725) a + S32.size a ≤ S3407872.size a) ∧
  (∀ a, (k0_off196 v1725) a + S32.size a ≤ S3407872.size a)
theorem k0_mult94_dvd : ∀ (v1725 : BitVec 32) (k0_hw117 : k0_chk117 v1725), 8 ∣ (k0_mult94 v1725).toNat := fun v1725 k0_hw117 => k0_hw117.1
theorem k0_off180_inb : ∀ (v1725 : BitVec 32) (k0_hw117 : k0_chk117 v1725), ∀ a, (k0_off180 v1725) a + S32.size a ≤ S3407872.size a := fun v1725 k0_hw117 => k0_hw117.2.1
theorem k0_off196_inb : ∀ (v1725 : BitVec 32) (k0_hw117 : k0_chk117 v1725), ∀ a, (k0_off196 v1725) a + S32.size a ≤ S3407872.size a := fun v1725 k0_hw117 => k0_hw117.2.2

def k0_off197 (v1734 : BitVec 32) : Fin 1 → Nat :=
  let c0_i32_827 : BitVec 32 := 0#32
  let c32_i32_826 : BitVec 32 := 32#32
  let v1735 : BitVec 32 := Scalar.muli v1734 c32_i32_826
  let v1736 : BitVec 32 := Scalar.addi c0_i32_827 v1735
  let v1737 : BitVec 32 := v1736
  ![v1737.toNat]

def k0_chk118 (v1734 : BitVec 32) : Prop :=
  (8 ∣ (k0_mult95 v1734).toNat) ∧
  (∀ a, (k0_off181 v1734) a + S32.size a ≤ S3407872.size a) ∧
  (∀ a, (k0_off197 v1734) a + S32.size a ≤ S3407872.size a)
theorem k0_mult95_dvd : ∀ (v1734 : BitVec 32) (k0_hw118 : k0_chk118 v1734), 8 ∣ (k0_mult95 v1734).toNat := fun v1734 k0_hw118 => k0_hw118.1
theorem k0_off181_inb : ∀ (v1734 : BitVec 32) (k0_hw118 : k0_chk118 v1734), ∀ a, (k0_off181 v1734) a + S32.size a ≤ S3407872.size a := fun v1734 k0_hw118 => k0_hw118.2.1
theorem k0_off197_inb : ∀ (v1734 : BitVec 32) (k0_hw118 : k0_chk118 v1734), ∀ a, (k0_off197 v1734) a + S32.size a ≤ S3407872.size a := fun v1734 k0_hw118 => k0_hw118.2.2

def k0_off198 (v1743 : BitVec 32) : Fin 1 → Nat :=
  let c0_i32_831 : BitVec 32 := 0#32
  let c32_i32_830 : BitVec 32 := 32#32
  let v1744 : BitVec 32 := Scalar.muli v1743 c32_i32_830
  let v1745 : BitVec 32 := Scalar.addi c0_i32_831 v1744
  let v1746 : BitVec 32 := v1745
  ![v1746.toNat]

def k0_chk119 (v1743 : BitVec 32) : Prop :=
  (8 ∣ (k0_mult96 v1743).toNat) ∧
  (∀ a, (k0_off182 v1743) a + S32.size a ≤ S3407872.size a) ∧
  (∀ a, (k0_off198 v1743) a + S32.size a ≤ S3407872.size a)
theorem k0_mult96_dvd : ∀ (v1743 : BitVec 32) (k0_hw119 : k0_chk119 v1743), 8 ∣ (k0_mult96 v1743).toNat := fun v1743 k0_hw119 => k0_hw119.1
theorem k0_off182_inb : ∀ (v1743 : BitVec 32) (k0_hw119 : k0_chk119 v1743), ∀ a, (k0_off182 v1743) a + S32.size a ≤ S3407872.size a := fun v1743 k0_hw119 => k0_hw119.2.1
theorem k0_off198_inb : ∀ (v1743 : BitVec 32) (k0_hw119 : k0_chk119 v1743), ∀ a, (k0_off198 v1743) a + S32.size a ≤ S3407872.size a := fun v1743 k0_hw119 => k0_hw119.2.2

def k0_mult98 (v1827 : BitVec 32) : BitVec 32 :=
  let c999936_i32_872 : BitVec 32 := 999936#32
  let v1828 : BitVec 32 := Scalar.subi v1827 c999936_i32_872
  let c32_i32_873 : BitVec 32 := 32#32
  let v1829 : BitVec 32 := Scalar.muli v1828 c32_i32_873
  v1829

def k0_off199 (v1827 : BitVec 32) : Fin 1 → Nat :=
  let c999936_i32_872 : BitVec 32 := 999936#32
  let v1828 : BitVec 32 := Scalar.subi v1827 c999936_i32_872
  let c32_i32_873 : BitVec 32 := 32#32
  let v1829 : BitVec 32 := Scalar.muli v1828 c32_i32_873
  let v1830 : BitVec 32 := v1829
  ![v1830.toNat]
def k0_mult99 (v1836 : BitVec 32) : BitVec 32 :=
  let c999936_i32_875 : BitVec 32 := 999936#32
  let v1837 : BitVec 32 := Scalar.subi v1836 c999936_i32_875
  let c32_i32_876 : BitVec 32 := 32#32
  let v1838 : BitVec 32 := Scalar.muli v1837 c32_i32_876
  v1838

def k0_off200 (v1836 : BitVec 32) : Fin 1 → Nat :=
  let c999936_i32_875 : BitVec 32 := 999936#32
  let v1837 : BitVec 32 := Scalar.subi v1836 c999936_i32_875
  let c32_i32_876 : BitVec 32 := 32#32
  let v1838 : BitVec 32 := Scalar.muli v1837 c32_i32_876
  let v1839 : BitVec 32 := v1838
  ![v1839.toNat]
def k0_mult100 (v1845 : BitVec 32) : BitVec 32 :=
  let c999936_i32_878 : BitVec 32 := 999936#32
  let v1846 : BitVec 32 := Scalar.subi v1845 c999936_i32_878
  let c32_i32_879 : BitVec 32 := 32#32
  let v1847 : BitVec 32 := Scalar.muli v1846 c32_i32_879
  v1847

def k0_off201 (v1845 : BitVec 32) : Fin 1 → Nat :=
  let c999936_i32_878 : BitVec 32 := 999936#32
  let v1846 : BitVec 32 := Scalar.subi v1845 c999936_i32_878
  let c32_i32_879 : BitVec 32 := 32#32
  let v1847 : BitVec 32 := Scalar.muli v1846 c32_i32_879
  let v1848 : BitVec 32 := v1847
  ![v1848.toNat]
def k0_mult101 (v1854 : BitVec 32) : BitVec 32 :=
  let c999936_i32_881 : BitVec 32 := 999936#32
  let v1855 : BitVec 32 := Scalar.subi v1854 c999936_i32_881
  let c32_i32_882 : BitVec 32 := 32#32
  let v1856 : BitVec 32 := Scalar.muli v1855 c32_i32_882
  v1856

def k0_off202 (v1854 : BitVec 32) : Fin 1 → Nat :=
  let c999936_i32_881 : BitVec 32 := 999936#32
  let v1855 : BitVec 32 := Scalar.subi v1854 c999936_i32_881
  let c32_i32_882 : BitVec 32 := 32#32
  let v1856 : BitVec 32 := Scalar.muli v1855 c32_i32_882
  let v1857 : BitVec 32 := v1856
  ![v1857.toNat]
def k0_mult102 (v1863 : BitVec 32) : BitVec 32 :=
  let c999936_i32_884 : BitVec 32 := 999936#32
  let v1864 : BitVec 32 := Scalar.subi v1863 c999936_i32_884
  let c32_i32_885 : BitVec 32 := 32#32
  let v1865 : BitVec 32 := Scalar.muli v1864 c32_i32_885
  v1865

def k0_off203 (v1863 : BitVec 32) : Fin 1 → Nat :=
  let c999936_i32_884 : BitVec 32 := 999936#32
  let v1864 : BitVec 32 := Scalar.subi v1863 c999936_i32_884
  let c32_i32_885 : BitVec 32 := 32#32
  let v1865 : BitVec 32 := Scalar.muli v1864 c32_i32_885
  let v1866 : BitVec 32 := v1865
  ![v1866.toNat]
def k0_mult103 (v1872 : BitVec 32) : BitVec 32 :=
  let c999936_i32_887 : BitVec 32 := 999936#32
  let v1873 : BitVec 32 := Scalar.subi v1872 c999936_i32_887
  let c32_i32_888 : BitVec 32 := 32#32
  let v1874 : BitVec 32 := Scalar.muli v1873 c32_i32_888
  v1874

def k0_off204 (v1872 : BitVec 32) : Fin 1 → Nat :=
  let c999936_i32_887 : BitVec 32 := 999936#32
  let v1873 : BitVec 32 := Scalar.subi v1872 c999936_i32_887
  let c32_i32_888 : BitVec 32 := 32#32
  let v1874 : BitVec 32 := Scalar.muli v1873 c32_i32_888
  let v1875 : BitVec 32 := v1874
  ![v1875.toNat]
def k0_mult104 (v1881 : BitVec 32) : BitVec 32 :=
  let c999936_i32_890 : BitVec 32 := 999936#32
  let v1882 : BitVec 32 := Scalar.subi v1881 c999936_i32_890
  let c32_i32_891 : BitVec 32 := 32#32
  let v1883 : BitVec 32 := Scalar.muli v1882 c32_i32_891
  v1883

def k0_off205 (v1881 : BitVec 32) : Fin 1 → Nat :=
  let c999936_i32_890 : BitVec 32 := 999936#32
  let v1882 : BitVec 32 := Scalar.subi v1881 c999936_i32_890
  let c32_i32_891 : BitVec 32 := 32#32
  let v1883 : BitVec 32 := Scalar.muli v1882 c32_i32_891
  let v1884 : BitVec 32 := v1883
  ![v1884.toNat]
def k0_mult105 (v1890 : BitVec 32) : BitVec 32 :=
  let c999936_i32_893 : BitVec 32 := 999936#32
  let v1891 : BitVec 32 := Scalar.subi v1890 c999936_i32_893
  let c32_i32_894 : BitVec 32 := 32#32
  let v1892 : BitVec 32 := Scalar.muli v1891 c32_i32_894
  v1892

def k0_off206 (v1890 : BitVec 32) : Fin 1 → Nat :=
  let c999936_i32_893 : BitVec 32 := 999936#32
  let v1891 : BitVec 32 := Scalar.subi v1890 c999936_i32_893
  let c32_i32_894 : BitVec 32 := 32#32
  let v1892 : BitVec 32 := Scalar.muli v1891 c32_i32_894
  let v1893 : BitVec 32 := v1892
  ![v1893.toNat]
def k0_mult106 (v1899 : BitVec 32) : BitVec 32 :=
  let c999936_i32_896 : BitVec 32 := 999936#32
  let v1900 : BitVec 32 := Scalar.subi v1899 c999936_i32_896
  let c32_i32_897 : BitVec 32 := 32#32
  let v1901 : BitVec 32 := Scalar.muli v1900 c32_i32_897
  v1901

def k0_off207 (v1899 : BitVec 32) : Fin 1 → Nat :=
  let c999936_i32_896 : BitVec 32 := 999936#32
  let v1900 : BitVec 32 := Scalar.subi v1899 c999936_i32_896
  let c32_i32_897 : BitVec 32 := 32#32
  let v1901 : BitVec 32 := Scalar.muli v1900 c32_i32_897
  let v1902 : BitVec 32 := v1901
  ![v1902.toNat]
def k0_mult107 (v1908 : BitVec 32) : BitVec 32 :=
  let c999936_i32_899 : BitVec 32 := 999936#32
  let v1909 : BitVec 32 := Scalar.subi v1908 c999936_i32_899
  let c32_i32_900 : BitVec 32 := 32#32
  let v1910 : BitVec 32 := Scalar.muli v1909 c32_i32_900
  v1910

def k0_off208 (v1908 : BitVec 32) : Fin 1 → Nat :=
  let c999936_i32_899 : BitVec 32 := 999936#32
  let v1909 : BitVec 32 := Scalar.subi v1908 c999936_i32_899
  let c32_i32_900 : BitVec 32 := 32#32
  let v1910 : BitVec 32 := Scalar.muli v1909 c32_i32_900
  let v1911 : BitVec 32 := v1910
  ![v1911.toNat]
def k0_mult108 (v1917 : BitVec 32) : BitVec 32 :=
  let c999936_i32_902 : BitVec 32 := 999936#32
  let v1918 : BitVec 32 := Scalar.subi v1917 c999936_i32_902
  let c32_i32_903 : BitVec 32 := 32#32
  let v1919 : BitVec 32 := Scalar.muli v1918 c32_i32_903
  v1919

def k0_off209 (v1917 : BitVec 32) : Fin 1 → Nat :=
  let c999936_i32_902 : BitVec 32 := 999936#32
  let v1918 : BitVec 32 := Scalar.subi v1917 c999936_i32_902
  let c32_i32_903 : BitVec 32 := 32#32
  let v1919 : BitVec 32 := Scalar.muli v1918 c32_i32_903
  let v1920 : BitVec 32 := v1919
  ![v1920.toNat]
def k0_mult109 (v1926 : BitVec 32) : BitVec 32 :=
  let c999936_i32_905 : BitVec 32 := 999936#32
  let v1927 : BitVec 32 := Scalar.subi v1926 c999936_i32_905
  let c32_i32_906 : BitVec 32 := 32#32
  let v1928 : BitVec 32 := Scalar.muli v1927 c32_i32_906
  v1928

def k0_off210 (v1926 : BitVec 32) : Fin 1 → Nat :=
  let c999936_i32_905 : BitVec 32 := 999936#32
  let v1927 : BitVec 32 := Scalar.subi v1926 c999936_i32_905
  let c32_i32_906 : BitVec 32 := 32#32
  let v1928 : BitVec 32 := Scalar.muli v1927 c32_i32_906
  let v1929 : BitVec 32 := v1928
  ![v1929.toNat]
def k0_mult110 (v1935 : BitVec 32) : BitVec 32 :=
  let c999936_i32_908 : BitVec 32 := 999936#32
  let v1936 : BitVec 32 := Scalar.subi v1935 c999936_i32_908
  let c32_i32_909 : BitVec 32 := 32#32
  let v1937 : BitVec 32 := Scalar.muli v1936 c32_i32_909
  v1937

def k0_off211 (v1935 : BitVec 32) : Fin 1 → Nat :=
  let c999936_i32_908 : BitVec 32 := 999936#32
  let v1936 : BitVec 32 := Scalar.subi v1935 c999936_i32_908
  let c32_i32_909 : BitVec 32 := 32#32
  let v1937 : BitVec 32 := Scalar.muli v1936 c32_i32_909
  let v1938 : BitVec 32 := v1937
  ![v1938.toNat]
def k0_mult111 (v1944 : BitVec 32) : BitVec 32 :=
  let c999936_i32_911 : BitVec 32 := 999936#32
  let v1945 : BitVec 32 := Scalar.subi v1944 c999936_i32_911
  let c32_i32_912 : BitVec 32 := 32#32
  let v1946 : BitVec 32 := Scalar.muli v1945 c32_i32_912
  v1946

def k0_off212 (v1944 : BitVec 32) : Fin 1 → Nat :=
  let c999936_i32_911 : BitVec 32 := 999936#32
  let v1945 : BitVec 32 := Scalar.subi v1944 c999936_i32_911
  let c32_i32_912 : BitVec 32 := 32#32
  let v1946 : BitVec 32 := Scalar.muli v1945 c32_i32_912
  let v1947 : BitVec 32 := v1946
  ![v1947.toNat]
def k0_mult112 (v1953 : BitVec 32) : BitVec 32 :=
  let c999936_i32_914 : BitVec 32 := 999936#32
  let v1954 : BitVec 32 := Scalar.subi v1953 c999936_i32_914
  let c32_i32_915 : BitVec 32 := 32#32
  let v1955 : BitVec 32 := Scalar.muli v1954 c32_i32_915
  v1955

def k0_off213 (v1953 : BitVec 32) : Fin 1 → Nat :=
  let c999936_i32_914 : BitVec 32 := 999936#32
  let v1954 : BitVec 32 := Scalar.subi v1953 c999936_i32_914
  let c32_i32_915 : BitVec 32 := 32#32
  let v1955 : BitVec 32 := Scalar.muli v1954 c32_i32_915
  let v1956 : BitVec 32 := v1955
  ![v1956.toNat]
def k0_mult113 (v1962 : BitVec 32) : BitVec 32 :=
  let c999936_i32_917 : BitVec 32 := 999936#32
  let v1963 : BitVec 32 := Scalar.subi v1962 c999936_i32_917
  let c32_i32_918 : BitVec 32 := 32#32
  let v1964 : BitVec 32 := Scalar.muli v1963 c32_i32_918
  v1964

def k0_off214 (v1962 : BitVec 32) : Fin 1 → Nat :=
  let c999936_i32_917 : BitVec 32 := 999936#32
  let v1963 : BitVec 32 := Scalar.subi v1962 c999936_i32_917
  let c32_i32_918 : BitVec 32 := 32#32
  let v1964 : BitVec 32 := Scalar.muli v1963 c32_i32_918
  let v1965 : BitVec 32 := v1964
  ![v1965.toNat]

def k0_chk136 (v1962 : BitVec 32) : Prop :=
  (8 ∣ (k0_mult113 v1962).toNat) ∧
  (∀ a, (k0_off214 v1962) a + S32.size a ≤ S2048.size a)
theorem k0_mult113_dvd : ∀ (v1962 : BitVec 32) (k0_hw136 : k0_chk136 v1962), 8 ∣ (k0_mult113 v1962).toNat := fun v1962 k0_hw136 => k0_hw136.1
theorem k0_off214_inb : ∀ (v1962 : BitVec 32) (k0_hw136 : k0_chk136 v1962), ∀ a, (k0_off214 v1962) a + S32.size a ≤ S2048.size a := fun v1962 k0_hw136 => k0_hw136.2

def k0_off215 (v1827 : BitVec 32) : Fin 1 → Nat :=
  let c999936_i32_872 : BitVec 32 := 999936#32
  let v1828 : BitVec 32 := Scalar.subi v1827 c999936_i32_872
  let c32_i32_873 : BitVec 32 := 32#32
  let v1829 : BitVec 32 := Scalar.muli v1828 c32_i32_873
  let v1830 : BitVec 32 := v1829
  ![v1830.toNat]

def k0_chk121 (v1827 : BitVec 32) : Prop :=
  (8 ∣ (k0_mult98 v1827).toNat) ∧
  (∀ a, (k0_off199 v1827) a + S32.size a ≤ S2048.size a) ∧
  (∀ a, (k0_off215 v1827) a + S32.size a ≤ S2048.size a)
theorem k0_mult98_dvd : ∀ (v1827 : BitVec 32) (k0_hw121 : k0_chk121 v1827), 8 ∣ (k0_mult98 v1827).toNat := fun v1827 k0_hw121 => k0_hw121.1
theorem k0_off199_inb : ∀ (v1827 : BitVec 32) (k0_hw121 : k0_chk121 v1827), ∀ a, (k0_off199 v1827) a + S32.size a ≤ S2048.size a := fun v1827 k0_hw121 => k0_hw121.2.1
theorem k0_off215_inb : ∀ (v1827 : BitVec 32) (k0_hw121 : k0_chk121 v1827), ∀ a, (k0_off215 v1827) a + S32.size a ≤ S2048.size a := fun v1827 k0_hw121 => k0_hw121.2.2

def k0_off216 (v1836 : BitVec 32) : Fin 1 → Nat :=
  let c999936_i32_875 : BitVec 32 := 999936#32
  let v1837 : BitVec 32 := Scalar.subi v1836 c999936_i32_875
  let c32_i32_876 : BitVec 32 := 32#32
  let v1838 : BitVec 32 := Scalar.muli v1837 c32_i32_876
  let v1839 : BitVec 32 := v1838
  ![v1839.toNat]

def k0_chk122 (v1836 : BitVec 32) : Prop :=
  (8 ∣ (k0_mult99 v1836).toNat) ∧
  (∀ a, (k0_off200 v1836) a + S32.size a ≤ S2048.size a) ∧
  (∀ a, (k0_off216 v1836) a + S32.size a ≤ S2048.size a)
theorem k0_mult99_dvd : ∀ (v1836 : BitVec 32) (k0_hw122 : k0_chk122 v1836), 8 ∣ (k0_mult99 v1836).toNat := fun v1836 k0_hw122 => k0_hw122.1
theorem k0_off200_inb : ∀ (v1836 : BitVec 32) (k0_hw122 : k0_chk122 v1836), ∀ a, (k0_off200 v1836) a + S32.size a ≤ S2048.size a := fun v1836 k0_hw122 => k0_hw122.2.1
theorem k0_off216_inb : ∀ (v1836 : BitVec 32) (k0_hw122 : k0_chk122 v1836), ∀ a, (k0_off216 v1836) a + S32.size a ≤ S2048.size a := fun v1836 k0_hw122 => k0_hw122.2.2

def k0_off217 (v1845 : BitVec 32) : Fin 1 → Nat :=
  let c999936_i32_878 : BitVec 32 := 999936#32
  let v1846 : BitVec 32 := Scalar.subi v1845 c999936_i32_878
  let c32_i32_879 : BitVec 32 := 32#32
  let v1847 : BitVec 32 := Scalar.muli v1846 c32_i32_879
  let v1848 : BitVec 32 := v1847
  ![v1848.toNat]

def k0_chk123 (v1845 : BitVec 32) : Prop :=
  (8 ∣ (k0_mult100 v1845).toNat) ∧
  (∀ a, (k0_off201 v1845) a + S32.size a ≤ S2048.size a) ∧
  (∀ a, (k0_off217 v1845) a + S32.size a ≤ S2048.size a)
theorem k0_mult100_dvd : ∀ (v1845 : BitVec 32) (k0_hw123 : k0_chk123 v1845), 8 ∣ (k0_mult100 v1845).toNat := fun v1845 k0_hw123 => k0_hw123.1
theorem k0_off201_inb : ∀ (v1845 : BitVec 32) (k0_hw123 : k0_chk123 v1845), ∀ a, (k0_off201 v1845) a + S32.size a ≤ S2048.size a := fun v1845 k0_hw123 => k0_hw123.2.1
theorem k0_off217_inb : ∀ (v1845 : BitVec 32) (k0_hw123 : k0_chk123 v1845), ∀ a, (k0_off217 v1845) a + S32.size a ≤ S2048.size a := fun v1845 k0_hw123 => k0_hw123.2.2

def k0_off218 (v1854 : BitVec 32) : Fin 1 → Nat :=
  let c999936_i32_881 : BitVec 32 := 999936#32
  let v1855 : BitVec 32 := Scalar.subi v1854 c999936_i32_881
  let c32_i32_882 : BitVec 32 := 32#32
  let v1856 : BitVec 32 := Scalar.muli v1855 c32_i32_882
  let v1857 : BitVec 32 := v1856
  ![v1857.toNat]

def k0_chk124 (v1854 : BitVec 32) : Prop :=
  (8 ∣ (k0_mult101 v1854).toNat) ∧
  (∀ a, (k0_off202 v1854) a + S32.size a ≤ S2048.size a) ∧
  (∀ a, (k0_off218 v1854) a + S32.size a ≤ S2048.size a)
theorem k0_mult101_dvd : ∀ (v1854 : BitVec 32) (k0_hw124 : k0_chk124 v1854), 8 ∣ (k0_mult101 v1854).toNat := fun v1854 k0_hw124 => k0_hw124.1
theorem k0_off202_inb : ∀ (v1854 : BitVec 32) (k0_hw124 : k0_chk124 v1854), ∀ a, (k0_off202 v1854) a + S32.size a ≤ S2048.size a := fun v1854 k0_hw124 => k0_hw124.2.1
theorem k0_off218_inb : ∀ (v1854 : BitVec 32) (k0_hw124 : k0_chk124 v1854), ∀ a, (k0_off218 v1854) a + S32.size a ≤ S2048.size a := fun v1854 k0_hw124 => k0_hw124.2.2

def k0_off219 (v1863 : BitVec 32) : Fin 1 → Nat :=
  let c999936_i32_884 : BitVec 32 := 999936#32
  let v1864 : BitVec 32 := Scalar.subi v1863 c999936_i32_884
  let c32_i32_885 : BitVec 32 := 32#32
  let v1865 : BitVec 32 := Scalar.muli v1864 c32_i32_885
  let v1866 : BitVec 32 := v1865
  ![v1866.toNat]

def k0_chk125 (v1863 : BitVec 32) : Prop :=
  (8 ∣ (k0_mult102 v1863).toNat) ∧
  (∀ a, (k0_off203 v1863) a + S32.size a ≤ S2048.size a) ∧
  (∀ a, (k0_off219 v1863) a + S32.size a ≤ S2048.size a)
theorem k0_mult102_dvd : ∀ (v1863 : BitVec 32) (k0_hw125 : k0_chk125 v1863), 8 ∣ (k0_mult102 v1863).toNat := fun v1863 k0_hw125 => k0_hw125.1
theorem k0_off203_inb : ∀ (v1863 : BitVec 32) (k0_hw125 : k0_chk125 v1863), ∀ a, (k0_off203 v1863) a + S32.size a ≤ S2048.size a := fun v1863 k0_hw125 => k0_hw125.2.1
theorem k0_off219_inb : ∀ (v1863 : BitVec 32) (k0_hw125 : k0_chk125 v1863), ∀ a, (k0_off219 v1863) a + S32.size a ≤ S2048.size a := fun v1863 k0_hw125 => k0_hw125.2.2

def k0_off220 (v1872 : BitVec 32) : Fin 1 → Nat :=
  let c999936_i32_887 : BitVec 32 := 999936#32
  let v1873 : BitVec 32 := Scalar.subi v1872 c999936_i32_887
  let c32_i32_888 : BitVec 32 := 32#32
  let v1874 : BitVec 32 := Scalar.muli v1873 c32_i32_888
  let v1875 : BitVec 32 := v1874
  ![v1875.toNat]

def k0_chk126 (v1872 : BitVec 32) : Prop :=
  (8 ∣ (k0_mult103 v1872).toNat) ∧
  (∀ a, (k0_off204 v1872) a + S32.size a ≤ S2048.size a) ∧
  (∀ a, (k0_off220 v1872) a + S32.size a ≤ S2048.size a)
theorem k0_mult103_dvd : ∀ (v1872 : BitVec 32) (k0_hw126 : k0_chk126 v1872), 8 ∣ (k0_mult103 v1872).toNat := fun v1872 k0_hw126 => k0_hw126.1
theorem k0_off204_inb : ∀ (v1872 : BitVec 32) (k0_hw126 : k0_chk126 v1872), ∀ a, (k0_off204 v1872) a + S32.size a ≤ S2048.size a := fun v1872 k0_hw126 => k0_hw126.2.1
theorem k0_off220_inb : ∀ (v1872 : BitVec 32) (k0_hw126 : k0_chk126 v1872), ∀ a, (k0_off220 v1872) a + S32.size a ≤ S2048.size a := fun v1872 k0_hw126 => k0_hw126.2.2

def k0_off221 (v1881 : BitVec 32) : Fin 1 → Nat :=
  let c999936_i32_890 : BitVec 32 := 999936#32
  let v1882 : BitVec 32 := Scalar.subi v1881 c999936_i32_890
  let c32_i32_891 : BitVec 32 := 32#32
  let v1883 : BitVec 32 := Scalar.muli v1882 c32_i32_891
  let v1884 : BitVec 32 := v1883
  ![v1884.toNat]

def k0_chk127 (v1881 : BitVec 32) : Prop :=
  (8 ∣ (k0_mult104 v1881).toNat) ∧
  (∀ a, (k0_off205 v1881) a + S32.size a ≤ S2048.size a) ∧
  (∀ a, (k0_off221 v1881) a + S32.size a ≤ S2048.size a)
theorem k0_mult104_dvd : ∀ (v1881 : BitVec 32) (k0_hw127 : k0_chk127 v1881), 8 ∣ (k0_mult104 v1881).toNat := fun v1881 k0_hw127 => k0_hw127.1
theorem k0_off205_inb : ∀ (v1881 : BitVec 32) (k0_hw127 : k0_chk127 v1881), ∀ a, (k0_off205 v1881) a + S32.size a ≤ S2048.size a := fun v1881 k0_hw127 => k0_hw127.2.1
theorem k0_off221_inb : ∀ (v1881 : BitVec 32) (k0_hw127 : k0_chk127 v1881), ∀ a, (k0_off221 v1881) a + S32.size a ≤ S2048.size a := fun v1881 k0_hw127 => k0_hw127.2.2

def k0_off222 (v1890 : BitVec 32) : Fin 1 → Nat :=
  let c999936_i32_893 : BitVec 32 := 999936#32
  let v1891 : BitVec 32 := Scalar.subi v1890 c999936_i32_893
  let c32_i32_894 : BitVec 32 := 32#32
  let v1892 : BitVec 32 := Scalar.muli v1891 c32_i32_894
  let v1893 : BitVec 32 := v1892
  ![v1893.toNat]

def k0_chk128 (v1890 : BitVec 32) : Prop :=
  (8 ∣ (k0_mult105 v1890).toNat) ∧
  (∀ a, (k0_off206 v1890) a + S32.size a ≤ S2048.size a) ∧
  (∀ a, (k0_off222 v1890) a + S32.size a ≤ S2048.size a)
theorem k0_mult105_dvd : ∀ (v1890 : BitVec 32) (k0_hw128 : k0_chk128 v1890), 8 ∣ (k0_mult105 v1890).toNat := fun v1890 k0_hw128 => k0_hw128.1
theorem k0_off206_inb : ∀ (v1890 : BitVec 32) (k0_hw128 : k0_chk128 v1890), ∀ a, (k0_off206 v1890) a + S32.size a ≤ S2048.size a := fun v1890 k0_hw128 => k0_hw128.2.1
theorem k0_off222_inb : ∀ (v1890 : BitVec 32) (k0_hw128 : k0_chk128 v1890), ∀ a, (k0_off222 v1890) a + S32.size a ≤ S2048.size a := fun v1890 k0_hw128 => k0_hw128.2.2

def k0_off223 (v1899 : BitVec 32) : Fin 1 → Nat :=
  let c999936_i32_896 : BitVec 32 := 999936#32
  let v1900 : BitVec 32 := Scalar.subi v1899 c999936_i32_896
  let c32_i32_897 : BitVec 32 := 32#32
  let v1901 : BitVec 32 := Scalar.muli v1900 c32_i32_897
  let v1902 : BitVec 32 := v1901
  ![v1902.toNat]

def k0_chk129 (v1899 : BitVec 32) : Prop :=
  (8 ∣ (k0_mult106 v1899).toNat) ∧
  (∀ a, (k0_off207 v1899) a + S32.size a ≤ S2048.size a) ∧
  (∀ a, (k0_off223 v1899) a + S32.size a ≤ S2048.size a)
theorem k0_mult106_dvd : ∀ (v1899 : BitVec 32) (k0_hw129 : k0_chk129 v1899), 8 ∣ (k0_mult106 v1899).toNat := fun v1899 k0_hw129 => k0_hw129.1
theorem k0_off207_inb : ∀ (v1899 : BitVec 32) (k0_hw129 : k0_chk129 v1899), ∀ a, (k0_off207 v1899) a + S32.size a ≤ S2048.size a := fun v1899 k0_hw129 => k0_hw129.2.1
theorem k0_off223_inb : ∀ (v1899 : BitVec 32) (k0_hw129 : k0_chk129 v1899), ∀ a, (k0_off223 v1899) a + S32.size a ≤ S2048.size a := fun v1899 k0_hw129 => k0_hw129.2.2

def k0_off224 (v1908 : BitVec 32) : Fin 1 → Nat :=
  let c999936_i32_899 : BitVec 32 := 999936#32
  let v1909 : BitVec 32 := Scalar.subi v1908 c999936_i32_899
  let c32_i32_900 : BitVec 32 := 32#32
  let v1910 : BitVec 32 := Scalar.muli v1909 c32_i32_900
  let v1911 : BitVec 32 := v1910
  ![v1911.toNat]

def k0_chk130 (v1908 : BitVec 32) : Prop :=
  (8 ∣ (k0_mult107 v1908).toNat) ∧
  (∀ a, (k0_off208 v1908) a + S32.size a ≤ S2048.size a) ∧
  (∀ a, (k0_off224 v1908) a + S32.size a ≤ S2048.size a)
theorem k0_mult107_dvd : ∀ (v1908 : BitVec 32) (k0_hw130 : k0_chk130 v1908), 8 ∣ (k0_mult107 v1908).toNat := fun v1908 k0_hw130 => k0_hw130.1
theorem k0_off208_inb : ∀ (v1908 : BitVec 32) (k0_hw130 : k0_chk130 v1908), ∀ a, (k0_off208 v1908) a + S32.size a ≤ S2048.size a := fun v1908 k0_hw130 => k0_hw130.2.1
theorem k0_off224_inb : ∀ (v1908 : BitVec 32) (k0_hw130 : k0_chk130 v1908), ∀ a, (k0_off224 v1908) a + S32.size a ≤ S2048.size a := fun v1908 k0_hw130 => k0_hw130.2.2

def k0_off225 (v1917 : BitVec 32) : Fin 1 → Nat :=
  let c999936_i32_902 : BitVec 32 := 999936#32
  let v1918 : BitVec 32 := Scalar.subi v1917 c999936_i32_902
  let c32_i32_903 : BitVec 32 := 32#32
  let v1919 : BitVec 32 := Scalar.muli v1918 c32_i32_903
  let v1920 : BitVec 32 := v1919
  ![v1920.toNat]

def k0_chk131 (v1917 : BitVec 32) : Prop :=
  (8 ∣ (k0_mult108 v1917).toNat) ∧
  (∀ a, (k0_off209 v1917) a + S32.size a ≤ S2048.size a) ∧
  (∀ a, (k0_off225 v1917) a + S32.size a ≤ S2048.size a)
theorem k0_mult108_dvd : ∀ (v1917 : BitVec 32) (k0_hw131 : k0_chk131 v1917), 8 ∣ (k0_mult108 v1917).toNat := fun v1917 k0_hw131 => k0_hw131.1
theorem k0_off209_inb : ∀ (v1917 : BitVec 32) (k0_hw131 : k0_chk131 v1917), ∀ a, (k0_off209 v1917) a + S32.size a ≤ S2048.size a := fun v1917 k0_hw131 => k0_hw131.2.1
theorem k0_off225_inb : ∀ (v1917 : BitVec 32) (k0_hw131 : k0_chk131 v1917), ∀ a, (k0_off225 v1917) a + S32.size a ≤ S2048.size a := fun v1917 k0_hw131 => k0_hw131.2.2

def k0_off226 (v1926 : BitVec 32) : Fin 1 → Nat :=
  let c999936_i32_905 : BitVec 32 := 999936#32
  let v1927 : BitVec 32 := Scalar.subi v1926 c999936_i32_905
  let c32_i32_906 : BitVec 32 := 32#32
  let v1928 : BitVec 32 := Scalar.muli v1927 c32_i32_906
  let v1929 : BitVec 32 := v1928
  ![v1929.toNat]

def k0_chk132 (v1926 : BitVec 32) : Prop :=
  (8 ∣ (k0_mult109 v1926).toNat) ∧
  (∀ a, (k0_off210 v1926) a + S32.size a ≤ S2048.size a) ∧
  (∀ a, (k0_off226 v1926) a + S32.size a ≤ S2048.size a)
theorem k0_mult109_dvd : ∀ (v1926 : BitVec 32) (k0_hw132 : k0_chk132 v1926), 8 ∣ (k0_mult109 v1926).toNat := fun v1926 k0_hw132 => k0_hw132.1
theorem k0_off210_inb : ∀ (v1926 : BitVec 32) (k0_hw132 : k0_chk132 v1926), ∀ a, (k0_off210 v1926) a + S32.size a ≤ S2048.size a := fun v1926 k0_hw132 => k0_hw132.2.1
theorem k0_off226_inb : ∀ (v1926 : BitVec 32) (k0_hw132 : k0_chk132 v1926), ∀ a, (k0_off226 v1926) a + S32.size a ≤ S2048.size a := fun v1926 k0_hw132 => k0_hw132.2.2

def k0_off227 (v1935 : BitVec 32) : Fin 1 → Nat :=
  let c999936_i32_908 : BitVec 32 := 999936#32
  let v1936 : BitVec 32 := Scalar.subi v1935 c999936_i32_908
  let c32_i32_909 : BitVec 32 := 32#32
  let v1937 : BitVec 32 := Scalar.muli v1936 c32_i32_909
  let v1938 : BitVec 32 := v1937
  ![v1938.toNat]

def k0_chk133 (v1935 : BitVec 32) : Prop :=
  (8 ∣ (k0_mult110 v1935).toNat) ∧
  (∀ a, (k0_off211 v1935) a + S32.size a ≤ S2048.size a) ∧
  (∀ a, (k0_off227 v1935) a + S32.size a ≤ S2048.size a)
theorem k0_mult110_dvd : ∀ (v1935 : BitVec 32) (k0_hw133 : k0_chk133 v1935), 8 ∣ (k0_mult110 v1935).toNat := fun v1935 k0_hw133 => k0_hw133.1
theorem k0_off211_inb : ∀ (v1935 : BitVec 32) (k0_hw133 : k0_chk133 v1935), ∀ a, (k0_off211 v1935) a + S32.size a ≤ S2048.size a := fun v1935 k0_hw133 => k0_hw133.2.1
theorem k0_off227_inb : ∀ (v1935 : BitVec 32) (k0_hw133 : k0_chk133 v1935), ∀ a, (k0_off227 v1935) a + S32.size a ≤ S2048.size a := fun v1935 k0_hw133 => k0_hw133.2.2

def k0_off228 (v1944 : BitVec 32) : Fin 1 → Nat :=
  let c999936_i32_911 : BitVec 32 := 999936#32
  let v1945 : BitVec 32 := Scalar.subi v1944 c999936_i32_911
  let c32_i32_912 : BitVec 32 := 32#32
  let v1946 : BitVec 32 := Scalar.muli v1945 c32_i32_912
  let v1947 : BitVec 32 := v1946
  ![v1947.toNat]

def k0_chk134 (v1944 : BitVec 32) : Prop :=
  (8 ∣ (k0_mult111 v1944).toNat) ∧
  (∀ a, (k0_off212 v1944) a + S32.size a ≤ S2048.size a) ∧
  (∀ a, (k0_off228 v1944) a + S32.size a ≤ S2048.size a)
theorem k0_mult111_dvd : ∀ (v1944 : BitVec 32) (k0_hw134 : k0_chk134 v1944), 8 ∣ (k0_mult111 v1944).toNat := fun v1944 k0_hw134 => k0_hw134.1
theorem k0_off212_inb : ∀ (v1944 : BitVec 32) (k0_hw134 : k0_chk134 v1944), ∀ a, (k0_off212 v1944) a + S32.size a ≤ S2048.size a := fun v1944 k0_hw134 => k0_hw134.2.1
theorem k0_off228_inb : ∀ (v1944 : BitVec 32) (k0_hw134 : k0_chk134 v1944), ∀ a, (k0_off228 v1944) a + S32.size a ≤ S2048.size a := fun v1944 k0_hw134 => k0_hw134.2.2

def k0_off229 (v1953 : BitVec 32) : Fin 1 → Nat :=
  let c999936_i32_914 : BitVec 32 := 999936#32
  let v1954 : BitVec 32 := Scalar.subi v1953 c999936_i32_914
  let c32_i32_915 : BitVec 32 := 32#32
  let v1955 : BitVec 32 := Scalar.muli v1954 c32_i32_915
  let v1956 : BitVec 32 := v1955
  ![v1956.toNat]

def k0_chk135 (v1953 : BitVec 32) : Prop :=
  (8 ∣ (k0_mult112 v1953).toNat) ∧
  (∀ a, (k0_off213 v1953) a + S32.size a ≤ S2048.size a) ∧
  (∀ a, (k0_off229 v1953) a + S32.size a ≤ S2048.size a)
theorem k0_mult112_dvd : ∀ (v1953 : BitVec 32) (k0_hw135 : k0_chk135 v1953), 8 ∣ (k0_mult112 v1953).toNat := fun v1953 k0_hw135 => k0_hw135.1
theorem k0_off213_inb : ∀ (v1953 : BitVec 32) (k0_hw135 : k0_chk135 v1953), ∀ a, (k0_off213 v1953) a + S32.size a ≤ S2048.size a := fun v1953 k0_hw135 => k0_hw135.2.1
theorem k0_off229_inb : ∀ (v1953 : BitVec 32) (k0_hw135 : k0_chk135 v1953), ∀ a, (k0_off229 v1953) a + S32.size a ≤ S2048.size a := fun v1953 k0_hw135 => k0_hw135.2.2

def k0_mult114 (v2035 : BitVec 32) : BitVec 32 :=
  let c0_i32_953 : BitVec 32 := 0#32
  let c32_i32_952 : BitVec 32 := 32#32
  let v2036 : BitVec 32 := Scalar.muli v2035 c32_i32_952
  let v2037 : BitVec 32 := Scalar.addi c0_i32_953 v2036
  v2037

def k0_off230 (v2035 : BitVec 32) : Fin 1 → Nat :=
  let c0_i32_953 : BitVec 32 := 0#32
  let c32_i32_952 : BitVec 32 := 32#32
  let v2036 : BitVec 32 := Scalar.muli v2035 c32_i32_952
  let v2037 : BitVec 32 := Scalar.addi c0_i32_953 v2036
  let v2038 : BitVec 32 := v2037
  ![v2038.toNat]
def k0_mult115 (v2044 : BitVec 32) : BitVec 32 :=
  let c0_i32_957 : BitVec 32 := 0#32
  let c32_i32_956 : BitVec 32 := 32#32
  let v2045 : BitVec 32 := Scalar.muli v2044 c32_i32_956
  let v2046 : BitVec 32 := Scalar.addi c0_i32_957 v2045
  v2046

def k0_off231 (v2044 : BitVec 32) : Fin 1 → Nat :=
  let c0_i32_957 : BitVec 32 := 0#32
  let c32_i32_956 : BitVec 32 := 32#32
  let v2045 : BitVec 32 := Scalar.muli v2044 c32_i32_956
  let v2046 : BitVec 32 := Scalar.addi c0_i32_957 v2045
  let v2047 : BitVec 32 := v2046
  ![v2047.toNat]
def k0_mult116 (v2053 : BitVec 32) : BitVec 32 :=
  let c0_i32_961 : BitVec 32 := 0#32
  let c32_i32_960 : BitVec 32 := 32#32
  let v2054 : BitVec 32 := Scalar.muli v2053 c32_i32_960
  let v2055 : BitVec 32 := Scalar.addi c0_i32_961 v2054
  v2055

def k0_off232 (v2053 : BitVec 32) : Fin 1 → Nat :=
  let c0_i32_961 : BitVec 32 := 0#32
  let c32_i32_960 : BitVec 32 := 32#32
  let v2054 : BitVec 32 := Scalar.muli v2053 c32_i32_960
  let v2055 : BitVec 32 := Scalar.addi c0_i32_961 v2054
  let v2056 : BitVec 32 := v2055
  ![v2056.toNat]
def k0_mult117 (v2062 : BitVec 32) : BitVec 32 :=
  let c0_i32_965 : BitVec 32 := 0#32
  let c32_i32_964 : BitVec 32 := 32#32
  let v2063 : BitVec 32 := Scalar.muli v2062 c32_i32_964
  let v2064 : BitVec 32 := Scalar.addi c0_i32_965 v2063
  v2064

def k0_off233 (v2062 : BitVec 32) : Fin 1 → Nat :=
  let c0_i32_965 : BitVec 32 := 0#32
  let c32_i32_964 : BitVec 32 := 32#32
  let v2063 : BitVec 32 := Scalar.muli v2062 c32_i32_964
  let v2064 : BitVec 32 := Scalar.addi c0_i32_965 v2063
  let v2065 : BitVec 32 := v2064
  ![v2065.toNat]
def k0_mult118 (v2071 : BitVec 32) : BitVec 32 :=
  let c0_i32_969 : BitVec 32 := 0#32
  let c32_i32_968 : BitVec 32 := 32#32
  let v2072 : BitVec 32 := Scalar.muli v2071 c32_i32_968
  let v2073 : BitVec 32 := Scalar.addi c0_i32_969 v2072
  v2073

def k0_off234 (v2071 : BitVec 32) : Fin 1 → Nat :=
  let c0_i32_969 : BitVec 32 := 0#32
  let c32_i32_968 : BitVec 32 := 32#32
  let v2072 : BitVec 32 := Scalar.muli v2071 c32_i32_968
  let v2073 : BitVec 32 := Scalar.addi c0_i32_969 v2072
  let v2074 : BitVec 32 := v2073
  ![v2074.toNat]
def k0_mult119 (v2080 : BitVec 32) : BitVec 32 :=
  let c0_i32_973 : BitVec 32 := 0#32
  let c32_i32_972 : BitVec 32 := 32#32
  let v2081 : BitVec 32 := Scalar.muli v2080 c32_i32_972
  let v2082 : BitVec 32 := Scalar.addi c0_i32_973 v2081
  v2082

def k0_off235 (v2080 : BitVec 32) : Fin 1 → Nat :=
  let c0_i32_973 : BitVec 32 := 0#32
  let c32_i32_972 : BitVec 32 := 32#32
  let v2081 : BitVec 32 := Scalar.muli v2080 c32_i32_972
  let v2082 : BitVec 32 := Scalar.addi c0_i32_973 v2081
  let v2083 : BitVec 32 := v2082
  ![v2083.toNat]
def k0_mult120 (v2089 : BitVec 32) : BitVec 32 :=
  let c0_i32_977 : BitVec 32 := 0#32
  let c32_i32_976 : BitVec 32 := 32#32
  let v2090 : BitVec 32 := Scalar.muli v2089 c32_i32_976
  let v2091 : BitVec 32 := Scalar.addi c0_i32_977 v2090
  v2091

def k0_off236 (v2089 : BitVec 32) : Fin 1 → Nat :=
  let c0_i32_977 : BitVec 32 := 0#32
  let c32_i32_976 : BitVec 32 := 32#32
  let v2090 : BitVec 32 := Scalar.muli v2089 c32_i32_976
  let v2091 : BitVec 32 := Scalar.addi c0_i32_977 v2090
  let v2092 : BitVec 32 := v2091
  ![v2092.toNat]
def k0_mult121 (v2098 : BitVec 32) : BitVec 32 :=
  let c0_i32_981 : BitVec 32 := 0#32
  let c32_i32_980 : BitVec 32 := 32#32
  let v2099 : BitVec 32 := Scalar.muli v2098 c32_i32_980
  let v2100 : BitVec 32 := Scalar.addi c0_i32_981 v2099
  v2100

def k0_off237 (v2098 : BitVec 32) : Fin 1 → Nat :=
  let c0_i32_981 : BitVec 32 := 0#32
  let c32_i32_980 : BitVec 32 := 32#32
  let v2099 : BitVec 32 := Scalar.muli v2098 c32_i32_980
  let v2100 : BitVec 32 := Scalar.addi c0_i32_981 v2099
  let v2101 : BitVec 32 := v2100
  ![v2101.toNat]
def k0_mult122 (v2107 : BitVec 32) : BitVec 32 :=
  let c0_i32_985 : BitVec 32 := 0#32
  let c32_i32_984 : BitVec 32 := 32#32
  let v2108 : BitVec 32 := Scalar.muli v2107 c32_i32_984
  let v2109 : BitVec 32 := Scalar.addi c0_i32_985 v2108
  v2109

def k0_off238 (v2107 : BitVec 32) : Fin 1 → Nat :=
  let c0_i32_985 : BitVec 32 := 0#32
  let c32_i32_984 : BitVec 32 := 32#32
  let v2108 : BitVec 32 := Scalar.muli v2107 c32_i32_984
  let v2109 : BitVec 32 := Scalar.addi c0_i32_985 v2108
  let v2110 : BitVec 32 := v2109
  ![v2110.toNat]
def k0_mult123 (v2116 : BitVec 32) : BitVec 32 :=
  let c0_i32_989 : BitVec 32 := 0#32
  let c32_i32_988 : BitVec 32 := 32#32
  let v2117 : BitVec 32 := Scalar.muli v2116 c32_i32_988
  let v2118 : BitVec 32 := Scalar.addi c0_i32_989 v2117
  v2118

def k0_off239 (v2116 : BitVec 32) : Fin 1 → Nat :=
  let c0_i32_989 : BitVec 32 := 0#32
  let c32_i32_988 : BitVec 32 := 32#32
  let v2117 : BitVec 32 := Scalar.muli v2116 c32_i32_988
  let v2118 : BitVec 32 := Scalar.addi c0_i32_989 v2117
  let v2119 : BitVec 32 := v2118
  ![v2119.toNat]
def k0_mult124 (v2125 : BitVec 32) : BitVec 32 :=
  let c0_i32_993 : BitVec 32 := 0#32
  let c32_i32_992 : BitVec 32 := 32#32
  let v2126 : BitVec 32 := Scalar.muli v2125 c32_i32_992
  let v2127 : BitVec 32 := Scalar.addi c0_i32_993 v2126
  v2127

def k0_off240 (v2125 : BitVec 32) : Fin 1 → Nat :=
  let c0_i32_993 : BitVec 32 := 0#32
  let c32_i32_992 : BitVec 32 := 32#32
  let v2126 : BitVec 32 := Scalar.muli v2125 c32_i32_992
  let v2127 : BitVec 32 := Scalar.addi c0_i32_993 v2126
  let v2128 : BitVec 32 := v2127
  ![v2128.toNat]
def k0_mult125 (v2134 : BitVec 32) : BitVec 32 :=
  let c0_i32_997 : BitVec 32 := 0#32
  let c32_i32_996 : BitVec 32 := 32#32
  let v2135 : BitVec 32 := Scalar.muli v2134 c32_i32_996
  let v2136 : BitVec 32 := Scalar.addi c0_i32_997 v2135
  v2136

def k0_off241 (v2134 : BitVec 32) : Fin 1 → Nat :=
  let c0_i32_997 : BitVec 32 := 0#32
  let c32_i32_996 : BitVec 32 := 32#32
  let v2135 : BitVec 32 := Scalar.muli v2134 c32_i32_996
  let v2136 : BitVec 32 := Scalar.addi c0_i32_997 v2135
  let v2137 : BitVec 32 := v2136
  ![v2137.toNat]
def k0_mult126 (v2143 : BitVec 32) : BitVec 32 :=
  let c0_i32_1001 : BitVec 32 := 0#32
  let c32_i32_1000 : BitVec 32 := 32#32
  let v2144 : BitVec 32 := Scalar.muli v2143 c32_i32_1000
  let v2145 : BitVec 32 := Scalar.addi c0_i32_1001 v2144
  v2145

def k0_off242 (v2143 : BitVec 32) : Fin 1 → Nat :=
  let c0_i32_1001 : BitVec 32 := 0#32
  let c32_i32_1000 : BitVec 32 := 32#32
  let v2144 : BitVec 32 := Scalar.muli v2143 c32_i32_1000
  let v2145 : BitVec 32 := Scalar.addi c0_i32_1001 v2144
  let v2146 : BitVec 32 := v2145
  ![v2146.toNat]
def k0_mult127 (v2152 : BitVec 32) : BitVec 32 :=
  let c0_i32_1005 : BitVec 32 := 0#32
  let c32_i32_1004 : BitVec 32 := 32#32
  let v2153 : BitVec 32 := Scalar.muli v2152 c32_i32_1004
  let v2154 : BitVec 32 := Scalar.addi c0_i32_1005 v2153
  v2154

def k0_off243 (v2152 : BitVec 32) : Fin 1 → Nat :=
  let c0_i32_1005 : BitVec 32 := 0#32
  let c32_i32_1004 : BitVec 32 := 32#32
  let v2153 : BitVec 32 := Scalar.muli v2152 c32_i32_1004
  let v2154 : BitVec 32 := Scalar.addi c0_i32_1005 v2153
  let v2155 : BitVec 32 := v2154
  ![v2155.toNat]
def k0_mult128 (v2161 : BitVec 32) : BitVec 32 :=
  let c0_i32_1009 : BitVec 32 := 0#32
  let c32_i32_1008 : BitVec 32 := 32#32
  let v2162 : BitVec 32 := Scalar.muli v2161 c32_i32_1008
  let v2163 : BitVec 32 := Scalar.addi c0_i32_1009 v2162
  v2163

def k0_off244 (v2161 : BitVec 32) : Fin 1 → Nat :=
  let c0_i32_1009 : BitVec 32 := 0#32
  let c32_i32_1008 : BitVec 32 := 32#32
  let v2162 : BitVec 32 := Scalar.muli v2161 c32_i32_1008
  let v2163 : BitVec 32 := Scalar.addi c0_i32_1009 v2162
  let v2164 : BitVec 32 := v2163
  ![v2164.toNat]
def k0_mult129 (v2170 : BitVec 32) : BitVec 32 :=
  let c0_i32_1013 : BitVec 32 := 0#32
  let c32_i32_1012 : BitVec 32 := 32#32
  let v2171 : BitVec 32 := Scalar.muli v2170 c32_i32_1012
  let v2172 : BitVec 32 := Scalar.addi c0_i32_1013 v2171
  v2172

def k0_off245 (v2170 : BitVec 32) : Fin 1 → Nat :=
  let c0_i32_1013 : BitVec 32 := 0#32
  let c32_i32_1012 : BitVec 32 := 32#32
  let v2171 : BitVec 32 := Scalar.muli v2170 c32_i32_1012
  let v2172 : BitVec 32 := Scalar.addi c0_i32_1013 v2171
  let v2173 : BitVec 32 := v2172
  ![v2173.toNat]

def k0_chk152 (v2170 : BitVec 32) : Prop :=
  (8 ∣ (k0_mult129 v2170).toNat) ∧
  (∀ a, (k0_off245 v2170) a + S32.size a ≤ S3407872.size a)
theorem k0_mult129_dvd : ∀ (v2170 : BitVec 32) (k0_hw152 : k0_chk152 v2170), 8 ∣ (k0_mult129 v2170).toNat := fun v2170 k0_hw152 => k0_hw152.1
theorem k0_off245_inb : ∀ (v2170 : BitVec 32) (k0_hw152 : k0_chk152 v2170), ∀ a, (k0_off245 v2170) a + S32.size a ≤ S3407872.size a := fun v2170 k0_hw152 => k0_hw152.2

def k0_off246 (v2035 : BitVec 32) : Fin 1 → Nat :=
  let c0_i32_953 : BitVec 32 := 0#32
  let c32_i32_952 : BitVec 32 := 32#32
  let v2036 : BitVec 32 := Scalar.muli v2035 c32_i32_952
  let v2037 : BitVec 32 := Scalar.addi c0_i32_953 v2036
  let v2038 : BitVec 32 := v2037
  ![v2038.toNat]

def k0_chk137 (v2035 : BitVec 32) : Prop :=
  (8 ∣ (k0_mult114 v2035).toNat) ∧
  (∀ a, (k0_off230 v2035) a + S32.size a ≤ S3407872.size a) ∧
  (∀ a, (k0_off246 v2035) a + S32.size a ≤ S3407872.size a)
theorem k0_mult114_dvd : ∀ (v2035 : BitVec 32) (k0_hw137 : k0_chk137 v2035), 8 ∣ (k0_mult114 v2035).toNat := fun v2035 k0_hw137 => k0_hw137.1
theorem k0_off230_inb : ∀ (v2035 : BitVec 32) (k0_hw137 : k0_chk137 v2035), ∀ a, (k0_off230 v2035) a + S32.size a ≤ S3407872.size a := fun v2035 k0_hw137 => k0_hw137.2.1
theorem k0_off246_inb : ∀ (v2035 : BitVec 32) (k0_hw137 : k0_chk137 v2035), ∀ a, (k0_off246 v2035) a + S32.size a ≤ S3407872.size a := fun v2035 k0_hw137 => k0_hw137.2.2

def k0_off247 (v2044 : BitVec 32) : Fin 1 → Nat :=
  let c0_i32_957 : BitVec 32 := 0#32
  let c32_i32_956 : BitVec 32 := 32#32
  let v2045 : BitVec 32 := Scalar.muli v2044 c32_i32_956
  let v2046 : BitVec 32 := Scalar.addi c0_i32_957 v2045
  let v2047 : BitVec 32 := v2046
  ![v2047.toNat]

def k0_chk138 (v2044 : BitVec 32) : Prop :=
  (8 ∣ (k0_mult115 v2044).toNat) ∧
  (∀ a, (k0_off231 v2044) a + S32.size a ≤ S3407872.size a) ∧
  (∀ a, (k0_off247 v2044) a + S32.size a ≤ S3407872.size a)
theorem k0_mult115_dvd : ∀ (v2044 : BitVec 32) (k0_hw138 : k0_chk138 v2044), 8 ∣ (k0_mult115 v2044).toNat := fun v2044 k0_hw138 => k0_hw138.1
theorem k0_off231_inb : ∀ (v2044 : BitVec 32) (k0_hw138 : k0_chk138 v2044), ∀ a, (k0_off231 v2044) a + S32.size a ≤ S3407872.size a := fun v2044 k0_hw138 => k0_hw138.2.1
theorem k0_off247_inb : ∀ (v2044 : BitVec 32) (k0_hw138 : k0_chk138 v2044), ∀ a, (k0_off247 v2044) a + S32.size a ≤ S3407872.size a := fun v2044 k0_hw138 => k0_hw138.2.2

def k0_off248 (v2053 : BitVec 32) : Fin 1 → Nat :=
  let c0_i32_961 : BitVec 32 := 0#32
  let c32_i32_960 : BitVec 32 := 32#32
  let v2054 : BitVec 32 := Scalar.muli v2053 c32_i32_960
  let v2055 : BitVec 32 := Scalar.addi c0_i32_961 v2054
  let v2056 : BitVec 32 := v2055
  ![v2056.toNat]

def k0_chk139 (v2053 : BitVec 32) : Prop :=
  (8 ∣ (k0_mult116 v2053).toNat) ∧
  (∀ a, (k0_off232 v2053) a + S32.size a ≤ S3407872.size a) ∧
  (∀ a, (k0_off248 v2053) a + S32.size a ≤ S3407872.size a)
theorem k0_mult116_dvd : ∀ (v2053 : BitVec 32) (k0_hw139 : k0_chk139 v2053), 8 ∣ (k0_mult116 v2053).toNat := fun v2053 k0_hw139 => k0_hw139.1
theorem k0_off232_inb : ∀ (v2053 : BitVec 32) (k0_hw139 : k0_chk139 v2053), ∀ a, (k0_off232 v2053) a + S32.size a ≤ S3407872.size a := fun v2053 k0_hw139 => k0_hw139.2.1
theorem k0_off248_inb : ∀ (v2053 : BitVec 32) (k0_hw139 : k0_chk139 v2053), ∀ a, (k0_off248 v2053) a + S32.size a ≤ S3407872.size a := fun v2053 k0_hw139 => k0_hw139.2.2

def k0_off249 (v2062 : BitVec 32) : Fin 1 → Nat :=
  let c0_i32_965 : BitVec 32 := 0#32
  let c32_i32_964 : BitVec 32 := 32#32
  let v2063 : BitVec 32 := Scalar.muli v2062 c32_i32_964
  let v2064 : BitVec 32 := Scalar.addi c0_i32_965 v2063
  let v2065 : BitVec 32 := v2064
  ![v2065.toNat]

def k0_chk140 (v2062 : BitVec 32) : Prop :=
  (8 ∣ (k0_mult117 v2062).toNat) ∧
  (∀ a, (k0_off233 v2062) a + S32.size a ≤ S3407872.size a) ∧
  (∀ a, (k0_off249 v2062) a + S32.size a ≤ S3407872.size a)
theorem k0_mult117_dvd : ∀ (v2062 : BitVec 32) (k0_hw140 : k0_chk140 v2062), 8 ∣ (k0_mult117 v2062).toNat := fun v2062 k0_hw140 => k0_hw140.1
theorem k0_off233_inb : ∀ (v2062 : BitVec 32) (k0_hw140 : k0_chk140 v2062), ∀ a, (k0_off233 v2062) a + S32.size a ≤ S3407872.size a := fun v2062 k0_hw140 => k0_hw140.2.1
theorem k0_off249_inb : ∀ (v2062 : BitVec 32) (k0_hw140 : k0_chk140 v2062), ∀ a, (k0_off249 v2062) a + S32.size a ≤ S3407872.size a := fun v2062 k0_hw140 => k0_hw140.2.2

def k0_off250 (v2071 : BitVec 32) : Fin 1 → Nat :=
  let c0_i32_969 : BitVec 32 := 0#32
  let c32_i32_968 : BitVec 32 := 32#32
  let v2072 : BitVec 32 := Scalar.muli v2071 c32_i32_968
  let v2073 : BitVec 32 := Scalar.addi c0_i32_969 v2072
  let v2074 : BitVec 32 := v2073
  ![v2074.toNat]

def k0_chk141 (v2071 : BitVec 32) : Prop :=
  (8 ∣ (k0_mult118 v2071).toNat) ∧
  (∀ a, (k0_off234 v2071) a + S32.size a ≤ S3407872.size a) ∧
  (∀ a, (k0_off250 v2071) a + S32.size a ≤ S3407872.size a)
theorem k0_mult118_dvd : ∀ (v2071 : BitVec 32) (k0_hw141 : k0_chk141 v2071), 8 ∣ (k0_mult118 v2071).toNat := fun v2071 k0_hw141 => k0_hw141.1
theorem k0_off234_inb : ∀ (v2071 : BitVec 32) (k0_hw141 : k0_chk141 v2071), ∀ a, (k0_off234 v2071) a + S32.size a ≤ S3407872.size a := fun v2071 k0_hw141 => k0_hw141.2.1
theorem k0_off250_inb : ∀ (v2071 : BitVec 32) (k0_hw141 : k0_chk141 v2071), ∀ a, (k0_off250 v2071) a + S32.size a ≤ S3407872.size a := fun v2071 k0_hw141 => k0_hw141.2.2

def k0_off251 (v2080 : BitVec 32) : Fin 1 → Nat :=
  let c0_i32_973 : BitVec 32 := 0#32
  let c32_i32_972 : BitVec 32 := 32#32
  let v2081 : BitVec 32 := Scalar.muli v2080 c32_i32_972
  let v2082 : BitVec 32 := Scalar.addi c0_i32_973 v2081
  let v2083 : BitVec 32 := v2082
  ![v2083.toNat]

def k0_chk142 (v2080 : BitVec 32) : Prop :=
  (8 ∣ (k0_mult119 v2080).toNat) ∧
  (∀ a, (k0_off235 v2080) a + S32.size a ≤ S3407872.size a) ∧
  (∀ a, (k0_off251 v2080) a + S32.size a ≤ S3407872.size a)
theorem k0_mult119_dvd : ∀ (v2080 : BitVec 32) (k0_hw142 : k0_chk142 v2080), 8 ∣ (k0_mult119 v2080).toNat := fun v2080 k0_hw142 => k0_hw142.1
theorem k0_off235_inb : ∀ (v2080 : BitVec 32) (k0_hw142 : k0_chk142 v2080), ∀ a, (k0_off235 v2080) a + S32.size a ≤ S3407872.size a := fun v2080 k0_hw142 => k0_hw142.2.1
theorem k0_off251_inb : ∀ (v2080 : BitVec 32) (k0_hw142 : k0_chk142 v2080), ∀ a, (k0_off251 v2080) a + S32.size a ≤ S3407872.size a := fun v2080 k0_hw142 => k0_hw142.2.2

def k0_off252 (v2089 : BitVec 32) : Fin 1 → Nat :=
  let c0_i32_977 : BitVec 32 := 0#32
  let c32_i32_976 : BitVec 32 := 32#32
  let v2090 : BitVec 32 := Scalar.muli v2089 c32_i32_976
  let v2091 : BitVec 32 := Scalar.addi c0_i32_977 v2090
  let v2092 : BitVec 32 := v2091
  ![v2092.toNat]

def k0_chk143 (v2089 : BitVec 32) : Prop :=
  (8 ∣ (k0_mult120 v2089).toNat) ∧
  (∀ a, (k0_off236 v2089) a + S32.size a ≤ S3407872.size a) ∧
  (∀ a, (k0_off252 v2089) a + S32.size a ≤ S3407872.size a)
theorem k0_mult120_dvd : ∀ (v2089 : BitVec 32) (k0_hw143 : k0_chk143 v2089), 8 ∣ (k0_mult120 v2089).toNat := fun v2089 k0_hw143 => k0_hw143.1
theorem k0_off236_inb : ∀ (v2089 : BitVec 32) (k0_hw143 : k0_chk143 v2089), ∀ a, (k0_off236 v2089) a + S32.size a ≤ S3407872.size a := fun v2089 k0_hw143 => k0_hw143.2.1
theorem k0_off252_inb : ∀ (v2089 : BitVec 32) (k0_hw143 : k0_chk143 v2089), ∀ a, (k0_off252 v2089) a + S32.size a ≤ S3407872.size a := fun v2089 k0_hw143 => k0_hw143.2.2

def k0_off253 (v2098 : BitVec 32) : Fin 1 → Nat :=
  let c0_i32_981 : BitVec 32 := 0#32
  let c32_i32_980 : BitVec 32 := 32#32
  let v2099 : BitVec 32 := Scalar.muli v2098 c32_i32_980
  let v2100 : BitVec 32 := Scalar.addi c0_i32_981 v2099
  let v2101 : BitVec 32 := v2100
  ![v2101.toNat]

def k0_chk144 (v2098 : BitVec 32) : Prop :=
  (8 ∣ (k0_mult121 v2098).toNat) ∧
  (∀ a, (k0_off237 v2098) a + S32.size a ≤ S3407872.size a) ∧
  (∀ a, (k0_off253 v2098) a + S32.size a ≤ S3407872.size a)
theorem k0_mult121_dvd : ∀ (v2098 : BitVec 32) (k0_hw144 : k0_chk144 v2098), 8 ∣ (k0_mult121 v2098).toNat := fun v2098 k0_hw144 => k0_hw144.1
theorem k0_off237_inb : ∀ (v2098 : BitVec 32) (k0_hw144 : k0_chk144 v2098), ∀ a, (k0_off237 v2098) a + S32.size a ≤ S3407872.size a := fun v2098 k0_hw144 => k0_hw144.2.1
theorem k0_off253_inb : ∀ (v2098 : BitVec 32) (k0_hw144 : k0_chk144 v2098), ∀ a, (k0_off253 v2098) a + S32.size a ≤ S3407872.size a := fun v2098 k0_hw144 => k0_hw144.2.2

def k0_off254 (v2107 : BitVec 32) : Fin 1 → Nat :=
  let c0_i32_985 : BitVec 32 := 0#32
  let c32_i32_984 : BitVec 32 := 32#32
  let v2108 : BitVec 32 := Scalar.muli v2107 c32_i32_984
  let v2109 : BitVec 32 := Scalar.addi c0_i32_985 v2108
  let v2110 : BitVec 32 := v2109
  ![v2110.toNat]

def k0_chk145 (v2107 : BitVec 32) : Prop :=
  (8 ∣ (k0_mult122 v2107).toNat) ∧
  (∀ a, (k0_off238 v2107) a + S32.size a ≤ S3407872.size a) ∧
  (∀ a, (k0_off254 v2107) a + S32.size a ≤ S3407872.size a)
theorem k0_mult122_dvd : ∀ (v2107 : BitVec 32) (k0_hw145 : k0_chk145 v2107), 8 ∣ (k0_mult122 v2107).toNat := fun v2107 k0_hw145 => k0_hw145.1
theorem k0_off238_inb : ∀ (v2107 : BitVec 32) (k0_hw145 : k0_chk145 v2107), ∀ a, (k0_off238 v2107) a + S32.size a ≤ S3407872.size a := fun v2107 k0_hw145 => k0_hw145.2.1
theorem k0_off254_inb : ∀ (v2107 : BitVec 32) (k0_hw145 : k0_chk145 v2107), ∀ a, (k0_off254 v2107) a + S32.size a ≤ S3407872.size a := fun v2107 k0_hw145 => k0_hw145.2.2

def k0_off255 (v2116 : BitVec 32) : Fin 1 → Nat :=
  let c0_i32_989 : BitVec 32 := 0#32
  let c32_i32_988 : BitVec 32 := 32#32
  let v2117 : BitVec 32 := Scalar.muli v2116 c32_i32_988
  let v2118 : BitVec 32 := Scalar.addi c0_i32_989 v2117
  let v2119 : BitVec 32 := v2118
  ![v2119.toNat]

def k0_chk146 (v2116 : BitVec 32) : Prop :=
  (8 ∣ (k0_mult123 v2116).toNat) ∧
  (∀ a, (k0_off239 v2116) a + S32.size a ≤ S3407872.size a) ∧
  (∀ a, (k0_off255 v2116) a + S32.size a ≤ S3407872.size a)
theorem k0_mult123_dvd : ∀ (v2116 : BitVec 32) (k0_hw146 : k0_chk146 v2116), 8 ∣ (k0_mult123 v2116).toNat := fun v2116 k0_hw146 => k0_hw146.1
theorem k0_off239_inb : ∀ (v2116 : BitVec 32) (k0_hw146 : k0_chk146 v2116), ∀ a, (k0_off239 v2116) a + S32.size a ≤ S3407872.size a := fun v2116 k0_hw146 => k0_hw146.2.1
theorem k0_off255_inb : ∀ (v2116 : BitVec 32) (k0_hw146 : k0_chk146 v2116), ∀ a, (k0_off255 v2116) a + S32.size a ≤ S3407872.size a := fun v2116 k0_hw146 => k0_hw146.2.2

def k0_off256 (v2125 : BitVec 32) : Fin 1 → Nat :=
  let c0_i32_993 : BitVec 32 := 0#32
  let c32_i32_992 : BitVec 32 := 32#32
  let v2126 : BitVec 32 := Scalar.muli v2125 c32_i32_992
  let v2127 : BitVec 32 := Scalar.addi c0_i32_993 v2126
  let v2128 : BitVec 32 := v2127
  ![v2128.toNat]

def k0_chk147 (v2125 : BitVec 32) : Prop :=
  (8 ∣ (k0_mult124 v2125).toNat) ∧
  (∀ a, (k0_off240 v2125) a + S32.size a ≤ S3407872.size a) ∧
  (∀ a, (k0_off256 v2125) a + S32.size a ≤ S3407872.size a)
theorem k0_mult124_dvd : ∀ (v2125 : BitVec 32) (k0_hw147 : k0_chk147 v2125), 8 ∣ (k0_mult124 v2125).toNat := fun v2125 k0_hw147 => k0_hw147.1
theorem k0_off240_inb : ∀ (v2125 : BitVec 32) (k0_hw147 : k0_chk147 v2125), ∀ a, (k0_off240 v2125) a + S32.size a ≤ S3407872.size a := fun v2125 k0_hw147 => k0_hw147.2.1
theorem k0_off256_inb : ∀ (v2125 : BitVec 32) (k0_hw147 : k0_chk147 v2125), ∀ a, (k0_off256 v2125) a + S32.size a ≤ S3407872.size a := fun v2125 k0_hw147 => k0_hw147.2.2

def k0_off257 (v2134 : BitVec 32) : Fin 1 → Nat :=
  let c0_i32_997 : BitVec 32 := 0#32
  let c32_i32_996 : BitVec 32 := 32#32
  let v2135 : BitVec 32 := Scalar.muli v2134 c32_i32_996
  let v2136 : BitVec 32 := Scalar.addi c0_i32_997 v2135
  let v2137 : BitVec 32 := v2136
  ![v2137.toNat]

def k0_chk148 (v2134 : BitVec 32) : Prop :=
  (8 ∣ (k0_mult125 v2134).toNat) ∧
  (∀ a, (k0_off241 v2134) a + S32.size a ≤ S3407872.size a) ∧
  (∀ a, (k0_off257 v2134) a + S32.size a ≤ S3407872.size a)
theorem k0_mult125_dvd : ∀ (v2134 : BitVec 32) (k0_hw148 : k0_chk148 v2134), 8 ∣ (k0_mult125 v2134).toNat := fun v2134 k0_hw148 => k0_hw148.1
theorem k0_off241_inb : ∀ (v2134 : BitVec 32) (k0_hw148 : k0_chk148 v2134), ∀ a, (k0_off241 v2134) a + S32.size a ≤ S3407872.size a := fun v2134 k0_hw148 => k0_hw148.2.1
theorem k0_off257_inb : ∀ (v2134 : BitVec 32) (k0_hw148 : k0_chk148 v2134), ∀ a, (k0_off257 v2134) a + S32.size a ≤ S3407872.size a := fun v2134 k0_hw148 => k0_hw148.2.2

def k0_off258 (v2143 : BitVec 32) : Fin 1 → Nat :=
  let c0_i32_1001 : BitVec 32 := 0#32
  let c32_i32_1000 : BitVec 32 := 32#32
  let v2144 : BitVec 32 := Scalar.muli v2143 c32_i32_1000
  let v2145 : BitVec 32 := Scalar.addi c0_i32_1001 v2144
  let v2146 : BitVec 32 := v2145
  ![v2146.toNat]

def k0_chk149 (v2143 : BitVec 32) : Prop :=
  (8 ∣ (k0_mult126 v2143).toNat) ∧
  (∀ a, (k0_off242 v2143) a + S32.size a ≤ S3407872.size a) ∧
  (∀ a, (k0_off258 v2143) a + S32.size a ≤ S3407872.size a)
theorem k0_mult126_dvd : ∀ (v2143 : BitVec 32) (k0_hw149 : k0_chk149 v2143), 8 ∣ (k0_mult126 v2143).toNat := fun v2143 k0_hw149 => k0_hw149.1
theorem k0_off242_inb : ∀ (v2143 : BitVec 32) (k0_hw149 : k0_chk149 v2143), ∀ a, (k0_off242 v2143) a + S32.size a ≤ S3407872.size a := fun v2143 k0_hw149 => k0_hw149.2.1
theorem k0_off258_inb : ∀ (v2143 : BitVec 32) (k0_hw149 : k0_chk149 v2143), ∀ a, (k0_off258 v2143) a + S32.size a ≤ S3407872.size a := fun v2143 k0_hw149 => k0_hw149.2.2

def k0_off259 (v2152 : BitVec 32) : Fin 1 → Nat :=
  let c0_i32_1005 : BitVec 32 := 0#32
  let c32_i32_1004 : BitVec 32 := 32#32
  let v2153 : BitVec 32 := Scalar.muli v2152 c32_i32_1004
  let v2154 : BitVec 32 := Scalar.addi c0_i32_1005 v2153
  let v2155 : BitVec 32 := v2154
  ![v2155.toNat]

def k0_chk150 (v2152 : BitVec 32) : Prop :=
  (8 ∣ (k0_mult127 v2152).toNat) ∧
  (∀ a, (k0_off243 v2152) a + S32.size a ≤ S3407872.size a) ∧
  (∀ a, (k0_off259 v2152) a + S32.size a ≤ S3407872.size a)
theorem k0_mult127_dvd : ∀ (v2152 : BitVec 32) (k0_hw150 : k0_chk150 v2152), 8 ∣ (k0_mult127 v2152).toNat := fun v2152 k0_hw150 => k0_hw150.1
theorem k0_off243_inb : ∀ (v2152 : BitVec 32) (k0_hw150 : k0_chk150 v2152), ∀ a, (k0_off243 v2152) a + S32.size a ≤ S3407872.size a := fun v2152 k0_hw150 => k0_hw150.2.1
theorem k0_off259_inb : ∀ (v2152 : BitVec 32) (k0_hw150 : k0_chk150 v2152), ∀ a, (k0_off259 v2152) a + S32.size a ≤ S3407872.size a := fun v2152 k0_hw150 => k0_hw150.2.2

def k0_off260 (v2161 : BitVec 32) : Fin 1 → Nat :=
  let c0_i32_1009 : BitVec 32 := 0#32
  let c32_i32_1008 : BitVec 32 := 32#32
  let v2162 : BitVec 32 := Scalar.muli v2161 c32_i32_1008
  let v2163 : BitVec 32 := Scalar.addi c0_i32_1009 v2162
  let v2164 : BitVec 32 := v2163
  ![v2164.toNat]

def k0_chk151 (v2161 : BitVec 32) : Prop :=
  (8 ∣ (k0_mult128 v2161).toNat) ∧
  (∀ a, (k0_off244 v2161) a + S32.size a ≤ S3407872.size a) ∧
  (∀ a, (k0_off260 v2161) a + S32.size a ≤ S3407872.size a)
theorem k0_mult128_dvd : ∀ (v2161 : BitVec 32) (k0_hw151 : k0_chk151 v2161), 8 ∣ (k0_mult128 v2161).toNat := fun v2161 k0_hw151 => k0_hw151.1
theorem k0_off244_inb : ∀ (v2161 : BitVec 32) (k0_hw151 : k0_chk151 v2161), ∀ a, (k0_off244 v2161) a + S32.size a ≤ S3407872.size a := fun v2161 k0_hw151 => k0_hw151.2.1
theorem k0_off260_inb : ∀ (v2161 : BitVec 32) (k0_hw151 : k0_chk151 v2161), ∀ a, (k0_off260 v2161) a + S32.size a ≤ S3407872.size a := fun v2161 k0_hw151 => k0_hw151.2.2

def k0_mult130 (v2245 : BitVec 32) : BitVec 32 :=
  let c999936_i32_1050 : BitVec 32 := 999936#32
  let v2246 : BitVec 32 := Scalar.subi v2245 c999936_i32_1050
  let c32_i32_1051 : BitVec 32 := 32#32
  let v2247 : BitVec 32 := Scalar.muli v2246 c32_i32_1051
  v2247

def k0_off261 (v2245 : BitVec 32) : Fin 1 → Nat :=
  let c999936_i32_1050 : BitVec 32 := 999936#32
  let v2246 : BitVec 32 := Scalar.subi v2245 c999936_i32_1050
  let c32_i32_1051 : BitVec 32 := 32#32
  let v2247 : BitVec 32 := Scalar.muli v2246 c32_i32_1051
  let v2248 : BitVec 32 := v2247
  ![v2248.toNat]
def k0_mult131 (v2254 : BitVec 32) : BitVec 32 :=
  let c999936_i32_1053 : BitVec 32 := 999936#32
  let v2255 : BitVec 32 := Scalar.subi v2254 c999936_i32_1053
  let c32_i32_1054 : BitVec 32 := 32#32
  let v2256 : BitVec 32 := Scalar.muli v2255 c32_i32_1054
  v2256

def k0_off262 (v2254 : BitVec 32) : Fin 1 → Nat :=
  let c999936_i32_1053 : BitVec 32 := 999936#32
  let v2255 : BitVec 32 := Scalar.subi v2254 c999936_i32_1053
  let c32_i32_1054 : BitVec 32 := 32#32
  let v2256 : BitVec 32 := Scalar.muli v2255 c32_i32_1054
  let v2257 : BitVec 32 := v2256
  ![v2257.toNat]
def k0_mult132 (v2263 : BitVec 32) : BitVec 32 :=
  let c999936_i32_1056 : BitVec 32 := 999936#32
  let v2264 : BitVec 32 := Scalar.subi v2263 c999936_i32_1056
  let c32_i32_1057 : BitVec 32 := 32#32
  let v2265 : BitVec 32 := Scalar.muli v2264 c32_i32_1057
  v2265

def k0_off263 (v2263 : BitVec 32) : Fin 1 → Nat :=
  let c999936_i32_1056 : BitVec 32 := 999936#32
  let v2264 : BitVec 32 := Scalar.subi v2263 c999936_i32_1056
  let c32_i32_1057 : BitVec 32 := 32#32
  let v2265 : BitVec 32 := Scalar.muli v2264 c32_i32_1057
  let v2266 : BitVec 32 := v2265
  ![v2266.toNat]
def k0_mult133 (v2272 : BitVec 32) : BitVec 32 :=
  let c999936_i32_1059 : BitVec 32 := 999936#32
  let v2273 : BitVec 32 := Scalar.subi v2272 c999936_i32_1059
  let c32_i32_1060 : BitVec 32 := 32#32
  let v2274 : BitVec 32 := Scalar.muli v2273 c32_i32_1060
  v2274

def k0_off264 (v2272 : BitVec 32) : Fin 1 → Nat :=
  let c999936_i32_1059 : BitVec 32 := 999936#32
  let v2273 : BitVec 32 := Scalar.subi v2272 c999936_i32_1059
  let c32_i32_1060 : BitVec 32 := 32#32
  let v2274 : BitVec 32 := Scalar.muli v2273 c32_i32_1060
  let v2275 : BitVec 32 := v2274
  ![v2275.toNat]
def k0_mult134 (v2281 : BitVec 32) : BitVec 32 :=
  let c999936_i32_1062 : BitVec 32 := 999936#32
  let v2282 : BitVec 32 := Scalar.subi v2281 c999936_i32_1062
  let c32_i32_1063 : BitVec 32 := 32#32
  let v2283 : BitVec 32 := Scalar.muli v2282 c32_i32_1063
  v2283

def k0_off265 (v2281 : BitVec 32) : Fin 1 → Nat :=
  let c999936_i32_1062 : BitVec 32 := 999936#32
  let v2282 : BitVec 32 := Scalar.subi v2281 c999936_i32_1062
  let c32_i32_1063 : BitVec 32 := 32#32
  let v2283 : BitVec 32 := Scalar.muli v2282 c32_i32_1063
  let v2284 : BitVec 32 := v2283
  ![v2284.toNat]
def k0_mult135 (v2290 : BitVec 32) : BitVec 32 :=
  let c999936_i32_1065 : BitVec 32 := 999936#32
  let v2291 : BitVec 32 := Scalar.subi v2290 c999936_i32_1065
  let c32_i32_1066 : BitVec 32 := 32#32
  let v2292 : BitVec 32 := Scalar.muli v2291 c32_i32_1066
  v2292

def k0_off266 (v2290 : BitVec 32) : Fin 1 → Nat :=
  let c999936_i32_1065 : BitVec 32 := 999936#32
  let v2291 : BitVec 32 := Scalar.subi v2290 c999936_i32_1065
  let c32_i32_1066 : BitVec 32 := 32#32
  let v2292 : BitVec 32 := Scalar.muli v2291 c32_i32_1066
  let v2293 : BitVec 32 := v2292
  ![v2293.toNat]
def k0_mult136 (v2299 : BitVec 32) : BitVec 32 :=
  let c999936_i32_1068 : BitVec 32 := 999936#32
  let v2300 : BitVec 32 := Scalar.subi v2299 c999936_i32_1068
  let c32_i32_1069 : BitVec 32 := 32#32
  let v2301 : BitVec 32 := Scalar.muli v2300 c32_i32_1069
  v2301

def k0_off267 (v2299 : BitVec 32) : Fin 1 → Nat :=
  let c999936_i32_1068 : BitVec 32 := 999936#32
  let v2300 : BitVec 32 := Scalar.subi v2299 c999936_i32_1068
  let c32_i32_1069 : BitVec 32 := 32#32
  let v2301 : BitVec 32 := Scalar.muli v2300 c32_i32_1069
  let v2302 : BitVec 32 := v2301
  ![v2302.toNat]
def k0_mult137 (v2308 : BitVec 32) : BitVec 32 :=
  let c999936_i32_1071 : BitVec 32 := 999936#32
  let v2309 : BitVec 32 := Scalar.subi v2308 c999936_i32_1071
  let c32_i32_1072 : BitVec 32 := 32#32
  let v2310 : BitVec 32 := Scalar.muli v2309 c32_i32_1072
  v2310

def k0_off268 (v2308 : BitVec 32) : Fin 1 → Nat :=
  let c999936_i32_1071 : BitVec 32 := 999936#32
  let v2309 : BitVec 32 := Scalar.subi v2308 c999936_i32_1071
  let c32_i32_1072 : BitVec 32 := 32#32
  let v2310 : BitVec 32 := Scalar.muli v2309 c32_i32_1072
  let v2311 : BitVec 32 := v2310
  ![v2311.toNat]
def k0_mult138 (v2317 : BitVec 32) : BitVec 32 :=
  let c999936_i32_1074 : BitVec 32 := 999936#32
  let v2318 : BitVec 32 := Scalar.subi v2317 c999936_i32_1074
  let c32_i32_1075 : BitVec 32 := 32#32
  let v2319 : BitVec 32 := Scalar.muli v2318 c32_i32_1075
  v2319

def k0_off269 (v2317 : BitVec 32) : Fin 1 → Nat :=
  let c999936_i32_1074 : BitVec 32 := 999936#32
  let v2318 : BitVec 32 := Scalar.subi v2317 c999936_i32_1074
  let c32_i32_1075 : BitVec 32 := 32#32
  let v2319 : BitVec 32 := Scalar.muli v2318 c32_i32_1075
  let v2320 : BitVec 32 := v2319
  ![v2320.toNat]
def k0_mult139 (v2326 : BitVec 32) : BitVec 32 :=
  let c999936_i32_1077 : BitVec 32 := 999936#32
  let v2327 : BitVec 32 := Scalar.subi v2326 c999936_i32_1077
  let c32_i32_1078 : BitVec 32 := 32#32
  let v2328 : BitVec 32 := Scalar.muli v2327 c32_i32_1078
  v2328

def k0_off270 (v2326 : BitVec 32) : Fin 1 → Nat :=
  let c999936_i32_1077 : BitVec 32 := 999936#32
  let v2327 : BitVec 32 := Scalar.subi v2326 c999936_i32_1077
  let c32_i32_1078 : BitVec 32 := 32#32
  let v2328 : BitVec 32 := Scalar.muli v2327 c32_i32_1078
  let v2329 : BitVec 32 := v2328
  ![v2329.toNat]
def k0_mult140 (v2335 : BitVec 32) : BitVec 32 :=
  let c999936_i32_1080 : BitVec 32 := 999936#32
  let v2336 : BitVec 32 := Scalar.subi v2335 c999936_i32_1080
  let c32_i32_1081 : BitVec 32 := 32#32
  let v2337 : BitVec 32 := Scalar.muli v2336 c32_i32_1081
  v2337

def k0_off271 (v2335 : BitVec 32) : Fin 1 → Nat :=
  let c999936_i32_1080 : BitVec 32 := 999936#32
  let v2336 : BitVec 32 := Scalar.subi v2335 c999936_i32_1080
  let c32_i32_1081 : BitVec 32 := 32#32
  let v2337 : BitVec 32 := Scalar.muli v2336 c32_i32_1081
  let v2338 : BitVec 32 := v2337
  ![v2338.toNat]
def k0_mult141 (v2344 : BitVec 32) : BitVec 32 :=
  let c999936_i32_1083 : BitVec 32 := 999936#32
  let v2345 : BitVec 32 := Scalar.subi v2344 c999936_i32_1083
  let c32_i32_1084 : BitVec 32 := 32#32
  let v2346 : BitVec 32 := Scalar.muli v2345 c32_i32_1084
  v2346

def k0_off272 (v2344 : BitVec 32) : Fin 1 → Nat :=
  let c999936_i32_1083 : BitVec 32 := 999936#32
  let v2345 : BitVec 32 := Scalar.subi v2344 c999936_i32_1083
  let c32_i32_1084 : BitVec 32 := 32#32
  let v2346 : BitVec 32 := Scalar.muli v2345 c32_i32_1084
  let v2347 : BitVec 32 := v2346
  ![v2347.toNat]
def k0_mult142 (v2353 : BitVec 32) : BitVec 32 :=
  let c999936_i32_1086 : BitVec 32 := 999936#32
  let v2354 : BitVec 32 := Scalar.subi v2353 c999936_i32_1086
  let c32_i32_1087 : BitVec 32 := 32#32
  let v2355 : BitVec 32 := Scalar.muli v2354 c32_i32_1087
  v2355

def k0_off273 (v2353 : BitVec 32) : Fin 1 → Nat :=
  let c999936_i32_1086 : BitVec 32 := 999936#32
  let v2354 : BitVec 32 := Scalar.subi v2353 c999936_i32_1086
  let c32_i32_1087 : BitVec 32 := 32#32
  let v2355 : BitVec 32 := Scalar.muli v2354 c32_i32_1087
  let v2356 : BitVec 32 := v2355
  ![v2356.toNat]
def k0_mult143 (v2362 : BitVec 32) : BitVec 32 :=
  let c999936_i32_1089 : BitVec 32 := 999936#32
  let v2363 : BitVec 32 := Scalar.subi v2362 c999936_i32_1089
  let c32_i32_1090 : BitVec 32 := 32#32
  let v2364 : BitVec 32 := Scalar.muli v2363 c32_i32_1090
  v2364

def k0_off274 (v2362 : BitVec 32) : Fin 1 → Nat :=
  let c999936_i32_1089 : BitVec 32 := 999936#32
  let v2363 : BitVec 32 := Scalar.subi v2362 c999936_i32_1089
  let c32_i32_1090 : BitVec 32 := 32#32
  let v2364 : BitVec 32 := Scalar.muli v2363 c32_i32_1090
  let v2365 : BitVec 32 := v2364
  ![v2365.toNat]
def k0_mult144 (v2371 : BitVec 32) : BitVec 32 :=
  let c999936_i32_1092 : BitVec 32 := 999936#32
  let v2372 : BitVec 32 := Scalar.subi v2371 c999936_i32_1092
  let c32_i32_1093 : BitVec 32 := 32#32
  let v2373 : BitVec 32 := Scalar.muli v2372 c32_i32_1093
  v2373

def k0_off275 (v2371 : BitVec 32) : Fin 1 → Nat :=
  let c999936_i32_1092 : BitVec 32 := 999936#32
  let v2372 : BitVec 32 := Scalar.subi v2371 c999936_i32_1092
  let c32_i32_1093 : BitVec 32 := 32#32
  let v2373 : BitVec 32 := Scalar.muli v2372 c32_i32_1093
  let v2374 : BitVec 32 := v2373
  ![v2374.toNat]
def k0_mult145 (v2380 : BitVec 32) : BitVec 32 :=
  let c999936_i32_1095 : BitVec 32 := 999936#32
  let v2381 : BitVec 32 := Scalar.subi v2380 c999936_i32_1095
  let c32_i32_1096 : BitVec 32 := 32#32
  let v2382 : BitVec 32 := Scalar.muli v2381 c32_i32_1096
  v2382

def k0_off276 (v2380 : BitVec 32) : Fin 1 → Nat :=
  let c999936_i32_1095 : BitVec 32 := 999936#32
  let v2381 : BitVec 32 := Scalar.subi v2380 c999936_i32_1095
  let c32_i32_1096 : BitVec 32 := 32#32
  let v2382 : BitVec 32 := Scalar.muli v2381 c32_i32_1096
  let v2383 : BitVec 32 := v2382
  ![v2383.toNat]

def k0_chk168 (v2380 : BitVec 32) : Prop :=
  (8 ∣ (k0_mult145 v2380).toNat) ∧
  (∀ a, (k0_off276 v2380) a + S32.size a ≤ S2048.size a)
theorem k0_mult145_dvd : ∀ (v2380 : BitVec 32) (k0_hw168 : k0_chk168 v2380), 8 ∣ (k0_mult145 v2380).toNat := fun v2380 k0_hw168 => k0_hw168.1
theorem k0_off276_inb : ∀ (v2380 : BitVec 32) (k0_hw168 : k0_chk168 v2380), ∀ a, (k0_off276 v2380) a + S32.size a ≤ S2048.size a := fun v2380 k0_hw168 => k0_hw168.2

def k0_off277 (v2245 : BitVec 32) : Fin 1 → Nat :=
  let c999936_i32_1050 : BitVec 32 := 999936#32
  let v2246 : BitVec 32 := Scalar.subi v2245 c999936_i32_1050
  let c32_i32_1051 : BitVec 32 := 32#32
  let v2247 : BitVec 32 := Scalar.muli v2246 c32_i32_1051
  let v2248 : BitVec 32 := v2247
  ![v2248.toNat]

def k0_chk153 (v2245 : BitVec 32) : Prop :=
  (8 ∣ (k0_mult130 v2245).toNat) ∧
  (∀ a, (k0_off261 v2245) a + S32.size a ≤ S2048.size a) ∧
  (∀ a, (k0_off277 v2245) a + S32.size a ≤ S2048.size a)
theorem k0_mult130_dvd : ∀ (v2245 : BitVec 32) (k0_hw153 : k0_chk153 v2245), 8 ∣ (k0_mult130 v2245).toNat := fun v2245 k0_hw153 => k0_hw153.1
theorem k0_off261_inb : ∀ (v2245 : BitVec 32) (k0_hw153 : k0_chk153 v2245), ∀ a, (k0_off261 v2245) a + S32.size a ≤ S2048.size a := fun v2245 k0_hw153 => k0_hw153.2.1
theorem k0_off277_inb : ∀ (v2245 : BitVec 32) (k0_hw153 : k0_chk153 v2245), ∀ a, (k0_off277 v2245) a + S32.size a ≤ S2048.size a := fun v2245 k0_hw153 => k0_hw153.2.2

def k0_off278 (v2254 : BitVec 32) : Fin 1 → Nat :=
  let c999936_i32_1053 : BitVec 32 := 999936#32
  let v2255 : BitVec 32 := Scalar.subi v2254 c999936_i32_1053
  let c32_i32_1054 : BitVec 32 := 32#32
  let v2256 : BitVec 32 := Scalar.muli v2255 c32_i32_1054
  let v2257 : BitVec 32 := v2256
  ![v2257.toNat]

def k0_chk154 (v2254 : BitVec 32) : Prop :=
  (8 ∣ (k0_mult131 v2254).toNat) ∧
  (∀ a, (k0_off262 v2254) a + S32.size a ≤ S2048.size a) ∧
  (∀ a, (k0_off278 v2254) a + S32.size a ≤ S2048.size a)
theorem k0_mult131_dvd : ∀ (v2254 : BitVec 32) (k0_hw154 : k0_chk154 v2254), 8 ∣ (k0_mult131 v2254).toNat := fun v2254 k0_hw154 => k0_hw154.1
theorem k0_off262_inb : ∀ (v2254 : BitVec 32) (k0_hw154 : k0_chk154 v2254), ∀ a, (k0_off262 v2254) a + S32.size a ≤ S2048.size a := fun v2254 k0_hw154 => k0_hw154.2.1
theorem k0_off278_inb : ∀ (v2254 : BitVec 32) (k0_hw154 : k0_chk154 v2254), ∀ a, (k0_off278 v2254) a + S32.size a ≤ S2048.size a := fun v2254 k0_hw154 => k0_hw154.2.2

def k0_off279 (v2263 : BitVec 32) : Fin 1 → Nat :=
  let c999936_i32_1056 : BitVec 32 := 999936#32
  let v2264 : BitVec 32 := Scalar.subi v2263 c999936_i32_1056
  let c32_i32_1057 : BitVec 32 := 32#32
  let v2265 : BitVec 32 := Scalar.muli v2264 c32_i32_1057
  let v2266 : BitVec 32 := v2265
  ![v2266.toNat]

def k0_chk155 (v2263 : BitVec 32) : Prop :=
  (8 ∣ (k0_mult132 v2263).toNat) ∧
  (∀ a, (k0_off263 v2263) a + S32.size a ≤ S2048.size a) ∧
  (∀ a, (k0_off279 v2263) a + S32.size a ≤ S2048.size a)
theorem k0_mult132_dvd : ∀ (v2263 : BitVec 32) (k0_hw155 : k0_chk155 v2263), 8 ∣ (k0_mult132 v2263).toNat := fun v2263 k0_hw155 => k0_hw155.1
theorem k0_off263_inb : ∀ (v2263 : BitVec 32) (k0_hw155 : k0_chk155 v2263), ∀ a, (k0_off263 v2263) a + S32.size a ≤ S2048.size a := fun v2263 k0_hw155 => k0_hw155.2.1
theorem k0_off279_inb : ∀ (v2263 : BitVec 32) (k0_hw155 : k0_chk155 v2263), ∀ a, (k0_off279 v2263) a + S32.size a ≤ S2048.size a := fun v2263 k0_hw155 => k0_hw155.2.2

def k0_off280 (v2272 : BitVec 32) : Fin 1 → Nat :=
  let c999936_i32_1059 : BitVec 32 := 999936#32
  let v2273 : BitVec 32 := Scalar.subi v2272 c999936_i32_1059
  let c32_i32_1060 : BitVec 32 := 32#32
  let v2274 : BitVec 32 := Scalar.muli v2273 c32_i32_1060
  let v2275 : BitVec 32 := v2274
  ![v2275.toNat]

def k0_chk156 (v2272 : BitVec 32) : Prop :=
  (8 ∣ (k0_mult133 v2272).toNat) ∧
  (∀ a, (k0_off264 v2272) a + S32.size a ≤ S2048.size a) ∧
  (∀ a, (k0_off280 v2272) a + S32.size a ≤ S2048.size a)
theorem k0_mult133_dvd : ∀ (v2272 : BitVec 32) (k0_hw156 : k0_chk156 v2272), 8 ∣ (k0_mult133 v2272).toNat := fun v2272 k0_hw156 => k0_hw156.1
theorem k0_off264_inb : ∀ (v2272 : BitVec 32) (k0_hw156 : k0_chk156 v2272), ∀ a, (k0_off264 v2272) a + S32.size a ≤ S2048.size a := fun v2272 k0_hw156 => k0_hw156.2.1
theorem k0_off280_inb : ∀ (v2272 : BitVec 32) (k0_hw156 : k0_chk156 v2272), ∀ a, (k0_off280 v2272) a + S32.size a ≤ S2048.size a := fun v2272 k0_hw156 => k0_hw156.2.2

def k0_off281 (v2281 : BitVec 32) : Fin 1 → Nat :=
  let c999936_i32_1062 : BitVec 32 := 999936#32
  let v2282 : BitVec 32 := Scalar.subi v2281 c999936_i32_1062
  let c32_i32_1063 : BitVec 32 := 32#32
  let v2283 : BitVec 32 := Scalar.muli v2282 c32_i32_1063
  let v2284 : BitVec 32 := v2283
  ![v2284.toNat]

def k0_chk157 (v2281 : BitVec 32) : Prop :=
  (8 ∣ (k0_mult134 v2281).toNat) ∧
  (∀ a, (k0_off265 v2281) a + S32.size a ≤ S2048.size a) ∧
  (∀ a, (k0_off281 v2281) a + S32.size a ≤ S2048.size a)
theorem k0_mult134_dvd : ∀ (v2281 : BitVec 32) (k0_hw157 : k0_chk157 v2281), 8 ∣ (k0_mult134 v2281).toNat := fun v2281 k0_hw157 => k0_hw157.1
theorem k0_off265_inb : ∀ (v2281 : BitVec 32) (k0_hw157 : k0_chk157 v2281), ∀ a, (k0_off265 v2281) a + S32.size a ≤ S2048.size a := fun v2281 k0_hw157 => k0_hw157.2.1
theorem k0_off281_inb : ∀ (v2281 : BitVec 32) (k0_hw157 : k0_chk157 v2281), ∀ a, (k0_off281 v2281) a + S32.size a ≤ S2048.size a := fun v2281 k0_hw157 => k0_hw157.2.2

def k0_off282 (v2290 : BitVec 32) : Fin 1 → Nat :=
  let c999936_i32_1065 : BitVec 32 := 999936#32
  let v2291 : BitVec 32 := Scalar.subi v2290 c999936_i32_1065
  let c32_i32_1066 : BitVec 32 := 32#32
  let v2292 : BitVec 32 := Scalar.muli v2291 c32_i32_1066
  let v2293 : BitVec 32 := v2292
  ![v2293.toNat]

def k0_chk158 (v2290 : BitVec 32) : Prop :=
  (8 ∣ (k0_mult135 v2290).toNat) ∧
  (∀ a, (k0_off266 v2290) a + S32.size a ≤ S2048.size a) ∧
  (∀ a, (k0_off282 v2290) a + S32.size a ≤ S2048.size a)
theorem k0_mult135_dvd : ∀ (v2290 : BitVec 32) (k0_hw158 : k0_chk158 v2290), 8 ∣ (k0_mult135 v2290).toNat := fun v2290 k0_hw158 => k0_hw158.1
theorem k0_off266_inb : ∀ (v2290 : BitVec 32) (k0_hw158 : k0_chk158 v2290), ∀ a, (k0_off266 v2290) a + S32.size a ≤ S2048.size a := fun v2290 k0_hw158 => k0_hw158.2.1
theorem k0_off282_inb : ∀ (v2290 : BitVec 32) (k0_hw158 : k0_chk158 v2290), ∀ a, (k0_off282 v2290) a + S32.size a ≤ S2048.size a := fun v2290 k0_hw158 => k0_hw158.2.2

def k0_off283 (v2299 : BitVec 32) : Fin 1 → Nat :=
  let c999936_i32_1068 : BitVec 32 := 999936#32
  let v2300 : BitVec 32 := Scalar.subi v2299 c999936_i32_1068
  let c32_i32_1069 : BitVec 32 := 32#32
  let v2301 : BitVec 32 := Scalar.muli v2300 c32_i32_1069
  let v2302 : BitVec 32 := v2301
  ![v2302.toNat]

def k0_chk159 (v2299 : BitVec 32) : Prop :=
  (8 ∣ (k0_mult136 v2299).toNat) ∧
  (∀ a, (k0_off267 v2299) a + S32.size a ≤ S2048.size a) ∧
  (∀ a, (k0_off283 v2299) a + S32.size a ≤ S2048.size a)
theorem k0_mult136_dvd : ∀ (v2299 : BitVec 32) (k0_hw159 : k0_chk159 v2299), 8 ∣ (k0_mult136 v2299).toNat := fun v2299 k0_hw159 => k0_hw159.1
theorem k0_off267_inb : ∀ (v2299 : BitVec 32) (k0_hw159 : k0_chk159 v2299), ∀ a, (k0_off267 v2299) a + S32.size a ≤ S2048.size a := fun v2299 k0_hw159 => k0_hw159.2.1
theorem k0_off283_inb : ∀ (v2299 : BitVec 32) (k0_hw159 : k0_chk159 v2299), ∀ a, (k0_off283 v2299) a + S32.size a ≤ S2048.size a := fun v2299 k0_hw159 => k0_hw159.2.2

def k0_off284 (v2308 : BitVec 32) : Fin 1 → Nat :=
  let c999936_i32_1071 : BitVec 32 := 999936#32
  let v2309 : BitVec 32 := Scalar.subi v2308 c999936_i32_1071
  let c32_i32_1072 : BitVec 32 := 32#32
  let v2310 : BitVec 32 := Scalar.muli v2309 c32_i32_1072
  let v2311 : BitVec 32 := v2310
  ![v2311.toNat]

def k0_chk160 (v2308 : BitVec 32) : Prop :=
  (8 ∣ (k0_mult137 v2308).toNat) ∧
  (∀ a, (k0_off268 v2308) a + S32.size a ≤ S2048.size a) ∧
  (∀ a, (k0_off284 v2308) a + S32.size a ≤ S2048.size a)
theorem k0_mult137_dvd : ∀ (v2308 : BitVec 32) (k0_hw160 : k0_chk160 v2308), 8 ∣ (k0_mult137 v2308).toNat := fun v2308 k0_hw160 => k0_hw160.1
theorem k0_off268_inb : ∀ (v2308 : BitVec 32) (k0_hw160 : k0_chk160 v2308), ∀ a, (k0_off268 v2308) a + S32.size a ≤ S2048.size a := fun v2308 k0_hw160 => k0_hw160.2.1
theorem k0_off284_inb : ∀ (v2308 : BitVec 32) (k0_hw160 : k0_chk160 v2308), ∀ a, (k0_off284 v2308) a + S32.size a ≤ S2048.size a := fun v2308 k0_hw160 => k0_hw160.2.2

def k0_off285 (v2317 : BitVec 32) : Fin 1 → Nat :=
  let c999936_i32_1074 : BitVec 32 := 999936#32
  let v2318 : BitVec 32 := Scalar.subi v2317 c999936_i32_1074
  let c32_i32_1075 : BitVec 32 := 32#32
  let v2319 : BitVec 32 := Scalar.muli v2318 c32_i32_1075
  let v2320 : BitVec 32 := v2319
  ![v2320.toNat]

def k0_chk161 (v2317 : BitVec 32) : Prop :=
  (8 ∣ (k0_mult138 v2317).toNat) ∧
  (∀ a, (k0_off269 v2317) a + S32.size a ≤ S2048.size a) ∧
  (∀ a, (k0_off285 v2317) a + S32.size a ≤ S2048.size a)
theorem k0_mult138_dvd : ∀ (v2317 : BitVec 32) (k0_hw161 : k0_chk161 v2317), 8 ∣ (k0_mult138 v2317).toNat := fun v2317 k0_hw161 => k0_hw161.1
theorem k0_off269_inb : ∀ (v2317 : BitVec 32) (k0_hw161 : k0_chk161 v2317), ∀ a, (k0_off269 v2317) a + S32.size a ≤ S2048.size a := fun v2317 k0_hw161 => k0_hw161.2.1
theorem k0_off285_inb : ∀ (v2317 : BitVec 32) (k0_hw161 : k0_chk161 v2317), ∀ a, (k0_off285 v2317) a + S32.size a ≤ S2048.size a := fun v2317 k0_hw161 => k0_hw161.2.2

def k0_off286 (v2326 : BitVec 32) : Fin 1 → Nat :=
  let c999936_i32_1077 : BitVec 32 := 999936#32
  let v2327 : BitVec 32 := Scalar.subi v2326 c999936_i32_1077
  let c32_i32_1078 : BitVec 32 := 32#32
  let v2328 : BitVec 32 := Scalar.muli v2327 c32_i32_1078
  let v2329 : BitVec 32 := v2328
  ![v2329.toNat]

def k0_chk162 (v2326 : BitVec 32) : Prop :=
  (8 ∣ (k0_mult139 v2326).toNat) ∧
  (∀ a, (k0_off270 v2326) a + S32.size a ≤ S2048.size a) ∧
  (∀ a, (k0_off286 v2326) a + S32.size a ≤ S2048.size a)
theorem k0_mult139_dvd : ∀ (v2326 : BitVec 32) (k0_hw162 : k0_chk162 v2326), 8 ∣ (k0_mult139 v2326).toNat := fun v2326 k0_hw162 => k0_hw162.1
theorem k0_off270_inb : ∀ (v2326 : BitVec 32) (k0_hw162 : k0_chk162 v2326), ∀ a, (k0_off270 v2326) a + S32.size a ≤ S2048.size a := fun v2326 k0_hw162 => k0_hw162.2.1
theorem k0_off286_inb : ∀ (v2326 : BitVec 32) (k0_hw162 : k0_chk162 v2326), ∀ a, (k0_off286 v2326) a + S32.size a ≤ S2048.size a := fun v2326 k0_hw162 => k0_hw162.2.2

def k0_off287 (v2335 : BitVec 32) : Fin 1 → Nat :=
  let c999936_i32_1080 : BitVec 32 := 999936#32
  let v2336 : BitVec 32 := Scalar.subi v2335 c999936_i32_1080
  let c32_i32_1081 : BitVec 32 := 32#32
  let v2337 : BitVec 32 := Scalar.muli v2336 c32_i32_1081
  let v2338 : BitVec 32 := v2337
  ![v2338.toNat]

def k0_chk163 (v2335 : BitVec 32) : Prop :=
  (8 ∣ (k0_mult140 v2335).toNat) ∧
  (∀ a, (k0_off271 v2335) a + S32.size a ≤ S2048.size a) ∧
  (∀ a, (k0_off287 v2335) a + S32.size a ≤ S2048.size a)
theorem k0_mult140_dvd : ∀ (v2335 : BitVec 32) (k0_hw163 : k0_chk163 v2335), 8 ∣ (k0_mult140 v2335).toNat := fun v2335 k0_hw163 => k0_hw163.1
theorem k0_off271_inb : ∀ (v2335 : BitVec 32) (k0_hw163 : k0_chk163 v2335), ∀ a, (k0_off271 v2335) a + S32.size a ≤ S2048.size a := fun v2335 k0_hw163 => k0_hw163.2.1
theorem k0_off287_inb : ∀ (v2335 : BitVec 32) (k0_hw163 : k0_chk163 v2335), ∀ a, (k0_off287 v2335) a + S32.size a ≤ S2048.size a := fun v2335 k0_hw163 => k0_hw163.2.2

def k0_off288 (v2344 : BitVec 32) : Fin 1 → Nat :=
  let c999936_i32_1083 : BitVec 32 := 999936#32
  let v2345 : BitVec 32 := Scalar.subi v2344 c999936_i32_1083
  let c32_i32_1084 : BitVec 32 := 32#32
  let v2346 : BitVec 32 := Scalar.muli v2345 c32_i32_1084
  let v2347 : BitVec 32 := v2346
  ![v2347.toNat]

def k0_chk164 (v2344 : BitVec 32) : Prop :=
  (8 ∣ (k0_mult141 v2344).toNat) ∧
  (∀ a, (k0_off272 v2344) a + S32.size a ≤ S2048.size a) ∧
  (∀ a, (k0_off288 v2344) a + S32.size a ≤ S2048.size a)
theorem k0_mult141_dvd : ∀ (v2344 : BitVec 32) (k0_hw164 : k0_chk164 v2344), 8 ∣ (k0_mult141 v2344).toNat := fun v2344 k0_hw164 => k0_hw164.1
theorem k0_off272_inb : ∀ (v2344 : BitVec 32) (k0_hw164 : k0_chk164 v2344), ∀ a, (k0_off272 v2344) a + S32.size a ≤ S2048.size a := fun v2344 k0_hw164 => k0_hw164.2.1
theorem k0_off288_inb : ∀ (v2344 : BitVec 32) (k0_hw164 : k0_chk164 v2344), ∀ a, (k0_off288 v2344) a + S32.size a ≤ S2048.size a := fun v2344 k0_hw164 => k0_hw164.2.2

def k0_off289 (v2353 : BitVec 32) : Fin 1 → Nat :=
  let c999936_i32_1086 : BitVec 32 := 999936#32
  let v2354 : BitVec 32 := Scalar.subi v2353 c999936_i32_1086
  let c32_i32_1087 : BitVec 32 := 32#32
  let v2355 : BitVec 32 := Scalar.muli v2354 c32_i32_1087
  let v2356 : BitVec 32 := v2355
  ![v2356.toNat]

def k0_chk165 (v2353 : BitVec 32) : Prop :=
  (8 ∣ (k0_mult142 v2353).toNat) ∧
  (∀ a, (k0_off273 v2353) a + S32.size a ≤ S2048.size a) ∧
  (∀ a, (k0_off289 v2353) a + S32.size a ≤ S2048.size a)
theorem k0_mult142_dvd : ∀ (v2353 : BitVec 32) (k0_hw165 : k0_chk165 v2353), 8 ∣ (k0_mult142 v2353).toNat := fun v2353 k0_hw165 => k0_hw165.1
theorem k0_off273_inb : ∀ (v2353 : BitVec 32) (k0_hw165 : k0_chk165 v2353), ∀ a, (k0_off273 v2353) a + S32.size a ≤ S2048.size a := fun v2353 k0_hw165 => k0_hw165.2.1
theorem k0_off289_inb : ∀ (v2353 : BitVec 32) (k0_hw165 : k0_chk165 v2353), ∀ a, (k0_off289 v2353) a + S32.size a ≤ S2048.size a := fun v2353 k0_hw165 => k0_hw165.2.2

def k0_off290 (v2362 : BitVec 32) : Fin 1 → Nat :=
  let c999936_i32_1089 : BitVec 32 := 999936#32
  let v2363 : BitVec 32 := Scalar.subi v2362 c999936_i32_1089
  let c32_i32_1090 : BitVec 32 := 32#32
  let v2364 : BitVec 32 := Scalar.muli v2363 c32_i32_1090
  let v2365 : BitVec 32 := v2364
  ![v2365.toNat]

def k0_chk166 (v2362 : BitVec 32) : Prop :=
  (8 ∣ (k0_mult143 v2362).toNat) ∧
  (∀ a, (k0_off274 v2362) a + S32.size a ≤ S2048.size a) ∧
  (∀ a, (k0_off290 v2362) a + S32.size a ≤ S2048.size a)
theorem k0_mult143_dvd : ∀ (v2362 : BitVec 32) (k0_hw166 : k0_chk166 v2362), 8 ∣ (k0_mult143 v2362).toNat := fun v2362 k0_hw166 => k0_hw166.1
theorem k0_off274_inb : ∀ (v2362 : BitVec 32) (k0_hw166 : k0_chk166 v2362), ∀ a, (k0_off274 v2362) a + S32.size a ≤ S2048.size a := fun v2362 k0_hw166 => k0_hw166.2.1
theorem k0_off290_inb : ∀ (v2362 : BitVec 32) (k0_hw166 : k0_chk166 v2362), ∀ a, (k0_off290 v2362) a + S32.size a ≤ S2048.size a := fun v2362 k0_hw166 => k0_hw166.2.2

def k0_off291 (v2371 : BitVec 32) : Fin 1 → Nat :=
  let c999936_i32_1092 : BitVec 32 := 999936#32
  let v2372 : BitVec 32 := Scalar.subi v2371 c999936_i32_1092
  let c32_i32_1093 : BitVec 32 := 32#32
  let v2373 : BitVec 32 := Scalar.muli v2372 c32_i32_1093
  let v2374 : BitVec 32 := v2373
  ![v2374.toNat]

def k0_chk167 (v2371 : BitVec 32) : Prop :=
  (8 ∣ (k0_mult144 v2371).toNat) ∧
  (∀ a, (k0_off275 v2371) a + S32.size a ≤ S2048.size a) ∧
  (∀ a, (k0_off291 v2371) a + S32.size a ≤ S2048.size a)
theorem k0_mult144_dvd : ∀ (v2371 : BitVec 32) (k0_hw167 : k0_chk167 v2371), 8 ∣ (k0_mult144 v2371).toNat := fun v2371 k0_hw167 => k0_hw167.1
theorem k0_off275_inb : ∀ (v2371 : BitVec 32) (k0_hw167 : k0_chk167 v2371), ∀ a, (k0_off275 v2371) a + S32.size a ≤ S2048.size a := fun v2371 k0_hw167 => k0_hw167.2.1
theorem k0_off291_inb : ∀ (v2371 : BitVec 32) (k0_hw167 : k0_chk167 v2371), ∀ a, (k0_off291 v2371) a + S32.size a ≤ S2048.size a := fun v2371 k0_hw167 => k0_hw167.2.2

def k0_mult146 (v2453 : BitVec 32) : BitVec 32 :=
  let c0_i32_1131 : BitVec 32 := 0#32
  let c32_i32_1130 : BitVec 32 := 32#32
  let v2454 : BitVec 32 := Scalar.muli v2453 c32_i32_1130
  let v2455 : BitVec 32 := Scalar.addi c0_i32_1131 v2454
  v2455

def k0_off292 (v2453 : BitVec 32) : Fin 1 → Nat :=
  let c0_i32_1131 : BitVec 32 := 0#32
  let c32_i32_1130 : BitVec 32 := 32#32
  let v2454 : BitVec 32 := Scalar.muli v2453 c32_i32_1130
  let v2455 : BitVec 32 := Scalar.addi c0_i32_1131 v2454
  let v2456 : BitVec 32 := v2455
  ![v2456.toNat]
def k0_mult147 (v2462 : BitVec 32) : BitVec 32 :=
  let c0_i32_1135 : BitVec 32 := 0#32
  let c32_i32_1134 : BitVec 32 := 32#32
  let v2463 : BitVec 32 := Scalar.muli v2462 c32_i32_1134
  let v2464 : BitVec 32 := Scalar.addi c0_i32_1135 v2463
  v2464

def k0_off293 (v2462 : BitVec 32) : Fin 1 → Nat :=
  let c0_i32_1135 : BitVec 32 := 0#32
  let c32_i32_1134 : BitVec 32 := 32#32
  let v2463 : BitVec 32 := Scalar.muli v2462 c32_i32_1134
  let v2464 : BitVec 32 := Scalar.addi c0_i32_1135 v2463
  let v2465 : BitVec 32 := v2464
  ![v2465.toNat]
def k0_mult148 (v2471 : BitVec 32) : BitVec 32 :=
  let c0_i32_1139 : BitVec 32 := 0#32
  let c32_i32_1138 : BitVec 32 := 32#32
  let v2472 : BitVec 32 := Scalar.muli v2471 c32_i32_1138
  let v2473 : BitVec 32 := Scalar.addi c0_i32_1139 v2472
  v2473

def k0_off294 (v2471 : BitVec 32) : Fin 1 → Nat :=
  let c0_i32_1139 : BitVec 32 := 0#32
  let c32_i32_1138 : BitVec 32 := 32#32
  let v2472 : BitVec 32 := Scalar.muli v2471 c32_i32_1138
  let v2473 : BitVec 32 := Scalar.addi c0_i32_1139 v2472
  let v2474 : BitVec 32 := v2473
  ![v2474.toNat]
def k0_mult149 (v2480 : BitVec 32) : BitVec 32 :=
  let c0_i32_1143 : BitVec 32 := 0#32
  let c32_i32_1142 : BitVec 32 := 32#32
  let v2481 : BitVec 32 := Scalar.muli v2480 c32_i32_1142
  let v2482 : BitVec 32 := Scalar.addi c0_i32_1143 v2481
  v2482

def k0_off295 (v2480 : BitVec 32) : Fin 1 → Nat :=
  let c0_i32_1143 : BitVec 32 := 0#32
  let c32_i32_1142 : BitVec 32 := 32#32
  let v2481 : BitVec 32 := Scalar.muli v2480 c32_i32_1142
  let v2482 : BitVec 32 := Scalar.addi c0_i32_1143 v2481
  let v2483 : BitVec 32 := v2482
  ![v2483.toNat]
def k0_mult150 (v2489 : BitVec 32) : BitVec 32 :=
  let c0_i32_1147 : BitVec 32 := 0#32
  let c32_i32_1146 : BitVec 32 := 32#32
  let v2490 : BitVec 32 := Scalar.muli v2489 c32_i32_1146
  let v2491 : BitVec 32 := Scalar.addi c0_i32_1147 v2490
  v2491

def k0_off296 (v2489 : BitVec 32) : Fin 1 → Nat :=
  let c0_i32_1147 : BitVec 32 := 0#32
  let c32_i32_1146 : BitVec 32 := 32#32
  let v2490 : BitVec 32 := Scalar.muli v2489 c32_i32_1146
  let v2491 : BitVec 32 := Scalar.addi c0_i32_1147 v2490
  let v2492 : BitVec 32 := v2491
  ![v2492.toNat]
def k0_mult151 (v2498 : BitVec 32) : BitVec 32 :=
  let c0_i32_1151 : BitVec 32 := 0#32
  let c32_i32_1150 : BitVec 32 := 32#32
  let v2499 : BitVec 32 := Scalar.muli v2498 c32_i32_1150
  let v2500 : BitVec 32 := Scalar.addi c0_i32_1151 v2499
  v2500

def k0_off297 (v2498 : BitVec 32) : Fin 1 → Nat :=
  let c0_i32_1151 : BitVec 32 := 0#32
  let c32_i32_1150 : BitVec 32 := 32#32
  let v2499 : BitVec 32 := Scalar.muli v2498 c32_i32_1150
  let v2500 : BitVec 32 := Scalar.addi c0_i32_1151 v2499
  let v2501 : BitVec 32 := v2500
  ![v2501.toNat]
def k0_mult152 (v2507 : BitVec 32) : BitVec 32 :=
  let c0_i32_1155 : BitVec 32 := 0#32
  let c32_i32_1154 : BitVec 32 := 32#32
  let v2508 : BitVec 32 := Scalar.muli v2507 c32_i32_1154
  let v2509 : BitVec 32 := Scalar.addi c0_i32_1155 v2508
  v2509

def k0_off298 (v2507 : BitVec 32) : Fin 1 → Nat :=
  let c0_i32_1155 : BitVec 32 := 0#32
  let c32_i32_1154 : BitVec 32 := 32#32
  let v2508 : BitVec 32 := Scalar.muli v2507 c32_i32_1154
  let v2509 : BitVec 32 := Scalar.addi c0_i32_1155 v2508
  let v2510 : BitVec 32 := v2509
  ![v2510.toNat]
def k0_mult153 (v2516 : BitVec 32) : BitVec 32 :=
  let c0_i32_1159 : BitVec 32 := 0#32
  let c32_i32_1158 : BitVec 32 := 32#32
  let v2517 : BitVec 32 := Scalar.muli v2516 c32_i32_1158
  let v2518 : BitVec 32 := Scalar.addi c0_i32_1159 v2517
  v2518

def k0_off299 (v2516 : BitVec 32) : Fin 1 → Nat :=
  let c0_i32_1159 : BitVec 32 := 0#32
  let c32_i32_1158 : BitVec 32 := 32#32
  let v2517 : BitVec 32 := Scalar.muli v2516 c32_i32_1158
  let v2518 : BitVec 32 := Scalar.addi c0_i32_1159 v2517
  let v2519 : BitVec 32 := v2518
  ![v2519.toNat]
def k0_mult154 (v2525 : BitVec 32) : BitVec 32 :=
  let c0_i32_1163 : BitVec 32 := 0#32
  let c32_i32_1162 : BitVec 32 := 32#32
  let v2526 : BitVec 32 := Scalar.muli v2525 c32_i32_1162
  let v2527 : BitVec 32 := Scalar.addi c0_i32_1163 v2526
  v2527

def k0_off300 (v2525 : BitVec 32) : Fin 1 → Nat :=
  let c0_i32_1163 : BitVec 32 := 0#32
  let c32_i32_1162 : BitVec 32 := 32#32
  let v2526 : BitVec 32 := Scalar.muli v2525 c32_i32_1162
  let v2527 : BitVec 32 := Scalar.addi c0_i32_1163 v2526
  let v2528 : BitVec 32 := v2527
  ![v2528.toNat]
def k0_mult155 (v2534 : BitVec 32) : BitVec 32 :=
  let c0_i32_1167 : BitVec 32 := 0#32
  let c32_i32_1166 : BitVec 32 := 32#32
  let v2535 : BitVec 32 := Scalar.muli v2534 c32_i32_1166
  let v2536 : BitVec 32 := Scalar.addi c0_i32_1167 v2535
  v2536

def k0_off301 (v2534 : BitVec 32) : Fin 1 → Nat :=
  let c0_i32_1167 : BitVec 32 := 0#32
  let c32_i32_1166 : BitVec 32 := 32#32
  let v2535 : BitVec 32 := Scalar.muli v2534 c32_i32_1166
  let v2536 : BitVec 32 := Scalar.addi c0_i32_1167 v2535
  let v2537 : BitVec 32 := v2536
  ![v2537.toNat]
def k0_mult156 (v2543 : BitVec 32) : BitVec 32 :=
  let c0_i32_1171 : BitVec 32 := 0#32
  let c32_i32_1170 : BitVec 32 := 32#32
  let v2544 : BitVec 32 := Scalar.muli v2543 c32_i32_1170
  let v2545 : BitVec 32 := Scalar.addi c0_i32_1171 v2544
  v2545

def k0_off302 (v2543 : BitVec 32) : Fin 1 → Nat :=
  let c0_i32_1171 : BitVec 32 := 0#32
  let c32_i32_1170 : BitVec 32 := 32#32
  let v2544 : BitVec 32 := Scalar.muli v2543 c32_i32_1170
  let v2545 : BitVec 32 := Scalar.addi c0_i32_1171 v2544
  let v2546 : BitVec 32 := v2545
  ![v2546.toNat]
def k0_mult157 (v2552 : BitVec 32) : BitVec 32 :=
  let c0_i32_1175 : BitVec 32 := 0#32
  let c32_i32_1174 : BitVec 32 := 32#32
  let v2553 : BitVec 32 := Scalar.muli v2552 c32_i32_1174
  let v2554 : BitVec 32 := Scalar.addi c0_i32_1175 v2553
  v2554

def k0_off303 (v2552 : BitVec 32) : Fin 1 → Nat :=
  let c0_i32_1175 : BitVec 32 := 0#32
  let c32_i32_1174 : BitVec 32 := 32#32
  let v2553 : BitVec 32 := Scalar.muli v2552 c32_i32_1174
  let v2554 : BitVec 32 := Scalar.addi c0_i32_1175 v2553
  let v2555 : BitVec 32 := v2554
  ![v2555.toNat]
def k0_mult158 (v2561 : BitVec 32) : BitVec 32 :=
  let c0_i32_1179 : BitVec 32 := 0#32
  let c32_i32_1178 : BitVec 32 := 32#32
  let v2562 : BitVec 32 := Scalar.muli v2561 c32_i32_1178
  let v2563 : BitVec 32 := Scalar.addi c0_i32_1179 v2562
  v2563

def k0_off304 (v2561 : BitVec 32) : Fin 1 → Nat :=
  let c0_i32_1179 : BitVec 32 := 0#32
  let c32_i32_1178 : BitVec 32 := 32#32
  let v2562 : BitVec 32 := Scalar.muli v2561 c32_i32_1178
  let v2563 : BitVec 32 := Scalar.addi c0_i32_1179 v2562
  let v2564 : BitVec 32 := v2563
  ![v2564.toNat]
def k0_mult159 (v2570 : BitVec 32) : BitVec 32 :=
  let c0_i32_1183 : BitVec 32 := 0#32
  let c32_i32_1182 : BitVec 32 := 32#32
  let v2571 : BitVec 32 := Scalar.muli v2570 c32_i32_1182
  let v2572 : BitVec 32 := Scalar.addi c0_i32_1183 v2571
  v2572

def k0_off305 (v2570 : BitVec 32) : Fin 1 → Nat :=
  let c0_i32_1183 : BitVec 32 := 0#32
  let c32_i32_1182 : BitVec 32 := 32#32
  let v2571 : BitVec 32 := Scalar.muli v2570 c32_i32_1182
  let v2572 : BitVec 32 := Scalar.addi c0_i32_1183 v2571
  let v2573 : BitVec 32 := v2572
  ![v2573.toNat]
def k0_mult160 (v2579 : BitVec 32) : BitVec 32 :=
  let c0_i32_1187 : BitVec 32 := 0#32
  let c32_i32_1186 : BitVec 32 := 32#32
  let v2580 : BitVec 32 := Scalar.muli v2579 c32_i32_1186
  let v2581 : BitVec 32 := Scalar.addi c0_i32_1187 v2580
  v2581

def k0_off306 (v2579 : BitVec 32) : Fin 1 → Nat :=
  let c0_i32_1187 : BitVec 32 := 0#32
  let c32_i32_1186 : BitVec 32 := 32#32
  let v2580 : BitVec 32 := Scalar.muli v2579 c32_i32_1186
  let v2581 : BitVec 32 := Scalar.addi c0_i32_1187 v2580
  let v2582 : BitVec 32 := v2581
  ![v2582.toNat]
def k0_mult161 (v2588 : BitVec 32) : BitVec 32 :=
  let c0_i32_1191 : BitVec 32 := 0#32
  let c32_i32_1190 : BitVec 32 := 32#32
  let v2589 : BitVec 32 := Scalar.muli v2588 c32_i32_1190
  let v2590 : BitVec 32 := Scalar.addi c0_i32_1191 v2589
  v2590

def k0_off307 (v2588 : BitVec 32) : Fin 1 → Nat :=
  let c0_i32_1191 : BitVec 32 := 0#32
  let c32_i32_1190 : BitVec 32 := 32#32
  let v2589 : BitVec 32 := Scalar.muli v2588 c32_i32_1190
  let v2590 : BitVec 32 := Scalar.addi c0_i32_1191 v2589
  let v2591 : BitVec 32 := v2590
  ![v2591.toNat]

def k0_chk184 (v2588 : BitVec 32) : Prop :=
  (8 ∣ (k0_mult161 v2588).toNat) ∧
  (∀ a, (k0_off307 v2588) a + S32.size a ≤ S3407872.size a)
theorem k0_mult161_dvd : ∀ (v2588 : BitVec 32) (k0_hw184 : k0_chk184 v2588), 8 ∣ (k0_mult161 v2588).toNat := fun v2588 k0_hw184 => k0_hw184.1
theorem k0_off307_inb : ∀ (v2588 : BitVec 32) (k0_hw184 : k0_chk184 v2588), ∀ a, (k0_off307 v2588) a + S32.size a ≤ S3407872.size a := fun v2588 k0_hw184 => k0_hw184.2

def k0_off308 (v2453 : BitVec 32) : Fin 1 → Nat :=
  let c0_i32_1131 : BitVec 32 := 0#32
  let c32_i32_1130 : BitVec 32 := 32#32
  let v2454 : BitVec 32 := Scalar.muli v2453 c32_i32_1130
  let v2455 : BitVec 32 := Scalar.addi c0_i32_1131 v2454
  let v2456 : BitVec 32 := v2455
  ![v2456.toNat]

def k0_chk169 (v2453 : BitVec 32) : Prop :=
  (8 ∣ (k0_mult146 v2453).toNat) ∧
  (∀ a, (k0_off292 v2453) a + S32.size a ≤ S3407872.size a) ∧
  (∀ a, (k0_off308 v2453) a + S32.size a ≤ S3407872.size a)
theorem k0_mult146_dvd : ∀ (v2453 : BitVec 32) (k0_hw169 : k0_chk169 v2453), 8 ∣ (k0_mult146 v2453).toNat := fun v2453 k0_hw169 => k0_hw169.1
theorem k0_off292_inb : ∀ (v2453 : BitVec 32) (k0_hw169 : k0_chk169 v2453), ∀ a, (k0_off292 v2453) a + S32.size a ≤ S3407872.size a := fun v2453 k0_hw169 => k0_hw169.2.1
theorem k0_off308_inb : ∀ (v2453 : BitVec 32) (k0_hw169 : k0_chk169 v2453), ∀ a, (k0_off308 v2453) a + S32.size a ≤ S3407872.size a := fun v2453 k0_hw169 => k0_hw169.2.2

def k0_off309 (v2462 : BitVec 32) : Fin 1 → Nat :=
  let c0_i32_1135 : BitVec 32 := 0#32
  let c32_i32_1134 : BitVec 32 := 32#32
  let v2463 : BitVec 32 := Scalar.muli v2462 c32_i32_1134
  let v2464 : BitVec 32 := Scalar.addi c0_i32_1135 v2463
  let v2465 : BitVec 32 := v2464
  ![v2465.toNat]

def k0_chk170 (v2462 : BitVec 32) : Prop :=
  (8 ∣ (k0_mult147 v2462).toNat) ∧
  (∀ a, (k0_off293 v2462) a + S32.size a ≤ S3407872.size a) ∧
  (∀ a, (k0_off309 v2462) a + S32.size a ≤ S3407872.size a)
theorem k0_mult147_dvd : ∀ (v2462 : BitVec 32) (k0_hw170 : k0_chk170 v2462), 8 ∣ (k0_mult147 v2462).toNat := fun v2462 k0_hw170 => k0_hw170.1
theorem k0_off293_inb : ∀ (v2462 : BitVec 32) (k0_hw170 : k0_chk170 v2462), ∀ a, (k0_off293 v2462) a + S32.size a ≤ S3407872.size a := fun v2462 k0_hw170 => k0_hw170.2.1
theorem k0_off309_inb : ∀ (v2462 : BitVec 32) (k0_hw170 : k0_chk170 v2462), ∀ a, (k0_off309 v2462) a + S32.size a ≤ S3407872.size a := fun v2462 k0_hw170 => k0_hw170.2.2

def k0_off310 (v2471 : BitVec 32) : Fin 1 → Nat :=
  let c0_i32_1139 : BitVec 32 := 0#32
  let c32_i32_1138 : BitVec 32 := 32#32
  let v2472 : BitVec 32 := Scalar.muli v2471 c32_i32_1138
  let v2473 : BitVec 32 := Scalar.addi c0_i32_1139 v2472
  let v2474 : BitVec 32 := v2473
  ![v2474.toNat]

def k0_chk171 (v2471 : BitVec 32) : Prop :=
  (8 ∣ (k0_mult148 v2471).toNat) ∧
  (∀ a, (k0_off294 v2471) a + S32.size a ≤ S3407872.size a) ∧
  (∀ a, (k0_off310 v2471) a + S32.size a ≤ S3407872.size a)
theorem k0_mult148_dvd : ∀ (v2471 : BitVec 32) (k0_hw171 : k0_chk171 v2471), 8 ∣ (k0_mult148 v2471).toNat := fun v2471 k0_hw171 => k0_hw171.1
theorem k0_off294_inb : ∀ (v2471 : BitVec 32) (k0_hw171 : k0_chk171 v2471), ∀ a, (k0_off294 v2471) a + S32.size a ≤ S3407872.size a := fun v2471 k0_hw171 => k0_hw171.2.1
theorem k0_off310_inb : ∀ (v2471 : BitVec 32) (k0_hw171 : k0_chk171 v2471), ∀ a, (k0_off310 v2471) a + S32.size a ≤ S3407872.size a := fun v2471 k0_hw171 => k0_hw171.2.2

def k0_off311 (v2480 : BitVec 32) : Fin 1 → Nat :=
  let c0_i32_1143 : BitVec 32 := 0#32
  let c32_i32_1142 : BitVec 32 := 32#32
  let v2481 : BitVec 32 := Scalar.muli v2480 c32_i32_1142
  let v2482 : BitVec 32 := Scalar.addi c0_i32_1143 v2481
  let v2483 : BitVec 32 := v2482
  ![v2483.toNat]

def k0_chk172 (v2480 : BitVec 32) : Prop :=
  (8 ∣ (k0_mult149 v2480).toNat) ∧
  (∀ a, (k0_off295 v2480) a + S32.size a ≤ S3407872.size a) ∧
  (∀ a, (k0_off311 v2480) a + S32.size a ≤ S3407872.size a)
theorem k0_mult149_dvd : ∀ (v2480 : BitVec 32) (k0_hw172 : k0_chk172 v2480), 8 ∣ (k0_mult149 v2480).toNat := fun v2480 k0_hw172 => k0_hw172.1
theorem k0_off295_inb : ∀ (v2480 : BitVec 32) (k0_hw172 : k0_chk172 v2480), ∀ a, (k0_off295 v2480) a + S32.size a ≤ S3407872.size a := fun v2480 k0_hw172 => k0_hw172.2.1
theorem k0_off311_inb : ∀ (v2480 : BitVec 32) (k0_hw172 : k0_chk172 v2480), ∀ a, (k0_off311 v2480) a + S32.size a ≤ S3407872.size a := fun v2480 k0_hw172 => k0_hw172.2.2

def k0_off312 (v2489 : BitVec 32) : Fin 1 → Nat :=
  let c0_i32_1147 : BitVec 32 := 0#32
  let c32_i32_1146 : BitVec 32 := 32#32
  let v2490 : BitVec 32 := Scalar.muli v2489 c32_i32_1146
  let v2491 : BitVec 32 := Scalar.addi c0_i32_1147 v2490
  let v2492 : BitVec 32 := v2491
  ![v2492.toNat]

def k0_chk173 (v2489 : BitVec 32) : Prop :=
  (8 ∣ (k0_mult150 v2489).toNat) ∧
  (∀ a, (k0_off296 v2489) a + S32.size a ≤ S3407872.size a) ∧
  (∀ a, (k0_off312 v2489) a + S32.size a ≤ S3407872.size a)
theorem k0_mult150_dvd : ∀ (v2489 : BitVec 32) (k0_hw173 : k0_chk173 v2489), 8 ∣ (k0_mult150 v2489).toNat := fun v2489 k0_hw173 => k0_hw173.1
theorem k0_off296_inb : ∀ (v2489 : BitVec 32) (k0_hw173 : k0_chk173 v2489), ∀ a, (k0_off296 v2489) a + S32.size a ≤ S3407872.size a := fun v2489 k0_hw173 => k0_hw173.2.1
theorem k0_off312_inb : ∀ (v2489 : BitVec 32) (k0_hw173 : k0_chk173 v2489), ∀ a, (k0_off312 v2489) a + S32.size a ≤ S3407872.size a := fun v2489 k0_hw173 => k0_hw173.2.2

def k0_off313 (v2498 : BitVec 32) : Fin 1 → Nat :=
  let c0_i32_1151 : BitVec 32 := 0#32
  let c32_i32_1150 : BitVec 32 := 32#32
  let v2499 : BitVec 32 := Scalar.muli v2498 c32_i32_1150
  let v2500 : BitVec 32 := Scalar.addi c0_i32_1151 v2499
  let v2501 : BitVec 32 := v2500
  ![v2501.toNat]

def k0_chk174 (v2498 : BitVec 32) : Prop :=
  (8 ∣ (k0_mult151 v2498).toNat) ∧
  (∀ a, (k0_off297 v2498) a + S32.size a ≤ S3407872.size a) ∧
  (∀ a, (k0_off313 v2498) a + S32.size a ≤ S3407872.size a)
theorem k0_mult151_dvd : ∀ (v2498 : BitVec 32) (k0_hw174 : k0_chk174 v2498), 8 ∣ (k0_mult151 v2498).toNat := fun v2498 k0_hw174 => k0_hw174.1
theorem k0_off297_inb : ∀ (v2498 : BitVec 32) (k0_hw174 : k0_chk174 v2498), ∀ a, (k0_off297 v2498) a + S32.size a ≤ S3407872.size a := fun v2498 k0_hw174 => k0_hw174.2.1
theorem k0_off313_inb : ∀ (v2498 : BitVec 32) (k0_hw174 : k0_chk174 v2498), ∀ a, (k0_off313 v2498) a + S32.size a ≤ S3407872.size a := fun v2498 k0_hw174 => k0_hw174.2.2

def k0_off314 (v2507 : BitVec 32) : Fin 1 → Nat :=
  let c0_i32_1155 : BitVec 32 := 0#32
  let c32_i32_1154 : BitVec 32 := 32#32
  let v2508 : BitVec 32 := Scalar.muli v2507 c32_i32_1154
  let v2509 : BitVec 32 := Scalar.addi c0_i32_1155 v2508
  let v2510 : BitVec 32 := v2509
  ![v2510.toNat]

def k0_chk175 (v2507 : BitVec 32) : Prop :=
  (8 ∣ (k0_mult152 v2507).toNat) ∧
  (∀ a, (k0_off298 v2507) a + S32.size a ≤ S3407872.size a) ∧
  (∀ a, (k0_off314 v2507) a + S32.size a ≤ S3407872.size a)
theorem k0_mult152_dvd : ∀ (v2507 : BitVec 32) (k0_hw175 : k0_chk175 v2507), 8 ∣ (k0_mult152 v2507).toNat := fun v2507 k0_hw175 => k0_hw175.1
theorem k0_off298_inb : ∀ (v2507 : BitVec 32) (k0_hw175 : k0_chk175 v2507), ∀ a, (k0_off298 v2507) a + S32.size a ≤ S3407872.size a := fun v2507 k0_hw175 => k0_hw175.2.1
theorem k0_off314_inb : ∀ (v2507 : BitVec 32) (k0_hw175 : k0_chk175 v2507), ∀ a, (k0_off314 v2507) a + S32.size a ≤ S3407872.size a := fun v2507 k0_hw175 => k0_hw175.2.2

def k0_off315 (v2516 : BitVec 32) : Fin 1 → Nat :=
  let c0_i32_1159 : BitVec 32 := 0#32
  let c32_i32_1158 : BitVec 32 := 32#32
  let v2517 : BitVec 32 := Scalar.muli v2516 c32_i32_1158
  let v2518 : BitVec 32 := Scalar.addi c0_i32_1159 v2517
  let v2519 : BitVec 32 := v2518
  ![v2519.toNat]

def k0_chk176 (v2516 : BitVec 32) : Prop :=
  (8 ∣ (k0_mult153 v2516).toNat) ∧
  (∀ a, (k0_off299 v2516) a + S32.size a ≤ S3407872.size a) ∧
  (∀ a, (k0_off315 v2516) a + S32.size a ≤ S3407872.size a)
theorem k0_mult153_dvd : ∀ (v2516 : BitVec 32) (k0_hw176 : k0_chk176 v2516), 8 ∣ (k0_mult153 v2516).toNat := fun v2516 k0_hw176 => k0_hw176.1
theorem k0_off299_inb : ∀ (v2516 : BitVec 32) (k0_hw176 : k0_chk176 v2516), ∀ a, (k0_off299 v2516) a + S32.size a ≤ S3407872.size a := fun v2516 k0_hw176 => k0_hw176.2.1
theorem k0_off315_inb : ∀ (v2516 : BitVec 32) (k0_hw176 : k0_chk176 v2516), ∀ a, (k0_off315 v2516) a + S32.size a ≤ S3407872.size a := fun v2516 k0_hw176 => k0_hw176.2.2

def k0_off316 (v2525 : BitVec 32) : Fin 1 → Nat :=
  let c0_i32_1163 : BitVec 32 := 0#32
  let c32_i32_1162 : BitVec 32 := 32#32
  let v2526 : BitVec 32 := Scalar.muli v2525 c32_i32_1162
  let v2527 : BitVec 32 := Scalar.addi c0_i32_1163 v2526
  let v2528 : BitVec 32 := v2527
  ![v2528.toNat]

def k0_chk177 (v2525 : BitVec 32) : Prop :=
  (8 ∣ (k0_mult154 v2525).toNat) ∧
  (∀ a, (k0_off300 v2525) a + S32.size a ≤ S3407872.size a) ∧
  (∀ a, (k0_off316 v2525) a + S32.size a ≤ S3407872.size a)
theorem k0_mult154_dvd : ∀ (v2525 : BitVec 32) (k0_hw177 : k0_chk177 v2525), 8 ∣ (k0_mult154 v2525).toNat := fun v2525 k0_hw177 => k0_hw177.1
theorem k0_off300_inb : ∀ (v2525 : BitVec 32) (k0_hw177 : k0_chk177 v2525), ∀ a, (k0_off300 v2525) a + S32.size a ≤ S3407872.size a := fun v2525 k0_hw177 => k0_hw177.2.1
theorem k0_off316_inb : ∀ (v2525 : BitVec 32) (k0_hw177 : k0_chk177 v2525), ∀ a, (k0_off316 v2525) a + S32.size a ≤ S3407872.size a := fun v2525 k0_hw177 => k0_hw177.2.2

def k0_off317 (v2534 : BitVec 32) : Fin 1 → Nat :=
  let c0_i32_1167 : BitVec 32 := 0#32
  let c32_i32_1166 : BitVec 32 := 32#32
  let v2535 : BitVec 32 := Scalar.muli v2534 c32_i32_1166
  let v2536 : BitVec 32 := Scalar.addi c0_i32_1167 v2535
  let v2537 : BitVec 32 := v2536
  ![v2537.toNat]

def k0_chk178 (v2534 : BitVec 32) : Prop :=
  (8 ∣ (k0_mult155 v2534).toNat) ∧
  (∀ a, (k0_off301 v2534) a + S32.size a ≤ S3407872.size a) ∧
  (∀ a, (k0_off317 v2534) a + S32.size a ≤ S3407872.size a)
theorem k0_mult155_dvd : ∀ (v2534 : BitVec 32) (k0_hw178 : k0_chk178 v2534), 8 ∣ (k0_mult155 v2534).toNat := fun v2534 k0_hw178 => k0_hw178.1
theorem k0_off301_inb : ∀ (v2534 : BitVec 32) (k0_hw178 : k0_chk178 v2534), ∀ a, (k0_off301 v2534) a + S32.size a ≤ S3407872.size a := fun v2534 k0_hw178 => k0_hw178.2.1
theorem k0_off317_inb : ∀ (v2534 : BitVec 32) (k0_hw178 : k0_chk178 v2534), ∀ a, (k0_off317 v2534) a + S32.size a ≤ S3407872.size a := fun v2534 k0_hw178 => k0_hw178.2.2

def k0_off318 (v2543 : BitVec 32) : Fin 1 → Nat :=
  let c0_i32_1171 : BitVec 32 := 0#32
  let c32_i32_1170 : BitVec 32 := 32#32
  let v2544 : BitVec 32 := Scalar.muli v2543 c32_i32_1170
  let v2545 : BitVec 32 := Scalar.addi c0_i32_1171 v2544
  let v2546 : BitVec 32 := v2545
  ![v2546.toNat]

def k0_chk179 (v2543 : BitVec 32) : Prop :=
  (8 ∣ (k0_mult156 v2543).toNat) ∧
  (∀ a, (k0_off302 v2543) a + S32.size a ≤ S3407872.size a) ∧
  (∀ a, (k0_off318 v2543) a + S32.size a ≤ S3407872.size a)
theorem k0_mult156_dvd : ∀ (v2543 : BitVec 32) (k0_hw179 : k0_chk179 v2543), 8 ∣ (k0_mult156 v2543).toNat := fun v2543 k0_hw179 => k0_hw179.1
theorem k0_off302_inb : ∀ (v2543 : BitVec 32) (k0_hw179 : k0_chk179 v2543), ∀ a, (k0_off302 v2543) a + S32.size a ≤ S3407872.size a := fun v2543 k0_hw179 => k0_hw179.2.1
theorem k0_off318_inb : ∀ (v2543 : BitVec 32) (k0_hw179 : k0_chk179 v2543), ∀ a, (k0_off318 v2543) a + S32.size a ≤ S3407872.size a := fun v2543 k0_hw179 => k0_hw179.2.2

def k0_off319 (v2552 : BitVec 32) : Fin 1 → Nat :=
  let c0_i32_1175 : BitVec 32 := 0#32
  let c32_i32_1174 : BitVec 32 := 32#32
  let v2553 : BitVec 32 := Scalar.muli v2552 c32_i32_1174
  let v2554 : BitVec 32 := Scalar.addi c0_i32_1175 v2553
  let v2555 : BitVec 32 := v2554
  ![v2555.toNat]

def k0_chk180 (v2552 : BitVec 32) : Prop :=
  (8 ∣ (k0_mult157 v2552).toNat) ∧
  (∀ a, (k0_off303 v2552) a + S32.size a ≤ S3407872.size a) ∧
  (∀ a, (k0_off319 v2552) a + S32.size a ≤ S3407872.size a)
theorem k0_mult157_dvd : ∀ (v2552 : BitVec 32) (k0_hw180 : k0_chk180 v2552), 8 ∣ (k0_mult157 v2552).toNat := fun v2552 k0_hw180 => k0_hw180.1
theorem k0_off303_inb : ∀ (v2552 : BitVec 32) (k0_hw180 : k0_chk180 v2552), ∀ a, (k0_off303 v2552) a + S32.size a ≤ S3407872.size a := fun v2552 k0_hw180 => k0_hw180.2.1
theorem k0_off319_inb : ∀ (v2552 : BitVec 32) (k0_hw180 : k0_chk180 v2552), ∀ a, (k0_off319 v2552) a + S32.size a ≤ S3407872.size a := fun v2552 k0_hw180 => k0_hw180.2.2

def k0_off320 (v2561 : BitVec 32) : Fin 1 → Nat :=
  let c0_i32_1179 : BitVec 32 := 0#32
  let c32_i32_1178 : BitVec 32 := 32#32
  let v2562 : BitVec 32 := Scalar.muli v2561 c32_i32_1178
  let v2563 : BitVec 32 := Scalar.addi c0_i32_1179 v2562
  let v2564 : BitVec 32 := v2563
  ![v2564.toNat]

def k0_chk181 (v2561 : BitVec 32) : Prop :=
  (8 ∣ (k0_mult158 v2561).toNat) ∧
  (∀ a, (k0_off304 v2561) a + S32.size a ≤ S3407872.size a) ∧
  (∀ a, (k0_off320 v2561) a + S32.size a ≤ S3407872.size a)
theorem k0_mult158_dvd : ∀ (v2561 : BitVec 32) (k0_hw181 : k0_chk181 v2561), 8 ∣ (k0_mult158 v2561).toNat := fun v2561 k0_hw181 => k0_hw181.1
theorem k0_off304_inb : ∀ (v2561 : BitVec 32) (k0_hw181 : k0_chk181 v2561), ∀ a, (k0_off304 v2561) a + S32.size a ≤ S3407872.size a := fun v2561 k0_hw181 => k0_hw181.2.1
theorem k0_off320_inb : ∀ (v2561 : BitVec 32) (k0_hw181 : k0_chk181 v2561), ∀ a, (k0_off320 v2561) a + S32.size a ≤ S3407872.size a := fun v2561 k0_hw181 => k0_hw181.2.2

def k0_off321 (v2570 : BitVec 32) : Fin 1 → Nat :=
  let c0_i32_1183 : BitVec 32 := 0#32
  let c32_i32_1182 : BitVec 32 := 32#32
  let v2571 : BitVec 32 := Scalar.muli v2570 c32_i32_1182
  let v2572 : BitVec 32 := Scalar.addi c0_i32_1183 v2571
  let v2573 : BitVec 32 := v2572
  ![v2573.toNat]

def k0_chk182 (v2570 : BitVec 32) : Prop :=
  (8 ∣ (k0_mult159 v2570).toNat) ∧
  (∀ a, (k0_off305 v2570) a + S32.size a ≤ S3407872.size a) ∧
  (∀ a, (k0_off321 v2570) a + S32.size a ≤ S3407872.size a)
theorem k0_mult159_dvd : ∀ (v2570 : BitVec 32) (k0_hw182 : k0_chk182 v2570), 8 ∣ (k0_mult159 v2570).toNat := fun v2570 k0_hw182 => k0_hw182.1
theorem k0_off305_inb : ∀ (v2570 : BitVec 32) (k0_hw182 : k0_chk182 v2570), ∀ a, (k0_off305 v2570) a + S32.size a ≤ S3407872.size a := fun v2570 k0_hw182 => k0_hw182.2.1
theorem k0_off321_inb : ∀ (v2570 : BitVec 32) (k0_hw182 : k0_chk182 v2570), ∀ a, (k0_off321 v2570) a + S32.size a ≤ S3407872.size a := fun v2570 k0_hw182 => k0_hw182.2.2

def k0_off322 (v2579 : BitVec 32) : Fin 1 → Nat :=
  let c0_i32_1187 : BitVec 32 := 0#32
  let c32_i32_1186 : BitVec 32 := 32#32
  let v2580 : BitVec 32 := Scalar.muli v2579 c32_i32_1186
  let v2581 : BitVec 32 := Scalar.addi c0_i32_1187 v2580
  let v2582 : BitVec 32 := v2581
  ![v2582.toNat]

def k0_chk183 (v2579 : BitVec 32) : Prop :=
  (8 ∣ (k0_mult160 v2579).toNat) ∧
  (∀ a, (k0_off306 v2579) a + S32.size a ≤ S3407872.size a) ∧
  (∀ a, (k0_off322 v2579) a + S32.size a ≤ S3407872.size a)
theorem k0_mult160_dvd : ∀ (v2579 : BitVec 32) (k0_hw183 : k0_chk183 v2579), 8 ∣ (k0_mult160 v2579).toNat := fun v2579 k0_hw183 => k0_hw183.1
theorem k0_off306_inb : ∀ (v2579 : BitVec 32) (k0_hw183 : k0_chk183 v2579), ∀ a, (k0_off306 v2579) a + S32.size a ≤ S3407872.size a := fun v2579 k0_hw183 => k0_hw183.2.1
theorem k0_off322_inb : ∀ (v2579 : BitVec 32) (k0_hw183 : k0_chk183 v2579), ∀ a, (k0_off322 v2579) a + S32.size a ≤ S3407872.size a := fun v2579 k0_hw183 => k0_hw183.2.2

def k0_mult162 (v2663 : BitVec 32) : BitVec 32 :=
  let c999936_i32_1228 : BitVec 32 := 999936#32
  let v2664 : BitVec 32 := Scalar.subi v2663 c999936_i32_1228
  let c32_i32_1229 : BitVec 32 := 32#32
  let v2665 : BitVec 32 := Scalar.muli v2664 c32_i32_1229
  v2665

def k0_off323 (v2663 : BitVec 32) : Fin 1 → Nat :=
  let c999936_i32_1228 : BitVec 32 := 999936#32
  let v2664 : BitVec 32 := Scalar.subi v2663 c999936_i32_1228
  let c32_i32_1229 : BitVec 32 := 32#32
  let v2665 : BitVec 32 := Scalar.muli v2664 c32_i32_1229
  let v2666 : BitVec 32 := v2665
  ![v2666.toNat]
def k0_mult163 (v2672 : BitVec 32) : BitVec 32 :=
  let c999936_i32_1231 : BitVec 32 := 999936#32
  let v2673 : BitVec 32 := Scalar.subi v2672 c999936_i32_1231
  let c32_i32_1232 : BitVec 32 := 32#32
  let v2674 : BitVec 32 := Scalar.muli v2673 c32_i32_1232
  v2674

def k0_off324 (v2672 : BitVec 32) : Fin 1 → Nat :=
  let c999936_i32_1231 : BitVec 32 := 999936#32
  let v2673 : BitVec 32 := Scalar.subi v2672 c999936_i32_1231
  let c32_i32_1232 : BitVec 32 := 32#32
  let v2674 : BitVec 32 := Scalar.muli v2673 c32_i32_1232
  let v2675 : BitVec 32 := v2674
  ![v2675.toNat]
def k0_mult164 (v2681 : BitVec 32) : BitVec 32 :=
  let c999936_i32_1234 : BitVec 32 := 999936#32
  let v2682 : BitVec 32 := Scalar.subi v2681 c999936_i32_1234
  let c32_i32_1235 : BitVec 32 := 32#32
  let v2683 : BitVec 32 := Scalar.muli v2682 c32_i32_1235
  v2683

def k0_off325 (v2681 : BitVec 32) : Fin 1 → Nat :=
  let c999936_i32_1234 : BitVec 32 := 999936#32
  let v2682 : BitVec 32 := Scalar.subi v2681 c999936_i32_1234
  let c32_i32_1235 : BitVec 32 := 32#32
  let v2683 : BitVec 32 := Scalar.muli v2682 c32_i32_1235
  let v2684 : BitVec 32 := v2683
  ![v2684.toNat]
def k0_mult165 (v2690 : BitVec 32) : BitVec 32 :=
  let c999936_i32_1237 : BitVec 32 := 999936#32
  let v2691 : BitVec 32 := Scalar.subi v2690 c999936_i32_1237
  let c32_i32_1238 : BitVec 32 := 32#32
  let v2692 : BitVec 32 := Scalar.muli v2691 c32_i32_1238
  v2692

def k0_off326 (v2690 : BitVec 32) : Fin 1 → Nat :=
  let c999936_i32_1237 : BitVec 32 := 999936#32
  let v2691 : BitVec 32 := Scalar.subi v2690 c999936_i32_1237
  let c32_i32_1238 : BitVec 32 := 32#32
  let v2692 : BitVec 32 := Scalar.muli v2691 c32_i32_1238
  let v2693 : BitVec 32 := v2692
  ![v2693.toNat]
def k0_mult166 (v2699 : BitVec 32) : BitVec 32 :=
  let c999936_i32_1240 : BitVec 32 := 999936#32
  let v2700 : BitVec 32 := Scalar.subi v2699 c999936_i32_1240
  let c32_i32_1241 : BitVec 32 := 32#32
  let v2701 : BitVec 32 := Scalar.muli v2700 c32_i32_1241
  v2701

def k0_off327 (v2699 : BitVec 32) : Fin 1 → Nat :=
  let c999936_i32_1240 : BitVec 32 := 999936#32
  let v2700 : BitVec 32 := Scalar.subi v2699 c999936_i32_1240
  let c32_i32_1241 : BitVec 32 := 32#32
  let v2701 : BitVec 32 := Scalar.muli v2700 c32_i32_1241
  let v2702 : BitVec 32 := v2701
  ![v2702.toNat]
def k0_mult167 (v2708 : BitVec 32) : BitVec 32 :=
  let c999936_i32_1243 : BitVec 32 := 999936#32
  let v2709 : BitVec 32 := Scalar.subi v2708 c999936_i32_1243
  let c32_i32_1244 : BitVec 32 := 32#32
  let v2710 : BitVec 32 := Scalar.muli v2709 c32_i32_1244
  v2710

def k0_off328 (v2708 : BitVec 32) : Fin 1 → Nat :=
  let c999936_i32_1243 : BitVec 32 := 999936#32
  let v2709 : BitVec 32 := Scalar.subi v2708 c999936_i32_1243
  let c32_i32_1244 : BitVec 32 := 32#32
  let v2710 : BitVec 32 := Scalar.muli v2709 c32_i32_1244
  let v2711 : BitVec 32 := v2710
  ![v2711.toNat]
def k0_mult168 (v2717 : BitVec 32) : BitVec 32 :=
  let c999936_i32_1246 : BitVec 32 := 999936#32
  let v2718 : BitVec 32 := Scalar.subi v2717 c999936_i32_1246
  let c32_i32_1247 : BitVec 32 := 32#32
  let v2719 : BitVec 32 := Scalar.muli v2718 c32_i32_1247
  v2719

def k0_off329 (v2717 : BitVec 32) : Fin 1 → Nat :=
  let c999936_i32_1246 : BitVec 32 := 999936#32
  let v2718 : BitVec 32 := Scalar.subi v2717 c999936_i32_1246
  let c32_i32_1247 : BitVec 32 := 32#32
  let v2719 : BitVec 32 := Scalar.muli v2718 c32_i32_1247
  let v2720 : BitVec 32 := v2719
  ![v2720.toNat]
def k0_mult169 (v2726 : BitVec 32) : BitVec 32 :=
  let c999936_i32_1249 : BitVec 32 := 999936#32
  let v2727 : BitVec 32 := Scalar.subi v2726 c999936_i32_1249
  let c32_i32_1250 : BitVec 32 := 32#32
  let v2728 : BitVec 32 := Scalar.muli v2727 c32_i32_1250
  v2728

def k0_off330 (v2726 : BitVec 32) : Fin 1 → Nat :=
  let c999936_i32_1249 : BitVec 32 := 999936#32
  let v2727 : BitVec 32 := Scalar.subi v2726 c999936_i32_1249
  let c32_i32_1250 : BitVec 32 := 32#32
  let v2728 : BitVec 32 := Scalar.muli v2727 c32_i32_1250
  let v2729 : BitVec 32 := v2728
  ![v2729.toNat]
def k0_mult170 (v2735 : BitVec 32) : BitVec 32 :=
  let c999936_i32_1252 : BitVec 32 := 999936#32
  let v2736 : BitVec 32 := Scalar.subi v2735 c999936_i32_1252
  let c32_i32_1253 : BitVec 32 := 32#32
  let v2737 : BitVec 32 := Scalar.muli v2736 c32_i32_1253
  v2737

def k0_off331 (v2735 : BitVec 32) : Fin 1 → Nat :=
  let c999936_i32_1252 : BitVec 32 := 999936#32
  let v2736 : BitVec 32 := Scalar.subi v2735 c999936_i32_1252
  let c32_i32_1253 : BitVec 32 := 32#32
  let v2737 : BitVec 32 := Scalar.muli v2736 c32_i32_1253
  let v2738 : BitVec 32 := v2737
  ![v2738.toNat]
def k0_mult171 (v2744 : BitVec 32) : BitVec 32 :=
  let c999936_i32_1255 : BitVec 32 := 999936#32
  let v2745 : BitVec 32 := Scalar.subi v2744 c999936_i32_1255
  let c32_i32_1256 : BitVec 32 := 32#32
  let v2746 : BitVec 32 := Scalar.muli v2745 c32_i32_1256
  v2746

def k0_off332 (v2744 : BitVec 32) : Fin 1 → Nat :=
  let c999936_i32_1255 : BitVec 32 := 999936#32
  let v2745 : BitVec 32 := Scalar.subi v2744 c999936_i32_1255
  let c32_i32_1256 : BitVec 32 := 32#32
  let v2746 : BitVec 32 := Scalar.muli v2745 c32_i32_1256
  let v2747 : BitVec 32 := v2746
  ![v2747.toNat]
def k0_mult172 (v2753 : BitVec 32) : BitVec 32 :=
  let c999936_i32_1258 : BitVec 32 := 999936#32
  let v2754 : BitVec 32 := Scalar.subi v2753 c999936_i32_1258
  let c32_i32_1259 : BitVec 32 := 32#32
  let v2755 : BitVec 32 := Scalar.muli v2754 c32_i32_1259
  v2755

def k0_off333 (v2753 : BitVec 32) : Fin 1 → Nat :=
  let c999936_i32_1258 : BitVec 32 := 999936#32
  let v2754 : BitVec 32 := Scalar.subi v2753 c999936_i32_1258
  let c32_i32_1259 : BitVec 32 := 32#32
  let v2755 : BitVec 32 := Scalar.muli v2754 c32_i32_1259
  let v2756 : BitVec 32 := v2755
  ![v2756.toNat]
def k0_mult173 (v2762 : BitVec 32) : BitVec 32 :=
  let c999936_i32_1261 : BitVec 32 := 999936#32
  let v2763 : BitVec 32 := Scalar.subi v2762 c999936_i32_1261
  let c32_i32_1262 : BitVec 32 := 32#32
  let v2764 : BitVec 32 := Scalar.muli v2763 c32_i32_1262
  v2764

def k0_off334 (v2762 : BitVec 32) : Fin 1 → Nat :=
  let c999936_i32_1261 : BitVec 32 := 999936#32
  let v2763 : BitVec 32 := Scalar.subi v2762 c999936_i32_1261
  let c32_i32_1262 : BitVec 32 := 32#32
  let v2764 : BitVec 32 := Scalar.muli v2763 c32_i32_1262
  let v2765 : BitVec 32 := v2764
  ![v2765.toNat]
def k0_mult174 (v2771 : BitVec 32) : BitVec 32 :=
  let c999936_i32_1264 : BitVec 32 := 999936#32
  let v2772 : BitVec 32 := Scalar.subi v2771 c999936_i32_1264
  let c32_i32_1265 : BitVec 32 := 32#32
  let v2773 : BitVec 32 := Scalar.muli v2772 c32_i32_1265
  v2773

def k0_off335 (v2771 : BitVec 32) : Fin 1 → Nat :=
  let c999936_i32_1264 : BitVec 32 := 999936#32
  let v2772 : BitVec 32 := Scalar.subi v2771 c999936_i32_1264
  let c32_i32_1265 : BitVec 32 := 32#32
  let v2773 : BitVec 32 := Scalar.muli v2772 c32_i32_1265
  let v2774 : BitVec 32 := v2773
  ![v2774.toNat]
def k0_mult175 (v2780 : BitVec 32) : BitVec 32 :=
  let c999936_i32_1267 : BitVec 32 := 999936#32
  let v2781 : BitVec 32 := Scalar.subi v2780 c999936_i32_1267
  let c32_i32_1268 : BitVec 32 := 32#32
  let v2782 : BitVec 32 := Scalar.muli v2781 c32_i32_1268
  v2782

def k0_off336 (v2780 : BitVec 32) : Fin 1 → Nat :=
  let c999936_i32_1267 : BitVec 32 := 999936#32
  let v2781 : BitVec 32 := Scalar.subi v2780 c999936_i32_1267
  let c32_i32_1268 : BitVec 32 := 32#32
  let v2782 : BitVec 32 := Scalar.muli v2781 c32_i32_1268
  let v2783 : BitVec 32 := v2782
  ![v2783.toNat]
def k0_mult176 (v2789 : BitVec 32) : BitVec 32 :=
  let c999936_i32_1270 : BitVec 32 := 999936#32
  let v2790 : BitVec 32 := Scalar.subi v2789 c999936_i32_1270
  let c32_i32_1271 : BitVec 32 := 32#32
  let v2791 : BitVec 32 := Scalar.muli v2790 c32_i32_1271
  v2791

def k0_off337 (v2789 : BitVec 32) : Fin 1 → Nat :=
  let c999936_i32_1270 : BitVec 32 := 999936#32
  let v2790 : BitVec 32 := Scalar.subi v2789 c999936_i32_1270
  let c32_i32_1271 : BitVec 32 := 32#32
  let v2791 : BitVec 32 := Scalar.muli v2790 c32_i32_1271
  let v2792 : BitVec 32 := v2791
  ![v2792.toNat]
def k0_mult177 (v2798 : BitVec 32) : BitVec 32 :=
  let c999936_i32_1273 : BitVec 32 := 999936#32
  let v2799 : BitVec 32 := Scalar.subi v2798 c999936_i32_1273
  let c32_i32_1274 : BitVec 32 := 32#32
  let v2800 : BitVec 32 := Scalar.muli v2799 c32_i32_1274
  v2800

def k0_off338 (v2798 : BitVec 32) : Fin 1 → Nat :=
  let c999936_i32_1273 : BitVec 32 := 999936#32
  let v2799 : BitVec 32 := Scalar.subi v2798 c999936_i32_1273
  let c32_i32_1274 : BitVec 32 := 32#32
  let v2800 : BitVec 32 := Scalar.muli v2799 c32_i32_1274
  let v2801 : BitVec 32 := v2800
  ![v2801.toNat]

def k0_chk200 (v2798 : BitVec 32) : Prop :=
  (8 ∣ (k0_mult177 v2798).toNat) ∧
  (∀ a, (k0_off338 v2798) a + S32.size a ≤ S2048.size a)
theorem k0_mult177_dvd : ∀ (v2798 : BitVec 32) (k0_hw200 : k0_chk200 v2798), 8 ∣ (k0_mult177 v2798).toNat := fun v2798 k0_hw200 => k0_hw200.1
theorem k0_off338_inb : ∀ (v2798 : BitVec 32) (k0_hw200 : k0_chk200 v2798), ∀ a, (k0_off338 v2798) a + S32.size a ≤ S2048.size a := fun v2798 k0_hw200 => k0_hw200.2

def k0_off339 (v2663 : BitVec 32) : Fin 1 → Nat :=
  let c999936_i32_1228 : BitVec 32 := 999936#32
  let v2664 : BitVec 32 := Scalar.subi v2663 c999936_i32_1228
  let c32_i32_1229 : BitVec 32 := 32#32
  let v2665 : BitVec 32 := Scalar.muli v2664 c32_i32_1229
  let v2666 : BitVec 32 := v2665
  ![v2666.toNat]

def k0_chk185 (v2663 : BitVec 32) : Prop :=
  (8 ∣ (k0_mult162 v2663).toNat) ∧
  (∀ a, (k0_off323 v2663) a + S32.size a ≤ S2048.size a) ∧
  (∀ a, (k0_off339 v2663) a + S32.size a ≤ S2048.size a)
theorem k0_mult162_dvd : ∀ (v2663 : BitVec 32) (k0_hw185 : k0_chk185 v2663), 8 ∣ (k0_mult162 v2663).toNat := fun v2663 k0_hw185 => k0_hw185.1
theorem k0_off323_inb : ∀ (v2663 : BitVec 32) (k0_hw185 : k0_chk185 v2663), ∀ a, (k0_off323 v2663) a + S32.size a ≤ S2048.size a := fun v2663 k0_hw185 => k0_hw185.2.1
theorem k0_off339_inb : ∀ (v2663 : BitVec 32) (k0_hw185 : k0_chk185 v2663), ∀ a, (k0_off339 v2663) a + S32.size a ≤ S2048.size a := fun v2663 k0_hw185 => k0_hw185.2.2

def k0_off340 (v2672 : BitVec 32) : Fin 1 → Nat :=
  let c999936_i32_1231 : BitVec 32 := 999936#32
  let v2673 : BitVec 32 := Scalar.subi v2672 c999936_i32_1231
  let c32_i32_1232 : BitVec 32 := 32#32
  let v2674 : BitVec 32 := Scalar.muli v2673 c32_i32_1232
  let v2675 : BitVec 32 := v2674
  ![v2675.toNat]

def k0_chk186 (v2672 : BitVec 32) : Prop :=
  (8 ∣ (k0_mult163 v2672).toNat) ∧
  (∀ a, (k0_off324 v2672) a + S32.size a ≤ S2048.size a) ∧
  (∀ a, (k0_off340 v2672) a + S32.size a ≤ S2048.size a)
theorem k0_mult163_dvd : ∀ (v2672 : BitVec 32) (k0_hw186 : k0_chk186 v2672), 8 ∣ (k0_mult163 v2672).toNat := fun v2672 k0_hw186 => k0_hw186.1
theorem k0_off324_inb : ∀ (v2672 : BitVec 32) (k0_hw186 : k0_chk186 v2672), ∀ a, (k0_off324 v2672) a + S32.size a ≤ S2048.size a := fun v2672 k0_hw186 => k0_hw186.2.1
theorem k0_off340_inb : ∀ (v2672 : BitVec 32) (k0_hw186 : k0_chk186 v2672), ∀ a, (k0_off340 v2672) a + S32.size a ≤ S2048.size a := fun v2672 k0_hw186 => k0_hw186.2.2

def k0_off341 (v2681 : BitVec 32) : Fin 1 → Nat :=
  let c999936_i32_1234 : BitVec 32 := 999936#32
  let v2682 : BitVec 32 := Scalar.subi v2681 c999936_i32_1234
  let c32_i32_1235 : BitVec 32 := 32#32
  let v2683 : BitVec 32 := Scalar.muli v2682 c32_i32_1235
  let v2684 : BitVec 32 := v2683
  ![v2684.toNat]

def k0_chk187 (v2681 : BitVec 32) : Prop :=
  (8 ∣ (k0_mult164 v2681).toNat) ∧
  (∀ a, (k0_off325 v2681) a + S32.size a ≤ S2048.size a) ∧
  (∀ a, (k0_off341 v2681) a + S32.size a ≤ S2048.size a)
theorem k0_mult164_dvd : ∀ (v2681 : BitVec 32) (k0_hw187 : k0_chk187 v2681), 8 ∣ (k0_mult164 v2681).toNat := fun v2681 k0_hw187 => k0_hw187.1
theorem k0_off325_inb : ∀ (v2681 : BitVec 32) (k0_hw187 : k0_chk187 v2681), ∀ a, (k0_off325 v2681) a + S32.size a ≤ S2048.size a := fun v2681 k0_hw187 => k0_hw187.2.1
theorem k0_off341_inb : ∀ (v2681 : BitVec 32) (k0_hw187 : k0_chk187 v2681), ∀ a, (k0_off341 v2681) a + S32.size a ≤ S2048.size a := fun v2681 k0_hw187 => k0_hw187.2.2

def k0_off342 (v2690 : BitVec 32) : Fin 1 → Nat :=
  let c999936_i32_1237 : BitVec 32 := 999936#32
  let v2691 : BitVec 32 := Scalar.subi v2690 c999936_i32_1237
  let c32_i32_1238 : BitVec 32 := 32#32
  let v2692 : BitVec 32 := Scalar.muli v2691 c32_i32_1238
  let v2693 : BitVec 32 := v2692
  ![v2693.toNat]

def k0_chk188 (v2690 : BitVec 32) : Prop :=
  (8 ∣ (k0_mult165 v2690).toNat) ∧
  (∀ a, (k0_off326 v2690) a + S32.size a ≤ S2048.size a) ∧
  (∀ a, (k0_off342 v2690) a + S32.size a ≤ S2048.size a)
theorem k0_mult165_dvd : ∀ (v2690 : BitVec 32) (k0_hw188 : k0_chk188 v2690), 8 ∣ (k0_mult165 v2690).toNat := fun v2690 k0_hw188 => k0_hw188.1
theorem k0_off326_inb : ∀ (v2690 : BitVec 32) (k0_hw188 : k0_chk188 v2690), ∀ a, (k0_off326 v2690) a + S32.size a ≤ S2048.size a := fun v2690 k0_hw188 => k0_hw188.2.1
theorem k0_off342_inb : ∀ (v2690 : BitVec 32) (k0_hw188 : k0_chk188 v2690), ∀ a, (k0_off342 v2690) a + S32.size a ≤ S2048.size a := fun v2690 k0_hw188 => k0_hw188.2.2

def k0_off343 (v2699 : BitVec 32) : Fin 1 → Nat :=
  let c999936_i32_1240 : BitVec 32 := 999936#32
  let v2700 : BitVec 32 := Scalar.subi v2699 c999936_i32_1240
  let c32_i32_1241 : BitVec 32 := 32#32
  let v2701 : BitVec 32 := Scalar.muli v2700 c32_i32_1241
  let v2702 : BitVec 32 := v2701
  ![v2702.toNat]

def k0_chk189 (v2699 : BitVec 32) : Prop :=
  (8 ∣ (k0_mult166 v2699).toNat) ∧
  (∀ a, (k0_off327 v2699) a + S32.size a ≤ S2048.size a) ∧
  (∀ a, (k0_off343 v2699) a + S32.size a ≤ S2048.size a)
theorem k0_mult166_dvd : ∀ (v2699 : BitVec 32) (k0_hw189 : k0_chk189 v2699), 8 ∣ (k0_mult166 v2699).toNat := fun v2699 k0_hw189 => k0_hw189.1
theorem k0_off327_inb : ∀ (v2699 : BitVec 32) (k0_hw189 : k0_chk189 v2699), ∀ a, (k0_off327 v2699) a + S32.size a ≤ S2048.size a := fun v2699 k0_hw189 => k0_hw189.2.1
theorem k0_off343_inb : ∀ (v2699 : BitVec 32) (k0_hw189 : k0_chk189 v2699), ∀ a, (k0_off343 v2699) a + S32.size a ≤ S2048.size a := fun v2699 k0_hw189 => k0_hw189.2.2

def k0_off344 (v2708 : BitVec 32) : Fin 1 → Nat :=
  let c999936_i32_1243 : BitVec 32 := 999936#32
  let v2709 : BitVec 32 := Scalar.subi v2708 c999936_i32_1243
  let c32_i32_1244 : BitVec 32 := 32#32
  let v2710 : BitVec 32 := Scalar.muli v2709 c32_i32_1244
  let v2711 : BitVec 32 := v2710
  ![v2711.toNat]

def k0_chk190 (v2708 : BitVec 32) : Prop :=
  (8 ∣ (k0_mult167 v2708).toNat) ∧
  (∀ a, (k0_off328 v2708) a + S32.size a ≤ S2048.size a) ∧
  (∀ a, (k0_off344 v2708) a + S32.size a ≤ S2048.size a)
theorem k0_mult167_dvd : ∀ (v2708 : BitVec 32) (k0_hw190 : k0_chk190 v2708), 8 ∣ (k0_mult167 v2708).toNat := fun v2708 k0_hw190 => k0_hw190.1
theorem k0_off328_inb : ∀ (v2708 : BitVec 32) (k0_hw190 : k0_chk190 v2708), ∀ a, (k0_off328 v2708) a + S32.size a ≤ S2048.size a := fun v2708 k0_hw190 => k0_hw190.2.1
theorem k0_off344_inb : ∀ (v2708 : BitVec 32) (k0_hw190 : k0_chk190 v2708), ∀ a, (k0_off344 v2708) a + S32.size a ≤ S2048.size a := fun v2708 k0_hw190 => k0_hw190.2.2

def k0_off345 (v2717 : BitVec 32) : Fin 1 → Nat :=
  let c999936_i32_1246 : BitVec 32 := 999936#32
  let v2718 : BitVec 32 := Scalar.subi v2717 c999936_i32_1246
  let c32_i32_1247 : BitVec 32 := 32#32
  let v2719 : BitVec 32 := Scalar.muli v2718 c32_i32_1247
  let v2720 : BitVec 32 := v2719
  ![v2720.toNat]

def k0_chk191 (v2717 : BitVec 32) : Prop :=
  (8 ∣ (k0_mult168 v2717).toNat) ∧
  (∀ a, (k0_off329 v2717) a + S32.size a ≤ S2048.size a) ∧
  (∀ a, (k0_off345 v2717) a + S32.size a ≤ S2048.size a)
theorem k0_mult168_dvd : ∀ (v2717 : BitVec 32) (k0_hw191 : k0_chk191 v2717), 8 ∣ (k0_mult168 v2717).toNat := fun v2717 k0_hw191 => k0_hw191.1
theorem k0_off329_inb : ∀ (v2717 : BitVec 32) (k0_hw191 : k0_chk191 v2717), ∀ a, (k0_off329 v2717) a + S32.size a ≤ S2048.size a := fun v2717 k0_hw191 => k0_hw191.2.1
theorem k0_off345_inb : ∀ (v2717 : BitVec 32) (k0_hw191 : k0_chk191 v2717), ∀ a, (k0_off345 v2717) a + S32.size a ≤ S2048.size a := fun v2717 k0_hw191 => k0_hw191.2.2

def k0_off346 (v2726 : BitVec 32) : Fin 1 → Nat :=
  let c999936_i32_1249 : BitVec 32 := 999936#32
  let v2727 : BitVec 32 := Scalar.subi v2726 c999936_i32_1249
  let c32_i32_1250 : BitVec 32 := 32#32
  let v2728 : BitVec 32 := Scalar.muli v2727 c32_i32_1250
  let v2729 : BitVec 32 := v2728
  ![v2729.toNat]

def k0_chk192 (v2726 : BitVec 32) : Prop :=
  (8 ∣ (k0_mult169 v2726).toNat) ∧
  (∀ a, (k0_off330 v2726) a + S32.size a ≤ S2048.size a) ∧
  (∀ a, (k0_off346 v2726) a + S32.size a ≤ S2048.size a)
theorem k0_mult169_dvd : ∀ (v2726 : BitVec 32) (k0_hw192 : k0_chk192 v2726), 8 ∣ (k0_mult169 v2726).toNat := fun v2726 k0_hw192 => k0_hw192.1
theorem k0_off330_inb : ∀ (v2726 : BitVec 32) (k0_hw192 : k0_chk192 v2726), ∀ a, (k0_off330 v2726) a + S32.size a ≤ S2048.size a := fun v2726 k0_hw192 => k0_hw192.2.1
theorem k0_off346_inb : ∀ (v2726 : BitVec 32) (k0_hw192 : k0_chk192 v2726), ∀ a, (k0_off346 v2726) a + S32.size a ≤ S2048.size a := fun v2726 k0_hw192 => k0_hw192.2.2

def k0_off347 (v2735 : BitVec 32) : Fin 1 → Nat :=
  let c999936_i32_1252 : BitVec 32 := 999936#32
  let v2736 : BitVec 32 := Scalar.subi v2735 c999936_i32_1252
  let c32_i32_1253 : BitVec 32 := 32#32
  let v2737 : BitVec 32 := Scalar.muli v2736 c32_i32_1253
  let v2738 : BitVec 32 := v2737
  ![v2738.toNat]

def k0_chk193 (v2735 : BitVec 32) : Prop :=
  (8 ∣ (k0_mult170 v2735).toNat) ∧
  (∀ a, (k0_off331 v2735) a + S32.size a ≤ S2048.size a) ∧
  (∀ a, (k0_off347 v2735) a + S32.size a ≤ S2048.size a)
theorem k0_mult170_dvd : ∀ (v2735 : BitVec 32) (k0_hw193 : k0_chk193 v2735), 8 ∣ (k0_mult170 v2735).toNat := fun v2735 k0_hw193 => k0_hw193.1
theorem k0_off331_inb : ∀ (v2735 : BitVec 32) (k0_hw193 : k0_chk193 v2735), ∀ a, (k0_off331 v2735) a + S32.size a ≤ S2048.size a := fun v2735 k0_hw193 => k0_hw193.2.1
theorem k0_off347_inb : ∀ (v2735 : BitVec 32) (k0_hw193 : k0_chk193 v2735), ∀ a, (k0_off347 v2735) a + S32.size a ≤ S2048.size a := fun v2735 k0_hw193 => k0_hw193.2.2

def k0_off348 (v2744 : BitVec 32) : Fin 1 → Nat :=
  let c999936_i32_1255 : BitVec 32 := 999936#32
  let v2745 : BitVec 32 := Scalar.subi v2744 c999936_i32_1255
  let c32_i32_1256 : BitVec 32 := 32#32
  let v2746 : BitVec 32 := Scalar.muli v2745 c32_i32_1256
  let v2747 : BitVec 32 := v2746
  ![v2747.toNat]

def k0_chk194 (v2744 : BitVec 32) : Prop :=
  (8 ∣ (k0_mult171 v2744).toNat) ∧
  (∀ a, (k0_off332 v2744) a + S32.size a ≤ S2048.size a) ∧
  (∀ a, (k0_off348 v2744) a + S32.size a ≤ S2048.size a)
theorem k0_mult171_dvd : ∀ (v2744 : BitVec 32) (k0_hw194 : k0_chk194 v2744), 8 ∣ (k0_mult171 v2744).toNat := fun v2744 k0_hw194 => k0_hw194.1
theorem k0_off332_inb : ∀ (v2744 : BitVec 32) (k0_hw194 : k0_chk194 v2744), ∀ a, (k0_off332 v2744) a + S32.size a ≤ S2048.size a := fun v2744 k0_hw194 => k0_hw194.2.1
theorem k0_off348_inb : ∀ (v2744 : BitVec 32) (k0_hw194 : k0_chk194 v2744), ∀ a, (k0_off348 v2744) a + S32.size a ≤ S2048.size a := fun v2744 k0_hw194 => k0_hw194.2.2

def k0_off349 (v2753 : BitVec 32) : Fin 1 → Nat :=
  let c999936_i32_1258 : BitVec 32 := 999936#32
  let v2754 : BitVec 32 := Scalar.subi v2753 c999936_i32_1258
  let c32_i32_1259 : BitVec 32 := 32#32
  let v2755 : BitVec 32 := Scalar.muli v2754 c32_i32_1259
  let v2756 : BitVec 32 := v2755
  ![v2756.toNat]

def k0_chk195 (v2753 : BitVec 32) : Prop :=
  (8 ∣ (k0_mult172 v2753).toNat) ∧
  (∀ a, (k0_off333 v2753) a + S32.size a ≤ S2048.size a) ∧
  (∀ a, (k0_off349 v2753) a + S32.size a ≤ S2048.size a)
theorem k0_mult172_dvd : ∀ (v2753 : BitVec 32) (k0_hw195 : k0_chk195 v2753), 8 ∣ (k0_mult172 v2753).toNat := fun v2753 k0_hw195 => k0_hw195.1
theorem k0_off333_inb : ∀ (v2753 : BitVec 32) (k0_hw195 : k0_chk195 v2753), ∀ a, (k0_off333 v2753) a + S32.size a ≤ S2048.size a := fun v2753 k0_hw195 => k0_hw195.2.1
theorem k0_off349_inb : ∀ (v2753 : BitVec 32) (k0_hw195 : k0_chk195 v2753), ∀ a, (k0_off349 v2753) a + S32.size a ≤ S2048.size a := fun v2753 k0_hw195 => k0_hw195.2.2

def k0_off350 (v2762 : BitVec 32) : Fin 1 → Nat :=
  let c999936_i32_1261 : BitVec 32 := 999936#32
  let v2763 : BitVec 32 := Scalar.subi v2762 c999936_i32_1261
  let c32_i32_1262 : BitVec 32 := 32#32
  let v2764 : BitVec 32 := Scalar.muli v2763 c32_i32_1262
  let v2765 : BitVec 32 := v2764
  ![v2765.toNat]

def k0_chk196 (v2762 : BitVec 32) : Prop :=
  (8 ∣ (k0_mult173 v2762).toNat) ∧
  (∀ a, (k0_off334 v2762) a + S32.size a ≤ S2048.size a) ∧
  (∀ a, (k0_off350 v2762) a + S32.size a ≤ S2048.size a)
theorem k0_mult173_dvd : ∀ (v2762 : BitVec 32) (k0_hw196 : k0_chk196 v2762), 8 ∣ (k0_mult173 v2762).toNat := fun v2762 k0_hw196 => k0_hw196.1
theorem k0_off334_inb : ∀ (v2762 : BitVec 32) (k0_hw196 : k0_chk196 v2762), ∀ a, (k0_off334 v2762) a + S32.size a ≤ S2048.size a := fun v2762 k0_hw196 => k0_hw196.2.1
theorem k0_off350_inb : ∀ (v2762 : BitVec 32) (k0_hw196 : k0_chk196 v2762), ∀ a, (k0_off350 v2762) a + S32.size a ≤ S2048.size a := fun v2762 k0_hw196 => k0_hw196.2.2

def k0_off351 (v2771 : BitVec 32) : Fin 1 → Nat :=
  let c999936_i32_1264 : BitVec 32 := 999936#32
  let v2772 : BitVec 32 := Scalar.subi v2771 c999936_i32_1264
  let c32_i32_1265 : BitVec 32 := 32#32
  let v2773 : BitVec 32 := Scalar.muli v2772 c32_i32_1265
  let v2774 : BitVec 32 := v2773
  ![v2774.toNat]

def k0_chk197 (v2771 : BitVec 32) : Prop :=
  (8 ∣ (k0_mult174 v2771).toNat) ∧
  (∀ a, (k0_off335 v2771) a + S32.size a ≤ S2048.size a) ∧
  (∀ a, (k0_off351 v2771) a + S32.size a ≤ S2048.size a)
theorem k0_mult174_dvd : ∀ (v2771 : BitVec 32) (k0_hw197 : k0_chk197 v2771), 8 ∣ (k0_mult174 v2771).toNat := fun v2771 k0_hw197 => k0_hw197.1
theorem k0_off335_inb : ∀ (v2771 : BitVec 32) (k0_hw197 : k0_chk197 v2771), ∀ a, (k0_off335 v2771) a + S32.size a ≤ S2048.size a := fun v2771 k0_hw197 => k0_hw197.2.1
theorem k0_off351_inb : ∀ (v2771 : BitVec 32) (k0_hw197 : k0_chk197 v2771), ∀ a, (k0_off351 v2771) a + S32.size a ≤ S2048.size a := fun v2771 k0_hw197 => k0_hw197.2.2

def k0_off352 (v2780 : BitVec 32) : Fin 1 → Nat :=
  let c999936_i32_1267 : BitVec 32 := 999936#32
  let v2781 : BitVec 32 := Scalar.subi v2780 c999936_i32_1267
  let c32_i32_1268 : BitVec 32 := 32#32
  let v2782 : BitVec 32 := Scalar.muli v2781 c32_i32_1268
  let v2783 : BitVec 32 := v2782
  ![v2783.toNat]

def k0_chk198 (v2780 : BitVec 32) : Prop :=
  (8 ∣ (k0_mult175 v2780).toNat) ∧
  (∀ a, (k0_off336 v2780) a + S32.size a ≤ S2048.size a) ∧
  (∀ a, (k0_off352 v2780) a + S32.size a ≤ S2048.size a)
theorem k0_mult175_dvd : ∀ (v2780 : BitVec 32) (k0_hw198 : k0_chk198 v2780), 8 ∣ (k0_mult175 v2780).toNat := fun v2780 k0_hw198 => k0_hw198.1
theorem k0_off336_inb : ∀ (v2780 : BitVec 32) (k0_hw198 : k0_chk198 v2780), ∀ a, (k0_off336 v2780) a + S32.size a ≤ S2048.size a := fun v2780 k0_hw198 => k0_hw198.2.1
theorem k0_off352_inb : ∀ (v2780 : BitVec 32) (k0_hw198 : k0_chk198 v2780), ∀ a, (k0_off352 v2780) a + S32.size a ≤ S2048.size a := fun v2780 k0_hw198 => k0_hw198.2.2

def k0_off353 (v2789 : BitVec 32) : Fin 1 → Nat :=
  let c999936_i32_1270 : BitVec 32 := 999936#32
  let v2790 : BitVec 32 := Scalar.subi v2789 c999936_i32_1270
  let c32_i32_1271 : BitVec 32 := 32#32
  let v2791 : BitVec 32 := Scalar.muli v2790 c32_i32_1271
  let v2792 : BitVec 32 := v2791
  ![v2792.toNat]

def k0_chk199 (v2789 : BitVec 32) : Prop :=
  (8 ∣ (k0_mult176 v2789).toNat) ∧
  (∀ a, (k0_off337 v2789) a + S32.size a ≤ S2048.size a) ∧
  (∀ a, (k0_off353 v2789) a + S32.size a ≤ S2048.size a)
theorem k0_mult176_dvd : ∀ (v2789 : BitVec 32) (k0_hw199 : k0_chk199 v2789), 8 ∣ (k0_mult176 v2789).toNat := fun v2789 k0_hw199 => k0_hw199.1
theorem k0_off337_inb : ∀ (v2789 : BitVec 32) (k0_hw199 : k0_chk199 v2789), ∀ a, (k0_off337 v2789) a + S32.size a ≤ S2048.size a := fun v2789 k0_hw199 => k0_hw199.2.1
theorem k0_off353_inb : ∀ (v2789 : BitVec 32) (k0_hw199 : k0_chk199 v2789), ∀ a, (k0_off353 v2789) a + S32.size a ≤ S2048.size a := fun v2789 k0_hw199 => k0_hw199.2.2

def k0_mult178 (v2871 : BitVec 32) : BitVec 32 :=
  let c0_i32_1309 : BitVec 32 := 0#32
  let c32_i32_1308 : BitVec 32 := 32#32
  let v2872 : BitVec 32 := Scalar.muli v2871 c32_i32_1308
  let v2873 : BitVec 32 := Scalar.addi c0_i32_1309 v2872
  v2873

def k0_off354 (v2871 : BitVec 32) : Fin 1 → Nat :=
  let c0_i32_1309 : BitVec 32 := 0#32
  let c32_i32_1308 : BitVec 32 := 32#32
  let v2872 : BitVec 32 := Scalar.muli v2871 c32_i32_1308
  let v2873 : BitVec 32 := Scalar.addi c0_i32_1309 v2872
  let v2874 : BitVec 32 := v2873
  ![v2874.toNat]
def k0_mult179 (v2880 : BitVec 32) : BitVec 32 :=
  let c0_i32_1313 : BitVec 32 := 0#32
  let c32_i32_1312 : BitVec 32 := 32#32
  let v2881 : BitVec 32 := Scalar.muli v2880 c32_i32_1312
  let v2882 : BitVec 32 := Scalar.addi c0_i32_1313 v2881
  v2882

def k0_off355 (v2880 : BitVec 32) : Fin 1 → Nat :=
  let c0_i32_1313 : BitVec 32 := 0#32
  let c32_i32_1312 : BitVec 32 := 32#32
  let v2881 : BitVec 32 := Scalar.muli v2880 c32_i32_1312
  let v2882 : BitVec 32 := Scalar.addi c0_i32_1313 v2881
  let v2883 : BitVec 32 := v2882
  ![v2883.toNat]
def k0_mult180 (v2889 : BitVec 32) : BitVec 32 :=
  let c0_i32_1317 : BitVec 32 := 0#32
  let c32_i32_1316 : BitVec 32 := 32#32
  let v2890 : BitVec 32 := Scalar.muli v2889 c32_i32_1316
  let v2891 : BitVec 32 := Scalar.addi c0_i32_1317 v2890
  v2891

def k0_off356 (v2889 : BitVec 32) : Fin 1 → Nat :=
  let c0_i32_1317 : BitVec 32 := 0#32
  let c32_i32_1316 : BitVec 32 := 32#32
  let v2890 : BitVec 32 := Scalar.muli v2889 c32_i32_1316
  let v2891 : BitVec 32 := Scalar.addi c0_i32_1317 v2890
  let v2892 : BitVec 32 := v2891
  ![v2892.toNat]
def k0_mult181 (v2898 : BitVec 32) : BitVec 32 :=
  let c0_i32_1321 : BitVec 32 := 0#32
  let c32_i32_1320 : BitVec 32 := 32#32
  let v2899 : BitVec 32 := Scalar.muli v2898 c32_i32_1320
  let v2900 : BitVec 32 := Scalar.addi c0_i32_1321 v2899
  v2900

def k0_off357 (v2898 : BitVec 32) : Fin 1 → Nat :=
  let c0_i32_1321 : BitVec 32 := 0#32
  let c32_i32_1320 : BitVec 32 := 32#32
  let v2899 : BitVec 32 := Scalar.muli v2898 c32_i32_1320
  let v2900 : BitVec 32 := Scalar.addi c0_i32_1321 v2899
  let v2901 : BitVec 32 := v2900
  ![v2901.toNat]
def k0_mult182 (v2907 : BitVec 32) : BitVec 32 :=
  let c0_i32_1325 : BitVec 32 := 0#32
  let c32_i32_1324 : BitVec 32 := 32#32
  let v2908 : BitVec 32 := Scalar.muli v2907 c32_i32_1324
  let v2909 : BitVec 32 := Scalar.addi c0_i32_1325 v2908
  v2909

def k0_off358 (v2907 : BitVec 32) : Fin 1 → Nat :=
  let c0_i32_1325 : BitVec 32 := 0#32
  let c32_i32_1324 : BitVec 32 := 32#32
  let v2908 : BitVec 32 := Scalar.muli v2907 c32_i32_1324
  let v2909 : BitVec 32 := Scalar.addi c0_i32_1325 v2908
  let v2910 : BitVec 32 := v2909
  ![v2910.toNat]
def k0_mult183 (v2916 : BitVec 32) : BitVec 32 :=
  let c0_i32_1329 : BitVec 32 := 0#32
  let c32_i32_1328 : BitVec 32 := 32#32
  let v2917 : BitVec 32 := Scalar.muli v2916 c32_i32_1328
  let v2918 : BitVec 32 := Scalar.addi c0_i32_1329 v2917
  v2918

def k0_off359 (v2916 : BitVec 32) : Fin 1 → Nat :=
  let c0_i32_1329 : BitVec 32 := 0#32
  let c32_i32_1328 : BitVec 32 := 32#32
  let v2917 : BitVec 32 := Scalar.muli v2916 c32_i32_1328
  let v2918 : BitVec 32 := Scalar.addi c0_i32_1329 v2917
  let v2919 : BitVec 32 := v2918
  ![v2919.toNat]
def k0_mult184 (v2925 : BitVec 32) : BitVec 32 :=
  let c0_i32_1333 : BitVec 32 := 0#32
  let c32_i32_1332 : BitVec 32 := 32#32
  let v2926 : BitVec 32 := Scalar.muli v2925 c32_i32_1332
  let v2927 : BitVec 32 := Scalar.addi c0_i32_1333 v2926
  v2927

def k0_off360 (v2925 : BitVec 32) : Fin 1 → Nat :=
  let c0_i32_1333 : BitVec 32 := 0#32
  let c32_i32_1332 : BitVec 32 := 32#32
  let v2926 : BitVec 32 := Scalar.muli v2925 c32_i32_1332
  let v2927 : BitVec 32 := Scalar.addi c0_i32_1333 v2926
  let v2928 : BitVec 32 := v2927
  ![v2928.toNat]
def k0_mult185 (v2934 : BitVec 32) : BitVec 32 :=
  let c0_i32_1337 : BitVec 32 := 0#32
  let c32_i32_1336 : BitVec 32 := 32#32
  let v2935 : BitVec 32 := Scalar.muli v2934 c32_i32_1336
  let v2936 : BitVec 32 := Scalar.addi c0_i32_1337 v2935
  v2936

def k0_off361 (v2934 : BitVec 32) : Fin 1 → Nat :=
  let c0_i32_1337 : BitVec 32 := 0#32
  let c32_i32_1336 : BitVec 32 := 32#32
  let v2935 : BitVec 32 := Scalar.muli v2934 c32_i32_1336
  let v2936 : BitVec 32 := Scalar.addi c0_i32_1337 v2935
  let v2937 : BitVec 32 := v2936
  ![v2937.toNat]
def k0_mult186 (v2943 : BitVec 32) : BitVec 32 :=
  let c0_i32_1341 : BitVec 32 := 0#32
  let c32_i32_1340 : BitVec 32 := 32#32
  let v2944 : BitVec 32 := Scalar.muli v2943 c32_i32_1340
  let v2945 : BitVec 32 := Scalar.addi c0_i32_1341 v2944
  v2945

def k0_off362 (v2943 : BitVec 32) : Fin 1 → Nat :=
  let c0_i32_1341 : BitVec 32 := 0#32
  let c32_i32_1340 : BitVec 32 := 32#32
  let v2944 : BitVec 32 := Scalar.muli v2943 c32_i32_1340
  let v2945 : BitVec 32 := Scalar.addi c0_i32_1341 v2944
  let v2946 : BitVec 32 := v2945
  ![v2946.toNat]
def k0_mult187 (v2952 : BitVec 32) : BitVec 32 :=
  let c0_i32_1345 : BitVec 32 := 0#32
  let c32_i32_1344 : BitVec 32 := 32#32
  let v2953 : BitVec 32 := Scalar.muli v2952 c32_i32_1344
  let v2954 : BitVec 32 := Scalar.addi c0_i32_1345 v2953
  v2954

def k0_off363 (v2952 : BitVec 32) : Fin 1 → Nat :=
  let c0_i32_1345 : BitVec 32 := 0#32
  let c32_i32_1344 : BitVec 32 := 32#32
  let v2953 : BitVec 32 := Scalar.muli v2952 c32_i32_1344
  let v2954 : BitVec 32 := Scalar.addi c0_i32_1345 v2953
  let v2955 : BitVec 32 := v2954
  ![v2955.toNat]
def k0_mult188 (v2961 : BitVec 32) : BitVec 32 :=
  let c0_i32_1349 : BitVec 32 := 0#32
  let c32_i32_1348 : BitVec 32 := 32#32
  let v2962 : BitVec 32 := Scalar.muli v2961 c32_i32_1348
  let v2963 : BitVec 32 := Scalar.addi c0_i32_1349 v2962
  v2963

def k0_off364 (v2961 : BitVec 32) : Fin 1 → Nat :=
  let c0_i32_1349 : BitVec 32 := 0#32
  let c32_i32_1348 : BitVec 32 := 32#32
  let v2962 : BitVec 32 := Scalar.muli v2961 c32_i32_1348
  let v2963 : BitVec 32 := Scalar.addi c0_i32_1349 v2962
  let v2964 : BitVec 32 := v2963
  ![v2964.toNat]
def k0_mult189 (v2970 : BitVec 32) : BitVec 32 :=
  let c0_i32_1353 : BitVec 32 := 0#32
  let c32_i32_1352 : BitVec 32 := 32#32
  let v2971 : BitVec 32 := Scalar.muli v2970 c32_i32_1352
  let v2972 : BitVec 32 := Scalar.addi c0_i32_1353 v2971
  v2972

def k0_off365 (v2970 : BitVec 32) : Fin 1 → Nat :=
  let c0_i32_1353 : BitVec 32 := 0#32
  let c32_i32_1352 : BitVec 32 := 32#32
  let v2971 : BitVec 32 := Scalar.muli v2970 c32_i32_1352
  let v2972 : BitVec 32 := Scalar.addi c0_i32_1353 v2971
  let v2973 : BitVec 32 := v2972
  ![v2973.toNat]
def k0_mult190 (v2979 : BitVec 32) : BitVec 32 :=
  let c0_i32_1357 : BitVec 32 := 0#32
  let c32_i32_1356 : BitVec 32 := 32#32
  let v2980 : BitVec 32 := Scalar.muli v2979 c32_i32_1356
  let v2981 : BitVec 32 := Scalar.addi c0_i32_1357 v2980
  v2981

def k0_off366 (v2979 : BitVec 32) : Fin 1 → Nat :=
  let c0_i32_1357 : BitVec 32 := 0#32
  let c32_i32_1356 : BitVec 32 := 32#32
  let v2980 : BitVec 32 := Scalar.muli v2979 c32_i32_1356
  let v2981 : BitVec 32 := Scalar.addi c0_i32_1357 v2980
  let v2982 : BitVec 32 := v2981
  ![v2982.toNat]
def k0_mult191 (v2988 : BitVec 32) : BitVec 32 :=
  let c0_i32_1361 : BitVec 32 := 0#32
  let c32_i32_1360 : BitVec 32 := 32#32
  let v2989 : BitVec 32 := Scalar.muli v2988 c32_i32_1360
  let v2990 : BitVec 32 := Scalar.addi c0_i32_1361 v2989
  v2990

def k0_off367 (v2988 : BitVec 32) : Fin 1 → Nat :=
  let c0_i32_1361 : BitVec 32 := 0#32
  let c32_i32_1360 : BitVec 32 := 32#32
  let v2989 : BitVec 32 := Scalar.muli v2988 c32_i32_1360
  let v2990 : BitVec 32 := Scalar.addi c0_i32_1361 v2989
  let v2991 : BitVec 32 := v2990
  ![v2991.toNat]
def k0_mult192 (v2997 : BitVec 32) : BitVec 32 :=
  let c0_i32_1365 : BitVec 32 := 0#32
  let c32_i32_1364 : BitVec 32 := 32#32
  let v2998 : BitVec 32 := Scalar.muli v2997 c32_i32_1364
  let v2999 : BitVec 32 := Scalar.addi c0_i32_1365 v2998
  v2999

def k0_off368 (v2997 : BitVec 32) : Fin 1 → Nat :=
  let c0_i32_1365 : BitVec 32 := 0#32
  let c32_i32_1364 : BitVec 32 := 32#32
  let v2998 : BitVec 32 := Scalar.muli v2997 c32_i32_1364
  let v2999 : BitVec 32 := Scalar.addi c0_i32_1365 v2998
  let v3000 : BitVec 32 := v2999
  ![v3000.toNat]
def k0_mult193 (v3006 : BitVec 32) : BitVec 32 :=
  let c0_i32_1369 : BitVec 32 := 0#32
  let c32_i32_1368 : BitVec 32 := 32#32
  let v3007 : BitVec 32 := Scalar.muli v3006 c32_i32_1368
  let v3008 : BitVec 32 := Scalar.addi c0_i32_1369 v3007
  v3008

def k0_off369 (v3006 : BitVec 32) : Fin 1 → Nat :=
  let c0_i32_1369 : BitVec 32 := 0#32
  let c32_i32_1368 : BitVec 32 := 32#32
  let v3007 : BitVec 32 := Scalar.muli v3006 c32_i32_1368
  let v3008 : BitVec 32 := Scalar.addi c0_i32_1369 v3007
  let v3009 : BitVec 32 := v3008
  ![v3009.toNat]

def k0_chk216 (v3006 : BitVec 32) : Prop :=
  (8 ∣ (k0_mult193 v3006).toNat) ∧
  (∀ a, (k0_off369 v3006) a + S32.size a ≤ S3407872.size a)
theorem k0_mult193_dvd : ∀ (v3006 : BitVec 32) (k0_hw216 : k0_chk216 v3006), 8 ∣ (k0_mult193 v3006).toNat := fun v3006 k0_hw216 => k0_hw216.1
theorem k0_off369_inb : ∀ (v3006 : BitVec 32) (k0_hw216 : k0_chk216 v3006), ∀ a, (k0_off369 v3006) a + S32.size a ≤ S3407872.size a := fun v3006 k0_hw216 => k0_hw216.2

def k0_off370 (v2871 : BitVec 32) : Fin 1 → Nat :=
  let c0_i32_1309 : BitVec 32 := 0#32
  let c32_i32_1308 : BitVec 32 := 32#32
  let v2872 : BitVec 32 := Scalar.muli v2871 c32_i32_1308
  let v2873 : BitVec 32 := Scalar.addi c0_i32_1309 v2872
  let v2874 : BitVec 32 := v2873
  ![v2874.toNat]

def k0_chk201 (v2871 : BitVec 32) : Prop :=
  (8 ∣ (k0_mult178 v2871).toNat) ∧
  (∀ a, (k0_off354 v2871) a + S32.size a ≤ S3407872.size a) ∧
  (∀ a, (k0_off370 v2871) a + S32.size a ≤ S3407872.size a)
theorem k0_mult178_dvd : ∀ (v2871 : BitVec 32) (k0_hw201 : k0_chk201 v2871), 8 ∣ (k0_mult178 v2871).toNat := fun v2871 k0_hw201 => k0_hw201.1
theorem k0_off354_inb : ∀ (v2871 : BitVec 32) (k0_hw201 : k0_chk201 v2871), ∀ a, (k0_off354 v2871) a + S32.size a ≤ S3407872.size a := fun v2871 k0_hw201 => k0_hw201.2.1
theorem k0_off370_inb : ∀ (v2871 : BitVec 32) (k0_hw201 : k0_chk201 v2871), ∀ a, (k0_off370 v2871) a + S32.size a ≤ S3407872.size a := fun v2871 k0_hw201 => k0_hw201.2.2

def k0_off371 (v2880 : BitVec 32) : Fin 1 → Nat :=
  let c0_i32_1313 : BitVec 32 := 0#32
  let c32_i32_1312 : BitVec 32 := 32#32
  let v2881 : BitVec 32 := Scalar.muli v2880 c32_i32_1312
  let v2882 : BitVec 32 := Scalar.addi c0_i32_1313 v2881
  let v2883 : BitVec 32 := v2882
  ![v2883.toNat]

def k0_chk202 (v2880 : BitVec 32) : Prop :=
  (8 ∣ (k0_mult179 v2880).toNat) ∧
  (∀ a, (k0_off355 v2880) a + S32.size a ≤ S3407872.size a) ∧
  (∀ a, (k0_off371 v2880) a + S32.size a ≤ S3407872.size a)
theorem k0_mult179_dvd : ∀ (v2880 : BitVec 32) (k0_hw202 : k0_chk202 v2880), 8 ∣ (k0_mult179 v2880).toNat := fun v2880 k0_hw202 => k0_hw202.1
theorem k0_off355_inb : ∀ (v2880 : BitVec 32) (k0_hw202 : k0_chk202 v2880), ∀ a, (k0_off355 v2880) a + S32.size a ≤ S3407872.size a := fun v2880 k0_hw202 => k0_hw202.2.1
theorem k0_off371_inb : ∀ (v2880 : BitVec 32) (k0_hw202 : k0_chk202 v2880), ∀ a, (k0_off371 v2880) a + S32.size a ≤ S3407872.size a := fun v2880 k0_hw202 => k0_hw202.2.2

def k0_off372 (v2889 : BitVec 32) : Fin 1 → Nat :=
  let c0_i32_1317 : BitVec 32 := 0#32
  let c32_i32_1316 : BitVec 32 := 32#32
  let v2890 : BitVec 32 := Scalar.muli v2889 c32_i32_1316
  let v2891 : BitVec 32 := Scalar.addi c0_i32_1317 v2890
  let v2892 : BitVec 32 := v2891
  ![v2892.toNat]

def k0_chk203 (v2889 : BitVec 32) : Prop :=
  (8 ∣ (k0_mult180 v2889).toNat) ∧
  (∀ a, (k0_off356 v2889) a + S32.size a ≤ S3407872.size a) ∧
  (∀ a, (k0_off372 v2889) a + S32.size a ≤ S3407872.size a)
theorem k0_mult180_dvd : ∀ (v2889 : BitVec 32) (k0_hw203 : k0_chk203 v2889), 8 ∣ (k0_mult180 v2889).toNat := fun v2889 k0_hw203 => k0_hw203.1
theorem k0_off356_inb : ∀ (v2889 : BitVec 32) (k0_hw203 : k0_chk203 v2889), ∀ a, (k0_off356 v2889) a + S32.size a ≤ S3407872.size a := fun v2889 k0_hw203 => k0_hw203.2.1
theorem k0_off372_inb : ∀ (v2889 : BitVec 32) (k0_hw203 : k0_chk203 v2889), ∀ a, (k0_off372 v2889) a + S32.size a ≤ S3407872.size a := fun v2889 k0_hw203 => k0_hw203.2.2

def k0_off373 (v2898 : BitVec 32) : Fin 1 → Nat :=
  let c0_i32_1321 : BitVec 32 := 0#32
  let c32_i32_1320 : BitVec 32 := 32#32
  let v2899 : BitVec 32 := Scalar.muli v2898 c32_i32_1320
  let v2900 : BitVec 32 := Scalar.addi c0_i32_1321 v2899
  let v2901 : BitVec 32 := v2900
  ![v2901.toNat]

def k0_chk204 (v2898 : BitVec 32) : Prop :=
  (8 ∣ (k0_mult181 v2898).toNat) ∧
  (∀ a, (k0_off357 v2898) a + S32.size a ≤ S3407872.size a) ∧
  (∀ a, (k0_off373 v2898) a + S32.size a ≤ S3407872.size a)
theorem k0_mult181_dvd : ∀ (v2898 : BitVec 32) (k0_hw204 : k0_chk204 v2898), 8 ∣ (k0_mult181 v2898).toNat := fun v2898 k0_hw204 => k0_hw204.1
theorem k0_off357_inb : ∀ (v2898 : BitVec 32) (k0_hw204 : k0_chk204 v2898), ∀ a, (k0_off357 v2898) a + S32.size a ≤ S3407872.size a := fun v2898 k0_hw204 => k0_hw204.2.1
theorem k0_off373_inb : ∀ (v2898 : BitVec 32) (k0_hw204 : k0_chk204 v2898), ∀ a, (k0_off373 v2898) a + S32.size a ≤ S3407872.size a := fun v2898 k0_hw204 => k0_hw204.2.2

def k0_off374 (v2907 : BitVec 32) : Fin 1 → Nat :=
  let c0_i32_1325 : BitVec 32 := 0#32
  let c32_i32_1324 : BitVec 32 := 32#32
  let v2908 : BitVec 32 := Scalar.muli v2907 c32_i32_1324
  let v2909 : BitVec 32 := Scalar.addi c0_i32_1325 v2908
  let v2910 : BitVec 32 := v2909
  ![v2910.toNat]

def k0_chk205 (v2907 : BitVec 32) : Prop :=
  (8 ∣ (k0_mult182 v2907).toNat) ∧
  (∀ a, (k0_off358 v2907) a + S32.size a ≤ S3407872.size a) ∧
  (∀ a, (k0_off374 v2907) a + S32.size a ≤ S3407872.size a)
theorem k0_mult182_dvd : ∀ (v2907 : BitVec 32) (k0_hw205 : k0_chk205 v2907), 8 ∣ (k0_mult182 v2907).toNat := fun v2907 k0_hw205 => k0_hw205.1
theorem k0_off358_inb : ∀ (v2907 : BitVec 32) (k0_hw205 : k0_chk205 v2907), ∀ a, (k0_off358 v2907) a + S32.size a ≤ S3407872.size a := fun v2907 k0_hw205 => k0_hw205.2.1
theorem k0_off374_inb : ∀ (v2907 : BitVec 32) (k0_hw205 : k0_chk205 v2907), ∀ a, (k0_off374 v2907) a + S32.size a ≤ S3407872.size a := fun v2907 k0_hw205 => k0_hw205.2.2

def k0_off375 (v2916 : BitVec 32) : Fin 1 → Nat :=
  let c0_i32_1329 : BitVec 32 := 0#32
  let c32_i32_1328 : BitVec 32 := 32#32
  let v2917 : BitVec 32 := Scalar.muli v2916 c32_i32_1328
  let v2918 : BitVec 32 := Scalar.addi c0_i32_1329 v2917
  let v2919 : BitVec 32 := v2918
  ![v2919.toNat]

def k0_chk206 (v2916 : BitVec 32) : Prop :=
  (8 ∣ (k0_mult183 v2916).toNat) ∧
  (∀ a, (k0_off359 v2916) a + S32.size a ≤ S3407872.size a) ∧
  (∀ a, (k0_off375 v2916) a + S32.size a ≤ S3407872.size a)
theorem k0_mult183_dvd : ∀ (v2916 : BitVec 32) (k0_hw206 : k0_chk206 v2916), 8 ∣ (k0_mult183 v2916).toNat := fun v2916 k0_hw206 => k0_hw206.1
theorem k0_off359_inb : ∀ (v2916 : BitVec 32) (k0_hw206 : k0_chk206 v2916), ∀ a, (k0_off359 v2916) a + S32.size a ≤ S3407872.size a := fun v2916 k0_hw206 => k0_hw206.2.1
theorem k0_off375_inb : ∀ (v2916 : BitVec 32) (k0_hw206 : k0_chk206 v2916), ∀ a, (k0_off375 v2916) a + S32.size a ≤ S3407872.size a := fun v2916 k0_hw206 => k0_hw206.2.2

def k0_off376 (v2925 : BitVec 32) : Fin 1 → Nat :=
  let c0_i32_1333 : BitVec 32 := 0#32
  let c32_i32_1332 : BitVec 32 := 32#32
  let v2926 : BitVec 32 := Scalar.muli v2925 c32_i32_1332
  let v2927 : BitVec 32 := Scalar.addi c0_i32_1333 v2926
  let v2928 : BitVec 32 := v2927
  ![v2928.toNat]

def k0_chk207 (v2925 : BitVec 32) : Prop :=
  (8 ∣ (k0_mult184 v2925).toNat) ∧
  (∀ a, (k0_off360 v2925) a + S32.size a ≤ S3407872.size a) ∧
  (∀ a, (k0_off376 v2925) a + S32.size a ≤ S3407872.size a)
theorem k0_mult184_dvd : ∀ (v2925 : BitVec 32) (k0_hw207 : k0_chk207 v2925), 8 ∣ (k0_mult184 v2925).toNat := fun v2925 k0_hw207 => k0_hw207.1
theorem k0_off360_inb : ∀ (v2925 : BitVec 32) (k0_hw207 : k0_chk207 v2925), ∀ a, (k0_off360 v2925) a + S32.size a ≤ S3407872.size a := fun v2925 k0_hw207 => k0_hw207.2.1
theorem k0_off376_inb : ∀ (v2925 : BitVec 32) (k0_hw207 : k0_chk207 v2925), ∀ a, (k0_off376 v2925) a + S32.size a ≤ S3407872.size a := fun v2925 k0_hw207 => k0_hw207.2.2

def k0_off377 (v2934 : BitVec 32) : Fin 1 → Nat :=
  let c0_i32_1337 : BitVec 32 := 0#32
  let c32_i32_1336 : BitVec 32 := 32#32
  let v2935 : BitVec 32 := Scalar.muli v2934 c32_i32_1336
  let v2936 : BitVec 32 := Scalar.addi c0_i32_1337 v2935
  let v2937 : BitVec 32 := v2936
  ![v2937.toNat]

def k0_chk208 (v2934 : BitVec 32) : Prop :=
  (8 ∣ (k0_mult185 v2934).toNat) ∧
  (∀ a, (k0_off361 v2934) a + S32.size a ≤ S3407872.size a) ∧
  (∀ a, (k0_off377 v2934) a + S32.size a ≤ S3407872.size a)
theorem k0_mult185_dvd : ∀ (v2934 : BitVec 32) (k0_hw208 : k0_chk208 v2934), 8 ∣ (k0_mult185 v2934).toNat := fun v2934 k0_hw208 => k0_hw208.1
theorem k0_off361_inb : ∀ (v2934 : BitVec 32) (k0_hw208 : k0_chk208 v2934), ∀ a, (k0_off361 v2934) a + S32.size a ≤ S3407872.size a := fun v2934 k0_hw208 => k0_hw208.2.1
theorem k0_off377_inb : ∀ (v2934 : BitVec 32) (k0_hw208 : k0_chk208 v2934), ∀ a, (k0_off377 v2934) a + S32.size a ≤ S3407872.size a := fun v2934 k0_hw208 => k0_hw208.2.2

def k0_off378 (v2943 : BitVec 32) : Fin 1 → Nat :=
  let c0_i32_1341 : BitVec 32 := 0#32
  let c32_i32_1340 : BitVec 32 := 32#32
  let v2944 : BitVec 32 := Scalar.muli v2943 c32_i32_1340
  let v2945 : BitVec 32 := Scalar.addi c0_i32_1341 v2944
  let v2946 : BitVec 32 := v2945
  ![v2946.toNat]

def k0_chk209 (v2943 : BitVec 32) : Prop :=
  (8 ∣ (k0_mult186 v2943).toNat) ∧
  (∀ a, (k0_off362 v2943) a + S32.size a ≤ S3407872.size a) ∧
  (∀ a, (k0_off378 v2943) a + S32.size a ≤ S3407872.size a)
theorem k0_mult186_dvd : ∀ (v2943 : BitVec 32) (k0_hw209 : k0_chk209 v2943), 8 ∣ (k0_mult186 v2943).toNat := fun v2943 k0_hw209 => k0_hw209.1
theorem k0_off362_inb : ∀ (v2943 : BitVec 32) (k0_hw209 : k0_chk209 v2943), ∀ a, (k0_off362 v2943) a + S32.size a ≤ S3407872.size a := fun v2943 k0_hw209 => k0_hw209.2.1
theorem k0_off378_inb : ∀ (v2943 : BitVec 32) (k0_hw209 : k0_chk209 v2943), ∀ a, (k0_off378 v2943) a + S32.size a ≤ S3407872.size a := fun v2943 k0_hw209 => k0_hw209.2.2

def k0_off379 (v2952 : BitVec 32) : Fin 1 → Nat :=
  let c0_i32_1345 : BitVec 32 := 0#32
  let c32_i32_1344 : BitVec 32 := 32#32
  let v2953 : BitVec 32 := Scalar.muli v2952 c32_i32_1344
  let v2954 : BitVec 32 := Scalar.addi c0_i32_1345 v2953
  let v2955 : BitVec 32 := v2954
  ![v2955.toNat]

def k0_chk210 (v2952 : BitVec 32) : Prop :=
  (8 ∣ (k0_mult187 v2952).toNat) ∧
  (∀ a, (k0_off363 v2952) a + S32.size a ≤ S3407872.size a) ∧
  (∀ a, (k0_off379 v2952) a + S32.size a ≤ S3407872.size a)
theorem k0_mult187_dvd : ∀ (v2952 : BitVec 32) (k0_hw210 : k0_chk210 v2952), 8 ∣ (k0_mult187 v2952).toNat := fun v2952 k0_hw210 => k0_hw210.1
theorem k0_off363_inb : ∀ (v2952 : BitVec 32) (k0_hw210 : k0_chk210 v2952), ∀ a, (k0_off363 v2952) a + S32.size a ≤ S3407872.size a := fun v2952 k0_hw210 => k0_hw210.2.1
theorem k0_off379_inb : ∀ (v2952 : BitVec 32) (k0_hw210 : k0_chk210 v2952), ∀ a, (k0_off379 v2952) a + S32.size a ≤ S3407872.size a := fun v2952 k0_hw210 => k0_hw210.2.2

def k0_off380 (v2961 : BitVec 32) : Fin 1 → Nat :=
  let c0_i32_1349 : BitVec 32 := 0#32
  let c32_i32_1348 : BitVec 32 := 32#32
  let v2962 : BitVec 32 := Scalar.muli v2961 c32_i32_1348
  let v2963 : BitVec 32 := Scalar.addi c0_i32_1349 v2962
  let v2964 : BitVec 32 := v2963
  ![v2964.toNat]

def k0_chk211 (v2961 : BitVec 32) : Prop :=
  (8 ∣ (k0_mult188 v2961).toNat) ∧
  (∀ a, (k0_off364 v2961) a + S32.size a ≤ S3407872.size a) ∧
  (∀ a, (k0_off380 v2961) a + S32.size a ≤ S3407872.size a)
theorem k0_mult188_dvd : ∀ (v2961 : BitVec 32) (k0_hw211 : k0_chk211 v2961), 8 ∣ (k0_mult188 v2961).toNat := fun v2961 k0_hw211 => k0_hw211.1
theorem k0_off364_inb : ∀ (v2961 : BitVec 32) (k0_hw211 : k0_chk211 v2961), ∀ a, (k0_off364 v2961) a + S32.size a ≤ S3407872.size a := fun v2961 k0_hw211 => k0_hw211.2.1
theorem k0_off380_inb : ∀ (v2961 : BitVec 32) (k0_hw211 : k0_chk211 v2961), ∀ a, (k0_off380 v2961) a + S32.size a ≤ S3407872.size a := fun v2961 k0_hw211 => k0_hw211.2.2

def k0_off381 (v2970 : BitVec 32) : Fin 1 → Nat :=
  let c0_i32_1353 : BitVec 32 := 0#32
  let c32_i32_1352 : BitVec 32 := 32#32
  let v2971 : BitVec 32 := Scalar.muli v2970 c32_i32_1352
  let v2972 : BitVec 32 := Scalar.addi c0_i32_1353 v2971
  let v2973 : BitVec 32 := v2972
  ![v2973.toNat]

def k0_chk212 (v2970 : BitVec 32) : Prop :=
  (8 ∣ (k0_mult189 v2970).toNat) ∧
  (∀ a, (k0_off365 v2970) a + S32.size a ≤ S3407872.size a) ∧
  (∀ a, (k0_off381 v2970) a + S32.size a ≤ S3407872.size a)
theorem k0_mult189_dvd : ∀ (v2970 : BitVec 32) (k0_hw212 : k0_chk212 v2970), 8 ∣ (k0_mult189 v2970).toNat := fun v2970 k0_hw212 => k0_hw212.1
theorem k0_off365_inb : ∀ (v2970 : BitVec 32) (k0_hw212 : k0_chk212 v2970), ∀ a, (k0_off365 v2970) a + S32.size a ≤ S3407872.size a := fun v2970 k0_hw212 => k0_hw212.2.1
theorem k0_off381_inb : ∀ (v2970 : BitVec 32) (k0_hw212 : k0_chk212 v2970), ∀ a, (k0_off381 v2970) a + S32.size a ≤ S3407872.size a := fun v2970 k0_hw212 => k0_hw212.2.2

def k0_off382 (v2979 : BitVec 32) : Fin 1 → Nat :=
  let c0_i32_1357 : BitVec 32 := 0#32
  let c32_i32_1356 : BitVec 32 := 32#32
  let v2980 : BitVec 32 := Scalar.muli v2979 c32_i32_1356
  let v2981 : BitVec 32 := Scalar.addi c0_i32_1357 v2980
  let v2982 : BitVec 32 := v2981
  ![v2982.toNat]

def k0_chk213 (v2979 : BitVec 32) : Prop :=
  (8 ∣ (k0_mult190 v2979).toNat) ∧
  (∀ a, (k0_off366 v2979) a + S32.size a ≤ S3407872.size a) ∧
  (∀ a, (k0_off382 v2979) a + S32.size a ≤ S3407872.size a)
theorem k0_mult190_dvd : ∀ (v2979 : BitVec 32) (k0_hw213 : k0_chk213 v2979), 8 ∣ (k0_mult190 v2979).toNat := fun v2979 k0_hw213 => k0_hw213.1
theorem k0_off366_inb : ∀ (v2979 : BitVec 32) (k0_hw213 : k0_chk213 v2979), ∀ a, (k0_off366 v2979) a + S32.size a ≤ S3407872.size a := fun v2979 k0_hw213 => k0_hw213.2.1
theorem k0_off382_inb : ∀ (v2979 : BitVec 32) (k0_hw213 : k0_chk213 v2979), ∀ a, (k0_off382 v2979) a + S32.size a ≤ S3407872.size a := fun v2979 k0_hw213 => k0_hw213.2.2

def k0_off383 (v2988 : BitVec 32) : Fin 1 → Nat :=
  let c0_i32_1361 : BitVec 32 := 0#32
  let c32_i32_1360 : BitVec 32 := 32#32
  let v2989 : BitVec 32 := Scalar.muli v2988 c32_i32_1360
  let v2990 : BitVec 32 := Scalar.addi c0_i32_1361 v2989
  let v2991 : BitVec 32 := v2990
  ![v2991.toNat]

def k0_chk214 (v2988 : BitVec 32) : Prop :=
  (8 ∣ (k0_mult191 v2988).toNat) ∧
  (∀ a, (k0_off367 v2988) a + S32.size a ≤ S3407872.size a) ∧
  (∀ a, (k0_off383 v2988) a + S32.size a ≤ S3407872.size a)
theorem k0_mult191_dvd : ∀ (v2988 : BitVec 32) (k0_hw214 : k0_chk214 v2988), 8 ∣ (k0_mult191 v2988).toNat := fun v2988 k0_hw214 => k0_hw214.1
theorem k0_off367_inb : ∀ (v2988 : BitVec 32) (k0_hw214 : k0_chk214 v2988), ∀ a, (k0_off367 v2988) a + S32.size a ≤ S3407872.size a := fun v2988 k0_hw214 => k0_hw214.2.1
theorem k0_off383_inb : ∀ (v2988 : BitVec 32) (k0_hw214 : k0_chk214 v2988), ∀ a, (k0_off383 v2988) a + S32.size a ≤ S3407872.size a := fun v2988 k0_hw214 => k0_hw214.2.2

def k0_off384 (v2997 : BitVec 32) : Fin 1 → Nat :=
  let c0_i32_1365 : BitVec 32 := 0#32
  let c32_i32_1364 : BitVec 32 := 32#32
  let v2998 : BitVec 32 := Scalar.muli v2997 c32_i32_1364
  let v2999 : BitVec 32 := Scalar.addi c0_i32_1365 v2998
  let v3000 : BitVec 32 := v2999
  ![v3000.toNat]

def k0_chk215 (v2997 : BitVec 32) : Prop :=
  (8 ∣ (k0_mult192 v2997).toNat) ∧
  (∀ a, (k0_off368 v2997) a + S32.size a ≤ S3407872.size a) ∧
  (∀ a, (k0_off384 v2997) a + S32.size a ≤ S3407872.size a)
theorem k0_mult192_dvd : ∀ (v2997 : BitVec 32) (k0_hw215 : k0_chk215 v2997), 8 ∣ (k0_mult192 v2997).toNat := fun v2997 k0_hw215 => k0_hw215.1
theorem k0_off368_inb : ∀ (v2997 : BitVec 32) (k0_hw215 : k0_chk215 v2997), ∀ a, (k0_off368 v2997) a + S32.size a ≤ S3407872.size a := fun v2997 k0_hw215 => k0_hw215.2.1
theorem k0_off384_inb : ∀ (v2997 : BitVec 32) (k0_hw215 : k0_chk215 v2997), ∀ a, (k0_off384 v2997) a + S32.size a ≤ S3407872.size a := fun v2997 k0_hw215 => k0_hw215.2.2

def k0_mult194 (v3081 : BitVec 32) : BitVec 32 :=
  let c999936_i32_1406 : BitVec 32 := 999936#32
  let v3082 : BitVec 32 := Scalar.subi v3081 c999936_i32_1406
  let c32_i32_1407 : BitVec 32 := 32#32
  let v3083 : BitVec 32 := Scalar.muli v3082 c32_i32_1407
  v3083

def k0_off385 (v3081 : BitVec 32) : Fin 1 → Nat :=
  let c999936_i32_1406 : BitVec 32 := 999936#32
  let v3082 : BitVec 32 := Scalar.subi v3081 c999936_i32_1406
  let c32_i32_1407 : BitVec 32 := 32#32
  let v3083 : BitVec 32 := Scalar.muli v3082 c32_i32_1407
  let v3084 : BitVec 32 := v3083
  ![v3084.toNat]
def k0_mult195 (v3090 : BitVec 32) : BitVec 32 :=
  let c999936_i32_1409 : BitVec 32 := 999936#32
  let v3091 : BitVec 32 := Scalar.subi v3090 c999936_i32_1409
  let c32_i32_1410 : BitVec 32 := 32#32
  let v3092 : BitVec 32 := Scalar.muli v3091 c32_i32_1410
  v3092

def k0_off386 (v3090 : BitVec 32) : Fin 1 → Nat :=
  let c999936_i32_1409 : BitVec 32 := 999936#32
  let v3091 : BitVec 32 := Scalar.subi v3090 c999936_i32_1409
  let c32_i32_1410 : BitVec 32 := 32#32
  let v3092 : BitVec 32 := Scalar.muli v3091 c32_i32_1410
  let v3093 : BitVec 32 := v3092
  ![v3093.toNat]
def k0_mult196 (v3099 : BitVec 32) : BitVec 32 :=
  let c999936_i32_1412 : BitVec 32 := 999936#32
  let v3100 : BitVec 32 := Scalar.subi v3099 c999936_i32_1412
  let c32_i32_1413 : BitVec 32 := 32#32
  let v3101 : BitVec 32 := Scalar.muli v3100 c32_i32_1413
  v3101

def k0_off387 (v3099 : BitVec 32) : Fin 1 → Nat :=
  let c999936_i32_1412 : BitVec 32 := 999936#32
  let v3100 : BitVec 32 := Scalar.subi v3099 c999936_i32_1412
  let c32_i32_1413 : BitVec 32 := 32#32
  let v3101 : BitVec 32 := Scalar.muli v3100 c32_i32_1413
  let v3102 : BitVec 32 := v3101
  ![v3102.toNat]
def k0_mult197 (v3108 : BitVec 32) : BitVec 32 :=
  let c999936_i32_1415 : BitVec 32 := 999936#32
  let v3109 : BitVec 32 := Scalar.subi v3108 c999936_i32_1415
  let c32_i32_1416 : BitVec 32 := 32#32
  let v3110 : BitVec 32 := Scalar.muli v3109 c32_i32_1416
  v3110

def k0_off388 (v3108 : BitVec 32) : Fin 1 → Nat :=
  let c999936_i32_1415 : BitVec 32 := 999936#32
  let v3109 : BitVec 32 := Scalar.subi v3108 c999936_i32_1415
  let c32_i32_1416 : BitVec 32 := 32#32
  let v3110 : BitVec 32 := Scalar.muli v3109 c32_i32_1416
  let v3111 : BitVec 32 := v3110
  ![v3111.toNat]
def k0_mult198 (v3117 : BitVec 32) : BitVec 32 :=
  let c999936_i32_1418 : BitVec 32 := 999936#32
  let v3118 : BitVec 32 := Scalar.subi v3117 c999936_i32_1418
  let c32_i32_1419 : BitVec 32 := 32#32
  let v3119 : BitVec 32 := Scalar.muli v3118 c32_i32_1419
  v3119

def k0_off389 (v3117 : BitVec 32) : Fin 1 → Nat :=
  let c999936_i32_1418 : BitVec 32 := 999936#32
  let v3118 : BitVec 32 := Scalar.subi v3117 c999936_i32_1418
  let c32_i32_1419 : BitVec 32 := 32#32
  let v3119 : BitVec 32 := Scalar.muli v3118 c32_i32_1419
  let v3120 : BitVec 32 := v3119
  ![v3120.toNat]
def k0_mult199 (v3126 : BitVec 32) : BitVec 32 :=
  let c999936_i32_1421 : BitVec 32 := 999936#32
  let v3127 : BitVec 32 := Scalar.subi v3126 c999936_i32_1421
  let c32_i32_1422 : BitVec 32 := 32#32
  let v3128 : BitVec 32 := Scalar.muli v3127 c32_i32_1422
  v3128

def k0_off390 (v3126 : BitVec 32) : Fin 1 → Nat :=
  let c999936_i32_1421 : BitVec 32 := 999936#32
  let v3127 : BitVec 32 := Scalar.subi v3126 c999936_i32_1421
  let c32_i32_1422 : BitVec 32 := 32#32
  let v3128 : BitVec 32 := Scalar.muli v3127 c32_i32_1422
  let v3129 : BitVec 32 := v3128
  ![v3129.toNat]
def k0_mult200 (v3135 : BitVec 32) : BitVec 32 :=
  let c999936_i32_1424 : BitVec 32 := 999936#32
  let v3136 : BitVec 32 := Scalar.subi v3135 c999936_i32_1424
  let c32_i32_1425 : BitVec 32 := 32#32
  let v3137 : BitVec 32 := Scalar.muli v3136 c32_i32_1425
  v3137

def k0_off391 (v3135 : BitVec 32) : Fin 1 → Nat :=
  let c999936_i32_1424 : BitVec 32 := 999936#32
  let v3136 : BitVec 32 := Scalar.subi v3135 c999936_i32_1424
  let c32_i32_1425 : BitVec 32 := 32#32
  let v3137 : BitVec 32 := Scalar.muli v3136 c32_i32_1425
  let v3138 : BitVec 32 := v3137
  ![v3138.toNat]
def k0_mult201 (v3144 : BitVec 32) : BitVec 32 :=
  let c999936_i32_1427 : BitVec 32 := 999936#32
  let v3145 : BitVec 32 := Scalar.subi v3144 c999936_i32_1427
  let c32_i32_1428 : BitVec 32 := 32#32
  let v3146 : BitVec 32 := Scalar.muli v3145 c32_i32_1428
  v3146

def k0_off392 (v3144 : BitVec 32) : Fin 1 → Nat :=
  let c999936_i32_1427 : BitVec 32 := 999936#32
  let v3145 : BitVec 32 := Scalar.subi v3144 c999936_i32_1427
  let c32_i32_1428 : BitVec 32 := 32#32
  let v3146 : BitVec 32 := Scalar.muli v3145 c32_i32_1428
  let v3147 : BitVec 32 := v3146
  ![v3147.toNat]
def k0_mult202 (v3153 : BitVec 32) : BitVec 32 :=
  let c999936_i32_1430 : BitVec 32 := 999936#32
  let v3154 : BitVec 32 := Scalar.subi v3153 c999936_i32_1430
  let c32_i32_1431 : BitVec 32 := 32#32
  let v3155 : BitVec 32 := Scalar.muli v3154 c32_i32_1431
  v3155

def k0_off393 (v3153 : BitVec 32) : Fin 1 → Nat :=
  let c999936_i32_1430 : BitVec 32 := 999936#32
  let v3154 : BitVec 32 := Scalar.subi v3153 c999936_i32_1430
  let c32_i32_1431 : BitVec 32 := 32#32
  let v3155 : BitVec 32 := Scalar.muli v3154 c32_i32_1431
  let v3156 : BitVec 32 := v3155
  ![v3156.toNat]
def k0_mult203 (v3162 : BitVec 32) : BitVec 32 :=
  let c999936_i32_1433 : BitVec 32 := 999936#32
  let v3163 : BitVec 32 := Scalar.subi v3162 c999936_i32_1433
  let c32_i32_1434 : BitVec 32 := 32#32
  let v3164 : BitVec 32 := Scalar.muli v3163 c32_i32_1434
  v3164

def k0_off394 (v3162 : BitVec 32) : Fin 1 → Nat :=
  let c999936_i32_1433 : BitVec 32 := 999936#32
  let v3163 : BitVec 32 := Scalar.subi v3162 c999936_i32_1433
  let c32_i32_1434 : BitVec 32 := 32#32
  let v3164 : BitVec 32 := Scalar.muli v3163 c32_i32_1434
  let v3165 : BitVec 32 := v3164
  ![v3165.toNat]
def k0_mult204 (v3171 : BitVec 32) : BitVec 32 :=
  let c999936_i32_1436 : BitVec 32 := 999936#32
  let v3172 : BitVec 32 := Scalar.subi v3171 c999936_i32_1436
  let c32_i32_1437 : BitVec 32 := 32#32
  let v3173 : BitVec 32 := Scalar.muli v3172 c32_i32_1437
  v3173

def k0_off395 (v3171 : BitVec 32) : Fin 1 → Nat :=
  let c999936_i32_1436 : BitVec 32 := 999936#32
  let v3172 : BitVec 32 := Scalar.subi v3171 c999936_i32_1436
  let c32_i32_1437 : BitVec 32 := 32#32
  let v3173 : BitVec 32 := Scalar.muli v3172 c32_i32_1437
  let v3174 : BitVec 32 := v3173
  ![v3174.toNat]
def k0_mult205 (v3180 : BitVec 32) : BitVec 32 :=
  let c999936_i32_1439 : BitVec 32 := 999936#32
  let v3181 : BitVec 32 := Scalar.subi v3180 c999936_i32_1439
  let c32_i32_1440 : BitVec 32 := 32#32
  let v3182 : BitVec 32 := Scalar.muli v3181 c32_i32_1440
  v3182

def k0_off396 (v3180 : BitVec 32) : Fin 1 → Nat :=
  let c999936_i32_1439 : BitVec 32 := 999936#32
  let v3181 : BitVec 32 := Scalar.subi v3180 c999936_i32_1439
  let c32_i32_1440 : BitVec 32 := 32#32
  let v3182 : BitVec 32 := Scalar.muli v3181 c32_i32_1440
  let v3183 : BitVec 32 := v3182
  ![v3183.toNat]
def k0_mult206 (v3189 : BitVec 32) : BitVec 32 :=
  let c999936_i32_1442 : BitVec 32 := 999936#32
  let v3190 : BitVec 32 := Scalar.subi v3189 c999936_i32_1442
  let c32_i32_1443 : BitVec 32 := 32#32
  let v3191 : BitVec 32 := Scalar.muli v3190 c32_i32_1443
  v3191

def k0_off397 (v3189 : BitVec 32) : Fin 1 → Nat :=
  let c999936_i32_1442 : BitVec 32 := 999936#32
  let v3190 : BitVec 32 := Scalar.subi v3189 c999936_i32_1442
  let c32_i32_1443 : BitVec 32 := 32#32
  let v3191 : BitVec 32 := Scalar.muli v3190 c32_i32_1443
  let v3192 : BitVec 32 := v3191
  ![v3192.toNat]
def k0_mult207 (v3198 : BitVec 32) : BitVec 32 :=
  let c999936_i32_1445 : BitVec 32 := 999936#32
  let v3199 : BitVec 32 := Scalar.subi v3198 c999936_i32_1445
  let c32_i32_1446 : BitVec 32 := 32#32
  let v3200 : BitVec 32 := Scalar.muli v3199 c32_i32_1446
  v3200

def k0_off398 (v3198 : BitVec 32) : Fin 1 → Nat :=
  let c999936_i32_1445 : BitVec 32 := 999936#32
  let v3199 : BitVec 32 := Scalar.subi v3198 c999936_i32_1445
  let c32_i32_1446 : BitVec 32 := 32#32
  let v3200 : BitVec 32 := Scalar.muli v3199 c32_i32_1446
  let v3201 : BitVec 32 := v3200
  ![v3201.toNat]
def k0_mult208 (v3207 : BitVec 32) : BitVec 32 :=
  let c999936_i32_1448 : BitVec 32 := 999936#32
  let v3208 : BitVec 32 := Scalar.subi v3207 c999936_i32_1448
  let c32_i32_1449 : BitVec 32 := 32#32
  let v3209 : BitVec 32 := Scalar.muli v3208 c32_i32_1449
  v3209

def k0_off399 (v3207 : BitVec 32) : Fin 1 → Nat :=
  let c999936_i32_1448 : BitVec 32 := 999936#32
  let v3208 : BitVec 32 := Scalar.subi v3207 c999936_i32_1448
  let c32_i32_1449 : BitVec 32 := 32#32
  let v3209 : BitVec 32 := Scalar.muli v3208 c32_i32_1449
  let v3210 : BitVec 32 := v3209
  ![v3210.toNat]
def k0_mult209 (v3216 : BitVec 32) : BitVec 32 :=
  let c999936_i32_1451 : BitVec 32 := 999936#32
  let v3217 : BitVec 32 := Scalar.subi v3216 c999936_i32_1451
  let c32_i32_1452 : BitVec 32 := 32#32
  let v3218 : BitVec 32 := Scalar.muli v3217 c32_i32_1452
  v3218

def k0_off400 (v3216 : BitVec 32) : Fin 1 → Nat :=
  let c999936_i32_1451 : BitVec 32 := 999936#32
  let v3217 : BitVec 32 := Scalar.subi v3216 c999936_i32_1451
  let c32_i32_1452 : BitVec 32 := 32#32
  let v3218 : BitVec 32 := Scalar.muli v3217 c32_i32_1452
  let v3219 : BitVec 32 := v3218
  ![v3219.toNat]

def k0_chk232 (v3216 : BitVec 32) : Prop :=
  (8 ∣ (k0_mult209 v3216).toNat) ∧
  (∀ a, (k0_off400 v3216) a + S32.size a ≤ S2048.size a)
theorem k0_mult209_dvd : ∀ (v3216 : BitVec 32) (k0_hw232 : k0_chk232 v3216), 8 ∣ (k0_mult209 v3216).toNat := fun v3216 k0_hw232 => k0_hw232.1
theorem k0_off400_inb : ∀ (v3216 : BitVec 32) (k0_hw232 : k0_chk232 v3216), ∀ a, (k0_off400 v3216) a + S32.size a ≤ S2048.size a := fun v3216 k0_hw232 => k0_hw232.2

def k0_off401 (v3081 : BitVec 32) : Fin 1 → Nat :=
  let c999936_i32_1406 : BitVec 32 := 999936#32
  let v3082 : BitVec 32 := Scalar.subi v3081 c999936_i32_1406
  let c32_i32_1407 : BitVec 32 := 32#32
  let v3083 : BitVec 32 := Scalar.muli v3082 c32_i32_1407
  let v3084 : BitVec 32 := v3083
  ![v3084.toNat]

def k0_chk217 (v3081 : BitVec 32) : Prop :=
  (8 ∣ (k0_mult194 v3081).toNat) ∧
  (∀ a, (k0_off385 v3081) a + S32.size a ≤ S2048.size a) ∧
  (∀ a, (k0_off401 v3081) a + S32.size a ≤ S2048.size a)
theorem k0_mult194_dvd : ∀ (v3081 : BitVec 32) (k0_hw217 : k0_chk217 v3081), 8 ∣ (k0_mult194 v3081).toNat := fun v3081 k0_hw217 => k0_hw217.1
theorem k0_off385_inb : ∀ (v3081 : BitVec 32) (k0_hw217 : k0_chk217 v3081), ∀ a, (k0_off385 v3081) a + S32.size a ≤ S2048.size a := fun v3081 k0_hw217 => k0_hw217.2.1
theorem k0_off401_inb : ∀ (v3081 : BitVec 32) (k0_hw217 : k0_chk217 v3081), ∀ a, (k0_off401 v3081) a + S32.size a ≤ S2048.size a := fun v3081 k0_hw217 => k0_hw217.2.2

def k0_off402 (v3090 : BitVec 32) : Fin 1 → Nat :=
  let c999936_i32_1409 : BitVec 32 := 999936#32
  let v3091 : BitVec 32 := Scalar.subi v3090 c999936_i32_1409
  let c32_i32_1410 : BitVec 32 := 32#32
  let v3092 : BitVec 32 := Scalar.muli v3091 c32_i32_1410
  let v3093 : BitVec 32 := v3092
  ![v3093.toNat]

def k0_chk218 (v3090 : BitVec 32) : Prop :=
  (8 ∣ (k0_mult195 v3090).toNat) ∧
  (∀ a, (k0_off386 v3090) a + S32.size a ≤ S2048.size a) ∧
  (∀ a, (k0_off402 v3090) a + S32.size a ≤ S2048.size a)
theorem k0_mult195_dvd : ∀ (v3090 : BitVec 32) (k0_hw218 : k0_chk218 v3090), 8 ∣ (k0_mult195 v3090).toNat := fun v3090 k0_hw218 => k0_hw218.1
theorem k0_off386_inb : ∀ (v3090 : BitVec 32) (k0_hw218 : k0_chk218 v3090), ∀ a, (k0_off386 v3090) a + S32.size a ≤ S2048.size a := fun v3090 k0_hw218 => k0_hw218.2.1
theorem k0_off402_inb : ∀ (v3090 : BitVec 32) (k0_hw218 : k0_chk218 v3090), ∀ a, (k0_off402 v3090) a + S32.size a ≤ S2048.size a := fun v3090 k0_hw218 => k0_hw218.2.2

def k0_off403 (v3099 : BitVec 32) : Fin 1 → Nat :=
  let c999936_i32_1412 : BitVec 32 := 999936#32
  let v3100 : BitVec 32 := Scalar.subi v3099 c999936_i32_1412
  let c32_i32_1413 : BitVec 32 := 32#32
  let v3101 : BitVec 32 := Scalar.muli v3100 c32_i32_1413
  let v3102 : BitVec 32 := v3101
  ![v3102.toNat]

def k0_chk219 (v3099 : BitVec 32) : Prop :=
  (8 ∣ (k0_mult196 v3099).toNat) ∧
  (∀ a, (k0_off387 v3099) a + S32.size a ≤ S2048.size a) ∧
  (∀ a, (k0_off403 v3099) a + S32.size a ≤ S2048.size a)
theorem k0_mult196_dvd : ∀ (v3099 : BitVec 32) (k0_hw219 : k0_chk219 v3099), 8 ∣ (k0_mult196 v3099).toNat := fun v3099 k0_hw219 => k0_hw219.1
theorem k0_off387_inb : ∀ (v3099 : BitVec 32) (k0_hw219 : k0_chk219 v3099), ∀ a, (k0_off387 v3099) a + S32.size a ≤ S2048.size a := fun v3099 k0_hw219 => k0_hw219.2.1
theorem k0_off403_inb : ∀ (v3099 : BitVec 32) (k0_hw219 : k0_chk219 v3099), ∀ a, (k0_off403 v3099) a + S32.size a ≤ S2048.size a := fun v3099 k0_hw219 => k0_hw219.2.2

def k0_off404 (v3108 : BitVec 32) : Fin 1 → Nat :=
  let c999936_i32_1415 : BitVec 32 := 999936#32
  let v3109 : BitVec 32 := Scalar.subi v3108 c999936_i32_1415
  let c32_i32_1416 : BitVec 32 := 32#32
  let v3110 : BitVec 32 := Scalar.muli v3109 c32_i32_1416
  let v3111 : BitVec 32 := v3110
  ![v3111.toNat]

def k0_chk220 (v3108 : BitVec 32) : Prop :=
  (8 ∣ (k0_mult197 v3108).toNat) ∧
  (∀ a, (k0_off388 v3108) a + S32.size a ≤ S2048.size a) ∧
  (∀ a, (k0_off404 v3108) a + S32.size a ≤ S2048.size a)
theorem k0_mult197_dvd : ∀ (v3108 : BitVec 32) (k0_hw220 : k0_chk220 v3108), 8 ∣ (k0_mult197 v3108).toNat := fun v3108 k0_hw220 => k0_hw220.1
theorem k0_off388_inb : ∀ (v3108 : BitVec 32) (k0_hw220 : k0_chk220 v3108), ∀ a, (k0_off388 v3108) a + S32.size a ≤ S2048.size a := fun v3108 k0_hw220 => k0_hw220.2.1
theorem k0_off404_inb : ∀ (v3108 : BitVec 32) (k0_hw220 : k0_chk220 v3108), ∀ a, (k0_off404 v3108) a + S32.size a ≤ S2048.size a := fun v3108 k0_hw220 => k0_hw220.2.2

def k0_off405 (v3117 : BitVec 32) : Fin 1 → Nat :=
  let c999936_i32_1418 : BitVec 32 := 999936#32
  let v3118 : BitVec 32 := Scalar.subi v3117 c999936_i32_1418
  let c32_i32_1419 : BitVec 32 := 32#32
  let v3119 : BitVec 32 := Scalar.muli v3118 c32_i32_1419
  let v3120 : BitVec 32 := v3119
  ![v3120.toNat]

def k0_chk221 (v3117 : BitVec 32) : Prop :=
  (8 ∣ (k0_mult198 v3117).toNat) ∧
  (∀ a, (k0_off389 v3117) a + S32.size a ≤ S2048.size a) ∧
  (∀ a, (k0_off405 v3117) a + S32.size a ≤ S2048.size a)
theorem k0_mult198_dvd : ∀ (v3117 : BitVec 32) (k0_hw221 : k0_chk221 v3117), 8 ∣ (k0_mult198 v3117).toNat := fun v3117 k0_hw221 => k0_hw221.1
theorem k0_off389_inb : ∀ (v3117 : BitVec 32) (k0_hw221 : k0_chk221 v3117), ∀ a, (k0_off389 v3117) a + S32.size a ≤ S2048.size a := fun v3117 k0_hw221 => k0_hw221.2.1
theorem k0_off405_inb : ∀ (v3117 : BitVec 32) (k0_hw221 : k0_chk221 v3117), ∀ a, (k0_off405 v3117) a + S32.size a ≤ S2048.size a := fun v3117 k0_hw221 => k0_hw221.2.2

def k0_off406 (v3126 : BitVec 32) : Fin 1 → Nat :=
  let c999936_i32_1421 : BitVec 32 := 999936#32
  let v3127 : BitVec 32 := Scalar.subi v3126 c999936_i32_1421
  let c32_i32_1422 : BitVec 32 := 32#32
  let v3128 : BitVec 32 := Scalar.muli v3127 c32_i32_1422
  let v3129 : BitVec 32 := v3128
  ![v3129.toNat]

def k0_chk222 (v3126 : BitVec 32) : Prop :=
  (8 ∣ (k0_mult199 v3126).toNat) ∧
  (∀ a, (k0_off390 v3126) a + S32.size a ≤ S2048.size a) ∧
  (∀ a, (k0_off406 v3126) a + S32.size a ≤ S2048.size a)
theorem k0_mult199_dvd : ∀ (v3126 : BitVec 32) (k0_hw222 : k0_chk222 v3126), 8 ∣ (k0_mult199 v3126).toNat := fun v3126 k0_hw222 => k0_hw222.1
theorem k0_off390_inb : ∀ (v3126 : BitVec 32) (k0_hw222 : k0_chk222 v3126), ∀ a, (k0_off390 v3126) a + S32.size a ≤ S2048.size a := fun v3126 k0_hw222 => k0_hw222.2.1
theorem k0_off406_inb : ∀ (v3126 : BitVec 32) (k0_hw222 : k0_chk222 v3126), ∀ a, (k0_off406 v3126) a + S32.size a ≤ S2048.size a := fun v3126 k0_hw222 => k0_hw222.2.2

def k0_off407 (v3135 : BitVec 32) : Fin 1 → Nat :=
  let c999936_i32_1424 : BitVec 32 := 999936#32
  let v3136 : BitVec 32 := Scalar.subi v3135 c999936_i32_1424
  let c32_i32_1425 : BitVec 32 := 32#32
  let v3137 : BitVec 32 := Scalar.muli v3136 c32_i32_1425
  let v3138 : BitVec 32 := v3137
  ![v3138.toNat]

def k0_chk223 (v3135 : BitVec 32) : Prop :=
  (8 ∣ (k0_mult200 v3135).toNat) ∧
  (∀ a, (k0_off391 v3135) a + S32.size a ≤ S2048.size a) ∧
  (∀ a, (k0_off407 v3135) a + S32.size a ≤ S2048.size a)
theorem k0_mult200_dvd : ∀ (v3135 : BitVec 32) (k0_hw223 : k0_chk223 v3135), 8 ∣ (k0_mult200 v3135).toNat := fun v3135 k0_hw223 => k0_hw223.1
theorem k0_off391_inb : ∀ (v3135 : BitVec 32) (k0_hw223 : k0_chk223 v3135), ∀ a, (k0_off391 v3135) a + S32.size a ≤ S2048.size a := fun v3135 k0_hw223 => k0_hw223.2.1
theorem k0_off407_inb : ∀ (v3135 : BitVec 32) (k0_hw223 : k0_chk223 v3135), ∀ a, (k0_off407 v3135) a + S32.size a ≤ S2048.size a := fun v3135 k0_hw223 => k0_hw223.2.2

def k0_off408 (v3144 : BitVec 32) : Fin 1 → Nat :=
  let c999936_i32_1427 : BitVec 32 := 999936#32
  let v3145 : BitVec 32 := Scalar.subi v3144 c999936_i32_1427
  let c32_i32_1428 : BitVec 32 := 32#32
  let v3146 : BitVec 32 := Scalar.muli v3145 c32_i32_1428
  let v3147 : BitVec 32 := v3146
  ![v3147.toNat]

def k0_chk224 (v3144 : BitVec 32) : Prop :=
  (8 ∣ (k0_mult201 v3144).toNat) ∧
  (∀ a, (k0_off392 v3144) a + S32.size a ≤ S2048.size a) ∧
  (∀ a, (k0_off408 v3144) a + S32.size a ≤ S2048.size a)
theorem k0_mult201_dvd : ∀ (v3144 : BitVec 32) (k0_hw224 : k0_chk224 v3144), 8 ∣ (k0_mult201 v3144).toNat := fun v3144 k0_hw224 => k0_hw224.1
theorem k0_off392_inb : ∀ (v3144 : BitVec 32) (k0_hw224 : k0_chk224 v3144), ∀ a, (k0_off392 v3144) a + S32.size a ≤ S2048.size a := fun v3144 k0_hw224 => k0_hw224.2.1
theorem k0_off408_inb : ∀ (v3144 : BitVec 32) (k0_hw224 : k0_chk224 v3144), ∀ a, (k0_off408 v3144) a + S32.size a ≤ S2048.size a := fun v3144 k0_hw224 => k0_hw224.2.2

def k0_off409 (v3153 : BitVec 32) : Fin 1 → Nat :=
  let c999936_i32_1430 : BitVec 32 := 999936#32
  let v3154 : BitVec 32 := Scalar.subi v3153 c999936_i32_1430
  let c32_i32_1431 : BitVec 32 := 32#32
  let v3155 : BitVec 32 := Scalar.muli v3154 c32_i32_1431
  let v3156 : BitVec 32 := v3155
  ![v3156.toNat]

def k0_chk225 (v3153 : BitVec 32) : Prop :=
  (8 ∣ (k0_mult202 v3153).toNat) ∧
  (∀ a, (k0_off393 v3153) a + S32.size a ≤ S2048.size a) ∧
  (∀ a, (k0_off409 v3153) a + S32.size a ≤ S2048.size a)
theorem k0_mult202_dvd : ∀ (v3153 : BitVec 32) (k0_hw225 : k0_chk225 v3153), 8 ∣ (k0_mult202 v3153).toNat := fun v3153 k0_hw225 => k0_hw225.1
theorem k0_off393_inb : ∀ (v3153 : BitVec 32) (k0_hw225 : k0_chk225 v3153), ∀ a, (k0_off393 v3153) a + S32.size a ≤ S2048.size a := fun v3153 k0_hw225 => k0_hw225.2.1
theorem k0_off409_inb : ∀ (v3153 : BitVec 32) (k0_hw225 : k0_chk225 v3153), ∀ a, (k0_off409 v3153) a + S32.size a ≤ S2048.size a := fun v3153 k0_hw225 => k0_hw225.2.2

def k0_off410 (v3162 : BitVec 32) : Fin 1 → Nat :=
  let c999936_i32_1433 : BitVec 32 := 999936#32
  let v3163 : BitVec 32 := Scalar.subi v3162 c999936_i32_1433
  let c32_i32_1434 : BitVec 32 := 32#32
  let v3164 : BitVec 32 := Scalar.muli v3163 c32_i32_1434
  let v3165 : BitVec 32 := v3164
  ![v3165.toNat]

def k0_chk226 (v3162 : BitVec 32) : Prop :=
  (8 ∣ (k0_mult203 v3162).toNat) ∧
  (∀ a, (k0_off394 v3162) a + S32.size a ≤ S2048.size a) ∧
  (∀ a, (k0_off410 v3162) a + S32.size a ≤ S2048.size a)
theorem k0_mult203_dvd : ∀ (v3162 : BitVec 32) (k0_hw226 : k0_chk226 v3162), 8 ∣ (k0_mult203 v3162).toNat := fun v3162 k0_hw226 => k0_hw226.1
theorem k0_off394_inb : ∀ (v3162 : BitVec 32) (k0_hw226 : k0_chk226 v3162), ∀ a, (k0_off394 v3162) a + S32.size a ≤ S2048.size a := fun v3162 k0_hw226 => k0_hw226.2.1
theorem k0_off410_inb : ∀ (v3162 : BitVec 32) (k0_hw226 : k0_chk226 v3162), ∀ a, (k0_off410 v3162) a + S32.size a ≤ S2048.size a := fun v3162 k0_hw226 => k0_hw226.2.2

def k0_off411 (v3171 : BitVec 32) : Fin 1 → Nat :=
  let c999936_i32_1436 : BitVec 32 := 999936#32
  let v3172 : BitVec 32 := Scalar.subi v3171 c999936_i32_1436
  let c32_i32_1437 : BitVec 32 := 32#32
  let v3173 : BitVec 32 := Scalar.muli v3172 c32_i32_1437
  let v3174 : BitVec 32 := v3173
  ![v3174.toNat]

def k0_chk227 (v3171 : BitVec 32) : Prop :=
  (8 ∣ (k0_mult204 v3171).toNat) ∧
  (∀ a, (k0_off395 v3171) a + S32.size a ≤ S2048.size a) ∧
  (∀ a, (k0_off411 v3171) a + S32.size a ≤ S2048.size a)
theorem k0_mult204_dvd : ∀ (v3171 : BitVec 32) (k0_hw227 : k0_chk227 v3171), 8 ∣ (k0_mult204 v3171).toNat := fun v3171 k0_hw227 => k0_hw227.1
theorem k0_off395_inb : ∀ (v3171 : BitVec 32) (k0_hw227 : k0_chk227 v3171), ∀ a, (k0_off395 v3171) a + S32.size a ≤ S2048.size a := fun v3171 k0_hw227 => k0_hw227.2.1
theorem k0_off411_inb : ∀ (v3171 : BitVec 32) (k0_hw227 : k0_chk227 v3171), ∀ a, (k0_off411 v3171) a + S32.size a ≤ S2048.size a := fun v3171 k0_hw227 => k0_hw227.2.2

def k0_off412 (v3180 : BitVec 32) : Fin 1 → Nat :=
  let c999936_i32_1439 : BitVec 32 := 999936#32
  let v3181 : BitVec 32 := Scalar.subi v3180 c999936_i32_1439
  let c32_i32_1440 : BitVec 32 := 32#32
  let v3182 : BitVec 32 := Scalar.muli v3181 c32_i32_1440
  let v3183 : BitVec 32 := v3182
  ![v3183.toNat]

def k0_chk228 (v3180 : BitVec 32) : Prop :=
  (8 ∣ (k0_mult205 v3180).toNat) ∧
  (∀ a, (k0_off396 v3180) a + S32.size a ≤ S2048.size a) ∧
  (∀ a, (k0_off412 v3180) a + S32.size a ≤ S2048.size a)
theorem k0_mult205_dvd : ∀ (v3180 : BitVec 32) (k0_hw228 : k0_chk228 v3180), 8 ∣ (k0_mult205 v3180).toNat := fun v3180 k0_hw228 => k0_hw228.1
theorem k0_off396_inb : ∀ (v3180 : BitVec 32) (k0_hw228 : k0_chk228 v3180), ∀ a, (k0_off396 v3180) a + S32.size a ≤ S2048.size a := fun v3180 k0_hw228 => k0_hw228.2.1
theorem k0_off412_inb : ∀ (v3180 : BitVec 32) (k0_hw228 : k0_chk228 v3180), ∀ a, (k0_off412 v3180) a + S32.size a ≤ S2048.size a := fun v3180 k0_hw228 => k0_hw228.2.2

def k0_off413 (v3189 : BitVec 32) : Fin 1 → Nat :=
  let c999936_i32_1442 : BitVec 32 := 999936#32
  let v3190 : BitVec 32 := Scalar.subi v3189 c999936_i32_1442
  let c32_i32_1443 : BitVec 32 := 32#32
  let v3191 : BitVec 32 := Scalar.muli v3190 c32_i32_1443
  let v3192 : BitVec 32 := v3191
  ![v3192.toNat]

def k0_chk229 (v3189 : BitVec 32) : Prop :=
  (8 ∣ (k0_mult206 v3189).toNat) ∧
  (∀ a, (k0_off397 v3189) a + S32.size a ≤ S2048.size a) ∧
  (∀ a, (k0_off413 v3189) a + S32.size a ≤ S2048.size a)
theorem k0_mult206_dvd : ∀ (v3189 : BitVec 32) (k0_hw229 : k0_chk229 v3189), 8 ∣ (k0_mult206 v3189).toNat := fun v3189 k0_hw229 => k0_hw229.1
theorem k0_off397_inb : ∀ (v3189 : BitVec 32) (k0_hw229 : k0_chk229 v3189), ∀ a, (k0_off397 v3189) a + S32.size a ≤ S2048.size a := fun v3189 k0_hw229 => k0_hw229.2.1
theorem k0_off413_inb : ∀ (v3189 : BitVec 32) (k0_hw229 : k0_chk229 v3189), ∀ a, (k0_off413 v3189) a + S32.size a ≤ S2048.size a := fun v3189 k0_hw229 => k0_hw229.2.2

def k0_off414 (v3198 : BitVec 32) : Fin 1 → Nat :=
  let c999936_i32_1445 : BitVec 32 := 999936#32
  let v3199 : BitVec 32 := Scalar.subi v3198 c999936_i32_1445
  let c32_i32_1446 : BitVec 32 := 32#32
  let v3200 : BitVec 32 := Scalar.muli v3199 c32_i32_1446
  let v3201 : BitVec 32 := v3200
  ![v3201.toNat]

def k0_chk230 (v3198 : BitVec 32) : Prop :=
  (8 ∣ (k0_mult207 v3198).toNat) ∧
  (∀ a, (k0_off398 v3198) a + S32.size a ≤ S2048.size a) ∧
  (∀ a, (k0_off414 v3198) a + S32.size a ≤ S2048.size a)
theorem k0_mult207_dvd : ∀ (v3198 : BitVec 32) (k0_hw230 : k0_chk230 v3198), 8 ∣ (k0_mult207 v3198).toNat := fun v3198 k0_hw230 => k0_hw230.1
theorem k0_off398_inb : ∀ (v3198 : BitVec 32) (k0_hw230 : k0_chk230 v3198), ∀ a, (k0_off398 v3198) a + S32.size a ≤ S2048.size a := fun v3198 k0_hw230 => k0_hw230.2.1
theorem k0_off414_inb : ∀ (v3198 : BitVec 32) (k0_hw230 : k0_chk230 v3198), ∀ a, (k0_off414 v3198) a + S32.size a ≤ S2048.size a := fun v3198 k0_hw230 => k0_hw230.2.2

def k0_off415 (v3207 : BitVec 32) : Fin 1 → Nat :=
  let c999936_i32_1448 : BitVec 32 := 999936#32
  let v3208 : BitVec 32 := Scalar.subi v3207 c999936_i32_1448
  let c32_i32_1449 : BitVec 32 := 32#32
  let v3209 : BitVec 32 := Scalar.muli v3208 c32_i32_1449
  let v3210 : BitVec 32 := v3209
  ![v3210.toNat]

def k0_chk231 (v3207 : BitVec 32) : Prop :=
  (8 ∣ (k0_mult208 v3207).toNat) ∧
  (∀ a, (k0_off399 v3207) a + S32.size a ≤ S2048.size a) ∧
  (∀ a, (k0_off415 v3207) a + S32.size a ≤ S2048.size a)
theorem k0_mult208_dvd : ∀ (v3207 : BitVec 32) (k0_hw231 : k0_chk231 v3207), 8 ∣ (k0_mult208 v3207).toNat := fun v3207 k0_hw231 => k0_hw231.1
theorem k0_off399_inb : ∀ (v3207 : BitVec 32) (k0_hw231 : k0_chk231 v3207), ∀ a, (k0_off399 v3207) a + S32.size a ≤ S2048.size a := fun v3207 k0_hw231 => k0_hw231.2.1
theorem k0_off415_inb : ∀ (v3207 : BitVec 32) (k0_hw231 : k0_chk231 v3207), ∀ a, (k0_off415 v3207) a + S32.size a ≤ S2048.size a := fun v3207 k0_hw231 => k0_hw231.2.2

def k0_mult210 (v3289 : BitVec 32) : BitVec 32 :=
  let c0_i32_1487 : BitVec 32 := 0#32
  let c32_i32_1486 : BitVec 32 := 32#32
  let v3290 : BitVec 32 := Scalar.muli v3289 c32_i32_1486
  let v3291 : BitVec 32 := Scalar.addi c0_i32_1487 v3290
  v3291

def k0_off416 (v3289 : BitVec 32) : Fin 1 → Nat :=
  let c0_i32_1487 : BitVec 32 := 0#32
  let c32_i32_1486 : BitVec 32 := 32#32
  let v3290 : BitVec 32 := Scalar.muli v3289 c32_i32_1486
  let v3291 : BitVec 32 := Scalar.addi c0_i32_1487 v3290
  let v3292 : BitVec 32 := v3291
  ![v3292.toNat]
def k0_mult211 (v3298 : BitVec 32) : BitVec 32 :=
  let c0_i32_1491 : BitVec 32 := 0#32
  let c32_i32_1490 : BitVec 32 := 32#32
  let v3299 : BitVec 32 := Scalar.muli v3298 c32_i32_1490
  let v3300 : BitVec 32 := Scalar.addi c0_i32_1491 v3299
  v3300

def k0_off417 (v3298 : BitVec 32) : Fin 1 → Nat :=
  let c0_i32_1491 : BitVec 32 := 0#32
  let c32_i32_1490 : BitVec 32 := 32#32
  let v3299 : BitVec 32 := Scalar.muli v3298 c32_i32_1490
  let v3300 : BitVec 32 := Scalar.addi c0_i32_1491 v3299
  let v3301 : BitVec 32 := v3300
  ![v3301.toNat]
def k0_mult212 (v3307 : BitVec 32) : BitVec 32 :=
  let c0_i32_1495 : BitVec 32 := 0#32
  let c32_i32_1494 : BitVec 32 := 32#32
  let v3308 : BitVec 32 := Scalar.muli v3307 c32_i32_1494
  let v3309 : BitVec 32 := Scalar.addi c0_i32_1495 v3308
  v3309

def k0_off418 (v3307 : BitVec 32) : Fin 1 → Nat :=
  let c0_i32_1495 : BitVec 32 := 0#32
  let c32_i32_1494 : BitVec 32 := 32#32
  let v3308 : BitVec 32 := Scalar.muli v3307 c32_i32_1494
  let v3309 : BitVec 32 := Scalar.addi c0_i32_1495 v3308
  let v3310 : BitVec 32 := v3309
  ![v3310.toNat]
def k0_mult213 (v3316 : BitVec 32) : BitVec 32 :=
  let c0_i32_1499 : BitVec 32 := 0#32
  let c32_i32_1498 : BitVec 32 := 32#32
  let v3317 : BitVec 32 := Scalar.muli v3316 c32_i32_1498
  let v3318 : BitVec 32 := Scalar.addi c0_i32_1499 v3317
  v3318

def k0_off419 (v3316 : BitVec 32) : Fin 1 → Nat :=
  let c0_i32_1499 : BitVec 32 := 0#32
  let c32_i32_1498 : BitVec 32 := 32#32
  let v3317 : BitVec 32 := Scalar.muli v3316 c32_i32_1498
  let v3318 : BitVec 32 := Scalar.addi c0_i32_1499 v3317
  let v3319 : BitVec 32 := v3318
  ![v3319.toNat]
def k0_mult214 (v3325 : BitVec 32) : BitVec 32 :=
  let c0_i32_1503 : BitVec 32 := 0#32
  let c32_i32_1502 : BitVec 32 := 32#32
  let v3326 : BitVec 32 := Scalar.muli v3325 c32_i32_1502
  let v3327 : BitVec 32 := Scalar.addi c0_i32_1503 v3326
  v3327

def k0_off420 (v3325 : BitVec 32) : Fin 1 → Nat :=
  let c0_i32_1503 : BitVec 32 := 0#32
  let c32_i32_1502 : BitVec 32 := 32#32
  let v3326 : BitVec 32 := Scalar.muli v3325 c32_i32_1502
  let v3327 : BitVec 32 := Scalar.addi c0_i32_1503 v3326
  let v3328 : BitVec 32 := v3327
  ![v3328.toNat]
def k0_mult215 (v3334 : BitVec 32) : BitVec 32 :=
  let c0_i32_1507 : BitVec 32 := 0#32
  let c32_i32_1506 : BitVec 32 := 32#32
  let v3335 : BitVec 32 := Scalar.muli v3334 c32_i32_1506
  let v3336 : BitVec 32 := Scalar.addi c0_i32_1507 v3335
  v3336

def k0_off421 (v3334 : BitVec 32) : Fin 1 → Nat :=
  let c0_i32_1507 : BitVec 32 := 0#32
  let c32_i32_1506 : BitVec 32 := 32#32
  let v3335 : BitVec 32 := Scalar.muli v3334 c32_i32_1506
  let v3336 : BitVec 32 := Scalar.addi c0_i32_1507 v3335
  let v3337 : BitVec 32 := v3336
  ![v3337.toNat]
def k0_mult216 (v3343 : BitVec 32) : BitVec 32 :=
  let c0_i32_1511 : BitVec 32 := 0#32
  let c32_i32_1510 : BitVec 32 := 32#32
  let v3344 : BitVec 32 := Scalar.muli v3343 c32_i32_1510
  let v3345 : BitVec 32 := Scalar.addi c0_i32_1511 v3344
  v3345

def k0_off422 (v3343 : BitVec 32) : Fin 1 → Nat :=
  let c0_i32_1511 : BitVec 32 := 0#32
  let c32_i32_1510 : BitVec 32 := 32#32
  let v3344 : BitVec 32 := Scalar.muli v3343 c32_i32_1510
  let v3345 : BitVec 32 := Scalar.addi c0_i32_1511 v3344
  let v3346 : BitVec 32 := v3345
  ![v3346.toNat]
def k0_mult217 (v3352 : BitVec 32) : BitVec 32 :=
  let c0_i32_1515 : BitVec 32 := 0#32
  let c32_i32_1514 : BitVec 32 := 32#32
  let v3353 : BitVec 32 := Scalar.muli v3352 c32_i32_1514
  let v3354 : BitVec 32 := Scalar.addi c0_i32_1515 v3353
  v3354

def k0_off423 (v3352 : BitVec 32) : Fin 1 → Nat :=
  let c0_i32_1515 : BitVec 32 := 0#32
  let c32_i32_1514 : BitVec 32 := 32#32
  let v3353 : BitVec 32 := Scalar.muli v3352 c32_i32_1514
  let v3354 : BitVec 32 := Scalar.addi c0_i32_1515 v3353
  let v3355 : BitVec 32 := v3354
  ![v3355.toNat]
def k0_mult218 (v3361 : BitVec 32) : BitVec 32 :=
  let c0_i32_1519 : BitVec 32 := 0#32
  let c32_i32_1518 : BitVec 32 := 32#32
  let v3362 : BitVec 32 := Scalar.muli v3361 c32_i32_1518
  let v3363 : BitVec 32 := Scalar.addi c0_i32_1519 v3362
  v3363

def k0_off424 (v3361 : BitVec 32) : Fin 1 → Nat :=
  let c0_i32_1519 : BitVec 32 := 0#32
  let c32_i32_1518 : BitVec 32 := 32#32
  let v3362 : BitVec 32 := Scalar.muli v3361 c32_i32_1518
  let v3363 : BitVec 32 := Scalar.addi c0_i32_1519 v3362
  let v3364 : BitVec 32 := v3363
  ![v3364.toNat]
def k0_mult219 (v3370 : BitVec 32) : BitVec 32 :=
  let c0_i32_1523 : BitVec 32 := 0#32
  let c32_i32_1522 : BitVec 32 := 32#32
  let v3371 : BitVec 32 := Scalar.muli v3370 c32_i32_1522
  let v3372 : BitVec 32 := Scalar.addi c0_i32_1523 v3371
  v3372

def k0_off425 (v3370 : BitVec 32) : Fin 1 → Nat :=
  let c0_i32_1523 : BitVec 32 := 0#32
  let c32_i32_1522 : BitVec 32 := 32#32
  let v3371 : BitVec 32 := Scalar.muli v3370 c32_i32_1522
  let v3372 : BitVec 32 := Scalar.addi c0_i32_1523 v3371
  let v3373 : BitVec 32 := v3372
  ![v3373.toNat]
def k0_mult220 (v3379 : BitVec 32) : BitVec 32 :=
  let c0_i32_1527 : BitVec 32 := 0#32
  let c32_i32_1526 : BitVec 32 := 32#32
  let v3380 : BitVec 32 := Scalar.muli v3379 c32_i32_1526
  let v3381 : BitVec 32 := Scalar.addi c0_i32_1527 v3380
  v3381

def k0_off426 (v3379 : BitVec 32) : Fin 1 → Nat :=
  let c0_i32_1527 : BitVec 32 := 0#32
  let c32_i32_1526 : BitVec 32 := 32#32
  let v3380 : BitVec 32 := Scalar.muli v3379 c32_i32_1526
  let v3381 : BitVec 32 := Scalar.addi c0_i32_1527 v3380
  let v3382 : BitVec 32 := v3381
  ![v3382.toNat]
def k0_mult221 (v3388 : BitVec 32) : BitVec 32 :=
  let c0_i32_1531 : BitVec 32 := 0#32
  let c32_i32_1530 : BitVec 32 := 32#32
  let v3389 : BitVec 32 := Scalar.muli v3388 c32_i32_1530
  let v3390 : BitVec 32 := Scalar.addi c0_i32_1531 v3389
  v3390

def k0_off427 (v3388 : BitVec 32) : Fin 1 → Nat :=
  let c0_i32_1531 : BitVec 32 := 0#32
  let c32_i32_1530 : BitVec 32 := 32#32
  let v3389 : BitVec 32 := Scalar.muli v3388 c32_i32_1530
  let v3390 : BitVec 32 := Scalar.addi c0_i32_1531 v3389
  let v3391 : BitVec 32 := v3390
  ![v3391.toNat]
def k0_mult222 (v3397 : BitVec 32) : BitVec 32 :=
  let c0_i32_1535 : BitVec 32 := 0#32
  let c32_i32_1534 : BitVec 32 := 32#32
  let v3398 : BitVec 32 := Scalar.muli v3397 c32_i32_1534
  let v3399 : BitVec 32 := Scalar.addi c0_i32_1535 v3398
  v3399

def k0_off428 (v3397 : BitVec 32) : Fin 1 → Nat :=
  let c0_i32_1535 : BitVec 32 := 0#32
  let c32_i32_1534 : BitVec 32 := 32#32
  let v3398 : BitVec 32 := Scalar.muli v3397 c32_i32_1534
  let v3399 : BitVec 32 := Scalar.addi c0_i32_1535 v3398
  let v3400 : BitVec 32 := v3399
  ![v3400.toNat]
def k0_mult223 (v3406 : BitVec 32) : BitVec 32 :=
  let c0_i32_1539 : BitVec 32 := 0#32
  let c32_i32_1538 : BitVec 32 := 32#32
  let v3407 : BitVec 32 := Scalar.muli v3406 c32_i32_1538
  let v3408 : BitVec 32 := Scalar.addi c0_i32_1539 v3407
  v3408

def k0_off429 (v3406 : BitVec 32) : Fin 1 → Nat :=
  let c0_i32_1539 : BitVec 32 := 0#32
  let c32_i32_1538 : BitVec 32 := 32#32
  let v3407 : BitVec 32 := Scalar.muli v3406 c32_i32_1538
  let v3408 : BitVec 32 := Scalar.addi c0_i32_1539 v3407
  let v3409 : BitVec 32 := v3408
  ![v3409.toNat]
def k0_mult224 (v3415 : BitVec 32) : BitVec 32 :=
  let c0_i32_1543 : BitVec 32 := 0#32
  let c32_i32_1542 : BitVec 32 := 32#32
  let v3416 : BitVec 32 := Scalar.muli v3415 c32_i32_1542
  let v3417 : BitVec 32 := Scalar.addi c0_i32_1543 v3416
  v3417

def k0_off430 (v3415 : BitVec 32) : Fin 1 → Nat :=
  let c0_i32_1543 : BitVec 32 := 0#32
  let c32_i32_1542 : BitVec 32 := 32#32
  let v3416 : BitVec 32 := Scalar.muli v3415 c32_i32_1542
  let v3417 : BitVec 32 := Scalar.addi c0_i32_1543 v3416
  let v3418 : BitVec 32 := v3417
  ![v3418.toNat]
def k0_mult225 (v3424 : BitVec 32) : BitVec 32 :=
  let c0_i32_1547 : BitVec 32 := 0#32
  let c32_i32_1546 : BitVec 32 := 32#32
  let v3425 : BitVec 32 := Scalar.muli v3424 c32_i32_1546
  let v3426 : BitVec 32 := Scalar.addi c0_i32_1547 v3425
  v3426

def k0_off431 (v3424 : BitVec 32) : Fin 1 → Nat :=
  let c0_i32_1547 : BitVec 32 := 0#32
  let c32_i32_1546 : BitVec 32 := 32#32
  let v3425 : BitVec 32 := Scalar.muli v3424 c32_i32_1546
  let v3426 : BitVec 32 := Scalar.addi c0_i32_1547 v3425
  let v3427 : BitVec 32 := v3426
  ![v3427.toNat]

def k0_chk248 (v3424 : BitVec 32) : Prop :=
  (8 ∣ (k0_mult225 v3424).toNat) ∧
  (∀ a, (k0_off431 v3424) a + S32.size a ≤ S3407872.size a)
theorem k0_mult225_dvd : ∀ (v3424 : BitVec 32) (k0_hw248 : k0_chk248 v3424), 8 ∣ (k0_mult225 v3424).toNat := fun v3424 k0_hw248 => k0_hw248.1
theorem k0_off431_inb : ∀ (v3424 : BitVec 32) (k0_hw248 : k0_chk248 v3424), ∀ a, (k0_off431 v3424) a + S32.size a ≤ S3407872.size a := fun v3424 k0_hw248 => k0_hw248.2

def k0_off432 (v3289 : BitVec 32) : Fin 1 → Nat :=
  let c0_i32_1487 : BitVec 32 := 0#32
  let c32_i32_1486 : BitVec 32 := 32#32
  let v3290 : BitVec 32 := Scalar.muli v3289 c32_i32_1486
  let v3291 : BitVec 32 := Scalar.addi c0_i32_1487 v3290
  let v3292 : BitVec 32 := v3291
  ![v3292.toNat]

def k0_chk233 (v3289 : BitVec 32) : Prop :=
  (8 ∣ (k0_mult210 v3289).toNat) ∧
  (∀ a, (k0_off416 v3289) a + S32.size a ≤ S3407872.size a) ∧
  (∀ a, (k0_off432 v3289) a + S32.size a ≤ S3407872.size a)
theorem k0_mult210_dvd : ∀ (v3289 : BitVec 32) (k0_hw233 : k0_chk233 v3289), 8 ∣ (k0_mult210 v3289).toNat := fun v3289 k0_hw233 => k0_hw233.1
theorem k0_off416_inb : ∀ (v3289 : BitVec 32) (k0_hw233 : k0_chk233 v3289), ∀ a, (k0_off416 v3289) a + S32.size a ≤ S3407872.size a := fun v3289 k0_hw233 => k0_hw233.2.1
theorem k0_off432_inb : ∀ (v3289 : BitVec 32) (k0_hw233 : k0_chk233 v3289), ∀ a, (k0_off432 v3289) a + S32.size a ≤ S3407872.size a := fun v3289 k0_hw233 => k0_hw233.2.2

def k0_off433 (v3298 : BitVec 32) : Fin 1 → Nat :=
  let c0_i32_1491 : BitVec 32 := 0#32
  let c32_i32_1490 : BitVec 32 := 32#32
  let v3299 : BitVec 32 := Scalar.muli v3298 c32_i32_1490
  let v3300 : BitVec 32 := Scalar.addi c0_i32_1491 v3299
  let v3301 : BitVec 32 := v3300
  ![v3301.toNat]

def k0_chk234 (v3298 : BitVec 32) : Prop :=
  (8 ∣ (k0_mult211 v3298).toNat) ∧
  (∀ a, (k0_off417 v3298) a + S32.size a ≤ S3407872.size a) ∧
  (∀ a, (k0_off433 v3298) a + S32.size a ≤ S3407872.size a)
theorem k0_mult211_dvd : ∀ (v3298 : BitVec 32) (k0_hw234 : k0_chk234 v3298), 8 ∣ (k0_mult211 v3298).toNat := fun v3298 k0_hw234 => k0_hw234.1
theorem k0_off417_inb : ∀ (v3298 : BitVec 32) (k0_hw234 : k0_chk234 v3298), ∀ a, (k0_off417 v3298) a + S32.size a ≤ S3407872.size a := fun v3298 k0_hw234 => k0_hw234.2.1
theorem k0_off433_inb : ∀ (v3298 : BitVec 32) (k0_hw234 : k0_chk234 v3298), ∀ a, (k0_off433 v3298) a + S32.size a ≤ S3407872.size a := fun v3298 k0_hw234 => k0_hw234.2.2

def k0_off434 (v3307 : BitVec 32) : Fin 1 → Nat :=
  let c0_i32_1495 : BitVec 32 := 0#32
  let c32_i32_1494 : BitVec 32 := 32#32
  let v3308 : BitVec 32 := Scalar.muli v3307 c32_i32_1494
  let v3309 : BitVec 32 := Scalar.addi c0_i32_1495 v3308
  let v3310 : BitVec 32 := v3309
  ![v3310.toNat]

def k0_chk235 (v3307 : BitVec 32) : Prop :=
  (8 ∣ (k0_mult212 v3307).toNat) ∧
  (∀ a, (k0_off418 v3307) a + S32.size a ≤ S3407872.size a) ∧
  (∀ a, (k0_off434 v3307) a + S32.size a ≤ S3407872.size a)
theorem k0_mult212_dvd : ∀ (v3307 : BitVec 32) (k0_hw235 : k0_chk235 v3307), 8 ∣ (k0_mult212 v3307).toNat := fun v3307 k0_hw235 => k0_hw235.1
theorem k0_off418_inb : ∀ (v3307 : BitVec 32) (k0_hw235 : k0_chk235 v3307), ∀ a, (k0_off418 v3307) a + S32.size a ≤ S3407872.size a := fun v3307 k0_hw235 => k0_hw235.2.1
theorem k0_off434_inb : ∀ (v3307 : BitVec 32) (k0_hw235 : k0_chk235 v3307), ∀ a, (k0_off434 v3307) a + S32.size a ≤ S3407872.size a := fun v3307 k0_hw235 => k0_hw235.2.2

def k0_off435 (v3316 : BitVec 32) : Fin 1 → Nat :=
  let c0_i32_1499 : BitVec 32 := 0#32
  let c32_i32_1498 : BitVec 32 := 32#32
  let v3317 : BitVec 32 := Scalar.muli v3316 c32_i32_1498
  let v3318 : BitVec 32 := Scalar.addi c0_i32_1499 v3317
  let v3319 : BitVec 32 := v3318
  ![v3319.toNat]

def k0_chk236 (v3316 : BitVec 32) : Prop :=
  (8 ∣ (k0_mult213 v3316).toNat) ∧
  (∀ a, (k0_off419 v3316) a + S32.size a ≤ S3407872.size a) ∧
  (∀ a, (k0_off435 v3316) a + S32.size a ≤ S3407872.size a)
theorem k0_mult213_dvd : ∀ (v3316 : BitVec 32) (k0_hw236 : k0_chk236 v3316), 8 ∣ (k0_mult213 v3316).toNat := fun v3316 k0_hw236 => k0_hw236.1
theorem k0_off419_inb : ∀ (v3316 : BitVec 32) (k0_hw236 : k0_chk236 v3316), ∀ a, (k0_off419 v3316) a + S32.size a ≤ S3407872.size a := fun v3316 k0_hw236 => k0_hw236.2.1
theorem k0_off435_inb : ∀ (v3316 : BitVec 32) (k0_hw236 : k0_chk236 v3316), ∀ a, (k0_off435 v3316) a + S32.size a ≤ S3407872.size a := fun v3316 k0_hw236 => k0_hw236.2.2

def k0_off436 (v3325 : BitVec 32) : Fin 1 → Nat :=
  let c0_i32_1503 : BitVec 32 := 0#32
  let c32_i32_1502 : BitVec 32 := 32#32
  let v3326 : BitVec 32 := Scalar.muli v3325 c32_i32_1502
  let v3327 : BitVec 32 := Scalar.addi c0_i32_1503 v3326
  let v3328 : BitVec 32 := v3327
  ![v3328.toNat]

def k0_chk237 (v3325 : BitVec 32) : Prop :=
  (8 ∣ (k0_mult214 v3325).toNat) ∧
  (∀ a, (k0_off420 v3325) a + S32.size a ≤ S3407872.size a) ∧
  (∀ a, (k0_off436 v3325) a + S32.size a ≤ S3407872.size a)
theorem k0_mult214_dvd : ∀ (v3325 : BitVec 32) (k0_hw237 : k0_chk237 v3325), 8 ∣ (k0_mult214 v3325).toNat := fun v3325 k0_hw237 => k0_hw237.1
theorem k0_off420_inb : ∀ (v3325 : BitVec 32) (k0_hw237 : k0_chk237 v3325), ∀ a, (k0_off420 v3325) a + S32.size a ≤ S3407872.size a := fun v3325 k0_hw237 => k0_hw237.2.1
theorem k0_off436_inb : ∀ (v3325 : BitVec 32) (k0_hw237 : k0_chk237 v3325), ∀ a, (k0_off436 v3325) a + S32.size a ≤ S3407872.size a := fun v3325 k0_hw237 => k0_hw237.2.2

def k0_off437 (v3334 : BitVec 32) : Fin 1 → Nat :=
  let c0_i32_1507 : BitVec 32 := 0#32
  let c32_i32_1506 : BitVec 32 := 32#32
  let v3335 : BitVec 32 := Scalar.muli v3334 c32_i32_1506
  let v3336 : BitVec 32 := Scalar.addi c0_i32_1507 v3335
  let v3337 : BitVec 32 := v3336
  ![v3337.toNat]

def k0_chk238 (v3334 : BitVec 32) : Prop :=
  (8 ∣ (k0_mult215 v3334).toNat) ∧
  (∀ a, (k0_off421 v3334) a + S32.size a ≤ S3407872.size a) ∧
  (∀ a, (k0_off437 v3334) a + S32.size a ≤ S3407872.size a)
theorem k0_mult215_dvd : ∀ (v3334 : BitVec 32) (k0_hw238 : k0_chk238 v3334), 8 ∣ (k0_mult215 v3334).toNat := fun v3334 k0_hw238 => k0_hw238.1
theorem k0_off421_inb : ∀ (v3334 : BitVec 32) (k0_hw238 : k0_chk238 v3334), ∀ a, (k0_off421 v3334) a + S32.size a ≤ S3407872.size a := fun v3334 k0_hw238 => k0_hw238.2.1
theorem k0_off437_inb : ∀ (v3334 : BitVec 32) (k0_hw238 : k0_chk238 v3334), ∀ a, (k0_off437 v3334) a + S32.size a ≤ S3407872.size a := fun v3334 k0_hw238 => k0_hw238.2.2

def k0_off438 (v3343 : BitVec 32) : Fin 1 → Nat :=
  let c0_i32_1511 : BitVec 32 := 0#32
  let c32_i32_1510 : BitVec 32 := 32#32
  let v3344 : BitVec 32 := Scalar.muli v3343 c32_i32_1510
  let v3345 : BitVec 32 := Scalar.addi c0_i32_1511 v3344
  let v3346 : BitVec 32 := v3345
  ![v3346.toNat]

def k0_chk239 (v3343 : BitVec 32) : Prop :=
  (8 ∣ (k0_mult216 v3343).toNat) ∧
  (∀ a, (k0_off422 v3343) a + S32.size a ≤ S3407872.size a) ∧
  (∀ a, (k0_off438 v3343) a + S32.size a ≤ S3407872.size a)
theorem k0_mult216_dvd : ∀ (v3343 : BitVec 32) (k0_hw239 : k0_chk239 v3343), 8 ∣ (k0_mult216 v3343).toNat := fun v3343 k0_hw239 => k0_hw239.1
theorem k0_off422_inb : ∀ (v3343 : BitVec 32) (k0_hw239 : k0_chk239 v3343), ∀ a, (k0_off422 v3343) a + S32.size a ≤ S3407872.size a := fun v3343 k0_hw239 => k0_hw239.2.1
theorem k0_off438_inb : ∀ (v3343 : BitVec 32) (k0_hw239 : k0_chk239 v3343), ∀ a, (k0_off438 v3343) a + S32.size a ≤ S3407872.size a := fun v3343 k0_hw239 => k0_hw239.2.2

def k0_off439 (v3352 : BitVec 32) : Fin 1 → Nat :=
  let c0_i32_1515 : BitVec 32 := 0#32
  let c32_i32_1514 : BitVec 32 := 32#32
  let v3353 : BitVec 32 := Scalar.muli v3352 c32_i32_1514
  let v3354 : BitVec 32 := Scalar.addi c0_i32_1515 v3353
  let v3355 : BitVec 32 := v3354
  ![v3355.toNat]

def k0_chk240 (v3352 : BitVec 32) : Prop :=
  (8 ∣ (k0_mult217 v3352).toNat) ∧
  (∀ a, (k0_off423 v3352) a + S32.size a ≤ S3407872.size a) ∧
  (∀ a, (k0_off439 v3352) a + S32.size a ≤ S3407872.size a)
theorem k0_mult217_dvd : ∀ (v3352 : BitVec 32) (k0_hw240 : k0_chk240 v3352), 8 ∣ (k0_mult217 v3352).toNat := fun v3352 k0_hw240 => k0_hw240.1
theorem k0_off423_inb : ∀ (v3352 : BitVec 32) (k0_hw240 : k0_chk240 v3352), ∀ a, (k0_off423 v3352) a + S32.size a ≤ S3407872.size a := fun v3352 k0_hw240 => k0_hw240.2.1
theorem k0_off439_inb : ∀ (v3352 : BitVec 32) (k0_hw240 : k0_chk240 v3352), ∀ a, (k0_off439 v3352) a + S32.size a ≤ S3407872.size a := fun v3352 k0_hw240 => k0_hw240.2.2

def k0_off440 (v3361 : BitVec 32) : Fin 1 → Nat :=
  let c0_i32_1519 : BitVec 32 := 0#32
  let c32_i32_1518 : BitVec 32 := 32#32
  let v3362 : BitVec 32 := Scalar.muli v3361 c32_i32_1518
  let v3363 : BitVec 32 := Scalar.addi c0_i32_1519 v3362
  let v3364 : BitVec 32 := v3363
  ![v3364.toNat]

def k0_chk241 (v3361 : BitVec 32) : Prop :=
  (8 ∣ (k0_mult218 v3361).toNat) ∧
  (∀ a, (k0_off424 v3361) a + S32.size a ≤ S3407872.size a) ∧
  (∀ a, (k0_off440 v3361) a + S32.size a ≤ S3407872.size a)
theorem k0_mult218_dvd : ∀ (v3361 : BitVec 32) (k0_hw241 : k0_chk241 v3361), 8 ∣ (k0_mult218 v3361).toNat := fun v3361 k0_hw241 => k0_hw241.1
theorem k0_off424_inb : ∀ (v3361 : BitVec 32) (k0_hw241 : k0_chk241 v3361), ∀ a, (k0_off424 v3361) a + S32.size a ≤ S3407872.size a := fun v3361 k0_hw241 => k0_hw241.2.1
theorem k0_off440_inb : ∀ (v3361 : BitVec 32) (k0_hw241 : k0_chk241 v3361), ∀ a, (k0_off440 v3361) a + S32.size a ≤ S3407872.size a := fun v3361 k0_hw241 => k0_hw241.2.2

def k0_off441 (v3370 : BitVec 32) : Fin 1 → Nat :=
  let c0_i32_1523 : BitVec 32 := 0#32
  let c32_i32_1522 : BitVec 32 := 32#32
  let v3371 : BitVec 32 := Scalar.muli v3370 c32_i32_1522
  let v3372 : BitVec 32 := Scalar.addi c0_i32_1523 v3371
  let v3373 : BitVec 32 := v3372
  ![v3373.toNat]

def k0_chk242 (v3370 : BitVec 32) : Prop :=
  (8 ∣ (k0_mult219 v3370).toNat) ∧
  (∀ a, (k0_off425 v3370) a + S32.size a ≤ S3407872.size a) ∧
  (∀ a, (k0_off441 v3370) a + S32.size a ≤ S3407872.size a)
theorem k0_mult219_dvd : ∀ (v3370 : BitVec 32) (k0_hw242 : k0_chk242 v3370), 8 ∣ (k0_mult219 v3370).toNat := fun v3370 k0_hw242 => k0_hw242.1
theorem k0_off425_inb : ∀ (v3370 : BitVec 32) (k0_hw242 : k0_chk242 v3370), ∀ a, (k0_off425 v3370) a + S32.size a ≤ S3407872.size a := fun v3370 k0_hw242 => k0_hw242.2.1
theorem k0_off441_inb : ∀ (v3370 : BitVec 32) (k0_hw242 : k0_chk242 v3370), ∀ a, (k0_off441 v3370) a + S32.size a ≤ S3407872.size a := fun v3370 k0_hw242 => k0_hw242.2.2

def k0_off442 (v3379 : BitVec 32) : Fin 1 → Nat :=
  let c0_i32_1527 : BitVec 32 := 0#32
  let c32_i32_1526 : BitVec 32 := 32#32
  let v3380 : BitVec 32 := Scalar.muli v3379 c32_i32_1526
  let v3381 : BitVec 32 := Scalar.addi c0_i32_1527 v3380
  let v3382 : BitVec 32 := v3381
  ![v3382.toNat]

def k0_chk243 (v3379 : BitVec 32) : Prop :=
  (8 ∣ (k0_mult220 v3379).toNat) ∧
  (∀ a, (k0_off426 v3379) a + S32.size a ≤ S3407872.size a) ∧
  (∀ a, (k0_off442 v3379) a + S32.size a ≤ S3407872.size a)
theorem k0_mult220_dvd : ∀ (v3379 : BitVec 32) (k0_hw243 : k0_chk243 v3379), 8 ∣ (k0_mult220 v3379).toNat := fun v3379 k0_hw243 => k0_hw243.1
theorem k0_off426_inb : ∀ (v3379 : BitVec 32) (k0_hw243 : k0_chk243 v3379), ∀ a, (k0_off426 v3379) a + S32.size a ≤ S3407872.size a := fun v3379 k0_hw243 => k0_hw243.2.1
theorem k0_off442_inb : ∀ (v3379 : BitVec 32) (k0_hw243 : k0_chk243 v3379), ∀ a, (k0_off442 v3379) a + S32.size a ≤ S3407872.size a := fun v3379 k0_hw243 => k0_hw243.2.2

def k0_off443 (v3388 : BitVec 32) : Fin 1 → Nat :=
  let c0_i32_1531 : BitVec 32 := 0#32
  let c32_i32_1530 : BitVec 32 := 32#32
  let v3389 : BitVec 32 := Scalar.muli v3388 c32_i32_1530
  let v3390 : BitVec 32 := Scalar.addi c0_i32_1531 v3389
  let v3391 : BitVec 32 := v3390
  ![v3391.toNat]

def k0_chk244 (v3388 : BitVec 32) : Prop :=
  (8 ∣ (k0_mult221 v3388).toNat) ∧
  (∀ a, (k0_off427 v3388) a + S32.size a ≤ S3407872.size a) ∧
  (∀ a, (k0_off443 v3388) a + S32.size a ≤ S3407872.size a)
theorem k0_mult221_dvd : ∀ (v3388 : BitVec 32) (k0_hw244 : k0_chk244 v3388), 8 ∣ (k0_mult221 v3388).toNat := fun v3388 k0_hw244 => k0_hw244.1
theorem k0_off427_inb : ∀ (v3388 : BitVec 32) (k0_hw244 : k0_chk244 v3388), ∀ a, (k0_off427 v3388) a + S32.size a ≤ S3407872.size a := fun v3388 k0_hw244 => k0_hw244.2.1
theorem k0_off443_inb : ∀ (v3388 : BitVec 32) (k0_hw244 : k0_chk244 v3388), ∀ a, (k0_off443 v3388) a + S32.size a ≤ S3407872.size a := fun v3388 k0_hw244 => k0_hw244.2.2

def k0_off444 (v3397 : BitVec 32) : Fin 1 → Nat :=
  let c0_i32_1535 : BitVec 32 := 0#32
  let c32_i32_1534 : BitVec 32 := 32#32
  let v3398 : BitVec 32 := Scalar.muli v3397 c32_i32_1534
  let v3399 : BitVec 32 := Scalar.addi c0_i32_1535 v3398
  let v3400 : BitVec 32 := v3399
  ![v3400.toNat]

def k0_chk245 (v3397 : BitVec 32) : Prop :=
  (8 ∣ (k0_mult222 v3397).toNat) ∧
  (∀ a, (k0_off428 v3397) a + S32.size a ≤ S3407872.size a) ∧
  (∀ a, (k0_off444 v3397) a + S32.size a ≤ S3407872.size a)
theorem k0_mult222_dvd : ∀ (v3397 : BitVec 32) (k0_hw245 : k0_chk245 v3397), 8 ∣ (k0_mult222 v3397).toNat := fun v3397 k0_hw245 => k0_hw245.1
theorem k0_off428_inb : ∀ (v3397 : BitVec 32) (k0_hw245 : k0_chk245 v3397), ∀ a, (k0_off428 v3397) a + S32.size a ≤ S3407872.size a := fun v3397 k0_hw245 => k0_hw245.2.1
theorem k0_off444_inb : ∀ (v3397 : BitVec 32) (k0_hw245 : k0_chk245 v3397), ∀ a, (k0_off444 v3397) a + S32.size a ≤ S3407872.size a := fun v3397 k0_hw245 => k0_hw245.2.2

def k0_off445 (v3406 : BitVec 32) : Fin 1 → Nat :=
  let c0_i32_1539 : BitVec 32 := 0#32
  let c32_i32_1538 : BitVec 32 := 32#32
  let v3407 : BitVec 32 := Scalar.muli v3406 c32_i32_1538
  let v3408 : BitVec 32 := Scalar.addi c0_i32_1539 v3407
  let v3409 : BitVec 32 := v3408
  ![v3409.toNat]

def k0_chk246 (v3406 : BitVec 32) : Prop :=
  (8 ∣ (k0_mult223 v3406).toNat) ∧
  (∀ a, (k0_off429 v3406) a + S32.size a ≤ S3407872.size a) ∧
  (∀ a, (k0_off445 v3406) a + S32.size a ≤ S3407872.size a)
theorem k0_mult223_dvd : ∀ (v3406 : BitVec 32) (k0_hw246 : k0_chk246 v3406), 8 ∣ (k0_mult223 v3406).toNat := fun v3406 k0_hw246 => k0_hw246.1
theorem k0_off429_inb : ∀ (v3406 : BitVec 32) (k0_hw246 : k0_chk246 v3406), ∀ a, (k0_off429 v3406) a + S32.size a ≤ S3407872.size a := fun v3406 k0_hw246 => k0_hw246.2.1
theorem k0_off445_inb : ∀ (v3406 : BitVec 32) (k0_hw246 : k0_chk246 v3406), ∀ a, (k0_off445 v3406) a + S32.size a ≤ S3407872.size a := fun v3406 k0_hw246 => k0_hw246.2.2

def k0_off446 (v3415 : BitVec 32) : Fin 1 → Nat :=
  let c0_i32_1543 : BitVec 32 := 0#32
  let c32_i32_1542 : BitVec 32 := 32#32
  let v3416 : BitVec 32 := Scalar.muli v3415 c32_i32_1542
  let v3417 : BitVec 32 := Scalar.addi c0_i32_1543 v3416
  let v3418 : BitVec 32 := v3417
  ![v3418.toNat]

def k0_chk247 (v3415 : BitVec 32) : Prop :=
  (8 ∣ (k0_mult224 v3415).toNat) ∧
  (∀ a, (k0_off430 v3415) a + S32.size a ≤ S3407872.size a) ∧
  (∀ a, (k0_off446 v3415) a + S32.size a ≤ S3407872.size a)
theorem k0_mult224_dvd : ∀ (v3415 : BitVec 32) (k0_hw247 : k0_chk247 v3415), 8 ∣ (k0_mult224 v3415).toNat := fun v3415 k0_hw247 => k0_hw247.1
theorem k0_off430_inb : ∀ (v3415 : BitVec 32) (k0_hw247 : k0_chk247 v3415), ∀ a, (k0_off430 v3415) a + S32.size a ≤ S3407872.size a := fun v3415 k0_hw247 => k0_hw247.2.1
theorem k0_off446_inb : ∀ (v3415 : BitVec 32) (k0_hw247 : k0_chk247 v3415), ∀ a, (k0_off446 v3415) a + S32.size a ≤ S3407872.size a := fun v3415 k0_hw247 => k0_hw247.2.2

def k0_mult226 (v3499 : BitVec 32) : BitVec 32 :=
  let c999936_i32_1584 : BitVec 32 := 999936#32
  let v3500 : BitVec 32 := Scalar.subi v3499 c999936_i32_1584
  let c32_i32_1585 : BitVec 32 := 32#32
  let v3501 : BitVec 32 := Scalar.muli v3500 c32_i32_1585
  v3501

def k0_off447 (v3499 : BitVec 32) : Fin 1 → Nat :=
  let c999936_i32_1584 : BitVec 32 := 999936#32
  let v3500 : BitVec 32 := Scalar.subi v3499 c999936_i32_1584
  let c32_i32_1585 : BitVec 32 := 32#32
  let v3501 : BitVec 32 := Scalar.muli v3500 c32_i32_1585
  let v3502 : BitVec 32 := v3501
  ![v3502.toNat]
def k0_mult227 (v3508 : BitVec 32) : BitVec 32 :=
  let c999936_i32_1587 : BitVec 32 := 999936#32
  let v3509 : BitVec 32 := Scalar.subi v3508 c999936_i32_1587
  let c32_i32_1588 : BitVec 32 := 32#32
  let v3510 : BitVec 32 := Scalar.muli v3509 c32_i32_1588
  v3510

def k0_off448 (v3508 : BitVec 32) : Fin 1 → Nat :=
  let c999936_i32_1587 : BitVec 32 := 999936#32
  let v3509 : BitVec 32 := Scalar.subi v3508 c999936_i32_1587
  let c32_i32_1588 : BitVec 32 := 32#32
  let v3510 : BitVec 32 := Scalar.muli v3509 c32_i32_1588
  let v3511 : BitVec 32 := v3510
  ![v3511.toNat]
def k0_mult228 (v3517 : BitVec 32) : BitVec 32 :=
  let c999936_i32_1590 : BitVec 32 := 999936#32
  let v3518 : BitVec 32 := Scalar.subi v3517 c999936_i32_1590
  let c32_i32_1591 : BitVec 32 := 32#32
  let v3519 : BitVec 32 := Scalar.muli v3518 c32_i32_1591
  v3519

def k0_off449 (v3517 : BitVec 32) : Fin 1 → Nat :=
  let c999936_i32_1590 : BitVec 32 := 999936#32
  let v3518 : BitVec 32 := Scalar.subi v3517 c999936_i32_1590
  let c32_i32_1591 : BitVec 32 := 32#32
  let v3519 : BitVec 32 := Scalar.muli v3518 c32_i32_1591
  let v3520 : BitVec 32 := v3519
  ![v3520.toNat]
def k0_mult229 (v3526 : BitVec 32) : BitVec 32 :=
  let c999936_i32_1593 : BitVec 32 := 999936#32
  let v3527 : BitVec 32 := Scalar.subi v3526 c999936_i32_1593
  let c32_i32_1594 : BitVec 32 := 32#32
  let v3528 : BitVec 32 := Scalar.muli v3527 c32_i32_1594
  v3528

def k0_off450 (v3526 : BitVec 32) : Fin 1 → Nat :=
  let c999936_i32_1593 : BitVec 32 := 999936#32
  let v3527 : BitVec 32 := Scalar.subi v3526 c999936_i32_1593
  let c32_i32_1594 : BitVec 32 := 32#32
  let v3528 : BitVec 32 := Scalar.muli v3527 c32_i32_1594
  let v3529 : BitVec 32 := v3528
  ![v3529.toNat]
def k0_mult230 (v3535 : BitVec 32) : BitVec 32 :=
  let c999936_i32_1596 : BitVec 32 := 999936#32
  let v3536 : BitVec 32 := Scalar.subi v3535 c999936_i32_1596
  let c32_i32_1597 : BitVec 32 := 32#32
  let v3537 : BitVec 32 := Scalar.muli v3536 c32_i32_1597
  v3537

def k0_off451 (v3535 : BitVec 32) : Fin 1 → Nat :=
  let c999936_i32_1596 : BitVec 32 := 999936#32
  let v3536 : BitVec 32 := Scalar.subi v3535 c999936_i32_1596
  let c32_i32_1597 : BitVec 32 := 32#32
  let v3537 : BitVec 32 := Scalar.muli v3536 c32_i32_1597
  let v3538 : BitVec 32 := v3537
  ![v3538.toNat]
def k0_mult231 (v3544 : BitVec 32) : BitVec 32 :=
  let c999936_i32_1599 : BitVec 32 := 999936#32
  let v3545 : BitVec 32 := Scalar.subi v3544 c999936_i32_1599
  let c32_i32_1600 : BitVec 32 := 32#32
  let v3546 : BitVec 32 := Scalar.muli v3545 c32_i32_1600
  v3546

def k0_off452 (v3544 : BitVec 32) : Fin 1 → Nat :=
  let c999936_i32_1599 : BitVec 32 := 999936#32
  let v3545 : BitVec 32 := Scalar.subi v3544 c999936_i32_1599
  let c32_i32_1600 : BitVec 32 := 32#32
  let v3546 : BitVec 32 := Scalar.muli v3545 c32_i32_1600
  let v3547 : BitVec 32 := v3546
  ![v3547.toNat]
def k0_mult232 (v3553 : BitVec 32) : BitVec 32 :=
  let c999936_i32_1602 : BitVec 32 := 999936#32
  let v3554 : BitVec 32 := Scalar.subi v3553 c999936_i32_1602
  let c32_i32_1603 : BitVec 32 := 32#32
  let v3555 : BitVec 32 := Scalar.muli v3554 c32_i32_1603
  v3555

def k0_off453 (v3553 : BitVec 32) : Fin 1 → Nat :=
  let c999936_i32_1602 : BitVec 32 := 999936#32
  let v3554 : BitVec 32 := Scalar.subi v3553 c999936_i32_1602
  let c32_i32_1603 : BitVec 32 := 32#32
  let v3555 : BitVec 32 := Scalar.muli v3554 c32_i32_1603
  let v3556 : BitVec 32 := v3555
  ![v3556.toNat]
def k0_mult233 (v3562 : BitVec 32) : BitVec 32 :=
  let c999936_i32_1605 : BitVec 32 := 999936#32
  let v3563 : BitVec 32 := Scalar.subi v3562 c999936_i32_1605
  let c32_i32_1606 : BitVec 32 := 32#32
  let v3564 : BitVec 32 := Scalar.muli v3563 c32_i32_1606
  v3564

def k0_off454 (v3562 : BitVec 32) : Fin 1 → Nat :=
  let c999936_i32_1605 : BitVec 32 := 999936#32
  let v3563 : BitVec 32 := Scalar.subi v3562 c999936_i32_1605
  let c32_i32_1606 : BitVec 32 := 32#32
  let v3564 : BitVec 32 := Scalar.muli v3563 c32_i32_1606
  let v3565 : BitVec 32 := v3564
  ![v3565.toNat]
def k0_mult234 (v3571 : BitVec 32) : BitVec 32 :=
  let c999936_i32_1608 : BitVec 32 := 999936#32
  let v3572 : BitVec 32 := Scalar.subi v3571 c999936_i32_1608
  let c32_i32_1609 : BitVec 32 := 32#32
  let v3573 : BitVec 32 := Scalar.muli v3572 c32_i32_1609
  v3573

def k0_off455 (v3571 : BitVec 32) : Fin 1 → Nat :=
  let c999936_i32_1608 : BitVec 32 := 999936#32
  let v3572 : BitVec 32 := Scalar.subi v3571 c999936_i32_1608
  let c32_i32_1609 : BitVec 32 := 32#32
  let v3573 : BitVec 32 := Scalar.muli v3572 c32_i32_1609
  let v3574 : BitVec 32 := v3573
  ![v3574.toNat]
def k0_mult235 (v3580 : BitVec 32) : BitVec 32 :=
  let c999936_i32_1611 : BitVec 32 := 999936#32
  let v3581 : BitVec 32 := Scalar.subi v3580 c999936_i32_1611
  let c32_i32_1612 : BitVec 32 := 32#32
  let v3582 : BitVec 32 := Scalar.muli v3581 c32_i32_1612
  v3582

def k0_off456 (v3580 : BitVec 32) : Fin 1 → Nat :=
  let c999936_i32_1611 : BitVec 32 := 999936#32
  let v3581 : BitVec 32 := Scalar.subi v3580 c999936_i32_1611
  let c32_i32_1612 : BitVec 32 := 32#32
  let v3582 : BitVec 32 := Scalar.muli v3581 c32_i32_1612
  let v3583 : BitVec 32 := v3582
  ![v3583.toNat]
def k0_mult236 (v3589 : BitVec 32) : BitVec 32 :=
  let c999936_i32_1614 : BitVec 32 := 999936#32
  let v3590 : BitVec 32 := Scalar.subi v3589 c999936_i32_1614
  let c32_i32_1615 : BitVec 32 := 32#32
  let v3591 : BitVec 32 := Scalar.muli v3590 c32_i32_1615
  v3591

def k0_off457 (v3589 : BitVec 32) : Fin 1 → Nat :=
  let c999936_i32_1614 : BitVec 32 := 999936#32
  let v3590 : BitVec 32 := Scalar.subi v3589 c999936_i32_1614
  let c32_i32_1615 : BitVec 32 := 32#32
  let v3591 : BitVec 32 := Scalar.muli v3590 c32_i32_1615
  let v3592 : BitVec 32 := v3591
  ![v3592.toNat]
def k0_mult237 (v3598 : BitVec 32) : BitVec 32 :=
  let c999936_i32_1617 : BitVec 32 := 999936#32
  let v3599 : BitVec 32 := Scalar.subi v3598 c999936_i32_1617
  let c32_i32_1618 : BitVec 32 := 32#32
  let v3600 : BitVec 32 := Scalar.muli v3599 c32_i32_1618
  v3600

def k0_off458 (v3598 : BitVec 32) : Fin 1 → Nat :=
  let c999936_i32_1617 : BitVec 32 := 999936#32
  let v3599 : BitVec 32 := Scalar.subi v3598 c999936_i32_1617
  let c32_i32_1618 : BitVec 32 := 32#32
  let v3600 : BitVec 32 := Scalar.muli v3599 c32_i32_1618
  let v3601 : BitVec 32 := v3600
  ![v3601.toNat]
def k0_mult238 (v3607 : BitVec 32) : BitVec 32 :=
  let c999936_i32_1620 : BitVec 32 := 999936#32
  let v3608 : BitVec 32 := Scalar.subi v3607 c999936_i32_1620
  let c32_i32_1621 : BitVec 32 := 32#32
  let v3609 : BitVec 32 := Scalar.muli v3608 c32_i32_1621
  v3609

def k0_off459 (v3607 : BitVec 32) : Fin 1 → Nat :=
  let c999936_i32_1620 : BitVec 32 := 999936#32
  let v3608 : BitVec 32 := Scalar.subi v3607 c999936_i32_1620
  let c32_i32_1621 : BitVec 32 := 32#32
  let v3609 : BitVec 32 := Scalar.muli v3608 c32_i32_1621
  let v3610 : BitVec 32 := v3609
  ![v3610.toNat]
def k0_mult239 (v3616 : BitVec 32) : BitVec 32 :=
  let c999936_i32_1623 : BitVec 32 := 999936#32
  let v3617 : BitVec 32 := Scalar.subi v3616 c999936_i32_1623
  let c32_i32_1624 : BitVec 32 := 32#32
  let v3618 : BitVec 32 := Scalar.muli v3617 c32_i32_1624
  v3618

def k0_off460 (v3616 : BitVec 32) : Fin 1 → Nat :=
  let c999936_i32_1623 : BitVec 32 := 999936#32
  let v3617 : BitVec 32 := Scalar.subi v3616 c999936_i32_1623
  let c32_i32_1624 : BitVec 32 := 32#32
  let v3618 : BitVec 32 := Scalar.muli v3617 c32_i32_1624
  let v3619 : BitVec 32 := v3618
  ![v3619.toNat]
def k0_mult240 (v3625 : BitVec 32) : BitVec 32 :=
  let c999936_i32_1626 : BitVec 32 := 999936#32
  let v3626 : BitVec 32 := Scalar.subi v3625 c999936_i32_1626
  let c32_i32_1627 : BitVec 32 := 32#32
  let v3627 : BitVec 32 := Scalar.muli v3626 c32_i32_1627
  v3627

def k0_off461 (v3625 : BitVec 32) : Fin 1 → Nat :=
  let c999936_i32_1626 : BitVec 32 := 999936#32
  let v3626 : BitVec 32 := Scalar.subi v3625 c999936_i32_1626
  let c32_i32_1627 : BitVec 32 := 32#32
  let v3627 : BitVec 32 := Scalar.muli v3626 c32_i32_1627
  let v3628 : BitVec 32 := v3627
  ![v3628.toNat]
def k0_mult241 (v3634 : BitVec 32) : BitVec 32 :=
  let c999936_i32_1629 : BitVec 32 := 999936#32
  let v3635 : BitVec 32 := Scalar.subi v3634 c999936_i32_1629
  let c32_i32_1630 : BitVec 32 := 32#32
  let v3636 : BitVec 32 := Scalar.muli v3635 c32_i32_1630
  v3636

def k0_off462 (v3634 : BitVec 32) : Fin 1 → Nat :=
  let c999936_i32_1629 : BitVec 32 := 999936#32
  let v3635 : BitVec 32 := Scalar.subi v3634 c999936_i32_1629
  let c32_i32_1630 : BitVec 32 := 32#32
  let v3636 : BitVec 32 := Scalar.muli v3635 c32_i32_1630
  let v3637 : BitVec 32 := v3636
  ![v3637.toNat]

def k0_chk264 (v3634 : BitVec 32) : Prop :=
  (8 ∣ (k0_mult241 v3634).toNat) ∧
  (∀ a, (k0_off462 v3634) a + S32.size a ≤ S2048.size a)
theorem k0_mult241_dvd : ∀ (v3634 : BitVec 32) (k0_hw264 : k0_chk264 v3634), 8 ∣ (k0_mult241 v3634).toNat := fun v3634 k0_hw264 => k0_hw264.1
theorem k0_off462_inb : ∀ (v3634 : BitVec 32) (k0_hw264 : k0_chk264 v3634), ∀ a, (k0_off462 v3634) a + S32.size a ≤ S2048.size a := fun v3634 k0_hw264 => k0_hw264.2

def k0_off463 (v3499 : BitVec 32) : Fin 1 → Nat :=
  let c999936_i32_1584 : BitVec 32 := 999936#32
  let v3500 : BitVec 32 := Scalar.subi v3499 c999936_i32_1584
  let c32_i32_1585 : BitVec 32 := 32#32
  let v3501 : BitVec 32 := Scalar.muli v3500 c32_i32_1585
  let v3502 : BitVec 32 := v3501
  ![v3502.toNat]

def k0_chk249 (v3499 : BitVec 32) : Prop :=
  (8 ∣ (k0_mult226 v3499).toNat) ∧
  (∀ a, (k0_off447 v3499) a + S32.size a ≤ S2048.size a) ∧
  (∀ a, (k0_off463 v3499) a + S32.size a ≤ S2048.size a)
theorem k0_mult226_dvd : ∀ (v3499 : BitVec 32) (k0_hw249 : k0_chk249 v3499), 8 ∣ (k0_mult226 v3499).toNat := fun v3499 k0_hw249 => k0_hw249.1
theorem k0_off447_inb : ∀ (v3499 : BitVec 32) (k0_hw249 : k0_chk249 v3499), ∀ a, (k0_off447 v3499) a + S32.size a ≤ S2048.size a := fun v3499 k0_hw249 => k0_hw249.2.1
theorem k0_off463_inb : ∀ (v3499 : BitVec 32) (k0_hw249 : k0_chk249 v3499), ∀ a, (k0_off463 v3499) a + S32.size a ≤ S2048.size a := fun v3499 k0_hw249 => k0_hw249.2.2

def k0_off464 (v3508 : BitVec 32) : Fin 1 → Nat :=
  let c999936_i32_1587 : BitVec 32 := 999936#32
  let v3509 : BitVec 32 := Scalar.subi v3508 c999936_i32_1587
  let c32_i32_1588 : BitVec 32 := 32#32
  let v3510 : BitVec 32 := Scalar.muli v3509 c32_i32_1588
  let v3511 : BitVec 32 := v3510
  ![v3511.toNat]

def k0_chk250 (v3508 : BitVec 32) : Prop :=
  (8 ∣ (k0_mult227 v3508).toNat) ∧
  (∀ a, (k0_off448 v3508) a + S32.size a ≤ S2048.size a) ∧
  (∀ a, (k0_off464 v3508) a + S32.size a ≤ S2048.size a)
theorem k0_mult227_dvd : ∀ (v3508 : BitVec 32) (k0_hw250 : k0_chk250 v3508), 8 ∣ (k0_mult227 v3508).toNat := fun v3508 k0_hw250 => k0_hw250.1
theorem k0_off448_inb : ∀ (v3508 : BitVec 32) (k0_hw250 : k0_chk250 v3508), ∀ a, (k0_off448 v3508) a + S32.size a ≤ S2048.size a := fun v3508 k0_hw250 => k0_hw250.2.1
theorem k0_off464_inb : ∀ (v3508 : BitVec 32) (k0_hw250 : k0_chk250 v3508), ∀ a, (k0_off464 v3508) a + S32.size a ≤ S2048.size a := fun v3508 k0_hw250 => k0_hw250.2.2

def k0_off465 (v3517 : BitVec 32) : Fin 1 → Nat :=
  let c999936_i32_1590 : BitVec 32 := 999936#32
  let v3518 : BitVec 32 := Scalar.subi v3517 c999936_i32_1590
  let c32_i32_1591 : BitVec 32 := 32#32
  let v3519 : BitVec 32 := Scalar.muli v3518 c32_i32_1591
  let v3520 : BitVec 32 := v3519
  ![v3520.toNat]

def k0_chk251 (v3517 : BitVec 32) : Prop :=
  (8 ∣ (k0_mult228 v3517).toNat) ∧
  (∀ a, (k0_off449 v3517) a + S32.size a ≤ S2048.size a) ∧
  (∀ a, (k0_off465 v3517) a + S32.size a ≤ S2048.size a)
theorem k0_mult228_dvd : ∀ (v3517 : BitVec 32) (k0_hw251 : k0_chk251 v3517), 8 ∣ (k0_mult228 v3517).toNat := fun v3517 k0_hw251 => k0_hw251.1
theorem k0_off449_inb : ∀ (v3517 : BitVec 32) (k0_hw251 : k0_chk251 v3517), ∀ a, (k0_off449 v3517) a + S32.size a ≤ S2048.size a := fun v3517 k0_hw251 => k0_hw251.2.1
theorem k0_off465_inb : ∀ (v3517 : BitVec 32) (k0_hw251 : k0_chk251 v3517), ∀ a, (k0_off465 v3517) a + S32.size a ≤ S2048.size a := fun v3517 k0_hw251 => k0_hw251.2.2

def k0_off466 (v3526 : BitVec 32) : Fin 1 → Nat :=
  let c999936_i32_1593 : BitVec 32 := 999936#32
  let v3527 : BitVec 32 := Scalar.subi v3526 c999936_i32_1593
  let c32_i32_1594 : BitVec 32 := 32#32
  let v3528 : BitVec 32 := Scalar.muli v3527 c32_i32_1594
  let v3529 : BitVec 32 := v3528
  ![v3529.toNat]

def k0_chk252 (v3526 : BitVec 32) : Prop :=
  (8 ∣ (k0_mult229 v3526).toNat) ∧
  (∀ a, (k0_off450 v3526) a + S32.size a ≤ S2048.size a) ∧
  (∀ a, (k0_off466 v3526) a + S32.size a ≤ S2048.size a)
theorem k0_mult229_dvd : ∀ (v3526 : BitVec 32) (k0_hw252 : k0_chk252 v3526), 8 ∣ (k0_mult229 v3526).toNat := fun v3526 k0_hw252 => k0_hw252.1
theorem k0_off450_inb : ∀ (v3526 : BitVec 32) (k0_hw252 : k0_chk252 v3526), ∀ a, (k0_off450 v3526) a + S32.size a ≤ S2048.size a := fun v3526 k0_hw252 => k0_hw252.2.1
theorem k0_off466_inb : ∀ (v3526 : BitVec 32) (k0_hw252 : k0_chk252 v3526), ∀ a, (k0_off466 v3526) a + S32.size a ≤ S2048.size a := fun v3526 k0_hw252 => k0_hw252.2.2

def k0_off467 (v3535 : BitVec 32) : Fin 1 → Nat :=
  let c999936_i32_1596 : BitVec 32 := 999936#32
  let v3536 : BitVec 32 := Scalar.subi v3535 c999936_i32_1596
  let c32_i32_1597 : BitVec 32 := 32#32
  let v3537 : BitVec 32 := Scalar.muli v3536 c32_i32_1597
  let v3538 : BitVec 32 := v3537
  ![v3538.toNat]

def k0_chk253 (v3535 : BitVec 32) : Prop :=
  (8 ∣ (k0_mult230 v3535).toNat) ∧
  (∀ a, (k0_off451 v3535) a + S32.size a ≤ S2048.size a) ∧
  (∀ a, (k0_off467 v3535) a + S32.size a ≤ S2048.size a)
theorem k0_mult230_dvd : ∀ (v3535 : BitVec 32) (k0_hw253 : k0_chk253 v3535), 8 ∣ (k0_mult230 v3535).toNat := fun v3535 k0_hw253 => k0_hw253.1
theorem k0_off451_inb : ∀ (v3535 : BitVec 32) (k0_hw253 : k0_chk253 v3535), ∀ a, (k0_off451 v3535) a + S32.size a ≤ S2048.size a := fun v3535 k0_hw253 => k0_hw253.2.1
theorem k0_off467_inb : ∀ (v3535 : BitVec 32) (k0_hw253 : k0_chk253 v3535), ∀ a, (k0_off467 v3535) a + S32.size a ≤ S2048.size a := fun v3535 k0_hw253 => k0_hw253.2.2

def k0_off468 (v3544 : BitVec 32) : Fin 1 → Nat :=
  let c999936_i32_1599 : BitVec 32 := 999936#32
  let v3545 : BitVec 32 := Scalar.subi v3544 c999936_i32_1599
  let c32_i32_1600 : BitVec 32 := 32#32
  let v3546 : BitVec 32 := Scalar.muli v3545 c32_i32_1600
  let v3547 : BitVec 32 := v3546
  ![v3547.toNat]

def k0_chk254 (v3544 : BitVec 32) : Prop :=
  (8 ∣ (k0_mult231 v3544).toNat) ∧
  (∀ a, (k0_off452 v3544) a + S32.size a ≤ S2048.size a) ∧
  (∀ a, (k0_off468 v3544) a + S32.size a ≤ S2048.size a)
theorem k0_mult231_dvd : ∀ (v3544 : BitVec 32) (k0_hw254 : k0_chk254 v3544), 8 ∣ (k0_mult231 v3544).toNat := fun v3544 k0_hw254 => k0_hw254.1
theorem k0_off452_inb : ∀ (v3544 : BitVec 32) (k0_hw254 : k0_chk254 v3544), ∀ a, (k0_off452 v3544) a + S32.size a ≤ S2048.size a := fun v3544 k0_hw254 => k0_hw254.2.1
theorem k0_off468_inb : ∀ (v3544 : BitVec 32) (k0_hw254 : k0_chk254 v3544), ∀ a, (k0_off468 v3544) a + S32.size a ≤ S2048.size a := fun v3544 k0_hw254 => k0_hw254.2.2

def k0_off469 (v3553 : BitVec 32) : Fin 1 → Nat :=
  let c999936_i32_1602 : BitVec 32 := 999936#32
  let v3554 : BitVec 32 := Scalar.subi v3553 c999936_i32_1602
  let c32_i32_1603 : BitVec 32 := 32#32
  let v3555 : BitVec 32 := Scalar.muli v3554 c32_i32_1603
  let v3556 : BitVec 32 := v3555
  ![v3556.toNat]

def k0_chk255 (v3553 : BitVec 32) : Prop :=
  (8 ∣ (k0_mult232 v3553).toNat) ∧
  (∀ a, (k0_off453 v3553) a + S32.size a ≤ S2048.size a) ∧
  (∀ a, (k0_off469 v3553) a + S32.size a ≤ S2048.size a)
theorem k0_mult232_dvd : ∀ (v3553 : BitVec 32) (k0_hw255 : k0_chk255 v3553), 8 ∣ (k0_mult232 v3553).toNat := fun v3553 k0_hw255 => k0_hw255.1
theorem k0_off453_inb : ∀ (v3553 : BitVec 32) (k0_hw255 : k0_chk255 v3553), ∀ a, (k0_off453 v3553) a + S32.size a ≤ S2048.size a := fun v3553 k0_hw255 => k0_hw255.2.1
theorem k0_off469_inb : ∀ (v3553 : BitVec 32) (k0_hw255 : k0_chk255 v3553), ∀ a, (k0_off469 v3553) a + S32.size a ≤ S2048.size a := fun v3553 k0_hw255 => k0_hw255.2.2

def k0_off470 (v3562 : BitVec 32) : Fin 1 → Nat :=
  let c999936_i32_1605 : BitVec 32 := 999936#32
  let v3563 : BitVec 32 := Scalar.subi v3562 c999936_i32_1605
  let c32_i32_1606 : BitVec 32 := 32#32
  let v3564 : BitVec 32 := Scalar.muli v3563 c32_i32_1606
  let v3565 : BitVec 32 := v3564
  ![v3565.toNat]

def k0_chk256 (v3562 : BitVec 32) : Prop :=
  (8 ∣ (k0_mult233 v3562).toNat) ∧
  (∀ a, (k0_off454 v3562) a + S32.size a ≤ S2048.size a) ∧
  (∀ a, (k0_off470 v3562) a + S32.size a ≤ S2048.size a)
theorem k0_mult233_dvd : ∀ (v3562 : BitVec 32) (k0_hw256 : k0_chk256 v3562), 8 ∣ (k0_mult233 v3562).toNat := fun v3562 k0_hw256 => k0_hw256.1
theorem k0_off454_inb : ∀ (v3562 : BitVec 32) (k0_hw256 : k0_chk256 v3562), ∀ a, (k0_off454 v3562) a + S32.size a ≤ S2048.size a := fun v3562 k0_hw256 => k0_hw256.2.1
theorem k0_off470_inb : ∀ (v3562 : BitVec 32) (k0_hw256 : k0_chk256 v3562), ∀ a, (k0_off470 v3562) a + S32.size a ≤ S2048.size a := fun v3562 k0_hw256 => k0_hw256.2.2

def k0_off471 (v3571 : BitVec 32) : Fin 1 → Nat :=
  let c999936_i32_1608 : BitVec 32 := 999936#32
  let v3572 : BitVec 32 := Scalar.subi v3571 c999936_i32_1608
  let c32_i32_1609 : BitVec 32 := 32#32
  let v3573 : BitVec 32 := Scalar.muli v3572 c32_i32_1609
  let v3574 : BitVec 32 := v3573
  ![v3574.toNat]

def k0_chk257 (v3571 : BitVec 32) : Prop :=
  (8 ∣ (k0_mult234 v3571).toNat) ∧
  (∀ a, (k0_off455 v3571) a + S32.size a ≤ S2048.size a) ∧
  (∀ a, (k0_off471 v3571) a + S32.size a ≤ S2048.size a)
theorem k0_mult234_dvd : ∀ (v3571 : BitVec 32) (k0_hw257 : k0_chk257 v3571), 8 ∣ (k0_mult234 v3571).toNat := fun v3571 k0_hw257 => k0_hw257.1
theorem k0_off455_inb : ∀ (v3571 : BitVec 32) (k0_hw257 : k0_chk257 v3571), ∀ a, (k0_off455 v3571) a + S32.size a ≤ S2048.size a := fun v3571 k0_hw257 => k0_hw257.2.1
theorem k0_off471_inb : ∀ (v3571 : BitVec 32) (k0_hw257 : k0_chk257 v3571), ∀ a, (k0_off471 v3571) a + S32.size a ≤ S2048.size a := fun v3571 k0_hw257 => k0_hw257.2.2

def k0_off472 (v3580 : BitVec 32) : Fin 1 → Nat :=
  let c999936_i32_1611 : BitVec 32 := 999936#32
  let v3581 : BitVec 32 := Scalar.subi v3580 c999936_i32_1611
  let c32_i32_1612 : BitVec 32 := 32#32
  let v3582 : BitVec 32 := Scalar.muli v3581 c32_i32_1612
  let v3583 : BitVec 32 := v3582
  ![v3583.toNat]

def k0_chk258 (v3580 : BitVec 32) : Prop :=
  (8 ∣ (k0_mult235 v3580).toNat) ∧
  (∀ a, (k0_off456 v3580) a + S32.size a ≤ S2048.size a) ∧
  (∀ a, (k0_off472 v3580) a + S32.size a ≤ S2048.size a)
theorem k0_mult235_dvd : ∀ (v3580 : BitVec 32) (k0_hw258 : k0_chk258 v3580), 8 ∣ (k0_mult235 v3580).toNat := fun v3580 k0_hw258 => k0_hw258.1
theorem k0_off456_inb : ∀ (v3580 : BitVec 32) (k0_hw258 : k0_chk258 v3580), ∀ a, (k0_off456 v3580) a + S32.size a ≤ S2048.size a := fun v3580 k0_hw258 => k0_hw258.2.1
theorem k0_off472_inb : ∀ (v3580 : BitVec 32) (k0_hw258 : k0_chk258 v3580), ∀ a, (k0_off472 v3580) a + S32.size a ≤ S2048.size a := fun v3580 k0_hw258 => k0_hw258.2.2

def k0_off473 (v3589 : BitVec 32) : Fin 1 → Nat :=
  let c999936_i32_1614 : BitVec 32 := 999936#32
  let v3590 : BitVec 32 := Scalar.subi v3589 c999936_i32_1614
  let c32_i32_1615 : BitVec 32 := 32#32
  let v3591 : BitVec 32 := Scalar.muli v3590 c32_i32_1615
  let v3592 : BitVec 32 := v3591
  ![v3592.toNat]

def k0_chk259 (v3589 : BitVec 32) : Prop :=
  (8 ∣ (k0_mult236 v3589).toNat) ∧
  (∀ a, (k0_off457 v3589) a + S32.size a ≤ S2048.size a) ∧
  (∀ a, (k0_off473 v3589) a + S32.size a ≤ S2048.size a)
theorem k0_mult236_dvd : ∀ (v3589 : BitVec 32) (k0_hw259 : k0_chk259 v3589), 8 ∣ (k0_mult236 v3589).toNat := fun v3589 k0_hw259 => k0_hw259.1
theorem k0_off457_inb : ∀ (v3589 : BitVec 32) (k0_hw259 : k0_chk259 v3589), ∀ a, (k0_off457 v3589) a + S32.size a ≤ S2048.size a := fun v3589 k0_hw259 => k0_hw259.2.1
theorem k0_off473_inb : ∀ (v3589 : BitVec 32) (k0_hw259 : k0_chk259 v3589), ∀ a, (k0_off473 v3589) a + S32.size a ≤ S2048.size a := fun v3589 k0_hw259 => k0_hw259.2.2

def k0_off474 (v3598 : BitVec 32) : Fin 1 → Nat :=
  let c999936_i32_1617 : BitVec 32 := 999936#32
  let v3599 : BitVec 32 := Scalar.subi v3598 c999936_i32_1617
  let c32_i32_1618 : BitVec 32 := 32#32
  let v3600 : BitVec 32 := Scalar.muli v3599 c32_i32_1618
  let v3601 : BitVec 32 := v3600
  ![v3601.toNat]

def k0_chk260 (v3598 : BitVec 32) : Prop :=
  (8 ∣ (k0_mult237 v3598).toNat) ∧
  (∀ a, (k0_off458 v3598) a + S32.size a ≤ S2048.size a) ∧
  (∀ a, (k0_off474 v3598) a + S32.size a ≤ S2048.size a)
theorem k0_mult237_dvd : ∀ (v3598 : BitVec 32) (k0_hw260 : k0_chk260 v3598), 8 ∣ (k0_mult237 v3598).toNat := fun v3598 k0_hw260 => k0_hw260.1
theorem k0_off458_inb : ∀ (v3598 : BitVec 32) (k0_hw260 : k0_chk260 v3598), ∀ a, (k0_off458 v3598) a + S32.size a ≤ S2048.size a := fun v3598 k0_hw260 => k0_hw260.2.1
theorem k0_off474_inb : ∀ (v3598 : BitVec 32) (k0_hw260 : k0_chk260 v3598), ∀ a, (k0_off474 v3598) a + S32.size a ≤ S2048.size a := fun v3598 k0_hw260 => k0_hw260.2.2

def k0_off475 (v3607 : BitVec 32) : Fin 1 → Nat :=
  let c999936_i32_1620 : BitVec 32 := 999936#32
  let v3608 : BitVec 32 := Scalar.subi v3607 c999936_i32_1620
  let c32_i32_1621 : BitVec 32 := 32#32
  let v3609 : BitVec 32 := Scalar.muli v3608 c32_i32_1621
  let v3610 : BitVec 32 := v3609
  ![v3610.toNat]

def k0_chk261 (v3607 : BitVec 32) : Prop :=
  (8 ∣ (k0_mult238 v3607).toNat) ∧
  (∀ a, (k0_off459 v3607) a + S32.size a ≤ S2048.size a) ∧
  (∀ a, (k0_off475 v3607) a + S32.size a ≤ S2048.size a)
theorem k0_mult238_dvd : ∀ (v3607 : BitVec 32) (k0_hw261 : k0_chk261 v3607), 8 ∣ (k0_mult238 v3607).toNat := fun v3607 k0_hw261 => k0_hw261.1
theorem k0_off459_inb : ∀ (v3607 : BitVec 32) (k0_hw261 : k0_chk261 v3607), ∀ a, (k0_off459 v3607) a + S32.size a ≤ S2048.size a := fun v3607 k0_hw261 => k0_hw261.2.1
theorem k0_off475_inb : ∀ (v3607 : BitVec 32) (k0_hw261 : k0_chk261 v3607), ∀ a, (k0_off475 v3607) a + S32.size a ≤ S2048.size a := fun v3607 k0_hw261 => k0_hw261.2.2

def k0_off476 (v3616 : BitVec 32) : Fin 1 → Nat :=
  let c999936_i32_1623 : BitVec 32 := 999936#32
  let v3617 : BitVec 32 := Scalar.subi v3616 c999936_i32_1623
  let c32_i32_1624 : BitVec 32 := 32#32
  let v3618 : BitVec 32 := Scalar.muli v3617 c32_i32_1624
  let v3619 : BitVec 32 := v3618
  ![v3619.toNat]

def k0_chk262 (v3616 : BitVec 32) : Prop :=
  (8 ∣ (k0_mult239 v3616).toNat) ∧
  (∀ a, (k0_off460 v3616) a + S32.size a ≤ S2048.size a) ∧
  (∀ a, (k0_off476 v3616) a + S32.size a ≤ S2048.size a)
theorem k0_mult239_dvd : ∀ (v3616 : BitVec 32) (k0_hw262 : k0_chk262 v3616), 8 ∣ (k0_mult239 v3616).toNat := fun v3616 k0_hw262 => k0_hw262.1
theorem k0_off460_inb : ∀ (v3616 : BitVec 32) (k0_hw262 : k0_chk262 v3616), ∀ a, (k0_off460 v3616) a + S32.size a ≤ S2048.size a := fun v3616 k0_hw262 => k0_hw262.2.1
theorem k0_off476_inb : ∀ (v3616 : BitVec 32) (k0_hw262 : k0_chk262 v3616), ∀ a, (k0_off476 v3616) a + S32.size a ≤ S2048.size a := fun v3616 k0_hw262 => k0_hw262.2.2

def k0_off477 (v3625 : BitVec 32) : Fin 1 → Nat :=
  let c999936_i32_1626 : BitVec 32 := 999936#32
  let v3626 : BitVec 32 := Scalar.subi v3625 c999936_i32_1626
  let c32_i32_1627 : BitVec 32 := 32#32
  let v3627 : BitVec 32 := Scalar.muli v3626 c32_i32_1627
  let v3628 : BitVec 32 := v3627
  ![v3628.toNat]

def k0_chk263 (v3625 : BitVec 32) : Prop :=
  (8 ∣ (k0_mult240 v3625).toNat) ∧
  (∀ a, (k0_off461 v3625) a + S32.size a ≤ S2048.size a) ∧
  (∀ a, (k0_off477 v3625) a + S32.size a ≤ S2048.size a)
theorem k0_mult240_dvd : ∀ (v3625 : BitVec 32) (k0_hw263 : k0_chk263 v3625), 8 ∣ (k0_mult240 v3625).toNat := fun v3625 k0_hw263 => k0_hw263.1
theorem k0_off461_inb : ∀ (v3625 : BitVec 32) (k0_hw263 : k0_chk263 v3625), ∀ a, (k0_off461 v3625) a + S32.size a ≤ S2048.size a := fun v3625 k0_hw263 => k0_hw263.2.1
theorem k0_off477_inb : ∀ (v3625 : BitVec 32) (k0_hw263 : k0_chk263 v3625), ∀ a, (k0_off477 v3625) a + S32.size a ≤ S2048.size a := fun v3625 k0_hw263 => k0_hw263.2.2

def k0_mult242 (v3707 : BitVec 32) : BitVec 32 :=
  let c0_i32_1665 : BitVec 32 := 0#32
  let c32_i32_1664 : BitVec 32 := 32#32
  let v3708 : BitVec 32 := Scalar.muli v3707 c32_i32_1664
  let v3709 : BitVec 32 := Scalar.addi c0_i32_1665 v3708
  v3709

def k0_off478 (v3707 : BitVec 32) : Fin 1 → Nat :=
  let c0_i32_1665 : BitVec 32 := 0#32
  let c32_i32_1664 : BitVec 32 := 32#32
  let v3708 : BitVec 32 := Scalar.muli v3707 c32_i32_1664
  let v3709 : BitVec 32 := Scalar.addi c0_i32_1665 v3708
  let v3710 : BitVec 32 := v3709
  ![v3710.toNat]
def k0_mult243 (v3716 : BitVec 32) : BitVec 32 :=
  let c0_i32_1669 : BitVec 32 := 0#32
  let c32_i32_1668 : BitVec 32 := 32#32
  let v3717 : BitVec 32 := Scalar.muli v3716 c32_i32_1668
  let v3718 : BitVec 32 := Scalar.addi c0_i32_1669 v3717
  v3718

def k0_off479 (v3716 : BitVec 32) : Fin 1 → Nat :=
  let c0_i32_1669 : BitVec 32 := 0#32
  let c32_i32_1668 : BitVec 32 := 32#32
  let v3717 : BitVec 32 := Scalar.muli v3716 c32_i32_1668
  let v3718 : BitVec 32 := Scalar.addi c0_i32_1669 v3717
  let v3719 : BitVec 32 := v3718
  ![v3719.toNat]
def k0_mult244 (v3725 : BitVec 32) : BitVec 32 :=
  let c0_i32_1673 : BitVec 32 := 0#32
  let c32_i32_1672 : BitVec 32 := 32#32
  let v3726 : BitVec 32 := Scalar.muli v3725 c32_i32_1672
  let v3727 : BitVec 32 := Scalar.addi c0_i32_1673 v3726
  v3727

def k0_off480 (v3725 : BitVec 32) : Fin 1 → Nat :=
  let c0_i32_1673 : BitVec 32 := 0#32
  let c32_i32_1672 : BitVec 32 := 32#32
  let v3726 : BitVec 32 := Scalar.muli v3725 c32_i32_1672
  let v3727 : BitVec 32 := Scalar.addi c0_i32_1673 v3726
  let v3728 : BitVec 32 := v3727
  ![v3728.toNat]
def k0_mult245 (v3734 : BitVec 32) : BitVec 32 :=
  let c0_i32_1677 : BitVec 32 := 0#32
  let c32_i32_1676 : BitVec 32 := 32#32
  let v3735 : BitVec 32 := Scalar.muli v3734 c32_i32_1676
  let v3736 : BitVec 32 := Scalar.addi c0_i32_1677 v3735
  v3736

def k0_off481 (v3734 : BitVec 32) : Fin 1 → Nat :=
  let c0_i32_1677 : BitVec 32 := 0#32
  let c32_i32_1676 : BitVec 32 := 32#32
  let v3735 : BitVec 32 := Scalar.muli v3734 c32_i32_1676
  let v3736 : BitVec 32 := Scalar.addi c0_i32_1677 v3735
  let v3737 : BitVec 32 := v3736
  ![v3737.toNat]
def k0_mult246 (v3743 : BitVec 32) : BitVec 32 :=
  let c0_i32_1681 : BitVec 32 := 0#32
  let c32_i32_1680 : BitVec 32 := 32#32
  let v3744 : BitVec 32 := Scalar.muli v3743 c32_i32_1680
  let v3745 : BitVec 32 := Scalar.addi c0_i32_1681 v3744
  v3745

def k0_off482 (v3743 : BitVec 32) : Fin 1 → Nat :=
  let c0_i32_1681 : BitVec 32 := 0#32
  let c32_i32_1680 : BitVec 32 := 32#32
  let v3744 : BitVec 32 := Scalar.muli v3743 c32_i32_1680
  let v3745 : BitVec 32 := Scalar.addi c0_i32_1681 v3744
  let v3746 : BitVec 32 := v3745
  ![v3746.toNat]
def k0_mult247 (v3752 : BitVec 32) : BitVec 32 :=
  let c0_i32_1685 : BitVec 32 := 0#32
  let c32_i32_1684 : BitVec 32 := 32#32
  let v3753 : BitVec 32 := Scalar.muli v3752 c32_i32_1684
  let v3754 : BitVec 32 := Scalar.addi c0_i32_1685 v3753
  v3754

def k0_off483 (v3752 : BitVec 32) : Fin 1 → Nat :=
  let c0_i32_1685 : BitVec 32 := 0#32
  let c32_i32_1684 : BitVec 32 := 32#32
  let v3753 : BitVec 32 := Scalar.muli v3752 c32_i32_1684
  let v3754 : BitVec 32 := Scalar.addi c0_i32_1685 v3753
  let v3755 : BitVec 32 := v3754
  ![v3755.toNat]
def k0_mult248 (v3761 : BitVec 32) : BitVec 32 :=
  let c0_i32_1689 : BitVec 32 := 0#32
  let c32_i32_1688 : BitVec 32 := 32#32
  let v3762 : BitVec 32 := Scalar.muli v3761 c32_i32_1688
  let v3763 : BitVec 32 := Scalar.addi c0_i32_1689 v3762
  v3763

def k0_off484 (v3761 : BitVec 32) : Fin 1 → Nat :=
  let c0_i32_1689 : BitVec 32 := 0#32
  let c32_i32_1688 : BitVec 32 := 32#32
  let v3762 : BitVec 32 := Scalar.muli v3761 c32_i32_1688
  let v3763 : BitVec 32 := Scalar.addi c0_i32_1689 v3762
  let v3764 : BitVec 32 := v3763
  ![v3764.toNat]
def k0_mult249 (v3770 : BitVec 32) : BitVec 32 :=
  let c0_i32_1693 : BitVec 32 := 0#32
  let c32_i32_1692 : BitVec 32 := 32#32
  let v3771 : BitVec 32 := Scalar.muli v3770 c32_i32_1692
  let v3772 : BitVec 32 := Scalar.addi c0_i32_1693 v3771
  v3772

def k0_off485 (v3770 : BitVec 32) : Fin 1 → Nat :=
  let c0_i32_1693 : BitVec 32 := 0#32
  let c32_i32_1692 : BitVec 32 := 32#32
  let v3771 : BitVec 32 := Scalar.muli v3770 c32_i32_1692
  let v3772 : BitVec 32 := Scalar.addi c0_i32_1693 v3771
  let v3773 : BitVec 32 := v3772
  ![v3773.toNat]
def k0_mult250 (v3779 : BitVec 32) : BitVec 32 :=
  let c0_i32_1697 : BitVec 32 := 0#32
  let c32_i32_1696 : BitVec 32 := 32#32
  let v3780 : BitVec 32 := Scalar.muli v3779 c32_i32_1696
  let v3781 : BitVec 32 := Scalar.addi c0_i32_1697 v3780
  v3781

def k0_off486 (v3779 : BitVec 32) : Fin 1 → Nat :=
  let c0_i32_1697 : BitVec 32 := 0#32
  let c32_i32_1696 : BitVec 32 := 32#32
  let v3780 : BitVec 32 := Scalar.muli v3779 c32_i32_1696
  let v3781 : BitVec 32 := Scalar.addi c0_i32_1697 v3780
  let v3782 : BitVec 32 := v3781
  ![v3782.toNat]
def k0_mult251 (v3788 : BitVec 32) : BitVec 32 :=
  let c0_i32_1701 : BitVec 32 := 0#32
  let c32_i32_1700 : BitVec 32 := 32#32
  let v3789 : BitVec 32 := Scalar.muli v3788 c32_i32_1700
  let v3790 : BitVec 32 := Scalar.addi c0_i32_1701 v3789
  v3790

def k0_off487 (v3788 : BitVec 32) : Fin 1 → Nat :=
  let c0_i32_1701 : BitVec 32 := 0#32
  let c32_i32_1700 : BitVec 32 := 32#32
  let v3789 : BitVec 32 := Scalar.muli v3788 c32_i32_1700
  let v3790 : BitVec 32 := Scalar.addi c0_i32_1701 v3789
  let v3791 : BitVec 32 := v3790
  ![v3791.toNat]
def k0_mult252 (v3797 : BitVec 32) : BitVec 32 :=
  let c0_i32_1705 : BitVec 32 := 0#32
  let c32_i32_1704 : BitVec 32 := 32#32
  let v3798 : BitVec 32 := Scalar.muli v3797 c32_i32_1704
  let v3799 : BitVec 32 := Scalar.addi c0_i32_1705 v3798
  v3799

def k0_off488 (v3797 : BitVec 32) : Fin 1 → Nat :=
  let c0_i32_1705 : BitVec 32 := 0#32
  let c32_i32_1704 : BitVec 32 := 32#32
  let v3798 : BitVec 32 := Scalar.muli v3797 c32_i32_1704
  let v3799 : BitVec 32 := Scalar.addi c0_i32_1705 v3798
  let v3800 : BitVec 32 := v3799
  ![v3800.toNat]
def k0_mult253 (v3806 : BitVec 32) : BitVec 32 :=
  let c0_i32_1709 : BitVec 32 := 0#32
  let c32_i32_1708 : BitVec 32 := 32#32
  let v3807 : BitVec 32 := Scalar.muli v3806 c32_i32_1708
  let v3808 : BitVec 32 := Scalar.addi c0_i32_1709 v3807
  v3808

def k0_off489 (v3806 : BitVec 32) : Fin 1 → Nat :=
  let c0_i32_1709 : BitVec 32 := 0#32
  let c32_i32_1708 : BitVec 32 := 32#32
  let v3807 : BitVec 32 := Scalar.muli v3806 c32_i32_1708
  let v3808 : BitVec 32 := Scalar.addi c0_i32_1709 v3807
  let v3809 : BitVec 32 := v3808
  ![v3809.toNat]
def k0_mult254 (v3815 : BitVec 32) : BitVec 32 :=
  let c0_i32_1713 : BitVec 32 := 0#32
  let c32_i32_1712 : BitVec 32 := 32#32
  let v3816 : BitVec 32 := Scalar.muli v3815 c32_i32_1712
  let v3817 : BitVec 32 := Scalar.addi c0_i32_1713 v3816
  v3817

def k0_off490 (v3815 : BitVec 32) : Fin 1 → Nat :=
  let c0_i32_1713 : BitVec 32 := 0#32
  let c32_i32_1712 : BitVec 32 := 32#32
  let v3816 : BitVec 32 := Scalar.muli v3815 c32_i32_1712
  let v3817 : BitVec 32 := Scalar.addi c0_i32_1713 v3816
  let v3818 : BitVec 32 := v3817
  ![v3818.toNat]
def k0_mult255 (v3824 : BitVec 32) : BitVec 32 :=
  let c0_i32_1717 : BitVec 32 := 0#32
  let c32_i32_1716 : BitVec 32 := 32#32
  let v3825 : BitVec 32 := Scalar.muli v3824 c32_i32_1716
  let v3826 : BitVec 32 := Scalar.addi c0_i32_1717 v3825
  v3826

def k0_off491 (v3824 : BitVec 32) : Fin 1 → Nat :=
  let c0_i32_1717 : BitVec 32 := 0#32
  let c32_i32_1716 : BitVec 32 := 32#32
  let v3825 : BitVec 32 := Scalar.muli v3824 c32_i32_1716
  let v3826 : BitVec 32 := Scalar.addi c0_i32_1717 v3825
  let v3827 : BitVec 32 := v3826
  ![v3827.toNat]
def k0_mult256 (v3833 : BitVec 32) : BitVec 32 :=
  let c0_i32_1721 : BitVec 32 := 0#32
  let c32_i32_1720 : BitVec 32 := 32#32
  let v3834 : BitVec 32 := Scalar.muli v3833 c32_i32_1720
  let v3835 : BitVec 32 := Scalar.addi c0_i32_1721 v3834
  v3835

def k0_off492 (v3833 : BitVec 32) : Fin 1 → Nat :=
  let c0_i32_1721 : BitVec 32 := 0#32
  let c32_i32_1720 : BitVec 32 := 32#32
  let v3834 : BitVec 32 := Scalar.muli v3833 c32_i32_1720
  let v3835 : BitVec 32 := Scalar.addi c0_i32_1721 v3834
  let v3836 : BitVec 32 := v3835
  ![v3836.toNat]
def k0_mult257 (v3842 : BitVec 32) : BitVec 32 :=
  let c0_i32_1725 : BitVec 32 := 0#32
  let c32_i32_1724 : BitVec 32 := 32#32
  let v3843 : BitVec 32 := Scalar.muli v3842 c32_i32_1724
  let v3844 : BitVec 32 := Scalar.addi c0_i32_1725 v3843
  v3844

def k0_off493 (v3842 : BitVec 32) : Fin 1 → Nat :=
  let c0_i32_1725 : BitVec 32 := 0#32
  let c32_i32_1724 : BitVec 32 := 32#32
  let v3843 : BitVec 32 := Scalar.muli v3842 c32_i32_1724
  let v3844 : BitVec 32 := Scalar.addi c0_i32_1725 v3843
  let v3845 : BitVec 32 := v3844
  ![v3845.toNat]

def k0_chk280 (v3842 : BitVec 32) : Prop :=
  (8 ∣ (k0_mult257 v3842).toNat) ∧
  (∀ a, (k0_off493 v3842) a + S32.size a ≤ S3407872.size a)
theorem k0_mult257_dvd : ∀ (v3842 : BitVec 32) (k0_hw280 : k0_chk280 v3842), 8 ∣ (k0_mult257 v3842).toNat := fun v3842 k0_hw280 => k0_hw280.1
theorem k0_off493_inb : ∀ (v3842 : BitVec 32) (k0_hw280 : k0_chk280 v3842), ∀ a, (k0_off493 v3842) a + S32.size a ≤ S3407872.size a := fun v3842 k0_hw280 => k0_hw280.2

def k0_off494 (v3707 : BitVec 32) : Fin 1 → Nat :=
  let c0_i32_1665 : BitVec 32 := 0#32
  let c32_i32_1664 : BitVec 32 := 32#32
  let v3708 : BitVec 32 := Scalar.muli v3707 c32_i32_1664
  let v3709 : BitVec 32 := Scalar.addi c0_i32_1665 v3708
  let v3710 : BitVec 32 := v3709
  ![v3710.toNat]

def k0_chk265 (v3707 : BitVec 32) : Prop :=
  (8 ∣ (k0_mult242 v3707).toNat) ∧
  (∀ a, (k0_off478 v3707) a + S32.size a ≤ S3407872.size a) ∧
  (∀ a, (k0_off494 v3707) a + S32.size a ≤ S3407872.size a)
theorem k0_mult242_dvd : ∀ (v3707 : BitVec 32) (k0_hw265 : k0_chk265 v3707), 8 ∣ (k0_mult242 v3707).toNat := fun v3707 k0_hw265 => k0_hw265.1
theorem k0_off478_inb : ∀ (v3707 : BitVec 32) (k0_hw265 : k0_chk265 v3707), ∀ a, (k0_off478 v3707) a + S32.size a ≤ S3407872.size a := fun v3707 k0_hw265 => k0_hw265.2.1
theorem k0_off494_inb : ∀ (v3707 : BitVec 32) (k0_hw265 : k0_chk265 v3707), ∀ a, (k0_off494 v3707) a + S32.size a ≤ S3407872.size a := fun v3707 k0_hw265 => k0_hw265.2.2

def k0_off495 (v3716 : BitVec 32) : Fin 1 → Nat :=
  let c0_i32_1669 : BitVec 32 := 0#32
  let c32_i32_1668 : BitVec 32 := 32#32
  let v3717 : BitVec 32 := Scalar.muli v3716 c32_i32_1668
  let v3718 : BitVec 32 := Scalar.addi c0_i32_1669 v3717
  let v3719 : BitVec 32 := v3718
  ![v3719.toNat]

def k0_chk266 (v3716 : BitVec 32) : Prop :=
  (8 ∣ (k0_mult243 v3716).toNat) ∧
  (∀ a, (k0_off479 v3716) a + S32.size a ≤ S3407872.size a) ∧
  (∀ a, (k0_off495 v3716) a + S32.size a ≤ S3407872.size a)
theorem k0_mult243_dvd : ∀ (v3716 : BitVec 32) (k0_hw266 : k0_chk266 v3716), 8 ∣ (k0_mult243 v3716).toNat := fun v3716 k0_hw266 => k0_hw266.1
theorem k0_off479_inb : ∀ (v3716 : BitVec 32) (k0_hw266 : k0_chk266 v3716), ∀ a, (k0_off479 v3716) a + S32.size a ≤ S3407872.size a := fun v3716 k0_hw266 => k0_hw266.2.1
theorem k0_off495_inb : ∀ (v3716 : BitVec 32) (k0_hw266 : k0_chk266 v3716), ∀ a, (k0_off495 v3716) a + S32.size a ≤ S3407872.size a := fun v3716 k0_hw266 => k0_hw266.2.2

def k0_off496 (v3725 : BitVec 32) : Fin 1 → Nat :=
  let c0_i32_1673 : BitVec 32 := 0#32
  let c32_i32_1672 : BitVec 32 := 32#32
  let v3726 : BitVec 32 := Scalar.muli v3725 c32_i32_1672
  let v3727 : BitVec 32 := Scalar.addi c0_i32_1673 v3726
  let v3728 : BitVec 32 := v3727
  ![v3728.toNat]

def k0_chk267 (v3725 : BitVec 32) : Prop :=
  (8 ∣ (k0_mult244 v3725).toNat) ∧
  (∀ a, (k0_off480 v3725) a + S32.size a ≤ S3407872.size a) ∧
  (∀ a, (k0_off496 v3725) a + S32.size a ≤ S3407872.size a)
theorem k0_mult244_dvd : ∀ (v3725 : BitVec 32) (k0_hw267 : k0_chk267 v3725), 8 ∣ (k0_mult244 v3725).toNat := fun v3725 k0_hw267 => k0_hw267.1
theorem k0_off480_inb : ∀ (v3725 : BitVec 32) (k0_hw267 : k0_chk267 v3725), ∀ a, (k0_off480 v3725) a + S32.size a ≤ S3407872.size a := fun v3725 k0_hw267 => k0_hw267.2.1
theorem k0_off496_inb : ∀ (v3725 : BitVec 32) (k0_hw267 : k0_chk267 v3725), ∀ a, (k0_off496 v3725) a + S32.size a ≤ S3407872.size a := fun v3725 k0_hw267 => k0_hw267.2.2

def k0_off497 (v3734 : BitVec 32) : Fin 1 → Nat :=
  let c0_i32_1677 : BitVec 32 := 0#32
  let c32_i32_1676 : BitVec 32 := 32#32
  let v3735 : BitVec 32 := Scalar.muli v3734 c32_i32_1676
  let v3736 : BitVec 32 := Scalar.addi c0_i32_1677 v3735
  let v3737 : BitVec 32 := v3736
  ![v3737.toNat]

def k0_chk268 (v3734 : BitVec 32) : Prop :=
  (8 ∣ (k0_mult245 v3734).toNat) ∧
  (∀ a, (k0_off481 v3734) a + S32.size a ≤ S3407872.size a) ∧
  (∀ a, (k0_off497 v3734) a + S32.size a ≤ S3407872.size a)
theorem k0_mult245_dvd : ∀ (v3734 : BitVec 32) (k0_hw268 : k0_chk268 v3734), 8 ∣ (k0_mult245 v3734).toNat := fun v3734 k0_hw268 => k0_hw268.1
theorem k0_off481_inb : ∀ (v3734 : BitVec 32) (k0_hw268 : k0_chk268 v3734), ∀ a, (k0_off481 v3734) a + S32.size a ≤ S3407872.size a := fun v3734 k0_hw268 => k0_hw268.2.1
theorem k0_off497_inb : ∀ (v3734 : BitVec 32) (k0_hw268 : k0_chk268 v3734), ∀ a, (k0_off497 v3734) a + S32.size a ≤ S3407872.size a := fun v3734 k0_hw268 => k0_hw268.2.2

def k0_off498 (v3743 : BitVec 32) : Fin 1 → Nat :=
  let c0_i32_1681 : BitVec 32 := 0#32
  let c32_i32_1680 : BitVec 32 := 32#32
  let v3744 : BitVec 32 := Scalar.muli v3743 c32_i32_1680
  let v3745 : BitVec 32 := Scalar.addi c0_i32_1681 v3744
  let v3746 : BitVec 32 := v3745
  ![v3746.toNat]

def k0_chk269 (v3743 : BitVec 32) : Prop :=
  (8 ∣ (k0_mult246 v3743).toNat) ∧
  (∀ a, (k0_off482 v3743) a + S32.size a ≤ S3407872.size a) ∧
  (∀ a, (k0_off498 v3743) a + S32.size a ≤ S3407872.size a)
theorem k0_mult246_dvd : ∀ (v3743 : BitVec 32) (k0_hw269 : k0_chk269 v3743), 8 ∣ (k0_mult246 v3743).toNat := fun v3743 k0_hw269 => k0_hw269.1
theorem k0_off482_inb : ∀ (v3743 : BitVec 32) (k0_hw269 : k0_chk269 v3743), ∀ a, (k0_off482 v3743) a + S32.size a ≤ S3407872.size a := fun v3743 k0_hw269 => k0_hw269.2.1
theorem k0_off498_inb : ∀ (v3743 : BitVec 32) (k0_hw269 : k0_chk269 v3743), ∀ a, (k0_off498 v3743) a + S32.size a ≤ S3407872.size a := fun v3743 k0_hw269 => k0_hw269.2.2

def k0_off499 (v3752 : BitVec 32) : Fin 1 → Nat :=
  let c0_i32_1685 : BitVec 32 := 0#32
  let c32_i32_1684 : BitVec 32 := 32#32
  let v3753 : BitVec 32 := Scalar.muli v3752 c32_i32_1684
  let v3754 : BitVec 32 := Scalar.addi c0_i32_1685 v3753
  let v3755 : BitVec 32 := v3754
  ![v3755.toNat]

def k0_chk270 (v3752 : BitVec 32) : Prop :=
  (8 ∣ (k0_mult247 v3752).toNat) ∧
  (∀ a, (k0_off483 v3752) a + S32.size a ≤ S3407872.size a) ∧
  (∀ a, (k0_off499 v3752) a + S32.size a ≤ S3407872.size a)
theorem k0_mult247_dvd : ∀ (v3752 : BitVec 32) (k0_hw270 : k0_chk270 v3752), 8 ∣ (k0_mult247 v3752).toNat := fun v3752 k0_hw270 => k0_hw270.1
theorem k0_off483_inb : ∀ (v3752 : BitVec 32) (k0_hw270 : k0_chk270 v3752), ∀ a, (k0_off483 v3752) a + S32.size a ≤ S3407872.size a := fun v3752 k0_hw270 => k0_hw270.2.1
theorem k0_off499_inb : ∀ (v3752 : BitVec 32) (k0_hw270 : k0_chk270 v3752), ∀ a, (k0_off499 v3752) a + S32.size a ≤ S3407872.size a := fun v3752 k0_hw270 => k0_hw270.2.2

def k0_off500 (v3761 : BitVec 32) : Fin 1 → Nat :=
  let c0_i32_1689 : BitVec 32 := 0#32
  let c32_i32_1688 : BitVec 32 := 32#32
  let v3762 : BitVec 32 := Scalar.muli v3761 c32_i32_1688
  let v3763 : BitVec 32 := Scalar.addi c0_i32_1689 v3762
  let v3764 : BitVec 32 := v3763
  ![v3764.toNat]

def k0_chk271 (v3761 : BitVec 32) : Prop :=
  (8 ∣ (k0_mult248 v3761).toNat) ∧
  (∀ a, (k0_off484 v3761) a + S32.size a ≤ S3407872.size a) ∧
  (∀ a, (k0_off500 v3761) a + S32.size a ≤ S3407872.size a)
theorem k0_mult248_dvd : ∀ (v3761 : BitVec 32) (k0_hw271 : k0_chk271 v3761), 8 ∣ (k0_mult248 v3761).toNat := fun v3761 k0_hw271 => k0_hw271.1
theorem k0_off484_inb : ∀ (v3761 : BitVec 32) (k0_hw271 : k0_chk271 v3761), ∀ a, (k0_off484 v3761) a + S32.size a ≤ S3407872.size a := fun v3761 k0_hw271 => k0_hw271.2.1
theorem k0_off500_inb : ∀ (v3761 : BitVec 32) (k0_hw271 : k0_chk271 v3761), ∀ a, (k0_off500 v3761) a + S32.size a ≤ S3407872.size a := fun v3761 k0_hw271 => k0_hw271.2.2

def k0_off501 (v3770 : BitVec 32) : Fin 1 → Nat :=
  let c0_i32_1693 : BitVec 32 := 0#32
  let c32_i32_1692 : BitVec 32 := 32#32
  let v3771 : BitVec 32 := Scalar.muli v3770 c32_i32_1692
  let v3772 : BitVec 32 := Scalar.addi c0_i32_1693 v3771
  let v3773 : BitVec 32 := v3772
  ![v3773.toNat]

def k0_chk272 (v3770 : BitVec 32) : Prop :=
  (8 ∣ (k0_mult249 v3770).toNat) ∧
  (∀ a, (k0_off485 v3770) a + S32.size a ≤ S3407872.size a) ∧
  (∀ a, (k0_off501 v3770) a + S32.size a ≤ S3407872.size a)
theorem k0_mult249_dvd : ∀ (v3770 : BitVec 32) (k0_hw272 : k0_chk272 v3770), 8 ∣ (k0_mult249 v3770).toNat := fun v3770 k0_hw272 => k0_hw272.1
theorem k0_off485_inb : ∀ (v3770 : BitVec 32) (k0_hw272 : k0_chk272 v3770), ∀ a, (k0_off485 v3770) a + S32.size a ≤ S3407872.size a := fun v3770 k0_hw272 => k0_hw272.2.1
theorem k0_off501_inb : ∀ (v3770 : BitVec 32) (k0_hw272 : k0_chk272 v3770), ∀ a, (k0_off501 v3770) a + S32.size a ≤ S3407872.size a := fun v3770 k0_hw272 => k0_hw272.2.2

def k0_off502 (v3779 : BitVec 32) : Fin 1 → Nat :=
  let c0_i32_1697 : BitVec 32 := 0#32
  let c32_i32_1696 : BitVec 32 := 32#32
  let v3780 : BitVec 32 := Scalar.muli v3779 c32_i32_1696
  let v3781 : BitVec 32 := Scalar.addi c0_i32_1697 v3780
  let v3782 : BitVec 32 := v3781
  ![v3782.toNat]

def k0_chk273 (v3779 : BitVec 32) : Prop :=
  (8 ∣ (k0_mult250 v3779).toNat) ∧
  (∀ a, (k0_off486 v3779) a + S32.size a ≤ S3407872.size a) ∧
  (∀ a, (k0_off502 v3779) a + S32.size a ≤ S3407872.size a)
theorem k0_mult250_dvd : ∀ (v3779 : BitVec 32) (k0_hw273 : k0_chk273 v3779), 8 ∣ (k0_mult250 v3779).toNat := fun v3779 k0_hw273 => k0_hw273.1
theorem k0_off486_inb : ∀ (v3779 : BitVec 32) (k0_hw273 : k0_chk273 v3779), ∀ a, (k0_off486 v3779) a + S32.size a ≤ S3407872.size a := fun v3779 k0_hw273 => k0_hw273.2.1
theorem k0_off502_inb : ∀ (v3779 : BitVec 32) (k0_hw273 : k0_chk273 v3779), ∀ a, (k0_off502 v3779) a + S32.size a ≤ S3407872.size a := fun v3779 k0_hw273 => k0_hw273.2.2

def k0_off503 (v3788 : BitVec 32) : Fin 1 → Nat :=
  let c0_i32_1701 : BitVec 32 := 0#32
  let c32_i32_1700 : BitVec 32 := 32#32
  let v3789 : BitVec 32 := Scalar.muli v3788 c32_i32_1700
  let v3790 : BitVec 32 := Scalar.addi c0_i32_1701 v3789
  let v3791 : BitVec 32 := v3790
  ![v3791.toNat]

def k0_chk274 (v3788 : BitVec 32) : Prop :=
  (8 ∣ (k0_mult251 v3788).toNat) ∧
  (∀ a, (k0_off487 v3788) a + S32.size a ≤ S3407872.size a) ∧
  (∀ a, (k0_off503 v3788) a + S32.size a ≤ S3407872.size a)
theorem k0_mult251_dvd : ∀ (v3788 : BitVec 32) (k0_hw274 : k0_chk274 v3788), 8 ∣ (k0_mult251 v3788).toNat := fun v3788 k0_hw274 => k0_hw274.1
theorem k0_off487_inb : ∀ (v3788 : BitVec 32) (k0_hw274 : k0_chk274 v3788), ∀ a, (k0_off487 v3788) a + S32.size a ≤ S3407872.size a := fun v3788 k0_hw274 => k0_hw274.2.1
theorem k0_off503_inb : ∀ (v3788 : BitVec 32) (k0_hw274 : k0_chk274 v3788), ∀ a, (k0_off503 v3788) a + S32.size a ≤ S3407872.size a := fun v3788 k0_hw274 => k0_hw274.2.2

def k0_off504 (v3797 : BitVec 32) : Fin 1 → Nat :=
  let c0_i32_1705 : BitVec 32 := 0#32
  let c32_i32_1704 : BitVec 32 := 32#32
  let v3798 : BitVec 32 := Scalar.muli v3797 c32_i32_1704
  let v3799 : BitVec 32 := Scalar.addi c0_i32_1705 v3798
  let v3800 : BitVec 32 := v3799
  ![v3800.toNat]

def k0_chk275 (v3797 : BitVec 32) : Prop :=
  (8 ∣ (k0_mult252 v3797).toNat) ∧
  (∀ a, (k0_off488 v3797) a + S32.size a ≤ S3407872.size a) ∧
  (∀ a, (k0_off504 v3797) a + S32.size a ≤ S3407872.size a)
theorem k0_mult252_dvd : ∀ (v3797 : BitVec 32) (k0_hw275 : k0_chk275 v3797), 8 ∣ (k0_mult252 v3797).toNat := fun v3797 k0_hw275 => k0_hw275.1
theorem k0_off488_inb : ∀ (v3797 : BitVec 32) (k0_hw275 : k0_chk275 v3797), ∀ a, (k0_off488 v3797) a + S32.size a ≤ S3407872.size a := fun v3797 k0_hw275 => k0_hw275.2.1
theorem k0_off504_inb : ∀ (v3797 : BitVec 32) (k0_hw275 : k0_chk275 v3797), ∀ a, (k0_off504 v3797) a + S32.size a ≤ S3407872.size a := fun v3797 k0_hw275 => k0_hw275.2.2

def k0_off505 (v3806 : BitVec 32) : Fin 1 → Nat :=
  let c0_i32_1709 : BitVec 32 := 0#32
  let c32_i32_1708 : BitVec 32 := 32#32
  let v3807 : BitVec 32 := Scalar.muli v3806 c32_i32_1708
  let v3808 : BitVec 32 := Scalar.addi c0_i32_1709 v3807
  let v3809 : BitVec 32 := v3808
  ![v3809.toNat]

def k0_chk276 (v3806 : BitVec 32) : Prop :=
  (8 ∣ (k0_mult253 v3806).toNat) ∧
  (∀ a, (k0_off489 v3806) a + S32.size a ≤ S3407872.size a) ∧
  (∀ a, (k0_off505 v3806) a + S32.size a ≤ S3407872.size a)
theorem k0_mult253_dvd : ∀ (v3806 : BitVec 32) (k0_hw276 : k0_chk276 v3806), 8 ∣ (k0_mult253 v3806).toNat := fun v3806 k0_hw276 => k0_hw276.1
theorem k0_off489_inb : ∀ (v3806 : BitVec 32) (k0_hw276 : k0_chk276 v3806), ∀ a, (k0_off489 v3806) a + S32.size a ≤ S3407872.size a := fun v3806 k0_hw276 => k0_hw276.2.1
theorem k0_off505_inb : ∀ (v3806 : BitVec 32) (k0_hw276 : k0_chk276 v3806), ∀ a, (k0_off505 v3806) a + S32.size a ≤ S3407872.size a := fun v3806 k0_hw276 => k0_hw276.2.2

def k0_off506 (v3815 : BitVec 32) : Fin 1 → Nat :=
  let c0_i32_1713 : BitVec 32 := 0#32
  let c32_i32_1712 : BitVec 32 := 32#32
  let v3816 : BitVec 32 := Scalar.muli v3815 c32_i32_1712
  let v3817 : BitVec 32 := Scalar.addi c0_i32_1713 v3816
  let v3818 : BitVec 32 := v3817
  ![v3818.toNat]

def k0_chk277 (v3815 : BitVec 32) : Prop :=
  (8 ∣ (k0_mult254 v3815).toNat) ∧
  (∀ a, (k0_off490 v3815) a + S32.size a ≤ S3407872.size a) ∧
  (∀ a, (k0_off506 v3815) a + S32.size a ≤ S3407872.size a)
theorem k0_mult254_dvd : ∀ (v3815 : BitVec 32) (k0_hw277 : k0_chk277 v3815), 8 ∣ (k0_mult254 v3815).toNat := fun v3815 k0_hw277 => k0_hw277.1
theorem k0_off490_inb : ∀ (v3815 : BitVec 32) (k0_hw277 : k0_chk277 v3815), ∀ a, (k0_off490 v3815) a + S32.size a ≤ S3407872.size a := fun v3815 k0_hw277 => k0_hw277.2.1
theorem k0_off506_inb : ∀ (v3815 : BitVec 32) (k0_hw277 : k0_chk277 v3815), ∀ a, (k0_off506 v3815) a + S32.size a ≤ S3407872.size a := fun v3815 k0_hw277 => k0_hw277.2.2

def k0_off507 (v3824 : BitVec 32) : Fin 1 → Nat :=
  let c0_i32_1717 : BitVec 32 := 0#32
  let c32_i32_1716 : BitVec 32 := 32#32
  let v3825 : BitVec 32 := Scalar.muli v3824 c32_i32_1716
  let v3826 : BitVec 32 := Scalar.addi c0_i32_1717 v3825
  let v3827 : BitVec 32 := v3826
  ![v3827.toNat]

def k0_chk278 (v3824 : BitVec 32) : Prop :=
  (8 ∣ (k0_mult255 v3824).toNat) ∧
  (∀ a, (k0_off491 v3824) a + S32.size a ≤ S3407872.size a) ∧
  (∀ a, (k0_off507 v3824) a + S32.size a ≤ S3407872.size a)
theorem k0_mult255_dvd : ∀ (v3824 : BitVec 32) (k0_hw278 : k0_chk278 v3824), 8 ∣ (k0_mult255 v3824).toNat := fun v3824 k0_hw278 => k0_hw278.1
theorem k0_off491_inb : ∀ (v3824 : BitVec 32) (k0_hw278 : k0_chk278 v3824), ∀ a, (k0_off491 v3824) a + S32.size a ≤ S3407872.size a := fun v3824 k0_hw278 => k0_hw278.2.1
theorem k0_off507_inb : ∀ (v3824 : BitVec 32) (k0_hw278 : k0_chk278 v3824), ∀ a, (k0_off507 v3824) a + S32.size a ≤ S3407872.size a := fun v3824 k0_hw278 => k0_hw278.2.2

def k0_off508 (v3833 : BitVec 32) : Fin 1 → Nat :=
  let c0_i32_1721 : BitVec 32 := 0#32
  let c32_i32_1720 : BitVec 32 := 32#32
  let v3834 : BitVec 32 := Scalar.muli v3833 c32_i32_1720
  let v3835 : BitVec 32 := Scalar.addi c0_i32_1721 v3834
  let v3836 : BitVec 32 := v3835
  ![v3836.toNat]

def k0_chk279 (v3833 : BitVec 32) : Prop :=
  (8 ∣ (k0_mult256 v3833).toNat) ∧
  (∀ a, (k0_off492 v3833) a + S32.size a ≤ S3407872.size a) ∧
  (∀ a, (k0_off508 v3833) a + S32.size a ≤ S3407872.size a)
theorem k0_mult256_dvd : ∀ (v3833 : BitVec 32) (k0_hw279 : k0_chk279 v3833), 8 ∣ (k0_mult256 v3833).toNat := fun v3833 k0_hw279 => k0_hw279.1
theorem k0_off492_inb : ∀ (v3833 : BitVec 32) (k0_hw279 : k0_chk279 v3833), ∀ a, (k0_off492 v3833) a + S32.size a ≤ S3407872.size a := fun v3833 k0_hw279 => k0_hw279.2.1
theorem k0_off508_inb : ∀ (v3833 : BitVec 32) (k0_hw279 : k0_chk279 v3833), ∀ a, (k0_off508 v3833) a + S32.size a ≤ S3407872.size a := fun v3833 k0_hw279 => k0_hw279.2.2

def k0_mult258 (v3917 : BitVec 32) : BitVec 32 :=
  let c999936_i32_1762 : BitVec 32 := 999936#32
  let v3918 : BitVec 32 := Scalar.subi v3917 c999936_i32_1762
  let c32_i32_1763 : BitVec 32 := 32#32
  let v3919 : BitVec 32 := Scalar.muli v3918 c32_i32_1763
  v3919

def k0_off509 (v3917 : BitVec 32) : Fin 1 → Nat :=
  let c999936_i32_1762 : BitVec 32 := 999936#32
  let v3918 : BitVec 32 := Scalar.subi v3917 c999936_i32_1762
  let c32_i32_1763 : BitVec 32 := 32#32
  let v3919 : BitVec 32 := Scalar.muli v3918 c32_i32_1763
  let v3920 : BitVec 32 := v3919
  ![v3920.toNat]
def k0_mult259 (v3926 : BitVec 32) : BitVec 32 :=
  let c999936_i32_1766 : BitVec 32 := 999936#32
  let v3927 : BitVec 32 := Scalar.subi v3926 c999936_i32_1766
  let c32_i32_1767 : BitVec 32 := 32#32
  let v3928 : BitVec 32 := Scalar.muli v3927 c32_i32_1767
  v3928

def k0_off510 (v3926 : BitVec 32) : Fin 1 → Nat :=
  let c999936_i32_1766 : BitVec 32 := 999936#32
  let v3927 : BitVec 32 := Scalar.subi v3926 c999936_i32_1766
  let c32_i32_1767 : BitVec 32 := 32#32
  let v3928 : BitVec 32 := Scalar.muli v3927 c32_i32_1767
  let v3929 : BitVec 32 := v3928
  ![v3929.toNat]
def k0_mult260 (v3935 : BitVec 32) : BitVec 32 :=
  let c999936_i32_1769 : BitVec 32 := 999936#32
  let v3936 : BitVec 32 := Scalar.subi v3935 c999936_i32_1769
  let c32_i32_1770 : BitVec 32 := 32#32
  let v3937 : BitVec 32 := Scalar.muli v3936 c32_i32_1770
  v3937

def k0_off511 (v3935 : BitVec 32) : Fin 1 → Nat :=
  let c999936_i32_1769 : BitVec 32 := 999936#32
  let v3936 : BitVec 32 := Scalar.subi v3935 c999936_i32_1769
  let c32_i32_1770 : BitVec 32 := 32#32
  let v3937 : BitVec 32 := Scalar.muli v3936 c32_i32_1770
  let v3938 : BitVec 32 := v3937
  ![v3938.toNat]
def k0_mult261 (v3944 : BitVec 32) : BitVec 32 :=
  let c999936_i32_1772 : BitVec 32 := 999936#32
  let v3945 : BitVec 32 := Scalar.subi v3944 c999936_i32_1772
  let c32_i32_1773 : BitVec 32 := 32#32
  let v3946 : BitVec 32 := Scalar.muli v3945 c32_i32_1773
  v3946

def k0_off512 (v3944 : BitVec 32) : Fin 1 → Nat :=
  let c999936_i32_1772 : BitVec 32 := 999936#32
  let v3945 : BitVec 32 := Scalar.subi v3944 c999936_i32_1772
  let c32_i32_1773 : BitVec 32 := 32#32
  let v3946 : BitVec 32 := Scalar.muli v3945 c32_i32_1773
  let v3947 : BitVec 32 := v3946
  ![v3947.toNat]
def k0_mult262 (v3953 : BitVec 32) : BitVec 32 :=
  let c999936_i32_1775 : BitVec 32 := 999936#32
  let v3954 : BitVec 32 := Scalar.subi v3953 c999936_i32_1775
  let c32_i32_1776 : BitVec 32 := 32#32
  let v3955 : BitVec 32 := Scalar.muli v3954 c32_i32_1776
  v3955

def k0_off513 (v3953 : BitVec 32) : Fin 1 → Nat :=
  let c999936_i32_1775 : BitVec 32 := 999936#32
  let v3954 : BitVec 32 := Scalar.subi v3953 c999936_i32_1775
  let c32_i32_1776 : BitVec 32 := 32#32
  let v3955 : BitVec 32 := Scalar.muli v3954 c32_i32_1776
  let v3956 : BitVec 32 := v3955
  ![v3956.toNat]
def k0_mult263 (v3962 : BitVec 32) : BitVec 32 :=
  let c999936_i32_1778 : BitVec 32 := 999936#32
  let v3963 : BitVec 32 := Scalar.subi v3962 c999936_i32_1778
  let c32_i32_1779 : BitVec 32 := 32#32
  let v3964 : BitVec 32 := Scalar.muli v3963 c32_i32_1779
  v3964

def k0_off514 (v3962 : BitVec 32) : Fin 1 → Nat :=
  let c999936_i32_1778 : BitVec 32 := 999936#32
  let v3963 : BitVec 32 := Scalar.subi v3962 c999936_i32_1778
  let c32_i32_1779 : BitVec 32 := 32#32
  let v3964 : BitVec 32 := Scalar.muli v3963 c32_i32_1779
  let v3965 : BitVec 32 := v3964
  ![v3965.toNat]
def k0_mult264 (v3971 : BitVec 32) : BitVec 32 :=
  let c999936_i32_1781 : BitVec 32 := 999936#32
  let v3972 : BitVec 32 := Scalar.subi v3971 c999936_i32_1781
  let c32_i32_1782 : BitVec 32 := 32#32
  let v3973 : BitVec 32 := Scalar.muli v3972 c32_i32_1782
  v3973

def k0_off515 (v3971 : BitVec 32) : Fin 1 → Nat :=
  let c999936_i32_1781 : BitVec 32 := 999936#32
  let v3972 : BitVec 32 := Scalar.subi v3971 c999936_i32_1781
  let c32_i32_1782 : BitVec 32 := 32#32
  let v3973 : BitVec 32 := Scalar.muli v3972 c32_i32_1782
  let v3974 : BitVec 32 := v3973
  ![v3974.toNat]
def k0_mult265 (v3980 : BitVec 32) : BitVec 32 :=
  let c999936_i32_1784 : BitVec 32 := 999936#32
  let v3981 : BitVec 32 := Scalar.subi v3980 c999936_i32_1784
  let c32_i32_1785 : BitVec 32 := 32#32
  let v3982 : BitVec 32 := Scalar.muli v3981 c32_i32_1785
  v3982

def k0_off516 (v3980 : BitVec 32) : Fin 1 → Nat :=
  let c999936_i32_1784 : BitVec 32 := 999936#32
  let v3981 : BitVec 32 := Scalar.subi v3980 c999936_i32_1784
  let c32_i32_1785 : BitVec 32 := 32#32
  let v3982 : BitVec 32 := Scalar.muli v3981 c32_i32_1785
  let v3983 : BitVec 32 := v3982
  ![v3983.toNat]
def k0_mult266 (v3989 : BitVec 32) : BitVec 32 :=
  let c999936_i32_1787 : BitVec 32 := 999936#32
  let v3990 : BitVec 32 := Scalar.subi v3989 c999936_i32_1787
  let c32_i32_1788 : BitVec 32 := 32#32
  let v3991 : BitVec 32 := Scalar.muli v3990 c32_i32_1788
  v3991

def k0_off517 (v3989 : BitVec 32) : Fin 1 → Nat :=
  let c999936_i32_1787 : BitVec 32 := 999936#32
  let v3990 : BitVec 32 := Scalar.subi v3989 c999936_i32_1787
  let c32_i32_1788 : BitVec 32 := 32#32
  let v3991 : BitVec 32 := Scalar.muli v3990 c32_i32_1788
  let v3992 : BitVec 32 := v3991
  ![v3992.toNat]
def k0_mult267 (v3998 : BitVec 32) : BitVec 32 :=
  let c999936_i32_1790 : BitVec 32 := 999936#32
  let v3999 : BitVec 32 := Scalar.subi v3998 c999936_i32_1790
  let c32_i32_1791 : BitVec 32 := 32#32
  let v4000 : BitVec 32 := Scalar.muli v3999 c32_i32_1791
  v4000

def k0_off518 (v3998 : BitVec 32) : Fin 1 → Nat :=
  let c999936_i32_1790 : BitVec 32 := 999936#32
  let v3999 : BitVec 32 := Scalar.subi v3998 c999936_i32_1790
  let c32_i32_1791 : BitVec 32 := 32#32
  let v4000 : BitVec 32 := Scalar.muli v3999 c32_i32_1791
  let v4001 : BitVec 32 := v4000
  ![v4001.toNat]
def k0_mult268 (v4007 : BitVec 32) : BitVec 32 :=
  let c999936_i32_1793 : BitVec 32 := 999936#32
  let v4008 : BitVec 32 := Scalar.subi v4007 c999936_i32_1793
  let c32_i32_1794 : BitVec 32 := 32#32
  let v4009 : BitVec 32 := Scalar.muli v4008 c32_i32_1794
  v4009

def k0_off519 (v4007 : BitVec 32) : Fin 1 → Nat :=
  let c999936_i32_1793 : BitVec 32 := 999936#32
  let v4008 : BitVec 32 := Scalar.subi v4007 c999936_i32_1793
  let c32_i32_1794 : BitVec 32 := 32#32
  let v4009 : BitVec 32 := Scalar.muli v4008 c32_i32_1794
  let v4010 : BitVec 32 := v4009
  ![v4010.toNat]
def k0_mult269 (v4016 : BitVec 32) : BitVec 32 :=
  let c999936_i32_1796 : BitVec 32 := 999936#32
  let v4017 : BitVec 32 := Scalar.subi v4016 c999936_i32_1796
  let c32_i32_1797 : BitVec 32 := 32#32
  let v4018 : BitVec 32 := Scalar.muli v4017 c32_i32_1797
  v4018

def k0_off520 (v4016 : BitVec 32) : Fin 1 → Nat :=
  let c999936_i32_1796 : BitVec 32 := 999936#32
  let v4017 : BitVec 32 := Scalar.subi v4016 c999936_i32_1796
  let c32_i32_1797 : BitVec 32 := 32#32
  let v4018 : BitVec 32 := Scalar.muli v4017 c32_i32_1797
  let v4019 : BitVec 32 := v4018
  ![v4019.toNat]
def k0_mult270 (v4025 : BitVec 32) : BitVec 32 :=
  let c999936_i32_1799 : BitVec 32 := 999936#32
  let v4026 : BitVec 32 := Scalar.subi v4025 c999936_i32_1799
  let c32_i32_1800 : BitVec 32 := 32#32
  let v4027 : BitVec 32 := Scalar.muli v4026 c32_i32_1800
  v4027

def k0_off521 (v4025 : BitVec 32) : Fin 1 → Nat :=
  let c999936_i32_1799 : BitVec 32 := 999936#32
  let v4026 : BitVec 32 := Scalar.subi v4025 c999936_i32_1799
  let c32_i32_1800 : BitVec 32 := 32#32
  let v4027 : BitVec 32 := Scalar.muli v4026 c32_i32_1800
  let v4028 : BitVec 32 := v4027
  ![v4028.toNat]
def k0_mult271 (v4034 : BitVec 32) : BitVec 32 :=
  let c999936_i32_1802 : BitVec 32 := 999936#32
  let v4035 : BitVec 32 := Scalar.subi v4034 c999936_i32_1802
  let c32_i32_1803 : BitVec 32 := 32#32
  let v4036 : BitVec 32 := Scalar.muli v4035 c32_i32_1803
  v4036

def k0_off522 (v4034 : BitVec 32) : Fin 1 → Nat :=
  let c999936_i32_1802 : BitVec 32 := 999936#32
  let v4035 : BitVec 32 := Scalar.subi v4034 c999936_i32_1802
  let c32_i32_1803 : BitVec 32 := 32#32
  let v4036 : BitVec 32 := Scalar.muli v4035 c32_i32_1803
  let v4037 : BitVec 32 := v4036
  ![v4037.toNat]
def k0_mult272 (v4043 : BitVec 32) : BitVec 32 :=
  let c999936_i32_1805 : BitVec 32 := 999936#32
  let v4044 : BitVec 32 := Scalar.subi v4043 c999936_i32_1805
  let c32_i32_1806 : BitVec 32 := 32#32
  let v4045 : BitVec 32 := Scalar.muli v4044 c32_i32_1806
  v4045

def k0_off523 (v4043 : BitVec 32) : Fin 1 → Nat :=
  let c999936_i32_1805 : BitVec 32 := 999936#32
  let v4044 : BitVec 32 := Scalar.subi v4043 c999936_i32_1805
  let c32_i32_1806 : BitVec 32 := 32#32
  let v4045 : BitVec 32 := Scalar.muli v4044 c32_i32_1806
  let v4046 : BitVec 32 := v4045
  ![v4046.toNat]
def k0_mult273 (v4052 : BitVec 32) : BitVec 32 :=
  let c999936_i32_1808 : BitVec 32 := 999936#32
  let v4053 : BitVec 32 := Scalar.subi v4052 c999936_i32_1808
  let c32_i32_1809 : BitVec 32 := 32#32
  let v4054 : BitVec 32 := Scalar.muli v4053 c32_i32_1809
  v4054

def k0_off524 (v4052 : BitVec 32) : Fin 1 → Nat :=
  let c999936_i32_1808 : BitVec 32 := 999936#32
  let v4053 : BitVec 32 := Scalar.subi v4052 c999936_i32_1808
  let c32_i32_1809 : BitVec 32 := 32#32
  let v4054 : BitVec 32 := Scalar.muli v4053 c32_i32_1809
  let v4055 : BitVec 32 := v4054
  ![v4055.toNat]

def k0_chk296 (v4052 : BitVec 32) : Prop :=
  (8 ∣ (k0_mult273 v4052).toNat) ∧
  (∀ a, (k0_off524 v4052) a + S32.size a ≤ S2048.size a)
theorem k0_mult273_dvd : ∀ (v4052 : BitVec 32) (k0_hw296 : k0_chk296 v4052), 8 ∣ (k0_mult273 v4052).toNat := fun v4052 k0_hw296 => k0_hw296.1
theorem k0_off524_inb : ∀ (v4052 : BitVec 32) (k0_hw296 : k0_chk296 v4052), ∀ a, (k0_off524 v4052) a + S32.size a ≤ S2048.size a := fun v4052 k0_hw296 => k0_hw296.2

def k0_off525 (v3917 : BitVec 32) : Fin 1 → Nat :=
  let c999936_i32_1762 : BitVec 32 := 999936#32
  let v3918 : BitVec 32 := Scalar.subi v3917 c999936_i32_1762
  let c32_i32_1763 : BitVec 32 := 32#32
  let v3919 : BitVec 32 := Scalar.muli v3918 c32_i32_1763
  let v3920 : BitVec 32 := v3919
  ![v3920.toNat]

def k0_chk281 (v3917 : BitVec 32) : Prop :=
  (8 ∣ (k0_mult258 v3917).toNat) ∧
  (∀ a, (k0_off509 v3917) a + S32.size a ≤ S2048.size a) ∧
  (∀ a, (k0_off525 v3917) a + S32.size a ≤ S2048.size a)
theorem k0_mult258_dvd : ∀ (v3917 : BitVec 32) (k0_hw281 : k0_chk281 v3917), 8 ∣ (k0_mult258 v3917).toNat := fun v3917 k0_hw281 => k0_hw281.1
theorem k0_off509_inb : ∀ (v3917 : BitVec 32) (k0_hw281 : k0_chk281 v3917), ∀ a, (k0_off509 v3917) a + S32.size a ≤ S2048.size a := fun v3917 k0_hw281 => k0_hw281.2.1
theorem k0_off525_inb : ∀ (v3917 : BitVec 32) (k0_hw281 : k0_chk281 v3917), ∀ a, (k0_off525 v3917) a + S32.size a ≤ S2048.size a := fun v3917 k0_hw281 => k0_hw281.2.2

def k0_off526 (v3926 : BitVec 32) : Fin 1 → Nat :=
  let c999936_i32_1766 : BitVec 32 := 999936#32
  let v3927 : BitVec 32 := Scalar.subi v3926 c999936_i32_1766
  let c32_i32_1767 : BitVec 32 := 32#32
  let v3928 : BitVec 32 := Scalar.muli v3927 c32_i32_1767
  let v3929 : BitVec 32 := v3928
  ![v3929.toNat]

def k0_chk282 (v3926 : BitVec 32) : Prop :=
  (8 ∣ (k0_mult259 v3926).toNat) ∧
  (∀ a, (k0_off510 v3926) a + S32.size a ≤ S2048.size a) ∧
  (∀ a, (k0_off526 v3926) a + S32.size a ≤ S2048.size a)
theorem k0_mult259_dvd : ∀ (v3926 : BitVec 32) (k0_hw282 : k0_chk282 v3926), 8 ∣ (k0_mult259 v3926).toNat := fun v3926 k0_hw282 => k0_hw282.1
theorem k0_off510_inb : ∀ (v3926 : BitVec 32) (k0_hw282 : k0_chk282 v3926), ∀ a, (k0_off510 v3926) a + S32.size a ≤ S2048.size a := fun v3926 k0_hw282 => k0_hw282.2.1
theorem k0_off526_inb : ∀ (v3926 : BitVec 32) (k0_hw282 : k0_chk282 v3926), ∀ a, (k0_off526 v3926) a + S32.size a ≤ S2048.size a := fun v3926 k0_hw282 => k0_hw282.2.2

def k0_off527 (v3935 : BitVec 32) : Fin 1 → Nat :=
  let c999936_i32_1769 : BitVec 32 := 999936#32
  let v3936 : BitVec 32 := Scalar.subi v3935 c999936_i32_1769
  let c32_i32_1770 : BitVec 32 := 32#32
  let v3937 : BitVec 32 := Scalar.muli v3936 c32_i32_1770
  let v3938 : BitVec 32 := v3937
  ![v3938.toNat]

def k0_chk283 (v3935 : BitVec 32) : Prop :=
  (8 ∣ (k0_mult260 v3935).toNat) ∧
  (∀ a, (k0_off511 v3935) a + S32.size a ≤ S2048.size a) ∧
  (∀ a, (k0_off527 v3935) a + S32.size a ≤ S2048.size a)
theorem k0_mult260_dvd : ∀ (v3935 : BitVec 32) (k0_hw283 : k0_chk283 v3935), 8 ∣ (k0_mult260 v3935).toNat := fun v3935 k0_hw283 => k0_hw283.1
theorem k0_off511_inb : ∀ (v3935 : BitVec 32) (k0_hw283 : k0_chk283 v3935), ∀ a, (k0_off511 v3935) a + S32.size a ≤ S2048.size a := fun v3935 k0_hw283 => k0_hw283.2.1
theorem k0_off527_inb : ∀ (v3935 : BitVec 32) (k0_hw283 : k0_chk283 v3935), ∀ a, (k0_off527 v3935) a + S32.size a ≤ S2048.size a := fun v3935 k0_hw283 => k0_hw283.2.2

def k0_off528 (v3944 : BitVec 32) : Fin 1 → Nat :=
  let c999936_i32_1772 : BitVec 32 := 999936#32
  let v3945 : BitVec 32 := Scalar.subi v3944 c999936_i32_1772
  let c32_i32_1773 : BitVec 32 := 32#32
  let v3946 : BitVec 32 := Scalar.muli v3945 c32_i32_1773
  let v3947 : BitVec 32 := v3946
  ![v3947.toNat]

def k0_chk284 (v3944 : BitVec 32) : Prop :=
  (8 ∣ (k0_mult261 v3944).toNat) ∧
  (∀ a, (k0_off512 v3944) a + S32.size a ≤ S2048.size a) ∧
  (∀ a, (k0_off528 v3944) a + S32.size a ≤ S2048.size a)
theorem k0_mult261_dvd : ∀ (v3944 : BitVec 32) (k0_hw284 : k0_chk284 v3944), 8 ∣ (k0_mult261 v3944).toNat := fun v3944 k0_hw284 => k0_hw284.1
theorem k0_off512_inb : ∀ (v3944 : BitVec 32) (k0_hw284 : k0_chk284 v3944), ∀ a, (k0_off512 v3944) a + S32.size a ≤ S2048.size a := fun v3944 k0_hw284 => k0_hw284.2.1
theorem k0_off528_inb : ∀ (v3944 : BitVec 32) (k0_hw284 : k0_chk284 v3944), ∀ a, (k0_off528 v3944) a + S32.size a ≤ S2048.size a := fun v3944 k0_hw284 => k0_hw284.2.2

def k0_off529 (v3953 : BitVec 32) : Fin 1 → Nat :=
  let c999936_i32_1775 : BitVec 32 := 999936#32
  let v3954 : BitVec 32 := Scalar.subi v3953 c999936_i32_1775
  let c32_i32_1776 : BitVec 32 := 32#32
  let v3955 : BitVec 32 := Scalar.muli v3954 c32_i32_1776
  let v3956 : BitVec 32 := v3955
  ![v3956.toNat]

def k0_chk285 (v3953 : BitVec 32) : Prop :=
  (8 ∣ (k0_mult262 v3953).toNat) ∧
  (∀ a, (k0_off513 v3953) a + S32.size a ≤ S2048.size a) ∧
  (∀ a, (k0_off529 v3953) a + S32.size a ≤ S2048.size a)
theorem k0_mult262_dvd : ∀ (v3953 : BitVec 32) (k0_hw285 : k0_chk285 v3953), 8 ∣ (k0_mult262 v3953).toNat := fun v3953 k0_hw285 => k0_hw285.1
theorem k0_off513_inb : ∀ (v3953 : BitVec 32) (k0_hw285 : k0_chk285 v3953), ∀ a, (k0_off513 v3953) a + S32.size a ≤ S2048.size a := fun v3953 k0_hw285 => k0_hw285.2.1
theorem k0_off529_inb : ∀ (v3953 : BitVec 32) (k0_hw285 : k0_chk285 v3953), ∀ a, (k0_off529 v3953) a + S32.size a ≤ S2048.size a := fun v3953 k0_hw285 => k0_hw285.2.2

def k0_off530 (v3962 : BitVec 32) : Fin 1 → Nat :=
  let c999936_i32_1778 : BitVec 32 := 999936#32
  let v3963 : BitVec 32 := Scalar.subi v3962 c999936_i32_1778
  let c32_i32_1779 : BitVec 32 := 32#32
  let v3964 : BitVec 32 := Scalar.muli v3963 c32_i32_1779
  let v3965 : BitVec 32 := v3964
  ![v3965.toNat]

def k0_chk286 (v3962 : BitVec 32) : Prop :=
  (8 ∣ (k0_mult263 v3962).toNat) ∧
  (∀ a, (k0_off514 v3962) a + S32.size a ≤ S2048.size a) ∧
  (∀ a, (k0_off530 v3962) a + S32.size a ≤ S2048.size a)
theorem k0_mult263_dvd : ∀ (v3962 : BitVec 32) (k0_hw286 : k0_chk286 v3962), 8 ∣ (k0_mult263 v3962).toNat := fun v3962 k0_hw286 => k0_hw286.1
theorem k0_off514_inb : ∀ (v3962 : BitVec 32) (k0_hw286 : k0_chk286 v3962), ∀ a, (k0_off514 v3962) a + S32.size a ≤ S2048.size a := fun v3962 k0_hw286 => k0_hw286.2.1
theorem k0_off530_inb : ∀ (v3962 : BitVec 32) (k0_hw286 : k0_chk286 v3962), ∀ a, (k0_off530 v3962) a + S32.size a ≤ S2048.size a := fun v3962 k0_hw286 => k0_hw286.2.2

def k0_off531 (v3971 : BitVec 32) : Fin 1 → Nat :=
  let c999936_i32_1781 : BitVec 32 := 999936#32
  let v3972 : BitVec 32 := Scalar.subi v3971 c999936_i32_1781
  let c32_i32_1782 : BitVec 32 := 32#32
  let v3973 : BitVec 32 := Scalar.muli v3972 c32_i32_1782
  let v3974 : BitVec 32 := v3973
  ![v3974.toNat]

def k0_chk287 (v3971 : BitVec 32) : Prop :=
  (8 ∣ (k0_mult264 v3971).toNat) ∧
  (∀ a, (k0_off515 v3971) a + S32.size a ≤ S2048.size a) ∧
  (∀ a, (k0_off531 v3971) a + S32.size a ≤ S2048.size a)
theorem k0_mult264_dvd : ∀ (v3971 : BitVec 32) (k0_hw287 : k0_chk287 v3971), 8 ∣ (k0_mult264 v3971).toNat := fun v3971 k0_hw287 => k0_hw287.1
theorem k0_off515_inb : ∀ (v3971 : BitVec 32) (k0_hw287 : k0_chk287 v3971), ∀ a, (k0_off515 v3971) a + S32.size a ≤ S2048.size a := fun v3971 k0_hw287 => k0_hw287.2.1
theorem k0_off531_inb : ∀ (v3971 : BitVec 32) (k0_hw287 : k0_chk287 v3971), ∀ a, (k0_off531 v3971) a + S32.size a ≤ S2048.size a := fun v3971 k0_hw287 => k0_hw287.2.2

def k0_off532 (v3980 : BitVec 32) : Fin 1 → Nat :=
  let c999936_i32_1784 : BitVec 32 := 999936#32
  let v3981 : BitVec 32 := Scalar.subi v3980 c999936_i32_1784
  let c32_i32_1785 : BitVec 32 := 32#32
  let v3982 : BitVec 32 := Scalar.muli v3981 c32_i32_1785
  let v3983 : BitVec 32 := v3982
  ![v3983.toNat]

def k0_chk288 (v3980 : BitVec 32) : Prop :=
  (8 ∣ (k0_mult265 v3980).toNat) ∧
  (∀ a, (k0_off516 v3980) a + S32.size a ≤ S2048.size a) ∧
  (∀ a, (k0_off532 v3980) a + S32.size a ≤ S2048.size a)
theorem k0_mult265_dvd : ∀ (v3980 : BitVec 32) (k0_hw288 : k0_chk288 v3980), 8 ∣ (k0_mult265 v3980).toNat := fun v3980 k0_hw288 => k0_hw288.1
theorem k0_off516_inb : ∀ (v3980 : BitVec 32) (k0_hw288 : k0_chk288 v3980), ∀ a, (k0_off516 v3980) a + S32.size a ≤ S2048.size a := fun v3980 k0_hw288 => k0_hw288.2.1
theorem k0_off532_inb : ∀ (v3980 : BitVec 32) (k0_hw288 : k0_chk288 v3980), ∀ a, (k0_off532 v3980) a + S32.size a ≤ S2048.size a := fun v3980 k0_hw288 => k0_hw288.2.2

def k0_off533 (v3989 : BitVec 32) : Fin 1 → Nat :=
  let c999936_i32_1787 : BitVec 32 := 999936#32
  let v3990 : BitVec 32 := Scalar.subi v3989 c999936_i32_1787
  let c32_i32_1788 : BitVec 32 := 32#32
  let v3991 : BitVec 32 := Scalar.muli v3990 c32_i32_1788
  let v3992 : BitVec 32 := v3991
  ![v3992.toNat]

def k0_chk289 (v3989 : BitVec 32) : Prop :=
  (8 ∣ (k0_mult266 v3989).toNat) ∧
  (∀ a, (k0_off517 v3989) a + S32.size a ≤ S2048.size a) ∧
  (∀ a, (k0_off533 v3989) a + S32.size a ≤ S2048.size a)
theorem k0_mult266_dvd : ∀ (v3989 : BitVec 32) (k0_hw289 : k0_chk289 v3989), 8 ∣ (k0_mult266 v3989).toNat := fun v3989 k0_hw289 => k0_hw289.1
theorem k0_off517_inb : ∀ (v3989 : BitVec 32) (k0_hw289 : k0_chk289 v3989), ∀ a, (k0_off517 v3989) a + S32.size a ≤ S2048.size a := fun v3989 k0_hw289 => k0_hw289.2.1
theorem k0_off533_inb : ∀ (v3989 : BitVec 32) (k0_hw289 : k0_chk289 v3989), ∀ a, (k0_off533 v3989) a + S32.size a ≤ S2048.size a := fun v3989 k0_hw289 => k0_hw289.2.2

def k0_off534 (v3998 : BitVec 32) : Fin 1 → Nat :=
  let c999936_i32_1790 : BitVec 32 := 999936#32
  let v3999 : BitVec 32 := Scalar.subi v3998 c999936_i32_1790
  let c32_i32_1791 : BitVec 32 := 32#32
  let v4000 : BitVec 32 := Scalar.muli v3999 c32_i32_1791
  let v4001 : BitVec 32 := v4000
  ![v4001.toNat]

def k0_chk290 (v3998 : BitVec 32) : Prop :=
  (8 ∣ (k0_mult267 v3998).toNat) ∧
  (∀ a, (k0_off518 v3998) a + S32.size a ≤ S2048.size a) ∧
  (∀ a, (k0_off534 v3998) a + S32.size a ≤ S2048.size a)
theorem k0_mult267_dvd : ∀ (v3998 : BitVec 32) (k0_hw290 : k0_chk290 v3998), 8 ∣ (k0_mult267 v3998).toNat := fun v3998 k0_hw290 => k0_hw290.1
theorem k0_off518_inb : ∀ (v3998 : BitVec 32) (k0_hw290 : k0_chk290 v3998), ∀ a, (k0_off518 v3998) a + S32.size a ≤ S2048.size a := fun v3998 k0_hw290 => k0_hw290.2.1
theorem k0_off534_inb : ∀ (v3998 : BitVec 32) (k0_hw290 : k0_chk290 v3998), ∀ a, (k0_off534 v3998) a + S32.size a ≤ S2048.size a := fun v3998 k0_hw290 => k0_hw290.2.2

def k0_off535 (v4007 : BitVec 32) : Fin 1 → Nat :=
  let c999936_i32_1793 : BitVec 32 := 999936#32
  let v4008 : BitVec 32 := Scalar.subi v4007 c999936_i32_1793
  let c32_i32_1794 : BitVec 32 := 32#32
  let v4009 : BitVec 32 := Scalar.muli v4008 c32_i32_1794
  let v4010 : BitVec 32 := v4009
  ![v4010.toNat]

def k0_chk291 (v4007 : BitVec 32) : Prop :=
  (8 ∣ (k0_mult268 v4007).toNat) ∧
  (∀ a, (k0_off519 v4007) a + S32.size a ≤ S2048.size a) ∧
  (∀ a, (k0_off535 v4007) a + S32.size a ≤ S2048.size a)
theorem k0_mult268_dvd : ∀ (v4007 : BitVec 32) (k0_hw291 : k0_chk291 v4007), 8 ∣ (k0_mult268 v4007).toNat := fun v4007 k0_hw291 => k0_hw291.1
theorem k0_off519_inb : ∀ (v4007 : BitVec 32) (k0_hw291 : k0_chk291 v4007), ∀ a, (k0_off519 v4007) a + S32.size a ≤ S2048.size a := fun v4007 k0_hw291 => k0_hw291.2.1
theorem k0_off535_inb : ∀ (v4007 : BitVec 32) (k0_hw291 : k0_chk291 v4007), ∀ a, (k0_off535 v4007) a + S32.size a ≤ S2048.size a := fun v4007 k0_hw291 => k0_hw291.2.2

def k0_off536 (v4016 : BitVec 32) : Fin 1 → Nat :=
  let c999936_i32_1796 : BitVec 32 := 999936#32
  let v4017 : BitVec 32 := Scalar.subi v4016 c999936_i32_1796
  let c32_i32_1797 : BitVec 32 := 32#32
  let v4018 : BitVec 32 := Scalar.muli v4017 c32_i32_1797
  let v4019 : BitVec 32 := v4018
  ![v4019.toNat]

def k0_chk292 (v4016 : BitVec 32) : Prop :=
  (8 ∣ (k0_mult269 v4016).toNat) ∧
  (∀ a, (k0_off520 v4016) a + S32.size a ≤ S2048.size a) ∧
  (∀ a, (k0_off536 v4016) a + S32.size a ≤ S2048.size a)
theorem k0_mult269_dvd : ∀ (v4016 : BitVec 32) (k0_hw292 : k0_chk292 v4016), 8 ∣ (k0_mult269 v4016).toNat := fun v4016 k0_hw292 => k0_hw292.1
theorem k0_off520_inb : ∀ (v4016 : BitVec 32) (k0_hw292 : k0_chk292 v4016), ∀ a, (k0_off520 v4016) a + S32.size a ≤ S2048.size a := fun v4016 k0_hw292 => k0_hw292.2.1
theorem k0_off536_inb : ∀ (v4016 : BitVec 32) (k0_hw292 : k0_chk292 v4016), ∀ a, (k0_off536 v4016) a + S32.size a ≤ S2048.size a := fun v4016 k0_hw292 => k0_hw292.2.2

def k0_off537 (v4025 : BitVec 32) : Fin 1 → Nat :=
  let c999936_i32_1799 : BitVec 32 := 999936#32
  let v4026 : BitVec 32 := Scalar.subi v4025 c999936_i32_1799
  let c32_i32_1800 : BitVec 32 := 32#32
  let v4027 : BitVec 32 := Scalar.muli v4026 c32_i32_1800
  let v4028 : BitVec 32 := v4027
  ![v4028.toNat]

def k0_chk293 (v4025 : BitVec 32) : Prop :=
  (8 ∣ (k0_mult270 v4025).toNat) ∧
  (∀ a, (k0_off521 v4025) a + S32.size a ≤ S2048.size a) ∧
  (∀ a, (k0_off537 v4025) a + S32.size a ≤ S2048.size a)
theorem k0_mult270_dvd : ∀ (v4025 : BitVec 32) (k0_hw293 : k0_chk293 v4025), 8 ∣ (k0_mult270 v4025).toNat := fun v4025 k0_hw293 => k0_hw293.1
theorem k0_off521_inb : ∀ (v4025 : BitVec 32) (k0_hw293 : k0_chk293 v4025), ∀ a, (k0_off521 v4025) a + S32.size a ≤ S2048.size a := fun v4025 k0_hw293 => k0_hw293.2.1
theorem k0_off537_inb : ∀ (v4025 : BitVec 32) (k0_hw293 : k0_chk293 v4025), ∀ a, (k0_off537 v4025) a + S32.size a ≤ S2048.size a := fun v4025 k0_hw293 => k0_hw293.2.2

def k0_off538 (v4034 : BitVec 32) : Fin 1 → Nat :=
  let c999936_i32_1802 : BitVec 32 := 999936#32
  let v4035 : BitVec 32 := Scalar.subi v4034 c999936_i32_1802
  let c32_i32_1803 : BitVec 32 := 32#32
  let v4036 : BitVec 32 := Scalar.muli v4035 c32_i32_1803
  let v4037 : BitVec 32 := v4036
  ![v4037.toNat]

def k0_chk294 (v4034 : BitVec 32) : Prop :=
  (8 ∣ (k0_mult271 v4034).toNat) ∧
  (∀ a, (k0_off522 v4034) a + S32.size a ≤ S2048.size a) ∧
  (∀ a, (k0_off538 v4034) a + S32.size a ≤ S2048.size a)
theorem k0_mult271_dvd : ∀ (v4034 : BitVec 32) (k0_hw294 : k0_chk294 v4034), 8 ∣ (k0_mult271 v4034).toNat := fun v4034 k0_hw294 => k0_hw294.1
theorem k0_off522_inb : ∀ (v4034 : BitVec 32) (k0_hw294 : k0_chk294 v4034), ∀ a, (k0_off522 v4034) a + S32.size a ≤ S2048.size a := fun v4034 k0_hw294 => k0_hw294.2.1
theorem k0_off538_inb : ∀ (v4034 : BitVec 32) (k0_hw294 : k0_chk294 v4034), ∀ a, (k0_off538 v4034) a + S32.size a ≤ S2048.size a := fun v4034 k0_hw294 => k0_hw294.2.2

def k0_off539 (v4043 : BitVec 32) : Fin 1 → Nat :=
  let c999936_i32_1805 : BitVec 32 := 999936#32
  let v4044 : BitVec 32 := Scalar.subi v4043 c999936_i32_1805
  let c32_i32_1806 : BitVec 32 := 32#32
  let v4045 : BitVec 32 := Scalar.muli v4044 c32_i32_1806
  let v4046 : BitVec 32 := v4045
  ![v4046.toNat]

def k0_chk295 (v4043 : BitVec 32) : Prop :=
  (8 ∣ (k0_mult272 v4043).toNat) ∧
  (∀ a, (k0_off523 v4043) a + S32.size a ≤ S2048.size a) ∧
  (∀ a, (k0_off539 v4043) a + S32.size a ≤ S2048.size a)
theorem k0_mult272_dvd : ∀ (v4043 : BitVec 32) (k0_hw295 : k0_chk295 v4043), 8 ∣ (k0_mult272 v4043).toNat := fun v4043 k0_hw295 => k0_hw295.1
theorem k0_off523_inb : ∀ (v4043 : BitVec 32) (k0_hw295 : k0_chk295 v4043), ∀ a, (k0_off523 v4043) a + S32.size a ≤ S2048.size a := fun v4043 k0_hw295 => k0_hw295.2.1
theorem k0_off539_inb : ∀ (v4043 : BitVec 32) (k0_hw295 : k0_chk295 v4043), ∀ a, (k0_off539 v4043) a + S32.size a ≤ S2048.size a := fun v4043 k0_hw295 => k0_hw295.2.2

def k0_mult274 (v4125 : BitVec 32) : BitVec 32 :=
  let c0_i32_1844 : BitVec 32 := 0#32
  let c32_i32_1843 : BitVec 32 := 32#32
  let v4126 : BitVec 32 := Scalar.muli v4125 c32_i32_1843
  let v4127 : BitVec 32 := Scalar.addi c0_i32_1844 v4126
  v4127

def k0_off540 (v4125 : BitVec 32) : Fin 1 → Nat :=
  let c0_i32_1844 : BitVec 32 := 0#32
  let c32_i32_1843 : BitVec 32 := 32#32
  let v4126 : BitVec 32 := Scalar.muli v4125 c32_i32_1843
  let v4127 : BitVec 32 := Scalar.addi c0_i32_1844 v4126
  let v4128 : BitVec 32 := v4127
  ![v4128.toNat]
def k0_mult275 (v4134 : BitVec 32) : BitVec 32 :=
  let c0_i32_1848 : BitVec 32 := 0#32
  let c32_i32_1847 : BitVec 32 := 32#32
  let v4135 : BitVec 32 := Scalar.muli v4134 c32_i32_1847
  let v4136 : BitVec 32 := Scalar.addi c0_i32_1848 v4135
  v4136

def k0_off541 (v4134 : BitVec 32) : Fin 1 → Nat :=
  let c0_i32_1848 : BitVec 32 := 0#32
  let c32_i32_1847 : BitVec 32 := 32#32
  let v4135 : BitVec 32 := Scalar.muli v4134 c32_i32_1847
  let v4136 : BitVec 32 := Scalar.addi c0_i32_1848 v4135
  let v4137 : BitVec 32 := v4136
  ![v4137.toNat]
def k0_mult276 (v4143 : BitVec 32) : BitVec 32 :=
  let c0_i32_1852 : BitVec 32 := 0#32
  let c32_i32_1851 : BitVec 32 := 32#32
  let v4144 : BitVec 32 := Scalar.muli v4143 c32_i32_1851
  let v4145 : BitVec 32 := Scalar.addi c0_i32_1852 v4144
  v4145

def k0_off542 (v4143 : BitVec 32) : Fin 1 → Nat :=
  let c0_i32_1852 : BitVec 32 := 0#32
  let c32_i32_1851 : BitVec 32 := 32#32
  let v4144 : BitVec 32 := Scalar.muli v4143 c32_i32_1851
  let v4145 : BitVec 32 := Scalar.addi c0_i32_1852 v4144
  let v4146 : BitVec 32 := v4145
  ![v4146.toNat]
def k0_mult277 (v4152 : BitVec 32) : BitVec 32 :=
  let c0_i32_1856 : BitVec 32 := 0#32
  let c32_i32_1855 : BitVec 32 := 32#32
  let v4153 : BitVec 32 := Scalar.muli v4152 c32_i32_1855
  let v4154 : BitVec 32 := Scalar.addi c0_i32_1856 v4153
  v4154

def k0_off543 (v4152 : BitVec 32) : Fin 1 → Nat :=
  let c0_i32_1856 : BitVec 32 := 0#32
  let c32_i32_1855 : BitVec 32 := 32#32
  let v4153 : BitVec 32 := Scalar.muli v4152 c32_i32_1855
  let v4154 : BitVec 32 := Scalar.addi c0_i32_1856 v4153
  let v4155 : BitVec 32 := v4154
  ![v4155.toNat]
def k0_mult278 (v4161 : BitVec 32) : BitVec 32 :=
  let c0_i32_1860 : BitVec 32 := 0#32
  let c32_i32_1859 : BitVec 32 := 32#32
  let v4162 : BitVec 32 := Scalar.muli v4161 c32_i32_1859
  let v4163 : BitVec 32 := Scalar.addi c0_i32_1860 v4162
  v4163

def k0_off544 (v4161 : BitVec 32) : Fin 1 → Nat :=
  let c0_i32_1860 : BitVec 32 := 0#32
  let c32_i32_1859 : BitVec 32 := 32#32
  let v4162 : BitVec 32 := Scalar.muli v4161 c32_i32_1859
  let v4163 : BitVec 32 := Scalar.addi c0_i32_1860 v4162
  let v4164 : BitVec 32 := v4163
  ![v4164.toNat]
def k0_mult279 (v4170 : BitVec 32) : BitVec 32 :=
  let c0_i32_1864 : BitVec 32 := 0#32
  let c32_i32_1863 : BitVec 32 := 32#32
  let v4171 : BitVec 32 := Scalar.muli v4170 c32_i32_1863
  let v4172 : BitVec 32 := Scalar.addi c0_i32_1864 v4171
  v4172

def k0_off545 (v4170 : BitVec 32) : Fin 1 → Nat :=
  let c0_i32_1864 : BitVec 32 := 0#32
  let c32_i32_1863 : BitVec 32 := 32#32
  let v4171 : BitVec 32 := Scalar.muli v4170 c32_i32_1863
  let v4172 : BitVec 32 := Scalar.addi c0_i32_1864 v4171
  let v4173 : BitVec 32 := v4172
  ![v4173.toNat]
def k0_mult280 (v4179 : BitVec 32) : BitVec 32 :=
  let c0_i32_1868 : BitVec 32 := 0#32
  let c32_i32_1867 : BitVec 32 := 32#32
  let v4180 : BitVec 32 := Scalar.muli v4179 c32_i32_1867
  let v4181 : BitVec 32 := Scalar.addi c0_i32_1868 v4180
  v4181

def k0_off546 (v4179 : BitVec 32) : Fin 1 → Nat :=
  let c0_i32_1868 : BitVec 32 := 0#32
  let c32_i32_1867 : BitVec 32 := 32#32
  let v4180 : BitVec 32 := Scalar.muli v4179 c32_i32_1867
  let v4181 : BitVec 32 := Scalar.addi c0_i32_1868 v4180
  let v4182 : BitVec 32 := v4181
  ![v4182.toNat]
def k0_mult281 (v4188 : BitVec 32) : BitVec 32 :=
  let c0_i32_1872 : BitVec 32 := 0#32
  let c32_i32_1871 : BitVec 32 := 32#32
  let v4189 : BitVec 32 := Scalar.muli v4188 c32_i32_1871
  let v4190 : BitVec 32 := Scalar.addi c0_i32_1872 v4189
  v4190

def k0_off547 (v4188 : BitVec 32) : Fin 1 → Nat :=
  let c0_i32_1872 : BitVec 32 := 0#32
  let c32_i32_1871 : BitVec 32 := 32#32
  let v4189 : BitVec 32 := Scalar.muli v4188 c32_i32_1871
  let v4190 : BitVec 32 := Scalar.addi c0_i32_1872 v4189
  let v4191 : BitVec 32 := v4190
  ![v4191.toNat]
def k0_mult282 (v4197 : BitVec 32) : BitVec 32 :=
  let c0_i32_1876 : BitVec 32 := 0#32
  let c32_i32_1875 : BitVec 32 := 32#32
  let v4198 : BitVec 32 := Scalar.muli v4197 c32_i32_1875
  let v4199 : BitVec 32 := Scalar.addi c0_i32_1876 v4198
  v4199

def k0_off548 (v4197 : BitVec 32) : Fin 1 → Nat :=
  let c0_i32_1876 : BitVec 32 := 0#32
  let c32_i32_1875 : BitVec 32 := 32#32
  let v4198 : BitVec 32 := Scalar.muli v4197 c32_i32_1875
  let v4199 : BitVec 32 := Scalar.addi c0_i32_1876 v4198
  let v4200 : BitVec 32 := v4199
  ![v4200.toNat]
def k0_mult283 (v4206 : BitVec 32) : BitVec 32 :=
  let c0_i32_1880 : BitVec 32 := 0#32
  let c32_i32_1879 : BitVec 32 := 32#32
  let v4207 : BitVec 32 := Scalar.muli v4206 c32_i32_1879
  let v4208 : BitVec 32 := Scalar.addi c0_i32_1880 v4207
  v4208

def k0_off549 (v4206 : BitVec 32) : Fin 1 → Nat :=
  let c0_i32_1880 : BitVec 32 := 0#32
  let c32_i32_1879 : BitVec 32 := 32#32
  let v4207 : BitVec 32 := Scalar.muli v4206 c32_i32_1879
  let v4208 : BitVec 32 := Scalar.addi c0_i32_1880 v4207
  let v4209 : BitVec 32 := v4208
  ![v4209.toNat]
def k0_mult284 (v4215 : BitVec 32) : BitVec 32 :=
  let c0_i32_1884 : BitVec 32 := 0#32
  let c32_i32_1883 : BitVec 32 := 32#32
  let v4216 : BitVec 32 := Scalar.muli v4215 c32_i32_1883
  let v4217 : BitVec 32 := Scalar.addi c0_i32_1884 v4216
  v4217

def k0_off550 (v4215 : BitVec 32) : Fin 1 → Nat :=
  let c0_i32_1884 : BitVec 32 := 0#32
  let c32_i32_1883 : BitVec 32 := 32#32
  let v4216 : BitVec 32 := Scalar.muli v4215 c32_i32_1883
  let v4217 : BitVec 32 := Scalar.addi c0_i32_1884 v4216
  let v4218 : BitVec 32 := v4217
  ![v4218.toNat]
def k0_mult285 (v4224 : BitVec 32) : BitVec 32 :=
  let c0_i32_1888 : BitVec 32 := 0#32
  let c32_i32_1887 : BitVec 32 := 32#32
  let v4225 : BitVec 32 := Scalar.muli v4224 c32_i32_1887
  let v4226 : BitVec 32 := Scalar.addi c0_i32_1888 v4225
  v4226

def k0_off551 (v4224 : BitVec 32) : Fin 1 → Nat :=
  let c0_i32_1888 : BitVec 32 := 0#32
  let c32_i32_1887 : BitVec 32 := 32#32
  let v4225 : BitVec 32 := Scalar.muli v4224 c32_i32_1887
  let v4226 : BitVec 32 := Scalar.addi c0_i32_1888 v4225
  let v4227 : BitVec 32 := v4226
  ![v4227.toNat]
def k0_mult286 (v4233 : BitVec 32) : BitVec 32 :=
  let c0_i32_1892 : BitVec 32 := 0#32
  let c32_i32_1891 : BitVec 32 := 32#32
  let v4234 : BitVec 32 := Scalar.muli v4233 c32_i32_1891
  let v4235 : BitVec 32 := Scalar.addi c0_i32_1892 v4234
  v4235

def k0_off552 (v4233 : BitVec 32) : Fin 1 → Nat :=
  let c0_i32_1892 : BitVec 32 := 0#32
  let c32_i32_1891 : BitVec 32 := 32#32
  let v4234 : BitVec 32 := Scalar.muli v4233 c32_i32_1891
  let v4235 : BitVec 32 := Scalar.addi c0_i32_1892 v4234
  let v4236 : BitVec 32 := v4235
  ![v4236.toNat]
def k0_mult287 (v4242 : BitVec 32) : BitVec 32 :=
  let c0_i32_1896 : BitVec 32 := 0#32
  let c32_i32_1895 : BitVec 32 := 32#32
  let v4243 : BitVec 32 := Scalar.muli v4242 c32_i32_1895
  let v4244 : BitVec 32 := Scalar.addi c0_i32_1896 v4243
  v4244

def k0_off553 (v4242 : BitVec 32) : Fin 1 → Nat :=
  let c0_i32_1896 : BitVec 32 := 0#32
  let c32_i32_1895 : BitVec 32 := 32#32
  let v4243 : BitVec 32 := Scalar.muli v4242 c32_i32_1895
  let v4244 : BitVec 32 := Scalar.addi c0_i32_1896 v4243
  let v4245 : BitVec 32 := v4244
  ![v4245.toNat]
def k0_mult288 (v4251 : BitVec 32) : BitVec 32 :=
  let c0_i32_1900 : BitVec 32 := 0#32
  let c32_i32_1899 : BitVec 32 := 32#32
  let v4252 : BitVec 32 := Scalar.muli v4251 c32_i32_1899
  let v4253 : BitVec 32 := Scalar.addi c0_i32_1900 v4252
  v4253

def k0_off554 (v4251 : BitVec 32) : Fin 1 → Nat :=
  let c0_i32_1900 : BitVec 32 := 0#32
  let c32_i32_1899 : BitVec 32 := 32#32
  let v4252 : BitVec 32 := Scalar.muli v4251 c32_i32_1899
  let v4253 : BitVec 32 := Scalar.addi c0_i32_1900 v4252
  let v4254 : BitVec 32 := v4253
  ![v4254.toNat]
def k0_mult289 (v4260 : BitVec 32) : BitVec 32 :=
  let c0_i32_1904 : BitVec 32 := 0#32
  let c32_i32_1903 : BitVec 32 := 32#32
  let v4261 : BitVec 32 := Scalar.muli v4260 c32_i32_1903
  let v4262 : BitVec 32 := Scalar.addi c0_i32_1904 v4261
  v4262

def k0_off555 (v4260 : BitVec 32) : Fin 1 → Nat :=
  let c0_i32_1904 : BitVec 32 := 0#32
  let c32_i32_1903 : BitVec 32 := 32#32
  let v4261 : BitVec 32 := Scalar.muli v4260 c32_i32_1903
  let v4262 : BitVec 32 := Scalar.addi c0_i32_1904 v4261
  let v4263 : BitVec 32 := v4262
  ![v4263.toNat]

def k0_chk312 (v4260 : BitVec 32) : Prop :=
  (8 ∣ (k0_mult289 v4260).toNat) ∧
  (∀ a, (k0_off555 v4260) a + S32.size a ≤ S3407872.size a)
theorem k0_mult289_dvd : ∀ (v4260 : BitVec 32) (k0_hw312 : k0_chk312 v4260), 8 ∣ (k0_mult289 v4260).toNat := fun v4260 k0_hw312 => k0_hw312.1
theorem k0_off555_inb : ∀ (v4260 : BitVec 32) (k0_hw312 : k0_chk312 v4260), ∀ a, (k0_off555 v4260) a + S32.size a ≤ S3407872.size a := fun v4260 k0_hw312 => k0_hw312.2

def k0_off556 (v4125 : BitVec 32) : Fin 1 → Nat :=
  let c0_i32_1844 : BitVec 32 := 0#32
  let c32_i32_1843 : BitVec 32 := 32#32
  let v4126 : BitVec 32 := Scalar.muli v4125 c32_i32_1843
  let v4127 : BitVec 32 := Scalar.addi c0_i32_1844 v4126
  let v4128 : BitVec 32 := v4127
  ![v4128.toNat]

def k0_chk297 (v4125 : BitVec 32) : Prop :=
  (8 ∣ (k0_mult274 v4125).toNat) ∧
  (∀ a, (k0_off540 v4125) a + S32.size a ≤ S3407872.size a) ∧
  (∀ a, (k0_off556 v4125) a + S32.size a ≤ S3407872.size a)
theorem k0_mult274_dvd : ∀ (v4125 : BitVec 32) (k0_hw297 : k0_chk297 v4125), 8 ∣ (k0_mult274 v4125).toNat := fun v4125 k0_hw297 => k0_hw297.1
theorem k0_off540_inb : ∀ (v4125 : BitVec 32) (k0_hw297 : k0_chk297 v4125), ∀ a, (k0_off540 v4125) a + S32.size a ≤ S3407872.size a := fun v4125 k0_hw297 => k0_hw297.2.1
theorem k0_off556_inb : ∀ (v4125 : BitVec 32) (k0_hw297 : k0_chk297 v4125), ∀ a, (k0_off556 v4125) a + S32.size a ≤ S3407872.size a := fun v4125 k0_hw297 => k0_hw297.2.2

def k0_off557 (v4134 : BitVec 32) : Fin 1 → Nat :=
  let c0_i32_1848 : BitVec 32 := 0#32
  let c32_i32_1847 : BitVec 32 := 32#32
  let v4135 : BitVec 32 := Scalar.muli v4134 c32_i32_1847
  let v4136 : BitVec 32 := Scalar.addi c0_i32_1848 v4135
  let v4137 : BitVec 32 := v4136
  ![v4137.toNat]

def k0_chk298 (v4134 : BitVec 32) : Prop :=
  (8 ∣ (k0_mult275 v4134).toNat) ∧
  (∀ a, (k0_off541 v4134) a + S32.size a ≤ S3407872.size a) ∧
  (∀ a, (k0_off557 v4134) a + S32.size a ≤ S3407872.size a)
theorem k0_mult275_dvd : ∀ (v4134 : BitVec 32) (k0_hw298 : k0_chk298 v4134), 8 ∣ (k0_mult275 v4134).toNat := fun v4134 k0_hw298 => k0_hw298.1
theorem k0_off541_inb : ∀ (v4134 : BitVec 32) (k0_hw298 : k0_chk298 v4134), ∀ a, (k0_off541 v4134) a + S32.size a ≤ S3407872.size a := fun v4134 k0_hw298 => k0_hw298.2.1
theorem k0_off557_inb : ∀ (v4134 : BitVec 32) (k0_hw298 : k0_chk298 v4134), ∀ a, (k0_off557 v4134) a + S32.size a ≤ S3407872.size a := fun v4134 k0_hw298 => k0_hw298.2.2

def k0_off558 (v4143 : BitVec 32) : Fin 1 → Nat :=
  let c0_i32_1852 : BitVec 32 := 0#32
  let c32_i32_1851 : BitVec 32 := 32#32
  let v4144 : BitVec 32 := Scalar.muli v4143 c32_i32_1851
  let v4145 : BitVec 32 := Scalar.addi c0_i32_1852 v4144
  let v4146 : BitVec 32 := v4145
  ![v4146.toNat]

def k0_chk299 (v4143 : BitVec 32) : Prop :=
  (8 ∣ (k0_mult276 v4143).toNat) ∧
  (∀ a, (k0_off542 v4143) a + S32.size a ≤ S3407872.size a) ∧
  (∀ a, (k0_off558 v4143) a + S32.size a ≤ S3407872.size a)
theorem k0_mult276_dvd : ∀ (v4143 : BitVec 32) (k0_hw299 : k0_chk299 v4143), 8 ∣ (k0_mult276 v4143).toNat := fun v4143 k0_hw299 => k0_hw299.1
theorem k0_off542_inb : ∀ (v4143 : BitVec 32) (k0_hw299 : k0_chk299 v4143), ∀ a, (k0_off542 v4143) a + S32.size a ≤ S3407872.size a := fun v4143 k0_hw299 => k0_hw299.2.1
theorem k0_off558_inb : ∀ (v4143 : BitVec 32) (k0_hw299 : k0_chk299 v4143), ∀ a, (k0_off558 v4143) a + S32.size a ≤ S3407872.size a := fun v4143 k0_hw299 => k0_hw299.2.2

def k0_off559 (v4152 : BitVec 32) : Fin 1 → Nat :=
  let c0_i32_1856 : BitVec 32 := 0#32
  let c32_i32_1855 : BitVec 32 := 32#32
  let v4153 : BitVec 32 := Scalar.muli v4152 c32_i32_1855
  let v4154 : BitVec 32 := Scalar.addi c0_i32_1856 v4153
  let v4155 : BitVec 32 := v4154
  ![v4155.toNat]

def k0_chk300 (v4152 : BitVec 32) : Prop :=
  (8 ∣ (k0_mult277 v4152).toNat) ∧
  (∀ a, (k0_off543 v4152) a + S32.size a ≤ S3407872.size a) ∧
  (∀ a, (k0_off559 v4152) a + S32.size a ≤ S3407872.size a)
theorem k0_mult277_dvd : ∀ (v4152 : BitVec 32) (k0_hw300 : k0_chk300 v4152), 8 ∣ (k0_mult277 v4152).toNat := fun v4152 k0_hw300 => k0_hw300.1
theorem k0_off543_inb : ∀ (v4152 : BitVec 32) (k0_hw300 : k0_chk300 v4152), ∀ a, (k0_off543 v4152) a + S32.size a ≤ S3407872.size a := fun v4152 k0_hw300 => k0_hw300.2.1
theorem k0_off559_inb : ∀ (v4152 : BitVec 32) (k0_hw300 : k0_chk300 v4152), ∀ a, (k0_off559 v4152) a + S32.size a ≤ S3407872.size a := fun v4152 k0_hw300 => k0_hw300.2.2

def k0_off560 (v4161 : BitVec 32) : Fin 1 → Nat :=
  let c0_i32_1860 : BitVec 32 := 0#32
  let c32_i32_1859 : BitVec 32 := 32#32
  let v4162 : BitVec 32 := Scalar.muli v4161 c32_i32_1859
  let v4163 : BitVec 32 := Scalar.addi c0_i32_1860 v4162
  let v4164 : BitVec 32 := v4163
  ![v4164.toNat]

def k0_chk301 (v4161 : BitVec 32) : Prop :=
  (8 ∣ (k0_mult278 v4161).toNat) ∧
  (∀ a, (k0_off544 v4161) a + S32.size a ≤ S3407872.size a) ∧
  (∀ a, (k0_off560 v4161) a + S32.size a ≤ S3407872.size a)
theorem k0_mult278_dvd : ∀ (v4161 : BitVec 32) (k0_hw301 : k0_chk301 v4161), 8 ∣ (k0_mult278 v4161).toNat := fun v4161 k0_hw301 => k0_hw301.1
theorem k0_off544_inb : ∀ (v4161 : BitVec 32) (k0_hw301 : k0_chk301 v4161), ∀ a, (k0_off544 v4161) a + S32.size a ≤ S3407872.size a := fun v4161 k0_hw301 => k0_hw301.2.1
theorem k0_off560_inb : ∀ (v4161 : BitVec 32) (k0_hw301 : k0_chk301 v4161), ∀ a, (k0_off560 v4161) a + S32.size a ≤ S3407872.size a := fun v4161 k0_hw301 => k0_hw301.2.2

def k0_off561 (v4170 : BitVec 32) : Fin 1 → Nat :=
  let c0_i32_1864 : BitVec 32 := 0#32
  let c32_i32_1863 : BitVec 32 := 32#32
  let v4171 : BitVec 32 := Scalar.muli v4170 c32_i32_1863
  let v4172 : BitVec 32 := Scalar.addi c0_i32_1864 v4171
  let v4173 : BitVec 32 := v4172
  ![v4173.toNat]

def k0_chk302 (v4170 : BitVec 32) : Prop :=
  (8 ∣ (k0_mult279 v4170).toNat) ∧
  (∀ a, (k0_off545 v4170) a + S32.size a ≤ S3407872.size a) ∧
  (∀ a, (k0_off561 v4170) a + S32.size a ≤ S3407872.size a)
theorem k0_mult279_dvd : ∀ (v4170 : BitVec 32) (k0_hw302 : k0_chk302 v4170), 8 ∣ (k0_mult279 v4170).toNat := fun v4170 k0_hw302 => k0_hw302.1
theorem k0_off545_inb : ∀ (v4170 : BitVec 32) (k0_hw302 : k0_chk302 v4170), ∀ a, (k0_off545 v4170) a + S32.size a ≤ S3407872.size a := fun v4170 k0_hw302 => k0_hw302.2.1
theorem k0_off561_inb : ∀ (v4170 : BitVec 32) (k0_hw302 : k0_chk302 v4170), ∀ a, (k0_off561 v4170) a + S32.size a ≤ S3407872.size a := fun v4170 k0_hw302 => k0_hw302.2.2

def k0_off562 (v4179 : BitVec 32) : Fin 1 → Nat :=
  let c0_i32_1868 : BitVec 32 := 0#32
  let c32_i32_1867 : BitVec 32 := 32#32
  let v4180 : BitVec 32 := Scalar.muli v4179 c32_i32_1867
  let v4181 : BitVec 32 := Scalar.addi c0_i32_1868 v4180
  let v4182 : BitVec 32 := v4181
  ![v4182.toNat]

def k0_chk303 (v4179 : BitVec 32) : Prop :=
  (8 ∣ (k0_mult280 v4179).toNat) ∧
  (∀ a, (k0_off546 v4179) a + S32.size a ≤ S3407872.size a) ∧
  (∀ a, (k0_off562 v4179) a + S32.size a ≤ S3407872.size a)
theorem k0_mult280_dvd : ∀ (v4179 : BitVec 32) (k0_hw303 : k0_chk303 v4179), 8 ∣ (k0_mult280 v4179).toNat := fun v4179 k0_hw303 => k0_hw303.1
theorem k0_off546_inb : ∀ (v4179 : BitVec 32) (k0_hw303 : k0_chk303 v4179), ∀ a, (k0_off546 v4179) a + S32.size a ≤ S3407872.size a := fun v4179 k0_hw303 => k0_hw303.2.1
theorem k0_off562_inb : ∀ (v4179 : BitVec 32) (k0_hw303 : k0_chk303 v4179), ∀ a, (k0_off562 v4179) a + S32.size a ≤ S3407872.size a := fun v4179 k0_hw303 => k0_hw303.2.2

def k0_off563 (v4188 : BitVec 32) : Fin 1 → Nat :=
  let c0_i32_1872 : BitVec 32 := 0#32
  let c32_i32_1871 : BitVec 32 := 32#32
  let v4189 : BitVec 32 := Scalar.muli v4188 c32_i32_1871
  let v4190 : BitVec 32 := Scalar.addi c0_i32_1872 v4189
  let v4191 : BitVec 32 := v4190
  ![v4191.toNat]

def k0_chk304 (v4188 : BitVec 32) : Prop :=
  (8 ∣ (k0_mult281 v4188).toNat) ∧
  (∀ a, (k0_off547 v4188) a + S32.size a ≤ S3407872.size a) ∧
  (∀ a, (k0_off563 v4188) a + S32.size a ≤ S3407872.size a)
theorem k0_mult281_dvd : ∀ (v4188 : BitVec 32) (k0_hw304 : k0_chk304 v4188), 8 ∣ (k0_mult281 v4188).toNat := fun v4188 k0_hw304 => k0_hw304.1
theorem k0_off547_inb : ∀ (v4188 : BitVec 32) (k0_hw304 : k0_chk304 v4188), ∀ a, (k0_off547 v4188) a + S32.size a ≤ S3407872.size a := fun v4188 k0_hw304 => k0_hw304.2.1
theorem k0_off563_inb : ∀ (v4188 : BitVec 32) (k0_hw304 : k0_chk304 v4188), ∀ a, (k0_off563 v4188) a + S32.size a ≤ S3407872.size a := fun v4188 k0_hw304 => k0_hw304.2.2

def k0_off564 (v4197 : BitVec 32) : Fin 1 → Nat :=
  let c0_i32_1876 : BitVec 32 := 0#32
  let c32_i32_1875 : BitVec 32 := 32#32
  let v4198 : BitVec 32 := Scalar.muli v4197 c32_i32_1875
  let v4199 : BitVec 32 := Scalar.addi c0_i32_1876 v4198
  let v4200 : BitVec 32 := v4199
  ![v4200.toNat]

def k0_chk305 (v4197 : BitVec 32) : Prop :=
  (8 ∣ (k0_mult282 v4197).toNat) ∧
  (∀ a, (k0_off548 v4197) a + S32.size a ≤ S3407872.size a) ∧
  (∀ a, (k0_off564 v4197) a + S32.size a ≤ S3407872.size a)
theorem k0_mult282_dvd : ∀ (v4197 : BitVec 32) (k0_hw305 : k0_chk305 v4197), 8 ∣ (k0_mult282 v4197).toNat := fun v4197 k0_hw305 => k0_hw305.1
theorem k0_off548_inb : ∀ (v4197 : BitVec 32) (k0_hw305 : k0_chk305 v4197), ∀ a, (k0_off548 v4197) a + S32.size a ≤ S3407872.size a := fun v4197 k0_hw305 => k0_hw305.2.1
theorem k0_off564_inb : ∀ (v4197 : BitVec 32) (k0_hw305 : k0_chk305 v4197), ∀ a, (k0_off564 v4197) a + S32.size a ≤ S3407872.size a := fun v4197 k0_hw305 => k0_hw305.2.2

def k0_off565 (v4206 : BitVec 32) : Fin 1 → Nat :=
  let c0_i32_1880 : BitVec 32 := 0#32
  let c32_i32_1879 : BitVec 32 := 32#32
  let v4207 : BitVec 32 := Scalar.muli v4206 c32_i32_1879
  let v4208 : BitVec 32 := Scalar.addi c0_i32_1880 v4207
  let v4209 : BitVec 32 := v4208
  ![v4209.toNat]

def k0_chk306 (v4206 : BitVec 32) : Prop :=
  (8 ∣ (k0_mult283 v4206).toNat) ∧
  (∀ a, (k0_off549 v4206) a + S32.size a ≤ S3407872.size a) ∧
  (∀ a, (k0_off565 v4206) a + S32.size a ≤ S3407872.size a)
theorem k0_mult283_dvd : ∀ (v4206 : BitVec 32) (k0_hw306 : k0_chk306 v4206), 8 ∣ (k0_mult283 v4206).toNat := fun v4206 k0_hw306 => k0_hw306.1
theorem k0_off549_inb : ∀ (v4206 : BitVec 32) (k0_hw306 : k0_chk306 v4206), ∀ a, (k0_off549 v4206) a + S32.size a ≤ S3407872.size a := fun v4206 k0_hw306 => k0_hw306.2.1
theorem k0_off565_inb : ∀ (v4206 : BitVec 32) (k0_hw306 : k0_chk306 v4206), ∀ a, (k0_off565 v4206) a + S32.size a ≤ S3407872.size a := fun v4206 k0_hw306 => k0_hw306.2.2

def k0_off566 (v4215 : BitVec 32) : Fin 1 → Nat :=
  let c0_i32_1884 : BitVec 32 := 0#32
  let c32_i32_1883 : BitVec 32 := 32#32
  let v4216 : BitVec 32 := Scalar.muli v4215 c32_i32_1883
  let v4217 : BitVec 32 := Scalar.addi c0_i32_1884 v4216
  let v4218 : BitVec 32 := v4217
  ![v4218.toNat]

def k0_chk307 (v4215 : BitVec 32) : Prop :=
  (8 ∣ (k0_mult284 v4215).toNat) ∧
  (∀ a, (k0_off550 v4215) a + S32.size a ≤ S3407872.size a) ∧
  (∀ a, (k0_off566 v4215) a + S32.size a ≤ S3407872.size a)
theorem k0_mult284_dvd : ∀ (v4215 : BitVec 32) (k0_hw307 : k0_chk307 v4215), 8 ∣ (k0_mult284 v4215).toNat := fun v4215 k0_hw307 => k0_hw307.1
theorem k0_off550_inb : ∀ (v4215 : BitVec 32) (k0_hw307 : k0_chk307 v4215), ∀ a, (k0_off550 v4215) a + S32.size a ≤ S3407872.size a := fun v4215 k0_hw307 => k0_hw307.2.1
theorem k0_off566_inb : ∀ (v4215 : BitVec 32) (k0_hw307 : k0_chk307 v4215), ∀ a, (k0_off566 v4215) a + S32.size a ≤ S3407872.size a := fun v4215 k0_hw307 => k0_hw307.2.2

def k0_off567 (v4224 : BitVec 32) : Fin 1 → Nat :=
  let c0_i32_1888 : BitVec 32 := 0#32
  let c32_i32_1887 : BitVec 32 := 32#32
  let v4225 : BitVec 32 := Scalar.muli v4224 c32_i32_1887
  let v4226 : BitVec 32 := Scalar.addi c0_i32_1888 v4225
  let v4227 : BitVec 32 := v4226
  ![v4227.toNat]

def k0_chk308 (v4224 : BitVec 32) : Prop :=
  (8 ∣ (k0_mult285 v4224).toNat) ∧
  (∀ a, (k0_off551 v4224) a + S32.size a ≤ S3407872.size a) ∧
  (∀ a, (k0_off567 v4224) a + S32.size a ≤ S3407872.size a)
theorem k0_mult285_dvd : ∀ (v4224 : BitVec 32) (k0_hw308 : k0_chk308 v4224), 8 ∣ (k0_mult285 v4224).toNat := fun v4224 k0_hw308 => k0_hw308.1
theorem k0_off551_inb : ∀ (v4224 : BitVec 32) (k0_hw308 : k0_chk308 v4224), ∀ a, (k0_off551 v4224) a + S32.size a ≤ S3407872.size a := fun v4224 k0_hw308 => k0_hw308.2.1
theorem k0_off567_inb : ∀ (v4224 : BitVec 32) (k0_hw308 : k0_chk308 v4224), ∀ a, (k0_off567 v4224) a + S32.size a ≤ S3407872.size a := fun v4224 k0_hw308 => k0_hw308.2.2

def k0_off568 (v4233 : BitVec 32) : Fin 1 → Nat :=
  let c0_i32_1892 : BitVec 32 := 0#32
  let c32_i32_1891 : BitVec 32 := 32#32
  let v4234 : BitVec 32 := Scalar.muli v4233 c32_i32_1891
  let v4235 : BitVec 32 := Scalar.addi c0_i32_1892 v4234
  let v4236 : BitVec 32 := v4235
  ![v4236.toNat]

def k0_chk309 (v4233 : BitVec 32) : Prop :=
  (8 ∣ (k0_mult286 v4233).toNat) ∧
  (∀ a, (k0_off552 v4233) a + S32.size a ≤ S3407872.size a) ∧
  (∀ a, (k0_off568 v4233) a + S32.size a ≤ S3407872.size a)
theorem k0_mult286_dvd : ∀ (v4233 : BitVec 32) (k0_hw309 : k0_chk309 v4233), 8 ∣ (k0_mult286 v4233).toNat := fun v4233 k0_hw309 => k0_hw309.1
theorem k0_off552_inb : ∀ (v4233 : BitVec 32) (k0_hw309 : k0_chk309 v4233), ∀ a, (k0_off552 v4233) a + S32.size a ≤ S3407872.size a := fun v4233 k0_hw309 => k0_hw309.2.1
theorem k0_off568_inb : ∀ (v4233 : BitVec 32) (k0_hw309 : k0_chk309 v4233), ∀ a, (k0_off568 v4233) a + S32.size a ≤ S3407872.size a := fun v4233 k0_hw309 => k0_hw309.2.2

def k0_off569 (v4242 : BitVec 32) : Fin 1 → Nat :=
  let c0_i32_1896 : BitVec 32 := 0#32
  let c32_i32_1895 : BitVec 32 := 32#32
  let v4243 : BitVec 32 := Scalar.muli v4242 c32_i32_1895
  let v4244 : BitVec 32 := Scalar.addi c0_i32_1896 v4243
  let v4245 : BitVec 32 := v4244
  ![v4245.toNat]

def k0_chk310 (v4242 : BitVec 32) : Prop :=
  (8 ∣ (k0_mult287 v4242).toNat) ∧
  (∀ a, (k0_off553 v4242) a + S32.size a ≤ S3407872.size a) ∧
  (∀ a, (k0_off569 v4242) a + S32.size a ≤ S3407872.size a)
theorem k0_mult287_dvd : ∀ (v4242 : BitVec 32) (k0_hw310 : k0_chk310 v4242), 8 ∣ (k0_mult287 v4242).toNat := fun v4242 k0_hw310 => k0_hw310.1
theorem k0_off553_inb : ∀ (v4242 : BitVec 32) (k0_hw310 : k0_chk310 v4242), ∀ a, (k0_off553 v4242) a + S32.size a ≤ S3407872.size a := fun v4242 k0_hw310 => k0_hw310.2.1
theorem k0_off569_inb : ∀ (v4242 : BitVec 32) (k0_hw310 : k0_chk310 v4242), ∀ a, (k0_off569 v4242) a + S32.size a ≤ S3407872.size a := fun v4242 k0_hw310 => k0_hw310.2.2

def k0_off570 (v4251 : BitVec 32) : Fin 1 → Nat :=
  let c0_i32_1900 : BitVec 32 := 0#32
  let c32_i32_1899 : BitVec 32 := 32#32
  let v4252 : BitVec 32 := Scalar.muli v4251 c32_i32_1899
  let v4253 : BitVec 32 := Scalar.addi c0_i32_1900 v4252
  let v4254 : BitVec 32 := v4253
  ![v4254.toNat]

def k0_chk311 (v4251 : BitVec 32) : Prop :=
  (8 ∣ (k0_mult288 v4251).toNat) ∧
  (∀ a, (k0_off554 v4251) a + S32.size a ≤ S3407872.size a) ∧
  (∀ a, (k0_off570 v4251) a + S32.size a ≤ S3407872.size a)
theorem k0_mult288_dvd : ∀ (v4251 : BitVec 32) (k0_hw311 : k0_chk311 v4251), 8 ∣ (k0_mult288 v4251).toNat := fun v4251 k0_hw311 => k0_hw311.1
theorem k0_off554_inb : ∀ (v4251 : BitVec 32) (k0_hw311 : k0_chk311 v4251), ∀ a, (k0_off554 v4251) a + S32.size a ≤ S3407872.size a := fun v4251 k0_hw311 => k0_hw311.2.1
theorem k0_off570_inb : ∀ (v4251 : BitVec 32) (k0_hw311 : k0_chk311 v4251), ∀ a, (k0_off570 v4251) a + S32.size a ≤ S3407872.size a := fun v4251 k0_hw311 => k0_hw311.2.2

def k0_mult290 (v4335 : BitVec 32) : BitVec 32 :=
  let c999936_i32_1941 : BitVec 32 := 999936#32
  let v4336 : BitVec 32 := Scalar.subi v4335 c999936_i32_1941
  let c32_i32_1942 : BitVec 32 := 32#32
  let v4337 : BitVec 32 := Scalar.muli v4336 c32_i32_1942
  v4337

def k0_off571 (v4335 : BitVec 32) : Fin 1 → Nat :=
  let c999936_i32_1941 : BitVec 32 := 999936#32
  let v4336 : BitVec 32 := Scalar.subi v4335 c999936_i32_1941
  let c32_i32_1942 : BitVec 32 := 32#32
  let v4337 : BitVec 32 := Scalar.muli v4336 c32_i32_1942
  let v4338 : BitVec 32 := v4337
  ![v4338.toNat]
def k0_mult291 (v4344 : BitVec 32) : BitVec 32 :=
  let c999936_i32_1944 : BitVec 32 := 999936#32
  let v4345 : BitVec 32 := Scalar.subi v4344 c999936_i32_1944
  let c32_i32_1945 : BitVec 32 := 32#32
  let v4346 : BitVec 32 := Scalar.muli v4345 c32_i32_1945
  v4346

def k0_off572 (v4344 : BitVec 32) : Fin 1 → Nat :=
  let c999936_i32_1944 : BitVec 32 := 999936#32
  let v4345 : BitVec 32 := Scalar.subi v4344 c999936_i32_1944
  let c32_i32_1945 : BitVec 32 := 32#32
  let v4346 : BitVec 32 := Scalar.muli v4345 c32_i32_1945
  let v4347 : BitVec 32 := v4346
  ![v4347.toNat]
def k0_mult292 (v4353 : BitVec 32) : BitVec 32 :=
  let c999936_i32_1947 : BitVec 32 := 999936#32
  let v4354 : BitVec 32 := Scalar.subi v4353 c999936_i32_1947
  let c32_i32_1948 : BitVec 32 := 32#32
  let v4355 : BitVec 32 := Scalar.muli v4354 c32_i32_1948
  v4355

def k0_off573 (v4353 : BitVec 32) : Fin 1 → Nat :=
  let c999936_i32_1947 : BitVec 32 := 999936#32
  let v4354 : BitVec 32 := Scalar.subi v4353 c999936_i32_1947
  let c32_i32_1948 : BitVec 32 := 32#32
  let v4355 : BitVec 32 := Scalar.muli v4354 c32_i32_1948
  let v4356 : BitVec 32 := v4355
  ![v4356.toNat]
def k0_mult293 (v4362 : BitVec 32) : BitVec 32 :=
  let c999936_i32_1950 : BitVec 32 := 999936#32
  let v4363 : BitVec 32 := Scalar.subi v4362 c999936_i32_1950
  let c32_i32_1951 : BitVec 32 := 32#32
  let v4364 : BitVec 32 := Scalar.muli v4363 c32_i32_1951
  v4364

def k0_off574 (v4362 : BitVec 32) : Fin 1 → Nat :=
  let c999936_i32_1950 : BitVec 32 := 999936#32
  let v4363 : BitVec 32 := Scalar.subi v4362 c999936_i32_1950
  let c32_i32_1951 : BitVec 32 := 32#32
  let v4364 : BitVec 32 := Scalar.muli v4363 c32_i32_1951
  let v4365 : BitVec 32 := v4364
  ![v4365.toNat]
def k0_mult294 (v4371 : BitVec 32) : BitVec 32 :=
  let c999936_i32_1953 : BitVec 32 := 999936#32
  let v4372 : BitVec 32 := Scalar.subi v4371 c999936_i32_1953
  let c32_i32_1954 : BitVec 32 := 32#32
  let v4373 : BitVec 32 := Scalar.muli v4372 c32_i32_1954
  v4373

def k0_off575 (v4371 : BitVec 32) : Fin 1 → Nat :=
  let c999936_i32_1953 : BitVec 32 := 999936#32
  let v4372 : BitVec 32 := Scalar.subi v4371 c999936_i32_1953
  let c32_i32_1954 : BitVec 32 := 32#32
  let v4373 : BitVec 32 := Scalar.muli v4372 c32_i32_1954
  let v4374 : BitVec 32 := v4373
  ![v4374.toNat]
def k0_mult295 (v4380 : BitVec 32) : BitVec 32 :=
  let c999936_i32_1956 : BitVec 32 := 999936#32
  let v4381 : BitVec 32 := Scalar.subi v4380 c999936_i32_1956
  let c32_i32_1957 : BitVec 32 := 32#32
  let v4382 : BitVec 32 := Scalar.muli v4381 c32_i32_1957
  v4382

def k0_off576 (v4380 : BitVec 32) : Fin 1 → Nat :=
  let c999936_i32_1956 : BitVec 32 := 999936#32
  let v4381 : BitVec 32 := Scalar.subi v4380 c999936_i32_1956
  let c32_i32_1957 : BitVec 32 := 32#32
  let v4382 : BitVec 32 := Scalar.muli v4381 c32_i32_1957
  let v4383 : BitVec 32 := v4382
  ![v4383.toNat]
def k0_mult296 (v4389 : BitVec 32) : BitVec 32 :=
  let c999936_i32_1959 : BitVec 32 := 999936#32
  let v4390 : BitVec 32 := Scalar.subi v4389 c999936_i32_1959
  let c32_i32_1960 : BitVec 32 := 32#32
  let v4391 : BitVec 32 := Scalar.muli v4390 c32_i32_1960
  v4391

def k0_off577 (v4389 : BitVec 32) : Fin 1 → Nat :=
  let c999936_i32_1959 : BitVec 32 := 999936#32
  let v4390 : BitVec 32 := Scalar.subi v4389 c999936_i32_1959
  let c32_i32_1960 : BitVec 32 := 32#32
  let v4391 : BitVec 32 := Scalar.muli v4390 c32_i32_1960
  let v4392 : BitVec 32 := v4391
  ![v4392.toNat]
def k0_mult297 (v4398 : BitVec 32) : BitVec 32 :=
  let c999936_i32_1962 : BitVec 32 := 999936#32
  let v4399 : BitVec 32 := Scalar.subi v4398 c999936_i32_1962
  let c32_i32_1963 : BitVec 32 := 32#32
  let v4400 : BitVec 32 := Scalar.muli v4399 c32_i32_1963
  v4400

def k0_off578 (v4398 : BitVec 32) : Fin 1 → Nat :=
  let c999936_i32_1962 : BitVec 32 := 999936#32
  let v4399 : BitVec 32 := Scalar.subi v4398 c999936_i32_1962
  let c32_i32_1963 : BitVec 32 := 32#32
  let v4400 : BitVec 32 := Scalar.muli v4399 c32_i32_1963
  let v4401 : BitVec 32 := v4400
  ![v4401.toNat]
def k0_mult298 (v4407 : BitVec 32) : BitVec 32 :=
  let c999936_i32_1965 : BitVec 32 := 999936#32
  let v4408 : BitVec 32 := Scalar.subi v4407 c999936_i32_1965
  let c32_i32_1966 : BitVec 32 := 32#32
  let v4409 : BitVec 32 := Scalar.muli v4408 c32_i32_1966
  v4409

def k0_off579 (v4407 : BitVec 32) : Fin 1 → Nat :=
  let c999936_i32_1965 : BitVec 32 := 999936#32
  let v4408 : BitVec 32 := Scalar.subi v4407 c999936_i32_1965
  let c32_i32_1966 : BitVec 32 := 32#32
  let v4409 : BitVec 32 := Scalar.muli v4408 c32_i32_1966
  let v4410 : BitVec 32 := v4409
  ![v4410.toNat]
def k0_mult299 (v4416 : BitVec 32) : BitVec 32 :=
  let c999936_i32_1968 : BitVec 32 := 999936#32
  let v4417 : BitVec 32 := Scalar.subi v4416 c999936_i32_1968
  let c32_i32_1969 : BitVec 32 := 32#32
  let v4418 : BitVec 32 := Scalar.muli v4417 c32_i32_1969
  v4418

def k0_off580 (v4416 : BitVec 32) : Fin 1 → Nat :=
  let c999936_i32_1968 : BitVec 32 := 999936#32
  let v4417 : BitVec 32 := Scalar.subi v4416 c999936_i32_1968
  let c32_i32_1969 : BitVec 32 := 32#32
  let v4418 : BitVec 32 := Scalar.muli v4417 c32_i32_1969
  let v4419 : BitVec 32 := v4418
  ![v4419.toNat]
def k0_mult300 (v4425 : BitVec 32) : BitVec 32 :=
  let c999936_i32_1971 : BitVec 32 := 999936#32
  let v4426 : BitVec 32 := Scalar.subi v4425 c999936_i32_1971
  let c32_i32_1972 : BitVec 32 := 32#32
  let v4427 : BitVec 32 := Scalar.muli v4426 c32_i32_1972
  v4427

def k0_off581 (v4425 : BitVec 32) : Fin 1 → Nat :=
  let c999936_i32_1971 : BitVec 32 := 999936#32
  let v4426 : BitVec 32 := Scalar.subi v4425 c999936_i32_1971
  let c32_i32_1972 : BitVec 32 := 32#32
  let v4427 : BitVec 32 := Scalar.muli v4426 c32_i32_1972
  let v4428 : BitVec 32 := v4427
  ![v4428.toNat]
def k0_mult301 (v4434 : BitVec 32) : BitVec 32 :=
  let c999936_i32_1974 : BitVec 32 := 999936#32
  let v4435 : BitVec 32 := Scalar.subi v4434 c999936_i32_1974
  let c32_i32_1975 : BitVec 32 := 32#32
  let v4436 : BitVec 32 := Scalar.muli v4435 c32_i32_1975
  v4436

def k0_off582 (v4434 : BitVec 32) : Fin 1 → Nat :=
  let c999936_i32_1974 : BitVec 32 := 999936#32
  let v4435 : BitVec 32 := Scalar.subi v4434 c999936_i32_1974
  let c32_i32_1975 : BitVec 32 := 32#32
  let v4436 : BitVec 32 := Scalar.muli v4435 c32_i32_1975
  let v4437 : BitVec 32 := v4436
  ![v4437.toNat]
def k0_mult302 (v4443 : BitVec 32) : BitVec 32 :=
  let c999936_i32_1977 : BitVec 32 := 999936#32
  let v4444 : BitVec 32 := Scalar.subi v4443 c999936_i32_1977
  let c32_i32_1978 : BitVec 32 := 32#32
  let v4445 : BitVec 32 := Scalar.muli v4444 c32_i32_1978
  v4445

def k0_off583 (v4443 : BitVec 32) : Fin 1 → Nat :=
  let c999936_i32_1977 : BitVec 32 := 999936#32
  let v4444 : BitVec 32 := Scalar.subi v4443 c999936_i32_1977
  let c32_i32_1978 : BitVec 32 := 32#32
  let v4445 : BitVec 32 := Scalar.muli v4444 c32_i32_1978
  let v4446 : BitVec 32 := v4445
  ![v4446.toNat]
def k0_mult303 (v4452 : BitVec 32) : BitVec 32 :=
  let c999936_i32_1980 : BitVec 32 := 999936#32
  let v4453 : BitVec 32 := Scalar.subi v4452 c999936_i32_1980
  let c32_i32_1981 : BitVec 32 := 32#32
  let v4454 : BitVec 32 := Scalar.muli v4453 c32_i32_1981
  v4454

def k0_off584 (v4452 : BitVec 32) : Fin 1 → Nat :=
  let c999936_i32_1980 : BitVec 32 := 999936#32
  let v4453 : BitVec 32 := Scalar.subi v4452 c999936_i32_1980
  let c32_i32_1981 : BitVec 32 := 32#32
  let v4454 : BitVec 32 := Scalar.muli v4453 c32_i32_1981
  let v4455 : BitVec 32 := v4454
  ![v4455.toNat]
def k0_mult304 (v4461 : BitVec 32) : BitVec 32 :=
  let c999936_i32_1983 : BitVec 32 := 999936#32
  let v4462 : BitVec 32 := Scalar.subi v4461 c999936_i32_1983
  let c32_i32_1984 : BitVec 32 := 32#32
  let v4463 : BitVec 32 := Scalar.muli v4462 c32_i32_1984
  v4463

def k0_off585 (v4461 : BitVec 32) : Fin 1 → Nat :=
  let c999936_i32_1983 : BitVec 32 := 999936#32
  let v4462 : BitVec 32 := Scalar.subi v4461 c999936_i32_1983
  let c32_i32_1984 : BitVec 32 := 32#32
  let v4463 : BitVec 32 := Scalar.muli v4462 c32_i32_1984
  let v4464 : BitVec 32 := v4463
  ![v4464.toNat]
def k0_mult305 (v4470 : BitVec 32) : BitVec 32 :=
  let c999936_i32_1986 : BitVec 32 := 999936#32
  let v4471 : BitVec 32 := Scalar.subi v4470 c999936_i32_1986
  let c32_i32_1987 : BitVec 32 := 32#32
  let v4472 : BitVec 32 := Scalar.muli v4471 c32_i32_1987
  v4472

def k0_off586 (v4470 : BitVec 32) : Fin 1 → Nat :=
  let c999936_i32_1986 : BitVec 32 := 999936#32
  let v4471 : BitVec 32 := Scalar.subi v4470 c999936_i32_1986
  let c32_i32_1987 : BitVec 32 := 32#32
  let v4472 : BitVec 32 := Scalar.muli v4471 c32_i32_1987
  let v4473 : BitVec 32 := v4472
  ![v4473.toNat]

def k0_chk328 (v4470 : BitVec 32) : Prop :=
  (8 ∣ (k0_mult305 v4470).toNat) ∧
  (∀ a, (k0_off586 v4470) a + S32.size a ≤ S2048.size a)
theorem k0_mult305_dvd : ∀ (v4470 : BitVec 32) (k0_hw328 : k0_chk328 v4470), 8 ∣ (k0_mult305 v4470).toNat := fun v4470 k0_hw328 => k0_hw328.1
theorem k0_off586_inb : ∀ (v4470 : BitVec 32) (k0_hw328 : k0_chk328 v4470), ∀ a, (k0_off586 v4470) a + S32.size a ≤ S2048.size a := fun v4470 k0_hw328 => k0_hw328.2

def k0_off587 (v4335 : BitVec 32) : Fin 1 → Nat :=
  let c999936_i32_1941 : BitVec 32 := 999936#32
  let v4336 : BitVec 32 := Scalar.subi v4335 c999936_i32_1941
  let c32_i32_1942 : BitVec 32 := 32#32
  let v4337 : BitVec 32 := Scalar.muli v4336 c32_i32_1942
  let v4338 : BitVec 32 := v4337
  ![v4338.toNat]

def k0_chk313 (v4335 : BitVec 32) : Prop :=
  (8 ∣ (k0_mult290 v4335).toNat) ∧
  (∀ a, (k0_off571 v4335) a + S32.size a ≤ S2048.size a) ∧
  (∀ a, (k0_off587 v4335) a + S32.size a ≤ S2048.size a)
theorem k0_mult290_dvd : ∀ (v4335 : BitVec 32) (k0_hw313 : k0_chk313 v4335), 8 ∣ (k0_mult290 v4335).toNat := fun v4335 k0_hw313 => k0_hw313.1
theorem k0_off571_inb : ∀ (v4335 : BitVec 32) (k0_hw313 : k0_chk313 v4335), ∀ a, (k0_off571 v4335) a + S32.size a ≤ S2048.size a := fun v4335 k0_hw313 => k0_hw313.2.1
theorem k0_off587_inb : ∀ (v4335 : BitVec 32) (k0_hw313 : k0_chk313 v4335), ∀ a, (k0_off587 v4335) a + S32.size a ≤ S2048.size a := fun v4335 k0_hw313 => k0_hw313.2.2

def k0_off588 (v4344 : BitVec 32) : Fin 1 → Nat :=
  let c999936_i32_1944 : BitVec 32 := 999936#32
  let v4345 : BitVec 32 := Scalar.subi v4344 c999936_i32_1944
  let c32_i32_1945 : BitVec 32 := 32#32
  let v4346 : BitVec 32 := Scalar.muli v4345 c32_i32_1945
  let v4347 : BitVec 32 := v4346
  ![v4347.toNat]

def k0_chk314 (v4344 : BitVec 32) : Prop :=
  (8 ∣ (k0_mult291 v4344).toNat) ∧
  (∀ a, (k0_off572 v4344) a + S32.size a ≤ S2048.size a) ∧
  (∀ a, (k0_off588 v4344) a + S32.size a ≤ S2048.size a)
theorem k0_mult291_dvd : ∀ (v4344 : BitVec 32) (k0_hw314 : k0_chk314 v4344), 8 ∣ (k0_mult291 v4344).toNat := fun v4344 k0_hw314 => k0_hw314.1
theorem k0_off572_inb : ∀ (v4344 : BitVec 32) (k0_hw314 : k0_chk314 v4344), ∀ a, (k0_off572 v4344) a + S32.size a ≤ S2048.size a := fun v4344 k0_hw314 => k0_hw314.2.1
theorem k0_off588_inb : ∀ (v4344 : BitVec 32) (k0_hw314 : k0_chk314 v4344), ∀ a, (k0_off588 v4344) a + S32.size a ≤ S2048.size a := fun v4344 k0_hw314 => k0_hw314.2.2

def k0_off589 (v4353 : BitVec 32) : Fin 1 → Nat :=
  let c999936_i32_1947 : BitVec 32 := 999936#32
  let v4354 : BitVec 32 := Scalar.subi v4353 c999936_i32_1947
  let c32_i32_1948 : BitVec 32 := 32#32
  let v4355 : BitVec 32 := Scalar.muli v4354 c32_i32_1948
  let v4356 : BitVec 32 := v4355
  ![v4356.toNat]

def k0_chk315 (v4353 : BitVec 32) : Prop :=
  (8 ∣ (k0_mult292 v4353).toNat) ∧
  (∀ a, (k0_off573 v4353) a + S32.size a ≤ S2048.size a) ∧
  (∀ a, (k0_off589 v4353) a + S32.size a ≤ S2048.size a)
theorem k0_mult292_dvd : ∀ (v4353 : BitVec 32) (k0_hw315 : k0_chk315 v4353), 8 ∣ (k0_mult292 v4353).toNat := fun v4353 k0_hw315 => k0_hw315.1
theorem k0_off573_inb : ∀ (v4353 : BitVec 32) (k0_hw315 : k0_chk315 v4353), ∀ a, (k0_off573 v4353) a + S32.size a ≤ S2048.size a := fun v4353 k0_hw315 => k0_hw315.2.1
theorem k0_off589_inb : ∀ (v4353 : BitVec 32) (k0_hw315 : k0_chk315 v4353), ∀ a, (k0_off589 v4353) a + S32.size a ≤ S2048.size a := fun v4353 k0_hw315 => k0_hw315.2.2

def k0_off590 (v4362 : BitVec 32) : Fin 1 → Nat :=
  let c999936_i32_1950 : BitVec 32 := 999936#32
  let v4363 : BitVec 32 := Scalar.subi v4362 c999936_i32_1950
  let c32_i32_1951 : BitVec 32 := 32#32
  let v4364 : BitVec 32 := Scalar.muli v4363 c32_i32_1951
  let v4365 : BitVec 32 := v4364
  ![v4365.toNat]

def k0_chk316 (v4362 : BitVec 32) : Prop :=
  (8 ∣ (k0_mult293 v4362).toNat) ∧
  (∀ a, (k0_off574 v4362) a + S32.size a ≤ S2048.size a) ∧
  (∀ a, (k0_off590 v4362) a + S32.size a ≤ S2048.size a)
theorem k0_mult293_dvd : ∀ (v4362 : BitVec 32) (k0_hw316 : k0_chk316 v4362), 8 ∣ (k0_mult293 v4362).toNat := fun v4362 k0_hw316 => k0_hw316.1
theorem k0_off574_inb : ∀ (v4362 : BitVec 32) (k0_hw316 : k0_chk316 v4362), ∀ a, (k0_off574 v4362) a + S32.size a ≤ S2048.size a := fun v4362 k0_hw316 => k0_hw316.2.1
theorem k0_off590_inb : ∀ (v4362 : BitVec 32) (k0_hw316 : k0_chk316 v4362), ∀ a, (k0_off590 v4362) a + S32.size a ≤ S2048.size a := fun v4362 k0_hw316 => k0_hw316.2.2

def k0_off591 (v4371 : BitVec 32) : Fin 1 → Nat :=
  let c999936_i32_1953 : BitVec 32 := 999936#32
  let v4372 : BitVec 32 := Scalar.subi v4371 c999936_i32_1953
  let c32_i32_1954 : BitVec 32 := 32#32
  let v4373 : BitVec 32 := Scalar.muli v4372 c32_i32_1954
  let v4374 : BitVec 32 := v4373
  ![v4374.toNat]

def k0_chk317 (v4371 : BitVec 32) : Prop :=
  (8 ∣ (k0_mult294 v4371).toNat) ∧
  (∀ a, (k0_off575 v4371) a + S32.size a ≤ S2048.size a) ∧
  (∀ a, (k0_off591 v4371) a + S32.size a ≤ S2048.size a)
theorem k0_mult294_dvd : ∀ (v4371 : BitVec 32) (k0_hw317 : k0_chk317 v4371), 8 ∣ (k0_mult294 v4371).toNat := fun v4371 k0_hw317 => k0_hw317.1
theorem k0_off575_inb : ∀ (v4371 : BitVec 32) (k0_hw317 : k0_chk317 v4371), ∀ a, (k0_off575 v4371) a + S32.size a ≤ S2048.size a := fun v4371 k0_hw317 => k0_hw317.2.1
theorem k0_off591_inb : ∀ (v4371 : BitVec 32) (k0_hw317 : k0_chk317 v4371), ∀ a, (k0_off591 v4371) a + S32.size a ≤ S2048.size a := fun v4371 k0_hw317 => k0_hw317.2.2

def k0_off592 (v4380 : BitVec 32) : Fin 1 → Nat :=
  let c999936_i32_1956 : BitVec 32 := 999936#32
  let v4381 : BitVec 32 := Scalar.subi v4380 c999936_i32_1956
  let c32_i32_1957 : BitVec 32 := 32#32
  let v4382 : BitVec 32 := Scalar.muli v4381 c32_i32_1957
  let v4383 : BitVec 32 := v4382
  ![v4383.toNat]

def k0_chk318 (v4380 : BitVec 32) : Prop :=
  (8 ∣ (k0_mult295 v4380).toNat) ∧
  (∀ a, (k0_off576 v4380) a + S32.size a ≤ S2048.size a) ∧
  (∀ a, (k0_off592 v4380) a + S32.size a ≤ S2048.size a)
theorem k0_mult295_dvd : ∀ (v4380 : BitVec 32) (k0_hw318 : k0_chk318 v4380), 8 ∣ (k0_mult295 v4380).toNat := fun v4380 k0_hw318 => k0_hw318.1
theorem k0_off576_inb : ∀ (v4380 : BitVec 32) (k0_hw318 : k0_chk318 v4380), ∀ a, (k0_off576 v4380) a + S32.size a ≤ S2048.size a := fun v4380 k0_hw318 => k0_hw318.2.1
theorem k0_off592_inb : ∀ (v4380 : BitVec 32) (k0_hw318 : k0_chk318 v4380), ∀ a, (k0_off592 v4380) a + S32.size a ≤ S2048.size a := fun v4380 k0_hw318 => k0_hw318.2.2

def k0_off593 (v4389 : BitVec 32) : Fin 1 → Nat :=
  let c999936_i32_1959 : BitVec 32 := 999936#32
  let v4390 : BitVec 32 := Scalar.subi v4389 c999936_i32_1959
  let c32_i32_1960 : BitVec 32 := 32#32
  let v4391 : BitVec 32 := Scalar.muli v4390 c32_i32_1960
  let v4392 : BitVec 32 := v4391
  ![v4392.toNat]

def k0_chk319 (v4389 : BitVec 32) : Prop :=
  (8 ∣ (k0_mult296 v4389).toNat) ∧
  (∀ a, (k0_off577 v4389) a + S32.size a ≤ S2048.size a) ∧
  (∀ a, (k0_off593 v4389) a + S32.size a ≤ S2048.size a)
theorem k0_mult296_dvd : ∀ (v4389 : BitVec 32) (k0_hw319 : k0_chk319 v4389), 8 ∣ (k0_mult296 v4389).toNat := fun v4389 k0_hw319 => k0_hw319.1
theorem k0_off577_inb : ∀ (v4389 : BitVec 32) (k0_hw319 : k0_chk319 v4389), ∀ a, (k0_off577 v4389) a + S32.size a ≤ S2048.size a := fun v4389 k0_hw319 => k0_hw319.2.1
theorem k0_off593_inb : ∀ (v4389 : BitVec 32) (k0_hw319 : k0_chk319 v4389), ∀ a, (k0_off593 v4389) a + S32.size a ≤ S2048.size a := fun v4389 k0_hw319 => k0_hw319.2.2

def k0_off594 (v4398 : BitVec 32) : Fin 1 → Nat :=
  let c999936_i32_1962 : BitVec 32 := 999936#32
  let v4399 : BitVec 32 := Scalar.subi v4398 c999936_i32_1962
  let c32_i32_1963 : BitVec 32 := 32#32
  let v4400 : BitVec 32 := Scalar.muli v4399 c32_i32_1963
  let v4401 : BitVec 32 := v4400
  ![v4401.toNat]

def k0_chk320 (v4398 : BitVec 32) : Prop :=
  (8 ∣ (k0_mult297 v4398).toNat) ∧
  (∀ a, (k0_off578 v4398) a + S32.size a ≤ S2048.size a) ∧
  (∀ a, (k0_off594 v4398) a + S32.size a ≤ S2048.size a)
theorem k0_mult297_dvd : ∀ (v4398 : BitVec 32) (k0_hw320 : k0_chk320 v4398), 8 ∣ (k0_mult297 v4398).toNat := fun v4398 k0_hw320 => k0_hw320.1
theorem k0_off578_inb : ∀ (v4398 : BitVec 32) (k0_hw320 : k0_chk320 v4398), ∀ a, (k0_off578 v4398) a + S32.size a ≤ S2048.size a := fun v4398 k0_hw320 => k0_hw320.2.1
theorem k0_off594_inb : ∀ (v4398 : BitVec 32) (k0_hw320 : k0_chk320 v4398), ∀ a, (k0_off594 v4398) a + S32.size a ≤ S2048.size a := fun v4398 k0_hw320 => k0_hw320.2.2

def k0_off595 (v4407 : BitVec 32) : Fin 1 → Nat :=
  let c999936_i32_1965 : BitVec 32 := 999936#32
  let v4408 : BitVec 32 := Scalar.subi v4407 c999936_i32_1965
  let c32_i32_1966 : BitVec 32 := 32#32
  let v4409 : BitVec 32 := Scalar.muli v4408 c32_i32_1966
  let v4410 : BitVec 32 := v4409
  ![v4410.toNat]

def k0_chk321 (v4407 : BitVec 32) : Prop :=
  (8 ∣ (k0_mult298 v4407).toNat) ∧
  (∀ a, (k0_off579 v4407) a + S32.size a ≤ S2048.size a) ∧
  (∀ a, (k0_off595 v4407) a + S32.size a ≤ S2048.size a)
theorem k0_mult298_dvd : ∀ (v4407 : BitVec 32) (k0_hw321 : k0_chk321 v4407), 8 ∣ (k0_mult298 v4407).toNat := fun v4407 k0_hw321 => k0_hw321.1
theorem k0_off579_inb : ∀ (v4407 : BitVec 32) (k0_hw321 : k0_chk321 v4407), ∀ a, (k0_off579 v4407) a + S32.size a ≤ S2048.size a := fun v4407 k0_hw321 => k0_hw321.2.1
theorem k0_off595_inb : ∀ (v4407 : BitVec 32) (k0_hw321 : k0_chk321 v4407), ∀ a, (k0_off595 v4407) a + S32.size a ≤ S2048.size a := fun v4407 k0_hw321 => k0_hw321.2.2

def k0_off596 (v4416 : BitVec 32) : Fin 1 → Nat :=
  let c999936_i32_1968 : BitVec 32 := 999936#32
  let v4417 : BitVec 32 := Scalar.subi v4416 c999936_i32_1968
  let c32_i32_1969 : BitVec 32 := 32#32
  let v4418 : BitVec 32 := Scalar.muli v4417 c32_i32_1969
  let v4419 : BitVec 32 := v4418
  ![v4419.toNat]

def k0_chk322 (v4416 : BitVec 32) : Prop :=
  (8 ∣ (k0_mult299 v4416).toNat) ∧
  (∀ a, (k0_off580 v4416) a + S32.size a ≤ S2048.size a) ∧
  (∀ a, (k0_off596 v4416) a + S32.size a ≤ S2048.size a)
theorem k0_mult299_dvd : ∀ (v4416 : BitVec 32) (k0_hw322 : k0_chk322 v4416), 8 ∣ (k0_mult299 v4416).toNat := fun v4416 k0_hw322 => k0_hw322.1
theorem k0_off580_inb : ∀ (v4416 : BitVec 32) (k0_hw322 : k0_chk322 v4416), ∀ a, (k0_off580 v4416) a + S32.size a ≤ S2048.size a := fun v4416 k0_hw322 => k0_hw322.2.1
theorem k0_off596_inb : ∀ (v4416 : BitVec 32) (k0_hw322 : k0_chk322 v4416), ∀ a, (k0_off596 v4416) a + S32.size a ≤ S2048.size a := fun v4416 k0_hw322 => k0_hw322.2.2

def k0_off597 (v4425 : BitVec 32) : Fin 1 → Nat :=
  let c999936_i32_1971 : BitVec 32 := 999936#32
  let v4426 : BitVec 32 := Scalar.subi v4425 c999936_i32_1971
  let c32_i32_1972 : BitVec 32 := 32#32
  let v4427 : BitVec 32 := Scalar.muli v4426 c32_i32_1972
  let v4428 : BitVec 32 := v4427
  ![v4428.toNat]

def k0_chk323 (v4425 : BitVec 32) : Prop :=
  (8 ∣ (k0_mult300 v4425).toNat) ∧
  (∀ a, (k0_off581 v4425) a + S32.size a ≤ S2048.size a) ∧
  (∀ a, (k0_off597 v4425) a + S32.size a ≤ S2048.size a)
theorem k0_mult300_dvd : ∀ (v4425 : BitVec 32) (k0_hw323 : k0_chk323 v4425), 8 ∣ (k0_mult300 v4425).toNat := fun v4425 k0_hw323 => k0_hw323.1
theorem k0_off581_inb : ∀ (v4425 : BitVec 32) (k0_hw323 : k0_chk323 v4425), ∀ a, (k0_off581 v4425) a + S32.size a ≤ S2048.size a := fun v4425 k0_hw323 => k0_hw323.2.1
theorem k0_off597_inb : ∀ (v4425 : BitVec 32) (k0_hw323 : k0_chk323 v4425), ∀ a, (k0_off597 v4425) a + S32.size a ≤ S2048.size a := fun v4425 k0_hw323 => k0_hw323.2.2

def k0_off598 (v4434 : BitVec 32) : Fin 1 → Nat :=
  let c999936_i32_1974 : BitVec 32 := 999936#32
  let v4435 : BitVec 32 := Scalar.subi v4434 c999936_i32_1974
  let c32_i32_1975 : BitVec 32 := 32#32
  let v4436 : BitVec 32 := Scalar.muli v4435 c32_i32_1975
  let v4437 : BitVec 32 := v4436
  ![v4437.toNat]

def k0_chk324 (v4434 : BitVec 32) : Prop :=
  (8 ∣ (k0_mult301 v4434).toNat) ∧
  (∀ a, (k0_off582 v4434) a + S32.size a ≤ S2048.size a) ∧
  (∀ a, (k0_off598 v4434) a + S32.size a ≤ S2048.size a)
theorem k0_mult301_dvd : ∀ (v4434 : BitVec 32) (k0_hw324 : k0_chk324 v4434), 8 ∣ (k0_mult301 v4434).toNat := fun v4434 k0_hw324 => k0_hw324.1
theorem k0_off582_inb : ∀ (v4434 : BitVec 32) (k0_hw324 : k0_chk324 v4434), ∀ a, (k0_off582 v4434) a + S32.size a ≤ S2048.size a := fun v4434 k0_hw324 => k0_hw324.2.1
theorem k0_off598_inb : ∀ (v4434 : BitVec 32) (k0_hw324 : k0_chk324 v4434), ∀ a, (k0_off598 v4434) a + S32.size a ≤ S2048.size a := fun v4434 k0_hw324 => k0_hw324.2.2

def k0_off599 (v4443 : BitVec 32) : Fin 1 → Nat :=
  let c999936_i32_1977 : BitVec 32 := 999936#32
  let v4444 : BitVec 32 := Scalar.subi v4443 c999936_i32_1977
  let c32_i32_1978 : BitVec 32 := 32#32
  let v4445 : BitVec 32 := Scalar.muli v4444 c32_i32_1978
  let v4446 : BitVec 32 := v4445
  ![v4446.toNat]

def k0_chk325 (v4443 : BitVec 32) : Prop :=
  (8 ∣ (k0_mult302 v4443).toNat) ∧
  (∀ a, (k0_off583 v4443) a + S32.size a ≤ S2048.size a) ∧
  (∀ a, (k0_off599 v4443) a + S32.size a ≤ S2048.size a)
theorem k0_mult302_dvd : ∀ (v4443 : BitVec 32) (k0_hw325 : k0_chk325 v4443), 8 ∣ (k0_mult302 v4443).toNat := fun v4443 k0_hw325 => k0_hw325.1
theorem k0_off583_inb : ∀ (v4443 : BitVec 32) (k0_hw325 : k0_chk325 v4443), ∀ a, (k0_off583 v4443) a + S32.size a ≤ S2048.size a := fun v4443 k0_hw325 => k0_hw325.2.1
theorem k0_off599_inb : ∀ (v4443 : BitVec 32) (k0_hw325 : k0_chk325 v4443), ∀ a, (k0_off599 v4443) a + S32.size a ≤ S2048.size a := fun v4443 k0_hw325 => k0_hw325.2.2

def k0_off600 (v4452 : BitVec 32) : Fin 1 → Nat :=
  let c999936_i32_1980 : BitVec 32 := 999936#32
  let v4453 : BitVec 32 := Scalar.subi v4452 c999936_i32_1980
  let c32_i32_1981 : BitVec 32 := 32#32
  let v4454 : BitVec 32 := Scalar.muli v4453 c32_i32_1981
  let v4455 : BitVec 32 := v4454
  ![v4455.toNat]

def k0_chk326 (v4452 : BitVec 32) : Prop :=
  (8 ∣ (k0_mult303 v4452).toNat) ∧
  (∀ a, (k0_off584 v4452) a + S32.size a ≤ S2048.size a) ∧
  (∀ a, (k0_off600 v4452) a + S32.size a ≤ S2048.size a)
theorem k0_mult303_dvd : ∀ (v4452 : BitVec 32) (k0_hw326 : k0_chk326 v4452), 8 ∣ (k0_mult303 v4452).toNat := fun v4452 k0_hw326 => k0_hw326.1
theorem k0_off584_inb : ∀ (v4452 : BitVec 32) (k0_hw326 : k0_chk326 v4452), ∀ a, (k0_off584 v4452) a + S32.size a ≤ S2048.size a := fun v4452 k0_hw326 => k0_hw326.2.1
theorem k0_off600_inb : ∀ (v4452 : BitVec 32) (k0_hw326 : k0_chk326 v4452), ∀ a, (k0_off600 v4452) a + S32.size a ≤ S2048.size a := fun v4452 k0_hw326 => k0_hw326.2.2

def k0_off601 (v4461 : BitVec 32) : Fin 1 → Nat :=
  let c999936_i32_1983 : BitVec 32 := 999936#32
  let v4462 : BitVec 32 := Scalar.subi v4461 c999936_i32_1983
  let c32_i32_1984 : BitVec 32 := 32#32
  let v4463 : BitVec 32 := Scalar.muli v4462 c32_i32_1984
  let v4464 : BitVec 32 := v4463
  ![v4464.toNat]

def k0_chk327 (v4461 : BitVec 32) : Prop :=
  (8 ∣ (k0_mult304 v4461).toNat) ∧
  (∀ a, (k0_off585 v4461) a + S32.size a ≤ S2048.size a) ∧
  (∀ a, (k0_off601 v4461) a + S32.size a ≤ S2048.size a)
theorem k0_mult304_dvd : ∀ (v4461 : BitVec 32) (k0_hw327 : k0_chk327 v4461), 8 ∣ (k0_mult304 v4461).toNat := fun v4461 k0_hw327 => k0_hw327.1
theorem k0_off585_inb : ∀ (v4461 : BitVec 32) (k0_hw327 : k0_chk327 v4461), ∀ a, (k0_off585 v4461) a + S32.size a ≤ S2048.size a := fun v4461 k0_hw327 => k0_hw327.2.1
theorem k0_off601_inb : ∀ (v4461 : BitVec 32) (k0_hw327 : k0_chk327 v4461), ∀ a, (k0_off601 v4461) a + S32.size a ≤ S2048.size a := fun v4461 k0_hw327 => k0_hw327.2.2

def k0_mult306 (v4543 : BitVec 32) : BitVec 32 :=
  let c0_i32_2022 : BitVec 32 := 0#32
  let c32_i32_2021 : BitVec 32 := 32#32
  let v4544 : BitVec 32 := Scalar.muli v4543 c32_i32_2021
  let v4545 : BitVec 32 := Scalar.addi c0_i32_2022 v4544
  v4545

def k0_off602 (v4543 : BitVec 32) : Fin 1 → Nat :=
  let c0_i32_2022 : BitVec 32 := 0#32
  let c32_i32_2021 : BitVec 32 := 32#32
  let v4544 : BitVec 32 := Scalar.muli v4543 c32_i32_2021
  let v4545 : BitVec 32 := Scalar.addi c0_i32_2022 v4544
  let v4546 : BitVec 32 := v4545
  ![v4546.toNat]
def k0_mult307 (v4552 : BitVec 32) : BitVec 32 :=
  let c0_i32_2026 : BitVec 32 := 0#32
  let c32_i32_2025 : BitVec 32 := 32#32
  let v4553 : BitVec 32 := Scalar.muli v4552 c32_i32_2025
  let v4554 : BitVec 32 := Scalar.addi c0_i32_2026 v4553
  v4554

def k0_off603 (v4552 : BitVec 32) : Fin 1 → Nat :=
  let c0_i32_2026 : BitVec 32 := 0#32
  let c32_i32_2025 : BitVec 32 := 32#32
  let v4553 : BitVec 32 := Scalar.muli v4552 c32_i32_2025
  let v4554 : BitVec 32 := Scalar.addi c0_i32_2026 v4553
  let v4555 : BitVec 32 := v4554
  ![v4555.toNat]
def k0_mult308 (v4561 : BitVec 32) : BitVec 32 :=
  let c0_i32_2030 : BitVec 32 := 0#32
  let c32_i32_2029 : BitVec 32 := 32#32
  let v4562 : BitVec 32 := Scalar.muli v4561 c32_i32_2029
  let v4563 : BitVec 32 := Scalar.addi c0_i32_2030 v4562
  v4563

def k0_off604 (v4561 : BitVec 32) : Fin 1 → Nat :=
  let c0_i32_2030 : BitVec 32 := 0#32
  let c32_i32_2029 : BitVec 32 := 32#32
  let v4562 : BitVec 32 := Scalar.muli v4561 c32_i32_2029
  let v4563 : BitVec 32 := Scalar.addi c0_i32_2030 v4562
  let v4564 : BitVec 32 := v4563
  ![v4564.toNat]
def k0_mult309 (v4570 : BitVec 32) : BitVec 32 :=
  let c0_i32_2034 : BitVec 32 := 0#32
  let c32_i32_2033 : BitVec 32 := 32#32
  let v4571 : BitVec 32 := Scalar.muli v4570 c32_i32_2033
  let v4572 : BitVec 32 := Scalar.addi c0_i32_2034 v4571
  v4572

def k0_off605 (v4570 : BitVec 32) : Fin 1 → Nat :=
  let c0_i32_2034 : BitVec 32 := 0#32
  let c32_i32_2033 : BitVec 32 := 32#32
  let v4571 : BitVec 32 := Scalar.muli v4570 c32_i32_2033
  let v4572 : BitVec 32 := Scalar.addi c0_i32_2034 v4571
  let v4573 : BitVec 32 := v4572
  ![v4573.toNat]
def k0_mult310 (v4579 : BitVec 32) : BitVec 32 :=
  let c0_i32_2038 : BitVec 32 := 0#32
  let c32_i32_2037 : BitVec 32 := 32#32
  let v4580 : BitVec 32 := Scalar.muli v4579 c32_i32_2037
  let v4581 : BitVec 32 := Scalar.addi c0_i32_2038 v4580
  v4581

def k0_off606 (v4579 : BitVec 32) : Fin 1 → Nat :=
  let c0_i32_2038 : BitVec 32 := 0#32
  let c32_i32_2037 : BitVec 32 := 32#32
  let v4580 : BitVec 32 := Scalar.muli v4579 c32_i32_2037
  let v4581 : BitVec 32 := Scalar.addi c0_i32_2038 v4580
  let v4582 : BitVec 32 := v4581
  ![v4582.toNat]
def k0_mult311 (v4588 : BitVec 32) : BitVec 32 :=
  let c0_i32_2042 : BitVec 32 := 0#32
  let c32_i32_2041 : BitVec 32 := 32#32
  let v4589 : BitVec 32 := Scalar.muli v4588 c32_i32_2041
  let v4590 : BitVec 32 := Scalar.addi c0_i32_2042 v4589
  v4590

def k0_off607 (v4588 : BitVec 32) : Fin 1 → Nat :=
  let c0_i32_2042 : BitVec 32 := 0#32
  let c32_i32_2041 : BitVec 32 := 32#32
  let v4589 : BitVec 32 := Scalar.muli v4588 c32_i32_2041
  let v4590 : BitVec 32 := Scalar.addi c0_i32_2042 v4589
  let v4591 : BitVec 32 := v4590
  ![v4591.toNat]
def k0_mult312 (v4597 : BitVec 32) : BitVec 32 :=
  let c0_i32_2046 : BitVec 32 := 0#32
  let c32_i32_2045 : BitVec 32 := 32#32
  let v4598 : BitVec 32 := Scalar.muli v4597 c32_i32_2045
  let v4599 : BitVec 32 := Scalar.addi c0_i32_2046 v4598
  v4599

def k0_off608 (v4597 : BitVec 32) : Fin 1 → Nat :=
  let c0_i32_2046 : BitVec 32 := 0#32
  let c32_i32_2045 : BitVec 32 := 32#32
  let v4598 : BitVec 32 := Scalar.muli v4597 c32_i32_2045
  let v4599 : BitVec 32 := Scalar.addi c0_i32_2046 v4598
  let v4600 : BitVec 32 := v4599
  ![v4600.toNat]
def k0_mult313 (v4606 : BitVec 32) : BitVec 32 :=
  let c0_i32_2050 : BitVec 32 := 0#32
  let c32_i32_2049 : BitVec 32 := 32#32
  let v4607 : BitVec 32 := Scalar.muli v4606 c32_i32_2049
  let v4608 : BitVec 32 := Scalar.addi c0_i32_2050 v4607
  v4608

def k0_off609 (v4606 : BitVec 32) : Fin 1 → Nat :=
  let c0_i32_2050 : BitVec 32 := 0#32
  let c32_i32_2049 : BitVec 32 := 32#32
  let v4607 : BitVec 32 := Scalar.muli v4606 c32_i32_2049
  let v4608 : BitVec 32 := Scalar.addi c0_i32_2050 v4607
  let v4609 : BitVec 32 := v4608
  ![v4609.toNat]
def k0_mult314 (v4615 : BitVec 32) : BitVec 32 :=
  let c0_i32_2054 : BitVec 32 := 0#32
  let c32_i32_2053 : BitVec 32 := 32#32
  let v4616 : BitVec 32 := Scalar.muli v4615 c32_i32_2053
  let v4617 : BitVec 32 := Scalar.addi c0_i32_2054 v4616
  v4617

def k0_off610 (v4615 : BitVec 32) : Fin 1 → Nat :=
  let c0_i32_2054 : BitVec 32 := 0#32
  let c32_i32_2053 : BitVec 32 := 32#32
  let v4616 : BitVec 32 := Scalar.muli v4615 c32_i32_2053
  let v4617 : BitVec 32 := Scalar.addi c0_i32_2054 v4616
  let v4618 : BitVec 32 := v4617
  ![v4618.toNat]
def k0_mult315 (v4624 : BitVec 32) : BitVec 32 :=
  let c0_i32_2058 : BitVec 32 := 0#32
  let c32_i32_2057 : BitVec 32 := 32#32
  let v4625 : BitVec 32 := Scalar.muli v4624 c32_i32_2057
  let v4626 : BitVec 32 := Scalar.addi c0_i32_2058 v4625
  v4626

def k0_off611 (v4624 : BitVec 32) : Fin 1 → Nat :=
  let c0_i32_2058 : BitVec 32 := 0#32
  let c32_i32_2057 : BitVec 32 := 32#32
  let v4625 : BitVec 32 := Scalar.muli v4624 c32_i32_2057
  let v4626 : BitVec 32 := Scalar.addi c0_i32_2058 v4625
  let v4627 : BitVec 32 := v4626
  ![v4627.toNat]
def k0_mult316 (v4633 : BitVec 32) : BitVec 32 :=
  let c0_i32_2062 : BitVec 32 := 0#32
  let c32_i32_2061 : BitVec 32 := 32#32
  let v4634 : BitVec 32 := Scalar.muli v4633 c32_i32_2061
  let v4635 : BitVec 32 := Scalar.addi c0_i32_2062 v4634
  v4635

def k0_off612 (v4633 : BitVec 32) : Fin 1 → Nat :=
  let c0_i32_2062 : BitVec 32 := 0#32
  let c32_i32_2061 : BitVec 32 := 32#32
  let v4634 : BitVec 32 := Scalar.muli v4633 c32_i32_2061
  let v4635 : BitVec 32 := Scalar.addi c0_i32_2062 v4634
  let v4636 : BitVec 32 := v4635
  ![v4636.toNat]
def k0_mult317 (v4642 : BitVec 32) : BitVec 32 :=
  let c0_i32_2066 : BitVec 32 := 0#32
  let c32_i32_2065 : BitVec 32 := 32#32
  let v4643 : BitVec 32 := Scalar.muli v4642 c32_i32_2065
  let v4644 : BitVec 32 := Scalar.addi c0_i32_2066 v4643
  v4644

def k0_off613 (v4642 : BitVec 32) : Fin 1 → Nat :=
  let c0_i32_2066 : BitVec 32 := 0#32
  let c32_i32_2065 : BitVec 32 := 32#32
  let v4643 : BitVec 32 := Scalar.muli v4642 c32_i32_2065
  let v4644 : BitVec 32 := Scalar.addi c0_i32_2066 v4643
  let v4645 : BitVec 32 := v4644
  ![v4645.toNat]
def k0_mult318 (v4651 : BitVec 32) : BitVec 32 :=
  let c0_i32_2070 : BitVec 32 := 0#32
  let c32_i32_2069 : BitVec 32 := 32#32
  let v4652 : BitVec 32 := Scalar.muli v4651 c32_i32_2069
  let v4653 : BitVec 32 := Scalar.addi c0_i32_2070 v4652
  v4653

def k0_off614 (v4651 : BitVec 32) : Fin 1 → Nat :=
  let c0_i32_2070 : BitVec 32 := 0#32
  let c32_i32_2069 : BitVec 32 := 32#32
  let v4652 : BitVec 32 := Scalar.muli v4651 c32_i32_2069
  let v4653 : BitVec 32 := Scalar.addi c0_i32_2070 v4652
  let v4654 : BitVec 32 := v4653
  ![v4654.toNat]
def k0_mult319 (v4660 : BitVec 32) : BitVec 32 :=
  let c0_i32_2074 : BitVec 32 := 0#32
  let c32_i32_2073 : BitVec 32 := 32#32
  let v4661 : BitVec 32 := Scalar.muli v4660 c32_i32_2073
  let v4662 : BitVec 32 := Scalar.addi c0_i32_2074 v4661
  v4662

def k0_off615 (v4660 : BitVec 32) : Fin 1 → Nat :=
  let c0_i32_2074 : BitVec 32 := 0#32
  let c32_i32_2073 : BitVec 32 := 32#32
  let v4661 : BitVec 32 := Scalar.muli v4660 c32_i32_2073
  let v4662 : BitVec 32 := Scalar.addi c0_i32_2074 v4661
  let v4663 : BitVec 32 := v4662
  ![v4663.toNat]
def k0_mult320 (v4669 : BitVec 32) : BitVec 32 :=
  let c0_i32_2078 : BitVec 32 := 0#32
  let c32_i32_2077 : BitVec 32 := 32#32
  let v4670 : BitVec 32 := Scalar.muli v4669 c32_i32_2077
  let v4671 : BitVec 32 := Scalar.addi c0_i32_2078 v4670
  v4671

def k0_off616 (v4669 : BitVec 32) : Fin 1 → Nat :=
  let c0_i32_2078 : BitVec 32 := 0#32
  let c32_i32_2077 : BitVec 32 := 32#32
  let v4670 : BitVec 32 := Scalar.muli v4669 c32_i32_2077
  let v4671 : BitVec 32 := Scalar.addi c0_i32_2078 v4670
  let v4672 : BitVec 32 := v4671
  ![v4672.toNat]
def k0_mult321 (v4678 : BitVec 32) : BitVec 32 :=
  let c0_i32_2082 : BitVec 32 := 0#32
  let c32_i32_2081 : BitVec 32 := 32#32
  let v4679 : BitVec 32 := Scalar.muli v4678 c32_i32_2081
  let v4680 : BitVec 32 := Scalar.addi c0_i32_2082 v4679
  v4680

def k0_off617 (v4678 : BitVec 32) : Fin 1 → Nat :=
  let c0_i32_2082 : BitVec 32 := 0#32
  let c32_i32_2081 : BitVec 32 := 32#32
  let v4679 : BitVec 32 := Scalar.muli v4678 c32_i32_2081
  let v4680 : BitVec 32 := Scalar.addi c0_i32_2082 v4679
  let v4681 : BitVec 32 := v4680
  ![v4681.toNat]

def k0_chk344 (v4678 : BitVec 32) : Prop :=
  (8 ∣ (k0_mult321 v4678).toNat) ∧
  (∀ a, (k0_off617 v4678) a + S32.size a ≤ S3407872.size a)
theorem k0_mult321_dvd : ∀ (v4678 : BitVec 32) (k0_hw344 : k0_chk344 v4678), 8 ∣ (k0_mult321 v4678).toNat := fun v4678 k0_hw344 => k0_hw344.1
theorem k0_off617_inb : ∀ (v4678 : BitVec 32) (k0_hw344 : k0_chk344 v4678), ∀ a, (k0_off617 v4678) a + S32.size a ≤ S3407872.size a := fun v4678 k0_hw344 => k0_hw344.2

def k0_off618 (v4543 : BitVec 32) : Fin 1 → Nat :=
  let c0_i32_2022 : BitVec 32 := 0#32
  let c32_i32_2021 : BitVec 32 := 32#32
  let v4544 : BitVec 32 := Scalar.muli v4543 c32_i32_2021
  let v4545 : BitVec 32 := Scalar.addi c0_i32_2022 v4544
  let v4546 : BitVec 32 := v4545
  ![v4546.toNat]

def k0_chk329 (v4543 : BitVec 32) : Prop :=
  (8 ∣ (k0_mult306 v4543).toNat) ∧
  (∀ a, (k0_off602 v4543) a + S32.size a ≤ S3407872.size a) ∧
  (∀ a, (k0_off618 v4543) a + S32.size a ≤ S3407872.size a)
theorem k0_mult306_dvd : ∀ (v4543 : BitVec 32) (k0_hw329 : k0_chk329 v4543), 8 ∣ (k0_mult306 v4543).toNat := fun v4543 k0_hw329 => k0_hw329.1
theorem k0_off602_inb : ∀ (v4543 : BitVec 32) (k0_hw329 : k0_chk329 v4543), ∀ a, (k0_off602 v4543) a + S32.size a ≤ S3407872.size a := fun v4543 k0_hw329 => k0_hw329.2.1
theorem k0_off618_inb : ∀ (v4543 : BitVec 32) (k0_hw329 : k0_chk329 v4543), ∀ a, (k0_off618 v4543) a + S32.size a ≤ S3407872.size a := fun v4543 k0_hw329 => k0_hw329.2.2

def k0_off619 (v4552 : BitVec 32) : Fin 1 → Nat :=
  let c0_i32_2026 : BitVec 32 := 0#32
  let c32_i32_2025 : BitVec 32 := 32#32
  let v4553 : BitVec 32 := Scalar.muli v4552 c32_i32_2025
  let v4554 : BitVec 32 := Scalar.addi c0_i32_2026 v4553
  let v4555 : BitVec 32 := v4554
  ![v4555.toNat]

def k0_chk330 (v4552 : BitVec 32) : Prop :=
  (8 ∣ (k0_mult307 v4552).toNat) ∧
  (∀ a, (k0_off603 v4552) a + S32.size a ≤ S3407872.size a) ∧
  (∀ a, (k0_off619 v4552) a + S32.size a ≤ S3407872.size a)
theorem k0_mult307_dvd : ∀ (v4552 : BitVec 32) (k0_hw330 : k0_chk330 v4552), 8 ∣ (k0_mult307 v4552).toNat := fun v4552 k0_hw330 => k0_hw330.1
theorem k0_off603_inb : ∀ (v4552 : BitVec 32) (k0_hw330 : k0_chk330 v4552), ∀ a, (k0_off603 v4552) a + S32.size a ≤ S3407872.size a := fun v4552 k0_hw330 => k0_hw330.2.1
theorem k0_off619_inb : ∀ (v4552 : BitVec 32) (k0_hw330 : k0_chk330 v4552), ∀ a, (k0_off619 v4552) a + S32.size a ≤ S3407872.size a := fun v4552 k0_hw330 => k0_hw330.2.2

def k0_off620 (v4561 : BitVec 32) : Fin 1 → Nat :=
  let c0_i32_2030 : BitVec 32 := 0#32
  let c32_i32_2029 : BitVec 32 := 32#32
  let v4562 : BitVec 32 := Scalar.muli v4561 c32_i32_2029
  let v4563 : BitVec 32 := Scalar.addi c0_i32_2030 v4562
  let v4564 : BitVec 32 := v4563
  ![v4564.toNat]

def k0_chk331 (v4561 : BitVec 32) : Prop :=
  (8 ∣ (k0_mult308 v4561).toNat) ∧
  (∀ a, (k0_off604 v4561) a + S32.size a ≤ S3407872.size a) ∧
  (∀ a, (k0_off620 v4561) a + S32.size a ≤ S3407872.size a)
theorem k0_mult308_dvd : ∀ (v4561 : BitVec 32) (k0_hw331 : k0_chk331 v4561), 8 ∣ (k0_mult308 v4561).toNat := fun v4561 k0_hw331 => k0_hw331.1
theorem k0_off604_inb : ∀ (v4561 : BitVec 32) (k0_hw331 : k0_chk331 v4561), ∀ a, (k0_off604 v4561) a + S32.size a ≤ S3407872.size a := fun v4561 k0_hw331 => k0_hw331.2.1
theorem k0_off620_inb : ∀ (v4561 : BitVec 32) (k0_hw331 : k0_chk331 v4561), ∀ a, (k0_off620 v4561) a + S32.size a ≤ S3407872.size a := fun v4561 k0_hw331 => k0_hw331.2.2

def k0_off621 (v4570 : BitVec 32) : Fin 1 → Nat :=
  let c0_i32_2034 : BitVec 32 := 0#32
  let c32_i32_2033 : BitVec 32 := 32#32
  let v4571 : BitVec 32 := Scalar.muli v4570 c32_i32_2033
  let v4572 : BitVec 32 := Scalar.addi c0_i32_2034 v4571
  let v4573 : BitVec 32 := v4572
  ![v4573.toNat]

def k0_chk332 (v4570 : BitVec 32) : Prop :=
  (8 ∣ (k0_mult309 v4570).toNat) ∧
  (∀ a, (k0_off605 v4570) a + S32.size a ≤ S3407872.size a) ∧
  (∀ a, (k0_off621 v4570) a + S32.size a ≤ S3407872.size a)
theorem k0_mult309_dvd : ∀ (v4570 : BitVec 32) (k0_hw332 : k0_chk332 v4570), 8 ∣ (k0_mult309 v4570).toNat := fun v4570 k0_hw332 => k0_hw332.1
theorem k0_off605_inb : ∀ (v4570 : BitVec 32) (k0_hw332 : k0_chk332 v4570), ∀ a, (k0_off605 v4570) a + S32.size a ≤ S3407872.size a := fun v4570 k0_hw332 => k0_hw332.2.1
theorem k0_off621_inb : ∀ (v4570 : BitVec 32) (k0_hw332 : k0_chk332 v4570), ∀ a, (k0_off621 v4570) a + S32.size a ≤ S3407872.size a := fun v4570 k0_hw332 => k0_hw332.2.2

def k0_off622 (v4579 : BitVec 32) : Fin 1 → Nat :=
  let c0_i32_2038 : BitVec 32 := 0#32
  let c32_i32_2037 : BitVec 32 := 32#32
  let v4580 : BitVec 32 := Scalar.muli v4579 c32_i32_2037
  let v4581 : BitVec 32 := Scalar.addi c0_i32_2038 v4580
  let v4582 : BitVec 32 := v4581
  ![v4582.toNat]

def k0_chk333 (v4579 : BitVec 32) : Prop :=
  (8 ∣ (k0_mult310 v4579).toNat) ∧
  (∀ a, (k0_off606 v4579) a + S32.size a ≤ S3407872.size a) ∧
  (∀ a, (k0_off622 v4579) a + S32.size a ≤ S3407872.size a)
theorem k0_mult310_dvd : ∀ (v4579 : BitVec 32) (k0_hw333 : k0_chk333 v4579), 8 ∣ (k0_mult310 v4579).toNat := fun v4579 k0_hw333 => k0_hw333.1
theorem k0_off606_inb : ∀ (v4579 : BitVec 32) (k0_hw333 : k0_chk333 v4579), ∀ a, (k0_off606 v4579) a + S32.size a ≤ S3407872.size a := fun v4579 k0_hw333 => k0_hw333.2.1
theorem k0_off622_inb : ∀ (v4579 : BitVec 32) (k0_hw333 : k0_chk333 v4579), ∀ a, (k0_off622 v4579) a + S32.size a ≤ S3407872.size a := fun v4579 k0_hw333 => k0_hw333.2.2

def k0_off623 (v4588 : BitVec 32) : Fin 1 → Nat :=
  let c0_i32_2042 : BitVec 32 := 0#32
  let c32_i32_2041 : BitVec 32 := 32#32
  let v4589 : BitVec 32 := Scalar.muli v4588 c32_i32_2041
  let v4590 : BitVec 32 := Scalar.addi c0_i32_2042 v4589
  let v4591 : BitVec 32 := v4590
  ![v4591.toNat]

def k0_chk334 (v4588 : BitVec 32) : Prop :=
  (8 ∣ (k0_mult311 v4588).toNat) ∧
  (∀ a, (k0_off607 v4588) a + S32.size a ≤ S3407872.size a) ∧
  (∀ a, (k0_off623 v4588) a + S32.size a ≤ S3407872.size a)
theorem k0_mult311_dvd : ∀ (v4588 : BitVec 32) (k0_hw334 : k0_chk334 v4588), 8 ∣ (k0_mult311 v4588).toNat := fun v4588 k0_hw334 => k0_hw334.1
theorem k0_off607_inb : ∀ (v4588 : BitVec 32) (k0_hw334 : k0_chk334 v4588), ∀ a, (k0_off607 v4588) a + S32.size a ≤ S3407872.size a := fun v4588 k0_hw334 => k0_hw334.2.1
theorem k0_off623_inb : ∀ (v4588 : BitVec 32) (k0_hw334 : k0_chk334 v4588), ∀ a, (k0_off623 v4588) a + S32.size a ≤ S3407872.size a := fun v4588 k0_hw334 => k0_hw334.2.2

def k0_off624 (v4597 : BitVec 32) : Fin 1 → Nat :=
  let c0_i32_2046 : BitVec 32 := 0#32
  let c32_i32_2045 : BitVec 32 := 32#32
  let v4598 : BitVec 32 := Scalar.muli v4597 c32_i32_2045
  let v4599 : BitVec 32 := Scalar.addi c0_i32_2046 v4598
  let v4600 : BitVec 32 := v4599
  ![v4600.toNat]

def k0_chk335 (v4597 : BitVec 32) : Prop :=
  (8 ∣ (k0_mult312 v4597).toNat) ∧
  (∀ a, (k0_off608 v4597) a + S32.size a ≤ S3407872.size a) ∧
  (∀ a, (k0_off624 v4597) a + S32.size a ≤ S3407872.size a)
theorem k0_mult312_dvd : ∀ (v4597 : BitVec 32) (k0_hw335 : k0_chk335 v4597), 8 ∣ (k0_mult312 v4597).toNat := fun v4597 k0_hw335 => k0_hw335.1
theorem k0_off608_inb : ∀ (v4597 : BitVec 32) (k0_hw335 : k0_chk335 v4597), ∀ a, (k0_off608 v4597) a + S32.size a ≤ S3407872.size a := fun v4597 k0_hw335 => k0_hw335.2.1
theorem k0_off624_inb : ∀ (v4597 : BitVec 32) (k0_hw335 : k0_chk335 v4597), ∀ a, (k0_off624 v4597) a + S32.size a ≤ S3407872.size a := fun v4597 k0_hw335 => k0_hw335.2.2

def k0_off625 (v4606 : BitVec 32) : Fin 1 → Nat :=
  let c0_i32_2050 : BitVec 32 := 0#32
  let c32_i32_2049 : BitVec 32 := 32#32
  let v4607 : BitVec 32 := Scalar.muli v4606 c32_i32_2049
  let v4608 : BitVec 32 := Scalar.addi c0_i32_2050 v4607
  let v4609 : BitVec 32 := v4608
  ![v4609.toNat]

def k0_chk336 (v4606 : BitVec 32) : Prop :=
  (8 ∣ (k0_mult313 v4606).toNat) ∧
  (∀ a, (k0_off609 v4606) a + S32.size a ≤ S3407872.size a) ∧
  (∀ a, (k0_off625 v4606) a + S32.size a ≤ S3407872.size a)
theorem k0_mult313_dvd : ∀ (v4606 : BitVec 32) (k0_hw336 : k0_chk336 v4606), 8 ∣ (k0_mult313 v4606).toNat := fun v4606 k0_hw336 => k0_hw336.1
theorem k0_off609_inb : ∀ (v4606 : BitVec 32) (k0_hw336 : k0_chk336 v4606), ∀ a, (k0_off609 v4606) a + S32.size a ≤ S3407872.size a := fun v4606 k0_hw336 => k0_hw336.2.1
theorem k0_off625_inb : ∀ (v4606 : BitVec 32) (k0_hw336 : k0_chk336 v4606), ∀ a, (k0_off625 v4606) a + S32.size a ≤ S3407872.size a := fun v4606 k0_hw336 => k0_hw336.2.2

def k0_off626 (v4615 : BitVec 32) : Fin 1 → Nat :=
  let c0_i32_2054 : BitVec 32 := 0#32
  let c32_i32_2053 : BitVec 32 := 32#32
  let v4616 : BitVec 32 := Scalar.muli v4615 c32_i32_2053
  let v4617 : BitVec 32 := Scalar.addi c0_i32_2054 v4616
  let v4618 : BitVec 32 := v4617
  ![v4618.toNat]

def k0_chk337 (v4615 : BitVec 32) : Prop :=
  (8 ∣ (k0_mult314 v4615).toNat) ∧
  (∀ a, (k0_off610 v4615) a + S32.size a ≤ S3407872.size a) ∧
  (∀ a, (k0_off626 v4615) a + S32.size a ≤ S3407872.size a)
theorem k0_mult314_dvd : ∀ (v4615 : BitVec 32) (k0_hw337 : k0_chk337 v4615), 8 ∣ (k0_mult314 v4615).toNat := fun v4615 k0_hw337 => k0_hw337.1
theorem k0_off610_inb : ∀ (v4615 : BitVec 32) (k0_hw337 : k0_chk337 v4615), ∀ a, (k0_off610 v4615) a + S32.size a ≤ S3407872.size a := fun v4615 k0_hw337 => k0_hw337.2.1
theorem k0_off626_inb : ∀ (v4615 : BitVec 32) (k0_hw337 : k0_chk337 v4615), ∀ a, (k0_off626 v4615) a + S32.size a ≤ S3407872.size a := fun v4615 k0_hw337 => k0_hw337.2.2

def k0_off627 (v4624 : BitVec 32) : Fin 1 → Nat :=
  let c0_i32_2058 : BitVec 32 := 0#32
  let c32_i32_2057 : BitVec 32 := 32#32
  let v4625 : BitVec 32 := Scalar.muli v4624 c32_i32_2057
  let v4626 : BitVec 32 := Scalar.addi c0_i32_2058 v4625
  let v4627 : BitVec 32 := v4626
  ![v4627.toNat]

def k0_chk338 (v4624 : BitVec 32) : Prop :=
  (8 ∣ (k0_mult315 v4624).toNat) ∧
  (∀ a, (k0_off611 v4624) a + S32.size a ≤ S3407872.size a) ∧
  (∀ a, (k0_off627 v4624) a + S32.size a ≤ S3407872.size a)
theorem k0_mult315_dvd : ∀ (v4624 : BitVec 32) (k0_hw338 : k0_chk338 v4624), 8 ∣ (k0_mult315 v4624).toNat := fun v4624 k0_hw338 => k0_hw338.1
theorem k0_off611_inb : ∀ (v4624 : BitVec 32) (k0_hw338 : k0_chk338 v4624), ∀ a, (k0_off611 v4624) a + S32.size a ≤ S3407872.size a := fun v4624 k0_hw338 => k0_hw338.2.1
theorem k0_off627_inb : ∀ (v4624 : BitVec 32) (k0_hw338 : k0_chk338 v4624), ∀ a, (k0_off627 v4624) a + S32.size a ≤ S3407872.size a := fun v4624 k0_hw338 => k0_hw338.2.2

def k0_off628 (v4633 : BitVec 32) : Fin 1 → Nat :=
  let c0_i32_2062 : BitVec 32 := 0#32
  let c32_i32_2061 : BitVec 32 := 32#32
  let v4634 : BitVec 32 := Scalar.muli v4633 c32_i32_2061
  let v4635 : BitVec 32 := Scalar.addi c0_i32_2062 v4634
  let v4636 : BitVec 32 := v4635
  ![v4636.toNat]

def k0_chk339 (v4633 : BitVec 32) : Prop :=
  (8 ∣ (k0_mult316 v4633).toNat) ∧
  (∀ a, (k0_off612 v4633) a + S32.size a ≤ S3407872.size a) ∧
  (∀ a, (k0_off628 v4633) a + S32.size a ≤ S3407872.size a)
theorem k0_mult316_dvd : ∀ (v4633 : BitVec 32) (k0_hw339 : k0_chk339 v4633), 8 ∣ (k0_mult316 v4633).toNat := fun v4633 k0_hw339 => k0_hw339.1
theorem k0_off612_inb : ∀ (v4633 : BitVec 32) (k0_hw339 : k0_chk339 v4633), ∀ a, (k0_off612 v4633) a + S32.size a ≤ S3407872.size a := fun v4633 k0_hw339 => k0_hw339.2.1
theorem k0_off628_inb : ∀ (v4633 : BitVec 32) (k0_hw339 : k0_chk339 v4633), ∀ a, (k0_off628 v4633) a + S32.size a ≤ S3407872.size a := fun v4633 k0_hw339 => k0_hw339.2.2

def k0_off629 (v4642 : BitVec 32) : Fin 1 → Nat :=
  let c0_i32_2066 : BitVec 32 := 0#32
  let c32_i32_2065 : BitVec 32 := 32#32
  let v4643 : BitVec 32 := Scalar.muli v4642 c32_i32_2065
  let v4644 : BitVec 32 := Scalar.addi c0_i32_2066 v4643
  let v4645 : BitVec 32 := v4644
  ![v4645.toNat]

def k0_chk340 (v4642 : BitVec 32) : Prop :=
  (8 ∣ (k0_mult317 v4642).toNat) ∧
  (∀ a, (k0_off613 v4642) a + S32.size a ≤ S3407872.size a) ∧
  (∀ a, (k0_off629 v4642) a + S32.size a ≤ S3407872.size a)
theorem k0_mult317_dvd : ∀ (v4642 : BitVec 32) (k0_hw340 : k0_chk340 v4642), 8 ∣ (k0_mult317 v4642).toNat := fun v4642 k0_hw340 => k0_hw340.1
theorem k0_off613_inb : ∀ (v4642 : BitVec 32) (k0_hw340 : k0_chk340 v4642), ∀ a, (k0_off613 v4642) a + S32.size a ≤ S3407872.size a := fun v4642 k0_hw340 => k0_hw340.2.1
theorem k0_off629_inb : ∀ (v4642 : BitVec 32) (k0_hw340 : k0_chk340 v4642), ∀ a, (k0_off629 v4642) a + S32.size a ≤ S3407872.size a := fun v4642 k0_hw340 => k0_hw340.2.2

def k0_off630 (v4651 : BitVec 32) : Fin 1 → Nat :=
  let c0_i32_2070 : BitVec 32 := 0#32
  let c32_i32_2069 : BitVec 32 := 32#32
  let v4652 : BitVec 32 := Scalar.muli v4651 c32_i32_2069
  let v4653 : BitVec 32 := Scalar.addi c0_i32_2070 v4652
  let v4654 : BitVec 32 := v4653
  ![v4654.toNat]

def k0_chk341 (v4651 : BitVec 32) : Prop :=
  (8 ∣ (k0_mult318 v4651).toNat) ∧
  (∀ a, (k0_off614 v4651) a + S32.size a ≤ S3407872.size a) ∧
  (∀ a, (k0_off630 v4651) a + S32.size a ≤ S3407872.size a)
theorem k0_mult318_dvd : ∀ (v4651 : BitVec 32) (k0_hw341 : k0_chk341 v4651), 8 ∣ (k0_mult318 v4651).toNat := fun v4651 k0_hw341 => k0_hw341.1
theorem k0_off614_inb : ∀ (v4651 : BitVec 32) (k0_hw341 : k0_chk341 v4651), ∀ a, (k0_off614 v4651) a + S32.size a ≤ S3407872.size a := fun v4651 k0_hw341 => k0_hw341.2.1
theorem k0_off630_inb : ∀ (v4651 : BitVec 32) (k0_hw341 : k0_chk341 v4651), ∀ a, (k0_off630 v4651) a + S32.size a ≤ S3407872.size a := fun v4651 k0_hw341 => k0_hw341.2.2

def k0_off631 (v4660 : BitVec 32) : Fin 1 → Nat :=
  let c0_i32_2074 : BitVec 32 := 0#32
  let c32_i32_2073 : BitVec 32 := 32#32
  let v4661 : BitVec 32 := Scalar.muli v4660 c32_i32_2073
  let v4662 : BitVec 32 := Scalar.addi c0_i32_2074 v4661
  let v4663 : BitVec 32 := v4662
  ![v4663.toNat]

def k0_chk342 (v4660 : BitVec 32) : Prop :=
  (8 ∣ (k0_mult319 v4660).toNat) ∧
  (∀ a, (k0_off615 v4660) a + S32.size a ≤ S3407872.size a) ∧
  (∀ a, (k0_off631 v4660) a + S32.size a ≤ S3407872.size a)
theorem k0_mult319_dvd : ∀ (v4660 : BitVec 32) (k0_hw342 : k0_chk342 v4660), 8 ∣ (k0_mult319 v4660).toNat := fun v4660 k0_hw342 => k0_hw342.1
theorem k0_off615_inb : ∀ (v4660 : BitVec 32) (k0_hw342 : k0_chk342 v4660), ∀ a, (k0_off615 v4660) a + S32.size a ≤ S3407872.size a := fun v4660 k0_hw342 => k0_hw342.2.1
theorem k0_off631_inb : ∀ (v4660 : BitVec 32) (k0_hw342 : k0_chk342 v4660), ∀ a, (k0_off631 v4660) a + S32.size a ≤ S3407872.size a := fun v4660 k0_hw342 => k0_hw342.2.2

def k0_off632 (v4669 : BitVec 32) : Fin 1 → Nat :=
  let c0_i32_2078 : BitVec 32 := 0#32
  let c32_i32_2077 : BitVec 32 := 32#32
  let v4670 : BitVec 32 := Scalar.muli v4669 c32_i32_2077
  let v4671 : BitVec 32 := Scalar.addi c0_i32_2078 v4670
  let v4672 : BitVec 32 := v4671
  ![v4672.toNat]

def k0_chk343 (v4669 : BitVec 32) : Prop :=
  (8 ∣ (k0_mult320 v4669).toNat) ∧
  (∀ a, (k0_off616 v4669) a + S32.size a ≤ S3407872.size a) ∧
  (∀ a, (k0_off632 v4669) a + S32.size a ≤ S3407872.size a)
theorem k0_mult320_dvd : ∀ (v4669 : BitVec 32) (k0_hw343 : k0_chk343 v4669), 8 ∣ (k0_mult320 v4669).toNat := fun v4669 k0_hw343 => k0_hw343.1
theorem k0_off616_inb : ∀ (v4669 : BitVec 32) (k0_hw343 : k0_chk343 v4669), ∀ a, (k0_off616 v4669) a + S32.size a ≤ S3407872.size a := fun v4669 k0_hw343 => k0_hw343.2.1
theorem k0_off632_inb : ∀ (v4669 : BitVec 32) (k0_hw343 : k0_chk343 v4669), ∀ a, (k0_off632 v4669) a + S32.size a ≤ S3407872.size a := fun v4669 k0_hw343 => k0_hw343.2.2

def k0_mult322 (v4753 : BitVec 32) : BitVec 32 :=
  let c999936_i32_2119 : BitVec 32 := 999936#32
  let v4754 : BitVec 32 := Scalar.subi v4753 c999936_i32_2119
  let c32_i32_2120 : BitVec 32 := 32#32
  let v4755 : BitVec 32 := Scalar.muli v4754 c32_i32_2120
  v4755

def k0_off633 (v4753 : BitVec 32) : Fin 1 → Nat :=
  let c999936_i32_2119 : BitVec 32 := 999936#32
  let v4754 : BitVec 32 := Scalar.subi v4753 c999936_i32_2119
  let c32_i32_2120 : BitVec 32 := 32#32
  let v4755 : BitVec 32 := Scalar.muli v4754 c32_i32_2120
  let v4756 : BitVec 32 := v4755
  ![v4756.toNat]
def k0_mult323 (v4762 : BitVec 32) : BitVec 32 :=
  let c999936_i32_2122 : BitVec 32 := 999936#32
  let v4763 : BitVec 32 := Scalar.subi v4762 c999936_i32_2122
  let c32_i32_2123 : BitVec 32 := 32#32
  let v4764 : BitVec 32 := Scalar.muli v4763 c32_i32_2123
  v4764

def k0_off634 (v4762 : BitVec 32) : Fin 1 → Nat :=
  let c999936_i32_2122 : BitVec 32 := 999936#32
  let v4763 : BitVec 32 := Scalar.subi v4762 c999936_i32_2122
  let c32_i32_2123 : BitVec 32 := 32#32
  let v4764 : BitVec 32 := Scalar.muli v4763 c32_i32_2123
  let v4765 : BitVec 32 := v4764
  ![v4765.toNat]
def k0_mult324 (v4771 : BitVec 32) : BitVec 32 :=
  let c999936_i32_2125 : BitVec 32 := 999936#32
  let v4772 : BitVec 32 := Scalar.subi v4771 c999936_i32_2125
  let c32_i32_2126 : BitVec 32 := 32#32
  let v4773 : BitVec 32 := Scalar.muli v4772 c32_i32_2126
  v4773

def k0_off635 (v4771 : BitVec 32) : Fin 1 → Nat :=
  let c999936_i32_2125 : BitVec 32 := 999936#32
  let v4772 : BitVec 32 := Scalar.subi v4771 c999936_i32_2125
  let c32_i32_2126 : BitVec 32 := 32#32
  let v4773 : BitVec 32 := Scalar.muli v4772 c32_i32_2126
  let v4774 : BitVec 32 := v4773
  ![v4774.toNat]
def k0_mult325 (v4780 : BitVec 32) : BitVec 32 :=
  let c999936_i32_2128 : BitVec 32 := 999936#32
  let v4781 : BitVec 32 := Scalar.subi v4780 c999936_i32_2128
  let c32_i32_2129 : BitVec 32 := 32#32
  let v4782 : BitVec 32 := Scalar.muli v4781 c32_i32_2129
  v4782

def k0_off636 (v4780 : BitVec 32) : Fin 1 → Nat :=
  let c999936_i32_2128 : BitVec 32 := 999936#32
  let v4781 : BitVec 32 := Scalar.subi v4780 c999936_i32_2128
  let c32_i32_2129 : BitVec 32 := 32#32
  let v4782 : BitVec 32 := Scalar.muli v4781 c32_i32_2129
  let v4783 : BitVec 32 := v4782
  ![v4783.toNat]
def k0_mult326 (v4789 : BitVec 32) : BitVec 32 :=
  let c999936_i32_2131 : BitVec 32 := 999936#32
  let v4790 : BitVec 32 := Scalar.subi v4789 c999936_i32_2131
  let c32_i32_2132 : BitVec 32 := 32#32
  let v4791 : BitVec 32 := Scalar.muli v4790 c32_i32_2132
  v4791

def k0_off637 (v4789 : BitVec 32) : Fin 1 → Nat :=
  let c999936_i32_2131 : BitVec 32 := 999936#32
  let v4790 : BitVec 32 := Scalar.subi v4789 c999936_i32_2131
  let c32_i32_2132 : BitVec 32 := 32#32
  let v4791 : BitVec 32 := Scalar.muli v4790 c32_i32_2132
  let v4792 : BitVec 32 := v4791
  ![v4792.toNat]
def k0_mult327 (v4798 : BitVec 32) : BitVec 32 :=
  let c999936_i32_2134 : BitVec 32 := 999936#32
  let v4799 : BitVec 32 := Scalar.subi v4798 c999936_i32_2134
  let c32_i32_2135 : BitVec 32 := 32#32
  let v4800 : BitVec 32 := Scalar.muli v4799 c32_i32_2135
  v4800

def k0_off638 (v4798 : BitVec 32) : Fin 1 → Nat :=
  let c999936_i32_2134 : BitVec 32 := 999936#32
  let v4799 : BitVec 32 := Scalar.subi v4798 c999936_i32_2134
  let c32_i32_2135 : BitVec 32 := 32#32
  let v4800 : BitVec 32 := Scalar.muli v4799 c32_i32_2135
  let v4801 : BitVec 32 := v4800
  ![v4801.toNat]
def k0_mult328 (v4807 : BitVec 32) : BitVec 32 :=
  let c999936_i32_2137 : BitVec 32 := 999936#32
  let v4808 : BitVec 32 := Scalar.subi v4807 c999936_i32_2137
  let c32_i32_2138 : BitVec 32 := 32#32
  let v4809 : BitVec 32 := Scalar.muli v4808 c32_i32_2138
  v4809

def k0_off639 (v4807 : BitVec 32) : Fin 1 → Nat :=
  let c999936_i32_2137 : BitVec 32 := 999936#32
  let v4808 : BitVec 32 := Scalar.subi v4807 c999936_i32_2137
  let c32_i32_2138 : BitVec 32 := 32#32
  let v4809 : BitVec 32 := Scalar.muli v4808 c32_i32_2138
  let v4810 : BitVec 32 := v4809
  ![v4810.toNat]
def k0_mult329 (v4816 : BitVec 32) : BitVec 32 :=
  let c999936_i32_2140 : BitVec 32 := 999936#32
  let v4817 : BitVec 32 := Scalar.subi v4816 c999936_i32_2140
  let c32_i32_2141 : BitVec 32 := 32#32
  let v4818 : BitVec 32 := Scalar.muli v4817 c32_i32_2141
  v4818

def k0_off640 (v4816 : BitVec 32) : Fin 1 → Nat :=
  let c999936_i32_2140 : BitVec 32 := 999936#32
  let v4817 : BitVec 32 := Scalar.subi v4816 c999936_i32_2140
  let c32_i32_2141 : BitVec 32 := 32#32
  let v4818 : BitVec 32 := Scalar.muli v4817 c32_i32_2141
  let v4819 : BitVec 32 := v4818
  ![v4819.toNat]
def k0_mult330 (v4825 : BitVec 32) : BitVec 32 :=
  let c999936_i32_2143 : BitVec 32 := 999936#32
  let v4826 : BitVec 32 := Scalar.subi v4825 c999936_i32_2143
  let c32_i32_2144 : BitVec 32 := 32#32
  let v4827 : BitVec 32 := Scalar.muli v4826 c32_i32_2144
  v4827

def k0_off641 (v4825 : BitVec 32) : Fin 1 → Nat :=
  let c999936_i32_2143 : BitVec 32 := 999936#32
  let v4826 : BitVec 32 := Scalar.subi v4825 c999936_i32_2143
  let c32_i32_2144 : BitVec 32 := 32#32
  let v4827 : BitVec 32 := Scalar.muli v4826 c32_i32_2144
  let v4828 : BitVec 32 := v4827
  ![v4828.toNat]
def k0_mult331 (v4834 : BitVec 32) : BitVec 32 :=
  let c999936_i32_2146 : BitVec 32 := 999936#32
  let v4835 : BitVec 32 := Scalar.subi v4834 c999936_i32_2146
  let c32_i32_2147 : BitVec 32 := 32#32
  let v4836 : BitVec 32 := Scalar.muli v4835 c32_i32_2147
  v4836

def k0_off642 (v4834 : BitVec 32) : Fin 1 → Nat :=
  let c999936_i32_2146 : BitVec 32 := 999936#32
  let v4835 : BitVec 32 := Scalar.subi v4834 c999936_i32_2146
  let c32_i32_2147 : BitVec 32 := 32#32
  let v4836 : BitVec 32 := Scalar.muli v4835 c32_i32_2147
  let v4837 : BitVec 32 := v4836
  ![v4837.toNat]
def k0_mult332 (v4843 : BitVec 32) : BitVec 32 :=
  let c999936_i32_2149 : BitVec 32 := 999936#32
  let v4844 : BitVec 32 := Scalar.subi v4843 c999936_i32_2149
  let c32_i32_2150 : BitVec 32 := 32#32
  let v4845 : BitVec 32 := Scalar.muli v4844 c32_i32_2150
  v4845

def k0_off643 (v4843 : BitVec 32) : Fin 1 → Nat :=
  let c999936_i32_2149 : BitVec 32 := 999936#32
  let v4844 : BitVec 32 := Scalar.subi v4843 c999936_i32_2149
  let c32_i32_2150 : BitVec 32 := 32#32
  let v4845 : BitVec 32 := Scalar.muli v4844 c32_i32_2150
  let v4846 : BitVec 32 := v4845
  ![v4846.toNat]
def k0_mult333 (v4852 : BitVec 32) : BitVec 32 :=
  let c999936_i32_2152 : BitVec 32 := 999936#32
  let v4853 : BitVec 32 := Scalar.subi v4852 c999936_i32_2152
  let c32_i32_2153 : BitVec 32 := 32#32
  let v4854 : BitVec 32 := Scalar.muli v4853 c32_i32_2153
  v4854

def k0_off644 (v4852 : BitVec 32) : Fin 1 → Nat :=
  let c999936_i32_2152 : BitVec 32 := 999936#32
  let v4853 : BitVec 32 := Scalar.subi v4852 c999936_i32_2152
  let c32_i32_2153 : BitVec 32 := 32#32
  let v4854 : BitVec 32 := Scalar.muli v4853 c32_i32_2153
  let v4855 : BitVec 32 := v4854
  ![v4855.toNat]
def k0_mult334 (v4861 : BitVec 32) : BitVec 32 :=
  let c999936_i32_2155 : BitVec 32 := 999936#32
  let v4862 : BitVec 32 := Scalar.subi v4861 c999936_i32_2155
  let c32_i32_2156 : BitVec 32 := 32#32
  let v4863 : BitVec 32 := Scalar.muli v4862 c32_i32_2156
  v4863

def k0_off645 (v4861 : BitVec 32) : Fin 1 → Nat :=
  let c999936_i32_2155 : BitVec 32 := 999936#32
  let v4862 : BitVec 32 := Scalar.subi v4861 c999936_i32_2155
  let c32_i32_2156 : BitVec 32 := 32#32
  let v4863 : BitVec 32 := Scalar.muli v4862 c32_i32_2156
  let v4864 : BitVec 32 := v4863
  ![v4864.toNat]
def k0_mult335 (v4870 : BitVec 32) : BitVec 32 :=
  let c999936_i32_2158 : BitVec 32 := 999936#32
  let v4871 : BitVec 32 := Scalar.subi v4870 c999936_i32_2158
  let c32_i32_2159 : BitVec 32 := 32#32
  let v4872 : BitVec 32 := Scalar.muli v4871 c32_i32_2159
  v4872

def k0_off646 (v4870 : BitVec 32) : Fin 1 → Nat :=
  let c999936_i32_2158 : BitVec 32 := 999936#32
  let v4871 : BitVec 32 := Scalar.subi v4870 c999936_i32_2158
  let c32_i32_2159 : BitVec 32 := 32#32
  let v4872 : BitVec 32 := Scalar.muli v4871 c32_i32_2159
  let v4873 : BitVec 32 := v4872
  ![v4873.toNat]
def k0_mult336 (v4879 : BitVec 32) : BitVec 32 :=
  let c999936_i32_2161 : BitVec 32 := 999936#32
  let v4880 : BitVec 32 := Scalar.subi v4879 c999936_i32_2161
  let c32_i32_2162 : BitVec 32 := 32#32
  let v4881 : BitVec 32 := Scalar.muli v4880 c32_i32_2162
  v4881

def k0_off647 (v4879 : BitVec 32) : Fin 1 → Nat :=
  let c999936_i32_2161 : BitVec 32 := 999936#32
  let v4880 : BitVec 32 := Scalar.subi v4879 c999936_i32_2161
  let c32_i32_2162 : BitVec 32 := 32#32
  let v4881 : BitVec 32 := Scalar.muli v4880 c32_i32_2162
  let v4882 : BitVec 32 := v4881
  ![v4882.toNat]
def k0_mult337 (v4888 : BitVec 32) : BitVec 32 :=
  let c999936_i32_2164 : BitVec 32 := 999936#32
  let v4889 : BitVec 32 := Scalar.subi v4888 c999936_i32_2164
  let c32_i32_2165 : BitVec 32 := 32#32
  let v4890 : BitVec 32 := Scalar.muli v4889 c32_i32_2165
  v4890

def k0_off648 (v4888 : BitVec 32) : Fin 1 → Nat :=
  let c999936_i32_2164 : BitVec 32 := 999936#32
  let v4889 : BitVec 32 := Scalar.subi v4888 c999936_i32_2164
  let c32_i32_2165 : BitVec 32 := 32#32
  let v4890 : BitVec 32 := Scalar.muli v4889 c32_i32_2165
  let v4891 : BitVec 32 := v4890
  ![v4891.toNat]

def k0_chk360 (v4888 : BitVec 32) : Prop :=
  (8 ∣ (k0_mult337 v4888).toNat) ∧
  (∀ a, (k0_off648 v4888) a + S32.size a ≤ S2048.size a)
theorem k0_mult337_dvd : ∀ (v4888 : BitVec 32) (k0_hw360 : k0_chk360 v4888), 8 ∣ (k0_mult337 v4888).toNat := fun v4888 k0_hw360 => k0_hw360.1
theorem k0_off648_inb : ∀ (v4888 : BitVec 32) (k0_hw360 : k0_chk360 v4888), ∀ a, (k0_off648 v4888) a + S32.size a ≤ S2048.size a := fun v4888 k0_hw360 => k0_hw360.2

def k0_off649 (v4753 : BitVec 32) : Fin 1 → Nat :=
  let c999936_i32_2119 : BitVec 32 := 999936#32
  let v4754 : BitVec 32 := Scalar.subi v4753 c999936_i32_2119
  let c32_i32_2120 : BitVec 32 := 32#32
  let v4755 : BitVec 32 := Scalar.muli v4754 c32_i32_2120
  let v4756 : BitVec 32 := v4755
  ![v4756.toNat]

def k0_chk345 (v4753 : BitVec 32) : Prop :=
  (8 ∣ (k0_mult322 v4753).toNat) ∧
  (∀ a, (k0_off633 v4753) a + S32.size a ≤ S2048.size a) ∧
  (∀ a, (k0_off649 v4753) a + S32.size a ≤ S2048.size a)
theorem k0_mult322_dvd : ∀ (v4753 : BitVec 32) (k0_hw345 : k0_chk345 v4753), 8 ∣ (k0_mult322 v4753).toNat := fun v4753 k0_hw345 => k0_hw345.1
theorem k0_off633_inb : ∀ (v4753 : BitVec 32) (k0_hw345 : k0_chk345 v4753), ∀ a, (k0_off633 v4753) a + S32.size a ≤ S2048.size a := fun v4753 k0_hw345 => k0_hw345.2.1
theorem k0_off649_inb : ∀ (v4753 : BitVec 32) (k0_hw345 : k0_chk345 v4753), ∀ a, (k0_off649 v4753) a + S32.size a ≤ S2048.size a := fun v4753 k0_hw345 => k0_hw345.2.2

def k0_off650 (v4762 : BitVec 32) : Fin 1 → Nat :=
  let c999936_i32_2122 : BitVec 32 := 999936#32
  let v4763 : BitVec 32 := Scalar.subi v4762 c999936_i32_2122
  let c32_i32_2123 : BitVec 32 := 32#32
  let v4764 : BitVec 32 := Scalar.muli v4763 c32_i32_2123
  let v4765 : BitVec 32 := v4764
  ![v4765.toNat]

def k0_chk346 (v4762 : BitVec 32) : Prop :=
  (8 ∣ (k0_mult323 v4762).toNat) ∧
  (∀ a, (k0_off634 v4762) a + S32.size a ≤ S2048.size a) ∧
  (∀ a, (k0_off650 v4762) a + S32.size a ≤ S2048.size a)
theorem k0_mult323_dvd : ∀ (v4762 : BitVec 32) (k0_hw346 : k0_chk346 v4762), 8 ∣ (k0_mult323 v4762).toNat := fun v4762 k0_hw346 => k0_hw346.1
theorem k0_off634_inb : ∀ (v4762 : BitVec 32) (k0_hw346 : k0_chk346 v4762), ∀ a, (k0_off634 v4762) a + S32.size a ≤ S2048.size a := fun v4762 k0_hw346 => k0_hw346.2.1
theorem k0_off650_inb : ∀ (v4762 : BitVec 32) (k0_hw346 : k0_chk346 v4762), ∀ a, (k0_off650 v4762) a + S32.size a ≤ S2048.size a := fun v4762 k0_hw346 => k0_hw346.2.2

def k0_off651 (v4771 : BitVec 32) : Fin 1 → Nat :=
  let c999936_i32_2125 : BitVec 32 := 999936#32
  let v4772 : BitVec 32 := Scalar.subi v4771 c999936_i32_2125
  let c32_i32_2126 : BitVec 32 := 32#32
  let v4773 : BitVec 32 := Scalar.muli v4772 c32_i32_2126
  let v4774 : BitVec 32 := v4773
  ![v4774.toNat]

def k0_chk347 (v4771 : BitVec 32) : Prop :=
  (8 ∣ (k0_mult324 v4771).toNat) ∧
  (∀ a, (k0_off635 v4771) a + S32.size a ≤ S2048.size a) ∧
  (∀ a, (k0_off651 v4771) a + S32.size a ≤ S2048.size a)
theorem k0_mult324_dvd : ∀ (v4771 : BitVec 32) (k0_hw347 : k0_chk347 v4771), 8 ∣ (k0_mult324 v4771).toNat := fun v4771 k0_hw347 => k0_hw347.1
theorem k0_off635_inb : ∀ (v4771 : BitVec 32) (k0_hw347 : k0_chk347 v4771), ∀ a, (k0_off635 v4771) a + S32.size a ≤ S2048.size a := fun v4771 k0_hw347 => k0_hw347.2.1
theorem k0_off651_inb : ∀ (v4771 : BitVec 32) (k0_hw347 : k0_chk347 v4771), ∀ a, (k0_off651 v4771) a + S32.size a ≤ S2048.size a := fun v4771 k0_hw347 => k0_hw347.2.2

def k0_off652 (v4780 : BitVec 32) : Fin 1 → Nat :=
  let c999936_i32_2128 : BitVec 32 := 999936#32
  let v4781 : BitVec 32 := Scalar.subi v4780 c999936_i32_2128
  let c32_i32_2129 : BitVec 32 := 32#32
  let v4782 : BitVec 32 := Scalar.muli v4781 c32_i32_2129
  let v4783 : BitVec 32 := v4782
  ![v4783.toNat]

def k0_chk348 (v4780 : BitVec 32) : Prop :=
  (8 ∣ (k0_mult325 v4780).toNat) ∧
  (∀ a, (k0_off636 v4780) a + S32.size a ≤ S2048.size a) ∧
  (∀ a, (k0_off652 v4780) a + S32.size a ≤ S2048.size a)
theorem k0_mult325_dvd : ∀ (v4780 : BitVec 32) (k0_hw348 : k0_chk348 v4780), 8 ∣ (k0_mult325 v4780).toNat := fun v4780 k0_hw348 => k0_hw348.1
theorem k0_off636_inb : ∀ (v4780 : BitVec 32) (k0_hw348 : k0_chk348 v4780), ∀ a, (k0_off636 v4780) a + S32.size a ≤ S2048.size a := fun v4780 k0_hw348 => k0_hw348.2.1
theorem k0_off652_inb : ∀ (v4780 : BitVec 32) (k0_hw348 : k0_chk348 v4780), ∀ a, (k0_off652 v4780) a + S32.size a ≤ S2048.size a := fun v4780 k0_hw348 => k0_hw348.2.2

def k0_off653 (v4789 : BitVec 32) : Fin 1 → Nat :=
  let c999936_i32_2131 : BitVec 32 := 999936#32
  let v4790 : BitVec 32 := Scalar.subi v4789 c999936_i32_2131
  let c32_i32_2132 : BitVec 32 := 32#32
  let v4791 : BitVec 32 := Scalar.muli v4790 c32_i32_2132
  let v4792 : BitVec 32 := v4791
  ![v4792.toNat]

def k0_chk349 (v4789 : BitVec 32) : Prop :=
  (8 ∣ (k0_mult326 v4789).toNat) ∧
  (∀ a, (k0_off637 v4789) a + S32.size a ≤ S2048.size a) ∧
  (∀ a, (k0_off653 v4789) a + S32.size a ≤ S2048.size a)
theorem k0_mult326_dvd : ∀ (v4789 : BitVec 32) (k0_hw349 : k0_chk349 v4789), 8 ∣ (k0_mult326 v4789).toNat := fun v4789 k0_hw349 => k0_hw349.1
theorem k0_off637_inb : ∀ (v4789 : BitVec 32) (k0_hw349 : k0_chk349 v4789), ∀ a, (k0_off637 v4789) a + S32.size a ≤ S2048.size a := fun v4789 k0_hw349 => k0_hw349.2.1
theorem k0_off653_inb : ∀ (v4789 : BitVec 32) (k0_hw349 : k0_chk349 v4789), ∀ a, (k0_off653 v4789) a + S32.size a ≤ S2048.size a := fun v4789 k0_hw349 => k0_hw349.2.2

def k0_off654 (v4798 : BitVec 32) : Fin 1 → Nat :=
  let c999936_i32_2134 : BitVec 32 := 999936#32
  let v4799 : BitVec 32 := Scalar.subi v4798 c999936_i32_2134
  let c32_i32_2135 : BitVec 32 := 32#32
  let v4800 : BitVec 32 := Scalar.muli v4799 c32_i32_2135
  let v4801 : BitVec 32 := v4800
  ![v4801.toNat]

def k0_chk350 (v4798 : BitVec 32) : Prop :=
  (8 ∣ (k0_mult327 v4798).toNat) ∧
  (∀ a, (k0_off638 v4798) a + S32.size a ≤ S2048.size a) ∧
  (∀ a, (k0_off654 v4798) a + S32.size a ≤ S2048.size a)
theorem k0_mult327_dvd : ∀ (v4798 : BitVec 32) (k0_hw350 : k0_chk350 v4798), 8 ∣ (k0_mult327 v4798).toNat := fun v4798 k0_hw350 => k0_hw350.1
theorem k0_off638_inb : ∀ (v4798 : BitVec 32) (k0_hw350 : k0_chk350 v4798), ∀ a, (k0_off638 v4798) a + S32.size a ≤ S2048.size a := fun v4798 k0_hw350 => k0_hw350.2.1
theorem k0_off654_inb : ∀ (v4798 : BitVec 32) (k0_hw350 : k0_chk350 v4798), ∀ a, (k0_off654 v4798) a + S32.size a ≤ S2048.size a := fun v4798 k0_hw350 => k0_hw350.2.2

def k0_off655 (v4807 : BitVec 32) : Fin 1 → Nat :=
  let c999936_i32_2137 : BitVec 32 := 999936#32
  let v4808 : BitVec 32 := Scalar.subi v4807 c999936_i32_2137
  let c32_i32_2138 : BitVec 32 := 32#32
  let v4809 : BitVec 32 := Scalar.muli v4808 c32_i32_2138
  let v4810 : BitVec 32 := v4809
  ![v4810.toNat]

def k0_chk351 (v4807 : BitVec 32) : Prop :=
  (8 ∣ (k0_mult328 v4807).toNat) ∧
  (∀ a, (k0_off639 v4807) a + S32.size a ≤ S2048.size a) ∧
  (∀ a, (k0_off655 v4807) a + S32.size a ≤ S2048.size a)
theorem k0_mult328_dvd : ∀ (v4807 : BitVec 32) (k0_hw351 : k0_chk351 v4807), 8 ∣ (k0_mult328 v4807).toNat := fun v4807 k0_hw351 => k0_hw351.1
theorem k0_off639_inb : ∀ (v4807 : BitVec 32) (k0_hw351 : k0_chk351 v4807), ∀ a, (k0_off639 v4807) a + S32.size a ≤ S2048.size a := fun v4807 k0_hw351 => k0_hw351.2.1
theorem k0_off655_inb : ∀ (v4807 : BitVec 32) (k0_hw351 : k0_chk351 v4807), ∀ a, (k0_off655 v4807) a + S32.size a ≤ S2048.size a := fun v4807 k0_hw351 => k0_hw351.2.2

def k0_off656 (v4816 : BitVec 32) : Fin 1 → Nat :=
  let c999936_i32_2140 : BitVec 32 := 999936#32
  let v4817 : BitVec 32 := Scalar.subi v4816 c999936_i32_2140
  let c32_i32_2141 : BitVec 32 := 32#32
  let v4818 : BitVec 32 := Scalar.muli v4817 c32_i32_2141
  let v4819 : BitVec 32 := v4818
  ![v4819.toNat]

def k0_chk352 (v4816 : BitVec 32) : Prop :=
  (8 ∣ (k0_mult329 v4816).toNat) ∧
  (∀ a, (k0_off640 v4816) a + S32.size a ≤ S2048.size a) ∧
  (∀ a, (k0_off656 v4816) a + S32.size a ≤ S2048.size a)
theorem k0_mult329_dvd : ∀ (v4816 : BitVec 32) (k0_hw352 : k0_chk352 v4816), 8 ∣ (k0_mult329 v4816).toNat := fun v4816 k0_hw352 => k0_hw352.1
theorem k0_off640_inb : ∀ (v4816 : BitVec 32) (k0_hw352 : k0_chk352 v4816), ∀ a, (k0_off640 v4816) a + S32.size a ≤ S2048.size a := fun v4816 k0_hw352 => k0_hw352.2.1
theorem k0_off656_inb : ∀ (v4816 : BitVec 32) (k0_hw352 : k0_chk352 v4816), ∀ a, (k0_off656 v4816) a + S32.size a ≤ S2048.size a := fun v4816 k0_hw352 => k0_hw352.2.2

def k0_off657 (v4825 : BitVec 32) : Fin 1 → Nat :=
  let c999936_i32_2143 : BitVec 32 := 999936#32
  let v4826 : BitVec 32 := Scalar.subi v4825 c999936_i32_2143
  let c32_i32_2144 : BitVec 32 := 32#32
  let v4827 : BitVec 32 := Scalar.muli v4826 c32_i32_2144
  let v4828 : BitVec 32 := v4827
  ![v4828.toNat]

def k0_chk353 (v4825 : BitVec 32) : Prop :=
  (8 ∣ (k0_mult330 v4825).toNat) ∧
  (∀ a, (k0_off641 v4825) a + S32.size a ≤ S2048.size a) ∧
  (∀ a, (k0_off657 v4825) a + S32.size a ≤ S2048.size a)
theorem k0_mult330_dvd : ∀ (v4825 : BitVec 32) (k0_hw353 : k0_chk353 v4825), 8 ∣ (k0_mult330 v4825).toNat := fun v4825 k0_hw353 => k0_hw353.1
theorem k0_off641_inb : ∀ (v4825 : BitVec 32) (k0_hw353 : k0_chk353 v4825), ∀ a, (k0_off641 v4825) a + S32.size a ≤ S2048.size a := fun v4825 k0_hw353 => k0_hw353.2.1
theorem k0_off657_inb : ∀ (v4825 : BitVec 32) (k0_hw353 : k0_chk353 v4825), ∀ a, (k0_off657 v4825) a + S32.size a ≤ S2048.size a := fun v4825 k0_hw353 => k0_hw353.2.2

def k0_off658 (v4834 : BitVec 32) : Fin 1 → Nat :=
  let c999936_i32_2146 : BitVec 32 := 999936#32
  let v4835 : BitVec 32 := Scalar.subi v4834 c999936_i32_2146
  let c32_i32_2147 : BitVec 32 := 32#32
  let v4836 : BitVec 32 := Scalar.muli v4835 c32_i32_2147
  let v4837 : BitVec 32 := v4836
  ![v4837.toNat]

def k0_chk354 (v4834 : BitVec 32) : Prop :=
  (8 ∣ (k0_mult331 v4834).toNat) ∧
  (∀ a, (k0_off642 v4834) a + S32.size a ≤ S2048.size a) ∧
  (∀ a, (k0_off658 v4834) a + S32.size a ≤ S2048.size a)
theorem k0_mult331_dvd : ∀ (v4834 : BitVec 32) (k0_hw354 : k0_chk354 v4834), 8 ∣ (k0_mult331 v4834).toNat := fun v4834 k0_hw354 => k0_hw354.1
theorem k0_off642_inb : ∀ (v4834 : BitVec 32) (k0_hw354 : k0_chk354 v4834), ∀ a, (k0_off642 v4834) a + S32.size a ≤ S2048.size a := fun v4834 k0_hw354 => k0_hw354.2.1
theorem k0_off658_inb : ∀ (v4834 : BitVec 32) (k0_hw354 : k0_chk354 v4834), ∀ a, (k0_off658 v4834) a + S32.size a ≤ S2048.size a := fun v4834 k0_hw354 => k0_hw354.2.2

def k0_off659 (v4843 : BitVec 32) : Fin 1 → Nat :=
  let c999936_i32_2149 : BitVec 32 := 999936#32
  let v4844 : BitVec 32 := Scalar.subi v4843 c999936_i32_2149
  let c32_i32_2150 : BitVec 32 := 32#32
  let v4845 : BitVec 32 := Scalar.muli v4844 c32_i32_2150
  let v4846 : BitVec 32 := v4845
  ![v4846.toNat]

def k0_chk355 (v4843 : BitVec 32) : Prop :=
  (8 ∣ (k0_mult332 v4843).toNat) ∧
  (∀ a, (k0_off643 v4843) a + S32.size a ≤ S2048.size a) ∧
  (∀ a, (k0_off659 v4843) a + S32.size a ≤ S2048.size a)
theorem k0_mult332_dvd : ∀ (v4843 : BitVec 32) (k0_hw355 : k0_chk355 v4843), 8 ∣ (k0_mult332 v4843).toNat := fun v4843 k0_hw355 => k0_hw355.1
theorem k0_off643_inb : ∀ (v4843 : BitVec 32) (k0_hw355 : k0_chk355 v4843), ∀ a, (k0_off643 v4843) a + S32.size a ≤ S2048.size a := fun v4843 k0_hw355 => k0_hw355.2.1
theorem k0_off659_inb : ∀ (v4843 : BitVec 32) (k0_hw355 : k0_chk355 v4843), ∀ a, (k0_off659 v4843) a + S32.size a ≤ S2048.size a := fun v4843 k0_hw355 => k0_hw355.2.2

def k0_off660 (v4852 : BitVec 32) : Fin 1 → Nat :=
  let c999936_i32_2152 : BitVec 32 := 999936#32
  let v4853 : BitVec 32 := Scalar.subi v4852 c999936_i32_2152
  let c32_i32_2153 : BitVec 32 := 32#32
  let v4854 : BitVec 32 := Scalar.muli v4853 c32_i32_2153
  let v4855 : BitVec 32 := v4854
  ![v4855.toNat]

def k0_chk356 (v4852 : BitVec 32) : Prop :=
  (8 ∣ (k0_mult333 v4852).toNat) ∧
  (∀ a, (k0_off644 v4852) a + S32.size a ≤ S2048.size a) ∧
  (∀ a, (k0_off660 v4852) a + S32.size a ≤ S2048.size a)
theorem k0_mult333_dvd : ∀ (v4852 : BitVec 32) (k0_hw356 : k0_chk356 v4852), 8 ∣ (k0_mult333 v4852).toNat := fun v4852 k0_hw356 => k0_hw356.1
theorem k0_off644_inb : ∀ (v4852 : BitVec 32) (k0_hw356 : k0_chk356 v4852), ∀ a, (k0_off644 v4852) a + S32.size a ≤ S2048.size a := fun v4852 k0_hw356 => k0_hw356.2.1
theorem k0_off660_inb : ∀ (v4852 : BitVec 32) (k0_hw356 : k0_chk356 v4852), ∀ a, (k0_off660 v4852) a + S32.size a ≤ S2048.size a := fun v4852 k0_hw356 => k0_hw356.2.2

def k0_off661 (v4861 : BitVec 32) : Fin 1 → Nat :=
  let c999936_i32_2155 : BitVec 32 := 999936#32
  let v4862 : BitVec 32 := Scalar.subi v4861 c999936_i32_2155
  let c32_i32_2156 : BitVec 32 := 32#32
  let v4863 : BitVec 32 := Scalar.muli v4862 c32_i32_2156
  let v4864 : BitVec 32 := v4863
  ![v4864.toNat]

def k0_chk357 (v4861 : BitVec 32) : Prop :=
  (8 ∣ (k0_mult334 v4861).toNat) ∧
  (∀ a, (k0_off645 v4861) a + S32.size a ≤ S2048.size a) ∧
  (∀ a, (k0_off661 v4861) a + S32.size a ≤ S2048.size a)
theorem k0_mult334_dvd : ∀ (v4861 : BitVec 32) (k0_hw357 : k0_chk357 v4861), 8 ∣ (k0_mult334 v4861).toNat := fun v4861 k0_hw357 => k0_hw357.1
theorem k0_off645_inb : ∀ (v4861 : BitVec 32) (k0_hw357 : k0_chk357 v4861), ∀ a, (k0_off645 v4861) a + S32.size a ≤ S2048.size a := fun v4861 k0_hw357 => k0_hw357.2.1
theorem k0_off661_inb : ∀ (v4861 : BitVec 32) (k0_hw357 : k0_chk357 v4861), ∀ a, (k0_off661 v4861) a + S32.size a ≤ S2048.size a := fun v4861 k0_hw357 => k0_hw357.2.2

def k0_off662 (v4870 : BitVec 32) : Fin 1 → Nat :=
  let c999936_i32_2158 : BitVec 32 := 999936#32
  let v4871 : BitVec 32 := Scalar.subi v4870 c999936_i32_2158
  let c32_i32_2159 : BitVec 32 := 32#32
  let v4872 : BitVec 32 := Scalar.muli v4871 c32_i32_2159
  let v4873 : BitVec 32 := v4872
  ![v4873.toNat]

def k0_chk358 (v4870 : BitVec 32) : Prop :=
  (8 ∣ (k0_mult335 v4870).toNat) ∧
  (∀ a, (k0_off646 v4870) a + S32.size a ≤ S2048.size a) ∧
  (∀ a, (k0_off662 v4870) a + S32.size a ≤ S2048.size a)
theorem k0_mult335_dvd : ∀ (v4870 : BitVec 32) (k0_hw358 : k0_chk358 v4870), 8 ∣ (k0_mult335 v4870).toNat := fun v4870 k0_hw358 => k0_hw358.1
theorem k0_off646_inb : ∀ (v4870 : BitVec 32) (k0_hw358 : k0_chk358 v4870), ∀ a, (k0_off646 v4870) a + S32.size a ≤ S2048.size a := fun v4870 k0_hw358 => k0_hw358.2.1
theorem k0_off662_inb : ∀ (v4870 : BitVec 32) (k0_hw358 : k0_chk358 v4870), ∀ a, (k0_off662 v4870) a + S32.size a ≤ S2048.size a := fun v4870 k0_hw358 => k0_hw358.2.2

def k0_off663 (v4879 : BitVec 32) : Fin 1 → Nat :=
  let c999936_i32_2161 : BitVec 32 := 999936#32
  let v4880 : BitVec 32 := Scalar.subi v4879 c999936_i32_2161
  let c32_i32_2162 : BitVec 32 := 32#32
  let v4881 : BitVec 32 := Scalar.muli v4880 c32_i32_2162
  let v4882 : BitVec 32 := v4881
  ![v4882.toNat]

def k0_chk359 (v4879 : BitVec 32) : Prop :=
  (8 ∣ (k0_mult336 v4879).toNat) ∧
  (∀ a, (k0_off647 v4879) a + S32.size a ≤ S2048.size a) ∧
  (∀ a, (k0_off663 v4879) a + S32.size a ≤ S2048.size a)
theorem k0_mult336_dvd : ∀ (v4879 : BitVec 32) (k0_hw359 : k0_chk359 v4879), 8 ∣ (k0_mult336 v4879).toNat := fun v4879 k0_hw359 => k0_hw359.1
theorem k0_off647_inb : ∀ (v4879 : BitVec 32) (k0_hw359 : k0_chk359 v4879), ∀ a, (k0_off647 v4879) a + S32.size a ≤ S2048.size a := fun v4879 k0_hw359 => k0_hw359.2.1
theorem k0_off663_inb : ∀ (v4879 : BitVec 32) (k0_hw359 : k0_chk359 v4879), ∀ a, (k0_off663 v4879) a + S32.size a ≤ S2048.size a := fun v4879 k0_hw359 => k0_hw359.2.2

def k0_mult338 (v4961 : BitVec 32) : BitVec 32 :=
  let c0_i32_2200 : BitVec 32 := 0#32
  let c32_i32_2199 : BitVec 32 := 32#32
  let v4962 : BitVec 32 := Scalar.muli v4961 c32_i32_2199
  let v4963 : BitVec 32 := Scalar.addi c0_i32_2200 v4962
  v4963

def k0_off664 (v4961 : BitVec 32) : Fin 1 → Nat :=
  let c0_i32_2200 : BitVec 32 := 0#32
  let c32_i32_2199 : BitVec 32 := 32#32
  let v4962 : BitVec 32 := Scalar.muli v4961 c32_i32_2199
  let v4963 : BitVec 32 := Scalar.addi c0_i32_2200 v4962
  let v4964 : BitVec 32 := v4963
  ![v4964.toNat]
def k0_mult339 (v4970 : BitVec 32) : BitVec 32 :=
  let c0_i32_2204 : BitVec 32 := 0#32
  let c32_i32_2203 : BitVec 32 := 32#32
  let v4971 : BitVec 32 := Scalar.muli v4970 c32_i32_2203
  let v4972 : BitVec 32 := Scalar.addi c0_i32_2204 v4971
  v4972

def k0_off665 (v4970 : BitVec 32) : Fin 1 → Nat :=
  let c0_i32_2204 : BitVec 32 := 0#32
  let c32_i32_2203 : BitVec 32 := 32#32
  let v4971 : BitVec 32 := Scalar.muli v4970 c32_i32_2203
  let v4972 : BitVec 32 := Scalar.addi c0_i32_2204 v4971
  let v4973 : BitVec 32 := v4972
  ![v4973.toNat]
def k0_mult340 (v4979 : BitVec 32) : BitVec 32 :=
  let c0_i32_2208 : BitVec 32 := 0#32
  let c32_i32_2207 : BitVec 32 := 32#32
  let v4980 : BitVec 32 := Scalar.muli v4979 c32_i32_2207
  let v4981 : BitVec 32 := Scalar.addi c0_i32_2208 v4980
  v4981

def k0_off666 (v4979 : BitVec 32) : Fin 1 → Nat :=
  let c0_i32_2208 : BitVec 32 := 0#32
  let c32_i32_2207 : BitVec 32 := 32#32
  let v4980 : BitVec 32 := Scalar.muli v4979 c32_i32_2207
  let v4981 : BitVec 32 := Scalar.addi c0_i32_2208 v4980
  let v4982 : BitVec 32 := v4981
  ![v4982.toNat]
def k0_mult341 (v4988 : BitVec 32) : BitVec 32 :=
  let c0_i32_2212 : BitVec 32 := 0#32
  let c32_i32_2211 : BitVec 32 := 32#32
  let v4989 : BitVec 32 := Scalar.muli v4988 c32_i32_2211
  let v4990 : BitVec 32 := Scalar.addi c0_i32_2212 v4989
  v4990

def k0_off667 (v4988 : BitVec 32) : Fin 1 → Nat :=
  let c0_i32_2212 : BitVec 32 := 0#32
  let c32_i32_2211 : BitVec 32 := 32#32
  let v4989 : BitVec 32 := Scalar.muli v4988 c32_i32_2211
  let v4990 : BitVec 32 := Scalar.addi c0_i32_2212 v4989
  let v4991 : BitVec 32 := v4990
  ![v4991.toNat]
def k0_mult342 (v4997 : BitVec 32) : BitVec 32 :=
  let c0_i32_2216 : BitVec 32 := 0#32
  let c32_i32_2215 : BitVec 32 := 32#32
  let v4998 : BitVec 32 := Scalar.muli v4997 c32_i32_2215
  let v4999 : BitVec 32 := Scalar.addi c0_i32_2216 v4998
  v4999

def k0_off668 (v4997 : BitVec 32) : Fin 1 → Nat :=
  let c0_i32_2216 : BitVec 32 := 0#32
  let c32_i32_2215 : BitVec 32 := 32#32
  let v4998 : BitVec 32 := Scalar.muli v4997 c32_i32_2215
  let v4999 : BitVec 32 := Scalar.addi c0_i32_2216 v4998
  let v5000 : BitVec 32 := v4999
  ![v5000.toNat]
def k0_mult343 (v5006 : BitVec 32) : BitVec 32 :=
  let c0_i32_2220 : BitVec 32 := 0#32
  let c32_i32_2219 : BitVec 32 := 32#32
  let v5007 : BitVec 32 := Scalar.muli v5006 c32_i32_2219
  let v5008 : BitVec 32 := Scalar.addi c0_i32_2220 v5007
  v5008

def k0_off669 (v5006 : BitVec 32) : Fin 1 → Nat :=
  let c0_i32_2220 : BitVec 32 := 0#32
  let c32_i32_2219 : BitVec 32 := 32#32
  let v5007 : BitVec 32 := Scalar.muli v5006 c32_i32_2219
  let v5008 : BitVec 32 := Scalar.addi c0_i32_2220 v5007
  let v5009 : BitVec 32 := v5008
  ![v5009.toNat]
def k0_mult344 (v5015 : BitVec 32) : BitVec 32 :=
  let c0_i32_2224 : BitVec 32 := 0#32
  let c32_i32_2223 : BitVec 32 := 32#32
  let v5016 : BitVec 32 := Scalar.muli v5015 c32_i32_2223
  let v5017 : BitVec 32 := Scalar.addi c0_i32_2224 v5016
  v5017

def k0_off670 (v5015 : BitVec 32) : Fin 1 → Nat :=
  let c0_i32_2224 : BitVec 32 := 0#32
  let c32_i32_2223 : BitVec 32 := 32#32
  let v5016 : BitVec 32 := Scalar.muli v5015 c32_i32_2223
  let v5017 : BitVec 32 := Scalar.addi c0_i32_2224 v5016
  let v5018 : BitVec 32 := v5017
  ![v5018.toNat]
def k0_mult345 (v5024 : BitVec 32) : BitVec 32 :=
  let c0_i32_2228 : BitVec 32 := 0#32
  let c32_i32_2227 : BitVec 32 := 32#32
  let v5025 : BitVec 32 := Scalar.muli v5024 c32_i32_2227
  let v5026 : BitVec 32 := Scalar.addi c0_i32_2228 v5025
  v5026

def k0_off671 (v5024 : BitVec 32) : Fin 1 → Nat :=
  let c0_i32_2228 : BitVec 32 := 0#32
  let c32_i32_2227 : BitVec 32 := 32#32
  let v5025 : BitVec 32 := Scalar.muli v5024 c32_i32_2227
  let v5026 : BitVec 32 := Scalar.addi c0_i32_2228 v5025
  let v5027 : BitVec 32 := v5026
  ![v5027.toNat]
def k0_mult346 (v5033 : BitVec 32) : BitVec 32 :=
  let c0_i32_2232 : BitVec 32 := 0#32
  let c32_i32_2231 : BitVec 32 := 32#32
  let v5034 : BitVec 32 := Scalar.muli v5033 c32_i32_2231
  let v5035 : BitVec 32 := Scalar.addi c0_i32_2232 v5034
  v5035

def k0_off672 (v5033 : BitVec 32) : Fin 1 → Nat :=
  let c0_i32_2232 : BitVec 32 := 0#32
  let c32_i32_2231 : BitVec 32 := 32#32
  let v5034 : BitVec 32 := Scalar.muli v5033 c32_i32_2231
  let v5035 : BitVec 32 := Scalar.addi c0_i32_2232 v5034
  let v5036 : BitVec 32 := v5035
  ![v5036.toNat]
def k0_mult347 (v5042 : BitVec 32) : BitVec 32 :=
  let c0_i32_2236 : BitVec 32 := 0#32
  let c32_i32_2235 : BitVec 32 := 32#32
  let v5043 : BitVec 32 := Scalar.muli v5042 c32_i32_2235
  let v5044 : BitVec 32 := Scalar.addi c0_i32_2236 v5043
  v5044

def k0_off673 (v5042 : BitVec 32) : Fin 1 → Nat :=
  let c0_i32_2236 : BitVec 32 := 0#32
  let c32_i32_2235 : BitVec 32 := 32#32
  let v5043 : BitVec 32 := Scalar.muli v5042 c32_i32_2235
  let v5044 : BitVec 32 := Scalar.addi c0_i32_2236 v5043
  let v5045 : BitVec 32 := v5044
  ![v5045.toNat]
def k0_mult348 (v5051 : BitVec 32) : BitVec 32 :=
  let c0_i32_2240 : BitVec 32 := 0#32
  let c32_i32_2239 : BitVec 32 := 32#32
  let v5052 : BitVec 32 := Scalar.muli v5051 c32_i32_2239
  let v5053 : BitVec 32 := Scalar.addi c0_i32_2240 v5052
  v5053

def k0_off674 (v5051 : BitVec 32) : Fin 1 → Nat :=
  let c0_i32_2240 : BitVec 32 := 0#32
  let c32_i32_2239 : BitVec 32 := 32#32
  let v5052 : BitVec 32 := Scalar.muli v5051 c32_i32_2239
  let v5053 : BitVec 32 := Scalar.addi c0_i32_2240 v5052
  let v5054 : BitVec 32 := v5053
  ![v5054.toNat]
def k0_mult349 (v5060 : BitVec 32) : BitVec 32 :=
  let c0_i32_2244 : BitVec 32 := 0#32
  let c32_i32_2243 : BitVec 32 := 32#32
  let v5061 : BitVec 32 := Scalar.muli v5060 c32_i32_2243
  let v5062 : BitVec 32 := Scalar.addi c0_i32_2244 v5061
  v5062

def k0_off675 (v5060 : BitVec 32) : Fin 1 → Nat :=
  let c0_i32_2244 : BitVec 32 := 0#32
  let c32_i32_2243 : BitVec 32 := 32#32
  let v5061 : BitVec 32 := Scalar.muli v5060 c32_i32_2243
  let v5062 : BitVec 32 := Scalar.addi c0_i32_2244 v5061
  let v5063 : BitVec 32 := v5062
  ![v5063.toNat]
def k0_mult350 (v5069 : BitVec 32) : BitVec 32 :=
  let c0_i32_2248 : BitVec 32 := 0#32
  let c32_i32_2247 : BitVec 32 := 32#32
  let v5070 : BitVec 32 := Scalar.muli v5069 c32_i32_2247
  let v5071 : BitVec 32 := Scalar.addi c0_i32_2248 v5070
  v5071

def k0_off676 (v5069 : BitVec 32) : Fin 1 → Nat :=
  let c0_i32_2248 : BitVec 32 := 0#32
  let c32_i32_2247 : BitVec 32 := 32#32
  let v5070 : BitVec 32 := Scalar.muli v5069 c32_i32_2247
  let v5071 : BitVec 32 := Scalar.addi c0_i32_2248 v5070
  let v5072 : BitVec 32 := v5071
  ![v5072.toNat]
def k0_mult351 (v5078 : BitVec 32) : BitVec 32 :=
  let c0_i32_2252 : BitVec 32 := 0#32
  let c32_i32_2251 : BitVec 32 := 32#32
  let v5079 : BitVec 32 := Scalar.muli v5078 c32_i32_2251
  let v5080 : BitVec 32 := Scalar.addi c0_i32_2252 v5079
  v5080

def k0_off677 (v5078 : BitVec 32) : Fin 1 → Nat :=
  let c0_i32_2252 : BitVec 32 := 0#32
  let c32_i32_2251 : BitVec 32 := 32#32
  let v5079 : BitVec 32 := Scalar.muli v5078 c32_i32_2251
  let v5080 : BitVec 32 := Scalar.addi c0_i32_2252 v5079
  let v5081 : BitVec 32 := v5080
  ![v5081.toNat]
def k0_mult352 (v5087 : BitVec 32) : BitVec 32 :=
  let c0_i32_2256 : BitVec 32 := 0#32
  let c32_i32_2255 : BitVec 32 := 32#32
  let v5088 : BitVec 32 := Scalar.muli v5087 c32_i32_2255
  let v5089 : BitVec 32 := Scalar.addi c0_i32_2256 v5088
  v5089

def k0_off678 (v5087 : BitVec 32) : Fin 1 → Nat :=
  let c0_i32_2256 : BitVec 32 := 0#32
  let c32_i32_2255 : BitVec 32 := 32#32
  let v5088 : BitVec 32 := Scalar.muli v5087 c32_i32_2255
  let v5089 : BitVec 32 := Scalar.addi c0_i32_2256 v5088
  let v5090 : BitVec 32 := v5089
  ![v5090.toNat]
def k0_mult353 (v5096 : BitVec 32) : BitVec 32 :=
  let c0_i32_2260 : BitVec 32 := 0#32
  let c32_i32_2259 : BitVec 32 := 32#32
  let v5097 : BitVec 32 := Scalar.muli v5096 c32_i32_2259
  let v5098 : BitVec 32 := Scalar.addi c0_i32_2260 v5097
  v5098

def k0_off679 (v5096 : BitVec 32) : Fin 1 → Nat :=
  let c0_i32_2260 : BitVec 32 := 0#32
  let c32_i32_2259 : BitVec 32 := 32#32
  let v5097 : BitVec 32 := Scalar.muli v5096 c32_i32_2259
  let v5098 : BitVec 32 := Scalar.addi c0_i32_2260 v5097
  let v5099 : BitVec 32 := v5098
  ![v5099.toNat]

def k0_chk376 (v5096 : BitVec 32) : Prop :=
  (8 ∣ (k0_mult353 v5096).toNat) ∧
  (∀ a, (k0_off679 v5096) a + S32.size a ≤ S3407872.size a)
theorem k0_mult353_dvd : ∀ (v5096 : BitVec 32) (k0_hw376 : k0_chk376 v5096), 8 ∣ (k0_mult353 v5096).toNat := fun v5096 k0_hw376 => k0_hw376.1
theorem k0_off679_inb : ∀ (v5096 : BitVec 32) (k0_hw376 : k0_chk376 v5096), ∀ a, (k0_off679 v5096) a + S32.size a ≤ S3407872.size a := fun v5096 k0_hw376 => k0_hw376.2

def k0_off680 (v4961 : BitVec 32) : Fin 1 → Nat :=
  let c0_i32_2200 : BitVec 32 := 0#32
  let c32_i32_2199 : BitVec 32 := 32#32
  let v4962 : BitVec 32 := Scalar.muli v4961 c32_i32_2199
  let v4963 : BitVec 32 := Scalar.addi c0_i32_2200 v4962
  let v4964 : BitVec 32 := v4963
  ![v4964.toNat]

def k0_chk361 (v4961 : BitVec 32) : Prop :=
  (8 ∣ (k0_mult338 v4961).toNat) ∧
  (∀ a, (k0_off664 v4961) a + S32.size a ≤ S3407872.size a) ∧
  (∀ a, (k0_off680 v4961) a + S32.size a ≤ S3407872.size a)
theorem k0_mult338_dvd : ∀ (v4961 : BitVec 32) (k0_hw361 : k0_chk361 v4961), 8 ∣ (k0_mult338 v4961).toNat := fun v4961 k0_hw361 => k0_hw361.1
theorem k0_off664_inb : ∀ (v4961 : BitVec 32) (k0_hw361 : k0_chk361 v4961), ∀ a, (k0_off664 v4961) a + S32.size a ≤ S3407872.size a := fun v4961 k0_hw361 => k0_hw361.2.1
theorem k0_off680_inb : ∀ (v4961 : BitVec 32) (k0_hw361 : k0_chk361 v4961), ∀ a, (k0_off680 v4961) a + S32.size a ≤ S3407872.size a := fun v4961 k0_hw361 => k0_hw361.2.2

def k0_off681 (v4970 : BitVec 32) : Fin 1 → Nat :=
  let c0_i32_2204 : BitVec 32 := 0#32
  let c32_i32_2203 : BitVec 32 := 32#32
  let v4971 : BitVec 32 := Scalar.muli v4970 c32_i32_2203
  let v4972 : BitVec 32 := Scalar.addi c0_i32_2204 v4971
  let v4973 : BitVec 32 := v4972
  ![v4973.toNat]

def k0_chk362 (v4970 : BitVec 32) : Prop :=
  (8 ∣ (k0_mult339 v4970).toNat) ∧
  (∀ a, (k0_off665 v4970) a + S32.size a ≤ S3407872.size a) ∧
  (∀ a, (k0_off681 v4970) a + S32.size a ≤ S3407872.size a)
theorem k0_mult339_dvd : ∀ (v4970 : BitVec 32) (k0_hw362 : k0_chk362 v4970), 8 ∣ (k0_mult339 v4970).toNat := fun v4970 k0_hw362 => k0_hw362.1
theorem k0_off665_inb : ∀ (v4970 : BitVec 32) (k0_hw362 : k0_chk362 v4970), ∀ a, (k0_off665 v4970) a + S32.size a ≤ S3407872.size a := fun v4970 k0_hw362 => k0_hw362.2.1
theorem k0_off681_inb : ∀ (v4970 : BitVec 32) (k0_hw362 : k0_chk362 v4970), ∀ a, (k0_off681 v4970) a + S32.size a ≤ S3407872.size a := fun v4970 k0_hw362 => k0_hw362.2.2

def k0_off682 (v4979 : BitVec 32) : Fin 1 → Nat :=
  let c0_i32_2208 : BitVec 32 := 0#32
  let c32_i32_2207 : BitVec 32 := 32#32
  let v4980 : BitVec 32 := Scalar.muli v4979 c32_i32_2207
  let v4981 : BitVec 32 := Scalar.addi c0_i32_2208 v4980
  let v4982 : BitVec 32 := v4981
  ![v4982.toNat]

def k0_chk363 (v4979 : BitVec 32) : Prop :=
  (8 ∣ (k0_mult340 v4979).toNat) ∧
  (∀ a, (k0_off666 v4979) a + S32.size a ≤ S3407872.size a) ∧
  (∀ a, (k0_off682 v4979) a + S32.size a ≤ S3407872.size a)
theorem k0_mult340_dvd : ∀ (v4979 : BitVec 32) (k0_hw363 : k0_chk363 v4979), 8 ∣ (k0_mult340 v4979).toNat := fun v4979 k0_hw363 => k0_hw363.1
theorem k0_off666_inb : ∀ (v4979 : BitVec 32) (k0_hw363 : k0_chk363 v4979), ∀ a, (k0_off666 v4979) a + S32.size a ≤ S3407872.size a := fun v4979 k0_hw363 => k0_hw363.2.1
theorem k0_off682_inb : ∀ (v4979 : BitVec 32) (k0_hw363 : k0_chk363 v4979), ∀ a, (k0_off682 v4979) a + S32.size a ≤ S3407872.size a := fun v4979 k0_hw363 => k0_hw363.2.2

def k0_off683 (v4988 : BitVec 32) : Fin 1 → Nat :=
  let c0_i32_2212 : BitVec 32 := 0#32
  let c32_i32_2211 : BitVec 32 := 32#32
  let v4989 : BitVec 32 := Scalar.muli v4988 c32_i32_2211
  let v4990 : BitVec 32 := Scalar.addi c0_i32_2212 v4989
  let v4991 : BitVec 32 := v4990
  ![v4991.toNat]

def k0_chk364 (v4988 : BitVec 32) : Prop :=
  (8 ∣ (k0_mult341 v4988).toNat) ∧
  (∀ a, (k0_off667 v4988) a + S32.size a ≤ S3407872.size a) ∧
  (∀ a, (k0_off683 v4988) a + S32.size a ≤ S3407872.size a)
theorem k0_mult341_dvd : ∀ (v4988 : BitVec 32) (k0_hw364 : k0_chk364 v4988), 8 ∣ (k0_mult341 v4988).toNat := fun v4988 k0_hw364 => k0_hw364.1
theorem k0_off667_inb : ∀ (v4988 : BitVec 32) (k0_hw364 : k0_chk364 v4988), ∀ a, (k0_off667 v4988) a + S32.size a ≤ S3407872.size a := fun v4988 k0_hw364 => k0_hw364.2.1
theorem k0_off683_inb : ∀ (v4988 : BitVec 32) (k0_hw364 : k0_chk364 v4988), ∀ a, (k0_off683 v4988) a + S32.size a ≤ S3407872.size a := fun v4988 k0_hw364 => k0_hw364.2.2

def k0_off684 (v4997 : BitVec 32) : Fin 1 → Nat :=
  let c0_i32_2216 : BitVec 32 := 0#32
  let c32_i32_2215 : BitVec 32 := 32#32
  let v4998 : BitVec 32 := Scalar.muli v4997 c32_i32_2215
  let v4999 : BitVec 32 := Scalar.addi c0_i32_2216 v4998
  let v5000 : BitVec 32 := v4999
  ![v5000.toNat]

def k0_chk365 (v4997 : BitVec 32) : Prop :=
  (8 ∣ (k0_mult342 v4997).toNat) ∧
  (∀ a, (k0_off668 v4997) a + S32.size a ≤ S3407872.size a) ∧
  (∀ a, (k0_off684 v4997) a + S32.size a ≤ S3407872.size a)
theorem k0_mult342_dvd : ∀ (v4997 : BitVec 32) (k0_hw365 : k0_chk365 v4997), 8 ∣ (k0_mult342 v4997).toNat := fun v4997 k0_hw365 => k0_hw365.1
theorem k0_off668_inb : ∀ (v4997 : BitVec 32) (k0_hw365 : k0_chk365 v4997), ∀ a, (k0_off668 v4997) a + S32.size a ≤ S3407872.size a := fun v4997 k0_hw365 => k0_hw365.2.1
theorem k0_off684_inb : ∀ (v4997 : BitVec 32) (k0_hw365 : k0_chk365 v4997), ∀ a, (k0_off684 v4997) a + S32.size a ≤ S3407872.size a := fun v4997 k0_hw365 => k0_hw365.2.2

def k0_off685 (v5006 : BitVec 32) : Fin 1 → Nat :=
  let c0_i32_2220 : BitVec 32 := 0#32
  let c32_i32_2219 : BitVec 32 := 32#32
  let v5007 : BitVec 32 := Scalar.muli v5006 c32_i32_2219
  let v5008 : BitVec 32 := Scalar.addi c0_i32_2220 v5007
  let v5009 : BitVec 32 := v5008
  ![v5009.toNat]

def k0_chk366 (v5006 : BitVec 32) : Prop :=
  (8 ∣ (k0_mult343 v5006).toNat) ∧
  (∀ a, (k0_off669 v5006) a + S32.size a ≤ S3407872.size a) ∧
  (∀ a, (k0_off685 v5006) a + S32.size a ≤ S3407872.size a)
theorem k0_mult343_dvd : ∀ (v5006 : BitVec 32) (k0_hw366 : k0_chk366 v5006), 8 ∣ (k0_mult343 v5006).toNat := fun v5006 k0_hw366 => k0_hw366.1
theorem k0_off669_inb : ∀ (v5006 : BitVec 32) (k0_hw366 : k0_chk366 v5006), ∀ a, (k0_off669 v5006) a + S32.size a ≤ S3407872.size a := fun v5006 k0_hw366 => k0_hw366.2.1
theorem k0_off685_inb : ∀ (v5006 : BitVec 32) (k0_hw366 : k0_chk366 v5006), ∀ a, (k0_off685 v5006) a + S32.size a ≤ S3407872.size a := fun v5006 k0_hw366 => k0_hw366.2.2

def k0_off686 (v5015 : BitVec 32) : Fin 1 → Nat :=
  let c0_i32_2224 : BitVec 32 := 0#32
  let c32_i32_2223 : BitVec 32 := 32#32
  let v5016 : BitVec 32 := Scalar.muli v5015 c32_i32_2223
  let v5017 : BitVec 32 := Scalar.addi c0_i32_2224 v5016
  let v5018 : BitVec 32 := v5017
  ![v5018.toNat]

def k0_chk367 (v5015 : BitVec 32) : Prop :=
  (8 ∣ (k0_mult344 v5015).toNat) ∧
  (∀ a, (k0_off670 v5015) a + S32.size a ≤ S3407872.size a) ∧
  (∀ a, (k0_off686 v5015) a + S32.size a ≤ S3407872.size a)
theorem k0_mult344_dvd : ∀ (v5015 : BitVec 32) (k0_hw367 : k0_chk367 v5015), 8 ∣ (k0_mult344 v5015).toNat := fun v5015 k0_hw367 => k0_hw367.1
theorem k0_off670_inb : ∀ (v5015 : BitVec 32) (k0_hw367 : k0_chk367 v5015), ∀ a, (k0_off670 v5015) a + S32.size a ≤ S3407872.size a := fun v5015 k0_hw367 => k0_hw367.2.1
theorem k0_off686_inb : ∀ (v5015 : BitVec 32) (k0_hw367 : k0_chk367 v5015), ∀ a, (k0_off686 v5015) a + S32.size a ≤ S3407872.size a := fun v5015 k0_hw367 => k0_hw367.2.2

def k0_off687 (v5024 : BitVec 32) : Fin 1 → Nat :=
  let c0_i32_2228 : BitVec 32 := 0#32
  let c32_i32_2227 : BitVec 32 := 32#32
  let v5025 : BitVec 32 := Scalar.muli v5024 c32_i32_2227
  let v5026 : BitVec 32 := Scalar.addi c0_i32_2228 v5025
  let v5027 : BitVec 32 := v5026
  ![v5027.toNat]

def k0_chk368 (v5024 : BitVec 32) : Prop :=
  (8 ∣ (k0_mult345 v5024).toNat) ∧
  (∀ a, (k0_off671 v5024) a + S32.size a ≤ S3407872.size a) ∧
  (∀ a, (k0_off687 v5024) a + S32.size a ≤ S3407872.size a)
theorem k0_mult345_dvd : ∀ (v5024 : BitVec 32) (k0_hw368 : k0_chk368 v5024), 8 ∣ (k0_mult345 v5024).toNat := fun v5024 k0_hw368 => k0_hw368.1
theorem k0_off671_inb : ∀ (v5024 : BitVec 32) (k0_hw368 : k0_chk368 v5024), ∀ a, (k0_off671 v5024) a + S32.size a ≤ S3407872.size a := fun v5024 k0_hw368 => k0_hw368.2.1
theorem k0_off687_inb : ∀ (v5024 : BitVec 32) (k0_hw368 : k0_chk368 v5024), ∀ a, (k0_off687 v5024) a + S32.size a ≤ S3407872.size a := fun v5024 k0_hw368 => k0_hw368.2.2

def k0_off688 (v5033 : BitVec 32) : Fin 1 → Nat :=
  let c0_i32_2232 : BitVec 32 := 0#32
  let c32_i32_2231 : BitVec 32 := 32#32
  let v5034 : BitVec 32 := Scalar.muli v5033 c32_i32_2231
  let v5035 : BitVec 32 := Scalar.addi c0_i32_2232 v5034
  let v5036 : BitVec 32 := v5035
  ![v5036.toNat]

def k0_chk369 (v5033 : BitVec 32) : Prop :=
  (8 ∣ (k0_mult346 v5033).toNat) ∧
  (∀ a, (k0_off672 v5033) a + S32.size a ≤ S3407872.size a) ∧
  (∀ a, (k0_off688 v5033) a + S32.size a ≤ S3407872.size a)
theorem k0_mult346_dvd : ∀ (v5033 : BitVec 32) (k0_hw369 : k0_chk369 v5033), 8 ∣ (k0_mult346 v5033).toNat := fun v5033 k0_hw369 => k0_hw369.1
theorem k0_off672_inb : ∀ (v5033 : BitVec 32) (k0_hw369 : k0_chk369 v5033), ∀ a, (k0_off672 v5033) a + S32.size a ≤ S3407872.size a := fun v5033 k0_hw369 => k0_hw369.2.1
theorem k0_off688_inb : ∀ (v5033 : BitVec 32) (k0_hw369 : k0_chk369 v5033), ∀ a, (k0_off688 v5033) a + S32.size a ≤ S3407872.size a := fun v5033 k0_hw369 => k0_hw369.2.2

def k0_off689 (v5042 : BitVec 32) : Fin 1 → Nat :=
  let c0_i32_2236 : BitVec 32 := 0#32
  let c32_i32_2235 : BitVec 32 := 32#32
  let v5043 : BitVec 32 := Scalar.muli v5042 c32_i32_2235
  let v5044 : BitVec 32 := Scalar.addi c0_i32_2236 v5043
  let v5045 : BitVec 32 := v5044
  ![v5045.toNat]

def k0_chk370 (v5042 : BitVec 32) : Prop :=
  (8 ∣ (k0_mult347 v5042).toNat) ∧
  (∀ a, (k0_off673 v5042) a + S32.size a ≤ S3407872.size a) ∧
  (∀ a, (k0_off689 v5042) a + S32.size a ≤ S3407872.size a)
theorem k0_mult347_dvd : ∀ (v5042 : BitVec 32) (k0_hw370 : k0_chk370 v5042), 8 ∣ (k0_mult347 v5042).toNat := fun v5042 k0_hw370 => k0_hw370.1
theorem k0_off673_inb : ∀ (v5042 : BitVec 32) (k0_hw370 : k0_chk370 v5042), ∀ a, (k0_off673 v5042) a + S32.size a ≤ S3407872.size a := fun v5042 k0_hw370 => k0_hw370.2.1
theorem k0_off689_inb : ∀ (v5042 : BitVec 32) (k0_hw370 : k0_chk370 v5042), ∀ a, (k0_off689 v5042) a + S32.size a ≤ S3407872.size a := fun v5042 k0_hw370 => k0_hw370.2.2

def k0_off690 (v5051 : BitVec 32) : Fin 1 → Nat :=
  let c0_i32_2240 : BitVec 32 := 0#32
  let c32_i32_2239 : BitVec 32 := 32#32
  let v5052 : BitVec 32 := Scalar.muli v5051 c32_i32_2239
  let v5053 : BitVec 32 := Scalar.addi c0_i32_2240 v5052
  let v5054 : BitVec 32 := v5053
  ![v5054.toNat]

def k0_chk371 (v5051 : BitVec 32) : Prop :=
  (8 ∣ (k0_mult348 v5051).toNat) ∧
  (∀ a, (k0_off674 v5051) a + S32.size a ≤ S3407872.size a) ∧
  (∀ a, (k0_off690 v5051) a + S32.size a ≤ S3407872.size a)
theorem k0_mult348_dvd : ∀ (v5051 : BitVec 32) (k0_hw371 : k0_chk371 v5051), 8 ∣ (k0_mult348 v5051).toNat := fun v5051 k0_hw371 => k0_hw371.1
theorem k0_off674_inb : ∀ (v5051 : BitVec 32) (k0_hw371 : k0_chk371 v5051), ∀ a, (k0_off674 v5051) a + S32.size a ≤ S3407872.size a := fun v5051 k0_hw371 => k0_hw371.2.1
theorem k0_off690_inb : ∀ (v5051 : BitVec 32) (k0_hw371 : k0_chk371 v5051), ∀ a, (k0_off690 v5051) a + S32.size a ≤ S3407872.size a := fun v5051 k0_hw371 => k0_hw371.2.2

def k0_off691 (v5060 : BitVec 32) : Fin 1 → Nat :=
  let c0_i32_2244 : BitVec 32 := 0#32
  let c32_i32_2243 : BitVec 32 := 32#32
  let v5061 : BitVec 32 := Scalar.muli v5060 c32_i32_2243
  let v5062 : BitVec 32 := Scalar.addi c0_i32_2244 v5061
  let v5063 : BitVec 32 := v5062
  ![v5063.toNat]

def k0_chk372 (v5060 : BitVec 32) : Prop :=
  (8 ∣ (k0_mult349 v5060).toNat) ∧
  (∀ a, (k0_off675 v5060) a + S32.size a ≤ S3407872.size a) ∧
  (∀ a, (k0_off691 v5060) a + S32.size a ≤ S3407872.size a)
theorem k0_mult349_dvd : ∀ (v5060 : BitVec 32) (k0_hw372 : k0_chk372 v5060), 8 ∣ (k0_mult349 v5060).toNat := fun v5060 k0_hw372 => k0_hw372.1
theorem k0_off675_inb : ∀ (v5060 : BitVec 32) (k0_hw372 : k0_chk372 v5060), ∀ a, (k0_off675 v5060) a + S32.size a ≤ S3407872.size a := fun v5060 k0_hw372 => k0_hw372.2.1
theorem k0_off691_inb : ∀ (v5060 : BitVec 32) (k0_hw372 : k0_chk372 v5060), ∀ a, (k0_off691 v5060) a + S32.size a ≤ S3407872.size a := fun v5060 k0_hw372 => k0_hw372.2.2

def k0_off692 (v5069 : BitVec 32) : Fin 1 → Nat :=
  let c0_i32_2248 : BitVec 32 := 0#32
  let c32_i32_2247 : BitVec 32 := 32#32
  let v5070 : BitVec 32 := Scalar.muli v5069 c32_i32_2247
  let v5071 : BitVec 32 := Scalar.addi c0_i32_2248 v5070
  let v5072 : BitVec 32 := v5071
  ![v5072.toNat]

def k0_chk373 (v5069 : BitVec 32) : Prop :=
  (8 ∣ (k0_mult350 v5069).toNat) ∧
  (∀ a, (k0_off676 v5069) a + S32.size a ≤ S3407872.size a) ∧
  (∀ a, (k0_off692 v5069) a + S32.size a ≤ S3407872.size a)
theorem k0_mult350_dvd : ∀ (v5069 : BitVec 32) (k0_hw373 : k0_chk373 v5069), 8 ∣ (k0_mult350 v5069).toNat := fun v5069 k0_hw373 => k0_hw373.1
theorem k0_off676_inb : ∀ (v5069 : BitVec 32) (k0_hw373 : k0_chk373 v5069), ∀ a, (k0_off676 v5069) a + S32.size a ≤ S3407872.size a := fun v5069 k0_hw373 => k0_hw373.2.1
theorem k0_off692_inb : ∀ (v5069 : BitVec 32) (k0_hw373 : k0_chk373 v5069), ∀ a, (k0_off692 v5069) a + S32.size a ≤ S3407872.size a := fun v5069 k0_hw373 => k0_hw373.2.2

def k0_off693 (v5078 : BitVec 32) : Fin 1 → Nat :=
  let c0_i32_2252 : BitVec 32 := 0#32
  let c32_i32_2251 : BitVec 32 := 32#32
  let v5079 : BitVec 32 := Scalar.muli v5078 c32_i32_2251
  let v5080 : BitVec 32 := Scalar.addi c0_i32_2252 v5079
  let v5081 : BitVec 32 := v5080
  ![v5081.toNat]

def k0_chk374 (v5078 : BitVec 32) : Prop :=
  (8 ∣ (k0_mult351 v5078).toNat) ∧
  (∀ a, (k0_off677 v5078) a + S32.size a ≤ S3407872.size a) ∧
  (∀ a, (k0_off693 v5078) a + S32.size a ≤ S3407872.size a)
theorem k0_mult351_dvd : ∀ (v5078 : BitVec 32) (k0_hw374 : k0_chk374 v5078), 8 ∣ (k0_mult351 v5078).toNat := fun v5078 k0_hw374 => k0_hw374.1
theorem k0_off677_inb : ∀ (v5078 : BitVec 32) (k0_hw374 : k0_chk374 v5078), ∀ a, (k0_off677 v5078) a + S32.size a ≤ S3407872.size a := fun v5078 k0_hw374 => k0_hw374.2.1
theorem k0_off693_inb : ∀ (v5078 : BitVec 32) (k0_hw374 : k0_chk374 v5078), ∀ a, (k0_off693 v5078) a + S32.size a ≤ S3407872.size a := fun v5078 k0_hw374 => k0_hw374.2.2

def k0_off694 (v5087 : BitVec 32) : Fin 1 → Nat :=
  let c0_i32_2256 : BitVec 32 := 0#32
  let c32_i32_2255 : BitVec 32 := 32#32
  let v5088 : BitVec 32 := Scalar.muli v5087 c32_i32_2255
  let v5089 : BitVec 32 := Scalar.addi c0_i32_2256 v5088
  let v5090 : BitVec 32 := v5089
  ![v5090.toNat]

def k0_chk375 (v5087 : BitVec 32) : Prop :=
  (8 ∣ (k0_mult352 v5087).toNat) ∧
  (∀ a, (k0_off678 v5087) a + S32.size a ≤ S3407872.size a) ∧
  (∀ a, (k0_off694 v5087) a + S32.size a ≤ S3407872.size a)
theorem k0_mult352_dvd : ∀ (v5087 : BitVec 32) (k0_hw375 : k0_chk375 v5087), 8 ∣ (k0_mult352 v5087).toNat := fun v5087 k0_hw375 => k0_hw375.1
theorem k0_off678_inb : ∀ (v5087 : BitVec 32) (k0_hw375 : k0_chk375 v5087), ∀ a, (k0_off678 v5087) a + S32.size a ≤ S3407872.size a := fun v5087 k0_hw375 => k0_hw375.2.1
theorem k0_off694_inb : ∀ (v5087 : BitVec 32) (k0_hw375 : k0_chk375 v5087), ∀ a, (k0_off694 v5087) a + S32.size a ≤ S3407872.size a := fun v5087 k0_hw375 => k0_hw375.2.2

def k0_mult354 (v5171 : BitVec 32) : BitVec 32 :=
  let c999936_i32_2297 : BitVec 32 := 999936#32
  let v5172 : BitVec 32 := Scalar.subi v5171 c999936_i32_2297
  let c32_i32_2298 : BitVec 32 := 32#32
  let v5173 : BitVec 32 := Scalar.muli v5172 c32_i32_2298
  v5173

def k0_off695 (v5171 : BitVec 32) : Fin 1 → Nat :=
  let c999936_i32_2297 : BitVec 32 := 999936#32
  let v5172 : BitVec 32 := Scalar.subi v5171 c999936_i32_2297
  let c32_i32_2298 : BitVec 32 := 32#32
  let v5173 : BitVec 32 := Scalar.muli v5172 c32_i32_2298
  let v5174 : BitVec 32 := v5173
  ![v5174.toNat]
def k0_mult355 (v5180 : BitVec 32) : BitVec 32 :=
  let c999936_i32_2300 : BitVec 32 := 999936#32
  let v5181 : BitVec 32 := Scalar.subi v5180 c999936_i32_2300
  let c32_i32_2301 : BitVec 32 := 32#32
  let v5182 : BitVec 32 := Scalar.muli v5181 c32_i32_2301
  v5182

def k0_off696 (v5180 : BitVec 32) : Fin 1 → Nat :=
  let c999936_i32_2300 : BitVec 32 := 999936#32
  let v5181 : BitVec 32 := Scalar.subi v5180 c999936_i32_2300
  let c32_i32_2301 : BitVec 32 := 32#32
  let v5182 : BitVec 32 := Scalar.muli v5181 c32_i32_2301
  let v5183 : BitVec 32 := v5182
  ![v5183.toNat]
def k0_mult356 (v5189 : BitVec 32) : BitVec 32 :=
  let c999936_i32_2303 : BitVec 32 := 999936#32
  let v5190 : BitVec 32 := Scalar.subi v5189 c999936_i32_2303
  let c32_i32_2304 : BitVec 32 := 32#32
  let v5191 : BitVec 32 := Scalar.muli v5190 c32_i32_2304
  v5191

def k0_off697 (v5189 : BitVec 32) : Fin 1 → Nat :=
  let c999936_i32_2303 : BitVec 32 := 999936#32
  let v5190 : BitVec 32 := Scalar.subi v5189 c999936_i32_2303
  let c32_i32_2304 : BitVec 32 := 32#32
  let v5191 : BitVec 32 := Scalar.muli v5190 c32_i32_2304
  let v5192 : BitVec 32 := v5191
  ![v5192.toNat]
def k0_mult357 (v5198 : BitVec 32) : BitVec 32 :=
  let c999936_i32_2306 : BitVec 32 := 999936#32
  let v5199 : BitVec 32 := Scalar.subi v5198 c999936_i32_2306
  let c32_i32_2307 : BitVec 32 := 32#32
  let v5200 : BitVec 32 := Scalar.muli v5199 c32_i32_2307
  v5200

def k0_off698 (v5198 : BitVec 32) : Fin 1 → Nat :=
  let c999936_i32_2306 : BitVec 32 := 999936#32
  let v5199 : BitVec 32 := Scalar.subi v5198 c999936_i32_2306
  let c32_i32_2307 : BitVec 32 := 32#32
  let v5200 : BitVec 32 := Scalar.muli v5199 c32_i32_2307
  let v5201 : BitVec 32 := v5200
  ![v5201.toNat]
def k0_mult358 (v5207 : BitVec 32) : BitVec 32 :=
  let c999936_i32_2309 : BitVec 32 := 999936#32
  let v5208 : BitVec 32 := Scalar.subi v5207 c999936_i32_2309
  let c32_i32_2310 : BitVec 32 := 32#32
  let v5209 : BitVec 32 := Scalar.muli v5208 c32_i32_2310
  v5209

def k0_off699 (v5207 : BitVec 32) : Fin 1 → Nat :=
  let c999936_i32_2309 : BitVec 32 := 999936#32
  let v5208 : BitVec 32 := Scalar.subi v5207 c999936_i32_2309
  let c32_i32_2310 : BitVec 32 := 32#32
  let v5209 : BitVec 32 := Scalar.muli v5208 c32_i32_2310
  let v5210 : BitVec 32 := v5209
  ![v5210.toNat]
def k0_mult359 (v5216 : BitVec 32) : BitVec 32 :=
  let c999936_i32_2312 : BitVec 32 := 999936#32
  let v5217 : BitVec 32 := Scalar.subi v5216 c999936_i32_2312
  let c32_i32_2313 : BitVec 32 := 32#32
  let v5218 : BitVec 32 := Scalar.muli v5217 c32_i32_2313
  v5218

def k0_off700 (v5216 : BitVec 32) : Fin 1 → Nat :=
  let c999936_i32_2312 : BitVec 32 := 999936#32
  let v5217 : BitVec 32 := Scalar.subi v5216 c999936_i32_2312
  let c32_i32_2313 : BitVec 32 := 32#32
  let v5218 : BitVec 32 := Scalar.muli v5217 c32_i32_2313
  let v5219 : BitVec 32 := v5218
  ![v5219.toNat]
def k0_mult360 (v5225 : BitVec 32) : BitVec 32 :=
  let c999936_i32_2315 : BitVec 32 := 999936#32
  let v5226 : BitVec 32 := Scalar.subi v5225 c999936_i32_2315
  let c32_i32_2316 : BitVec 32 := 32#32
  let v5227 : BitVec 32 := Scalar.muli v5226 c32_i32_2316
  v5227

def k0_off701 (v5225 : BitVec 32) : Fin 1 → Nat :=
  let c999936_i32_2315 : BitVec 32 := 999936#32
  let v5226 : BitVec 32 := Scalar.subi v5225 c999936_i32_2315
  let c32_i32_2316 : BitVec 32 := 32#32
  let v5227 : BitVec 32 := Scalar.muli v5226 c32_i32_2316
  let v5228 : BitVec 32 := v5227
  ![v5228.toNat]
def k0_mult361 (v5234 : BitVec 32) : BitVec 32 :=
  let c999936_i32_2318 : BitVec 32 := 999936#32
  let v5235 : BitVec 32 := Scalar.subi v5234 c999936_i32_2318
  let c32_i32_2319 : BitVec 32 := 32#32
  let v5236 : BitVec 32 := Scalar.muli v5235 c32_i32_2319
  v5236

def k0_off702 (v5234 : BitVec 32) : Fin 1 → Nat :=
  let c999936_i32_2318 : BitVec 32 := 999936#32
  let v5235 : BitVec 32 := Scalar.subi v5234 c999936_i32_2318
  let c32_i32_2319 : BitVec 32 := 32#32
  let v5236 : BitVec 32 := Scalar.muli v5235 c32_i32_2319
  let v5237 : BitVec 32 := v5236
  ![v5237.toNat]
def k0_mult362 (v5243 : BitVec 32) : BitVec 32 :=
  let c999936_i32_2321 : BitVec 32 := 999936#32
  let v5244 : BitVec 32 := Scalar.subi v5243 c999936_i32_2321
  let c32_i32_2322 : BitVec 32 := 32#32
  let v5245 : BitVec 32 := Scalar.muli v5244 c32_i32_2322
  v5245

def k0_off703 (v5243 : BitVec 32) : Fin 1 → Nat :=
  let c999936_i32_2321 : BitVec 32 := 999936#32
  let v5244 : BitVec 32 := Scalar.subi v5243 c999936_i32_2321
  let c32_i32_2322 : BitVec 32 := 32#32
  let v5245 : BitVec 32 := Scalar.muli v5244 c32_i32_2322
  let v5246 : BitVec 32 := v5245
  ![v5246.toNat]
def k0_mult363 (v5252 : BitVec 32) : BitVec 32 :=
  let c999936_i32_2324 : BitVec 32 := 999936#32
  let v5253 : BitVec 32 := Scalar.subi v5252 c999936_i32_2324
  let c32_i32_2325 : BitVec 32 := 32#32
  let v5254 : BitVec 32 := Scalar.muli v5253 c32_i32_2325
  v5254

def k0_off704 (v5252 : BitVec 32) : Fin 1 → Nat :=
  let c999936_i32_2324 : BitVec 32 := 999936#32
  let v5253 : BitVec 32 := Scalar.subi v5252 c999936_i32_2324
  let c32_i32_2325 : BitVec 32 := 32#32
  let v5254 : BitVec 32 := Scalar.muli v5253 c32_i32_2325
  let v5255 : BitVec 32 := v5254
  ![v5255.toNat]
def k0_mult364 (v5261 : BitVec 32) : BitVec 32 :=
  let c999936_i32_2327 : BitVec 32 := 999936#32
  let v5262 : BitVec 32 := Scalar.subi v5261 c999936_i32_2327
  let c32_i32_2328 : BitVec 32 := 32#32
  let v5263 : BitVec 32 := Scalar.muli v5262 c32_i32_2328
  v5263

def k0_off705 (v5261 : BitVec 32) : Fin 1 → Nat :=
  let c999936_i32_2327 : BitVec 32 := 999936#32
  let v5262 : BitVec 32 := Scalar.subi v5261 c999936_i32_2327
  let c32_i32_2328 : BitVec 32 := 32#32
  let v5263 : BitVec 32 := Scalar.muli v5262 c32_i32_2328
  let v5264 : BitVec 32 := v5263
  ![v5264.toNat]
def k0_mult365 (v5270 : BitVec 32) : BitVec 32 :=
  let c999936_i32_2330 : BitVec 32 := 999936#32
  let v5271 : BitVec 32 := Scalar.subi v5270 c999936_i32_2330
  let c32_i32_2331 : BitVec 32 := 32#32
  let v5272 : BitVec 32 := Scalar.muli v5271 c32_i32_2331
  v5272

def k0_off706 (v5270 : BitVec 32) : Fin 1 → Nat :=
  let c999936_i32_2330 : BitVec 32 := 999936#32
  let v5271 : BitVec 32 := Scalar.subi v5270 c999936_i32_2330
  let c32_i32_2331 : BitVec 32 := 32#32
  let v5272 : BitVec 32 := Scalar.muli v5271 c32_i32_2331
  let v5273 : BitVec 32 := v5272
  ![v5273.toNat]
def k0_mult366 (v5279 : BitVec 32) : BitVec 32 :=
  let c999936_i32_2333 : BitVec 32 := 999936#32
  let v5280 : BitVec 32 := Scalar.subi v5279 c999936_i32_2333
  let c32_i32_2334 : BitVec 32 := 32#32
  let v5281 : BitVec 32 := Scalar.muli v5280 c32_i32_2334
  v5281

def k0_off707 (v5279 : BitVec 32) : Fin 1 → Nat :=
  let c999936_i32_2333 : BitVec 32 := 999936#32
  let v5280 : BitVec 32 := Scalar.subi v5279 c999936_i32_2333
  let c32_i32_2334 : BitVec 32 := 32#32
  let v5281 : BitVec 32 := Scalar.muli v5280 c32_i32_2334
  let v5282 : BitVec 32 := v5281
  ![v5282.toNat]
def k0_mult367 (v5288 : BitVec 32) : BitVec 32 :=
  let c999936_i32_2336 : BitVec 32 := 999936#32
  let v5289 : BitVec 32 := Scalar.subi v5288 c999936_i32_2336
  let c32_i32_2337 : BitVec 32 := 32#32
  let v5290 : BitVec 32 := Scalar.muli v5289 c32_i32_2337
  v5290

def k0_off708 (v5288 : BitVec 32) : Fin 1 → Nat :=
  let c999936_i32_2336 : BitVec 32 := 999936#32
  let v5289 : BitVec 32 := Scalar.subi v5288 c999936_i32_2336
  let c32_i32_2337 : BitVec 32 := 32#32
  let v5290 : BitVec 32 := Scalar.muli v5289 c32_i32_2337
  let v5291 : BitVec 32 := v5290
  ![v5291.toNat]
def k0_mult368 (v5297 : BitVec 32) : BitVec 32 :=
  let c999936_i32_2339 : BitVec 32 := 999936#32
  let v5298 : BitVec 32 := Scalar.subi v5297 c999936_i32_2339
  let c32_i32_2340 : BitVec 32 := 32#32
  let v5299 : BitVec 32 := Scalar.muli v5298 c32_i32_2340
  v5299

def k0_off709 (v5297 : BitVec 32) : Fin 1 → Nat :=
  let c999936_i32_2339 : BitVec 32 := 999936#32
  let v5298 : BitVec 32 := Scalar.subi v5297 c999936_i32_2339
  let c32_i32_2340 : BitVec 32 := 32#32
  let v5299 : BitVec 32 := Scalar.muli v5298 c32_i32_2340
  let v5300 : BitVec 32 := v5299
  ![v5300.toNat]
def k0_mult369 (v5306 : BitVec 32) : BitVec 32 :=
  let c999936_i32_2342 : BitVec 32 := 999936#32
  let v5307 : BitVec 32 := Scalar.subi v5306 c999936_i32_2342
  let c32_i32_2343 : BitVec 32 := 32#32
  let v5308 : BitVec 32 := Scalar.muli v5307 c32_i32_2343
  v5308

def k0_off710 (v5306 : BitVec 32) : Fin 1 → Nat :=
  let c999936_i32_2342 : BitVec 32 := 999936#32
  let v5307 : BitVec 32 := Scalar.subi v5306 c999936_i32_2342
  let c32_i32_2343 : BitVec 32 := 32#32
  let v5308 : BitVec 32 := Scalar.muli v5307 c32_i32_2343
  let v5309 : BitVec 32 := v5308
  ![v5309.toNat]

def k0_chk392 (v5306 : BitVec 32) : Prop :=
  (8 ∣ (k0_mult369 v5306).toNat) ∧
  (∀ a, (k0_off710 v5306) a + S32.size a ≤ S2048.size a)
theorem k0_mult369_dvd : ∀ (v5306 : BitVec 32) (k0_hw392 : k0_chk392 v5306), 8 ∣ (k0_mult369 v5306).toNat := fun v5306 k0_hw392 => k0_hw392.1
theorem k0_off710_inb : ∀ (v5306 : BitVec 32) (k0_hw392 : k0_chk392 v5306), ∀ a, (k0_off710 v5306) a + S32.size a ≤ S2048.size a := fun v5306 k0_hw392 => k0_hw392.2

def k0_off711 (v5171 : BitVec 32) : Fin 1 → Nat :=
  let c999936_i32_2297 : BitVec 32 := 999936#32
  let v5172 : BitVec 32 := Scalar.subi v5171 c999936_i32_2297
  let c32_i32_2298 : BitVec 32 := 32#32
  let v5173 : BitVec 32 := Scalar.muli v5172 c32_i32_2298
  let v5174 : BitVec 32 := v5173
  ![v5174.toNat]

def k0_chk377 (v5171 : BitVec 32) : Prop :=
  (8 ∣ (k0_mult354 v5171).toNat) ∧
  (∀ a, (k0_off695 v5171) a + S32.size a ≤ S2048.size a) ∧
  (∀ a, (k0_off711 v5171) a + S32.size a ≤ S2048.size a)
theorem k0_mult354_dvd : ∀ (v5171 : BitVec 32) (k0_hw377 : k0_chk377 v5171), 8 ∣ (k0_mult354 v5171).toNat := fun v5171 k0_hw377 => k0_hw377.1
theorem k0_off695_inb : ∀ (v5171 : BitVec 32) (k0_hw377 : k0_chk377 v5171), ∀ a, (k0_off695 v5171) a + S32.size a ≤ S2048.size a := fun v5171 k0_hw377 => k0_hw377.2.1
theorem k0_off711_inb : ∀ (v5171 : BitVec 32) (k0_hw377 : k0_chk377 v5171), ∀ a, (k0_off711 v5171) a + S32.size a ≤ S2048.size a := fun v5171 k0_hw377 => k0_hw377.2.2

def k0_off712 (v5180 : BitVec 32) : Fin 1 → Nat :=
  let c999936_i32_2300 : BitVec 32 := 999936#32
  let v5181 : BitVec 32 := Scalar.subi v5180 c999936_i32_2300
  let c32_i32_2301 : BitVec 32 := 32#32
  let v5182 : BitVec 32 := Scalar.muli v5181 c32_i32_2301
  let v5183 : BitVec 32 := v5182
  ![v5183.toNat]

def k0_chk378 (v5180 : BitVec 32) : Prop :=
  (8 ∣ (k0_mult355 v5180).toNat) ∧
  (∀ a, (k0_off696 v5180) a + S32.size a ≤ S2048.size a) ∧
  (∀ a, (k0_off712 v5180) a + S32.size a ≤ S2048.size a)
theorem k0_mult355_dvd : ∀ (v5180 : BitVec 32) (k0_hw378 : k0_chk378 v5180), 8 ∣ (k0_mult355 v5180).toNat := fun v5180 k0_hw378 => k0_hw378.1
theorem k0_off696_inb : ∀ (v5180 : BitVec 32) (k0_hw378 : k0_chk378 v5180), ∀ a, (k0_off696 v5180) a + S32.size a ≤ S2048.size a := fun v5180 k0_hw378 => k0_hw378.2.1
theorem k0_off712_inb : ∀ (v5180 : BitVec 32) (k0_hw378 : k0_chk378 v5180), ∀ a, (k0_off712 v5180) a + S32.size a ≤ S2048.size a := fun v5180 k0_hw378 => k0_hw378.2.2

def k0_off713 (v5189 : BitVec 32) : Fin 1 → Nat :=
  let c999936_i32_2303 : BitVec 32 := 999936#32
  let v5190 : BitVec 32 := Scalar.subi v5189 c999936_i32_2303
  let c32_i32_2304 : BitVec 32 := 32#32
  let v5191 : BitVec 32 := Scalar.muli v5190 c32_i32_2304
  let v5192 : BitVec 32 := v5191
  ![v5192.toNat]

def k0_chk379 (v5189 : BitVec 32) : Prop :=
  (8 ∣ (k0_mult356 v5189).toNat) ∧
  (∀ a, (k0_off697 v5189) a + S32.size a ≤ S2048.size a) ∧
  (∀ a, (k0_off713 v5189) a + S32.size a ≤ S2048.size a)
theorem k0_mult356_dvd : ∀ (v5189 : BitVec 32) (k0_hw379 : k0_chk379 v5189), 8 ∣ (k0_mult356 v5189).toNat := fun v5189 k0_hw379 => k0_hw379.1
theorem k0_off697_inb : ∀ (v5189 : BitVec 32) (k0_hw379 : k0_chk379 v5189), ∀ a, (k0_off697 v5189) a + S32.size a ≤ S2048.size a := fun v5189 k0_hw379 => k0_hw379.2.1
theorem k0_off713_inb : ∀ (v5189 : BitVec 32) (k0_hw379 : k0_chk379 v5189), ∀ a, (k0_off713 v5189) a + S32.size a ≤ S2048.size a := fun v5189 k0_hw379 => k0_hw379.2.2

def k0_off714 (v5198 : BitVec 32) : Fin 1 → Nat :=
  let c999936_i32_2306 : BitVec 32 := 999936#32
  let v5199 : BitVec 32 := Scalar.subi v5198 c999936_i32_2306
  let c32_i32_2307 : BitVec 32 := 32#32
  let v5200 : BitVec 32 := Scalar.muli v5199 c32_i32_2307
  let v5201 : BitVec 32 := v5200
  ![v5201.toNat]

def k0_chk380 (v5198 : BitVec 32) : Prop :=
  (8 ∣ (k0_mult357 v5198).toNat) ∧
  (∀ a, (k0_off698 v5198) a + S32.size a ≤ S2048.size a) ∧
  (∀ a, (k0_off714 v5198) a + S32.size a ≤ S2048.size a)
theorem k0_mult357_dvd : ∀ (v5198 : BitVec 32) (k0_hw380 : k0_chk380 v5198), 8 ∣ (k0_mult357 v5198).toNat := fun v5198 k0_hw380 => k0_hw380.1
theorem k0_off698_inb : ∀ (v5198 : BitVec 32) (k0_hw380 : k0_chk380 v5198), ∀ a, (k0_off698 v5198) a + S32.size a ≤ S2048.size a := fun v5198 k0_hw380 => k0_hw380.2.1
theorem k0_off714_inb : ∀ (v5198 : BitVec 32) (k0_hw380 : k0_chk380 v5198), ∀ a, (k0_off714 v5198) a + S32.size a ≤ S2048.size a := fun v5198 k0_hw380 => k0_hw380.2.2

def k0_off715 (v5207 : BitVec 32) : Fin 1 → Nat :=
  let c999936_i32_2309 : BitVec 32 := 999936#32
  let v5208 : BitVec 32 := Scalar.subi v5207 c999936_i32_2309
  let c32_i32_2310 : BitVec 32 := 32#32
  let v5209 : BitVec 32 := Scalar.muli v5208 c32_i32_2310
  let v5210 : BitVec 32 := v5209
  ![v5210.toNat]

def k0_chk381 (v5207 : BitVec 32) : Prop :=
  (8 ∣ (k0_mult358 v5207).toNat) ∧
  (∀ a, (k0_off699 v5207) a + S32.size a ≤ S2048.size a) ∧
  (∀ a, (k0_off715 v5207) a + S32.size a ≤ S2048.size a)
theorem k0_mult358_dvd : ∀ (v5207 : BitVec 32) (k0_hw381 : k0_chk381 v5207), 8 ∣ (k0_mult358 v5207).toNat := fun v5207 k0_hw381 => k0_hw381.1
theorem k0_off699_inb : ∀ (v5207 : BitVec 32) (k0_hw381 : k0_chk381 v5207), ∀ a, (k0_off699 v5207) a + S32.size a ≤ S2048.size a := fun v5207 k0_hw381 => k0_hw381.2.1
theorem k0_off715_inb : ∀ (v5207 : BitVec 32) (k0_hw381 : k0_chk381 v5207), ∀ a, (k0_off715 v5207) a + S32.size a ≤ S2048.size a := fun v5207 k0_hw381 => k0_hw381.2.2

def k0_off716 (v5216 : BitVec 32) : Fin 1 → Nat :=
  let c999936_i32_2312 : BitVec 32 := 999936#32
  let v5217 : BitVec 32 := Scalar.subi v5216 c999936_i32_2312
  let c32_i32_2313 : BitVec 32 := 32#32
  let v5218 : BitVec 32 := Scalar.muli v5217 c32_i32_2313
  let v5219 : BitVec 32 := v5218
  ![v5219.toNat]

def k0_chk382 (v5216 : BitVec 32) : Prop :=
  (8 ∣ (k0_mult359 v5216).toNat) ∧
  (∀ a, (k0_off700 v5216) a + S32.size a ≤ S2048.size a) ∧
  (∀ a, (k0_off716 v5216) a + S32.size a ≤ S2048.size a)
theorem k0_mult359_dvd : ∀ (v5216 : BitVec 32) (k0_hw382 : k0_chk382 v5216), 8 ∣ (k0_mult359 v5216).toNat := fun v5216 k0_hw382 => k0_hw382.1
theorem k0_off700_inb : ∀ (v5216 : BitVec 32) (k0_hw382 : k0_chk382 v5216), ∀ a, (k0_off700 v5216) a + S32.size a ≤ S2048.size a := fun v5216 k0_hw382 => k0_hw382.2.1
theorem k0_off716_inb : ∀ (v5216 : BitVec 32) (k0_hw382 : k0_chk382 v5216), ∀ a, (k0_off716 v5216) a + S32.size a ≤ S2048.size a := fun v5216 k0_hw382 => k0_hw382.2.2

def k0_off717 (v5225 : BitVec 32) : Fin 1 → Nat :=
  let c999936_i32_2315 : BitVec 32 := 999936#32
  let v5226 : BitVec 32 := Scalar.subi v5225 c999936_i32_2315
  let c32_i32_2316 : BitVec 32 := 32#32
  let v5227 : BitVec 32 := Scalar.muli v5226 c32_i32_2316
  let v5228 : BitVec 32 := v5227
  ![v5228.toNat]

def k0_chk383 (v5225 : BitVec 32) : Prop :=
  (8 ∣ (k0_mult360 v5225).toNat) ∧
  (∀ a, (k0_off701 v5225) a + S32.size a ≤ S2048.size a) ∧
  (∀ a, (k0_off717 v5225) a + S32.size a ≤ S2048.size a)
theorem k0_mult360_dvd : ∀ (v5225 : BitVec 32) (k0_hw383 : k0_chk383 v5225), 8 ∣ (k0_mult360 v5225).toNat := fun v5225 k0_hw383 => k0_hw383.1
theorem k0_off701_inb : ∀ (v5225 : BitVec 32) (k0_hw383 : k0_chk383 v5225), ∀ a, (k0_off701 v5225) a + S32.size a ≤ S2048.size a := fun v5225 k0_hw383 => k0_hw383.2.1
theorem k0_off717_inb : ∀ (v5225 : BitVec 32) (k0_hw383 : k0_chk383 v5225), ∀ a, (k0_off717 v5225) a + S32.size a ≤ S2048.size a := fun v5225 k0_hw383 => k0_hw383.2.2

def k0_off718 (v5234 : BitVec 32) : Fin 1 → Nat :=
  let c999936_i32_2318 : BitVec 32 := 999936#32
  let v5235 : BitVec 32 := Scalar.subi v5234 c999936_i32_2318
  let c32_i32_2319 : BitVec 32 := 32#32
  let v5236 : BitVec 32 := Scalar.muli v5235 c32_i32_2319
  let v5237 : BitVec 32 := v5236
  ![v5237.toNat]

def k0_chk384 (v5234 : BitVec 32) : Prop :=
  (8 ∣ (k0_mult361 v5234).toNat) ∧
  (∀ a, (k0_off702 v5234) a + S32.size a ≤ S2048.size a) ∧
  (∀ a, (k0_off718 v5234) a + S32.size a ≤ S2048.size a)
theorem k0_mult361_dvd : ∀ (v5234 : BitVec 32) (k0_hw384 : k0_chk384 v5234), 8 ∣ (k0_mult361 v5234).toNat := fun v5234 k0_hw384 => k0_hw384.1
theorem k0_off702_inb : ∀ (v5234 : BitVec 32) (k0_hw384 : k0_chk384 v5234), ∀ a, (k0_off702 v5234) a + S32.size a ≤ S2048.size a := fun v5234 k0_hw384 => k0_hw384.2.1
theorem k0_off718_inb : ∀ (v5234 : BitVec 32) (k0_hw384 : k0_chk384 v5234), ∀ a, (k0_off718 v5234) a + S32.size a ≤ S2048.size a := fun v5234 k0_hw384 => k0_hw384.2.2

def k0_off719 (v5243 : BitVec 32) : Fin 1 → Nat :=
  let c999936_i32_2321 : BitVec 32 := 999936#32
  let v5244 : BitVec 32 := Scalar.subi v5243 c999936_i32_2321
  let c32_i32_2322 : BitVec 32 := 32#32
  let v5245 : BitVec 32 := Scalar.muli v5244 c32_i32_2322
  let v5246 : BitVec 32 := v5245
  ![v5246.toNat]

def k0_chk385 (v5243 : BitVec 32) : Prop :=
  (8 ∣ (k0_mult362 v5243).toNat) ∧
  (∀ a, (k0_off703 v5243) a + S32.size a ≤ S2048.size a) ∧
  (∀ a, (k0_off719 v5243) a + S32.size a ≤ S2048.size a)
theorem k0_mult362_dvd : ∀ (v5243 : BitVec 32) (k0_hw385 : k0_chk385 v5243), 8 ∣ (k0_mult362 v5243).toNat := fun v5243 k0_hw385 => k0_hw385.1
theorem k0_off703_inb : ∀ (v5243 : BitVec 32) (k0_hw385 : k0_chk385 v5243), ∀ a, (k0_off703 v5243) a + S32.size a ≤ S2048.size a := fun v5243 k0_hw385 => k0_hw385.2.1
theorem k0_off719_inb : ∀ (v5243 : BitVec 32) (k0_hw385 : k0_chk385 v5243), ∀ a, (k0_off719 v5243) a + S32.size a ≤ S2048.size a := fun v5243 k0_hw385 => k0_hw385.2.2

def k0_off720 (v5252 : BitVec 32) : Fin 1 → Nat :=
  let c999936_i32_2324 : BitVec 32 := 999936#32
  let v5253 : BitVec 32 := Scalar.subi v5252 c999936_i32_2324
  let c32_i32_2325 : BitVec 32 := 32#32
  let v5254 : BitVec 32 := Scalar.muli v5253 c32_i32_2325
  let v5255 : BitVec 32 := v5254
  ![v5255.toNat]

def k0_chk386 (v5252 : BitVec 32) : Prop :=
  (8 ∣ (k0_mult363 v5252).toNat) ∧
  (∀ a, (k0_off704 v5252) a + S32.size a ≤ S2048.size a) ∧
  (∀ a, (k0_off720 v5252) a + S32.size a ≤ S2048.size a)
theorem k0_mult363_dvd : ∀ (v5252 : BitVec 32) (k0_hw386 : k0_chk386 v5252), 8 ∣ (k0_mult363 v5252).toNat := fun v5252 k0_hw386 => k0_hw386.1
theorem k0_off704_inb : ∀ (v5252 : BitVec 32) (k0_hw386 : k0_chk386 v5252), ∀ a, (k0_off704 v5252) a + S32.size a ≤ S2048.size a := fun v5252 k0_hw386 => k0_hw386.2.1
theorem k0_off720_inb : ∀ (v5252 : BitVec 32) (k0_hw386 : k0_chk386 v5252), ∀ a, (k0_off720 v5252) a + S32.size a ≤ S2048.size a := fun v5252 k0_hw386 => k0_hw386.2.2

def k0_off721 (v5261 : BitVec 32) : Fin 1 → Nat :=
  let c999936_i32_2327 : BitVec 32 := 999936#32
  let v5262 : BitVec 32 := Scalar.subi v5261 c999936_i32_2327
  let c32_i32_2328 : BitVec 32 := 32#32
  let v5263 : BitVec 32 := Scalar.muli v5262 c32_i32_2328
  let v5264 : BitVec 32 := v5263
  ![v5264.toNat]

def k0_chk387 (v5261 : BitVec 32) : Prop :=
  (8 ∣ (k0_mult364 v5261).toNat) ∧
  (∀ a, (k0_off705 v5261) a + S32.size a ≤ S2048.size a) ∧
  (∀ a, (k0_off721 v5261) a + S32.size a ≤ S2048.size a)
theorem k0_mult364_dvd : ∀ (v5261 : BitVec 32) (k0_hw387 : k0_chk387 v5261), 8 ∣ (k0_mult364 v5261).toNat := fun v5261 k0_hw387 => k0_hw387.1
theorem k0_off705_inb : ∀ (v5261 : BitVec 32) (k0_hw387 : k0_chk387 v5261), ∀ a, (k0_off705 v5261) a + S32.size a ≤ S2048.size a := fun v5261 k0_hw387 => k0_hw387.2.1
theorem k0_off721_inb : ∀ (v5261 : BitVec 32) (k0_hw387 : k0_chk387 v5261), ∀ a, (k0_off721 v5261) a + S32.size a ≤ S2048.size a := fun v5261 k0_hw387 => k0_hw387.2.2

def k0_off722 (v5270 : BitVec 32) : Fin 1 → Nat :=
  let c999936_i32_2330 : BitVec 32 := 999936#32
  let v5271 : BitVec 32 := Scalar.subi v5270 c999936_i32_2330
  let c32_i32_2331 : BitVec 32 := 32#32
  let v5272 : BitVec 32 := Scalar.muli v5271 c32_i32_2331
  let v5273 : BitVec 32 := v5272
  ![v5273.toNat]

def k0_chk388 (v5270 : BitVec 32) : Prop :=
  (8 ∣ (k0_mult365 v5270).toNat) ∧
  (∀ a, (k0_off706 v5270) a + S32.size a ≤ S2048.size a) ∧
  (∀ a, (k0_off722 v5270) a + S32.size a ≤ S2048.size a)
theorem k0_mult365_dvd : ∀ (v5270 : BitVec 32) (k0_hw388 : k0_chk388 v5270), 8 ∣ (k0_mult365 v5270).toNat := fun v5270 k0_hw388 => k0_hw388.1
theorem k0_off706_inb : ∀ (v5270 : BitVec 32) (k0_hw388 : k0_chk388 v5270), ∀ a, (k0_off706 v5270) a + S32.size a ≤ S2048.size a := fun v5270 k0_hw388 => k0_hw388.2.1
theorem k0_off722_inb : ∀ (v5270 : BitVec 32) (k0_hw388 : k0_chk388 v5270), ∀ a, (k0_off722 v5270) a + S32.size a ≤ S2048.size a := fun v5270 k0_hw388 => k0_hw388.2.2

def k0_off723 (v5279 : BitVec 32) : Fin 1 → Nat :=
  let c999936_i32_2333 : BitVec 32 := 999936#32
  let v5280 : BitVec 32 := Scalar.subi v5279 c999936_i32_2333
  let c32_i32_2334 : BitVec 32 := 32#32
  let v5281 : BitVec 32 := Scalar.muli v5280 c32_i32_2334
  let v5282 : BitVec 32 := v5281
  ![v5282.toNat]

def k0_chk389 (v5279 : BitVec 32) : Prop :=
  (8 ∣ (k0_mult366 v5279).toNat) ∧
  (∀ a, (k0_off707 v5279) a + S32.size a ≤ S2048.size a) ∧
  (∀ a, (k0_off723 v5279) a + S32.size a ≤ S2048.size a)
theorem k0_mult366_dvd : ∀ (v5279 : BitVec 32) (k0_hw389 : k0_chk389 v5279), 8 ∣ (k0_mult366 v5279).toNat := fun v5279 k0_hw389 => k0_hw389.1
theorem k0_off707_inb : ∀ (v5279 : BitVec 32) (k0_hw389 : k0_chk389 v5279), ∀ a, (k0_off707 v5279) a + S32.size a ≤ S2048.size a := fun v5279 k0_hw389 => k0_hw389.2.1
theorem k0_off723_inb : ∀ (v5279 : BitVec 32) (k0_hw389 : k0_chk389 v5279), ∀ a, (k0_off723 v5279) a + S32.size a ≤ S2048.size a := fun v5279 k0_hw389 => k0_hw389.2.2

def k0_off724 (v5288 : BitVec 32) : Fin 1 → Nat :=
  let c999936_i32_2336 : BitVec 32 := 999936#32
  let v5289 : BitVec 32 := Scalar.subi v5288 c999936_i32_2336
  let c32_i32_2337 : BitVec 32 := 32#32
  let v5290 : BitVec 32 := Scalar.muli v5289 c32_i32_2337
  let v5291 : BitVec 32 := v5290
  ![v5291.toNat]

def k0_chk390 (v5288 : BitVec 32) : Prop :=
  (8 ∣ (k0_mult367 v5288).toNat) ∧
  (∀ a, (k0_off708 v5288) a + S32.size a ≤ S2048.size a) ∧
  (∀ a, (k0_off724 v5288) a + S32.size a ≤ S2048.size a)
theorem k0_mult367_dvd : ∀ (v5288 : BitVec 32) (k0_hw390 : k0_chk390 v5288), 8 ∣ (k0_mult367 v5288).toNat := fun v5288 k0_hw390 => k0_hw390.1
theorem k0_off708_inb : ∀ (v5288 : BitVec 32) (k0_hw390 : k0_chk390 v5288), ∀ a, (k0_off708 v5288) a + S32.size a ≤ S2048.size a := fun v5288 k0_hw390 => k0_hw390.2.1
theorem k0_off724_inb : ∀ (v5288 : BitVec 32) (k0_hw390 : k0_chk390 v5288), ∀ a, (k0_off724 v5288) a + S32.size a ≤ S2048.size a := fun v5288 k0_hw390 => k0_hw390.2.2

def k0_off725 (v5297 : BitVec 32) : Fin 1 → Nat :=
  let c999936_i32_2339 : BitVec 32 := 999936#32
  let v5298 : BitVec 32 := Scalar.subi v5297 c999936_i32_2339
  let c32_i32_2340 : BitVec 32 := 32#32
  let v5299 : BitVec 32 := Scalar.muli v5298 c32_i32_2340
  let v5300 : BitVec 32 := v5299
  ![v5300.toNat]

def k0_chk391 (v5297 : BitVec 32) : Prop :=
  (8 ∣ (k0_mult368 v5297).toNat) ∧
  (∀ a, (k0_off709 v5297) a + S32.size a ≤ S2048.size a) ∧
  (∀ a, (k0_off725 v5297) a + S32.size a ≤ S2048.size a)
theorem k0_mult368_dvd : ∀ (v5297 : BitVec 32) (k0_hw391 : k0_chk391 v5297), 8 ∣ (k0_mult368 v5297).toNat := fun v5297 k0_hw391 => k0_hw391.1
theorem k0_off709_inb : ∀ (v5297 : BitVec 32) (k0_hw391 : k0_chk391 v5297), ∀ a, (k0_off709 v5297) a + S32.size a ≤ S2048.size a := fun v5297 k0_hw391 => k0_hw391.2.1
theorem k0_off725_inb : ∀ (v5297 : BitVec 32) (k0_hw391 : k0_chk391 v5297), ∀ a, (k0_off725 v5297) a + S32.size a ≤ S2048.size a := fun v5297 k0_hw391 => k0_hw391.2.2

def k0_mult370 (v5379 : BitVec 32) : BitVec 32 :=
  let c0_i32_2378 : BitVec 32 := 0#32
  let c32_i32_2377 : BitVec 32 := 32#32
  let v5380 : BitVec 32 := Scalar.muli v5379 c32_i32_2377
  let v5381 : BitVec 32 := Scalar.addi c0_i32_2378 v5380
  v5381

def k0_off726 (v5379 : BitVec 32) : Fin 1 → Nat :=
  let c0_i32_2378 : BitVec 32 := 0#32
  let c32_i32_2377 : BitVec 32 := 32#32
  let v5380 : BitVec 32 := Scalar.muli v5379 c32_i32_2377
  let v5381 : BitVec 32 := Scalar.addi c0_i32_2378 v5380
  let v5382 : BitVec 32 := v5381
  ![v5382.toNat]
def k0_mult371 (v5388 : BitVec 32) : BitVec 32 :=
  let c0_i32_2382 : BitVec 32 := 0#32
  let c32_i32_2381 : BitVec 32 := 32#32
  let v5389 : BitVec 32 := Scalar.muli v5388 c32_i32_2381
  let v5390 : BitVec 32 := Scalar.addi c0_i32_2382 v5389
  v5390

def k0_off727 (v5388 : BitVec 32) : Fin 1 → Nat :=
  let c0_i32_2382 : BitVec 32 := 0#32
  let c32_i32_2381 : BitVec 32 := 32#32
  let v5389 : BitVec 32 := Scalar.muli v5388 c32_i32_2381
  let v5390 : BitVec 32 := Scalar.addi c0_i32_2382 v5389
  let v5391 : BitVec 32 := v5390
  ![v5391.toNat]
def k0_mult372 (v5397 : BitVec 32) : BitVec 32 :=
  let c0_i32_2386 : BitVec 32 := 0#32
  let c32_i32_2385 : BitVec 32 := 32#32
  let v5398 : BitVec 32 := Scalar.muli v5397 c32_i32_2385
  let v5399 : BitVec 32 := Scalar.addi c0_i32_2386 v5398
  v5399

def k0_off728 (v5397 : BitVec 32) : Fin 1 → Nat :=
  let c0_i32_2386 : BitVec 32 := 0#32
  let c32_i32_2385 : BitVec 32 := 32#32
  let v5398 : BitVec 32 := Scalar.muli v5397 c32_i32_2385
  let v5399 : BitVec 32 := Scalar.addi c0_i32_2386 v5398
  let v5400 : BitVec 32 := v5399
  ![v5400.toNat]
def k0_mult373 (v5406 : BitVec 32) : BitVec 32 :=
  let c0_i32_2390 : BitVec 32 := 0#32
  let c32_i32_2389 : BitVec 32 := 32#32
  let v5407 : BitVec 32 := Scalar.muli v5406 c32_i32_2389
  let v5408 : BitVec 32 := Scalar.addi c0_i32_2390 v5407
  v5408

def k0_off729 (v5406 : BitVec 32) : Fin 1 → Nat :=
  let c0_i32_2390 : BitVec 32 := 0#32
  let c32_i32_2389 : BitVec 32 := 32#32
  let v5407 : BitVec 32 := Scalar.muli v5406 c32_i32_2389
  let v5408 : BitVec 32 := Scalar.addi c0_i32_2390 v5407
  let v5409 : BitVec 32 := v5408
  ![v5409.toNat]
def k0_mult374 (v5415 : BitVec 32) : BitVec 32 :=
  let c0_i32_2394 : BitVec 32 := 0#32
  let c32_i32_2393 : BitVec 32 := 32#32
  let v5416 : BitVec 32 := Scalar.muli v5415 c32_i32_2393
  let v5417 : BitVec 32 := Scalar.addi c0_i32_2394 v5416
  v5417

def k0_off730 (v5415 : BitVec 32) : Fin 1 → Nat :=
  let c0_i32_2394 : BitVec 32 := 0#32
  let c32_i32_2393 : BitVec 32 := 32#32
  let v5416 : BitVec 32 := Scalar.muli v5415 c32_i32_2393
  let v5417 : BitVec 32 := Scalar.addi c0_i32_2394 v5416
  let v5418 : BitVec 32 := v5417
  ![v5418.toNat]
def k0_mult375 (v5424 : BitVec 32) : BitVec 32 :=
  let c0_i32_2398 : BitVec 32 := 0#32
  let c32_i32_2397 : BitVec 32 := 32#32
  let v5425 : BitVec 32 := Scalar.muli v5424 c32_i32_2397
  let v5426 : BitVec 32 := Scalar.addi c0_i32_2398 v5425
  v5426

def k0_off731 (v5424 : BitVec 32) : Fin 1 → Nat :=
  let c0_i32_2398 : BitVec 32 := 0#32
  let c32_i32_2397 : BitVec 32 := 32#32
  let v5425 : BitVec 32 := Scalar.muli v5424 c32_i32_2397
  let v5426 : BitVec 32 := Scalar.addi c0_i32_2398 v5425
  let v5427 : BitVec 32 := v5426
  ![v5427.toNat]
def k0_mult376 (v5433 : BitVec 32) : BitVec 32 :=
  let c0_i32_2402 : BitVec 32 := 0#32
  let c32_i32_2401 : BitVec 32 := 32#32
  let v5434 : BitVec 32 := Scalar.muli v5433 c32_i32_2401
  let v5435 : BitVec 32 := Scalar.addi c0_i32_2402 v5434
  v5435

def k0_off732 (v5433 : BitVec 32) : Fin 1 → Nat :=
  let c0_i32_2402 : BitVec 32 := 0#32
  let c32_i32_2401 : BitVec 32 := 32#32
  let v5434 : BitVec 32 := Scalar.muli v5433 c32_i32_2401
  let v5435 : BitVec 32 := Scalar.addi c0_i32_2402 v5434
  let v5436 : BitVec 32 := v5435
  ![v5436.toNat]
def k0_mult377 (v5442 : BitVec 32) : BitVec 32 :=
  let c0_i32_2406 : BitVec 32 := 0#32
  let c32_i32_2405 : BitVec 32 := 32#32
  let v5443 : BitVec 32 := Scalar.muli v5442 c32_i32_2405
  let v5444 : BitVec 32 := Scalar.addi c0_i32_2406 v5443
  v5444

def k0_off733 (v5442 : BitVec 32) : Fin 1 → Nat :=
  let c0_i32_2406 : BitVec 32 := 0#32
  let c32_i32_2405 : BitVec 32 := 32#32
  let v5443 : BitVec 32 := Scalar.muli v5442 c32_i32_2405
  let v5444 : BitVec 32 := Scalar.addi c0_i32_2406 v5443
  let v5445 : BitVec 32 := v5444
  ![v5445.toNat]
def k0_mult378 (v5451 : BitVec 32) : BitVec 32 :=
  let c0_i32_2410 : BitVec 32 := 0#32
  let c32_i32_2409 : BitVec 32 := 32#32
  let v5452 : BitVec 32 := Scalar.muli v5451 c32_i32_2409
  let v5453 : BitVec 32 := Scalar.addi c0_i32_2410 v5452
  v5453

def k0_off734 (v5451 : BitVec 32) : Fin 1 → Nat :=
  let c0_i32_2410 : BitVec 32 := 0#32
  let c32_i32_2409 : BitVec 32 := 32#32
  let v5452 : BitVec 32 := Scalar.muli v5451 c32_i32_2409
  let v5453 : BitVec 32 := Scalar.addi c0_i32_2410 v5452
  let v5454 : BitVec 32 := v5453
  ![v5454.toNat]
def k0_mult379 (v5460 : BitVec 32) : BitVec 32 :=
  let c0_i32_2414 : BitVec 32 := 0#32
  let c32_i32_2413 : BitVec 32 := 32#32
  let v5461 : BitVec 32 := Scalar.muli v5460 c32_i32_2413
  let v5462 : BitVec 32 := Scalar.addi c0_i32_2414 v5461
  v5462

def k0_off735 (v5460 : BitVec 32) : Fin 1 → Nat :=
  let c0_i32_2414 : BitVec 32 := 0#32
  let c32_i32_2413 : BitVec 32 := 32#32
  let v5461 : BitVec 32 := Scalar.muli v5460 c32_i32_2413
  let v5462 : BitVec 32 := Scalar.addi c0_i32_2414 v5461
  let v5463 : BitVec 32 := v5462
  ![v5463.toNat]
def k0_mult380 (v5469 : BitVec 32) : BitVec 32 :=
  let c0_i32_2418 : BitVec 32 := 0#32
  let c32_i32_2417 : BitVec 32 := 32#32
  let v5470 : BitVec 32 := Scalar.muli v5469 c32_i32_2417
  let v5471 : BitVec 32 := Scalar.addi c0_i32_2418 v5470
  v5471

def k0_off736 (v5469 : BitVec 32) : Fin 1 → Nat :=
  let c0_i32_2418 : BitVec 32 := 0#32
  let c32_i32_2417 : BitVec 32 := 32#32
  let v5470 : BitVec 32 := Scalar.muli v5469 c32_i32_2417
  let v5471 : BitVec 32 := Scalar.addi c0_i32_2418 v5470
  let v5472 : BitVec 32 := v5471
  ![v5472.toNat]
def k0_mult381 (v5478 : BitVec 32) : BitVec 32 :=
  let c0_i32_2422 : BitVec 32 := 0#32
  let c32_i32_2421 : BitVec 32 := 32#32
  let v5479 : BitVec 32 := Scalar.muli v5478 c32_i32_2421
  let v5480 : BitVec 32 := Scalar.addi c0_i32_2422 v5479
  v5480

def k0_off737 (v5478 : BitVec 32) : Fin 1 → Nat :=
  let c0_i32_2422 : BitVec 32 := 0#32
  let c32_i32_2421 : BitVec 32 := 32#32
  let v5479 : BitVec 32 := Scalar.muli v5478 c32_i32_2421
  let v5480 : BitVec 32 := Scalar.addi c0_i32_2422 v5479
  let v5481 : BitVec 32 := v5480
  ![v5481.toNat]
def k0_mult382 (v5487 : BitVec 32) : BitVec 32 :=
  let c0_i32_2426 : BitVec 32 := 0#32
  let c32_i32_2425 : BitVec 32 := 32#32
  let v5488 : BitVec 32 := Scalar.muli v5487 c32_i32_2425
  let v5489 : BitVec 32 := Scalar.addi c0_i32_2426 v5488
  v5489

def k0_off738 (v5487 : BitVec 32) : Fin 1 → Nat :=
  let c0_i32_2426 : BitVec 32 := 0#32
  let c32_i32_2425 : BitVec 32 := 32#32
  let v5488 : BitVec 32 := Scalar.muli v5487 c32_i32_2425
  let v5489 : BitVec 32 := Scalar.addi c0_i32_2426 v5488
  let v5490 : BitVec 32 := v5489
  ![v5490.toNat]
def k0_mult383 (v5496 : BitVec 32) : BitVec 32 :=
  let c0_i32_2430 : BitVec 32 := 0#32
  let c32_i32_2429 : BitVec 32 := 32#32
  let v5497 : BitVec 32 := Scalar.muli v5496 c32_i32_2429
  let v5498 : BitVec 32 := Scalar.addi c0_i32_2430 v5497
  v5498

def k0_off739 (v5496 : BitVec 32) : Fin 1 → Nat :=
  let c0_i32_2430 : BitVec 32 := 0#32
  let c32_i32_2429 : BitVec 32 := 32#32
  let v5497 : BitVec 32 := Scalar.muli v5496 c32_i32_2429
  let v5498 : BitVec 32 := Scalar.addi c0_i32_2430 v5497
  let v5499 : BitVec 32 := v5498
  ![v5499.toNat]
def k0_mult384 (v5505 : BitVec 32) : BitVec 32 :=
  let c0_i32_2434 : BitVec 32 := 0#32
  let c32_i32_2433 : BitVec 32 := 32#32
  let v5506 : BitVec 32 := Scalar.muli v5505 c32_i32_2433
  let v5507 : BitVec 32 := Scalar.addi c0_i32_2434 v5506
  v5507

def k0_off740 (v5505 : BitVec 32) : Fin 1 → Nat :=
  let c0_i32_2434 : BitVec 32 := 0#32
  let c32_i32_2433 : BitVec 32 := 32#32
  let v5506 : BitVec 32 := Scalar.muli v5505 c32_i32_2433
  let v5507 : BitVec 32 := Scalar.addi c0_i32_2434 v5506
  let v5508 : BitVec 32 := v5507
  ![v5508.toNat]
def k0_mult385 (v5514 : BitVec 32) : BitVec 32 :=
  let c0_i32_2438 : BitVec 32 := 0#32
  let c32_i32_2437 : BitVec 32 := 32#32
  let v5515 : BitVec 32 := Scalar.muli v5514 c32_i32_2437
  let v5516 : BitVec 32 := Scalar.addi c0_i32_2438 v5515
  v5516

def k0_off741 (v5514 : BitVec 32) : Fin 1 → Nat :=
  let c0_i32_2438 : BitVec 32 := 0#32
  let c32_i32_2437 : BitVec 32 := 32#32
  let v5515 : BitVec 32 := Scalar.muli v5514 c32_i32_2437
  let v5516 : BitVec 32 := Scalar.addi c0_i32_2438 v5515
  let v5517 : BitVec 32 := v5516
  ![v5517.toNat]

def k0_chk408 (v5514 : BitVec 32) : Prop :=
  (8 ∣ (k0_mult385 v5514).toNat) ∧
  (∀ a, (k0_off741 v5514) a + S32.size a ≤ S3407872.size a)
theorem k0_mult385_dvd : ∀ (v5514 : BitVec 32) (k0_hw408 : k0_chk408 v5514), 8 ∣ (k0_mult385 v5514).toNat := fun v5514 k0_hw408 => k0_hw408.1
theorem k0_off741_inb : ∀ (v5514 : BitVec 32) (k0_hw408 : k0_chk408 v5514), ∀ a, (k0_off741 v5514) a + S32.size a ≤ S3407872.size a := fun v5514 k0_hw408 => k0_hw408.2

def k0_off742 (v5379 : BitVec 32) : Fin 1 → Nat :=
  let c0_i32_2378 : BitVec 32 := 0#32
  let c32_i32_2377 : BitVec 32 := 32#32
  let v5380 : BitVec 32 := Scalar.muli v5379 c32_i32_2377
  let v5381 : BitVec 32 := Scalar.addi c0_i32_2378 v5380
  let v5382 : BitVec 32 := v5381
  ![v5382.toNat]

def k0_chk393 (v5379 : BitVec 32) : Prop :=
  (8 ∣ (k0_mult370 v5379).toNat) ∧
  (∀ a, (k0_off726 v5379) a + S32.size a ≤ S3407872.size a) ∧
  (∀ a, (k0_off742 v5379) a + S32.size a ≤ S3407872.size a)
theorem k0_mult370_dvd : ∀ (v5379 : BitVec 32) (k0_hw393 : k0_chk393 v5379), 8 ∣ (k0_mult370 v5379).toNat := fun v5379 k0_hw393 => k0_hw393.1
theorem k0_off726_inb : ∀ (v5379 : BitVec 32) (k0_hw393 : k0_chk393 v5379), ∀ a, (k0_off726 v5379) a + S32.size a ≤ S3407872.size a := fun v5379 k0_hw393 => k0_hw393.2.1
theorem k0_off742_inb : ∀ (v5379 : BitVec 32) (k0_hw393 : k0_chk393 v5379), ∀ a, (k0_off742 v5379) a + S32.size a ≤ S3407872.size a := fun v5379 k0_hw393 => k0_hw393.2.2

def k0_off743 (v5388 : BitVec 32) : Fin 1 → Nat :=
  let c0_i32_2382 : BitVec 32 := 0#32
  let c32_i32_2381 : BitVec 32 := 32#32
  let v5389 : BitVec 32 := Scalar.muli v5388 c32_i32_2381
  let v5390 : BitVec 32 := Scalar.addi c0_i32_2382 v5389
  let v5391 : BitVec 32 := v5390
  ![v5391.toNat]

def k0_chk394 (v5388 : BitVec 32) : Prop :=
  (8 ∣ (k0_mult371 v5388).toNat) ∧
  (∀ a, (k0_off727 v5388) a + S32.size a ≤ S3407872.size a) ∧
  (∀ a, (k0_off743 v5388) a + S32.size a ≤ S3407872.size a)
theorem k0_mult371_dvd : ∀ (v5388 : BitVec 32) (k0_hw394 : k0_chk394 v5388), 8 ∣ (k0_mult371 v5388).toNat := fun v5388 k0_hw394 => k0_hw394.1
theorem k0_off727_inb : ∀ (v5388 : BitVec 32) (k0_hw394 : k0_chk394 v5388), ∀ a, (k0_off727 v5388) a + S32.size a ≤ S3407872.size a := fun v5388 k0_hw394 => k0_hw394.2.1
theorem k0_off743_inb : ∀ (v5388 : BitVec 32) (k0_hw394 : k0_chk394 v5388), ∀ a, (k0_off743 v5388) a + S32.size a ≤ S3407872.size a := fun v5388 k0_hw394 => k0_hw394.2.2

def k0_off744 (v5397 : BitVec 32) : Fin 1 → Nat :=
  let c0_i32_2386 : BitVec 32 := 0#32
  let c32_i32_2385 : BitVec 32 := 32#32
  let v5398 : BitVec 32 := Scalar.muli v5397 c32_i32_2385
  let v5399 : BitVec 32 := Scalar.addi c0_i32_2386 v5398
  let v5400 : BitVec 32 := v5399
  ![v5400.toNat]

def k0_chk395 (v5397 : BitVec 32) : Prop :=
  (8 ∣ (k0_mult372 v5397).toNat) ∧
  (∀ a, (k0_off728 v5397) a + S32.size a ≤ S3407872.size a) ∧
  (∀ a, (k0_off744 v5397) a + S32.size a ≤ S3407872.size a)
theorem k0_mult372_dvd : ∀ (v5397 : BitVec 32) (k0_hw395 : k0_chk395 v5397), 8 ∣ (k0_mult372 v5397).toNat := fun v5397 k0_hw395 => k0_hw395.1
theorem k0_off728_inb : ∀ (v5397 : BitVec 32) (k0_hw395 : k0_chk395 v5397), ∀ a, (k0_off728 v5397) a + S32.size a ≤ S3407872.size a := fun v5397 k0_hw395 => k0_hw395.2.1
theorem k0_off744_inb : ∀ (v5397 : BitVec 32) (k0_hw395 : k0_chk395 v5397), ∀ a, (k0_off744 v5397) a + S32.size a ≤ S3407872.size a := fun v5397 k0_hw395 => k0_hw395.2.2

def k0_off745 (v5406 : BitVec 32) : Fin 1 → Nat :=
  let c0_i32_2390 : BitVec 32 := 0#32
  let c32_i32_2389 : BitVec 32 := 32#32
  let v5407 : BitVec 32 := Scalar.muli v5406 c32_i32_2389
  let v5408 : BitVec 32 := Scalar.addi c0_i32_2390 v5407
  let v5409 : BitVec 32 := v5408
  ![v5409.toNat]

def k0_chk396 (v5406 : BitVec 32) : Prop :=
  (8 ∣ (k0_mult373 v5406).toNat) ∧
  (∀ a, (k0_off729 v5406) a + S32.size a ≤ S3407872.size a) ∧
  (∀ a, (k0_off745 v5406) a + S32.size a ≤ S3407872.size a)
theorem k0_mult373_dvd : ∀ (v5406 : BitVec 32) (k0_hw396 : k0_chk396 v5406), 8 ∣ (k0_mult373 v5406).toNat := fun v5406 k0_hw396 => k0_hw396.1
theorem k0_off729_inb : ∀ (v5406 : BitVec 32) (k0_hw396 : k0_chk396 v5406), ∀ a, (k0_off729 v5406) a + S32.size a ≤ S3407872.size a := fun v5406 k0_hw396 => k0_hw396.2.1
theorem k0_off745_inb : ∀ (v5406 : BitVec 32) (k0_hw396 : k0_chk396 v5406), ∀ a, (k0_off745 v5406) a + S32.size a ≤ S3407872.size a := fun v5406 k0_hw396 => k0_hw396.2.2

def k0_off746 (v5415 : BitVec 32) : Fin 1 → Nat :=
  let c0_i32_2394 : BitVec 32 := 0#32
  let c32_i32_2393 : BitVec 32 := 32#32
  let v5416 : BitVec 32 := Scalar.muli v5415 c32_i32_2393
  let v5417 : BitVec 32 := Scalar.addi c0_i32_2394 v5416
  let v5418 : BitVec 32 := v5417
  ![v5418.toNat]

def k0_chk397 (v5415 : BitVec 32) : Prop :=
  (8 ∣ (k0_mult374 v5415).toNat) ∧
  (∀ a, (k0_off730 v5415) a + S32.size a ≤ S3407872.size a) ∧
  (∀ a, (k0_off746 v5415) a + S32.size a ≤ S3407872.size a)
theorem k0_mult374_dvd : ∀ (v5415 : BitVec 32) (k0_hw397 : k0_chk397 v5415), 8 ∣ (k0_mult374 v5415).toNat := fun v5415 k0_hw397 => k0_hw397.1
theorem k0_off730_inb : ∀ (v5415 : BitVec 32) (k0_hw397 : k0_chk397 v5415), ∀ a, (k0_off730 v5415) a + S32.size a ≤ S3407872.size a := fun v5415 k0_hw397 => k0_hw397.2.1
theorem k0_off746_inb : ∀ (v5415 : BitVec 32) (k0_hw397 : k0_chk397 v5415), ∀ a, (k0_off746 v5415) a + S32.size a ≤ S3407872.size a := fun v5415 k0_hw397 => k0_hw397.2.2

def k0_off747 (v5424 : BitVec 32) : Fin 1 → Nat :=
  let c0_i32_2398 : BitVec 32 := 0#32
  let c32_i32_2397 : BitVec 32 := 32#32
  let v5425 : BitVec 32 := Scalar.muli v5424 c32_i32_2397
  let v5426 : BitVec 32 := Scalar.addi c0_i32_2398 v5425
  let v5427 : BitVec 32 := v5426
  ![v5427.toNat]

def k0_chk398 (v5424 : BitVec 32) : Prop :=
  (8 ∣ (k0_mult375 v5424).toNat) ∧
  (∀ a, (k0_off731 v5424) a + S32.size a ≤ S3407872.size a) ∧
  (∀ a, (k0_off747 v5424) a + S32.size a ≤ S3407872.size a)
theorem k0_mult375_dvd : ∀ (v5424 : BitVec 32) (k0_hw398 : k0_chk398 v5424), 8 ∣ (k0_mult375 v5424).toNat := fun v5424 k0_hw398 => k0_hw398.1
theorem k0_off731_inb : ∀ (v5424 : BitVec 32) (k0_hw398 : k0_chk398 v5424), ∀ a, (k0_off731 v5424) a + S32.size a ≤ S3407872.size a := fun v5424 k0_hw398 => k0_hw398.2.1
theorem k0_off747_inb : ∀ (v5424 : BitVec 32) (k0_hw398 : k0_chk398 v5424), ∀ a, (k0_off747 v5424) a + S32.size a ≤ S3407872.size a := fun v5424 k0_hw398 => k0_hw398.2.2

def k0_off748 (v5433 : BitVec 32) : Fin 1 → Nat :=
  let c0_i32_2402 : BitVec 32 := 0#32
  let c32_i32_2401 : BitVec 32 := 32#32
  let v5434 : BitVec 32 := Scalar.muli v5433 c32_i32_2401
  let v5435 : BitVec 32 := Scalar.addi c0_i32_2402 v5434
  let v5436 : BitVec 32 := v5435
  ![v5436.toNat]

def k0_chk399 (v5433 : BitVec 32) : Prop :=
  (8 ∣ (k0_mult376 v5433).toNat) ∧
  (∀ a, (k0_off732 v5433) a + S32.size a ≤ S3407872.size a) ∧
  (∀ a, (k0_off748 v5433) a + S32.size a ≤ S3407872.size a)
theorem k0_mult376_dvd : ∀ (v5433 : BitVec 32) (k0_hw399 : k0_chk399 v5433), 8 ∣ (k0_mult376 v5433).toNat := fun v5433 k0_hw399 => k0_hw399.1
theorem k0_off732_inb : ∀ (v5433 : BitVec 32) (k0_hw399 : k0_chk399 v5433), ∀ a, (k0_off732 v5433) a + S32.size a ≤ S3407872.size a := fun v5433 k0_hw399 => k0_hw399.2.1
theorem k0_off748_inb : ∀ (v5433 : BitVec 32) (k0_hw399 : k0_chk399 v5433), ∀ a, (k0_off748 v5433) a + S32.size a ≤ S3407872.size a := fun v5433 k0_hw399 => k0_hw399.2.2

def k0_off749 (v5442 : BitVec 32) : Fin 1 → Nat :=
  let c0_i32_2406 : BitVec 32 := 0#32
  let c32_i32_2405 : BitVec 32 := 32#32
  let v5443 : BitVec 32 := Scalar.muli v5442 c32_i32_2405
  let v5444 : BitVec 32 := Scalar.addi c0_i32_2406 v5443
  let v5445 : BitVec 32 := v5444
  ![v5445.toNat]

def k0_chk400 (v5442 : BitVec 32) : Prop :=
  (8 ∣ (k0_mult377 v5442).toNat) ∧
  (∀ a, (k0_off733 v5442) a + S32.size a ≤ S3407872.size a) ∧
  (∀ a, (k0_off749 v5442) a + S32.size a ≤ S3407872.size a)
theorem k0_mult377_dvd : ∀ (v5442 : BitVec 32) (k0_hw400 : k0_chk400 v5442), 8 ∣ (k0_mult377 v5442).toNat := fun v5442 k0_hw400 => k0_hw400.1
theorem k0_off733_inb : ∀ (v5442 : BitVec 32) (k0_hw400 : k0_chk400 v5442), ∀ a, (k0_off733 v5442) a + S32.size a ≤ S3407872.size a := fun v5442 k0_hw400 => k0_hw400.2.1
theorem k0_off749_inb : ∀ (v5442 : BitVec 32) (k0_hw400 : k0_chk400 v5442), ∀ a, (k0_off749 v5442) a + S32.size a ≤ S3407872.size a := fun v5442 k0_hw400 => k0_hw400.2.2

def k0_off750 (v5451 : BitVec 32) : Fin 1 → Nat :=
  let c0_i32_2410 : BitVec 32 := 0#32
  let c32_i32_2409 : BitVec 32 := 32#32
  let v5452 : BitVec 32 := Scalar.muli v5451 c32_i32_2409
  let v5453 : BitVec 32 := Scalar.addi c0_i32_2410 v5452
  let v5454 : BitVec 32 := v5453
  ![v5454.toNat]

def k0_chk401 (v5451 : BitVec 32) : Prop :=
  (8 ∣ (k0_mult378 v5451).toNat) ∧
  (∀ a, (k0_off734 v5451) a + S32.size a ≤ S3407872.size a) ∧
  (∀ a, (k0_off750 v5451) a + S32.size a ≤ S3407872.size a)
theorem k0_mult378_dvd : ∀ (v5451 : BitVec 32) (k0_hw401 : k0_chk401 v5451), 8 ∣ (k0_mult378 v5451).toNat := fun v5451 k0_hw401 => k0_hw401.1
theorem k0_off734_inb : ∀ (v5451 : BitVec 32) (k0_hw401 : k0_chk401 v5451), ∀ a, (k0_off734 v5451) a + S32.size a ≤ S3407872.size a := fun v5451 k0_hw401 => k0_hw401.2.1
theorem k0_off750_inb : ∀ (v5451 : BitVec 32) (k0_hw401 : k0_chk401 v5451), ∀ a, (k0_off750 v5451) a + S32.size a ≤ S3407872.size a := fun v5451 k0_hw401 => k0_hw401.2.2

def k0_off751 (v5460 : BitVec 32) : Fin 1 → Nat :=
  let c0_i32_2414 : BitVec 32 := 0#32
  let c32_i32_2413 : BitVec 32 := 32#32
  let v5461 : BitVec 32 := Scalar.muli v5460 c32_i32_2413
  let v5462 : BitVec 32 := Scalar.addi c0_i32_2414 v5461
  let v5463 : BitVec 32 := v5462
  ![v5463.toNat]

def k0_chk402 (v5460 : BitVec 32) : Prop :=
  (8 ∣ (k0_mult379 v5460).toNat) ∧
  (∀ a, (k0_off735 v5460) a + S32.size a ≤ S3407872.size a) ∧
  (∀ a, (k0_off751 v5460) a + S32.size a ≤ S3407872.size a)
theorem k0_mult379_dvd : ∀ (v5460 : BitVec 32) (k0_hw402 : k0_chk402 v5460), 8 ∣ (k0_mult379 v5460).toNat := fun v5460 k0_hw402 => k0_hw402.1
theorem k0_off735_inb : ∀ (v5460 : BitVec 32) (k0_hw402 : k0_chk402 v5460), ∀ a, (k0_off735 v5460) a + S32.size a ≤ S3407872.size a := fun v5460 k0_hw402 => k0_hw402.2.1
theorem k0_off751_inb : ∀ (v5460 : BitVec 32) (k0_hw402 : k0_chk402 v5460), ∀ a, (k0_off751 v5460) a + S32.size a ≤ S3407872.size a := fun v5460 k0_hw402 => k0_hw402.2.2

def k0_off752 (v5469 : BitVec 32) : Fin 1 → Nat :=
  let c0_i32_2418 : BitVec 32 := 0#32
  let c32_i32_2417 : BitVec 32 := 32#32
  let v5470 : BitVec 32 := Scalar.muli v5469 c32_i32_2417
  let v5471 : BitVec 32 := Scalar.addi c0_i32_2418 v5470
  let v5472 : BitVec 32 := v5471
  ![v5472.toNat]

def k0_chk403 (v5469 : BitVec 32) : Prop :=
  (8 ∣ (k0_mult380 v5469).toNat) ∧
  (∀ a, (k0_off736 v5469) a + S32.size a ≤ S3407872.size a) ∧
  (∀ a, (k0_off752 v5469) a + S32.size a ≤ S3407872.size a)
theorem k0_mult380_dvd : ∀ (v5469 : BitVec 32) (k0_hw403 : k0_chk403 v5469), 8 ∣ (k0_mult380 v5469).toNat := fun v5469 k0_hw403 => k0_hw403.1
theorem k0_off736_inb : ∀ (v5469 : BitVec 32) (k0_hw403 : k0_chk403 v5469), ∀ a, (k0_off736 v5469) a + S32.size a ≤ S3407872.size a := fun v5469 k0_hw403 => k0_hw403.2.1
theorem k0_off752_inb : ∀ (v5469 : BitVec 32) (k0_hw403 : k0_chk403 v5469), ∀ a, (k0_off752 v5469) a + S32.size a ≤ S3407872.size a := fun v5469 k0_hw403 => k0_hw403.2.2

def k0_off753 (v5478 : BitVec 32) : Fin 1 → Nat :=
  let c0_i32_2422 : BitVec 32 := 0#32
  let c32_i32_2421 : BitVec 32 := 32#32
  let v5479 : BitVec 32 := Scalar.muli v5478 c32_i32_2421
  let v5480 : BitVec 32 := Scalar.addi c0_i32_2422 v5479
  let v5481 : BitVec 32 := v5480
  ![v5481.toNat]

def k0_chk404 (v5478 : BitVec 32) : Prop :=
  (8 ∣ (k0_mult381 v5478).toNat) ∧
  (∀ a, (k0_off737 v5478) a + S32.size a ≤ S3407872.size a) ∧
  (∀ a, (k0_off753 v5478) a + S32.size a ≤ S3407872.size a)
theorem k0_mult381_dvd : ∀ (v5478 : BitVec 32) (k0_hw404 : k0_chk404 v5478), 8 ∣ (k0_mult381 v5478).toNat := fun v5478 k0_hw404 => k0_hw404.1
theorem k0_off737_inb : ∀ (v5478 : BitVec 32) (k0_hw404 : k0_chk404 v5478), ∀ a, (k0_off737 v5478) a + S32.size a ≤ S3407872.size a := fun v5478 k0_hw404 => k0_hw404.2.1
theorem k0_off753_inb : ∀ (v5478 : BitVec 32) (k0_hw404 : k0_chk404 v5478), ∀ a, (k0_off753 v5478) a + S32.size a ≤ S3407872.size a := fun v5478 k0_hw404 => k0_hw404.2.2

def k0_off754 (v5487 : BitVec 32) : Fin 1 → Nat :=
  let c0_i32_2426 : BitVec 32 := 0#32
  let c32_i32_2425 : BitVec 32 := 32#32
  let v5488 : BitVec 32 := Scalar.muli v5487 c32_i32_2425
  let v5489 : BitVec 32 := Scalar.addi c0_i32_2426 v5488
  let v5490 : BitVec 32 := v5489
  ![v5490.toNat]

def k0_chk405 (v5487 : BitVec 32) : Prop :=
  (8 ∣ (k0_mult382 v5487).toNat) ∧
  (∀ a, (k0_off738 v5487) a + S32.size a ≤ S3407872.size a) ∧
  (∀ a, (k0_off754 v5487) a + S32.size a ≤ S3407872.size a)
theorem k0_mult382_dvd : ∀ (v5487 : BitVec 32) (k0_hw405 : k0_chk405 v5487), 8 ∣ (k0_mult382 v5487).toNat := fun v5487 k0_hw405 => k0_hw405.1
theorem k0_off738_inb : ∀ (v5487 : BitVec 32) (k0_hw405 : k0_chk405 v5487), ∀ a, (k0_off738 v5487) a + S32.size a ≤ S3407872.size a := fun v5487 k0_hw405 => k0_hw405.2.1
theorem k0_off754_inb : ∀ (v5487 : BitVec 32) (k0_hw405 : k0_chk405 v5487), ∀ a, (k0_off754 v5487) a + S32.size a ≤ S3407872.size a := fun v5487 k0_hw405 => k0_hw405.2.2

def k0_off755 (v5496 : BitVec 32) : Fin 1 → Nat :=
  let c0_i32_2430 : BitVec 32 := 0#32
  let c32_i32_2429 : BitVec 32 := 32#32
  let v5497 : BitVec 32 := Scalar.muli v5496 c32_i32_2429
  let v5498 : BitVec 32 := Scalar.addi c0_i32_2430 v5497
  let v5499 : BitVec 32 := v5498
  ![v5499.toNat]

def k0_chk406 (v5496 : BitVec 32) : Prop :=
  (8 ∣ (k0_mult383 v5496).toNat) ∧
  (∀ a, (k0_off739 v5496) a + S32.size a ≤ S3407872.size a) ∧
  (∀ a, (k0_off755 v5496) a + S32.size a ≤ S3407872.size a)
theorem k0_mult383_dvd : ∀ (v5496 : BitVec 32) (k0_hw406 : k0_chk406 v5496), 8 ∣ (k0_mult383 v5496).toNat := fun v5496 k0_hw406 => k0_hw406.1
theorem k0_off739_inb : ∀ (v5496 : BitVec 32) (k0_hw406 : k0_chk406 v5496), ∀ a, (k0_off739 v5496) a + S32.size a ≤ S3407872.size a := fun v5496 k0_hw406 => k0_hw406.2.1
theorem k0_off755_inb : ∀ (v5496 : BitVec 32) (k0_hw406 : k0_chk406 v5496), ∀ a, (k0_off755 v5496) a + S32.size a ≤ S3407872.size a := fun v5496 k0_hw406 => k0_hw406.2.2

def k0_off756 (v5505 : BitVec 32) : Fin 1 → Nat :=
  let c0_i32_2434 : BitVec 32 := 0#32
  let c32_i32_2433 : BitVec 32 := 32#32
  let v5506 : BitVec 32 := Scalar.muli v5505 c32_i32_2433
  let v5507 : BitVec 32 := Scalar.addi c0_i32_2434 v5506
  let v5508 : BitVec 32 := v5507
  ![v5508.toNat]

def k0_chk407 (v5505 : BitVec 32) : Prop :=
  (8 ∣ (k0_mult384 v5505).toNat) ∧
  (∀ a, (k0_off740 v5505) a + S32.size a ≤ S3407872.size a) ∧
  (∀ a, (k0_off756 v5505) a + S32.size a ≤ S3407872.size a)
theorem k0_mult384_dvd : ∀ (v5505 : BitVec 32) (k0_hw407 : k0_chk407 v5505), 8 ∣ (k0_mult384 v5505).toNat := fun v5505 k0_hw407 => k0_hw407.1
theorem k0_off740_inb : ∀ (v5505 : BitVec 32) (k0_hw407 : k0_chk407 v5505), ∀ a, (k0_off740 v5505) a + S32.size a ≤ S3407872.size a := fun v5505 k0_hw407 => k0_hw407.2.1
theorem k0_off756_inb : ∀ (v5505 : BitVec 32) (k0_hw407 : k0_chk407 v5505), ∀ a, (k0_off756 v5505) a + S32.size a ≤ S3407872.size a := fun v5505 k0_hw407 => k0_hw407.2.2

def k0_mult386 (v5589 : BitVec 32) : BitVec 32 :=
  let c999936_i32_2475 : BitVec 32 := 999936#32
  let v5590 : BitVec 32 := Scalar.subi v5589 c999936_i32_2475
  let c32_i32_2476 : BitVec 32 := 32#32
  let v5591 : BitVec 32 := Scalar.muli v5590 c32_i32_2476
  v5591

def k0_off757 (v5589 : BitVec 32) : Fin 1 → Nat :=
  let c999936_i32_2475 : BitVec 32 := 999936#32
  let v5590 : BitVec 32 := Scalar.subi v5589 c999936_i32_2475
  let c32_i32_2476 : BitVec 32 := 32#32
  let v5591 : BitVec 32 := Scalar.muli v5590 c32_i32_2476
  let v5592 : BitVec 32 := v5591
  ![v5592.toNat]
def k0_mult387 (v5598 : BitVec 32) : BitVec 32 :=
  let c999936_i32_2478 : BitVec 32 := 999936#32
  let v5599 : BitVec 32 := Scalar.subi v5598 c999936_i32_2478
  let c32_i32_2479 : BitVec 32 := 32#32
  let v5600 : BitVec 32 := Scalar.muli v5599 c32_i32_2479
  v5600

def k0_off758 (v5598 : BitVec 32) : Fin 1 → Nat :=
  let c999936_i32_2478 : BitVec 32 := 999936#32
  let v5599 : BitVec 32 := Scalar.subi v5598 c999936_i32_2478
  let c32_i32_2479 : BitVec 32 := 32#32
  let v5600 : BitVec 32 := Scalar.muli v5599 c32_i32_2479
  let v5601 : BitVec 32 := v5600
  ![v5601.toNat]
def k0_mult388 (v5607 : BitVec 32) : BitVec 32 :=
  let c999936_i32_2481 : BitVec 32 := 999936#32
  let v5608 : BitVec 32 := Scalar.subi v5607 c999936_i32_2481
  let c32_i32_2482 : BitVec 32 := 32#32
  let v5609 : BitVec 32 := Scalar.muli v5608 c32_i32_2482
  v5609

def k0_off759 (v5607 : BitVec 32) : Fin 1 → Nat :=
  let c999936_i32_2481 : BitVec 32 := 999936#32
  let v5608 : BitVec 32 := Scalar.subi v5607 c999936_i32_2481
  let c32_i32_2482 : BitVec 32 := 32#32
  let v5609 : BitVec 32 := Scalar.muli v5608 c32_i32_2482
  let v5610 : BitVec 32 := v5609
  ![v5610.toNat]
def k0_mult389 (v5616 : BitVec 32) : BitVec 32 :=
  let c999936_i32_2484 : BitVec 32 := 999936#32
  let v5617 : BitVec 32 := Scalar.subi v5616 c999936_i32_2484
  let c32_i32_2485 : BitVec 32 := 32#32
  let v5618 : BitVec 32 := Scalar.muli v5617 c32_i32_2485
  v5618

def k0_off760 (v5616 : BitVec 32) : Fin 1 → Nat :=
  let c999936_i32_2484 : BitVec 32 := 999936#32
  let v5617 : BitVec 32 := Scalar.subi v5616 c999936_i32_2484
  let c32_i32_2485 : BitVec 32 := 32#32
  let v5618 : BitVec 32 := Scalar.muli v5617 c32_i32_2485
  let v5619 : BitVec 32 := v5618
  ![v5619.toNat]
def k0_mult390 (v5625 : BitVec 32) : BitVec 32 :=
  let c999936_i32_2487 : BitVec 32 := 999936#32
  let v5626 : BitVec 32 := Scalar.subi v5625 c999936_i32_2487
  let c32_i32_2488 : BitVec 32 := 32#32
  let v5627 : BitVec 32 := Scalar.muli v5626 c32_i32_2488
  v5627

def k0_off761 (v5625 : BitVec 32) : Fin 1 → Nat :=
  let c999936_i32_2487 : BitVec 32 := 999936#32
  let v5626 : BitVec 32 := Scalar.subi v5625 c999936_i32_2487
  let c32_i32_2488 : BitVec 32 := 32#32
  let v5627 : BitVec 32 := Scalar.muli v5626 c32_i32_2488
  let v5628 : BitVec 32 := v5627
  ![v5628.toNat]
def k0_mult391 (v5634 : BitVec 32) : BitVec 32 :=
  let c999936_i32_2490 : BitVec 32 := 999936#32
  let v5635 : BitVec 32 := Scalar.subi v5634 c999936_i32_2490
  let c32_i32_2491 : BitVec 32 := 32#32
  let v5636 : BitVec 32 := Scalar.muli v5635 c32_i32_2491
  v5636

def k0_off762 (v5634 : BitVec 32) : Fin 1 → Nat :=
  let c999936_i32_2490 : BitVec 32 := 999936#32
  let v5635 : BitVec 32 := Scalar.subi v5634 c999936_i32_2490
  let c32_i32_2491 : BitVec 32 := 32#32
  let v5636 : BitVec 32 := Scalar.muli v5635 c32_i32_2491
  let v5637 : BitVec 32 := v5636
  ![v5637.toNat]
def k0_mult392 (v5643 : BitVec 32) : BitVec 32 :=
  let c999936_i32_2493 : BitVec 32 := 999936#32
  let v5644 : BitVec 32 := Scalar.subi v5643 c999936_i32_2493
  let c32_i32_2494 : BitVec 32 := 32#32
  let v5645 : BitVec 32 := Scalar.muli v5644 c32_i32_2494
  v5645

def k0_off763 (v5643 : BitVec 32) : Fin 1 → Nat :=
  let c999936_i32_2493 : BitVec 32 := 999936#32
  let v5644 : BitVec 32 := Scalar.subi v5643 c999936_i32_2493
  let c32_i32_2494 : BitVec 32 := 32#32
  let v5645 : BitVec 32 := Scalar.muli v5644 c32_i32_2494
  let v5646 : BitVec 32 := v5645
  ![v5646.toNat]
def k0_mult393 (v5652 : BitVec 32) : BitVec 32 :=
  let c999936_i32_2496 : BitVec 32 := 999936#32
  let v5653 : BitVec 32 := Scalar.subi v5652 c999936_i32_2496
  let c32_i32_2497 : BitVec 32 := 32#32
  let v5654 : BitVec 32 := Scalar.muli v5653 c32_i32_2497
  v5654

def k0_off764 (v5652 : BitVec 32) : Fin 1 → Nat :=
  let c999936_i32_2496 : BitVec 32 := 999936#32
  let v5653 : BitVec 32 := Scalar.subi v5652 c999936_i32_2496
  let c32_i32_2497 : BitVec 32 := 32#32
  let v5654 : BitVec 32 := Scalar.muli v5653 c32_i32_2497
  let v5655 : BitVec 32 := v5654
  ![v5655.toNat]
def k0_mult394 (v5661 : BitVec 32) : BitVec 32 :=
  let c999936_i32_2499 : BitVec 32 := 999936#32
  let v5662 : BitVec 32 := Scalar.subi v5661 c999936_i32_2499
  let c32_i32_2500 : BitVec 32 := 32#32
  let v5663 : BitVec 32 := Scalar.muli v5662 c32_i32_2500
  v5663

def k0_off765 (v5661 : BitVec 32) : Fin 1 → Nat :=
  let c999936_i32_2499 : BitVec 32 := 999936#32
  let v5662 : BitVec 32 := Scalar.subi v5661 c999936_i32_2499
  let c32_i32_2500 : BitVec 32 := 32#32
  let v5663 : BitVec 32 := Scalar.muli v5662 c32_i32_2500
  let v5664 : BitVec 32 := v5663
  ![v5664.toNat]
def k0_mult395 (v5670 : BitVec 32) : BitVec 32 :=
  let c999936_i32_2502 : BitVec 32 := 999936#32
  let v5671 : BitVec 32 := Scalar.subi v5670 c999936_i32_2502
  let c32_i32_2503 : BitVec 32 := 32#32
  let v5672 : BitVec 32 := Scalar.muli v5671 c32_i32_2503
  v5672

def k0_off766 (v5670 : BitVec 32) : Fin 1 → Nat :=
  let c999936_i32_2502 : BitVec 32 := 999936#32
  let v5671 : BitVec 32 := Scalar.subi v5670 c999936_i32_2502
  let c32_i32_2503 : BitVec 32 := 32#32
  let v5672 : BitVec 32 := Scalar.muli v5671 c32_i32_2503
  let v5673 : BitVec 32 := v5672
  ![v5673.toNat]
def k0_mult396 (v5679 : BitVec 32) : BitVec 32 :=
  let c999936_i32_2505 : BitVec 32 := 999936#32
  let v5680 : BitVec 32 := Scalar.subi v5679 c999936_i32_2505
  let c32_i32_2506 : BitVec 32 := 32#32
  let v5681 : BitVec 32 := Scalar.muli v5680 c32_i32_2506
  v5681

def k0_off767 (v5679 : BitVec 32) : Fin 1 → Nat :=
  let c999936_i32_2505 : BitVec 32 := 999936#32
  let v5680 : BitVec 32 := Scalar.subi v5679 c999936_i32_2505
  let c32_i32_2506 : BitVec 32 := 32#32
  let v5681 : BitVec 32 := Scalar.muli v5680 c32_i32_2506
  let v5682 : BitVec 32 := v5681
  ![v5682.toNat]
def k0_mult397 (v5688 : BitVec 32) : BitVec 32 :=
  let c999936_i32_2508 : BitVec 32 := 999936#32
  let v5689 : BitVec 32 := Scalar.subi v5688 c999936_i32_2508
  let c32_i32_2509 : BitVec 32 := 32#32
  let v5690 : BitVec 32 := Scalar.muli v5689 c32_i32_2509
  v5690

def k0_off768 (v5688 : BitVec 32) : Fin 1 → Nat :=
  let c999936_i32_2508 : BitVec 32 := 999936#32
  let v5689 : BitVec 32 := Scalar.subi v5688 c999936_i32_2508
  let c32_i32_2509 : BitVec 32 := 32#32
  let v5690 : BitVec 32 := Scalar.muli v5689 c32_i32_2509
  let v5691 : BitVec 32 := v5690
  ![v5691.toNat]
def k0_mult398 (v5697 : BitVec 32) : BitVec 32 :=
  let c999936_i32_2511 : BitVec 32 := 999936#32
  let v5698 : BitVec 32 := Scalar.subi v5697 c999936_i32_2511
  let c32_i32_2512 : BitVec 32 := 32#32
  let v5699 : BitVec 32 := Scalar.muli v5698 c32_i32_2512
  v5699

def k0_off769 (v5697 : BitVec 32) : Fin 1 → Nat :=
  let c999936_i32_2511 : BitVec 32 := 999936#32
  let v5698 : BitVec 32 := Scalar.subi v5697 c999936_i32_2511
  let c32_i32_2512 : BitVec 32 := 32#32
  let v5699 : BitVec 32 := Scalar.muli v5698 c32_i32_2512
  let v5700 : BitVec 32 := v5699
  ![v5700.toNat]
def k0_mult399 (v5706 : BitVec 32) : BitVec 32 :=
  let c999936_i32_2514 : BitVec 32 := 999936#32
  let v5707 : BitVec 32 := Scalar.subi v5706 c999936_i32_2514
  let c32_i32_2515 : BitVec 32 := 32#32
  let v5708 : BitVec 32 := Scalar.muli v5707 c32_i32_2515
  v5708

def k0_off770 (v5706 : BitVec 32) : Fin 1 → Nat :=
  let c999936_i32_2514 : BitVec 32 := 999936#32
  let v5707 : BitVec 32 := Scalar.subi v5706 c999936_i32_2514
  let c32_i32_2515 : BitVec 32 := 32#32
  let v5708 : BitVec 32 := Scalar.muli v5707 c32_i32_2515
  let v5709 : BitVec 32 := v5708
  ![v5709.toNat]
def k0_mult400 (v5715 : BitVec 32) : BitVec 32 :=
  let c999936_i32_2517 : BitVec 32 := 999936#32
  let v5716 : BitVec 32 := Scalar.subi v5715 c999936_i32_2517
  let c32_i32_2518 : BitVec 32 := 32#32
  let v5717 : BitVec 32 := Scalar.muli v5716 c32_i32_2518
  v5717

def k0_off771 (v5715 : BitVec 32) : Fin 1 → Nat :=
  let c999936_i32_2517 : BitVec 32 := 999936#32
  let v5716 : BitVec 32 := Scalar.subi v5715 c999936_i32_2517
  let c32_i32_2518 : BitVec 32 := 32#32
  let v5717 : BitVec 32 := Scalar.muli v5716 c32_i32_2518
  let v5718 : BitVec 32 := v5717
  ![v5718.toNat]
def k0_mult401 (v5724 : BitVec 32) : BitVec 32 :=
  let c999936_i32_2520 : BitVec 32 := 999936#32
  let v5725 : BitVec 32 := Scalar.subi v5724 c999936_i32_2520
  let c32_i32_2521 : BitVec 32 := 32#32
  let v5726 : BitVec 32 := Scalar.muli v5725 c32_i32_2521
  v5726

def k0_off772 (v5724 : BitVec 32) : Fin 1 → Nat :=
  let c999936_i32_2520 : BitVec 32 := 999936#32
  let v5725 : BitVec 32 := Scalar.subi v5724 c999936_i32_2520
  let c32_i32_2521 : BitVec 32 := 32#32
  let v5726 : BitVec 32 := Scalar.muli v5725 c32_i32_2521
  let v5727 : BitVec 32 := v5726
  ![v5727.toNat]

def k0_chk424 (v5724 : BitVec 32) : Prop :=
  (8 ∣ (k0_mult401 v5724).toNat) ∧
  (∀ a, (k0_off772 v5724) a + S32.size a ≤ S2048.size a)
theorem k0_mult401_dvd : ∀ (v5724 : BitVec 32) (k0_hw424 : k0_chk424 v5724), 8 ∣ (k0_mult401 v5724).toNat := fun v5724 k0_hw424 => k0_hw424.1
theorem k0_off772_inb : ∀ (v5724 : BitVec 32) (k0_hw424 : k0_chk424 v5724), ∀ a, (k0_off772 v5724) a + S32.size a ≤ S2048.size a := fun v5724 k0_hw424 => k0_hw424.2

def k0_off773 (v5589 : BitVec 32) : Fin 1 → Nat :=
  let c999936_i32_2475 : BitVec 32 := 999936#32
  let v5590 : BitVec 32 := Scalar.subi v5589 c999936_i32_2475
  let c32_i32_2476 : BitVec 32 := 32#32
  let v5591 : BitVec 32 := Scalar.muli v5590 c32_i32_2476
  let v5592 : BitVec 32 := v5591
  ![v5592.toNat]

def k0_chk409 (v5589 : BitVec 32) : Prop :=
  (8 ∣ (k0_mult386 v5589).toNat) ∧
  (∀ a, (k0_off757 v5589) a + S32.size a ≤ S2048.size a) ∧
  (∀ a, (k0_off773 v5589) a + S32.size a ≤ S2048.size a)
theorem k0_mult386_dvd : ∀ (v5589 : BitVec 32) (k0_hw409 : k0_chk409 v5589), 8 ∣ (k0_mult386 v5589).toNat := fun v5589 k0_hw409 => k0_hw409.1
theorem k0_off757_inb : ∀ (v5589 : BitVec 32) (k0_hw409 : k0_chk409 v5589), ∀ a, (k0_off757 v5589) a + S32.size a ≤ S2048.size a := fun v5589 k0_hw409 => k0_hw409.2.1
theorem k0_off773_inb : ∀ (v5589 : BitVec 32) (k0_hw409 : k0_chk409 v5589), ∀ a, (k0_off773 v5589) a + S32.size a ≤ S2048.size a := fun v5589 k0_hw409 => k0_hw409.2.2

def k0_off774 (v5598 : BitVec 32) : Fin 1 → Nat :=
  let c999936_i32_2478 : BitVec 32 := 999936#32
  let v5599 : BitVec 32 := Scalar.subi v5598 c999936_i32_2478
  let c32_i32_2479 : BitVec 32 := 32#32
  let v5600 : BitVec 32 := Scalar.muli v5599 c32_i32_2479
  let v5601 : BitVec 32 := v5600
  ![v5601.toNat]

def k0_chk410 (v5598 : BitVec 32) : Prop :=
  (8 ∣ (k0_mult387 v5598).toNat) ∧
  (∀ a, (k0_off758 v5598) a + S32.size a ≤ S2048.size a) ∧
  (∀ a, (k0_off774 v5598) a + S32.size a ≤ S2048.size a)
theorem k0_mult387_dvd : ∀ (v5598 : BitVec 32) (k0_hw410 : k0_chk410 v5598), 8 ∣ (k0_mult387 v5598).toNat := fun v5598 k0_hw410 => k0_hw410.1
theorem k0_off758_inb : ∀ (v5598 : BitVec 32) (k0_hw410 : k0_chk410 v5598), ∀ a, (k0_off758 v5598) a + S32.size a ≤ S2048.size a := fun v5598 k0_hw410 => k0_hw410.2.1
theorem k0_off774_inb : ∀ (v5598 : BitVec 32) (k0_hw410 : k0_chk410 v5598), ∀ a, (k0_off774 v5598) a + S32.size a ≤ S2048.size a := fun v5598 k0_hw410 => k0_hw410.2.2

def k0_off775 (v5607 : BitVec 32) : Fin 1 → Nat :=
  let c999936_i32_2481 : BitVec 32 := 999936#32
  let v5608 : BitVec 32 := Scalar.subi v5607 c999936_i32_2481
  let c32_i32_2482 : BitVec 32 := 32#32
  let v5609 : BitVec 32 := Scalar.muli v5608 c32_i32_2482
  let v5610 : BitVec 32 := v5609
  ![v5610.toNat]

def k0_chk411 (v5607 : BitVec 32) : Prop :=
  (8 ∣ (k0_mult388 v5607).toNat) ∧
  (∀ a, (k0_off759 v5607) a + S32.size a ≤ S2048.size a) ∧
  (∀ a, (k0_off775 v5607) a + S32.size a ≤ S2048.size a)
theorem k0_mult388_dvd : ∀ (v5607 : BitVec 32) (k0_hw411 : k0_chk411 v5607), 8 ∣ (k0_mult388 v5607).toNat := fun v5607 k0_hw411 => k0_hw411.1
theorem k0_off759_inb : ∀ (v5607 : BitVec 32) (k0_hw411 : k0_chk411 v5607), ∀ a, (k0_off759 v5607) a + S32.size a ≤ S2048.size a := fun v5607 k0_hw411 => k0_hw411.2.1
theorem k0_off775_inb : ∀ (v5607 : BitVec 32) (k0_hw411 : k0_chk411 v5607), ∀ a, (k0_off775 v5607) a + S32.size a ≤ S2048.size a := fun v5607 k0_hw411 => k0_hw411.2.2

def k0_off776 (v5616 : BitVec 32) : Fin 1 → Nat :=
  let c999936_i32_2484 : BitVec 32 := 999936#32
  let v5617 : BitVec 32 := Scalar.subi v5616 c999936_i32_2484
  let c32_i32_2485 : BitVec 32 := 32#32
  let v5618 : BitVec 32 := Scalar.muli v5617 c32_i32_2485
  let v5619 : BitVec 32 := v5618
  ![v5619.toNat]

def k0_chk412 (v5616 : BitVec 32) : Prop :=
  (8 ∣ (k0_mult389 v5616).toNat) ∧
  (∀ a, (k0_off760 v5616) a + S32.size a ≤ S2048.size a) ∧
  (∀ a, (k0_off776 v5616) a + S32.size a ≤ S2048.size a)
theorem k0_mult389_dvd : ∀ (v5616 : BitVec 32) (k0_hw412 : k0_chk412 v5616), 8 ∣ (k0_mult389 v5616).toNat := fun v5616 k0_hw412 => k0_hw412.1
theorem k0_off760_inb : ∀ (v5616 : BitVec 32) (k0_hw412 : k0_chk412 v5616), ∀ a, (k0_off760 v5616) a + S32.size a ≤ S2048.size a := fun v5616 k0_hw412 => k0_hw412.2.1
theorem k0_off776_inb : ∀ (v5616 : BitVec 32) (k0_hw412 : k0_chk412 v5616), ∀ a, (k0_off776 v5616) a + S32.size a ≤ S2048.size a := fun v5616 k0_hw412 => k0_hw412.2.2

def k0_off777 (v5625 : BitVec 32) : Fin 1 → Nat :=
  let c999936_i32_2487 : BitVec 32 := 999936#32
  let v5626 : BitVec 32 := Scalar.subi v5625 c999936_i32_2487
  let c32_i32_2488 : BitVec 32 := 32#32
  let v5627 : BitVec 32 := Scalar.muli v5626 c32_i32_2488
  let v5628 : BitVec 32 := v5627
  ![v5628.toNat]

def k0_chk413 (v5625 : BitVec 32) : Prop :=
  (8 ∣ (k0_mult390 v5625).toNat) ∧
  (∀ a, (k0_off761 v5625) a + S32.size a ≤ S2048.size a) ∧
  (∀ a, (k0_off777 v5625) a + S32.size a ≤ S2048.size a)
theorem k0_mult390_dvd : ∀ (v5625 : BitVec 32) (k0_hw413 : k0_chk413 v5625), 8 ∣ (k0_mult390 v5625).toNat := fun v5625 k0_hw413 => k0_hw413.1
theorem k0_off761_inb : ∀ (v5625 : BitVec 32) (k0_hw413 : k0_chk413 v5625), ∀ a, (k0_off761 v5625) a + S32.size a ≤ S2048.size a := fun v5625 k0_hw413 => k0_hw413.2.1
theorem k0_off777_inb : ∀ (v5625 : BitVec 32) (k0_hw413 : k0_chk413 v5625), ∀ a, (k0_off777 v5625) a + S32.size a ≤ S2048.size a := fun v5625 k0_hw413 => k0_hw413.2.2

def k0_off778 (v5634 : BitVec 32) : Fin 1 → Nat :=
  let c999936_i32_2490 : BitVec 32 := 999936#32
  let v5635 : BitVec 32 := Scalar.subi v5634 c999936_i32_2490
  let c32_i32_2491 : BitVec 32 := 32#32
  let v5636 : BitVec 32 := Scalar.muli v5635 c32_i32_2491
  let v5637 : BitVec 32 := v5636
  ![v5637.toNat]

def k0_chk414 (v5634 : BitVec 32) : Prop :=
  (8 ∣ (k0_mult391 v5634).toNat) ∧
  (∀ a, (k0_off762 v5634) a + S32.size a ≤ S2048.size a) ∧
  (∀ a, (k0_off778 v5634) a + S32.size a ≤ S2048.size a)
theorem k0_mult391_dvd : ∀ (v5634 : BitVec 32) (k0_hw414 : k0_chk414 v5634), 8 ∣ (k0_mult391 v5634).toNat := fun v5634 k0_hw414 => k0_hw414.1
theorem k0_off762_inb : ∀ (v5634 : BitVec 32) (k0_hw414 : k0_chk414 v5634), ∀ a, (k0_off762 v5634) a + S32.size a ≤ S2048.size a := fun v5634 k0_hw414 => k0_hw414.2.1
theorem k0_off778_inb : ∀ (v5634 : BitVec 32) (k0_hw414 : k0_chk414 v5634), ∀ a, (k0_off778 v5634) a + S32.size a ≤ S2048.size a := fun v5634 k0_hw414 => k0_hw414.2.2

def k0_off779 (v5643 : BitVec 32) : Fin 1 → Nat :=
  let c999936_i32_2493 : BitVec 32 := 999936#32
  let v5644 : BitVec 32 := Scalar.subi v5643 c999936_i32_2493
  let c32_i32_2494 : BitVec 32 := 32#32
  let v5645 : BitVec 32 := Scalar.muli v5644 c32_i32_2494
  let v5646 : BitVec 32 := v5645
  ![v5646.toNat]

def k0_chk415 (v5643 : BitVec 32) : Prop :=
  (8 ∣ (k0_mult392 v5643).toNat) ∧
  (∀ a, (k0_off763 v5643) a + S32.size a ≤ S2048.size a) ∧
  (∀ a, (k0_off779 v5643) a + S32.size a ≤ S2048.size a)
theorem k0_mult392_dvd : ∀ (v5643 : BitVec 32) (k0_hw415 : k0_chk415 v5643), 8 ∣ (k0_mult392 v5643).toNat := fun v5643 k0_hw415 => k0_hw415.1
theorem k0_off763_inb : ∀ (v5643 : BitVec 32) (k0_hw415 : k0_chk415 v5643), ∀ a, (k0_off763 v5643) a + S32.size a ≤ S2048.size a := fun v5643 k0_hw415 => k0_hw415.2.1
theorem k0_off779_inb : ∀ (v5643 : BitVec 32) (k0_hw415 : k0_chk415 v5643), ∀ a, (k0_off779 v5643) a + S32.size a ≤ S2048.size a := fun v5643 k0_hw415 => k0_hw415.2.2

def k0_off780 (v5652 : BitVec 32) : Fin 1 → Nat :=
  let c999936_i32_2496 : BitVec 32 := 999936#32
  let v5653 : BitVec 32 := Scalar.subi v5652 c999936_i32_2496
  let c32_i32_2497 : BitVec 32 := 32#32
  let v5654 : BitVec 32 := Scalar.muli v5653 c32_i32_2497
  let v5655 : BitVec 32 := v5654
  ![v5655.toNat]

def k0_chk416 (v5652 : BitVec 32) : Prop :=
  (8 ∣ (k0_mult393 v5652).toNat) ∧
  (∀ a, (k0_off764 v5652) a + S32.size a ≤ S2048.size a) ∧
  (∀ a, (k0_off780 v5652) a + S32.size a ≤ S2048.size a)
theorem k0_mult393_dvd : ∀ (v5652 : BitVec 32) (k0_hw416 : k0_chk416 v5652), 8 ∣ (k0_mult393 v5652).toNat := fun v5652 k0_hw416 => k0_hw416.1
theorem k0_off764_inb : ∀ (v5652 : BitVec 32) (k0_hw416 : k0_chk416 v5652), ∀ a, (k0_off764 v5652) a + S32.size a ≤ S2048.size a := fun v5652 k0_hw416 => k0_hw416.2.1
theorem k0_off780_inb : ∀ (v5652 : BitVec 32) (k0_hw416 : k0_chk416 v5652), ∀ a, (k0_off780 v5652) a + S32.size a ≤ S2048.size a := fun v5652 k0_hw416 => k0_hw416.2.2

def k0_off781 (v5661 : BitVec 32) : Fin 1 → Nat :=
  let c999936_i32_2499 : BitVec 32 := 999936#32
  let v5662 : BitVec 32 := Scalar.subi v5661 c999936_i32_2499
  let c32_i32_2500 : BitVec 32 := 32#32
  let v5663 : BitVec 32 := Scalar.muli v5662 c32_i32_2500
  let v5664 : BitVec 32 := v5663
  ![v5664.toNat]

def k0_chk417 (v5661 : BitVec 32) : Prop :=
  (8 ∣ (k0_mult394 v5661).toNat) ∧
  (∀ a, (k0_off765 v5661) a + S32.size a ≤ S2048.size a) ∧
  (∀ a, (k0_off781 v5661) a + S32.size a ≤ S2048.size a)
theorem k0_mult394_dvd : ∀ (v5661 : BitVec 32) (k0_hw417 : k0_chk417 v5661), 8 ∣ (k0_mult394 v5661).toNat := fun v5661 k0_hw417 => k0_hw417.1
theorem k0_off765_inb : ∀ (v5661 : BitVec 32) (k0_hw417 : k0_chk417 v5661), ∀ a, (k0_off765 v5661) a + S32.size a ≤ S2048.size a := fun v5661 k0_hw417 => k0_hw417.2.1
theorem k0_off781_inb : ∀ (v5661 : BitVec 32) (k0_hw417 : k0_chk417 v5661), ∀ a, (k0_off781 v5661) a + S32.size a ≤ S2048.size a := fun v5661 k0_hw417 => k0_hw417.2.2

def k0_off782 (v5670 : BitVec 32) : Fin 1 → Nat :=
  let c999936_i32_2502 : BitVec 32 := 999936#32
  let v5671 : BitVec 32 := Scalar.subi v5670 c999936_i32_2502
  let c32_i32_2503 : BitVec 32 := 32#32
  let v5672 : BitVec 32 := Scalar.muli v5671 c32_i32_2503
  let v5673 : BitVec 32 := v5672
  ![v5673.toNat]

def k0_chk418 (v5670 : BitVec 32) : Prop :=
  (8 ∣ (k0_mult395 v5670).toNat) ∧
  (∀ a, (k0_off766 v5670) a + S32.size a ≤ S2048.size a) ∧
  (∀ a, (k0_off782 v5670) a + S32.size a ≤ S2048.size a)
theorem k0_mult395_dvd : ∀ (v5670 : BitVec 32) (k0_hw418 : k0_chk418 v5670), 8 ∣ (k0_mult395 v5670).toNat := fun v5670 k0_hw418 => k0_hw418.1
theorem k0_off766_inb : ∀ (v5670 : BitVec 32) (k0_hw418 : k0_chk418 v5670), ∀ a, (k0_off766 v5670) a + S32.size a ≤ S2048.size a := fun v5670 k0_hw418 => k0_hw418.2.1
theorem k0_off782_inb : ∀ (v5670 : BitVec 32) (k0_hw418 : k0_chk418 v5670), ∀ a, (k0_off782 v5670) a + S32.size a ≤ S2048.size a := fun v5670 k0_hw418 => k0_hw418.2.2

def k0_off783 (v5679 : BitVec 32) : Fin 1 → Nat :=
  let c999936_i32_2505 : BitVec 32 := 999936#32
  let v5680 : BitVec 32 := Scalar.subi v5679 c999936_i32_2505
  let c32_i32_2506 : BitVec 32 := 32#32
  let v5681 : BitVec 32 := Scalar.muli v5680 c32_i32_2506
  let v5682 : BitVec 32 := v5681
  ![v5682.toNat]

def k0_chk419 (v5679 : BitVec 32) : Prop :=
  (8 ∣ (k0_mult396 v5679).toNat) ∧
  (∀ a, (k0_off767 v5679) a + S32.size a ≤ S2048.size a) ∧
  (∀ a, (k0_off783 v5679) a + S32.size a ≤ S2048.size a)
theorem k0_mult396_dvd : ∀ (v5679 : BitVec 32) (k0_hw419 : k0_chk419 v5679), 8 ∣ (k0_mult396 v5679).toNat := fun v5679 k0_hw419 => k0_hw419.1
theorem k0_off767_inb : ∀ (v5679 : BitVec 32) (k0_hw419 : k0_chk419 v5679), ∀ a, (k0_off767 v5679) a + S32.size a ≤ S2048.size a := fun v5679 k0_hw419 => k0_hw419.2.1
theorem k0_off783_inb : ∀ (v5679 : BitVec 32) (k0_hw419 : k0_chk419 v5679), ∀ a, (k0_off783 v5679) a + S32.size a ≤ S2048.size a := fun v5679 k0_hw419 => k0_hw419.2.2

def k0_off784 (v5688 : BitVec 32) : Fin 1 → Nat :=
  let c999936_i32_2508 : BitVec 32 := 999936#32
  let v5689 : BitVec 32 := Scalar.subi v5688 c999936_i32_2508
  let c32_i32_2509 : BitVec 32 := 32#32
  let v5690 : BitVec 32 := Scalar.muli v5689 c32_i32_2509
  let v5691 : BitVec 32 := v5690
  ![v5691.toNat]

def k0_chk420 (v5688 : BitVec 32) : Prop :=
  (8 ∣ (k0_mult397 v5688).toNat) ∧
  (∀ a, (k0_off768 v5688) a + S32.size a ≤ S2048.size a) ∧
  (∀ a, (k0_off784 v5688) a + S32.size a ≤ S2048.size a)
theorem k0_mult397_dvd : ∀ (v5688 : BitVec 32) (k0_hw420 : k0_chk420 v5688), 8 ∣ (k0_mult397 v5688).toNat := fun v5688 k0_hw420 => k0_hw420.1
theorem k0_off768_inb : ∀ (v5688 : BitVec 32) (k0_hw420 : k0_chk420 v5688), ∀ a, (k0_off768 v5688) a + S32.size a ≤ S2048.size a := fun v5688 k0_hw420 => k0_hw420.2.1
theorem k0_off784_inb : ∀ (v5688 : BitVec 32) (k0_hw420 : k0_chk420 v5688), ∀ a, (k0_off784 v5688) a + S32.size a ≤ S2048.size a := fun v5688 k0_hw420 => k0_hw420.2.2

def k0_off785 (v5697 : BitVec 32) : Fin 1 → Nat :=
  let c999936_i32_2511 : BitVec 32 := 999936#32
  let v5698 : BitVec 32 := Scalar.subi v5697 c999936_i32_2511
  let c32_i32_2512 : BitVec 32 := 32#32
  let v5699 : BitVec 32 := Scalar.muli v5698 c32_i32_2512
  let v5700 : BitVec 32 := v5699
  ![v5700.toNat]

def k0_chk421 (v5697 : BitVec 32) : Prop :=
  (8 ∣ (k0_mult398 v5697).toNat) ∧
  (∀ a, (k0_off769 v5697) a + S32.size a ≤ S2048.size a) ∧
  (∀ a, (k0_off785 v5697) a + S32.size a ≤ S2048.size a)
theorem k0_mult398_dvd : ∀ (v5697 : BitVec 32) (k0_hw421 : k0_chk421 v5697), 8 ∣ (k0_mult398 v5697).toNat := fun v5697 k0_hw421 => k0_hw421.1
theorem k0_off769_inb : ∀ (v5697 : BitVec 32) (k0_hw421 : k0_chk421 v5697), ∀ a, (k0_off769 v5697) a + S32.size a ≤ S2048.size a := fun v5697 k0_hw421 => k0_hw421.2.1
theorem k0_off785_inb : ∀ (v5697 : BitVec 32) (k0_hw421 : k0_chk421 v5697), ∀ a, (k0_off785 v5697) a + S32.size a ≤ S2048.size a := fun v5697 k0_hw421 => k0_hw421.2.2

def k0_off786 (v5706 : BitVec 32) : Fin 1 → Nat :=
  let c999936_i32_2514 : BitVec 32 := 999936#32
  let v5707 : BitVec 32 := Scalar.subi v5706 c999936_i32_2514
  let c32_i32_2515 : BitVec 32 := 32#32
  let v5708 : BitVec 32 := Scalar.muli v5707 c32_i32_2515
  let v5709 : BitVec 32 := v5708
  ![v5709.toNat]

def k0_chk422 (v5706 : BitVec 32) : Prop :=
  (8 ∣ (k0_mult399 v5706).toNat) ∧
  (∀ a, (k0_off770 v5706) a + S32.size a ≤ S2048.size a) ∧
  (∀ a, (k0_off786 v5706) a + S32.size a ≤ S2048.size a)
theorem k0_mult399_dvd : ∀ (v5706 : BitVec 32) (k0_hw422 : k0_chk422 v5706), 8 ∣ (k0_mult399 v5706).toNat := fun v5706 k0_hw422 => k0_hw422.1
theorem k0_off770_inb : ∀ (v5706 : BitVec 32) (k0_hw422 : k0_chk422 v5706), ∀ a, (k0_off770 v5706) a + S32.size a ≤ S2048.size a := fun v5706 k0_hw422 => k0_hw422.2.1
theorem k0_off786_inb : ∀ (v5706 : BitVec 32) (k0_hw422 : k0_chk422 v5706), ∀ a, (k0_off786 v5706) a + S32.size a ≤ S2048.size a := fun v5706 k0_hw422 => k0_hw422.2.2

def k0_off787 (v5715 : BitVec 32) : Fin 1 → Nat :=
  let c999936_i32_2517 : BitVec 32 := 999936#32
  let v5716 : BitVec 32 := Scalar.subi v5715 c999936_i32_2517
  let c32_i32_2518 : BitVec 32 := 32#32
  let v5717 : BitVec 32 := Scalar.muli v5716 c32_i32_2518
  let v5718 : BitVec 32 := v5717
  ![v5718.toNat]

def k0_chk423 (v5715 : BitVec 32) : Prop :=
  (8 ∣ (k0_mult400 v5715).toNat) ∧
  (∀ a, (k0_off771 v5715) a + S32.size a ≤ S2048.size a) ∧
  (∀ a, (k0_off787 v5715) a + S32.size a ≤ S2048.size a)
theorem k0_mult400_dvd : ∀ (v5715 : BitVec 32) (k0_hw423 : k0_chk423 v5715), 8 ∣ (k0_mult400 v5715).toNat := fun v5715 k0_hw423 => k0_hw423.1
theorem k0_off771_inb : ∀ (v5715 : BitVec 32) (k0_hw423 : k0_chk423 v5715), ∀ a, (k0_off771 v5715) a + S32.size a ≤ S2048.size a := fun v5715 k0_hw423 => k0_hw423.2.1
theorem k0_off787_inb : ∀ (v5715 : BitVec 32) (k0_hw423 : k0_chk423 v5715), ∀ a, (k0_off787 v5715) a + S32.size a ≤ S2048.size a := fun v5715 k0_hw423 => k0_hw423.2.2

def k0_mult402 (v5797 : BitVec 32) : BitVec 32 :=
  let c0_i32_2556 : BitVec 32 := 0#32
  let c32_i32_2555 : BitVec 32 := 32#32
  let v5798 : BitVec 32 := Scalar.muli v5797 c32_i32_2555
  let v5799 : BitVec 32 := Scalar.addi c0_i32_2556 v5798
  v5799

def k0_off788 (v5797 : BitVec 32) : Fin 1 → Nat :=
  let c0_i32_2556 : BitVec 32 := 0#32
  let c32_i32_2555 : BitVec 32 := 32#32
  let v5798 : BitVec 32 := Scalar.muli v5797 c32_i32_2555
  let v5799 : BitVec 32 := Scalar.addi c0_i32_2556 v5798
  let v5800 : BitVec 32 := v5799
  ![v5800.toNat]
def k0_mult403 (v5806 : BitVec 32) : BitVec 32 :=
  let c0_i32_2560 : BitVec 32 := 0#32
  let c32_i32_2559 : BitVec 32 := 32#32
  let v5807 : BitVec 32 := Scalar.muli v5806 c32_i32_2559
  let v5808 : BitVec 32 := Scalar.addi c0_i32_2560 v5807
  v5808

def k0_off789 (v5806 : BitVec 32) : Fin 1 → Nat :=
  let c0_i32_2560 : BitVec 32 := 0#32
  let c32_i32_2559 : BitVec 32 := 32#32
  let v5807 : BitVec 32 := Scalar.muli v5806 c32_i32_2559
  let v5808 : BitVec 32 := Scalar.addi c0_i32_2560 v5807
  let v5809 : BitVec 32 := v5808
  ![v5809.toNat]
def k0_mult404 (v5815 : BitVec 32) : BitVec 32 :=
  let c0_i32_2564 : BitVec 32 := 0#32
  let c32_i32_2563 : BitVec 32 := 32#32
  let v5816 : BitVec 32 := Scalar.muli v5815 c32_i32_2563
  let v5817 : BitVec 32 := Scalar.addi c0_i32_2564 v5816
  v5817

def k0_off790 (v5815 : BitVec 32) : Fin 1 → Nat :=
  let c0_i32_2564 : BitVec 32 := 0#32
  let c32_i32_2563 : BitVec 32 := 32#32
  let v5816 : BitVec 32 := Scalar.muli v5815 c32_i32_2563
  let v5817 : BitVec 32 := Scalar.addi c0_i32_2564 v5816
  let v5818 : BitVec 32 := v5817
  ![v5818.toNat]
def k0_mult405 (v5824 : BitVec 32) : BitVec 32 :=
  let c0_i32_2568 : BitVec 32 := 0#32
  let c32_i32_2567 : BitVec 32 := 32#32
  let v5825 : BitVec 32 := Scalar.muli v5824 c32_i32_2567
  let v5826 : BitVec 32 := Scalar.addi c0_i32_2568 v5825
  v5826

def k0_off791 (v5824 : BitVec 32) : Fin 1 → Nat :=
  let c0_i32_2568 : BitVec 32 := 0#32
  let c32_i32_2567 : BitVec 32 := 32#32
  let v5825 : BitVec 32 := Scalar.muli v5824 c32_i32_2567
  let v5826 : BitVec 32 := Scalar.addi c0_i32_2568 v5825
  let v5827 : BitVec 32 := v5826
  ![v5827.toNat]
def k0_mult406 (v5833 : BitVec 32) : BitVec 32 :=
  let c0_i32_2572 : BitVec 32 := 0#32
  let c32_i32_2571 : BitVec 32 := 32#32
  let v5834 : BitVec 32 := Scalar.muli v5833 c32_i32_2571
  let v5835 : BitVec 32 := Scalar.addi c0_i32_2572 v5834
  v5835

def k0_off792 (v5833 : BitVec 32) : Fin 1 → Nat :=
  let c0_i32_2572 : BitVec 32 := 0#32
  let c32_i32_2571 : BitVec 32 := 32#32
  let v5834 : BitVec 32 := Scalar.muli v5833 c32_i32_2571
  let v5835 : BitVec 32 := Scalar.addi c0_i32_2572 v5834
  let v5836 : BitVec 32 := v5835
  ![v5836.toNat]
def k0_mult407 (v5842 : BitVec 32) : BitVec 32 :=
  let c0_i32_2576 : BitVec 32 := 0#32
  let c32_i32_2575 : BitVec 32 := 32#32
  let v5843 : BitVec 32 := Scalar.muli v5842 c32_i32_2575
  let v5844 : BitVec 32 := Scalar.addi c0_i32_2576 v5843
  v5844

def k0_off793 (v5842 : BitVec 32) : Fin 1 → Nat :=
  let c0_i32_2576 : BitVec 32 := 0#32
  let c32_i32_2575 : BitVec 32 := 32#32
  let v5843 : BitVec 32 := Scalar.muli v5842 c32_i32_2575
  let v5844 : BitVec 32 := Scalar.addi c0_i32_2576 v5843
  let v5845 : BitVec 32 := v5844
  ![v5845.toNat]
def k0_mult408 (v5851 : BitVec 32) : BitVec 32 :=
  let c0_i32_2580 : BitVec 32 := 0#32
  let c32_i32_2579 : BitVec 32 := 32#32
  let v5852 : BitVec 32 := Scalar.muli v5851 c32_i32_2579
  let v5853 : BitVec 32 := Scalar.addi c0_i32_2580 v5852
  v5853

def k0_off794 (v5851 : BitVec 32) : Fin 1 → Nat :=
  let c0_i32_2580 : BitVec 32 := 0#32
  let c32_i32_2579 : BitVec 32 := 32#32
  let v5852 : BitVec 32 := Scalar.muli v5851 c32_i32_2579
  let v5853 : BitVec 32 := Scalar.addi c0_i32_2580 v5852
  let v5854 : BitVec 32 := v5853
  ![v5854.toNat]
def k0_mult409 (v5860 : BitVec 32) : BitVec 32 :=
  let c0_i32_2584 : BitVec 32 := 0#32
  let c32_i32_2583 : BitVec 32 := 32#32
  let v5861 : BitVec 32 := Scalar.muli v5860 c32_i32_2583
  let v5862 : BitVec 32 := Scalar.addi c0_i32_2584 v5861
  v5862

def k0_off795 (v5860 : BitVec 32) : Fin 1 → Nat :=
  let c0_i32_2584 : BitVec 32 := 0#32
  let c32_i32_2583 : BitVec 32 := 32#32
  let v5861 : BitVec 32 := Scalar.muli v5860 c32_i32_2583
  let v5862 : BitVec 32 := Scalar.addi c0_i32_2584 v5861
  let v5863 : BitVec 32 := v5862
  ![v5863.toNat]
def k0_mult410 (v5869 : BitVec 32) : BitVec 32 :=
  let c0_i32_2588 : BitVec 32 := 0#32
  let c32_i32_2587 : BitVec 32 := 32#32
  let v5870 : BitVec 32 := Scalar.muli v5869 c32_i32_2587
  let v5871 : BitVec 32 := Scalar.addi c0_i32_2588 v5870
  v5871

def k0_off796 (v5869 : BitVec 32) : Fin 1 → Nat :=
  let c0_i32_2588 : BitVec 32 := 0#32
  let c32_i32_2587 : BitVec 32 := 32#32
  let v5870 : BitVec 32 := Scalar.muli v5869 c32_i32_2587
  let v5871 : BitVec 32 := Scalar.addi c0_i32_2588 v5870
  let v5872 : BitVec 32 := v5871
  ![v5872.toNat]
def k0_mult411 (v5878 : BitVec 32) : BitVec 32 :=
  let c0_i32_2592 : BitVec 32 := 0#32
  let c32_i32_2591 : BitVec 32 := 32#32
  let v5879 : BitVec 32 := Scalar.muli v5878 c32_i32_2591
  let v5880 : BitVec 32 := Scalar.addi c0_i32_2592 v5879
  v5880

def k0_off797 (v5878 : BitVec 32) : Fin 1 → Nat :=
  let c0_i32_2592 : BitVec 32 := 0#32
  let c32_i32_2591 : BitVec 32 := 32#32
  let v5879 : BitVec 32 := Scalar.muli v5878 c32_i32_2591
  let v5880 : BitVec 32 := Scalar.addi c0_i32_2592 v5879
  let v5881 : BitVec 32 := v5880
  ![v5881.toNat]
def k0_mult412 (v5887 : BitVec 32) : BitVec 32 :=
  let c0_i32_2596 : BitVec 32 := 0#32
  let c32_i32_2595 : BitVec 32 := 32#32
  let v5888 : BitVec 32 := Scalar.muli v5887 c32_i32_2595
  let v5889 : BitVec 32 := Scalar.addi c0_i32_2596 v5888
  v5889

def k0_off798 (v5887 : BitVec 32) : Fin 1 → Nat :=
  let c0_i32_2596 : BitVec 32 := 0#32
  let c32_i32_2595 : BitVec 32 := 32#32
  let v5888 : BitVec 32 := Scalar.muli v5887 c32_i32_2595
  let v5889 : BitVec 32 := Scalar.addi c0_i32_2596 v5888
  let v5890 : BitVec 32 := v5889
  ![v5890.toNat]
def k0_mult413 (v5896 : BitVec 32) : BitVec 32 :=
  let c0_i32_2600 : BitVec 32 := 0#32
  let c32_i32_2599 : BitVec 32 := 32#32
  let v5897 : BitVec 32 := Scalar.muli v5896 c32_i32_2599
  let v5898 : BitVec 32 := Scalar.addi c0_i32_2600 v5897
  v5898

def k0_off799 (v5896 : BitVec 32) : Fin 1 → Nat :=
  let c0_i32_2600 : BitVec 32 := 0#32
  let c32_i32_2599 : BitVec 32 := 32#32
  let v5897 : BitVec 32 := Scalar.muli v5896 c32_i32_2599
  let v5898 : BitVec 32 := Scalar.addi c0_i32_2600 v5897
  let v5899 : BitVec 32 := v5898
  ![v5899.toNat]
def k0_mult414 (v5905 : BitVec 32) : BitVec 32 :=
  let c0_i32_2604 : BitVec 32 := 0#32
  let c32_i32_2603 : BitVec 32 := 32#32
  let v5906 : BitVec 32 := Scalar.muli v5905 c32_i32_2603
  let v5907 : BitVec 32 := Scalar.addi c0_i32_2604 v5906
  v5907

def k0_off800 (v5905 : BitVec 32) : Fin 1 → Nat :=
  let c0_i32_2604 : BitVec 32 := 0#32
  let c32_i32_2603 : BitVec 32 := 32#32
  let v5906 : BitVec 32 := Scalar.muli v5905 c32_i32_2603
  let v5907 : BitVec 32 := Scalar.addi c0_i32_2604 v5906
  let v5908 : BitVec 32 := v5907
  ![v5908.toNat]
def k0_mult415 (v5914 : BitVec 32) : BitVec 32 :=
  let c0_i32_2608 : BitVec 32 := 0#32
  let c32_i32_2607 : BitVec 32 := 32#32
  let v5915 : BitVec 32 := Scalar.muli v5914 c32_i32_2607
  let v5916 : BitVec 32 := Scalar.addi c0_i32_2608 v5915
  v5916

def k0_off801 (v5914 : BitVec 32) : Fin 1 → Nat :=
  let c0_i32_2608 : BitVec 32 := 0#32
  let c32_i32_2607 : BitVec 32 := 32#32
  let v5915 : BitVec 32 := Scalar.muli v5914 c32_i32_2607
  let v5916 : BitVec 32 := Scalar.addi c0_i32_2608 v5915
  let v5917 : BitVec 32 := v5916
  ![v5917.toNat]
def k0_mult416 (v5923 : BitVec 32) : BitVec 32 :=
  let c0_i32_2612 : BitVec 32 := 0#32
  let c32_i32_2611 : BitVec 32 := 32#32
  let v5924 : BitVec 32 := Scalar.muli v5923 c32_i32_2611
  let v5925 : BitVec 32 := Scalar.addi c0_i32_2612 v5924
  v5925

def k0_off802 (v5923 : BitVec 32) : Fin 1 → Nat :=
  let c0_i32_2612 : BitVec 32 := 0#32
  let c32_i32_2611 : BitVec 32 := 32#32
  let v5924 : BitVec 32 := Scalar.muli v5923 c32_i32_2611
  let v5925 : BitVec 32 := Scalar.addi c0_i32_2612 v5924
  let v5926 : BitVec 32 := v5925
  ![v5926.toNat]
def k0_mult417 (v5932 : BitVec 32) : BitVec 32 :=
  let c0_i32_2616 : BitVec 32 := 0#32
  let c32_i32_2615 : BitVec 32 := 32#32
  let v5933 : BitVec 32 := Scalar.muli v5932 c32_i32_2615
  let v5934 : BitVec 32 := Scalar.addi c0_i32_2616 v5933
  v5934

def k0_off803 (v5932 : BitVec 32) : Fin 1 → Nat :=
  let c0_i32_2616 : BitVec 32 := 0#32
  let c32_i32_2615 : BitVec 32 := 32#32
  let v5933 : BitVec 32 := Scalar.muli v5932 c32_i32_2615
  let v5934 : BitVec 32 := Scalar.addi c0_i32_2616 v5933
  let v5935 : BitVec 32 := v5934
  ![v5935.toNat]

def k0_chk440 (v5932 : BitVec 32) : Prop :=
  (8 ∣ (k0_mult417 v5932).toNat) ∧
  (∀ a, (k0_off803 v5932) a + S32.size a ≤ S3407872.size a)
theorem k0_mult417_dvd : ∀ (v5932 : BitVec 32) (k0_hw440 : k0_chk440 v5932), 8 ∣ (k0_mult417 v5932).toNat := fun v5932 k0_hw440 => k0_hw440.1
theorem k0_off803_inb : ∀ (v5932 : BitVec 32) (k0_hw440 : k0_chk440 v5932), ∀ a, (k0_off803 v5932) a + S32.size a ≤ S3407872.size a := fun v5932 k0_hw440 => k0_hw440.2

def k0_off804 (v5797 : BitVec 32) : Fin 1 → Nat :=
  let c0_i32_2556 : BitVec 32 := 0#32
  let c32_i32_2555 : BitVec 32 := 32#32
  let v5798 : BitVec 32 := Scalar.muli v5797 c32_i32_2555
  let v5799 : BitVec 32 := Scalar.addi c0_i32_2556 v5798
  let v5800 : BitVec 32 := v5799
  ![v5800.toNat]

def k0_chk425 (v5797 : BitVec 32) : Prop :=
  (8 ∣ (k0_mult402 v5797).toNat) ∧
  (∀ a, (k0_off788 v5797) a + S32.size a ≤ S3407872.size a) ∧
  (∀ a, (k0_off804 v5797) a + S32.size a ≤ S3407872.size a)
theorem k0_mult402_dvd : ∀ (v5797 : BitVec 32) (k0_hw425 : k0_chk425 v5797), 8 ∣ (k0_mult402 v5797).toNat := fun v5797 k0_hw425 => k0_hw425.1
theorem k0_off788_inb : ∀ (v5797 : BitVec 32) (k0_hw425 : k0_chk425 v5797), ∀ a, (k0_off788 v5797) a + S32.size a ≤ S3407872.size a := fun v5797 k0_hw425 => k0_hw425.2.1
theorem k0_off804_inb : ∀ (v5797 : BitVec 32) (k0_hw425 : k0_chk425 v5797), ∀ a, (k0_off804 v5797) a + S32.size a ≤ S3407872.size a := fun v5797 k0_hw425 => k0_hw425.2.2

def k0_off805 (v5806 : BitVec 32) : Fin 1 → Nat :=
  let c0_i32_2560 : BitVec 32 := 0#32
  let c32_i32_2559 : BitVec 32 := 32#32
  let v5807 : BitVec 32 := Scalar.muli v5806 c32_i32_2559
  let v5808 : BitVec 32 := Scalar.addi c0_i32_2560 v5807
  let v5809 : BitVec 32 := v5808
  ![v5809.toNat]

def k0_chk426 (v5806 : BitVec 32) : Prop :=
  (8 ∣ (k0_mult403 v5806).toNat) ∧
  (∀ a, (k0_off789 v5806) a + S32.size a ≤ S3407872.size a) ∧
  (∀ a, (k0_off805 v5806) a + S32.size a ≤ S3407872.size a)
theorem k0_mult403_dvd : ∀ (v5806 : BitVec 32) (k0_hw426 : k0_chk426 v5806), 8 ∣ (k0_mult403 v5806).toNat := fun v5806 k0_hw426 => k0_hw426.1
theorem k0_off789_inb : ∀ (v5806 : BitVec 32) (k0_hw426 : k0_chk426 v5806), ∀ a, (k0_off789 v5806) a + S32.size a ≤ S3407872.size a := fun v5806 k0_hw426 => k0_hw426.2.1
theorem k0_off805_inb : ∀ (v5806 : BitVec 32) (k0_hw426 : k0_chk426 v5806), ∀ a, (k0_off805 v5806) a + S32.size a ≤ S3407872.size a := fun v5806 k0_hw426 => k0_hw426.2.2

def k0_off806 (v5815 : BitVec 32) : Fin 1 → Nat :=
  let c0_i32_2564 : BitVec 32 := 0#32
  let c32_i32_2563 : BitVec 32 := 32#32
  let v5816 : BitVec 32 := Scalar.muli v5815 c32_i32_2563
  let v5817 : BitVec 32 := Scalar.addi c0_i32_2564 v5816
  let v5818 : BitVec 32 := v5817
  ![v5818.toNat]

def k0_chk427 (v5815 : BitVec 32) : Prop :=
  (8 ∣ (k0_mult404 v5815).toNat) ∧
  (∀ a, (k0_off790 v5815) a + S32.size a ≤ S3407872.size a) ∧
  (∀ a, (k0_off806 v5815) a + S32.size a ≤ S3407872.size a)
theorem k0_mult404_dvd : ∀ (v5815 : BitVec 32) (k0_hw427 : k0_chk427 v5815), 8 ∣ (k0_mult404 v5815).toNat := fun v5815 k0_hw427 => k0_hw427.1
theorem k0_off790_inb : ∀ (v5815 : BitVec 32) (k0_hw427 : k0_chk427 v5815), ∀ a, (k0_off790 v5815) a + S32.size a ≤ S3407872.size a := fun v5815 k0_hw427 => k0_hw427.2.1
theorem k0_off806_inb : ∀ (v5815 : BitVec 32) (k0_hw427 : k0_chk427 v5815), ∀ a, (k0_off806 v5815) a + S32.size a ≤ S3407872.size a := fun v5815 k0_hw427 => k0_hw427.2.2

def k0_off807 (v5824 : BitVec 32) : Fin 1 → Nat :=
  let c0_i32_2568 : BitVec 32 := 0#32
  let c32_i32_2567 : BitVec 32 := 32#32
  let v5825 : BitVec 32 := Scalar.muli v5824 c32_i32_2567
  let v5826 : BitVec 32 := Scalar.addi c0_i32_2568 v5825
  let v5827 : BitVec 32 := v5826
  ![v5827.toNat]

def k0_chk428 (v5824 : BitVec 32) : Prop :=
  (8 ∣ (k0_mult405 v5824).toNat) ∧
  (∀ a, (k0_off791 v5824) a + S32.size a ≤ S3407872.size a) ∧
  (∀ a, (k0_off807 v5824) a + S32.size a ≤ S3407872.size a)
theorem k0_mult405_dvd : ∀ (v5824 : BitVec 32) (k0_hw428 : k0_chk428 v5824), 8 ∣ (k0_mult405 v5824).toNat := fun v5824 k0_hw428 => k0_hw428.1
theorem k0_off791_inb : ∀ (v5824 : BitVec 32) (k0_hw428 : k0_chk428 v5824), ∀ a, (k0_off791 v5824) a + S32.size a ≤ S3407872.size a := fun v5824 k0_hw428 => k0_hw428.2.1
theorem k0_off807_inb : ∀ (v5824 : BitVec 32) (k0_hw428 : k0_chk428 v5824), ∀ a, (k0_off807 v5824) a + S32.size a ≤ S3407872.size a := fun v5824 k0_hw428 => k0_hw428.2.2

def k0_off808 (v5833 : BitVec 32) : Fin 1 → Nat :=
  let c0_i32_2572 : BitVec 32 := 0#32
  let c32_i32_2571 : BitVec 32 := 32#32
  let v5834 : BitVec 32 := Scalar.muli v5833 c32_i32_2571
  let v5835 : BitVec 32 := Scalar.addi c0_i32_2572 v5834
  let v5836 : BitVec 32 := v5835
  ![v5836.toNat]

def k0_chk429 (v5833 : BitVec 32) : Prop :=
  (8 ∣ (k0_mult406 v5833).toNat) ∧
  (∀ a, (k0_off792 v5833) a + S32.size a ≤ S3407872.size a) ∧
  (∀ a, (k0_off808 v5833) a + S32.size a ≤ S3407872.size a)
theorem k0_mult406_dvd : ∀ (v5833 : BitVec 32) (k0_hw429 : k0_chk429 v5833), 8 ∣ (k0_mult406 v5833).toNat := fun v5833 k0_hw429 => k0_hw429.1
theorem k0_off792_inb : ∀ (v5833 : BitVec 32) (k0_hw429 : k0_chk429 v5833), ∀ a, (k0_off792 v5833) a + S32.size a ≤ S3407872.size a := fun v5833 k0_hw429 => k0_hw429.2.1
theorem k0_off808_inb : ∀ (v5833 : BitVec 32) (k0_hw429 : k0_chk429 v5833), ∀ a, (k0_off808 v5833) a + S32.size a ≤ S3407872.size a := fun v5833 k0_hw429 => k0_hw429.2.2

def k0_off809 (v5842 : BitVec 32) : Fin 1 → Nat :=
  let c0_i32_2576 : BitVec 32 := 0#32
  let c32_i32_2575 : BitVec 32 := 32#32
  let v5843 : BitVec 32 := Scalar.muli v5842 c32_i32_2575
  let v5844 : BitVec 32 := Scalar.addi c0_i32_2576 v5843
  let v5845 : BitVec 32 := v5844
  ![v5845.toNat]

def k0_chk430 (v5842 : BitVec 32) : Prop :=
  (8 ∣ (k0_mult407 v5842).toNat) ∧
  (∀ a, (k0_off793 v5842) a + S32.size a ≤ S3407872.size a) ∧
  (∀ a, (k0_off809 v5842) a + S32.size a ≤ S3407872.size a)
theorem k0_mult407_dvd : ∀ (v5842 : BitVec 32) (k0_hw430 : k0_chk430 v5842), 8 ∣ (k0_mult407 v5842).toNat := fun v5842 k0_hw430 => k0_hw430.1
theorem k0_off793_inb : ∀ (v5842 : BitVec 32) (k0_hw430 : k0_chk430 v5842), ∀ a, (k0_off793 v5842) a + S32.size a ≤ S3407872.size a := fun v5842 k0_hw430 => k0_hw430.2.1
theorem k0_off809_inb : ∀ (v5842 : BitVec 32) (k0_hw430 : k0_chk430 v5842), ∀ a, (k0_off809 v5842) a + S32.size a ≤ S3407872.size a := fun v5842 k0_hw430 => k0_hw430.2.2

def k0_off810 (v5851 : BitVec 32) : Fin 1 → Nat :=
  let c0_i32_2580 : BitVec 32 := 0#32
  let c32_i32_2579 : BitVec 32 := 32#32
  let v5852 : BitVec 32 := Scalar.muli v5851 c32_i32_2579
  let v5853 : BitVec 32 := Scalar.addi c0_i32_2580 v5852
  let v5854 : BitVec 32 := v5853
  ![v5854.toNat]

def k0_chk431 (v5851 : BitVec 32) : Prop :=
  (8 ∣ (k0_mult408 v5851).toNat) ∧
  (∀ a, (k0_off794 v5851) a + S32.size a ≤ S3407872.size a) ∧
  (∀ a, (k0_off810 v5851) a + S32.size a ≤ S3407872.size a)
theorem k0_mult408_dvd : ∀ (v5851 : BitVec 32) (k0_hw431 : k0_chk431 v5851), 8 ∣ (k0_mult408 v5851).toNat := fun v5851 k0_hw431 => k0_hw431.1
theorem k0_off794_inb : ∀ (v5851 : BitVec 32) (k0_hw431 : k0_chk431 v5851), ∀ a, (k0_off794 v5851) a + S32.size a ≤ S3407872.size a := fun v5851 k0_hw431 => k0_hw431.2.1
theorem k0_off810_inb : ∀ (v5851 : BitVec 32) (k0_hw431 : k0_chk431 v5851), ∀ a, (k0_off810 v5851) a + S32.size a ≤ S3407872.size a := fun v5851 k0_hw431 => k0_hw431.2.2

def k0_off811 (v5860 : BitVec 32) : Fin 1 → Nat :=
  let c0_i32_2584 : BitVec 32 := 0#32
  let c32_i32_2583 : BitVec 32 := 32#32
  let v5861 : BitVec 32 := Scalar.muli v5860 c32_i32_2583
  let v5862 : BitVec 32 := Scalar.addi c0_i32_2584 v5861
  let v5863 : BitVec 32 := v5862
  ![v5863.toNat]

def k0_chk432 (v5860 : BitVec 32) : Prop :=
  (8 ∣ (k0_mult409 v5860).toNat) ∧
  (∀ a, (k0_off795 v5860) a + S32.size a ≤ S3407872.size a) ∧
  (∀ a, (k0_off811 v5860) a + S32.size a ≤ S3407872.size a)
theorem k0_mult409_dvd : ∀ (v5860 : BitVec 32) (k0_hw432 : k0_chk432 v5860), 8 ∣ (k0_mult409 v5860).toNat := fun v5860 k0_hw432 => k0_hw432.1
theorem k0_off795_inb : ∀ (v5860 : BitVec 32) (k0_hw432 : k0_chk432 v5860), ∀ a, (k0_off795 v5860) a + S32.size a ≤ S3407872.size a := fun v5860 k0_hw432 => k0_hw432.2.1
theorem k0_off811_inb : ∀ (v5860 : BitVec 32) (k0_hw432 : k0_chk432 v5860), ∀ a, (k0_off811 v5860) a + S32.size a ≤ S3407872.size a := fun v5860 k0_hw432 => k0_hw432.2.2

def k0_off812 (v5869 : BitVec 32) : Fin 1 → Nat :=
  let c0_i32_2588 : BitVec 32 := 0#32
  let c32_i32_2587 : BitVec 32 := 32#32
  let v5870 : BitVec 32 := Scalar.muli v5869 c32_i32_2587
  let v5871 : BitVec 32 := Scalar.addi c0_i32_2588 v5870
  let v5872 : BitVec 32 := v5871
  ![v5872.toNat]

def k0_chk433 (v5869 : BitVec 32) : Prop :=
  (8 ∣ (k0_mult410 v5869).toNat) ∧
  (∀ a, (k0_off796 v5869) a + S32.size a ≤ S3407872.size a) ∧
  (∀ a, (k0_off812 v5869) a + S32.size a ≤ S3407872.size a)
theorem k0_mult410_dvd : ∀ (v5869 : BitVec 32) (k0_hw433 : k0_chk433 v5869), 8 ∣ (k0_mult410 v5869).toNat := fun v5869 k0_hw433 => k0_hw433.1
theorem k0_off796_inb : ∀ (v5869 : BitVec 32) (k0_hw433 : k0_chk433 v5869), ∀ a, (k0_off796 v5869) a + S32.size a ≤ S3407872.size a := fun v5869 k0_hw433 => k0_hw433.2.1
theorem k0_off812_inb : ∀ (v5869 : BitVec 32) (k0_hw433 : k0_chk433 v5869), ∀ a, (k0_off812 v5869) a + S32.size a ≤ S3407872.size a := fun v5869 k0_hw433 => k0_hw433.2.2

def k0_off813 (v5878 : BitVec 32) : Fin 1 → Nat :=
  let c0_i32_2592 : BitVec 32 := 0#32
  let c32_i32_2591 : BitVec 32 := 32#32
  let v5879 : BitVec 32 := Scalar.muli v5878 c32_i32_2591
  let v5880 : BitVec 32 := Scalar.addi c0_i32_2592 v5879
  let v5881 : BitVec 32 := v5880
  ![v5881.toNat]

def k0_chk434 (v5878 : BitVec 32) : Prop :=
  (8 ∣ (k0_mult411 v5878).toNat) ∧
  (∀ a, (k0_off797 v5878) a + S32.size a ≤ S3407872.size a) ∧
  (∀ a, (k0_off813 v5878) a + S32.size a ≤ S3407872.size a)
theorem k0_mult411_dvd : ∀ (v5878 : BitVec 32) (k0_hw434 : k0_chk434 v5878), 8 ∣ (k0_mult411 v5878).toNat := fun v5878 k0_hw434 => k0_hw434.1
theorem k0_off797_inb : ∀ (v5878 : BitVec 32) (k0_hw434 : k0_chk434 v5878), ∀ a, (k0_off797 v5878) a + S32.size a ≤ S3407872.size a := fun v5878 k0_hw434 => k0_hw434.2.1
theorem k0_off813_inb : ∀ (v5878 : BitVec 32) (k0_hw434 : k0_chk434 v5878), ∀ a, (k0_off813 v5878) a + S32.size a ≤ S3407872.size a := fun v5878 k0_hw434 => k0_hw434.2.2

def k0_off814 (v5887 : BitVec 32) : Fin 1 → Nat :=
  let c0_i32_2596 : BitVec 32 := 0#32
  let c32_i32_2595 : BitVec 32 := 32#32
  let v5888 : BitVec 32 := Scalar.muli v5887 c32_i32_2595
  let v5889 : BitVec 32 := Scalar.addi c0_i32_2596 v5888
  let v5890 : BitVec 32 := v5889
  ![v5890.toNat]

def k0_chk435 (v5887 : BitVec 32) : Prop :=
  (8 ∣ (k0_mult412 v5887).toNat) ∧
  (∀ a, (k0_off798 v5887) a + S32.size a ≤ S3407872.size a) ∧
  (∀ a, (k0_off814 v5887) a + S32.size a ≤ S3407872.size a)
theorem k0_mult412_dvd : ∀ (v5887 : BitVec 32) (k0_hw435 : k0_chk435 v5887), 8 ∣ (k0_mult412 v5887).toNat := fun v5887 k0_hw435 => k0_hw435.1
theorem k0_off798_inb : ∀ (v5887 : BitVec 32) (k0_hw435 : k0_chk435 v5887), ∀ a, (k0_off798 v5887) a + S32.size a ≤ S3407872.size a := fun v5887 k0_hw435 => k0_hw435.2.1
theorem k0_off814_inb : ∀ (v5887 : BitVec 32) (k0_hw435 : k0_chk435 v5887), ∀ a, (k0_off814 v5887) a + S32.size a ≤ S3407872.size a := fun v5887 k0_hw435 => k0_hw435.2.2

def k0_off815 (v5896 : BitVec 32) : Fin 1 → Nat :=
  let c0_i32_2600 : BitVec 32 := 0#32
  let c32_i32_2599 : BitVec 32 := 32#32
  let v5897 : BitVec 32 := Scalar.muli v5896 c32_i32_2599
  let v5898 : BitVec 32 := Scalar.addi c0_i32_2600 v5897
  let v5899 : BitVec 32 := v5898
  ![v5899.toNat]

def k0_chk436 (v5896 : BitVec 32) : Prop :=
  (8 ∣ (k0_mult413 v5896).toNat) ∧
  (∀ a, (k0_off799 v5896) a + S32.size a ≤ S3407872.size a) ∧
  (∀ a, (k0_off815 v5896) a + S32.size a ≤ S3407872.size a)
theorem k0_mult413_dvd : ∀ (v5896 : BitVec 32) (k0_hw436 : k0_chk436 v5896), 8 ∣ (k0_mult413 v5896).toNat := fun v5896 k0_hw436 => k0_hw436.1
theorem k0_off799_inb : ∀ (v5896 : BitVec 32) (k0_hw436 : k0_chk436 v5896), ∀ a, (k0_off799 v5896) a + S32.size a ≤ S3407872.size a := fun v5896 k0_hw436 => k0_hw436.2.1
theorem k0_off815_inb : ∀ (v5896 : BitVec 32) (k0_hw436 : k0_chk436 v5896), ∀ a, (k0_off815 v5896) a + S32.size a ≤ S3407872.size a := fun v5896 k0_hw436 => k0_hw436.2.2

def k0_off816 (v5905 : BitVec 32) : Fin 1 → Nat :=
  let c0_i32_2604 : BitVec 32 := 0#32
  let c32_i32_2603 : BitVec 32 := 32#32
  let v5906 : BitVec 32 := Scalar.muli v5905 c32_i32_2603
  let v5907 : BitVec 32 := Scalar.addi c0_i32_2604 v5906
  let v5908 : BitVec 32 := v5907
  ![v5908.toNat]

def k0_chk437 (v5905 : BitVec 32) : Prop :=
  (8 ∣ (k0_mult414 v5905).toNat) ∧
  (∀ a, (k0_off800 v5905) a + S32.size a ≤ S3407872.size a) ∧
  (∀ a, (k0_off816 v5905) a + S32.size a ≤ S3407872.size a)
theorem k0_mult414_dvd : ∀ (v5905 : BitVec 32) (k0_hw437 : k0_chk437 v5905), 8 ∣ (k0_mult414 v5905).toNat := fun v5905 k0_hw437 => k0_hw437.1
theorem k0_off800_inb : ∀ (v5905 : BitVec 32) (k0_hw437 : k0_chk437 v5905), ∀ a, (k0_off800 v5905) a + S32.size a ≤ S3407872.size a := fun v5905 k0_hw437 => k0_hw437.2.1
theorem k0_off816_inb : ∀ (v5905 : BitVec 32) (k0_hw437 : k0_chk437 v5905), ∀ a, (k0_off816 v5905) a + S32.size a ≤ S3407872.size a := fun v5905 k0_hw437 => k0_hw437.2.2

def k0_off817 (v5914 : BitVec 32) : Fin 1 → Nat :=
  let c0_i32_2608 : BitVec 32 := 0#32
  let c32_i32_2607 : BitVec 32 := 32#32
  let v5915 : BitVec 32 := Scalar.muli v5914 c32_i32_2607
  let v5916 : BitVec 32 := Scalar.addi c0_i32_2608 v5915
  let v5917 : BitVec 32 := v5916
  ![v5917.toNat]

def k0_chk438 (v5914 : BitVec 32) : Prop :=
  (8 ∣ (k0_mult415 v5914).toNat) ∧
  (∀ a, (k0_off801 v5914) a + S32.size a ≤ S3407872.size a) ∧
  (∀ a, (k0_off817 v5914) a + S32.size a ≤ S3407872.size a)
theorem k0_mult415_dvd : ∀ (v5914 : BitVec 32) (k0_hw438 : k0_chk438 v5914), 8 ∣ (k0_mult415 v5914).toNat := fun v5914 k0_hw438 => k0_hw438.1
theorem k0_off801_inb : ∀ (v5914 : BitVec 32) (k0_hw438 : k0_chk438 v5914), ∀ a, (k0_off801 v5914) a + S32.size a ≤ S3407872.size a := fun v5914 k0_hw438 => k0_hw438.2.1
theorem k0_off817_inb : ∀ (v5914 : BitVec 32) (k0_hw438 : k0_chk438 v5914), ∀ a, (k0_off817 v5914) a + S32.size a ≤ S3407872.size a := fun v5914 k0_hw438 => k0_hw438.2.2

def k0_off818 (v5923 : BitVec 32) : Fin 1 → Nat :=
  let c0_i32_2612 : BitVec 32 := 0#32
  let c32_i32_2611 : BitVec 32 := 32#32
  let v5924 : BitVec 32 := Scalar.muli v5923 c32_i32_2611
  let v5925 : BitVec 32 := Scalar.addi c0_i32_2612 v5924
  let v5926 : BitVec 32 := v5925
  ![v5926.toNat]

def k0_chk439 (v5923 : BitVec 32) : Prop :=
  (8 ∣ (k0_mult416 v5923).toNat) ∧
  (∀ a, (k0_off802 v5923) a + S32.size a ≤ S3407872.size a) ∧
  (∀ a, (k0_off818 v5923) a + S32.size a ≤ S3407872.size a)
theorem k0_mult416_dvd : ∀ (v5923 : BitVec 32) (k0_hw439 : k0_chk439 v5923), 8 ∣ (k0_mult416 v5923).toNat := fun v5923 k0_hw439 => k0_hw439.1
theorem k0_off802_inb : ∀ (v5923 : BitVec 32) (k0_hw439 : k0_chk439 v5923), ∀ a, (k0_off802 v5923) a + S32.size a ≤ S3407872.size a := fun v5923 k0_hw439 => k0_hw439.2.1
theorem k0_off818_inb : ∀ (v5923 : BitVec 32) (k0_hw439 : k0_chk439 v5923), ∀ a, (k0_off818 v5923) a + S32.size a ≤ S3407872.size a := fun v5923 k0_hw439 => k0_hw439.2.2

def k0_mult418 (v6007 : BitVec 32) : BitVec 32 :=
  let c999936_i32_2653 : BitVec 32 := 999936#32
  let v6008 : BitVec 32 := Scalar.subi v6007 c999936_i32_2653
  let c32_i32_2654 : BitVec 32 := 32#32
  let v6009 : BitVec 32 := Scalar.muli v6008 c32_i32_2654
  v6009

def k0_off819 (v6007 : BitVec 32) : Fin 1 → Nat :=
  let c999936_i32_2653 : BitVec 32 := 999936#32
  let v6008 : BitVec 32 := Scalar.subi v6007 c999936_i32_2653
  let c32_i32_2654 : BitVec 32 := 32#32
  let v6009 : BitVec 32 := Scalar.muli v6008 c32_i32_2654
  let v6010 : BitVec 32 := v6009
  ![v6010.toNat]
def k0_mult419 (v6016 : BitVec 32) : BitVec 32 :=
  let c999936_i32_2656 : BitVec 32 := 999936#32
  let v6017 : BitVec 32 := Scalar.subi v6016 c999936_i32_2656
  let c32_i32_2657 : BitVec 32 := 32#32
  let v6018 : BitVec 32 := Scalar.muli v6017 c32_i32_2657
  v6018

def k0_off820 (v6016 : BitVec 32) : Fin 1 → Nat :=
  let c999936_i32_2656 : BitVec 32 := 999936#32
  let v6017 : BitVec 32 := Scalar.subi v6016 c999936_i32_2656
  let c32_i32_2657 : BitVec 32 := 32#32
  let v6018 : BitVec 32 := Scalar.muli v6017 c32_i32_2657
  let v6019 : BitVec 32 := v6018
  ![v6019.toNat]
def k0_mult420 (v6025 : BitVec 32) : BitVec 32 :=
  let c999936_i32_2659 : BitVec 32 := 999936#32
  let v6026 : BitVec 32 := Scalar.subi v6025 c999936_i32_2659
  let c32_i32_2660 : BitVec 32 := 32#32
  let v6027 : BitVec 32 := Scalar.muli v6026 c32_i32_2660
  v6027

def k0_off821 (v6025 : BitVec 32) : Fin 1 → Nat :=
  let c999936_i32_2659 : BitVec 32 := 999936#32
  let v6026 : BitVec 32 := Scalar.subi v6025 c999936_i32_2659
  let c32_i32_2660 : BitVec 32 := 32#32
  let v6027 : BitVec 32 := Scalar.muli v6026 c32_i32_2660
  let v6028 : BitVec 32 := v6027
  ![v6028.toNat]
def k0_mult421 (v6034 : BitVec 32) : BitVec 32 :=
  let c999936_i32_2662 : BitVec 32 := 999936#32
  let v6035 : BitVec 32 := Scalar.subi v6034 c999936_i32_2662
  let c32_i32_2663 : BitVec 32 := 32#32
  let v6036 : BitVec 32 := Scalar.muli v6035 c32_i32_2663
  v6036

def k0_off822 (v6034 : BitVec 32) : Fin 1 → Nat :=
  let c999936_i32_2662 : BitVec 32 := 999936#32
  let v6035 : BitVec 32 := Scalar.subi v6034 c999936_i32_2662
  let c32_i32_2663 : BitVec 32 := 32#32
  let v6036 : BitVec 32 := Scalar.muli v6035 c32_i32_2663
  let v6037 : BitVec 32 := v6036
  ![v6037.toNat]
def k0_mult422 (v6043 : BitVec 32) : BitVec 32 :=
  let c999936_i32_2665 : BitVec 32 := 999936#32
  let v6044 : BitVec 32 := Scalar.subi v6043 c999936_i32_2665
  let c32_i32_2666 : BitVec 32 := 32#32
  let v6045 : BitVec 32 := Scalar.muli v6044 c32_i32_2666
  v6045

def k0_off823 (v6043 : BitVec 32) : Fin 1 → Nat :=
  let c999936_i32_2665 : BitVec 32 := 999936#32
  let v6044 : BitVec 32 := Scalar.subi v6043 c999936_i32_2665
  let c32_i32_2666 : BitVec 32 := 32#32
  let v6045 : BitVec 32 := Scalar.muli v6044 c32_i32_2666
  let v6046 : BitVec 32 := v6045
  ![v6046.toNat]
def k0_mult423 (v6052 : BitVec 32) : BitVec 32 :=
  let c999936_i32_2668 : BitVec 32 := 999936#32
  let v6053 : BitVec 32 := Scalar.subi v6052 c999936_i32_2668
  let c32_i32_2669 : BitVec 32 := 32#32
  let v6054 : BitVec 32 := Scalar.muli v6053 c32_i32_2669
  v6054

def k0_off824 (v6052 : BitVec 32) : Fin 1 → Nat :=
  let c999936_i32_2668 : BitVec 32 := 999936#32
  let v6053 : BitVec 32 := Scalar.subi v6052 c999936_i32_2668
  let c32_i32_2669 : BitVec 32 := 32#32
  let v6054 : BitVec 32 := Scalar.muli v6053 c32_i32_2669
  let v6055 : BitVec 32 := v6054
  ![v6055.toNat]
def k0_mult424 (v6061 : BitVec 32) : BitVec 32 :=
  let c999936_i32_2671 : BitVec 32 := 999936#32
  let v6062 : BitVec 32 := Scalar.subi v6061 c999936_i32_2671
  let c32_i32_2672 : BitVec 32 := 32#32
  let v6063 : BitVec 32 := Scalar.muli v6062 c32_i32_2672
  v6063

def k0_off825 (v6061 : BitVec 32) : Fin 1 → Nat :=
  let c999936_i32_2671 : BitVec 32 := 999936#32
  let v6062 : BitVec 32 := Scalar.subi v6061 c999936_i32_2671
  let c32_i32_2672 : BitVec 32 := 32#32
  let v6063 : BitVec 32 := Scalar.muli v6062 c32_i32_2672
  let v6064 : BitVec 32 := v6063
  ![v6064.toNat]
def k0_mult425 (v6070 : BitVec 32) : BitVec 32 :=
  let c999936_i32_2674 : BitVec 32 := 999936#32
  let v6071 : BitVec 32 := Scalar.subi v6070 c999936_i32_2674
  let c32_i32_2675 : BitVec 32 := 32#32
  let v6072 : BitVec 32 := Scalar.muli v6071 c32_i32_2675
  v6072

def k0_off826 (v6070 : BitVec 32) : Fin 1 → Nat :=
  let c999936_i32_2674 : BitVec 32 := 999936#32
  let v6071 : BitVec 32 := Scalar.subi v6070 c999936_i32_2674
  let c32_i32_2675 : BitVec 32 := 32#32
  let v6072 : BitVec 32 := Scalar.muli v6071 c32_i32_2675
  let v6073 : BitVec 32 := v6072
  ![v6073.toNat]
def k0_mult426 (v6079 : BitVec 32) : BitVec 32 :=
  let c999936_i32_2677 : BitVec 32 := 999936#32
  let v6080 : BitVec 32 := Scalar.subi v6079 c999936_i32_2677
  let c32_i32_2678 : BitVec 32 := 32#32
  let v6081 : BitVec 32 := Scalar.muli v6080 c32_i32_2678
  v6081

def k0_off827 (v6079 : BitVec 32) : Fin 1 → Nat :=
  let c999936_i32_2677 : BitVec 32 := 999936#32
  let v6080 : BitVec 32 := Scalar.subi v6079 c999936_i32_2677
  let c32_i32_2678 : BitVec 32 := 32#32
  let v6081 : BitVec 32 := Scalar.muli v6080 c32_i32_2678
  let v6082 : BitVec 32 := v6081
  ![v6082.toNat]
def k0_mult427 (v6088 : BitVec 32) : BitVec 32 :=
  let c999936_i32_2680 : BitVec 32 := 999936#32
  let v6089 : BitVec 32 := Scalar.subi v6088 c999936_i32_2680
  let c32_i32_2681 : BitVec 32 := 32#32
  let v6090 : BitVec 32 := Scalar.muli v6089 c32_i32_2681
  v6090

def k0_off828 (v6088 : BitVec 32) : Fin 1 → Nat :=
  let c999936_i32_2680 : BitVec 32 := 999936#32
  let v6089 : BitVec 32 := Scalar.subi v6088 c999936_i32_2680
  let c32_i32_2681 : BitVec 32 := 32#32
  let v6090 : BitVec 32 := Scalar.muli v6089 c32_i32_2681
  let v6091 : BitVec 32 := v6090
  ![v6091.toNat]
def k0_mult428 (v6097 : BitVec 32) : BitVec 32 :=
  let c999936_i32_2683 : BitVec 32 := 999936#32
  let v6098 : BitVec 32 := Scalar.subi v6097 c999936_i32_2683
  let c32_i32_2684 : BitVec 32 := 32#32
  let v6099 : BitVec 32 := Scalar.muli v6098 c32_i32_2684
  v6099

def k0_off829 (v6097 : BitVec 32) : Fin 1 → Nat :=
  let c999936_i32_2683 : BitVec 32 := 999936#32
  let v6098 : BitVec 32 := Scalar.subi v6097 c999936_i32_2683
  let c32_i32_2684 : BitVec 32 := 32#32
  let v6099 : BitVec 32 := Scalar.muli v6098 c32_i32_2684
  let v6100 : BitVec 32 := v6099
  ![v6100.toNat]
def k0_mult429 (v6106 : BitVec 32) : BitVec 32 :=
  let c999936_i32_2686 : BitVec 32 := 999936#32
  let v6107 : BitVec 32 := Scalar.subi v6106 c999936_i32_2686
  let c32_i32_2687 : BitVec 32 := 32#32
  let v6108 : BitVec 32 := Scalar.muli v6107 c32_i32_2687
  v6108

def k0_off830 (v6106 : BitVec 32) : Fin 1 → Nat :=
  let c999936_i32_2686 : BitVec 32 := 999936#32
  let v6107 : BitVec 32 := Scalar.subi v6106 c999936_i32_2686
  let c32_i32_2687 : BitVec 32 := 32#32
  let v6108 : BitVec 32 := Scalar.muli v6107 c32_i32_2687
  let v6109 : BitVec 32 := v6108
  ![v6109.toNat]
def k0_mult430 (v6115 : BitVec 32) : BitVec 32 :=
  let c999936_i32_2689 : BitVec 32 := 999936#32
  let v6116 : BitVec 32 := Scalar.subi v6115 c999936_i32_2689
  let c32_i32_2690 : BitVec 32 := 32#32
  let v6117 : BitVec 32 := Scalar.muli v6116 c32_i32_2690
  v6117

def k0_off831 (v6115 : BitVec 32) : Fin 1 → Nat :=
  let c999936_i32_2689 : BitVec 32 := 999936#32
  let v6116 : BitVec 32 := Scalar.subi v6115 c999936_i32_2689
  let c32_i32_2690 : BitVec 32 := 32#32
  let v6117 : BitVec 32 := Scalar.muli v6116 c32_i32_2690
  let v6118 : BitVec 32 := v6117
  ![v6118.toNat]
def k0_mult431 (v6124 : BitVec 32) : BitVec 32 :=
  let c999936_i32_2692 : BitVec 32 := 999936#32
  let v6125 : BitVec 32 := Scalar.subi v6124 c999936_i32_2692
  let c32_i32_2693 : BitVec 32 := 32#32
  let v6126 : BitVec 32 := Scalar.muli v6125 c32_i32_2693
  v6126

def k0_off832 (v6124 : BitVec 32) : Fin 1 → Nat :=
  let c999936_i32_2692 : BitVec 32 := 999936#32
  let v6125 : BitVec 32 := Scalar.subi v6124 c999936_i32_2692
  let c32_i32_2693 : BitVec 32 := 32#32
  let v6126 : BitVec 32 := Scalar.muli v6125 c32_i32_2693
  let v6127 : BitVec 32 := v6126
  ![v6127.toNat]
def k0_mult432 (v6133 : BitVec 32) : BitVec 32 :=
  let c999936_i32_2695 : BitVec 32 := 999936#32
  let v6134 : BitVec 32 := Scalar.subi v6133 c999936_i32_2695
  let c32_i32_2696 : BitVec 32 := 32#32
  let v6135 : BitVec 32 := Scalar.muli v6134 c32_i32_2696
  v6135

def k0_off833 (v6133 : BitVec 32) : Fin 1 → Nat :=
  let c999936_i32_2695 : BitVec 32 := 999936#32
  let v6134 : BitVec 32 := Scalar.subi v6133 c999936_i32_2695
  let c32_i32_2696 : BitVec 32 := 32#32
  let v6135 : BitVec 32 := Scalar.muli v6134 c32_i32_2696
  let v6136 : BitVec 32 := v6135
  ![v6136.toNat]
def k0_mult433 (v6142 : BitVec 32) : BitVec 32 :=
  let c999936_i32_2698 : BitVec 32 := 999936#32
  let v6143 : BitVec 32 := Scalar.subi v6142 c999936_i32_2698
  let c32_i32_2699 : BitVec 32 := 32#32
  let v6144 : BitVec 32 := Scalar.muli v6143 c32_i32_2699
  v6144

def k0_off834 (v6142 : BitVec 32) : Fin 1 → Nat :=
  let c999936_i32_2698 : BitVec 32 := 999936#32
  let v6143 : BitVec 32 := Scalar.subi v6142 c999936_i32_2698
  let c32_i32_2699 : BitVec 32 := 32#32
  let v6144 : BitVec 32 := Scalar.muli v6143 c32_i32_2699
  let v6145 : BitVec 32 := v6144
  ![v6145.toNat]

def k0_chk456 (v6142 : BitVec 32) : Prop :=
  (8 ∣ (k0_mult433 v6142).toNat) ∧
  (∀ a, (k0_off834 v6142) a + S32.size a ≤ S2048.size a)
theorem k0_mult433_dvd : ∀ (v6142 : BitVec 32) (k0_hw456 : k0_chk456 v6142), 8 ∣ (k0_mult433 v6142).toNat := fun v6142 k0_hw456 => k0_hw456.1
theorem k0_off834_inb : ∀ (v6142 : BitVec 32) (k0_hw456 : k0_chk456 v6142), ∀ a, (k0_off834 v6142) a + S32.size a ≤ S2048.size a := fun v6142 k0_hw456 => k0_hw456.2

def k0_off835 (v6007 : BitVec 32) : Fin 1 → Nat :=
  let c999936_i32_2653 : BitVec 32 := 999936#32
  let v6008 : BitVec 32 := Scalar.subi v6007 c999936_i32_2653
  let c32_i32_2654 : BitVec 32 := 32#32
  let v6009 : BitVec 32 := Scalar.muli v6008 c32_i32_2654
  let v6010 : BitVec 32 := v6009
  ![v6010.toNat]

def k0_chk441 (v6007 : BitVec 32) : Prop :=
  (8 ∣ (k0_mult418 v6007).toNat) ∧
  (∀ a, (k0_off819 v6007) a + S32.size a ≤ S2048.size a) ∧
  (∀ a, (k0_off835 v6007) a + S32.size a ≤ S2048.size a)
theorem k0_mult418_dvd : ∀ (v6007 : BitVec 32) (k0_hw441 : k0_chk441 v6007), 8 ∣ (k0_mult418 v6007).toNat := fun v6007 k0_hw441 => k0_hw441.1
theorem k0_off819_inb : ∀ (v6007 : BitVec 32) (k0_hw441 : k0_chk441 v6007), ∀ a, (k0_off819 v6007) a + S32.size a ≤ S2048.size a := fun v6007 k0_hw441 => k0_hw441.2.1
theorem k0_off835_inb : ∀ (v6007 : BitVec 32) (k0_hw441 : k0_chk441 v6007), ∀ a, (k0_off835 v6007) a + S32.size a ≤ S2048.size a := fun v6007 k0_hw441 => k0_hw441.2.2

def k0_off836 (v6016 : BitVec 32) : Fin 1 → Nat :=
  let c999936_i32_2656 : BitVec 32 := 999936#32
  let v6017 : BitVec 32 := Scalar.subi v6016 c999936_i32_2656
  let c32_i32_2657 : BitVec 32 := 32#32
  let v6018 : BitVec 32 := Scalar.muli v6017 c32_i32_2657
  let v6019 : BitVec 32 := v6018
  ![v6019.toNat]

def k0_chk442 (v6016 : BitVec 32) : Prop :=
  (8 ∣ (k0_mult419 v6016).toNat) ∧
  (∀ a, (k0_off820 v6016) a + S32.size a ≤ S2048.size a) ∧
  (∀ a, (k0_off836 v6016) a + S32.size a ≤ S2048.size a)
theorem k0_mult419_dvd : ∀ (v6016 : BitVec 32) (k0_hw442 : k0_chk442 v6016), 8 ∣ (k0_mult419 v6016).toNat := fun v6016 k0_hw442 => k0_hw442.1
theorem k0_off820_inb : ∀ (v6016 : BitVec 32) (k0_hw442 : k0_chk442 v6016), ∀ a, (k0_off820 v6016) a + S32.size a ≤ S2048.size a := fun v6016 k0_hw442 => k0_hw442.2.1
theorem k0_off836_inb : ∀ (v6016 : BitVec 32) (k0_hw442 : k0_chk442 v6016), ∀ a, (k0_off836 v6016) a + S32.size a ≤ S2048.size a := fun v6016 k0_hw442 => k0_hw442.2.2

def k0_off837 (v6025 : BitVec 32) : Fin 1 → Nat :=
  let c999936_i32_2659 : BitVec 32 := 999936#32
  let v6026 : BitVec 32 := Scalar.subi v6025 c999936_i32_2659
  let c32_i32_2660 : BitVec 32 := 32#32
  let v6027 : BitVec 32 := Scalar.muli v6026 c32_i32_2660
  let v6028 : BitVec 32 := v6027
  ![v6028.toNat]

def k0_chk443 (v6025 : BitVec 32) : Prop :=
  (8 ∣ (k0_mult420 v6025).toNat) ∧
  (∀ a, (k0_off821 v6025) a + S32.size a ≤ S2048.size a) ∧
  (∀ a, (k0_off837 v6025) a + S32.size a ≤ S2048.size a)
theorem k0_mult420_dvd : ∀ (v6025 : BitVec 32) (k0_hw443 : k0_chk443 v6025), 8 ∣ (k0_mult420 v6025).toNat := fun v6025 k0_hw443 => k0_hw443.1
theorem k0_off821_inb : ∀ (v6025 : BitVec 32) (k0_hw443 : k0_chk443 v6025), ∀ a, (k0_off821 v6025) a + S32.size a ≤ S2048.size a := fun v6025 k0_hw443 => k0_hw443.2.1
theorem k0_off837_inb : ∀ (v6025 : BitVec 32) (k0_hw443 : k0_chk443 v6025), ∀ a, (k0_off837 v6025) a + S32.size a ≤ S2048.size a := fun v6025 k0_hw443 => k0_hw443.2.2

def k0_off838 (v6034 : BitVec 32) : Fin 1 → Nat :=
  let c999936_i32_2662 : BitVec 32 := 999936#32
  let v6035 : BitVec 32 := Scalar.subi v6034 c999936_i32_2662
  let c32_i32_2663 : BitVec 32 := 32#32
  let v6036 : BitVec 32 := Scalar.muli v6035 c32_i32_2663
  let v6037 : BitVec 32 := v6036
  ![v6037.toNat]

def k0_chk444 (v6034 : BitVec 32) : Prop :=
  (8 ∣ (k0_mult421 v6034).toNat) ∧
  (∀ a, (k0_off822 v6034) a + S32.size a ≤ S2048.size a) ∧
  (∀ a, (k0_off838 v6034) a + S32.size a ≤ S2048.size a)
theorem k0_mult421_dvd : ∀ (v6034 : BitVec 32) (k0_hw444 : k0_chk444 v6034), 8 ∣ (k0_mult421 v6034).toNat := fun v6034 k0_hw444 => k0_hw444.1
theorem k0_off822_inb : ∀ (v6034 : BitVec 32) (k0_hw444 : k0_chk444 v6034), ∀ a, (k0_off822 v6034) a + S32.size a ≤ S2048.size a := fun v6034 k0_hw444 => k0_hw444.2.1
theorem k0_off838_inb : ∀ (v6034 : BitVec 32) (k0_hw444 : k0_chk444 v6034), ∀ a, (k0_off838 v6034) a + S32.size a ≤ S2048.size a := fun v6034 k0_hw444 => k0_hw444.2.2

def k0_off839 (v6043 : BitVec 32) : Fin 1 → Nat :=
  let c999936_i32_2665 : BitVec 32 := 999936#32
  let v6044 : BitVec 32 := Scalar.subi v6043 c999936_i32_2665
  let c32_i32_2666 : BitVec 32 := 32#32
  let v6045 : BitVec 32 := Scalar.muli v6044 c32_i32_2666
  let v6046 : BitVec 32 := v6045
  ![v6046.toNat]

def k0_chk445 (v6043 : BitVec 32) : Prop :=
  (8 ∣ (k0_mult422 v6043).toNat) ∧
  (∀ a, (k0_off823 v6043) a + S32.size a ≤ S2048.size a) ∧
  (∀ a, (k0_off839 v6043) a + S32.size a ≤ S2048.size a)
theorem k0_mult422_dvd : ∀ (v6043 : BitVec 32) (k0_hw445 : k0_chk445 v6043), 8 ∣ (k0_mult422 v6043).toNat := fun v6043 k0_hw445 => k0_hw445.1
theorem k0_off823_inb : ∀ (v6043 : BitVec 32) (k0_hw445 : k0_chk445 v6043), ∀ a, (k0_off823 v6043) a + S32.size a ≤ S2048.size a := fun v6043 k0_hw445 => k0_hw445.2.1
theorem k0_off839_inb : ∀ (v6043 : BitVec 32) (k0_hw445 : k0_chk445 v6043), ∀ a, (k0_off839 v6043) a + S32.size a ≤ S2048.size a := fun v6043 k0_hw445 => k0_hw445.2.2

def k0_off840 (v6052 : BitVec 32) : Fin 1 → Nat :=
  let c999936_i32_2668 : BitVec 32 := 999936#32
  let v6053 : BitVec 32 := Scalar.subi v6052 c999936_i32_2668
  let c32_i32_2669 : BitVec 32 := 32#32
  let v6054 : BitVec 32 := Scalar.muli v6053 c32_i32_2669
  let v6055 : BitVec 32 := v6054
  ![v6055.toNat]

def k0_chk446 (v6052 : BitVec 32) : Prop :=
  (8 ∣ (k0_mult423 v6052).toNat) ∧
  (∀ a, (k0_off824 v6052) a + S32.size a ≤ S2048.size a) ∧
  (∀ a, (k0_off840 v6052) a + S32.size a ≤ S2048.size a)
theorem k0_mult423_dvd : ∀ (v6052 : BitVec 32) (k0_hw446 : k0_chk446 v6052), 8 ∣ (k0_mult423 v6052).toNat := fun v6052 k0_hw446 => k0_hw446.1
theorem k0_off824_inb : ∀ (v6052 : BitVec 32) (k0_hw446 : k0_chk446 v6052), ∀ a, (k0_off824 v6052) a + S32.size a ≤ S2048.size a := fun v6052 k0_hw446 => k0_hw446.2.1
theorem k0_off840_inb : ∀ (v6052 : BitVec 32) (k0_hw446 : k0_chk446 v6052), ∀ a, (k0_off840 v6052) a + S32.size a ≤ S2048.size a := fun v6052 k0_hw446 => k0_hw446.2.2

def k0_off841 (v6061 : BitVec 32) : Fin 1 → Nat :=
  let c999936_i32_2671 : BitVec 32 := 999936#32
  let v6062 : BitVec 32 := Scalar.subi v6061 c999936_i32_2671
  let c32_i32_2672 : BitVec 32 := 32#32
  let v6063 : BitVec 32 := Scalar.muli v6062 c32_i32_2672
  let v6064 : BitVec 32 := v6063
  ![v6064.toNat]

def k0_chk447 (v6061 : BitVec 32) : Prop :=
  (8 ∣ (k0_mult424 v6061).toNat) ∧
  (∀ a, (k0_off825 v6061) a + S32.size a ≤ S2048.size a) ∧
  (∀ a, (k0_off841 v6061) a + S32.size a ≤ S2048.size a)
theorem k0_mult424_dvd : ∀ (v6061 : BitVec 32) (k0_hw447 : k0_chk447 v6061), 8 ∣ (k0_mult424 v6061).toNat := fun v6061 k0_hw447 => k0_hw447.1
theorem k0_off825_inb : ∀ (v6061 : BitVec 32) (k0_hw447 : k0_chk447 v6061), ∀ a, (k0_off825 v6061) a + S32.size a ≤ S2048.size a := fun v6061 k0_hw447 => k0_hw447.2.1
theorem k0_off841_inb : ∀ (v6061 : BitVec 32) (k0_hw447 : k0_chk447 v6061), ∀ a, (k0_off841 v6061) a + S32.size a ≤ S2048.size a := fun v6061 k0_hw447 => k0_hw447.2.2

def k0_off842 (v6070 : BitVec 32) : Fin 1 → Nat :=
  let c999936_i32_2674 : BitVec 32 := 999936#32
  let v6071 : BitVec 32 := Scalar.subi v6070 c999936_i32_2674
  let c32_i32_2675 : BitVec 32 := 32#32
  let v6072 : BitVec 32 := Scalar.muli v6071 c32_i32_2675
  let v6073 : BitVec 32 := v6072
  ![v6073.toNat]

def k0_chk448 (v6070 : BitVec 32) : Prop :=
  (8 ∣ (k0_mult425 v6070).toNat) ∧
  (∀ a, (k0_off826 v6070) a + S32.size a ≤ S2048.size a) ∧
  (∀ a, (k0_off842 v6070) a + S32.size a ≤ S2048.size a)
theorem k0_mult425_dvd : ∀ (v6070 : BitVec 32) (k0_hw448 : k0_chk448 v6070), 8 ∣ (k0_mult425 v6070).toNat := fun v6070 k0_hw448 => k0_hw448.1
theorem k0_off826_inb : ∀ (v6070 : BitVec 32) (k0_hw448 : k0_chk448 v6070), ∀ a, (k0_off826 v6070) a + S32.size a ≤ S2048.size a := fun v6070 k0_hw448 => k0_hw448.2.1
theorem k0_off842_inb : ∀ (v6070 : BitVec 32) (k0_hw448 : k0_chk448 v6070), ∀ a, (k0_off842 v6070) a + S32.size a ≤ S2048.size a := fun v6070 k0_hw448 => k0_hw448.2.2

def k0_off843 (v6079 : BitVec 32) : Fin 1 → Nat :=
  let c999936_i32_2677 : BitVec 32 := 999936#32
  let v6080 : BitVec 32 := Scalar.subi v6079 c999936_i32_2677
  let c32_i32_2678 : BitVec 32 := 32#32
  let v6081 : BitVec 32 := Scalar.muli v6080 c32_i32_2678
  let v6082 : BitVec 32 := v6081
  ![v6082.toNat]

def k0_chk449 (v6079 : BitVec 32) : Prop :=
  (8 ∣ (k0_mult426 v6079).toNat) ∧
  (∀ a, (k0_off827 v6079) a + S32.size a ≤ S2048.size a) ∧
  (∀ a, (k0_off843 v6079) a + S32.size a ≤ S2048.size a)
theorem k0_mult426_dvd : ∀ (v6079 : BitVec 32) (k0_hw449 : k0_chk449 v6079), 8 ∣ (k0_mult426 v6079).toNat := fun v6079 k0_hw449 => k0_hw449.1
theorem k0_off827_inb : ∀ (v6079 : BitVec 32) (k0_hw449 : k0_chk449 v6079), ∀ a, (k0_off827 v6079) a + S32.size a ≤ S2048.size a := fun v6079 k0_hw449 => k0_hw449.2.1
theorem k0_off843_inb : ∀ (v6079 : BitVec 32) (k0_hw449 : k0_chk449 v6079), ∀ a, (k0_off843 v6079) a + S32.size a ≤ S2048.size a := fun v6079 k0_hw449 => k0_hw449.2.2

def k0_off844 (v6088 : BitVec 32) : Fin 1 → Nat :=
  let c999936_i32_2680 : BitVec 32 := 999936#32
  let v6089 : BitVec 32 := Scalar.subi v6088 c999936_i32_2680
  let c32_i32_2681 : BitVec 32 := 32#32
  let v6090 : BitVec 32 := Scalar.muli v6089 c32_i32_2681
  let v6091 : BitVec 32 := v6090
  ![v6091.toNat]

def k0_chk450 (v6088 : BitVec 32) : Prop :=
  (8 ∣ (k0_mult427 v6088).toNat) ∧
  (∀ a, (k0_off828 v6088) a + S32.size a ≤ S2048.size a) ∧
  (∀ a, (k0_off844 v6088) a + S32.size a ≤ S2048.size a)
theorem k0_mult427_dvd : ∀ (v6088 : BitVec 32) (k0_hw450 : k0_chk450 v6088), 8 ∣ (k0_mult427 v6088).toNat := fun v6088 k0_hw450 => k0_hw450.1
theorem k0_off828_inb : ∀ (v6088 : BitVec 32) (k0_hw450 : k0_chk450 v6088), ∀ a, (k0_off828 v6088) a + S32.size a ≤ S2048.size a := fun v6088 k0_hw450 => k0_hw450.2.1
theorem k0_off844_inb : ∀ (v6088 : BitVec 32) (k0_hw450 : k0_chk450 v6088), ∀ a, (k0_off844 v6088) a + S32.size a ≤ S2048.size a := fun v6088 k0_hw450 => k0_hw450.2.2

def k0_off845 (v6097 : BitVec 32) : Fin 1 → Nat :=
  let c999936_i32_2683 : BitVec 32 := 999936#32
  let v6098 : BitVec 32 := Scalar.subi v6097 c999936_i32_2683
  let c32_i32_2684 : BitVec 32 := 32#32
  let v6099 : BitVec 32 := Scalar.muli v6098 c32_i32_2684
  let v6100 : BitVec 32 := v6099
  ![v6100.toNat]

def k0_chk451 (v6097 : BitVec 32) : Prop :=
  (8 ∣ (k0_mult428 v6097).toNat) ∧
  (∀ a, (k0_off829 v6097) a + S32.size a ≤ S2048.size a) ∧
  (∀ a, (k0_off845 v6097) a + S32.size a ≤ S2048.size a)
theorem k0_mult428_dvd : ∀ (v6097 : BitVec 32) (k0_hw451 : k0_chk451 v6097), 8 ∣ (k0_mult428 v6097).toNat := fun v6097 k0_hw451 => k0_hw451.1
theorem k0_off829_inb : ∀ (v6097 : BitVec 32) (k0_hw451 : k0_chk451 v6097), ∀ a, (k0_off829 v6097) a + S32.size a ≤ S2048.size a := fun v6097 k0_hw451 => k0_hw451.2.1
theorem k0_off845_inb : ∀ (v6097 : BitVec 32) (k0_hw451 : k0_chk451 v6097), ∀ a, (k0_off845 v6097) a + S32.size a ≤ S2048.size a := fun v6097 k0_hw451 => k0_hw451.2.2

def k0_off846 (v6106 : BitVec 32) : Fin 1 → Nat :=
  let c999936_i32_2686 : BitVec 32 := 999936#32
  let v6107 : BitVec 32 := Scalar.subi v6106 c999936_i32_2686
  let c32_i32_2687 : BitVec 32 := 32#32
  let v6108 : BitVec 32 := Scalar.muli v6107 c32_i32_2687
  let v6109 : BitVec 32 := v6108
  ![v6109.toNat]

def k0_chk452 (v6106 : BitVec 32) : Prop :=
  (8 ∣ (k0_mult429 v6106).toNat) ∧
  (∀ a, (k0_off830 v6106) a + S32.size a ≤ S2048.size a) ∧
  (∀ a, (k0_off846 v6106) a + S32.size a ≤ S2048.size a)
theorem k0_mult429_dvd : ∀ (v6106 : BitVec 32) (k0_hw452 : k0_chk452 v6106), 8 ∣ (k0_mult429 v6106).toNat := fun v6106 k0_hw452 => k0_hw452.1
theorem k0_off830_inb : ∀ (v6106 : BitVec 32) (k0_hw452 : k0_chk452 v6106), ∀ a, (k0_off830 v6106) a + S32.size a ≤ S2048.size a := fun v6106 k0_hw452 => k0_hw452.2.1
theorem k0_off846_inb : ∀ (v6106 : BitVec 32) (k0_hw452 : k0_chk452 v6106), ∀ a, (k0_off846 v6106) a + S32.size a ≤ S2048.size a := fun v6106 k0_hw452 => k0_hw452.2.2

def k0_off847 (v6115 : BitVec 32) : Fin 1 → Nat :=
  let c999936_i32_2689 : BitVec 32 := 999936#32
  let v6116 : BitVec 32 := Scalar.subi v6115 c999936_i32_2689
  let c32_i32_2690 : BitVec 32 := 32#32
  let v6117 : BitVec 32 := Scalar.muli v6116 c32_i32_2690
  let v6118 : BitVec 32 := v6117
  ![v6118.toNat]

def k0_chk453 (v6115 : BitVec 32) : Prop :=
  (8 ∣ (k0_mult430 v6115).toNat) ∧
  (∀ a, (k0_off831 v6115) a + S32.size a ≤ S2048.size a) ∧
  (∀ a, (k0_off847 v6115) a + S32.size a ≤ S2048.size a)
theorem k0_mult430_dvd : ∀ (v6115 : BitVec 32) (k0_hw453 : k0_chk453 v6115), 8 ∣ (k0_mult430 v6115).toNat := fun v6115 k0_hw453 => k0_hw453.1
theorem k0_off831_inb : ∀ (v6115 : BitVec 32) (k0_hw453 : k0_chk453 v6115), ∀ a, (k0_off831 v6115) a + S32.size a ≤ S2048.size a := fun v6115 k0_hw453 => k0_hw453.2.1
theorem k0_off847_inb : ∀ (v6115 : BitVec 32) (k0_hw453 : k0_chk453 v6115), ∀ a, (k0_off847 v6115) a + S32.size a ≤ S2048.size a := fun v6115 k0_hw453 => k0_hw453.2.2

def k0_off848 (v6124 : BitVec 32) : Fin 1 → Nat :=
  let c999936_i32_2692 : BitVec 32 := 999936#32
  let v6125 : BitVec 32 := Scalar.subi v6124 c999936_i32_2692
  let c32_i32_2693 : BitVec 32 := 32#32
  let v6126 : BitVec 32 := Scalar.muli v6125 c32_i32_2693
  let v6127 : BitVec 32 := v6126
  ![v6127.toNat]

def k0_chk454 (v6124 : BitVec 32) : Prop :=
  (8 ∣ (k0_mult431 v6124).toNat) ∧
  (∀ a, (k0_off832 v6124) a + S32.size a ≤ S2048.size a) ∧
  (∀ a, (k0_off848 v6124) a + S32.size a ≤ S2048.size a)
theorem k0_mult431_dvd : ∀ (v6124 : BitVec 32) (k0_hw454 : k0_chk454 v6124), 8 ∣ (k0_mult431 v6124).toNat := fun v6124 k0_hw454 => k0_hw454.1
theorem k0_off832_inb : ∀ (v6124 : BitVec 32) (k0_hw454 : k0_chk454 v6124), ∀ a, (k0_off832 v6124) a + S32.size a ≤ S2048.size a := fun v6124 k0_hw454 => k0_hw454.2.1
theorem k0_off848_inb : ∀ (v6124 : BitVec 32) (k0_hw454 : k0_chk454 v6124), ∀ a, (k0_off848 v6124) a + S32.size a ≤ S2048.size a := fun v6124 k0_hw454 => k0_hw454.2.2

def k0_off849 (v6133 : BitVec 32) : Fin 1 → Nat :=
  let c999936_i32_2695 : BitVec 32 := 999936#32
  let v6134 : BitVec 32 := Scalar.subi v6133 c999936_i32_2695
  let c32_i32_2696 : BitVec 32 := 32#32
  let v6135 : BitVec 32 := Scalar.muli v6134 c32_i32_2696
  let v6136 : BitVec 32 := v6135
  ![v6136.toNat]

def k0_chk455 (v6133 : BitVec 32) : Prop :=
  (8 ∣ (k0_mult432 v6133).toNat) ∧
  (∀ a, (k0_off833 v6133) a + S32.size a ≤ S2048.size a) ∧
  (∀ a, (k0_off849 v6133) a + S32.size a ≤ S2048.size a)
theorem k0_mult432_dvd : ∀ (v6133 : BitVec 32) (k0_hw455 : k0_chk455 v6133), 8 ∣ (k0_mult432 v6133).toNat := fun v6133 k0_hw455 => k0_hw455.1
theorem k0_off833_inb : ∀ (v6133 : BitVec 32) (k0_hw455 : k0_chk455 v6133), ∀ a, (k0_off833 v6133) a + S32.size a ≤ S2048.size a := fun v6133 k0_hw455 => k0_hw455.2.1
theorem k0_off849_inb : ∀ (v6133 : BitVec 32) (k0_hw455 : k0_chk455 v6133), ∀ a, (k0_off849 v6133) a + S32.size a ≤ S2048.size a := fun v6133 k0_hw455 => k0_hw455.2.2

def k0_mult434 (v6215 : BitVec 32) : BitVec 32 :=
  let c0_i32_2734 : BitVec 32 := 0#32
  let c32_i32_2733 : BitVec 32 := 32#32
  let v6216 : BitVec 32 := Scalar.muli v6215 c32_i32_2733
  let v6217 : BitVec 32 := Scalar.addi c0_i32_2734 v6216
  v6217

def k0_off850 (v6215 : BitVec 32) : Fin 1 → Nat :=
  let c0_i32_2734 : BitVec 32 := 0#32
  let c32_i32_2733 : BitVec 32 := 32#32
  let v6216 : BitVec 32 := Scalar.muli v6215 c32_i32_2733
  let v6217 : BitVec 32 := Scalar.addi c0_i32_2734 v6216
  let v6218 : BitVec 32 := v6217
  ![v6218.toNat]
def k0_mult435 (v6224 : BitVec 32) : BitVec 32 :=
  let c0_i32_2738 : BitVec 32 := 0#32
  let c32_i32_2737 : BitVec 32 := 32#32
  let v6225 : BitVec 32 := Scalar.muli v6224 c32_i32_2737
  let v6226 : BitVec 32 := Scalar.addi c0_i32_2738 v6225
  v6226

def k0_off851 (v6224 : BitVec 32) : Fin 1 → Nat :=
  let c0_i32_2738 : BitVec 32 := 0#32
  let c32_i32_2737 : BitVec 32 := 32#32
  let v6225 : BitVec 32 := Scalar.muli v6224 c32_i32_2737
  let v6226 : BitVec 32 := Scalar.addi c0_i32_2738 v6225
  let v6227 : BitVec 32 := v6226
  ![v6227.toNat]
def k0_mult436 (v6233 : BitVec 32) : BitVec 32 :=
  let c0_i32_2742 : BitVec 32 := 0#32
  let c32_i32_2741 : BitVec 32 := 32#32
  let v6234 : BitVec 32 := Scalar.muli v6233 c32_i32_2741
  let v6235 : BitVec 32 := Scalar.addi c0_i32_2742 v6234
  v6235

def k0_off852 (v6233 : BitVec 32) : Fin 1 → Nat :=
  let c0_i32_2742 : BitVec 32 := 0#32
  let c32_i32_2741 : BitVec 32 := 32#32
  let v6234 : BitVec 32 := Scalar.muli v6233 c32_i32_2741
  let v6235 : BitVec 32 := Scalar.addi c0_i32_2742 v6234
  let v6236 : BitVec 32 := v6235
  ![v6236.toNat]
def k0_mult437 (v6242 : BitVec 32) : BitVec 32 :=
  let c0_i32_2746 : BitVec 32 := 0#32
  let c32_i32_2745 : BitVec 32 := 32#32
  let v6243 : BitVec 32 := Scalar.muli v6242 c32_i32_2745
  let v6244 : BitVec 32 := Scalar.addi c0_i32_2746 v6243
  v6244

def k0_off853 (v6242 : BitVec 32) : Fin 1 → Nat :=
  let c0_i32_2746 : BitVec 32 := 0#32
  let c32_i32_2745 : BitVec 32 := 32#32
  let v6243 : BitVec 32 := Scalar.muli v6242 c32_i32_2745
  let v6244 : BitVec 32 := Scalar.addi c0_i32_2746 v6243
  let v6245 : BitVec 32 := v6244
  ![v6245.toNat]
def k0_mult438 (v6251 : BitVec 32) : BitVec 32 :=
  let c0_i32_2750 : BitVec 32 := 0#32
  let c32_i32_2749 : BitVec 32 := 32#32
  let v6252 : BitVec 32 := Scalar.muli v6251 c32_i32_2749
  let v6253 : BitVec 32 := Scalar.addi c0_i32_2750 v6252
  v6253

def k0_off854 (v6251 : BitVec 32) : Fin 1 → Nat :=
  let c0_i32_2750 : BitVec 32 := 0#32
  let c32_i32_2749 : BitVec 32 := 32#32
  let v6252 : BitVec 32 := Scalar.muli v6251 c32_i32_2749
  let v6253 : BitVec 32 := Scalar.addi c0_i32_2750 v6252
  let v6254 : BitVec 32 := v6253
  ![v6254.toNat]
def k0_mult439 (v6260 : BitVec 32) : BitVec 32 :=
  let c0_i32_2754 : BitVec 32 := 0#32
  let c32_i32_2753 : BitVec 32 := 32#32
  let v6261 : BitVec 32 := Scalar.muli v6260 c32_i32_2753
  let v6262 : BitVec 32 := Scalar.addi c0_i32_2754 v6261
  v6262

def k0_off855 (v6260 : BitVec 32) : Fin 1 → Nat :=
  let c0_i32_2754 : BitVec 32 := 0#32
  let c32_i32_2753 : BitVec 32 := 32#32
  let v6261 : BitVec 32 := Scalar.muli v6260 c32_i32_2753
  let v6262 : BitVec 32 := Scalar.addi c0_i32_2754 v6261
  let v6263 : BitVec 32 := v6262
  ![v6263.toNat]
def k0_mult440 (v6269 : BitVec 32) : BitVec 32 :=
  let c0_i32_2758 : BitVec 32 := 0#32
  let c32_i32_2757 : BitVec 32 := 32#32
  let v6270 : BitVec 32 := Scalar.muli v6269 c32_i32_2757
  let v6271 : BitVec 32 := Scalar.addi c0_i32_2758 v6270
  v6271

def k0_off856 (v6269 : BitVec 32) : Fin 1 → Nat :=
  let c0_i32_2758 : BitVec 32 := 0#32
  let c32_i32_2757 : BitVec 32 := 32#32
  let v6270 : BitVec 32 := Scalar.muli v6269 c32_i32_2757
  let v6271 : BitVec 32 := Scalar.addi c0_i32_2758 v6270
  let v6272 : BitVec 32 := v6271
  ![v6272.toNat]
def k0_mult441 (v6278 : BitVec 32) : BitVec 32 :=
  let c0_i32_2762 : BitVec 32 := 0#32
  let c32_i32_2761 : BitVec 32 := 32#32
  let v6279 : BitVec 32 := Scalar.muli v6278 c32_i32_2761
  let v6280 : BitVec 32 := Scalar.addi c0_i32_2762 v6279
  v6280

def k0_off857 (v6278 : BitVec 32) : Fin 1 → Nat :=
  let c0_i32_2762 : BitVec 32 := 0#32
  let c32_i32_2761 : BitVec 32 := 32#32
  let v6279 : BitVec 32 := Scalar.muli v6278 c32_i32_2761
  let v6280 : BitVec 32 := Scalar.addi c0_i32_2762 v6279
  let v6281 : BitVec 32 := v6280
  ![v6281.toNat]
def k0_mult442 (v6287 : BitVec 32) : BitVec 32 :=
  let c0_i32_2766 : BitVec 32 := 0#32
  let c32_i32_2765 : BitVec 32 := 32#32
  let v6288 : BitVec 32 := Scalar.muli v6287 c32_i32_2765
  let v6289 : BitVec 32 := Scalar.addi c0_i32_2766 v6288
  v6289

def k0_off858 (v6287 : BitVec 32) : Fin 1 → Nat :=
  let c0_i32_2766 : BitVec 32 := 0#32
  let c32_i32_2765 : BitVec 32 := 32#32
  let v6288 : BitVec 32 := Scalar.muli v6287 c32_i32_2765
  let v6289 : BitVec 32 := Scalar.addi c0_i32_2766 v6288
  let v6290 : BitVec 32 := v6289
  ![v6290.toNat]
def k0_mult443 (v6296 : BitVec 32) : BitVec 32 :=
  let c0_i32_2770 : BitVec 32 := 0#32
  let c32_i32_2769 : BitVec 32 := 32#32
  let v6297 : BitVec 32 := Scalar.muli v6296 c32_i32_2769
  let v6298 : BitVec 32 := Scalar.addi c0_i32_2770 v6297
  v6298

def k0_off859 (v6296 : BitVec 32) : Fin 1 → Nat :=
  let c0_i32_2770 : BitVec 32 := 0#32
  let c32_i32_2769 : BitVec 32 := 32#32
  let v6297 : BitVec 32 := Scalar.muli v6296 c32_i32_2769
  let v6298 : BitVec 32 := Scalar.addi c0_i32_2770 v6297
  let v6299 : BitVec 32 := v6298
  ![v6299.toNat]
def k0_mult444 (v6305 : BitVec 32) : BitVec 32 :=
  let c0_i32_2774 : BitVec 32 := 0#32
  let c32_i32_2773 : BitVec 32 := 32#32
  let v6306 : BitVec 32 := Scalar.muli v6305 c32_i32_2773
  let v6307 : BitVec 32 := Scalar.addi c0_i32_2774 v6306
  v6307

def k0_off860 (v6305 : BitVec 32) : Fin 1 → Nat :=
  let c0_i32_2774 : BitVec 32 := 0#32
  let c32_i32_2773 : BitVec 32 := 32#32
  let v6306 : BitVec 32 := Scalar.muli v6305 c32_i32_2773
  let v6307 : BitVec 32 := Scalar.addi c0_i32_2774 v6306
  let v6308 : BitVec 32 := v6307
  ![v6308.toNat]
def k0_mult445 (v6314 : BitVec 32) : BitVec 32 :=
  let c0_i32_2778 : BitVec 32 := 0#32
  let c32_i32_2777 : BitVec 32 := 32#32
  let v6315 : BitVec 32 := Scalar.muli v6314 c32_i32_2777
  let v6316 : BitVec 32 := Scalar.addi c0_i32_2778 v6315
  v6316

def k0_off861 (v6314 : BitVec 32) : Fin 1 → Nat :=
  let c0_i32_2778 : BitVec 32 := 0#32
  let c32_i32_2777 : BitVec 32 := 32#32
  let v6315 : BitVec 32 := Scalar.muli v6314 c32_i32_2777
  let v6316 : BitVec 32 := Scalar.addi c0_i32_2778 v6315
  let v6317 : BitVec 32 := v6316
  ![v6317.toNat]
def k0_mult446 (v6323 : BitVec 32) : BitVec 32 :=
  let c0_i32_2782 : BitVec 32 := 0#32
  let c32_i32_2781 : BitVec 32 := 32#32
  let v6324 : BitVec 32 := Scalar.muli v6323 c32_i32_2781
  let v6325 : BitVec 32 := Scalar.addi c0_i32_2782 v6324
  v6325

def k0_off862 (v6323 : BitVec 32) : Fin 1 → Nat :=
  let c0_i32_2782 : BitVec 32 := 0#32
  let c32_i32_2781 : BitVec 32 := 32#32
  let v6324 : BitVec 32 := Scalar.muli v6323 c32_i32_2781
  let v6325 : BitVec 32 := Scalar.addi c0_i32_2782 v6324
  let v6326 : BitVec 32 := v6325
  ![v6326.toNat]
def k0_mult447 (v6332 : BitVec 32) : BitVec 32 :=
  let c0_i32_2786 : BitVec 32 := 0#32
  let c32_i32_2785 : BitVec 32 := 32#32
  let v6333 : BitVec 32 := Scalar.muli v6332 c32_i32_2785
  let v6334 : BitVec 32 := Scalar.addi c0_i32_2786 v6333
  v6334

def k0_off863 (v6332 : BitVec 32) : Fin 1 → Nat :=
  let c0_i32_2786 : BitVec 32 := 0#32
  let c32_i32_2785 : BitVec 32 := 32#32
  let v6333 : BitVec 32 := Scalar.muli v6332 c32_i32_2785
  let v6334 : BitVec 32 := Scalar.addi c0_i32_2786 v6333
  let v6335 : BitVec 32 := v6334
  ![v6335.toNat]
def k0_mult448 (v6341 : BitVec 32) : BitVec 32 :=
  let c0_i32_2790 : BitVec 32 := 0#32
  let c32_i32_2789 : BitVec 32 := 32#32
  let v6342 : BitVec 32 := Scalar.muli v6341 c32_i32_2789
  let v6343 : BitVec 32 := Scalar.addi c0_i32_2790 v6342
  v6343

def k0_off864 (v6341 : BitVec 32) : Fin 1 → Nat :=
  let c0_i32_2790 : BitVec 32 := 0#32
  let c32_i32_2789 : BitVec 32 := 32#32
  let v6342 : BitVec 32 := Scalar.muli v6341 c32_i32_2789
  let v6343 : BitVec 32 := Scalar.addi c0_i32_2790 v6342
  let v6344 : BitVec 32 := v6343
  ![v6344.toNat]
def k0_mult449 (v6350 : BitVec 32) : BitVec 32 :=
  let c0_i32_2794 : BitVec 32 := 0#32
  let c32_i32_2793 : BitVec 32 := 32#32
  let v6351 : BitVec 32 := Scalar.muli v6350 c32_i32_2793
  let v6352 : BitVec 32 := Scalar.addi c0_i32_2794 v6351
  v6352

def k0_off865 (v6350 : BitVec 32) : Fin 1 → Nat :=
  let c0_i32_2794 : BitVec 32 := 0#32
  let c32_i32_2793 : BitVec 32 := 32#32
  let v6351 : BitVec 32 := Scalar.muli v6350 c32_i32_2793
  let v6352 : BitVec 32 := Scalar.addi c0_i32_2794 v6351
  let v6353 : BitVec 32 := v6352
  ![v6353.toNat]

def k0_chk472 (v6350 : BitVec 32) : Prop :=
  (8 ∣ (k0_mult449 v6350).toNat) ∧
  (∀ a, (k0_off865 v6350) a + S32.size a ≤ S3407872.size a)
theorem k0_mult449_dvd : ∀ (v6350 : BitVec 32) (k0_hw472 : k0_chk472 v6350), 8 ∣ (k0_mult449 v6350).toNat := fun v6350 k0_hw472 => k0_hw472.1
theorem k0_off865_inb : ∀ (v6350 : BitVec 32) (k0_hw472 : k0_chk472 v6350), ∀ a, (k0_off865 v6350) a + S32.size a ≤ S3407872.size a := fun v6350 k0_hw472 => k0_hw472.2

def k0_off866 (v6215 : BitVec 32) : Fin 1 → Nat :=
  let c0_i32_2734 : BitVec 32 := 0#32
  let c32_i32_2733 : BitVec 32 := 32#32
  let v6216 : BitVec 32 := Scalar.muli v6215 c32_i32_2733
  let v6217 : BitVec 32 := Scalar.addi c0_i32_2734 v6216
  let v6218 : BitVec 32 := v6217
  ![v6218.toNat]

def k0_chk457 (v6215 : BitVec 32) : Prop :=
  (8 ∣ (k0_mult434 v6215).toNat) ∧
  (∀ a, (k0_off850 v6215) a + S32.size a ≤ S3407872.size a) ∧
  (∀ a, (k0_off866 v6215) a + S32.size a ≤ S3407872.size a)
theorem k0_mult434_dvd : ∀ (v6215 : BitVec 32) (k0_hw457 : k0_chk457 v6215), 8 ∣ (k0_mult434 v6215).toNat := fun v6215 k0_hw457 => k0_hw457.1
theorem k0_off850_inb : ∀ (v6215 : BitVec 32) (k0_hw457 : k0_chk457 v6215), ∀ a, (k0_off850 v6215) a + S32.size a ≤ S3407872.size a := fun v6215 k0_hw457 => k0_hw457.2.1
theorem k0_off866_inb : ∀ (v6215 : BitVec 32) (k0_hw457 : k0_chk457 v6215), ∀ a, (k0_off866 v6215) a + S32.size a ≤ S3407872.size a := fun v6215 k0_hw457 => k0_hw457.2.2

def k0_off867 (v6224 : BitVec 32) : Fin 1 → Nat :=
  let c0_i32_2738 : BitVec 32 := 0#32
  let c32_i32_2737 : BitVec 32 := 32#32
  let v6225 : BitVec 32 := Scalar.muli v6224 c32_i32_2737
  let v6226 : BitVec 32 := Scalar.addi c0_i32_2738 v6225
  let v6227 : BitVec 32 := v6226
  ![v6227.toNat]

def k0_chk458 (v6224 : BitVec 32) : Prop :=
  (8 ∣ (k0_mult435 v6224).toNat) ∧
  (∀ a, (k0_off851 v6224) a + S32.size a ≤ S3407872.size a) ∧
  (∀ a, (k0_off867 v6224) a + S32.size a ≤ S3407872.size a)
theorem k0_mult435_dvd : ∀ (v6224 : BitVec 32) (k0_hw458 : k0_chk458 v6224), 8 ∣ (k0_mult435 v6224).toNat := fun v6224 k0_hw458 => k0_hw458.1
theorem k0_off851_inb : ∀ (v6224 : BitVec 32) (k0_hw458 : k0_chk458 v6224), ∀ a, (k0_off851 v6224) a + S32.size a ≤ S3407872.size a := fun v6224 k0_hw458 => k0_hw458.2.1
theorem k0_off867_inb : ∀ (v6224 : BitVec 32) (k0_hw458 : k0_chk458 v6224), ∀ a, (k0_off867 v6224) a + S32.size a ≤ S3407872.size a := fun v6224 k0_hw458 => k0_hw458.2.2

def k0_off868 (v6233 : BitVec 32) : Fin 1 → Nat :=
  let c0_i32_2742 : BitVec 32 := 0#32
  let c32_i32_2741 : BitVec 32 := 32#32
  let v6234 : BitVec 32 := Scalar.muli v6233 c32_i32_2741
  let v6235 : BitVec 32 := Scalar.addi c0_i32_2742 v6234
  let v6236 : BitVec 32 := v6235
  ![v6236.toNat]

def k0_chk459 (v6233 : BitVec 32) : Prop :=
  (8 ∣ (k0_mult436 v6233).toNat) ∧
  (∀ a, (k0_off852 v6233) a + S32.size a ≤ S3407872.size a) ∧
  (∀ a, (k0_off868 v6233) a + S32.size a ≤ S3407872.size a)
theorem k0_mult436_dvd : ∀ (v6233 : BitVec 32) (k0_hw459 : k0_chk459 v6233), 8 ∣ (k0_mult436 v6233).toNat := fun v6233 k0_hw459 => k0_hw459.1
theorem k0_off852_inb : ∀ (v6233 : BitVec 32) (k0_hw459 : k0_chk459 v6233), ∀ a, (k0_off852 v6233) a + S32.size a ≤ S3407872.size a := fun v6233 k0_hw459 => k0_hw459.2.1
theorem k0_off868_inb : ∀ (v6233 : BitVec 32) (k0_hw459 : k0_chk459 v6233), ∀ a, (k0_off868 v6233) a + S32.size a ≤ S3407872.size a := fun v6233 k0_hw459 => k0_hw459.2.2

def k0_off869 (v6242 : BitVec 32) : Fin 1 → Nat :=
  let c0_i32_2746 : BitVec 32 := 0#32
  let c32_i32_2745 : BitVec 32 := 32#32
  let v6243 : BitVec 32 := Scalar.muli v6242 c32_i32_2745
  let v6244 : BitVec 32 := Scalar.addi c0_i32_2746 v6243
  let v6245 : BitVec 32 := v6244
  ![v6245.toNat]

def k0_chk460 (v6242 : BitVec 32) : Prop :=
  (8 ∣ (k0_mult437 v6242).toNat) ∧
  (∀ a, (k0_off853 v6242) a + S32.size a ≤ S3407872.size a) ∧
  (∀ a, (k0_off869 v6242) a + S32.size a ≤ S3407872.size a)
theorem k0_mult437_dvd : ∀ (v6242 : BitVec 32) (k0_hw460 : k0_chk460 v6242), 8 ∣ (k0_mult437 v6242).toNat := fun v6242 k0_hw460 => k0_hw460.1
theorem k0_off853_inb : ∀ (v6242 : BitVec 32) (k0_hw460 : k0_chk460 v6242), ∀ a, (k0_off853 v6242) a + S32.size a ≤ S3407872.size a := fun v6242 k0_hw460 => k0_hw460.2.1
theorem k0_off869_inb : ∀ (v6242 : BitVec 32) (k0_hw460 : k0_chk460 v6242), ∀ a, (k0_off869 v6242) a + S32.size a ≤ S3407872.size a := fun v6242 k0_hw460 => k0_hw460.2.2

def k0_off870 (v6251 : BitVec 32) : Fin 1 → Nat :=
  let c0_i32_2750 : BitVec 32 := 0#32
  let c32_i32_2749 : BitVec 32 := 32#32
  let v6252 : BitVec 32 := Scalar.muli v6251 c32_i32_2749
  let v6253 : BitVec 32 := Scalar.addi c0_i32_2750 v6252
  let v6254 : BitVec 32 := v6253
  ![v6254.toNat]

def k0_chk461 (v6251 : BitVec 32) : Prop :=
  (8 ∣ (k0_mult438 v6251).toNat) ∧
  (∀ a, (k0_off854 v6251) a + S32.size a ≤ S3407872.size a) ∧
  (∀ a, (k0_off870 v6251) a + S32.size a ≤ S3407872.size a)
theorem k0_mult438_dvd : ∀ (v6251 : BitVec 32) (k0_hw461 : k0_chk461 v6251), 8 ∣ (k0_mult438 v6251).toNat := fun v6251 k0_hw461 => k0_hw461.1
theorem k0_off854_inb : ∀ (v6251 : BitVec 32) (k0_hw461 : k0_chk461 v6251), ∀ a, (k0_off854 v6251) a + S32.size a ≤ S3407872.size a := fun v6251 k0_hw461 => k0_hw461.2.1
theorem k0_off870_inb : ∀ (v6251 : BitVec 32) (k0_hw461 : k0_chk461 v6251), ∀ a, (k0_off870 v6251) a + S32.size a ≤ S3407872.size a := fun v6251 k0_hw461 => k0_hw461.2.2

def k0_off871 (v6260 : BitVec 32) : Fin 1 → Nat :=
  let c0_i32_2754 : BitVec 32 := 0#32
  let c32_i32_2753 : BitVec 32 := 32#32
  let v6261 : BitVec 32 := Scalar.muli v6260 c32_i32_2753
  let v6262 : BitVec 32 := Scalar.addi c0_i32_2754 v6261
  let v6263 : BitVec 32 := v6262
  ![v6263.toNat]

def k0_chk462 (v6260 : BitVec 32) : Prop :=
  (8 ∣ (k0_mult439 v6260).toNat) ∧
  (∀ a, (k0_off855 v6260) a + S32.size a ≤ S3407872.size a) ∧
  (∀ a, (k0_off871 v6260) a + S32.size a ≤ S3407872.size a)
theorem k0_mult439_dvd : ∀ (v6260 : BitVec 32) (k0_hw462 : k0_chk462 v6260), 8 ∣ (k0_mult439 v6260).toNat := fun v6260 k0_hw462 => k0_hw462.1
theorem k0_off855_inb : ∀ (v6260 : BitVec 32) (k0_hw462 : k0_chk462 v6260), ∀ a, (k0_off855 v6260) a + S32.size a ≤ S3407872.size a := fun v6260 k0_hw462 => k0_hw462.2.1
theorem k0_off871_inb : ∀ (v6260 : BitVec 32) (k0_hw462 : k0_chk462 v6260), ∀ a, (k0_off871 v6260) a + S32.size a ≤ S3407872.size a := fun v6260 k0_hw462 => k0_hw462.2.2

def k0_off872 (v6269 : BitVec 32) : Fin 1 → Nat :=
  let c0_i32_2758 : BitVec 32 := 0#32
  let c32_i32_2757 : BitVec 32 := 32#32
  let v6270 : BitVec 32 := Scalar.muli v6269 c32_i32_2757
  let v6271 : BitVec 32 := Scalar.addi c0_i32_2758 v6270
  let v6272 : BitVec 32 := v6271
  ![v6272.toNat]

def k0_chk463 (v6269 : BitVec 32) : Prop :=
  (8 ∣ (k0_mult440 v6269).toNat) ∧
  (∀ a, (k0_off856 v6269) a + S32.size a ≤ S3407872.size a) ∧
  (∀ a, (k0_off872 v6269) a + S32.size a ≤ S3407872.size a)
theorem k0_mult440_dvd : ∀ (v6269 : BitVec 32) (k0_hw463 : k0_chk463 v6269), 8 ∣ (k0_mult440 v6269).toNat := fun v6269 k0_hw463 => k0_hw463.1
theorem k0_off856_inb : ∀ (v6269 : BitVec 32) (k0_hw463 : k0_chk463 v6269), ∀ a, (k0_off856 v6269) a + S32.size a ≤ S3407872.size a := fun v6269 k0_hw463 => k0_hw463.2.1
theorem k0_off872_inb : ∀ (v6269 : BitVec 32) (k0_hw463 : k0_chk463 v6269), ∀ a, (k0_off872 v6269) a + S32.size a ≤ S3407872.size a := fun v6269 k0_hw463 => k0_hw463.2.2

def k0_off873 (v6278 : BitVec 32) : Fin 1 → Nat :=
  let c0_i32_2762 : BitVec 32 := 0#32
  let c32_i32_2761 : BitVec 32 := 32#32
  let v6279 : BitVec 32 := Scalar.muli v6278 c32_i32_2761
  let v6280 : BitVec 32 := Scalar.addi c0_i32_2762 v6279
  let v6281 : BitVec 32 := v6280
  ![v6281.toNat]

def k0_chk464 (v6278 : BitVec 32) : Prop :=
  (8 ∣ (k0_mult441 v6278).toNat) ∧
  (∀ a, (k0_off857 v6278) a + S32.size a ≤ S3407872.size a) ∧
  (∀ a, (k0_off873 v6278) a + S32.size a ≤ S3407872.size a)
theorem k0_mult441_dvd : ∀ (v6278 : BitVec 32) (k0_hw464 : k0_chk464 v6278), 8 ∣ (k0_mult441 v6278).toNat := fun v6278 k0_hw464 => k0_hw464.1
theorem k0_off857_inb : ∀ (v6278 : BitVec 32) (k0_hw464 : k0_chk464 v6278), ∀ a, (k0_off857 v6278) a + S32.size a ≤ S3407872.size a := fun v6278 k0_hw464 => k0_hw464.2.1
theorem k0_off873_inb : ∀ (v6278 : BitVec 32) (k0_hw464 : k0_chk464 v6278), ∀ a, (k0_off873 v6278) a + S32.size a ≤ S3407872.size a := fun v6278 k0_hw464 => k0_hw464.2.2

def k0_off874 (v6287 : BitVec 32) : Fin 1 → Nat :=
  let c0_i32_2766 : BitVec 32 := 0#32
  let c32_i32_2765 : BitVec 32 := 32#32
  let v6288 : BitVec 32 := Scalar.muli v6287 c32_i32_2765
  let v6289 : BitVec 32 := Scalar.addi c0_i32_2766 v6288
  let v6290 : BitVec 32 := v6289
  ![v6290.toNat]

def k0_chk465 (v6287 : BitVec 32) : Prop :=
  (8 ∣ (k0_mult442 v6287).toNat) ∧
  (∀ a, (k0_off858 v6287) a + S32.size a ≤ S3407872.size a) ∧
  (∀ a, (k0_off874 v6287) a + S32.size a ≤ S3407872.size a)
theorem k0_mult442_dvd : ∀ (v6287 : BitVec 32) (k0_hw465 : k0_chk465 v6287), 8 ∣ (k0_mult442 v6287).toNat := fun v6287 k0_hw465 => k0_hw465.1
theorem k0_off858_inb : ∀ (v6287 : BitVec 32) (k0_hw465 : k0_chk465 v6287), ∀ a, (k0_off858 v6287) a + S32.size a ≤ S3407872.size a := fun v6287 k0_hw465 => k0_hw465.2.1
theorem k0_off874_inb : ∀ (v6287 : BitVec 32) (k0_hw465 : k0_chk465 v6287), ∀ a, (k0_off874 v6287) a + S32.size a ≤ S3407872.size a := fun v6287 k0_hw465 => k0_hw465.2.2

def k0_off875 (v6296 : BitVec 32) : Fin 1 → Nat :=
  let c0_i32_2770 : BitVec 32 := 0#32
  let c32_i32_2769 : BitVec 32 := 32#32
  let v6297 : BitVec 32 := Scalar.muli v6296 c32_i32_2769
  let v6298 : BitVec 32 := Scalar.addi c0_i32_2770 v6297
  let v6299 : BitVec 32 := v6298
  ![v6299.toNat]

def k0_chk466 (v6296 : BitVec 32) : Prop :=
  (8 ∣ (k0_mult443 v6296).toNat) ∧
  (∀ a, (k0_off859 v6296) a + S32.size a ≤ S3407872.size a) ∧
  (∀ a, (k0_off875 v6296) a + S32.size a ≤ S3407872.size a)
theorem k0_mult443_dvd : ∀ (v6296 : BitVec 32) (k0_hw466 : k0_chk466 v6296), 8 ∣ (k0_mult443 v6296).toNat := fun v6296 k0_hw466 => k0_hw466.1
theorem k0_off859_inb : ∀ (v6296 : BitVec 32) (k0_hw466 : k0_chk466 v6296), ∀ a, (k0_off859 v6296) a + S32.size a ≤ S3407872.size a := fun v6296 k0_hw466 => k0_hw466.2.1
theorem k0_off875_inb : ∀ (v6296 : BitVec 32) (k0_hw466 : k0_chk466 v6296), ∀ a, (k0_off875 v6296) a + S32.size a ≤ S3407872.size a := fun v6296 k0_hw466 => k0_hw466.2.2

def k0_off876 (v6305 : BitVec 32) : Fin 1 → Nat :=
  let c0_i32_2774 : BitVec 32 := 0#32
  let c32_i32_2773 : BitVec 32 := 32#32
  let v6306 : BitVec 32 := Scalar.muli v6305 c32_i32_2773
  let v6307 : BitVec 32 := Scalar.addi c0_i32_2774 v6306
  let v6308 : BitVec 32 := v6307
  ![v6308.toNat]

def k0_chk467 (v6305 : BitVec 32) : Prop :=
  (8 ∣ (k0_mult444 v6305).toNat) ∧
  (∀ a, (k0_off860 v6305) a + S32.size a ≤ S3407872.size a) ∧
  (∀ a, (k0_off876 v6305) a + S32.size a ≤ S3407872.size a)
theorem k0_mult444_dvd : ∀ (v6305 : BitVec 32) (k0_hw467 : k0_chk467 v6305), 8 ∣ (k0_mult444 v6305).toNat := fun v6305 k0_hw467 => k0_hw467.1
theorem k0_off860_inb : ∀ (v6305 : BitVec 32) (k0_hw467 : k0_chk467 v6305), ∀ a, (k0_off860 v6305) a + S32.size a ≤ S3407872.size a := fun v6305 k0_hw467 => k0_hw467.2.1
theorem k0_off876_inb : ∀ (v6305 : BitVec 32) (k0_hw467 : k0_chk467 v6305), ∀ a, (k0_off876 v6305) a + S32.size a ≤ S3407872.size a := fun v6305 k0_hw467 => k0_hw467.2.2

def k0_off877 (v6314 : BitVec 32) : Fin 1 → Nat :=
  let c0_i32_2778 : BitVec 32 := 0#32
  let c32_i32_2777 : BitVec 32 := 32#32
  let v6315 : BitVec 32 := Scalar.muli v6314 c32_i32_2777
  let v6316 : BitVec 32 := Scalar.addi c0_i32_2778 v6315
  let v6317 : BitVec 32 := v6316
  ![v6317.toNat]

def k0_chk468 (v6314 : BitVec 32) : Prop :=
  (8 ∣ (k0_mult445 v6314).toNat) ∧
  (∀ a, (k0_off861 v6314) a + S32.size a ≤ S3407872.size a) ∧
  (∀ a, (k0_off877 v6314) a + S32.size a ≤ S3407872.size a)
theorem k0_mult445_dvd : ∀ (v6314 : BitVec 32) (k0_hw468 : k0_chk468 v6314), 8 ∣ (k0_mult445 v6314).toNat := fun v6314 k0_hw468 => k0_hw468.1
theorem k0_off861_inb : ∀ (v6314 : BitVec 32) (k0_hw468 : k0_chk468 v6314), ∀ a, (k0_off861 v6314) a + S32.size a ≤ S3407872.size a := fun v6314 k0_hw468 => k0_hw468.2.1
theorem k0_off877_inb : ∀ (v6314 : BitVec 32) (k0_hw468 : k0_chk468 v6314), ∀ a, (k0_off877 v6314) a + S32.size a ≤ S3407872.size a := fun v6314 k0_hw468 => k0_hw468.2.2

def k0_off878 (v6323 : BitVec 32) : Fin 1 → Nat :=
  let c0_i32_2782 : BitVec 32 := 0#32
  let c32_i32_2781 : BitVec 32 := 32#32
  let v6324 : BitVec 32 := Scalar.muli v6323 c32_i32_2781
  let v6325 : BitVec 32 := Scalar.addi c0_i32_2782 v6324
  let v6326 : BitVec 32 := v6325
  ![v6326.toNat]

def k0_chk469 (v6323 : BitVec 32) : Prop :=
  (8 ∣ (k0_mult446 v6323).toNat) ∧
  (∀ a, (k0_off862 v6323) a + S32.size a ≤ S3407872.size a) ∧
  (∀ a, (k0_off878 v6323) a + S32.size a ≤ S3407872.size a)
theorem k0_mult446_dvd : ∀ (v6323 : BitVec 32) (k0_hw469 : k0_chk469 v6323), 8 ∣ (k0_mult446 v6323).toNat := fun v6323 k0_hw469 => k0_hw469.1
theorem k0_off862_inb : ∀ (v6323 : BitVec 32) (k0_hw469 : k0_chk469 v6323), ∀ a, (k0_off862 v6323) a + S32.size a ≤ S3407872.size a := fun v6323 k0_hw469 => k0_hw469.2.1
theorem k0_off878_inb : ∀ (v6323 : BitVec 32) (k0_hw469 : k0_chk469 v6323), ∀ a, (k0_off878 v6323) a + S32.size a ≤ S3407872.size a := fun v6323 k0_hw469 => k0_hw469.2.2

def k0_off879 (v6332 : BitVec 32) : Fin 1 → Nat :=
  let c0_i32_2786 : BitVec 32 := 0#32
  let c32_i32_2785 : BitVec 32 := 32#32
  let v6333 : BitVec 32 := Scalar.muli v6332 c32_i32_2785
  let v6334 : BitVec 32 := Scalar.addi c0_i32_2786 v6333
  let v6335 : BitVec 32 := v6334
  ![v6335.toNat]

def k0_chk470 (v6332 : BitVec 32) : Prop :=
  (8 ∣ (k0_mult447 v6332).toNat) ∧
  (∀ a, (k0_off863 v6332) a + S32.size a ≤ S3407872.size a) ∧
  (∀ a, (k0_off879 v6332) a + S32.size a ≤ S3407872.size a)
theorem k0_mult447_dvd : ∀ (v6332 : BitVec 32) (k0_hw470 : k0_chk470 v6332), 8 ∣ (k0_mult447 v6332).toNat := fun v6332 k0_hw470 => k0_hw470.1
theorem k0_off863_inb : ∀ (v6332 : BitVec 32) (k0_hw470 : k0_chk470 v6332), ∀ a, (k0_off863 v6332) a + S32.size a ≤ S3407872.size a := fun v6332 k0_hw470 => k0_hw470.2.1
theorem k0_off879_inb : ∀ (v6332 : BitVec 32) (k0_hw470 : k0_chk470 v6332), ∀ a, (k0_off879 v6332) a + S32.size a ≤ S3407872.size a := fun v6332 k0_hw470 => k0_hw470.2.2

def k0_off880 (v6341 : BitVec 32) : Fin 1 → Nat :=
  let c0_i32_2790 : BitVec 32 := 0#32
  let c32_i32_2789 : BitVec 32 := 32#32
  let v6342 : BitVec 32 := Scalar.muli v6341 c32_i32_2789
  let v6343 : BitVec 32 := Scalar.addi c0_i32_2790 v6342
  let v6344 : BitVec 32 := v6343
  ![v6344.toNat]

def k0_chk471 (v6341 : BitVec 32) : Prop :=
  (8 ∣ (k0_mult448 v6341).toNat) ∧
  (∀ a, (k0_off864 v6341) a + S32.size a ≤ S3407872.size a) ∧
  (∀ a, (k0_off880 v6341) a + S32.size a ≤ S3407872.size a)
theorem k0_mult448_dvd : ∀ (v6341 : BitVec 32) (k0_hw471 : k0_chk471 v6341), 8 ∣ (k0_mult448 v6341).toNat := fun v6341 k0_hw471 => k0_hw471.1
theorem k0_off864_inb : ∀ (v6341 : BitVec 32) (k0_hw471 : k0_chk471 v6341), ∀ a, (k0_off864 v6341) a + S32.size a ≤ S3407872.size a := fun v6341 k0_hw471 => k0_hw471.2.1
theorem k0_off880_inb : ∀ (v6341 : BitVec 32) (k0_hw471 : k0_chk471 v6341), ∀ a, (k0_off880 v6341) a + S32.size a ≤ S3407872.size a := fun v6341 k0_hw471 => k0_hw471.2.2

def k0_mult450 (v6425 : BitVec 32) : BitVec 32 :=
  let c999936_i32_2831 : BitVec 32 := 999936#32
  let v6426 : BitVec 32 := Scalar.subi v6425 c999936_i32_2831
  let c32_i32_2832 : BitVec 32 := 32#32
  let v6427 : BitVec 32 := Scalar.muli v6426 c32_i32_2832
  v6427

def k0_off881 (v6425 : BitVec 32) : Fin 1 → Nat :=
  let c999936_i32_2831 : BitVec 32 := 999936#32
  let v6426 : BitVec 32 := Scalar.subi v6425 c999936_i32_2831
  let c32_i32_2832 : BitVec 32 := 32#32
  let v6427 : BitVec 32 := Scalar.muli v6426 c32_i32_2832
  let v6428 : BitVec 32 := v6427
  ![v6428.toNat]
def k0_mult451 (v6434 : BitVec 32) : BitVec 32 :=
  let c999936_i32_2834 : BitVec 32 := 999936#32
  let v6435 : BitVec 32 := Scalar.subi v6434 c999936_i32_2834
  let c32_i32_2835 : BitVec 32 := 32#32
  let v6436 : BitVec 32 := Scalar.muli v6435 c32_i32_2835
  v6436

def k0_off882 (v6434 : BitVec 32) : Fin 1 → Nat :=
  let c999936_i32_2834 : BitVec 32 := 999936#32
  let v6435 : BitVec 32 := Scalar.subi v6434 c999936_i32_2834
  let c32_i32_2835 : BitVec 32 := 32#32
  let v6436 : BitVec 32 := Scalar.muli v6435 c32_i32_2835
  let v6437 : BitVec 32 := v6436
  ![v6437.toNat]
def k0_mult452 (v6443 : BitVec 32) : BitVec 32 :=
  let c999936_i32_2837 : BitVec 32 := 999936#32
  let v6444 : BitVec 32 := Scalar.subi v6443 c999936_i32_2837
  let c32_i32_2838 : BitVec 32 := 32#32
  let v6445 : BitVec 32 := Scalar.muli v6444 c32_i32_2838
  v6445

def k0_off883 (v6443 : BitVec 32) : Fin 1 → Nat :=
  let c999936_i32_2837 : BitVec 32 := 999936#32
  let v6444 : BitVec 32 := Scalar.subi v6443 c999936_i32_2837
  let c32_i32_2838 : BitVec 32 := 32#32
  let v6445 : BitVec 32 := Scalar.muli v6444 c32_i32_2838
  let v6446 : BitVec 32 := v6445
  ![v6446.toNat]
def k0_mult453 (v6452 : BitVec 32) : BitVec 32 :=
  let c999936_i32_2840 : BitVec 32 := 999936#32
  let v6453 : BitVec 32 := Scalar.subi v6452 c999936_i32_2840
  let c32_i32_2841 : BitVec 32 := 32#32
  let v6454 : BitVec 32 := Scalar.muli v6453 c32_i32_2841
  v6454

def k0_off884 (v6452 : BitVec 32) : Fin 1 → Nat :=
  let c999936_i32_2840 : BitVec 32 := 999936#32
  let v6453 : BitVec 32 := Scalar.subi v6452 c999936_i32_2840
  let c32_i32_2841 : BitVec 32 := 32#32
  let v6454 : BitVec 32 := Scalar.muli v6453 c32_i32_2841
  let v6455 : BitVec 32 := v6454
  ![v6455.toNat]
def k0_mult454 (v6461 : BitVec 32) : BitVec 32 :=
  let c999936_i32_2843 : BitVec 32 := 999936#32
  let v6462 : BitVec 32 := Scalar.subi v6461 c999936_i32_2843
  let c32_i32_2844 : BitVec 32 := 32#32
  let v6463 : BitVec 32 := Scalar.muli v6462 c32_i32_2844
  v6463

def k0_off885 (v6461 : BitVec 32) : Fin 1 → Nat :=
  let c999936_i32_2843 : BitVec 32 := 999936#32
  let v6462 : BitVec 32 := Scalar.subi v6461 c999936_i32_2843
  let c32_i32_2844 : BitVec 32 := 32#32
  let v6463 : BitVec 32 := Scalar.muli v6462 c32_i32_2844
  let v6464 : BitVec 32 := v6463
  ![v6464.toNat]
def k0_mult455 (v6470 : BitVec 32) : BitVec 32 :=
  let c999936_i32_2846 : BitVec 32 := 999936#32
  let v6471 : BitVec 32 := Scalar.subi v6470 c999936_i32_2846
  let c32_i32_2847 : BitVec 32 := 32#32
  let v6472 : BitVec 32 := Scalar.muli v6471 c32_i32_2847
  v6472

def k0_off886 (v6470 : BitVec 32) : Fin 1 → Nat :=
  let c999936_i32_2846 : BitVec 32 := 999936#32
  let v6471 : BitVec 32 := Scalar.subi v6470 c999936_i32_2846
  let c32_i32_2847 : BitVec 32 := 32#32
  let v6472 : BitVec 32 := Scalar.muli v6471 c32_i32_2847
  let v6473 : BitVec 32 := v6472
  ![v6473.toNat]
def k0_mult456 (v6479 : BitVec 32) : BitVec 32 :=
  let c999936_i32_2849 : BitVec 32 := 999936#32
  let v6480 : BitVec 32 := Scalar.subi v6479 c999936_i32_2849
  let c32_i32_2850 : BitVec 32 := 32#32
  let v6481 : BitVec 32 := Scalar.muli v6480 c32_i32_2850
  v6481

def k0_off887 (v6479 : BitVec 32) : Fin 1 → Nat :=
  let c999936_i32_2849 : BitVec 32 := 999936#32
  let v6480 : BitVec 32 := Scalar.subi v6479 c999936_i32_2849
  let c32_i32_2850 : BitVec 32 := 32#32
  let v6481 : BitVec 32 := Scalar.muli v6480 c32_i32_2850
  let v6482 : BitVec 32 := v6481
  ![v6482.toNat]
def k0_mult457 (v6488 : BitVec 32) : BitVec 32 :=
  let c999936_i32_2852 : BitVec 32 := 999936#32
  let v6489 : BitVec 32 := Scalar.subi v6488 c999936_i32_2852
  let c32_i32_2853 : BitVec 32 := 32#32
  let v6490 : BitVec 32 := Scalar.muli v6489 c32_i32_2853
  v6490

def k0_off888 (v6488 : BitVec 32) : Fin 1 → Nat :=
  let c999936_i32_2852 : BitVec 32 := 999936#32
  let v6489 : BitVec 32 := Scalar.subi v6488 c999936_i32_2852
  let c32_i32_2853 : BitVec 32 := 32#32
  let v6490 : BitVec 32 := Scalar.muli v6489 c32_i32_2853
  let v6491 : BitVec 32 := v6490
  ![v6491.toNat]
def k0_mult458 (v6497 : BitVec 32) : BitVec 32 :=
  let c999936_i32_2855 : BitVec 32 := 999936#32
  let v6498 : BitVec 32 := Scalar.subi v6497 c999936_i32_2855
  let c32_i32_2856 : BitVec 32 := 32#32
  let v6499 : BitVec 32 := Scalar.muli v6498 c32_i32_2856
  v6499

def k0_off889 (v6497 : BitVec 32) : Fin 1 → Nat :=
  let c999936_i32_2855 : BitVec 32 := 999936#32
  let v6498 : BitVec 32 := Scalar.subi v6497 c999936_i32_2855
  let c32_i32_2856 : BitVec 32 := 32#32
  let v6499 : BitVec 32 := Scalar.muli v6498 c32_i32_2856
  let v6500 : BitVec 32 := v6499
  ![v6500.toNat]
def k0_mult459 (v6506 : BitVec 32) : BitVec 32 :=
  let c999936_i32_2858 : BitVec 32 := 999936#32
  let v6507 : BitVec 32 := Scalar.subi v6506 c999936_i32_2858
  let c32_i32_2859 : BitVec 32 := 32#32
  let v6508 : BitVec 32 := Scalar.muli v6507 c32_i32_2859
  v6508

def k0_off890 (v6506 : BitVec 32) : Fin 1 → Nat :=
  let c999936_i32_2858 : BitVec 32 := 999936#32
  let v6507 : BitVec 32 := Scalar.subi v6506 c999936_i32_2858
  let c32_i32_2859 : BitVec 32 := 32#32
  let v6508 : BitVec 32 := Scalar.muli v6507 c32_i32_2859
  let v6509 : BitVec 32 := v6508
  ![v6509.toNat]
def k0_mult460 (v6515 : BitVec 32) : BitVec 32 :=
  let c999936_i32_2861 : BitVec 32 := 999936#32
  let v6516 : BitVec 32 := Scalar.subi v6515 c999936_i32_2861
  let c32_i32_2862 : BitVec 32 := 32#32
  let v6517 : BitVec 32 := Scalar.muli v6516 c32_i32_2862
  v6517

def k0_off891 (v6515 : BitVec 32) : Fin 1 → Nat :=
  let c999936_i32_2861 : BitVec 32 := 999936#32
  let v6516 : BitVec 32 := Scalar.subi v6515 c999936_i32_2861
  let c32_i32_2862 : BitVec 32 := 32#32
  let v6517 : BitVec 32 := Scalar.muli v6516 c32_i32_2862
  let v6518 : BitVec 32 := v6517
  ![v6518.toNat]
def k0_mult461 (v6524 : BitVec 32) : BitVec 32 :=
  let c999936_i32_2864 : BitVec 32 := 999936#32
  let v6525 : BitVec 32 := Scalar.subi v6524 c999936_i32_2864
  let c32_i32_2865 : BitVec 32 := 32#32
  let v6526 : BitVec 32 := Scalar.muli v6525 c32_i32_2865
  v6526

def k0_off892 (v6524 : BitVec 32) : Fin 1 → Nat :=
  let c999936_i32_2864 : BitVec 32 := 999936#32
  let v6525 : BitVec 32 := Scalar.subi v6524 c999936_i32_2864
  let c32_i32_2865 : BitVec 32 := 32#32
  let v6526 : BitVec 32 := Scalar.muli v6525 c32_i32_2865
  let v6527 : BitVec 32 := v6526
  ![v6527.toNat]
def k0_mult462 (v6533 : BitVec 32) : BitVec 32 :=
  let c999936_i32_2867 : BitVec 32 := 999936#32
  let v6534 : BitVec 32 := Scalar.subi v6533 c999936_i32_2867
  let c32_i32_2868 : BitVec 32 := 32#32
  let v6535 : BitVec 32 := Scalar.muli v6534 c32_i32_2868
  v6535

def k0_off893 (v6533 : BitVec 32) : Fin 1 → Nat :=
  let c999936_i32_2867 : BitVec 32 := 999936#32
  let v6534 : BitVec 32 := Scalar.subi v6533 c999936_i32_2867
  let c32_i32_2868 : BitVec 32 := 32#32
  let v6535 : BitVec 32 := Scalar.muli v6534 c32_i32_2868
  let v6536 : BitVec 32 := v6535
  ![v6536.toNat]
def k0_mult463 (v6542 : BitVec 32) : BitVec 32 :=
  let c999936_i32_2870 : BitVec 32 := 999936#32
  let v6543 : BitVec 32 := Scalar.subi v6542 c999936_i32_2870
  let c32_i32_2871 : BitVec 32 := 32#32
  let v6544 : BitVec 32 := Scalar.muli v6543 c32_i32_2871
  v6544

def k0_off894 (v6542 : BitVec 32) : Fin 1 → Nat :=
  let c999936_i32_2870 : BitVec 32 := 999936#32
  let v6543 : BitVec 32 := Scalar.subi v6542 c999936_i32_2870
  let c32_i32_2871 : BitVec 32 := 32#32
  let v6544 : BitVec 32 := Scalar.muli v6543 c32_i32_2871
  let v6545 : BitVec 32 := v6544
  ![v6545.toNat]
def k0_mult464 (v6551 : BitVec 32) : BitVec 32 :=
  let c999936_i32_2873 : BitVec 32 := 999936#32
  let v6552 : BitVec 32 := Scalar.subi v6551 c999936_i32_2873
  let c32_i32_2874 : BitVec 32 := 32#32
  let v6553 : BitVec 32 := Scalar.muli v6552 c32_i32_2874
  v6553

def k0_off895 (v6551 : BitVec 32) : Fin 1 → Nat :=
  let c999936_i32_2873 : BitVec 32 := 999936#32
  let v6552 : BitVec 32 := Scalar.subi v6551 c999936_i32_2873
  let c32_i32_2874 : BitVec 32 := 32#32
  let v6553 : BitVec 32 := Scalar.muli v6552 c32_i32_2874
  let v6554 : BitVec 32 := v6553
  ![v6554.toNat]
def k0_mult465 (v6560 : BitVec 32) : BitVec 32 :=
  let c999936_i32_2876 : BitVec 32 := 999936#32
  let v6561 : BitVec 32 := Scalar.subi v6560 c999936_i32_2876
  let c32_i32_2877 : BitVec 32 := 32#32
  let v6562 : BitVec 32 := Scalar.muli v6561 c32_i32_2877
  v6562

def k0_off896 (v6560 : BitVec 32) : Fin 1 → Nat :=
  let c999936_i32_2876 : BitVec 32 := 999936#32
  let v6561 : BitVec 32 := Scalar.subi v6560 c999936_i32_2876
  let c32_i32_2877 : BitVec 32 := 32#32
  let v6562 : BitVec 32 := Scalar.muli v6561 c32_i32_2877
  let v6563 : BitVec 32 := v6562
  ![v6563.toNat]

def k0_chk488 (v6560 : BitVec 32) : Prop :=
  (8 ∣ (k0_mult465 v6560).toNat) ∧
  (∀ a, (k0_off896 v6560) a + S32.size a ≤ S2048.size a)
theorem k0_mult465_dvd : ∀ (v6560 : BitVec 32) (k0_hw488 : k0_chk488 v6560), 8 ∣ (k0_mult465 v6560).toNat := fun v6560 k0_hw488 => k0_hw488.1
theorem k0_off896_inb : ∀ (v6560 : BitVec 32) (k0_hw488 : k0_chk488 v6560), ∀ a, (k0_off896 v6560) a + S32.size a ≤ S2048.size a := fun v6560 k0_hw488 => k0_hw488.2

def k0_off897 (v6425 : BitVec 32) : Fin 1 → Nat :=
  let c999936_i32_2831 : BitVec 32 := 999936#32
  let v6426 : BitVec 32 := Scalar.subi v6425 c999936_i32_2831
  let c32_i32_2832 : BitVec 32 := 32#32
  let v6427 : BitVec 32 := Scalar.muli v6426 c32_i32_2832
  let v6428 : BitVec 32 := v6427
  ![v6428.toNat]

def k0_chk473 (v6425 : BitVec 32) : Prop :=
  (8 ∣ (k0_mult450 v6425).toNat) ∧
  (∀ a, (k0_off881 v6425) a + S32.size a ≤ S2048.size a) ∧
  (∀ a, (k0_off897 v6425) a + S32.size a ≤ S2048.size a)
theorem k0_mult450_dvd : ∀ (v6425 : BitVec 32) (k0_hw473 : k0_chk473 v6425), 8 ∣ (k0_mult450 v6425).toNat := fun v6425 k0_hw473 => k0_hw473.1
theorem k0_off881_inb : ∀ (v6425 : BitVec 32) (k0_hw473 : k0_chk473 v6425), ∀ a, (k0_off881 v6425) a + S32.size a ≤ S2048.size a := fun v6425 k0_hw473 => k0_hw473.2.1
theorem k0_off897_inb : ∀ (v6425 : BitVec 32) (k0_hw473 : k0_chk473 v6425), ∀ a, (k0_off897 v6425) a + S32.size a ≤ S2048.size a := fun v6425 k0_hw473 => k0_hw473.2.2

def k0_off898 (v6434 : BitVec 32) : Fin 1 → Nat :=
  let c999936_i32_2834 : BitVec 32 := 999936#32
  let v6435 : BitVec 32 := Scalar.subi v6434 c999936_i32_2834
  let c32_i32_2835 : BitVec 32 := 32#32
  let v6436 : BitVec 32 := Scalar.muli v6435 c32_i32_2835
  let v6437 : BitVec 32 := v6436
  ![v6437.toNat]

def k0_chk474 (v6434 : BitVec 32) : Prop :=
  (8 ∣ (k0_mult451 v6434).toNat) ∧
  (∀ a, (k0_off882 v6434) a + S32.size a ≤ S2048.size a) ∧
  (∀ a, (k0_off898 v6434) a + S32.size a ≤ S2048.size a)
theorem k0_mult451_dvd : ∀ (v6434 : BitVec 32) (k0_hw474 : k0_chk474 v6434), 8 ∣ (k0_mult451 v6434).toNat := fun v6434 k0_hw474 => k0_hw474.1
theorem k0_off882_inb : ∀ (v6434 : BitVec 32) (k0_hw474 : k0_chk474 v6434), ∀ a, (k0_off882 v6434) a + S32.size a ≤ S2048.size a := fun v6434 k0_hw474 => k0_hw474.2.1
theorem k0_off898_inb : ∀ (v6434 : BitVec 32) (k0_hw474 : k0_chk474 v6434), ∀ a, (k0_off898 v6434) a + S32.size a ≤ S2048.size a := fun v6434 k0_hw474 => k0_hw474.2.2

def k0_off899 (v6443 : BitVec 32) : Fin 1 → Nat :=
  let c999936_i32_2837 : BitVec 32 := 999936#32
  let v6444 : BitVec 32 := Scalar.subi v6443 c999936_i32_2837
  let c32_i32_2838 : BitVec 32 := 32#32
  let v6445 : BitVec 32 := Scalar.muli v6444 c32_i32_2838
  let v6446 : BitVec 32 := v6445
  ![v6446.toNat]

def k0_chk475 (v6443 : BitVec 32) : Prop :=
  (8 ∣ (k0_mult452 v6443).toNat) ∧
  (∀ a, (k0_off883 v6443) a + S32.size a ≤ S2048.size a) ∧
  (∀ a, (k0_off899 v6443) a + S32.size a ≤ S2048.size a)
theorem k0_mult452_dvd : ∀ (v6443 : BitVec 32) (k0_hw475 : k0_chk475 v6443), 8 ∣ (k0_mult452 v6443).toNat := fun v6443 k0_hw475 => k0_hw475.1
theorem k0_off883_inb : ∀ (v6443 : BitVec 32) (k0_hw475 : k0_chk475 v6443), ∀ a, (k0_off883 v6443) a + S32.size a ≤ S2048.size a := fun v6443 k0_hw475 => k0_hw475.2.1
theorem k0_off899_inb : ∀ (v6443 : BitVec 32) (k0_hw475 : k0_chk475 v6443), ∀ a, (k0_off899 v6443) a + S32.size a ≤ S2048.size a := fun v6443 k0_hw475 => k0_hw475.2.2

def k0_off900 (v6452 : BitVec 32) : Fin 1 → Nat :=
  let c999936_i32_2840 : BitVec 32 := 999936#32
  let v6453 : BitVec 32 := Scalar.subi v6452 c999936_i32_2840
  let c32_i32_2841 : BitVec 32 := 32#32
  let v6454 : BitVec 32 := Scalar.muli v6453 c32_i32_2841
  let v6455 : BitVec 32 := v6454
  ![v6455.toNat]

def k0_chk476 (v6452 : BitVec 32) : Prop :=
  (8 ∣ (k0_mult453 v6452).toNat) ∧
  (∀ a, (k0_off884 v6452) a + S32.size a ≤ S2048.size a) ∧
  (∀ a, (k0_off900 v6452) a + S32.size a ≤ S2048.size a)
theorem k0_mult453_dvd : ∀ (v6452 : BitVec 32) (k0_hw476 : k0_chk476 v6452), 8 ∣ (k0_mult453 v6452).toNat := fun v6452 k0_hw476 => k0_hw476.1
theorem k0_off884_inb : ∀ (v6452 : BitVec 32) (k0_hw476 : k0_chk476 v6452), ∀ a, (k0_off884 v6452) a + S32.size a ≤ S2048.size a := fun v6452 k0_hw476 => k0_hw476.2.1
theorem k0_off900_inb : ∀ (v6452 : BitVec 32) (k0_hw476 : k0_chk476 v6452), ∀ a, (k0_off900 v6452) a + S32.size a ≤ S2048.size a := fun v6452 k0_hw476 => k0_hw476.2.2

def k0_off901 (v6461 : BitVec 32) : Fin 1 → Nat :=
  let c999936_i32_2843 : BitVec 32 := 999936#32
  let v6462 : BitVec 32 := Scalar.subi v6461 c999936_i32_2843
  let c32_i32_2844 : BitVec 32 := 32#32
  let v6463 : BitVec 32 := Scalar.muli v6462 c32_i32_2844
  let v6464 : BitVec 32 := v6463
  ![v6464.toNat]

def k0_chk477 (v6461 : BitVec 32) : Prop :=
  (8 ∣ (k0_mult454 v6461).toNat) ∧
  (∀ a, (k0_off885 v6461) a + S32.size a ≤ S2048.size a) ∧
  (∀ a, (k0_off901 v6461) a + S32.size a ≤ S2048.size a)
theorem k0_mult454_dvd : ∀ (v6461 : BitVec 32) (k0_hw477 : k0_chk477 v6461), 8 ∣ (k0_mult454 v6461).toNat := fun v6461 k0_hw477 => k0_hw477.1
theorem k0_off885_inb : ∀ (v6461 : BitVec 32) (k0_hw477 : k0_chk477 v6461), ∀ a, (k0_off885 v6461) a + S32.size a ≤ S2048.size a := fun v6461 k0_hw477 => k0_hw477.2.1
theorem k0_off901_inb : ∀ (v6461 : BitVec 32) (k0_hw477 : k0_chk477 v6461), ∀ a, (k0_off901 v6461) a + S32.size a ≤ S2048.size a := fun v6461 k0_hw477 => k0_hw477.2.2

def k0_off902 (v6470 : BitVec 32) : Fin 1 → Nat :=
  let c999936_i32_2846 : BitVec 32 := 999936#32
  let v6471 : BitVec 32 := Scalar.subi v6470 c999936_i32_2846
  let c32_i32_2847 : BitVec 32 := 32#32
  let v6472 : BitVec 32 := Scalar.muli v6471 c32_i32_2847
  let v6473 : BitVec 32 := v6472
  ![v6473.toNat]

def k0_chk478 (v6470 : BitVec 32) : Prop :=
  (8 ∣ (k0_mult455 v6470).toNat) ∧
  (∀ a, (k0_off886 v6470) a + S32.size a ≤ S2048.size a) ∧
  (∀ a, (k0_off902 v6470) a + S32.size a ≤ S2048.size a)
theorem k0_mult455_dvd : ∀ (v6470 : BitVec 32) (k0_hw478 : k0_chk478 v6470), 8 ∣ (k0_mult455 v6470).toNat := fun v6470 k0_hw478 => k0_hw478.1
theorem k0_off886_inb : ∀ (v6470 : BitVec 32) (k0_hw478 : k0_chk478 v6470), ∀ a, (k0_off886 v6470) a + S32.size a ≤ S2048.size a := fun v6470 k0_hw478 => k0_hw478.2.1
theorem k0_off902_inb : ∀ (v6470 : BitVec 32) (k0_hw478 : k0_chk478 v6470), ∀ a, (k0_off902 v6470) a + S32.size a ≤ S2048.size a := fun v6470 k0_hw478 => k0_hw478.2.2

def k0_off903 (v6479 : BitVec 32) : Fin 1 → Nat :=
  let c999936_i32_2849 : BitVec 32 := 999936#32
  let v6480 : BitVec 32 := Scalar.subi v6479 c999936_i32_2849
  let c32_i32_2850 : BitVec 32 := 32#32
  let v6481 : BitVec 32 := Scalar.muli v6480 c32_i32_2850
  let v6482 : BitVec 32 := v6481
  ![v6482.toNat]

def k0_chk479 (v6479 : BitVec 32) : Prop :=
  (8 ∣ (k0_mult456 v6479).toNat) ∧
  (∀ a, (k0_off887 v6479) a + S32.size a ≤ S2048.size a) ∧
  (∀ a, (k0_off903 v6479) a + S32.size a ≤ S2048.size a)
theorem k0_mult456_dvd : ∀ (v6479 : BitVec 32) (k0_hw479 : k0_chk479 v6479), 8 ∣ (k0_mult456 v6479).toNat := fun v6479 k0_hw479 => k0_hw479.1
theorem k0_off887_inb : ∀ (v6479 : BitVec 32) (k0_hw479 : k0_chk479 v6479), ∀ a, (k0_off887 v6479) a + S32.size a ≤ S2048.size a := fun v6479 k0_hw479 => k0_hw479.2.1
theorem k0_off903_inb : ∀ (v6479 : BitVec 32) (k0_hw479 : k0_chk479 v6479), ∀ a, (k0_off903 v6479) a + S32.size a ≤ S2048.size a := fun v6479 k0_hw479 => k0_hw479.2.2

def k0_off904 (v6488 : BitVec 32) : Fin 1 → Nat :=
  let c999936_i32_2852 : BitVec 32 := 999936#32
  let v6489 : BitVec 32 := Scalar.subi v6488 c999936_i32_2852
  let c32_i32_2853 : BitVec 32 := 32#32
  let v6490 : BitVec 32 := Scalar.muli v6489 c32_i32_2853
  let v6491 : BitVec 32 := v6490
  ![v6491.toNat]

def k0_chk480 (v6488 : BitVec 32) : Prop :=
  (8 ∣ (k0_mult457 v6488).toNat) ∧
  (∀ a, (k0_off888 v6488) a + S32.size a ≤ S2048.size a) ∧
  (∀ a, (k0_off904 v6488) a + S32.size a ≤ S2048.size a)
theorem k0_mult457_dvd : ∀ (v6488 : BitVec 32) (k0_hw480 : k0_chk480 v6488), 8 ∣ (k0_mult457 v6488).toNat := fun v6488 k0_hw480 => k0_hw480.1
theorem k0_off888_inb : ∀ (v6488 : BitVec 32) (k0_hw480 : k0_chk480 v6488), ∀ a, (k0_off888 v6488) a + S32.size a ≤ S2048.size a := fun v6488 k0_hw480 => k0_hw480.2.1
theorem k0_off904_inb : ∀ (v6488 : BitVec 32) (k0_hw480 : k0_chk480 v6488), ∀ a, (k0_off904 v6488) a + S32.size a ≤ S2048.size a := fun v6488 k0_hw480 => k0_hw480.2.2

def k0_off905 (v6497 : BitVec 32) : Fin 1 → Nat :=
  let c999936_i32_2855 : BitVec 32 := 999936#32
  let v6498 : BitVec 32 := Scalar.subi v6497 c999936_i32_2855
  let c32_i32_2856 : BitVec 32 := 32#32
  let v6499 : BitVec 32 := Scalar.muli v6498 c32_i32_2856
  let v6500 : BitVec 32 := v6499
  ![v6500.toNat]

def k0_chk481 (v6497 : BitVec 32) : Prop :=
  (8 ∣ (k0_mult458 v6497).toNat) ∧
  (∀ a, (k0_off889 v6497) a + S32.size a ≤ S2048.size a) ∧
  (∀ a, (k0_off905 v6497) a + S32.size a ≤ S2048.size a)
theorem k0_mult458_dvd : ∀ (v6497 : BitVec 32) (k0_hw481 : k0_chk481 v6497), 8 ∣ (k0_mult458 v6497).toNat := fun v6497 k0_hw481 => k0_hw481.1
theorem k0_off889_inb : ∀ (v6497 : BitVec 32) (k0_hw481 : k0_chk481 v6497), ∀ a, (k0_off889 v6497) a + S32.size a ≤ S2048.size a := fun v6497 k0_hw481 => k0_hw481.2.1
theorem k0_off905_inb : ∀ (v6497 : BitVec 32) (k0_hw481 : k0_chk481 v6497), ∀ a, (k0_off905 v6497) a + S32.size a ≤ S2048.size a := fun v6497 k0_hw481 => k0_hw481.2.2

def k0_off906 (v6506 : BitVec 32) : Fin 1 → Nat :=
  let c999936_i32_2858 : BitVec 32 := 999936#32
  let v6507 : BitVec 32 := Scalar.subi v6506 c999936_i32_2858
  let c32_i32_2859 : BitVec 32 := 32#32
  let v6508 : BitVec 32 := Scalar.muli v6507 c32_i32_2859
  let v6509 : BitVec 32 := v6508
  ![v6509.toNat]

def k0_chk482 (v6506 : BitVec 32) : Prop :=
  (8 ∣ (k0_mult459 v6506).toNat) ∧
  (∀ a, (k0_off890 v6506) a + S32.size a ≤ S2048.size a) ∧
  (∀ a, (k0_off906 v6506) a + S32.size a ≤ S2048.size a)
theorem k0_mult459_dvd : ∀ (v6506 : BitVec 32) (k0_hw482 : k0_chk482 v6506), 8 ∣ (k0_mult459 v6506).toNat := fun v6506 k0_hw482 => k0_hw482.1
theorem k0_off890_inb : ∀ (v6506 : BitVec 32) (k0_hw482 : k0_chk482 v6506), ∀ a, (k0_off890 v6506) a + S32.size a ≤ S2048.size a := fun v6506 k0_hw482 => k0_hw482.2.1
theorem k0_off906_inb : ∀ (v6506 : BitVec 32) (k0_hw482 : k0_chk482 v6506), ∀ a, (k0_off906 v6506) a + S32.size a ≤ S2048.size a := fun v6506 k0_hw482 => k0_hw482.2.2

def k0_off907 (v6515 : BitVec 32) : Fin 1 → Nat :=
  let c999936_i32_2861 : BitVec 32 := 999936#32
  let v6516 : BitVec 32 := Scalar.subi v6515 c999936_i32_2861
  let c32_i32_2862 : BitVec 32 := 32#32
  let v6517 : BitVec 32 := Scalar.muli v6516 c32_i32_2862
  let v6518 : BitVec 32 := v6517
  ![v6518.toNat]

def k0_chk483 (v6515 : BitVec 32) : Prop :=
  (8 ∣ (k0_mult460 v6515).toNat) ∧
  (∀ a, (k0_off891 v6515) a + S32.size a ≤ S2048.size a) ∧
  (∀ a, (k0_off907 v6515) a + S32.size a ≤ S2048.size a)
theorem k0_mult460_dvd : ∀ (v6515 : BitVec 32) (k0_hw483 : k0_chk483 v6515), 8 ∣ (k0_mult460 v6515).toNat := fun v6515 k0_hw483 => k0_hw483.1
theorem k0_off891_inb : ∀ (v6515 : BitVec 32) (k0_hw483 : k0_chk483 v6515), ∀ a, (k0_off891 v6515) a + S32.size a ≤ S2048.size a := fun v6515 k0_hw483 => k0_hw483.2.1
theorem k0_off907_inb : ∀ (v6515 : BitVec 32) (k0_hw483 : k0_chk483 v6515), ∀ a, (k0_off907 v6515) a + S32.size a ≤ S2048.size a := fun v6515 k0_hw483 => k0_hw483.2.2

def k0_off908 (v6524 : BitVec 32) : Fin 1 → Nat :=
  let c999936_i32_2864 : BitVec 32 := 999936#32
  let v6525 : BitVec 32 := Scalar.subi v6524 c999936_i32_2864
  let c32_i32_2865 : BitVec 32 := 32#32
  let v6526 : BitVec 32 := Scalar.muli v6525 c32_i32_2865
  let v6527 : BitVec 32 := v6526
  ![v6527.toNat]

def k0_chk484 (v6524 : BitVec 32) : Prop :=
  (8 ∣ (k0_mult461 v6524).toNat) ∧
  (∀ a, (k0_off892 v6524) a + S32.size a ≤ S2048.size a) ∧
  (∀ a, (k0_off908 v6524) a + S32.size a ≤ S2048.size a)
theorem k0_mult461_dvd : ∀ (v6524 : BitVec 32) (k0_hw484 : k0_chk484 v6524), 8 ∣ (k0_mult461 v6524).toNat := fun v6524 k0_hw484 => k0_hw484.1
theorem k0_off892_inb : ∀ (v6524 : BitVec 32) (k0_hw484 : k0_chk484 v6524), ∀ a, (k0_off892 v6524) a + S32.size a ≤ S2048.size a := fun v6524 k0_hw484 => k0_hw484.2.1
theorem k0_off908_inb : ∀ (v6524 : BitVec 32) (k0_hw484 : k0_chk484 v6524), ∀ a, (k0_off908 v6524) a + S32.size a ≤ S2048.size a := fun v6524 k0_hw484 => k0_hw484.2.2

def k0_off909 (v6533 : BitVec 32) : Fin 1 → Nat :=
  let c999936_i32_2867 : BitVec 32 := 999936#32
  let v6534 : BitVec 32 := Scalar.subi v6533 c999936_i32_2867
  let c32_i32_2868 : BitVec 32 := 32#32
  let v6535 : BitVec 32 := Scalar.muli v6534 c32_i32_2868
  let v6536 : BitVec 32 := v6535
  ![v6536.toNat]

def k0_chk485 (v6533 : BitVec 32) : Prop :=
  (8 ∣ (k0_mult462 v6533).toNat) ∧
  (∀ a, (k0_off893 v6533) a + S32.size a ≤ S2048.size a) ∧
  (∀ a, (k0_off909 v6533) a + S32.size a ≤ S2048.size a)
theorem k0_mult462_dvd : ∀ (v6533 : BitVec 32) (k0_hw485 : k0_chk485 v6533), 8 ∣ (k0_mult462 v6533).toNat := fun v6533 k0_hw485 => k0_hw485.1
theorem k0_off893_inb : ∀ (v6533 : BitVec 32) (k0_hw485 : k0_chk485 v6533), ∀ a, (k0_off893 v6533) a + S32.size a ≤ S2048.size a := fun v6533 k0_hw485 => k0_hw485.2.1
theorem k0_off909_inb : ∀ (v6533 : BitVec 32) (k0_hw485 : k0_chk485 v6533), ∀ a, (k0_off909 v6533) a + S32.size a ≤ S2048.size a := fun v6533 k0_hw485 => k0_hw485.2.2

def k0_off910 (v6542 : BitVec 32) : Fin 1 → Nat :=
  let c999936_i32_2870 : BitVec 32 := 999936#32
  let v6543 : BitVec 32 := Scalar.subi v6542 c999936_i32_2870
  let c32_i32_2871 : BitVec 32 := 32#32
  let v6544 : BitVec 32 := Scalar.muli v6543 c32_i32_2871
  let v6545 : BitVec 32 := v6544
  ![v6545.toNat]

def k0_chk486 (v6542 : BitVec 32) : Prop :=
  (8 ∣ (k0_mult463 v6542).toNat) ∧
  (∀ a, (k0_off894 v6542) a + S32.size a ≤ S2048.size a) ∧
  (∀ a, (k0_off910 v6542) a + S32.size a ≤ S2048.size a)
theorem k0_mult463_dvd : ∀ (v6542 : BitVec 32) (k0_hw486 : k0_chk486 v6542), 8 ∣ (k0_mult463 v6542).toNat := fun v6542 k0_hw486 => k0_hw486.1
theorem k0_off894_inb : ∀ (v6542 : BitVec 32) (k0_hw486 : k0_chk486 v6542), ∀ a, (k0_off894 v6542) a + S32.size a ≤ S2048.size a := fun v6542 k0_hw486 => k0_hw486.2.1
theorem k0_off910_inb : ∀ (v6542 : BitVec 32) (k0_hw486 : k0_chk486 v6542), ∀ a, (k0_off910 v6542) a + S32.size a ≤ S2048.size a := fun v6542 k0_hw486 => k0_hw486.2.2

def k0_off911 (v6551 : BitVec 32) : Fin 1 → Nat :=
  let c999936_i32_2873 : BitVec 32 := 999936#32
  let v6552 : BitVec 32 := Scalar.subi v6551 c999936_i32_2873
  let c32_i32_2874 : BitVec 32 := 32#32
  let v6553 : BitVec 32 := Scalar.muli v6552 c32_i32_2874
  let v6554 : BitVec 32 := v6553
  ![v6554.toNat]

def k0_chk487 (v6551 : BitVec 32) : Prop :=
  (8 ∣ (k0_mult464 v6551).toNat) ∧
  (∀ a, (k0_off895 v6551) a + S32.size a ≤ S2048.size a) ∧
  (∀ a, (k0_off911 v6551) a + S32.size a ≤ S2048.size a)
theorem k0_mult464_dvd : ∀ (v6551 : BitVec 32) (k0_hw487 : k0_chk487 v6551), 8 ∣ (k0_mult464 v6551).toNat := fun v6551 k0_hw487 => k0_hw487.1
theorem k0_off895_inb : ∀ (v6551 : BitVec 32) (k0_hw487 : k0_chk487 v6551), ∀ a, (k0_off895 v6551) a + S32.size a ≤ S2048.size a := fun v6551 k0_hw487 => k0_hw487.2.1
theorem k0_off911_inb : ∀ (v6551 : BitVec 32) (k0_hw487 : k0_chk487 v6551), ∀ a, (k0_off911 v6551) a + S32.size a ≤ S2048.size a := fun v6551 k0_hw487 => k0_hw487.2.2

def k0_mult466 (v6633 : BitVec 32) : BitVec 32 :=
  let c0_i32_2912 : BitVec 32 := 0#32
  let c32_i32_2911 : BitVec 32 := 32#32
  let v6634 : BitVec 32 := Scalar.muli v6633 c32_i32_2911
  let v6635 : BitVec 32 := Scalar.addi c0_i32_2912 v6634
  v6635

def k0_off912 (v6633 : BitVec 32) : Fin 1 → Nat :=
  let c0_i32_2912 : BitVec 32 := 0#32
  let c32_i32_2911 : BitVec 32 := 32#32
  let v6634 : BitVec 32 := Scalar.muli v6633 c32_i32_2911
  let v6635 : BitVec 32 := Scalar.addi c0_i32_2912 v6634
  let v6636 : BitVec 32 := v6635
  ![v6636.toNat]
def k0_mult467 (v6642 : BitVec 32) : BitVec 32 :=
  let c0_i32_2916 : BitVec 32 := 0#32
  let c32_i32_2915 : BitVec 32 := 32#32
  let v6643 : BitVec 32 := Scalar.muli v6642 c32_i32_2915
  let v6644 : BitVec 32 := Scalar.addi c0_i32_2916 v6643
  v6644

def k0_off913 (v6642 : BitVec 32) : Fin 1 → Nat :=
  let c0_i32_2916 : BitVec 32 := 0#32
  let c32_i32_2915 : BitVec 32 := 32#32
  let v6643 : BitVec 32 := Scalar.muli v6642 c32_i32_2915
  let v6644 : BitVec 32 := Scalar.addi c0_i32_2916 v6643
  let v6645 : BitVec 32 := v6644
  ![v6645.toNat]
def k0_mult468 (v6651 : BitVec 32) : BitVec 32 :=
  let c0_i32_2920 : BitVec 32 := 0#32
  let c32_i32_2919 : BitVec 32 := 32#32
  let v6652 : BitVec 32 := Scalar.muli v6651 c32_i32_2919
  let v6653 : BitVec 32 := Scalar.addi c0_i32_2920 v6652
  v6653

def k0_off914 (v6651 : BitVec 32) : Fin 1 → Nat :=
  let c0_i32_2920 : BitVec 32 := 0#32
  let c32_i32_2919 : BitVec 32 := 32#32
  let v6652 : BitVec 32 := Scalar.muli v6651 c32_i32_2919
  let v6653 : BitVec 32 := Scalar.addi c0_i32_2920 v6652
  let v6654 : BitVec 32 := v6653
  ![v6654.toNat]
def k0_mult469 (v6660 : BitVec 32) : BitVec 32 :=
  let c0_i32_2924 : BitVec 32 := 0#32
  let c32_i32_2923 : BitVec 32 := 32#32
  let v6661 : BitVec 32 := Scalar.muli v6660 c32_i32_2923
  let v6662 : BitVec 32 := Scalar.addi c0_i32_2924 v6661
  v6662

def k0_off915 (v6660 : BitVec 32) : Fin 1 → Nat :=
  let c0_i32_2924 : BitVec 32 := 0#32
  let c32_i32_2923 : BitVec 32 := 32#32
  let v6661 : BitVec 32 := Scalar.muli v6660 c32_i32_2923
  let v6662 : BitVec 32 := Scalar.addi c0_i32_2924 v6661
  let v6663 : BitVec 32 := v6662
  ![v6663.toNat]
def k0_mult470 (v6669 : BitVec 32) : BitVec 32 :=
  let c0_i32_2928 : BitVec 32 := 0#32
  let c32_i32_2927 : BitVec 32 := 32#32
  let v6670 : BitVec 32 := Scalar.muli v6669 c32_i32_2927
  let v6671 : BitVec 32 := Scalar.addi c0_i32_2928 v6670
  v6671

def k0_off916 (v6669 : BitVec 32) : Fin 1 → Nat :=
  let c0_i32_2928 : BitVec 32 := 0#32
  let c32_i32_2927 : BitVec 32 := 32#32
  let v6670 : BitVec 32 := Scalar.muli v6669 c32_i32_2927
  let v6671 : BitVec 32 := Scalar.addi c0_i32_2928 v6670
  let v6672 : BitVec 32 := v6671
  ![v6672.toNat]
def k0_mult471 (v6678 : BitVec 32) : BitVec 32 :=
  let c0_i32_2932 : BitVec 32 := 0#32
  let c32_i32_2931 : BitVec 32 := 32#32
  let v6679 : BitVec 32 := Scalar.muli v6678 c32_i32_2931
  let v6680 : BitVec 32 := Scalar.addi c0_i32_2932 v6679
  v6680

def k0_off917 (v6678 : BitVec 32) : Fin 1 → Nat :=
  let c0_i32_2932 : BitVec 32 := 0#32
  let c32_i32_2931 : BitVec 32 := 32#32
  let v6679 : BitVec 32 := Scalar.muli v6678 c32_i32_2931
  let v6680 : BitVec 32 := Scalar.addi c0_i32_2932 v6679
  let v6681 : BitVec 32 := v6680
  ![v6681.toNat]
def k0_mult472 (v6687 : BitVec 32) : BitVec 32 :=
  let c0_i32_2936 : BitVec 32 := 0#32
  let c32_i32_2935 : BitVec 32 := 32#32
  let v6688 : BitVec 32 := Scalar.muli v6687 c32_i32_2935
  let v6689 : BitVec 32 := Scalar.addi c0_i32_2936 v6688
  v6689

def k0_off918 (v6687 : BitVec 32) : Fin 1 → Nat :=
  let c0_i32_2936 : BitVec 32 := 0#32
  let c32_i32_2935 : BitVec 32 := 32#32
  let v6688 : BitVec 32 := Scalar.muli v6687 c32_i32_2935
  let v6689 : BitVec 32 := Scalar.addi c0_i32_2936 v6688
  let v6690 : BitVec 32 := v6689
  ![v6690.toNat]
def k0_mult473 (v6696 : BitVec 32) : BitVec 32 :=
  let c0_i32_2940 : BitVec 32 := 0#32
  let c32_i32_2939 : BitVec 32 := 32#32
  let v6697 : BitVec 32 := Scalar.muli v6696 c32_i32_2939
  let v6698 : BitVec 32 := Scalar.addi c0_i32_2940 v6697
  v6698

def k0_off919 (v6696 : BitVec 32) : Fin 1 → Nat :=
  let c0_i32_2940 : BitVec 32 := 0#32
  let c32_i32_2939 : BitVec 32 := 32#32
  let v6697 : BitVec 32 := Scalar.muli v6696 c32_i32_2939
  let v6698 : BitVec 32 := Scalar.addi c0_i32_2940 v6697
  let v6699 : BitVec 32 := v6698
  ![v6699.toNat]
def k0_mult474 (v6705 : BitVec 32) : BitVec 32 :=
  let c0_i32_2944 : BitVec 32 := 0#32
  let c32_i32_2943 : BitVec 32 := 32#32
  let v6706 : BitVec 32 := Scalar.muli v6705 c32_i32_2943
  let v6707 : BitVec 32 := Scalar.addi c0_i32_2944 v6706
  v6707

def k0_off920 (v6705 : BitVec 32) : Fin 1 → Nat :=
  let c0_i32_2944 : BitVec 32 := 0#32
  let c32_i32_2943 : BitVec 32 := 32#32
  let v6706 : BitVec 32 := Scalar.muli v6705 c32_i32_2943
  let v6707 : BitVec 32 := Scalar.addi c0_i32_2944 v6706
  let v6708 : BitVec 32 := v6707
  ![v6708.toNat]
def k0_mult475 (v6714 : BitVec 32) : BitVec 32 :=
  let c0_i32_2948 : BitVec 32 := 0#32
  let c32_i32_2947 : BitVec 32 := 32#32
  let v6715 : BitVec 32 := Scalar.muli v6714 c32_i32_2947
  let v6716 : BitVec 32 := Scalar.addi c0_i32_2948 v6715
  v6716

def k0_off921 (v6714 : BitVec 32) : Fin 1 → Nat :=
  let c0_i32_2948 : BitVec 32 := 0#32
  let c32_i32_2947 : BitVec 32 := 32#32
  let v6715 : BitVec 32 := Scalar.muli v6714 c32_i32_2947
  let v6716 : BitVec 32 := Scalar.addi c0_i32_2948 v6715
  let v6717 : BitVec 32 := v6716
  ![v6717.toNat]
def k0_mult476 (v6723 : BitVec 32) : BitVec 32 :=
  let c0_i32_2952 : BitVec 32 := 0#32
  let c32_i32_2951 : BitVec 32 := 32#32
  let v6724 : BitVec 32 := Scalar.muli v6723 c32_i32_2951
  let v6725 : BitVec 32 := Scalar.addi c0_i32_2952 v6724
  v6725

def k0_off922 (v6723 : BitVec 32) : Fin 1 → Nat :=
  let c0_i32_2952 : BitVec 32 := 0#32
  let c32_i32_2951 : BitVec 32 := 32#32
  let v6724 : BitVec 32 := Scalar.muli v6723 c32_i32_2951
  let v6725 : BitVec 32 := Scalar.addi c0_i32_2952 v6724
  let v6726 : BitVec 32 := v6725
  ![v6726.toNat]
def k0_mult477 (v6732 : BitVec 32) : BitVec 32 :=
  let c0_i32_2956 : BitVec 32 := 0#32
  let c32_i32_2955 : BitVec 32 := 32#32
  let v6733 : BitVec 32 := Scalar.muli v6732 c32_i32_2955
  let v6734 : BitVec 32 := Scalar.addi c0_i32_2956 v6733
  v6734

def k0_off923 (v6732 : BitVec 32) : Fin 1 → Nat :=
  let c0_i32_2956 : BitVec 32 := 0#32
  let c32_i32_2955 : BitVec 32 := 32#32
  let v6733 : BitVec 32 := Scalar.muli v6732 c32_i32_2955
  let v6734 : BitVec 32 := Scalar.addi c0_i32_2956 v6733
  let v6735 : BitVec 32 := v6734
  ![v6735.toNat]
def k0_mult478 (v6741 : BitVec 32) : BitVec 32 :=
  let c0_i32_2960 : BitVec 32 := 0#32
  let c32_i32_2959 : BitVec 32 := 32#32
  let v6742 : BitVec 32 := Scalar.muli v6741 c32_i32_2959
  let v6743 : BitVec 32 := Scalar.addi c0_i32_2960 v6742
  v6743

def k0_off924 (v6741 : BitVec 32) : Fin 1 → Nat :=
  let c0_i32_2960 : BitVec 32 := 0#32
  let c32_i32_2959 : BitVec 32 := 32#32
  let v6742 : BitVec 32 := Scalar.muli v6741 c32_i32_2959
  let v6743 : BitVec 32 := Scalar.addi c0_i32_2960 v6742
  let v6744 : BitVec 32 := v6743
  ![v6744.toNat]
def k0_mult479 (v6750 : BitVec 32) : BitVec 32 :=
  let c0_i32_2964 : BitVec 32 := 0#32
  let c32_i32_2963 : BitVec 32 := 32#32
  let v6751 : BitVec 32 := Scalar.muli v6750 c32_i32_2963
  let v6752 : BitVec 32 := Scalar.addi c0_i32_2964 v6751
  v6752

def k0_off925 (v6750 : BitVec 32) : Fin 1 → Nat :=
  let c0_i32_2964 : BitVec 32 := 0#32
  let c32_i32_2963 : BitVec 32 := 32#32
  let v6751 : BitVec 32 := Scalar.muli v6750 c32_i32_2963
  let v6752 : BitVec 32 := Scalar.addi c0_i32_2964 v6751
  let v6753 : BitVec 32 := v6752
  ![v6753.toNat]
def k0_mult480 (v6759 : BitVec 32) : BitVec 32 :=
  let c0_i32_2968 : BitVec 32 := 0#32
  let c32_i32_2967 : BitVec 32 := 32#32
  let v6760 : BitVec 32 := Scalar.muli v6759 c32_i32_2967
  let v6761 : BitVec 32 := Scalar.addi c0_i32_2968 v6760
  v6761

def k0_off926 (v6759 : BitVec 32) : Fin 1 → Nat :=
  let c0_i32_2968 : BitVec 32 := 0#32
  let c32_i32_2967 : BitVec 32 := 32#32
  let v6760 : BitVec 32 := Scalar.muli v6759 c32_i32_2967
  let v6761 : BitVec 32 := Scalar.addi c0_i32_2968 v6760
  let v6762 : BitVec 32 := v6761
  ![v6762.toNat]
def k0_mult481 (v6768 : BitVec 32) : BitVec 32 :=
  let c0_i32_2972 : BitVec 32 := 0#32
  let c32_i32_2971 : BitVec 32 := 32#32
  let v6769 : BitVec 32 := Scalar.muli v6768 c32_i32_2971
  let v6770 : BitVec 32 := Scalar.addi c0_i32_2972 v6769
  v6770

def k0_off927 (v6768 : BitVec 32) : Fin 1 → Nat :=
  let c0_i32_2972 : BitVec 32 := 0#32
  let c32_i32_2971 : BitVec 32 := 32#32
  let v6769 : BitVec 32 := Scalar.muli v6768 c32_i32_2971
  let v6770 : BitVec 32 := Scalar.addi c0_i32_2972 v6769
  let v6771 : BitVec 32 := v6770
  ![v6771.toNat]

def k0_chk504 (v6768 : BitVec 32) : Prop :=
  (8 ∣ (k0_mult481 v6768).toNat) ∧
  (∀ a, (k0_off927 v6768) a + S32.size a ≤ S3407872.size a)
theorem k0_mult481_dvd : ∀ (v6768 : BitVec 32) (k0_hw504 : k0_chk504 v6768), 8 ∣ (k0_mult481 v6768).toNat := fun v6768 k0_hw504 => k0_hw504.1
theorem k0_off927_inb : ∀ (v6768 : BitVec 32) (k0_hw504 : k0_chk504 v6768), ∀ a, (k0_off927 v6768) a + S32.size a ≤ S3407872.size a := fun v6768 k0_hw504 => k0_hw504.2

def k0_off928 (v6633 : BitVec 32) : Fin 1 → Nat :=
  let c0_i32_2912 : BitVec 32 := 0#32
  let c32_i32_2911 : BitVec 32 := 32#32
  let v6634 : BitVec 32 := Scalar.muli v6633 c32_i32_2911
  let v6635 : BitVec 32 := Scalar.addi c0_i32_2912 v6634
  let v6636 : BitVec 32 := v6635
  ![v6636.toNat]

def k0_chk489 (v6633 : BitVec 32) : Prop :=
  (8 ∣ (k0_mult466 v6633).toNat) ∧
  (∀ a, (k0_off912 v6633) a + S32.size a ≤ S3407872.size a) ∧
  (∀ a, (k0_off928 v6633) a + S32.size a ≤ S3407872.size a)
theorem k0_mult466_dvd : ∀ (v6633 : BitVec 32) (k0_hw489 : k0_chk489 v6633), 8 ∣ (k0_mult466 v6633).toNat := fun v6633 k0_hw489 => k0_hw489.1
theorem k0_off912_inb : ∀ (v6633 : BitVec 32) (k0_hw489 : k0_chk489 v6633), ∀ a, (k0_off912 v6633) a + S32.size a ≤ S3407872.size a := fun v6633 k0_hw489 => k0_hw489.2.1
theorem k0_off928_inb : ∀ (v6633 : BitVec 32) (k0_hw489 : k0_chk489 v6633), ∀ a, (k0_off928 v6633) a + S32.size a ≤ S3407872.size a := fun v6633 k0_hw489 => k0_hw489.2.2

def k0_off929 (v6642 : BitVec 32) : Fin 1 → Nat :=
  let c0_i32_2916 : BitVec 32 := 0#32
  let c32_i32_2915 : BitVec 32 := 32#32
  let v6643 : BitVec 32 := Scalar.muli v6642 c32_i32_2915
  let v6644 : BitVec 32 := Scalar.addi c0_i32_2916 v6643
  let v6645 : BitVec 32 := v6644
  ![v6645.toNat]

def k0_chk490 (v6642 : BitVec 32) : Prop :=
  (8 ∣ (k0_mult467 v6642).toNat) ∧
  (∀ a, (k0_off913 v6642) a + S32.size a ≤ S3407872.size a) ∧
  (∀ a, (k0_off929 v6642) a + S32.size a ≤ S3407872.size a)
theorem k0_mult467_dvd : ∀ (v6642 : BitVec 32) (k0_hw490 : k0_chk490 v6642), 8 ∣ (k0_mult467 v6642).toNat := fun v6642 k0_hw490 => k0_hw490.1
theorem k0_off913_inb : ∀ (v6642 : BitVec 32) (k0_hw490 : k0_chk490 v6642), ∀ a, (k0_off913 v6642) a + S32.size a ≤ S3407872.size a := fun v6642 k0_hw490 => k0_hw490.2.1
theorem k0_off929_inb : ∀ (v6642 : BitVec 32) (k0_hw490 : k0_chk490 v6642), ∀ a, (k0_off929 v6642) a + S32.size a ≤ S3407872.size a := fun v6642 k0_hw490 => k0_hw490.2.2

def k0_off930 (v6651 : BitVec 32) : Fin 1 → Nat :=
  let c0_i32_2920 : BitVec 32 := 0#32
  let c32_i32_2919 : BitVec 32 := 32#32
  let v6652 : BitVec 32 := Scalar.muli v6651 c32_i32_2919
  let v6653 : BitVec 32 := Scalar.addi c0_i32_2920 v6652
  let v6654 : BitVec 32 := v6653
  ![v6654.toNat]

def k0_chk491 (v6651 : BitVec 32) : Prop :=
  (8 ∣ (k0_mult468 v6651).toNat) ∧
  (∀ a, (k0_off914 v6651) a + S32.size a ≤ S3407872.size a) ∧
  (∀ a, (k0_off930 v6651) a + S32.size a ≤ S3407872.size a)
theorem k0_mult468_dvd : ∀ (v6651 : BitVec 32) (k0_hw491 : k0_chk491 v6651), 8 ∣ (k0_mult468 v6651).toNat := fun v6651 k0_hw491 => k0_hw491.1
theorem k0_off914_inb : ∀ (v6651 : BitVec 32) (k0_hw491 : k0_chk491 v6651), ∀ a, (k0_off914 v6651) a + S32.size a ≤ S3407872.size a := fun v6651 k0_hw491 => k0_hw491.2.1
theorem k0_off930_inb : ∀ (v6651 : BitVec 32) (k0_hw491 : k0_chk491 v6651), ∀ a, (k0_off930 v6651) a + S32.size a ≤ S3407872.size a := fun v6651 k0_hw491 => k0_hw491.2.2

def k0_off931 (v6660 : BitVec 32) : Fin 1 → Nat :=
  let c0_i32_2924 : BitVec 32 := 0#32
  let c32_i32_2923 : BitVec 32 := 32#32
  let v6661 : BitVec 32 := Scalar.muli v6660 c32_i32_2923
  let v6662 : BitVec 32 := Scalar.addi c0_i32_2924 v6661
  let v6663 : BitVec 32 := v6662
  ![v6663.toNat]

def k0_chk492 (v6660 : BitVec 32) : Prop :=
  (8 ∣ (k0_mult469 v6660).toNat) ∧
  (∀ a, (k0_off915 v6660) a + S32.size a ≤ S3407872.size a) ∧
  (∀ a, (k0_off931 v6660) a + S32.size a ≤ S3407872.size a)
theorem k0_mult469_dvd : ∀ (v6660 : BitVec 32) (k0_hw492 : k0_chk492 v6660), 8 ∣ (k0_mult469 v6660).toNat := fun v6660 k0_hw492 => k0_hw492.1
theorem k0_off915_inb : ∀ (v6660 : BitVec 32) (k0_hw492 : k0_chk492 v6660), ∀ a, (k0_off915 v6660) a + S32.size a ≤ S3407872.size a := fun v6660 k0_hw492 => k0_hw492.2.1
theorem k0_off931_inb : ∀ (v6660 : BitVec 32) (k0_hw492 : k0_chk492 v6660), ∀ a, (k0_off931 v6660) a + S32.size a ≤ S3407872.size a := fun v6660 k0_hw492 => k0_hw492.2.2

def k0_off932 (v6669 : BitVec 32) : Fin 1 → Nat :=
  let c0_i32_2928 : BitVec 32 := 0#32
  let c32_i32_2927 : BitVec 32 := 32#32
  let v6670 : BitVec 32 := Scalar.muli v6669 c32_i32_2927
  let v6671 : BitVec 32 := Scalar.addi c0_i32_2928 v6670
  let v6672 : BitVec 32 := v6671
  ![v6672.toNat]

def k0_chk493 (v6669 : BitVec 32) : Prop :=
  (8 ∣ (k0_mult470 v6669).toNat) ∧
  (∀ a, (k0_off916 v6669) a + S32.size a ≤ S3407872.size a) ∧
  (∀ a, (k0_off932 v6669) a + S32.size a ≤ S3407872.size a)
theorem k0_mult470_dvd : ∀ (v6669 : BitVec 32) (k0_hw493 : k0_chk493 v6669), 8 ∣ (k0_mult470 v6669).toNat := fun v6669 k0_hw493 => k0_hw493.1
theorem k0_off916_inb : ∀ (v6669 : BitVec 32) (k0_hw493 : k0_chk493 v6669), ∀ a, (k0_off916 v6669) a + S32.size a ≤ S3407872.size a := fun v6669 k0_hw493 => k0_hw493.2.1
theorem k0_off932_inb : ∀ (v6669 : BitVec 32) (k0_hw493 : k0_chk493 v6669), ∀ a, (k0_off932 v6669) a + S32.size a ≤ S3407872.size a := fun v6669 k0_hw493 => k0_hw493.2.2

def k0_off933 (v6678 : BitVec 32) : Fin 1 → Nat :=
  let c0_i32_2932 : BitVec 32 := 0#32
  let c32_i32_2931 : BitVec 32 := 32#32
  let v6679 : BitVec 32 := Scalar.muli v6678 c32_i32_2931
  let v6680 : BitVec 32 := Scalar.addi c0_i32_2932 v6679
  let v6681 : BitVec 32 := v6680
  ![v6681.toNat]

def k0_chk494 (v6678 : BitVec 32) : Prop :=
  (8 ∣ (k0_mult471 v6678).toNat) ∧
  (∀ a, (k0_off917 v6678) a + S32.size a ≤ S3407872.size a) ∧
  (∀ a, (k0_off933 v6678) a + S32.size a ≤ S3407872.size a)
theorem k0_mult471_dvd : ∀ (v6678 : BitVec 32) (k0_hw494 : k0_chk494 v6678), 8 ∣ (k0_mult471 v6678).toNat := fun v6678 k0_hw494 => k0_hw494.1
theorem k0_off917_inb : ∀ (v6678 : BitVec 32) (k0_hw494 : k0_chk494 v6678), ∀ a, (k0_off917 v6678) a + S32.size a ≤ S3407872.size a := fun v6678 k0_hw494 => k0_hw494.2.1
theorem k0_off933_inb : ∀ (v6678 : BitVec 32) (k0_hw494 : k0_chk494 v6678), ∀ a, (k0_off933 v6678) a + S32.size a ≤ S3407872.size a := fun v6678 k0_hw494 => k0_hw494.2.2

def k0_off934 (v6687 : BitVec 32) : Fin 1 → Nat :=
  let c0_i32_2936 : BitVec 32 := 0#32
  let c32_i32_2935 : BitVec 32 := 32#32
  let v6688 : BitVec 32 := Scalar.muli v6687 c32_i32_2935
  let v6689 : BitVec 32 := Scalar.addi c0_i32_2936 v6688
  let v6690 : BitVec 32 := v6689
  ![v6690.toNat]

def k0_chk495 (v6687 : BitVec 32) : Prop :=
  (8 ∣ (k0_mult472 v6687).toNat) ∧
  (∀ a, (k0_off918 v6687) a + S32.size a ≤ S3407872.size a) ∧
  (∀ a, (k0_off934 v6687) a + S32.size a ≤ S3407872.size a)
theorem k0_mult472_dvd : ∀ (v6687 : BitVec 32) (k0_hw495 : k0_chk495 v6687), 8 ∣ (k0_mult472 v6687).toNat := fun v6687 k0_hw495 => k0_hw495.1
theorem k0_off918_inb : ∀ (v6687 : BitVec 32) (k0_hw495 : k0_chk495 v6687), ∀ a, (k0_off918 v6687) a + S32.size a ≤ S3407872.size a := fun v6687 k0_hw495 => k0_hw495.2.1
theorem k0_off934_inb : ∀ (v6687 : BitVec 32) (k0_hw495 : k0_chk495 v6687), ∀ a, (k0_off934 v6687) a + S32.size a ≤ S3407872.size a := fun v6687 k0_hw495 => k0_hw495.2.2

def k0_off935 (v6696 : BitVec 32) : Fin 1 → Nat :=
  let c0_i32_2940 : BitVec 32 := 0#32
  let c32_i32_2939 : BitVec 32 := 32#32
  let v6697 : BitVec 32 := Scalar.muli v6696 c32_i32_2939
  let v6698 : BitVec 32 := Scalar.addi c0_i32_2940 v6697
  let v6699 : BitVec 32 := v6698
  ![v6699.toNat]

def k0_chk496 (v6696 : BitVec 32) : Prop :=
  (8 ∣ (k0_mult473 v6696).toNat) ∧
  (∀ a, (k0_off919 v6696) a + S32.size a ≤ S3407872.size a) ∧
  (∀ a, (k0_off935 v6696) a + S32.size a ≤ S3407872.size a)
theorem k0_mult473_dvd : ∀ (v6696 : BitVec 32) (k0_hw496 : k0_chk496 v6696), 8 ∣ (k0_mult473 v6696).toNat := fun v6696 k0_hw496 => k0_hw496.1
theorem k0_off919_inb : ∀ (v6696 : BitVec 32) (k0_hw496 : k0_chk496 v6696), ∀ a, (k0_off919 v6696) a + S32.size a ≤ S3407872.size a := fun v6696 k0_hw496 => k0_hw496.2.1
theorem k0_off935_inb : ∀ (v6696 : BitVec 32) (k0_hw496 : k0_chk496 v6696), ∀ a, (k0_off935 v6696) a + S32.size a ≤ S3407872.size a := fun v6696 k0_hw496 => k0_hw496.2.2

def k0_off936 (v6705 : BitVec 32) : Fin 1 → Nat :=
  let c0_i32_2944 : BitVec 32 := 0#32
  let c32_i32_2943 : BitVec 32 := 32#32
  let v6706 : BitVec 32 := Scalar.muli v6705 c32_i32_2943
  let v6707 : BitVec 32 := Scalar.addi c0_i32_2944 v6706
  let v6708 : BitVec 32 := v6707
  ![v6708.toNat]

def k0_chk497 (v6705 : BitVec 32) : Prop :=
  (8 ∣ (k0_mult474 v6705).toNat) ∧
  (∀ a, (k0_off920 v6705) a + S32.size a ≤ S3407872.size a) ∧
  (∀ a, (k0_off936 v6705) a + S32.size a ≤ S3407872.size a)
theorem k0_mult474_dvd : ∀ (v6705 : BitVec 32) (k0_hw497 : k0_chk497 v6705), 8 ∣ (k0_mult474 v6705).toNat := fun v6705 k0_hw497 => k0_hw497.1
theorem k0_off920_inb : ∀ (v6705 : BitVec 32) (k0_hw497 : k0_chk497 v6705), ∀ a, (k0_off920 v6705) a + S32.size a ≤ S3407872.size a := fun v6705 k0_hw497 => k0_hw497.2.1
theorem k0_off936_inb : ∀ (v6705 : BitVec 32) (k0_hw497 : k0_chk497 v6705), ∀ a, (k0_off936 v6705) a + S32.size a ≤ S3407872.size a := fun v6705 k0_hw497 => k0_hw497.2.2

def k0_off937 (v6714 : BitVec 32) : Fin 1 → Nat :=
  let c0_i32_2948 : BitVec 32 := 0#32
  let c32_i32_2947 : BitVec 32 := 32#32
  let v6715 : BitVec 32 := Scalar.muli v6714 c32_i32_2947
  let v6716 : BitVec 32 := Scalar.addi c0_i32_2948 v6715
  let v6717 : BitVec 32 := v6716
  ![v6717.toNat]

def k0_chk498 (v6714 : BitVec 32) : Prop :=
  (8 ∣ (k0_mult475 v6714).toNat) ∧
  (∀ a, (k0_off921 v6714) a + S32.size a ≤ S3407872.size a) ∧
  (∀ a, (k0_off937 v6714) a + S32.size a ≤ S3407872.size a)
theorem k0_mult475_dvd : ∀ (v6714 : BitVec 32) (k0_hw498 : k0_chk498 v6714), 8 ∣ (k0_mult475 v6714).toNat := fun v6714 k0_hw498 => k0_hw498.1
theorem k0_off921_inb : ∀ (v6714 : BitVec 32) (k0_hw498 : k0_chk498 v6714), ∀ a, (k0_off921 v6714) a + S32.size a ≤ S3407872.size a := fun v6714 k0_hw498 => k0_hw498.2.1
theorem k0_off937_inb : ∀ (v6714 : BitVec 32) (k0_hw498 : k0_chk498 v6714), ∀ a, (k0_off937 v6714) a + S32.size a ≤ S3407872.size a := fun v6714 k0_hw498 => k0_hw498.2.2

def k0_off938 (v6723 : BitVec 32) : Fin 1 → Nat :=
  let c0_i32_2952 : BitVec 32 := 0#32
  let c32_i32_2951 : BitVec 32 := 32#32
  let v6724 : BitVec 32 := Scalar.muli v6723 c32_i32_2951
  let v6725 : BitVec 32 := Scalar.addi c0_i32_2952 v6724
  let v6726 : BitVec 32 := v6725
  ![v6726.toNat]

def k0_chk499 (v6723 : BitVec 32) : Prop :=
  (8 ∣ (k0_mult476 v6723).toNat) ∧
  (∀ a, (k0_off922 v6723) a + S32.size a ≤ S3407872.size a) ∧
  (∀ a, (k0_off938 v6723) a + S32.size a ≤ S3407872.size a)
theorem k0_mult476_dvd : ∀ (v6723 : BitVec 32) (k0_hw499 : k0_chk499 v6723), 8 ∣ (k0_mult476 v6723).toNat := fun v6723 k0_hw499 => k0_hw499.1
theorem k0_off922_inb : ∀ (v6723 : BitVec 32) (k0_hw499 : k0_chk499 v6723), ∀ a, (k0_off922 v6723) a + S32.size a ≤ S3407872.size a := fun v6723 k0_hw499 => k0_hw499.2.1
theorem k0_off938_inb : ∀ (v6723 : BitVec 32) (k0_hw499 : k0_chk499 v6723), ∀ a, (k0_off938 v6723) a + S32.size a ≤ S3407872.size a := fun v6723 k0_hw499 => k0_hw499.2.2

def k0_off939 (v6732 : BitVec 32) : Fin 1 → Nat :=
  let c0_i32_2956 : BitVec 32 := 0#32
  let c32_i32_2955 : BitVec 32 := 32#32
  let v6733 : BitVec 32 := Scalar.muli v6732 c32_i32_2955
  let v6734 : BitVec 32 := Scalar.addi c0_i32_2956 v6733
  let v6735 : BitVec 32 := v6734
  ![v6735.toNat]

def k0_chk500 (v6732 : BitVec 32) : Prop :=
  (8 ∣ (k0_mult477 v6732).toNat) ∧
  (∀ a, (k0_off923 v6732) a + S32.size a ≤ S3407872.size a) ∧
  (∀ a, (k0_off939 v6732) a + S32.size a ≤ S3407872.size a)
theorem k0_mult477_dvd : ∀ (v6732 : BitVec 32) (k0_hw500 : k0_chk500 v6732), 8 ∣ (k0_mult477 v6732).toNat := fun v6732 k0_hw500 => k0_hw500.1
theorem k0_off923_inb : ∀ (v6732 : BitVec 32) (k0_hw500 : k0_chk500 v6732), ∀ a, (k0_off923 v6732) a + S32.size a ≤ S3407872.size a := fun v6732 k0_hw500 => k0_hw500.2.1
theorem k0_off939_inb : ∀ (v6732 : BitVec 32) (k0_hw500 : k0_chk500 v6732), ∀ a, (k0_off939 v6732) a + S32.size a ≤ S3407872.size a := fun v6732 k0_hw500 => k0_hw500.2.2

def k0_off940 (v6741 : BitVec 32) : Fin 1 → Nat :=
  let c0_i32_2960 : BitVec 32 := 0#32
  let c32_i32_2959 : BitVec 32 := 32#32
  let v6742 : BitVec 32 := Scalar.muli v6741 c32_i32_2959
  let v6743 : BitVec 32 := Scalar.addi c0_i32_2960 v6742
  let v6744 : BitVec 32 := v6743
  ![v6744.toNat]

def k0_chk501 (v6741 : BitVec 32) : Prop :=
  (8 ∣ (k0_mult478 v6741).toNat) ∧
  (∀ a, (k0_off924 v6741) a + S32.size a ≤ S3407872.size a) ∧
  (∀ a, (k0_off940 v6741) a + S32.size a ≤ S3407872.size a)
theorem k0_mult478_dvd : ∀ (v6741 : BitVec 32) (k0_hw501 : k0_chk501 v6741), 8 ∣ (k0_mult478 v6741).toNat := fun v6741 k0_hw501 => k0_hw501.1
theorem k0_off924_inb : ∀ (v6741 : BitVec 32) (k0_hw501 : k0_chk501 v6741), ∀ a, (k0_off924 v6741) a + S32.size a ≤ S3407872.size a := fun v6741 k0_hw501 => k0_hw501.2.1
theorem k0_off940_inb : ∀ (v6741 : BitVec 32) (k0_hw501 : k0_chk501 v6741), ∀ a, (k0_off940 v6741) a + S32.size a ≤ S3407872.size a := fun v6741 k0_hw501 => k0_hw501.2.2

def k0_off941 (v6750 : BitVec 32) : Fin 1 → Nat :=
  let c0_i32_2964 : BitVec 32 := 0#32
  let c32_i32_2963 : BitVec 32 := 32#32
  let v6751 : BitVec 32 := Scalar.muli v6750 c32_i32_2963
  let v6752 : BitVec 32 := Scalar.addi c0_i32_2964 v6751
  let v6753 : BitVec 32 := v6752
  ![v6753.toNat]

def k0_chk502 (v6750 : BitVec 32) : Prop :=
  (8 ∣ (k0_mult479 v6750).toNat) ∧
  (∀ a, (k0_off925 v6750) a + S32.size a ≤ S3407872.size a) ∧
  (∀ a, (k0_off941 v6750) a + S32.size a ≤ S3407872.size a)
theorem k0_mult479_dvd : ∀ (v6750 : BitVec 32) (k0_hw502 : k0_chk502 v6750), 8 ∣ (k0_mult479 v6750).toNat := fun v6750 k0_hw502 => k0_hw502.1
theorem k0_off925_inb : ∀ (v6750 : BitVec 32) (k0_hw502 : k0_chk502 v6750), ∀ a, (k0_off925 v6750) a + S32.size a ≤ S3407872.size a := fun v6750 k0_hw502 => k0_hw502.2.1
theorem k0_off941_inb : ∀ (v6750 : BitVec 32) (k0_hw502 : k0_chk502 v6750), ∀ a, (k0_off941 v6750) a + S32.size a ≤ S3407872.size a := fun v6750 k0_hw502 => k0_hw502.2.2

def k0_off942 (v6759 : BitVec 32) : Fin 1 → Nat :=
  let c0_i32_2968 : BitVec 32 := 0#32
  let c32_i32_2967 : BitVec 32 := 32#32
  let v6760 : BitVec 32 := Scalar.muli v6759 c32_i32_2967
  let v6761 : BitVec 32 := Scalar.addi c0_i32_2968 v6760
  let v6762 : BitVec 32 := v6761
  ![v6762.toNat]

def k0_chk503 (v6759 : BitVec 32) : Prop :=
  (8 ∣ (k0_mult480 v6759).toNat) ∧
  (∀ a, (k0_off926 v6759) a + S32.size a ≤ S3407872.size a) ∧
  (∀ a, (k0_off942 v6759) a + S32.size a ≤ S3407872.size a)
theorem k0_mult480_dvd : ∀ (v6759 : BitVec 32) (k0_hw503 : k0_chk503 v6759), 8 ∣ (k0_mult480 v6759).toNat := fun v6759 k0_hw503 => k0_hw503.1
theorem k0_off926_inb : ∀ (v6759 : BitVec 32) (k0_hw503 : k0_chk503 v6759), ∀ a, (k0_off926 v6759) a + S32.size a ≤ S3407872.size a := fun v6759 k0_hw503 => k0_hw503.2.1
theorem k0_off942_inb : ∀ (v6759 : BitVec 32) (k0_hw503 : k0_chk503 v6759), ∀ a, (k0_off942 v6759) a + S32.size a ≤ S3407872.size a := fun v6759 k0_hw503 => k0_hw503.2.2

def k0_mult482 (v6843 : BitVec 32) : BitVec 32 :=
  let c999936_i32_3009 : BitVec 32 := 999936#32
  let v6844 : BitVec 32 := Scalar.subi v6843 c999936_i32_3009
  let c32_i32_3010 : BitVec 32 := 32#32
  let v6845 : BitVec 32 := Scalar.muli v6844 c32_i32_3010
  v6845

def k0_off943 (v6843 : BitVec 32) : Fin 1 → Nat :=
  let c999936_i32_3009 : BitVec 32 := 999936#32
  let v6844 : BitVec 32 := Scalar.subi v6843 c999936_i32_3009
  let c32_i32_3010 : BitVec 32 := 32#32
  let v6845 : BitVec 32 := Scalar.muli v6844 c32_i32_3010
  let v6846 : BitVec 32 := v6845
  ![v6846.toNat]
def k0_mult483 (v6852 : BitVec 32) : BitVec 32 :=
  let c999936_i32_3012 : BitVec 32 := 999936#32
  let v6853 : BitVec 32 := Scalar.subi v6852 c999936_i32_3012
  let c32_i32_3013 : BitVec 32 := 32#32
  let v6854 : BitVec 32 := Scalar.muli v6853 c32_i32_3013
  v6854

def k0_off944 (v6852 : BitVec 32) : Fin 1 → Nat :=
  let c999936_i32_3012 : BitVec 32 := 999936#32
  let v6853 : BitVec 32 := Scalar.subi v6852 c999936_i32_3012
  let c32_i32_3013 : BitVec 32 := 32#32
  let v6854 : BitVec 32 := Scalar.muli v6853 c32_i32_3013
  let v6855 : BitVec 32 := v6854
  ![v6855.toNat]
def k0_mult484 (v6861 : BitVec 32) : BitVec 32 :=
  let c999936_i32_3015 : BitVec 32 := 999936#32
  let v6862 : BitVec 32 := Scalar.subi v6861 c999936_i32_3015
  let c32_i32_3016 : BitVec 32 := 32#32
  let v6863 : BitVec 32 := Scalar.muli v6862 c32_i32_3016
  v6863

def k0_off945 (v6861 : BitVec 32) : Fin 1 → Nat :=
  let c999936_i32_3015 : BitVec 32 := 999936#32
  let v6862 : BitVec 32 := Scalar.subi v6861 c999936_i32_3015
  let c32_i32_3016 : BitVec 32 := 32#32
  let v6863 : BitVec 32 := Scalar.muli v6862 c32_i32_3016
  let v6864 : BitVec 32 := v6863
  ![v6864.toNat]
def k0_mult485 (v6870 : BitVec 32) : BitVec 32 :=
  let c999936_i32_3018 : BitVec 32 := 999936#32
  let v6871 : BitVec 32 := Scalar.subi v6870 c999936_i32_3018
  let c32_i32_3019 : BitVec 32 := 32#32
  let v6872 : BitVec 32 := Scalar.muli v6871 c32_i32_3019
  v6872

def k0_off946 (v6870 : BitVec 32) : Fin 1 → Nat :=
  let c999936_i32_3018 : BitVec 32 := 999936#32
  let v6871 : BitVec 32 := Scalar.subi v6870 c999936_i32_3018
  let c32_i32_3019 : BitVec 32 := 32#32
  let v6872 : BitVec 32 := Scalar.muli v6871 c32_i32_3019
  let v6873 : BitVec 32 := v6872
  ![v6873.toNat]
def k0_mult486 (v6879 : BitVec 32) : BitVec 32 :=
  let c999936_i32_3021 : BitVec 32 := 999936#32
  let v6880 : BitVec 32 := Scalar.subi v6879 c999936_i32_3021
  let c32_i32_3022 : BitVec 32 := 32#32
  let v6881 : BitVec 32 := Scalar.muli v6880 c32_i32_3022
  v6881

def k0_off947 (v6879 : BitVec 32) : Fin 1 → Nat :=
  let c999936_i32_3021 : BitVec 32 := 999936#32
  let v6880 : BitVec 32 := Scalar.subi v6879 c999936_i32_3021
  let c32_i32_3022 : BitVec 32 := 32#32
  let v6881 : BitVec 32 := Scalar.muli v6880 c32_i32_3022
  let v6882 : BitVec 32 := v6881
  ![v6882.toNat]
def k0_mult487 (v6888 : BitVec 32) : BitVec 32 :=
  let c999936_i32_3024 : BitVec 32 := 999936#32
  let v6889 : BitVec 32 := Scalar.subi v6888 c999936_i32_3024
  let c32_i32_3025 : BitVec 32 := 32#32
  let v6890 : BitVec 32 := Scalar.muli v6889 c32_i32_3025
  v6890

def k0_off948 (v6888 : BitVec 32) : Fin 1 → Nat :=
  let c999936_i32_3024 : BitVec 32 := 999936#32
  let v6889 : BitVec 32 := Scalar.subi v6888 c999936_i32_3024
  let c32_i32_3025 : BitVec 32 := 32#32
  let v6890 : BitVec 32 := Scalar.muli v6889 c32_i32_3025
  let v6891 : BitVec 32 := v6890
  ![v6891.toNat]
def k0_mult488 (v6897 : BitVec 32) : BitVec 32 :=
  let c999936_i32_3027 : BitVec 32 := 999936#32
  let v6898 : BitVec 32 := Scalar.subi v6897 c999936_i32_3027
  let c32_i32_3028 : BitVec 32 := 32#32
  let v6899 : BitVec 32 := Scalar.muli v6898 c32_i32_3028
  v6899

def k0_off949 (v6897 : BitVec 32) : Fin 1 → Nat :=
  let c999936_i32_3027 : BitVec 32 := 999936#32
  let v6898 : BitVec 32 := Scalar.subi v6897 c999936_i32_3027
  let c32_i32_3028 : BitVec 32 := 32#32
  let v6899 : BitVec 32 := Scalar.muli v6898 c32_i32_3028
  let v6900 : BitVec 32 := v6899
  ![v6900.toNat]
def k0_mult489 (v6906 : BitVec 32) : BitVec 32 :=
  let c999936_i32_3030 : BitVec 32 := 999936#32
  let v6907 : BitVec 32 := Scalar.subi v6906 c999936_i32_3030
  let c32_i32_3031 : BitVec 32 := 32#32
  let v6908 : BitVec 32 := Scalar.muli v6907 c32_i32_3031
  v6908

def k0_off950 (v6906 : BitVec 32) : Fin 1 → Nat :=
  let c999936_i32_3030 : BitVec 32 := 999936#32
  let v6907 : BitVec 32 := Scalar.subi v6906 c999936_i32_3030
  let c32_i32_3031 : BitVec 32 := 32#32
  let v6908 : BitVec 32 := Scalar.muli v6907 c32_i32_3031
  let v6909 : BitVec 32 := v6908
  ![v6909.toNat]
def k0_mult490 (v6915 : BitVec 32) : BitVec 32 :=
  let c999936_i32_3033 : BitVec 32 := 999936#32
  let v6916 : BitVec 32 := Scalar.subi v6915 c999936_i32_3033
  let c32_i32_3034 : BitVec 32 := 32#32
  let v6917 : BitVec 32 := Scalar.muli v6916 c32_i32_3034
  v6917

def k0_off951 (v6915 : BitVec 32) : Fin 1 → Nat :=
  let c999936_i32_3033 : BitVec 32 := 999936#32
  let v6916 : BitVec 32 := Scalar.subi v6915 c999936_i32_3033
  let c32_i32_3034 : BitVec 32 := 32#32
  let v6917 : BitVec 32 := Scalar.muli v6916 c32_i32_3034
  let v6918 : BitVec 32 := v6917
  ![v6918.toNat]
def k0_mult491 (v6924 : BitVec 32) : BitVec 32 :=
  let c999936_i32_3036 : BitVec 32 := 999936#32
  let v6925 : BitVec 32 := Scalar.subi v6924 c999936_i32_3036
  let c32_i32_3037 : BitVec 32 := 32#32
  let v6926 : BitVec 32 := Scalar.muli v6925 c32_i32_3037
  v6926

def k0_off952 (v6924 : BitVec 32) : Fin 1 → Nat :=
  let c999936_i32_3036 : BitVec 32 := 999936#32
  let v6925 : BitVec 32 := Scalar.subi v6924 c999936_i32_3036
  let c32_i32_3037 : BitVec 32 := 32#32
  let v6926 : BitVec 32 := Scalar.muli v6925 c32_i32_3037
  let v6927 : BitVec 32 := v6926
  ![v6927.toNat]
def k0_mult492 (v6933 : BitVec 32) : BitVec 32 :=
  let c999936_i32_3039 : BitVec 32 := 999936#32
  let v6934 : BitVec 32 := Scalar.subi v6933 c999936_i32_3039
  let c32_i32_3040 : BitVec 32 := 32#32
  let v6935 : BitVec 32 := Scalar.muli v6934 c32_i32_3040
  v6935

def k0_off953 (v6933 : BitVec 32) : Fin 1 → Nat :=
  let c999936_i32_3039 : BitVec 32 := 999936#32
  let v6934 : BitVec 32 := Scalar.subi v6933 c999936_i32_3039
  let c32_i32_3040 : BitVec 32 := 32#32
  let v6935 : BitVec 32 := Scalar.muli v6934 c32_i32_3040
  let v6936 : BitVec 32 := v6935
  ![v6936.toNat]
def k0_mult493 (v6942 : BitVec 32) : BitVec 32 :=
  let c999936_i32_3042 : BitVec 32 := 999936#32
  let v6943 : BitVec 32 := Scalar.subi v6942 c999936_i32_3042
  let c32_i32_3043 : BitVec 32 := 32#32
  let v6944 : BitVec 32 := Scalar.muli v6943 c32_i32_3043
  v6944

def k0_off954 (v6942 : BitVec 32) : Fin 1 → Nat :=
  let c999936_i32_3042 : BitVec 32 := 999936#32
  let v6943 : BitVec 32 := Scalar.subi v6942 c999936_i32_3042
  let c32_i32_3043 : BitVec 32 := 32#32
  let v6944 : BitVec 32 := Scalar.muli v6943 c32_i32_3043
  let v6945 : BitVec 32 := v6944
  ![v6945.toNat]
def k0_mult494 (v6951 : BitVec 32) : BitVec 32 :=
  let c999936_i32_3045 : BitVec 32 := 999936#32
  let v6952 : BitVec 32 := Scalar.subi v6951 c999936_i32_3045
  let c32_i32_3046 : BitVec 32 := 32#32
  let v6953 : BitVec 32 := Scalar.muli v6952 c32_i32_3046
  v6953

def k0_off955 (v6951 : BitVec 32) : Fin 1 → Nat :=
  let c999936_i32_3045 : BitVec 32 := 999936#32
  let v6952 : BitVec 32 := Scalar.subi v6951 c999936_i32_3045
  let c32_i32_3046 : BitVec 32 := 32#32
  let v6953 : BitVec 32 := Scalar.muli v6952 c32_i32_3046
  let v6954 : BitVec 32 := v6953
  ![v6954.toNat]
def k0_mult495 (v6960 : BitVec 32) : BitVec 32 :=
  let c999936_i32_3048 : BitVec 32 := 999936#32
  let v6961 : BitVec 32 := Scalar.subi v6960 c999936_i32_3048
  let c32_i32_3049 : BitVec 32 := 32#32
  let v6962 : BitVec 32 := Scalar.muli v6961 c32_i32_3049
  v6962

def k0_off956 (v6960 : BitVec 32) : Fin 1 → Nat :=
  let c999936_i32_3048 : BitVec 32 := 999936#32
  let v6961 : BitVec 32 := Scalar.subi v6960 c999936_i32_3048
  let c32_i32_3049 : BitVec 32 := 32#32
  let v6962 : BitVec 32 := Scalar.muli v6961 c32_i32_3049
  let v6963 : BitVec 32 := v6962
  ![v6963.toNat]
def k0_mult496 (v6969 : BitVec 32) : BitVec 32 :=
  let c999936_i32_3051 : BitVec 32 := 999936#32
  let v6970 : BitVec 32 := Scalar.subi v6969 c999936_i32_3051
  let c32_i32_3052 : BitVec 32 := 32#32
  let v6971 : BitVec 32 := Scalar.muli v6970 c32_i32_3052
  v6971

def k0_off957 (v6969 : BitVec 32) : Fin 1 → Nat :=
  let c999936_i32_3051 : BitVec 32 := 999936#32
  let v6970 : BitVec 32 := Scalar.subi v6969 c999936_i32_3051
  let c32_i32_3052 : BitVec 32 := 32#32
  let v6971 : BitVec 32 := Scalar.muli v6970 c32_i32_3052
  let v6972 : BitVec 32 := v6971
  ![v6972.toNat]
def k0_mult497 (v6978 : BitVec 32) : BitVec 32 :=
  let c999936_i32_3054 : BitVec 32 := 999936#32
  let v6979 : BitVec 32 := Scalar.subi v6978 c999936_i32_3054
  let c32_i32_3055 : BitVec 32 := 32#32
  let v6980 : BitVec 32 := Scalar.muli v6979 c32_i32_3055
  v6980

def k0_off958 (v6978 : BitVec 32) : Fin 1 → Nat :=
  let c999936_i32_3054 : BitVec 32 := 999936#32
  let v6979 : BitVec 32 := Scalar.subi v6978 c999936_i32_3054
  let c32_i32_3055 : BitVec 32 := 32#32
  let v6980 : BitVec 32 := Scalar.muli v6979 c32_i32_3055
  let v6981 : BitVec 32 := v6980
  ![v6981.toNat]

def k0_chk520 (v6978 : BitVec 32) : Prop :=
  (8 ∣ (k0_mult497 v6978).toNat) ∧
  (∀ a, (k0_off958 v6978) a + S32.size a ≤ S2048.size a)
theorem k0_mult497_dvd : ∀ (v6978 : BitVec 32) (k0_hw520 : k0_chk520 v6978), 8 ∣ (k0_mult497 v6978).toNat := fun v6978 k0_hw520 => k0_hw520.1
theorem k0_off958_inb : ∀ (v6978 : BitVec 32) (k0_hw520 : k0_chk520 v6978), ∀ a, (k0_off958 v6978) a + S32.size a ≤ S2048.size a := fun v6978 k0_hw520 => k0_hw520.2

def k0_off959 (v6843 : BitVec 32) : Fin 1 → Nat :=
  let c999936_i32_3009 : BitVec 32 := 999936#32
  let v6844 : BitVec 32 := Scalar.subi v6843 c999936_i32_3009
  let c32_i32_3010 : BitVec 32 := 32#32
  let v6845 : BitVec 32 := Scalar.muli v6844 c32_i32_3010
  let v6846 : BitVec 32 := v6845
  ![v6846.toNat]

def k0_chk505 (v6843 : BitVec 32) : Prop :=
  (8 ∣ (k0_mult482 v6843).toNat) ∧
  (∀ a, (k0_off943 v6843) a + S32.size a ≤ S2048.size a) ∧
  (∀ a, (k0_off959 v6843) a + S32.size a ≤ S2048.size a)
theorem k0_mult482_dvd : ∀ (v6843 : BitVec 32) (k0_hw505 : k0_chk505 v6843), 8 ∣ (k0_mult482 v6843).toNat := fun v6843 k0_hw505 => k0_hw505.1
theorem k0_off943_inb : ∀ (v6843 : BitVec 32) (k0_hw505 : k0_chk505 v6843), ∀ a, (k0_off943 v6843) a + S32.size a ≤ S2048.size a := fun v6843 k0_hw505 => k0_hw505.2.1
theorem k0_off959_inb : ∀ (v6843 : BitVec 32) (k0_hw505 : k0_chk505 v6843), ∀ a, (k0_off959 v6843) a + S32.size a ≤ S2048.size a := fun v6843 k0_hw505 => k0_hw505.2.2

def k0_off960 (v6852 : BitVec 32) : Fin 1 → Nat :=
  let c999936_i32_3012 : BitVec 32 := 999936#32
  let v6853 : BitVec 32 := Scalar.subi v6852 c999936_i32_3012
  let c32_i32_3013 : BitVec 32 := 32#32
  let v6854 : BitVec 32 := Scalar.muli v6853 c32_i32_3013
  let v6855 : BitVec 32 := v6854
  ![v6855.toNat]

def k0_chk506 (v6852 : BitVec 32) : Prop :=
  (8 ∣ (k0_mult483 v6852).toNat) ∧
  (∀ a, (k0_off944 v6852) a + S32.size a ≤ S2048.size a) ∧
  (∀ a, (k0_off960 v6852) a + S32.size a ≤ S2048.size a)
theorem k0_mult483_dvd : ∀ (v6852 : BitVec 32) (k0_hw506 : k0_chk506 v6852), 8 ∣ (k0_mult483 v6852).toNat := fun v6852 k0_hw506 => k0_hw506.1
theorem k0_off944_inb : ∀ (v6852 : BitVec 32) (k0_hw506 : k0_chk506 v6852), ∀ a, (k0_off944 v6852) a + S32.size a ≤ S2048.size a := fun v6852 k0_hw506 => k0_hw506.2.1
theorem k0_off960_inb : ∀ (v6852 : BitVec 32) (k0_hw506 : k0_chk506 v6852), ∀ a, (k0_off960 v6852) a + S32.size a ≤ S2048.size a := fun v6852 k0_hw506 => k0_hw506.2.2

def k0_off961 (v6861 : BitVec 32) : Fin 1 → Nat :=
  let c999936_i32_3015 : BitVec 32 := 999936#32
  let v6862 : BitVec 32 := Scalar.subi v6861 c999936_i32_3015
  let c32_i32_3016 : BitVec 32 := 32#32
  let v6863 : BitVec 32 := Scalar.muli v6862 c32_i32_3016
  let v6864 : BitVec 32 := v6863
  ![v6864.toNat]

def k0_chk507 (v6861 : BitVec 32) : Prop :=
  (8 ∣ (k0_mult484 v6861).toNat) ∧
  (∀ a, (k0_off945 v6861) a + S32.size a ≤ S2048.size a) ∧
  (∀ a, (k0_off961 v6861) a + S32.size a ≤ S2048.size a)
theorem k0_mult484_dvd : ∀ (v6861 : BitVec 32) (k0_hw507 : k0_chk507 v6861), 8 ∣ (k0_mult484 v6861).toNat := fun v6861 k0_hw507 => k0_hw507.1
theorem k0_off945_inb : ∀ (v6861 : BitVec 32) (k0_hw507 : k0_chk507 v6861), ∀ a, (k0_off945 v6861) a + S32.size a ≤ S2048.size a := fun v6861 k0_hw507 => k0_hw507.2.1
theorem k0_off961_inb : ∀ (v6861 : BitVec 32) (k0_hw507 : k0_chk507 v6861), ∀ a, (k0_off961 v6861) a + S32.size a ≤ S2048.size a := fun v6861 k0_hw507 => k0_hw507.2.2

def k0_off962 (v6870 : BitVec 32) : Fin 1 → Nat :=
  let c999936_i32_3018 : BitVec 32 := 999936#32
  let v6871 : BitVec 32 := Scalar.subi v6870 c999936_i32_3018
  let c32_i32_3019 : BitVec 32 := 32#32
  let v6872 : BitVec 32 := Scalar.muli v6871 c32_i32_3019
  let v6873 : BitVec 32 := v6872
  ![v6873.toNat]

def k0_chk508 (v6870 : BitVec 32) : Prop :=
  (8 ∣ (k0_mult485 v6870).toNat) ∧
  (∀ a, (k0_off946 v6870) a + S32.size a ≤ S2048.size a) ∧
  (∀ a, (k0_off962 v6870) a + S32.size a ≤ S2048.size a)
theorem k0_mult485_dvd : ∀ (v6870 : BitVec 32) (k0_hw508 : k0_chk508 v6870), 8 ∣ (k0_mult485 v6870).toNat := fun v6870 k0_hw508 => k0_hw508.1
theorem k0_off946_inb : ∀ (v6870 : BitVec 32) (k0_hw508 : k0_chk508 v6870), ∀ a, (k0_off946 v6870) a + S32.size a ≤ S2048.size a := fun v6870 k0_hw508 => k0_hw508.2.1
theorem k0_off962_inb : ∀ (v6870 : BitVec 32) (k0_hw508 : k0_chk508 v6870), ∀ a, (k0_off962 v6870) a + S32.size a ≤ S2048.size a := fun v6870 k0_hw508 => k0_hw508.2.2

def k0_off963 (v6879 : BitVec 32) : Fin 1 → Nat :=
  let c999936_i32_3021 : BitVec 32 := 999936#32
  let v6880 : BitVec 32 := Scalar.subi v6879 c999936_i32_3021
  let c32_i32_3022 : BitVec 32 := 32#32
  let v6881 : BitVec 32 := Scalar.muli v6880 c32_i32_3022
  let v6882 : BitVec 32 := v6881
  ![v6882.toNat]

def k0_chk509 (v6879 : BitVec 32) : Prop :=
  (8 ∣ (k0_mult486 v6879).toNat) ∧
  (∀ a, (k0_off947 v6879) a + S32.size a ≤ S2048.size a) ∧
  (∀ a, (k0_off963 v6879) a + S32.size a ≤ S2048.size a)
theorem k0_mult486_dvd : ∀ (v6879 : BitVec 32) (k0_hw509 : k0_chk509 v6879), 8 ∣ (k0_mult486 v6879).toNat := fun v6879 k0_hw509 => k0_hw509.1
theorem k0_off947_inb : ∀ (v6879 : BitVec 32) (k0_hw509 : k0_chk509 v6879), ∀ a, (k0_off947 v6879) a + S32.size a ≤ S2048.size a := fun v6879 k0_hw509 => k0_hw509.2.1
theorem k0_off963_inb : ∀ (v6879 : BitVec 32) (k0_hw509 : k0_chk509 v6879), ∀ a, (k0_off963 v6879) a + S32.size a ≤ S2048.size a := fun v6879 k0_hw509 => k0_hw509.2.2

def k0_off964 (v6888 : BitVec 32) : Fin 1 → Nat :=
  let c999936_i32_3024 : BitVec 32 := 999936#32
  let v6889 : BitVec 32 := Scalar.subi v6888 c999936_i32_3024
  let c32_i32_3025 : BitVec 32 := 32#32
  let v6890 : BitVec 32 := Scalar.muli v6889 c32_i32_3025
  let v6891 : BitVec 32 := v6890
  ![v6891.toNat]

def k0_chk510 (v6888 : BitVec 32) : Prop :=
  (8 ∣ (k0_mult487 v6888).toNat) ∧
  (∀ a, (k0_off948 v6888) a + S32.size a ≤ S2048.size a) ∧
  (∀ a, (k0_off964 v6888) a + S32.size a ≤ S2048.size a)
theorem k0_mult487_dvd : ∀ (v6888 : BitVec 32) (k0_hw510 : k0_chk510 v6888), 8 ∣ (k0_mult487 v6888).toNat := fun v6888 k0_hw510 => k0_hw510.1
theorem k0_off948_inb : ∀ (v6888 : BitVec 32) (k0_hw510 : k0_chk510 v6888), ∀ a, (k0_off948 v6888) a + S32.size a ≤ S2048.size a := fun v6888 k0_hw510 => k0_hw510.2.1
theorem k0_off964_inb : ∀ (v6888 : BitVec 32) (k0_hw510 : k0_chk510 v6888), ∀ a, (k0_off964 v6888) a + S32.size a ≤ S2048.size a := fun v6888 k0_hw510 => k0_hw510.2.2

def k0_off965 (v6897 : BitVec 32) : Fin 1 → Nat :=
  let c999936_i32_3027 : BitVec 32 := 999936#32
  let v6898 : BitVec 32 := Scalar.subi v6897 c999936_i32_3027
  let c32_i32_3028 : BitVec 32 := 32#32
  let v6899 : BitVec 32 := Scalar.muli v6898 c32_i32_3028
  let v6900 : BitVec 32 := v6899
  ![v6900.toNat]

def k0_chk511 (v6897 : BitVec 32) : Prop :=
  (8 ∣ (k0_mult488 v6897).toNat) ∧
  (∀ a, (k0_off949 v6897) a + S32.size a ≤ S2048.size a) ∧
  (∀ a, (k0_off965 v6897) a + S32.size a ≤ S2048.size a)
theorem k0_mult488_dvd : ∀ (v6897 : BitVec 32) (k0_hw511 : k0_chk511 v6897), 8 ∣ (k0_mult488 v6897).toNat := fun v6897 k0_hw511 => k0_hw511.1
theorem k0_off949_inb : ∀ (v6897 : BitVec 32) (k0_hw511 : k0_chk511 v6897), ∀ a, (k0_off949 v6897) a + S32.size a ≤ S2048.size a := fun v6897 k0_hw511 => k0_hw511.2.1
theorem k0_off965_inb : ∀ (v6897 : BitVec 32) (k0_hw511 : k0_chk511 v6897), ∀ a, (k0_off965 v6897) a + S32.size a ≤ S2048.size a := fun v6897 k0_hw511 => k0_hw511.2.2

def k0_off966 (v6906 : BitVec 32) : Fin 1 → Nat :=
  let c999936_i32_3030 : BitVec 32 := 999936#32
  let v6907 : BitVec 32 := Scalar.subi v6906 c999936_i32_3030
  let c32_i32_3031 : BitVec 32 := 32#32
  let v6908 : BitVec 32 := Scalar.muli v6907 c32_i32_3031
  let v6909 : BitVec 32 := v6908
  ![v6909.toNat]

def k0_chk512 (v6906 : BitVec 32) : Prop :=
  (8 ∣ (k0_mult489 v6906).toNat) ∧
  (∀ a, (k0_off950 v6906) a + S32.size a ≤ S2048.size a) ∧
  (∀ a, (k0_off966 v6906) a + S32.size a ≤ S2048.size a)
theorem k0_mult489_dvd : ∀ (v6906 : BitVec 32) (k0_hw512 : k0_chk512 v6906), 8 ∣ (k0_mult489 v6906).toNat := fun v6906 k0_hw512 => k0_hw512.1
theorem k0_off950_inb : ∀ (v6906 : BitVec 32) (k0_hw512 : k0_chk512 v6906), ∀ a, (k0_off950 v6906) a + S32.size a ≤ S2048.size a := fun v6906 k0_hw512 => k0_hw512.2.1
theorem k0_off966_inb : ∀ (v6906 : BitVec 32) (k0_hw512 : k0_chk512 v6906), ∀ a, (k0_off966 v6906) a + S32.size a ≤ S2048.size a := fun v6906 k0_hw512 => k0_hw512.2.2

def k0_off967 (v6915 : BitVec 32) : Fin 1 → Nat :=
  let c999936_i32_3033 : BitVec 32 := 999936#32
  let v6916 : BitVec 32 := Scalar.subi v6915 c999936_i32_3033
  let c32_i32_3034 : BitVec 32 := 32#32
  let v6917 : BitVec 32 := Scalar.muli v6916 c32_i32_3034
  let v6918 : BitVec 32 := v6917
  ![v6918.toNat]

def k0_chk513 (v6915 : BitVec 32) : Prop :=
  (8 ∣ (k0_mult490 v6915).toNat) ∧
  (∀ a, (k0_off951 v6915) a + S32.size a ≤ S2048.size a) ∧
  (∀ a, (k0_off967 v6915) a + S32.size a ≤ S2048.size a)
theorem k0_mult490_dvd : ∀ (v6915 : BitVec 32) (k0_hw513 : k0_chk513 v6915), 8 ∣ (k0_mult490 v6915).toNat := fun v6915 k0_hw513 => k0_hw513.1
theorem k0_off951_inb : ∀ (v6915 : BitVec 32) (k0_hw513 : k0_chk513 v6915), ∀ a, (k0_off951 v6915) a + S32.size a ≤ S2048.size a := fun v6915 k0_hw513 => k0_hw513.2.1
theorem k0_off967_inb : ∀ (v6915 : BitVec 32) (k0_hw513 : k0_chk513 v6915), ∀ a, (k0_off967 v6915) a + S32.size a ≤ S2048.size a := fun v6915 k0_hw513 => k0_hw513.2.2

def k0_off968 (v6924 : BitVec 32) : Fin 1 → Nat :=
  let c999936_i32_3036 : BitVec 32 := 999936#32
  let v6925 : BitVec 32 := Scalar.subi v6924 c999936_i32_3036
  let c32_i32_3037 : BitVec 32 := 32#32
  let v6926 : BitVec 32 := Scalar.muli v6925 c32_i32_3037
  let v6927 : BitVec 32 := v6926
  ![v6927.toNat]

def k0_chk514 (v6924 : BitVec 32) : Prop :=
  (8 ∣ (k0_mult491 v6924).toNat) ∧
  (∀ a, (k0_off952 v6924) a + S32.size a ≤ S2048.size a) ∧
  (∀ a, (k0_off968 v6924) a + S32.size a ≤ S2048.size a)
theorem k0_mult491_dvd : ∀ (v6924 : BitVec 32) (k0_hw514 : k0_chk514 v6924), 8 ∣ (k0_mult491 v6924).toNat := fun v6924 k0_hw514 => k0_hw514.1
theorem k0_off952_inb : ∀ (v6924 : BitVec 32) (k0_hw514 : k0_chk514 v6924), ∀ a, (k0_off952 v6924) a + S32.size a ≤ S2048.size a := fun v6924 k0_hw514 => k0_hw514.2.1
theorem k0_off968_inb : ∀ (v6924 : BitVec 32) (k0_hw514 : k0_chk514 v6924), ∀ a, (k0_off968 v6924) a + S32.size a ≤ S2048.size a := fun v6924 k0_hw514 => k0_hw514.2.2

def k0_off969 (v6933 : BitVec 32) : Fin 1 → Nat :=
  let c999936_i32_3039 : BitVec 32 := 999936#32
  let v6934 : BitVec 32 := Scalar.subi v6933 c999936_i32_3039
  let c32_i32_3040 : BitVec 32 := 32#32
  let v6935 : BitVec 32 := Scalar.muli v6934 c32_i32_3040
  let v6936 : BitVec 32 := v6935
  ![v6936.toNat]

def k0_chk515 (v6933 : BitVec 32) : Prop :=
  (8 ∣ (k0_mult492 v6933).toNat) ∧
  (∀ a, (k0_off953 v6933) a + S32.size a ≤ S2048.size a) ∧
  (∀ a, (k0_off969 v6933) a + S32.size a ≤ S2048.size a)
theorem k0_mult492_dvd : ∀ (v6933 : BitVec 32) (k0_hw515 : k0_chk515 v6933), 8 ∣ (k0_mult492 v6933).toNat := fun v6933 k0_hw515 => k0_hw515.1
theorem k0_off953_inb : ∀ (v6933 : BitVec 32) (k0_hw515 : k0_chk515 v6933), ∀ a, (k0_off953 v6933) a + S32.size a ≤ S2048.size a := fun v6933 k0_hw515 => k0_hw515.2.1
theorem k0_off969_inb : ∀ (v6933 : BitVec 32) (k0_hw515 : k0_chk515 v6933), ∀ a, (k0_off969 v6933) a + S32.size a ≤ S2048.size a := fun v6933 k0_hw515 => k0_hw515.2.2

def k0_off970 (v6942 : BitVec 32) : Fin 1 → Nat :=
  let c999936_i32_3042 : BitVec 32 := 999936#32
  let v6943 : BitVec 32 := Scalar.subi v6942 c999936_i32_3042
  let c32_i32_3043 : BitVec 32 := 32#32
  let v6944 : BitVec 32 := Scalar.muli v6943 c32_i32_3043
  let v6945 : BitVec 32 := v6944
  ![v6945.toNat]

def k0_chk516 (v6942 : BitVec 32) : Prop :=
  (8 ∣ (k0_mult493 v6942).toNat) ∧
  (∀ a, (k0_off954 v6942) a + S32.size a ≤ S2048.size a) ∧
  (∀ a, (k0_off970 v6942) a + S32.size a ≤ S2048.size a)
theorem k0_mult493_dvd : ∀ (v6942 : BitVec 32) (k0_hw516 : k0_chk516 v6942), 8 ∣ (k0_mult493 v6942).toNat := fun v6942 k0_hw516 => k0_hw516.1
theorem k0_off954_inb : ∀ (v6942 : BitVec 32) (k0_hw516 : k0_chk516 v6942), ∀ a, (k0_off954 v6942) a + S32.size a ≤ S2048.size a := fun v6942 k0_hw516 => k0_hw516.2.1
theorem k0_off970_inb : ∀ (v6942 : BitVec 32) (k0_hw516 : k0_chk516 v6942), ∀ a, (k0_off970 v6942) a + S32.size a ≤ S2048.size a := fun v6942 k0_hw516 => k0_hw516.2.2

def k0_off971 (v6951 : BitVec 32) : Fin 1 → Nat :=
  let c999936_i32_3045 : BitVec 32 := 999936#32
  let v6952 : BitVec 32 := Scalar.subi v6951 c999936_i32_3045
  let c32_i32_3046 : BitVec 32 := 32#32
  let v6953 : BitVec 32 := Scalar.muli v6952 c32_i32_3046
  let v6954 : BitVec 32 := v6953
  ![v6954.toNat]

def k0_chk517 (v6951 : BitVec 32) : Prop :=
  (8 ∣ (k0_mult494 v6951).toNat) ∧
  (∀ a, (k0_off955 v6951) a + S32.size a ≤ S2048.size a) ∧
  (∀ a, (k0_off971 v6951) a + S32.size a ≤ S2048.size a)
theorem k0_mult494_dvd : ∀ (v6951 : BitVec 32) (k0_hw517 : k0_chk517 v6951), 8 ∣ (k0_mult494 v6951).toNat := fun v6951 k0_hw517 => k0_hw517.1
theorem k0_off955_inb : ∀ (v6951 : BitVec 32) (k0_hw517 : k0_chk517 v6951), ∀ a, (k0_off955 v6951) a + S32.size a ≤ S2048.size a := fun v6951 k0_hw517 => k0_hw517.2.1
theorem k0_off971_inb : ∀ (v6951 : BitVec 32) (k0_hw517 : k0_chk517 v6951), ∀ a, (k0_off971 v6951) a + S32.size a ≤ S2048.size a := fun v6951 k0_hw517 => k0_hw517.2.2

def k0_off972 (v6960 : BitVec 32) : Fin 1 → Nat :=
  let c999936_i32_3048 : BitVec 32 := 999936#32
  let v6961 : BitVec 32 := Scalar.subi v6960 c999936_i32_3048
  let c32_i32_3049 : BitVec 32 := 32#32
  let v6962 : BitVec 32 := Scalar.muli v6961 c32_i32_3049
  let v6963 : BitVec 32 := v6962
  ![v6963.toNat]

def k0_chk518 (v6960 : BitVec 32) : Prop :=
  (8 ∣ (k0_mult495 v6960).toNat) ∧
  (∀ a, (k0_off956 v6960) a + S32.size a ≤ S2048.size a) ∧
  (∀ a, (k0_off972 v6960) a + S32.size a ≤ S2048.size a)
theorem k0_mult495_dvd : ∀ (v6960 : BitVec 32) (k0_hw518 : k0_chk518 v6960), 8 ∣ (k0_mult495 v6960).toNat := fun v6960 k0_hw518 => k0_hw518.1
theorem k0_off956_inb : ∀ (v6960 : BitVec 32) (k0_hw518 : k0_chk518 v6960), ∀ a, (k0_off956 v6960) a + S32.size a ≤ S2048.size a := fun v6960 k0_hw518 => k0_hw518.2.1
theorem k0_off972_inb : ∀ (v6960 : BitVec 32) (k0_hw518 : k0_chk518 v6960), ∀ a, (k0_off972 v6960) a + S32.size a ≤ S2048.size a := fun v6960 k0_hw518 => k0_hw518.2.2

def k0_off973 (v6969 : BitVec 32) : Fin 1 → Nat :=
  let c999936_i32_3051 : BitVec 32 := 999936#32
  let v6970 : BitVec 32 := Scalar.subi v6969 c999936_i32_3051
  let c32_i32_3052 : BitVec 32 := 32#32
  let v6971 : BitVec 32 := Scalar.muli v6970 c32_i32_3052
  let v6972 : BitVec 32 := v6971
  ![v6972.toNat]

def k0_chk519 (v6969 : BitVec 32) : Prop :=
  (8 ∣ (k0_mult496 v6969).toNat) ∧
  (∀ a, (k0_off957 v6969) a + S32.size a ≤ S2048.size a) ∧
  (∀ a, (k0_off973 v6969) a + S32.size a ≤ S2048.size a)
theorem k0_mult496_dvd : ∀ (v6969 : BitVec 32) (k0_hw519 : k0_chk519 v6969), 8 ∣ (k0_mult496 v6969).toNat := fun v6969 k0_hw519 => k0_hw519.1
theorem k0_off957_inb : ∀ (v6969 : BitVec 32) (k0_hw519 : k0_chk519 v6969), ∀ a, (k0_off957 v6969) a + S32.size a ≤ S2048.size a := fun v6969 k0_hw519 => k0_hw519.2.1
theorem k0_off973_inb : ∀ (v6969 : BitVec 32) (k0_hw519 : k0_chk519 v6969), ∀ a, (k0_off973 v6969) a + S32.size a ≤ S2048.size a := fun v6969 k0_hw519 => k0_hw519.2.2

def k0_mult498 (v7051 : BitVec 32) : BitVec 32 :=
  let c0_i32_3090 : BitVec 32 := 0#32
  let c32_i32_3089 : BitVec 32 := 32#32
  let v7052 : BitVec 32 := Scalar.muli v7051 c32_i32_3089
  let v7053 : BitVec 32 := Scalar.addi c0_i32_3090 v7052
  v7053

def k0_off974 (v7051 : BitVec 32) : Fin 1 → Nat :=
  let c0_i32_3090 : BitVec 32 := 0#32
  let c32_i32_3089 : BitVec 32 := 32#32
  let v7052 : BitVec 32 := Scalar.muli v7051 c32_i32_3089
  let v7053 : BitVec 32 := Scalar.addi c0_i32_3090 v7052
  let v7054 : BitVec 32 := v7053
  ![v7054.toNat]
def k0_mult499 (v7060 : BitVec 32) : BitVec 32 :=
  let c0_i32_3094 : BitVec 32 := 0#32
  let c32_i32_3093 : BitVec 32 := 32#32
  let v7061 : BitVec 32 := Scalar.muli v7060 c32_i32_3093
  let v7062 : BitVec 32 := Scalar.addi c0_i32_3094 v7061
  v7062

def k0_off975 (v7060 : BitVec 32) : Fin 1 → Nat :=
  let c0_i32_3094 : BitVec 32 := 0#32
  let c32_i32_3093 : BitVec 32 := 32#32
  let v7061 : BitVec 32 := Scalar.muli v7060 c32_i32_3093
  let v7062 : BitVec 32 := Scalar.addi c0_i32_3094 v7061
  let v7063 : BitVec 32 := v7062
  ![v7063.toNat]
def k0_mult500 (v7069 : BitVec 32) : BitVec 32 :=
  let c0_i32_3098 : BitVec 32 := 0#32
  let c32_i32_3097 : BitVec 32 := 32#32
  let v7070 : BitVec 32 := Scalar.muli v7069 c32_i32_3097
  let v7071 : BitVec 32 := Scalar.addi c0_i32_3098 v7070
  v7071

def k0_off976 (v7069 : BitVec 32) : Fin 1 → Nat :=
  let c0_i32_3098 : BitVec 32 := 0#32
  let c32_i32_3097 : BitVec 32 := 32#32
  let v7070 : BitVec 32 := Scalar.muli v7069 c32_i32_3097
  let v7071 : BitVec 32 := Scalar.addi c0_i32_3098 v7070
  let v7072 : BitVec 32 := v7071
  ![v7072.toNat]
def k0_mult501 (v7078 : BitVec 32) : BitVec 32 :=
  let c0_i32_3102 : BitVec 32 := 0#32
  let c32_i32_3101 : BitVec 32 := 32#32
  let v7079 : BitVec 32 := Scalar.muli v7078 c32_i32_3101
  let v7080 : BitVec 32 := Scalar.addi c0_i32_3102 v7079
  v7080

def k0_off977 (v7078 : BitVec 32) : Fin 1 → Nat :=
  let c0_i32_3102 : BitVec 32 := 0#32
  let c32_i32_3101 : BitVec 32 := 32#32
  let v7079 : BitVec 32 := Scalar.muli v7078 c32_i32_3101
  let v7080 : BitVec 32 := Scalar.addi c0_i32_3102 v7079
  let v7081 : BitVec 32 := v7080
  ![v7081.toNat]
def k0_mult502 (v7087 : BitVec 32) : BitVec 32 :=
  let c0_i32_3106 : BitVec 32 := 0#32
  let c32_i32_3105 : BitVec 32 := 32#32
  let v7088 : BitVec 32 := Scalar.muli v7087 c32_i32_3105
  let v7089 : BitVec 32 := Scalar.addi c0_i32_3106 v7088
  v7089

def k0_off978 (v7087 : BitVec 32) : Fin 1 → Nat :=
  let c0_i32_3106 : BitVec 32 := 0#32
  let c32_i32_3105 : BitVec 32 := 32#32
  let v7088 : BitVec 32 := Scalar.muli v7087 c32_i32_3105
  let v7089 : BitVec 32 := Scalar.addi c0_i32_3106 v7088
  let v7090 : BitVec 32 := v7089
  ![v7090.toNat]
def k0_mult503 (v7096 : BitVec 32) : BitVec 32 :=
  let c0_i32_3110 : BitVec 32 := 0#32
  let c32_i32_3109 : BitVec 32 := 32#32
  let v7097 : BitVec 32 := Scalar.muli v7096 c32_i32_3109
  let v7098 : BitVec 32 := Scalar.addi c0_i32_3110 v7097
  v7098

def k0_off979 (v7096 : BitVec 32) : Fin 1 → Nat :=
  let c0_i32_3110 : BitVec 32 := 0#32
  let c32_i32_3109 : BitVec 32 := 32#32
  let v7097 : BitVec 32 := Scalar.muli v7096 c32_i32_3109
  let v7098 : BitVec 32 := Scalar.addi c0_i32_3110 v7097
  let v7099 : BitVec 32 := v7098
  ![v7099.toNat]
def k0_mult504 (v7105 : BitVec 32) : BitVec 32 :=
  let c0_i32_3114 : BitVec 32 := 0#32
  let c32_i32_3113 : BitVec 32 := 32#32
  let v7106 : BitVec 32 := Scalar.muli v7105 c32_i32_3113
  let v7107 : BitVec 32 := Scalar.addi c0_i32_3114 v7106
  v7107

def k0_off980 (v7105 : BitVec 32) : Fin 1 → Nat :=
  let c0_i32_3114 : BitVec 32 := 0#32
  let c32_i32_3113 : BitVec 32 := 32#32
  let v7106 : BitVec 32 := Scalar.muli v7105 c32_i32_3113
  let v7107 : BitVec 32 := Scalar.addi c0_i32_3114 v7106
  let v7108 : BitVec 32 := v7107
  ![v7108.toNat]
def k0_mult505 (v7114 : BitVec 32) : BitVec 32 :=
  let c0_i32_3118 : BitVec 32 := 0#32
  let c32_i32_3117 : BitVec 32 := 32#32
  let v7115 : BitVec 32 := Scalar.muli v7114 c32_i32_3117
  let v7116 : BitVec 32 := Scalar.addi c0_i32_3118 v7115
  v7116

def k0_off981 (v7114 : BitVec 32) : Fin 1 → Nat :=
  let c0_i32_3118 : BitVec 32 := 0#32
  let c32_i32_3117 : BitVec 32 := 32#32
  let v7115 : BitVec 32 := Scalar.muli v7114 c32_i32_3117
  let v7116 : BitVec 32 := Scalar.addi c0_i32_3118 v7115
  let v7117 : BitVec 32 := v7116
  ![v7117.toNat]
def k0_mult506 (v7123 : BitVec 32) : BitVec 32 :=
  let c0_i32_3122 : BitVec 32 := 0#32
  let c32_i32_3121 : BitVec 32 := 32#32
  let v7124 : BitVec 32 := Scalar.muli v7123 c32_i32_3121
  let v7125 : BitVec 32 := Scalar.addi c0_i32_3122 v7124
  v7125

def k0_off982 (v7123 : BitVec 32) : Fin 1 → Nat :=
  let c0_i32_3122 : BitVec 32 := 0#32
  let c32_i32_3121 : BitVec 32 := 32#32
  let v7124 : BitVec 32 := Scalar.muli v7123 c32_i32_3121
  let v7125 : BitVec 32 := Scalar.addi c0_i32_3122 v7124
  let v7126 : BitVec 32 := v7125
  ![v7126.toNat]
def k0_mult507 (v7132 : BitVec 32) : BitVec 32 :=
  let c0_i32_3126 : BitVec 32 := 0#32
  let c32_i32_3125 : BitVec 32 := 32#32
  let v7133 : BitVec 32 := Scalar.muli v7132 c32_i32_3125
  let v7134 : BitVec 32 := Scalar.addi c0_i32_3126 v7133
  v7134

def k0_off983 (v7132 : BitVec 32) : Fin 1 → Nat :=
  let c0_i32_3126 : BitVec 32 := 0#32
  let c32_i32_3125 : BitVec 32 := 32#32
  let v7133 : BitVec 32 := Scalar.muli v7132 c32_i32_3125
  let v7134 : BitVec 32 := Scalar.addi c0_i32_3126 v7133
  let v7135 : BitVec 32 := v7134
  ![v7135.toNat]
def k0_mult508 (v7141 : BitVec 32) : BitVec 32 :=
  let c0_i32_3130 : BitVec 32 := 0#32
  let c32_i32_3129 : BitVec 32 := 32#32
  let v7142 : BitVec 32 := Scalar.muli v7141 c32_i32_3129
  let v7143 : BitVec 32 := Scalar.addi c0_i32_3130 v7142
  v7143

def k0_off984 (v7141 : BitVec 32) : Fin 1 → Nat :=
  let c0_i32_3130 : BitVec 32 := 0#32
  let c32_i32_3129 : BitVec 32 := 32#32
  let v7142 : BitVec 32 := Scalar.muli v7141 c32_i32_3129
  let v7143 : BitVec 32 := Scalar.addi c0_i32_3130 v7142
  let v7144 : BitVec 32 := v7143
  ![v7144.toNat]
def k0_mult509 (v7150 : BitVec 32) : BitVec 32 :=
  let c0_i32_3134 : BitVec 32 := 0#32
  let c32_i32_3133 : BitVec 32 := 32#32
  let v7151 : BitVec 32 := Scalar.muli v7150 c32_i32_3133
  let v7152 : BitVec 32 := Scalar.addi c0_i32_3134 v7151
  v7152

def k0_off985 (v7150 : BitVec 32) : Fin 1 → Nat :=
  let c0_i32_3134 : BitVec 32 := 0#32
  let c32_i32_3133 : BitVec 32 := 32#32
  let v7151 : BitVec 32 := Scalar.muli v7150 c32_i32_3133
  let v7152 : BitVec 32 := Scalar.addi c0_i32_3134 v7151
  let v7153 : BitVec 32 := v7152
  ![v7153.toNat]
def k0_mult510 (v7159 : BitVec 32) : BitVec 32 :=
  let c0_i32_3138 : BitVec 32 := 0#32
  let c32_i32_3137 : BitVec 32 := 32#32
  let v7160 : BitVec 32 := Scalar.muli v7159 c32_i32_3137
  let v7161 : BitVec 32 := Scalar.addi c0_i32_3138 v7160
  v7161

def k0_off986 (v7159 : BitVec 32) : Fin 1 → Nat :=
  let c0_i32_3138 : BitVec 32 := 0#32
  let c32_i32_3137 : BitVec 32 := 32#32
  let v7160 : BitVec 32 := Scalar.muli v7159 c32_i32_3137
  let v7161 : BitVec 32 := Scalar.addi c0_i32_3138 v7160
  let v7162 : BitVec 32 := v7161
  ![v7162.toNat]
def k0_mult511 (v7168 : BitVec 32) : BitVec 32 :=
  let c0_i32_3142 : BitVec 32 := 0#32
  let c32_i32_3141 : BitVec 32 := 32#32
  let v7169 : BitVec 32 := Scalar.muli v7168 c32_i32_3141
  let v7170 : BitVec 32 := Scalar.addi c0_i32_3142 v7169
  v7170

def k0_off987 (v7168 : BitVec 32) : Fin 1 → Nat :=
  let c0_i32_3142 : BitVec 32 := 0#32
  let c32_i32_3141 : BitVec 32 := 32#32
  let v7169 : BitVec 32 := Scalar.muli v7168 c32_i32_3141
  let v7170 : BitVec 32 := Scalar.addi c0_i32_3142 v7169
  let v7171 : BitVec 32 := v7170
  ![v7171.toNat]
def k0_mult512 (v7177 : BitVec 32) : BitVec 32 :=
  let c0_i32_3146 : BitVec 32 := 0#32
  let c32_i32_3145 : BitVec 32 := 32#32
  let v7178 : BitVec 32 := Scalar.muli v7177 c32_i32_3145
  let v7179 : BitVec 32 := Scalar.addi c0_i32_3146 v7178
  v7179

def k0_off988 (v7177 : BitVec 32) : Fin 1 → Nat :=
  let c0_i32_3146 : BitVec 32 := 0#32
  let c32_i32_3145 : BitVec 32 := 32#32
  let v7178 : BitVec 32 := Scalar.muli v7177 c32_i32_3145
  let v7179 : BitVec 32 := Scalar.addi c0_i32_3146 v7178
  let v7180 : BitVec 32 := v7179
  ![v7180.toNat]
def k0_mult513 (v7186 : BitVec 32) : BitVec 32 :=
  let c0_i32_3150 : BitVec 32 := 0#32
  let c32_i32_3149 : BitVec 32 := 32#32
  let v7187 : BitVec 32 := Scalar.muli v7186 c32_i32_3149
  let v7188 : BitVec 32 := Scalar.addi c0_i32_3150 v7187
  v7188

def k0_off989 (v7186 : BitVec 32) : Fin 1 → Nat :=
  let c0_i32_3150 : BitVec 32 := 0#32
  let c32_i32_3149 : BitVec 32 := 32#32
  let v7187 : BitVec 32 := Scalar.muli v7186 c32_i32_3149
  let v7188 : BitVec 32 := Scalar.addi c0_i32_3150 v7187
  let v7189 : BitVec 32 := v7188
  ![v7189.toNat]

def k0_chk536 (v7186 : BitVec 32) : Prop :=
  (8 ∣ (k0_mult513 v7186).toNat) ∧
  (∀ a, (k0_off989 v7186) a + S32.size a ≤ S3407872.size a)
theorem k0_mult513_dvd : ∀ (v7186 : BitVec 32) (k0_hw536 : k0_chk536 v7186), 8 ∣ (k0_mult513 v7186).toNat := fun v7186 k0_hw536 => k0_hw536.1
theorem k0_off989_inb : ∀ (v7186 : BitVec 32) (k0_hw536 : k0_chk536 v7186), ∀ a, (k0_off989 v7186) a + S32.size a ≤ S3407872.size a := fun v7186 k0_hw536 => k0_hw536.2

def k0_off990 (v7051 : BitVec 32) : Fin 1 → Nat :=
  let c0_i32_3090 : BitVec 32 := 0#32
  let c32_i32_3089 : BitVec 32 := 32#32
  let v7052 : BitVec 32 := Scalar.muli v7051 c32_i32_3089
  let v7053 : BitVec 32 := Scalar.addi c0_i32_3090 v7052
  let v7054 : BitVec 32 := v7053
  ![v7054.toNat]

def k0_chk521 (v7051 : BitVec 32) : Prop :=
  (8 ∣ (k0_mult498 v7051).toNat) ∧
  (∀ a, (k0_off974 v7051) a + S32.size a ≤ S3407872.size a) ∧
  (∀ a, (k0_off990 v7051) a + S32.size a ≤ S3407872.size a)
theorem k0_mult498_dvd : ∀ (v7051 : BitVec 32) (k0_hw521 : k0_chk521 v7051), 8 ∣ (k0_mult498 v7051).toNat := fun v7051 k0_hw521 => k0_hw521.1
theorem k0_off974_inb : ∀ (v7051 : BitVec 32) (k0_hw521 : k0_chk521 v7051), ∀ a, (k0_off974 v7051) a + S32.size a ≤ S3407872.size a := fun v7051 k0_hw521 => k0_hw521.2.1
theorem k0_off990_inb : ∀ (v7051 : BitVec 32) (k0_hw521 : k0_chk521 v7051), ∀ a, (k0_off990 v7051) a + S32.size a ≤ S3407872.size a := fun v7051 k0_hw521 => k0_hw521.2.2

def k0_off991 (v7060 : BitVec 32) : Fin 1 → Nat :=
  let c0_i32_3094 : BitVec 32 := 0#32
  let c32_i32_3093 : BitVec 32 := 32#32
  let v7061 : BitVec 32 := Scalar.muli v7060 c32_i32_3093
  let v7062 : BitVec 32 := Scalar.addi c0_i32_3094 v7061
  let v7063 : BitVec 32 := v7062
  ![v7063.toNat]

def k0_chk522 (v7060 : BitVec 32) : Prop :=
  (8 ∣ (k0_mult499 v7060).toNat) ∧
  (∀ a, (k0_off975 v7060) a + S32.size a ≤ S3407872.size a) ∧
  (∀ a, (k0_off991 v7060) a + S32.size a ≤ S3407872.size a)
theorem k0_mult499_dvd : ∀ (v7060 : BitVec 32) (k0_hw522 : k0_chk522 v7060), 8 ∣ (k0_mult499 v7060).toNat := fun v7060 k0_hw522 => k0_hw522.1
theorem k0_off975_inb : ∀ (v7060 : BitVec 32) (k0_hw522 : k0_chk522 v7060), ∀ a, (k0_off975 v7060) a + S32.size a ≤ S3407872.size a := fun v7060 k0_hw522 => k0_hw522.2.1
theorem k0_off991_inb : ∀ (v7060 : BitVec 32) (k0_hw522 : k0_chk522 v7060), ∀ a, (k0_off991 v7060) a + S32.size a ≤ S3407872.size a := fun v7060 k0_hw522 => k0_hw522.2.2

def k0_off992 (v7069 : BitVec 32) : Fin 1 → Nat :=
  let c0_i32_3098 : BitVec 32 := 0#32
  let c32_i32_3097 : BitVec 32 := 32#32
  let v7070 : BitVec 32 := Scalar.muli v7069 c32_i32_3097
  let v7071 : BitVec 32 := Scalar.addi c0_i32_3098 v7070
  let v7072 : BitVec 32 := v7071
  ![v7072.toNat]

def k0_chk523 (v7069 : BitVec 32) : Prop :=
  (8 ∣ (k0_mult500 v7069).toNat) ∧
  (∀ a, (k0_off976 v7069) a + S32.size a ≤ S3407872.size a) ∧
  (∀ a, (k0_off992 v7069) a + S32.size a ≤ S3407872.size a)
theorem k0_mult500_dvd : ∀ (v7069 : BitVec 32) (k0_hw523 : k0_chk523 v7069), 8 ∣ (k0_mult500 v7069).toNat := fun v7069 k0_hw523 => k0_hw523.1
theorem k0_off976_inb : ∀ (v7069 : BitVec 32) (k0_hw523 : k0_chk523 v7069), ∀ a, (k0_off976 v7069) a + S32.size a ≤ S3407872.size a := fun v7069 k0_hw523 => k0_hw523.2.1
theorem k0_off992_inb : ∀ (v7069 : BitVec 32) (k0_hw523 : k0_chk523 v7069), ∀ a, (k0_off992 v7069) a + S32.size a ≤ S3407872.size a := fun v7069 k0_hw523 => k0_hw523.2.2

def k0_off993 (v7078 : BitVec 32) : Fin 1 → Nat :=
  let c0_i32_3102 : BitVec 32 := 0#32
  let c32_i32_3101 : BitVec 32 := 32#32
  let v7079 : BitVec 32 := Scalar.muli v7078 c32_i32_3101
  let v7080 : BitVec 32 := Scalar.addi c0_i32_3102 v7079
  let v7081 : BitVec 32 := v7080
  ![v7081.toNat]

def k0_chk524 (v7078 : BitVec 32) : Prop :=
  (8 ∣ (k0_mult501 v7078).toNat) ∧
  (∀ a, (k0_off977 v7078) a + S32.size a ≤ S3407872.size a) ∧
  (∀ a, (k0_off993 v7078) a + S32.size a ≤ S3407872.size a)
theorem k0_mult501_dvd : ∀ (v7078 : BitVec 32) (k0_hw524 : k0_chk524 v7078), 8 ∣ (k0_mult501 v7078).toNat := fun v7078 k0_hw524 => k0_hw524.1
theorem k0_off977_inb : ∀ (v7078 : BitVec 32) (k0_hw524 : k0_chk524 v7078), ∀ a, (k0_off977 v7078) a + S32.size a ≤ S3407872.size a := fun v7078 k0_hw524 => k0_hw524.2.1
theorem k0_off993_inb : ∀ (v7078 : BitVec 32) (k0_hw524 : k0_chk524 v7078), ∀ a, (k0_off993 v7078) a + S32.size a ≤ S3407872.size a := fun v7078 k0_hw524 => k0_hw524.2.2

def k0_off994 (v7087 : BitVec 32) : Fin 1 → Nat :=
  let c0_i32_3106 : BitVec 32 := 0#32
  let c32_i32_3105 : BitVec 32 := 32#32
  let v7088 : BitVec 32 := Scalar.muli v7087 c32_i32_3105
  let v7089 : BitVec 32 := Scalar.addi c0_i32_3106 v7088
  let v7090 : BitVec 32 := v7089
  ![v7090.toNat]

def k0_chk525 (v7087 : BitVec 32) : Prop :=
  (8 ∣ (k0_mult502 v7087).toNat) ∧
  (∀ a, (k0_off978 v7087) a + S32.size a ≤ S3407872.size a) ∧
  (∀ a, (k0_off994 v7087) a + S32.size a ≤ S3407872.size a)
theorem k0_mult502_dvd : ∀ (v7087 : BitVec 32) (k0_hw525 : k0_chk525 v7087), 8 ∣ (k0_mult502 v7087).toNat := fun v7087 k0_hw525 => k0_hw525.1
theorem k0_off978_inb : ∀ (v7087 : BitVec 32) (k0_hw525 : k0_chk525 v7087), ∀ a, (k0_off978 v7087) a + S32.size a ≤ S3407872.size a := fun v7087 k0_hw525 => k0_hw525.2.1
theorem k0_off994_inb : ∀ (v7087 : BitVec 32) (k0_hw525 : k0_chk525 v7087), ∀ a, (k0_off994 v7087) a + S32.size a ≤ S3407872.size a := fun v7087 k0_hw525 => k0_hw525.2.2

def k0_off995 (v7096 : BitVec 32) : Fin 1 → Nat :=
  let c0_i32_3110 : BitVec 32 := 0#32
  let c32_i32_3109 : BitVec 32 := 32#32
  let v7097 : BitVec 32 := Scalar.muli v7096 c32_i32_3109
  let v7098 : BitVec 32 := Scalar.addi c0_i32_3110 v7097
  let v7099 : BitVec 32 := v7098
  ![v7099.toNat]

def k0_chk526 (v7096 : BitVec 32) : Prop :=
  (8 ∣ (k0_mult503 v7096).toNat) ∧
  (∀ a, (k0_off979 v7096) a + S32.size a ≤ S3407872.size a) ∧
  (∀ a, (k0_off995 v7096) a + S32.size a ≤ S3407872.size a)
theorem k0_mult503_dvd : ∀ (v7096 : BitVec 32) (k0_hw526 : k0_chk526 v7096), 8 ∣ (k0_mult503 v7096).toNat := fun v7096 k0_hw526 => k0_hw526.1
theorem k0_off979_inb : ∀ (v7096 : BitVec 32) (k0_hw526 : k0_chk526 v7096), ∀ a, (k0_off979 v7096) a + S32.size a ≤ S3407872.size a := fun v7096 k0_hw526 => k0_hw526.2.1
theorem k0_off995_inb : ∀ (v7096 : BitVec 32) (k0_hw526 : k0_chk526 v7096), ∀ a, (k0_off995 v7096) a + S32.size a ≤ S3407872.size a := fun v7096 k0_hw526 => k0_hw526.2.2

def k0_off996 (v7105 : BitVec 32) : Fin 1 → Nat :=
  let c0_i32_3114 : BitVec 32 := 0#32
  let c32_i32_3113 : BitVec 32 := 32#32
  let v7106 : BitVec 32 := Scalar.muli v7105 c32_i32_3113
  let v7107 : BitVec 32 := Scalar.addi c0_i32_3114 v7106
  let v7108 : BitVec 32 := v7107
  ![v7108.toNat]

def k0_chk527 (v7105 : BitVec 32) : Prop :=
  (8 ∣ (k0_mult504 v7105).toNat) ∧
  (∀ a, (k0_off980 v7105) a + S32.size a ≤ S3407872.size a) ∧
  (∀ a, (k0_off996 v7105) a + S32.size a ≤ S3407872.size a)
theorem k0_mult504_dvd : ∀ (v7105 : BitVec 32) (k0_hw527 : k0_chk527 v7105), 8 ∣ (k0_mult504 v7105).toNat := fun v7105 k0_hw527 => k0_hw527.1
theorem k0_off980_inb : ∀ (v7105 : BitVec 32) (k0_hw527 : k0_chk527 v7105), ∀ a, (k0_off980 v7105) a + S32.size a ≤ S3407872.size a := fun v7105 k0_hw527 => k0_hw527.2.1
theorem k0_off996_inb : ∀ (v7105 : BitVec 32) (k0_hw527 : k0_chk527 v7105), ∀ a, (k0_off996 v7105) a + S32.size a ≤ S3407872.size a := fun v7105 k0_hw527 => k0_hw527.2.2

def k0_off997 (v7114 : BitVec 32) : Fin 1 → Nat :=
  let c0_i32_3118 : BitVec 32 := 0#32
  let c32_i32_3117 : BitVec 32 := 32#32
  let v7115 : BitVec 32 := Scalar.muli v7114 c32_i32_3117
  let v7116 : BitVec 32 := Scalar.addi c0_i32_3118 v7115
  let v7117 : BitVec 32 := v7116
  ![v7117.toNat]

def k0_chk528 (v7114 : BitVec 32) : Prop :=
  (8 ∣ (k0_mult505 v7114).toNat) ∧
  (∀ a, (k0_off981 v7114) a + S32.size a ≤ S3407872.size a) ∧
  (∀ a, (k0_off997 v7114) a + S32.size a ≤ S3407872.size a)
theorem k0_mult505_dvd : ∀ (v7114 : BitVec 32) (k0_hw528 : k0_chk528 v7114), 8 ∣ (k0_mult505 v7114).toNat := fun v7114 k0_hw528 => k0_hw528.1
theorem k0_off981_inb : ∀ (v7114 : BitVec 32) (k0_hw528 : k0_chk528 v7114), ∀ a, (k0_off981 v7114) a + S32.size a ≤ S3407872.size a := fun v7114 k0_hw528 => k0_hw528.2.1
theorem k0_off997_inb : ∀ (v7114 : BitVec 32) (k0_hw528 : k0_chk528 v7114), ∀ a, (k0_off997 v7114) a + S32.size a ≤ S3407872.size a := fun v7114 k0_hw528 => k0_hw528.2.2

def k0_off998 (v7123 : BitVec 32) : Fin 1 → Nat :=
  let c0_i32_3122 : BitVec 32 := 0#32
  let c32_i32_3121 : BitVec 32 := 32#32
  let v7124 : BitVec 32 := Scalar.muli v7123 c32_i32_3121
  let v7125 : BitVec 32 := Scalar.addi c0_i32_3122 v7124
  let v7126 : BitVec 32 := v7125
  ![v7126.toNat]

def k0_chk529 (v7123 : BitVec 32) : Prop :=
  (8 ∣ (k0_mult506 v7123).toNat) ∧
  (∀ a, (k0_off982 v7123) a + S32.size a ≤ S3407872.size a) ∧
  (∀ a, (k0_off998 v7123) a + S32.size a ≤ S3407872.size a)
theorem k0_mult506_dvd : ∀ (v7123 : BitVec 32) (k0_hw529 : k0_chk529 v7123), 8 ∣ (k0_mult506 v7123).toNat := fun v7123 k0_hw529 => k0_hw529.1
theorem k0_off982_inb : ∀ (v7123 : BitVec 32) (k0_hw529 : k0_chk529 v7123), ∀ a, (k0_off982 v7123) a + S32.size a ≤ S3407872.size a := fun v7123 k0_hw529 => k0_hw529.2.1
theorem k0_off998_inb : ∀ (v7123 : BitVec 32) (k0_hw529 : k0_chk529 v7123), ∀ a, (k0_off998 v7123) a + S32.size a ≤ S3407872.size a := fun v7123 k0_hw529 => k0_hw529.2.2

def k0_off999 (v7132 : BitVec 32) : Fin 1 → Nat :=
  let c0_i32_3126 : BitVec 32 := 0#32
  let c32_i32_3125 : BitVec 32 := 32#32
  let v7133 : BitVec 32 := Scalar.muli v7132 c32_i32_3125
  let v7134 : BitVec 32 := Scalar.addi c0_i32_3126 v7133
  let v7135 : BitVec 32 := v7134
  ![v7135.toNat]

def k0_chk530 (v7132 : BitVec 32) : Prop :=
  (8 ∣ (k0_mult507 v7132).toNat) ∧
  (∀ a, (k0_off983 v7132) a + S32.size a ≤ S3407872.size a) ∧
  (∀ a, (k0_off999 v7132) a + S32.size a ≤ S3407872.size a)
theorem k0_mult507_dvd : ∀ (v7132 : BitVec 32) (k0_hw530 : k0_chk530 v7132), 8 ∣ (k0_mult507 v7132).toNat := fun v7132 k0_hw530 => k0_hw530.1
theorem k0_off983_inb : ∀ (v7132 : BitVec 32) (k0_hw530 : k0_chk530 v7132), ∀ a, (k0_off983 v7132) a + S32.size a ≤ S3407872.size a := fun v7132 k0_hw530 => k0_hw530.2.1
theorem k0_off999_inb : ∀ (v7132 : BitVec 32) (k0_hw530 : k0_chk530 v7132), ∀ a, (k0_off999 v7132) a + S32.size a ≤ S3407872.size a := fun v7132 k0_hw530 => k0_hw530.2.2

def k0_off1000 (v7141 : BitVec 32) : Fin 1 → Nat :=
  let c0_i32_3130 : BitVec 32 := 0#32
  let c32_i32_3129 : BitVec 32 := 32#32
  let v7142 : BitVec 32 := Scalar.muli v7141 c32_i32_3129
  let v7143 : BitVec 32 := Scalar.addi c0_i32_3130 v7142
  let v7144 : BitVec 32 := v7143
  ![v7144.toNat]

def k0_chk531 (v7141 : BitVec 32) : Prop :=
  (8 ∣ (k0_mult508 v7141).toNat) ∧
  (∀ a, (k0_off984 v7141) a + S32.size a ≤ S3407872.size a) ∧
  (∀ a, (k0_off1000 v7141) a + S32.size a ≤ S3407872.size a)
theorem k0_mult508_dvd : ∀ (v7141 : BitVec 32) (k0_hw531 : k0_chk531 v7141), 8 ∣ (k0_mult508 v7141).toNat := fun v7141 k0_hw531 => k0_hw531.1
theorem k0_off984_inb : ∀ (v7141 : BitVec 32) (k0_hw531 : k0_chk531 v7141), ∀ a, (k0_off984 v7141) a + S32.size a ≤ S3407872.size a := fun v7141 k0_hw531 => k0_hw531.2.1
theorem k0_off1000_inb : ∀ (v7141 : BitVec 32) (k0_hw531 : k0_chk531 v7141), ∀ a, (k0_off1000 v7141) a + S32.size a ≤ S3407872.size a := fun v7141 k0_hw531 => k0_hw531.2.2

def k0_off1001 (v7150 : BitVec 32) : Fin 1 → Nat :=
  let c0_i32_3134 : BitVec 32 := 0#32
  let c32_i32_3133 : BitVec 32 := 32#32
  let v7151 : BitVec 32 := Scalar.muli v7150 c32_i32_3133
  let v7152 : BitVec 32 := Scalar.addi c0_i32_3134 v7151
  let v7153 : BitVec 32 := v7152
  ![v7153.toNat]

def k0_chk532 (v7150 : BitVec 32) : Prop :=
  (8 ∣ (k0_mult509 v7150).toNat) ∧
  (∀ a, (k0_off985 v7150) a + S32.size a ≤ S3407872.size a) ∧
  (∀ a, (k0_off1001 v7150) a + S32.size a ≤ S3407872.size a)
theorem k0_mult509_dvd : ∀ (v7150 : BitVec 32) (k0_hw532 : k0_chk532 v7150), 8 ∣ (k0_mult509 v7150).toNat := fun v7150 k0_hw532 => k0_hw532.1
theorem k0_off985_inb : ∀ (v7150 : BitVec 32) (k0_hw532 : k0_chk532 v7150), ∀ a, (k0_off985 v7150) a + S32.size a ≤ S3407872.size a := fun v7150 k0_hw532 => k0_hw532.2.1
theorem k0_off1001_inb : ∀ (v7150 : BitVec 32) (k0_hw532 : k0_chk532 v7150), ∀ a, (k0_off1001 v7150) a + S32.size a ≤ S3407872.size a := fun v7150 k0_hw532 => k0_hw532.2.2

def k0_off1002 (v7159 : BitVec 32) : Fin 1 → Nat :=
  let c0_i32_3138 : BitVec 32 := 0#32
  let c32_i32_3137 : BitVec 32 := 32#32
  let v7160 : BitVec 32 := Scalar.muli v7159 c32_i32_3137
  let v7161 : BitVec 32 := Scalar.addi c0_i32_3138 v7160
  let v7162 : BitVec 32 := v7161
  ![v7162.toNat]

def k0_chk533 (v7159 : BitVec 32) : Prop :=
  (8 ∣ (k0_mult510 v7159).toNat) ∧
  (∀ a, (k0_off986 v7159) a + S32.size a ≤ S3407872.size a) ∧
  (∀ a, (k0_off1002 v7159) a + S32.size a ≤ S3407872.size a)
theorem k0_mult510_dvd : ∀ (v7159 : BitVec 32) (k0_hw533 : k0_chk533 v7159), 8 ∣ (k0_mult510 v7159).toNat := fun v7159 k0_hw533 => k0_hw533.1
theorem k0_off986_inb : ∀ (v7159 : BitVec 32) (k0_hw533 : k0_chk533 v7159), ∀ a, (k0_off986 v7159) a + S32.size a ≤ S3407872.size a := fun v7159 k0_hw533 => k0_hw533.2.1
theorem k0_off1002_inb : ∀ (v7159 : BitVec 32) (k0_hw533 : k0_chk533 v7159), ∀ a, (k0_off1002 v7159) a + S32.size a ≤ S3407872.size a := fun v7159 k0_hw533 => k0_hw533.2.2

def k0_off1003 (v7168 : BitVec 32) : Fin 1 → Nat :=
  let c0_i32_3142 : BitVec 32 := 0#32
  let c32_i32_3141 : BitVec 32 := 32#32
  let v7169 : BitVec 32 := Scalar.muli v7168 c32_i32_3141
  let v7170 : BitVec 32 := Scalar.addi c0_i32_3142 v7169
  let v7171 : BitVec 32 := v7170
  ![v7171.toNat]

def k0_chk534 (v7168 : BitVec 32) : Prop :=
  (8 ∣ (k0_mult511 v7168).toNat) ∧
  (∀ a, (k0_off987 v7168) a + S32.size a ≤ S3407872.size a) ∧
  (∀ a, (k0_off1003 v7168) a + S32.size a ≤ S3407872.size a)
theorem k0_mult511_dvd : ∀ (v7168 : BitVec 32) (k0_hw534 : k0_chk534 v7168), 8 ∣ (k0_mult511 v7168).toNat := fun v7168 k0_hw534 => k0_hw534.1
theorem k0_off987_inb : ∀ (v7168 : BitVec 32) (k0_hw534 : k0_chk534 v7168), ∀ a, (k0_off987 v7168) a + S32.size a ≤ S3407872.size a := fun v7168 k0_hw534 => k0_hw534.2.1
theorem k0_off1003_inb : ∀ (v7168 : BitVec 32) (k0_hw534 : k0_chk534 v7168), ∀ a, (k0_off1003 v7168) a + S32.size a ≤ S3407872.size a := fun v7168 k0_hw534 => k0_hw534.2.2

def k0_off1004 (v7177 : BitVec 32) : Fin 1 → Nat :=
  let c0_i32_3146 : BitVec 32 := 0#32
  let c32_i32_3145 : BitVec 32 := 32#32
  let v7178 : BitVec 32 := Scalar.muli v7177 c32_i32_3145
  let v7179 : BitVec 32 := Scalar.addi c0_i32_3146 v7178
  let v7180 : BitVec 32 := v7179
  ![v7180.toNat]

def k0_chk535 (v7177 : BitVec 32) : Prop :=
  (8 ∣ (k0_mult512 v7177).toNat) ∧
  (∀ a, (k0_off988 v7177) a + S32.size a ≤ S3407872.size a) ∧
  (∀ a, (k0_off1004 v7177) a + S32.size a ≤ S3407872.size a)
theorem k0_mult512_dvd : ∀ (v7177 : BitVec 32) (k0_hw535 : k0_chk535 v7177), 8 ∣ (k0_mult512 v7177).toNat := fun v7177 k0_hw535 => k0_hw535.1
theorem k0_off988_inb : ∀ (v7177 : BitVec 32) (k0_hw535 : k0_chk535 v7177), ∀ a, (k0_off988 v7177) a + S32.size a ≤ S3407872.size a := fun v7177 k0_hw535 => k0_hw535.2.1
theorem k0_off1004_inb : ∀ (v7177 : BitVec 32) (k0_hw535 : k0_chk535 v7177), ∀ a, (k0_off1004 v7177) a + S32.size a ≤ S3407872.size a := fun v7177 k0_hw535 => k0_hw535.2.2

def k0_mult514 (v7261 : BitVec 32) : BitVec 32 :=
  let c999936_i32_3187 : BitVec 32 := 999936#32
  let v7262 : BitVec 32 := Scalar.subi v7261 c999936_i32_3187
  let c32_i32_3188 : BitVec 32 := 32#32
  let v7263 : BitVec 32 := Scalar.muli v7262 c32_i32_3188
  v7263

def k0_off1005 (v7261 : BitVec 32) : Fin 1 → Nat :=
  let c999936_i32_3187 : BitVec 32 := 999936#32
  let v7262 : BitVec 32 := Scalar.subi v7261 c999936_i32_3187
  let c32_i32_3188 : BitVec 32 := 32#32
  let v7263 : BitVec 32 := Scalar.muli v7262 c32_i32_3188
  let v7264 : BitVec 32 := v7263
  ![v7264.toNat]
def k0_mult515 (v7270 : BitVec 32) : BitVec 32 :=
  let c999936_i32_3191 : BitVec 32 := 999936#32
  let v7271 : BitVec 32 := Scalar.subi v7270 c999936_i32_3191
  let c32_i32_3192 : BitVec 32 := 32#32
  let v7272 : BitVec 32 := Scalar.muli v7271 c32_i32_3192
  v7272

def k0_off1006 (v7270 : BitVec 32) : Fin 1 → Nat :=
  let c999936_i32_3191 : BitVec 32 := 999936#32
  let v7271 : BitVec 32 := Scalar.subi v7270 c999936_i32_3191
  let c32_i32_3192 : BitVec 32 := 32#32
  let v7272 : BitVec 32 := Scalar.muli v7271 c32_i32_3192
  let v7273 : BitVec 32 := v7272
  ![v7273.toNat]
def k0_mult516 (v7279 : BitVec 32) : BitVec 32 :=
  let c999936_i32_3195 : BitVec 32 := 999936#32
  let v7280 : BitVec 32 := Scalar.subi v7279 c999936_i32_3195
  let c32_i32_3196 : BitVec 32 := 32#32
  let v7281 : BitVec 32 := Scalar.muli v7280 c32_i32_3196
  v7281

def k0_off1007 (v7279 : BitVec 32) : Fin 1 → Nat :=
  let c999936_i32_3195 : BitVec 32 := 999936#32
  let v7280 : BitVec 32 := Scalar.subi v7279 c999936_i32_3195
  let c32_i32_3196 : BitVec 32 := 32#32
  let v7281 : BitVec 32 := Scalar.muli v7280 c32_i32_3196
  let v7282 : BitVec 32 := v7281
  ![v7282.toNat]
def k0_mult517 (v7288 : BitVec 32) : BitVec 32 :=
  let c999936_i32_3199 : BitVec 32 := 999936#32
  let v7289 : BitVec 32 := Scalar.subi v7288 c999936_i32_3199
  let c32_i32_3200 : BitVec 32 := 32#32
  let v7290 : BitVec 32 := Scalar.muli v7289 c32_i32_3200
  v7290

def k0_off1008 (v7288 : BitVec 32) : Fin 1 → Nat :=
  let c999936_i32_3199 : BitVec 32 := 999936#32
  let v7289 : BitVec 32 := Scalar.subi v7288 c999936_i32_3199
  let c32_i32_3200 : BitVec 32 := 32#32
  let v7290 : BitVec 32 := Scalar.muli v7289 c32_i32_3200
  let v7291 : BitVec 32 := v7290
  ![v7291.toNat]
def k0_mult518 (v7297 : BitVec 32) : BitVec 32 :=
  let c999936_i32_3203 : BitVec 32 := 999936#32
  let v7298 : BitVec 32 := Scalar.subi v7297 c999936_i32_3203
  let c32_i32_3204 : BitVec 32 := 32#32
  let v7299 : BitVec 32 := Scalar.muli v7298 c32_i32_3204
  v7299

def k0_off1009 (v7297 : BitVec 32) : Fin 1 → Nat :=
  let c999936_i32_3203 : BitVec 32 := 999936#32
  let v7298 : BitVec 32 := Scalar.subi v7297 c999936_i32_3203
  let c32_i32_3204 : BitVec 32 := 32#32
  let v7299 : BitVec 32 := Scalar.muli v7298 c32_i32_3204
  let v7300 : BitVec 32 := v7299
  ![v7300.toNat]
def k0_mult519 (v7306 : BitVec 32) : BitVec 32 :=
  let c999936_i32_3207 : BitVec 32 := 999936#32
  let v7307 : BitVec 32 := Scalar.subi v7306 c999936_i32_3207
  let c32_i32_3208 : BitVec 32 := 32#32
  let v7308 : BitVec 32 := Scalar.muli v7307 c32_i32_3208
  v7308

def k0_off1010 (v7306 : BitVec 32) : Fin 1 → Nat :=
  let c999936_i32_3207 : BitVec 32 := 999936#32
  let v7307 : BitVec 32 := Scalar.subi v7306 c999936_i32_3207
  let c32_i32_3208 : BitVec 32 := 32#32
  let v7308 : BitVec 32 := Scalar.muli v7307 c32_i32_3208
  let v7309 : BitVec 32 := v7308
  ![v7309.toNat]
def k0_mult520 (v7315 : BitVec 32) : BitVec 32 :=
  let c999936_i32_3211 : BitVec 32 := 999936#32
  let v7316 : BitVec 32 := Scalar.subi v7315 c999936_i32_3211
  let c32_i32_3212 : BitVec 32 := 32#32
  let v7317 : BitVec 32 := Scalar.muli v7316 c32_i32_3212
  v7317

def k0_off1011 (v7315 : BitVec 32) : Fin 1 → Nat :=
  let c999936_i32_3211 : BitVec 32 := 999936#32
  let v7316 : BitVec 32 := Scalar.subi v7315 c999936_i32_3211
  let c32_i32_3212 : BitVec 32 := 32#32
  let v7317 : BitVec 32 := Scalar.muli v7316 c32_i32_3212
  let v7318 : BitVec 32 := v7317
  ![v7318.toNat]
def k0_mult521 (v7324 : BitVec 32) : BitVec 32 :=
  let c999936_i32_3215 : BitVec 32 := 999936#32
  let v7325 : BitVec 32 := Scalar.subi v7324 c999936_i32_3215
  let c32_i32_3216 : BitVec 32 := 32#32
  let v7326 : BitVec 32 := Scalar.muli v7325 c32_i32_3216
  v7326

def k0_off1012 (v7324 : BitVec 32) : Fin 1 → Nat :=
  let c999936_i32_3215 : BitVec 32 := 999936#32
  let v7325 : BitVec 32 := Scalar.subi v7324 c999936_i32_3215
  let c32_i32_3216 : BitVec 32 := 32#32
  let v7326 : BitVec 32 := Scalar.muli v7325 c32_i32_3216
  let v7327 : BitVec 32 := v7326
  ![v7327.toNat]
def k0_mult522 (v7333 : BitVec 32) : BitVec 32 :=
  let c999936_i32_3219 : BitVec 32 := 999936#32
  let v7334 : BitVec 32 := Scalar.subi v7333 c999936_i32_3219
  let c32_i32_3220 : BitVec 32 := 32#32
  let v7335 : BitVec 32 := Scalar.muli v7334 c32_i32_3220
  v7335

def k0_off1013 (v7333 : BitVec 32) : Fin 1 → Nat :=
  let c999936_i32_3219 : BitVec 32 := 999936#32
  let v7334 : BitVec 32 := Scalar.subi v7333 c999936_i32_3219
  let c32_i32_3220 : BitVec 32 := 32#32
  let v7335 : BitVec 32 := Scalar.muli v7334 c32_i32_3220
  let v7336 : BitVec 32 := v7335
  ![v7336.toNat]
def k0_mult523 (v7342 : BitVec 32) : BitVec 32 :=
  let c999936_i32_3223 : BitVec 32 := 999936#32
  let v7343 : BitVec 32 := Scalar.subi v7342 c999936_i32_3223
  let c32_i32_3224 : BitVec 32 := 32#32
  let v7344 : BitVec 32 := Scalar.muli v7343 c32_i32_3224
  v7344

def k0_off1014 (v7342 : BitVec 32) : Fin 1 → Nat :=
  let c999936_i32_3223 : BitVec 32 := 999936#32
  let v7343 : BitVec 32 := Scalar.subi v7342 c999936_i32_3223
  let c32_i32_3224 : BitVec 32 := 32#32
  let v7344 : BitVec 32 := Scalar.muli v7343 c32_i32_3224
  let v7345 : BitVec 32 := v7344
  ![v7345.toNat]
def k0_mult524 (v7351 : BitVec 32) : BitVec 32 :=
  let c999936_i32_3227 : BitVec 32 := 999936#32
  let v7352 : BitVec 32 := Scalar.subi v7351 c999936_i32_3227
  let c32_i32_3228 : BitVec 32 := 32#32
  let v7353 : BitVec 32 := Scalar.muli v7352 c32_i32_3228
  v7353

def k0_off1015 (v7351 : BitVec 32) : Fin 1 → Nat :=
  let c999936_i32_3227 : BitVec 32 := 999936#32
  let v7352 : BitVec 32 := Scalar.subi v7351 c999936_i32_3227
  let c32_i32_3228 : BitVec 32 := 32#32
  let v7353 : BitVec 32 := Scalar.muli v7352 c32_i32_3228
  let v7354 : BitVec 32 := v7353
  ![v7354.toNat]
def k0_mult525 (v7360 : BitVec 32) : BitVec 32 :=
  let c999936_i32_3231 : BitVec 32 := 999936#32
  let v7361 : BitVec 32 := Scalar.subi v7360 c999936_i32_3231
  let c32_i32_3232 : BitVec 32 := 32#32
  let v7362 : BitVec 32 := Scalar.muli v7361 c32_i32_3232
  v7362

def k0_off1016 (v7360 : BitVec 32) : Fin 1 → Nat :=
  let c999936_i32_3231 : BitVec 32 := 999936#32
  let v7361 : BitVec 32 := Scalar.subi v7360 c999936_i32_3231
  let c32_i32_3232 : BitVec 32 := 32#32
  let v7362 : BitVec 32 := Scalar.muli v7361 c32_i32_3232
  let v7363 : BitVec 32 := v7362
  ![v7363.toNat]
def k0_mult526 (v7369 : BitVec 32) : BitVec 32 :=
  let c999936_i32_3235 : BitVec 32 := 999936#32
  let v7370 : BitVec 32 := Scalar.subi v7369 c999936_i32_3235
  let c32_i32_3236 : BitVec 32 := 32#32
  let v7371 : BitVec 32 := Scalar.muli v7370 c32_i32_3236
  v7371

def k0_off1017 (v7369 : BitVec 32) : Fin 1 → Nat :=
  let c999936_i32_3235 : BitVec 32 := 999936#32
  let v7370 : BitVec 32 := Scalar.subi v7369 c999936_i32_3235
  let c32_i32_3236 : BitVec 32 := 32#32
  let v7371 : BitVec 32 := Scalar.muli v7370 c32_i32_3236
  let v7372 : BitVec 32 := v7371
  ![v7372.toNat]
def k0_mult527 (v7378 : BitVec 32) : BitVec 32 :=
  let c999936_i32_3239 : BitVec 32 := 999936#32
  let v7379 : BitVec 32 := Scalar.subi v7378 c999936_i32_3239
  let c32_i32_3240 : BitVec 32 := 32#32
  let v7380 : BitVec 32 := Scalar.muli v7379 c32_i32_3240
  v7380

def k0_off1018 (v7378 : BitVec 32) : Fin 1 → Nat :=
  let c999936_i32_3239 : BitVec 32 := 999936#32
  let v7379 : BitVec 32 := Scalar.subi v7378 c999936_i32_3239
  let c32_i32_3240 : BitVec 32 := 32#32
  let v7380 : BitVec 32 := Scalar.muli v7379 c32_i32_3240
  let v7381 : BitVec 32 := v7380
  ![v7381.toNat]
def k0_mult528 (v7387 : BitVec 32) : BitVec 32 :=
  let c999936_i32_3243 : BitVec 32 := 999936#32
  let v7388 : BitVec 32 := Scalar.subi v7387 c999936_i32_3243
  let c32_i32_3244 : BitVec 32 := 32#32
  let v7389 : BitVec 32 := Scalar.muli v7388 c32_i32_3244
  v7389

def k0_off1019 (v7387 : BitVec 32) : Fin 1 → Nat :=
  let c999936_i32_3243 : BitVec 32 := 999936#32
  let v7388 : BitVec 32 := Scalar.subi v7387 c999936_i32_3243
  let c32_i32_3244 : BitVec 32 := 32#32
  let v7389 : BitVec 32 := Scalar.muli v7388 c32_i32_3244
  let v7390 : BitVec 32 := v7389
  ![v7390.toNat]
def k0_mult529 (v7396 : BitVec 32) : BitVec 32 :=
  let c999936_i32_3247 : BitVec 32 := 999936#32
  let v7397 : BitVec 32 := Scalar.subi v7396 c999936_i32_3247
  let c32_i32_3248 : BitVec 32 := 32#32
  let v7398 : BitVec 32 := Scalar.muli v7397 c32_i32_3248
  v7398

def k0_off1020 (v7396 : BitVec 32) : Fin 1 → Nat :=
  let c999936_i32_3247 : BitVec 32 := 999936#32
  let v7397 : BitVec 32 := Scalar.subi v7396 c999936_i32_3247
  let c32_i32_3248 : BitVec 32 := 32#32
  let v7398 : BitVec 32 := Scalar.muli v7397 c32_i32_3248
  let v7399 : BitVec 32 := v7398
  ![v7399.toNat]

def k0_chk552 (v7396 : BitVec 32) : Prop :=
  (8 ∣ (k0_mult529 v7396).toNat) ∧
  (∀ a, (k0_off1020 v7396) a + S32.size a ≤ S2048.size a)
theorem k0_mult529_dvd : ∀ (v7396 : BitVec 32) (k0_hw552 : k0_chk552 v7396), 8 ∣ (k0_mult529 v7396).toNat := fun v7396 k0_hw552 => k0_hw552.1
theorem k0_off1020_inb : ∀ (v7396 : BitVec 32) (k0_hw552 : k0_chk552 v7396), ∀ a, (k0_off1020 v7396) a + S32.size a ≤ S2048.size a := fun v7396 k0_hw552 => k0_hw552.2

def k0_off1021 (v7261 : BitVec 32) : Fin 1 → Nat :=
  let c999936_i32_3187 : BitVec 32 := 999936#32
  let v7262 : BitVec 32 := Scalar.subi v7261 c999936_i32_3187
  let c32_i32_3188 : BitVec 32 := 32#32
  let v7263 : BitVec 32 := Scalar.muli v7262 c32_i32_3188
  let v7264 : BitVec 32 := v7263
  ![v7264.toNat]

def k0_chk537 (v7261 : BitVec 32) : Prop :=
  (8 ∣ (k0_mult514 v7261).toNat) ∧
  (∀ a, (k0_off1005 v7261) a + S32.size a ≤ S2048.size a) ∧
  (∀ a, (k0_off1021 v7261) a + S32.size a ≤ S2048.size a)
theorem k0_mult514_dvd : ∀ (v7261 : BitVec 32) (k0_hw537 : k0_chk537 v7261), 8 ∣ (k0_mult514 v7261).toNat := fun v7261 k0_hw537 => k0_hw537.1
theorem k0_off1005_inb : ∀ (v7261 : BitVec 32) (k0_hw537 : k0_chk537 v7261), ∀ a, (k0_off1005 v7261) a + S32.size a ≤ S2048.size a := fun v7261 k0_hw537 => k0_hw537.2.1
theorem k0_off1021_inb : ∀ (v7261 : BitVec 32) (k0_hw537 : k0_chk537 v7261), ∀ a, (k0_off1021 v7261) a + S32.size a ≤ S2048.size a := fun v7261 k0_hw537 => k0_hw537.2.2

def k0_off1022 (v7270 : BitVec 32) : Fin 1 → Nat :=
  let c999936_i32_3191 : BitVec 32 := 999936#32
  let v7271 : BitVec 32 := Scalar.subi v7270 c999936_i32_3191
  let c32_i32_3192 : BitVec 32 := 32#32
  let v7272 : BitVec 32 := Scalar.muli v7271 c32_i32_3192
  let v7273 : BitVec 32 := v7272
  ![v7273.toNat]

def k0_chk538 (v7270 : BitVec 32) : Prop :=
  (8 ∣ (k0_mult515 v7270).toNat) ∧
  (∀ a, (k0_off1006 v7270) a + S32.size a ≤ S2048.size a) ∧
  (∀ a, (k0_off1022 v7270) a + S32.size a ≤ S2048.size a)
theorem k0_mult515_dvd : ∀ (v7270 : BitVec 32) (k0_hw538 : k0_chk538 v7270), 8 ∣ (k0_mult515 v7270).toNat := fun v7270 k0_hw538 => k0_hw538.1
theorem k0_off1006_inb : ∀ (v7270 : BitVec 32) (k0_hw538 : k0_chk538 v7270), ∀ a, (k0_off1006 v7270) a + S32.size a ≤ S2048.size a := fun v7270 k0_hw538 => k0_hw538.2.1
theorem k0_off1022_inb : ∀ (v7270 : BitVec 32) (k0_hw538 : k0_chk538 v7270), ∀ a, (k0_off1022 v7270) a + S32.size a ≤ S2048.size a := fun v7270 k0_hw538 => k0_hw538.2.2

def k0_off1023 (v7279 : BitVec 32) : Fin 1 → Nat :=
  let c999936_i32_3195 : BitVec 32 := 999936#32
  let v7280 : BitVec 32 := Scalar.subi v7279 c999936_i32_3195
  let c32_i32_3196 : BitVec 32 := 32#32
  let v7281 : BitVec 32 := Scalar.muli v7280 c32_i32_3196
  let v7282 : BitVec 32 := v7281
  ![v7282.toNat]

def k0_chk539 (v7279 : BitVec 32) : Prop :=
  (8 ∣ (k0_mult516 v7279).toNat) ∧
  (∀ a, (k0_off1007 v7279) a + S32.size a ≤ S2048.size a) ∧
  (∀ a, (k0_off1023 v7279) a + S32.size a ≤ S2048.size a)
theorem k0_mult516_dvd : ∀ (v7279 : BitVec 32) (k0_hw539 : k0_chk539 v7279), 8 ∣ (k0_mult516 v7279).toNat := fun v7279 k0_hw539 => k0_hw539.1
theorem k0_off1007_inb : ∀ (v7279 : BitVec 32) (k0_hw539 : k0_chk539 v7279), ∀ a, (k0_off1007 v7279) a + S32.size a ≤ S2048.size a := fun v7279 k0_hw539 => k0_hw539.2.1
theorem k0_off1023_inb : ∀ (v7279 : BitVec 32) (k0_hw539 : k0_chk539 v7279), ∀ a, (k0_off1023 v7279) a + S32.size a ≤ S2048.size a := fun v7279 k0_hw539 => k0_hw539.2.2

def k0_off1024 (v7288 : BitVec 32) : Fin 1 → Nat :=
  let c999936_i32_3199 : BitVec 32 := 999936#32
  let v7289 : BitVec 32 := Scalar.subi v7288 c999936_i32_3199
  let c32_i32_3200 : BitVec 32 := 32#32
  let v7290 : BitVec 32 := Scalar.muli v7289 c32_i32_3200
  let v7291 : BitVec 32 := v7290
  ![v7291.toNat]

def k0_chk540 (v7288 : BitVec 32) : Prop :=
  (8 ∣ (k0_mult517 v7288).toNat) ∧
  (∀ a, (k0_off1008 v7288) a + S32.size a ≤ S2048.size a) ∧
  (∀ a, (k0_off1024 v7288) a + S32.size a ≤ S2048.size a)
theorem k0_mult517_dvd : ∀ (v7288 : BitVec 32) (k0_hw540 : k0_chk540 v7288), 8 ∣ (k0_mult517 v7288).toNat := fun v7288 k0_hw540 => k0_hw540.1
theorem k0_off1008_inb : ∀ (v7288 : BitVec 32) (k0_hw540 : k0_chk540 v7288), ∀ a, (k0_off1008 v7288) a + S32.size a ≤ S2048.size a := fun v7288 k0_hw540 => k0_hw540.2.1
theorem k0_off1024_inb : ∀ (v7288 : BitVec 32) (k0_hw540 : k0_chk540 v7288), ∀ a, (k0_off1024 v7288) a + S32.size a ≤ S2048.size a := fun v7288 k0_hw540 => k0_hw540.2.2

def k0_off1025 (v7297 : BitVec 32) : Fin 1 → Nat :=
  let c999936_i32_3203 : BitVec 32 := 999936#32
  let v7298 : BitVec 32 := Scalar.subi v7297 c999936_i32_3203
  let c32_i32_3204 : BitVec 32 := 32#32
  let v7299 : BitVec 32 := Scalar.muli v7298 c32_i32_3204
  let v7300 : BitVec 32 := v7299
  ![v7300.toNat]

def k0_chk541 (v7297 : BitVec 32) : Prop :=
  (8 ∣ (k0_mult518 v7297).toNat) ∧
  (∀ a, (k0_off1009 v7297) a + S32.size a ≤ S2048.size a) ∧
  (∀ a, (k0_off1025 v7297) a + S32.size a ≤ S2048.size a)
theorem k0_mult518_dvd : ∀ (v7297 : BitVec 32) (k0_hw541 : k0_chk541 v7297), 8 ∣ (k0_mult518 v7297).toNat := fun v7297 k0_hw541 => k0_hw541.1
theorem k0_off1009_inb : ∀ (v7297 : BitVec 32) (k0_hw541 : k0_chk541 v7297), ∀ a, (k0_off1009 v7297) a + S32.size a ≤ S2048.size a := fun v7297 k0_hw541 => k0_hw541.2.1
theorem k0_off1025_inb : ∀ (v7297 : BitVec 32) (k0_hw541 : k0_chk541 v7297), ∀ a, (k0_off1025 v7297) a + S32.size a ≤ S2048.size a := fun v7297 k0_hw541 => k0_hw541.2.2

def k0_off1026 (v7306 : BitVec 32) : Fin 1 → Nat :=
  let c999936_i32_3207 : BitVec 32 := 999936#32
  let v7307 : BitVec 32 := Scalar.subi v7306 c999936_i32_3207
  let c32_i32_3208 : BitVec 32 := 32#32
  let v7308 : BitVec 32 := Scalar.muli v7307 c32_i32_3208
  let v7309 : BitVec 32 := v7308
  ![v7309.toNat]

def k0_chk542 (v7306 : BitVec 32) : Prop :=
  (8 ∣ (k0_mult519 v7306).toNat) ∧
  (∀ a, (k0_off1010 v7306) a + S32.size a ≤ S2048.size a) ∧
  (∀ a, (k0_off1026 v7306) a + S32.size a ≤ S2048.size a)
theorem k0_mult519_dvd : ∀ (v7306 : BitVec 32) (k0_hw542 : k0_chk542 v7306), 8 ∣ (k0_mult519 v7306).toNat := fun v7306 k0_hw542 => k0_hw542.1
theorem k0_off1010_inb : ∀ (v7306 : BitVec 32) (k0_hw542 : k0_chk542 v7306), ∀ a, (k0_off1010 v7306) a + S32.size a ≤ S2048.size a := fun v7306 k0_hw542 => k0_hw542.2.1
theorem k0_off1026_inb : ∀ (v7306 : BitVec 32) (k0_hw542 : k0_chk542 v7306), ∀ a, (k0_off1026 v7306) a + S32.size a ≤ S2048.size a := fun v7306 k0_hw542 => k0_hw542.2.2

def k0_off1027 (v7315 : BitVec 32) : Fin 1 → Nat :=
  let c999936_i32_3211 : BitVec 32 := 999936#32
  let v7316 : BitVec 32 := Scalar.subi v7315 c999936_i32_3211
  let c32_i32_3212 : BitVec 32 := 32#32
  let v7317 : BitVec 32 := Scalar.muli v7316 c32_i32_3212
  let v7318 : BitVec 32 := v7317
  ![v7318.toNat]

def k0_chk543 (v7315 : BitVec 32) : Prop :=
  (8 ∣ (k0_mult520 v7315).toNat) ∧
  (∀ a, (k0_off1011 v7315) a + S32.size a ≤ S2048.size a) ∧
  (∀ a, (k0_off1027 v7315) a + S32.size a ≤ S2048.size a)
theorem k0_mult520_dvd : ∀ (v7315 : BitVec 32) (k0_hw543 : k0_chk543 v7315), 8 ∣ (k0_mult520 v7315).toNat := fun v7315 k0_hw543 => k0_hw543.1
theorem k0_off1011_inb : ∀ (v7315 : BitVec 32) (k0_hw543 : k0_chk543 v7315), ∀ a, (k0_off1011 v7315) a + S32.size a ≤ S2048.size a := fun v7315 k0_hw543 => k0_hw543.2.1
theorem k0_off1027_inb : ∀ (v7315 : BitVec 32) (k0_hw543 : k0_chk543 v7315), ∀ a, (k0_off1027 v7315) a + S32.size a ≤ S2048.size a := fun v7315 k0_hw543 => k0_hw543.2.2

def k0_off1028 (v7324 : BitVec 32) : Fin 1 → Nat :=
  let c999936_i32_3215 : BitVec 32 := 999936#32
  let v7325 : BitVec 32 := Scalar.subi v7324 c999936_i32_3215
  let c32_i32_3216 : BitVec 32 := 32#32
  let v7326 : BitVec 32 := Scalar.muli v7325 c32_i32_3216
  let v7327 : BitVec 32 := v7326
  ![v7327.toNat]

def k0_chk544 (v7324 : BitVec 32) : Prop :=
  (8 ∣ (k0_mult521 v7324).toNat) ∧
  (∀ a, (k0_off1012 v7324) a + S32.size a ≤ S2048.size a) ∧
  (∀ a, (k0_off1028 v7324) a + S32.size a ≤ S2048.size a)
theorem k0_mult521_dvd : ∀ (v7324 : BitVec 32) (k0_hw544 : k0_chk544 v7324), 8 ∣ (k0_mult521 v7324).toNat := fun v7324 k0_hw544 => k0_hw544.1
theorem k0_off1012_inb : ∀ (v7324 : BitVec 32) (k0_hw544 : k0_chk544 v7324), ∀ a, (k0_off1012 v7324) a + S32.size a ≤ S2048.size a := fun v7324 k0_hw544 => k0_hw544.2.1
theorem k0_off1028_inb : ∀ (v7324 : BitVec 32) (k0_hw544 : k0_chk544 v7324), ∀ a, (k0_off1028 v7324) a + S32.size a ≤ S2048.size a := fun v7324 k0_hw544 => k0_hw544.2.2

def k0_off1029 (v7333 : BitVec 32) : Fin 1 → Nat :=
  let c999936_i32_3219 : BitVec 32 := 999936#32
  let v7334 : BitVec 32 := Scalar.subi v7333 c999936_i32_3219
  let c32_i32_3220 : BitVec 32 := 32#32
  let v7335 : BitVec 32 := Scalar.muli v7334 c32_i32_3220
  let v7336 : BitVec 32 := v7335
  ![v7336.toNat]

def k0_chk545 (v7333 : BitVec 32) : Prop :=
  (8 ∣ (k0_mult522 v7333).toNat) ∧
  (∀ a, (k0_off1013 v7333) a + S32.size a ≤ S2048.size a) ∧
  (∀ a, (k0_off1029 v7333) a + S32.size a ≤ S2048.size a)
theorem k0_mult522_dvd : ∀ (v7333 : BitVec 32) (k0_hw545 : k0_chk545 v7333), 8 ∣ (k0_mult522 v7333).toNat := fun v7333 k0_hw545 => k0_hw545.1
theorem k0_off1013_inb : ∀ (v7333 : BitVec 32) (k0_hw545 : k0_chk545 v7333), ∀ a, (k0_off1013 v7333) a + S32.size a ≤ S2048.size a := fun v7333 k0_hw545 => k0_hw545.2.1
theorem k0_off1029_inb : ∀ (v7333 : BitVec 32) (k0_hw545 : k0_chk545 v7333), ∀ a, (k0_off1029 v7333) a + S32.size a ≤ S2048.size a := fun v7333 k0_hw545 => k0_hw545.2.2

def k0_off1030 (v7342 : BitVec 32) : Fin 1 → Nat :=
  let c999936_i32_3223 : BitVec 32 := 999936#32
  let v7343 : BitVec 32 := Scalar.subi v7342 c999936_i32_3223
  let c32_i32_3224 : BitVec 32 := 32#32
  let v7344 : BitVec 32 := Scalar.muli v7343 c32_i32_3224
  let v7345 : BitVec 32 := v7344
  ![v7345.toNat]

def k0_chk546 (v7342 : BitVec 32) : Prop :=
  (8 ∣ (k0_mult523 v7342).toNat) ∧
  (∀ a, (k0_off1014 v7342) a + S32.size a ≤ S2048.size a) ∧
  (∀ a, (k0_off1030 v7342) a + S32.size a ≤ S2048.size a)
theorem k0_mult523_dvd : ∀ (v7342 : BitVec 32) (k0_hw546 : k0_chk546 v7342), 8 ∣ (k0_mult523 v7342).toNat := fun v7342 k0_hw546 => k0_hw546.1
theorem k0_off1014_inb : ∀ (v7342 : BitVec 32) (k0_hw546 : k0_chk546 v7342), ∀ a, (k0_off1014 v7342) a + S32.size a ≤ S2048.size a := fun v7342 k0_hw546 => k0_hw546.2.1
theorem k0_off1030_inb : ∀ (v7342 : BitVec 32) (k0_hw546 : k0_chk546 v7342), ∀ a, (k0_off1030 v7342) a + S32.size a ≤ S2048.size a := fun v7342 k0_hw546 => k0_hw546.2.2

def k0_off1031 (v7351 : BitVec 32) : Fin 1 → Nat :=
  let c999936_i32_3227 : BitVec 32 := 999936#32
  let v7352 : BitVec 32 := Scalar.subi v7351 c999936_i32_3227
  let c32_i32_3228 : BitVec 32 := 32#32
  let v7353 : BitVec 32 := Scalar.muli v7352 c32_i32_3228
  let v7354 : BitVec 32 := v7353
  ![v7354.toNat]

def k0_chk547 (v7351 : BitVec 32) : Prop :=
  (8 ∣ (k0_mult524 v7351).toNat) ∧
  (∀ a, (k0_off1015 v7351) a + S32.size a ≤ S2048.size a) ∧
  (∀ a, (k0_off1031 v7351) a + S32.size a ≤ S2048.size a)
theorem k0_mult524_dvd : ∀ (v7351 : BitVec 32) (k0_hw547 : k0_chk547 v7351), 8 ∣ (k0_mult524 v7351).toNat := fun v7351 k0_hw547 => k0_hw547.1
theorem k0_off1015_inb : ∀ (v7351 : BitVec 32) (k0_hw547 : k0_chk547 v7351), ∀ a, (k0_off1015 v7351) a + S32.size a ≤ S2048.size a := fun v7351 k0_hw547 => k0_hw547.2.1
theorem k0_off1031_inb : ∀ (v7351 : BitVec 32) (k0_hw547 : k0_chk547 v7351), ∀ a, (k0_off1031 v7351) a + S32.size a ≤ S2048.size a := fun v7351 k0_hw547 => k0_hw547.2.2

def k0_off1032 (v7360 : BitVec 32) : Fin 1 → Nat :=
  let c999936_i32_3231 : BitVec 32 := 999936#32
  let v7361 : BitVec 32 := Scalar.subi v7360 c999936_i32_3231
  let c32_i32_3232 : BitVec 32 := 32#32
  let v7362 : BitVec 32 := Scalar.muli v7361 c32_i32_3232
  let v7363 : BitVec 32 := v7362
  ![v7363.toNat]

def k0_chk548 (v7360 : BitVec 32) : Prop :=
  (8 ∣ (k0_mult525 v7360).toNat) ∧
  (∀ a, (k0_off1016 v7360) a + S32.size a ≤ S2048.size a) ∧
  (∀ a, (k0_off1032 v7360) a + S32.size a ≤ S2048.size a)
theorem k0_mult525_dvd : ∀ (v7360 : BitVec 32) (k0_hw548 : k0_chk548 v7360), 8 ∣ (k0_mult525 v7360).toNat := fun v7360 k0_hw548 => k0_hw548.1
theorem k0_off1016_inb : ∀ (v7360 : BitVec 32) (k0_hw548 : k0_chk548 v7360), ∀ a, (k0_off1016 v7360) a + S32.size a ≤ S2048.size a := fun v7360 k0_hw548 => k0_hw548.2.1
theorem k0_off1032_inb : ∀ (v7360 : BitVec 32) (k0_hw548 : k0_chk548 v7360), ∀ a, (k0_off1032 v7360) a + S32.size a ≤ S2048.size a := fun v7360 k0_hw548 => k0_hw548.2.2

def k0_off1033 (v7369 : BitVec 32) : Fin 1 → Nat :=
  let c999936_i32_3235 : BitVec 32 := 999936#32
  let v7370 : BitVec 32 := Scalar.subi v7369 c999936_i32_3235
  let c32_i32_3236 : BitVec 32 := 32#32
  let v7371 : BitVec 32 := Scalar.muli v7370 c32_i32_3236
  let v7372 : BitVec 32 := v7371
  ![v7372.toNat]

def k0_chk549 (v7369 : BitVec 32) : Prop :=
  (8 ∣ (k0_mult526 v7369).toNat) ∧
  (∀ a, (k0_off1017 v7369) a + S32.size a ≤ S2048.size a) ∧
  (∀ a, (k0_off1033 v7369) a + S32.size a ≤ S2048.size a)
theorem k0_mult526_dvd : ∀ (v7369 : BitVec 32) (k0_hw549 : k0_chk549 v7369), 8 ∣ (k0_mult526 v7369).toNat := fun v7369 k0_hw549 => k0_hw549.1
theorem k0_off1017_inb : ∀ (v7369 : BitVec 32) (k0_hw549 : k0_chk549 v7369), ∀ a, (k0_off1017 v7369) a + S32.size a ≤ S2048.size a := fun v7369 k0_hw549 => k0_hw549.2.1
theorem k0_off1033_inb : ∀ (v7369 : BitVec 32) (k0_hw549 : k0_chk549 v7369), ∀ a, (k0_off1033 v7369) a + S32.size a ≤ S2048.size a := fun v7369 k0_hw549 => k0_hw549.2.2

def k0_off1034 (v7378 : BitVec 32) : Fin 1 → Nat :=
  let c999936_i32_3239 : BitVec 32 := 999936#32
  let v7379 : BitVec 32 := Scalar.subi v7378 c999936_i32_3239
  let c32_i32_3240 : BitVec 32 := 32#32
  let v7380 : BitVec 32 := Scalar.muli v7379 c32_i32_3240
  let v7381 : BitVec 32 := v7380
  ![v7381.toNat]

def k0_chk550 (v7378 : BitVec 32) : Prop :=
  (8 ∣ (k0_mult527 v7378).toNat) ∧
  (∀ a, (k0_off1018 v7378) a + S32.size a ≤ S2048.size a) ∧
  (∀ a, (k0_off1034 v7378) a + S32.size a ≤ S2048.size a)
theorem k0_mult527_dvd : ∀ (v7378 : BitVec 32) (k0_hw550 : k0_chk550 v7378), 8 ∣ (k0_mult527 v7378).toNat := fun v7378 k0_hw550 => k0_hw550.1
theorem k0_off1018_inb : ∀ (v7378 : BitVec 32) (k0_hw550 : k0_chk550 v7378), ∀ a, (k0_off1018 v7378) a + S32.size a ≤ S2048.size a := fun v7378 k0_hw550 => k0_hw550.2.1
theorem k0_off1034_inb : ∀ (v7378 : BitVec 32) (k0_hw550 : k0_chk550 v7378), ∀ a, (k0_off1034 v7378) a + S32.size a ≤ S2048.size a := fun v7378 k0_hw550 => k0_hw550.2.2

def k0_off1035 (v7387 : BitVec 32) : Fin 1 → Nat :=
  let c999936_i32_3243 : BitVec 32 := 999936#32
  let v7388 : BitVec 32 := Scalar.subi v7387 c999936_i32_3243
  let c32_i32_3244 : BitVec 32 := 32#32
  let v7389 : BitVec 32 := Scalar.muli v7388 c32_i32_3244
  let v7390 : BitVec 32 := v7389
  ![v7390.toNat]

def k0_chk551 (v7387 : BitVec 32) : Prop :=
  (8 ∣ (k0_mult528 v7387).toNat) ∧
  (∀ a, (k0_off1019 v7387) a + S32.size a ≤ S2048.size a) ∧
  (∀ a, (k0_off1035 v7387) a + S32.size a ≤ S2048.size a)
theorem k0_mult528_dvd : ∀ (v7387 : BitVec 32) (k0_hw551 : k0_chk551 v7387), 8 ∣ (k0_mult528 v7387).toNat := fun v7387 k0_hw551 => k0_hw551.1
theorem k0_off1019_inb : ∀ (v7387 : BitVec 32) (k0_hw551 : k0_chk551 v7387), ∀ a, (k0_off1019 v7387) a + S32.size a ≤ S2048.size a := fun v7387 k0_hw551 => k0_hw551.2.1
theorem k0_off1035_inb : ∀ (v7387 : BitVec 32) (k0_hw551 : k0_chk551 v7387), ∀ a, (k0_off1035 v7387) a + S32.size a ≤ S2048.size a := fun v7387 k0_hw551 => k0_hw551.2.2

def k0_mult530 (v7469 : BitVec 32) : BitVec 32 :=
  let c1703936_i32 : BitVec 32 := 1703936#32
  let c32_i32_3283 : BitVec 32 := 32#32
  let v7470 : BitVec 32 := Scalar.muli v7469 c32_i32_3283
  let v7471 : BitVec 32 := Scalar.addi c1703936_i32 v7470
  v7471

def k0_off1036 (v7469 : BitVec 32) : Fin 1 → Nat :=
  let c1703936_i32 : BitVec 32 := 1703936#32
  let c32_i32_3283 : BitVec 32 := 32#32
  let v7470 : BitVec 32 := Scalar.muli v7469 c32_i32_3283
  let v7471 : BitVec 32 := Scalar.addi c1703936_i32 v7470
  let v7472 : BitVec 32 := v7471
  ![v7472.toNat]
def k0_mult531 (v7478 : BitVec 32) : BitVec 32 :=
  let c1703936_i32_3287 : BitVec 32 := 1703936#32
  let c32_i32_3286 : BitVec 32 := 32#32
  let v7479 : BitVec 32 := Scalar.muli v7478 c32_i32_3286
  let v7480 : BitVec 32 := Scalar.addi c1703936_i32_3287 v7479
  v7480

def k0_off1037 (v7478 : BitVec 32) : Fin 1 → Nat :=
  let c1703936_i32_3287 : BitVec 32 := 1703936#32
  let c32_i32_3286 : BitVec 32 := 32#32
  let v7479 : BitVec 32 := Scalar.muli v7478 c32_i32_3286
  let v7480 : BitVec 32 := Scalar.addi c1703936_i32_3287 v7479
  let v7481 : BitVec 32 := v7480
  ![v7481.toNat]
def k0_mult532 (v7487 : BitVec 32) : BitVec 32 :=
  let c1703936_i32_3291 : BitVec 32 := 1703936#32
  let c32_i32_3290 : BitVec 32 := 32#32
  let v7488 : BitVec 32 := Scalar.muli v7487 c32_i32_3290
  let v7489 : BitVec 32 := Scalar.addi c1703936_i32_3291 v7488
  v7489

def k0_off1038 (v7487 : BitVec 32) : Fin 1 → Nat :=
  let c1703936_i32_3291 : BitVec 32 := 1703936#32
  let c32_i32_3290 : BitVec 32 := 32#32
  let v7488 : BitVec 32 := Scalar.muli v7487 c32_i32_3290
  let v7489 : BitVec 32 := Scalar.addi c1703936_i32_3291 v7488
  let v7490 : BitVec 32 := v7489
  ![v7490.toNat]
def k0_mult533 (v7496 : BitVec 32) : BitVec 32 :=
  let c1703936_i32_3295 : BitVec 32 := 1703936#32
  let c32_i32_3294 : BitVec 32 := 32#32
  let v7497 : BitVec 32 := Scalar.muli v7496 c32_i32_3294
  let v7498 : BitVec 32 := Scalar.addi c1703936_i32_3295 v7497
  v7498

def k0_off1039 (v7496 : BitVec 32) : Fin 1 → Nat :=
  let c1703936_i32_3295 : BitVec 32 := 1703936#32
  let c32_i32_3294 : BitVec 32 := 32#32
  let v7497 : BitVec 32 := Scalar.muli v7496 c32_i32_3294
  let v7498 : BitVec 32 := Scalar.addi c1703936_i32_3295 v7497
  let v7499 : BitVec 32 := v7498
  ![v7499.toNat]
def k0_mult534 (v7505 : BitVec 32) : BitVec 32 :=
  let c1703936_i32_3299 : BitVec 32 := 1703936#32
  let c32_i32_3298 : BitVec 32 := 32#32
  let v7506 : BitVec 32 := Scalar.muli v7505 c32_i32_3298
  let v7507 : BitVec 32 := Scalar.addi c1703936_i32_3299 v7506
  v7507

def k0_off1040 (v7505 : BitVec 32) : Fin 1 → Nat :=
  let c1703936_i32_3299 : BitVec 32 := 1703936#32
  let c32_i32_3298 : BitVec 32 := 32#32
  let v7506 : BitVec 32 := Scalar.muli v7505 c32_i32_3298
  let v7507 : BitVec 32 := Scalar.addi c1703936_i32_3299 v7506
  let v7508 : BitVec 32 := v7507
  ![v7508.toNat]
def k0_mult535 (v7514 : BitVec 32) : BitVec 32 :=
  let c1703936_i32_3303 : BitVec 32 := 1703936#32
  let c32_i32_3302 : BitVec 32 := 32#32
  let v7515 : BitVec 32 := Scalar.muli v7514 c32_i32_3302
  let v7516 : BitVec 32 := Scalar.addi c1703936_i32_3303 v7515
  v7516

def k0_off1041 (v7514 : BitVec 32) : Fin 1 → Nat :=
  let c1703936_i32_3303 : BitVec 32 := 1703936#32
  let c32_i32_3302 : BitVec 32 := 32#32
  let v7515 : BitVec 32 := Scalar.muli v7514 c32_i32_3302
  let v7516 : BitVec 32 := Scalar.addi c1703936_i32_3303 v7515
  let v7517 : BitVec 32 := v7516
  ![v7517.toNat]
def k0_mult536 (v7523 : BitVec 32) : BitVec 32 :=
  let c1703936_i32_3307 : BitVec 32 := 1703936#32
  let c32_i32_3306 : BitVec 32 := 32#32
  let v7524 : BitVec 32 := Scalar.muli v7523 c32_i32_3306
  let v7525 : BitVec 32 := Scalar.addi c1703936_i32_3307 v7524
  v7525

def k0_off1042 (v7523 : BitVec 32) : Fin 1 → Nat :=
  let c1703936_i32_3307 : BitVec 32 := 1703936#32
  let c32_i32_3306 : BitVec 32 := 32#32
  let v7524 : BitVec 32 := Scalar.muli v7523 c32_i32_3306
  let v7525 : BitVec 32 := Scalar.addi c1703936_i32_3307 v7524
  let v7526 : BitVec 32 := v7525
  ![v7526.toNat]
def k0_mult537 (v7532 : BitVec 32) : BitVec 32 :=
  let c1703936_i32_3311 : BitVec 32 := 1703936#32
  let c32_i32_3310 : BitVec 32 := 32#32
  let v7533 : BitVec 32 := Scalar.muli v7532 c32_i32_3310
  let v7534 : BitVec 32 := Scalar.addi c1703936_i32_3311 v7533
  v7534

def k0_off1043 (v7532 : BitVec 32) : Fin 1 → Nat :=
  let c1703936_i32_3311 : BitVec 32 := 1703936#32
  let c32_i32_3310 : BitVec 32 := 32#32
  let v7533 : BitVec 32 := Scalar.muli v7532 c32_i32_3310
  let v7534 : BitVec 32 := Scalar.addi c1703936_i32_3311 v7533
  let v7535 : BitVec 32 := v7534
  ![v7535.toNat]
def k0_mult538 (v7541 : BitVec 32) : BitVec 32 :=
  let c1703936_i32_3315 : BitVec 32 := 1703936#32
  let c32_i32_3314 : BitVec 32 := 32#32
  let v7542 : BitVec 32 := Scalar.muli v7541 c32_i32_3314
  let v7543 : BitVec 32 := Scalar.addi c1703936_i32_3315 v7542
  v7543

def k0_off1044 (v7541 : BitVec 32) : Fin 1 → Nat :=
  let c1703936_i32_3315 : BitVec 32 := 1703936#32
  let c32_i32_3314 : BitVec 32 := 32#32
  let v7542 : BitVec 32 := Scalar.muli v7541 c32_i32_3314
  let v7543 : BitVec 32 := Scalar.addi c1703936_i32_3315 v7542
  let v7544 : BitVec 32 := v7543
  ![v7544.toNat]
def k0_mult539 (v7550 : BitVec 32) : BitVec 32 :=
  let c1703936_i32_3319 : BitVec 32 := 1703936#32
  let c32_i32_3318 : BitVec 32 := 32#32
  let v7551 : BitVec 32 := Scalar.muli v7550 c32_i32_3318
  let v7552 : BitVec 32 := Scalar.addi c1703936_i32_3319 v7551
  v7552

def k0_off1045 (v7550 : BitVec 32) : Fin 1 → Nat :=
  let c1703936_i32_3319 : BitVec 32 := 1703936#32
  let c32_i32_3318 : BitVec 32 := 32#32
  let v7551 : BitVec 32 := Scalar.muli v7550 c32_i32_3318
  let v7552 : BitVec 32 := Scalar.addi c1703936_i32_3319 v7551
  let v7553 : BitVec 32 := v7552
  ![v7553.toNat]
def k0_mult540 (v7559 : BitVec 32) : BitVec 32 :=
  let c1703936_i32_3323 : BitVec 32 := 1703936#32
  let c32_i32_3322 : BitVec 32 := 32#32
  let v7560 : BitVec 32 := Scalar.muli v7559 c32_i32_3322
  let v7561 : BitVec 32 := Scalar.addi c1703936_i32_3323 v7560
  v7561

def k0_off1046 (v7559 : BitVec 32) : Fin 1 → Nat :=
  let c1703936_i32_3323 : BitVec 32 := 1703936#32
  let c32_i32_3322 : BitVec 32 := 32#32
  let v7560 : BitVec 32 := Scalar.muli v7559 c32_i32_3322
  let v7561 : BitVec 32 := Scalar.addi c1703936_i32_3323 v7560
  let v7562 : BitVec 32 := v7561
  ![v7562.toNat]
def k0_mult541 (v7568 : BitVec 32) : BitVec 32 :=
  let c1703936_i32_3327 : BitVec 32 := 1703936#32
  let c32_i32_3326 : BitVec 32 := 32#32
  let v7569 : BitVec 32 := Scalar.muli v7568 c32_i32_3326
  let v7570 : BitVec 32 := Scalar.addi c1703936_i32_3327 v7569
  v7570

def k0_off1047 (v7568 : BitVec 32) : Fin 1 → Nat :=
  let c1703936_i32_3327 : BitVec 32 := 1703936#32
  let c32_i32_3326 : BitVec 32 := 32#32
  let v7569 : BitVec 32 := Scalar.muli v7568 c32_i32_3326
  let v7570 : BitVec 32 := Scalar.addi c1703936_i32_3327 v7569
  let v7571 : BitVec 32 := v7570
  ![v7571.toNat]
def k0_mult542 (v7577 : BitVec 32) : BitVec 32 :=
  let c1703936_i32_3331 : BitVec 32 := 1703936#32
  let c32_i32_3330 : BitVec 32 := 32#32
  let v7578 : BitVec 32 := Scalar.muli v7577 c32_i32_3330
  let v7579 : BitVec 32 := Scalar.addi c1703936_i32_3331 v7578
  v7579

def k0_off1048 (v7577 : BitVec 32) : Fin 1 → Nat :=
  let c1703936_i32_3331 : BitVec 32 := 1703936#32
  let c32_i32_3330 : BitVec 32 := 32#32
  let v7578 : BitVec 32 := Scalar.muli v7577 c32_i32_3330
  let v7579 : BitVec 32 := Scalar.addi c1703936_i32_3331 v7578
  let v7580 : BitVec 32 := v7579
  ![v7580.toNat]
def k0_mult543 (v7586 : BitVec 32) : BitVec 32 :=
  let c1703936_i32_3335 : BitVec 32 := 1703936#32
  let c32_i32_3334 : BitVec 32 := 32#32
  let v7587 : BitVec 32 := Scalar.muli v7586 c32_i32_3334
  let v7588 : BitVec 32 := Scalar.addi c1703936_i32_3335 v7587
  v7588

def k0_off1049 (v7586 : BitVec 32) : Fin 1 → Nat :=
  let c1703936_i32_3335 : BitVec 32 := 1703936#32
  let c32_i32_3334 : BitVec 32 := 32#32
  let v7587 : BitVec 32 := Scalar.muli v7586 c32_i32_3334
  let v7588 : BitVec 32 := Scalar.addi c1703936_i32_3335 v7587
  let v7589 : BitVec 32 := v7588
  ![v7589.toNat]
def k0_mult544 (v7595 : BitVec 32) : BitVec 32 :=
  let c1703936_i32_3339 : BitVec 32 := 1703936#32
  let c32_i32_3338 : BitVec 32 := 32#32
  let v7596 : BitVec 32 := Scalar.muli v7595 c32_i32_3338
  let v7597 : BitVec 32 := Scalar.addi c1703936_i32_3339 v7596
  v7597

def k0_off1050 (v7595 : BitVec 32) : Fin 1 → Nat :=
  let c1703936_i32_3339 : BitVec 32 := 1703936#32
  let c32_i32_3338 : BitVec 32 := 32#32
  let v7596 : BitVec 32 := Scalar.muli v7595 c32_i32_3338
  let v7597 : BitVec 32 := Scalar.addi c1703936_i32_3339 v7596
  let v7598 : BitVec 32 := v7597
  ![v7598.toNat]
def k0_mult545 (v7604 : BitVec 32) : BitVec 32 :=
  let c1703936_i32_3343 : BitVec 32 := 1703936#32
  let c32_i32_3342 : BitVec 32 := 32#32
  let v7605 : BitVec 32 := Scalar.muli v7604 c32_i32_3342
  let v7606 : BitVec 32 := Scalar.addi c1703936_i32_3343 v7605
  v7606

def k0_off1051 (v7604 : BitVec 32) : Fin 1 → Nat :=
  let c1703936_i32_3343 : BitVec 32 := 1703936#32
  let c32_i32_3342 : BitVec 32 := 32#32
  let v7605 : BitVec 32 := Scalar.muli v7604 c32_i32_3342
  let v7606 : BitVec 32 := Scalar.addi c1703936_i32_3343 v7605
  let v7607 : BitVec 32 := v7606
  ![v7607.toNat]

def k0_chk568 (v7604 : BitVec 32) : Prop :=
  (8 ∣ (k0_mult545 v7604).toNat) ∧
  (∀ a, (k0_off1051 v7604) a + S32.size a ≤ S3407872.size a)
theorem k0_mult545_dvd : ∀ (v7604 : BitVec 32) (k0_hw568 : k0_chk568 v7604), 8 ∣ (k0_mult545 v7604).toNat := fun v7604 k0_hw568 => k0_hw568.1
theorem k0_off1051_inb : ∀ (v7604 : BitVec 32) (k0_hw568 : k0_chk568 v7604), ∀ a, (k0_off1051 v7604) a + S32.size a ≤ S3407872.size a := fun v7604 k0_hw568 => k0_hw568.2

def k0_off1052 (v7469 : BitVec 32) : Fin 1 → Nat :=
  let c1703936_i32 : BitVec 32 := 1703936#32
  let c32_i32_3283 : BitVec 32 := 32#32
  let v7470 : BitVec 32 := Scalar.muli v7469 c32_i32_3283
  let v7471 : BitVec 32 := Scalar.addi c1703936_i32 v7470
  let v7472 : BitVec 32 := v7471
  ![v7472.toNat]

def k0_chk553 (v7469 : BitVec 32) : Prop :=
  (8 ∣ (k0_mult530 v7469).toNat) ∧
  (∀ a, (k0_off1036 v7469) a + S32.size a ≤ S3407872.size a) ∧
  (∀ a, (k0_off1052 v7469) a + S32.size a ≤ S3407872.size a)
theorem k0_mult530_dvd : ∀ (v7469 : BitVec 32) (k0_hw553 : k0_chk553 v7469), 8 ∣ (k0_mult530 v7469).toNat := fun v7469 k0_hw553 => k0_hw553.1
theorem k0_off1036_inb : ∀ (v7469 : BitVec 32) (k0_hw553 : k0_chk553 v7469), ∀ a, (k0_off1036 v7469) a + S32.size a ≤ S3407872.size a := fun v7469 k0_hw553 => k0_hw553.2.1
theorem k0_off1052_inb : ∀ (v7469 : BitVec 32) (k0_hw553 : k0_chk553 v7469), ∀ a, (k0_off1052 v7469) a + S32.size a ≤ S3407872.size a := fun v7469 k0_hw553 => k0_hw553.2.2

def k0_off1053 (v7478 : BitVec 32) : Fin 1 → Nat :=
  let c1703936_i32_3287 : BitVec 32 := 1703936#32
  let c32_i32_3286 : BitVec 32 := 32#32
  let v7479 : BitVec 32 := Scalar.muli v7478 c32_i32_3286
  let v7480 : BitVec 32 := Scalar.addi c1703936_i32_3287 v7479
  let v7481 : BitVec 32 := v7480
  ![v7481.toNat]

def k0_chk554 (v7478 : BitVec 32) : Prop :=
  (8 ∣ (k0_mult531 v7478).toNat) ∧
  (∀ a, (k0_off1037 v7478) a + S32.size a ≤ S3407872.size a) ∧
  (∀ a, (k0_off1053 v7478) a + S32.size a ≤ S3407872.size a)
theorem k0_mult531_dvd : ∀ (v7478 : BitVec 32) (k0_hw554 : k0_chk554 v7478), 8 ∣ (k0_mult531 v7478).toNat := fun v7478 k0_hw554 => k0_hw554.1
theorem k0_off1037_inb : ∀ (v7478 : BitVec 32) (k0_hw554 : k0_chk554 v7478), ∀ a, (k0_off1037 v7478) a + S32.size a ≤ S3407872.size a := fun v7478 k0_hw554 => k0_hw554.2.1
theorem k0_off1053_inb : ∀ (v7478 : BitVec 32) (k0_hw554 : k0_chk554 v7478), ∀ a, (k0_off1053 v7478) a + S32.size a ≤ S3407872.size a := fun v7478 k0_hw554 => k0_hw554.2.2

def k0_off1054 (v7487 : BitVec 32) : Fin 1 → Nat :=
  let c1703936_i32_3291 : BitVec 32 := 1703936#32
  let c32_i32_3290 : BitVec 32 := 32#32
  let v7488 : BitVec 32 := Scalar.muli v7487 c32_i32_3290
  let v7489 : BitVec 32 := Scalar.addi c1703936_i32_3291 v7488
  let v7490 : BitVec 32 := v7489
  ![v7490.toNat]

def k0_chk555 (v7487 : BitVec 32) : Prop :=
  (8 ∣ (k0_mult532 v7487).toNat) ∧
  (∀ a, (k0_off1038 v7487) a + S32.size a ≤ S3407872.size a) ∧
  (∀ a, (k0_off1054 v7487) a + S32.size a ≤ S3407872.size a)
theorem k0_mult532_dvd : ∀ (v7487 : BitVec 32) (k0_hw555 : k0_chk555 v7487), 8 ∣ (k0_mult532 v7487).toNat := fun v7487 k0_hw555 => k0_hw555.1
theorem k0_off1038_inb : ∀ (v7487 : BitVec 32) (k0_hw555 : k0_chk555 v7487), ∀ a, (k0_off1038 v7487) a + S32.size a ≤ S3407872.size a := fun v7487 k0_hw555 => k0_hw555.2.1
theorem k0_off1054_inb : ∀ (v7487 : BitVec 32) (k0_hw555 : k0_chk555 v7487), ∀ a, (k0_off1054 v7487) a + S32.size a ≤ S3407872.size a := fun v7487 k0_hw555 => k0_hw555.2.2

def k0_off1055 (v7496 : BitVec 32) : Fin 1 → Nat :=
  let c1703936_i32_3295 : BitVec 32 := 1703936#32
  let c32_i32_3294 : BitVec 32 := 32#32
  let v7497 : BitVec 32 := Scalar.muli v7496 c32_i32_3294
  let v7498 : BitVec 32 := Scalar.addi c1703936_i32_3295 v7497
  let v7499 : BitVec 32 := v7498
  ![v7499.toNat]

def k0_chk556 (v7496 : BitVec 32) : Prop :=
  (8 ∣ (k0_mult533 v7496).toNat) ∧
  (∀ a, (k0_off1039 v7496) a + S32.size a ≤ S3407872.size a) ∧
  (∀ a, (k0_off1055 v7496) a + S32.size a ≤ S3407872.size a)
theorem k0_mult533_dvd : ∀ (v7496 : BitVec 32) (k0_hw556 : k0_chk556 v7496), 8 ∣ (k0_mult533 v7496).toNat := fun v7496 k0_hw556 => k0_hw556.1
theorem k0_off1039_inb : ∀ (v7496 : BitVec 32) (k0_hw556 : k0_chk556 v7496), ∀ a, (k0_off1039 v7496) a + S32.size a ≤ S3407872.size a := fun v7496 k0_hw556 => k0_hw556.2.1
theorem k0_off1055_inb : ∀ (v7496 : BitVec 32) (k0_hw556 : k0_chk556 v7496), ∀ a, (k0_off1055 v7496) a + S32.size a ≤ S3407872.size a := fun v7496 k0_hw556 => k0_hw556.2.2

def k0_off1056 (v7505 : BitVec 32) : Fin 1 → Nat :=
  let c1703936_i32_3299 : BitVec 32 := 1703936#32
  let c32_i32_3298 : BitVec 32 := 32#32
  let v7506 : BitVec 32 := Scalar.muli v7505 c32_i32_3298
  let v7507 : BitVec 32 := Scalar.addi c1703936_i32_3299 v7506
  let v7508 : BitVec 32 := v7507
  ![v7508.toNat]

def k0_chk557 (v7505 : BitVec 32) : Prop :=
  (8 ∣ (k0_mult534 v7505).toNat) ∧
  (∀ a, (k0_off1040 v7505) a + S32.size a ≤ S3407872.size a) ∧
  (∀ a, (k0_off1056 v7505) a + S32.size a ≤ S3407872.size a)
theorem k0_mult534_dvd : ∀ (v7505 : BitVec 32) (k0_hw557 : k0_chk557 v7505), 8 ∣ (k0_mult534 v7505).toNat := fun v7505 k0_hw557 => k0_hw557.1
theorem k0_off1040_inb : ∀ (v7505 : BitVec 32) (k0_hw557 : k0_chk557 v7505), ∀ a, (k0_off1040 v7505) a + S32.size a ≤ S3407872.size a := fun v7505 k0_hw557 => k0_hw557.2.1
theorem k0_off1056_inb : ∀ (v7505 : BitVec 32) (k0_hw557 : k0_chk557 v7505), ∀ a, (k0_off1056 v7505) a + S32.size a ≤ S3407872.size a := fun v7505 k0_hw557 => k0_hw557.2.2

def k0_off1057 (v7514 : BitVec 32) : Fin 1 → Nat :=
  let c1703936_i32_3303 : BitVec 32 := 1703936#32
  let c32_i32_3302 : BitVec 32 := 32#32
  let v7515 : BitVec 32 := Scalar.muli v7514 c32_i32_3302
  let v7516 : BitVec 32 := Scalar.addi c1703936_i32_3303 v7515
  let v7517 : BitVec 32 := v7516
  ![v7517.toNat]

def k0_chk558 (v7514 : BitVec 32) : Prop :=
  (8 ∣ (k0_mult535 v7514).toNat) ∧
  (∀ a, (k0_off1041 v7514) a + S32.size a ≤ S3407872.size a) ∧
  (∀ a, (k0_off1057 v7514) a + S32.size a ≤ S3407872.size a)
theorem k0_mult535_dvd : ∀ (v7514 : BitVec 32) (k0_hw558 : k0_chk558 v7514), 8 ∣ (k0_mult535 v7514).toNat := fun v7514 k0_hw558 => k0_hw558.1
theorem k0_off1041_inb : ∀ (v7514 : BitVec 32) (k0_hw558 : k0_chk558 v7514), ∀ a, (k0_off1041 v7514) a + S32.size a ≤ S3407872.size a := fun v7514 k0_hw558 => k0_hw558.2.1
theorem k0_off1057_inb : ∀ (v7514 : BitVec 32) (k0_hw558 : k0_chk558 v7514), ∀ a, (k0_off1057 v7514) a + S32.size a ≤ S3407872.size a := fun v7514 k0_hw558 => k0_hw558.2.2

def k0_off1058 (v7523 : BitVec 32) : Fin 1 → Nat :=
  let c1703936_i32_3307 : BitVec 32 := 1703936#32
  let c32_i32_3306 : BitVec 32 := 32#32
  let v7524 : BitVec 32 := Scalar.muli v7523 c32_i32_3306
  let v7525 : BitVec 32 := Scalar.addi c1703936_i32_3307 v7524
  let v7526 : BitVec 32 := v7525
  ![v7526.toNat]

def k0_chk559 (v7523 : BitVec 32) : Prop :=
  (8 ∣ (k0_mult536 v7523).toNat) ∧
  (∀ a, (k0_off1042 v7523) a + S32.size a ≤ S3407872.size a) ∧
  (∀ a, (k0_off1058 v7523) a + S32.size a ≤ S3407872.size a)
theorem k0_mult536_dvd : ∀ (v7523 : BitVec 32) (k0_hw559 : k0_chk559 v7523), 8 ∣ (k0_mult536 v7523).toNat := fun v7523 k0_hw559 => k0_hw559.1
theorem k0_off1042_inb : ∀ (v7523 : BitVec 32) (k0_hw559 : k0_chk559 v7523), ∀ a, (k0_off1042 v7523) a + S32.size a ≤ S3407872.size a := fun v7523 k0_hw559 => k0_hw559.2.1
theorem k0_off1058_inb : ∀ (v7523 : BitVec 32) (k0_hw559 : k0_chk559 v7523), ∀ a, (k0_off1058 v7523) a + S32.size a ≤ S3407872.size a := fun v7523 k0_hw559 => k0_hw559.2.2

def k0_off1059 (v7532 : BitVec 32) : Fin 1 → Nat :=
  let c1703936_i32_3311 : BitVec 32 := 1703936#32
  let c32_i32_3310 : BitVec 32 := 32#32
  let v7533 : BitVec 32 := Scalar.muli v7532 c32_i32_3310
  let v7534 : BitVec 32 := Scalar.addi c1703936_i32_3311 v7533
  let v7535 : BitVec 32 := v7534
  ![v7535.toNat]

def k0_chk560 (v7532 : BitVec 32) : Prop :=
  (8 ∣ (k0_mult537 v7532).toNat) ∧
  (∀ a, (k0_off1043 v7532) a + S32.size a ≤ S3407872.size a) ∧
  (∀ a, (k0_off1059 v7532) a + S32.size a ≤ S3407872.size a)
theorem k0_mult537_dvd : ∀ (v7532 : BitVec 32) (k0_hw560 : k0_chk560 v7532), 8 ∣ (k0_mult537 v7532).toNat := fun v7532 k0_hw560 => k0_hw560.1
theorem k0_off1043_inb : ∀ (v7532 : BitVec 32) (k0_hw560 : k0_chk560 v7532), ∀ a, (k0_off1043 v7532) a + S32.size a ≤ S3407872.size a := fun v7532 k0_hw560 => k0_hw560.2.1
theorem k0_off1059_inb : ∀ (v7532 : BitVec 32) (k0_hw560 : k0_chk560 v7532), ∀ a, (k0_off1059 v7532) a + S32.size a ≤ S3407872.size a := fun v7532 k0_hw560 => k0_hw560.2.2

def k0_off1060 (v7541 : BitVec 32) : Fin 1 → Nat :=
  let c1703936_i32_3315 : BitVec 32 := 1703936#32
  let c32_i32_3314 : BitVec 32 := 32#32
  let v7542 : BitVec 32 := Scalar.muli v7541 c32_i32_3314
  let v7543 : BitVec 32 := Scalar.addi c1703936_i32_3315 v7542
  let v7544 : BitVec 32 := v7543
  ![v7544.toNat]

def k0_chk561 (v7541 : BitVec 32) : Prop :=
  (8 ∣ (k0_mult538 v7541).toNat) ∧
  (∀ a, (k0_off1044 v7541) a + S32.size a ≤ S3407872.size a) ∧
  (∀ a, (k0_off1060 v7541) a + S32.size a ≤ S3407872.size a)
theorem k0_mult538_dvd : ∀ (v7541 : BitVec 32) (k0_hw561 : k0_chk561 v7541), 8 ∣ (k0_mult538 v7541).toNat := fun v7541 k0_hw561 => k0_hw561.1
theorem k0_off1044_inb : ∀ (v7541 : BitVec 32) (k0_hw561 : k0_chk561 v7541), ∀ a, (k0_off1044 v7541) a + S32.size a ≤ S3407872.size a := fun v7541 k0_hw561 => k0_hw561.2.1
theorem k0_off1060_inb : ∀ (v7541 : BitVec 32) (k0_hw561 : k0_chk561 v7541), ∀ a, (k0_off1060 v7541) a + S32.size a ≤ S3407872.size a := fun v7541 k0_hw561 => k0_hw561.2.2

def k0_off1061 (v7550 : BitVec 32) : Fin 1 → Nat :=
  let c1703936_i32_3319 : BitVec 32 := 1703936#32
  let c32_i32_3318 : BitVec 32 := 32#32
  let v7551 : BitVec 32 := Scalar.muli v7550 c32_i32_3318
  let v7552 : BitVec 32 := Scalar.addi c1703936_i32_3319 v7551
  let v7553 : BitVec 32 := v7552
  ![v7553.toNat]

def k0_chk562 (v7550 : BitVec 32) : Prop :=
  (8 ∣ (k0_mult539 v7550).toNat) ∧
  (∀ a, (k0_off1045 v7550) a + S32.size a ≤ S3407872.size a) ∧
  (∀ a, (k0_off1061 v7550) a + S32.size a ≤ S3407872.size a)
theorem k0_mult539_dvd : ∀ (v7550 : BitVec 32) (k0_hw562 : k0_chk562 v7550), 8 ∣ (k0_mult539 v7550).toNat := fun v7550 k0_hw562 => k0_hw562.1
theorem k0_off1045_inb : ∀ (v7550 : BitVec 32) (k0_hw562 : k0_chk562 v7550), ∀ a, (k0_off1045 v7550) a + S32.size a ≤ S3407872.size a := fun v7550 k0_hw562 => k0_hw562.2.1
theorem k0_off1061_inb : ∀ (v7550 : BitVec 32) (k0_hw562 : k0_chk562 v7550), ∀ a, (k0_off1061 v7550) a + S32.size a ≤ S3407872.size a := fun v7550 k0_hw562 => k0_hw562.2.2

def k0_off1062 (v7559 : BitVec 32) : Fin 1 → Nat :=
  let c1703936_i32_3323 : BitVec 32 := 1703936#32
  let c32_i32_3322 : BitVec 32 := 32#32
  let v7560 : BitVec 32 := Scalar.muli v7559 c32_i32_3322
  let v7561 : BitVec 32 := Scalar.addi c1703936_i32_3323 v7560
  let v7562 : BitVec 32 := v7561
  ![v7562.toNat]

def k0_chk563 (v7559 : BitVec 32) : Prop :=
  (8 ∣ (k0_mult540 v7559).toNat) ∧
  (∀ a, (k0_off1046 v7559) a + S32.size a ≤ S3407872.size a) ∧
  (∀ a, (k0_off1062 v7559) a + S32.size a ≤ S3407872.size a)
theorem k0_mult540_dvd : ∀ (v7559 : BitVec 32) (k0_hw563 : k0_chk563 v7559), 8 ∣ (k0_mult540 v7559).toNat := fun v7559 k0_hw563 => k0_hw563.1
theorem k0_off1046_inb : ∀ (v7559 : BitVec 32) (k0_hw563 : k0_chk563 v7559), ∀ a, (k0_off1046 v7559) a + S32.size a ≤ S3407872.size a := fun v7559 k0_hw563 => k0_hw563.2.1
theorem k0_off1062_inb : ∀ (v7559 : BitVec 32) (k0_hw563 : k0_chk563 v7559), ∀ a, (k0_off1062 v7559) a + S32.size a ≤ S3407872.size a := fun v7559 k0_hw563 => k0_hw563.2.2

def k0_off1063 (v7568 : BitVec 32) : Fin 1 → Nat :=
  let c1703936_i32_3327 : BitVec 32 := 1703936#32
  let c32_i32_3326 : BitVec 32 := 32#32
  let v7569 : BitVec 32 := Scalar.muli v7568 c32_i32_3326
  let v7570 : BitVec 32 := Scalar.addi c1703936_i32_3327 v7569
  let v7571 : BitVec 32 := v7570
  ![v7571.toNat]

def k0_chk564 (v7568 : BitVec 32) : Prop :=
  (8 ∣ (k0_mult541 v7568).toNat) ∧
  (∀ a, (k0_off1047 v7568) a + S32.size a ≤ S3407872.size a) ∧
  (∀ a, (k0_off1063 v7568) a + S32.size a ≤ S3407872.size a)
theorem k0_mult541_dvd : ∀ (v7568 : BitVec 32) (k0_hw564 : k0_chk564 v7568), 8 ∣ (k0_mult541 v7568).toNat := fun v7568 k0_hw564 => k0_hw564.1
theorem k0_off1047_inb : ∀ (v7568 : BitVec 32) (k0_hw564 : k0_chk564 v7568), ∀ a, (k0_off1047 v7568) a + S32.size a ≤ S3407872.size a := fun v7568 k0_hw564 => k0_hw564.2.1
theorem k0_off1063_inb : ∀ (v7568 : BitVec 32) (k0_hw564 : k0_chk564 v7568), ∀ a, (k0_off1063 v7568) a + S32.size a ≤ S3407872.size a := fun v7568 k0_hw564 => k0_hw564.2.2

def k0_off1064 (v7577 : BitVec 32) : Fin 1 → Nat :=
  let c1703936_i32_3331 : BitVec 32 := 1703936#32
  let c32_i32_3330 : BitVec 32 := 32#32
  let v7578 : BitVec 32 := Scalar.muli v7577 c32_i32_3330
  let v7579 : BitVec 32 := Scalar.addi c1703936_i32_3331 v7578
  let v7580 : BitVec 32 := v7579
  ![v7580.toNat]

def k0_chk565 (v7577 : BitVec 32) : Prop :=
  (8 ∣ (k0_mult542 v7577).toNat) ∧
  (∀ a, (k0_off1048 v7577) a + S32.size a ≤ S3407872.size a) ∧
  (∀ a, (k0_off1064 v7577) a + S32.size a ≤ S3407872.size a)
theorem k0_mult542_dvd : ∀ (v7577 : BitVec 32) (k0_hw565 : k0_chk565 v7577), 8 ∣ (k0_mult542 v7577).toNat := fun v7577 k0_hw565 => k0_hw565.1
theorem k0_off1048_inb : ∀ (v7577 : BitVec 32) (k0_hw565 : k0_chk565 v7577), ∀ a, (k0_off1048 v7577) a + S32.size a ≤ S3407872.size a := fun v7577 k0_hw565 => k0_hw565.2.1
theorem k0_off1064_inb : ∀ (v7577 : BitVec 32) (k0_hw565 : k0_chk565 v7577), ∀ a, (k0_off1064 v7577) a + S32.size a ≤ S3407872.size a := fun v7577 k0_hw565 => k0_hw565.2.2

def k0_off1065 (v7586 : BitVec 32) : Fin 1 → Nat :=
  let c1703936_i32_3335 : BitVec 32 := 1703936#32
  let c32_i32_3334 : BitVec 32 := 32#32
  let v7587 : BitVec 32 := Scalar.muli v7586 c32_i32_3334
  let v7588 : BitVec 32 := Scalar.addi c1703936_i32_3335 v7587
  let v7589 : BitVec 32 := v7588
  ![v7589.toNat]

def k0_chk566 (v7586 : BitVec 32) : Prop :=
  (8 ∣ (k0_mult543 v7586).toNat) ∧
  (∀ a, (k0_off1049 v7586) a + S32.size a ≤ S3407872.size a) ∧
  (∀ a, (k0_off1065 v7586) a + S32.size a ≤ S3407872.size a)
theorem k0_mult543_dvd : ∀ (v7586 : BitVec 32) (k0_hw566 : k0_chk566 v7586), 8 ∣ (k0_mult543 v7586).toNat := fun v7586 k0_hw566 => k0_hw566.1
theorem k0_off1049_inb : ∀ (v7586 : BitVec 32) (k0_hw566 : k0_chk566 v7586), ∀ a, (k0_off1049 v7586) a + S32.size a ≤ S3407872.size a := fun v7586 k0_hw566 => k0_hw566.2.1
theorem k0_off1065_inb : ∀ (v7586 : BitVec 32) (k0_hw566 : k0_chk566 v7586), ∀ a, (k0_off1065 v7586) a + S32.size a ≤ S3407872.size a := fun v7586 k0_hw566 => k0_hw566.2.2

def k0_off1066 (v7595 : BitVec 32) : Fin 1 → Nat :=
  let c1703936_i32_3339 : BitVec 32 := 1703936#32
  let c32_i32_3338 : BitVec 32 := 32#32
  let v7596 : BitVec 32 := Scalar.muli v7595 c32_i32_3338
  let v7597 : BitVec 32 := Scalar.addi c1703936_i32_3339 v7596
  let v7598 : BitVec 32 := v7597
  ![v7598.toNat]

def k0_chk567 (v7595 : BitVec 32) : Prop :=
  (8 ∣ (k0_mult544 v7595).toNat) ∧
  (∀ a, (k0_off1050 v7595) a + S32.size a ≤ S3407872.size a) ∧
  (∀ a, (k0_off1066 v7595) a + S32.size a ≤ S3407872.size a)
theorem k0_mult544_dvd : ∀ (v7595 : BitVec 32) (k0_hw567 : k0_chk567 v7595), 8 ∣ (k0_mult544 v7595).toNat := fun v7595 k0_hw567 => k0_hw567.1
theorem k0_off1050_inb : ∀ (v7595 : BitVec 32) (k0_hw567 : k0_chk567 v7595), ∀ a, (k0_off1050 v7595) a + S32.size a ≤ S3407872.size a := fun v7595 k0_hw567 => k0_hw567.2.1
theorem k0_off1066_inb : ∀ (v7595 : BitVec 32) (k0_hw567 : k0_chk567 v7595), ∀ a, (k0_off1066 v7595) a + S32.size a ≤ S3407872.size a := fun v7595 k0_hw567 => k0_hw567.2.2

def k0_mult546 (v7679 : BitVec 32) : BitVec 32 :=
  let c999936_i32_3380 : BitVec 32 := 999936#32
  let v7680 : BitVec 32 := Scalar.subi v7679 c999936_i32_3380
  let c32_i32_3381 : BitVec 32 := 32#32
  let v7681 : BitVec 32 := Scalar.muli v7680 c32_i32_3381
  v7681

def k0_off1067 (v7679 : BitVec 32) : Fin 1 → Nat :=
  let c999936_i32_3380 : BitVec 32 := 999936#32
  let v7680 : BitVec 32 := Scalar.subi v7679 c999936_i32_3380
  let c32_i32_3381 : BitVec 32 := 32#32
  let v7681 : BitVec 32 := Scalar.muli v7680 c32_i32_3381
  let v7682 : BitVec 32 := v7681
  ![v7682.toNat]
def k0_mult547 (v7688 : BitVec 32) : BitVec 32 :=
  let c999936_i32_3384 : BitVec 32 := 999936#32
  let v7689 : BitVec 32 := Scalar.subi v7688 c999936_i32_3384
  let c32_i32_3385 : BitVec 32 := 32#32
  let v7690 : BitVec 32 := Scalar.muli v7689 c32_i32_3385
  v7690

def k0_off1068 (v7688 : BitVec 32) : Fin 1 → Nat :=
  let c999936_i32_3384 : BitVec 32 := 999936#32
  let v7689 : BitVec 32 := Scalar.subi v7688 c999936_i32_3384
  let c32_i32_3385 : BitVec 32 := 32#32
  let v7690 : BitVec 32 := Scalar.muli v7689 c32_i32_3385
  let v7691 : BitVec 32 := v7690
  ![v7691.toNat]
def k0_mult548 (v7697 : BitVec 32) : BitVec 32 :=
  let c999936_i32_3388 : BitVec 32 := 999936#32
  let v7698 : BitVec 32 := Scalar.subi v7697 c999936_i32_3388
  let c32_i32_3389 : BitVec 32 := 32#32
  let v7699 : BitVec 32 := Scalar.muli v7698 c32_i32_3389
  v7699

def k0_off1069 (v7697 : BitVec 32) : Fin 1 → Nat :=
  let c999936_i32_3388 : BitVec 32 := 999936#32
  let v7698 : BitVec 32 := Scalar.subi v7697 c999936_i32_3388
  let c32_i32_3389 : BitVec 32 := 32#32
  let v7699 : BitVec 32 := Scalar.muli v7698 c32_i32_3389
  let v7700 : BitVec 32 := v7699
  ![v7700.toNat]
def k0_mult549 (v7706 : BitVec 32) : BitVec 32 :=
  let c999936_i32_3392 : BitVec 32 := 999936#32
  let v7707 : BitVec 32 := Scalar.subi v7706 c999936_i32_3392
  let c32_i32_3393 : BitVec 32 := 32#32
  let v7708 : BitVec 32 := Scalar.muli v7707 c32_i32_3393
  v7708

def k0_off1070 (v7706 : BitVec 32) : Fin 1 → Nat :=
  let c999936_i32_3392 : BitVec 32 := 999936#32
  let v7707 : BitVec 32 := Scalar.subi v7706 c999936_i32_3392
  let c32_i32_3393 : BitVec 32 := 32#32
  let v7708 : BitVec 32 := Scalar.muli v7707 c32_i32_3393
  let v7709 : BitVec 32 := v7708
  ![v7709.toNat]
def k0_mult550 (v7715 : BitVec 32) : BitVec 32 :=
  let c999936_i32_3396 : BitVec 32 := 999936#32
  let v7716 : BitVec 32 := Scalar.subi v7715 c999936_i32_3396
  let c32_i32_3397 : BitVec 32 := 32#32
  let v7717 : BitVec 32 := Scalar.muli v7716 c32_i32_3397
  v7717

def k0_off1071 (v7715 : BitVec 32) : Fin 1 → Nat :=
  let c999936_i32_3396 : BitVec 32 := 999936#32
  let v7716 : BitVec 32 := Scalar.subi v7715 c999936_i32_3396
  let c32_i32_3397 : BitVec 32 := 32#32
  let v7717 : BitVec 32 := Scalar.muli v7716 c32_i32_3397
  let v7718 : BitVec 32 := v7717
  ![v7718.toNat]
def k0_mult551 (v7724 : BitVec 32) : BitVec 32 :=
  let c999936_i32_3400 : BitVec 32 := 999936#32
  let v7725 : BitVec 32 := Scalar.subi v7724 c999936_i32_3400
  let c32_i32_3401 : BitVec 32 := 32#32
  let v7726 : BitVec 32 := Scalar.muli v7725 c32_i32_3401
  v7726

def k0_off1072 (v7724 : BitVec 32) : Fin 1 → Nat :=
  let c999936_i32_3400 : BitVec 32 := 999936#32
  let v7725 : BitVec 32 := Scalar.subi v7724 c999936_i32_3400
  let c32_i32_3401 : BitVec 32 := 32#32
  let v7726 : BitVec 32 := Scalar.muli v7725 c32_i32_3401
  let v7727 : BitVec 32 := v7726
  ![v7727.toNat]
def k0_mult552 (v7733 : BitVec 32) : BitVec 32 :=
  let c999936_i32_3404 : BitVec 32 := 999936#32
  let v7734 : BitVec 32 := Scalar.subi v7733 c999936_i32_3404
  let c32_i32_3405 : BitVec 32 := 32#32
  let v7735 : BitVec 32 := Scalar.muli v7734 c32_i32_3405
  v7735

def k0_off1073 (v7733 : BitVec 32) : Fin 1 → Nat :=
  let c999936_i32_3404 : BitVec 32 := 999936#32
  let v7734 : BitVec 32 := Scalar.subi v7733 c999936_i32_3404
  let c32_i32_3405 : BitVec 32 := 32#32
  let v7735 : BitVec 32 := Scalar.muli v7734 c32_i32_3405
  let v7736 : BitVec 32 := v7735
  ![v7736.toNat]
def k0_mult553 (v7742 : BitVec 32) : BitVec 32 :=
  let c999936_i32_3408 : BitVec 32 := 999936#32
  let v7743 : BitVec 32 := Scalar.subi v7742 c999936_i32_3408
  let c32_i32_3409 : BitVec 32 := 32#32
  let v7744 : BitVec 32 := Scalar.muli v7743 c32_i32_3409
  v7744

def k0_off1074 (v7742 : BitVec 32) : Fin 1 → Nat :=
  let c999936_i32_3408 : BitVec 32 := 999936#32
  let v7743 : BitVec 32 := Scalar.subi v7742 c999936_i32_3408
  let c32_i32_3409 : BitVec 32 := 32#32
  let v7744 : BitVec 32 := Scalar.muli v7743 c32_i32_3409
  let v7745 : BitVec 32 := v7744
  ![v7745.toNat]
def k0_mult554 (v7751 : BitVec 32) : BitVec 32 :=
  let c999936_i32_3412 : BitVec 32 := 999936#32
  let v7752 : BitVec 32 := Scalar.subi v7751 c999936_i32_3412
  let c32_i32_3413 : BitVec 32 := 32#32
  let v7753 : BitVec 32 := Scalar.muli v7752 c32_i32_3413
  v7753

def k0_off1075 (v7751 : BitVec 32) : Fin 1 → Nat :=
  let c999936_i32_3412 : BitVec 32 := 999936#32
  let v7752 : BitVec 32 := Scalar.subi v7751 c999936_i32_3412
  let c32_i32_3413 : BitVec 32 := 32#32
  let v7753 : BitVec 32 := Scalar.muli v7752 c32_i32_3413
  let v7754 : BitVec 32 := v7753
  ![v7754.toNat]
def k0_mult555 (v7760 : BitVec 32) : BitVec 32 :=
  let c999936_i32_3416 : BitVec 32 := 999936#32
  let v7761 : BitVec 32 := Scalar.subi v7760 c999936_i32_3416
  let c32_i32_3417 : BitVec 32 := 32#32
  let v7762 : BitVec 32 := Scalar.muli v7761 c32_i32_3417
  v7762

def k0_off1076 (v7760 : BitVec 32) : Fin 1 → Nat :=
  let c999936_i32_3416 : BitVec 32 := 999936#32
  let v7761 : BitVec 32 := Scalar.subi v7760 c999936_i32_3416
  let c32_i32_3417 : BitVec 32 := 32#32
  let v7762 : BitVec 32 := Scalar.muli v7761 c32_i32_3417
  let v7763 : BitVec 32 := v7762
  ![v7763.toNat]
def k0_mult556 (v7769 : BitVec 32) : BitVec 32 :=
  let c999936_i32_3420 : BitVec 32 := 999936#32
  let v7770 : BitVec 32 := Scalar.subi v7769 c999936_i32_3420
  let c32_i32_3421 : BitVec 32 := 32#32
  let v7771 : BitVec 32 := Scalar.muli v7770 c32_i32_3421
  v7771

def k0_off1077 (v7769 : BitVec 32) : Fin 1 → Nat :=
  let c999936_i32_3420 : BitVec 32 := 999936#32
  let v7770 : BitVec 32 := Scalar.subi v7769 c999936_i32_3420
  let c32_i32_3421 : BitVec 32 := 32#32
  let v7771 : BitVec 32 := Scalar.muli v7770 c32_i32_3421
  let v7772 : BitVec 32 := v7771
  ![v7772.toNat]
def k0_mult557 (v7778 : BitVec 32) : BitVec 32 :=
  let c999936_i32_3424 : BitVec 32 := 999936#32
  let v7779 : BitVec 32 := Scalar.subi v7778 c999936_i32_3424
  let c32_i32_3425 : BitVec 32 := 32#32
  let v7780 : BitVec 32 := Scalar.muli v7779 c32_i32_3425
  v7780

def k0_off1078 (v7778 : BitVec 32) : Fin 1 → Nat :=
  let c999936_i32_3424 : BitVec 32 := 999936#32
  let v7779 : BitVec 32 := Scalar.subi v7778 c999936_i32_3424
  let c32_i32_3425 : BitVec 32 := 32#32
  let v7780 : BitVec 32 := Scalar.muli v7779 c32_i32_3425
  let v7781 : BitVec 32 := v7780
  ![v7781.toNat]
def k0_mult558 (v7787 : BitVec 32) : BitVec 32 :=
  let c999936_i32_3428 : BitVec 32 := 999936#32
  let v7788 : BitVec 32 := Scalar.subi v7787 c999936_i32_3428
  let c32_i32_3429 : BitVec 32 := 32#32
  let v7789 : BitVec 32 := Scalar.muli v7788 c32_i32_3429
  v7789

def k0_off1079 (v7787 : BitVec 32) : Fin 1 → Nat :=
  let c999936_i32_3428 : BitVec 32 := 999936#32
  let v7788 : BitVec 32 := Scalar.subi v7787 c999936_i32_3428
  let c32_i32_3429 : BitVec 32 := 32#32
  let v7789 : BitVec 32 := Scalar.muli v7788 c32_i32_3429
  let v7790 : BitVec 32 := v7789
  ![v7790.toNat]
def k0_mult559 (v7796 : BitVec 32) : BitVec 32 :=
  let c999936_i32_3432 : BitVec 32 := 999936#32
  let v7797 : BitVec 32 := Scalar.subi v7796 c999936_i32_3432
  let c32_i32_3433 : BitVec 32 := 32#32
  let v7798 : BitVec 32 := Scalar.muli v7797 c32_i32_3433
  v7798

def k0_off1080 (v7796 : BitVec 32) : Fin 1 → Nat :=
  let c999936_i32_3432 : BitVec 32 := 999936#32
  let v7797 : BitVec 32 := Scalar.subi v7796 c999936_i32_3432
  let c32_i32_3433 : BitVec 32 := 32#32
  let v7798 : BitVec 32 := Scalar.muli v7797 c32_i32_3433
  let v7799 : BitVec 32 := v7798
  ![v7799.toNat]
def k0_mult560 (v7805 : BitVec 32) : BitVec 32 :=
  let c999936_i32_3436 : BitVec 32 := 999936#32
  let v7806 : BitVec 32 := Scalar.subi v7805 c999936_i32_3436
  let c32_i32_3437 : BitVec 32 := 32#32
  let v7807 : BitVec 32 := Scalar.muli v7806 c32_i32_3437
  v7807

def k0_off1081 (v7805 : BitVec 32) : Fin 1 → Nat :=
  let c999936_i32_3436 : BitVec 32 := 999936#32
  let v7806 : BitVec 32 := Scalar.subi v7805 c999936_i32_3436
  let c32_i32_3437 : BitVec 32 := 32#32
  let v7807 : BitVec 32 := Scalar.muli v7806 c32_i32_3437
  let v7808 : BitVec 32 := v7807
  ![v7808.toNat]
def k0_mult561 (v7814 : BitVec 32) : BitVec 32 :=
  let c999936_i32_3440 : BitVec 32 := 999936#32
  let v7815 : BitVec 32 := Scalar.subi v7814 c999936_i32_3440
  let c32_i32_3441 : BitVec 32 := 32#32
  let v7816 : BitVec 32 := Scalar.muli v7815 c32_i32_3441
  v7816

def k0_off1082 (v7814 : BitVec 32) : Fin 1 → Nat :=
  let c999936_i32_3440 : BitVec 32 := 999936#32
  let v7815 : BitVec 32 := Scalar.subi v7814 c999936_i32_3440
  let c32_i32_3441 : BitVec 32 := 32#32
  let v7816 : BitVec 32 := Scalar.muli v7815 c32_i32_3441
  let v7817 : BitVec 32 := v7816
  ![v7817.toNat]

def k0_chk584 (v7814 : BitVec 32) : Prop :=
  (8 ∣ (k0_mult561 v7814).toNat) ∧
  (∀ a, (k0_off1082 v7814) a + S32.size a ≤ S2048.size a)
theorem k0_mult561_dvd : ∀ (v7814 : BitVec 32) (k0_hw584 : k0_chk584 v7814), 8 ∣ (k0_mult561 v7814).toNat := fun v7814 k0_hw584 => k0_hw584.1
theorem k0_off1082_inb : ∀ (v7814 : BitVec 32) (k0_hw584 : k0_chk584 v7814), ∀ a, (k0_off1082 v7814) a + S32.size a ≤ S2048.size a := fun v7814 k0_hw584 => k0_hw584.2

def k0_off1083 (v7679 : BitVec 32) : Fin 1 → Nat :=
  let c999936_i32_3380 : BitVec 32 := 999936#32
  let v7680 : BitVec 32 := Scalar.subi v7679 c999936_i32_3380
  let c32_i32_3381 : BitVec 32 := 32#32
  let v7681 : BitVec 32 := Scalar.muli v7680 c32_i32_3381
  let v7682 : BitVec 32 := v7681
  ![v7682.toNat]

def k0_chk569 (v7679 : BitVec 32) : Prop :=
  (8 ∣ (k0_mult546 v7679).toNat) ∧
  (∀ a, (k0_off1067 v7679) a + S32.size a ≤ S2048.size a) ∧
  (∀ a, (k0_off1083 v7679) a + S32.size a ≤ S2048.size a)
theorem k0_mult546_dvd : ∀ (v7679 : BitVec 32) (k0_hw569 : k0_chk569 v7679), 8 ∣ (k0_mult546 v7679).toNat := fun v7679 k0_hw569 => k0_hw569.1
theorem k0_off1067_inb : ∀ (v7679 : BitVec 32) (k0_hw569 : k0_chk569 v7679), ∀ a, (k0_off1067 v7679) a + S32.size a ≤ S2048.size a := fun v7679 k0_hw569 => k0_hw569.2.1
theorem k0_off1083_inb : ∀ (v7679 : BitVec 32) (k0_hw569 : k0_chk569 v7679), ∀ a, (k0_off1083 v7679) a + S32.size a ≤ S2048.size a := fun v7679 k0_hw569 => k0_hw569.2.2

def k0_off1084 (v7688 : BitVec 32) : Fin 1 → Nat :=
  let c999936_i32_3384 : BitVec 32 := 999936#32
  let v7689 : BitVec 32 := Scalar.subi v7688 c999936_i32_3384
  let c32_i32_3385 : BitVec 32 := 32#32
  let v7690 : BitVec 32 := Scalar.muli v7689 c32_i32_3385
  let v7691 : BitVec 32 := v7690
  ![v7691.toNat]

def k0_chk570 (v7688 : BitVec 32) : Prop :=
  (8 ∣ (k0_mult547 v7688).toNat) ∧
  (∀ a, (k0_off1068 v7688) a + S32.size a ≤ S2048.size a) ∧
  (∀ a, (k0_off1084 v7688) a + S32.size a ≤ S2048.size a)
theorem k0_mult547_dvd : ∀ (v7688 : BitVec 32) (k0_hw570 : k0_chk570 v7688), 8 ∣ (k0_mult547 v7688).toNat := fun v7688 k0_hw570 => k0_hw570.1
theorem k0_off1068_inb : ∀ (v7688 : BitVec 32) (k0_hw570 : k0_chk570 v7688), ∀ a, (k0_off1068 v7688) a + S32.size a ≤ S2048.size a := fun v7688 k0_hw570 => k0_hw570.2.1
theorem k0_off1084_inb : ∀ (v7688 : BitVec 32) (k0_hw570 : k0_chk570 v7688), ∀ a, (k0_off1084 v7688) a + S32.size a ≤ S2048.size a := fun v7688 k0_hw570 => k0_hw570.2.2

def k0_off1085 (v7697 : BitVec 32) : Fin 1 → Nat :=
  let c999936_i32_3388 : BitVec 32 := 999936#32
  let v7698 : BitVec 32 := Scalar.subi v7697 c999936_i32_3388
  let c32_i32_3389 : BitVec 32 := 32#32
  let v7699 : BitVec 32 := Scalar.muli v7698 c32_i32_3389
  let v7700 : BitVec 32 := v7699
  ![v7700.toNat]

def k0_chk571 (v7697 : BitVec 32) : Prop :=
  (8 ∣ (k0_mult548 v7697).toNat) ∧
  (∀ a, (k0_off1069 v7697) a + S32.size a ≤ S2048.size a) ∧
  (∀ a, (k0_off1085 v7697) a + S32.size a ≤ S2048.size a)
theorem k0_mult548_dvd : ∀ (v7697 : BitVec 32) (k0_hw571 : k0_chk571 v7697), 8 ∣ (k0_mult548 v7697).toNat := fun v7697 k0_hw571 => k0_hw571.1
theorem k0_off1069_inb : ∀ (v7697 : BitVec 32) (k0_hw571 : k0_chk571 v7697), ∀ a, (k0_off1069 v7697) a + S32.size a ≤ S2048.size a := fun v7697 k0_hw571 => k0_hw571.2.1
theorem k0_off1085_inb : ∀ (v7697 : BitVec 32) (k0_hw571 : k0_chk571 v7697), ∀ a, (k0_off1085 v7697) a + S32.size a ≤ S2048.size a := fun v7697 k0_hw571 => k0_hw571.2.2

def k0_off1086 (v7706 : BitVec 32) : Fin 1 → Nat :=
  let c999936_i32_3392 : BitVec 32 := 999936#32
  let v7707 : BitVec 32 := Scalar.subi v7706 c999936_i32_3392
  let c32_i32_3393 : BitVec 32 := 32#32
  let v7708 : BitVec 32 := Scalar.muli v7707 c32_i32_3393
  let v7709 : BitVec 32 := v7708
  ![v7709.toNat]

def k0_chk572 (v7706 : BitVec 32) : Prop :=
  (8 ∣ (k0_mult549 v7706).toNat) ∧
  (∀ a, (k0_off1070 v7706) a + S32.size a ≤ S2048.size a) ∧
  (∀ a, (k0_off1086 v7706) a + S32.size a ≤ S2048.size a)
theorem k0_mult549_dvd : ∀ (v7706 : BitVec 32) (k0_hw572 : k0_chk572 v7706), 8 ∣ (k0_mult549 v7706).toNat := fun v7706 k0_hw572 => k0_hw572.1
theorem k0_off1070_inb : ∀ (v7706 : BitVec 32) (k0_hw572 : k0_chk572 v7706), ∀ a, (k0_off1070 v7706) a + S32.size a ≤ S2048.size a := fun v7706 k0_hw572 => k0_hw572.2.1
theorem k0_off1086_inb : ∀ (v7706 : BitVec 32) (k0_hw572 : k0_chk572 v7706), ∀ a, (k0_off1086 v7706) a + S32.size a ≤ S2048.size a := fun v7706 k0_hw572 => k0_hw572.2.2

def k0_off1087 (v7715 : BitVec 32) : Fin 1 → Nat :=
  let c999936_i32_3396 : BitVec 32 := 999936#32
  let v7716 : BitVec 32 := Scalar.subi v7715 c999936_i32_3396
  let c32_i32_3397 : BitVec 32 := 32#32
  let v7717 : BitVec 32 := Scalar.muli v7716 c32_i32_3397
  let v7718 : BitVec 32 := v7717
  ![v7718.toNat]

def k0_chk573 (v7715 : BitVec 32) : Prop :=
  (8 ∣ (k0_mult550 v7715).toNat) ∧
  (∀ a, (k0_off1071 v7715) a + S32.size a ≤ S2048.size a) ∧
  (∀ a, (k0_off1087 v7715) a + S32.size a ≤ S2048.size a)
theorem k0_mult550_dvd : ∀ (v7715 : BitVec 32) (k0_hw573 : k0_chk573 v7715), 8 ∣ (k0_mult550 v7715).toNat := fun v7715 k0_hw573 => k0_hw573.1
theorem k0_off1071_inb : ∀ (v7715 : BitVec 32) (k0_hw573 : k0_chk573 v7715), ∀ a, (k0_off1071 v7715) a + S32.size a ≤ S2048.size a := fun v7715 k0_hw573 => k0_hw573.2.1
theorem k0_off1087_inb : ∀ (v7715 : BitVec 32) (k0_hw573 : k0_chk573 v7715), ∀ a, (k0_off1087 v7715) a + S32.size a ≤ S2048.size a := fun v7715 k0_hw573 => k0_hw573.2.2

def k0_off1088 (v7724 : BitVec 32) : Fin 1 → Nat :=
  let c999936_i32_3400 : BitVec 32 := 999936#32
  let v7725 : BitVec 32 := Scalar.subi v7724 c999936_i32_3400
  let c32_i32_3401 : BitVec 32 := 32#32
  let v7726 : BitVec 32 := Scalar.muli v7725 c32_i32_3401
  let v7727 : BitVec 32 := v7726
  ![v7727.toNat]

def k0_chk574 (v7724 : BitVec 32) : Prop :=
  (8 ∣ (k0_mult551 v7724).toNat) ∧
  (∀ a, (k0_off1072 v7724) a + S32.size a ≤ S2048.size a) ∧
  (∀ a, (k0_off1088 v7724) a + S32.size a ≤ S2048.size a)
theorem k0_mult551_dvd : ∀ (v7724 : BitVec 32) (k0_hw574 : k0_chk574 v7724), 8 ∣ (k0_mult551 v7724).toNat := fun v7724 k0_hw574 => k0_hw574.1
theorem k0_off1072_inb : ∀ (v7724 : BitVec 32) (k0_hw574 : k0_chk574 v7724), ∀ a, (k0_off1072 v7724) a + S32.size a ≤ S2048.size a := fun v7724 k0_hw574 => k0_hw574.2.1
theorem k0_off1088_inb : ∀ (v7724 : BitVec 32) (k0_hw574 : k0_chk574 v7724), ∀ a, (k0_off1088 v7724) a + S32.size a ≤ S2048.size a := fun v7724 k0_hw574 => k0_hw574.2.2

def k0_off1089 (v7733 : BitVec 32) : Fin 1 → Nat :=
  let c999936_i32_3404 : BitVec 32 := 999936#32
  let v7734 : BitVec 32 := Scalar.subi v7733 c999936_i32_3404
  let c32_i32_3405 : BitVec 32 := 32#32
  let v7735 : BitVec 32 := Scalar.muli v7734 c32_i32_3405
  let v7736 : BitVec 32 := v7735
  ![v7736.toNat]

def k0_chk575 (v7733 : BitVec 32) : Prop :=
  (8 ∣ (k0_mult552 v7733).toNat) ∧
  (∀ a, (k0_off1073 v7733) a + S32.size a ≤ S2048.size a) ∧
  (∀ a, (k0_off1089 v7733) a + S32.size a ≤ S2048.size a)
theorem k0_mult552_dvd : ∀ (v7733 : BitVec 32) (k0_hw575 : k0_chk575 v7733), 8 ∣ (k0_mult552 v7733).toNat := fun v7733 k0_hw575 => k0_hw575.1
theorem k0_off1073_inb : ∀ (v7733 : BitVec 32) (k0_hw575 : k0_chk575 v7733), ∀ a, (k0_off1073 v7733) a + S32.size a ≤ S2048.size a := fun v7733 k0_hw575 => k0_hw575.2.1
theorem k0_off1089_inb : ∀ (v7733 : BitVec 32) (k0_hw575 : k0_chk575 v7733), ∀ a, (k0_off1089 v7733) a + S32.size a ≤ S2048.size a := fun v7733 k0_hw575 => k0_hw575.2.2

def k0_off1090 (v7742 : BitVec 32) : Fin 1 → Nat :=
  let c999936_i32_3408 : BitVec 32 := 999936#32
  let v7743 : BitVec 32 := Scalar.subi v7742 c999936_i32_3408
  let c32_i32_3409 : BitVec 32 := 32#32
  let v7744 : BitVec 32 := Scalar.muli v7743 c32_i32_3409
  let v7745 : BitVec 32 := v7744
  ![v7745.toNat]

def k0_chk576 (v7742 : BitVec 32) : Prop :=
  (8 ∣ (k0_mult553 v7742).toNat) ∧
  (∀ a, (k0_off1074 v7742) a + S32.size a ≤ S2048.size a) ∧
  (∀ a, (k0_off1090 v7742) a + S32.size a ≤ S2048.size a)
theorem k0_mult553_dvd : ∀ (v7742 : BitVec 32) (k0_hw576 : k0_chk576 v7742), 8 ∣ (k0_mult553 v7742).toNat := fun v7742 k0_hw576 => k0_hw576.1
theorem k0_off1074_inb : ∀ (v7742 : BitVec 32) (k0_hw576 : k0_chk576 v7742), ∀ a, (k0_off1074 v7742) a + S32.size a ≤ S2048.size a := fun v7742 k0_hw576 => k0_hw576.2.1
theorem k0_off1090_inb : ∀ (v7742 : BitVec 32) (k0_hw576 : k0_chk576 v7742), ∀ a, (k0_off1090 v7742) a + S32.size a ≤ S2048.size a := fun v7742 k0_hw576 => k0_hw576.2.2

def k0_off1091 (v7751 : BitVec 32) : Fin 1 → Nat :=
  let c999936_i32_3412 : BitVec 32 := 999936#32
  let v7752 : BitVec 32 := Scalar.subi v7751 c999936_i32_3412
  let c32_i32_3413 : BitVec 32 := 32#32
  let v7753 : BitVec 32 := Scalar.muli v7752 c32_i32_3413
  let v7754 : BitVec 32 := v7753
  ![v7754.toNat]

def k0_chk577 (v7751 : BitVec 32) : Prop :=
  (8 ∣ (k0_mult554 v7751).toNat) ∧
  (∀ a, (k0_off1075 v7751) a + S32.size a ≤ S2048.size a) ∧
  (∀ a, (k0_off1091 v7751) a + S32.size a ≤ S2048.size a)
theorem k0_mult554_dvd : ∀ (v7751 : BitVec 32) (k0_hw577 : k0_chk577 v7751), 8 ∣ (k0_mult554 v7751).toNat := fun v7751 k0_hw577 => k0_hw577.1
theorem k0_off1075_inb : ∀ (v7751 : BitVec 32) (k0_hw577 : k0_chk577 v7751), ∀ a, (k0_off1075 v7751) a + S32.size a ≤ S2048.size a := fun v7751 k0_hw577 => k0_hw577.2.1
theorem k0_off1091_inb : ∀ (v7751 : BitVec 32) (k0_hw577 : k0_chk577 v7751), ∀ a, (k0_off1091 v7751) a + S32.size a ≤ S2048.size a := fun v7751 k0_hw577 => k0_hw577.2.2

def k0_off1092 (v7760 : BitVec 32) : Fin 1 → Nat :=
  let c999936_i32_3416 : BitVec 32 := 999936#32
  let v7761 : BitVec 32 := Scalar.subi v7760 c999936_i32_3416
  let c32_i32_3417 : BitVec 32 := 32#32
  let v7762 : BitVec 32 := Scalar.muli v7761 c32_i32_3417
  let v7763 : BitVec 32 := v7762
  ![v7763.toNat]

def k0_chk578 (v7760 : BitVec 32) : Prop :=
  (8 ∣ (k0_mult555 v7760).toNat) ∧
  (∀ a, (k0_off1076 v7760) a + S32.size a ≤ S2048.size a) ∧
  (∀ a, (k0_off1092 v7760) a + S32.size a ≤ S2048.size a)
theorem k0_mult555_dvd : ∀ (v7760 : BitVec 32) (k0_hw578 : k0_chk578 v7760), 8 ∣ (k0_mult555 v7760).toNat := fun v7760 k0_hw578 => k0_hw578.1
theorem k0_off1076_inb : ∀ (v7760 : BitVec 32) (k0_hw578 : k0_chk578 v7760), ∀ a, (k0_off1076 v7760) a + S32.size a ≤ S2048.size a := fun v7760 k0_hw578 => k0_hw578.2.1
theorem k0_off1092_inb : ∀ (v7760 : BitVec 32) (k0_hw578 : k0_chk578 v7760), ∀ a, (k0_off1092 v7760) a + S32.size a ≤ S2048.size a := fun v7760 k0_hw578 => k0_hw578.2.2

def k0_off1093 (v7769 : BitVec 32) : Fin 1 → Nat :=
  let c999936_i32_3420 : BitVec 32 := 999936#32
  let v7770 : BitVec 32 := Scalar.subi v7769 c999936_i32_3420
  let c32_i32_3421 : BitVec 32 := 32#32
  let v7771 : BitVec 32 := Scalar.muli v7770 c32_i32_3421
  let v7772 : BitVec 32 := v7771
  ![v7772.toNat]

def k0_chk579 (v7769 : BitVec 32) : Prop :=
  (8 ∣ (k0_mult556 v7769).toNat) ∧
  (∀ a, (k0_off1077 v7769) a + S32.size a ≤ S2048.size a) ∧
  (∀ a, (k0_off1093 v7769) a + S32.size a ≤ S2048.size a)
theorem k0_mult556_dvd : ∀ (v7769 : BitVec 32) (k0_hw579 : k0_chk579 v7769), 8 ∣ (k0_mult556 v7769).toNat := fun v7769 k0_hw579 => k0_hw579.1
theorem k0_off1077_inb : ∀ (v7769 : BitVec 32) (k0_hw579 : k0_chk579 v7769), ∀ a, (k0_off1077 v7769) a + S32.size a ≤ S2048.size a := fun v7769 k0_hw579 => k0_hw579.2.1
theorem k0_off1093_inb : ∀ (v7769 : BitVec 32) (k0_hw579 : k0_chk579 v7769), ∀ a, (k0_off1093 v7769) a + S32.size a ≤ S2048.size a := fun v7769 k0_hw579 => k0_hw579.2.2

def k0_off1094 (v7778 : BitVec 32) : Fin 1 → Nat :=
  let c999936_i32_3424 : BitVec 32 := 999936#32
  let v7779 : BitVec 32 := Scalar.subi v7778 c999936_i32_3424
  let c32_i32_3425 : BitVec 32 := 32#32
  let v7780 : BitVec 32 := Scalar.muli v7779 c32_i32_3425
  let v7781 : BitVec 32 := v7780
  ![v7781.toNat]

def k0_chk580 (v7778 : BitVec 32) : Prop :=
  (8 ∣ (k0_mult557 v7778).toNat) ∧
  (∀ a, (k0_off1078 v7778) a + S32.size a ≤ S2048.size a) ∧
  (∀ a, (k0_off1094 v7778) a + S32.size a ≤ S2048.size a)
theorem k0_mult557_dvd : ∀ (v7778 : BitVec 32) (k0_hw580 : k0_chk580 v7778), 8 ∣ (k0_mult557 v7778).toNat := fun v7778 k0_hw580 => k0_hw580.1
theorem k0_off1078_inb : ∀ (v7778 : BitVec 32) (k0_hw580 : k0_chk580 v7778), ∀ a, (k0_off1078 v7778) a + S32.size a ≤ S2048.size a := fun v7778 k0_hw580 => k0_hw580.2.1
theorem k0_off1094_inb : ∀ (v7778 : BitVec 32) (k0_hw580 : k0_chk580 v7778), ∀ a, (k0_off1094 v7778) a + S32.size a ≤ S2048.size a := fun v7778 k0_hw580 => k0_hw580.2.2

def k0_off1095 (v7787 : BitVec 32) : Fin 1 → Nat :=
  let c999936_i32_3428 : BitVec 32 := 999936#32
  let v7788 : BitVec 32 := Scalar.subi v7787 c999936_i32_3428
  let c32_i32_3429 : BitVec 32 := 32#32
  let v7789 : BitVec 32 := Scalar.muli v7788 c32_i32_3429
  let v7790 : BitVec 32 := v7789
  ![v7790.toNat]

def k0_chk581 (v7787 : BitVec 32) : Prop :=
  (8 ∣ (k0_mult558 v7787).toNat) ∧
  (∀ a, (k0_off1079 v7787) a + S32.size a ≤ S2048.size a) ∧
  (∀ a, (k0_off1095 v7787) a + S32.size a ≤ S2048.size a)
theorem k0_mult558_dvd : ∀ (v7787 : BitVec 32) (k0_hw581 : k0_chk581 v7787), 8 ∣ (k0_mult558 v7787).toNat := fun v7787 k0_hw581 => k0_hw581.1
theorem k0_off1079_inb : ∀ (v7787 : BitVec 32) (k0_hw581 : k0_chk581 v7787), ∀ a, (k0_off1079 v7787) a + S32.size a ≤ S2048.size a := fun v7787 k0_hw581 => k0_hw581.2.1
theorem k0_off1095_inb : ∀ (v7787 : BitVec 32) (k0_hw581 : k0_chk581 v7787), ∀ a, (k0_off1095 v7787) a + S32.size a ≤ S2048.size a := fun v7787 k0_hw581 => k0_hw581.2.2

def k0_off1096 (v7796 : BitVec 32) : Fin 1 → Nat :=
  let c999936_i32_3432 : BitVec 32 := 999936#32
  let v7797 : BitVec 32 := Scalar.subi v7796 c999936_i32_3432
  let c32_i32_3433 : BitVec 32 := 32#32
  let v7798 : BitVec 32 := Scalar.muli v7797 c32_i32_3433
  let v7799 : BitVec 32 := v7798
  ![v7799.toNat]

def k0_chk582 (v7796 : BitVec 32) : Prop :=
  (8 ∣ (k0_mult559 v7796).toNat) ∧
  (∀ a, (k0_off1080 v7796) a + S32.size a ≤ S2048.size a) ∧
  (∀ a, (k0_off1096 v7796) a + S32.size a ≤ S2048.size a)
theorem k0_mult559_dvd : ∀ (v7796 : BitVec 32) (k0_hw582 : k0_chk582 v7796), 8 ∣ (k0_mult559 v7796).toNat := fun v7796 k0_hw582 => k0_hw582.1
theorem k0_off1080_inb : ∀ (v7796 : BitVec 32) (k0_hw582 : k0_chk582 v7796), ∀ a, (k0_off1080 v7796) a + S32.size a ≤ S2048.size a := fun v7796 k0_hw582 => k0_hw582.2.1
theorem k0_off1096_inb : ∀ (v7796 : BitVec 32) (k0_hw582 : k0_chk582 v7796), ∀ a, (k0_off1096 v7796) a + S32.size a ≤ S2048.size a := fun v7796 k0_hw582 => k0_hw582.2.2

def k0_off1097 (v7805 : BitVec 32) : Fin 1 → Nat :=
  let c999936_i32_3436 : BitVec 32 := 999936#32
  let v7806 : BitVec 32 := Scalar.subi v7805 c999936_i32_3436
  let c32_i32_3437 : BitVec 32 := 32#32
  let v7807 : BitVec 32 := Scalar.muli v7806 c32_i32_3437
  let v7808 : BitVec 32 := v7807
  ![v7808.toNat]

def k0_chk583 (v7805 : BitVec 32) : Prop :=
  (8 ∣ (k0_mult560 v7805).toNat) ∧
  (∀ a, (k0_off1081 v7805) a + S32.size a ≤ S2048.size a) ∧
  (∀ a, (k0_off1097 v7805) a + S32.size a ≤ S2048.size a)
theorem k0_mult560_dvd : ∀ (v7805 : BitVec 32) (k0_hw583 : k0_chk583 v7805), 8 ∣ (k0_mult560 v7805).toNat := fun v7805 k0_hw583 => k0_hw583.1
theorem k0_off1081_inb : ∀ (v7805 : BitVec 32) (k0_hw583 : k0_chk583 v7805), ∀ a, (k0_off1081 v7805) a + S32.size a ≤ S2048.size a := fun v7805 k0_hw583 => k0_hw583.2.1
theorem k0_off1097_inb : ∀ (v7805 : BitVec 32) (k0_hw583 : k0_chk583 v7805), ∀ a, (k0_off1097 v7805) a + S32.size a ≤ S2048.size a := fun v7805 k0_hw583 => k0_hw583.2.2

def k0_mult562 (v7887 : BitVec 32) : BitVec 32 :=
  let c1703936_i32_3477 : BitVec 32 := 1703936#32
  let c32_i32_3476 : BitVec 32 := 32#32
  let v7888 : BitVec 32 := Scalar.muli v7887 c32_i32_3476
  let v7889 : BitVec 32 := Scalar.addi c1703936_i32_3477 v7888
  v7889

def k0_off1098 (v7887 : BitVec 32) : Fin 1 → Nat :=
  let c1703936_i32_3477 : BitVec 32 := 1703936#32
  let c32_i32_3476 : BitVec 32 := 32#32
  let v7888 : BitVec 32 := Scalar.muli v7887 c32_i32_3476
  let v7889 : BitVec 32 := Scalar.addi c1703936_i32_3477 v7888
  let v7890 : BitVec 32 := v7889
  ![v7890.toNat]
def k0_mult563 (v7896 : BitVec 32) : BitVec 32 :=
  let c1703936_i32_3481 : BitVec 32 := 1703936#32
  let c32_i32_3480 : BitVec 32 := 32#32
  let v7897 : BitVec 32 := Scalar.muli v7896 c32_i32_3480
  let v7898 : BitVec 32 := Scalar.addi c1703936_i32_3481 v7897
  v7898

def k0_off1099 (v7896 : BitVec 32) : Fin 1 → Nat :=
  let c1703936_i32_3481 : BitVec 32 := 1703936#32
  let c32_i32_3480 : BitVec 32 := 32#32
  let v7897 : BitVec 32 := Scalar.muli v7896 c32_i32_3480
  let v7898 : BitVec 32 := Scalar.addi c1703936_i32_3481 v7897
  let v7899 : BitVec 32 := v7898
  ![v7899.toNat]
def k0_mult564 (v7905 : BitVec 32) : BitVec 32 :=
  let c1703936_i32_3485 : BitVec 32 := 1703936#32
  let c32_i32_3484 : BitVec 32 := 32#32
  let v7906 : BitVec 32 := Scalar.muli v7905 c32_i32_3484
  let v7907 : BitVec 32 := Scalar.addi c1703936_i32_3485 v7906
  v7907

def k0_off1100 (v7905 : BitVec 32) : Fin 1 → Nat :=
  let c1703936_i32_3485 : BitVec 32 := 1703936#32
  let c32_i32_3484 : BitVec 32 := 32#32
  let v7906 : BitVec 32 := Scalar.muli v7905 c32_i32_3484
  let v7907 : BitVec 32 := Scalar.addi c1703936_i32_3485 v7906
  let v7908 : BitVec 32 := v7907
  ![v7908.toNat]
def k0_mult565 (v7914 : BitVec 32) : BitVec 32 :=
  let c1703936_i32_3489 : BitVec 32 := 1703936#32
  let c32_i32_3488 : BitVec 32 := 32#32
  let v7915 : BitVec 32 := Scalar.muli v7914 c32_i32_3488
  let v7916 : BitVec 32 := Scalar.addi c1703936_i32_3489 v7915
  v7916

def k0_off1101 (v7914 : BitVec 32) : Fin 1 → Nat :=
  let c1703936_i32_3489 : BitVec 32 := 1703936#32
  let c32_i32_3488 : BitVec 32 := 32#32
  let v7915 : BitVec 32 := Scalar.muli v7914 c32_i32_3488
  let v7916 : BitVec 32 := Scalar.addi c1703936_i32_3489 v7915
  let v7917 : BitVec 32 := v7916
  ![v7917.toNat]
def k0_mult566 (v7923 : BitVec 32) : BitVec 32 :=
  let c1703936_i32_3493 : BitVec 32 := 1703936#32
  let c32_i32_3492 : BitVec 32 := 32#32
  let v7924 : BitVec 32 := Scalar.muli v7923 c32_i32_3492
  let v7925 : BitVec 32 := Scalar.addi c1703936_i32_3493 v7924
  v7925

def k0_off1102 (v7923 : BitVec 32) : Fin 1 → Nat :=
  let c1703936_i32_3493 : BitVec 32 := 1703936#32
  let c32_i32_3492 : BitVec 32 := 32#32
  let v7924 : BitVec 32 := Scalar.muli v7923 c32_i32_3492
  let v7925 : BitVec 32 := Scalar.addi c1703936_i32_3493 v7924
  let v7926 : BitVec 32 := v7925
  ![v7926.toNat]
def k0_mult567 (v7932 : BitVec 32) : BitVec 32 :=
  let c1703936_i32_3497 : BitVec 32 := 1703936#32
  let c32_i32_3496 : BitVec 32 := 32#32
  let v7933 : BitVec 32 := Scalar.muli v7932 c32_i32_3496
  let v7934 : BitVec 32 := Scalar.addi c1703936_i32_3497 v7933
  v7934

def k0_off1103 (v7932 : BitVec 32) : Fin 1 → Nat :=
  let c1703936_i32_3497 : BitVec 32 := 1703936#32
  let c32_i32_3496 : BitVec 32 := 32#32
  let v7933 : BitVec 32 := Scalar.muli v7932 c32_i32_3496
  let v7934 : BitVec 32 := Scalar.addi c1703936_i32_3497 v7933
  let v7935 : BitVec 32 := v7934
  ![v7935.toNat]
def k0_mult568 (v7941 : BitVec 32) : BitVec 32 :=
  let c1703936_i32_3501 : BitVec 32 := 1703936#32
  let c32_i32_3500 : BitVec 32 := 32#32
  let v7942 : BitVec 32 := Scalar.muli v7941 c32_i32_3500
  let v7943 : BitVec 32 := Scalar.addi c1703936_i32_3501 v7942
  v7943

def k0_off1104 (v7941 : BitVec 32) : Fin 1 → Nat :=
  let c1703936_i32_3501 : BitVec 32 := 1703936#32
  let c32_i32_3500 : BitVec 32 := 32#32
  let v7942 : BitVec 32 := Scalar.muli v7941 c32_i32_3500
  let v7943 : BitVec 32 := Scalar.addi c1703936_i32_3501 v7942
  let v7944 : BitVec 32 := v7943
  ![v7944.toNat]
def k0_mult569 (v7950 : BitVec 32) : BitVec 32 :=
  let c1703936_i32_3505 : BitVec 32 := 1703936#32
  let c32_i32_3504 : BitVec 32 := 32#32
  let v7951 : BitVec 32 := Scalar.muli v7950 c32_i32_3504
  let v7952 : BitVec 32 := Scalar.addi c1703936_i32_3505 v7951
  v7952

def k0_off1105 (v7950 : BitVec 32) : Fin 1 → Nat :=
  let c1703936_i32_3505 : BitVec 32 := 1703936#32
  let c32_i32_3504 : BitVec 32 := 32#32
  let v7951 : BitVec 32 := Scalar.muli v7950 c32_i32_3504
  let v7952 : BitVec 32 := Scalar.addi c1703936_i32_3505 v7951
  let v7953 : BitVec 32 := v7952
  ![v7953.toNat]
def k0_mult570 (v7959 : BitVec 32) : BitVec 32 :=
  let c1703936_i32_3509 : BitVec 32 := 1703936#32
  let c32_i32_3508 : BitVec 32 := 32#32
  let v7960 : BitVec 32 := Scalar.muli v7959 c32_i32_3508
  let v7961 : BitVec 32 := Scalar.addi c1703936_i32_3509 v7960
  v7961

def k0_off1106 (v7959 : BitVec 32) : Fin 1 → Nat :=
  let c1703936_i32_3509 : BitVec 32 := 1703936#32
  let c32_i32_3508 : BitVec 32 := 32#32
  let v7960 : BitVec 32 := Scalar.muli v7959 c32_i32_3508
  let v7961 : BitVec 32 := Scalar.addi c1703936_i32_3509 v7960
  let v7962 : BitVec 32 := v7961
  ![v7962.toNat]
def k0_mult571 (v7968 : BitVec 32) : BitVec 32 :=
  let c1703936_i32_3513 : BitVec 32 := 1703936#32
  let c32_i32_3512 : BitVec 32 := 32#32
  let v7969 : BitVec 32 := Scalar.muli v7968 c32_i32_3512
  let v7970 : BitVec 32 := Scalar.addi c1703936_i32_3513 v7969
  v7970

def k0_off1107 (v7968 : BitVec 32) : Fin 1 → Nat :=
  let c1703936_i32_3513 : BitVec 32 := 1703936#32
  let c32_i32_3512 : BitVec 32 := 32#32
  let v7969 : BitVec 32 := Scalar.muli v7968 c32_i32_3512
  let v7970 : BitVec 32 := Scalar.addi c1703936_i32_3513 v7969
  let v7971 : BitVec 32 := v7970
  ![v7971.toNat]
def k0_mult572 (v7977 : BitVec 32) : BitVec 32 :=
  let c1703936_i32_3517 : BitVec 32 := 1703936#32
  let c32_i32_3516 : BitVec 32 := 32#32
  let v7978 : BitVec 32 := Scalar.muli v7977 c32_i32_3516
  let v7979 : BitVec 32 := Scalar.addi c1703936_i32_3517 v7978
  v7979

def k0_off1108 (v7977 : BitVec 32) : Fin 1 → Nat :=
  let c1703936_i32_3517 : BitVec 32 := 1703936#32
  let c32_i32_3516 : BitVec 32 := 32#32
  let v7978 : BitVec 32 := Scalar.muli v7977 c32_i32_3516
  let v7979 : BitVec 32 := Scalar.addi c1703936_i32_3517 v7978
  let v7980 : BitVec 32 := v7979
  ![v7980.toNat]
def k0_mult573 (v7986 : BitVec 32) : BitVec 32 :=
  let c1703936_i32_3521 : BitVec 32 := 1703936#32
  let c32_i32_3520 : BitVec 32 := 32#32
  let v7987 : BitVec 32 := Scalar.muli v7986 c32_i32_3520
  let v7988 : BitVec 32 := Scalar.addi c1703936_i32_3521 v7987
  v7988

def k0_off1109 (v7986 : BitVec 32) : Fin 1 → Nat :=
  let c1703936_i32_3521 : BitVec 32 := 1703936#32
  let c32_i32_3520 : BitVec 32 := 32#32
  let v7987 : BitVec 32 := Scalar.muli v7986 c32_i32_3520
  let v7988 : BitVec 32 := Scalar.addi c1703936_i32_3521 v7987
  let v7989 : BitVec 32 := v7988
  ![v7989.toNat]
def k0_mult574 (v7995 : BitVec 32) : BitVec 32 :=
  let c1703936_i32_3525 : BitVec 32 := 1703936#32
  let c32_i32_3524 : BitVec 32 := 32#32
  let v7996 : BitVec 32 := Scalar.muli v7995 c32_i32_3524
  let v7997 : BitVec 32 := Scalar.addi c1703936_i32_3525 v7996
  v7997

def k0_off1110 (v7995 : BitVec 32) : Fin 1 → Nat :=
  let c1703936_i32_3525 : BitVec 32 := 1703936#32
  let c32_i32_3524 : BitVec 32 := 32#32
  let v7996 : BitVec 32 := Scalar.muli v7995 c32_i32_3524
  let v7997 : BitVec 32 := Scalar.addi c1703936_i32_3525 v7996
  let v7998 : BitVec 32 := v7997
  ![v7998.toNat]
def k0_mult575 (v8004 : BitVec 32) : BitVec 32 :=
  let c1703936_i32_3529 : BitVec 32 := 1703936#32
  let c32_i32_3528 : BitVec 32 := 32#32
  let v8005 : BitVec 32 := Scalar.muli v8004 c32_i32_3528
  let v8006 : BitVec 32 := Scalar.addi c1703936_i32_3529 v8005
  v8006

def k0_off1111 (v8004 : BitVec 32) : Fin 1 → Nat :=
  let c1703936_i32_3529 : BitVec 32 := 1703936#32
  let c32_i32_3528 : BitVec 32 := 32#32
  let v8005 : BitVec 32 := Scalar.muli v8004 c32_i32_3528
  let v8006 : BitVec 32 := Scalar.addi c1703936_i32_3529 v8005
  let v8007 : BitVec 32 := v8006
  ![v8007.toNat]
def k0_mult576 (v8013 : BitVec 32) : BitVec 32 :=
  let c1703936_i32_3533 : BitVec 32 := 1703936#32
  let c32_i32_3532 : BitVec 32 := 32#32
  let v8014 : BitVec 32 := Scalar.muli v8013 c32_i32_3532
  let v8015 : BitVec 32 := Scalar.addi c1703936_i32_3533 v8014
  v8015

def k0_off1112 (v8013 : BitVec 32) : Fin 1 → Nat :=
  let c1703936_i32_3533 : BitVec 32 := 1703936#32
  let c32_i32_3532 : BitVec 32 := 32#32
  let v8014 : BitVec 32 := Scalar.muli v8013 c32_i32_3532
  let v8015 : BitVec 32 := Scalar.addi c1703936_i32_3533 v8014
  let v8016 : BitVec 32 := v8015
  ![v8016.toNat]
def k0_mult577 (v8022 : BitVec 32) : BitVec 32 :=
  let c1703936_i32_3537 : BitVec 32 := 1703936#32
  let c32_i32_3536 : BitVec 32 := 32#32
  let v8023 : BitVec 32 := Scalar.muli v8022 c32_i32_3536
  let v8024 : BitVec 32 := Scalar.addi c1703936_i32_3537 v8023
  v8024

def k0_off1113 (v8022 : BitVec 32) : Fin 1 → Nat :=
  let c1703936_i32_3537 : BitVec 32 := 1703936#32
  let c32_i32_3536 : BitVec 32 := 32#32
  let v8023 : BitVec 32 := Scalar.muli v8022 c32_i32_3536
  let v8024 : BitVec 32 := Scalar.addi c1703936_i32_3537 v8023
  let v8025 : BitVec 32 := v8024
  ![v8025.toNat]

def k0_chk600 (v8022 : BitVec 32) : Prop :=
  (8 ∣ (k0_mult577 v8022).toNat) ∧
  (∀ a, (k0_off1113 v8022) a + S32.size a ≤ S3407872.size a)
theorem k0_mult577_dvd : ∀ (v8022 : BitVec 32) (k0_hw600 : k0_chk600 v8022), 8 ∣ (k0_mult577 v8022).toNat := fun v8022 k0_hw600 => k0_hw600.1
theorem k0_off1113_inb : ∀ (v8022 : BitVec 32) (k0_hw600 : k0_chk600 v8022), ∀ a, (k0_off1113 v8022) a + S32.size a ≤ S3407872.size a := fun v8022 k0_hw600 => k0_hw600.2

def k0_off1114 (v7887 : BitVec 32) : Fin 1 → Nat :=
  let c1703936_i32_3477 : BitVec 32 := 1703936#32
  let c32_i32_3476 : BitVec 32 := 32#32
  let v7888 : BitVec 32 := Scalar.muli v7887 c32_i32_3476
  let v7889 : BitVec 32 := Scalar.addi c1703936_i32_3477 v7888
  let v7890 : BitVec 32 := v7889
  ![v7890.toNat]

def k0_chk585 (v7887 : BitVec 32) : Prop :=
  (8 ∣ (k0_mult562 v7887).toNat) ∧
  (∀ a, (k0_off1098 v7887) a + S32.size a ≤ S3407872.size a) ∧
  (∀ a, (k0_off1114 v7887) a + S32.size a ≤ S3407872.size a)
theorem k0_mult562_dvd : ∀ (v7887 : BitVec 32) (k0_hw585 : k0_chk585 v7887), 8 ∣ (k0_mult562 v7887).toNat := fun v7887 k0_hw585 => k0_hw585.1
theorem k0_off1098_inb : ∀ (v7887 : BitVec 32) (k0_hw585 : k0_chk585 v7887), ∀ a, (k0_off1098 v7887) a + S32.size a ≤ S3407872.size a := fun v7887 k0_hw585 => k0_hw585.2.1
theorem k0_off1114_inb : ∀ (v7887 : BitVec 32) (k0_hw585 : k0_chk585 v7887), ∀ a, (k0_off1114 v7887) a + S32.size a ≤ S3407872.size a := fun v7887 k0_hw585 => k0_hw585.2.2

def k0_off1115 (v7896 : BitVec 32) : Fin 1 → Nat :=
  let c1703936_i32_3481 : BitVec 32 := 1703936#32
  let c32_i32_3480 : BitVec 32 := 32#32
  let v7897 : BitVec 32 := Scalar.muli v7896 c32_i32_3480
  let v7898 : BitVec 32 := Scalar.addi c1703936_i32_3481 v7897
  let v7899 : BitVec 32 := v7898
  ![v7899.toNat]

def k0_chk586 (v7896 : BitVec 32) : Prop :=
  (8 ∣ (k0_mult563 v7896).toNat) ∧
  (∀ a, (k0_off1099 v7896) a + S32.size a ≤ S3407872.size a) ∧
  (∀ a, (k0_off1115 v7896) a + S32.size a ≤ S3407872.size a)
theorem k0_mult563_dvd : ∀ (v7896 : BitVec 32) (k0_hw586 : k0_chk586 v7896), 8 ∣ (k0_mult563 v7896).toNat := fun v7896 k0_hw586 => k0_hw586.1
theorem k0_off1099_inb : ∀ (v7896 : BitVec 32) (k0_hw586 : k0_chk586 v7896), ∀ a, (k0_off1099 v7896) a + S32.size a ≤ S3407872.size a := fun v7896 k0_hw586 => k0_hw586.2.1
theorem k0_off1115_inb : ∀ (v7896 : BitVec 32) (k0_hw586 : k0_chk586 v7896), ∀ a, (k0_off1115 v7896) a + S32.size a ≤ S3407872.size a := fun v7896 k0_hw586 => k0_hw586.2.2

def k0_off1116 (v7905 : BitVec 32) : Fin 1 → Nat :=
  let c1703936_i32_3485 : BitVec 32 := 1703936#32
  let c32_i32_3484 : BitVec 32 := 32#32
  let v7906 : BitVec 32 := Scalar.muli v7905 c32_i32_3484
  let v7907 : BitVec 32 := Scalar.addi c1703936_i32_3485 v7906
  let v7908 : BitVec 32 := v7907
  ![v7908.toNat]

def k0_chk587 (v7905 : BitVec 32) : Prop :=
  (8 ∣ (k0_mult564 v7905).toNat) ∧
  (∀ a, (k0_off1100 v7905) a + S32.size a ≤ S3407872.size a) ∧
  (∀ a, (k0_off1116 v7905) a + S32.size a ≤ S3407872.size a)
theorem k0_mult564_dvd : ∀ (v7905 : BitVec 32) (k0_hw587 : k0_chk587 v7905), 8 ∣ (k0_mult564 v7905).toNat := fun v7905 k0_hw587 => k0_hw587.1
theorem k0_off1100_inb : ∀ (v7905 : BitVec 32) (k0_hw587 : k0_chk587 v7905), ∀ a, (k0_off1100 v7905) a + S32.size a ≤ S3407872.size a := fun v7905 k0_hw587 => k0_hw587.2.1
theorem k0_off1116_inb : ∀ (v7905 : BitVec 32) (k0_hw587 : k0_chk587 v7905), ∀ a, (k0_off1116 v7905) a + S32.size a ≤ S3407872.size a := fun v7905 k0_hw587 => k0_hw587.2.2

def k0_off1117 (v7914 : BitVec 32) : Fin 1 → Nat :=
  let c1703936_i32_3489 : BitVec 32 := 1703936#32
  let c32_i32_3488 : BitVec 32 := 32#32
  let v7915 : BitVec 32 := Scalar.muli v7914 c32_i32_3488
  let v7916 : BitVec 32 := Scalar.addi c1703936_i32_3489 v7915
  let v7917 : BitVec 32 := v7916
  ![v7917.toNat]

def k0_chk588 (v7914 : BitVec 32) : Prop :=
  (8 ∣ (k0_mult565 v7914).toNat) ∧
  (∀ a, (k0_off1101 v7914) a + S32.size a ≤ S3407872.size a) ∧
  (∀ a, (k0_off1117 v7914) a + S32.size a ≤ S3407872.size a)
theorem k0_mult565_dvd : ∀ (v7914 : BitVec 32) (k0_hw588 : k0_chk588 v7914), 8 ∣ (k0_mult565 v7914).toNat := fun v7914 k0_hw588 => k0_hw588.1
theorem k0_off1101_inb : ∀ (v7914 : BitVec 32) (k0_hw588 : k0_chk588 v7914), ∀ a, (k0_off1101 v7914) a + S32.size a ≤ S3407872.size a := fun v7914 k0_hw588 => k0_hw588.2.1
theorem k0_off1117_inb : ∀ (v7914 : BitVec 32) (k0_hw588 : k0_chk588 v7914), ∀ a, (k0_off1117 v7914) a + S32.size a ≤ S3407872.size a := fun v7914 k0_hw588 => k0_hw588.2.2

def k0_off1118 (v7923 : BitVec 32) : Fin 1 → Nat :=
  let c1703936_i32_3493 : BitVec 32 := 1703936#32
  let c32_i32_3492 : BitVec 32 := 32#32
  let v7924 : BitVec 32 := Scalar.muli v7923 c32_i32_3492
  let v7925 : BitVec 32 := Scalar.addi c1703936_i32_3493 v7924
  let v7926 : BitVec 32 := v7925
  ![v7926.toNat]

def k0_chk589 (v7923 : BitVec 32) : Prop :=
  (8 ∣ (k0_mult566 v7923).toNat) ∧
  (∀ a, (k0_off1102 v7923) a + S32.size a ≤ S3407872.size a) ∧
  (∀ a, (k0_off1118 v7923) a + S32.size a ≤ S3407872.size a)
theorem k0_mult566_dvd : ∀ (v7923 : BitVec 32) (k0_hw589 : k0_chk589 v7923), 8 ∣ (k0_mult566 v7923).toNat := fun v7923 k0_hw589 => k0_hw589.1
theorem k0_off1102_inb : ∀ (v7923 : BitVec 32) (k0_hw589 : k0_chk589 v7923), ∀ a, (k0_off1102 v7923) a + S32.size a ≤ S3407872.size a := fun v7923 k0_hw589 => k0_hw589.2.1
theorem k0_off1118_inb : ∀ (v7923 : BitVec 32) (k0_hw589 : k0_chk589 v7923), ∀ a, (k0_off1118 v7923) a + S32.size a ≤ S3407872.size a := fun v7923 k0_hw589 => k0_hw589.2.2

def k0_off1119 (v7932 : BitVec 32) : Fin 1 → Nat :=
  let c1703936_i32_3497 : BitVec 32 := 1703936#32
  let c32_i32_3496 : BitVec 32 := 32#32
  let v7933 : BitVec 32 := Scalar.muli v7932 c32_i32_3496
  let v7934 : BitVec 32 := Scalar.addi c1703936_i32_3497 v7933
  let v7935 : BitVec 32 := v7934
  ![v7935.toNat]

def k0_chk590 (v7932 : BitVec 32) : Prop :=
  (8 ∣ (k0_mult567 v7932).toNat) ∧
  (∀ a, (k0_off1103 v7932) a + S32.size a ≤ S3407872.size a) ∧
  (∀ a, (k0_off1119 v7932) a + S32.size a ≤ S3407872.size a)
theorem k0_mult567_dvd : ∀ (v7932 : BitVec 32) (k0_hw590 : k0_chk590 v7932), 8 ∣ (k0_mult567 v7932).toNat := fun v7932 k0_hw590 => k0_hw590.1
theorem k0_off1103_inb : ∀ (v7932 : BitVec 32) (k0_hw590 : k0_chk590 v7932), ∀ a, (k0_off1103 v7932) a + S32.size a ≤ S3407872.size a := fun v7932 k0_hw590 => k0_hw590.2.1
theorem k0_off1119_inb : ∀ (v7932 : BitVec 32) (k0_hw590 : k0_chk590 v7932), ∀ a, (k0_off1119 v7932) a + S32.size a ≤ S3407872.size a := fun v7932 k0_hw590 => k0_hw590.2.2

def k0_off1120 (v7941 : BitVec 32) : Fin 1 → Nat :=
  let c1703936_i32_3501 : BitVec 32 := 1703936#32
  let c32_i32_3500 : BitVec 32 := 32#32
  let v7942 : BitVec 32 := Scalar.muli v7941 c32_i32_3500
  let v7943 : BitVec 32 := Scalar.addi c1703936_i32_3501 v7942
  let v7944 : BitVec 32 := v7943
  ![v7944.toNat]

def k0_chk591 (v7941 : BitVec 32) : Prop :=
  (8 ∣ (k0_mult568 v7941).toNat) ∧
  (∀ a, (k0_off1104 v7941) a + S32.size a ≤ S3407872.size a) ∧
  (∀ a, (k0_off1120 v7941) a + S32.size a ≤ S3407872.size a)
theorem k0_mult568_dvd : ∀ (v7941 : BitVec 32) (k0_hw591 : k0_chk591 v7941), 8 ∣ (k0_mult568 v7941).toNat := fun v7941 k0_hw591 => k0_hw591.1
theorem k0_off1104_inb : ∀ (v7941 : BitVec 32) (k0_hw591 : k0_chk591 v7941), ∀ a, (k0_off1104 v7941) a + S32.size a ≤ S3407872.size a := fun v7941 k0_hw591 => k0_hw591.2.1
theorem k0_off1120_inb : ∀ (v7941 : BitVec 32) (k0_hw591 : k0_chk591 v7941), ∀ a, (k0_off1120 v7941) a + S32.size a ≤ S3407872.size a := fun v7941 k0_hw591 => k0_hw591.2.2

def k0_off1121 (v7950 : BitVec 32) : Fin 1 → Nat :=
  let c1703936_i32_3505 : BitVec 32 := 1703936#32
  let c32_i32_3504 : BitVec 32 := 32#32
  let v7951 : BitVec 32 := Scalar.muli v7950 c32_i32_3504
  let v7952 : BitVec 32 := Scalar.addi c1703936_i32_3505 v7951
  let v7953 : BitVec 32 := v7952
  ![v7953.toNat]

def k0_chk592 (v7950 : BitVec 32) : Prop :=
  (8 ∣ (k0_mult569 v7950).toNat) ∧
  (∀ a, (k0_off1105 v7950) a + S32.size a ≤ S3407872.size a) ∧
  (∀ a, (k0_off1121 v7950) a + S32.size a ≤ S3407872.size a)
theorem k0_mult569_dvd : ∀ (v7950 : BitVec 32) (k0_hw592 : k0_chk592 v7950), 8 ∣ (k0_mult569 v7950).toNat := fun v7950 k0_hw592 => k0_hw592.1
theorem k0_off1105_inb : ∀ (v7950 : BitVec 32) (k0_hw592 : k0_chk592 v7950), ∀ a, (k0_off1105 v7950) a + S32.size a ≤ S3407872.size a := fun v7950 k0_hw592 => k0_hw592.2.1
theorem k0_off1121_inb : ∀ (v7950 : BitVec 32) (k0_hw592 : k0_chk592 v7950), ∀ a, (k0_off1121 v7950) a + S32.size a ≤ S3407872.size a := fun v7950 k0_hw592 => k0_hw592.2.2

def k0_off1122 (v7959 : BitVec 32) : Fin 1 → Nat :=
  let c1703936_i32_3509 : BitVec 32 := 1703936#32
  let c32_i32_3508 : BitVec 32 := 32#32
  let v7960 : BitVec 32 := Scalar.muli v7959 c32_i32_3508
  let v7961 : BitVec 32 := Scalar.addi c1703936_i32_3509 v7960
  let v7962 : BitVec 32 := v7961
  ![v7962.toNat]

def k0_chk593 (v7959 : BitVec 32) : Prop :=
  (8 ∣ (k0_mult570 v7959).toNat) ∧
  (∀ a, (k0_off1106 v7959) a + S32.size a ≤ S3407872.size a) ∧
  (∀ a, (k0_off1122 v7959) a + S32.size a ≤ S3407872.size a)
theorem k0_mult570_dvd : ∀ (v7959 : BitVec 32) (k0_hw593 : k0_chk593 v7959), 8 ∣ (k0_mult570 v7959).toNat := fun v7959 k0_hw593 => k0_hw593.1
theorem k0_off1106_inb : ∀ (v7959 : BitVec 32) (k0_hw593 : k0_chk593 v7959), ∀ a, (k0_off1106 v7959) a + S32.size a ≤ S3407872.size a := fun v7959 k0_hw593 => k0_hw593.2.1
theorem k0_off1122_inb : ∀ (v7959 : BitVec 32) (k0_hw593 : k0_chk593 v7959), ∀ a, (k0_off1122 v7959) a + S32.size a ≤ S3407872.size a := fun v7959 k0_hw593 => k0_hw593.2.2

def k0_off1123 (v7968 : BitVec 32) : Fin 1 → Nat :=
  let c1703936_i32_3513 : BitVec 32 := 1703936#32
  let c32_i32_3512 : BitVec 32 := 32#32
  let v7969 : BitVec 32 := Scalar.muli v7968 c32_i32_3512
  let v7970 : BitVec 32 := Scalar.addi c1703936_i32_3513 v7969
  let v7971 : BitVec 32 := v7970
  ![v7971.toNat]

def k0_chk594 (v7968 : BitVec 32) : Prop :=
  (8 ∣ (k0_mult571 v7968).toNat) ∧
  (∀ a, (k0_off1107 v7968) a + S32.size a ≤ S3407872.size a) ∧
  (∀ a, (k0_off1123 v7968) a + S32.size a ≤ S3407872.size a)
theorem k0_mult571_dvd : ∀ (v7968 : BitVec 32) (k0_hw594 : k0_chk594 v7968), 8 ∣ (k0_mult571 v7968).toNat := fun v7968 k0_hw594 => k0_hw594.1
theorem k0_off1107_inb : ∀ (v7968 : BitVec 32) (k0_hw594 : k0_chk594 v7968), ∀ a, (k0_off1107 v7968) a + S32.size a ≤ S3407872.size a := fun v7968 k0_hw594 => k0_hw594.2.1
theorem k0_off1123_inb : ∀ (v7968 : BitVec 32) (k0_hw594 : k0_chk594 v7968), ∀ a, (k0_off1123 v7968) a + S32.size a ≤ S3407872.size a := fun v7968 k0_hw594 => k0_hw594.2.2

def k0_off1124 (v7977 : BitVec 32) : Fin 1 → Nat :=
  let c1703936_i32_3517 : BitVec 32 := 1703936#32
  let c32_i32_3516 : BitVec 32 := 32#32
  let v7978 : BitVec 32 := Scalar.muli v7977 c32_i32_3516
  let v7979 : BitVec 32 := Scalar.addi c1703936_i32_3517 v7978
  let v7980 : BitVec 32 := v7979
  ![v7980.toNat]

def k0_chk595 (v7977 : BitVec 32) : Prop :=
  (8 ∣ (k0_mult572 v7977).toNat) ∧
  (∀ a, (k0_off1108 v7977) a + S32.size a ≤ S3407872.size a) ∧
  (∀ a, (k0_off1124 v7977) a + S32.size a ≤ S3407872.size a)
theorem k0_mult572_dvd : ∀ (v7977 : BitVec 32) (k0_hw595 : k0_chk595 v7977), 8 ∣ (k0_mult572 v7977).toNat := fun v7977 k0_hw595 => k0_hw595.1
theorem k0_off1108_inb : ∀ (v7977 : BitVec 32) (k0_hw595 : k0_chk595 v7977), ∀ a, (k0_off1108 v7977) a + S32.size a ≤ S3407872.size a := fun v7977 k0_hw595 => k0_hw595.2.1
theorem k0_off1124_inb : ∀ (v7977 : BitVec 32) (k0_hw595 : k0_chk595 v7977), ∀ a, (k0_off1124 v7977) a + S32.size a ≤ S3407872.size a := fun v7977 k0_hw595 => k0_hw595.2.2

def k0_off1125 (v7986 : BitVec 32) : Fin 1 → Nat :=
  let c1703936_i32_3521 : BitVec 32 := 1703936#32
  let c32_i32_3520 : BitVec 32 := 32#32
  let v7987 : BitVec 32 := Scalar.muli v7986 c32_i32_3520
  let v7988 : BitVec 32 := Scalar.addi c1703936_i32_3521 v7987
  let v7989 : BitVec 32 := v7988
  ![v7989.toNat]

def k0_chk596 (v7986 : BitVec 32) : Prop :=
  (8 ∣ (k0_mult573 v7986).toNat) ∧
  (∀ a, (k0_off1109 v7986) a + S32.size a ≤ S3407872.size a) ∧
  (∀ a, (k0_off1125 v7986) a + S32.size a ≤ S3407872.size a)
theorem k0_mult573_dvd : ∀ (v7986 : BitVec 32) (k0_hw596 : k0_chk596 v7986), 8 ∣ (k0_mult573 v7986).toNat := fun v7986 k0_hw596 => k0_hw596.1
theorem k0_off1109_inb : ∀ (v7986 : BitVec 32) (k0_hw596 : k0_chk596 v7986), ∀ a, (k0_off1109 v7986) a + S32.size a ≤ S3407872.size a := fun v7986 k0_hw596 => k0_hw596.2.1
theorem k0_off1125_inb : ∀ (v7986 : BitVec 32) (k0_hw596 : k0_chk596 v7986), ∀ a, (k0_off1125 v7986) a + S32.size a ≤ S3407872.size a := fun v7986 k0_hw596 => k0_hw596.2.2

def k0_off1126 (v7995 : BitVec 32) : Fin 1 → Nat :=
  let c1703936_i32_3525 : BitVec 32 := 1703936#32
  let c32_i32_3524 : BitVec 32 := 32#32
  let v7996 : BitVec 32 := Scalar.muli v7995 c32_i32_3524
  let v7997 : BitVec 32 := Scalar.addi c1703936_i32_3525 v7996
  let v7998 : BitVec 32 := v7997
  ![v7998.toNat]

def k0_chk597 (v7995 : BitVec 32) : Prop :=
  (8 ∣ (k0_mult574 v7995).toNat) ∧
  (∀ a, (k0_off1110 v7995) a + S32.size a ≤ S3407872.size a) ∧
  (∀ a, (k0_off1126 v7995) a + S32.size a ≤ S3407872.size a)
theorem k0_mult574_dvd : ∀ (v7995 : BitVec 32) (k0_hw597 : k0_chk597 v7995), 8 ∣ (k0_mult574 v7995).toNat := fun v7995 k0_hw597 => k0_hw597.1
theorem k0_off1110_inb : ∀ (v7995 : BitVec 32) (k0_hw597 : k0_chk597 v7995), ∀ a, (k0_off1110 v7995) a + S32.size a ≤ S3407872.size a := fun v7995 k0_hw597 => k0_hw597.2.1
theorem k0_off1126_inb : ∀ (v7995 : BitVec 32) (k0_hw597 : k0_chk597 v7995), ∀ a, (k0_off1126 v7995) a + S32.size a ≤ S3407872.size a := fun v7995 k0_hw597 => k0_hw597.2.2

def k0_off1127 (v8004 : BitVec 32) : Fin 1 → Nat :=
  let c1703936_i32_3529 : BitVec 32 := 1703936#32
  let c32_i32_3528 : BitVec 32 := 32#32
  let v8005 : BitVec 32 := Scalar.muli v8004 c32_i32_3528
  let v8006 : BitVec 32 := Scalar.addi c1703936_i32_3529 v8005
  let v8007 : BitVec 32 := v8006
  ![v8007.toNat]

def k0_chk598 (v8004 : BitVec 32) : Prop :=
  (8 ∣ (k0_mult575 v8004).toNat) ∧
  (∀ a, (k0_off1111 v8004) a + S32.size a ≤ S3407872.size a) ∧
  (∀ a, (k0_off1127 v8004) a + S32.size a ≤ S3407872.size a)
theorem k0_mult575_dvd : ∀ (v8004 : BitVec 32) (k0_hw598 : k0_chk598 v8004), 8 ∣ (k0_mult575 v8004).toNat := fun v8004 k0_hw598 => k0_hw598.1
theorem k0_off1111_inb : ∀ (v8004 : BitVec 32) (k0_hw598 : k0_chk598 v8004), ∀ a, (k0_off1111 v8004) a + S32.size a ≤ S3407872.size a := fun v8004 k0_hw598 => k0_hw598.2.1
theorem k0_off1127_inb : ∀ (v8004 : BitVec 32) (k0_hw598 : k0_chk598 v8004), ∀ a, (k0_off1127 v8004) a + S32.size a ≤ S3407872.size a := fun v8004 k0_hw598 => k0_hw598.2.2

def k0_off1128 (v8013 : BitVec 32) : Fin 1 → Nat :=
  let c1703936_i32_3533 : BitVec 32 := 1703936#32
  let c32_i32_3532 : BitVec 32 := 32#32
  let v8014 : BitVec 32 := Scalar.muli v8013 c32_i32_3532
  let v8015 : BitVec 32 := Scalar.addi c1703936_i32_3533 v8014
  let v8016 : BitVec 32 := v8015
  ![v8016.toNat]

def k0_chk599 (v8013 : BitVec 32) : Prop :=
  (8 ∣ (k0_mult576 v8013).toNat) ∧
  (∀ a, (k0_off1112 v8013) a + S32.size a ≤ S3407872.size a) ∧
  (∀ a, (k0_off1128 v8013) a + S32.size a ≤ S3407872.size a)
theorem k0_mult576_dvd : ∀ (v8013 : BitVec 32) (k0_hw599 : k0_chk599 v8013), 8 ∣ (k0_mult576 v8013).toNat := fun v8013 k0_hw599 => k0_hw599.1
theorem k0_off1112_inb : ∀ (v8013 : BitVec 32) (k0_hw599 : k0_chk599 v8013), ∀ a, (k0_off1112 v8013) a + S32.size a ≤ S3407872.size a := fun v8013 k0_hw599 => k0_hw599.2.1
theorem k0_off1128_inb : ∀ (v8013 : BitVec 32) (k0_hw599 : k0_chk599 v8013), ∀ a, (k0_off1128 v8013) a + S32.size a ≤ S3407872.size a := fun v8013 k0_hw599 => k0_hw599.2.2

def k0_mult578 (v8097 : BitVec 32) : BitVec 32 :=
  let c999936_i32_3574 : BitVec 32 := 999936#32
  let v8098 : BitVec 32 := Scalar.subi v8097 c999936_i32_3574
  let c32_i32_3575 : BitVec 32 := 32#32
  let v8099 : BitVec 32 := Scalar.muli v8098 c32_i32_3575
  v8099

def k0_off1129 (v8097 : BitVec 32) : Fin 1 → Nat :=
  let c999936_i32_3574 : BitVec 32 := 999936#32
  let v8098 : BitVec 32 := Scalar.subi v8097 c999936_i32_3574
  let c32_i32_3575 : BitVec 32 := 32#32
  let v8099 : BitVec 32 := Scalar.muli v8098 c32_i32_3575
  let v8100 : BitVec 32 := v8099
  ![v8100.toNat]
def k0_mult579 (v8106 : BitVec 32) : BitVec 32 :=
  let c999936_i32_3578 : BitVec 32 := 999936#32
  let v8107 : BitVec 32 := Scalar.subi v8106 c999936_i32_3578
  let c32_i32_3579 : BitVec 32 := 32#32
  let v8108 : BitVec 32 := Scalar.muli v8107 c32_i32_3579
  v8108

def k0_off1130 (v8106 : BitVec 32) : Fin 1 → Nat :=
  let c999936_i32_3578 : BitVec 32 := 999936#32
  let v8107 : BitVec 32 := Scalar.subi v8106 c999936_i32_3578
  let c32_i32_3579 : BitVec 32 := 32#32
  let v8108 : BitVec 32 := Scalar.muli v8107 c32_i32_3579
  let v8109 : BitVec 32 := v8108
  ![v8109.toNat]
def k0_mult580 (v8115 : BitVec 32) : BitVec 32 :=
  let c999936_i32_3582 : BitVec 32 := 999936#32
  let v8116 : BitVec 32 := Scalar.subi v8115 c999936_i32_3582
  let c32_i32_3583 : BitVec 32 := 32#32
  let v8117 : BitVec 32 := Scalar.muli v8116 c32_i32_3583
  v8117

def k0_off1131 (v8115 : BitVec 32) : Fin 1 → Nat :=
  let c999936_i32_3582 : BitVec 32 := 999936#32
  let v8116 : BitVec 32 := Scalar.subi v8115 c999936_i32_3582
  let c32_i32_3583 : BitVec 32 := 32#32
  let v8117 : BitVec 32 := Scalar.muli v8116 c32_i32_3583
  let v8118 : BitVec 32 := v8117
  ![v8118.toNat]
def k0_mult581 (v8124 : BitVec 32) : BitVec 32 :=
  let c999936_i32_3586 : BitVec 32 := 999936#32
  let v8125 : BitVec 32 := Scalar.subi v8124 c999936_i32_3586
  let c32_i32_3587 : BitVec 32 := 32#32
  let v8126 : BitVec 32 := Scalar.muli v8125 c32_i32_3587
  v8126

def k0_off1132 (v8124 : BitVec 32) : Fin 1 → Nat :=
  let c999936_i32_3586 : BitVec 32 := 999936#32
  let v8125 : BitVec 32 := Scalar.subi v8124 c999936_i32_3586
  let c32_i32_3587 : BitVec 32 := 32#32
  let v8126 : BitVec 32 := Scalar.muli v8125 c32_i32_3587
  let v8127 : BitVec 32 := v8126
  ![v8127.toNat]
def k0_mult582 (v8133 : BitVec 32) : BitVec 32 :=
  let c999936_i32_3590 : BitVec 32 := 999936#32
  let v8134 : BitVec 32 := Scalar.subi v8133 c999936_i32_3590
  let c32_i32_3591 : BitVec 32 := 32#32
  let v8135 : BitVec 32 := Scalar.muli v8134 c32_i32_3591
  v8135

def k0_off1133 (v8133 : BitVec 32) : Fin 1 → Nat :=
  let c999936_i32_3590 : BitVec 32 := 999936#32
  let v8134 : BitVec 32 := Scalar.subi v8133 c999936_i32_3590
  let c32_i32_3591 : BitVec 32 := 32#32
  let v8135 : BitVec 32 := Scalar.muli v8134 c32_i32_3591
  let v8136 : BitVec 32 := v8135
  ![v8136.toNat]
def k0_mult583 (v8142 : BitVec 32) : BitVec 32 :=
  let c999936_i32_3594 : BitVec 32 := 999936#32
  let v8143 : BitVec 32 := Scalar.subi v8142 c999936_i32_3594
  let c32_i32_3595 : BitVec 32 := 32#32
  let v8144 : BitVec 32 := Scalar.muli v8143 c32_i32_3595
  v8144

def k0_off1134 (v8142 : BitVec 32) : Fin 1 → Nat :=
  let c999936_i32_3594 : BitVec 32 := 999936#32
  let v8143 : BitVec 32 := Scalar.subi v8142 c999936_i32_3594
  let c32_i32_3595 : BitVec 32 := 32#32
  let v8144 : BitVec 32 := Scalar.muli v8143 c32_i32_3595
  let v8145 : BitVec 32 := v8144
  ![v8145.toNat]
def k0_mult584 (v8151 : BitVec 32) : BitVec 32 :=
  let c999936_i32_3598 : BitVec 32 := 999936#32
  let v8152 : BitVec 32 := Scalar.subi v8151 c999936_i32_3598
  let c32_i32_3599 : BitVec 32 := 32#32
  let v8153 : BitVec 32 := Scalar.muli v8152 c32_i32_3599
  v8153

def k0_off1135 (v8151 : BitVec 32) : Fin 1 → Nat :=
  let c999936_i32_3598 : BitVec 32 := 999936#32
  let v8152 : BitVec 32 := Scalar.subi v8151 c999936_i32_3598
  let c32_i32_3599 : BitVec 32 := 32#32
  let v8153 : BitVec 32 := Scalar.muli v8152 c32_i32_3599
  let v8154 : BitVec 32 := v8153
  ![v8154.toNat]
def k0_mult585 (v8160 : BitVec 32) : BitVec 32 :=
  let c999936_i32_3602 : BitVec 32 := 999936#32
  let v8161 : BitVec 32 := Scalar.subi v8160 c999936_i32_3602
  let c32_i32_3603 : BitVec 32 := 32#32
  let v8162 : BitVec 32 := Scalar.muli v8161 c32_i32_3603
  v8162

def k0_off1136 (v8160 : BitVec 32) : Fin 1 → Nat :=
  let c999936_i32_3602 : BitVec 32 := 999936#32
  let v8161 : BitVec 32 := Scalar.subi v8160 c999936_i32_3602
  let c32_i32_3603 : BitVec 32 := 32#32
  let v8162 : BitVec 32 := Scalar.muli v8161 c32_i32_3603
  let v8163 : BitVec 32 := v8162
  ![v8163.toNat]
def k0_mult586 (v8169 : BitVec 32) : BitVec 32 :=
  let c999936_i32_3606 : BitVec 32 := 999936#32
  let v8170 : BitVec 32 := Scalar.subi v8169 c999936_i32_3606
  let c32_i32_3607 : BitVec 32 := 32#32
  let v8171 : BitVec 32 := Scalar.muli v8170 c32_i32_3607
  v8171

def k0_off1137 (v8169 : BitVec 32) : Fin 1 → Nat :=
  let c999936_i32_3606 : BitVec 32 := 999936#32
  let v8170 : BitVec 32 := Scalar.subi v8169 c999936_i32_3606
  let c32_i32_3607 : BitVec 32 := 32#32
  let v8171 : BitVec 32 := Scalar.muli v8170 c32_i32_3607
  let v8172 : BitVec 32 := v8171
  ![v8172.toNat]
def k0_mult587 (v8178 : BitVec 32) : BitVec 32 :=
  let c999936_i32_3610 : BitVec 32 := 999936#32
  let v8179 : BitVec 32 := Scalar.subi v8178 c999936_i32_3610
  let c32_i32_3611 : BitVec 32 := 32#32
  let v8180 : BitVec 32 := Scalar.muli v8179 c32_i32_3611
  v8180

def k0_off1138 (v8178 : BitVec 32) : Fin 1 → Nat :=
  let c999936_i32_3610 : BitVec 32 := 999936#32
  let v8179 : BitVec 32 := Scalar.subi v8178 c999936_i32_3610
  let c32_i32_3611 : BitVec 32 := 32#32
  let v8180 : BitVec 32 := Scalar.muli v8179 c32_i32_3611
  let v8181 : BitVec 32 := v8180
  ![v8181.toNat]
def k0_mult588 (v8187 : BitVec 32) : BitVec 32 :=
  let c999936_i32_3614 : BitVec 32 := 999936#32
  let v8188 : BitVec 32 := Scalar.subi v8187 c999936_i32_3614
  let c32_i32_3615 : BitVec 32 := 32#32
  let v8189 : BitVec 32 := Scalar.muli v8188 c32_i32_3615
  v8189

def k0_off1139 (v8187 : BitVec 32) : Fin 1 → Nat :=
  let c999936_i32_3614 : BitVec 32 := 999936#32
  let v8188 : BitVec 32 := Scalar.subi v8187 c999936_i32_3614
  let c32_i32_3615 : BitVec 32 := 32#32
  let v8189 : BitVec 32 := Scalar.muli v8188 c32_i32_3615
  let v8190 : BitVec 32 := v8189
  ![v8190.toNat]
def k0_mult589 (v8196 : BitVec 32) : BitVec 32 :=
  let c999936_i32_3618 : BitVec 32 := 999936#32
  let v8197 : BitVec 32 := Scalar.subi v8196 c999936_i32_3618
  let c32_i32_3619 : BitVec 32 := 32#32
  let v8198 : BitVec 32 := Scalar.muli v8197 c32_i32_3619
  v8198

def k0_off1140 (v8196 : BitVec 32) : Fin 1 → Nat :=
  let c999936_i32_3618 : BitVec 32 := 999936#32
  let v8197 : BitVec 32 := Scalar.subi v8196 c999936_i32_3618
  let c32_i32_3619 : BitVec 32 := 32#32
  let v8198 : BitVec 32 := Scalar.muli v8197 c32_i32_3619
  let v8199 : BitVec 32 := v8198
  ![v8199.toNat]
def k0_mult590 (v8205 : BitVec 32) : BitVec 32 :=
  let c999936_i32_3622 : BitVec 32 := 999936#32
  let v8206 : BitVec 32 := Scalar.subi v8205 c999936_i32_3622
  let c32_i32_3623 : BitVec 32 := 32#32
  let v8207 : BitVec 32 := Scalar.muli v8206 c32_i32_3623
  v8207

def k0_off1141 (v8205 : BitVec 32) : Fin 1 → Nat :=
  let c999936_i32_3622 : BitVec 32 := 999936#32
  let v8206 : BitVec 32 := Scalar.subi v8205 c999936_i32_3622
  let c32_i32_3623 : BitVec 32 := 32#32
  let v8207 : BitVec 32 := Scalar.muli v8206 c32_i32_3623
  let v8208 : BitVec 32 := v8207
  ![v8208.toNat]
def k0_mult591 (v8214 : BitVec 32) : BitVec 32 :=
  let c999936_i32_3626 : BitVec 32 := 999936#32
  let v8215 : BitVec 32 := Scalar.subi v8214 c999936_i32_3626
  let c32_i32_3627 : BitVec 32 := 32#32
  let v8216 : BitVec 32 := Scalar.muli v8215 c32_i32_3627
  v8216

def k0_off1142 (v8214 : BitVec 32) : Fin 1 → Nat :=
  let c999936_i32_3626 : BitVec 32 := 999936#32
  let v8215 : BitVec 32 := Scalar.subi v8214 c999936_i32_3626
  let c32_i32_3627 : BitVec 32 := 32#32
  let v8216 : BitVec 32 := Scalar.muli v8215 c32_i32_3627
  let v8217 : BitVec 32 := v8216
  ![v8217.toNat]
def k0_mult592 (v8223 : BitVec 32) : BitVec 32 :=
  let c999936_i32_3630 : BitVec 32 := 999936#32
  let v8224 : BitVec 32 := Scalar.subi v8223 c999936_i32_3630
  let c32_i32_3631 : BitVec 32 := 32#32
  let v8225 : BitVec 32 := Scalar.muli v8224 c32_i32_3631
  v8225

def k0_off1143 (v8223 : BitVec 32) : Fin 1 → Nat :=
  let c999936_i32_3630 : BitVec 32 := 999936#32
  let v8224 : BitVec 32 := Scalar.subi v8223 c999936_i32_3630
  let c32_i32_3631 : BitVec 32 := 32#32
  let v8225 : BitVec 32 := Scalar.muli v8224 c32_i32_3631
  let v8226 : BitVec 32 := v8225
  ![v8226.toNat]
def k0_mult593 (v8232 : BitVec 32) : BitVec 32 :=
  let c999936_i32_3634 : BitVec 32 := 999936#32
  let v8233 : BitVec 32 := Scalar.subi v8232 c999936_i32_3634
  let c32_i32_3635 : BitVec 32 := 32#32
  let v8234 : BitVec 32 := Scalar.muli v8233 c32_i32_3635
  v8234

def k0_off1144 (v8232 : BitVec 32) : Fin 1 → Nat :=
  let c999936_i32_3634 : BitVec 32 := 999936#32
  let v8233 : BitVec 32 := Scalar.subi v8232 c999936_i32_3634
  let c32_i32_3635 : BitVec 32 := 32#32
  let v8234 : BitVec 32 := Scalar.muli v8233 c32_i32_3635
  let v8235 : BitVec 32 := v8234
  ![v8235.toNat]

def k0_chk616 (v8232 : BitVec 32) : Prop :=
  (8 ∣ (k0_mult593 v8232).toNat) ∧
  (∀ a, (k0_off1144 v8232) a + S32.size a ≤ S2048.size a)
theorem k0_mult593_dvd : ∀ (v8232 : BitVec 32) (k0_hw616 : k0_chk616 v8232), 8 ∣ (k0_mult593 v8232).toNat := fun v8232 k0_hw616 => k0_hw616.1
theorem k0_off1144_inb : ∀ (v8232 : BitVec 32) (k0_hw616 : k0_chk616 v8232), ∀ a, (k0_off1144 v8232) a + S32.size a ≤ S2048.size a := fun v8232 k0_hw616 => k0_hw616.2

def k0_off1145 (v8097 : BitVec 32) : Fin 1 → Nat :=
  let c999936_i32_3574 : BitVec 32 := 999936#32
  let v8098 : BitVec 32 := Scalar.subi v8097 c999936_i32_3574
  let c32_i32_3575 : BitVec 32 := 32#32
  let v8099 : BitVec 32 := Scalar.muli v8098 c32_i32_3575
  let v8100 : BitVec 32 := v8099
  ![v8100.toNat]

def k0_chk601 (v8097 : BitVec 32) : Prop :=
  (8 ∣ (k0_mult578 v8097).toNat) ∧
  (∀ a, (k0_off1129 v8097) a + S32.size a ≤ S2048.size a) ∧
  (∀ a, (k0_off1145 v8097) a + S32.size a ≤ S2048.size a)
theorem k0_mult578_dvd : ∀ (v8097 : BitVec 32) (k0_hw601 : k0_chk601 v8097), 8 ∣ (k0_mult578 v8097).toNat := fun v8097 k0_hw601 => k0_hw601.1
theorem k0_off1129_inb : ∀ (v8097 : BitVec 32) (k0_hw601 : k0_chk601 v8097), ∀ a, (k0_off1129 v8097) a + S32.size a ≤ S2048.size a := fun v8097 k0_hw601 => k0_hw601.2.1
theorem k0_off1145_inb : ∀ (v8097 : BitVec 32) (k0_hw601 : k0_chk601 v8097), ∀ a, (k0_off1145 v8097) a + S32.size a ≤ S2048.size a := fun v8097 k0_hw601 => k0_hw601.2.2

def k0_off1146 (v8106 : BitVec 32) : Fin 1 → Nat :=
  let c999936_i32_3578 : BitVec 32 := 999936#32
  let v8107 : BitVec 32 := Scalar.subi v8106 c999936_i32_3578
  let c32_i32_3579 : BitVec 32 := 32#32
  let v8108 : BitVec 32 := Scalar.muli v8107 c32_i32_3579
  let v8109 : BitVec 32 := v8108
  ![v8109.toNat]

def k0_chk602 (v8106 : BitVec 32) : Prop :=
  (8 ∣ (k0_mult579 v8106).toNat) ∧
  (∀ a, (k0_off1130 v8106) a + S32.size a ≤ S2048.size a) ∧
  (∀ a, (k0_off1146 v8106) a + S32.size a ≤ S2048.size a)
theorem k0_mult579_dvd : ∀ (v8106 : BitVec 32) (k0_hw602 : k0_chk602 v8106), 8 ∣ (k0_mult579 v8106).toNat := fun v8106 k0_hw602 => k0_hw602.1
theorem k0_off1130_inb : ∀ (v8106 : BitVec 32) (k0_hw602 : k0_chk602 v8106), ∀ a, (k0_off1130 v8106) a + S32.size a ≤ S2048.size a := fun v8106 k0_hw602 => k0_hw602.2.1
theorem k0_off1146_inb : ∀ (v8106 : BitVec 32) (k0_hw602 : k0_chk602 v8106), ∀ a, (k0_off1146 v8106) a + S32.size a ≤ S2048.size a := fun v8106 k0_hw602 => k0_hw602.2.2

def k0_off1147 (v8115 : BitVec 32) : Fin 1 → Nat :=
  let c999936_i32_3582 : BitVec 32 := 999936#32
  let v8116 : BitVec 32 := Scalar.subi v8115 c999936_i32_3582
  let c32_i32_3583 : BitVec 32 := 32#32
  let v8117 : BitVec 32 := Scalar.muli v8116 c32_i32_3583
  let v8118 : BitVec 32 := v8117
  ![v8118.toNat]

def k0_chk603 (v8115 : BitVec 32) : Prop :=
  (8 ∣ (k0_mult580 v8115).toNat) ∧
  (∀ a, (k0_off1131 v8115) a + S32.size a ≤ S2048.size a) ∧
  (∀ a, (k0_off1147 v8115) a + S32.size a ≤ S2048.size a)
theorem k0_mult580_dvd : ∀ (v8115 : BitVec 32) (k0_hw603 : k0_chk603 v8115), 8 ∣ (k0_mult580 v8115).toNat := fun v8115 k0_hw603 => k0_hw603.1
theorem k0_off1131_inb : ∀ (v8115 : BitVec 32) (k0_hw603 : k0_chk603 v8115), ∀ a, (k0_off1131 v8115) a + S32.size a ≤ S2048.size a := fun v8115 k0_hw603 => k0_hw603.2.1
theorem k0_off1147_inb : ∀ (v8115 : BitVec 32) (k0_hw603 : k0_chk603 v8115), ∀ a, (k0_off1147 v8115) a + S32.size a ≤ S2048.size a := fun v8115 k0_hw603 => k0_hw603.2.2

def k0_off1148 (v8124 : BitVec 32) : Fin 1 → Nat :=
  let c999936_i32_3586 : BitVec 32 := 999936#32
  let v8125 : BitVec 32 := Scalar.subi v8124 c999936_i32_3586
  let c32_i32_3587 : BitVec 32 := 32#32
  let v8126 : BitVec 32 := Scalar.muli v8125 c32_i32_3587
  let v8127 : BitVec 32 := v8126
  ![v8127.toNat]

def k0_chk604 (v8124 : BitVec 32) : Prop :=
  (8 ∣ (k0_mult581 v8124).toNat) ∧
  (∀ a, (k0_off1132 v8124) a + S32.size a ≤ S2048.size a) ∧
  (∀ a, (k0_off1148 v8124) a + S32.size a ≤ S2048.size a)
theorem k0_mult581_dvd : ∀ (v8124 : BitVec 32) (k0_hw604 : k0_chk604 v8124), 8 ∣ (k0_mult581 v8124).toNat := fun v8124 k0_hw604 => k0_hw604.1
theorem k0_off1132_inb : ∀ (v8124 : BitVec 32) (k0_hw604 : k0_chk604 v8124), ∀ a, (k0_off1132 v8124) a + S32.size a ≤ S2048.size a := fun v8124 k0_hw604 => k0_hw604.2.1
theorem k0_off1148_inb : ∀ (v8124 : BitVec 32) (k0_hw604 : k0_chk604 v8124), ∀ a, (k0_off1148 v8124) a + S32.size a ≤ S2048.size a := fun v8124 k0_hw604 => k0_hw604.2.2

def k0_off1149 (v8133 : BitVec 32) : Fin 1 → Nat :=
  let c999936_i32_3590 : BitVec 32 := 999936#32
  let v8134 : BitVec 32 := Scalar.subi v8133 c999936_i32_3590
  let c32_i32_3591 : BitVec 32 := 32#32
  let v8135 : BitVec 32 := Scalar.muli v8134 c32_i32_3591
  let v8136 : BitVec 32 := v8135
  ![v8136.toNat]

def k0_chk605 (v8133 : BitVec 32) : Prop :=
  (8 ∣ (k0_mult582 v8133).toNat) ∧
  (∀ a, (k0_off1133 v8133) a + S32.size a ≤ S2048.size a) ∧
  (∀ a, (k0_off1149 v8133) a + S32.size a ≤ S2048.size a)
theorem k0_mult582_dvd : ∀ (v8133 : BitVec 32) (k0_hw605 : k0_chk605 v8133), 8 ∣ (k0_mult582 v8133).toNat := fun v8133 k0_hw605 => k0_hw605.1
theorem k0_off1133_inb : ∀ (v8133 : BitVec 32) (k0_hw605 : k0_chk605 v8133), ∀ a, (k0_off1133 v8133) a + S32.size a ≤ S2048.size a := fun v8133 k0_hw605 => k0_hw605.2.1
theorem k0_off1149_inb : ∀ (v8133 : BitVec 32) (k0_hw605 : k0_chk605 v8133), ∀ a, (k0_off1149 v8133) a + S32.size a ≤ S2048.size a := fun v8133 k0_hw605 => k0_hw605.2.2

def k0_off1150 (v8142 : BitVec 32) : Fin 1 → Nat :=
  let c999936_i32_3594 : BitVec 32 := 999936#32
  let v8143 : BitVec 32 := Scalar.subi v8142 c999936_i32_3594
  let c32_i32_3595 : BitVec 32 := 32#32
  let v8144 : BitVec 32 := Scalar.muli v8143 c32_i32_3595
  let v8145 : BitVec 32 := v8144
  ![v8145.toNat]

def k0_chk606 (v8142 : BitVec 32) : Prop :=
  (8 ∣ (k0_mult583 v8142).toNat) ∧
  (∀ a, (k0_off1134 v8142) a + S32.size a ≤ S2048.size a) ∧
  (∀ a, (k0_off1150 v8142) a + S32.size a ≤ S2048.size a)
theorem k0_mult583_dvd : ∀ (v8142 : BitVec 32) (k0_hw606 : k0_chk606 v8142), 8 ∣ (k0_mult583 v8142).toNat := fun v8142 k0_hw606 => k0_hw606.1
theorem k0_off1134_inb : ∀ (v8142 : BitVec 32) (k0_hw606 : k0_chk606 v8142), ∀ a, (k0_off1134 v8142) a + S32.size a ≤ S2048.size a := fun v8142 k0_hw606 => k0_hw606.2.1
theorem k0_off1150_inb : ∀ (v8142 : BitVec 32) (k0_hw606 : k0_chk606 v8142), ∀ a, (k0_off1150 v8142) a + S32.size a ≤ S2048.size a := fun v8142 k0_hw606 => k0_hw606.2.2

def k0_off1151 (v8151 : BitVec 32) : Fin 1 → Nat :=
  let c999936_i32_3598 : BitVec 32 := 999936#32
  let v8152 : BitVec 32 := Scalar.subi v8151 c999936_i32_3598
  let c32_i32_3599 : BitVec 32 := 32#32
  let v8153 : BitVec 32 := Scalar.muli v8152 c32_i32_3599
  let v8154 : BitVec 32 := v8153
  ![v8154.toNat]

def k0_chk607 (v8151 : BitVec 32) : Prop :=
  (8 ∣ (k0_mult584 v8151).toNat) ∧
  (∀ a, (k0_off1135 v8151) a + S32.size a ≤ S2048.size a) ∧
  (∀ a, (k0_off1151 v8151) a + S32.size a ≤ S2048.size a)
theorem k0_mult584_dvd : ∀ (v8151 : BitVec 32) (k0_hw607 : k0_chk607 v8151), 8 ∣ (k0_mult584 v8151).toNat := fun v8151 k0_hw607 => k0_hw607.1
theorem k0_off1135_inb : ∀ (v8151 : BitVec 32) (k0_hw607 : k0_chk607 v8151), ∀ a, (k0_off1135 v8151) a + S32.size a ≤ S2048.size a := fun v8151 k0_hw607 => k0_hw607.2.1
theorem k0_off1151_inb : ∀ (v8151 : BitVec 32) (k0_hw607 : k0_chk607 v8151), ∀ a, (k0_off1151 v8151) a + S32.size a ≤ S2048.size a := fun v8151 k0_hw607 => k0_hw607.2.2

def k0_off1152 (v8160 : BitVec 32) : Fin 1 → Nat :=
  let c999936_i32_3602 : BitVec 32 := 999936#32
  let v8161 : BitVec 32 := Scalar.subi v8160 c999936_i32_3602
  let c32_i32_3603 : BitVec 32 := 32#32
  let v8162 : BitVec 32 := Scalar.muli v8161 c32_i32_3603
  let v8163 : BitVec 32 := v8162
  ![v8163.toNat]

def k0_chk608 (v8160 : BitVec 32) : Prop :=
  (8 ∣ (k0_mult585 v8160).toNat) ∧
  (∀ a, (k0_off1136 v8160) a + S32.size a ≤ S2048.size a) ∧
  (∀ a, (k0_off1152 v8160) a + S32.size a ≤ S2048.size a)
theorem k0_mult585_dvd : ∀ (v8160 : BitVec 32) (k0_hw608 : k0_chk608 v8160), 8 ∣ (k0_mult585 v8160).toNat := fun v8160 k0_hw608 => k0_hw608.1
theorem k0_off1136_inb : ∀ (v8160 : BitVec 32) (k0_hw608 : k0_chk608 v8160), ∀ a, (k0_off1136 v8160) a + S32.size a ≤ S2048.size a := fun v8160 k0_hw608 => k0_hw608.2.1
theorem k0_off1152_inb : ∀ (v8160 : BitVec 32) (k0_hw608 : k0_chk608 v8160), ∀ a, (k0_off1152 v8160) a + S32.size a ≤ S2048.size a := fun v8160 k0_hw608 => k0_hw608.2.2

def k0_off1153 (v8169 : BitVec 32) : Fin 1 → Nat :=
  let c999936_i32_3606 : BitVec 32 := 999936#32
  let v8170 : BitVec 32 := Scalar.subi v8169 c999936_i32_3606
  let c32_i32_3607 : BitVec 32 := 32#32
  let v8171 : BitVec 32 := Scalar.muli v8170 c32_i32_3607
  let v8172 : BitVec 32 := v8171
  ![v8172.toNat]

def k0_chk609 (v8169 : BitVec 32) : Prop :=
  (8 ∣ (k0_mult586 v8169).toNat) ∧
  (∀ a, (k0_off1137 v8169) a + S32.size a ≤ S2048.size a) ∧
  (∀ a, (k0_off1153 v8169) a + S32.size a ≤ S2048.size a)
theorem k0_mult586_dvd : ∀ (v8169 : BitVec 32) (k0_hw609 : k0_chk609 v8169), 8 ∣ (k0_mult586 v8169).toNat := fun v8169 k0_hw609 => k0_hw609.1
theorem k0_off1137_inb : ∀ (v8169 : BitVec 32) (k0_hw609 : k0_chk609 v8169), ∀ a, (k0_off1137 v8169) a + S32.size a ≤ S2048.size a := fun v8169 k0_hw609 => k0_hw609.2.1
theorem k0_off1153_inb : ∀ (v8169 : BitVec 32) (k0_hw609 : k0_chk609 v8169), ∀ a, (k0_off1153 v8169) a + S32.size a ≤ S2048.size a := fun v8169 k0_hw609 => k0_hw609.2.2

def k0_off1154 (v8178 : BitVec 32) : Fin 1 → Nat :=
  let c999936_i32_3610 : BitVec 32 := 999936#32
  let v8179 : BitVec 32 := Scalar.subi v8178 c999936_i32_3610
  let c32_i32_3611 : BitVec 32 := 32#32
  let v8180 : BitVec 32 := Scalar.muli v8179 c32_i32_3611
  let v8181 : BitVec 32 := v8180
  ![v8181.toNat]

def k0_chk610 (v8178 : BitVec 32) : Prop :=
  (8 ∣ (k0_mult587 v8178).toNat) ∧
  (∀ a, (k0_off1138 v8178) a + S32.size a ≤ S2048.size a) ∧
  (∀ a, (k0_off1154 v8178) a + S32.size a ≤ S2048.size a)
theorem k0_mult587_dvd : ∀ (v8178 : BitVec 32) (k0_hw610 : k0_chk610 v8178), 8 ∣ (k0_mult587 v8178).toNat := fun v8178 k0_hw610 => k0_hw610.1
theorem k0_off1138_inb : ∀ (v8178 : BitVec 32) (k0_hw610 : k0_chk610 v8178), ∀ a, (k0_off1138 v8178) a + S32.size a ≤ S2048.size a := fun v8178 k0_hw610 => k0_hw610.2.1
theorem k0_off1154_inb : ∀ (v8178 : BitVec 32) (k0_hw610 : k0_chk610 v8178), ∀ a, (k0_off1154 v8178) a + S32.size a ≤ S2048.size a := fun v8178 k0_hw610 => k0_hw610.2.2

def k0_off1155 (v8187 : BitVec 32) : Fin 1 → Nat :=
  let c999936_i32_3614 : BitVec 32 := 999936#32
  let v8188 : BitVec 32 := Scalar.subi v8187 c999936_i32_3614
  let c32_i32_3615 : BitVec 32 := 32#32
  let v8189 : BitVec 32 := Scalar.muli v8188 c32_i32_3615
  let v8190 : BitVec 32 := v8189
  ![v8190.toNat]

def k0_chk611 (v8187 : BitVec 32) : Prop :=
  (8 ∣ (k0_mult588 v8187).toNat) ∧
  (∀ a, (k0_off1139 v8187) a + S32.size a ≤ S2048.size a) ∧
  (∀ a, (k0_off1155 v8187) a + S32.size a ≤ S2048.size a)
theorem k0_mult588_dvd : ∀ (v8187 : BitVec 32) (k0_hw611 : k0_chk611 v8187), 8 ∣ (k0_mult588 v8187).toNat := fun v8187 k0_hw611 => k0_hw611.1
theorem k0_off1139_inb : ∀ (v8187 : BitVec 32) (k0_hw611 : k0_chk611 v8187), ∀ a, (k0_off1139 v8187) a + S32.size a ≤ S2048.size a := fun v8187 k0_hw611 => k0_hw611.2.1
theorem k0_off1155_inb : ∀ (v8187 : BitVec 32) (k0_hw611 : k0_chk611 v8187), ∀ a, (k0_off1155 v8187) a + S32.size a ≤ S2048.size a := fun v8187 k0_hw611 => k0_hw611.2.2

def k0_off1156 (v8196 : BitVec 32) : Fin 1 → Nat :=
  let c999936_i32_3618 : BitVec 32 := 999936#32
  let v8197 : BitVec 32 := Scalar.subi v8196 c999936_i32_3618
  let c32_i32_3619 : BitVec 32 := 32#32
  let v8198 : BitVec 32 := Scalar.muli v8197 c32_i32_3619
  let v8199 : BitVec 32 := v8198
  ![v8199.toNat]

def k0_chk612 (v8196 : BitVec 32) : Prop :=
  (8 ∣ (k0_mult589 v8196).toNat) ∧
  (∀ a, (k0_off1140 v8196) a + S32.size a ≤ S2048.size a) ∧
  (∀ a, (k0_off1156 v8196) a + S32.size a ≤ S2048.size a)
theorem k0_mult589_dvd : ∀ (v8196 : BitVec 32) (k0_hw612 : k0_chk612 v8196), 8 ∣ (k0_mult589 v8196).toNat := fun v8196 k0_hw612 => k0_hw612.1
theorem k0_off1140_inb : ∀ (v8196 : BitVec 32) (k0_hw612 : k0_chk612 v8196), ∀ a, (k0_off1140 v8196) a + S32.size a ≤ S2048.size a := fun v8196 k0_hw612 => k0_hw612.2.1
theorem k0_off1156_inb : ∀ (v8196 : BitVec 32) (k0_hw612 : k0_chk612 v8196), ∀ a, (k0_off1156 v8196) a + S32.size a ≤ S2048.size a := fun v8196 k0_hw612 => k0_hw612.2.2

def k0_off1157 (v8205 : BitVec 32) : Fin 1 → Nat :=
  let c999936_i32_3622 : BitVec 32 := 999936#32
  let v8206 : BitVec 32 := Scalar.subi v8205 c999936_i32_3622
  let c32_i32_3623 : BitVec 32 := 32#32
  let v8207 : BitVec 32 := Scalar.muli v8206 c32_i32_3623
  let v8208 : BitVec 32 := v8207
  ![v8208.toNat]

def k0_chk613 (v8205 : BitVec 32) : Prop :=
  (8 ∣ (k0_mult590 v8205).toNat) ∧
  (∀ a, (k0_off1141 v8205) a + S32.size a ≤ S2048.size a) ∧
  (∀ a, (k0_off1157 v8205) a + S32.size a ≤ S2048.size a)
theorem k0_mult590_dvd : ∀ (v8205 : BitVec 32) (k0_hw613 : k0_chk613 v8205), 8 ∣ (k0_mult590 v8205).toNat := fun v8205 k0_hw613 => k0_hw613.1
theorem k0_off1141_inb : ∀ (v8205 : BitVec 32) (k0_hw613 : k0_chk613 v8205), ∀ a, (k0_off1141 v8205) a + S32.size a ≤ S2048.size a := fun v8205 k0_hw613 => k0_hw613.2.1
theorem k0_off1157_inb : ∀ (v8205 : BitVec 32) (k0_hw613 : k0_chk613 v8205), ∀ a, (k0_off1157 v8205) a + S32.size a ≤ S2048.size a := fun v8205 k0_hw613 => k0_hw613.2.2

def k0_off1158 (v8214 : BitVec 32) : Fin 1 → Nat :=
  let c999936_i32_3626 : BitVec 32 := 999936#32
  let v8215 : BitVec 32 := Scalar.subi v8214 c999936_i32_3626
  let c32_i32_3627 : BitVec 32 := 32#32
  let v8216 : BitVec 32 := Scalar.muli v8215 c32_i32_3627
  let v8217 : BitVec 32 := v8216
  ![v8217.toNat]

def k0_chk614 (v8214 : BitVec 32) : Prop :=
  (8 ∣ (k0_mult591 v8214).toNat) ∧
  (∀ a, (k0_off1142 v8214) a + S32.size a ≤ S2048.size a) ∧
  (∀ a, (k0_off1158 v8214) a + S32.size a ≤ S2048.size a)
theorem k0_mult591_dvd : ∀ (v8214 : BitVec 32) (k0_hw614 : k0_chk614 v8214), 8 ∣ (k0_mult591 v8214).toNat := fun v8214 k0_hw614 => k0_hw614.1
theorem k0_off1142_inb : ∀ (v8214 : BitVec 32) (k0_hw614 : k0_chk614 v8214), ∀ a, (k0_off1142 v8214) a + S32.size a ≤ S2048.size a := fun v8214 k0_hw614 => k0_hw614.2.1
theorem k0_off1158_inb : ∀ (v8214 : BitVec 32) (k0_hw614 : k0_chk614 v8214), ∀ a, (k0_off1158 v8214) a + S32.size a ≤ S2048.size a := fun v8214 k0_hw614 => k0_hw614.2.2

def k0_off1159 (v8223 : BitVec 32) : Fin 1 → Nat :=
  let c999936_i32_3630 : BitVec 32 := 999936#32
  let v8224 : BitVec 32 := Scalar.subi v8223 c999936_i32_3630
  let c32_i32_3631 : BitVec 32 := 32#32
  let v8225 : BitVec 32 := Scalar.muli v8224 c32_i32_3631
  let v8226 : BitVec 32 := v8225
  ![v8226.toNat]

def k0_chk615 (v8223 : BitVec 32) : Prop :=
  (8 ∣ (k0_mult592 v8223).toNat) ∧
  (∀ a, (k0_off1143 v8223) a + S32.size a ≤ S2048.size a) ∧
  (∀ a, (k0_off1159 v8223) a + S32.size a ≤ S2048.size a)
theorem k0_mult592_dvd : ∀ (v8223 : BitVec 32) (k0_hw615 : k0_chk615 v8223), 8 ∣ (k0_mult592 v8223).toNat := fun v8223 k0_hw615 => k0_hw615.1
theorem k0_off1143_inb : ∀ (v8223 : BitVec 32) (k0_hw615 : k0_chk615 v8223), ∀ a, (k0_off1143 v8223) a + S32.size a ≤ S2048.size a := fun v8223 k0_hw615 => k0_hw615.2.1
theorem k0_off1159_inb : ∀ (v8223 : BitVec 32) (k0_hw615 : k0_chk615 v8223), ∀ a, (k0_off1159 v8223) a + S32.size a ≤ S2048.size a := fun v8223 k0_hw615 => k0_hw615.2.2

def k0_mult594 (v8305 : BitVec 32) : BitVec 32 :=
  let c1703936_i32_3671 : BitVec 32 := 1703936#32
  let c32_i32_3670 : BitVec 32 := 32#32
  let v8306 : BitVec 32 := Scalar.muli v8305 c32_i32_3670
  let v8307 : BitVec 32 := Scalar.addi c1703936_i32_3671 v8306
  v8307

def k0_off1160 (v8305 : BitVec 32) : Fin 1 → Nat :=
  let c1703936_i32_3671 : BitVec 32 := 1703936#32
  let c32_i32_3670 : BitVec 32 := 32#32
  let v8306 : BitVec 32 := Scalar.muli v8305 c32_i32_3670
  let v8307 : BitVec 32 := Scalar.addi c1703936_i32_3671 v8306
  let v8308 : BitVec 32 := v8307
  ![v8308.toNat]
def k0_mult595 (v8314 : BitVec 32) : BitVec 32 :=
  let c1703936_i32_3675 : BitVec 32 := 1703936#32
  let c32_i32_3674 : BitVec 32 := 32#32
  let v8315 : BitVec 32 := Scalar.muli v8314 c32_i32_3674
  let v8316 : BitVec 32 := Scalar.addi c1703936_i32_3675 v8315
  v8316

def k0_off1161 (v8314 : BitVec 32) : Fin 1 → Nat :=
  let c1703936_i32_3675 : BitVec 32 := 1703936#32
  let c32_i32_3674 : BitVec 32 := 32#32
  let v8315 : BitVec 32 := Scalar.muli v8314 c32_i32_3674
  let v8316 : BitVec 32 := Scalar.addi c1703936_i32_3675 v8315
  let v8317 : BitVec 32 := v8316
  ![v8317.toNat]
def k0_mult596 (v8323 : BitVec 32) : BitVec 32 :=
  let c1703936_i32_3679 : BitVec 32 := 1703936#32
  let c32_i32_3678 : BitVec 32 := 32#32
  let v8324 : BitVec 32 := Scalar.muli v8323 c32_i32_3678
  let v8325 : BitVec 32 := Scalar.addi c1703936_i32_3679 v8324
  v8325

def k0_off1162 (v8323 : BitVec 32) : Fin 1 → Nat :=
  let c1703936_i32_3679 : BitVec 32 := 1703936#32
  let c32_i32_3678 : BitVec 32 := 32#32
  let v8324 : BitVec 32 := Scalar.muli v8323 c32_i32_3678
  let v8325 : BitVec 32 := Scalar.addi c1703936_i32_3679 v8324
  let v8326 : BitVec 32 := v8325
  ![v8326.toNat]
def k0_mult597 (v8332 : BitVec 32) : BitVec 32 :=
  let c1703936_i32_3683 : BitVec 32 := 1703936#32
  let c32_i32_3682 : BitVec 32 := 32#32
  let v8333 : BitVec 32 := Scalar.muli v8332 c32_i32_3682
  let v8334 : BitVec 32 := Scalar.addi c1703936_i32_3683 v8333
  v8334

def k0_off1163 (v8332 : BitVec 32) : Fin 1 → Nat :=
  let c1703936_i32_3683 : BitVec 32 := 1703936#32
  let c32_i32_3682 : BitVec 32 := 32#32
  let v8333 : BitVec 32 := Scalar.muli v8332 c32_i32_3682
  let v8334 : BitVec 32 := Scalar.addi c1703936_i32_3683 v8333
  let v8335 : BitVec 32 := v8334
  ![v8335.toNat]
def k0_mult598 (v8341 : BitVec 32) : BitVec 32 :=
  let c1703936_i32_3687 : BitVec 32 := 1703936#32
  let c32_i32_3686 : BitVec 32 := 32#32
  let v8342 : BitVec 32 := Scalar.muli v8341 c32_i32_3686
  let v8343 : BitVec 32 := Scalar.addi c1703936_i32_3687 v8342
  v8343

def k0_off1164 (v8341 : BitVec 32) : Fin 1 → Nat :=
  let c1703936_i32_3687 : BitVec 32 := 1703936#32
  let c32_i32_3686 : BitVec 32 := 32#32
  let v8342 : BitVec 32 := Scalar.muli v8341 c32_i32_3686
  let v8343 : BitVec 32 := Scalar.addi c1703936_i32_3687 v8342
  let v8344 : BitVec 32 := v8343
  ![v8344.toNat]
def k0_mult599 (v8350 : BitVec 32) : BitVec 32 :=
  let c1703936_i32_3691 : BitVec 32 := 1703936#32
  let c32_i32_3690 : BitVec 32 := 32#32
  let v8351 : BitVec 32 := Scalar.muli v8350 c32_i32_3690
  let v8352 : BitVec 32 := Scalar.addi c1703936_i32_3691 v8351
  v8352

def k0_off1165 (v8350 : BitVec 32) : Fin 1 → Nat :=
  let c1703936_i32_3691 : BitVec 32 := 1703936#32
  let c32_i32_3690 : BitVec 32 := 32#32
  let v8351 : BitVec 32 := Scalar.muli v8350 c32_i32_3690
  let v8352 : BitVec 32 := Scalar.addi c1703936_i32_3691 v8351
  let v8353 : BitVec 32 := v8352
  ![v8353.toNat]
def k0_mult600 (v8359 : BitVec 32) : BitVec 32 :=
  let c1703936_i32_3695 : BitVec 32 := 1703936#32
  let c32_i32_3694 : BitVec 32 := 32#32
  let v8360 : BitVec 32 := Scalar.muli v8359 c32_i32_3694
  let v8361 : BitVec 32 := Scalar.addi c1703936_i32_3695 v8360
  v8361

def k0_off1166 (v8359 : BitVec 32) : Fin 1 → Nat :=
  let c1703936_i32_3695 : BitVec 32 := 1703936#32
  let c32_i32_3694 : BitVec 32 := 32#32
  let v8360 : BitVec 32 := Scalar.muli v8359 c32_i32_3694
  let v8361 : BitVec 32 := Scalar.addi c1703936_i32_3695 v8360
  let v8362 : BitVec 32 := v8361
  ![v8362.toNat]
def k0_mult601 (v8368 : BitVec 32) : BitVec 32 :=
  let c1703936_i32_3699 : BitVec 32 := 1703936#32
  let c32_i32_3698 : BitVec 32 := 32#32
  let v8369 : BitVec 32 := Scalar.muli v8368 c32_i32_3698
  let v8370 : BitVec 32 := Scalar.addi c1703936_i32_3699 v8369
  v8370

def k0_off1167 (v8368 : BitVec 32) : Fin 1 → Nat :=
  let c1703936_i32_3699 : BitVec 32 := 1703936#32
  let c32_i32_3698 : BitVec 32 := 32#32
  let v8369 : BitVec 32 := Scalar.muli v8368 c32_i32_3698
  let v8370 : BitVec 32 := Scalar.addi c1703936_i32_3699 v8369
  let v8371 : BitVec 32 := v8370
  ![v8371.toNat]
def k0_mult602 (v8377 : BitVec 32) : BitVec 32 :=
  let c1703936_i32_3703 : BitVec 32 := 1703936#32
  let c32_i32_3702 : BitVec 32 := 32#32
  let v8378 : BitVec 32 := Scalar.muli v8377 c32_i32_3702
  let v8379 : BitVec 32 := Scalar.addi c1703936_i32_3703 v8378
  v8379

def k0_off1168 (v8377 : BitVec 32) : Fin 1 → Nat :=
  let c1703936_i32_3703 : BitVec 32 := 1703936#32
  let c32_i32_3702 : BitVec 32 := 32#32
  let v8378 : BitVec 32 := Scalar.muli v8377 c32_i32_3702
  let v8379 : BitVec 32 := Scalar.addi c1703936_i32_3703 v8378
  let v8380 : BitVec 32 := v8379
  ![v8380.toNat]
def k0_mult603 (v8386 : BitVec 32) : BitVec 32 :=
  let c1703936_i32_3707 : BitVec 32 := 1703936#32
  let c32_i32_3706 : BitVec 32 := 32#32
  let v8387 : BitVec 32 := Scalar.muli v8386 c32_i32_3706
  let v8388 : BitVec 32 := Scalar.addi c1703936_i32_3707 v8387
  v8388

def k0_off1169 (v8386 : BitVec 32) : Fin 1 → Nat :=
  let c1703936_i32_3707 : BitVec 32 := 1703936#32
  let c32_i32_3706 : BitVec 32 := 32#32
  let v8387 : BitVec 32 := Scalar.muli v8386 c32_i32_3706
  let v8388 : BitVec 32 := Scalar.addi c1703936_i32_3707 v8387
  let v8389 : BitVec 32 := v8388
  ![v8389.toNat]
def k0_mult604 (v8395 : BitVec 32) : BitVec 32 :=
  let c1703936_i32_3711 : BitVec 32 := 1703936#32
  let c32_i32_3710 : BitVec 32 := 32#32
  let v8396 : BitVec 32 := Scalar.muli v8395 c32_i32_3710
  let v8397 : BitVec 32 := Scalar.addi c1703936_i32_3711 v8396
  v8397

def k0_off1170 (v8395 : BitVec 32) : Fin 1 → Nat :=
  let c1703936_i32_3711 : BitVec 32 := 1703936#32
  let c32_i32_3710 : BitVec 32 := 32#32
  let v8396 : BitVec 32 := Scalar.muli v8395 c32_i32_3710
  let v8397 : BitVec 32 := Scalar.addi c1703936_i32_3711 v8396
  let v8398 : BitVec 32 := v8397
  ![v8398.toNat]
def k0_mult605 (v8404 : BitVec 32) : BitVec 32 :=
  let c1703936_i32_3715 : BitVec 32 := 1703936#32
  let c32_i32_3714 : BitVec 32 := 32#32
  let v8405 : BitVec 32 := Scalar.muli v8404 c32_i32_3714
  let v8406 : BitVec 32 := Scalar.addi c1703936_i32_3715 v8405
  v8406

def k0_off1171 (v8404 : BitVec 32) : Fin 1 → Nat :=
  let c1703936_i32_3715 : BitVec 32 := 1703936#32
  let c32_i32_3714 : BitVec 32 := 32#32
  let v8405 : BitVec 32 := Scalar.muli v8404 c32_i32_3714
  let v8406 : BitVec 32 := Scalar.addi c1703936_i32_3715 v8405
  let v8407 : BitVec 32 := v8406
  ![v8407.toNat]
def k0_mult606 (v8413 : BitVec 32) : BitVec 32 :=
  let c1703936_i32_3719 : BitVec 32 := 1703936#32
  let c32_i32_3718 : BitVec 32 := 32#32
  let v8414 : BitVec 32 := Scalar.muli v8413 c32_i32_3718
  let v8415 : BitVec 32 := Scalar.addi c1703936_i32_3719 v8414
  v8415

def k0_off1172 (v8413 : BitVec 32) : Fin 1 → Nat :=
  let c1703936_i32_3719 : BitVec 32 := 1703936#32
  let c32_i32_3718 : BitVec 32 := 32#32
  let v8414 : BitVec 32 := Scalar.muli v8413 c32_i32_3718
  let v8415 : BitVec 32 := Scalar.addi c1703936_i32_3719 v8414
  let v8416 : BitVec 32 := v8415
  ![v8416.toNat]
def k0_mult607 (v8422 : BitVec 32) : BitVec 32 :=
  let c1703936_i32_3723 : BitVec 32 := 1703936#32
  let c32_i32_3722 : BitVec 32 := 32#32
  let v8423 : BitVec 32 := Scalar.muli v8422 c32_i32_3722
  let v8424 : BitVec 32 := Scalar.addi c1703936_i32_3723 v8423
  v8424

def k0_off1173 (v8422 : BitVec 32) : Fin 1 → Nat :=
  let c1703936_i32_3723 : BitVec 32 := 1703936#32
  let c32_i32_3722 : BitVec 32 := 32#32
  let v8423 : BitVec 32 := Scalar.muli v8422 c32_i32_3722
  let v8424 : BitVec 32 := Scalar.addi c1703936_i32_3723 v8423
  let v8425 : BitVec 32 := v8424
  ![v8425.toNat]
def k0_mult608 (v8431 : BitVec 32) : BitVec 32 :=
  let c1703936_i32_3727 : BitVec 32 := 1703936#32
  let c32_i32_3726 : BitVec 32 := 32#32
  let v8432 : BitVec 32 := Scalar.muli v8431 c32_i32_3726
  let v8433 : BitVec 32 := Scalar.addi c1703936_i32_3727 v8432
  v8433

def k0_off1174 (v8431 : BitVec 32) : Fin 1 → Nat :=
  let c1703936_i32_3727 : BitVec 32 := 1703936#32
  let c32_i32_3726 : BitVec 32 := 32#32
  let v8432 : BitVec 32 := Scalar.muli v8431 c32_i32_3726
  let v8433 : BitVec 32 := Scalar.addi c1703936_i32_3727 v8432
  let v8434 : BitVec 32 := v8433
  ![v8434.toNat]
def k0_mult609 (v8440 : BitVec 32) : BitVec 32 :=
  let c1703936_i32_3731 : BitVec 32 := 1703936#32
  let c32_i32_3730 : BitVec 32 := 32#32
  let v8441 : BitVec 32 := Scalar.muli v8440 c32_i32_3730
  let v8442 : BitVec 32 := Scalar.addi c1703936_i32_3731 v8441
  v8442

def k0_off1175 (v8440 : BitVec 32) : Fin 1 → Nat :=
  let c1703936_i32_3731 : BitVec 32 := 1703936#32
  let c32_i32_3730 : BitVec 32 := 32#32
  let v8441 : BitVec 32 := Scalar.muli v8440 c32_i32_3730
  let v8442 : BitVec 32 := Scalar.addi c1703936_i32_3731 v8441
  let v8443 : BitVec 32 := v8442
  ![v8443.toNat]

def k0_chk632 (v8440 : BitVec 32) : Prop :=
  (8 ∣ (k0_mult609 v8440).toNat) ∧
  (∀ a, (k0_off1175 v8440) a + S32.size a ≤ S3407872.size a)
theorem k0_mult609_dvd : ∀ (v8440 : BitVec 32) (k0_hw632 : k0_chk632 v8440), 8 ∣ (k0_mult609 v8440).toNat := fun v8440 k0_hw632 => k0_hw632.1
theorem k0_off1175_inb : ∀ (v8440 : BitVec 32) (k0_hw632 : k0_chk632 v8440), ∀ a, (k0_off1175 v8440) a + S32.size a ≤ S3407872.size a := fun v8440 k0_hw632 => k0_hw632.2

def k0_off1176 (v8305 : BitVec 32) : Fin 1 → Nat :=
  let c1703936_i32_3671 : BitVec 32 := 1703936#32
  let c32_i32_3670 : BitVec 32 := 32#32
  let v8306 : BitVec 32 := Scalar.muli v8305 c32_i32_3670
  let v8307 : BitVec 32 := Scalar.addi c1703936_i32_3671 v8306
  let v8308 : BitVec 32 := v8307
  ![v8308.toNat]

def k0_chk617 (v8305 : BitVec 32) : Prop :=
  (8 ∣ (k0_mult594 v8305).toNat) ∧
  (∀ a, (k0_off1160 v8305) a + S32.size a ≤ S3407872.size a) ∧
  (∀ a, (k0_off1176 v8305) a + S32.size a ≤ S3407872.size a)
theorem k0_mult594_dvd : ∀ (v8305 : BitVec 32) (k0_hw617 : k0_chk617 v8305), 8 ∣ (k0_mult594 v8305).toNat := fun v8305 k0_hw617 => k0_hw617.1
theorem k0_off1160_inb : ∀ (v8305 : BitVec 32) (k0_hw617 : k0_chk617 v8305), ∀ a, (k0_off1160 v8305) a + S32.size a ≤ S3407872.size a := fun v8305 k0_hw617 => k0_hw617.2.1
theorem k0_off1176_inb : ∀ (v8305 : BitVec 32) (k0_hw617 : k0_chk617 v8305), ∀ a, (k0_off1176 v8305) a + S32.size a ≤ S3407872.size a := fun v8305 k0_hw617 => k0_hw617.2.2

def k0_off1177 (v8314 : BitVec 32) : Fin 1 → Nat :=
  let c1703936_i32_3675 : BitVec 32 := 1703936#32
  let c32_i32_3674 : BitVec 32 := 32#32
  let v8315 : BitVec 32 := Scalar.muli v8314 c32_i32_3674
  let v8316 : BitVec 32 := Scalar.addi c1703936_i32_3675 v8315
  let v8317 : BitVec 32 := v8316
  ![v8317.toNat]

def k0_chk618 (v8314 : BitVec 32) : Prop :=
  (8 ∣ (k0_mult595 v8314).toNat) ∧
  (∀ a, (k0_off1161 v8314) a + S32.size a ≤ S3407872.size a) ∧
  (∀ a, (k0_off1177 v8314) a + S32.size a ≤ S3407872.size a)
theorem k0_mult595_dvd : ∀ (v8314 : BitVec 32) (k0_hw618 : k0_chk618 v8314), 8 ∣ (k0_mult595 v8314).toNat := fun v8314 k0_hw618 => k0_hw618.1
theorem k0_off1161_inb : ∀ (v8314 : BitVec 32) (k0_hw618 : k0_chk618 v8314), ∀ a, (k0_off1161 v8314) a + S32.size a ≤ S3407872.size a := fun v8314 k0_hw618 => k0_hw618.2.1
theorem k0_off1177_inb : ∀ (v8314 : BitVec 32) (k0_hw618 : k0_chk618 v8314), ∀ a, (k0_off1177 v8314) a + S32.size a ≤ S3407872.size a := fun v8314 k0_hw618 => k0_hw618.2.2

def k0_off1178 (v8323 : BitVec 32) : Fin 1 → Nat :=
  let c1703936_i32_3679 : BitVec 32 := 1703936#32
  let c32_i32_3678 : BitVec 32 := 32#32
  let v8324 : BitVec 32 := Scalar.muli v8323 c32_i32_3678
  let v8325 : BitVec 32 := Scalar.addi c1703936_i32_3679 v8324
  let v8326 : BitVec 32 := v8325
  ![v8326.toNat]

def k0_chk619 (v8323 : BitVec 32) : Prop :=
  (8 ∣ (k0_mult596 v8323).toNat) ∧
  (∀ a, (k0_off1162 v8323) a + S32.size a ≤ S3407872.size a) ∧
  (∀ a, (k0_off1178 v8323) a + S32.size a ≤ S3407872.size a)
theorem k0_mult596_dvd : ∀ (v8323 : BitVec 32) (k0_hw619 : k0_chk619 v8323), 8 ∣ (k0_mult596 v8323).toNat := fun v8323 k0_hw619 => k0_hw619.1
theorem k0_off1162_inb : ∀ (v8323 : BitVec 32) (k0_hw619 : k0_chk619 v8323), ∀ a, (k0_off1162 v8323) a + S32.size a ≤ S3407872.size a := fun v8323 k0_hw619 => k0_hw619.2.1
theorem k0_off1178_inb : ∀ (v8323 : BitVec 32) (k0_hw619 : k0_chk619 v8323), ∀ a, (k0_off1178 v8323) a + S32.size a ≤ S3407872.size a := fun v8323 k0_hw619 => k0_hw619.2.2

def k0_off1179 (v8332 : BitVec 32) : Fin 1 → Nat :=
  let c1703936_i32_3683 : BitVec 32 := 1703936#32
  let c32_i32_3682 : BitVec 32 := 32#32
  let v8333 : BitVec 32 := Scalar.muli v8332 c32_i32_3682
  let v8334 : BitVec 32 := Scalar.addi c1703936_i32_3683 v8333
  let v8335 : BitVec 32 := v8334
  ![v8335.toNat]

def k0_chk620 (v8332 : BitVec 32) : Prop :=
  (8 ∣ (k0_mult597 v8332).toNat) ∧
  (∀ a, (k0_off1163 v8332) a + S32.size a ≤ S3407872.size a) ∧
  (∀ a, (k0_off1179 v8332) a + S32.size a ≤ S3407872.size a)
theorem k0_mult597_dvd : ∀ (v8332 : BitVec 32) (k0_hw620 : k0_chk620 v8332), 8 ∣ (k0_mult597 v8332).toNat := fun v8332 k0_hw620 => k0_hw620.1
theorem k0_off1163_inb : ∀ (v8332 : BitVec 32) (k0_hw620 : k0_chk620 v8332), ∀ a, (k0_off1163 v8332) a + S32.size a ≤ S3407872.size a := fun v8332 k0_hw620 => k0_hw620.2.1
theorem k0_off1179_inb : ∀ (v8332 : BitVec 32) (k0_hw620 : k0_chk620 v8332), ∀ a, (k0_off1179 v8332) a + S32.size a ≤ S3407872.size a := fun v8332 k0_hw620 => k0_hw620.2.2

def k0_off1180 (v8341 : BitVec 32) : Fin 1 → Nat :=
  let c1703936_i32_3687 : BitVec 32 := 1703936#32
  let c32_i32_3686 : BitVec 32 := 32#32
  let v8342 : BitVec 32 := Scalar.muli v8341 c32_i32_3686
  let v8343 : BitVec 32 := Scalar.addi c1703936_i32_3687 v8342
  let v8344 : BitVec 32 := v8343
  ![v8344.toNat]

def k0_chk621 (v8341 : BitVec 32) : Prop :=
  (8 ∣ (k0_mult598 v8341).toNat) ∧
  (∀ a, (k0_off1164 v8341) a + S32.size a ≤ S3407872.size a) ∧
  (∀ a, (k0_off1180 v8341) a + S32.size a ≤ S3407872.size a)
theorem k0_mult598_dvd : ∀ (v8341 : BitVec 32) (k0_hw621 : k0_chk621 v8341), 8 ∣ (k0_mult598 v8341).toNat := fun v8341 k0_hw621 => k0_hw621.1
theorem k0_off1164_inb : ∀ (v8341 : BitVec 32) (k0_hw621 : k0_chk621 v8341), ∀ a, (k0_off1164 v8341) a + S32.size a ≤ S3407872.size a := fun v8341 k0_hw621 => k0_hw621.2.1
theorem k0_off1180_inb : ∀ (v8341 : BitVec 32) (k0_hw621 : k0_chk621 v8341), ∀ a, (k0_off1180 v8341) a + S32.size a ≤ S3407872.size a := fun v8341 k0_hw621 => k0_hw621.2.2

def k0_off1181 (v8350 : BitVec 32) : Fin 1 → Nat :=
  let c1703936_i32_3691 : BitVec 32 := 1703936#32
  let c32_i32_3690 : BitVec 32 := 32#32
  let v8351 : BitVec 32 := Scalar.muli v8350 c32_i32_3690
  let v8352 : BitVec 32 := Scalar.addi c1703936_i32_3691 v8351
  let v8353 : BitVec 32 := v8352
  ![v8353.toNat]

def k0_chk622 (v8350 : BitVec 32) : Prop :=
  (8 ∣ (k0_mult599 v8350).toNat) ∧
  (∀ a, (k0_off1165 v8350) a + S32.size a ≤ S3407872.size a) ∧
  (∀ a, (k0_off1181 v8350) a + S32.size a ≤ S3407872.size a)
theorem k0_mult599_dvd : ∀ (v8350 : BitVec 32) (k0_hw622 : k0_chk622 v8350), 8 ∣ (k0_mult599 v8350).toNat := fun v8350 k0_hw622 => k0_hw622.1
theorem k0_off1165_inb : ∀ (v8350 : BitVec 32) (k0_hw622 : k0_chk622 v8350), ∀ a, (k0_off1165 v8350) a + S32.size a ≤ S3407872.size a := fun v8350 k0_hw622 => k0_hw622.2.1
theorem k0_off1181_inb : ∀ (v8350 : BitVec 32) (k0_hw622 : k0_chk622 v8350), ∀ a, (k0_off1181 v8350) a + S32.size a ≤ S3407872.size a := fun v8350 k0_hw622 => k0_hw622.2.2

def k0_off1182 (v8359 : BitVec 32) : Fin 1 → Nat :=
  let c1703936_i32_3695 : BitVec 32 := 1703936#32
  let c32_i32_3694 : BitVec 32 := 32#32
  let v8360 : BitVec 32 := Scalar.muli v8359 c32_i32_3694
  let v8361 : BitVec 32 := Scalar.addi c1703936_i32_3695 v8360
  let v8362 : BitVec 32 := v8361
  ![v8362.toNat]

def k0_chk623 (v8359 : BitVec 32) : Prop :=
  (8 ∣ (k0_mult600 v8359).toNat) ∧
  (∀ a, (k0_off1166 v8359) a + S32.size a ≤ S3407872.size a) ∧
  (∀ a, (k0_off1182 v8359) a + S32.size a ≤ S3407872.size a)
theorem k0_mult600_dvd : ∀ (v8359 : BitVec 32) (k0_hw623 : k0_chk623 v8359), 8 ∣ (k0_mult600 v8359).toNat := fun v8359 k0_hw623 => k0_hw623.1
theorem k0_off1166_inb : ∀ (v8359 : BitVec 32) (k0_hw623 : k0_chk623 v8359), ∀ a, (k0_off1166 v8359) a + S32.size a ≤ S3407872.size a := fun v8359 k0_hw623 => k0_hw623.2.1
theorem k0_off1182_inb : ∀ (v8359 : BitVec 32) (k0_hw623 : k0_chk623 v8359), ∀ a, (k0_off1182 v8359) a + S32.size a ≤ S3407872.size a := fun v8359 k0_hw623 => k0_hw623.2.2

def k0_off1183 (v8368 : BitVec 32) : Fin 1 → Nat :=
  let c1703936_i32_3699 : BitVec 32 := 1703936#32
  let c32_i32_3698 : BitVec 32 := 32#32
  let v8369 : BitVec 32 := Scalar.muli v8368 c32_i32_3698
  let v8370 : BitVec 32 := Scalar.addi c1703936_i32_3699 v8369
  let v8371 : BitVec 32 := v8370
  ![v8371.toNat]

def k0_chk624 (v8368 : BitVec 32) : Prop :=
  (8 ∣ (k0_mult601 v8368).toNat) ∧
  (∀ a, (k0_off1167 v8368) a + S32.size a ≤ S3407872.size a) ∧
  (∀ a, (k0_off1183 v8368) a + S32.size a ≤ S3407872.size a)
theorem k0_mult601_dvd : ∀ (v8368 : BitVec 32) (k0_hw624 : k0_chk624 v8368), 8 ∣ (k0_mult601 v8368).toNat := fun v8368 k0_hw624 => k0_hw624.1
theorem k0_off1167_inb : ∀ (v8368 : BitVec 32) (k0_hw624 : k0_chk624 v8368), ∀ a, (k0_off1167 v8368) a + S32.size a ≤ S3407872.size a := fun v8368 k0_hw624 => k0_hw624.2.1
theorem k0_off1183_inb : ∀ (v8368 : BitVec 32) (k0_hw624 : k0_chk624 v8368), ∀ a, (k0_off1183 v8368) a + S32.size a ≤ S3407872.size a := fun v8368 k0_hw624 => k0_hw624.2.2

def k0_off1184 (v8377 : BitVec 32) : Fin 1 → Nat :=
  let c1703936_i32_3703 : BitVec 32 := 1703936#32
  let c32_i32_3702 : BitVec 32 := 32#32
  let v8378 : BitVec 32 := Scalar.muli v8377 c32_i32_3702
  let v8379 : BitVec 32 := Scalar.addi c1703936_i32_3703 v8378
  let v8380 : BitVec 32 := v8379
  ![v8380.toNat]

def k0_chk625 (v8377 : BitVec 32) : Prop :=
  (8 ∣ (k0_mult602 v8377).toNat) ∧
  (∀ a, (k0_off1168 v8377) a + S32.size a ≤ S3407872.size a) ∧
  (∀ a, (k0_off1184 v8377) a + S32.size a ≤ S3407872.size a)
theorem k0_mult602_dvd : ∀ (v8377 : BitVec 32) (k0_hw625 : k0_chk625 v8377), 8 ∣ (k0_mult602 v8377).toNat := fun v8377 k0_hw625 => k0_hw625.1
theorem k0_off1168_inb : ∀ (v8377 : BitVec 32) (k0_hw625 : k0_chk625 v8377), ∀ a, (k0_off1168 v8377) a + S32.size a ≤ S3407872.size a := fun v8377 k0_hw625 => k0_hw625.2.1
theorem k0_off1184_inb : ∀ (v8377 : BitVec 32) (k0_hw625 : k0_chk625 v8377), ∀ a, (k0_off1184 v8377) a + S32.size a ≤ S3407872.size a := fun v8377 k0_hw625 => k0_hw625.2.2

def k0_off1185 (v8386 : BitVec 32) : Fin 1 → Nat :=
  let c1703936_i32_3707 : BitVec 32 := 1703936#32
  let c32_i32_3706 : BitVec 32 := 32#32
  let v8387 : BitVec 32 := Scalar.muli v8386 c32_i32_3706
  let v8388 : BitVec 32 := Scalar.addi c1703936_i32_3707 v8387
  let v8389 : BitVec 32 := v8388
  ![v8389.toNat]

def k0_chk626 (v8386 : BitVec 32) : Prop :=
  (8 ∣ (k0_mult603 v8386).toNat) ∧
  (∀ a, (k0_off1169 v8386) a + S32.size a ≤ S3407872.size a) ∧
  (∀ a, (k0_off1185 v8386) a + S32.size a ≤ S3407872.size a)
theorem k0_mult603_dvd : ∀ (v8386 : BitVec 32) (k0_hw626 : k0_chk626 v8386), 8 ∣ (k0_mult603 v8386).toNat := fun v8386 k0_hw626 => k0_hw626.1
theorem k0_off1169_inb : ∀ (v8386 : BitVec 32) (k0_hw626 : k0_chk626 v8386), ∀ a, (k0_off1169 v8386) a + S32.size a ≤ S3407872.size a := fun v8386 k0_hw626 => k0_hw626.2.1
theorem k0_off1185_inb : ∀ (v8386 : BitVec 32) (k0_hw626 : k0_chk626 v8386), ∀ a, (k0_off1185 v8386) a + S32.size a ≤ S3407872.size a := fun v8386 k0_hw626 => k0_hw626.2.2

def k0_off1186 (v8395 : BitVec 32) : Fin 1 → Nat :=
  let c1703936_i32_3711 : BitVec 32 := 1703936#32
  let c32_i32_3710 : BitVec 32 := 32#32
  let v8396 : BitVec 32 := Scalar.muli v8395 c32_i32_3710
  let v8397 : BitVec 32 := Scalar.addi c1703936_i32_3711 v8396
  let v8398 : BitVec 32 := v8397
  ![v8398.toNat]

def k0_chk627 (v8395 : BitVec 32) : Prop :=
  (8 ∣ (k0_mult604 v8395).toNat) ∧
  (∀ a, (k0_off1170 v8395) a + S32.size a ≤ S3407872.size a) ∧
  (∀ a, (k0_off1186 v8395) a + S32.size a ≤ S3407872.size a)
theorem k0_mult604_dvd : ∀ (v8395 : BitVec 32) (k0_hw627 : k0_chk627 v8395), 8 ∣ (k0_mult604 v8395).toNat := fun v8395 k0_hw627 => k0_hw627.1
theorem k0_off1170_inb : ∀ (v8395 : BitVec 32) (k0_hw627 : k0_chk627 v8395), ∀ a, (k0_off1170 v8395) a + S32.size a ≤ S3407872.size a := fun v8395 k0_hw627 => k0_hw627.2.1
theorem k0_off1186_inb : ∀ (v8395 : BitVec 32) (k0_hw627 : k0_chk627 v8395), ∀ a, (k0_off1186 v8395) a + S32.size a ≤ S3407872.size a := fun v8395 k0_hw627 => k0_hw627.2.2

def k0_off1187 (v8404 : BitVec 32) : Fin 1 → Nat :=
  let c1703936_i32_3715 : BitVec 32 := 1703936#32
  let c32_i32_3714 : BitVec 32 := 32#32
  let v8405 : BitVec 32 := Scalar.muli v8404 c32_i32_3714
  let v8406 : BitVec 32 := Scalar.addi c1703936_i32_3715 v8405
  let v8407 : BitVec 32 := v8406
  ![v8407.toNat]

def k0_chk628 (v8404 : BitVec 32) : Prop :=
  (8 ∣ (k0_mult605 v8404).toNat) ∧
  (∀ a, (k0_off1171 v8404) a + S32.size a ≤ S3407872.size a) ∧
  (∀ a, (k0_off1187 v8404) a + S32.size a ≤ S3407872.size a)
theorem k0_mult605_dvd : ∀ (v8404 : BitVec 32) (k0_hw628 : k0_chk628 v8404), 8 ∣ (k0_mult605 v8404).toNat := fun v8404 k0_hw628 => k0_hw628.1
theorem k0_off1171_inb : ∀ (v8404 : BitVec 32) (k0_hw628 : k0_chk628 v8404), ∀ a, (k0_off1171 v8404) a + S32.size a ≤ S3407872.size a := fun v8404 k0_hw628 => k0_hw628.2.1
theorem k0_off1187_inb : ∀ (v8404 : BitVec 32) (k0_hw628 : k0_chk628 v8404), ∀ a, (k0_off1187 v8404) a + S32.size a ≤ S3407872.size a := fun v8404 k0_hw628 => k0_hw628.2.2

def k0_off1188 (v8413 : BitVec 32) : Fin 1 → Nat :=
  let c1703936_i32_3719 : BitVec 32 := 1703936#32
  let c32_i32_3718 : BitVec 32 := 32#32
  let v8414 : BitVec 32 := Scalar.muli v8413 c32_i32_3718
  let v8415 : BitVec 32 := Scalar.addi c1703936_i32_3719 v8414
  let v8416 : BitVec 32 := v8415
  ![v8416.toNat]

def k0_chk629 (v8413 : BitVec 32) : Prop :=
  (8 ∣ (k0_mult606 v8413).toNat) ∧
  (∀ a, (k0_off1172 v8413) a + S32.size a ≤ S3407872.size a) ∧
  (∀ a, (k0_off1188 v8413) a + S32.size a ≤ S3407872.size a)
theorem k0_mult606_dvd : ∀ (v8413 : BitVec 32) (k0_hw629 : k0_chk629 v8413), 8 ∣ (k0_mult606 v8413).toNat := fun v8413 k0_hw629 => k0_hw629.1
theorem k0_off1172_inb : ∀ (v8413 : BitVec 32) (k0_hw629 : k0_chk629 v8413), ∀ a, (k0_off1172 v8413) a + S32.size a ≤ S3407872.size a := fun v8413 k0_hw629 => k0_hw629.2.1
theorem k0_off1188_inb : ∀ (v8413 : BitVec 32) (k0_hw629 : k0_chk629 v8413), ∀ a, (k0_off1188 v8413) a + S32.size a ≤ S3407872.size a := fun v8413 k0_hw629 => k0_hw629.2.2

def k0_off1189 (v8422 : BitVec 32) : Fin 1 → Nat :=
  let c1703936_i32_3723 : BitVec 32 := 1703936#32
  let c32_i32_3722 : BitVec 32 := 32#32
  let v8423 : BitVec 32 := Scalar.muli v8422 c32_i32_3722
  let v8424 : BitVec 32 := Scalar.addi c1703936_i32_3723 v8423
  let v8425 : BitVec 32 := v8424
  ![v8425.toNat]

def k0_chk630 (v8422 : BitVec 32) : Prop :=
  (8 ∣ (k0_mult607 v8422).toNat) ∧
  (∀ a, (k0_off1173 v8422) a + S32.size a ≤ S3407872.size a) ∧
  (∀ a, (k0_off1189 v8422) a + S32.size a ≤ S3407872.size a)
theorem k0_mult607_dvd : ∀ (v8422 : BitVec 32) (k0_hw630 : k0_chk630 v8422), 8 ∣ (k0_mult607 v8422).toNat := fun v8422 k0_hw630 => k0_hw630.1
theorem k0_off1173_inb : ∀ (v8422 : BitVec 32) (k0_hw630 : k0_chk630 v8422), ∀ a, (k0_off1173 v8422) a + S32.size a ≤ S3407872.size a := fun v8422 k0_hw630 => k0_hw630.2.1
theorem k0_off1189_inb : ∀ (v8422 : BitVec 32) (k0_hw630 : k0_chk630 v8422), ∀ a, (k0_off1189 v8422) a + S32.size a ≤ S3407872.size a := fun v8422 k0_hw630 => k0_hw630.2.2

def k0_off1190 (v8431 : BitVec 32) : Fin 1 → Nat :=
  let c1703936_i32_3727 : BitVec 32 := 1703936#32
  let c32_i32_3726 : BitVec 32 := 32#32
  let v8432 : BitVec 32 := Scalar.muli v8431 c32_i32_3726
  let v8433 : BitVec 32 := Scalar.addi c1703936_i32_3727 v8432
  let v8434 : BitVec 32 := v8433
  ![v8434.toNat]

def k0_chk631 (v8431 : BitVec 32) : Prop :=
  (8 ∣ (k0_mult608 v8431).toNat) ∧
  (∀ a, (k0_off1174 v8431) a + S32.size a ≤ S3407872.size a) ∧
  (∀ a, (k0_off1190 v8431) a + S32.size a ≤ S3407872.size a)
theorem k0_mult608_dvd : ∀ (v8431 : BitVec 32) (k0_hw631 : k0_chk631 v8431), 8 ∣ (k0_mult608 v8431).toNat := fun v8431 k0_hw631 => k0_hw631.1
theorem k0_off1174_inb : ∀ (v8431 : BitVec 32) (k0_hw631 : k0_chk631 v8431), ∀ a, (k0_off1174 v8431) a + S32.size a ≤ S3407872.size a := fun v8431 k0_hw631 => k0_hw631.2.1
theorem k0_off1190_inb : ∀ (v8431 : BitVec 32) (k0_hw631 : k0_chk631 v8431), ∀ a, (k0_off1190 v8431) a + S32.size a ≤ S3407872.size a := fun v8431 k0_hw631 => k0_hw631.2.2

def k0_mult610 (v8515 : BitVec 32) : BitVec 32 :=
  let c999936_i32_3768 : BitVec 32 := 999936#32
  let v8516 : BitVec 32 := Scalar.subi v8515 c999936_i32_3768
  let c32_i32_3769 : BitVec 32 := 32#32
  let v8517 : BitVec 32 := Scalar.muli v8516 c32_i32_3769
  v8517

def k0_off1191 (v8515 : BitVec 32) : Fin 1 → Nat :=
  let c999936_i32_3768 : BitVec 32 := 999936#32
  let v8516 : BitVec 32 := Scalar.subi v8515 c999936_i32_3768
  let c32_i32_3769 : BitVec 32 := 32#32
  let v8517 : BitVec 32 := Scalar.muli v8516 c32_i32_3769
  let v8518 : BitVec 32 := v8517
  ![v8518.toNat]
def k0_mult611 (v8524 : BitVec 32) : BitVec 32 :=
  let c999936_i32_3772 : BitVec 32 := 999936#32
  let v8525 : BitVec 32 := Scalar.subi v8524 c999936_i32_3772
  let c32_i32_3773 : BitVec 32 := 32#32
  let v8526 : BitVec 32 := Scalar.muli v8525 c32_i32_3773
  v8526

def k0_off1192 (v8524 : BitVec 32) : Fin 1 → Nat :=
  let c999936_i32_3772 : BitVec 32 := 999936#32
  let v8525 : BitVec 32 := Scalar.subi v8524 c999936_i32_3772
  let c32_i32_3773 : BitVec 32 := 32#32
  let v8526 : BitVec 32 := Scalar.muli v8525 c32_i32_3773
  let v8527 : BitVec 32 := v8526
  ![v8527.toNat]
def k0_mult612 (v8533 : BitVec 32) : BitVec 32 :=
  let c999936_i32_3776 : BitVec 32 := 999936#32
  let v8534 : BitVec 32 := Scalar.subi v8533 c999936_i32_3776
  let c32_i32_3777 : BitVec 32 := 32#32
  let v8535 : BitVec 32 := Scalar.muli v8534 c32_i32_3777
  v8535

def k0_off1193 (v8533 : BitVec 32) : Fin 1 → Nat :=
  let c999936_i32_3776 : BitVec 32 := 999936#32
  let v8534 : BitVec 32 := Scalar.subi v8533 c999936_i32_3776
  let c32_i32_3777 : BitVec 32 := 32#32
  let v8535 : BitVec 32 := Scalar.muli v8534 c32_i32_3777
  let v8536 : BitVec 32 := v8535
  ![v8536.toNat]
def k0_mult613 (v8542 : BitVec 32) : BitVec 32 :=
  let c999936_i32_3780 : BitVec 32 := 999936#32
  let v8543 : BitVec 32 := Scalar.subi v8542 c999936_i32_3780
  let c32_i32_3781 : BitVec 32 := 32#32
  let v8544 : BitVec 32 := Scalar.muli v8543 c32_i32_3781
  v8544

def k0_off1194 (v8542 : BitVec 32) : Fin 1 → Nat :=
  let c999936_i32_3780 : BitVec 32 := 999936#32
  let v8543 : BitVec 32 := Scalar.subi v8542 c999936_i32_3780
  let c32_i32_3781 : BitVec 32 := 32#32
  let v8544 : BitVec 32 := Scalar.muli v8543 c32_i32_3781
  let v8545 : BitVec 32 := v8544
  ![v8545.toNat]
def k0_mult614 (v8551 : BitVec 32) : BitVec 32 :=
  let c999936_i32_3784 : BitVec 32 := 999936#32
  let v8552 : BitVec 32 := Scalar.subi v8551 c999936_i32_3784
  let c32_i32_3785 : BitVec 32 := 32#32
  let v8553 : BitVec 32 := Scalar.muli v8552 c32_i32_3785
  v8553

def k0_off1195 (v8551 : BitVec 32) : Fin 1 → Nat :=
  let c999936_i32_3784 : BitVec 32 := 999936#32
  let v8552 : BitVec 32 := Scalar.subi v8551 c999936_i32_3784
  let c32_i32_3785 : BitVec 32 := 32#32
  let v8553 : BitVec 32 := Scalar.muli v8552 c32_i32_3785
  let v8554 : BitVec 32 := v8553
  ![v8554.toNat]
def k0_mult615 (v8560 : BitVec 32) : BitVec 32 :=
  let c999936_i32_3788 : BitVec 32 := 999936#32
  let v8561 : BitVec 32 := Scalar.subi v8560 c999936_i32_3788
  let c32_i32_3789 : BitVec 32 := 32#32
  let v8562 : BitVec 32 := Scalar.muli v8561 c32_i32_3789
  v8562

def k0_off1196 (v8560 : BitVec 32) : Fin 1 → Nat :=
  let c999936_i32_3788 : BitVec 32 := 999936#32
  let v8561 : BitVec 32 := Scalar.subi v8560 c999936_i32_3788
  let c32_i32_3789 : BitVec 32 := 32#32
  let v8562 : BitVec 32 := Scalar.muli v8561 c32_i32_3789
  let v8563 : BitVec 32 := v8562
  ![v8563.toNat]
def k0_mult616 (v8569 : BitVec 32) : BitVec 32 :=
  let c999936_i32_3792 : BitVec 32 := 999936#32
  let v8570 : BitVec 32 := Scalar.subi v8569 c999936_i32_3792
  let c32_i32_3793 : BitVec 32 := 32#32
  let v8571 : BitVec 32 := Scalar.muli v8570 c32_i32_3793
  v8571

def k0_off1197 (v8569 : BitVec 32) : Fin 1 → Nat :=
  let c999936_i32_3792 : BitVec 32 := 999936#32
  let v8570 : BitVec 32 := Scalar.subi v8569 c999936_i32_3792
  let c32_i32_3793 : BitVec 32 := 32#32
  let v8571 : BitVec 32 := Scalar.muli v8570 c32_i32_3793
  let v8572 : BitVec 32 := v8571
  ![v8572.toNat]
def k0_mult617 (v8578 : BitVec 32) : BitVec 32 :=
  let c999936_i32_3796 : BitVec 32 := 999936#32
  let v8579 : BitVec 32 := Scalar.subi v8578 c999936_i32_3796
  let c32_i32_3797 : BitVec 32 := 32#32
  let v8580 : BitVec 32 := Scalar.muli v8579 c32_i32_3797
  v8580

def k0_off1198 (v8578 : BitVec 32) : Fin 1 → Nat :=
  let c999936_i32_3796 : BitVec 32 := 999936#32
  let v8579 : BitVec 32 := Scalar.subi v8578 c999936_i32_3796
  let c32_i32_3797 : BitVec 32 := 32#32
  let v8580 : BitVec 32 := Scalar.muli v8579 c32_i32_3797
  let v8581 : BitVec 32 := v8580
  ![v8581.toNat]
def k0_mult618 (v8587 : BitVec 32) : BitVec 32 :=
  let c999936_i32_3800 : BitVec 32 := 999936#32
  let v8588 : BitVec 32 := Scalar.subi v8587 c999936_i32_3800
  let c32_i32_3801 : BitVec 32 := 32#32
  let v8589 : BitVec 32 := Scalar.muli v8588 c32_i32_3801
  v8589

def k0_off1199 (v8587 : BitVec 32) : Fin 1 → Nat :=
  let c999936_i32_3800 : BitVec 32 := 999936#32
  let v8588 : BitVec 32 := Scalar.subi v8587 c999936_i32_3800
  let c32_i32_3801 : BitVec 32 := 32#32
  let v8589 : BitVec 32 := Scalar.muli v8588 c32_i32_3801
  let v8590 : BitVec 32 := v8589
  ![v8590.toNat]
def k0_mult619 (v8596 : BitVec 32) : BitVec 32 :=
  let c999936_i32_3804 : BitVec 32 := 999936#32
  let v8597 : BitVec 32 := Scalar.subi v8596 c999936_i32_3804
  let c32_i32_3805 : BitVec 32 := 32#32
  let v8598 : BitVec 32 := Scalar.muli v8597 c32_i32_3805
  v8598

def k0_off1200 (v8596 : BitVec 32) : Fin 1 → Nat :=
  let c999936_i32_3804 : BitVec 32 := 999936#32
  let v8597 : BitVec 32 := Scalar.subi v8596 c999936_i32_3804
  let c32_i32_3805 : BitVec 32 := 32#32
  let v8598 : BitVec 32 := Scalar.muli v8597 c32_i32_3805
  let v8599 : BitVec 32 := v8598
  ![v8599.toNat]
def k0_mult620 (v8605 : BitVec 32) : BitVec 32 :=
  let c999936_i32_3808 : BitVec 32 := 999936#32
  let v8606 : BitVec 32 := Scalar.subi v8605 c999936_i32_3808
  let c32_i32_3809 : BitVec 32 := 32#32
  let v8607 : BitVec 32 := Scalar.muli v8606 c32_i32_3809
  v8607

def k0_off1201 (v8605 : BitVec 32) : Fin 1 → Nat :=
  let c999936_i32_3808 : BitVec 32 := 999936#32
  let v8606 : BitVec 32 := Scalar.subi v8605 c999936_i32_3808
  let c32_i32_3809 : BitVec 32 := 32#32
  let v8607 : BitVec 32 := Scalar.muli v8606 c32_i32_3809
  let v8608 : BitVec 32 := v8607
  ![v8608.toNat]
def k0_mult621 (v8614 : BitVec 32) : BitVec 32 :=
  let c999936_i32_3812 : BitVec 32 := 999936#32
  let v8615 : BitVec 32 := Scalar.subi v8614 c999936_i32_3812
  let c32_i32_3813 : BitVec 32 := 32#32
  let v8616 : BitVec 32 := Scalar.muli v8615 c32_i32_3813
  v8616

def k0_off1202 (v8614 : BitVec 32) : Fin 1 → Nat :=
  let c999936_i32_3812 : BitVec 32 := 999936#32
  let v8615 : BitVec 32 := Scalar.subi v8614 c999936_i32_3812
  let c32_i32_3813 : BitVec 32 := 32#32
  let v8616 : BitVec 32 := Scalar.muli v8615 c32_i32_3813
  let v8617 : BitVec 32 := v8616
  ![v8617.toNat]
def k0_mult622 (v8623 : BitVec 32) : BitVec 32 :=
  let c999936_i32_3816 : BitVec 32 := 999936#32
  let v8624 : BitVec 32 := Scalar.subi v8623 c999936_i32_3816
  let c32_i32_3817 : BitVec 32 := 32#32
  let v8625 : BitVec 32 := Scalar.muli v8624 c32_i32_3817
  v8625

def k0_off1203 (v8623 : BitVec 32) : Fin 1 → Nat :=
  let c999936_i32_3816 : BitVec 32 := 999936#32
  let v8624 : BitVec 32 := Scalar.subi v8623 c999936_i32_3816
  let c32_i32_3817 : BitVec 32 := 32#32
  let v8625 : BitVec 32 := Scalar.muli v8624 c32_i32_3817
  let v8626 : BitVec 32 := v8625
  ![v8626.toNat]
def k0_mult623 (v8632 : BitVec 32) : BitVec 32 :=
  let c999936_i32_3820 : BitVec 32 := 999936#32
  let v8633 : BitVec 32 := Scalar.subi v8632 c999936_i32_3820
  let c32_i32_3821 : BitVec 32 := 32#32
  let v8634 : BitVec 32 := Scalar.muli v8633 c32_i32_3821
  v8634

def k0_off1204 (v8632 : BitVec 32) : Fin 1 → Nat :=
  let c999936_i32_3820 : BitVec 32 := 999936#32
  let v8633 : BitVec 32 := Scalar.subi v8632 c999936_i32_3820
  let c32_i32_3821 : BitVec 32 := 32#32
  let v8634 : BitVec 32 := Scalar.muli v8633 c32_i32_3821
  let v8635 : BitVec 32 := v8634
  ![v8635.toNat]
def k0_mult624 (v8641 : BitVec 32) : BitVec 32 :=
  let c999936_i32_3824 : BitVec 32 := 999936#32
  let v8642 : BitVec 32 := Scalar.subi v8641 c999936_i32_3824
  let c32_i32_3825 : BitVec 32 := 32#32
  let v8643 : BitVec 32 := Scalar.muli v8642 c32_i32_3825
  v8643

def k0_off1205 (v8641 : BitVec 32) : Fin 1 → Nat :=
  let c999936_i32_3824 : BitVec 32 := 999936#32
  let v8642 : BitVec 32 := Scalar.subi v8641 c999936_i32_3824
  let c32_i32_3825 : BitVec 32 := 32#32
  let v8643 : BitVec 32 := Scalar.muli v8642 c32_i32_3825
  let v8644 : BitVec 32 := v8643
  ![v8644.toNat]
def k0_mult625 (v8650 : BitVec 32) : BitVec 32 :=
  let c999936_i32_3828 : BitVec 32 := 999936#32
  let v8651 : BitVec 32 := Scalar.subi v8650 c999936_i32_3828
  let c32_i32_3829 : BitVec 32 := 32#32
  let v8652 : BitVec 32 := Scalar.muli v8651 c32_i32_3829
  v8652

def k0_off1206 (v8650 : BitVec 32) : Fin 1 → Nat :=
  let c999936_i32_3828 : BitVec 32 := 999936#32
  let v8651 : BitVec 32 := Scalar.subi v8650 c999936_i32_3828
  let c32_i32_3829 : BitVec 32 := 32#32
  let v8652 : BitVec 32 := Scalar.muli v8651 c32_i32_3829
  let v8653 : BitVec 32 := v8652
  ![v8653.toNat]

def k0_chk648 (v8650 : BitVec 32) : Prop :=
  (8 ∣ (k0_mult625 v8650).toNat) ∧
  (∀ a, (k0_off1206 v8650) a + S32.size a ≤ S2048.size a)
theorem k0_mult625_dvd : ∀ (v8650 : BitVec 32) (k0_hw648 : k0_chk648 v8650), 8 ∣ (k0_mult625 v8650).toNat := fun v8650 k0_hw648 => k0_hw648.1
theorem k0_off1206_inb : ∀ (v8650 : BitVec 32) (k0_hw648 : k0_chk648 v8650), ∀ a, (k0_off1206 v8650) a + S32.size a ≤ S2048.size a := fun v8650 k0_hw648 => k0_hw648.2

def k0_off1207 (v8515 : BitVec 32) : Fin 1 → Nat :=
  let c999936_i32_3768 : BitVec 32 := 999936#32
  let v8516 : BitVec 32 := Scalar.subi v8515 c999936_i32_3768
  let c32_i32_3769 : BitVec 32 := 32#32
  let v8517 : BitVec 32 := Scalar.muli v8516 c32_i32_3769
  let v8518 : BitVec 32 := v8517
  ![v8518.toNat]

def k0_chk633 (v8515 : BitVec 32) : Prop :=
  (8 ∣ (k0_mult610 v8515).toNat) ∧
  (∀ a, (k0_off1191 v8515) a + S32.size a ≤ S2048.size a) ∧
  (∀ a, (k0_off1207 v8515) a + S32.size a ≤ S2048.size a)
theorem k0_mult610_dvd : ∀ (v8515 : BitVec 32) (k0_hw633 : k0_chk633 v8515), 8 ∣ (k0_mult610 v8515).toNat := fun v8515 k0_hw633 => k0_hw633.1
theorem k0_off1191_inb : ∀ (v8515 : BitVec 32) (k0_hw633 : k0_chk633 v8515), ∀ a, (k0_off1191 v8515) a + S32.size a ≤ S2048.size a := fun v8515 k0_hw633 => k0_hw633.2.1
theorem k0_off1207_inb : ∀ (v8515 : BitVec 32) (k0_hw633 : k0_chk633 v8515), ∀ a, (k0_off1207 v8515) a + S32.size a ≤ S2048.size a := fun v8515 k0_hw633 => k0_hw633.2.2

def k0_off1208 (v8524 : BitVec 32) : Fin 1 → Nat :=
  let c999936_i32_3772 : BitVec 32 := 999936#32
  let v8525 : BitVec 32 := Scalar.subi v8524 c999936_i32_3772
  let c32_i32_3773 : BitVec 32 := 32#32
  let v8526 : BitVec 32 := Scalar.muli v8525 c32_i32_3773
  let v8527 : BitVec 32 := v8526
  ![v8527.toNat]

def k0_chk634 (v8524 : BitVec 32) : Prop :=
  (8 ∣ (k0_mult611 v8524).toNat) ∧
  (∀ a, (k0_off1192 v8524) a + S32.size a ≤ S2048.size a) ∧
  (∀ a, (k0_off1208 v8524) a + S32.size a ≤ S2048.size a)
theorem k0_mult611_dvd : ∀ (v8524 : BitVec 32) (k0_hw634 : k0_chk634 v8524), 8 ∣ (k0_mult611 v8524).toNat := fun v8524 k0_hw634 => k0_hw634.1
theorem k0_off1192_inb : ∀ (v8524 : BitVec 32) (k0_hw634 : k0_chk634 v8524), ∀ a, (k0_off1192 v8524) a + S32.size a ≤ S2048.size a := fun v8524 k0_hw634 => k0_hw634.2.1
theorem k0_off1208_inb : ∀ (v8524 : BitVec 32) (k0_hw634 : k0_chk634 v8524), ∀ a, (k0_off1208 v8524) a + S32.size a ≤ S2048.size a := fun v8524 k0_hw634 => k0_hw634.2.2

def k0_off1209 (v8533 : BitVec 32) : Fin 1 → Nat :=
  let c999936_i32_3776 : BitVec 32 := 999936#32
  let v8534 : BitVec 32 := Scalar.subi v8533 c999936_i32_3776
  let c32_i32_3777 : BitVec 32 := 32#32
  let v8535 : BitVec 32 := Scalar.muli v8534 c32_i32_3777
  let v8536 : BitVec 32 := v8535
  ![v8536.toNat]

def k0_chk635 (v8533 : BitVec 32) : Prop :=
  (8 ∣ (k0_mult612 v8533).toNat) ∧
  (∀ a, (k0_off1193 v8533) a + S32.size a ≤ S2048.size a) ∧
  (∀ a, (k0_off1209 v8533) a + S32.size a ≤ S2048.size a)
theorem k0_mult612_dvd : ∀ (v8533 : BitVec 32) (k0_hw635 : k0_chk635 v8533), 8 ∣ (k0_mult612 v8533).toNat := fun v8533 k0_hw635 => k0_hw635.1
theorem k0_off1193_inb : ∀ (v8533 : BitVec 32) (k0_hw635 : k0_chk635 v8533), ∀ a, (k0_off1193 v8533) a + S32.size a ≤ S2048.size a := fun v8533 k0_hw635 => k0_hw635.2.1
theorem k0_off1209_inb : ∀ (v8533 : BitVec 32) (k0_hw635 : k0_chk635 v8533), ∀ a, (k0_off1209 v8533) a + S32.size a ≤ S2048.size a := fun v8533 k0_hw635 => k0_hw635.2.2

def k0_off1210 (v8542 : BitVec 32) : Fin 1 → Nat :=
  let c999936_i32_3780 : BitVec 32 := 999936#32
  let v8543 : BitVec 32 := Scalar.subi v8542 c999936_i32_3780
  let c32_i32_3781 : BitVec 32 := 32#32
  let v8544 : BitVec 32 := Scalar.muli v8543 c32_i32_3781
  let v8545 : BitVec 32 := v8544
  ![v8545.toNat]

def k0_chk636 (v8542 : BitVec 32) : Prop :=
  (8 ∣ (k0_mult613 v8542).toNat) ∧
  (∀ a, (k0_off1194 v8542) a + S32.size a ≤ S2048.size a) ∧
  (∀ a, (k0_off1210 v8542) a + S32.size a ≤ S2048.size a)
theorem k0_mult613_dvd : ∀ (v8542 : BitVec 32) (k0_hw636 : k0_chk636 v8542), 8 ∣ (k0_mult613 v8542).toNat := fun v8542 k0_hw636 => k0_hw636.1
theorem k0_off1194_inb : ∀ (v8542 : BitVec 32) (k0_hw636 : k0_chk636 v8542), ∀ a, (k0_off1194 v8542) a + S32.size a ≤ S2048.size a := fun v8542 k0_hw636 => k0_hw636.2.1
theorem k0_off1210_inb : ∀ (v8542 : BitVec 32) (k0_hw636 : k0_chk636 v8542), ∀ a, (k0_off1210 v8542) a + S32.size a ≤ S2048.size a := fun v8542 k0_hw636 => k0_hw636.2.2

def k0_off1211 (v8551 : BitVec 32) : Fin 1 → Nat :=
  let c999936_i32_3784 : BitVec 32 := 999936#32
  let v8552 : BitVec 32 := Scalar.subi v8551 c999936_i32_3784
  let c32_i32_3785 : BitVec 32 := 32#32
  let v8553 : BitVec 32 := Scalar.muli v8552 c32_i32_3785
  let v8554 : BitVec 32 := v8553
  ![v8554.toNat]

def k0_chk637 (v8551 : BitVec 32) : Prop :=
  (8 ∣ (k0_mult614 v8551).toNat) ∧
  (∀ a, (k0_off1195 v8551) a + S32.size a ≤ S2048.size a) ∧
  (∀ a, (k0_off1211 v8551) a + S32.size a ≤ S2048.size a)
theorem k0_mult614_dvd : ∀ (v8551 : BitVec 32) (k0_hw637 : k0_chk637 v8551), 8 ∣ (k0_mult614 v8551).toNat := fun v8551 k0_hw637 => k0_hw637.1
theorem k0_off1195_inb : ∀ (v8551 : BitVec 32) (k0_hw637 : k0_chk637 v8551), ∀ a, (k0_off1195 v8551) a + S32.size a ≤ S2048.size a := fun v8551 k0_hw637 => k0_hw637.2.1
theorem k0_off1211_inb : ∀ (v8551 : BitVec 32) (k0_hw637 : k0_chk637 v8551), ∀ a, (k0_off1211 v8551) a + S32.size a ≤ S2048.size a := fun v8551 k0_hw637 => k0_hw637.2.2

def k0_off1212 (v8560 : BitVec 32) : Fin 1 → Nat :=
  let c999936_i32_3788 : BitVec 32 := 999936#32
  let v8561 : BitVec 32 := Scalar.subi v8560 c999936_i32_3788
  let c32_i32_3789 : BitVec 32 := 32#32
  let v8562 : BitVec 32 := Scalar.muli v8561 c32_i32_3789
  let v8563 : BitVec 32 := v8562
  ![v8563.toNat]

def k0_chk638 (v8560 : BitVec 32) : Prop :=
  (8 ∣ (k0_mult615 v8560).toNat) ∧
  (∀ a, (k0_off1196 v8560) a + S32.size a ≤ S2048.size a) ∧
  (∀ a, (k0_off1212 v8560) a + S32.size a ≤ S2048.size a)
theorem k0_mult615_dvd : ∀ (v8560 : BitVec 32) (k0_hw638 : k0_chk638 v8560), 8 ∣ (k0_mult615 v8560).toNat := fun v8560 k0_hw638 => k0_hw638.1
theorem k0_off1196_inb : ∀ (v8560 : BitVec 32) (k0_hw638 : k0_chk638 v8560), ∀ a, (k0_off1196 v8560) a + S32.size a ≤ S2048.size a := fun v8560 k0_hw638 => k0_hw638.2.1
theorem k0_off1212_inb : ∀ (v8560 : BitVec 32) (k0_hw638 : k0_chk638 v8560), ∀ a, (k0_off1212 v8560) a + S32.size a ≤ S2048.size a := fun v8560 k0_hw638 => k0_hw638.2.2

def k0_off1213 (v8569 : BitVec 32) : Fin 1 → Nat :=
  let c999936_i32_3792 : BitVec 32 := 999936#32
  let v8570 : BitVec 32 := Scalar.subi v8569 c999936_i32_3792
  let c32_i32_3793 : BitVec 32 := 32#32
  let v8571 : BitVec 32 := Scalar.muli v8570 c32_i32_3793
  let v8572 : BitVec 32 := v8571
  ![v8572.toNat]

def k0_chk639 (v8569 : BitVec 32) : Prop :=
  (8 ∣ (k0_mult616 v8569).toNat) ∧
  (∀ a, (k0_off1197 v8569) a + S32.size a ≤ S2048.size a) ∧
  (∀ a, (k0_off1213 v8569) a + S32.size a ≤ S2048.size a)
theorem k0_mult616_dvd : ∀ (v8569 : BitVec 32) (k0_hw639 : k0_chk639 v8569), 8 ∣ (k0_mult616 v8569).toNat := fun v8569 k0_hw639 => k0_hw639.1
theorem k0_off1197_inb : ∀ (v8569 : BitVec 32) (k0_hw639 : k0_chk639 v8569), ∀ a, (k0_off1197 v8569) a + S32.size a ≤ S2048.size a := fun v8569 k0_hw639 => k0_hw639.2.1
theorem k0_off1213_inb : ∀ (v8569 : BitVec 32) (k0_hw639 : k0_chk639 v8569), ∀ a, (k0_off1213 v8569) a + S32.size a ≤ S2048.size a := fun v8569 k0_hw639 => k0_hw639.2.2

def k0_off1214 (v8578 : BitVec 32) : Fin 1 → Nat :=
  let c999936_i32_3796 : BitVec 32 := 999936#32
  let v8579 : BitVec 32 := Scalar.subi v8578 c999936_i32_3796
  let c32_i32_3797 : BitVec 32 := 32#32
  let v8580 : BitVec 32 := Scalar.muli v8579 c32_i32_3797
  let v8581 : BitVec 32 := v8580
  ![v8581.toNat]

def k0_chk640 (v8578 : BitVec 32) : Prop :=
  (8 ∣ (k0_mult617 v8578).toNat) ∧
  (∀ a, (k0_off1198 v8578) a + S32.size a ≤ S2048.size a) ∧
  (∀ a, (k0_off1214 v8578) a + S32.size a ≤ S2048.size a)
theorem k0_mult617_dvd : ∀ (v8578 : BitVec 32) (k0_hw640 : k0_chk640 v8578), 8 ∣ (k0_mult617 v8578).toNat := fun v8578 k0_hw640 => k0_hw640.1
theorem k0_off1198_inb : ∀ (v8578 : BitVec 32) (k0_hw640 : k0_chk640 v8578), ∀ a, (k0_off1198 v8578) a + S32.size a ≤ S2048.size a := fun v8578 k0_hw640 => k0_hw640.2.1
theorem k0_off1214_inb : ∀ (v8578 : BitVec 32) (k0_hw640 : k0_chk640 v8578), ∀ a, (k0_off1214 v8578) a + S32.size a ≤ S2048.size a := fun v8578 k0_hw640 => k0_hw640.2.2

def k0_off1215 (v8587 : BitVec 32) : Fin 1 → Nat :=
  let c999936_i32_3800 : BitVec 32 := 999936#32
  let v8588 : BitVec 32 := Scalar.subi v8587 c999936_i32_3800
  let c32_i32_3801 : BitVec 32 := 32#32
  let v8589 : BitVec 32 := Scalar.muli v8588 c32_i32_3801
  let v8590 : BitVec 32 := v8589
  ![v8590.toNat]

def k0_chk641 (v8587 : BitVec 32) : Prop :=
  (8 ∣ (k0_mult618 v8587).toNat) ∧
  (∀ a, (k0_off1199 v8587) a + S32.size a ≤ S2048.size a) ∧
  (∀ a, (k0_off1215 v8587) a + S32.size a ≤ S2048.size a)
theorem k0_mult618_dvd : ∀ (v8587 : BitVec 32) (k0_hw641 : k0_chk641 v8587), 8 ∣ (k0_mult618 v8587).toNat := fun v8587 k0_hw641 => k0_hw641.1
theorem k0_off1199_inb : ∀ (v8587 : BitVec 32) (k0_hw641 : k0_chk641 v8587), ∀ a, (k0_off1199 v8587) a + S32.size a ≤ S2048.size a := fun v8587 k0_hw641 => k0_hw641.2.1
theorem k0_off1215_inb : ∀ (v8587 : BitVec 32) (k0_hw641 : k0_chk641 v8587), ∀ a, (k0_off1215 v8587) a + S32.size a ≤ S2048.size a := fun v8587 k0_hw641 => k0_hw641.2.2

def k0_off1216 (v8596 : BitVec 32) : Fin 1 → Nat :=
  let c999936_i32_3804 : BitVec 32 := 999936#32
  let v8597 : BitVec 32 := Scalar.subi v8596 c999936_i32_3804
  let c32_i32_3805 : BitVec 32 := 32#32
  let v8598 : BitVec 32 := Scalar.muli v8597 c32_i32_3805
  let v8599 : BitVec 32 := v8598
  ![v8599.toNat]

def k0_chk642 (v8596 : BitVec 32) : Prop :=
  (8 ∣ (k0_mult619 v8596).toNat) ∧
  (∀ a, (k0_off1200 v8596) a + S32.size a ≤ S2048.size a) ∧
  (∀ a, (k0_off1216 v8596) a + S32.size a ≤ S2048.size a)
theorem k0_mult619_dvd : ∀ (v8596 : BitVec 32) (k0_hw642 : k0_chk642 v8596), 8 ∣ (k0_mult619 v8596).toNat := fun v8596 k0_hw642 => k0_hw642.1
theorem k0_off1200_inb : ∀ (v8596 : BitVec 32) (k0_hw642 : k0_chk642 v8596), ∀ a, (k0_off1200 v8596) a + S32.size a ≤ S2048.size a := fun v8596 k0_hw642 => k0_hw642.2.1
theorem k0_off1216_inb : ∀ (v8596 : BitVec 32) (k0_hw642 : k0_chk642 v8596), ∀ a, (k0_off1216 v8596) a + S32.size a ≤ S2048.size a := fun v8596 k0_hw642 => k0_hw642.2.2

def k0_off1217 (v8605 : BitVec 32) : Fin 1 → Nat :=
  let c999936_i32_3808 : BitVec 32 := 999936#32
  let v8606 : BitVec 32 := Scalar.subi v8605 c999936_i32_3808
  let c32_i32_3809 : BitVec 32 := 32#32
  let v8607 : BitVec 32 := Scalar.muli v8606 c32_i32_3809
  let v8608 : BitVec 32 := v8607
  ![v8608.toNat]

def k0_chk643 (v8605 : BitVec 32) : Prop :=
  (8 ∣ (k0_mult620 v8605).toNat) ∧
  (∀ a, (k0_off1201 v8605) a + S32.size a ≤ S2048.size a) ∧
  (∀ a, (k0_off1217 v8605) a + S32.size a ≤ S2048.size a)
theorem k0_mult620_dvd : ∀ (v8605 : BitVec 32) (k0_hw643 : k0_chk643 v8605), 8 ∣ (k0_mult620 v8605).toNat := fun v8605 k0_hw643 => k0_hw643.1
theorem k0_off1201_inb : ∀ (v8605 : BitVec 32) (k0_hw643 : k0_chk643 v8605), ∀ a, (k0_off1201 v8605) a + S32.size a ≤ S2048.size a := fun v8605 k0_hw643 => k0_hw643.2.1
theorem k0_off1217_inb : ∀ (v8605 : BitVec 32) (k0_hw643 : k0_chk643 v8605), ∀ a, (k0_off1217 v8605) a + S32.size a ≤ S2048.size a := fun v8605 k0_hw643 => k0_hw643.2.2

def k0_off1218 (v8614 : BitVec 32) : Fin 1 → Nat :=
  let c999936_i32_3812 : BitVec 32 := 999936#32
  let v8615 : BitVec 32 := Scalar.subi v8614 c999936_i32_3812
  let c32_i32_3813 : BitVec 32 := 32#32
  let v8616 : BitVec 32 := Scalar.muli v8615 c32_i32_3813
  let v8617 : BitVec 32 := v8616
  ![v8617.toNat]

def k0_chk644 (v8614 : BitVec 32) : Prop :=
  (8 ∣ (k0_mult621 v8614).toNat) ∧
  (∀ a, (k0_off1202 v8614) a + S32.size a ≤ S2048.size a) ∧
  (∀ a, (k0_off1218 v8614) a + S32.size a ≤ S2048.size a)
theorem k0_mult621_dvd : ∀ (v8614 : BitVec 32) (k0_hw644 : k0_chk644 v8614), 8 ∣ (k0_mult621 v8614).toNat := fun v8614 k0_hw644 => k0_hw644.1
theorem k0_off1202_inb : ∀ (v8614 : BitVec 32) (k0_hw644 : k0_chk644 v8614), ∀ a, (k0_off1202 v8614) a + S32.size a ≤ S2048.size a := fun v8614 k0_hw644 => k0_hw644.2.1
theorem k0_off1218_inb : ∀ (v8614 : BitVec 32) (k0_hw644 : k0_chk644 v8614), ∀ a, (k0_off1218 v8614) a + S32.size a ≤ S2048.size a := fun v8614 k0_hw644 => k0_hw644.2.2

def k0_off1219 (v8623 : BitVec 32) : Fin 1 → Nat :=
  let c999936_i32_3816 : BitVec 32 := 999936#32
  let v8624 : BitVec 32 := Scalar.subi v8623 c999936_i32_3816
  let c32_i32_3817 : BitVec 32 := 32#32
  let v8625 : BitVec 32 := Scalar.muli v8624 c32_i32_3817
  let v8626 : BitVec 32 := v8625
  ![v8626.toNat]

def k0_chk645 (v8623 : BitVec 32) : Prop :=
  (8 ∣ (k0_mult622 v8623).toNat) ∧
  (∀ a, (k0_off1203 v8623) a + S32.size a ≤ S2048.size a) ∧
  (∀ a, (k0_off1219 v8623) a + S32.size a ≤ S2048.size a)
theorem k0_mult622_dvd : ∀ (v8623 : BitVec 32) (k0_hw645 : k0_chk645 v8623), 8 ∣ (k0_mult622 v8623).toNat := fun v8623 k0_hw645 => k0_hw645.1
theorem k0_off1203_inb : ∀ (v8623 : BitVec 32) (k0_hw645 : k0_chk645 v8623), ∀ a, (k0_off1203 v8623) a + S32.size a ≤ S2048.size a := fun v8623 k0_hw645 => k0_hw645.2.1
theorem k0_off1219_inb : ∀ (v8623 : BitVec 32) (k0_hw645 : k0_chk645 v8623), ∀ a, (k0_off1219 v8623) a + S32.size a ≤ S2048.size a := fun v8623 k0_hw645 => k0_hw645.2.2

def k0_off1220 (v8632 : BitVec 32) : Fin 1 → Nat :=
  let c999936_i32_3820 : BitVec 32 := 999936#32
  let v8633 : BitVec 32 := Scalar.subi v8632 c999936_i32_3820
  let c32_i32_3821 : BitVec 32 := 32#32
  let v8634 : BitVec 32 := Scalar.muli v8633 c32_i32_3821
  let v8635 : BitVec 32 := v8634
  ![v8635.toNat]

def k0_chk646 (v8632 : BitVec 32) : Prop :=
  (8 ∣ (k0_mult623 v8632).toNat) ∧
  (∀ a, (k0_off1204 v8632) a + S32.size a ≤ S2048.size a) ∧
  (∀ a, (k0_off1220 v8632) a + S32.size a ≤ S2048.size a)
theorem k0_mult623_dvd : ∀ (v8632 : BitVec 32) (k0_hw646 : k0_chk646 v8632), 8 ∣ (k0_mult623 v8632).toNat := fun v8632 k0_hw646 => k0_hw646.1
theorem k0_off1204_inb : ∀ (v8632 : BitVec 32) (k0_hw646 : k0_chk646 v8632), ∀ a, (k0_off1204 v8632) a + S32.size a ≤ S2048.size a := fun v8632 k0_hw646 => k0_hw646.2.1
theorem k0_off1220_inb : ∀ (v8632 : BitVec 32) (k0_hw646 : k0_chk646 v8632), ∀ a, (k0_off1220 v8632) a + S32.size a ≤ S2048.size a := fun v8632 k0_hw646 => k0_hw646.2.2

def k0_off1221 (v8641 : BitVec 32) : Fin 1 → Nat :=
  let c999936_i32_3824 : BitVec 32 := 999936#32
  let v8642 : BitVec 32 := Scalar.subi v8641 c999936_i32_3824
  let c32_i32_3825 : BitVec 32 := 32#32
  let v8643 : BitVec 32 := Scalar.muli v8642 c32_i32_3825
  let v8644 : BitVec 32 := v8643
  ![v8644.toNat]

def k0_chk647 (v8641 : BitVec 32) : Prop :=
  (8 ∣ (k0_mult624 v8641).toNat) ∧
  (∀ a, (k0_off1205 v8641) a + S32.size a ≤ S2048.size a) ∧
  (∀ a, (k0_off1221 v8641) a + S32.size a ≤ S2048.size a)
theorem k0_mult624_dvd : ∀ (v8641 : BitVec 32) (k0_hw647 : k0_chk647 v8641), 8 ∣ (k0_mult624 v8641).toNat := fun v8641 k0_hw647 => k0_hw647.1
theorem k0_off1205_inb : ∀ (v8641 : BitVec 32) (k0_hw647 : k0_chk647 v8641), ∀ a, (k0_off1205 v8641) a + S32.size a ≤ S2048.size a := fun v8641 k0_hw647 => k0_hw647.2.1
theorem k0_off1221_inb : ∀ (v8641 : BitVec 32) (k0_hw647 : k0_chk647 v8641), ∀ a, (k0_off1221 v8641) a + S32.size a ≤ S2048.size a := fun v8641 k0_hw647 => k0_hw647.2.2

def k0_mult626 (v8723 : BitVec 32) : BitVec 32 :=
  let c1703936_i32_3865 : BitVec 32 := 1703936#32
  let c32_i32_3864 : BitVec 32 := 32#32
  let v8724 : BitVec 32 := Scalar.muli v8723 c32_i32_3864
  let v8725 : BitVec 32 := Scalar.addi c1703936_i32_3865 v8724
  v8725

def k0_off1222 (v8723 : BitVec 32) : Fin 1 → Nat :=
  let c1703936_i32_3865 : BitVec 32 := 1703936#32
  let c32_i32_3864 : BitVec 32 := 32#32
  let v8724 : BitVec 32 := Scalar.muli v8723 c32_i32_3864
  let v8725 : BitVec 32 := Scalar.addi c1703936_i32_3865 v8724
  let v8726 : BitVec 32 := v8725
  ![v8726.toNat]
def k0_mult627 (v8732 : BitVec 32) : BitVec 32 :=
  let c1703936_i32_3869 : BitVec 32 := 1703936#32
  let c32_i32_3868 : BitVec 32 := 32#32
  let v8733 : BitVec 32 := Scalar.muli v8732 c32_i32_3868
  let v8734 : BitVec 32 := Scalar.addi c1703936_i32_3869 v8733
  v8734

def k0_off1223 (v8732 : BitVec 32) : Fin 1 → Nat :=
  let c1703936_i32_3869 : BitVec 32 := 1703936#32
  let c32_i32_3868 : BitVec 32 := 32#32
  let v8733 : BitVec 32 := Scalar.muli v8732 c32_i32_3868
  let v8734 : BitVec 32 := Scalar.addi c1703936_i32_3869 v8733
  let v8735 : BitVec 32 := v8734
  ![v8735.toNat]
def k0_mult628 (v8741 : BitVec 32) : BitVec 32 :=
  let c1703936_i32_3873 : BitVec 32 := 1703936#32
  let c32_i32_3872 : BitVec 32 := 32#32
  let v8742 : BitVec 32 := Scalar.muli v8741 c32_i32_3872
  let v8743 : BitVec 32 := Scalar.addi c1703936_i32_3873 v8742
  v8743

def k0_off1224 (v8741 : BitVec 32) : Fin 1 → Nat :=
  let c1703936_i32_3873 : BitVec 32 := 1703936#32
  let c32_i32_3872 : BitVec 32 := 32#32
  let v8742 : BitVec 32 := Scalar.muli v8741 c32_i32_3872
  let v8743 : BitVec 32 := Scalar.addi c1703936_i32_3873 v8742
  let v8744 : BitVec 32 := v8743
  ![v8744.toNat]
def k0_mult629 (v8750 : BitVec 32) : BitVec 32 :=
  let c1703936_i32_3877 : BitVec 32 := 1703936#32
  let c32_i32_3876 : BitVec 32 := 32#32
  let v8751 : BitVec 32 := Scalar.muli v8750 c32_i32_3876
  let v8752 : BitVec 32 := Scalar.addi c1703936_i32_3877 v8751
  v8752

def k0_off1225 (v8750 : BitVec 32) : Fin 1 → Nat :=
  let c1703936_i32_3877 : BitVec 32 := 1703936#32
  let c32_i32_3876 : BitVec 32 := 32#32
  let v8751 : BitVec 32 := Scalar.muli v8750 c32_i32_3876
  let v8752 : BitVec 32 := Scalar.addi c1703936_i32_3877 v8751
  let v8753 : BitVec 32 := v8752
  ![v8753.toNat]
def k0_mult630 (v8759 : BitVec 32) : BitVec 32 :=
  let c1703936_i32_3881 : BitVec 32 := 1703936#32
  let c32_i32_3880 : BitVec 32 := 32#32
  let v8760 : BitVec 32 := Scalar.muli v8759 c32_i32_3880
  let v8761 : BitVec 32 := Scalar.addi c1703936_i32_3881 v8760
  v8761

def k0_off1226 (v8759 : BitVec 32) : Fin 1 → Nat :=
  let c1703936_i32_3881 : BitVec 32 := 1703936#32
  let c32_i32_3880 : BitVec 32 := 32#32
  let v8760 : BitVec 32 := Scalar.muli v8759 c32_i32_3880
  let v8761 : BitVec 32 := Scalar.addi c1703936_i32_3881 v8760
  let v8762 : BitVec 32 := v8761
  ![v8762.toNat]
def k0_mult631 (v8768 : BitVec 32) : BitVec 32 :=
  let c1703936_i32_3885 : BitVec 32 := 1703936#32
  let c32_i32_3884 : BitVec 32 := 32#32
  let v8769 : BitVec 32 := Scalar.muli v8768 c32_i32_3884
  let v8770 : BitVec 32 := Scalar.addi c1703936_i32_3885 v8769
  v8770

def k0_off1227 (v8768 : BitVec 32) : Fin 1 → Nat :=
  let c1703936_i32_3885 : BitVec 32 := 1703936#32
  let c32_i32_3884 : BitVec 32 := 32#32
  let v8769 : BitVec 32 := Scalar.muli v8768 c32_i32_3884
  let v8770 : BitVec 32 := Scalar.addi c1703936_i32_3885 v8769
  let v8771 : BitVec 32 := v8770
  ![v8771.toNat]
def k0_mult632 (v8777 : BitVec 32) : BitVec 32 :=
  let c1703936_i32_3889 : BitVec 32 := 1703936#32
  let c32_i32_3888 : BitVec 32 := 32#32
  let v8778 : BitVec 32 := Scalar.muli v8777 c32_i32_3888
  let v8779 : BitVec 32 := Scalar.addi c1703936_i32_3889 v8778
  v8779

def k0_off1228 (v8777 : BitVec 32) : Fin 1 → Nat :=
  let c1703936_i32_3889 : BitVec 32 := 1703936#32
  let c32_i32_3888 : BitVec 32 := 32#32
  let v8778 : BitVec 32 := Scalar.muli v8777 c32_i32_3888
  let v8779 : BitVec 32 := Scalar.addi c1703936_i32_3889 v8778
  let v8780 : BitVec 32 := v8779
  ![v8780.toNat]
def k0_mult633 (v8786 : BitVec 32) : BitVec 32 :=
  let c1703936_i32_3893 : BitVec 32 := 1703936#32
  let c32_i32_3892 : BitVec 32 := 32#32
  let v8787 : BitVec 32 := Scalar.muli v8786 c32_i32_3892
  let v8788 : BitVec 32 := Scalar.addi c1703936_i32_3893 v8787
  v8788

def k0_off1229 (v8786 : BitVec 32) : Fin 1 → Nat :=
  let c1703936_i32_3893 : BitVec 32 := 1703936#32
  let c32_i32_3892 : BitVec 32 := 32#32
  let v8787 : BitVec 32 := Scalar.muli v8786 c32_i32_3892
  let v8788 : BitVec 32 := Scalar.addi c1703936_i32_3893 v8787
  let v8789 : BitVec 32 := v8788
  ![v8789.toNat]
def k0_mult634 (v8795 : BitVec 32) : BitVec 32 :=
  let c1703936_i32_3897 : BitVec 32 := 1703936#32
  let c32_i32_3896 : BitVec 32 := 32#32
  let v8796 : BitVec 32 := Scalar.muli v8795 c32_i32_3896
  let v8797 : BitVec 32 := Scalar.addi c1703936_i32_3897 v8796
  v8797

def k0_off1230 (v8795 : BitVec 32) : Fin 1 → Nat :=
  let c1703936_i32_3897 : BitVec 32 := 1703936#32
  let c32_i32_3896 : BitVec 32 := 32#32
  let v8796 : BitVec 32 := Scalar.muli v8795 c32_i32_3896
  let v8797 : BitVec 32 := Scalar.addi c1703936_i32_3897 v8796
  let v8798 : BitVec 32 := v8797
  ![v8798.toNat]
def k0_mult635 (v8804 : BitVec 32) : BitVec 32 :=
  let c1703936_i32_3901 : BitVec 32 := 1703936#32
  let c32_i32_3900 : BitVec 32 := 32#32
  let v8805 : BitVec 32 := Scalar.muli v8804 c32_i32_3900
  let v8806 : BitVec 32 := Scalar.addi c1703936_i32_3901 v8805
  v8806

def k0_off1231 (v8804 : BitVec 32) : Fin 1 → Nat :=
  let c1703936_i32_3901 : BitVec 32 := 1703936#32
  let c32_i32_3900 : BitVec 32 := 32#32
  let v8805 : BitVec 32 := Scalar.muli v8804 c32_i32_3900
  let v8806 : BitVec 32 := Scalar.addi c1703936_i32_3901 v8805
  let v8807 : BitVec 32 := v8806
  ![v8807.toNat]
def k0_mult636 (v8813 : BitVec 32) : BitVec 32 :=
  let c1703936_i32_3905 : BitVec 32 := 1703936#32
  let c32_i32_3904 : BitVec 32 := 32#32
  let v8814 : BitVec 32 := Scalar.muli v8813 c32_i32_3904
  let v8815 : BitVec 32 := Scalar.addi c1703936_i32_3905 v8814
  v8815

def k0_off1232 (v8813 : BitVec 32) : Fin 1 → Nat :=
  let c1703936_i32_3905 : BitVec 32 := 1703936#32
  let c32_i32_3904 : BitVec 32 := 32#32
  let v8814 : BitVec 32 := Scalar.muli v8813 c32_i32_3904
  let v8815 : BitVec 32 := Scalar.addi c1703936_i32_3905 v8814
  let v8816 : BitVec 32 := v8815
  ![v8816.toNat]
def k0_mult637 (v8822 : BitVec 32) : BitVec 32 :=
  let c1703936_i32_3909 : BitVec 32 := 1703936#32
  let c32_i32_3908 : BitVec 32 := 32#32
  let v8823 : BitVec 32 := Scalar.muli v8822 c32_i32_3908
  let v8824 : BitVec 32 := Scalar.addi c1703936_i32_3909 v8823
  v8824

def k0_off1233 (v8822 : BitVec 32) : Fin 1 → Nat :=
  let c1703936_i32_3909 : BitVec 32 := 1703936#32
  let c32_i32_3908 : BitVec 32 := 32#32
  let v8823 : BitVec 32 := Scalar.muli v8822 c32_i32_3908
  let v8824 : BitVec 32 := Scalar.addi c1703936_i32_3909 v8823
  let v8825 : BitVec 32 := v8824
  ![v8825.toNat]
def k0_mult638 (v8831 : BitVec 32) : BitVec 32 :=
  let c1703936_i32_3913 : BitVec 32 := 1703936#32
  let c32_i32_3912 : BitVec 32 := 32#32
  let v8832 : BitVec 32 := Scalar.muli v8831 c32_i32_3912
  let v8833 : BitVec 32 := Scalar.addi c1703936_i32_3913 v8832
  v8833

def k0_off1234 (v8831 : BitVec 32) : Fin 1 → Nat :=
  let c1703936_i32_3913 : BitVec 32 := 1703936#32
  let c32_i32_3912 : BitVec 32 := 32#32
  let v8832 : BitVec 32 := Scalar.muli v8831 c32_i32_3912
  let v8833 : BitVec 32 := Scalar.addi c1703936_i32_3913 v8832
  let v8834 : BitVec 32 := v8833
  ![v8834.toNat]
def k0_mult639 (v8840 : BitVec 32) : BitVec 32 :=
  let c1703936_i32_3917 : BitVec 32 := 1703936#32
  let c32_i32_3916 : BitVec 32 := 32#32
  let v8841 : BitVec 32 := Scalar.muli v8840 c32_i32_3916
  let v8842 : BitVec 32 := Scalar.addi c1703936_i32_3917 v8841
  v8842

def k0_off1235 (v8840 : BitVec 32) : Fin 1 → Nat :=
  let c1703936_i32_3917 : BitVec 32 := 1703936#32
  let c32_i32_3916 : BitVec 32 := 32#32
  let v8841 : BitVec 32 := Scalar.muli v8840 c32_i32_3916
  let v8842 : BitVec 32 := Scalar.addi c1703936_i32_3917 v8841
  let v8843 : BitVec 32 := v8842
  ![v8843.toNat]
def k0_mult640 (v8849 : BitVec 32) : BitVec 32 :=
  let c1703936_i32_3921 : BitVec 32 := 1703936#32
  let c32_i32_3920 : BitVec 32 := 32#32
  let v8850 : BitVec 32 := Scalar.muli v8849 c32_i32_3920
  let v8851 : BitVec 32 := Scalar.addi c1703936_i32_3921 v8850
  v8851

def k0_off1236 (v8849 : BitVec 32) : Fin 1 → Nat :=
  let c1703936_i32_3921 : BitVec 32 := 1703936#32
  let c32_i32_3920 : BitVec 32 := 32#32
  let v8850 : BitVec 32 := Scalar.muli v8849 c32_i32_3920
  let v8851 : BitVec 32 := Scalar.addi c1703936_i32_3921 v8850
  let v8852 : BitVec 32 := v8851
  ![v8852.toNat]
def k0_mult641 (v8858 : BitVec 32) : BitVec 32 :=
  let c1703936_i32_3925 : BitVec 32 := 1703936#32
  let c32_i32_3924 : BitVec 32 := 32#32
  let v8859 : BitVec 32 := Scalar.muli v8858 c32_i32_3924
  let v8860 : BitVec 32 := Scalar.addi c1703936_i32_3925 v8859
  v8860

def k0_off1237 (v8858 : BitVec 32) : Fin 1 → Nat :=
  let c1703936_i32_3925 : BitVec 32 := 1703936#32
  let c32_i32_3924 : BitVec 32 := 32#32
  let v8859 : BitVec 32 := Scalar.muli v8858 c32_i32_3924
  let v8860 : BitVec 32 := Scalar.addi c1703936_i32_3925 v8859
  let v8861 : BitVec 32 := v8860
  ![v8861.toNat]

def k0_chk664 (v8858 : BitVec 32) : Prop :=
  (8 ∣ (k0_mult641 v8858).toNat) ∧
  (∀ a, (k0_off1237 v8858) a + S32.size a ≤ S3407872.size a)
theorem k0_mult641_dvd : ∀ (v8858 : BitVec 32) (k0_hw664 : k0_chk664 v8858), 8 ∣ (k0_mult641 v8858).toNat := fun v8858 k0_hw664 => k0_hw664.1
theorem k0_off1237_inb : ∀ (v8858 : BitVec 32) (k0_hw664 : k0_chk664 v8858), ∀ a, (k0_off1237 v8858) a + S32.size a ≤ S3407872.size a := fun v8858 k0_hw664 => k0_hw664.2

def k0_off1238 (v8723 : BitVec 32) : Fin 1 → Nat :=
  let c1703936_i32_3865 : BitVec 32 := 1703936#32
  let c32_i32_3864 : BitVec 32 := 32#32
  let v8724 : BitVec 32 := Scalar.muli v8723 c32_i32_3864
  let v8725 : BitVec 32 := Scalar.addi c1703936_i32_3865 v8724
  let v8726 : BitVec 32 := v8725
  ![v8726.toNat]

def k0_chk649 (v8723 : BitVec 32) : Prop :=
  (8 ∣ (k0_mult626 v8723).toNat) ∧
  (∀ a, (k0_off1222 v8723) a + S32.size a ≤ S3407872.size a) ∧
  (∀ a, (k0_off1238 v8723) a + S32.size a ≤ S3407872.size a)
theorem k0_mult626_dvd : ∀ (v8723 : BitVec 32) (k0_hw649 : k0_chk649 v8723), 8 ∣ (k0_mult626 v8723).toNat := fun v8723 k0_hw649 => k0_hw649.1
theorem k0_off1222_inb : ∀ (v8723 : BitVec 32) (k0_hw649 : k0_chk649 v8723), ∀ a, (k0_off1222 v8723) a + S32.size a ≤ S3407872.size a := fun v8723 k0_hw649 => k0_hw649.2.1
theorem k0_off1238_inb : ∀ (v8723 : BitVec 32) (k0_hw649 : k0_chk649 v8723), ∀ a, (k0_off1238 v8723) a + S32.size a ≤ S3407872.size a := fun v8723 k0_hw649 => k0_hw649.2.2

def k0_off1239 (v8732 : BitVec 32) : Fin 1 → Nat :=
  let c1703936_i32_3869 : BitVec 32 := 1703936#32
  let c32_i32_3868 : BitVec 32 := 32#32
  let v8733 : BitVec 32 := Scalar.muli v8732 c32_i32_3868
  let v8734 : BitVec 32 := Scalar.addi c1703936_i32_3869 v8733
  let v8735 : BitVec 32 := v8734
  ![v8735.toNat]

def k0_chk650 (v8732 : BitVec 32) : Prop :=
  (8 ∣ (k0_mult627 v8732).toNat) ∧
  (∀ a, (k0_off1223 v8732) a + S32.size a ≤ S3407872.size a) ∧
  (∀ a, (k0_off1239 v8732) a + S32.size a ≤ S3407872.size a)
theorem k0_mult627_dvd : ∀ (v8732 : BitVec 32) (k0_hw650 : k0_chk650 v8732), 8 ∣ (k0_mult627 v8732).toNat := fun v8732 k0_hw650 => k0_hw650.1
theorem k0_off1223_inb : ∀ (v8732 : BitVec 32) (k0_hw650 : k0_chk650 v8732), ∀ a, (k0_off1223 v8732) a + S32.size a ≤ S3407872.size a := fun v8732 k0_hw650 => k0_hw650.2.1
theorem k0_off1239_inb : ∀ (v8732 : BitVec 32) (k0_hw650 : k0_chk650 v8732), ∀ a, (k0_off1239 v8732) a + S32.size a ≤ S3407872.size a := fun v8732 k0_hw650 => k0_hw650.2.2

def k0_off1240 (v8741 : BitVec 32) : Fin 1 → Nat :=
  let c1703936_i32_3873 : BitVec 32 := 1703936#32
  let c32_i32_3872 : BitVec 32 := 32#32
  let v8742 : BitVec 32 := Scalar.muli v8741 c32_i32_3872
  let v8743 : BitVec 32 := Scalar.addi c1703936_i32_3873 v8742
  let v8744 : BitVec 32 := v8743
  ![v8744.toNat]

def k0_chk651 (v8741 : BitVec 32) : Prop :=
  (8 ∣ (k0_mult628 v8741).toNat) ∧
  (∀ a, (k0_off1224 v8741) a + S32.size a ≤ S3407872.size a) ∧
  (∀ a, (k0_off1240 v8741) a + S32.size a ≤ S3407872.size a)
theorem k0_mult628_dvd : ∀ (v8741 : BitVec 32) (k0_hw651 : k0_chk651 v8741), 8 ∣ (k0_mult628 v8741).toNat := fun v8741 k0_hw651 => k0_hw651.1
theorem k0_off1224_inb : ∀ (v8741 : BitVec 32) (k0_hw651 : k0_chk651 v8741), ∀ a, (k0_off1224 v8741) a + S32.size a ≤ S3407872.size a := fun v8741 k0_hw651 => k0_hw651.2.1
theorem k0_off1240_inb : ∀ (v8741 : BitVec 32) (k0_hw651 : k0_chk651 v8741), ∀ a, (k0_off1240 v8741) a + S32.size a ≤ S3407872.size a := fun v8741 k0_hw651 => k0_hw651.2.2

def k0_off1241 (v8750 : BitVec 32) : Fin 1 → Nat :=
  let c1703936_i32_3877 : BitVec 32 := 1703936#32
  let c32_i32_3876 : BitVec 32 := 32#32
  let v8751 : BitVec 32 := Scalar.muli v8750 c32_i32_3876
  let v8752 : BitVec 32 := Scalar.addi c1703936_i32_3877 v8751
  let v8753 : BitVec 32 := v8752
  ![v8753.toNat]

def k0_chk652 (v8750 : BitVec 32) : Prop :=
  (8 ∣ (k0_mult629 v8750).toNat) ∧
  (∀ a, (k0_off1225 v8750) a + S32.size a ≤ S3407872.size a) ∧
  (∀ a, (k0_off1241 v8750) a + S32.size a ≤ S3407872.size a)
theorem k0_mult629_dvd : ∀ (v8750 : BitVec 32) (k0_hw652 : k0_chk652 v8750), 8 ∣ (k0_mult629 v8750).toNat := fun v8750 k0_hw652 => k0_hw652.1
theorem k0_off1225_inb : ∀ (v8750 : BitVec 32) (k0_hw652 : k0_chk652 v8750), ∀ a, (k0_off1225 v8750) a + S32.size a ≤ S3407872.size a := fun v8750 k0_hw652 => k0_hw652.2.1
theorem k0_off1241_inb : ∀ (v8750 : BitVec 32) (k0_hw652 : k0_chk652 v8750), ∀ a, (k0_off1241 v8750) a + S32.size a ≤ S3407872.size a := fun v8750 k0_hw652 => k0_hw652.2.2

def k0_off1242 (v8759 : BitVec 32) : Fin 1 → Nat :=
  let c1703936_i32_3881 : BitVec 32 := 1703936#32
  let c32_i32_3880 : BitVec 32 := 32#32
  let v8760 : BitVec 32 := Scalar.muli v8759 c32_i32_3880
  let v8761 : BitVec 32 := Scalar.addi c1703936_i32_3881 v8760
  let v8762 : BitVec 32 := v8761
  ![v8762.toNat]

def k0_chk653 (v8759 : BitVec 32) : Prop :=
  (8 ∣ (k0_mult630 v8759).toNat) ∧
  (∀ a, (k0_off1226 v8759) a + S32.size a ≤ S3407872.size a) ∧
  (∀ a, (k0_off1242 v8759) a + S32.size a ≤ S3407872.size a)
theorem k0_mult630_dvd : ∀ (v8759 : BitVec 32) (k0_hw653 : k0_chk653 v8759), 8 ∣ (k0_mult630 v8759).toNat := fun v8759 k0_hw653 => k0_hw653.1
theorem k0_off1226_inb : ∀ (v8759 : BitVec 32) (k0_hw653 : k0_chk653 v8759), ∀ a, (k0_off1226 v8759) a + S32.size a ≤ S3407872.size a := fun v8759 k0_hw653 => k0_hw653.2.1
theorem k0_off1242_inb : ∀ (v8759 : BitVec 32) (k0_hw653 : k0_chk653 v8759), ∀ a, (k0_off1242 v8759) a + S32.size a ≤ S3407872.size a := fun v8759 k0_hw653 => k0_hw653.2.2

def k0_off1243 (v8768 : BitVec 32) : Fin 1 → Nat :=
  let c1703936_i32_3885 : BitVec 32 := 1703936#32
  let c32_i32_3884 : BitVec 32 := 32#32
  let v8769 : BitVec 32 := Scalar.muli v8768 c32_i32_3884
  let v8770 : BitVec 32 := Scalar.addi c1703936_i32_3885 v8769
  let v8771 : BitVec 32 := v8770
  ![v8771.toNat]

def k0_chk654 (v8768 : BitVec 32) : Prop :=
  (8 ∣ (k0_mult631 v8768).toNat) ∧
  (∀ a, (k0_off1227 v8768) a + S32.size a ≤ S3407872.size a) ∧
  (∀ a, (k0_off1243 v8768) a + S32.size a ≤ S3407872.size a)
theorem k0_mult631_dvd : ∀ (v8768 : BitVec 32) (k0_hw654 : k0_chk654 v8768), 8 ∣ (k0_mult631 v8768).toNat := fun v8768 k0_hw654 => k0_hw654.1
theorem k0_off1227_inb : ∀ (v8768 : BitVec 32) (k0_hw654 : k0_chk654 v8768), ∀ a, (k0_off1227 v8768) a + S32.size a ≤ S3407872.size a := fun v8768 k0_hw654 => k0_hw654.2.1
theorem k0_off1243_inb : ∀ (v8768 : BitVec 32) (k0_hw654 : k0_chk654 v8768), ∀ a, (k0_off1243 v8768) a + S32.size a ≤ S3407872.size a := fun v8768 k0_hw654 => k0_hw654.2.2

def k0_off1244 (v8777 : BitVec 32) : Fin 1 → Nat :=
  let c1703936_i32_3889 : BitVec 32 := 1703936#32
  let c32_i32_3888 : BitVec 32 := 32#32
  let v8778 : BitVec 32 := Scalar.muli v8777 c32_i32_3888
  let v8779 : BitVec 32 := Scalar.addi c1703936_i32_3889 v8778
  let v8780 : BitVec 32 := v8779
  ![v8780.toNat]

def k0_chk655 (v8777 : BitVec 32) : Prop :=
  (8 ∣ (k0_mult632 v8777).toNat) ∧
  (∀ a, (k0_off1228 v8777) a + S32.size a ≤ S3407872.size a) ∧
  (∀ a, (k0_off1244 v8777) a + S32.size a ≤ S3407872.size a)
theorem k0_mult632_dvd : ∀ (v8777 : BitVec 32) (k0_hw655 : k0_chk655 v8777), 8 ∣ (k0_mult632 v8777).toNat := fun v8777 k0_hw655 => k0_hw655.1
theorem k0_off1228_inb : ∀ (v8777 : BitVec 32) (k0_hw655 : k0_chk655 v8777), ∀ a, (k0_off1228 v8777) a + S32.size a ≤ S3407872.size a := fun v8777 k0_hw655 => k0_hw655.2.1
theorem k0_off1244_inb : ∀ (v8777 : BitVec 32) (k0_hw655 : k0_chk655 v8777), ∀ a, (k0_off1244 v8777) a + S32.size a ≤ S3407872.size a := fun v8777 k0_hw655 => k0_hw655.2.2

def k0_off1245 (v8786 : BitVec 32) : Fin 1 → Nat :=
  let c1703936_i32_3893 : BitVec 32 := 1703936#32
  let c32_i32_3892 : BitVec 32 := 32#32
  let v8787 : BitVec 32 := Scalar.muli v8786 c32_i32_3892
  let v8788 : BitVec 32 := Scalar.addi c1703936_i32_3893 v8787
  let v8789 : BitVec 32 := v8788
  ![v8789.toNat]

def k0_chk656 (v8786 : BitVec 32) : Prop :=
  (8 ∣ (k0_mult633 v8786).toNat) ∧
  (∀ a, (k0_off1229 v8786) a + S32.size a ≤ S3407872.size a) ∧
  (∀ a, (k0_off1245 v8786) a + S32.size a ≤ S3407872.size a)
theorem k0_mult633_dvd : ∀ (v8786 : BitVec 32) (k0_hw656 : k0_chk656 v8786), 8 ∣ (k0_mult633 v8786).toNat := fun v8786 k0_hw656 => k0_hw656.1
theorem k0_off1229_inb : ∀ (v8786 : BitVec 32) (k0_hw656 : k0_chk656 v8786), ∀ a, (k0_off1229 v8786) a + S32.size a ≤ S3407872.size a := fun v8786 k0_hw656 => k0_hw656.2.1
theorem k0_off1245_inb : ∀ (v8786 : BitVec 32) (k0_hw656 : k0_chk656 v8786), ∀ a, (k0_off1245 v8786) a + S32.size a ≤ S3407872.size a := fun v8786 k0_hw656 => k0_hw656.2.2

def k0_off1246 (v8795 : BitVec 32) : Fin 1 → Nat :=
  let c1703936_i32_3897 : BitVec 32 := 1703936#32
  let c32_i32_3896 : BitVec 32 := 32#32
  let v8796 : BitVec 32 := Scalar.muli v8795 c32_i32_3896
  let v8797 : BitVec 32 := Scalar.addi c1703936_i32_3897 v8796
  let v8798 : BitVec 32 := v8797
  ![v8798.toNat]

def k0_chk657 (v8795 : BitVec 32) : Prop :=
  (8 ∣ (k0_mult634 v8795).toNat) ∧
  (∀ a, (k0_off1230 v8795) a + S32.size a ≤ S3407872.size a) ∧
  (∀ a, (k0_off1246 v8795) a + S32.size a ≤ S3407872.size a)
theorem k0_mult634_dvd : ∀ (v8795 : BitVec 32) (k0_hw657 : k0_chk657 v8795), 8 ∣ (k0_mult634 v8795).toNat := fun v8795 k0_hw657 => k0_hw657.1
theorem k0_off1230_inb : ∀ (v8795 : BitVec 32) (k0_hw657 : k0_chk657 v8795), ∀ a, (k0_off1230 v8795) a + S32.size a ≤ S3407872.size a := fun v8795 k0_hw657 => k0_hw657.2.1
theorem k0_off1246_inb : ∀ (v8795 : BitVec 32) (k0_hw657 : k0_chk657 v8795), ∀ a, (k0_off1246 v8795) a + S32.size a ≤ S3407872.size a := fun v8795 k0_hw657 => k0_hw657.2.2

def k0_off1247 (v8804 : BitVec 32) : Fin 1 → Nat :=
  let c1703936_i32_3901 : BitVec 32 := 1703936#32
  let c32_i32_3900 : BitVec 32 := 32#32
  let v8805 : BitVec 32 := Scalar.muli v8804 c32_i32_3900
  let v8806 : BitVec 32 := Scalar.addi c1703936_i32_3901 v8805
  let v8807 : BitVec 32 := v8806
  ![v8807.toNat]

def k0_chk658 (v8804 : BitVec 32) : Prop :=
  (8 ∣ (k0_mult635 v8804).toNat) ∧
  (∀ a, (k0_off1231 v8804) a + S32.size a ≤ S3407872.size a) ∧
  (∀ a, (k0_off1247 v8804) a + S32.size a ≤ S3407872.size a)
theorem k0_mult635_dvd : ∀ (v8804 : BitVec 32) (k0_hw658 : k0_chk658 v8804), 8 ∣ (k0_mult635 v8804).toNat := fun v8804 k0_hw658 => k0_hw658.1
theorem k0_off1231_inb : ∀ (v8804 : BitVec 32) (k0_hw658 : k0_chk658 v8804), ∀ a, (k0_off1231 v8804) a + S32.size a ≤ S3407872.size a := fun v8804 k0_hw658 => k0_hw658.2.1
theorem k0_off1247_inb : ∀ (v8804 : BitVec 32) (k0_hw658 : k0_chk658 v8804), ∀ a, (k0_off1247 v8804) a + S32.size a ≤ S3407872.size a := fun v8804 k0_hw658 => k0_hw658.2.2

def k0_off1248 (v8813 : BitVec 32) : Fin 1 → Nat :=
  let c1703936_i32_3905 : BitVec 32 := 1703936#32
  let c32_i32_3904 : BitVec 32 := 32#32
  let v8814 : BitVec 32 := Scalar.muli v8813 c32_i32_3904
  let v8815 : BitVec 32 := Scalar.addi c1703936_i32_3905 v8814
  let v8816 : BitVec 32 := v8815
  ![v8816.toNat]

def k0_chk659 (v8813 : BitVec 32) : Prop :=
  (8 ∣ (k0_mult636 v8813).toNat) ∧
  (∀ a, (k0_off1232 v8813) a + S32.size a ≤ S3407872.size a) ∧
  (∀ a, (k0_off1248 v8813) a + S32.size a ≤ S3407872.size a)
theorem k0_mult636_dvd : ∀ (v8813 : BitVec 32) (k0_hw659 : k0_chk659 v8813), 8 ∣ (k0_mult636 v8813).toNat := fun v8813 k0_hw659 => k0_hw659.1
theorem k0_off1232_inb : ∀ (v8813 : BitVec 32) (k0_hw659 : k0_chk659 v8813), ∀ a, (k0_off1232 v8813) a + S32.size a ≤ S3407872.size a := fun v8813 k0_hw659 => k0_hw659.2.1
theorem k0_off1248_inb : ∀ (v8813 : BitVec 32) (k0_hw659 : k0_chk659 v8813), ∀ a, (k0_off1248 v8813) a + S32.size a ≤ S3407872.size a := fun v8813 k0_hw659 => k0_hw659.2.2

def k0_off1249 (v8822 : BitVec 32) : Fin 1 → Nat :=
  let c1703936_i32_3909 : BitVec 32 := 1703936#32
  let c32_i32_3908 : BitVec 32 := 32#32
  let v8823 : BitVec 32 := Scalar.muli v8822 c32_i32_3908
  let v8824 : BitVec 32 := Scalar.addi c1703936_i32_3909 v8823
  let v8825 : BitVec 32 := v8824
  ![v8825.toNat]

def k0_chk660 (v8822 : BitVec 32) : Prop :=
  (8 ∣ (k0_mult637 v8822).toNat) ∧
  (∀ a, (k0_off1233 v8822) a + S32.size a ≤ S3407872.size a) ∧
  (∀ a, (k0_off1249 v8822) a + S32.size a ≤ S3407872.size a)
theorem k0_mult637_dvd : ∀ (v8822 : BitVec 32) (k0_hw660 : k0_chk660 v8822), 8 ∣ (k0_mult637 v8822).toNat := fun v8822 k0_hw660 => k0_hw660.1
theorem k0_off1233_inb : ∀ (v8822 : BitVec 32) (k0_hw660 : k0_chk660 v8822), ∀ a, (k0_off1233 v8822) a + S32.size a ≤ S3407872.size a := fun v8822 k0_hw660 => k0_hw660.2.1
theorem k0_off1249_inb : ∀ (v8822 : BitVec 32) (k0_hw660 : k0_chk660 v8822), ∀ a, (k0_off1249 v8822) a + S32.size a ≤ S3407872.size a := fun v8822 k0_hw660 => k0_hw660.2.2

def k0_off1250 (v8831 : BitVec 32) : Fin 1 → Nat :=
  let c1703936_i32_3913 : BitVec 32 := 1703936#32
  let c32_i32_3912 : BitVec 32 := 32#32
  let v8832 : BitVec 32 := Scalar.muli v8831 c32_i32_3912
  let v8833 : BitVec 32 := Scalar.addi c1703936_i32_3913 v8832
  let v8834 : BitVec 32 := v8833
  ![v8834.toNat]

def k0_chk661 (v8831 : BitVec 32) : Prop :=
  (8 ∣ (k0_mult638 v8831).toNat) ∧
  (∀ a, (k0_off1234 v8831) a + S32.size a ≤ S3407872.size a) ∧
  (∀ a, (k0_off1250 v8831) a + S32.size a ≤ S3407872.size a)
theorem k0_mult638_dvd : ∀ (v8831 : BitVec 32) (k0_hw661 : k0_chk661 v8831), 8 ∣ (k0_mult638 v8831).toNat := fun v8831 k0_hw661 => k0_hw661.1
theorem k0_off1234_inb : ∀ (v8831 : BitVec 32) (k0_hw661 : k0_chk661 v8831), ∀ a, (k0_off1234 v8831) a + S32.size a ≤ S3407872.size a := fun v8831 k0_hw661 => k0_hw661.2.1
theorem k0_off1250_inb : ∀ (v8831 : BitVec 32) (k0_hw661 : k0_chk661 v8831), ∀ a, (k0_off1250 v8831) a + S32.size a ≤ S3407872.size a := fun v8831 k0_hw661 => k0_hw661.2.2

def k0_off1251 (v8840 : BitVec 32) : Fin 1 → Nat :=
  let c1703936_i32_3917 : BitVec 32 := 1703936#32
  let c32_i32_3916 : BitVec 32 := 32#32
  let v8841 : BitVec 32 := Scalar.muli v8840 c32_i32_3916
  let v8842 : BitVec 32 := Scalar.addi c1703936_i32_3917 v8841
  let v8843 : BitVec 32 := v8842
  ![v8843.toNat]

def k0_chk662 (v8840 : BitVec 32) : Prop :=
  (8 ∣ (k0_mult639 v8840).toNat) ∧
  (∀ a, (k0_off1235 v8840) a + S32.size a ≤ S3407872.size a) ∧
  (∀ a, (k0_off1251 v8840) a + S32.size a ≤ S3407872.size a)
theorem k0_mult639_dvd : ∀ (v8840 : BitVec 32) (k0_hw662 : k0_chk662 v8840), 8 ∣ (k0_mult639 v8840).toNat := fun v8840 k0_hw662 => k0_hw662.1
theorem k0_off1235_inb : ∀ (v8840 : BitVec 32) (k0_hw662 : k0_chk662 v8840), ∀ a, (k0_off1235 v8840) a + S32.size a ≤ S3407872.size a := fun v8840 k0_hw662 => k0_hw662.2.1
theorem k0_off1251_inb : ∀ (v8840 : BitVec 32) (k0_hw662 : k0_chk662 v8840), ∀ a, (k0_off1251 v8840) a + S32.size a ≤ S3407872.size a := fun v8840 k0_hw662 => k0_hw662.2.2

def k0_off1252 (v8849 : BitVec 32) : Fin 1 → Nat :=
  let c1703936_i32_3921 : BitVec 32 := 1703936#32
  let c32_i32_3920 : BitVec 32 := 32#32
  let v8850 : BitVec 32 := Scalar.muli v8849 c32_i32_3920
  let v8851 : BitVec 32 := Scalar.addi c1703936_i32_3921 v8850
  let v8852 : BitVec 32 := v8851
  ![v8852.toNat]

def k0_chk663 (v8849 : BitVec 32) : Prop :=
  (8 ∣ (k0_mult640 v8849).toNat) ∧
  (∀ a, (k0_off1236 v8849) a + S32.size a ≤ S3407872.size a) ∧
  (∀ a, (k0_off1252 v8849) a + S32.size a ≤ S3407872.size a)
theorem k0_mult640_dvd : ∀ (v8849 : BitVec 32) (k0_hw663 : k0_chk663 v8849), 8 ∣ (k0_mult640 v8849).toNat := fun v8849 k0_hw663 => k0_hw663.1
theorem k0_off1236_inb : ∀ (v8849 : BitVec 32) (k0_hw663 : k0_chk663 v8849), ∀ a, (k0_off1236 v8849) a + S32.size a ≤ S3407872.size a := fun v8849 k0_hw663 => k0_hw663.2.1
theorem k0_off1252_inb : ∀ (v8849 : BitVec 32) (k0_hw663 : k0_chk663 v8849), ∀ a, (k0_off1252 v8849) a + S32.size a ≤ S3407872.size a := fun v8849 k0_hw663 => k0_hw663.2.2

def k0_mult642 (v8933 : BitVec 32) : BitVec 32 :=
  let c999936_i32_3962 : BitVec 32 := 999936#32
  let v8934 : BitVec 32 := Scalar.subi v8933 c999936_i32_3962
  let c32_i32_3963 : BitVec 32 := 32#32
  let v8935 : BitVec 32 := Scalar.muli v8934 c32_i32_3963
  v8935

def k0_off1253 (v8933 : BitVec 32) : Fin 1 → Nat :=
  let c999936_i32_3962 : BitVec 32 := 999936#32
  let v8934 : BitVec 32 := Scalar.subi v8933 c999936_i32_3962
  let c32_i32_3963 : BitVec 32 := 32#32
  let v8935 : BitVec 32 := Scalar.muli v8934 c32_i32_3963
  let v8936 : BitVec 32 := v8935
  ![v8936.toNat]
def k0_mult643 (v8942 : BitVec 32) : BitVec 32 :=
  let c999936_i32_3966 : BitVec 32 := 999936#32
  let v8943 : BitVec 32 := Scalar.subi v8942 c999936_i32_3966
  let c32_i32_3967 : BitVec 32 := 32#32
  let v8944 : BitVec 32 := Scalar.muli v8943 c32_i32_3967
  v8944

def k0_off1254 (v8942 : BitVec 32) : Fin 1 → Nat :=
  let c999936_i32_3966 : BitVec 32 := 999936#32
  let v8943 : BitVec 32 := Scalar.subi v8942 c999936_i32_3966
  let c32_i32_3967 : BitVec 32 := 32#32
  let v8944 : BitVec 32 := Scalar.muli v8943 c32_i32_3967
  let v8945 : BitVec 32 := v8944
  ![v8945.toNat]
def k0_mult644 (v8951 : BitVec 32) : BitVec 32 :=
  let c999936_i32_3970 : BitVec 32 := 999936#32
  let v8952 : BitVec 32 := Scalar.subi v8951 c999936_i32_3970
  let c32_i32_3971 : BitVec 32 := 32#32
  let v8953 : BitVec 32 := Scalar.muli v8952 c32_i32_3971
  v8953

def k0_off1255 (v8951 : BitVec 32) : Fin 1 → Nat :=
  let c999936_i32_3970 : BitVec 32 := 999936#32
  let v8952 : BitVec 32 := Scalar.subi v8951 c999936_i32_3970
  let c32_i32_3971 : BitVec 32 := 32#32
  let v8953 : BitVec 32 := Scalar.muli v8952 c32_i32_3971
  let v8954 : BitVec 32 := v8953
  ![v8954.toNat]
def k0_mult645 (v8960 : BitVec 32) : BitVec 32 :=
  let c999936_i32_3974 : BitVec 32 := 999936#32
  let v8961 : BitVec 32 := Scalar.subi v8960 c999936_i32_3974
  let c32_i32_3975 : BitVec 32 := 32#32
  let v8962 : BitVec 32 := Scalar.muli v8961 c32_i32_3975
  v8962

def k0_off1256 (v8960 : BitVec 32) : Fin 1 → Nat :=
  let c999936_i32_3974 : BitVec 32 := 999936#32
  let v8961 : BitVec 32 := Scalar.subi v8960 c999936_i32_3974
  let c32_i32_3975 : BitVec 32 := 32#32
  let v8962 : BitVec 32 := Scalar.muli v8961 c32_i32_3975
  let v8963 : BitVec 32 := v8962
  ![v8963.toNat]
def k0_mult646 (v8969 : BitVec 32) : BitVec 32 :=
  let c999936_i32_3978 : BitVec 32 := 999936#32
  let v8970 : BitVec 32 := Scalar.subi v8969 c999936_i32_3978
  let c32_i32_3979 : BitVec 32 := 32#32
  let v8971 : BitVec 32 := Scalar.muli v8970 c32_i32_3979
  v8971

def k0_off1257 (v8969 : BitVec 32) : Fin 1 → Nat :=
  let c999936_i32_3978 : BitVec 32 := 999936#32
  let v8970 : BitVec 32 := Scalar.subi v8969 c999936_i32_3978
  let c32_i32_3979 : BitVec 32 := 32#32
  let v8971 : BitVec 32 := Scalar.muli v8970 c32_i32_3979
  let v8972 : BitVec 32 := v8971
  ![v8972.toNat]
def k0_mult647 (v8978 : BitVec 32) : BitVec 32 :=
  let c999936_i32_3982 : BitVec 32 := 999936#32
  let v8979 : BitVec 32 := Scalar.subi v8978 c999936_i32_3982
  let c32_i32_3983 : BitVec 32 := 32#32
  let v8980 : BitVec 32 := Scalar.muli v8979 c32_i32_3983
  v8980

def k0_off1258 (v8978 : BitVec 32) : Fin 1 → Nat :=
  let c999936_i32_3982 : BitVec 32 := 999936#32
  let v8979 : BitVec 32 := Scalar.subi v8978 c999936_i32_3982
  let c32_i32_3983 : BitVec 32 := 32#32
  let v8980 : BitVec 32 := Scalar.muli v8979 c32_i32_3983
  let v8981 : BitVec 32 := v8980
  ![v8981.toNat]
def k0_mult648 (v8987 : BitVec 32) : BitVec 32 :=
  let c999936_i32_3986 : BitVec 32 := 999936#32
  let v8988 : BitVec 32 := Scalar.subi v8987 c999936_i32_3986
  let c32_i32_3987 : BitVec 32 := 32#32
  let v8989 : BitVec 32 := Scalar.muli v8988 c32_i32_3987
  v8989

def k0_off1259 (v8987 : BitVec 32) : Fin 1 → Nat :=
  let c999936_i32_3986 : BitVec 32 := 999936#32
  let v8988 : BitVec 32 := Scalar.subi v8987 c999936_i32_3986
  let c32_i32_3987 : BitVec 32 := 32#32
  let v8989 : BitVec 32 := Scalar.muli v8988 c32_i32_3987
  let v8990 : BitVec 32 := v8989
  ![v8990.toNat]
def k0_mult649 (v8996 : BitVec 32) : BitVec 32 :=
  let c999936_i32_3990 : BitVec 32 := 999936#32
  let v8997 : BitVec 32 := Scalar.subi v8996 c999936_i32_3990
  let c32_i32_3991 : BitVec 32 := 32#32
  let v8998 : BitVec 32 := Scalar.muli v8997 c32_i32_3991
  v8998

def k0_off1260 (v8996 : BitVec 32) : Fin 1 → Nat :=
  let c999936_i32_3990 : BitVec 32 := 999936#32
  let v8997 : BitVec 32 := Scalar.subi v8996 c999936_i32_3990
  let c32_i32_3991 : BitVec 32 := 32#32
  let v8998 : BitVec 32 := Scalar.muli v8997 c32_i32_3991
  let v8999 : BitVec 32 := v8998
  ![v8999.toNat]
def k0_mult650 (v9005 : BitVec 32) : BitVec 32 :=
  let c999936_i32_3994 : BitVec 32 := 999936#32
  let v9006 : BitVec 32 := Scalar.subi v9005 c999936_i32_3994
  let c32_i32_3995 : BitVec 32 := 32#32
  let v9007 : BitVec 32 := Scalar.muli v9006 c32_i32_3995
  v9007

def k0_off1261 (v9005 : BitVec 32) : Fin 1 → Nat :=
  let c999936_i32_3994 : BitVec 32 := 999936#32
  let v9006 : BitVec 32 := Scalar.subi v9005 c999936_i32_3994
  let c32_i32_3995 : BitVec 32 := 32#32
  let v9007 : BitVec 32 := Scalar.muli v9006 c32_i32_3995
  let v9008 : BitVec 32 := v9007
  ![v9008.toNat]
def k0_mult651 (v9014 : BitVec 32) : BitVec 32 :=
  let c999936_i32_3998 : BitVec 32 := 999936#32
  let v9015 : BitVec 32 := Scalar.subi v9014 c999936_i32_3998
  let c32_i32_3999 : BitVec 32 := 32#32
  let v9016 : BitVec 32 := Scalar.muli v9015 c32_i32_3999
  v9016

def k0_off1262 (v9014 : BitVec 32) : Fin 1 → Nat :=
  let c999936_i32_3998 : BitVec 32 := 999936#32
  let v9015 : BitVec 32 := Scalar.subi v9014 c999936_i32_3998
  let c32_i32_3999 : BitVec 32 := 32#32
  let v9016 : BitVec 32 := Scalar.muli v9015 c32_i32_3999
  let v9017 : BitVec 32 := v9016
  ![v9017.toNat]
def k0_mult652 (v9023 : BitVec 32) : BitVec 32 :=
  let c999936_i32_4002 : BitVec 32 := 999936#32
  let v9024 : BitVec 32 := Scalar.subi v9023 c999936_i32_4002
  let c32_i32_4003 : BitVec 32 := 32#32
  let v9025 : BitVec 32 := Scalar.muli v9024 c32_i32_4003
  v9025

def k0_off1263 (v9023 : BitVec 32) : Fin 1 → Nat :=
  let c999936_i32_4002 : BitVec 32 := 999936#32
  let v9024 : BitVec 32 := Scalar.subi v9023 c999936_i32_4002
  let c32_i32_4003 : BitVec 32 := 32#32
  let v9025 : BitVec 32 := Scalar.muli v9024 c32_i32_4003
  let v9026 : BitVec 32 := v9025
  ![v9026.toNat]
def k0_mult653 (v9032 : BitVec 32) : BitVec 32 :=
  let c999936_i32_4006 : BitVec 32 := 999936#32
  let v9033 : BitVec 32 := Scalar.subi v9032 c999936_i32_4006
  let c32_i32_4007 : BitVec 32 := 32#32
  let v9034 : BitVec 32 := Scalar.muli v9033 c32_i32_4007
  v9034

def k0_off1264 (v9032 : BitVec 32) : Fin 1 → Nat :=
  let c999936_i32_4006 : BitVec 32 := 999936#32
  let v9033 : BitVec 32 := Scalar.subi v9032 c999936_i32_4006
  let c32_i32_4007 : BitVec 32 := 32#32
  let v9034 : BitVec 32 := Scalar.muli v9033 c32_i32_4007
  let v9035 : BitVec 32 := v9034
  ![v9035.toNat]
def k0_mult654 (v9041 : BitVec 32) : BitVec 32 :=
  let c999936_i32_4010 : BitVec 32 := 999936#32
  let v9042 : BitVec 32 := Scalar.subi v9041 c999936_i32_4010
  let c32_i32_4011 : BitVec 32 := 32#32
  let v9043 : BitVec 32 := Scalar.muli v9042 c32_i32_4011
  v9043

def k0_off1265 (v9041 : BitVec 32) : Fin 1 → Nat :=
  let c999936_i32_4010 : BitVec 32 := 999936#32
  let v9042 : BitVec 32 := Scalar.subi v9041 c999936_i32_4010
  let c32_i32_4011 : BitVec 32 := 32#32
  let v9043 : BitVec 32 := Scalar.muli v9042 c32_i32_4011
  let v9044 : BitVec 32 := v9043
  ![v9044.toNat]
def k0_mult655 (v9050 : BitVec 32) : BitVec 32 :=
  let c999936_i32_4014 : BitVec 32 := 999936#32
  let v9051 : BitVec 32 := Scalar.subi v9050 c999936_i32_4014
  let c32_i32_4015 : BitVec 32 := 32#32
  let v9052 : BitVec 32 := Scalar.muli v9051 c32_i32_4015
  v9052

def k0_off1266 (v9050 : BitVec 32) : Fin 1 → Nat :=
  let c999936_i32_4014 : BitVec 32 := 999936#32
  let v9051 : BitVec 32 := Scalar.subi v9050 c999936_i32_4014
  let c32_i32_4015 : BitVec 32 := 32#32
  let v9052 : BitVec 32 := Scalar.muli v9051 c32_i32_4015
  let v9053 : BitVec 32 := v9052
  ![v9053.toNat]
def k0_mult656 (v9059 : BitVec 32) : BitVec 32 :=
  let c999936_i32_4018 : BitVec 32 := 999936#32
  let v9060 : BitVec 32 := Scalar.subi v9059 c999936_i32_4018
  let c32_i32_4019 : BitVec 32 := 32#32
  let v9061 : BitVec 32 := Scalar.muli v9060 c32_i32_4019
  v9061

def k0_off1267 (v9059 : BitVec 32) : Fin 1 → Nat :=
  let c999936_i32_4018 : BitVec 32 := 999936#32
  let v9060 : BitVec 32 := Scalar.subi v9059 c999936_i32_4018
  let c32_i32_4019 : BitVec 32 := 32#32
  let v9061 : BitVec 32 := Scalar.muli v9060 c32_i32_4019
  let v9062 : BitVec 32 := v9061
  ![v9062.toNat]
def k0_mult657 (v9068 : BitVec 32) : BitVec 32 :=
  let c999936_i32_4022 : BitVec 32 := 999936#32
  let v9069 : BitVec 32 := Scalar.subi v9068 c999936_i32_4022
  let c32_i32_4023 : BitVec 32 := 32#32
  let v9070 : BitVec 32 := Scalar.muli v9069 c32_i32_4023
  v9070

def k0_off1268 (v9068 : BitVec 32) : Fin 1 → Nat :=
  let c999936_i32_4022 : BitVec 32 := 999936#32
  let v9069 : BitVec 32 := Scalar.subi v9068 c999936_i32_4022
  let c32_i32_4023 : BitVec 32 := 32#32
  let v9070 : BitVec 32 := Scalar.muli v9069 c32_i32_4023
  let v9071 : BitVec 32 := v9070
  ![v9071.toNat]

def k0_chk680 (v9068 : BitVec 32) : Prop :=
  (8 ∣ (k0_mult657 v9068).toNat) ∧
  (∀ a, (k0_off1268 v9068) a + S32.size a ≤ S2048.size a)
theorem k0_mult657_dvd : ∀ (v9068 : BitVec 32) (k0_hw680 : k0_chk680 v9068), 8 ∣ (k0_mult657 v9068).toNat := fun v9068 k0_hw680 => k0_hw680.1
theorem k0_off1268_inb : ∀ (v9068 : BitVec 32) (k0_hw680 : k0_chk680 v9068), ∀ a, (k0_off1268 v9068) a + S32.size a ≤ S2048.size a := fun v9068 k0_hw680 => k0_hw680.2

def k0_off1269 (v8933 : BitVec 32) : Fin 1 → Nat :=
  let c999936_i32_3962 : BitVec 32 := 999936#32
  let v8934 : BitVec 32 := Scalar.subi v8933 c999936_i32_3962
  let c32_i32_3963 : BitVec 32 := 32#32
  let v8935 : BitVec 32 := Scalar.muli v8934 c32_i32_3963
  let v8936 : BitVec 32 := v8935
  ![v8936.toNat]

def k0_chk665 (v8933 : BitVec 32) : Prop :=
  (8 ∣ (k0_mult642 v8933).toNat) ∧
  (∀ a, (k0_off1253 v8933) a + S32.size a ≤ S2048.size a) ∧
  (∀ a, (k0_off1269 v8933) a + S32.size a ≤ S2048.size a)
theorem k0_mult642_dvd : ∀ (v8933 : BitVec 32) (k0_hw665 : k0_chk665 v8933), 8 ∣ (k0_mult642 v8933).toNat := fun v8933 k0_hw665 => k0_hw665.1
theorem k0_off1253_inb : ∀ (v8933 : BitVec 32) (k0_hw665 : k0_chk665 v8933), ∀ a, (k0_off1253 v8933) a + S32.size a ≤ S2048.size a := fun v8933 k0_hw665 => k0_hw665.2.1
theorem k0_off1269_inb : ∀ (v8933 : BitVec 32) (k0_hw665 : k0_chk665 v8933), ∀ a, (k0_off1269 v8933) a + S32.size a ≤ S2048.size a := fun v8933 k0_hw665 => k0_hw665.2.2

def k0_off1270 (v8942 : BitVec 32) : Fin 1 → Nat :=
  let c999936_i32_3966 : BitVec 32 := 999936#32
  let v8943 : BitVec 32 := Scalar.subi v8942 c999936_i32_3966
  let c32_i32_3967 : BitVec 32 := 32#32
  let v8944 : BitVec 32 := Scalar.muli v8943 c32_i32_3967
  let v8945 : BitVec 32 := v8944
  ![v8945.toNat]

def k0_chk666 (v8942 : BitVec 32) : Prop :=
  (8 ∣ (k0_mult643 v8942).toNat) ∧
  (∀ a, (k0_off1254 v8942) a + S32.size a ≤ S2048.size a) ∧
  (∀ a, (k0_off1270 v8942) a + S32.size a ≤ S2048.size a)
theorem k0_mult643_dvd : ∀ (v8942 : BitVec 32) (k0_hw666 : k0_chk666 v8942), 8 ∣ (k0_mult643 v8942).toNat := fun v8942 k0_hw666 => k0_hw666.1
theorem k0_off1254_inb : ∀ (v8942 : BitVec 32) (k0_hw666 : k0_chk666 v8942), ∀ a, (k0_off1254 v8942) a + S32.size a ≤ S2048.size a := fun v8942 k0_hw666 => k0_hw666.2.1
theorem k0_off1270_inb : ∀ (v8942 : BitVec 32) (k0_hw666 : k0_chk666 v8942), ∀ a, (k0_off1270 v8942) a + S32.size a ≤ S2048.size a := fun v8942 k0_hw666 => k0_hw666.2.2

def k0_off1271 (v8951 : BitVec 32) : Fin 1 → Nat :=
  let c999936_i32_3970 : BitVec 32 := 999936#32
  let v8952 : BitVec 32 := Scalar.subi v8951 c999936_i32_3970
  let c32_i32_3971 : BitVec 32 := 32#32
  let v8953 : BitVec 32 := Scalar.muli v8952 c32_i32_3971
  let v8954 : BitVec 32 := v8953
  ![v8954.toNat]

def k0_chk667 (v8951 : BitVec 32) : Prop :=
  (8 ∣ (k0_mult644 v8951).toNat) ∧
  (∀ a, (k0_off1255 v8951) a + S32.size a ≤ S2048.size a) ∧
  (∀ a, (k0_off1271 v8951) a + S32.size a ≤ S2048.size a)
theorem k0_mult644_dvd : ∀ (v8951 : BitVec 32) (k0_hw667 : k0_chk667 v8951), 8 ∣ (k0_mult644 v8951).toNat := fun v8951 k0_hw667 => k0_hw667.1
theorem k0_off1255_inb : ∀ (v8951 : BitVec 32) (k0_hw667 : k0_chk667 v8951), ∀ a, (k0_off1255 v8951) a + S32.size a ≤ S2048.size a := fun v8951 k0_hw667 => k0_hw667.2.1
theorem k0_off1271_inb : ∀ (v8951 : BitVec 32) (k0_hw667 : k0_chk667 v8951), ∀ a, (k0_off1271 v8951) a + S32.size a ≤ S2048.size a := fun v8951 k0_hw667 => k0_hw667.2.2

def k0_off1272 (v8960 : BitVec 32) : Fin 1 → Nat :=
  let c999936_i32_3974 : BitVec 32 := 999936#32
  let v8961 : BitVec 32 := Scalar.subi v8960 c999936_i32_3974
  let c32_i32_3975 : BitVec 32 := 32#32
  let v8962 : BitVec 32 := Scalar.muli v8961 c32_i32_3975
  let v8963 : BitVec 32 := v8962
  ![v8963.toNat]

def k0_chk668 (v8960 : BitVec 32) : Prop :=
  (8 ∣ (k0_mult645 v8960).toNat) ∧
  (∀ a, (k0_off1256 v8960) a + S32.size a ≤ S2048.size a) ∧
  (∀ a, (k0_off1272 v8960) a + S32.size a ≤ S2048.size a)
theorem k0_mult645_dvd : ∀ (v8960 : BitVec 32) (k0_hw668 : k0_chk668 v8960), 8 ∣ (k0_mult645 v8960).toNat := fun v8960 k0_hw668 => k0_hw668.1
theorem k0_off1256_inb : ∀ (v8960 : BitVec 32) (k0_hw668 : k0_chk668 v8960), ∀ a, (k0_off1256 v8960) a + S32.size a ≤ S2048.size a := fun v8960 k0_hw668 => k0_hw668.2.1
theorem k0_off1272_inb : ∀ (v8960 : BitVec 32) (k0_hw668 : k0_chk668 v8960), ∀ a, (k0_off1272 v8960) a + S32.size a ≤ S2048.size a := fun v8960 k0_hw668 => k0_hw668.2.2

def k0_off1273 (v8969 : BitVec 32) : Fin 1 → Nat :=
  let c999936_i32_3978 : BitVec 32 := 999936#32
  let v8970 : BitVec 32 := Scalar.subi v8969 c999936_i32_3978
  let c32_i32_3979 : BitVec 32 := 32#32
  let v8971 : BitVec 32 := Scalar.muli v8970 c32_i32_3979
  let v8972 : BitVec 32 := v8971
  ![v8972.toNat]

def k0_chk669 (v8969 : BitVec 32) : Prop :=
  (8 ∣ (k0_mult646 v8969).toNat) ∧
  (∀ a, (k0_off1257 v8969) a + S32.size a ≤ S2048.size a) ∧
  (∀ a, (k0_off1273 v8969) a + S32.size a ≤ S2048.size a)
theorem k0_mult646_dvd : ∀ (v8969 : BitVec 32) (k0_hw669 : k0_chk669 v8969), 8 ∣ (k0_mult646 v8969).toNat := fun v8969 k0_hw669 => k0_hw669.1
theorem k0_off1257_inb : ∀ (v8969 : BitVec 32) (k0_hw669 : k0_chk669 v8969), ∀ a, (k0_off1257 v8969) a + S32.size a ≤ S2048.size a := fun v8969 k0_hw669 => k0_hw669.2.1
theorem k0_off1273_inb : ∀ (v8969 : BitVec 32) (k0_hw669 : k0_chk669 v8969), ∀ a, (k0_off1273 v8969) a + S32.size a ≤ S2048.size a := fun v8969 k0_hw669 => k0_hw669.2.2

def k0_off1274 (v8978 : BitVec 32) : Fin 1 → Nat :=
  let c999936_i32_3982 : BitVec 32 := 999936#32
  let v8979 : BitVec 32 := Scalar.subi v8978 c999936_i32_3982
  let c32_i32_3983 : BitVec 32 := 32#32
  let v8980 : BitVec 32 := Scalar.muli v8979 c32_i32_3983
  let v8981 : BitVec 32 := v8980
  ![v8981.toNat]

def k0_chk670 (v8978 : BitVec 32) : Prop :=
  (8 ∣ (k0_mult647 v8978).toNat) ∧
  (∀ a, (k0_off1258 v8978) a + S32.size a ≤ S2048.size a) ∧
  (∀ a, (k0_off1274 v8978) a + S32.size a ≤ S2048.size a)
theorem k0_mult647_dvd : ∀ (v8978 : BitVec 32) (k0_hw670 : k0_chk670 v8978), 8 ∣ (k0_mult647 v8978).toNat := fun v8978 k0_hw670 => k0_hw670.1
theorem k0_off1258_inb : ∀ (v8978 : BitVec 32) (k0_hw670 : k0_chk670 v8978), ∀ a, (k0_off1258 v8978) a + S32.size a ≤ S2048.size a := fun v8978 k0_hw670 => k0_hw670.2.1
theorem k0_off1274_inb : ∀ (v8978 : BitVec 32) (k0_hw670 : k0_chk670 v8978), ∀ a, (k0_off1274 v8978) a + S32.size a ≤ S2048.size a := fun v8978 k0_hw670 => k0_hw670.2.2

def k0_off1275 (v8987 : BitVec 32) : Fin 1 → Nat :=
  let c999936_i32_3986 : BitVec 32 := 999936#32
  let v8988 : BitVec 32 := Scalar.subi v8987 c999936_i32_3986
  let c32_i32_3987 : BitVec 32 := 32#32
  let v8989 : BitVec 32 := Scalar.muli v8988 c32_i32_3987
  let v8990 : BitVec 32 := v8989
  ![v8990.toNat]

def k0_chk671 (v8987 : BitVec 32) : Prop :=
  (8 ∣ (k0_mult648 v8987).toNat) ∧
  (∀ a, (k0_off1259 v8987) a + S32.size a ≤ S2048.size a) ∧
  (∀ a, (k0_off1275 v8987) a + S32.size a ≤ S2048.size a)
theorem k0_mult648_dvd : ∀ (v8987 : BitVec 32) (k0_hw671 : k0_chk671 v8987), 8 ∣ (k0_mult648 v8987).toNat := fun v8987 k0_hw671 => k0_hw671.1
theorem k0_off1259_inb : ∀ (v8987 : BitVec 32) (k0_hw671 : k0_chk671 v8987), ∀ a, (k0_off1259 v8987) a + S32.size a ≤ S2048.size a := fun v8987 k0_hw671 => k0_hw671.2.1
theorem k0_off1275_inb : ∀ (v8987 : BitVec 32) (k0_hw671 : k0_chk671 v8987), ∀ a, (k0_off1275 v8987) a + S32.size a ≤ S2048.size a := fun v8987 k0_hw671 => k0_hw671.2.2

def k0_off1276 (v8996 : BitVec 32) : Fin 1 → Nat :=
  let c999936_i32_3990 : BitVec 32 := 999936#32
  let v8997 : BitVec 32 := Scalar.subi v8996 c999936_i32_3990
  let c32_i32_3991 : BitVec 32 := 32#32
  let v8998 : BitVec 32 := Scalar.muli v8997 c32_i32_3991
  let v8999 : BitVec 32 := v8998
  ![v8999.toNat]

def k0_chk672 (v8996 : BitVec 32) : Prop :=
  (8 ∣ (k0_mult649 v8996).toNat) ∧
  (∀ a, (k0_off1260 v8996) a + S32.size a ≤ S2048.size a) ∧
  (∀ a, (k0_off1276 v8996) a + S32.size a ≤ S2048.size a)
theorem k0_mult649_dvd : ∀ (v8996 : BitVec 32) (k0_hw672 : k0_chk672 v8996), 8 ∣ (k0_mult649 v8996).toNat := fun v8996 k0_hw672 => k0_hw672.1
theorem k0_off1260_inb : ∀ (v8996 : BitVec 32) (k0_hw672 : k0_chk672 v8996), ∀ a, (k0_off1260 v8996) a + S32.size a ≤ S2048.size a := fun v8996 k0_hw672 => k0_hw672.2.1
theorem k0_off1276_inb : ∀ (v8996 : BitVec 32) (k0_hw672 : k0_chk672 v8996), ∀ a, (k0_off1276 v8996) a + S32.size a ≤ S2048.size a := fun v8996 k0_hw672 => k0_hw672.2.2

def k0_off1277 (v9005 : BitVec 32) : Fin 1 → Nat :=
  let c999936_i32_3994 : BitVec 32 := 999936#32
  let v9006 : BitVec 32 := Scalar.subi v9005 c999936_i32_3994
  let c32_i32_3995 : BitVec 32 := 32#32
  let v9007 : BitVec 32 := Scalar.muli v9006 c32_i32_3995
  let v9008 : BitVec 32 := v9007
  ![v9008.toNat]

def k0_chk673 (v9005 : BitVec 32) : Prop :=
  (8 ∣ (k0_mult650 v9005).toNat) ∧
  (∀ a, (k0_off1261 v9005) a + S32.size a ≤ S2048.size a) ∧
  (∀ a, (k0_off1277 v9005) a + S32.size a ≤ S2048.size a)
theorem k0_mult650_dvd : ∀ (v9005 : BitVec 32) (k0_hw673 : k0_chk673 v9005), 8 ∣ (k0_mult650 v9005).toNat := fun v9005 k0_hw673 => k0_hw673.1
theorem k0_off1261_inb : ∀ (v9005 : BitVec 32) (k0_hw673 : k0_chk673 v9005), ∀ a, (k0_off1261 v9005) a + S32.size a ≤ S2048.size a := fun v9005 k0_hw673 => k0_hw673.2.1
theorem k0_off1277_inb : ∀ (v9005 : BitVec 32) (k0_hw673 : k0_chk673 v9005), ∀ a, (k0_off1277 v9005) a + S32.size a ≤ S2048.size a := fun v9005 k0_hw673 => k0_hw673.2.2

def k0_off1278 (v9014 : BitVec 32) : Fin 1 → Nat :=
  let c999936_i32_3998 : BitVec 32 := 999936#32
  let v9015 : BitVec 32 := Scalar.subi v9014 c999936_i32_3998
  let c32_i32_3999 : BitVec 32 := 32#32
  let v9016 : BitVec 32 := Scalar.muli v9015 c32_i32_3999
  let v9017 : BitVec 32 := v9016
  ![v9017.toNat]

def k0_chk674 (v9014 : BitVec 32) : Prop :=
  (8 ∣ (k0_mult651 v9014).toNat) ∧
  (∀ a, (k0_off1262 v9014) a + S32.size a ≤ S2048.size a) ∧
  (∀ a, (k0_off1278 v9014) a + S32.size a ≤ S2048.size a)
theorem k0_mult651_dvd : ∀ (v9014 : BitVec 32) (k0_hw674 : k0_chk674 v9014), 8 ∣ (k0_mult651 v9014).toNat := fun v9014 k0_hw674 => k0_hw674.1
theorem k0_off1262_inb : ∀ (v9014 : BitVec 32) (k0_hw674 : k0_chk674 v9014), ∀ a, (k0_off1262 v9014) a + S32.size a ≤ S2048.size a := fun v9014 k0_hw674 => k0_hw674.2.1
theorem k0_off1278_inb : ∀ (v9014 : BitVec 32) (k0_hw674 : k0_chk674 v9014), ∀ a, (k0_off1278 v9014) a + S32.size a ≤ S2048.size a := fun v9014 k0_hw674 => k0_hw674.2.2

def k0_off1279 (v9023 : BitVec 32) : Fin 1 → Nat :=
  let c999936_i32_4002 : BitVec 32 := 999936#32
  let v9024 : BitVec 32 := Scalar.subi v9023 c999936_i32_4002
  let c32_i32_4003 : BitVec 32 := 32#32
  let v9025 : BitVec 32 := Scalar.muli v9024 c32_i32_4003
  let v9026 : BitVec 32 := v9025
  ![v9026.toNat]

def k0_chk675 (v9023 : BitVec 32) : Prop :=
  (8 ∣ (k0_mult652 v9023).toNat) ∧
  (∀ a, (k0_off1263 v9023) a + S32.size a ≤ S2048.size a) ∧
  (∀ a, (k0_off1279 v9023) a + S32.size a ≤ S2048.size a)
theorem k0_mult652_dvd : ∀ (v9023 : BitVec 32) (k0_hw675 : k0_chk675 v9023), 8 ∣ (k0_mult652 v9023).toNat := fun v9023 k0_hw675 => k0_hw675.1
theorem k0_off1263_inb : ∀ (v9023 : BitVec 32) (k0_hw675 : k0_chk675 v9023), ∀ a, (k0_off1263 v9023) a + S32.size a ≤ S2048.size a := fun v9023 k0_hw675 => k0_hw675.2.1
theorem k0_off1279_inb : ∀ (v9023 : BitVec 32) (k0_hw675 : k0_chk675 v9023), ∀ a, (k0_off1279 v9023) a + S32.size a ≤ S2048.size a := fun v9023 k0_hw675 => k0_hw675.2.2

def k0_off1280 (v9032 : BitVec 32) : Fin 1 → Nat :=
  let c999936_i32_4006 : BitVec 32 := 999936#32
  let v9033 : BitVec 32 := Scalar.subi v9032 c999936_i32_4006
  let c32_i32_4007 : BitVec 32 := 32#32
  let v9034 : BitVec 32 := Scalar.muli v9033 c32_i32_4007
  let v9035 : BitVec 32 := v9034
  ![v9035.toNat]

def k0_chk676 (v9032 : BitVec 32) : Prop :=
  (8 ∣ (k0_mult653 v9032).toNat) ∧
  (∀ a, (k0_off1264 v9032) a + S32.size a ≤ S2048.size a) ∧
  (∀ a, (k0_off1280 v9032) a + S32.size a ≤ S2048.size a)
theorem k0_mult653_dvd : ∀ (v9032 : BitVec 32) (k0_hw676 : k0_chk676 v9032), 8 ∣ (k0_mult653 v9032).toNat := fun v9032 k0_hw676 => k0_hw676.1
theorem k0_off1264_inb : ∀ (v9032 : BitVec 32) (k0_hw676 : k0_chk676 v9032), ∀ a, (k0_off1264 v9032) a + S32.size a ≤ S2048.size a := fun v9032 k0_hw676 => k0_hw676.2.1
theorem k0_off1280_inb : ∀ (v9032 : BitVec 32) (k0_hw676 : k0_chk676 v9032), ∀ a, (k0_off1280 v9032) a + S32.size a ≤ S2048.size a := fun v9032 k0_hw676 => k0_hw676.2.2

def k0_off1281 (v9041 : BitVec 32) : Fin 1 → Nat :=
  let c999936_i32_4010 : BitVec 32 := 999936#32
  let v9042 : BitVec 32 := Scalar.subi v9041 c999936_i32_4010
  let c32_i32_4011 : BitVec 32 := 32#32
  let v9043 : BitVec 32 := Scalar.muli v9042 c32_i32_4011
  let v9044 : BitVec 32 := v9043
  ![v9044.toNat]

def k0_chk677 (v9041 : BitVec 32) : Prop :=
  (8 ∣ (k0_mult654 v9041).toNat) ∧
  (∀ a, (k0_off1265 v9041) a + S32.size a ≤ S2048.size a) ∧
  (∀ a, (k0_off1281 v9041) a + S32.size a ≤ S2048.size a)
theorem k0_mult654_dvd : ∀ (v9041 : BitVec 32) (k0_hw677 : k0_chk677 v9041), 8 ∣ (k0_mult654 v9041).toNat := fun v9041 k0_hw677 => k0_hw677.1
theorem k0_off1265_inb : ∀ (v9041 : BitVec 32) (k0_hw677 : k0_chk677 v9041), ∀ a, (k0_off1265 v9041) a + S32.size a ≤ S2048.size a := fun v9041 k0_hw677 => k0_hw677.2.1
theorem k0_off1281_inb : ∀ (v9041 : BitVec 32) (k0_hw677 : k0_chk677 v9041), ∀ a, (k0_off1281 v9041) a + S32.size a ≤ S2048.size a := fun v9041 k0_hw677 => k0_hw677.2.2

def k0_off1282 (v9050 : BitVec 32) : Fin 1 → Nat :=
  let c999936_i32_4014 : BitVec 32 := 999936#32
  let v9051 : BitVec 32 := Scalar.subi v9050 c999936_i32_4014
  let c32_i32_4015 : BitVec 32 := 32#32
  let v9052 : BitVec 32 := Scalar.muli v9051 c32_i32_4015
  let v9053 : BitVec 32 := v9052
  ![v9053.toNat]

def k0_chk678 (v9050 : BitVec 32) : Prop :=
  (8 ∣ (k0_mult655 v9050).toNat) ∧
  (∀ a, (k0_off1266 v9050) a + S32.size a ≤ S2048.size a) ∧
  (∀ a, (k0_off1282 v9050) a + S32.size a ≤ S2048.size a)
theorem k0_mult655_dvd : ∀ (v9050 : BitVec 32) (k0_hw678 : k0_chk678 v9050), 8 ∣ (k0_mult655 v9050).toNat := fun v9050 k0_hw678 => k0_hw678.1
theorem k0_off1266_inb : ∀ (v9050 : BitVec 32) (k0_hw678 : k0_chk678 v9050), ∀ a, (k0_off1266 v9050) a + S32.size a ≤ S2048.size a := fun v9050 k0_hw678 => k0_hw678.2.1
theorem k0_off1282_inb : ∀ (v9050 : BitVec 32) (k0_hw678 : k0_chk678 v9050), ∀ a, (k0_off1282 v9050) a + S32.size a ≤ S2048.size a := fun v9050 k0_hw678 => k0_hw678.2.2

def k0_off1283 (v9059 : BitVec 32) : Fin 1 → Nat :=
  let c999936_i32_4018 : BitVec 32 := 999936#32
  let v9060 : BitVec 32 := Scalar.subi v9059 c999936_i32_4018
  let c32_i32_4019 : BitVec 32 := 32#32
  let v9061 : BitVec 32 := Scalar.muli v9060 c32_i32_4019
  let v9062 : BitVec 32 := v9061
  ![v9062.toNat]

def k0_chk679 (v9059 : BitVec 32) : Prop :=
  (8 ∣ (k0_mult656 v9059).toNat) ∧
  (∀ a, (k0_off1267 v9059) a + S32.size a ≤ S2048.size a) ∧
  (∀ a, (k0_off1283 v9059) a + S32.size a ≤ S2048.size a)
theorem k0_mult656_dvd : ∀ (v9059 : BitVec 32) (k0_hw679 : k0_chk679 v9059), 8 ∣ (k0_mult656 v9059).toNat := fun v9059 k0_hw679 => k0_hw679.1
theorem k0_off1267_inb : ∀ (v9059 : BitVec 32) (k0_hw679 : k0_chk679 v9059), ∀ a, (k0_off1267 v9059) a + S32.size a ≤ S2048.size a := fun v9059 k0_hw679 => k0_hw679.2.1
theorem k0_off1283_inb : ∀ (v9059 : BitVec 32) (k0_hw679 : k0_chk679 v9059), ∀ a, (k0_off1283 v9059) a + S32.size a ≤ S2048.size a := fun v9059 k0_hw679 => k0_hw679.2.2

def k0_mult658 (v9141 : BitVec 32) : BitVec 32 :=
  let c1703936_i32_4059 : BitVec 32 := 1703936#32
  let c32_i32_4058 : BitVec 32 := 32#32
  let v9142 : BitVec 32 := Scalar.muli v9141 c32_i32_4058
  let v9143 : BitVec 32 := Scalar.addi c1703936_i32_4059 v9142
  v9143

def k0_off1284 (v9141 : BitVec 32) : Fin 1 → Nat :=
  let c1703936_i32_4059 : BitVec 32 := 1703936#32
  let c32_i32_4058 : BitVec 32 := 32#32
  let v9142 : BitVec 32 := Scalar.muli v9141 c32_i32_4058
  let v9143 : BitVec 32 := Scalar.addi c1703936_i32_4059 v9142
  let v9144 : BitVec 32 := v9143
  ![v9144.toNat]
def k0_mult659 (v9150 : BitVec 32) : BitVec 32 :=
  let c1703936_i32_4063 : BitVec 32 := 1703936#32
  let c32_i32_4062 : BitVec 32 := 32#32
  let v9151 : BitVec 32 := Scalar.muli v9150 c32_i32_4062
  let v9152 : BitVec 32 := Scalar.addi c1703936_i32_4063 v9151
  v9152

def k0_off1285 (v9150 : BitVec 32) : Fin 1 → Nat :=
  let c1703936_i32_4063 : BitVec 32 := 1703936#32
  let c32_i32_4062 : BitVec 32 := 32#32
  let v9151 : BitVec 32 := Scalar.muli v9150 c32_i32_4062
  let v9152 : BitVec 32 := Scalar.addi c1703936_i32_4063 v9151
  let v9153 : BitVec 32 := v9152
  ![v9153.toNat]
def k0_mult660 (v9159 : BitVec 32) : BitVec 32 :=
  let c1703936_i32_4067 : BitVec 32 := 1703936#32
  let c32_i32_4066 : BitVec 32 := 32#32
  let v9160 : BitVec 32 := Scalar.muli v9159 c32_i32_4066
  let v9161 : BitVec 32 := Scalar.addi c1703936_i32_4067 v9160
  v9161

def k0_off1286 (v9159 : BitVec 32) : Fin 1 → Nat :=
  let c1703936_i32_4067 : BitVec 32 := 1703936#32
  let c32_i32_4066 : BitVec 32 := 32#32
  let v9160 : BitVec 32 := Scalar.muli v9159 c32_i32_4066
  let v9161 : BitVec 32 := Scalar.addi c1703936_i32_4067 v9160
  let v9162 : BitVec 32 := v9161
  ![v9162.toNat]
def k0_mult661 (v9168 : BitVec 32) : BitVec 32 :=
  let c1703936_i32_4071 : BitVec 32 := 1703936#32
  let c32_i32_4070 : BitVec 32 := 32#32
  let v9169 : BitVec 32 := Scalar.muli v9168 c32_i32_4070
  let v9170 : BitVec 32 := Scalar.addi c1703936_i32_4071 v9169
  v9170

def k0_off1287 (v9168 : BitVec 32) : Fin 1 → Nat :=
  let c1703936_i32_4071 : BitVec 32 := 1703936#32
  let c32_i32_4070 : BitVec 32 := 32#32
  let v9169 : BitVec 32 := Scalar.muli v9168 c32_i32_4070
  let v9170 : BitVec 32 := Scalar.addi c1703936_i32_4071 v9169
  let v9171 : BitVec 32 := v9170
  ![v9171.toNat]
def k0_mult662 (v9177 : BitVec 32) : BitVec 32 :=
  let c1703936_i32_4075 : BitVec 32 := 1703936#32
  let c32_i32_4074 : BitVec 32 := 32#32
  let v9178 : BitVec 32 := Scalar.muli v9177 c32_i32_4074
  let v9179 : BitVec 32 := Scalar.addi c1703936_i32_4075 v9178
  v9179

def k0_off1288 (v9177 : BitVec 32) : Fin 1 → Nat :=
  let c1703936_i32_4075 : BitVec 32 := 1703936#32
  let c32_i32_4074 : BitVec 32 := 32#32
  let v9178 : BitVec 32 := Scalar.muli v9177 c32_i32_4074
  let v9179 : BitVec 32 := Scalar.addi c1703936_i32_4075 v9178
  let v9180 : BitVec 32 := v9179
  ![v9180.toNat]
def k0_mult663 (v9186 : BitVec 32) : BitVec 32 :=
  let c1703936_i32_4079 : BitVec 32 := 1703936#32
  let c32_i32_4078 : BitVec 32 := 32#32
  let v9187 : BitVec 32 := Scalar.muli v9186 c32_i32_4078
  let v9188 : BitVec 32 := Scalar.addi c1703936_i32_4079 v9187
  v9188

def k0_off1289 (v9186 : BitVec 32) : Fin 1 → Nat :=
  let c1703936_i32_4079 : BitVec 32 := 1703936#32
  let c32_i32_4078 : BitVec 32 := 32#32
  let v9187 : BitVec 32 := Scalar.muli v9186 c32_i32_4078
  let v9188 : BitVec 32 := Scalar.addi c1703936_i32_4079 v9187
  let v9189 : BitVec 32 := v9188
  ![v9189.toNat]
def k0_mult664 (v9195 : BitVec 32) : BitVec 32 :=
  let c1703936_i32_4083 : BitVec 32 := 1703936#32
  let c32_i32_4082 : BitVec 32 := 32#32
  let v9196 : BitVec 32 := Scalar.muli v9195 c32_i32_4082
  let v9197 : BitVec 32 := Scalar.addi c1703936_i32_4083 v9196
  v9197

def k0_off1290 (v9195 : BitVec 32) : Fin 1 → Nat :=
  let c1703936_i32_4083 : BitVec 32 := 1703936#32
  let c32_i32_4082 : BitVec 32 := 32#32
  let v9196 : BitVec 32 := Scalar.muli v9195 c32_i32_4082
  let v9197 : BitVec 32 := Scalar.addi c1703936_i32_4083 v9196
  let v9198 : BitVec 32 := v9197
  ![v9198.toNat]
def k0_mult665 (v9204 : BitVec 32) : BitVec 32 :=
  let c1703936_i32_4087 : BitVec 32 := 1703936#32
  let c32_i32_4086 : BitVec 32 := 32#32
  let v9205 : BitVec 32 := Scalar.muli v9204 c32_i32_4086
  let v9206 : BitVec 32 := Scalar.addi c1703936_i32_4087 v9205
  v9206

def k0_off1291 (v9204 : BitVec 32) : Fin 1 → Nat :=
  let c1703936_i32_4087 : BitVec 32 := 1703936#32
  let c32_i32_4086 : BitVec 32 := 32#32
  let v9205 : BitVec 32 := Scalar.muli v9204 c32_i32_4086
  let v9206 : BitVec 32 := Scalar.addi c1703936_i32_4087 v9205
  let v9207 : BitVec 32 := v9206
  ![v9207.toNat]
def k0_mult666 (v9213 : BitVec 32) : BitVec 32 :=
  let c1703936_i32_4091 : BitVec 32 := 1703936#32
  let c32_i32_4090 : BitVec 32 := 32#32
  let v9214 : BitVec 32 := Scalar.muli v9213 c32_i32_4090
  let v9215 : BitVec 32 := Scalar.addi c1703936_i32_4091 v9214
  v9215

def k0_off1292 (v9213 : BitVec 32) : Fin 1 → Nat :=
  let c1703936_i32_4091 : BitVec 32 := 1703936#32
  let c32_i32_4090 : BitVec 32 := 32#32
  let v9214 : BitVec 32 := Scalar.muli v9213 c32_i32_4090
  let v9215 : BitVec 32 := Scalar.addi c1703936_i32_4091 v9214
  let v9216 : BitVec 32 := v9215
  ![v9216.toNat]
def k0_mult667 (v9222 : BitVec 32) : BitVec 32 :=
  let c1703936_i32_4095 : BitVec 32 := 1703936#32
  let c32_i32_4094 : BitVec 32 := 32#32
  let v9223 : BitVec 32 := Scalar.muli v9222 c32_i32_4094
  let v9224 : BitVec 32 := Scalar.addi c1703936_i32_4095 v9223
  v9224

def k0_off1293 (v9222 : BitVec 32) : Fin 1 → Nat :=
  let c1703936_i32_4095 : BitVec 32 := 1703936#32
  let c32_i32_4094 : BitVec 32 := 32#32
  let v9223 : BitVec 32 := Scalar.muli v9222 c32_i32_4094
  let v9224 : BitVec 32 := Scalar.addi c1703936_i32_4095 v9223
  let v9225 : BitVec 32 := v9224
  ![v9225.toNat]
def k0_mult668 (v9231 : BitVec 32) : BitVec 32 :=
  let c1703936_i32_4099 : BitVec 32 := 1703936#32
  let c32_i32_4098 : BitVec 32 := 32#32
  let v9232 : BitVec 32 := Scalar.muli v9231 c32_i32_4098
  let v9233 : BitVec 32 := Scalar.addi c1703936_i32_4099 v9232
  v9233

def k0_off1294 (v9231 : BitVec 32) : Fin 1 → Nat :=
  let c1703936_i32_4099 : BitVec 32 := 1703936#32
  let c32_i32_4098 : BitVec 32 := 32#32
  let v9232 : BitVec 32 := Scalar.muli v9231 c32_i32_4098
  let v9233 : BitVec 32 := Scalar.addi c1703936_i32_4099 v9232
  let v9234 : BitVec 32 := v9233
  ![v9234.toNat]
def k0_mult669 (v9240 : BitVec 32) : BitVec 32 :=
  let c1703936_i32_4103 : BitVec 32 := 1703936#32
  let c32_i32_4102 : BitVec 32 := 32#32
  let v9241 : BitVec 32 := Scalar.muli v9240 c32_i32_4102
  let v9242 : BitVec 32 := Scalar.addi c1703936_i32_4103 v9241
  v9242

def k0_off1295 (v9240 : BitVec 32) : Fin 1 → Nat :=
  let c1703936_i32_4103 : BitVec 32 := 1703936#32
  let c32_i32_4102 : BitVec 32 := 32#32
  let v9241 : BitVec 32 := Scalar.muli v9240 c32_i32_4102
  let v9242 : BitVec 32 := Scalar.addi c1703936_i32_4103 v9241
  let v9243 : BitVec 32 := v9242
  ![v9243.toNat]
def k0_mult670 (v9249 : BitVec 32) : BitVec 32 :=
  let c1703936_i32_4107 : BitVec 32 := 1703936#32
  let c32_i32_4106 : BitVec 32 := 32#32
  let v9250 : BitVec 32 := Scalar.muli v9249 c32_i32_4106
  let v9251 : BitVec 32 := Scalar.addi c1703936_i32_4107 v9250
  v9251

def k0_off1296 (v9249 : BitVec 32) : Fin 1 → Nat :=
  let c1703936_i32_4107 : BitVec 32 := 1703936#32
  let c32_i32_4106 : BitVec 32 := 32#32
  let v9250 : BitVec 32 := Scalar.muli v9249 c32_i32_4106
  let v9251 : BitVec 32 := Scalar.addi c1703936_i32_4107 v9250
  let v9252 : BitVec 32 := v9251
  ![v9252.toNat]
def k0_mult671 (v9258 : BitVec 32) : BitVec 32 :=
  let c1703936_i32_4111 : BitVec 32 := 1703936#32
  let c32_i32_4110 : BitVec 32 := 32#32
  let v9259 : BitVec 32 := Scalar.muli v9258 c32_i32_4110
  let v9260 : BitVec 32 := Scalar.addi c1703936_i32_4111 v9259
  v9260

def k0_off1297 (v9258 : BitVec 32) : Fin 1 → Nat :=
  let c1703936_i32_4111 : BitVec 32 := 1703936#32
  let c32_i32_4110 : BitVec 32 := 32#32
  let v9259 : BitVec 32 := Scalar.muli v9258 c32_i32_4110
  let v9260 : BitVec 32 := Scalar.addi c1703936_i32_4111 v9259
  let v9261 : BitVec 32 := v9260
  ![v9261.toNat]
def k0_mult672 (v9267 : BitVec 32) : BitVec 32 :=
  let c1703936_i32_4115 : BitVec 32 := 1703936#32
  let c32_i32_4114 : BitVec 32 := 32#32
  let v9268 : BitVec 32 := Scalar.muli v9267 c32_i32_4114
  let v9269 : BitVec 32 := Scalar.addi c1703936_i32_4115 v9268
  v9269

def k0_off1298 (v9267 : BitVec 32) : Fin 1 → Nat :=
  let c1703936_i32_4115 : BitVec 32 := 1703936#32
  let c32_i32_4114 : BitVec 32 := 32#32
  let v9268 : BitVec 32 := Scalar.muli v9267 c32_i32_4114
  let v9269 : BitVec 32 := Scalar.addi c1703936_i32_4115 v9268
  let v9270 : BitVec 32 := v9269
  ![v9270.toNat]
def k0_mult673 (v9276 : BitVec 32) : BitVec 32 :=
  let c1703936_i32_4119 : BitVec 32 := 1703936#32
  let c32_i32_4118 : BitVec 32 := 32#32
  let v9277 : BitVec 32 := Scalar.muli v9276 c32_i32_4118
  let v9278 : BitVec 32 := Scalar.addi c1703936_i32_4119 v9277
  v9278

def k0_off1299 (v9276 : BitVec 32) : Fin 1 → Nat :=
  let c1703936_i32_4119 : BitVec 32 := 1703936#32
  let c32_i32_4118 : BitVec 32 := 32#32
  let v9277 : BitVec 32 := Scalar.muli v9276 c32_i32_4118
  let v9278 : BitVec 32 := Scalar.addi c1703936_i32_4119 v9277
  let v9279 : BitVec 32 := v9278
  ![v9279.toNat]

def k0_chk696 (v9276 : BitVec 32) : Prop :=
  (8 ∣ (k0_mult673 v9276).toNat) ∧
  (∀ a, (k0_off1299 v9276) a + S32.size a ≤ S3407872.size a)
theorem k0_mult673_dvd : ∀ (v9276 : BitVec 32) (k0_hw696 : k0_chk696 v9276), 8 ∣ (k0_mult673 v9276).toNat := fun v9276 k0_hw696 => k0_hw696.1
theorem k0_off1299_inb : ∀ (v9276 : BitVec 32) (k0_hw696 : k0_chk696 v9276), ∀ a, (k0_off1299 v9276) a + S32.size a ≤ S3407872.size a := fun v9276 k0_hw696 => k0_hw696.2

def k0_off1300 (v9141 : BitVec 32) : Fin 1 → Nat :=
  let c1703936_i32_4059 : BitVec 32 := 1703936#32
  let c32_i32_4058 : BitVec 32 := 32#32
  let v9142 : BitVec 32 := Scalar.muli v9141 c32_i32_4058
  let v9143 : BitVec 32 := Scalar.addi c1703936_i32_4059 v9142
  let v9144 : BitVec 32 := v9143
  ![v9144.toNat]

def k0_chk681 (v9141 : BitVec 32) : Prop :=
  (8 ∣ (k0_mult658 v9141).toNat) ∧
  (∀ a, (k0_off1284 v9141) a + S32.size a ≤ S3407872.size a) ∧
  (∀ a, (k0_off1300 v9141) a + S32.size a ≤ S3407872.size a)
theorem k0_mult658_dvd : ∀ (v9141 : BitVec 32) (k0_hw681 : k0_chk681 v9141), 8 ∣ (k0_mult658 v9141).toNat := fun v9141 k0_hw681 => k0_hw681.1
theorem k0_off1284_inb : ∀ (v9141 : BitVec 32) (k0_hw681 : k0_chk681 v9141), ∀ a, (k0_off1284 v9141) a + S32.size a ≤ S3407872.size a := fun v9141 k0_hw681 => k0_hw681.2.1
theorem k0_off1300_inb : ∀ (v9141 : BitVec 32) (k0_hw681 : k0_chk681 v9141), ∀ a, (k0_off1300 v9141) a + S32.size a ≤ S3407872.size a := fun v9141 k0_hw681 => k0_hw681.2.2

def k0_off1301 (v9150 : BitVec 32) : Fin 1 → Nat :=
  let c1703936_i32_4063 : BitVec 32 := 1703936#32
  let c32_i32_4062 : BitVec 32 := 32#32
  let v9151 : BitVec 32 := Scalar.muli v9150 c32_i32_4062
  let v9152 : BitVec 32 := Scalar.addi c1703936_i32_4063 v9151
  let v9153 : BitVec 32 := v9152
  ![v9153.toNat]

def k0_chk682 (v9150 : BitVec 32) : Prop :=
  (8 ∣ (k0_mult659 v9150).toNat) ∧
  (∀ a, (k0_off1285 v9150) a + S32.size a ≤ S3407872.size a) ∧
  (∀ a, (k0_off1301 v9150) a + S32.size a ≤ S3407872.size a)
theorem k0_mult659_dvd : ∀ (v9150 : BitVec 32) (k0_hw682 : k0_chk682 v9150), 8 ∣ (k0_mult659 v9150).toNat := fun v9150 k0_hw682 => k0_hw682.1
theorem k0_off1285_inb : ∀ (v9150 : BitVec 32) (k0_hw682 : k0_chk682 v9150), ∀ a, (k0_off1285 v9150) a + S32.size a ≤ S3407872.size a := fun v9150 k0_hw682 => k0_hw682.2.1
theorem k0_off1301_inb : ∀ (v9150 : BitVec 32) (k0_hw682 : k0_chk682 v9150), ∀ a, (k0_off1301 v9150) a + S32.size a ≤ S3407872.size a := fun v9150 k0_hw682 => k0_hw682.2.2

def k0_off1302 (v9159 : BitVec 32) : Fin 1 → Nat :=
  let c1703936_i32_4067 : BitVec 32 := 1703936#32
  let c32_i32_4066 : BitVec 32 := 32#32
  let v9160 : BitVec 32 := Scalar.muli v9159 c32_i32_4066
  let v9161 : BitVec 32 := Scalar.addi c1703936_i32_4067 v9160
  let v9162 : BitVec 32 := v9161
  ![v9162.toNat]

def k0_chk683 (v9159 : BitVec 32) : Prop :=
  (8 ∣ (k0_mult660 v9159).toNat) ∧
  (∀ a, (k0_off1286 v9159) a + S32.size a ≤ S3407872.size a) ∧
  (∀ a, (k0_off1302 v9159) a + S32.size a ≤ S3407872.size a)
theorem k0_mult660_dvd : ∀ (v9159 : BitVec 32) (k0_hw683 : k0_chk683 v9159), 8 ∣ (k0_mult660 v9159).toNat := fun v9159 k0_hw683 => k0_hw683.1
theorem k0_off1286_inb : ∀ (v9159 : BitVec 32) (k0_hw683 : k0_chk683 v9159), ∀ a, (k0_off1286 v9159) a + S32.size a ≤ S3407872.size a := fun v9159 k0_hw683 => k0_hw683.2.1
theorem k0_off1302_inb : ∀ (v9159 : BitVec 32) (k0_hw683 : k0_chk683 v9159), ∀ a, (k0_off1302 v9159) a + S32.size a ≤ S3407872.size a := fun v9159 k0_hw683 => k0_hw683.2.2

def k0_off1303 (v9168 : BitVec 32) : Fin 1 → Nat :=
  let c1703936_i32_4071 : BitVec 32 := 1703936#32
  let c32_i32_4070 : BitVec 32 := 32#32
  let v9169 : BitVec 32 := Scalar.muli v9168 c32_i32_4070
  let v9170 : BitVec 32 := Scalar.addi c1703936_i32_4071 v9169
  let v9171 : BitVec 32 := v9170
  ![v9171.toNat]

def k0_chk684 (v9168 : BitVec 32) : Prop :=
  (8 ∣ (k0_mult661 v9168).toNat) ∧
  (∀ a, (k0_off1287 v9168) a + S32.size a ≤ S3407872.size a) ∧
  (∀ a, (k0_off1303 v9168) a + S32.size a ≤ S3407872.size a)
theorem k0_mult661_dvd : ∀ (v9168 : BitVec 32) (k0_hw684 : k0_chk684 v9168), 8 ∣ (k0_mult661 v9168).toNat := fun v9168 k0_hw684 => k0_hw684.1
theorem k0_off1287_inb : ∀ (v9168 : BitVec 32) (k0_hw684 : k0_chk684 v9168), ∀ a, (k0_off1287 v9168) a + S32.size a ≤ S3407872.size a := fun v9168 k0_hw684 => k0_hw684.2.1
theorem k0_off1303_inb : ∀ (v9168 : BitVec 32) (k0_hw684 : k0_chk684 v9168), ∀ a, (k0_off1303 v9168) a + S32.size a ≤ S3407872.size a := fun v9168 k0_hw684 => k0_hw684.2.2

def k0_off1304 (v9177 : BitVec 32) : Fin 1 → Nat :=
  let c1703936_i32_4075 : BitVec 32 := 1703936#32
  let c32_i32_4074 : BitVec 32 := 32#32
  let v9178 : BitVec 32 := Scalar.muli v9177 c32_i32_4074
  let v9179 : BitVec 32 := Scalar.addi c1703936_i32_4075 v9178
  let v9180 : BitVec 32 := v9179
  ![v9180.toNat]

def k0_chk685 (v9177 : BitVec 32) : Prop :=
  (8 ∣ (k0_mult662 v9177).toNat) ∧
  (∀ a, (k0_off1288 v9177) a + S32.size a ≤ S3407872.size a) ∧
  (∀ a, (k0_off1304 v9177) a + S32.size a ≤ S3407872.size a)
theorem k0_mult662_dvd : ∀ (v9177 : BitVec 32) (k0_hw685 : k0_chk685 v9177), 8 ∣ (k0_mult662 v9177).toNat := fun v9177 k0_hw685 => k0_hw685.1
theorem k0_off1288_inb : ∀ (v9177 : BitVec 32) (k0_hw685 : k0_chk685 v9177), ∀ a, (k0_off1288 v9177) a + S32.size a ≤ S3407872.size a := fun v9177 k0_hw685 => k0_hw685.2.1
theorem k0_off1304_inb : ∀ (v9177 : BitVec 32) (k0_hw685 : k0_chk685 v9177), ∀ a, (k0_off1304 v9177) a + S32.size a ≤ S3407872.size a := fun v9177 k0_hw685 => k0_hw685.2.2

def k0_off1305 (v9186 : BitVec 32) : Fin 1 → Nat :=
  let c1703936_i32_4079 : BitVec 32 := 1703936#32
  let c32_i32_4078 : BitVec 32 := 32#32
  let v9187 : BitVec 32 := Scalar.muli v9186 c32_i32_4078
  let v9188 : BitVec 32 := Scalar.addi c1703936_i32_4079 v9187
  let v9189 : BitVec 32 := v9188
  ![v9189.toNat]

def k0_chk686 (v9186 : BitVec 32) : Prop :=
  (8 ∣ (k0_mult663 v9186).toNat) ∧
  (∀ a, (k0_off1289 v9186) a + S32.size a ≤ S3407872.size a) ∧
  (∀ a, (k0_off1305 v9186) a + S32.size a ≤ S3407872.size a)
theorem k0_mult663_dvd : ∀ (v9186 : BitVec 32) (k0_hw686 : k0_chk686 v9186), 8 ∣ (k0_mult663 v9186).toNat := fun v9186 k0_hw686 => k0_hw686.1
theorem k0_off1289_inb : ∀ (v9186 : BitVec 32) (k0_hw686 : k0_chk686 v9186), ∀ a, (k0_off1289 v9186) a + S32.size a ≤ S3407872.size a := fun v9186 k0_hw686 => k0_hw686.2.1
theorem k0_off1305_inb : ∀ (v9186 : BitVec 32) (k0_hw686 : k0_chk686 v9186), ∀ a, (k0_off1305 v9186) a + S32.size a ≤ S3407872.size a := fun v9186 k0_hw686 => k0_hw686.2.2

def k0_off1306 (v9195 : BitVec 32) : Fin 1 → Nat :=
  let c1703936_i32_4083 : BitVec 32 := 1703936#32
  let c32_i32_4082 : BitVec 32 := 32#32
  let v9196 : BitVec 32 := Scalar.muli v9195 c32_i32_4082
  let v9197 : BitVec 32 := Scalar.addi c1703936_i32_4083 v9196
  let v9198 : BitVec 32 := v9197
  ![v9198.toNat]

def k0_chk687 (v9195 : BitVec 32) : Prop :=
  (8 ∣ (k0_mult664 v9195).toNat) ∧
  (∀ a, (k0_off1290 v9195) a + S32.size a ≤ S3407872.size a) ∧
  (∀ a, (k0_off1306 v9195) a + S32.size a ≤ S3407872.size a)
theorem k0_mult664_dvd : ∀ (v9195 : BitVec 32) (k0_hw687 : k0_chk687 v9195), 8 ∣ (k0_mult664 v9195).toNat := fun v9195 k0_hw687 => k0_hw687.1
theorem k0_off1290_inb : ∀ (v9195 : BitVec 32) (k0_hw687 : k0_chk687 v9195), ∀ a, (k0_off1290 v9195) a + S32.size a ≤ S3407872.size a := fun v9195 k0_hw687 => k0_hw687.2.1
theorem k0_off1306_inb : ∀ (v9195 : BitVec 32) (k0_hw687 : k0_chk687 v9195), ∀ a, (k0_off1306 v9195) a + S32.size a ≤ S3407872.size a := fun v9195 k0_hw687 => k0_hw687.2.2

def k0_off1307 (v9204 : BitVec 32) : Fin 1 → Nat :=
  let c1703936_i32_4087 : BitVec 32 := 1703936#32
  let c32_i32_4086 : BitVec 32 := 32#32
  let v9205 : BitVec 32 := Scalar.muli v9204 c32_i32_4086
  let v9206 : BitVec 32 := Scalar.addi c1703936_i32_4087 v9205
  let v9207 : BitVec 32 := v9206
  ![v9207.toNat]

def k0_chk688 (v9204 : BitVec 32) : Prop :=
  (8 ∣ (k0_mult665 v9204).toNat) ∧
  (∀ a, (k0_off1291 v9204) a + S32.size a ≤ S3407872.size a) ∧
  (∀ a, (k0_off1307 v9204) a + S32.size a ≤ S3407872.size a)
theorem k0_mult665_dvd : ∀ (v9204 : BitVec 32) (k0_hw688 : k0_chk688 v9204), 8 ∣ (k0_mult665 v9204).toNat := fun v9204 k0_hw688 => k0_hw688.1
theorem k0_off1291_inb : ∀ (v9204 : BitVec 32) (k0_hw688 : k0_chk688 v9204), ∀ a, (k0_off1291 v9204) a + S32.size a ≤ S3407872.size a := fun v9204 k0_hw688 => k0_hw688.2.1
theorem k0_off1307_inb : ∀ (v9204 : BitVec 32) (k0_hw688 : k0_chk688 v9204), ∀ a, (k0_off1307 v9204) a + S32.size a ≤ S3407872.size a := fun v9204 k0_hw688 => k0_hw688.2.2

def k0_off1308 (v9213 : BitVec 32) : Fin 1 → Nat :=
  let c1703936_i32_4091 : BitVec 32 := 1703936#32
  let c32_i32_4090 : BitVec 32 := 32#32
  let v9214 : BitVec 32 := Scalar.muli v9213 c32_i32_4090
  let v9215 : BitVec 32 := Scalar.addi c1703936_i32_4091 v9214
  let v9216 : BitVec 32 := v9215
  ![v9216.toNat]

def k0_chk689 (v9213 : BitVec 32) : Prop :=
  (8 ∣ (k0_mult666 v9213).toNat) ∧
  (∀ a, (k0_off1292 v9213) a + S32.size a ≤ S3407872.size a) ∧
  (∀ a, (k0_off1308 v9213) a + S32.size a ≤ S3407872.size a)
theorem k0_mult666_dvd : ∀ (v9213 : BitVec 32) (k0_hw689 : k0_chk689 v9213), 8 ∣ (k0_mult666 v9213).toNat := fun v9213 k0_hw689 => k0_hw689.1
theorem k0_off1292_inb : ∀ (v9213 : BitVec 32) (k0_hw689 : k0_chk689 v9213), ∀ a, (k0_off1292 v9213) a + S32.size a ≤ S3407872.size a := fun v9213 k0_hw689 => k0_hw689.2.1
theorem k0_off1308_inb : ∀ (v9213 : BitVec 32) (k0_hw689 : k0_chk689 v9213), ∀ a, (k0_off1308 v9213) a + S32.size a ≤ S3407872.size a := fun v9213 k0_hw689 => k0_hw689.2.2

def k0_off1309 (v9222 : BitVec 32) : Fin 1 → Nat :=
  let c1703936_i32_4095 : BitVec 32 := 1703936#32
  let c32_i32_4094 : BitVec 32 := 32#32
  let v9223 : BitVec 32 := Scalar.muli v9222 c32_i32_4094
  let v9224 : BitVec 32 := Scalar.addi c1703936_i32_4095 v9223
  let v9225 : BitVec 32 := v9224
  ![v9225.toNat]

def k0_chk690 (v9222 : BitVec 32) : Prop :=
  (8 ∣ (k0_mult667 v9222).toNat) ∧
  (∀ a, (k0_off1293 v9222) a + S32.size a ≤ S3407872.size a) ∧
  (∀ a, (k0_off1309 v9222) a + S32.size a ≤ S3407872.size a)
theorem k0_mult667_dvd : ∀ (v9222 : BitVec 32) (k0_hw690 : k0_chk690 v9222), 8 ∣ (k0_mult667 v9222).toNat := fun v9222 k0_hw690 => k0_hw690.1
theorem k0_off1293_inb : ∀ (v9222 : BitVec 32) (k0_hw690 : k0_chk690 v9222), ∀ a, (k0_off1293 v9222) a + S32.size a ≤ S3407872.size a := fun v9222 k0_hw690 => k0_hw690.2.1
theorem k0_off1309_inb : ∀ (v9222 : BitVec 32) (k0_hw690 : k0_chk690 v9222), ∀ a, (k0_off1309 v9222) a + S32.size a ≤ S3407872.size a := fun v9222 k0_hw690 => k0_hw690.2.2

def k0_off1310 (v9231 : BitVec 32) : Fin 1 → Nat :=
  let c1703936_i32_4099 : BitVec 32 := 1703936#32
  let c32_i32_4098 : BitVec 32 := 32#32
  let v9232 : BitVec 32 := Scalar.muli v9231 c32_i32_4098
  let v9233 : BitVec 32 := Scalar.addi c1703936_i32_4099 v9232
  let v9234 : BitVec 32 := v9233
  ![v9234.toNat]

def k0_chk691 (v9231 : BitVec 32) : Prop :=
  (8 ∣ (k0_mult668 v9231).toNat) ∧
  (∀ a, (k0_off1294 v9231) a + S32.size a ≤ S3407872.size a) ∧
  (∀ a, (k0_off1310 v9231) a + S32.size a ≤ S3407872.size a)
theorem k0_mult668_dvd : ∀ (v9231 : BitVec 32) (k0_hw691 : k0_chk691 v9231), 8 ∣ (k0_mult668 v9231).toNat := fun v9231 k0_hw691 => k0_hw691.1
theorem k0_off1294_inb : ∀ (v9231 : BitVec 32) (k0_hw691 : k0_chk691 v9231), ∀ a, (k0_off1294 v9231) a + S32.size a ≤ S3407872.size a := fun v9231 k0_hw691 => k0_hw691.2.1
theorem k0_off1310_inb : ∀ (v9231 : BitVec 32) (k0_hw691 : k0_chk691 v9231), ∀ a, (k0_off1310 v9231) a + S32.size a ≤ S3407872.size a := fun v9231 k0_hw691 => k0_hw691.2.2

def k0_off1311 (v9240 : BitVec 32) : Fin 1 → Nat :=
  let c1703936_i32_4103 : BitVec 32 := 1703936#32
  let c32_i32_4102 : BitVec 32 := 32#32
  let v9241 : BitVec 32 := Scalar.muli v9240 c32_i32_4102
  let v9242 : BitVec 32 := Scalar.addi c1703936_i32_4103 v9241
  let v9243 : BitVec 32 := v9242
  ![v9243.toNat]

def k0_chk692 (v9240 : BitVec 32) : Prop :=
  (8 ∣ (k0_mult669 v9240).toNat) ∧
  (∀ a, (k0_off1295 v9240) a + S32.size a ≤ S3407872.size a) ∧
  (∀ a, (k0_off1311 v9240) a + S32.size a ≤ S3407872.size a)
theorem k0_mult669_dvd : ∀ (v9240 : BitVec 32) (k0_hw692 : k0_chk692 v9240), 8 ∣ (k0_mult669 v9240).toNat := fun v9240 k0_hw692 => k0_hw692.1
theorem k0_off1295_inb : ∀ (v9240 : BitVec 32) (k0_hw692 : k0_chk692 v9240), ∀ a, (k0_off1295 v9240) a + S32.size a ≤ S3407872.size a := fun v9240 k0_hw692 => k0_hw692.2.1
theorem k0_off1311_inb : ∀ (v9240 : BitVec 32) (k0_hw692 : k0_chk692 v9240), ∀ a, (k0_off1311 v9240) a + S32.size a ≤ S3407872.size a := fun v9240 k0_hw692 => k0_hw692.2.2

def k0_off1312 (v9249 : BitVec 32) : Fin 1 → Nat :=
  let c1703936_i32_4107 : BitVec 32 := 1703936#32
  let c32_i32_4106 : BitVec 32 := 32#32
  let v9250 : BitVec 32 := Scalar.muli v9249 c32_i32_4106
  let v9251 : BitVec 32 := Scalar.addi c1703936_i32_4107 v9250
  let v9252 : BitVec 32 := v9251
  ![v9252.toNat]

def k0_chk693 (v9249 : BitVec 32) : Prop :=
  (8 ∣ (k0_mult670 v9249).toNat) ∧
  (∀ a, (k0_off1296 v9249) a + S32.size a ≤ S3407872.size a) ∧
  (∀ a, (k0_off1312 v9249) a + S32.size a ≤ S3407872.size a)
theorem k0_mult670_dvd : ∀ (v9249 : BitVec 32) (k0_hw693 : k0_chk693 v9249), 8 ∣ (k0_mult670 v9249).toNat := fun v9249 k0_hw693 => k0_hw693.1
theorem k0_off1296_inb : ∀ (v9249 : BitVec 32) (k0_hw693 : k0_chk693 v9249), ∀ a, (k0_off1296 v9249) a + S32.size a ≤ S3407872.size a := fun v9249 k0_hw693 => k0_hw693.2.1
theorem k0_off1312_inb : ∀ (v9249 : BitVec 32) (k0_hw693 : k0_chk693 v9249), ∀ a, (k0_off1312 v9249) a + S32.size a ≤ S3407872.size a := fun v9249 k0_hw693 => k0_hw693.2.2

def k0_off1313 (v9258 : BitVec 32) : Fin 1 → Nat :=
  let c1703936_i32_4111 : BitVec 32 := 1703936#32
  let c32_i32_4110 : BitVec 32 := 32#32
  let v9259 : BitVec 32 := Scalar.muli v9258 c32_i32_4110
  let v9260 : BitVec 32 := Scalar.addi c1703936_i32_4111 v9259
  let v9261 : BitVec 32 := v9260
  ![v9261.toNat]

def k0_chk694 (v9258 : BitVec 32) : Prop :=
  (8 ∣ (k0_mult671 v9258).toNat) ∧
  (∀ a, (k0_off1297 v9258) a + S32.size a ≤ S3407872.size a) ∧
  (∀ a, (k0_off1313 v9258) a + S32.size a ≤ S3407872.size a)
theorem k0_mult671_dvd : ∀ (v9258 : BitVec 32) (k0_hw694 : k0_chk694 v9258), 8 ∣ (k0_mult671 v9258).toNat := fun v9258 k0_hw694 => k0_hw694.1
theorem k0_off1297_inb : ∀ (v9258 : BitVec 32) (k0_hw694 : k0_chk694 v9258), ∀ a, (k0_off1297 v9258) a + S32.size a ≤ S3407872.size a := fun v9258 k0_hw694 => k0_hw694.2.1
theorem k0_off1313_inb : ∀ (v9258 : BitVec 32) (k0_hw694 : k0_chk694 v9258), ∀ a, (k0_off1313 v9258) a + S32.size a ≤ S3407872.size a := fun v9258 k0_hw694 => k0_hw694.2.2

def k0_off1314 (v9267 : BitVec 32) : Fin 1 → Nat :=
  let c1703936_i32_4115 : BitVec 32 := 1703936#32
  let c32_i32_4114 : BitVec 32 := 32#32
  let v9268 : BitVec 32 := Scalar.muli v9267 c32_i32_4114
  let v9269 : BitVec 32 := Scalar.addi c1703936_i32_4115 v9268
  let v9270 : BitVec 32 := v9269
  ![v9270.toNat]

def k0_chk695 (v9267 : BitVec 32) : Prop :=
  (8 ∣ (k0_mult672 v9267).toNat) ∧
  (∀ a, (k0_off1298 v9267) a + S32.size a ≤ S3407872.size a) ∧
  (∀ a, (k0_off1314 v9267) a + S32.size a ≤ S3407872.size a)
theorem k0_mult672_dvd : ∀ (v9267 : BitVec 32) (k0_hw695 : k0_chk695 v9267), 8 ∣ (k0_mult672 v9267).toNat := fun v9267 k0_hw695 => k0_hw695.1
theorem k0_off1298_inb : ∀ (v9267 : BitVec 32) (k0_hw695 : k0_chk695 v9267), ∀ a, (k0_off1298 v9267) a + S32.size a ≤ S3407872.size a := fun v9267 k0_hw695 => k0_hw695.2.1
theorem k0_off1314_inb : ∀ (v9267 : BitVec 32) (k0_hw695 : k0_chk695 v9267), ∀ a, (k0_off1314 v9267) a + S32.size a ≤ S3407872.size a := fun v9267 k0_hw695 => k0_hw695.2.2

def k0_mult674 (v9351 : BitVec 32) : BitVec 32 :=
  let c999936_i32_4156 : BitVec 32 := 999936#32
  let v9352 : BitVec 32 := Scalar.subi v9351 c999936_i32_4156
  let c32_i32_4157 : BitVec 32 := 32#32
  let v9353 : BitVec 32 := Scalar.muli v9352 c32_i32_4157
  v9353

def k0_off1315 (v9351 : BitVec 32) : Fin 1 → Nat :=
  let c999936_i32_4156 : BitVec 32 := 999936#32
  let v9352 : BitVec 32 := Scalar.subi v9351 c999936_i32_4156
  let c32_i32_4157 : BitVec 32 := 32#32
  let v9353 : BitVec 32 := Scalar.muli v9352 c32_i32_4157
  let v9354 : BitVec 32 := v9353
  ![v9354.toNat]
def k0_mult675 (v9360 : BitVec 32) : BitVec 32 :=
  let c999936_i32_4160 : BitVec 32 := 999936#32
  let v9361 : BitVec 32 := Scalar.subi v9360 c999936_i32_4160
  let c32_i32_4161 : BitVec 32 := 32#32
  let v9362 : BitVec 32 := Scalar.muli v9361 c32_i32_4161
  v9362

def k0_off1316 (v9360 : BitVec 32) : Fin 1 → Nat :=
  let c999936_i32_4160 : BitVec 32 := 999936#32
  let v9361 : BitVec 32 := Scalar.subi v9360 c999936_i32_4160
  let c32_i32_4161 : BitVec 32 := 32#32
  let v9362 : BitVec 32 := Scalar.muli v9361 c32_i32_4161
  let v9363 : BitVec 32 := v9362
  ![v9363.toNat]
def k0_mult676 (v9369 : BitVec 32) : BitVec 32 :=
  let c999936_i32_4164 : BitVec 32 := 999936#32
  let v9370 : BitVec 32 := Scalar.subi v9369 c999936_i32_4164
  let c32_i32_4165 : BitVec 32 := 32#32
  let v9371 : BitVec 32 := Scalar.muli v9370 c32_i32_4165
  v9371

def k0_off1317 (v9369 : BitVec 32) : Fin 1 → Nat :=
  let c999936_i32_4164 : BitVec 32 := 999936#32
  let v9370 : BitVec 32 := Scalar.subi v9369 c999936_i32_4164
  let c32_i32_4165 : BitVec 32 := 32#32
  let v9371 : BitVec 32 := Scalar.muli v9370 c32_i32_4165
  let v9372 : BitVec 32 := v9371
  ![v9372.toNat]
def k0_mult677 (v9378 : BitVec 32) : BitVec 32 :=
  let c999936_i32_4168 : BitVec 32 := 999936#32
  let v9379 : BitVec 32 := Scalar.subi v9378 c999936_i32_4168
  let c32_i32_4169 : BitVec 32 := 32#32
  let v9380 : BitVec 32 := Scalar.muli v9379 c32_i32_4169
  v9380

def k0_off1318 (v9378 : BitVec 32) : Fin 1 → Nat :=
  let c999936_i32_4168 : BitVec 32 := 999936#32
  let v9379 : BitVec 32 := Scalar.subi v9378 c999936_i32_4168
  let c32_i32_4169 : BitVec 32 := 32#32
  let v9380 : BitVec 32 := Scalar.muli v9379 c32_i32_4169
  let v9381 : BitVec 32 := v9380
  ![v9381.toNat]
def k0_mult678 (v9387 : BitVec 32) : BitVec 32 :=
  let c999936_i32_4172 : BitVec 32 := 999936#32
  let v9388 : BitVec 32 := Scalar.subi v9387 c999936_i32_4172
  let c32_i32_4173 : BitVec 32 := 32#32
  let v9389 : BitVec 32 := Scalar.muli v9388 c32_i32_4173
  v9389

def k0_off1319 (v9387 : BitVec 32) : Fin 1 → Nat :=
  let c999936_i32_4172 : BitVec 32 := 999936#32
  let v9388 : BitVec 32 := Scalar.subi v9387 c999936_i32_4172
  let c32_i32_4173 : BitVec 32 := 32#32
  let v9389 : BitVec 32 := Scalar.muli v9388 c32_i32_4173
  let v9390 : BitVec 32 := v9389
  ![v9390.toNat]
def k0_mult679 (v9396 : BitVec 32) : BitVec 32 :=
  let c999936_i32_4176 : BitVec 32 := 999936#32
  let v9397 : BitVec 32 := Scalar.subi v9396 c999936_i32_4176
  let c32_i32_4177 : BitVec 32 := 32#32
  let v9398 : BitVec 32 := Scalar.muli v9397 c32_i32_4177
  v9398

def k0_off1320 (v9396 : BitVec 32) : Fin 1 → Nat :=
  let c999936_i32_4176 : BitVec 32 := 999936#32
  let v9397 : BitVec 32 := Scalar.subi v9396 c999936_i32_4176
  let c32_i32_4177 : BitVec 32 := 32#32
  let v9398 : BitVec 32 := Scalar.muli v9397 c32_i32_4177
  let v9399 : BitVec 32 := v9398
  ![v9399.toNat]
def k0_mult680 (v9405 : BitVec 32) : BitVec 32 :=
  let c999936_i32_4180 : BitVec 32 := 999936#32
  let v9406 : BitVec 32 := Scalar.subi v9405 c999936_i32_4180
  let c32_i32_4181 : BitVec 32 := 32#32
  let v9407 : BitVec 32 := Scalar.muli v9406 c32_i32_4181
  v9407

def k0_off1321 (v9405 : BitVec 32) : Fin 1 → Nat :=
  let c999936_i32_4180 : BitVec 32 := 999936#32
  let v9406 : BitVec 32 := Scalar.subi v9405 c999936_i32_4180
  let c32_i32_4181 : BitVec 32 := 32#32
  let v9407 : BitVec 32 := Scalar.muli v9406 c32_i32_4181
  let v9408 : BitVec 32 := v9407
  ![v9408.toNat]
def k0_mult681 (v9414 : BitVec 32) : BitVec 32 :=
  let c999936_i32_4184 : BitVec 32 := 999936#32
  let v9415 : BitVec 32 := Scalar.subi v9414 c999936_i32_4184
  let c32_i32_4185 : BitVec 32 := 32#32
  let v9416 : BitVec 32 := Scalar.muli v9415 c32_i32_4185
  v9416

def k0_off1322 (v9414 : BitVec 32) : Fin 1 → Nat :=
  let c999936_i32_4184 : BitVec 32 := 999936#32
  let v9415 : BitVec 32 := Scalar.subi v9414 c999936_i32_4184
  let c32_i32_4185 : BitVec 32 := 32#32
  let v9416 : BitVec 32 := Scalar.muli v9415 c32_i32_4185
  let v9417 : BitVec 32 := v9416
  ![v9417.toNat]
def k0_mult682 (v9423 : BitVec 32) : BitVec 32 :=
  let c999936_i32_4188 : BitVec 32 := 999936#32
  let v9424 : BitVec 32 := Scalar.subi v9423 c999936_i32_4188
  let c32_i32_4189 : BitVec 32 := 32#32
  let v9425 : BitVec 32 := Scalar.muli v9424 c32_i32_4189
  v9425

def k0_off1323 (v9423 : BitVec 32) : Fin 1 → Nat :=
  let c999936_i32_4188 : BitVec 32 := 999936#32
  let v9424 : BitVec 32 := Scalar.subi v9423 c999936_i32_4188
  let c32_i32_4189 : BitVec 32 := 32#32
  let v9425 : BitVec 32 := Scalar.muli v9424 c32_i32_4189
  let v9426 : BitVec 32 := v9425
  ![v9426.toNat]
def k0_mult683 (v9432 : BitVec 32) : BitVec 32 :=
  let c999936_i32_4192 : BitVec 32 := 999936#32
  let v9433 : BitVec 32 := Scalar.subi v9432 c999936_i32_4192
  let c32_i32_4193 : BitVec 32 := 32#32
  let v9434 : BitVec 32 := Scalar.muli v9433 c32_i32_4193
  v9434

def k0_off1324 (v9432 : BitVec 32) : Fin 1 → Nat :=
  let c999936_i32_4192 : BitVec 32 := 999936#32
  let v9433 : BitVec 32 := Scalar.subi v9432 c999936_i32_4192
  let c32_i32_4193 : BitVec 32 := 32#32
  let v9434 : BitVec 32 := Scalar.muli v9433 c32_i32_4193
  let v9435 : BitVec 32 := v9434
  ![v9435.toNat]
def k0_mult684 (v9441 : BitVec 32) : BitVec 32 :=
  let c999936_i32_4196 : BitVec 32 := 999936#32
  let v9442 : BitVec 32 := Scalar.subi v9441 c999936_i32_4196
  let c32_i32_4197 : BitVec 32 := 32#32
  let v9443 : BitVec 32 := Scalar.muli v9442 c32_i32_4197
  v9443

def k0_off1325 (v9441 : BitVec 32) : Fin 1 → Nat :=
  let c999936_i32_4196 : BitVec 32 := 999936#32
  let v9442 : BitVec 32 := Scalar.subi v9441 c999936_i32_4196
  let c32_i32_4197 : BitVec 32 := 32#32
  let v9443 : BitVec 32 := Scalar.muli v9442 c32_i32_4197
  let v9444 : BitVec 32 := v9443
  ![v9444.toNat]
def k0_mult685 (v9450 : BitVec 32) : BitVec 32 :=
  let c999936_i32_4200 : BitVec 32 := 999936#32
  let v9451 : BitVec 32 := Scalar.subi v9450 c999936_i32_4200
  let c32_i32_4201 : BitVec 32 := 32#32
  let v9452 : BitVec 32 := Scalar.muli v9451 c32_i32_4201
  v9452

def k0_off1326 (v9450 : BitVec 32) : Fin 1 → Nat :=
  let c999936_i32_4200 : BitVec 32 := 999936#32
  let v9451 : BitVec 32 := Scalar.subi v9450 c999936_i32_4200
  let c32_i32_4201 : BitVec 32 := 32#32
  let v9452 : BitVec 32 := Scalar.muli v9451 c32_i32_4201
  let v9453 : BitVec 32 := v9452
  ![v9453.toNat]
def k0_mult686 (v9459 : BitVec 32) : BitVec 32 :=
  let c999936_i32_4204 : BitVec 32 := 999936#32
  let v9460 : BitVec 32 := Scalar.subi v9459 c999936_i32_4204
  let c32_i32_4205 : BitVec 32 := 32#32
  let v9461 : BitVec 32 := Scalar.muli v9460 c32_i32_4205
  v9461

def k0_off1327 (v9459 : BitVec 32) : Fin 1 → Nat :=
  let c999936_i32_4204 : BitVec 32 := 999936#32
  let v9460 : BitVec 32 := Scalar.subi v9459 c999936_i32_4204
  let c32_i32_4205 : BitVec 32 := 32#32
  let v9461 : BitVec 32 := Scalar.muli v9460 c32_i32_4205
  let v9462 : BitVec 32 := v9461
  ![v9462.toNat]
def k0_mult687 (v9468 : BitVec 32) : BitVec 32 :=
  let c999936_i32_4208 : BitVec 32 := 999936#32
  let v9469 : BitVec 32 := Scalar.subi v9468 c999936_i32_4208
  let c32_i32_4209 : BitVec 32 := 32#32
  let v9470 : BitVec 32 := Scalar.muli v9469 c32_i32_4209
  v9470

def k0_off1328 (v9468 : BitVec 32) : Fin 1 → Nat :=
  let c999936_i32_4208 : BitVec 32 := 999936#32
  let v9469 : BitVec 32 := Scalar.subi v9468 c999936_i32_4208
  let c32_i32_4209 : BitVec 32 := 32#32
  let v9470 : BitVec 32 := Scalar.muli v9469 c32_i32_4209
  let v9471 : BitVec 32 := v9470
  ![v9471.toNat]
def k0_mult688 (v9477 : BitVec 32) : BitVec 32 :=
  let c999936_i32_4212 : BitVec 32 := 999936#32
  let v9478 : BitVec 32 := Scalar.subi v9477 c999936_i32_4212
  let c32_i32_4213 : BitVec 32 := 32#32
  let v9479 : BitVec 32 := Scalar.muli v9478 c32_i32_4213
  v9479

def k0_off1329 (v9477 : BitVec 32) : Fin 1 → Nat :=
  let c999936_i32_4212 : BitVec 32 := 999936#32
  let v9478 : BitVec 32 := Scalar.subi v9477 c999936_i32_4212
  let c32_i32_4213 : BitVec 32 := 32#32
  let v9479 : BitVec 32 := Scalar.muli v9478 c32_i32_4213
  let v9480 : BitVec 32 := v9479
  ![v9480.toNat]
def k0_mult689 (v9486 : BitVec 32) : BitVec 32 :=
  let c999936_i32_4216 : BitVec 32 := 999936#32
  let v9487 : BitVec 32 := Scalar.subi v9486 c999936_i32_4216
  let c32_i32_4217 : BitVec 32 := 32#32
  let v9488 : BitVec 32 := Scalar.muli v9487 c32_i32_4217
  v9488

def k0_off1330 (v9486 : BitVec 32) : Fin 1 → Nat :=
  let c999936_i32_4216 : BitVec 32 := 999936#32
  let v9487 : BitVec 32 := Scalar.subi v9486 c999936_i32_4216
  let c32_i32_4217 : BitVec 32 := 32#32
  let v9488 : BitVec 32 := Scalar.muli v9487 c32_i32_4217
  let v9489 : BitVec 32 := v9488
  ![v9489.toNat]

def k0_chk712 (v9486 : BitVec 32) : Prop :=
  (8 ∣ (k0_mult689 v9486).toNat) ∧
  (∀ a, (k0_off1330 v9486) a + S32.size a ≤ S2048.size a)
theorem k0_mult689_dvd : ∀ (v9486 : BitVec 32) (k0_hw712 : k0_chk712 v9486), 8 ∣ (k0_mult689 v9486).toNat := fun v9486 k0_hw712 => k0_hw712.1
theorem k0_off1330_inb : ∀ (v9486 : BitVec 32) (k0_hw712 : k0_chk712 v9486), ∀ a, (k0_off1330 v9486) a + S32.size a ≤ S2048.size a := fun v9486 k0_hw712 => k0_hw712.2

def k0_off1331 (v9351 : BitVec 32) : Fin 1 → Nat :=
  let c999936_i32_4156 : BitVec 32 := 999936#32
  let v9352 : BitVec 32 := Scalar.subi v9351 c999936_i32_4156
  let c32_i32_4157 : BitVec 32 := 32#32
  let v9353 : BitVec 32 := Scalar.muli v9352 c32_i32_4157
  let v9354 : BitVec 32 := v9353
  ![v9354.toNat]

def k0_chk697 (v9351 : BitVec 32) : Prop :=
  (8 ∣ (k0_mult674 v9351).toNat) ∧
  (∀ a, (k0_off1315 v9351) a + S32.size a ≤ S2048.size a) ∧
  (∀ a, (k0_off1331 v9351) a + S32.size a ≤ S2048.size a)
theorem k0_mult674_dvd : ∀ (v9351 : BitVec 32) (k0_hw697 : k0_chk697 v9351), 8 ∣ (k0_mult674 v9351).toNat := fun v9351 k0_hw697 => k0_hw697.1
theorem k0_off1315_inb : ∀ (v9351 : BitVec 32) (k0_hw697 : k0_chk697 v9351), ∀ a, (k0_off1315 v9351) a + S32.size a ≤ S2048.size a := fun v9351 k0_hw697 => k0_hw697.2.1
theorem k0_off1331_inb : ∀ (v9351 : BitVec 32) (k0_hw697 : k0_chk697 v9351), ∀ a, (k0_off1331 v9351) a + S32.size a ≤ S2048.size a := fun v9351 k0_hw697 => k0_hw697.2.2

def k0_off1332 (v9360 : BitVec 32) : Fin 1 → Nat :=
  let c999936_i32_4160 : BitVec 32 := 999936#32
  let v9361 : BitVec 32 := Scalar.subi v9360 c999936_i32_4160
  let c32_i32_4161 : BitVec 32 := 32#32
  let v9362 : BitVec 32 := Scalar.muli v9361 c32_i32_4161
  let v9363 : BitVec 32 := v9362
  ![v9363.toNat]

def k0_chk698 (v9360 : BitVec 32) : Prop :=
  (8 ∣ (k0_mult675 v9360).toNat) ∧
  (∀ a, (k0_off1316 v9360) a + S32.size a ≤ S2048.size a) ∧
  (∀ a, (k0_off1332 v9360) a + S32.size a ≤ S2048.size a)
theorem k0_mult675_dvd : ∀ (v9360 : BitVec 32) (k0_hw698 : k0_chk698 v9360), 8 ∣ (k0_mult675 v9360).toNat := fun v9360 k0_hw698 => k0_hw698.1
theorem k0_off1316_inb : ∀ (v9360 : BitVec 32) (k0_hw698 : k0_chk698 v9360), ∀ a, (k0_off1316 v9360) a + S32.size a ≤ S2048.size a := fun v9360 k0_hw698 => k0_hw698.2.1
theorem k0_off1332_inb : ∀ (v9360 : BitVec 32) (k0_hw698 : k0_chk698 v9360), ∀ a, (k0_off1332 v9360) a + S32.size a ≤ S2048.size a := fun v9360 k0_hw698 => k0_hw698.2.2

def k0_off1333 (v9369 : BitVec 32) : Fin 1 → Nat :=
  let c999936_i32_4164 : BitVec 32 := 999936#32
  let v9370 : BitVec 32 := Scalar.subi v9369 c999936_i32_4164
  let c32_i32_4165 : BitVec 32 := 32#32
  let v9371 : BitVec 32 := Scalar.muli v9370 c32_i32_4165
  let v9372 : BitVec 32 := v9371
  ![v9372.toNat]

def k0_chk699 (v9369 : BitVec 32) : Prop :=
  (8 ∣ (k0_mult676 v9369).toNat) ∧
  (∀ a, (k0_off1317 v9369) a + S32.size a ≤ S2048.size a) ∧
  (∀ a, (k0_off1333 v9369) a + S32.size a ≤ S2048.size a)
theorem k0_mult676_dvd : ∀ (v9369 : BitVec 32) (k0_hw699 : k0_chk699 v9369), 8 ∣ (k0_mult676 v9369).toNat := fun v9369 k0_hw699 => k0_hw699.1
theorem k0_off1317_inb : ∀ (v9369 : BitVec 32) (k0_hw699 : k0_chk699 v9369), ∀ a, (k0_off1317 v9369) a + S32.size a ≤ S2048.size a := fun v9369 k0_hw699 => k0_hw699.2.1
theorem k0_off1333_inb : ∀ (v9369 : BitVec 32) (k0_hw699 : k0_chk699 v9369), ∀ a, (k0_off1333 v9369) a + S32.size a ≤ S2048.size a := fun v9369 k0_hw699 => k0_hw699.2.2

def k0_off1334 (v9378 : BitVec 32) : Fin 1 → Nat :=
  let c999936_i32_4168 : BitVec 32 := 999936#32
  let v9379 : BitVec 32 := Scalar.subi v9378 c999936_i32_4168
  let c32_i32_4169 : BitVec 32 := 32#32
  let v9380 : BitVec 32 := Scalar.muli v9379 c32_i32_4169
  let v9381 : BitVec 32 := v9380
  ![v9381.toNat]

def k0_chk700 (v9378 : BitVec 32) : Prop :=
  (8 ∣ (k0_mult677 v9378).toNat) ∧
  (∀ a, (k0_off1318 v9378) a + S32.size a ≤ S2048.size a) ∧
  (∀ a, (k0_off1334 v9378) a + S32.size a ≤ S2048.size a)
theorem k0_mult677_dvd : ∀ (v9378 : BitVec 32) (k0_hw700 : k0_chk700 v9378), 8 ∣ (k0_mult677 v9378).toNat := fun v9378 k0_hw700 => k0_hw700.1
theorem k0_off1318_inb : ∀ (v9378 : BitVec 32) (k0_hw700 : k0_chk700 v9378), ∀ a, (k0_off1318 v9378) a + S32.size a ≤ S2048.size a := fun v9378 k0_hw700 => k0_hw700.2.1
theorem k0_off1334_inb : ∀ (v9378 : BitVec 32) (k0_hw700 : k0_chk700 v9378), ∀ a, (k0_off1334 v9378) a + S32.size a ≤ S2048.size a := fun v9378 k0_hw700 => k0_hw700.2.2

def k0_off1335 (v9387 : BitVec 32) : Fin 1 → Nat :=
  let c999936_i32_4172 : BitVec 32 := 999936#32
  let v9388 : BitVec 32 := Scalar.subi v9387 c999936_i32_4172
  let c32_i32_4173 : BitVec 32 := 32#32
  let v9389 : BitVec 32 := Scalar.muli v9388 c32_i32_4173
  let v9390 : BitVec 32 := v9389
  ![v9390.toNat]

def k0_chk701 (v9387 : BitVec 32) : Prop :=
  (8 ∣ (k0_mult678 v9387).toNat) ∧
  (∀ a, (k0_off1319 v9387) a + S32.size a ≤ S2048.size a) ∧
  (∀ a, (k0_off1335 v9387) a + S32.size a ≤ S2048.size a)
theorem k0_mult678_dvd : ∀ (v9387 : BitVec 32) (k0_hw701 : k0_chk701 v9387), 8 ∣ (k0_mult678 v9387).toNat := fun v9387 k0_hw701 => k0_hw701.1
theorem k0_off1319_inb : ∀ (v9387 : BitVec 32) (k0_hw701 : k0_chk701 v9387), ∀ a, (k0_off1319 v9387) a + S32.size a ≤ S2048.size a := fun v9387 k0_hw701 => k0_hw701.2.1
theorem k0_off1335_inb : ∀ (v9387 : BitVec 32) (k0_hw701 : k0_chk701 v9387), ∀ a, (k0_off1335 v9387) a + S32.size a ≤ S2048.size a := fun v9387 k0_hw701 => k0_hw701.2.2

def k0_off1336 (v9396 : BitVec 32) : Fin 1 → Nat :=
  let c999936_i32_4176 : BitVec 32 := 999936#32
  let v9397 : BitVec 32 := Scalar.subi v9396 c999936_i32_4176
  let c32_i32_4177 : BitVec 32 := 32#32
  let v9398 : BitVec 32 := Scalar.muli v9397 c32_i32_4177
  let v9399 : BitVec 32 := v9398
  ![v9399.toNat]

def k0_chk702 (v9396 : BitVec 32) : Prop :=
  (8 ∣ (k0_mult679 v9396).toNat) ∧
  (∀ a, (k0_off1320 v9396) a + S32.size a ≤ S2048.size a) ∧
  (∀ a, (k0_off1336 v9396) a + S32.size a ≤ S2048.size a)
theorem k0_mult679_dvd : ∀ (v9396 : BitVec 32) (k0_hw702 : k0_chk702 v9396), 8 ∣ (k0_mult679 v9396).toNat := fun v9396 k0_hw702 => k0_hw702.1
theorem k0_off1320_inb : ∀ (v9396 : BitVec 32) (k0_hw702 : k0_chk702 v9396), ∀ a, (k0_off1320 v9396) a + S32.size a ≤ S2048.size a := fun v9396 k0_hw702 => k0_hw702.2.1
theorem k0_off1336_inb : ∀ (v9396 : BitVec 32) (k0_hw702 : k0_chk702 v9396), ∀ a, (k0_off1336 v9396) a + S32.size a ≤ S2048.size a := fun v9396 k0_hw702 => k0_hw702.2.2

def k0_off1337 (v9405 : BitVec 32) : Fin 1 → Nat :=
  let c999936_i32_4180 : BitVec 32 := 999936#32
  let v9406 : BitVec 32 := Scalar.subi v9405 c999936_i32_4180
  let c32_i32_4181 : BitVec 32 := 32#32
  let v9407 : BitVec 32 := Scalar.muli v9406 c32_i32_4181
  let v9408 : BitVec 32 := v9407
  ![v9408.toNat]

def k0_chk703 (v9405 : BitVec 32) : Prop :=
  (8 ∣ (k0_mult680 v9405).toNat) ∧
  (∀ a, (k0_off1321 v9405) a + S32.size a ≤ S2048.size a) ∧
  (∀ a, (k0_off1337 v9405) a + S32.size a ≤ S2048.size a)
theorem k0_mult680_dvd : ∀ (v9405 : BitVec 32) (k0_hw703 : k0_chk703 v9405), 8 ∣ (k0_mult680 v9405).toNat := fun v9405 k0_hw703 => k0_hw703.1
theorem k0_off1321_inb : ∀ (v9405 : BitVec 32) (k0_hw703 : k0_chk703 v9405), ∀ a, (k0_off1321 v9405) a + S32.size a ≤ S2048.size a := fun v9405 k0_hw703 => k0_hw703.2.1
theorem k0_off1337_inb : ∀ (v9405 : BitVec 32) (k0_hw703 : k0_chk703 v9405), ∀ a, (k0_off1337 v9405) a + S32.size a ≤ S2048.size a := fun v9405 k0_hw703 => k0_hw703.2.2

def k0_off1338 (v9414 : BitVec 32) : Fin 1 → Nat :=
  let c999936_i32_4184 : BitVec 32 := 999936#32
  let v9415 : BitVec 32 := Scalar.subi v9414 c999936_i32_4184
  let c32_i32_4185 : BitVec 32 := 32#32
  let v9416 : BitVec 32 := Scalar.muli v9415 c32_i32_4185
  let v9417 : BitVec 32 := v9416
  ![v9417.toNat]

def k0_chk704 (v9414 : BitVec 32) : Prop :=
  (8 ∣ (k0_mult681 v9414).toNat) ∧
  (∀ a, (k0_off1322 v9414) a + S32.size a ≤ S2048.size a) ∧
  (∀ a, (k0_off1338 v9414) a + S32.size a ≤ S2048.size a)
theorem k0_mult681_dvd : ∀ (v9414 : BitVec 32) (k0_hw704 : k0_chk704 v9414), 8 ∣ (k0_mult681 v9414).toNat := fun v9414 k0_hw704 => k0_hw704.1
theorem k0_off1322_inb : ∀ (v9414 : BitVec 32) (k0_hw704 : k0_chk704 v9414), ∀ a, (k0_off1322 v9414) a + S32.size a ≤ S2048.size a := fun v9414 k0_hw704 => k0_hw704.2.1
theorem k0_off1338_inb : ∀ (v9414 : BitVec 32) (k0_hw704 : k0_chk704 v9414), ∀ a, (k0_off1338 v9414) a + S32.size a ≤ S2048.size a := fun v9414 k0_hw704 => k0_hw704.2.2

def k0_off1339 (v9423 : BitVec 32) : Fin 1 → Nat :=
  let c999936_i32_4188 : BitVec 32 := 999936#32
  let v9424 : BitVec 32 := Scalar.subi v9423 c999936_i32_4188
  let c32_i32_4189 : BitVec 32 := 32#32
  let v9425 : BitVec 32 := Scalar.muli v9424 c32_i32_4189
  let v9426 : BitVec 32 := v9425
  ![v9426.toNat]

def k0_chk705 (v9423 : BitVec 32) : Prop :=
  (8 ∣ (k0_mult682 v9423).toNat) ∧
  (∀ a, (k0_off1323 v9423) a + S32.size a ≤ S2048.size a) ∧
  (∀ a, (k0_off1339 v9423) a + S32.size a ≤ S2048.size a)
theorem k0_mult682_dvd : ∀ (v9423 : BitVec 32) (k0_hw705 : k0_chk705 v9423), 8 ∣ (k0_mult682 v9423).toNat := fun v9423 k0_hw705 => k0_hw705.1
theorem k0_off1323_inb : ∀ (v9423 : BitVec 32) (k0_hw705 : k0_chk705 v9423), ∀ a, (k0_off1323 v9423) a + S32.size a ≤ S2048.size a := fun v9423 k0_hw705 => k0_hw705.2.1
theorem k0_off1339_inb : ∀ (v9423 : BitVec 32) (k0_hw705 : k0_chk705 v9423), ∀ a, (k0_off1339 v9423) a + S32.size a ≤ S2048.size a := fun v9423 k0_hw705 => k0_hw705.2.2

def k0_off1340 (v9432 : BitVec 32) : Fin 1 → Nat :=
  let c999936_i32_4192 : BitVec 32 := 999936#32
  let v9433 : BitVec 32 := Scalar.subi v9432 c999936_i32_4192
  let c32_i32_4193 : BitVec 32 := 32#32
  let v9434 : BitVec 32 := Scalar.muli v9433 c32_i32_4193
  let v9435 : BitVec 32 := v9434
  ![v9435.toNat]

def k0_chk706 (v9432 : BitVec 32) : Prop :=
  (8 ∣ (k0_mult683 v9432).toNat) ∧
  (∀ a, (k0_off1324 v9432) a + S32.size a ≤ S2048.size a) ∧
  (∀ a, (k0_off1340 v9432) a + S32.size a ≤ S2048.size a)
theorem k0_mult683_dvd : ∀ (v9432 : BitVec 32) (k0_hw706 : k0_chk706 v9432), 8 ∣ (k0_mult683 v9432).toNat := fun v9432 k0_hw706 => k0_hw706.1
theorem k0_off1324_inb : ∀ (v9432 : BitVec 32) (k0_hw706 : k0_chk706 v9432), ∀ a, (k0_off1324 v9432) a + S32.size a ≤ S2048.size a := fun v9432 k0_hw706 => k0_hw706.2.1
theorem k0_off1340_inb : ∀ (v9432 : BitVec 32) (k0_hw706 : k0_chk706 v9432), ∀ a, (k0_off1340 v9432) a + S32.size a ≤ S2048.size a := fun v9432 k0_hw706 => k0_hw706.2.2

def k0_off1341 (v9441 : BitVec 32) : Fin 1 → Nat :=
  let c999936_i32_4196 : BitVec 32 := 999936#32
  let v9442 : BitVec 32 := Scalar.subi v9441 c999936_i32_4196
  let c32_i32_4197 : BitVec 32 := 32#32
  let v9443 : BitVec 32 := Scalar.muli v9442 c32_i32_4197
  let v9444 : BitVec 32 := v9443
  ![v9444.toNat]

def k0_chk707 (v9441 : BitVec 32) : Prop :=
  (8 ∣ (k0_mult684 v9441).toNat) ∧
  (∀ a, (k0_off1325 v9441) a + S32.size a ≤ S2048.size a) ∧
  (∀ a, (k0_off1341 v9441) a + S32.size a ≤ S2048.size a)
theorem k0_mult684_dvd : ∀ (v9441 : BitVec 32) (k0_hw707 : k0_chk707 v9441), 8 ∣ (k0_mult684 v9441).toNat := fun v9441 k0_hw707 => k0_hw707.1
theorem k0_off1325_inb : ∀ (v9441 : BitVec 32) (k0_hw707 : k0_chk707 v9441), ∀ a, (k0_off1325 v9441) a + S32.size a ≤ S2048.size a := fun v9441 k0_hw707 => k0_hw707.2.1
theorem k0_off1341_inb : ∀ (v9441 : BitVec 32) (k0_hw707 : k0_chk707 v9441), ∀ a, (k0_off1341 v9441) a + S32.size a ≤ S2048.size a := fun v9441 k0_hw707 => k0_hw707.2.2

def k0_off1342 (v9450 : BitVec 32) : Fin 1 → Nat :=
  let c999936_i32_4200 : BitVec 32 := 999936#32
  let v9451 : BitVec 32 := Scalar.subi v9450 c999936_i32_4200
  let c32_i32_4201 : BitVec 32 := 32#32
  let v9452 : BitVec 32 := Scalar.muli v9451 c32_i32_4201
  let v9453 : BitVec 32 := v9452
  ![v9453.toNat]

def k0_chk708 (v9450 : BitVec 32) : Prop :=
  (8 ∣ (k0_mult685 v9450).toNat) ∧
  (∀ a, (k0_off1326 v9450) a + S32.size a ≤ S2048.size a) ∧
  (∀ a, (k0_off1342 v9450) a + S32.size a ≤ S2048.size a)
theorem k0_mult685_dvd : ∀ (v9450 : BitVec 32) (k0_hw708 : k0_chk708 v9450), 8 ∣ (k0_mult685 v9450).toNat := fun v9450 k0_hw708 => k0_hw708.1
theorem k0_off1326_inb : ∀ (v9450 : BitVec 32) (k0_hw708 : k0_chk708 v9450), ∀ a, (k0_off1326 v9450) a + S32.size a ≤ S2048.size a := fun v9450 k0_hw708 => k0_hw708.2.1
theorem k0_off1342_inb : ∀ (v9450 : BitVec 32) (k0_hw708 : k0_chk708 v9450), ∀ a, (k0_off1342 v9450) a + S32.size a ≤ S2048.size a := fun v9450 k0_hw708 => k0_hw708.2.2

def k0_off1343 (v9459 : BitVec 32) : Fin 1 → Nat :=
  let c999936_i32_4204 : BitVec 32 := 999936#32
  let v9460 : BitVec 32 := Scalar.subi v9459 c999936_i32_4204
  let c32_i32_4205 : BitVec 32 := 32#32
  let v9461 : BitVec 32 := Scalar.muli v9460 c32_i32_4205
  let v9462 : BitVec 32 := v9461
  ![v9462.toNat]

def k0_chk709 (v9459 : BitVec 32) : Prop :=
  (8 ∣ (k0_mult686 v9459).toNat) ∧
  (∀ a, (k0_off1327 v9459) a + S32.size a ≤ S2048.size a) ∧
  (∀ a, (k0_off1343 v9459) a + S32.size a ≤ S2048.size a)
theorem k0_mult686_dvd : ∀ (v9459 : BitVec 32) (k0_hw709 : k0_chk709 v9459), 8 ∣ (k0_mult686 v9459).toNat := fun v9459 k0_hw709 => k0_hw709.1
theorem k0_off1327_inb : ∀ (v9459 : BitVec 32) (k0_hw709 : k0_chk709 v9459), ∀ a, (k0_off1327 v9459) a + S32.size a ≤ S2048.size a := fun v9459 k0_hw709 => k0_hw709.2.1
theorem k0_off1343_inb : ∀ (v9459 : BitVec 32) (k0_hw709 : k0_chk709 v9459), ∀ a, (k0_off1343 v9459) a + S32.size a ≤ S2048.size a := fun v9459 k0_hw709 => k0_hw709.2.2

def k0_off1344 (v9468 : BitVec 32) : Fin 1 → Nat :=
  let c999936_i32_4208 : BitVec 32 := 999936#32
  let v9469 : BitVec 32 := Scalar.subi v9468 c999936_i32_4208
  let c32_i32_4209 : BitVec 32 := 32#32
  let v9470 : BitVec 32 := Scalar.muli v9469 c32_i32_4209
  let v9471 : BitVec 32 := v9470
  ![v9471.toNat]

def k0_chk710 (v9468 : BitVec 32) : Prop :=
  (8 ∣ (k0_mult687 v9468).toNat) ∧
  (∀ a, (k0_off1328 v9468) a + S32.size a ≤ S2048.size a) ∧
  (∀ a, (k0_off1344 v9468) a + S32.size a ≤ S2048.size a)
theorem k0_mult687_dvd : ∀ (v9468 : BitVec 32) (k0_hw710 : k0_chk710 v9468), 8 ∣ (k0_mult687 v9468).toNat := fun v9468 k0_hw710 => k0_hw710.1
theorem k0_off1328_inb : ∀ (v9468 : BitVec 32) (k0_hw710 : k0_chk710 v9468), ∀ a, (k0_off1328 v9468) a + S32.size a ≤ S2048.size a := fun v9468 k0_hw710 => k0_hw710.2.1
theorem k0_off1344_inb : ∀ (v9468 : BitVec 32) (k0_hw710 : k0_chk710 v9468), ∀ a, (k0_off1344 v9468) a + S32.size a ≤ S2048.size a := fun v9468 k0_hw710 => k0_hw710.2.2

def k0_off1345 (v9477 : BitVec 32) : Fin 1 → Nat :=
  let c999936_i32_4212 : BitVec 32 := 999936#32
  let v9478 : BitVec 32 := Scalar.subi v9477 c999936_i32_4212
  let c32_i32_4213 : BitVec 32 := 32#32
  let v9479 : BitVec 32 := Scalar.muli v9478 c32_i32_4213
  let v9480 : BitVec 32 := v9479
  ![v9480.toNat]

def k0_chk711 (v9477 : BitVec 32) : Prop :=
  (8 ∣ (k0_mult688 v9477).toNat) ∧
  (∀ a, (k0_off1329 v9477) a + S32.size a ≤ S2048.size a) ∧
  (∀ a, (k0_off1345 v9477) a + S32.size a ≤ S2048.size a)
theorem k0_mult688_dvd : ∀ (v9477 : BitVec 32) (k0_hw711 : k0_chk711 v9477), 8 ∣ (k0_mult688 v9477).toNat := fun v9477 k0_hw711 => k0_hw711.1
theorem k0_off1329_inb : ∀ (v9477 : BitVec 32) (k0_hw711 : k0_chk711 v9477), ∀ a, (k0_off1329 v9477) a + S32.size a ≤ S2048.size a := fun v9477 k0_hw711 => k0_hw711.2.1
theorem k0_off1345_inb : ∀ (v9477 : BitVec 32) (k0_hw711 : k0_chk711 v9477), ∀ a, (k0_off1345 v9477) a + S32.size a ≤ S2048.size a := fun v9477 k0_hw711 => k0_hw711.2.2

def k0_mult690 (v9559 : BitVec 32) : BitVec 32 :=
  let c1703936_i32_4253 : BitVec 32 := 1703936#32
  let c32_i32_4252 : BitVec 32 := 32#32
  let v9560 : BitVec 32 := Scalar.muli v9559 c32_i32_4252
  let v9561 : BitVec 32 := Scalar.addi c1703936_i32_4253 v9560
  v9561

def k0_off1346 (v9559 : BitVec 32) : Fin 1 → Nat :=
  let c1703936_i32_4253 : BitVec 32 := 1703936#32
  let c32_i32_4252 : BitVec 32 := 32#32
  let v9560 : BitVec 32 := Scalar.muli v9559 c32_i32_4252
  let v9561 : BitVec 32 := Scalar.addi c1703936_i32_4253 v9560
  let v9562 : BitVec 32 := v9561
  ![v9562.toNat]
def k0_mult691 (v9568 : BitVec 32) : BitVec 32 :=
  let c1703936_i32_4257 : BitVec 32 := 1703936#32
  let c32_i32_4256 : BitVec 32 := 32#32
  let v9569 : BitVec 32 := Scalar.muli v9568 c32_i32_4256
  let v9570 : BitVec 32 := Scalar.addi c1703936_i32_4257 v9569
  v9570

def k0_off1347 (v9568 : BitVec 32) : Fin 1 → Nat :=
  let c1703936_i32_4257 : BitVec 32 := 1703936#32
  let c32_i32_4256 : BitVec 32 := 32#32
  let v9569 : BitVec 32 := Scalar.muli v9568 c32_i32_4256
  let v9570 : BitVec 32 := Scalar.addi c1703936_i32_4257 v9569
  let v9571 : BitVec 32 := v9570
  ![v9571.toNat]
def k0_mult692 (v9577 : BitVec 32) : BitVec 32 :=
  let c1703936_i32_4261 : BitVec 32 := 1703936#32
  let c32_i32_4260 : BitVec 32 := 32#32
  let v9578 : BitVec 32 := Scalar.muli v9577 c32_i32_4260
  let v9579 : BitVec 32 := Scalar.addi c1703936_i32_4261 v9578
  v9579

def k0_off1348 (v9577 : BitVec 32) : Fin 1 → Nat :=
  let c1703936_i32_4261 : BitVec 32 := 1703936#32
  let c32_i32_4260 : BitVec 32 := 32#32
  let v9578 : BitVec 32 := Scalar.muli v9577 c32_i32_4260
  let v9579 : BitVec 32 := Scalar.addi c1703936_i32_4261 v9578
  let v9580 : BitVec 32 := v9579
  ![v9580.toNat]
def k0_mult693 (v9586 : BitVec 32) : BitVec 32 :=
  let c1703936_i32_4265 : BitVec 32 := 1703936#32
  let c32_i32_4264 : BitVec 32 := 32#32
  let v9587 : BitVec 32 := Scalar.muli v9586 c32_i32_4264
  let v9588 : BitVec 32 := Scalar.addi c1703936_i32_4265 v9587
  v9588

def k0_off1349 (v9586 : BitVec 32) : Fin 1 → Nat :=
  let c1703936_i32_4265 : BitVec 32 := 1703936#32
  let c32_i32_4264 : BitVec 32 := 32#32
  let v9587 : BitVec 32 := Scalar.muli v9586 c32_i32_4264
  let v9588 : BitVec 32 := Scalar.addi c1703936_i32_4265 v9587
  let v9589 : BitVec 32 := v9588
  ![v9589.toNat]
def k0_mult694 (v9595 : BitVec 32) : BitVec 32 :=
  let c1703936_i32_4269 : BitVec 32 := 1703936#32
  let c32_i32_4268 : BitVec 32 := 32#32
  let v9596 : BitVec 32 := Scalar.muli v9595 c32_i32_4268
  let v9597 : BitVec 32 := Scalar.addi c1703936_i32_4269 v9596
  v9597

def k0_off1350 (v9595 : BitVec 32) : Fin 1 → Nat :=
  let c1703936_i32_4269 : BitVec 32 := 1703936#32
  let c32_i32_4268 : BitVec 32 := 32#32
  let v9596 : BitVec 32 := Scalar.muli v9595 c32_i32_4268
  let v9597 : BitVec 32 := Scalar.addi c1703936_i32_4269 v9596
  let v9598 : BitVec 32 := v9597
  ![v9598.toNat]
def k0_mult695 (v9604 : BitVec 32) : BitVec 32 :=
  let c1703936_i32_4273 : BitVec 32 := 1703936#32
  let c32_i32_4272 : BitVec 32 := 32#32
  let v9605 : BitVec 32 := Scalar.muli v9604 c32_i32_4272
  let v9606 : BitVec 32 := Scalar.addi c1703936_i32_4273 v9605
  v9606

def k0_off1351 (v9604 : BitVec 32) : Fin 1 → Nat :=
  let c1703936_i32_4273 : BitVec 32 := 1703936#32
  let c32_i32_4272 : BitVec 32 := 32#32
  let v9605 : BitVec 32 := Scalar.muli v9604 c32_i32_4272
  let v9606 : BitVec 32 := Scalar.addi c1703936_i32_4273 v9605
  let v9607 : BitVec 32 := v9606
  ![v9607.toNat]
def k0_mult696 (v9613 : BitVec 32) : BitVec 32 :=
  let c1703936_i32_4277 : BitVec 32 := 1703936#32
  let c32_i32_4276 : BitVec 32 := 32#32
  let v9614 : BitVec 32 := Scalar.muli v9613 c32_i32_4276
  let v9615 : BitVec 32 := Scalar.addi c1703936_i32_4277 v9614
  v9615

def k0_off1352 (v9613 : BitVec 32) : Fin 1 → Nat :=
  let c1703936_i32_4277 : BitVec 32 := 1703936#32
  let c32_i32_4276 : BitVec 32 := 32#32
  let v9614 : BitVec 32 := Scalar.muli v9613 c32_i32_4276
  let v9615 : BitVec 32 := Scalar.addi c1703936_i32_4277 v9614
  let v9616 : BitVec 32 := v9615
  ![v9616.toNat]
def k0_mult697 (v9622 : BitVec 32) : BitVec 32 :=
  let c1703936_i32_4281 : BitVec 32 := 1703936#32
  let c32_i32_4280 : BitVec 32 := 32#32
  let v9623 : BitVec 32 := Scalar.muli v9622 c32_i32_4280
  let v9624 : BitVec 32 := Scalar.addi c1703936_i32_4281 v9623
  v9624

def k0_off1353 (v9622 : BitVec 32) : Fin 1 → Nat :=
  let c1703936_i32_4281 : BitVec 32 := 1703936#32
  let c32_i32_4280 : BitVec 32 := 32#32
  let v9623 : BitVec 32 := Scalar.muli v9622 c32_i32_4280
  let v9624 : BitVec 32 := Scalar.addi c1703936_i32_4281 v9623
  let v9625 : BitVec 32 := v9624
  ![v9625.toNat]
def k0_mult698 (v9631 : BitVec 32) : BitVec 32 :=
  let c1703936_i32_4285 : BitVec 32 := 1703936#32
  let c32_i32_4284 : BitVec 32 := 32#32
  let v9632 : BitVec 32 := Scalar.muli v9631 c32_i32_4284
  let v9633 : BitVec 32 := Scalar.addi c1703936_i32_4285 v9632
  v9633

def k0_off1354 (v9631 : BitVec 32) : Fin 1 → Nat :=
  let c1703936_i32_4285 : BitVec 32 := 1703936#32
  let c32_i32_4284 : BitVec 32 := 32#32
  let v9632 : BitVec 32 := Scalar.muli v9631 c32_i32_4284
  let v9633 : BitVec 32 := Scalar.addi c1703936_i32_4285 v9632
  let v9634 : BitVec 32 := v9633
  ![v9634.toNat]
def k0_mult699 (v9640 : BitVec 32) : BitVec 32 :=
  let c1703936_i32_4289 : BitVec 32 := 1703936#32
  let c32_i32_4288 : BitVec 32 := 32#32
  let v9641 : BitVec 32 := Scalar.muli v9640 c32_i32_4288
  let v9642 : BitVec 32 := Scalar.addi c1703936_i32_4289 v9641
  v9642

def k0_off1355 (v9640 : BitVec 32) : Fin 1 → Nat :=
  let c1703936_i32_4289 : BitVec 32 := 1703936#32
  let c32_i32_4288 : BitVec 32 := 32#32
  let v9641 : BitVec 32 := Scalar.muli v9640 c32_i32_4288
  let v9642 : BitVec 32 := Scalar.addi c1703936_i32_4289 v9641
  let v9643 : BitVec 32 := v9642
  ![v9643.toNat]
def k0_mult700 (v9649 : BitVec 32) : BitVec 32 :=
  let c1703936_i32_4293 : BitVec 32 := 1703936#32
  let c32_i32_4292 : BitVec 32 := 32#32
  let v9650 : BitVec 32 := Scalar.muli v9649 c32_i32_4292
  let v9651 : BitVec 32 := Scalar.addi c1703936_i32_4293 v9650
  v9651

def k0_off1356 (v9649 : BitVec 32) : Fin 1 → Nat :=
  let c1703936_i32_4293 : BitVec 32 := 1703936#32
  let c32_i32_4292 : BitVec 32 := 32#32
  let v9650 : BitVec 32 := Scalar.muli v9649 c32_i32_4292
  let v9651 : BitVec 32 := Scalar.addi c1703936_i32_4293 v9650
  let v9652 : BitVec 32 := v9651
  ![v9652.toNat]
def k0_mult701 (v9658 : BitVec 32) : BitVec 32 :=
  let c1703936_i32_4297 : BitVec 32 := 1703936#32
  let c32_i32_4296 : BitVec 32 := 32#32
  let v9659 : BitVec 32 := Scalar.muli v9658 c32_i32_4296
  let v9660 : BitVec 32 := Scalar.addi c1703936_i32_4297 v9659
  v9660

def k0_off1357 (v9658 : BitVec 32) : Fin 1 → Nat :=
  let c1703936_i32_4297 : BitVec 32 := 1703936#32
  let c32_i32_4296 : BitVec 32 := 32#32
  let v9659 : BitVec 32 := Scalar.muli v9658 c32_i32_4296
  let v9660 : BitVec 32 := Scalar.addi c1703936_i32_4297 v9659
  let v9661 : BitVec 32 := v9660
  ![v9661.toNat]
def k0_mult702 (v9667 : BitVec 32) : BitVec 32 :=
  let c1703936_i32_4301 : BitVec 32 := 1703936#32
  let c32_i32_4300 : BitVec 32 := 32#32
  let v9668 : BitVec 32 := Scalar.muli v9667 c32_i32_4300
  let v9669 : BitVec 32 := Scalar.addi c1703936_i32_4301 v9668
  v9669

def k0_off1358 (v9667 : BitVec 32) : Fin 1 → Nat :=
  let c1703936_i32_4301 : BitVec 32 := 1703936#32
  let c32_i32_4300 : BitVec 32 := 32#32
  let v9668 : BitVec 32 := Scalar.muli v9667 c32_i32_4300
  let v9669 : BitVec 32 := Scalar.addi c1703936_i32_4301 v9668
  let v9670 : BitVec 32 := v9669
  ![v9670.toNat]
def k0_mult703 (v9676 : BitVec 32) : BitVec 32 :=
  let c1703936_i32_4305 : BitVec 32 := 1703936#32
  let c32_i32_4304 : BitVec 32 := 32#32
  let v9677 : BitVec 32 := Scalar.muli v9676 c32_i32_4304
  let v9678 : BitVec 32 := Scalar.addi c1703936_i32_4305 v9677
  v9678

def k0_off1359 (v9676 : BitVec 32) : Fin 1 → Nat :=
  let c1703936_i32_4305 : BitVec 32 := 1703936#32
  let c32_i32_4304 : BitVec 32 := 32#32
  let v9677 : BitVec 32 := Scalar.muli v9676 c32_i32_4304
  let v9678 : BitVec 32 := Scalar.addi c1703936_i32_4305 v9677
  let v9679 : BitVec 32 := v9678
  ![v9679.toNat]
def k0_mult704 (v9685 : BitVec 32) : BitVec 32 :=
  let c1703936_i32_4309 : BitVec 32 := 1703936#32
  let c32_i32_4308 : BitVec 32 := 32#32
  let v9686 : BitVec 32 := Scalar.muli v9685 c32_i32_4308
  let v9687 : BitVec 32 := Scalar.addi c1703936_i32_4309 v9686
  v9687

def k0_off1360 (v9685 : BitVec 32) : Fin 1 → Nat :=
  let c1703936_i32_4309 : BitVec 32 := 1703936#32
  let c32_i32_4308 : BitVec 32 := 32#32
  let v9686 : BitVec 32 := Scalar.muli v9685 c32_i32_4308
  let v9687 : BitVec 32 := Scalar.addi c1703936_i32_4309 v9686
  let v9688 : BitVec 32 := v9687
  ![v9688.toNat]
def k0_mult705 (v9694 : BitVec 32) : BitVec 32 :=
  let c1703936_i32_4313 : BitVec 32 := 1703936#32
  let c32_i32_4312 : BitVec 32 := 32#32
  let v9695 : BitVec 32 := Scalar.muli v9694 c32_i32_4312
  let v9696 : BitVec 32 := Scalar.addi c1703936_i32_4313 v9695
  v9696

def k0_off1361 (v9694 : BitVec 32) : Fin 1 → Nat :=
  let c1703936_i32_4313 : BitVec 32 := 1703936#32
  let c32_i32_4312 : BitVec 32 := 32#32
  let v9695 : BitVec 32 := Scalar.muli v9694 c32_i32_4312
  let v9696 : BitVec 32 := Scalar.addi c1703936_i32_4313 v9695
  let v9697 : BitVec 32 := v9696
  ![v9697.toNat]

def k0_chk728 (v9694 : BitVec 32) : Prop :=
  (8 ∣ (k0_mult705 v9694).toNat) ∧
  (∀ a, (k0_off1361 v9694) a + S32.size a ≤ S3407872.size a)
theorem k0_mult705_dvd : ∀ (v9694 : BitVec 32) (k0_hw728 : k0_chk728 v9694), 8 ∣ (k0_mult705 v9694).toNat := fun v9694 k0_hw728 => k0_hw728.1
theorem k0_off1361_inb : ∀ (v9694 : BitVec 32) (k0_hw728 : k0_chk728 v9694), ∀ a, (k0_off1361 v9694) a + S32.size a ≤ S3407872.size a := fun v9694 k0_hw728 => k0_hw728.2

def k0_off1362 (v9559 : BitVec 32) : Fin 1 → Nat :=
  let c1703936_i32_4253 : BitVec 32 := 1703936#32
  let c32_i32_4252 : BitVec 32 := 32#32
  let v9560 : BitVec 32 := Scalar.muli v9559 c32_i32_4252
  let v9561 : BitVec 32 := Scalar.addi c1703936_i32_4253 v9560
  let v9562 : BitVec 32 := v9561
  ![v9562.toNat]

def k0_chk713 (v9559 : BitVec 32) : Prop :=
  (8 ∣ (k0_mult690 v9559).toNat) ∧
  (∀ a, (k0_off1346 v9559) a + S32.size a ≤ S3407872.size a) ∧
  (∀ a, (k0_off1362 v9559) a + S32.size a ≤ S3407872.size a)
theorem k0_mult690_dvd : ∀ (v9559 : BitVec 32) (k0_hw713 : k0_chk713 v9559), 8 ∣ (k0_mult690 v9559).toNat := fun v9559 k0_hw713 => k0_hw713.1
theorem k0_off1346_inb : ∀ (v9559 : BitVec 32) (k0_hw713 : k0_chk713 v9559), ∀ a, (k0_off1346 v9559) a + S32.size a ≤ S3407872.size a := fun v9559 k0_hw713 => k0_hw713.2.1
theorem k0_off1362_inb : ∀ (v9559 : BitVec 32) (k0_hw713 : k0_chk713 v9559), ∀ a, (k0_off1362 v9559) a + S32.size a ≤ S3407872.size a := fun v9559 k0_hw713 => k0_hw713.2.2

def k0_off1363 (v9568 : BitVec 32) : Fin 1 → Nat :=
  let c1703936_i32_4257 : BitVec 32 := 1703936#32
  let c32_i32_4256 : BitVec 32 := 32#32
  let v9569 : BitVec 32 := Scalar.muli v9568 c32_i32_4256
  let v9570 : BitVec 32 := Scalar.addi c1703936_i32_4257 v9569
  let v9571 : BitVec 32 := v9570
  ![v9571.toNat]

def k0_chk714 (v9568 : BitVec 32) : Prop :=
  (8 ∣ (k0_mult691 v9568).toNat) ∧
  (∀ a, (k0_off1347 v9568) a + S32.size a ≤ S3407872.size a) ∧
  (∀ a, (k0_off1363 v9568) a + S32.size a ≤ S3407872.size a)
theorem k0_mult691_dvd : ∀ (v9568 : BitVec 32) (k0_hw714 : k0_chk714 v9568), 8 ∣ (k0_mult691 v9568).toNat := fun v9568 k0_hw714 => k0_hw714.1
theorem k0_off1347_inb : ∀ (v9568 : BitVec 32) (k0_hw714 : k0_chk714 v9568), ∀ a, (k0_off1347 v9568) a + S32.size a ≤ S3407872.size a := fun v9568 k0_hw714 => k0_hw714.2.1
theorem k0_off1363_inb : ∀ (v9568 : BitVec 32) (k0_hw714 : k0_chk714 v9568), ∀ a, (k0_off1363 v9568) a + S32.size a ≤ S3407872.size a := fun v9568 k0_hw714 => k0_hw714.2.2

def k0_off1364 (v9577 : BitVec 32) : Fin 1 → Nat :=
  let c1703936_i32_4261 : BitVec 32 := 1703936#32
  let c32_i32_4260 : BitVec 32 := 32#32
  let v9578 : BitVec 32 := Scalar.muli v9577 c32_i32_4260
  let v9579 : BitVec 32 := Scalar.addi c1703936_i32_4261 v9578
  let v9580 : BitVec 32 := v9579
  ![v9580.toNat]

def k0_chk715 (v9577 : BitVec 32) : Prop :=
  (8 ∣ (k0_mult692 v9577).toNat) ∧
  (∀ a, (k0_off1348 v9577) a + S32.size a ≤ S3407872.size a) ∧
  (∀ a, (k0_off1364 v9577) a + S32.size a ≤ S3407872.size a)
theorem k0_mult692_dvd : ∀ (v9577 : BitVec 32) (k0_hw715 : k0_chk715 v9577), 8 ∣ (k0_mult692 v9577).toNat := fun v9577 k0_hw715 => k0_hw715.1
theorem k0_off1348_inb : ∀ (v9577 : BitVec 32) (k0_hw715 : k0_chk715 v9577), ∀ a, (k0_off1348 v9577) a + S32.size a ≤ S3407872.size a := fun v9577 k0_hw715 => k0_hw715.2.1
theorem k0_off1364_inb : ∀ (v9577 : BitVec 32) (k0_hw715 : k0_chk715 v9577), ∀ a, (k0_off1364 v9577) a + S32.size a ≤ S3407872.size a := fun v9577 k0_hw715 => k0_hw715.2.2

def k0_off1365 (v9586 : BitVec 32) : Fin 1 → Nat :=
  let c1703936_i32_4265 : BitVec 32 := 1703936#32
  let c32_i32_4264 : BitVec 32 := 32#32
  let v9587 : BitVec 32 := Scalar.muli v9586 c32_i32_4264
  let v9588 : BitVec 32 := Scalar.addi c1703936_i32_4265 v9587
  let v9589 : BitVec 32 := v9588
  ![v9589.toNat]

def k0_chk716 (v9586 : BitVec 32) : Prop :=
  (8 ∣ (k0_mult693 v9586).toNat) ∧
  (∀ a, (k0_off1349 v9586) a + S32.size a ≤ S3407872.size a) ∧
  (∀ a, (k0_off1365 v9586) a + S32.size a ≤ S3407872.size a)
theorem k0_mult693_dvd : ∀ (v9586 : BitVec 32) (k0_hw716 : k0_chk716 v9586), 8 ∣ (k0_mult693 v9586).toNat := fun v9586 k0_hw716 => k0_hw716.1
theorem k0_off1349_inb : ∀ (v9586 : BitVec 32) (k0_hw716 : k0_chk716 v9586), ∀ a, (k0_off1349 v9586) a + S32.size a ≤ S3407872.size a := fun v9586 k0_hw716 => k0_hw716.2.1
theorem k0_off1365_inb : ∀ (v9586 : BitVec 32) (k0_hw716 : k0_chk716 v9586), ∀ a, (k0_off1365 v9586) a + S32.size a ≤ S3407872.size a := fun v9586 k0_hw716 => k0_hw716.2.2

def k0_off1366 (v9595 : BitVec 32) : Fin 1 → Nat :=
  let c1703936_i32_4269 : BitVec 32 := 1703936#32
  let c32_i32_4268 : BitVec 32 := 32#32
  let v9596 : BitVec 32 := Scalar.muli v9595 c32_i32_4268
  let v9597 : BitVec 32 := Scalar.addi c1703936_i32_4269 v9596
  let v9598 : BitVec 32 := v9597
  ![v9598.toNat]

def k0_chk717 (v9595 : BitVec 32) : Prop :=
  (8 ∣ (k0_mult694 v9595).toNat) ∧
  (∀ a, (k0_off1350 v9595) a + S32.size a ≤ S3407872.size a) ∧
  (∀ a, (k0_off1366 v9595) a + S32.size a ≤ S3407872.size a)
theorem k0_mult694_dvd : ∀ (v9595 : BitVec 32) (k0_hw717 : k0_chk717 v9595), 8 ∣ (k0_mult694 v9595).toNat := fun v9595 k0_hw717 => k0_hw717.1
theorem k0_off1350_inb : ∀ (v9595 : BitVec 32) (k0_hw717 : k0_chk717 v9595), ∀ a, (k0_off1350 v9595) a + S32.size a ≤ S3407872.size a := fun v9595 k0_hw717 => k0_hw717.2.1
theorem k0_off1366_inb : ∀ (v9595 : BitVec 32) (k0_hw717 : k0_chk717 v9595), ∀ a, (k0_off1366 v9595) a + S32.size a ≤ S3407872.size a := fun v9595 k0_hw717 => k0_hw717.2.2

def k0_off1367 (v9604 : BitVec 32) : Fin 1 → Nat :=
  let c1703936_i32_4273 : BitVec 32 := 1703936#32
  let c32_i32_4272 : BitVec 32 := 32#32
  let v9605 : BitVec 32 := Scalar.muli v9604 c32_i32_4272
  let v9606 : BitVec 32 := Scalar.addi c1703936_i32_4273 v9605
  let v9607 : BitVec 32 := v9606
  ![v9607.toNat]

def k0_chk718 (v9604 : BitVec 32) : Prop :=
  (8 ∣ (k0_mult695 v9604).toNat) ∧
  (∀ a, (k0_off1351 v9604) a + S32.size a ≤ S3407872.size a) ∧
  (∀ a, (k0_off1367 v9604) a + S32.size a ≤ S3407872.size a)
theorem k0_mult695_dvd : ∀ (v9604 : BitVec 32) (k0_hw718 : k0_chk718 v9604), 8 ∣ (k0_mult695 v9604).toNat := fun v9604 k0_hw718 => k0_hw718.1
theorem k0_off1351_inb : ∀ (v9604 : BitVec 32) (k0_hw718 : k0_chk718 v9604), ∀ a, (k0_off1351 v9604) a + S32.size a ≤ S3407872.size a := fun v9604 k0_hw718 => k0_hw718.2.1
theorem k0_off1367_inb : ∀ (v9604 : BitVec 32) (k0_hw718 : k0_chk718 v9604), ∀ a, (k0_off1367 v9604) a + S32.size a ≤ S3407872.size a := fun v9604 k0_hw718 => k0_hw718.2.2

def k0_off1368 (v9613 : BitVec 32) : Fin 1 → Nat :=
  let c1703936_i32_4277 : BitVec 32 := 1703936#32
  let c32_i32_4276 : BitVec 32 := 32#32
  let v9614 : BitVec 32 := Scalar.muli v9613 c32_i32_4276
  let v9615 : BitVec 32 := Scalar.addi c1703936_i32_4277 v9614
  let v9616 : BitVec 32 := v9615
  ![v9616.toNat]

def k0_chk719 (v9613 : BitVec 32) : Prop :=
  (8 ∣ (k0_mult696 v9613).toNat) ∧
  (∀ a, (k0_off1352 v9613) a + S32.size a ≤ S3407872.size a) ∧
  (∀ a, (k0_off1368 v9613) a + S32.size a ≤ S3407872.size a)
theorem k0_mult696_dvd : ∀ (v9613 : BitVec 32) (k0_hw719 : k0_chk719 v9613), 8 ∣ (k0_mult696 v9613).toNat := fun v9613 k0_hw719 => k0_hw719.1
theorem k0_off1352_inb : ∀ (v9613 : BitVec 32) (k0_hw719 : k0_chk719 v9613), ∀ a, (k0_off1352 v9613) a + S32.size a ≤ S3407872.size a := fun v9613 k0_hw719 => k0_hw719.2.1
theorem k0_off1368_inb : ∀ (v9613 : BitVec 32) (k0_hw719 : k0_chk719 v9613), ∀ a, (k0_off1368 v9613) a + S32.size a ≤ S3407872.size a := fun v9613 k0_hw719 => k0_hw719.2.2

def k0_off1369 (v9622 : BitVec 32) : Fin 1 → Nat :=
  let c1703936_i32_4281 : BitVec 32 := 1703936#32
  let c32_i32_4280 : BitVec 32 := 32#32
  let v9623 : BitVec 32 := Scalar.muli v9622 c32_i32_4280
  let v9624 : BitVec 32 := Scalar.addi c1703936_i32_4281 v9623
  let v9625 : BitVec 32 := v9624
  ![v9625.toNat]

def k0_chk720 (v9622 : BitVec 32) : Prop :=
  (8 ∣ (k0_mult697 v9622).toNat) ∧
  (∀ a, (k0_off1353 v9622) a + S32.size a ≤ S3407872.size a) ∧
  (∀ a, (k0_off1369 v9622) a + S32.size a ≤ S3407872.size a)
theorem k0_mult697_dvd : ∀ (v9622 : BitVec 32) (k0_hw720 : k0_chk720 v9622), 8 ∣ (k0_mult697 v9622).toNat := fun v9622 k0_hw720 => k0_hw720.1
theorem k0_off1353_inb : ∀ (v9622 : BitVec 32) (k0_hw720 : k0_chk720 v9622), ∀ a, (k0_off1353 v9622) a + S32.size a ≤ S3407872.size a := fun v9622 k0_hw720 => k0_hw720.2.1
theorem k0_off1369_inb : ∀ (v9622 : BitVec 32) (k0_hw720 : k0_chk720 v9622), ∀ a, (k0_off1369 v9622) a + S32.size a ≤ S3407872.size a := fun v9622 k0_hw720 => k0_hw720.2.2

def k0_off1370 (v9631 : BitVec 32) : Fin 1 → Nat :=
  let c1703936_i32_4285 : BitVec 32 := 1703936#32
  let c32_i32_4284 : BitVec 32 := 32#32
  let v9632 : BitVec 32 := Scalar.muli v9631 c32_i32_4284
  let v9633 : BitVec 32 := Scalar.addi c1703936_i32_4285 v9632
  let v9634 : BitVec 32 := v9633
  ![v9634.toNat]

def k0_chk721 (v9631 : BitVec 32) : Prop :=
  (8 ∣ (k0_mult698 v9631).toNat) ∧
  (∀ a, (k0_off1354 v9631) a + S32.size a ≤ S3407872.size a) ∧
  (∀ a, (k0_off1370 v9631) a + S32.size a ≤ S3407872.size a)
theorem k0_mult698_dvd : ∀ (v9631 : BitVec 32) (k0_hw721 : k0_chk721 v9631), 8 ∣ (k0_mult698 v9631).toNat := fun v9631 k0_hw721 => k0_hw721.1
theorem k0_off1354_inb : ∀ (v9631 : BitVec 32) (k0_hw721 : k0_chk721 v9631), ∀ a, (k0_off1354 v9631) a + S32.size a ≤ S3407872.size a := fun v9631 k0_hw721 => k0_hw721.2.1
theorem k0_off1370_inb : ∀ (v9631 : BitVec 32) (k0_hw721 : k0_chk721 v9631), ∀ a, (k0_off1370 v9631) a + S32.size a ≤ S3407872.size a := fun v9631 k0_hw721 => k0_hw721.2.2

def k0_off1371 (v9640 : BitVec 32) : Fin 1 → Nat :=
  let c1703936_i32_4289 : BitVec 32 := 1703936#32
  let c32_i32_4288 : BitVec 32 := 32#32
  let v9641 : BitVec 32 := Scalar.muli v9640 c32_i32_4288
  let v9642 : BitVec 32 := Scalar.addi c1703936_i32_4289 v9641
  let v9643 : BitVec 32 := v9642
  ![v9643.toNat]

def k0_chk722 (v9640 : BitVec 32) : Prop :=
  (8 ∣ (k0_mult699 v9640).toNat) ∧
  (∀ a, (k0_off1355 v9640) a + S32.size a ≤ S3407872.size a) ∧
  (∀ a, (k0_off1371 v9640) a + S32.size a ≤ S3407872.size a)
theorem k0_mult699_dvd : ∀ (v9640 : BitVec 32) (k0_hw722 : k0_chk722 v9640), 8 ∣ (k0_mult699 v9640).toNat := fun v9640 k0_hw722 => k0_hw722.1
theorem k0_off1355_inb : ∀ (v9640 : BitVec 32) (k0_hw722 : k0_chk722 v9640), ∀ a, (k0_off1355 v9640) a + S32.size a ≤ S3407872.size a := fun v9640 k0_hw722 => k0_hw722.2.1
theorem k0_off1371_inb : ∀ (v9640 : BitVec 32) (k0_hw722 : k0_chk722 v9640), ∀ a, (k0_off1371 v9640) a + S32.size a ≤ S3407872.size a := fun v9640 k0_hw722 => k0_hw722.2.2

def k0_off1372 (v9649 : BitVec 32) : Fin 1 → Nat :=
  let c1703936_i32_4293 : BitVec 32 := 1703936#32
  let c32_i32_4292 : BitVec 32 := 32#32
  let v9650 : BitVec 32 := Scalar.muli v9649 c32_i32_4292
  let v9651 : BitVec 32 := Scalar.addi c1703936_i32_4293 v9650
  let v9652 : BitVec 32 := v9651
  ![v9652.toNat]

def k0_chk723 (v9649 : BitVec 32) : Prop :=
  (8 ∣ (k0_mult700 v9649).toNat) ∧
  (∀ a, (k0_off1356 v9649) a + S32.size a ≤ S3407872.size a) ∧
  (∀ a, (k0_off1372 v9649) a + S32.size a ≤ S3407872.size a)
theorem k0_mult700_dvd : ∀ (v9649 : BitVec 32) (k0_hw723 : k0_chk723 v9649), 8 ∣ (k0_mult700 v9649).toNat := fun v9649 k0_hw723 => k0_hw723.1
theorem k0_off1356_inb : ∀ (v9649 : BitVec 32) (k0_hw723 : k0_chk723 v9649), ∀ a, (k0_off1356 v9649) a + S32.size a ≤ S3407872.size a := fun v9649 k0_hw723 => k0_hw723.2.1
theorem k0_off1372_inb : ∀ (v9649 : BitVec 32) (k0_hw723 : k0_chk723 v9649), ∀ a, (k0_off1372 v9649) a + S32.size a ≤ S3407872.size a := fun v9649 k0_hw723 => k0_hw723.2.2

def k0_off1373 (v9658 : BitVec 32) : Fin 1 → Nat :=
  let c1703936_i32_4297 : BitVec 32 := 1703936#32
  let c32_i32_4296 : BitVec 32 := 32#32
  let v9659 : BitVec 32 := Scalar.muli v9658 c32_i32_4296
  let v9660 : BitVec 32 := Scalar.addi c1703936_i32_4297 v9659
  let v9661 : BitVec 32 := v9660
  ![v9661.toNat]

def k0_chk724 (v9658 : BitVec 32) : Prop :=
  (8 ∣ (k0_mult701 v9658).toNat) ∧
  (∀ a, (k0_off1357 v9658) a + S32.size a ≤ S3407872.size a) ∧
  (∀ a, (k0_off1373 v9658) a + S32.size a ≤ S3407872.size a)
theorem k0_mult701_dvd : ∀ (v9658 : BitVec 32) (k0_hw724 : k0_chk724 v9658), 8 ∣ (k0_mult701 v9658).toNat := fun v9658 k0_hw724 => k0_hw724.1
theorem k0_off1357_inb : ∀ (v9658 : BitVec 32) (k0_hw724 : k0_chk724 v9658), ∀ a, (k0_off1357 v9658) a + S32.size a ≤ S3407872.size a := fun v9658 k0_hw724 => k0_hw724.2.1
theorem k0_off1373_inb : ∀ (v9658 : BitVec 32) (k0_hw724 : k0_chk724 v9658), ∀ a, (k0_off1373 v9658) a + S32.size a ≤ S3407872.size a := fun v9658 k0_hw724 => k0_hw724.2.2

def k0_off1374 (v9667 : BitVec 32) : Fin 1 → Nat :=
  let c1703936_i32_4301 : BitVec 32 := 1703936#32
  let c32_i32_4300 : BitVec 32 := 32#32
  let v9668 : BitVec 32 := Scalar.muli v9667 c32_i32_4300
  let v9669 : BitVec 32 := Scalar.addi c1703936_i32_4301 v9668
  let v9670 : BitVec 32 := v9669
  ![v9670.toNat]

def k0_chk725 (v9667 : BitVec 32) : Prop :=
  (8 ∣ (k0_mult702 v9667).toNat) ∧
  (∀ a, (k0_off1358 v9667) a + S32.size a ≤ S3407872.size a) ∧
  (∀ a, (k0_off1374 v9667) a + S32.size a ≤ S3407872.size a)
theorem k0_mult702_dvd : ∀ (v9667 : BitVec 32) (k0_hw725 : k0_chk725 v9667), 8 ∣ (k0_mult702 v9667).toNat := fun v9667 k0_hw725 => k0_hw725.1
theorem k0_off1358_inb : ∀ (v9667 : BitVec 32) (k0_hw725 : k0_chk725 v9667), ∀ a, (k0_off1358 v9667) a + S32.size a ≤ S3407872.size a := fun v9667 k0_hw725 => k0_hw725.2.1
theorem k0_off1374_inb : ∀ (v9667 : BitVec 32) (k0_hw725 : k0_chk725 v9667), ∀ a, (k0_off1374 v9667) a + S32.size a ≤ S3407872.size a := fun v9667 k0_hw725 => k0_hw725.2.2

def k0_off1375 (v9676 : BitVec 32) : Fin 1 → Nat :=
  let c1703936_i32_4305 : BitVec 32 := 1703936#32
  let c32_i32_4304 : BitVec 32 := 32#32
  let v9677 : BitVec 32 := Scalar.muli v9676 c32_i32_4304
  let v9678 : BitVec 32 := Scalar.addi c1703936_i32_4305 v9677
  let v9679 : BitVec 32 := v9678
  ![v9679.toNat]

def k0_chk726 (v9676 : BitVec 32) : Prop :=
  (8 ∣ (k0_mult703 v9676).toNat) ∧
  (∀ a, (k0_off1359 v9676) a + S32.size a ≤ S3407872.size a) ∧
  (∀ a, (k0_off1375 v9676) a + S32.size a ≤ S3407872.size a)
theorem k0_mult703_dvd : ∀ (v9676 : BitVec 32) (k0_hw726 : k0_chk726 v9676), 8 ∣ (k0_mult703 v9676).toNat := fun v9676 k0_hw726 => k0_hw726.1
theorem k0_off1359_inb : ∀ (v9676 : BitVec 32) (k0_hw726 : k0_chk726 v9676), ∀ a, (k0_off1359 v9676) a + S32.size a ≤ S3407872.size a := fun v9676 k0_hw726 => k0_hw726.2.1
theorem k0_off1375_inb : ∀ (v9676 : BitVec 32) (k0_hw726 : k0_chk726 v9676), ∀ a, (k0_off1375 v9676) a + S32.size a ≤ S3407872.size a := fun v9676 k0_hw726 => k0_hw726.2.2

def k0_off1376 (v9685 : BitVec 32) : Fin 1 → Nat :=
  let c1703936_i32_4309 : BitVec 32 := 1703936#32
  let c32_i32_4308 : BitVec 32 := 32#32
  let v9686 : BitVec 32 := Scalar.muli v9685 c32_i32_4308
  let v9687 : BitVec 32 := Scalar.addi c1703936_i32_4309 v9686
  let v9688 : BitVec 32 := v9687
  ![v9688.toNat]

def k0_chk727 (v9685 : BitVec 32) : Prop :=
  (8 ∣ (k0_mult704 v9685).toNat) ∧
  (∀ a, (k0_off1360 v9685) a + S32.size a ≤ S3407872.size a) ∧
  (∀ a, (k0_off1376 v9685) a + S32.size a ≤ S3407872.size a)
theorem k0_mult704_dvd : ∀ (v9685 : BitVec 32) (k0_hw727 : k0_chk727 v9685), 8 ∣ (k0_mult704 v9685).toNat := fun v9685 k0_hw727 => k0_hw727.1
theorem k0_off1360_inb : ∀ (v9685 : BitVec 32) (k0_hw727 : k0_chk727 v9685), ∀ a, (k0_off1360 v9685) a + S32.size a ≤ S3407872.size a := fun v9685 k0_hw727 => k0_hw727.2.1
theorem k0_off1376_inb : ∀ (v9685 : BitVec 32) (k0_hw727 : k0_chk727 v9685), ∀ a, (k0_off1376 v9685) a + S32.size a ≤ S3407872.size a := fun v9685 k0_hw727 => k0_hw727.2.2

def k0_mult706 (v9769 : BitVec 32) : BitVec 32 :=
  let c999936_i32_4350 : BitVec 32 := 999936#32
  let v9770 : BitVec 32 := Scalar.subi v9769 c999936_i32_4350
  let c32_i32_4351 : BitVec 32 := 32#32
  let v9771 : BitVec 32 := Scalar.muli v9770 c32_i32_4351
  v9771

def k0_off1377 (v9769 : BitVec 32) : Fin 1 → Nat :=
  let c999936_i32_4350 : BitVec 32 := 999936#32
  let v9770 : BitVec 32 := Scalar.subi v9769 c999936_i32_4350
  let c32_i32_4351 : BitVec 32 := 32#32
  let v9771 : BitVec 32 := Scalar.muli v9770 c32_i32_4351
  let v9772 : BitVec 32 := v9771
  ![v9772.toNat]
def k0_mult707 (v9778 : BitVec 32) : BitVec 32 :=
  let c999936_i32_4354 : BitVec 32 := 999936#32
  let v9779 : BitVec 32 := Scalar.subi v9778 c999936_i32_4354
  let c32_i32_4355 : BitVec 32 := 32#32
  let v9780 : BitVec 32 := Scalar.muli v9779 c32_i32_4355
  v9780

def k0_off1378 (v9778 : BitVec 32) : Fin 1 → Nat :=
  let c999936_i32_4354 : BitVec 32 := 999936#32
  let v9779 : BitVec 32 := Scalar.subi v9778 c999936_i32_4354
  let c32_i32_4355 : BitVec 32 := 32#32
  let v9780 : BitVec 32 := Scalar.muli v9779 c32_i32_4355
  let v9781 : BitVec 32 := v9780
  ![v9781.toNat]
def k0_mult708 (v9787 : BitVec 32) : BitVec 32 :=
  let c999936_i32_4358 : BitVec 32 := 999936#32
  let v9788 : BitVec 32 := Scalar.subi v9787 c999936_i32_4358
  let c32_i32_4359 : BitVec 32 := 32#32
  let v9789 : BitVec 32 := Scalar.muli v9788 c32_i32_4359
  v9789

def k0_off1379 (v9787 : BitVec 32) : Fin 1 → Nat :=
  let c999936_i32_4358 : BitVec 32 := 999936#32
  let v9788 : BitVec 32 := Scalar.subi v9787 c999936_i32_4358
  let c32_i32_4359 : BitVec 32 := 32#32
  let v9789 : BitVec 32 := Scalar.muli v9788 c32_i32_4359
  let v9790 : BitVec 32 := v9789
  ![v9790.toNat]
def k0_mult709 (v9796 : BitVec 32) : BitVec 32 :=
  let c999936_i32_4362 : BitVec 32 := 999936#32
  let v9797 : BitVec 32 := Scalar.subi v9796 c999936_i32_4362
  let c32_i32_4363 : BitVec 32 := 32#32
  let v9798 : BitVec 32 := Scalar.muli v9797 c32_i32_4363
  v9798

def k0_off1380 (v9796 : BitVec 32) : Fin 1 → Nat :=
  let c999936_i32_4362 : BitVec 32 := 999936#32
  let v9797 : BitVec 32 := Scalar.subi v9796 c999936_i32_4362
  let c32_i32_4363 : BitVec 32 := 32#32
  let v9798 : BitVec 32 := Scalar.muli v9797 c32_i32_4363
  let v9799 : BitVec 32 := v9798
  ![v9799.toNat]
def k0_mult710 (v9805 : BitVec 32) : BitVec 32 :=
  let c999936_i32_4366 : BitVec 32 := 999936#32
  let v9806 : BitVec 32 := Scalar.subi v9805 c999936_i32_4366
  let c32_i32_4367 : BitVec 32 := 32#32
  let v9807 : BitVec 32 := Scalar.muli v9806 c32_i32_4367
  v9807

def k0_off1381 (v9805 : BitVec 32) : Fin 1 → Nat :=
  let c999936_i32_4366 : BitVec 32 := 999936#32
  let v9806 : BitVec 32 := Scalar.subi v9805 c999936_i32_4366
  let c32_i32_4367 : BitVec 32 := 32#32
  let v9807 : BitVec 32 := Scalar.muli v9806 c32_i32_4367
  let v9808 : BitVec 32 := v9807
  ![v9808.toNat]
def k0_mult711 (v9814 : BitVec 32) : BitVec 32 :=
  let c999936_i32_4370 : BitVec 32 := 999936#32
  let v9815 : BitVec 32 := Scalar.subi v9814 c999936_i32_4370
  let c32_i32_4371 : BitVec 32 := 32#32
  let v9816 : BitVec 32 := Scalar.muli v9815 c32_i32_4371
  v9816

def k0_off1382 (v9814 : BitVec 32) : Fin 1 → Nat :=
  let c999936_i32_4370 : BitVec 32 := 999936#32
  let v9815 : BitVec 32 := Scalar.subi v9814 c999936_i32_4370
  let c32_i32_4371 : BitVec 32 := 32#32
  let v9816 : BitVec 32 := Scalar.muli v9815 c32_i32_4371
  let v9817 : BitVec 32 := v9816
  ![v9817.toNat]
def k0_mult712 (v9823 : BitVec 32) : BitVec 32 :=
  let c999936_i32_4374 : BitVec 32 := 999936#32
  let v9824 : BitVec 32 := Scalar.subi v9823 c999936_i32_4374
  let c32_i32_4375 : BitVec 32 := 32#32
  let v9825 : BitVec 32 := Scalar.muli v9824 c32_i32_4375
  v9825

def k0_off1383 (v9823 : BitVec 32) : Fin 1 → Nat :=
  let c999936_i32_4374 : BitVec 32 := 999936#32
  let v9824 : BitVec 32 := Scalar.subi v9823 c999936_i32_4374
  let c32_i32_4375 : BitVec 32 := 32#32
  let v9825 : BitVec 32 := Scalar.muli v9824 c32_i32_4375
  let v9826 : BitVec 32 := v9825
  ![v9826.toNat]
def k0_mult713 (v9832 : BitVec 32) : BitVec 32 :=
  let c999936_i32_4378 : BitVec 32 := 999936#32
  let v9833 : BitVec 32 := Scalar.subi v9832 c999936_i32_4378
  let c32_i32_4379 : BitVec 32 := 32#32
  let v9834 : BitVec 32 := Scalar.muli v9833 c32_i32_4379
  v9834

def k0_off1384 (v9832 : BitVec 32) : Fin 1 → Nat :=
  let c999936_i32_4378 : BitVec 32 := 999936#32
  let v9833 : BitVec 32 := Scalar.subi v9832 c999936_i32_4378
  let c32_i32_4379 : BitVec 32 := 32#32
  let v9834 : BitVec 32 := Scalar.muli v9833 c32_i32_4379
  let v9835 : BitVec 32 := v9834
  ![v9835.toNat]
def k0_mult714 (v9841 : BitVec 32) : BitVec 32 :=
  let c999936_i32_4382 : BitVec 32 := 999936#32
  let v9842 : BitVec 32 := Scalar.subi v9841 c999936_i32_4382
  let c32_i32_4383 : BitVec 32 := 32#32
  let v9843 : BitVec 32 := Scalar.muli v9842 c32_i32_4383
  v9843

def k0_off1385 (v9841 : BitVec 32) : Fin 1 → Nat :=
  let c999936_i32_4382 : BitVec 32 := 999936#32
  let v9842 : BitVec 32 := Scalar.subi v9841 c999936_i32_4382
  let c32_i32_4383 : BitVec 32 := 32#32
  let v9843 : BitVec 32 := Scalar.muli v9842 c32_i32_4383
  let v9844 : BitVec 32 := v9843
  ![v9844.toNat]
def k0_mult715 (v9850 : BitVec 32) : BitVec 32 :=
  let c999936_i32_4386 : BitVec 32 := 999936#32
  let v9851 : BitVec 32 := Scalar.subi v9850 c999936_i32_4386
  let c32_i32_4387 : BitVec 32 := 32#32
  let v9852 : BitVec 32 := Scalar.muli v9851 c32_i32_4387
  v9852

def k0_off1386 (v9850 : BitVec 32) : Fin 1 → Nat :=
  let c999936_i32_4386 : BitVec 32 := 999936#32
  let v9851 : BitVec 32 := Scalar.subi v9850 c999936_i32_4386
  let c32_i32_4387 : BitVec 32 := 32#32
  let v9852 : BitVec 32 := Scalar.muli v9851 c32_i32_4387
  let v9853 : BitVec 32 := v9852
  ![v9853.toNat]
def k0_mult716 (v9859 : BitVec 32) : BitVec 32 :=
  let c999936_i32_4390 : BitVec 32 := 999936#32
  let v9860 : BitVec 32 := Scalar.subi v9859 c999936_i32_4390
  let c32_i32_4391 : BitVec 32 := 32#32
  let v9861 : BitVec 32 := Scalar.muli v9860 c32_i32_4391
  v9861

def k0_off1387 (v9859 : BitVec 32) : Fin 1 → Nat :=
  let c999936_i32_4390 : BitVec 32 := 999936#32
  let v9860 : BitVec 32 := Scalar.subi v9859 c999936_i32_4390
  let c32_i32_4391 : BitVec 32 := 32#32
  let v9861 : BitVec 32 := Scalar.muli v9860 c32_i32_4391
  let v9862 : BitVec 32 := v9861
  ![v9862.toNat]
def k0_mult717 (v9868 : BitVec 32) : BitVec 32 :=
  let c999936_i32_4394 : BitVec 32 := 999936#32
  let v9869 : BitVec 32 := Scalar.subi v9868 c999936_i32_4394
  let c32_i32_4395 : BitVec 32 := 32#32
  let v9870 : BitVec 32 := Scalar.muli v9869 c32_i32_4395
  v9870

def k0_off1388 (v9868 : BitVec 32) : Fin 1 → Nat :=
  let c999936_i32_4394 : BitVec 32 := 999936#32
  let v9869 : BitVec 32 := Scalar.subi v9868 c999936_i32_4394
  let c32_i32_4395 : BitVec 32 := 32#32
  let v9870 : BitVec 32 := Scalar.muli v9869 c32_i32_4395
  let v9871 : BitVec 32 := v9870
  ![v9871.toNat]
def k0_mult718 (v9877 : BitVec 32) : BitVec 32 :=
  let c999936_i32_4398 : BitVec 32 := 999936#32
  let v9878 : BitVec 32 := Scalar.subi v9877 c999936_i32_4398
  let c32_i32_4399 : BitVec 32 := 32#32
  let v9879 : BitVec 32 := Scalar.muli v9878 c32_i32_4399
  v9879

def k0_off1389 (v9877 : BitVec 32) : Fin 1 → Nat :=
  let c999936_i32_4398 : BitVec 32 := 999936#32
  let v9878 : BitVec 32 := Scalar.subi v9877 c999936_i32_4398
  let c32_i32_4399 : BitVec 32 := 32#32
  let v9879 : BitVec 32 := Scalar.muli v9878 c32_i32_4399
  let v9880 : BitVec 32 := v9879
  ![v9880.toNat]
def k0_mult719 (v9886 : BitVec 32) : BitVec 32 :=
  let c999936_i32_4402 : BitVec 32 := 999936#32
  let v9887 : BitVec 32 := Scalar.subi v9886 c999936_i32_4402
  let c32_i32_4403 : BitVec 32 := 32#32
  let v9888 : BitVec 32 := Scalar.muli v9887 c32_i32_4403
  v9888

def k0_off1390 (v9886 : BitVec 32) : Fin 1 → Nat :=
  let c999936_i32_4402 : BitVec 32 := 999936#32
  let v9887 : BitVec 32 := Scalar.subi v9886 c999936_i32_4402
  let c32_i32_4403 : BitVec 32 := 32#32
  let v9888 : BitVec 32 := Scalar.muli v9887 c32_i32_4403
  let v9889 : BitVec 32 := v9888
  ![v9889.toNat]
def k0_mult720 (v9895 : BitVec 32) : BitVec 32 :=
  let c999936_i32_4406 : BitVec 32 := 999936#32
  let v9896 : BitVec 32 := Scalar.subi v9895 c999936_i32_4406
  let c32_i32_4407 : BitVec 32 := 32#32
  let v9897 : BitVec 32 := Scalar.muli v9896 c32_i32_4407
  v9897

def k0_off1391 (v9895 : BitVec 32) : Fin 1 → Nat :=
  let c999936_i32_4406 : BitVec 32 := 999936#32
  let v9896 : BitVec 32 := Scalar.subi v9895 c999936_i32_4406
  let c32_i32_4407 : BitVec 32 := 32#32
  let v9897 : BitVec 32 := Scalar.muli v9896 c32_i32_4407
  let v9898 : BitVec 32 := v9897
  ![v9898.toNat]
def k0_mult721 (v9904 : BitVec 32) : BitVec 32 :=
  let c999936_i32_4410 : BitVec 32 := 999936#32
  let v9905 : BitVec 32 := Scalar.subi v9904 c999936_i32_4410
  let c32_i32_4411 : BitVec 32 := 32#32
  let v9906 : BitVec 32 := Scalar.muli v9905 c32_i32_4411
  v9906

def k0_off1392 (v9904 : BitVec 32) : Fin 1 → Nat :=
  let c999936_i32_4410 : BitVec 32 := 999936#32
  let v9905 : BitVec 32 := Scalar.subi v9904 c999936_i32_4410
  let c32_i32_4411 : BitVec 32 := 32#32
  let v9906 : BitVec 32 := Scalar.muli v9905 c32_i32_4411
  let v9907 : BitVec 32 := v9906
  ![v9907.toNat]

def k0_chk744 (v9904 : BitVec 32) : Prop :=
  (8 ∣ (k0_mult721 v9904).toNat) ∧
  (∀ a, (k0_off1392 v9904) a + S32.size a ≤ S2048.size a)
theorem k0_mult721_dvd : ∀ (v9904 : BitVec 32) (k0_hw744 : k0_chk744 v9904), 8 ∣ (k0_mult721 v9904).toNat := fun v9904 k0_hw744 => k0_hw744.1
theorem k0_off1392_inb : ∀ (v9904 : BitVec 32) (k0_hw744 : k0_chk744 v9904), ∀ a, (k0_off1392 v9904) a + S32.size a ≤ S2048.size a := fun v9904 k0_hw744 => k0_hw744.2

def k0_off1393 (v9769 : BitVec 32) : Fin 1 → Nat :=
  let c999936_i32_4350 : BitVec 32 := 999936#32
  let v9770 : BitVec 32 := Scalar.subi v9769 c999936_i32_4350
  let c32_i32_4351 : BitVec 32 := 32#32
  let v9771 : BitVec 32 := Scalar.muli v9770 c32_i32_4351
  let v9772 : BitVec 32 := v9771
  ![v9772.toNat]

def k0_chk729 (v9769 : BitVec 32) : Prop :=
  (8 ∣ (k0_mult706 v9769).toNat) ∧
  (∀ a, (k0_off1377 v9769) a + S32.size a ≤ S2048.size a) ∧
  (∀ a, (k0_off1393 v9769) a + S32.size a ≤ S2048.size a)
theorem k0_mult706_dvd : ∀ (v9769 : BitVec 32) (k0_hw729 : k0_chk729 v9769), 8 ∣ (k0_mult706 v9769).toNat := fun v9769 k0_hw729 => k0_hw729.1
theorem k0_off1377_inb : ∀ (v9769 : BitVec 32) (k0_hw729 : k0_chk729 v9769), ∀ a, (k0_off1377 v9769) a + S32.size a ≤ S2048.size a := fun v9769 k0_hw729 => k0_hw729.2.1
theorem k0_off1393_inb : ∀ (v9769 : BitVec 32) (k0_hw729 : k0_chk729 v9769), ∀ a, (k0_off1393 v9769) a + S32.size a ≤ S2048.size a := fun v9769 k0_hw729 => k0_hw729.2.2

def k0_off1394 (v9778 : BitVec 32) : Fin 1 → Nat :=
  let c999936_i32_4354 : BitVec 32 := 999936#32
  let v9779 : BitVec 32 := Scalar.subi v9778 c999936_i32_4354
  let c32_i32_4355 : BitVec 32 := 32#32
  let v9780 : BitVec 32 := Scalar.muli v9779 c32_i32_4355
  let v9781 : BitVec 32 := v9780
  ![v9781.toNat]

def k0_chk730 (v9778 : BitVec 32) : Prop :=
  (8 ∣ (k0_mult707 v9778).toNat) ∧
  (∀ a, (k0_off1378 v9778) a + S32.size a ≤ S2048.size a) ∧
  (∀ a, (k0_off1394 v9778) a + S32.size a ≤ S2048.size a)
theorem k0_mult707_dvd : ∀ (v9778 : BitVec 32) (k0_hw730 : k0_chk730 v9778), 8 ∣ (k0_mult707 v9778).toNat := fun v9778 k0_hw730 => k0_hw730.1
theorem k0_off1378_inb : ∀ (v9778 : BitVec 32) (k0_hw730 : k0_chk730 v9778), ∀ a, (k0_off1378 v9778) a + S32.size a ≤ S2048.size a := fun v9778 k0_hw730 => k0_hw730.2.1
theorem k0_off1394_inb : ∀ (v9778 : BitVec 32) (k0_hw730 : k0_chk730 v9778), ∀ a, (k0_off1394 v9778) a + S32.size a ≤ S2048.size a := fun v9778 k0_hw730 => k0_hw730.2.2

def k0_off1395 (v9787 : BitVec 32) : Fin 1 → Nat :=
  let c999936_i32_4358 : BitVec 32 := 999936#32
  let v9788 : BitVec 32 := Scalar.subi v9787 c999936_i32_4358
  let c32_i32_4359 : BitVec 32 := 32#32
  let v9789 : BitVec 32 := Scalar.muli v9788 c32_i32_4359
  let v9790 : BitVec 32 := v9789
  ![v9790.toNat]

def k0_chk731 (v9787 : BitVec 32) : Prop :=
  (8 ∣ (k0_mult708 v9787).toNat) ∧
  (∀ a, (k0_off1379 v9787) a + S32.size a ≤ S2048.size a) ∧
  (∀ a, (k0_off1395 v9787) a + S32.size a ≤ S2048.size a)
theorem k0_mult708_dvd : ∀ (v9787 : BitVec 32) (k0_hw731 : k0_chk731 v9787), 8 ∣ (k0_mult708 v9787).toNat := fun v9787 k0_hw731 => k0_hw731.1
theorem k0_off1379_inb : ∀ (v9787 : BitVec 32) (k0_hw731 : k0_chk731 v9787), ∀ a, (k0_off1379 v9787) a + S32.size a ≤ S2048.size a := fun v9787 k0_hw731 => k0_hw731.2.1
theorem k0_off1395_inb : ∀ (v9787 : BitVec 32) (k0_hw731 : k0_chk731 v9787), ∀ a, (k0_off1395 v9787) a + S32.size a ≤ S2048.size a := fun v9787 k0_hw731 => k0_hw731.2.2

def k0_off1396 (v9796 : BitVec 32) : Fin 1 → Nat :=
  let c999936_i32_4362 : BitVec 32 := 999936#32
  let v9797 : BitVec 32 := Scalar.subi v9796 c999936_i32_4362
  let c32_i32_4363 : BitVec 32 := 32#32
  let v9798 : BitVec 32 := Scalar.muli v9797 c32_i32_4363
  let v9799 : BitVec 32 := v9798
  ![v9799.toNat]

def k0_chk732 (v9796 : BitVec 32) : Prop :=
  (8 ∣ (k0_mult709 v9796).toNat) ∧
  (∀ a, (k0_off1380 v9796) a + S32.size a ≤ S2048.size a) ∧
  (∀ a, (k0_off1396 v9796) a + S32.size a ≤ S2048.size a)
theorem k0_mult709_dvd : ∀ (v9796 : BitVec 32) (k0_hw732 : k0_chk732 v9796), 8 ∣ (k0_mult709 v9796).toNat := fun v9796 k0_hw732 => k0_hw732.1
theorem k0_off1380_inb : ∀ (v9796 : BitVec 32) (k0_hw732 : k0_chk732 v9796), ∀ a, (k0_off1380 v9796) a + S32.size a ≤ S2048.size a := fun v9796 k0_hw732 => k0_hw732.2.1
theorem k0_off1396_inb : ∀ (v9796 : BitVec 32) (k0_hw732 : k0_chk732 v9796), ∀ a, (k0_off1396 v9796) a + S32.size a ≤ S2048.size a := fun v9796 k0_hw732 => k0_hw732.2.2

def k0_off1397 (v9805 : BitVec 32) : Fin 1 → Nat :=
  let c999936_i32_4366 : BitVec 32 := 999936#32
  let v9806 : BitVec 32 := Scalar.subi v9805 c999936_i32_4366
  let c32_i32_4367 : BitVec 32 := 32#32
  let v9807 : BitVec 32 := Scalar.muli v9806 c32_i32_4367
  let v9808 : BitVec 32 := v9807
  ![v9808.toNat]

def k0_chk733 (v9805 : BitVec 32) : Prop :=
  (8 ∣ (k0_mult710 v9805).toNat) ∧
  (∀ a, (k0_off1381 v9805) a + S32.size a ≤ S2048.size a) ∧
  (∀ a, (k0_off1397 v9805) a + S32.size a ≤ S2048.size a)
theorem k0_mult710_dvd : ∀ (v9805 : BitVec 32) (k0_hw733 : k0_chk733 v9805), 8 ∣ (k0_mult710 v9805).toNat := fun v9805 k0_hw733 => k0_hw733.1
theorem k0_off1381_inb : ∀ (v9805 : BitVec 32) (k0_hw733 : k0_chk733 v9805), ∀ a, (k0_off1381 v9805) a + S32.size a ≤ S2048.size a := fun v9805 k0_hw733 => k0_hw733.2.1
theorem k0_off1397_inb : ∀ (v9805 : BitVec 32) (k0_hw733 : k0_chk733 v9805), ∀ a, (k0_off1397 v9805) a + S32.size a ≤ S2048.size a := fun v9805 k0_hw733 => k0_hw733.2.2

def k0_off1398 (v9814 : BitVec 32) : Fin 1 → Nat :=
  let c999936_i32_4370 : BitVec 32 := 999936#32
  let v9815 : BitVec 32 := Scalar.subi v9814 c999936_i32_4370
  let c32_i32_4371 : BitVec 32 := 32#32
  let v9816 : BitVec 32 := Scalar.muli v9815 c32_i32_4371
  let v9817 : BitVec 32 := v9816
  ![v9817.toNat]

def k0_chk734 (v9814 : BitVec 32) : Prop :=
  (8 ∣ (k0_mult711 v9814).toNat) ∧
  (∀ a, (k0_off1382 v9814) a + S32.size a ≤ S2048.size a) ∧
  (∀ a, (k0_off1398 v9814) a + S32.size a ≤ S2048.size a)
theorem k0_mult711_dvd : ∀ (v9814 : BitVec 32) (k0_hw734 : k0_chk734 v9814), 8 ∣ (k0_mult711 v9814).toNat := fun v9814 k0_hw734 => k0_hw734.1
theorem k0_off1382_inb : ∀ (v9814 : BitVec 32) (k0_hw734 : k0_chk734 v9814), ∀ a, (k0_off1382 v9814) a + S32.size a ≤ S2048.size a := fun v9814 k0_hw734 => k0_hw734.2.1
theorem k0_off1398_inb : ∀ (v9814 : BitVec 32) (k0_hw734 : k0_chk734 v9814), ∀ a, (k0_off1398 v9814) a + S32.size a ≤ S2048.size a := fun v9814 k0_hw734 => k0_hw734.2.2

def k0_off1399 (v9823 : BitVec 32) : Fin 1 → Nat :=
  let c999936_i32_4374 : BitVec 32 := 999936#32
  let v9824 : BitVec 32 := Scalar.subi v9823 c999936_i32_4374
  let c32_i32_4375 : BitVec 32 := 32#32
  let v9825 : BitVec 32 := Scalar.muli v9824 c32_i32_4375
  let v9826 : BitVec 32 := v9825
  ![v9826.toNat]

def k0_chk735 (v9823 : BitVec 32) : Prop :=
  (8 ∣ (k0_mult712 v9823).toNat) ∧
  (∀ a, (k0_off1383 v9823) a + S32.size a ≤ S2048.size a) ∧
  (∀ a, (k0_off1399 v9823) a + S32.size a ≤ S2048.size a)
theorem k0_mult712_dvd : ∀ (v9823 : BitVec 32) (k0_hw735 : k0_chk735 v9823), 8 ∣ (k0_mult712 v9823).toNat := fun v9823 k0_hw735 => k0_hw735.1
theorem k0_off1383_inb : ∀ (v9823 : BitVec 32) (k0_hw735 : k0_chk735 v9823), ∀ a, (k0_off1383 v9823) a + S32.size a ≤ S2048.size a := fun v9823 k0_hw735 => k0_hw735.2.1
theorem k0_off1399_inb : ∀ (v9823 : BitVec 32) (k0_hw735 : k0_chk735 v9823), ∀ a, (k0_off1399 v9823) a + S32.size a ≤ S2048.size a := fun v9823 k0_hw735 => k0_hw735.2.2

def k0_off1400 (v9832 : BitVec 32) : Fin 1 → Nat :=
  let c999936_i32_4378 : BitVec 32 := 999936#32
  let v9833 : BitVec 32 := Scalar.subi v9832 c999936_i32_4378
  let c32_i32_4379 : BitVec 32 := 32#32
  let v9834 : BitVec 32 := Scalar.muli v9833 c32_i32_4379
  let v9835 : BitVec 32 := v9834
  ![v9835.toNat]

def k0_chk736 (v9832 : BitVec 32) : Prop :=
  (8 ∣ (k0_mult713 v9832).toNat) ∧
  (∀ a, (k0_off1384 v9832) a + S32.size a ≤ S2048.size a) ∧
  (∀ a, (k0_off1400 v9832) a + S32.size a ≤ S2048.size a)
theorem k0_mult713_dvd : ∀ (v9832 : BitVec 32) (k0_hw736 : k0_chk736 v9832), 8 ∣ (k0_mult713 v9832).toNat := fun v9832 k0_hw736 => k0_hw736.1
theorem k0_off1384_inb : ∀ (v9832 : BitVec 32) (k0_hw736 : k0_chk736 v9832), ∀ a, (k0_off1384 v9832) a + S32.size a ≤ S2048.size a := fun v9832 k0_hw736 => k0_hw736.2.1
theorem k0_off1400_inb : ∀ (v9832 : BitVec 32) (k0_hw736 : k0_chk736 v9832), ∀ a, (k0_off1400 v9832) a + S32.size a ≤ S2048.size a := fun v9832 k0_hw736 => k0_hw736.2.2

def k0_off1401 (v9841 : BitVec 32) : Fin 1 → Nat :=
  let c999936_i32_4382 : BitVec 32 := 999936#32
  let v9842 : BitVec 32 := Scalar.subi v9841 c999936_i32_4382
  let c32_i32_4383 : BitVec 32 := 32#32
  let v9843 : BitVec 32 := Scalar.muli v9842 c32_i32_4383
  let v9844 : BitVec 32 := v9843
  ![v9844.toNat]

def k0_chk737 (v9841 : BitVec 32) : Prop :=
  (8 ∣ (k0_mult714 v9841).toNat) ∧
  (∀ a, (k0_off1385 v9841) a + S32.size a ≤ S2048.size a) ∧
  (∀ a, (k0_off1401 v9841) a + S32.size a ≤ S2048.size a)
theorem k0_mult714_dvd : ∀ (v9841 : BitVec 32) (k0_hw737 : k0_chk737 v9841), 8 ∣ (k0_mult714 v9841).toNat := fun v9841 k0_hw737 => k0_hw737.1
theorem k0_off1385_inb : ∀ (v9841 : BitVec 32) (k0_hw737 : k0_chk737 v9841), ∀ a, (k0_off1385 v9841) a + S32.size a ≤ S2048.size a := fun v9841 k0_hw737 => k0_hw737.2.1
theorem k0_off1401_inb : ∀ (v9841 : BitVec 32) (k0_hw737 : k0_chk737 v9841), ∀ a, (k0_off1401 v9841) a + S32.size a ≤ S2048.size a := fun v9841 k0_hw737 => k0_hw737.2.2

def k0_off1402 (v9850 : BitVec 32) : Fin 1 → Nat :=
  let c999936_i32_4386 : BitVec 32 := 999936#32
  let v9851 : BitVec 32 := Scalar.subi v9850 c999936_i32_4386
  let c32_i32_4387 : BitVec 32 := 32#32
  let v9852 : BitVec 32 := Scalar.muli v9851 c32_i32_4387
  let v9853 : BitVec 32 := v9852
  ![v9853.toNat]

def k0_chk738 (v9850 : BitVec 32) : Prop :=
  (8 ∣ (k0_mult715 v9850).toNat) ∧
  (∀ a, (k0_off1386 v9850) a + S32.size a ≤ S2048.size a) ∧
  (∀ a, (k0_off1402 v9850) a + S32.size a ≤ S2048.size a)
theorem k0_mult715_dvd : ∀ (v9850 : BitVec 32) (k0_hw738 : k0_chk738 v9850), 8 ∣ (k0_mult715 v9850).toNat := fun v9850 k0_hw738 => k0_hw738.1
theorem k0_off1386_inb : ∀ (v9850 : BitVec 32) (k0_hw738 : k0_chk738 v9850), ∀ a, (k0_off1386 v9850) a + S32.size a ≤ S2048.size a := fun v9850 k0_hw738 => k0_hw738.2.1
theorem k0_off1402_inb : ∀ (v9850 : BitVec 32) (k0_hw738 : k0_chk738 v9850), ∀ a, (k0_off1402 v9850) a + S32.size a ≤ S2048.size a := fun v9850 k0_hw738 => k0_hw738.2.2

def k0_off1403 (v9859 : BitVec 32) : Fin 1 → Nat :=
  let c999936_i32_4390 : BitVec 32 := 999936#32
  let v9860 : BitVec 32 := Scalar.subi v9859 c999936_i32_4390
  let c32_i32_4391 : BitVec 32 := 32#32
  let v9861 : BitVec 32 := Scalar.muli v9860 c32_i32_4391
  let v9862 : BitVec 32 := v9861
  ![v9862.toNat]

def k0_chk739 (v9859 : BitVec 32) : Prop :=
  (8 ∣ (k0_mult716 v9859).toNat) ∧
  (∀ a, (k0_off1387 v9859) a + S32.size a ≤ S2048.size a) ∧
  (∀ a, (k0_off1403 v9859) a + S32.size a ≤ S2048.size a)
theorem k0_mult716_dvd : ∀ (v9859 : BitVec 32) (k0_hw739 : k0_chk739 v9859), 8 ∣ (k0_mult716 v9859).toNat := fun v9859 k0_hw739 => k0_hw739.1
theorem k0_off1387_inb : ∀ (v9859 : BitVec 32) (k0_hw739 : k0_chk739 v9859), ∀ a, (k0_off1387 v9859) a + S32.size a ≤ S2048.size a := fun v9859 k0_hw739 => k0_hw739.2.1
theorem k0_off1403_inb : ∀ (v9859 : BitVec 32) (k0_hw739 : k0_chk739 v9859), ∀ a, (k0_off1403 v9859) a + S32.size a ≤ S2048.size a := fun v9859 k0_hw739 => k0_hw739.2.2

def k0_off1404 (v9868 : BitVec 32) : Fin 1 → Nat :=
  let c999936_i32_4394 : BitVec 32 := 999936#32
  let v9869 : BitVec 32 := Scalar.subi v9868 c999936_i32_4394
  let c32_i32_4395 : BitVec 32 := 32#32
  let v9870 : BitVec 32 := Scalar.muli v9869 c32_i32_4395
  let v9871 : BitVec 32 := v9870
  ![v9871.toNat]

def k0_chk740 (v9868 : BitVec 32) : Prop :=
  (8 ∣ (k0_mult717 v9868).toNat) ∧
  (∀ a, (k0_off1388 v9868) a + S32.size a ≤ S2048.size a) ∧
  (∀ a, (k0_off1404 v9868) a + S32.size a ≤ S2048.size a)
theorem k0_mult717_dvd : ∀ (v9868 : BitVec 32) (k0_hw740 : k0_chk740 v9868), 8 ∣ (k0_mult717 v9868).toNat := fun v9868 k0_hw740 => k0_hw740.1
theorem k0_off1388_inb : ∀ (v9868 : BitVec 32) (k0_hw740 : k0_chk740 v9868), ∀ a, (k0_off1388 v9868) a + S32.size a ≤ S2048.size a := fun v9868 k0_hw740 => k0_hw740.2.1
theorem k0_off1404_inb : ∀ (v9868 : BitVec 32) (k0_hw740 : k0_chk740 v9868), ∀ a, (k0_off1404 v9868) a + S32.size a ≤ S2048.size a := fun v9868 k0_hw740 => k0_hw740.2.2

def k0_off1405 (v9877 : BitVec 32) : Fin 1 → Nat :=
  let c999936_i32_4398 : BitVec 32 := 999936#32
  let v9878 : BitVec 32 := Scalar.subi v9877 c999936_i32_4398
  let c32_i32_4399 : BitVec 32 := 32#32
  let v9879 : BitVec 32 := Scalar.muli v9878 c32_i32_4399
  let v9880 : BitVec 32 := v9879
  ![v9880.toNat]

def k0_chk741 (v9877 : BitVec 32) : Prop :=
  (8 ∣ (k0_mult718 v9877).toNat) ∧
  (∀ a, (k0_off1389 v9877) a + S32.size a ≤ S2048.size a) ∧
  (∀ a, (k0_off1405 v9877) a + S32.size a ≤ S2048.size a)
theorem k0_mult718_dvd : ∀ (v9877 : BitVec 32) (k0_hw741 : k0_chk741 v9877), 8 ∣ (k0_mult718 v9877).toNat := fun v9877 k0_hw741 => k0_hw741.1
theorem k0_off1389_inb : ∀ (v9877 : BitVec 32) (k0_hw741 : k0_chk741 v9877), ∀ a, (k0_off1389 v9877) a + S32.size a ≤ S2048.size a := fun v9877 k0_hw741 => k0_hw741.2.1
theorem k0_off1405_inb : ∀ (v9877 : BitVec 32) (k0_hw741 : k0_chk741 v9877), ∀ a, (k0_off1405 v9877) a + S32.size a ≤ S2048.size a := fun v9877 k0_hw741 => k0_hw741.2.2

def k0_off1406 (v9886 : BitVec 32) : Fin 1 → Nat :=
  let c999936_i32_4402 : BitVec 32 := 999936#32
  let v9887 : BitVec 32 := Scalar.subi v9886 c999936_i32_4402
  let c32_i32_4403 : BitVec 32 := 32#32
  let v9888 : BitVec 32 := Scalar.muli v9887 c32_i32_4403
  let v9889 : BitVec 32 := v9888
  ![v9889.toNat]

def k0_chk742 (v9886 : BitVec 32) : Prop :=
  (8 ∣ (k0_mult719 v9886).toNat) ∧
  (∀ a, (k0_off1390 v9886) a + S32.size a ≤ S2048.size a) ∧
  (∀ a, (k0_off1406 v9886) a + S32.size a ≤ S2048.size a)
theorem k0_mult719_dvd : ∀ (v9886 : BitVec 32) (k0_hw742 : k0_chk742 v9886), 8 ∣ (k0_mult719 v9886).toNat := fun v9886 k0_hw742 => k0_hw742.1
theorem k0_off1390_inb : ∀ (v9886 : BitVec 32) (k0_hw742 : k0_chk742 v9886), ∀ a, (k0_off1390 v9886) a + S32.size a ≤ S2048.size a := fun v9886 k0_hw742 => k0_hw742.2.1
theorem k0_off1406_inb : ∀ (v9886 : BitVec 32) (k0_hw742 : k0_chk742 v9886), ∀ a, (k0_off1406 v9886) a + S32.size a ≤ S2048.size a := fun v9886 k0_hw742 => k0_hw742.2.2

def k0_off1407 (v9895 : BitVec 32) : Fin 1 → Nat :=
  let c999936_i32_4406 : BitVec 32 := 999936#32
  let v9896 : BitVec 32 := Scalar.subi v9895 c999936_i32_4406
  let c32_i32_4407 : BitVec 32 := 32#32
  let v9897 : BitVec 32 := Scalar.muli v9896 c32_i32_4407
  let v9898 : BitVec 32 := v9897
  ![v9898.toNat]

def k0_chk743 (v9895 : BitVec 32) : Prop :=
  (8 ∣ (k0_mult720 v9895).toNat) ∧
  (∀ a, (k0_off1391 v9895) a + S32.size a ≤ S2048.size a) ∧
  (∀ a, (k0_off1407 v9895) a + S32.size a ≤ S2048.size a)
theorem k0_mult720_dvd : ∀ (v9895 : BitVec 32) (k0_hw743 : k0_chk743 v9895), 8 ∣ (k0_mult720 v9895).toNat := fun v9895 k0_hw743 => k0_hw743.1
theorem k0_off1391_inb : ∀ (v9895 : BitVec 32) (k0_hw743 : k0_chk743 v9895), ∀ a, (k0_off1391 v9895) a + S32.size a ≤ S2048.size a := fun v9895 k0_hw743 => k0_hw743.2.1
theorem k0_off1407_inb : ∀ (v9895 : BitVec 32) (k0_hw743 : k0_chk743 v9895), ∀ a, (k0_off1407 v9895) a + S32.size a ≤ S2048.size a := fun v9895 k0_hw743 => k0_hw743.2.2

def k0_mult722 (v9977 : BitVec 32) : BitVec 32 :=
  let c1703936_i32_4447 : BitVec 32 := 1703936#32
  let c32_i32_4446 : BitVec 32 := 32#32
  let v9978 : BitVec 32 := Scalar.muli v9977 c32_i32_4446
  let v9979 : BitVec 32 := Scalar.addi c1703936_i32_4447 v9978
  v9979

def k0_off1408 (v9977 : BitVec 32) : Fin 1 → Nat :=
  let c1703936_i32_4447 : BitVec 32 := 1703936#32
  let c32_i32_4446 : BitVec 32 := 32#32
  let v9978 : BitVec 32 := Scalar.muli v9977 c32_i32_4446
  let v9979 : BitVec 32 := Scalar.addi c1703936_i32_4447 v9978
  let v9980 : BitVec 32 := v9979
  ![v9980.toNat]
def k0_mult723 (v9986 : BitVec 32) : BitVec 32 :=
  let c1703936_i32_4451 : BitVec 32 := 1703936#32
  let c32_i32_4450 : BitVec 32 := 32#32
  let v9987 : BitVec 32 := Scalar.muli v9986 c32_i32_4450
  let v9988 : BitVec 32 := Scalar.addi c1703936_i32_4451 v9987
  v9988

def k0_off1409 (v9986 : BitVec 32) : Fin 1 → Nat :=
  let c1703936_i32_4451 : BitVec 32 := 1703936#32
  let c32_i32_4450 : BitVec 32 := 32#32
  let v9987 : BitVec 32 := Scalar.muli v9986 c32_i32_4450
  let v9988 : BitVec 32 := Scalar.addi c1703936_i32_4451 v9987
  let v9989 : BitVec 32 := v9988
  ![v9989.toNat]
def k0_mult724 (v9995 : BitVec 32) : BitVec 32 :=
  let c1703936_i32_4455 : BitVec 32 := 1703936#32
  let c32_i32_4454 : BitVec 32 := 32#32
  let v9996 : BitVec 32 := Scalar.muli v9995 c32_i32_4454
  let v9997 : BitVec 32 := Scalar.addi c1703936_i32_4455 v9996
  v9997

def k0_off1410 (v9995 : BitVec 32) : Fin 1 → Nat :=
  let c1703936_i32_4455 : BitVec 32 := 1703936#32
  let c32_i32_4454 : BitVec 32 := 32#32
  let v9996 : BitVec 32 := Scalar.muli v9995 c32_i32_4454
  let v9997 : BitVec 32 := Scalar.addi c1703936_i32_4455 v9996
  let v9998 : BitVec 32 := v9997
  ![v9998.toNat]
def k0_mult725 (v10004 : BitVec 32) : BitVec 32 :=
  let c1703936_i32_4459 : BitVec 32 := 1703936#32
  let c32_i32_4458 : BitVec 32 := 32#32
  let v10005 : BitVec 32 := Scalar.muli v10004 c32_i32_4458
  let v10006 : BitVec 32 := Scalar.addi c1703936_i32_4459 v10005
  v10006

def k0_off1411 (v10004 : BitVec 32) : Fin 1 → Nat :=
  let c1703936_i32_4459 : BitVec 32 := 1703936#32
  let c32_i32_4458 : BitVec 32 := 32#32
  let v10005 : BitVec 32 := Scalar.muli v10004 c32_i32_4458
  let v10006 : BitVec 32 := Scalar.addi c1703936_i32_4459 v10005
  let v10007 : BitVec 32 := v10006
  ![v10007.toNat]
def k0_mult726 (v10013 : BitVec 32) : BitVec 32 :=
  let c1703936_i32_4463 : BitVec 32 := 1703936#32
  let c32_i32_4462 : BitVec 32 := 32#32
  let v10014 : BitVec 32 := Scalar.muli v10013 c32_i32_4462
  let v10015 : BitVec 32 := Scalar.addi c1703936_i32_4463 v10014
  v10015

def k0_off1412 (v10013 : BitVec 32) : Fin 1 → Nat :=
  let c1703936_i32_4463 : BitVec 32 := 1703936#32
  let c32_i32_4462 : BitVec 32 := 32#32
  let v10014 : BitVec 32 := Scalar.muli v10013 c32_i32_4462
  let v10015 : BitVec 32 := Scalar.addi c1703936_i32_4463 v10014
  let v10016 : BitVec 32 := v10015
  ![v10016.toNat]
def k0_mult727 (v10022 : BitVec 32) : BitVec 32 :=
  let c1703936_i32_4467 : BitVec 32 := 1703936#32
  let c32_i32_4466 : BitVec 32 := 32#32
  let v10023 : BitVec 32 := Scalar.muli v10022 c32_i32_4466
  let v10024 : BitVec 32 := Scalar.addi c1703936_i32_4467 v10023
  v10024

def k0_off1413 (v10022 : BitVec 32) : Fin 1 → Nat :=
  let c1703936_i32_4467 : BitVec 32 := 1703936#32
  let c32_i32_4466 : BitVec 32 := 32#32
  let v10023 : BitVec 32 := Scalar.muli v10022 c32_i32_4466
  let v10024 : BitVec 32 := Scalar.addi c1703936_i32_4467 v10023
  let v10025 : BitVec 32 := v10024
  ![v10025.toNat]
def k0_mult728 (v10031 : BitVec 32) : BitVec 32 :=
  let c1703936_i32_4471 : BitVec 32 := 1703936#32
  let c32_i32_4470 : BitVec 32 := 32#32
  let v10032 : BitVec 32 := Scalar.muli v10031 c32_i32_4470
  let v10033 : BitVec 32 := Scalar.addi c1703936_i32_4471 v10032
  v10033

def k0_off1414 (v10031 : BitVec 32) : Fin 1 → Nat :=
  let c1703936_i32_4471 : BitVec 32 := 1703936#32
  let c32_i32_4470 : BitVec 32 := 32#32
  let v10032 : BitVec 32 := Scalar.muli v10031 c32_i32_4470
  let v10033 : BitVec 32 := Scalar.addi c1703936_i32_4471 v10032
  let v10034 : BitVec 32 := v10033
  ![v10034.toNat]
def k0_mult729 (v10040 : BitVec 32) : BitVec 32 :=
  let c1703936_i32_4475 : BitVec 32 := 1703936#32
  let c32_i32_4474 : BitVec 32 := 32#32
  let v10041 : BitVec 32 := Scalar.muli v10040 c32_i32_4474
  let v10042 : BitVec 32 := Scalar.addi c1703936_i32_4475 v10041
  v10042

def k0_off1415 (v10040 : BitVec 32) : Fin 1 → Nat :=
  let c1703936_i32_4475 : BitVec 32 := 1703936#32
  let c32_i32_4474 : BitVec 32 := 32#32
  let v10041 : BitVec 32 := Scalar.muli v10040 c32_i32_4474
  let v10042 : BitVec 32 := Scalar.addi c1703936_i32_4475 v10041
  let v10043 : BitVec 32 := v10042
  ![v10043.toNat]
def k0_mult730 (v10049 : BitVec 32) : BitVec 32 :=
  let c1703936_i32_4479 : BitVec 32 := 1703936#32
  let c32_i32_4478 : BitVec 32 := 32#32
  let v10050 : BitVec 32 := Scalar.muli v10049 c32_i32_4478
  let v10051 : BitVec 32 := Scalar.addi c1703936_i32_4479 v10050
  v10051

def k0_off1416 (v10049 : BitVec 32) : Fin 1 → Nat :=
  let c1703936_i32_4479 : BitVec 32 := 1703936#32
  let c32_i32_4478 : BitVec 32 := 32#32
  let v10050 : BitVec 32 := Scalar.muli v10049 c32_i32_4478
  let v10051 : BitVec 32 := Scalar.addi c1703936_i32_4479 v10050
  let v10052 : BitVec 32 := v10051
  ![v10052.toNat]
def k0_mult731 (v10058 : BitVec 32) : BitVec 32 :=
  let c1703936_i32_4483 : BitVec 32 := 1703936#32
  let c32_i32_4482 : BitVec 32 := 32#32
  let v10059 : BitVec 32 := Scalar.muli v10058 c32_i32_4482
  let v10060 : BitVec 32 := Scalar.addi c1703936_i32_4483 v10059
  v10060

def k0_off1417 (v10058 : BitVec 32) : Fin 1 → Nat :=
  let c1703936_i32_4483 : BitVec 32 := 1703936#32
  let c32_i32_4482 : BitVec 32 := 32#32
  let v10059 : BitVec 32 := Scalar.muli v10058 c32_i32_4482
  let v10060 : BitVec 32 := Scalar.addi c1703936_i32_4483 v10059
  let v10061 : BitVec 32 := v10060
  ![v10061.toNat]
def k0_mult732 (v10067 : BitVec 32) : BitVec 32 :=
  let c1703936_i32_4487 : BitVec 32 := 1703936#32
  let c32_i32_4486 : BitVec 32 := 32#32
  let v10068 : BitVec 32 := Scalar.muli v10067 c32_i32_4486
  let v10069 : BitVec 32 := Scalar.addi c1703936_i32_4487 v10068
  v10069

def k0_off1418 (v10067 : BitVec 32) : Fin 1 → Nat :=
  let c1703936_i32_4487 : BitVec 32 := 1703936#32
  let c32_i32_4486 : BitVec 32 := 32#32
  let v10068 : BitVec 32 := Scalar.muli v10067 c32_i32_4486
  let v10069 : BitVec 32 := Scalar.addi c1703936_i32_4487 v10068
  let v10070 : BitVec 32 := v10069
  ![v10070.toNat]
def k0_mult733 (v10076 : BitVec 32) : BitVec 32 :=
  let c1703936_i32_4491 : BitVec 32 := 1703936#32
  let c32_i32_4490 : BitVec 32 := 32#32
  let v10077 : BitVec 32 := Scalar.muli v10076 c32_i32_4490
  let v10078 : BitVec 32 := Scalar.addi c1703936_i32_4491 v10077
  v10078

def k0_off1419 (v10076 : BitVec 32) : Fin 1 → Nat :=
  let c1703936_i32_4491 : BitVec 32 := 1703936#32
  let c32_i32_4490 : BitVec 32 := 32#32
  let v10077 : BitVec 32 := Scalar.muli v10076 c32_i32_4490
  let v10078 : BitVec 32 := Scalar.addi c1703936_i32_4491 v10077
  let v10079 : BitVec 32 := v10078
  ![v10079.toNat]
def k0_mult734 (v10085 : BitVec 32) : BitVec 32 :=
  let c1703936_i32_4495 : BitVec 32 := 1703936#32
  let c32_i32_4494 : BitVec 32 := 32#32
  let v10086 : BitVec 32 := Scalar.muli v10085 c32_i32_4494
  let v10087 : BitVec 32 := Scalar.addi c1703936_i32_4495 v10086
  v10087

def k0_off1420 (v10085 : BitVec 32) : Fin 1 → Nat :=
  let c1703936_i32_4495 : BitVec 32 := 1703936#32
  let c32_i32_4494 : BitVec 32 := 32#32
  let v10086 : BitVec 32 := Scalar.muli v10085 c32_i32_4494
  let v10087 : BitVec 32 := Scalar.addi c1703936_i32_4495 v10086
  let v10088 : BitVec 32 := v10087
  ![v10088.toNat]
def k0_mult735 (v10094 : BitVec 32) : BitVec 32 :=
  let c1703936_i32_4499 : BitVec 32 := 1703936#32
  let c32_i32_4498 : BitVec 32 := 32#32
  let v10095 : BitVec 32 := Scalar.muli v10094 c32_i32_4498
  let v10096 : BitVec 32 := Scalar.addi c1703936_i32_4499 v10095
  v10096

def k0_off1421 (v10094 : BitVec 32) : Fin 1 → Nat :=
  let c1703936_i32_4499 : BitVec 32 := 1703936#32
  let c32_i32_4498 : BitVec 32 := 32#32
  let v10095 : BitVec 32 := Scalar.muli v10094 c32_i32_4498
  let v10096 : BitVec 32 := Scalar.addi c1703936_i32_4499 v10095
  let v10097 : BitVec 32 := v10096
  ![v10097.toNat]
def k0_mult736 (v10103 : BitVec 32) : BitVec 32 :=
  let c1703936_i32_4503 : BitVec 32 := 1703936#32
  let c32_i32_4502 : BitVec 32 := 32#32
  let v10104 : BitVec 32 := Scalar.muli v10103 c32_i32_4502
  let v10105 : BitVec 32 := Scalar.addi c1703936_i32_4503 v10104
  v10105

def k0_off1422 (v10103 : BitVec 32) : Fin 1 → Nat :=
  let c1703936_i32_4503 : BitVec 32 := 1703936#32
  let c32_i32_4502 : BitVec 32 := 32#32
  let v10104 : BitVec 32 := Scalar.muli v10103 c32_i32_4502
  let v10105 : BitVec 32 := Scalar.addi c1703936_i32_4503 v10104
  let v10106 : BitVec 32 := v10105
  ![v10106.toNat]
def k0_mult737 (v10112 : BitVec 32) : BitVec 32 :=
  let c1703936_i32_4507 : BitVec 32 := 1703936#32
  let c32_i32_4506 : BitVec 32 := 32#32
  let v10113 : BitVec 32 := Scalar.muli v10112 c32_i32_4506
  let v10114 : BitVec 32 := Scalar.addi c1703936_i32_4507 v10113
  v10114

def k0_off1423 (v10112 : BitVec 32) : Fin 1 → Nat :=
  let c1703936_i32_4507 : BitVec 32 := 1703936#32
  let c32_i32_4506 : BitVec 32 := 32#32
  let v10113 : BitVec 32 := Scalar.muli v10112 c32_i32_4506
  let v10114 : BitVec 32 := Scalar.addi c1703936_i32_4507 v10113
  let v10115 : BitVec 32 := v10114
  ![v10115.toNat]

def k0_chk760 (v10112 : BitVec 32) : Prop :=
  (8 ∣ (k0_mult737 v10112).toNat) ∧
  (∀ a, (k0_off1423 v10112) a + S32.size a ≤ S3407872.size a)
theorem k0_mult737_dvd : ∀ (v10112 : BitVec 32) (k0_hw760 : k0_chk760 v10112), 8 ∣ (k0_mult737 v10112).toNat := fun v10112 k0_hw760 => k0_hw760.1
theorem k0_off1423_inb : ∀ (v10112 : BitVec 32) (k0_hw760 : k0_chk760 v10112), ∀ a, (k0_off1423 v10112) a + S32.size a ≤ S3407872.size a := fun v10112 k0_hw760 => k0_hw760.2

def k0_off1424 (v9977 : BitVec 32) : Fin 1 → Nat :=
  let c1703936_i32_4447 : BitVec 32 := 1703936#32
  let c32_i32_4446 : BitVec 32 := 32#32
  let v9978 : BitVec 32 := Scalar.muli v9977 c32_i32_4446
  let v9979 : BitVec 32 := Scalar.addi c1703936_i32_4447 v9978
  let v9980 : BitVec 32 := v9979
  ![v9980.toNat]

def k0_chk745 (v9977 : BitVec 32) : Prop :=
  (8 ∣ (k0_mult722 v9977).toNat) ∧
  (∀ a, (k0_off1408 v9977) a + S32.size a ≤ S3407872.size a) ∧
  (∀ a, (k0_off1424 v9977) a + S32.size a ≤ S3407872.size a)
theorem k0_mult722_dvd : ∀ (v9977 : BitVec 32) (k0_hw745 : k0_chk745 v9977), 8 ∣ (k0_mult722 v9977).toNat := fun v9977 k0_hw745 => k0_hw745.1
theorem k0_off1408_inb : ∀ (v9977 : BitVec 32) (k0_hw745 : k0_chk745 v9977), ∀ a, (k0_off1408 v9977) a + S32.size a ≤ S3407872.size a := fun v9977 k0_hw745 => k0_hw745.2.1
theorem k0_off1424_inb : ∀ (v9977 : BitVec 32) (k0_hw745 : k0_chk745 v9977), ∀ a, (k0_off1424 v9977) a + S32.size a ≤ S3407872.size a := fun v9977 k0_hw745 => k0_hw745.2.2

def k0_off1425 (v9986 : BitVec 32) : Fin 1 → Nat :=
  let c1703936_i32_4451 : BitVec 32 := 1703936#32
  let c32_i32_4450 : BitVec 32 := 32#32
  let v9987 : BitVec 32 := Scalar.muli v9986 c32_i32_4450
  let v9988 : BitVec 32 := Scalar.addi c1703936_i32_4451 v9987
  let v9989 : BitVec 32 := v9988
  ![v9989.toNat]

variable {F : FTy → Type} [FloatOps F]

def k0_chk746 (v9986 : BitVec 32) : Prop :=
  (8 ∣ (k0_mult723 v9986).toNat) ∧
  (∀ a, (k0_off1409 v9986) a + S32.size a ≤ S3407872.size a) ∧
  (∀ a, (k0_off1425 v9986) a + S32.size a ≤ S3407872.size a)
theorem k0_mult723_dvd : ∀ (v9986 : BitVec 32) (k0_hw746 : k0_chk746 v9986), 8 ∣ (k0_mult723 v9986).toNat := fun v9986 k0_hw746 => k0_hw746.1
theorem k0_off1409_inb : ∀ (v9986 : BitVec 32) (k0_hw746 : k0_chk746 v9986), ∀ a, (k0_off1409 v9986) a + S32.size a ≤ S3407872.size a := fun v9986 k0_hw746 => k0_hw746.2.1
theorem k0_off1425_inb : ∀ (v9986 : BitVec 32) (k0_hw746 : k0_chk746 v9986), ∀ a, (k0_off1425 v9986) a + S32.size a ≤ S3407872.size a := fun v9986 k0_hw746 => k0_hw746.2.2

def k0_off1426 (v9995 : BitVec 32) : Fin 1 → Nat :=
  let c1703936_i32_4455 : BitVec 32 := 1703936#32
  let c32_i32_4454 : BitVec 32 := 32#32
  let v9996 : BitVec 32 := Scalar.muli v9995 c32_i32_4454
  let v9997 : BitVec 32 := Scalar.addi c1703936_i32_4455 v9996
  let v9998 : BitVec 32 := v9997
  ![v9998.toNat]

def k0_chk747 (v9995 : BitVec 32) : Prop :=
  (8 ∣ (k0_mult724 v9995).toNat) ∧
  (∀ a, (k0_off1410 v9995) a + S32.size a ≤ S3407872.size a) ∧
  (∀ a, (k0_off1426 v9995) a + S32.size a ≤ S3407872.size a)
theorem k0_mult724_dvd : ∀ (v9995 : BitVec 32) (k0_hw747 : k0_chk747 v9995), 8 ∣ (k0_mult724 v9995).toNat := fun v9995 k0_hw747 => k0_hw747.1
theorem k0_off1410_inb : ∀ (v9995 : BitVec 32) (k0_hw747 : k0_chk747 v9995), ∀ a, (k0_off1410 v9995) a + S32.size a ≤ S3407872.size a := fun v9995 k0_hw747 => k0_hw747.2.1
theorem k0_off1426_inb : ∀ (v9995 : BitVec 32) (k0_hw747 : k0_chk747 v9995), ∀ a, (k0_off1426 v9995) a + S32.size a ≤ S3407872.size a := fun v9995 k0_hw747 => k0_hw747.2.2

def k0_off1427 (v10004 : BitVec 32) : Fin 1 → Nat :=
  let c1703936_i32_4459 : BitVec 32 := 1703936#32
  let c32_i32_4458 : BitVec 32 := 32#32
  let v10005 : BitVec 32 := Scalar.muli v10004 c32_i32_4458
  let v10006 : BitVec 32 := Scalar.addi c1703936_i32_4459 v10005
  let v10007 : BitVec 32 := v10006
  ![v10007.toNat]

def k0_chk748 (v10004 : BitVec 32) : Prop :=
  (8 ∣ (k0_mult725 v10004).toNat) ∧
  (∀ a, (k0_off1411 v10004) a + S32.size a ≤ S3407872.size a) ∧
  (∀ a, (k0_off1427 v10004) a + S32.size a ≤ S3407872.size a)
theorem k0_mult725_dvd : ∀ (v10004 : BitVec 32) (k0_hw748 : k0_chk748 v10004), 8 ∣ (k0_mult725 v10004).toNat := fun v10004 k0_hw748 => k0_hw748.1
theorem k0_off1411_inb : ∀ (v10004 : BitVec 32) (k0_hw748 : k0_chk748 v10004), ∀ a, (k0_off1411 v10004) a + S32.size a ≤ S3407872.size a := fun v10004 k0_hw748 => k0_hw748.2.1
theorem k0_off1427_inb : ∀ (v10004 : BitVec 32) (k0_hw748 : k0_chk748 v10004), ∀ a, (k0_off1427 v10004) a + S32.size a ≤ S3407872.size a := fun v10004 k0_hw748 => k0_hw748.2.2

def k0_off1428 (v10013 : BitVec 32) : Fin 1 → Nat :=
  let c1703936_i32_4463 : BitVec 32 := 1703936#32
  let c32_i32_4462 : BitVec 32 := 32#32
  let v10014 : BitVec 32 := Scalar.muli v10013 c32_i32_4462
  let v10015 : BitVec 32 := Scalar.addi c1703936_i32_4463 v10014
  let v10016 : BitVec 32 := v10015
  ![v10016.toNat]

def k0_chk749 (v10013 : BitVec 32) : Prop :=
  (8 ∣ (k0_mult726 v10013).toNat) ∧
  (∀ a, (k0_off1412 v10013) a + S32.size a ≤ S3407872.size a) ∧
  (∀ a, (k0_off1428 v10013) a + S32.size a ≤ S3407872.size a)
theorem k0_mult726_dvd : ∀ (v10013 : BitVec 32) (k0_hw749 : k0_chk749 v10013), 8 ∣ (k0_mult726 v10013).toNat := fun v10013 k0_hw749 => k0_hw749.1
theorem k0_off1412_inb : ∀ (v10013 : BitVec 32) (k0_hw749 : k0_chk749 v10013), ∀ a, (k0_off1412 v10013) a + S32.size a ≤ S3407872.size a := fun v10013 k0_hw749 => k0_hw749.2.1
theorem k0_off1428_inb : ∀ (v10013 : BitVec 32) (k0_hw749 : k0_chk749 v10013), ∀ a, (k0_off1428 v10013) a + S32.size a ≤ S3407872.size a := fun v10013 k0_hw749 => k0_hw749.2.2

def k0_off1429 (v10022 : BitVec 32) : Fin 1 → Nat :=
  let c1703936_i32_4467 : BitVec 32 := 1703936#32
  let c32_i32_4466 : BitVec 32 := 32#32
  let v10023 : BitVec 32 := Scalar.muli v10022 c32_i32_4466
  let v10024 : BitVec 32 := Scalar.addi c1703936_i32_4467 v10023
  let v10025 : BitVec 32 := v10024
  ![v10025.toNat]

def k0_chk750 (v10022 : BitVec 32) : Prop :=
  (8 ∣ (k0_mult727 v10022).toNat) ∧
  (∀ a, (k0_off1413 v10022) a + S32.size a ≤ S3407872.size a) ∧
  (∀ a, (k0_off1429 v10022) a + S32.size a ≤ S3407872.size a)
theorem k0_mult727_dvd : ∀ (v10022 : BitVec 32) (k0_hw750 : k0_chk750 v10022), 8 ∣ (k0_mult727 v10022).toNat := fun v10022 k0_hw750 => k0_hw750.1
theorem k0_off1413_inb : ∀ (v10022 : BitVec 32) (k0_hw750 : k0_chk750 v10022), ∀ a, (k0_off1413 v10022) a + S32.size a ≤ S3407872.size a := fun v10022 k0_hw750 => k0_hw750.2.1
theorem k0_off1429_inb : ∀ (v10022 : BitVec 32) (k0_hw750 : k0_chk750 v10022), ∀ a, (k0_off1429 v10022) a + S32.size a ≤ S3407872.size a := fun v10022 k0_hw750 => k0_hw750.2.2

def k0_off1430 (v10031 : BitVec 32) : Fin 1 → Nat :=
  let c1703936_i32_4471 : BitVec 32 := 1703936#32
  let c32_i32_4470 : BitVec 32 := 32#32
  let v10032 : BitVec 32 := Scalar.muli v10031 c32_i32_4470
  let v10033 : BitVec 32 := Scalar.addi c1703936_i32_4471 v10032
  let v10034 : BitVec 32 := v10033
  ![v10034.toNat]

def k0_chk751 (v10031 : BitVec 32) : Prop :=
  (8 ∣ (k0_mult728 v10031).toNat) ∧
  (∀ a, (k0_off1414 v10031) a + S32.size a ≤ S3407872.size a) ∧
  (∀ a, (k0_off1430 v10031) a + S32.size a ≤ S3407872.size a)
theorem k0_mult728_dvd : ∀ (v10031 : BitVec 32) (k0_hw751 : k0_chk751 v10031), 8 ∣ (k0_mult728 v10031).toNat := fun v10031 k0_hw751 => k0_hw751.1
theorem k0_off1414_inb : ∀ (v10031 : BitVec 32) (k0_hw751 : k0_chk751 v10031), ∀ a, (k0_off1414 v10031) a + S32.size a ≤ S3407872.size a := fun v10031 k0_hw751 => k0_hw751.2.1
theorem k0_off1430_inb : ∀ (v10031 : BitVec 32) (k0_hw751 : k0_chk751 v10031), ∀ a, (k0_off1430 v10031) a + S32.size a ≤ S3407872.size a := fun v10031 k0_hw751 => k0_hw751.2.2

def k0_off1431 (v10040 : BitVec 32) : Fin 1 → Nat :=
  let c1703936_i32_4475 : BitVec 32 := 1703936#32
  let c32_i32_4474 : BitVec 32 := 32#32
  let v10041 : BitVec 32 := Scalar.muli v10040 c32_i32_4474
  let v10042 : BitVec 32 := Scalar.addi c1703936_i32_4475 v10041
  let v10043 : BitVec 32 := v10042
  ![v10043.toNat]

def k0_chk752 (v10040 : BitVec 32) : Prop :=
  (8 ∣ (k0_mult729 v10040).toNat) ∧
  (∀ a, (k0_off1415 v10040) a + S32.size a ≤ S3407872.size a) ∧
  (∀ a, (k0_off1431 v10040) a + S32.size a ≤ S3407872.size a)
theorem k0_mult729_dvd : ∀ (v10040 : BitVec 32) (k0_hw752 : k0_chk752 v10040), 8 ∣ (k0_mult729 v10040).toNat := fun v10040 k0_hw752 => k0_hw752.1
theorem k0_off1415_inb : ∀ (v10040 : BitVec 32) (k0_hw752 : k0_chk752 v10040), ∀ a, (k0_off1415 v10040) a + S32.size a ≤ S3407872.size a := fun v10040 k0_hw752 => k0_hw752.2.1
theorem k0_off1431_inb : ∀ (v10040 : BitVec 32) (k0_hw752 : k0_chk752 v10040), ∀ a, (k0_off1431 v10040) a + S32.size a ≤ S3407872.size a := fun v10040 k0_hw752 => k0_hw752.2.2

def k0_off1432 (v10049 : BitVec 32) : Fin 1 → Nat :=
  let c1703936_i32_4479 : BitVec 32 := 1703936#32
  let c32_i32_4478 : BitVec 32 := 32#32
  let v10050 : BitVec 32 := Scalar.muli v10049 c32_i32_4478
  let v10051 : BitVec 32 := Scalar.addi c1703936_i32_4479 v10050
  let v10052 : BitVec 32 := v10051
  ![v10052.toNat]

def k0_chk753 (v10049 : BitVec 32) : Prop :=
  (8 ∣ (k0_mult730 v10049).toNat) ∧
  (∀ a, (k0_off1416 v10049) a + S32.size a ≤ S3407872.size a) ∧
  (∀ a, (k0_off1432 v10049) a + S32.size a ≤ S3407872.size a)
theorem k0_mult730_dvd : ∀ (v10049 : BitVec 32) (k0_hw753 : k0_chk753 v10049), 8 ∣ (k0_mult730 v10049).toNat := fun v10049 k0_hw753 => k0_hw753.1
theorem k0_off1416_inb : ∀ (v10049 : BitVec 32) (k0_hw753 : k0_chk753 v10049), ∀ a, (k0_off1416 v10049) a + S32.size a ≤ S3407872.size a := fun v10049 k0_hw753 => k0_hw753.2.1
theorem k0_off1432_inb : ∀ (v10049 : BitVec 32) (k0_hw753 : k0_chk753 v10049), ∀ a, (k0_off1432 v10049) a + S32.size a ≤ S3407872.size a := fun v10049 k0_hw753 => k0_hw753.2.2

def k0_off1433 (v10058 : BitVec 32) : Fin 1 → Nat :=
  let c1703936_i32_4483 : BitVec 32 := 1703936#32
  let c32_i32_4482 : BitVec 32 := 32#32
  let v10059 : BitVec 32 := Scalar.muli v10058 c32_i32_4482
  let v10060 : BitVec 32 := Scalar.addi c1703936_i32_4483 v10059
  let v10061 : BitVec 32 := v10060
  ![v10061.toNat]

def k0_chk754 (v10058 : BitVec 32) : Prop :=
  (8 ∣ (k0_mult731 v10058).toNat) ∧
  (∀ a, (k0_off1417 v10058) a + S32.size a ≤ S3407872.size a) ∧
  (∀ a, (k0_off1433 v10058) a + S32.size a ≤ S3407872.size a)
theorem k0_mult731_dvd : ∀ (v10058 : BitVec 32) (k0_hw754 : k0_chk754 v10058), 8 ∣ (k0_mult731 v10058).toNat := fun v10058 k0_hw754 => k0_hw754.1
theorem k0_off1417_inb : ∀ (v10058 : BitVec 32) (k0_hw754 : k0_chk754 v10058), ∀ a, (k0_off1417 v10058) a + S32.size a ≤ S3407872.size a := fun v10058 k0_hw754 => k0_hw754.2.1
theorem k0_off1433_inb : ∀ (v10058 : BitVec 32) (k0_hw754 : k0_chk754 v10058), ∀ a, (k0_off1433 v10058) a + S32.size a ≤ S3407872.size a := fun v10058 k0_hw754 => k0_hw754.2.2

def k0_off1434 (v10067 : BitVec 32) : Fin 1 → Nat :=
  let c1703936_i32_4487 : BitVec 32 := 1703936#32
  let c32_i32_4486 : BitVec 32 := 32#32
  let v10068 : BitVec 32 := Scalar.muli v10067 c32_i32_4486
  let v10069 : BitVec 32 := Scalar.addi c1703936_i32_4487 v10068
  let v10070 : BitVec 32 := v10069
  ![v10070.toNat]

def k0_chk755 (v10067 : BitVec 32) : Prop :=
  (8 ∣ (k0_mult732 v10067).toNat) ∧
  (∀ a, (k0_off1418 v10067) a + S32.size a ≤ S3407872.size a) ∧
  (∀ a, (k0_off1434 v10067) a + S32.size a ≤ S3407872.size a)
theorem k0_mult732_dvd : ∀ (v10067 : BitVec 32) (k0_hw755 : k0_chk755 v10067), 8 ∣ (k0_mult732 v10067).toNat := fun v10067 k0_hw755 => k0_hw755.1
theorem k0_off1418_inb : ∀ (v10067 : BitVec 32) (k0_hw755 : k0_chk755 v10067), ∀ a, (k0_off1418 v10067) a + S32.size a ≤ S3407872.size a := fun v10067 k0_hw755 => k0_hw755.2.1
theorem k0_off1434_inb : ∀ (v10067 : BitVec 32) (k0_hw755 : k0_chk755 v10067), ∀ a, (k0_off1434 v10067) a + S32.size a ≤ S3407872.size a := fun v10067 k0_hw755 => k0_hw755.2.2

def k0_off1435 (v10076 : BitVec 32) : Fin 1 → Nat :=
  let c1703936_i32_4491 : BitVec 32 := 1703936#32
  let c32_i32_4490 : BitVec 32 := 32#32
  let v10077 : BitVec 32 := Scalar.muli v10076 c32_i32_4490
  let v10078 : BitVec 32 := Scalar.addi c1703936_i32_4491 v10077
  let v10079 : BitVec 32 := v10078
  ![v10079.toNat]

def k0_chk756 (v10076 : BitVec 32) : Prop :=
  (8 ∣ (k0_mult733 v10076).toNat) ∧
  (∀ a, (k0_off1419 v10076) a + S32.size a ≤ S3407872.size a) ∧
  (∀ a, (k0_off1435 v10076) a + S32.size a ≤ S3407872.size a)
theorem k0_mult733_dvd : ∀ (v10076 : BitVec 32) (k0_hw756 : k0_chk756 v10076), 8 ∣ (k0_mult733 v10076).toNat := fun v10076 k0_hw756 => k0_hw756.1
theorem k0_off1419_inb : ∀ (v10076 : BitVec 32) (k0_hw756 : k0_chk756 v10076), ∀ a, (k0_off1419 v10076) a + S32.size a ≤ S3407872.size a := fun v10076 k0_hw756 => k0_hw756.2.1
theorem k0_off1435_inb : ∀ (v10076 : BitVec 32) (k0_hw756 : k0_chk756 v10076), ∀ a, (k0_off1435 v10076) a + S32.size a ≤ S3407872.size a := fun v10076 k0_hw756 => k0_hw756.2.2

def k0_off1436 (v10085 : BitVec 32) : Fin 1 → Nat :=
  let c1703936_i32_4495 : BitVec 32 := 1703936#32
  let c32_i32_4494 : BitVec 32 := 32#32
  let v10086 : BitVec 32 := Scalar.muli v10085 c32_i32_4494
  let v10087 : BitVec 32 := Scalar.addi c1703936_i32_4495 v10086
  let v10088 : BitVec 32 := v10087
  ![v10088.toNat]

def k0_chk757 (v10085 : BitVec 32) : Prop :=
  (8 ∣ (k0_mult734 v10085).toNat) ∧
  (∀ a, (k0_off1420 v10085) a + S32.size a ≤ S3407872.size a) ∧
  (∀ a, (k0_off1436 v10085) a + S32.size a ≤ S3407872.size a)
theorem k0_mult734_dvd : ∀ (v10085 : BitVec 32) (k0_hw757 : k0_chk757 v10085), 8 ∣ (k0_mult734 v10085).toNat := fun v10085 k0_hw757 => k0_hw757.1
theorem k0_off1420_inb : ∀ (v10085 : BitVec 32) (k0_hw757 : k0_chk757 v10085), ∀ a, (k0_off1420 v10085) a + S32.size a ≤ S3407872.size a := fun v10085 k0_hw757 => k0_hw757.2.1
theorem k0_off1436_inb : ∀ (v10085 : BitVec 32) (k0_hw757 : k0_chk757 v10085), ∀ a, (k0_off1436 v10085) a + S32.size a ≤ S3407872.size a := fun v10085 k0_hw757 => k0_hw757.2.2

def k0_off1437 (v10094 : BitVec 32) : Fin 1 → Nat :=
  let c1703936_i32_4499 : BitVec 32 := 1703936#32
  let c32_i32_4498 : BitVec 32 := 32#32
  let v10095 : BitVec 32 := Scalar.muli v10094 c32_i32_4498
  let v10096 : BitVec 32 := Scalar.addi c1703936_i32_4499 v10095
  let v10097 : BitVec 32 := v10096
  ![v10097.toNat]

def k0_chk758 (v10094 : BitVec 32) : Prop :=
  (8 ∣ (k0_mult735 v10094).toNat) ∧
  (∀ a, (k0_off1421 v10094) a + S32.size a ≤ S3407872.size a) ∧
  (∀ a, (k0_off1437 v10094) a + S32.size a ≤ S3407872.size a)
theorem k0_mult735_dvd : ∀ (v10094 : BitVec 32) (k0_hw758 : k0_chk758 v10094), 8 ∣ (k0_mult735 v10094).toNat := fun v10094 k0_hw758 => k0_hw758.1
theorem k0_off1421_inb : ∀ (v10094 : BitVec 32) (k0_hw758 : k0_chk758 v10094), ∀ a, (k0_off1421 v10094) a + S32.size a ≤ S3407872.size a := fun v10094 k0_hw758 => k0_hw758.2.1
theorem k0_off1437_inb : ∀ (v10094 : BitVec 32) (k0_hw758 : k0_chk758 v10094), ∀ a, (k0_off1437 v10094) a + S32.size a ≤ S3407872.size a := fun v10094 k0_hw758 => k0_hw758.2.2

def k0_off1438 (v10103 : BitVec 32) : Fin 1 → Nat :=
  let c1703936_i32_4503 : BitVec 32 := 1703936#32
  let c32_i32_4502 : BitVec 32 := 32#32
  let v10104 : BitVec 32 := Scalar.muli v10103 c32_i32_4502
  let v10105 : BitVec 32 := Scalar.addi c1703936_i32_4503 v10104
  let v10106 : BitVec 32 := v10105
  ![v10106.toNat]

def k0_chk759 (v10103 : BitVec 32) : Prop :=
  (8 ∣ (k0_mult736 v10103).toNat) ∧
  (∀ a, (k0_off1422 v10103) a + S32.size a ≤ S3407872.size a) ∧
  (∀ a, (k0_off1438 v10103) a + S32.size a ≤ S3407872.size a)
theorem k0_mult736_dvd : ∀ (v10103 : BitVec 32) (k0_hw759 : k0_chk759 v10103), 8 ∣ (k0_mult736 v10103).toNat := fun v10103 k0_hw759 => k0_hw759.1
theorem k0_off1422_inb : ∀ (v10103 : BitVec 32) (k0_hw759 : k0_chk759 v10103), ∀ a, (k0_off1422 v10103) a + S32.size a ≤ S3407872.size a := fun v10103 k0_hw759 => k0_hw759.2.1
theorem k0_off1438_inb : ∀ (v10103 : BitVec 32) (k0_hw759 : k0_chk759 v10103), ∀ a, (k0_off1438 v10103) a + S32.size a ≤ S3407872.size a := fun v10103 k0_hw759 => k0_hw759.2.2

def k0_mult738 (v10187 : BitVec 32) : BitVec 32 :=
  let c999936_i32_4544 : BitVec 32 := 999936#32
  let v10188 : BitVec 32 := Scalar.subi v10187 c999936_i32_4544
  let c32_i32_4545 : BitVec 32 := 32#32
  let v10189 : BitVec 32 := Scalar.muli v10188 c32_i32_4545
  v10189

def k0_off1439 (v10187 : BitVec 32) : Fin 1 → Nat :=
  let c999936_i32_4544 : BitVec 32 := 999936#32
  let v10188 : BitVec 32 := Scalar.subi v10187 c999936_i32_4544
  let c32_i32_4545 : BitVec 32 := 32#32
  let v10189 : BitVec 32 := Scalar.muli v10188 c32_i32_4545
  let v10190 : BitVec 32 := v10189
  ![v10190.toNat]
def k0_mult739 (v10196 : BitVec 32) : BitVec 32 :=
  let c999936_i32_4548 : BitVec 32 := 999936#32
  let v10197 : BitVec 32 := Scalar.subi v10196 c999936_i32_4548
  let c32_i32_4549 : BitVec 32 := 32#32
  let v10198 : BitVec 32 := Scalar.muli v10197 c32_i32_4549
  v10198

def k0_off1440 (v10196 : BitVec 32) : Fin 1 → Nat :=
  let c999936_i32_4548 : BitVec 32 := 999936#32
  let v10197 : BitVec 32 := Scalar.subi v10196 c999936_i32_4548
  let c32_i32_4549 : BitVec 32 := 32#32
  let v10198 : BitVec 32 := Scalar.muli v10197 c32_i32_4549
  let v10199 : BitVec 32 := v10198
  ![v10199.toNat]
def k0_mult740 (v10205 : BitVec 32) : BitVec 32 :=
  let c999936_i32_4552 : BitVec 32 := 999936#32
  let v10206 : BitVec 32 := Scalar.subi v10205 c999936_i32_4552
  let c32_i32_4553 : BitVec 32 := 32#32
  let v10207 : BitVec 32 := Scalar.muli v10206 c32_i32_4553
  v10207

def k0_off1441 (v10205 : BitVec 32) : Fin 1 → Nat :=
  let c999936_i32_4552 : BitVec 32 := 999936#32
  let v10206 : BitVec 32 := Scalar.subi v10205 c999936_i32_4552
  let c32_i32_4553 : BitVec 32 := 32#32
  let v10207 : BitVec 32 := Scalar.muli v10206 c32_i32_4553
  let v10208 : BitVec 32 := v10207
  ![v10208.toNat]
def k0_mult741 (v10214 : BitVec 32) : BitVec 32 :=
  let c999936_i32_4556 : BitVec 32 := 999936#32
  let v10215 : BitVec 32 := Scalar.subi v10214 c999936_i32_4556
  let c32_i32_4557 : BitVec 32 := 32#32
  let v10216 : BitVec 32 := Scalar.muli v10215 c32_i32_4557
  v10216

def k0_off1442 (v10214 : BitVec 32) : Fin 1 → Nat :=
  let c999936_i32_4556 : BitVec 32 := 999936#32
  let v10215 : BitVec 32 := Scalar.subi v10214 c999936_i32_4556
  let c32_i32_4557 : BitVec 32 := 32#32
  let v10216 : BitVec 32 := Scalar.muli v10215 c32_i32_4557
  let v10217 : BitVec 32 := v10216
  ![v10217.toNat]
def k0_mult742 (v10223 : BitVec 32) : BitVec 32 :=
  let c999936_i32_4560 : BitVec 32 := 999936#32
  let v10224 : BitVec 32 := Scalar.subi v10223 c999936_i32_4560
  let c32_i32_4561 : BitVec 32 := 32#32
  let v10225 : BitVec 32 := Scalar.muli v10224 c32_i32_4561
  v10225

def k0_off1443 (v10223 : BitVec 32) : Fin 1 → Nat :=
  let c999936_i32_4560 : BitVec 32 := 999936#32
  let v10224 : BitVec 32 := Scalar.subi v10223 c999936_i32_4560
  let c32_i32_4561 : BitVec 32 := 32#32
  let v10225 : BitVec 32 := Scalar.muli v10224 c32_i32_4561
  let v10226 : BitVec 32 := v10225
  ![v10226.toNat]
def k0_mult743 (v10232 : BitVec 32) : BitVec 32 :=
  let c999936_i32_4564 : BitVec 32 := 999936#32
  let v10233 : BitVec 32 := Scalar.subi v10232 c999936_i32_4564
  let c32_i32_4565 : BitVec 32 := 32#32
  let v10234 : BitVec 32 := Scalar.muli v10233 c32_i32_4565
  v10234

def k0_off1444 (v10232 : BitVec 32) : Fin 1 → Nat :=
  let c999936_i32_4564 : BitVec 32 := 999936#32
  let v10233 : BitVec 32 := Scalar.subi v10232 c999936_i32_4564
  let c32_i32_4565 : BitVec 32 := 32#32
  let v10234 : BitVec 32 := Scalar.muli v10233 c32_i32_4565
  let v10235 : BitVec 32 := v10234
  ![v10235.toNat]
def k0_mult744 (v10241 : BitVec 32) : BitVec 32 :=
  let c999936_i32_4568 : BitVec 32 := 999936#32
  let v10242 : BitVec 32 := Scalar.subi v10241 c999936_i32_4568
  let c32_i32_4569 : BitVec 32 := 32#32
  let v10243 : BitVec 32 := Scalar.muli v10242 c32_i32_4569
  v10243

def k0_off1445 (v10241 : BitVec 32) : Fin 1 → Nat :=
  let c999936_i32_4568 : BitVec 32 := 999936#32
  let v10242 : BitVec 32 := Scalar.subi v10241 c999936_i32_4568
  let c32_i32_4569 : BitVec 32 := 32#32
  let v10243 : BitVec 32 := Scalar.muli v10242 c32_i32_4569
  let v10244 : BitVec 32 := v10243
  ![v10244.toNat]
def k0_mult745 (v10250 : BitVec 32) : BitVec 32 :=
  let c999936_i32_4572 : BitVec 32 := 999936#32
  let v10251 : BitVec 32 := Scalar.subi v10250 c999936_i32_4572
  let c32_i32_4573 : BitVec 32 := 32#32
  let v10252 : BitVec 32 := Scalar.muli v10251 c32_i32_4573
  v10252

def k0_off1446 (v10250 : BitVec 32) : Fin 1 → Nat :=
  let c999936_i32_4572 : BitVec 32 := 999936#32
  let v10251 : BitVec 32 := Scalar.subi v10250 c999936_i32_4572
  let c32_i32_4573 : BitVec 32 := 32#32
  let v10252 : BitVec 32 := Scalar.muli v10251 c32_i32_4573
  let v10253 : BitVec 32 := v10252
  ![v10253.toNat]
def k0_mult746 (v10259 : BitVec 32) : BitVec 32 :=
  let c999936_i32_4576 : BitVec 32 := 999936#32
  let v10260 : BitVec 32 := Scalar.subi v10259 c999936_i32_4576
  let c32_i32_4577 : BitVec 32 := 32#32
  let v10261 : BitVec 32 := Scalar.muli v10260 c32_i32_4577
  v10261

def k0_off1447 (v10259 : BitVec 32) : Fin 1 → Nat :=
  let c999936_i32_4576 : BitVec 32 := 999936#32
  let v10260 : BitVec 32 := Scalar.subi v10259 c999936_i32_4576
  let c32_i32_4577 : BitVec 32 := 32#32
  let v10261 : BitVec 32 := Scalar.muli v10260 c32_i32_4577
  let v10262 : BitVec 32 := v10261
  ![v10262.toNat]
def k0_mult747 (v10268 : BitVec 32) : BitVec 32 :=
  let c999936_i32_4580 : BitVec 32 := 999936#32
  let v10269 : BitVec 32 := Scalar.subi v10268 c999936_i32_4580
  let c32_i32_4581 : BitVec 32 := 32#32
  let v10270 : BitVec 32 := Scalar.muli v10269 c32_i32_4581
  v10270

def k0_off1448 (v10268 : BitVec 32) : Fin 1 → Nat :=
  let c999936_i32_4580 : BitVec 32 := 999936#32
  let v10269 : BitVec 32 := Scalar.subi v10268 c999936_i32_4580
  let c32_i32_4581 : BitVec 32 := 32#32
  let v10270 : BitVec 32 := Scalar.muli v10269 c32_i32_4581
  let v10271 : BitVec 32 := v10270
  ![v10271.toNat]
def k0_mult748 (v10277 : BitVec 32) : BitVec 32 :=
  let c999936_i32_4584 : BitVec 32 := 999936#32
  let v10278 : BitVec 32 := Scalar.subi v10277 c999936_i32_4584
  let c32_i32_4585 : BitVec 32 := 32#32
  let v10279 : BitVec 32 := Scalar.muli v10278 c32_i32_4585
  v10279

def k0_off1449 (v10277 : BitVec 32) : Fin 1 → Nat :=
  let c999936_i32_4584 : BitVec 32 := 999936#32
  let v10278 : BitVec 32 := Scalar.subi v10277 c999936_i32_4584
  let c32_i32_4585 : BitVec 32 := 32#32
  let v10279 : BitVec 32 := Scalar.muli v10278 c32_i32_4585
  let v10280 : BitVec 32 := v10279
  ![v10280.toNat]
def k0_mult749 (v10286 : BitVec 32) : BitVec 32 :=
  let c999936_i32_4588 : BitVec 32 := 999936#32
  let v10287 : BitVec 32 := Scalar.subi v10286 c999936_i32_4588
  let c32_i32_4589 : BitVec 32 := 32#32
  let v10288 : BitVec 32 := Scalar.muli v10287 c32_i32_4589
  v10288

def k0_off1450 (v10286 : BitVec 32) : Fin 1 → Nat :=
  let c999936_i32_4588 : BitVec 32 := 999936#32
  let v10287 : BitVec 32 := Scalar.subi v10286 c999936_i32_4588
  let c32_i32_4589 : BitVec 32 := 32#32
  let v10288 : BitVec 32 := Scalar.muli v10287 c32_i32_4589
  let v10289 : BitVec 32 := v10288
  ![v10289.toNat]
def k0_mult750 (v10295 : BitVec 32) : BitVec 32 :=
  let c999936_i32_4592 : BitVec 32 := 999936#32
  let v10296 : BitVec 32 := Scalar.subi v10295 c999936_i32_4592
  let c32_i32_4593 : BitVec 32 := 32#32
  let v10297 : BitVec 32 := Scalar.muli v10296 c32_i32_4593
  v10297

def k0_off1451 (v10295 : BitVec 32) : Fin 1 → Nat :=
  let c999936_i32_4592 : BitVec 32 := 999936#32
  let v10296 : BitVec 32 := Scalar.subi v10295 c999936_i32_4592
  let c32_i32_4593 : BitVec 32 := 32#32
  let v10297 : BitVec 32 := Scalar.muli v10296 c32_i32_4593
  let v10298 : BitVec 32 := v10297
  ![v10298.toNat]
def k0_mult751 (v10304 : BitVec 32) : BitVec 32 :=
  let c999936_i32_4596 : BitVec 32 := 999936#32
  let v10305 : BitVec 32 := Scalar.subi v10304 c999936_i32_4596
  let c32_i32_4597 : BitVec 32 := 32#32
  let v10306 : BitVec 32 := Scalar.muli v10305 c32_i32_4597
  v10306

def k0_off1452 (v10304 : BitVec 32) : Fin 1 → Nat :=
  let c999936_i32_4596 : BitVec 32 := 999936#32
  let v10305 : BitVec 32 := Scalar.subi v10304 c999936_i32_4596
  let c32_i32_4597 : BitVec 32 := 32#32
  let v10306 : BitVec 32 := Scalar.muli v10305 c32_i32_4597
  let v10307 : BitVec 32 := v10306
  ![v10307.toNat]
def k0_mult752 (v10313 : BitVec 32) : BitVec 32 :=
  let c999936_i32_4600 : BitVec 32 := 999936#32
  let v10314 : BitVec 32 := Scalar.subi v10313 c999936_i32_4600
  let c32_i32_4601 : BitVec 32 := 32#32
  let v10315 : BitVec 32 := Scalar.muli v10314 c32_i32_4601
  v10315

def k0_off1453 (v10313 : BitVec 32) : Fin 1 → Nat :=
  let c999936_i32_4600 : BitVec 32 := 999936#32
  let v10314 : BitVec 32 := Scalar.subi v10313 c999936_i32_4600
  let c32_i32_4601 : BitVec 32 := 32#32
  let v10315 : BitVec 32 := Scalar.muli v10314 c32_i32_4601
  let v10316 : BitVec 32 := v10315
  ![v10316.toNat]
def k0_mult753 (v10322 : BitVec 32) : BitVec 32 :=
  let c999936_i32_4604 : BitVec 32 := 999936#32
  let v10323 : BitVec 32 := Scalar.subi v10322 c999936_i32_4604
  let c32_i32_4605 : BitVec 32 := 32#32
  let v10324 : BitVec 32 := Scalar.muli v10323 c32_i32_4605
  v10324

def k0_off1454 (v10322 : BitVec 32) : Fin 1 → Nat :=
  let c999936_i32_4604 : BitVec 32 := 999936#32
  let v10323 : BitVec 32 := Scalar.subi v10322 c999936_i32_4604
  let c32_i32_4605 : BitVec 32 := 32#32
  let v10324 : BitVec 32 := Scalar.muli v10323 c32_i32_4605
  let v10325 : BitVec 32 := v10324
  ![v10325.toNat]

def k0_chk776 (v10322 : BitVec 32) : Prop :=
  (8 ∣ (k0_mult753 v10322).toNat) ∧
  (∀ a, (k0_off1454 v10322) a + S32.size a ≤ S2048.size a)
theorem k0_mult753_dvd : ∀ (v10322 : BitVec 32) (k0_hw776 : k0_chk776 v10322), 8 ∣ (k0_mult753 v10322).toNat := fun v10322 k0_hw776 => k0_hw776.1
theorem k0_off1454_inb : ∀ (v10322 : BitVec 32) (k0_hw776 : k0_chk776 v10322), ∀ a, (k0_off1454 v10322) a + S32.size a ≤ S2048.size a := fun v10322 k0_hw776 => k0_hw776.2

def k0_off1455 (v10187 : BitVec 32) : Fin 1 → Nat :=
  let c999936_i32_4544 : BitVec 32 := 999936#32
  let v10188 : BitVec 32 := Scalar.subi v10187 c999936_i32_4544
  let c32_i32_4545 : BitVec 32 := 32#32
  let v10189 : BitVec 32 := Scalar.muli v10188 c32_i32_4545
  let v10190 : BitVec 32 := v10189
  ![v10190.toNat]

def k0_chk761 (v10187 : BitVec 32) : Prop :=
  (8 ∣ (k0_mult738 v10187).toNat) ∧
  (∀ a, (k0_off1439 v10187) a + S32.size a ≤ S2048.size a) ∧
  (∀ a, (k0_off1455 v10187) a + S32.size a ≤ S2048.size a)
theorem k0_mult738_dvd : ∀ (v10187 : BitVec 32) (k0_hw761 : k0_chk761 v10187), 8 ∣ (k0_mult738 v10187).toNat := fun v10187 k0_hw761 => k0_hw761.1
theorem k0_off1439_inb : ∀ (v10187 : BitVec 32) (k0_hw761 : k0_chk761 v10187), ∀ a, (k0_off1439 v10187) a + S32.size a ≤ S2048.size a := fun v10187 k0_hw761 => k0_hw761.2.1
theorem k0_off1455_inb : ∀ (v10187 : BitVec 32) (k0_hw761 : k0_chk761 v10187), ∀ a, (k0_off1455 v10187) a + S32.size a ≤ S2048.size a := fun v10187 k0_hw761 => k0_hw761.2.2

def k0_off1456 (v10196 : BitVec 32) : Fin 1 → Nat :=
  let c999936_i32_4548 : BitVec 32 := 999936#32
  let v10197 : BitVec 32 := Scalar.subi v10196 c999936_i32_4548
  let c32_i32_4549 : BitVec 32 := 32#32
  let v10198 : BitVec 32 := Scalar.muli v10197 c32_i32_4549
  let v10199 : BitVec 32 := v10198
  ![v10199.toNat]

def k0_chk762 (v10196 : BitVec 32) : Prop :=
  (8 ∣ (k0_mult739 v10196).toNat) ∧
  (∀ a, (k0_off1440 v10196) a + S32.size a ≤ S2048.size a) ∧
  (∀ a, (k0_off1456 v10196) a + S32.size a ≤ S2048.size a)
theorem k0_mult739_dvd : ∀ (v10196 : BitVec 32) (k0_hw762 : k0_chk762 v10196), 8 ∣ (k0_mult739 v10196).toNat := fun v10196 k0_hw762 => k0_hw762.1
theorem k0_off1440_inb : ∀ (v10196 : BitVec 32) (k0_hw762 : k0_chk762 v10196), ∀ a, (k0_off1440 v10196) a + S32.size a ≤ S2048.size a := fun v10196 k0_hw762 => k0_hw762.2.1
theorem k0_off1456_inb : ∀ (v10196 : BitVec 32) (k0_hw762 : k0_chk762 v10196), ∀ a, (k0_off1456 v10196) a + S32.size a ≤ S2048.size a := fun v10196 k0_hw762 => k0_hw762.2.2

def k0_off1457 (v10205 : BitVec 32) : Fin 1 → Nat :=
  let c999936_i32_4552 : BitVec 32 := 999936#32
  let v10206 : BitVec 32 := Scalar.subi v10205 c999936_i32_4552
  let c32_i32_4553 : BitVec 32 := 32#32
  let v10207 : BitVec 32 := Scalar.muli v10206 c32_i32_4553
  let v10208 : BitVec 32 := v10207
  ![v10208.toNat]

def k0_chk763 (v10205 : BitVec 32) : Prop :=
  (8 ∣ (k0_mult740 v10205).toNat) ∧
  (∀ a, (k0_off1441 v10205) a + S32.size a ≤ S2048.size a) ∧
  (∀ a, (k0_off1457 v10205) a + S32.size a ≤ S2048.size a)
theorem k0_mult740_dvd : ∀ (v10205 : BitVec 32) (k0_hw763 : k0_chk763 v10205), 8 ∣ (k0_mult740 v10205).toNat := fun v10205 k0_hw763 => k0_hw763.1
theorem k0_off1441_inb : ∀ (v10205 : BitVec 32) (k0_hw763 : k0_chk763 v10205), ∀ a, (k0_off1441 v10205) a + S32.size a ≤ S2048.size a := fun v10205 k0_hw763 => k0_hw763.2.1
theorem k0_off1457_inb : ∀ (v10205 : BitVec 32) (k0_hw763 : k0_chk763 v10205), ∀ a, (k0_off1457 v10205) a + S32.size a ≤ S2048.size a := fun v10205 k0_hw763 => k0_hw763.2.2

def k0_off1458 (v10214 : BitVec 32) : Fin 1 → Nat :=
  let c999936_i32_4556 : BitVec 32 := 999936#32
  let v10215 : BitVec 32 := Scalar.subi v10214 c999936_i32_4556
  let c32_i32_4557 : BitVec 32 := 32#32
  let v10216 : BitVec 32 := Scalar.muli v10215 c32_i32_4557
  let v10217 : BitVec 32 := v10216
  ![v10217.toNat]

def k0_chk764 (v10214 : BitVec 32) : Prop :=
  (8 ∣ (k0_mult741 v10214).toNat) ∧
  (∀ a, (k0_off1442 v10214) a + S32.size a ≤ S2048.size a) ∧
  (∀ a, (k0_off1458 v10214) a + S32.size a ≤ S2048.size a)
theorem k0_mult741_dvd : ∀ (v10214 : BitVec 32) (k0_hw764 : k0_chk764 v10214), 8 ∣ (k0_mult741 v10214).toNat := fun v10214 k0_hw764 => k0_hw764.1
theorem k0_off1442_inb : ∀ (v10214 : BitVec 32) (k0_hw764 : k0_chk764 v10214), ∀ a, (k0_off1442 v10214) a + S32.size a ≤ S2048.size a := fun v10214 k0_hw764 => k0_hw764.2.1
theorem k0_off1458_inb : ∀ (v10214 : BitVec 32) (k0_hw764 : k0_chk764 v10214), ∀ a, (k0_off1458 v10214) a + S32.size a ≤ S2048.size a := fun v10214 k0_hw764 => k0_hw764.2.2

def k0_off1459 (v10223 : BitVec 32) : Fin 1 → Nat :=
  let c999936_i32_4560 : BitVec 32 := 999936#32
  let v10224 : BitVec 32 := Scalar.subi v10223 c999936_i32_4560
  let c32_i32_4561 : BitVec 32 := 32#32
  let v10225 : BitVec 32 := Scalar.muli v10224 c32_i32_4561
  let v10226 : BitVec 32 := v10225
  ![v10226.toNat]

def k0_chk765 (v10223 : BitVec 32) : Prop :=
  (8 ∣ (k0_mult742 v10223).toNat) ∧
  (∀ a, (k0_off1443 v10223) a + S32.size a ≤ S2048.size a) ∧
  (∀ a, (k0_off1459 v10223) a + S32.size a ≤ S2048.size a)
theorem k0_mult742_dvd : ∀ (v10223 : BitVec 32) (k0_hw765 : k0_chk765 v10223), 8 ∣ (k0_mult742 v10223).toNat := fun v10223 k0_hw765 => k0_hw765.1
theorem k0_off1443_inb : ∀ (v10223 : BitVec 32) (k0_hw765 : k0_chk765 v10223), ∀ a, (k0_off1443 v10223) a + S32.size a ≤ S2048.size a := fun v10223 k0_hw765 => k0_hw765.2.1
theorem k0_off1459_inb : ∀ (v10223 : BitVec 32) (k0_hw765 : k0_chk765 v10223), ∀ a, (k0_off1459 v10223) a + S32.size a ≤ S2048.size a := fun v10223 k0_hw765 => k0_hw765.2.2

def k0_off1460 (v10232 : BitVec 32) : Fin 1 → Nat :=
  let c999936_i32_4564 : BitVec 32 := 999936#32
  let v10233 : BitVec 32 := Scalar.subi v10232 c999936_i32_4564
  let c32_i32_4565 : BitVec 32 := 32#32
  let v10234 : BitVec 32 := Scalar.muli v10233 c32_i32_4565
  let v10235 : BitVec 32 := v10234
  ![v10235.toNat]

def k0_chk766 (v10232 : BitVec 32) : Prop :=
  (8 ∣ (k0_mult743 v10232).toNat) ∧
  (∀ a, (k0_off1444 v10232) a + S32.size a ≤ S2048.size a) ∧
  (∀ a, (k0_off1460 v10232) a + S32.size a ≤ S2048.size a)
theorem k0_mult743_dvd : ∀ (v10232 : BitVec 32) (k0_hw766 : k0_chk766 v10232), 8 ∣ (k0_mult743 v10232).toNat := fun v10232 k0_hw766 => k0_hw766.1
theorem k0_off1444_inb : ∀ (v10232 : BitVec 32) (k0_hw766 : k0_chk766 v10232), ∀ a, (k0_off1444 v10232) a + S32.size a ≤ S2048.size a := fun v10232 k0_hw766 => k0_hw766.2.1
theorem k0_off1460_inb : ∀ (v10232 : BitVec 32) (k0_hw766 : k0_chk766 v10232), ∀ a, (k0_off1460 v10232) a + S32.size a ≤ S2048.size a := fun v10232 k0_hw766 => k0_hw766.2.2

def k0_off1461 (v10241 : BitVec 32) : Fin 1 → Nat :=
  let c999936_i32_4568 : BitVec 32 := 999936#32
  let v10242 : BitVec 32 := Scalar.subi v10241 c999936_i32_4568
  let c32_i32_4569 : BitVec 32 := 32#32
  let v10243 : BitVec 32 := Scalar.muli v10242 c32_i32_4569
  let v10244 : BitVec 32 := v10243
  ![v10244.toNat]

def k0_chk767 (v10241 : BitVec 32) : Prop :=
  (8 ∣ (k0_mult744 v10241).toNat) ∧
  (∀ a, (k0_off1445 v10241) a + S32.size a ≤ S2048.size a) ∧
  (∀ a, (k0_off1461 v10241) a + S32.size a ≤ S2048.size a)
theorem k0_mult744_dvd : ∀ (v10241 : BitVec 32) (k0_hw767 : k0_chk767 v10241), 8 ∣ (k0_mult744 v10241).toNat := fun v10241 k0_hw767 => k0_hw767.1
theorem k0_off1445_inb : ∀ (v10241 : BitVec 32) (k0_hw767 : k0_chk767 v10241), ∀ a, (k0_off1445 v10241) a + S32.size a ≤ S2048.size a := fun v10241 k0_hw767 => k0_hw767.2.1
theorem k0_off1461_inb : ∀ (v10241 : BitVec 32) (k0_hw767 : k0_chk767 v10241), ∀ a, (k0_off1461 v10241) a + S32.size a ≤ S2048.size a := fun v10241 k0_hw767 => k0_hw767.2.2

def k0_off1462 (v10250 : BitVec 32) : Fin 1 → Nat :=
  let c999936_i32_4572 : BitVec 32 := 999936#32
  let v10251 : BitVec 32 := Scalar.subi v10250 c999936_i32_4572
  let c32_i32_4573 : BitVec 32 := 32#32
  let v10252 : BitVec 32 := Scalar.muli v10251 c32_i32_4573
  let v10253 : BitVec 32 := v10252
  ![v10253.toNat]

def k0_chk768 (v10250 : BitVec 32) : Prop :=
  (8 ∣ (k0_mult745 v10250).toNat) ∧
  (∀ a, (k0_off1446 v10250) a + S32.size a ≤ S2048.size a) ∧
  (∀ a, (k0_off1462 v10250) a + S32.size a ≤ S2048.size a)
theorem k0_mult745_dvd : ∀ (v10250 : BitVec 32) (k0_hw768 : k0_chk768 v10250), 8 ∣ (k0_mult745 v10250).toNat := fun v10250 k0_hw768 => k0_hw768.1
theorem k0_off1446_inb : ∀ (v10250 : BitVec 32) (k0_hw768 : k0_chk768 v10250), ∀ a, (k0_off1446 v10250) a + S32.size a ≤ S2048.size a := fun v10250 k0_hw768 => k0_hw768.2.1
theorem k0_off1462_inb : ∀ (v10250 : BitVec 32) (k0_hw768 : k0_chk768 v10250), ∀ a, (k0_off1462 v10250) a + S32.size a ≤ S2048.size a := fun v10250 k0_hw768 => k0_hw768.2.2

def k0_off1463 (v10259 : BitVec 32) : Fin 1 → Nat :=
  let c999936_i32_4576 : BitVec 32 := 999936#32
  let v10260 : BitVec 32 := Scalar.subi v10259 c999936_i32_4576
  let c32_i32_4577 : BitVec 32 := 32#32
  let v10261 : BitVec 32 := Scalar.muli v10260 c32_i32_4577
  let v10262 : BitVec 32 := v10261
  ![v10262.toNat]

def k0_chk769 (v10259 : BitVec 32) : Prop :=
  (8 ∣ (k0_mult746 v10259).toNat) ∧
  (∀ a, (k0_off1447 v10259) a + S32.size a ≤ S2048.size a) ∧
  (∀ a, (k0_off1463 v10259) a + S32.size a ≤ S2048.size a)
theorem k0_mult746_dvd : ∀ (v10259 : BitVec 32) (k0_hw769 : k0_chk769 v10259), 8 ∣ (k0_mult746 v10259).toNat := fun v10259 k0_hw769 => k0_hw769.1
theorem k0_off1447_inb : ∀ (v10259 : BitVec 32) (k0_hw769 : k0_chk769 v10259), ∀ a, (k0_off1447 v10259) a + S32.size a ≤ S2048.size a := fun v10259 k0_hw769 => k0_hw769.2.1
theorem k0_off1463_inb : ∀ (v10259 : BitVec 32) (k0_hw769 : k0_chk769 v10259), ∀ a, (k0_off1463 v10259) a + S32.size a ≤ S2048.size a := fun v10259 k0_hw769 => k0_hw769.2.2

def k0_off1464 (v10268 : BitVec 32) : Fin 1 → Nat :=
  let c999936_i32_4580 : BitVec 32 := 999936#32
  let v10269 : BitVec 32 := Scalar.subi v10268 c999936_i32_4580
  let c32_i32_4581 : BitVec 32 := 32#32
  let v10270 : BitVec 32 := Scalar.muli v10269 c32_i32_4581
  let v10271 : BitVec 32 := v10270
  ![v10271.toNat]

def k0_chk770 (v10268 : BitVec 32) : Prop :=
  (8 ∣ (k0_mult747 v10268).toNat) ∧
  (∀ a, (k0_off1448 v10268) a + S32.size a ≤ S2048.size a) ∧
  (∀ a, (k0_off1464 v10268) a + S32.size a ≤ S2048.size a)
theorem k0_mult747_dvd : ∀ (v10268 : BitVec 32) (k0_hw770 : k0_chk770 v10268), 8 ∣ (k0_mult747 v10268).toNat := fun v10268 k0_hw770 => k0_hw770.1
theorem k0_off1448_inb : ∀ (v10268 : BitVec 32) (k0_hw770 : k0_chk770 v10268), ∀ a, (k0_off1448 v10268) a + S32.size a ≤ S2048.size a := fun v10268 k0_hw770 => k0_hw770.2.1
theorem k0_off1464_inb : ∀ (v10268 : BitVec 32) (k0_hw770 : k0_chk770 v10268), ∀ a, (k0_off1464 v10268) a + S32.size a ≤ S2048.size a := fun v10268 k0_hw770 => k0_hw770.2.2

def k0_off1465 (v10277 : BitVec 32) : Fin 1 → Nat :=
  let c999936_i32_4584 : BitVec 32 := 999936#32
  let v10278 : BitVec 32 := Scalar.subi v10277 c999936_i32_4584
  let c32_i32_4585 : BitVec 32 := 32#32
  let v10279 : BitVec 32 := Scalar.muli v10278 c32_i32_4585
  let v10280 : BitVec 32 := v10279
  ![v10280.toNat]

def k0_chk771 (v10277 : BitVec 32) : Prop :=
  (8 ∣ (k0_mult748 v10277).toNat) ∧
  (∀ a, (k0_off1449 v10277) a + S32.size a ≤ S2048.size a) ∧
  (∀ a, (k0_off1465 v10277) a + S32.size a ≤ S2048.size a)
theorem k0_mult748_dvd : ∀ (v10277 : BitVec 32) (k0_hw771 : k0_chk771 v10277), 8 ∣ (k0_mult748 v10277).toNat := fun v10277 k0_hw771 => k0_hw771.1
theorem k0_off1449_inb : ∀ (v10277 : BitVec 32) (k0_hw771 : k0_chk771 v10277), ∀ a, (k0_off1449 v10277) a + S32.size a ≤ S2048.size a := fun v10277 k0_hw771 => k0_hw771.2.1
theorem k0_off1465_inb : ∀ (v10277 : BitVec 32) (k0_hw771 : k0_chk771 v10277), ∀ a, (k0_off1465 v10277) a + S32.size a ≤ S2048.size a := fun v10277 k0_hw771 => k0_hw771.2.2

def k0_off1466 (v10286 : BitVec 32) : Fin 1 → Nat :=
  let c999936_i32_4588 : BitVec 32 := 999936#32
  let v10287 : BitVec 32 := Scalar.subi v10286 c999936_i32_4588
  let c32_i32_4589 : BitVec 32 := 32#32
  let v10288 : BitVec 32 := Scalar.muli v10287 c32_i32_4589
  let v10289 : BitVec 32 := v10288
  ![v10289.toNat]

def k0_chk772 (v10286 : BitVec 32) : Prop :=
  (8 ∣ (k0_mult749 v10286).toNat) ∧
  (∀ a, (k0_off1450 v10286) a + S32.size a ≤ S2048.size a) ∧
  (∀ a, (k0_off1466 v10286) a + S32.size a ≤ S2048.size a)
theorem k0_mult749_dvd : ∀ (v10286 : BitVec 32) (k0_hw772 : k0_chk772 v10286), 8 ∣ (k0_mult749 v10286).toNat := fun v10286 k0_hw772 => k0_hw772.1
theorem k0_off1450_inb : ∀ (v10286 : BitVec 32) (k0_hw772 : k0_chk772 v10286), ∀ a, (k0_off1450 v10286) a + S32.size a ≤ S2048.size a := fun v10286 k0_hw772 => k0_hw772.2.1
theorem k0_off1466_inb : ∀ (v10286 : BitVec 32) (k0_hw772 : k0_chk772 v10286), ∀ a, (k0_off1466 v10286) a + S32.size a ≤ S2048.size a := fun v10286 k0_hw772 => k0_hw772.2.2

def k0_off1467 (v10295 : BitVec 32) : Fin 1 → Nat :=
  let c999936_i32_4592 : BitVec 32 := 999936#32
  let v10296 : BitVec 32 := Scalar.subi v10295 c999936_i32_4592
  let c32_i32_4593 : BitVec 32 := 32#32
  let v10297 : BitVec 32 := Scalar.muli v10296 c32_i32_4593
  let v10298 : BitVec 32 := v10297
  ![v10298.toNat]

def k0_chk773 (v10295 : BitVec 32) : Prop :=
  (8 ∣ (k0_mult750 v10295).toNat) ∧
  (∀ a, (k0_off1451 v10295) a + S32.size a ≤ S2048.size a) ∧
  (∀ a, (k0_off1467 v10295) a + S32.size a ≤ S2048.size a)
theorem k0_mult750_dvd : ∀ (v10295 : BitVec 32) (k0_hw773 : k0_chk773 v10295), 8 ∣ (k0_mult750 v10295).toNat := fun v10295 k0_hw773 => k0_hw773.1
theorem k0_off1451_inb : ∀ (v10295 : BitVec 32) (k0_hw773 : k0_chk773 v10295), ∀ a, (k0_off1451 v10295) a + S32.size a ≤ S2048.size a := fun v10295 k0_hw773 => k0_hw773.2.1
theorem k0_off1467_inb : ∀ (v10295 : BitVec 32) (k0_hw773 : k0_chk773 v10295), ∀ a, (k0_off1467 v10295) a + S32.size a ≤ S2048.size a := fun v10295 k0_hw773 => k0_hw773.2.2

def k0_off1468 (v10304 : BitVec 32) : Fin 1 → Nat :=
  let c999936_i32_4596 : BitVec 32 := 999936#32
  let v10305 : BitVec 32 := Scalar.subi v10304 c999936_i32_4596
  let c32_i32_4597 : BitVec 32 := 32#32
  let v10306 : BitVec 32 := Scalar.muli v10305 c32_i32_4597
  let v10307 : BitVec 32 := v10306
  ![v10307.toNat]

def k0_chk774 (v10304 : BitVec 32) : Prop :=
  (8 ∣ (k0_mult751 v10304).toNat) ∧
  (∀ a, (k0_off1452 v10304) a + S32.size a ≤ S2048.size a) ∧
  (∀ a, (k0_off1468 v10304) a + S32.size a ≤ S2048.size a)
theorem k0_mult751_dvd : ∀ (v10304 : BitVec 32) (k0_hw774 : k0_chk774 v10304), 8 ∣ (k0_mult751 v10304).toNat := fun v10304 k0_hw774 => k0_hw774.1
theorem k0_off1452_inb : ∀ (v10304 : BitVec 32) (k0_hw774 : k0_chk774 v10304), ∀ a, (k0_off1452 v10304) a + S32.size a ≤ S2048.size a := fun v10304 k0_hw774 => k0_hw774.2.1
theorem k0_off1468_inb : ∀ (v10304 : BitVec 32) (k0_hw774 : k0_chk774 v10304), ∀ a, (k0_off1468 v10304) a + S32.size a ≤ S2048.size a := fun v10304 k0_hw774 => k0_hw774.2.2

def k0_off1469 (v10313 : BitVec 32) : Fin 1 → Nat :=
  let c999936_i32_4600 : BitVec 32 := 999936#32
  let v10314 : BitVec 32 := Scalar.subi v10313 c999936_i32_4600
  let c32_i32_4601 : BitVec 32 := 32#32
  let v10315 : BitVec 32 := Scalar.muli v10314 c32_i32_4601
  let v10316 : BitVec 32 := v10315
  ![v10316.toNat]

def k0_chk775 (v10313 : BitVec 32) : Prop :=
  (8 ∣ (k0_mult752 v10313).toNat) ∧
  (∀ a, (k0_off1453 v10313) a + S32.size a ≤ S2048.size a) ∧
  (∀ a, (k0_off1469 v10313) a + S32.size a ≤ S2048.size a)
theorem k0_mult752_dvd : ∀ (v10313 : BitVec 32) (k0_hw775 : k0_chk775 v10313), 8 ∣ (k0_mult752 v10313).toNat := fun v10313 k0_hw775 => k0_hw775.1
theorem k0_off1453_inb : ∀ (v10313 : BitVec 32) (k0_hw775 : k0_chk775 v10313), ∀ a, (k0_off1453 v10313) a + S32.size a ≤ S2048.size a := fun v10313 k0_hw775 => k0_hw775.2.1
theorem k0_off1469_inb : ∀ (v10313 : BitVec 32) (k0_hw775 : k0_chk775 v10313), ∀ a, (k0_off1469 v10313) a + S32.size a ≤ S2048.size a := fun v10313 k0_hw775 => k0_hw775.2.2

def k0_mult754 (v10395 : BitVec 32) : BitVec 32 :=
  let c1703936_i32_4641 : BitVec 32 := 1703936#32
  let c32_i32_4640 : BitVec 32 := 32#32
  let v10396 : BitVec 32 := Scalar.muli v10395 c32_i32_4640
  let v10397 : BitVec 32 := Scalar.addi c1703936_i32_4641 v10396
  v10397

def k0_off1470 (v10395 : BitVec 32) : Fin 1 → Nat :=
  let c1703936_i32_4641 : BitVec 32 := 1703936#32
  let c32_i32_4640 : BitVec 32 := 32#32
  let v10396 : BitVec 32 := Scalar.muli v10395 c32_i32_4640
  let v10397 : BitVec 32 := Scalar.addi c1703936_i32_4641 v10396
  let v10398 : BitVec 32 := v10397
  ![v10398.toNat]
def k0_mult755 (v10404 : BitVec 32) : BitVec 32 :=
  let c1703936_i32_4645 : BitVec 32 := 1703936#32
  let c32_i32_4644 : BitVec 32 := 32#32
  let v10405 : BitVec 32 := Scalar.muli v10404 c32_i32_4644
  let v10406 : BitVec 32 := Scalar.addi c1703936_i32_4645 v10405
  v10406

def k0_off1471 (v10404 : BitVec 32) : Fin 1 → Nat :=
  let c1703936_i32_4645 : BitVec 32 := 1703936#32
  let c32_i32_4644 : BitVec 32 := 32#32
  let v10405 : BitVec 32 := Scalar.muli v10404 c32_i32_4644
  let v10406 : BitVec 32 := Scalar.addi c1703936_i32_4645 v10405
  let v10407 : BitVec 32 := v10406
  ![v10407.toNat]
def k0_mult756 (v10413 : BitVec 32) : BitVec 32 :=
  let c1703936_i32_4649 : BitVec 32 := 1703936#32
  let c32_i32_4648 : BitVec 32 := 32#32
  let v10414 : BitVec 32 := Scalar.muli v10413 c32_i32_4648
  let v10415 : BitVec 32 := Scalar.addi c1703936_i32_4649 v10414
  v10415

def k0_off1472 (v10413 : BitVec 32) : Fin 1 → Nat :=
  let c1703936_i32_4649 : BitVec 32 := 1703936#32
  let c32_i32_4648 : BitVec 32 := 32#32
  let v10414 : BitVec 32 := Scalar.muli v10413 c32_i32_4648
  let v10415 : BitVec 32 := Scalar.addi c1703936_i32_4649 v10414
  let v10416 : BitVec 32 := v10415
  ![v10416.toNat]
def k0_mult757 (v10422 : BitVec 32) : BitVec 32 :=
  let c1703936_i32_4653 : BitVec 32 := 1703936#32
  let c32_i32_4652 : BitVec 32 := 32#32
  let v10423 : BitVec 32 := Scalar.muli v10422 c32_i32_4652
  let v10424 : BitVec 32 := Scalar.addi c1703936_i32_4653 v10423
  v10424

def k0_off1473 (v10422 : BitVec 32) : Fin 1 → Nat :=
  let c1703936_i32_4653 : BitVec 32 := 1703936#32
  let c32_i32_4652 : BitVec 32 := 32#32
  let v10423 : BitVec 32 := Scalar.muli v10422 c32_i32_4652
  let v10424 : BitVec 32 := Scalar.addi c1703936_i32_4653 v10423
  let v10425 : BitVec 32 := v10424
  ![v10425.toNat]
def k0_mult758 (v10431 : BitVec 32) : BitVec 32 :=
  let c1703936_i32_4657 : BitVec 32 := 1703936#32
  let c32_i32_4656 : BitVec 32 := 32#32
  let v10432 : BitVec 32 := Scalar.muli v10431 c32_i32_4656
  let v10433 : BitVec 32 := Scalar.addi c1703936_i32_4657 v10432
  v10433

def k0_off1474 (v10431 : BitVec 32) : Fin 1 → Nat :=
  let c1703936_i32_4657 : BitVec 32 := 1703936#32
  let c32_i32_4656 : BitVec 32 := 32#32
  let v10432 : BitVec 32 := Scalar.muli v10431 c32_i32_4656
  let v10433 : BitVec 32 := Scalar.addi c1703936_i32_4657 v10432
  let v10434 : BitVec 32 := v10433
  ![v10434.toNat]
def k0_mult759 (v10440 : BitVec 32) : BitVec 32 :=
  let c1703936_i32_4661 : BitVec 32 := 1703936#32
  let c32_i32_4660 : BitVec 32 := 32#32
  let v10441 : BitVec 32 := Scalar.muli v10440 c32_i32_4660
  let v10442 : BitVec 32 := Scalar.addi c1703936_i32_4661 v10441
  v10442

def k0_off1475 (v10440 : BitVec 32) : Fin 1 → Nat :=
  let c1703936_i32_4661 : BitVec 32 := 1703936#32
  let c32_i32_4660 : BitVec 32 := 32#32
  let v10441 : BitVec 32 := Scalar.muli v10440 c32_i32_4660
  let v10442 : BitVec 32 := Scalar.addi c1703936_i32_4661 v10441
  let v10443 : BitVec 32 := v10442
  ![v10443.toNat]
def k0_mult760 (v10449 : BitVec 32) : BitVec 32 :=
  let c1703936_i32_4665 : BitVec 32 := 1703936#32
  let c32_i32_4664 : BitVec 32 := 32#32
  let v10450 : BitVec 32 := Scalar.muli v10449 c32_i32_4664
  let v10451 : BitVec 32 := Scalar.addi c1703936_i32_4665 v10450
  v10451

def k0_off1476 (v10449 : BitVec 32) : Fin 1 → Nat :=
  let c1703936_i32_4665 : BitVec 32 := 1703936#32
  let c32_i32_4664 : BitVec 32 := 32#32
  let v10450 : BitVec 32 := Scalar.muli v10449 c32_i32_4664
  let v10451 : BitVec 32 := Scalar.addi c1703936_i32_4665 v10450
  let v10452 : BitVec 32 := v10451
  ![v10452.toNat]
def k0_mult761 (v10458 : BitVec 32) : BitVec 32 :=
  let c1703936_i32_4669 : BitVec 32 := 1703936#32
  let c32_i32_4668 : BitVec 32 := 32#32
  let v10459 : BitVec 32 := Scalar.muli v10458 c32_i32_4668
  let v10460 : BitVec 32 := Scalar.addi c1703936_i32_4669 v10459
  v10460

def k0_off1477 (v10458 : BitVec 32) : Fin 1 → Nat :=
  let c1703936_i32_4669 : BitVec 32 := 1703936#32
  let c32_i32_4668 : BitVec 32 := 32#32
  let v10459 : BitVec 32 := Scalar.muli v10458 c32_i32_4668
  let v10460 : BitVec 32 := Scalar.addi c1703936_i32_4669 v10459
  let v10461 : BitVec 32 := v10460
  ![v10461.toNat]
def k0_mult762 (v10467 : BitVec 32) : BitVec 32 :=
  let c1703936_i32_4673 : BitVec 32 := 1703936#32
  let c32_i32_4672 : BitVec 32 := 32#32
  let v10468 : BitVec 32 := Scalar.muli v10467 c32_i32_4672
  let v10469 : BitVec 32 := Scalar.addi c1703936_i32_4673 v10468
  v10469

def k0_off1478 (v10467 : BitVec 32) : Fin 1 → Nat :=
  let c1703936_i32_4673 : BitVec 32 := 1703936#32
  let c32_i32_4672 : BitVec 32 := 32#32
  let v10468 : BitVec 32 := Scalar.muli v10467 c32_i32_4672
  let v10469 : BitVec 32 := Scalar.addi c1703936_i32_4673 v10468
  let v10470 : BitVec 32 := v10469
  ![v10470.toNat]
def k0_mult763 (v10476 : BitVec 32) : BitVec 32 :=
  let c1703936_i32_4677 : BitVec 32 := 1703936#32
  let c32_i32_4676 : BitVec 32 := 32#32
  let v10477 : BitVec 32 := Scalar.muli v10476 c32_i32_4676
  let v10478 : BitVec 32 := Scalar.addi c1703936_i32_4677 v10477
  v10478

def k0_off1479 (v10476 : BitVec 32) : Fin 1 → Nat :=
  let c1703936_i32_4677 : BitVec 32 := 1703936#32
  let c32_i32_4676 : BitVec 32 := 32#32
  let v10477 : BitVec 32 := Scalar.muli v10476 c32_i32_4676
  let v10478 : BitVec 32 := Scalar.addi c1703936_i32_4677 v10477
  let v10479 : BitVec 32 := v10478
  ![v10479.toNat]
def k0_mult764 (v10485 : BitVec 32) : BitVec 32 :=
  let c1703936_i32_4681 : BitVec 32 := 1703936#32
  let c32_i32_4680 : BitVec 32 := 32#32
  let v10486 : BitVec 32 := Scalar.muli v10485 c32_i32_4680
  let v10487 : BitVec 32 := Scalar.addi c1703936_i32_4681 v10486
  v10487

def k0_off1480 (v10485 : BitVec 32) : Fin 1 → Nat :=
  let c1703936_i32_4681 : BitVec 32 := 1703936#32
  let c32_i32_4680 : BitVec 32 := 32#32
  let v10486 : BitVec 32 := Scalar.muli v10485 c32_i32_4680
  let v10487 : BitVec 32 := Scalar.addi c1703936_i32_4681 v10486
  let v10488 : BitVec 32 := v10487
  ![v10488.toNat]
def k0_mult765 (v10494 : BitVec 32) : BitVec 32 :=
  let c1703936_i32_4685 : BitVec 32 := 1703936#32
  let c32_i32_4684 : BitVec 32 := 32#32
  let v10495 : BitVec 32 := Scalar.muli v10494 c32_i32_4684
  let v10496 : BitVec 32 := Scalar.addi c1703936_i32_4685 v10495
  v10496

def k0_off1481 (v10494 : BitVec 32) : Fin 1 → Nat :=
  let c1703936_i32_4685 : BitVec 32 := 1703936#32
  let c32_i32_4684 : BitVec 32 := 32#32
  let v10495 : BitVec 32 := Scalar.muli v10494 c32_i32_4684
  let v10496 : BitVec 32 := Scalar.addi c1703936_i32_4685 v10495
  let v10497 : BitVec 32 := v10496
  ![v10497.toNat]
def k0_mult766 (v10503 : BitVec 32) : BitVec 32 :=
  let c1703936_i32_4689 : BitVec 32 := 1703936#32
  let c32_i32_4688 : BitVec 32 := 32#32
  let v10504 : BitVec 32 := Scalar.muli v10503 c32_i32_4688
  let v10505 : BitVec 32 := Scalar.addi c1703936_i32_4689 v10504
  v10505

def k0_off1482 (v10503 : BitVec 32) : Fin 1 → Nat :=
  let c1703936_i32_4689 : BitVec 32 := 1703936#32
  let c32_i32_4688 : BitVec 32 := 32#32
  let v10504 : BitVec 32 := Scalar.muli v10503 c32_i32_4688
  let v10505 : BitVec 32 := Scalar.addi c1703936_i32_4689 v10504
  let v10506 : BitVec 32 := v10505
  ![v10506.toNat]
def k0_mult767 (v10512 : BitVec 32) : BitVec 32 :=
  let c1703936_i32_4693 : BitVec 32 := 1703936#32
  let c32_i32_4692 : BitVec 32 := 32#32
  let v10513 : BitVec 32 := Scalar.muli v10512 c32_i32_4692
  let v10514 : BitVec 32 := Scalar.addi c1703936_i32_4693 v10513
  v10514

def k0_off1483 (v10512 : BitVec 32) : Fin 1 → Nat :=
  let c1703936_i32_4693 : BitVec 32 := 1703936#32
  let c32_i32_4692 : BitVec 32 := 32#32
  let v10513 : BitVec 32 := Scalar.muli v10512 c32_i32_4692
  let v10514 : BitVec 32 := Scalar.addi c1703936_i32_4693 v10513
  let v10515 : BitVec 32 := v10514
  ![v10515.toNat]
def k0_mult768 (v10521 : BitVec 32) : BitVec 32 :=
  let c1703936_i32_4697 : BitVec 32 := 1703936#32
  let c32_i32_4696 : BitVec 32 := 32#32
  let v10522 : BitVec 32 := Scalar.muli v10521 c32_i32_4696
  let v10523 : BitVec 32 := Scalar.addi c1703936_i32_4697 v10522
  v10523

def k0_off1484 (v10521 : BitVec 32) : Fin 1 → Nat :=
  let c1703936_i32_4697 : BitVec 32 := 1703936#32
  let c32_i32_4696 : BitVec 32 := 32#32
  let v10522 : BitVec 32 := Scalar.muli v10521 c32_i32_4696
  let v10523 : BitVec 32 := Scalar.addi c1703936_i32_4697 v10522
  let v10524 : BitVec 32 := v10523
  ![v10524.toNat]
def k0_mult769 (v10530 : BitVec 32) : BitVec 32 :=
  let c1703936_i32_4701 : BitVec 32 := 1703936#32
  let c32_i32_4700 : BitVec 32 := 32#32
  let v10531 : BitVec 32 := Scalar.muli v10530 c32_i32_4700
  let v10532 : BitVec 32 := Scalar.addi c1703936_i32_4701 v10531
  v10532

def k0_off1485 (v10530 : BitVec 32) : Fin 1 → Nat :=
  let c1703936_i32_4701 : BitVec 32 := 1703936#32
  let c32_i32_4700 : BitVec 32 := 32#32
  let v10531 : BitVec 32 := Scalar.muli v10530 c32_i32_4700
  let v10532 : BitVec 32 := Scalar.addi c1703936_i32_4701 v10531
  let v10533 : BitVec 32 := v10532
  ![v10533.toNat]

def k0_chk792 (v10530 : BitVec 32) : Prop :=
  (8 ∣ (k0_mult769 v10530).toNat) ∧
  (∀ a, (k0_off1485 v10530) a + S32.size a ≤ S3407872.size a)
theorem k0_mult769_dvd : ∀ (v10530 : BitVec 32) (k0_hw792 : k0_chk792 v10530), 8 ∣ (k0_mult769 v10530).toNat := fun v10530 k0_hw792 => k0_hw792.1
theorem k0_off1485_inb : ∀ (v10530 : BitVec 32) (k0_hw792 : k0_chk792 v10530), ∀ a, (k0_off1485 v10530) a + S32.size a ≤ S3407872.size a := fun v10530 k0_hw792 => k0_hw792.2

def k0_off1486 (v10395 : BitVec 32) : Fin 1 → Nat :=
  let c1703936_i32_4641 : BitVec 32 := 1703936#32
  let c32_i32_4640 : BitVec 32 := 32#32
  let v10396 : BitVec 32 := Scalar.muli v10395 c32_i32_4640
  let v10397 : BitVec 32 := Scalar.addi c1703936_i32_4641 v10396
  let v10398 : BitVec 32 := v10397
  ![v10398.toNat]

def k0_chk777 (v10395 : BitVec 32) : Prop :=
  (8 ∣ (k0_mult754 v10395).toNat) ∧
  (∀ a, (k0_off1470 v10395) a + S32.size a ≤ S3407872.size a) ∧
  (∀ a, (k0_off1486 v10395) a + S32.size a ≤ S3407872.size a)
theorem k0_mult754_dvd : ∀ (v10395 : BitVec 32) (k0_hw777 : k0_chk777 v10395), 8 ∣ (k0_mult754 v10395).toNat := fun v10395 k0_hw777 => k0_hw777.1
theorem k0_off1470_inb : ∀ (v10395 : BitVec 32) (k0_hw777 : k0_chk777 v10395), ∀ a, (k0_off1470 v10395) a + S32.size a ≤ S3407872.size a := fun v10395 k0_hw777 => k0_hw777.2.1
theorem k0_off1486_inb : ∀ (v10395 : BitVec 32) (k0_hw777 : k0_chk777 v10395), ∀ a, (k0_off1486 v10395) a + S32.size a ≤ S3407872.size a := fun v10395 k0_hw777 => k0_hw777.2.2

def k0_off1487 (v10404 : BitVec 32) : Fin 1 → Nat :=
  let c1703936_i32_4645 : BitVec 32 := 1703936#32
  let c32_i32_4644 : BitVec 32 := 32#32
  let v10405 : BitVec 32 := Scalar.muli v10404 c32_i32_4644
  let v10406 : BitVec 32 := Scalar.addi c1703936_i32_4645 v10405
  let v10407 : BitVec 32 := v10406
  ![v10407.toNat]

def k0_chk778 (v10404 : BitVec 32) : Prop :=
  (8 ∣ (k0_mult755 v10404).toNat) ∧
  (∀ a, (k0_off1471 v10404) a + S32.size a ≤ S3407872.size a) ∧
  (∀ a, (k0_off1487 v10404) a + S32.size a ≤ S3407872.size a)
theorem k0_mult755_dvd : ∀ (v10404 : BitVec 32) (k0_hw778 : k0_chk778 v10404), 8 ∣ (k0_mult755 v10404).toNat := fun v10404 k0_hw778 => k0_hw778.1
theorem k0_off1471_inb : ∀ (v10404 : BitVec 32) (k0_hw778 : k0_chk778 v10404), ∀ a, (k0_off1471 v10404) a + S32.size a ≤ S3407872.size a := fun v10404 k0_hw778 => k0_hw778.2.1
theorem k0_off1487_inb : ∀ (v10404 : BitVec 32) (k0_hw778 : k0_chk778 v10404), ∀ a, (k0_off1487 v10404) a + S32.size a ≤ S3407872.size a := fun v10404 k0_hw778 => k0_hw778.2.2

def k0_off1488 (v10413 : BitVec 32) : Fin 1 → Nat :=
  let c1703936_i32_4649 : BitVec 32 := 1703936#32
  let c32_i32_4648 : BitVec 32 := 32#32
  let v10414 : BitVec 32 := Scalar.muli v10413 c32_i32_4648
  let v10415 : BitVec 32 := Scalar.addi c1703936_i32_4649 v10414
  let v10416 : BitVec 32 := v10415
  ![v10416.toNat]

def k0_chk779 (v10413 : BitVec 32) : Prop :=
  (8 ∣ (k0_mult756 v10413).toNat) ∧
  (∀ a, (k0_off1472 v10413) a + S32.size a ≤ S3407872.size a) ∧
  (∀ a, (k0_off1488 v10413) a + S32.size a ≤ S3407872.size a)
theorem k0_mult756_dvd : ∀ (v10413 : BitVec 32) (k0_hw779 : k0_chk779 v10413), 8 ∣ (k0_mult756 v10413).toNat := fun v10413 k0_hw779 => k0_hw779.1
theorem k0_off1472_inb : ∀ (v10413 : BitVec 32) (k0_hw779 : k0_chk779 v10413), ∀ a, (k0_off1472 v10413) a + S32.size a ≤ S3407872.size a := fun v10413 k0_hw779 => k0_hw779.2.1
theorem k0_off1488_inb : ∀ (v10413 : BitVec 32) (k0_hw779 : k0_chk779 v10413), ∀ a, (k0_off1488 v10413) a + S32.size a ≤ S3407872.size a := fun v10413 k0_hw779 => k0_hw779.2.2

def k0_off1489 (v10422 : BitVec 32) : Fin 1 → Nat :=
  let c1703936_i32_4653 : BitVec 32 := 1703936#32
  let c32_i32_4652 : BitVec 32 := 32#32
  let v10423 : BitVec 32 := Scalar.muli v10422 c32_i32_4652
  let v10424 : BitVec 32 := Scalar.addi c1703936_i32_4653 v10423
  let v10425 : BitVec 32 := v10424
  ![v10425.toNat]

def k0_chk780 (v10422 : BitVec 32) : Prop :=
  (8 ∣ (k0_mult757 v10422).toNat) ∧
  (∀ a, (k0_off1473 v10422) a + S32.size a ≤ S3407872.size a) ∧
  (∀ a, (k0_off1489 v10422) a + S32.size a ≤ S3407872.size a)
theorem k0_mult757_dvd : ∀ (v10422 : BitVec 32) (k0_hw780 : k0_chk780 v10422), 8 ∣ (k0_mult757 v10422).toNat := fun v10422 k0_hw780 => k0_hw780.1
theorem k0_off1473_inb : ∀ (v10422 : BitVec 32) (k0_hw780 : k0_chk780 v10422), ∀ a, (k0_off1473 v10422) a + S32.size a ≤ S3407872.size a := fun v10422 k0_hw780 => k0_hw780.2.1
theorem k0_off1489_inb : ∀ (v10422 : BitVec 32) (k0_hw780 : k0_chk780 v10422), ∀ a, (k0_off1489 v10422) a + S32.size a ≤ S3407872.size a := fun v10422 k0_hw780 => k0_hw780.2.2

def k0_off1490 (v10431 : BitVec 32) : Fin 1 → Nat :=
  let c1703936_i32_4657 : BitVec 32 := 1703936#32
  let c32_i32_4656 : BitVec 32 := 32#32
  let v10432 : BitVec 32 := Scalar.muli v10431 c32_i32_4656
  let v10433 : BitVec 32 := Scalar.addi c1703936_i32_4657 v10432
  let v10434 : BitVec 32 := v10433
  ![v10434.toNat]

def k0_chk781 (v10431 : BitVec 32) : Prop :=
  (8 ∣ (k0_mult758 v10431).toNat) ∧
  (∀ a, (k0_off1474 v10431) a + S32.size a ≤ S3407872.size a) ∧
  (∀ a, (k0_off1490 v10431) a + S32.size a ≤ S3407872.size a)
theorem k0_mult758_dvd : ∀ (v10431 : BitVec 32) (k0_hw781 : k0_chk781 v10431), 8 ∣ (k0_mult758 v10431).toNat := fun v10431 k0_hw781 => k0_hw781.1
theorem k0_off1474_inb : ∀ (v10431 : BitVec 32) (k0_hw781 : k0_chk781 v10431), ∀ a, (k0_off1474 v10431) a + S32.size a ≤ S3407872.size a := fun v10431 k0_hw781 => k0_hw781.2.1
theorem k0_off1490_inb : ∀ (v10431 : BitVec 32) (k0_hw781 : k0_chk781 v10431), ∀ a, (k0_off1490 v10431) a + S32.size a ≤ S3407872.size a := fun v10431 k0_hw781 => k0_hw781.2.2

def k0_off1491 (v10440 : BitVec 32) : Fin 1 → Nat :=
  let c1703936_i32_4661 : BitVec 32 := 1703936#32
  let c32_i32_4660 : BitVec 32 := 32#32
  let v10441 : BitVec 32 := Scalar.muli v10440 c32_i32_4660
  let v10442 : BitVec 32 := Scalar.addi c1703936_i32_4661 v10441
  let v10443 : BitVec 32 := v10442
  ![v10443.toNat]

def k0_chk782 (v10440 : BitVec 32) : Prop :=
  (8 ∣ (k0_mult759 v10440).toNat) ∧
  (∀ a, (k0_off1475 v10440) a + S32.size a ≤ S3407872.size a) ∧
  (∀ a, (k0_off1491 v10440) a + S32.size a ≤ S3407872.size a)
theorem k0_mult759_dvd : ∀ (v10440 : BitVec 32) (k0_hw782 : k0_chk782 v10440), 8 ∣ (k0_mult759 v10440).toNat := fun v10440 k0_hw782 => k0_hw782.1
theorem k0_off1475_inb : ∀ (v10440 : BitVec 32) (k0_hw782 : k0_chk782 v10440), ∀ a, (k0_off1475 v10440) a + S32.size a ≤ S3407872.size a := fun v10440 k0_hw782 => k0_hw782.2.1
theorem k0_off1491_inb : ∀ (v10440 : BitVec 32) (k0_hw782 : k0_chk782 v10440), ∀ a, (k0_off1491 v10440) a + S32.size a ≤ S3407872.size a := fun v10440 k0_hw782 => k0_hw782.2.2

def k0_off1492 (v10449 : BitVec 32) : Fin 1 → Nat :=
  let c1703936_i32_4665 : BitVec 32 := 1703936#32
  let c32_i32_4664 : BitVec 32 := 32#32
  let v10450 : BitVec 32 := Scalar.muli v10449 c32_i32_4664
  let v10451 : BitVec 32 := Scalar.addi c1703936_i32_4665 v10450
  let v10452 : BitVec 32 := v10451
  ![v10452.toNat]

def k0_chk783 (v10449 : BitVec 32) : Prop :=
  (8 ∣ (k0_mult760 v10449).toNat) ∧
  (∀ a, (k0_off1476 v10449) a + S32.size a ≤ S3407872.size a) ∧
  (∀ a, (k0_off1492 v10449) a + S32.size a ≤ S3407872.size a)
theorem k0_mult760_dvd : ∀ (v10449 : BitVec 32) (k0_hw783 : k0_chk783 v10449), 8 ∣ (k0_mult760 v10449).toNat := fun v10449 k0_hw783 => k0_hw783.1
theorem k0_off1476_inb : ∀ (v10449 : BitVec 32) (k0_hw783 : k0_chk783 v10449), ∀ a, (k0_off1476 v10449) a + S32.size a ≤ S3407872.size a := fun v10449 k0_hw783 => k0_hw783.2.1
theorem k0_off1492_inb : ∀ (v10449 : BitVec 32) (k0_hw783 : k0_chk783 v10449), ∀ a, (k0_off1492 v10449) a + S32.size a ≤ S3407872.size a := fun v10449 k0_hw783 => k0_hw783.2.2

def k0_off1493 (v10458 : BitVec 32) : Fin 1 → Nat :=
  let c1703936_i32_4669 : BitVec 32 := 1703936#32
  let c32_i32_4668 : BitVec 32 := 32#32
  let v10459 : BitVec 32 := Scalar.muli v10458 c32_i32_4668
  let v10460 : BitVec 32 := Scalar.addi c1703936_i32_4669 v10459
  let v10461 : BitVec 32 := v10460
  ![v10461.toNat]

def k0_chk784 (v10458 : BitVec 32) : Prop :=
  (8 ∣ (k0_mult761 v10458).toNat) ∧
  (∀ a, (k0_off1477 v10458) a + S32.size a ≤ S3407872.size a) ∧
  (∀ a, (k0_off1493 v10458) a + S32.size a ≤ S3407872.size a)
theorem k0_mult761_dvd : ∀ (v10458 : BitVec 32) (k0_hw784 : k0_chk784 v10458), 8 ∣ (k0_mult761 v10458).toNat := fun v10458 k0_hw784 => k0_hw784.1
theorem k0_off1477_inb : ∀ (v10458 : BitVec 32) (k0_hw784 : k0_chk784 v10458), ∀ a, (k0_off1477 v10458) a + S32.size a ≤ S3407872.size a := fun v10458 k0_hw784 => k0_hw784.2.1
theorem k0_off1493_inb : ∀ (v10458 : BitVec 32) (k0_hw784 : k0_chk784 v10458), ∀ a, (k0_off1493 v10458) a + S32.size a ≤ S3407872.size a := fun v10458 k0_hw784 => k0_hw784.2.2

def k0_off1494 (v10467 : BitVec 32) : Fin 1 → Nat :=
  let c1703936_i32_4673 : BitVec 32 := 1703936#32
  let c32_i32_4672 : BitVec 32 := 32#32
  let v10468 : BitVec 32 := Scalar.muli v10467 c32_i32_4672
  let v10469 : BitVec 32 := Scalar.addi c1703936_i32_4673 v10468
  let v10470 : BitVec 32 := v10469
  ![v10470.toNat]

def k0_chk785 (v10467 : BitVec 32) : Prop :=
  (8 ∣ (k0_mult762 v10467).toNat) ∧
  (∀ a, (k0_off1478 v10467) a + S32.size a ≤ S3407872.size a) ∧
  (∀ a, (k0_off1494 v10467) a + S32.size a ≤ S3407872.size a)
theorem k0_mult762_dvd : ∀ (v10467 : BitVec 32) (k0_hw785 : k0_chk785 v10467), 8 ∣ (k0_mult762 v10467).toNat := fun v10467 k0_hw785 => k0_hw785.1
theorem k0_off1478_inb : ∀ (v10467 : BitVec 32) (k0_hw785 : k0_chk785 v10467), ∀ a, (k0_off1478 v10467) a + S32.size a ≤ S3407872.size a := fun v10467 k0_hw785 => k0_hw785.2.1
theorem k0_off1494_inb : ∀ (v10467 : BitVec 32) (k0_hw785 : k0_chk785 v10467), ∀ a, (k0_off1494 v10467) a + S32.size a ≤ S3407872.size a := fun v10467 k0_hw785 => k0_hw785.2.2

def k0_off1495 (v10476 : BitVec 32) : Fin 1 → Nat :=
  let c1703936_i32_4677 : BitVec 32 := 1703936#32
  let c32_i32_4676 : BitVec 32 := 32#32
  let v10477 : BitVec 32 := Scalar.muli v10476 c32_i32_4676
  let v10478 : BitVec 32 := Scalar.addi c1703936_i32_4677 v10477
  let v10479 : BitVec 32 := v10478
  ![v10479.toNat]

def k0_chk786 (v10476 : BitVec 32) : Prop :=
  (8 ∣ (k0_mult763 v10476).toNat) ∧
  (∀ a, (k0_off1479 v10476) a + S32.size a ≤ S3407872.size a) ∧
  (∀ a, (k0_off1495 v10476) a + S32.size a ≤ S3407872.size a)
theorem k0_mult763_dvd : ∀ (v10476 : BitVec 32) (k0_hw786 : k0_chk786 v10476), 8 ∣ (k0_mult763 v10476).toNat := fun v10476 k0_hw786 => k0_hw786.1
theorem k0_off1479_inb : ∀ (v10476 : BitVec 32) (k0_hw786 : k0_chk786 v10476), ∀ a, (k0_off1479 v10476) a + S32.size a ≤ S3407872.size a := fun v10476 k0_hw786 => k0_hw786.2.1
theorem k0_off1495_inb : ∀ (v10476 : BitVec 32) (k0_hw786 : k0_chk786 v10476), ∀ a, (k0_off1495 v10476) a + S32.size a ≤ S3407872.size a := fun v10476 k0_hw786 => k0_hw786.2.2

def k0_off1496 (v10485 : BitVec 32) : Fin 1 → Nat :=
  let c1703936_i32_4681 : BitVec 32 := 1703936#32
  let c32_i32_4680 : BitVec 32 := 32#32
  let v10486 : BitVec 32 := Scalar.muli v10485 c32_i32_4680
  let v10487 : BitVec 32 := Scalar.addi c1703936_i32_4681 v10486
  let v10488 : BitVec 32 := v10487
  ![v10488.toNat]

def k0_chk787 (v10485 : BitVec 32) : Prop :=
  (8 ∣ (k0_mult764 v10485).toNat) ∧
  (∀ a, (k0_off1480 v10485) a + S32.size a ≤ S3407872.size a) ∧
  (∀ a, (k0_off1496 v10485) a + S32.size a ≤ S3407872.size a)
theorem k0_mult764_dvd : ∀ (v10485 : BitVec 32) (k0_hw787 : k0_chk787 v10485), 8 ∣ (k0_mult764 v10485).toNat := fun v10485 k0_hw787 => k0_hw787.1
theorem k0_off1480_inb : ∀ (v10485 : BitVec 32) (k0_hw787 : k0_chk787 v10485), ∀ a, (k0_off1480 v10485) a + S32.size a ≤ S3407872.size a := fun v10485 k0_hw787 => k0_hw787.2.1
theorem k0_off1496_inb : ∀ (v10485 : BitVec 32) (k0_hw787 : k0_chk787 v10485), ∀ a, (k0_off1496 v10485) a + S32.size a ≤ S3407872.size a := fun v10485 k0_hw787 => k0_hw787.2.2

def k0_off1497 (v10494 : BitVec 32) : Fin 1 → Nat :=
  let c1703936_i32_4685 : BitVec 32 := 1703936#32
  let c32_i32_4684 : BitVec 32 := 32#32
  let v10495 : BitVec 32 := Scalar.muli v10494 c32_i32_4684
  let v10496 : BitVec 32 := Scalar.addi c1703936_i32_4685 v10495
  let v10497 : BitVec 32 := v10496
  ![v10497.toNat]

def k0_chk788 (v10494 : BitVec 32) : Prop :=
  (8 ∣ (k0_mult765 v10494).toNat) ∧
  (∀ a, (k0_off1481 v10494) a + S32.size a ≤ S3407872.size a) ∧
  (∀ a, (k0_off1497 v10494) a + S32.size a ≤ S3407872.size a)
theorem k0_mult765_dvd : ∀ (v10494 : BitVec 32) (k0_hw788 : k0_chk788 v10494), 8 ∣ (k0_mult765 v10494).toNat := fun v10494 k0_hw788 => k0_hw788.1
theorem k0_off1481_inb : ∀ (v10494 : BitVec 32) (k0_hw788 : k0_chk788 v10494), ∀ a, (k0_off1481 v10494) a + S32.size a ≤ S3407872.size a := fun v10494 k0_hw788 => k0_hw788.2.1
theorem k0_off1497_inb : ∀ (v10494 : BitVec 32) (k0_hw788 : k0_chk788 v10494), ∀ a, (k0_off1497 v10494) a + S32.size a ≤ S3407872.size a := fun v10494 k0_hw788 => k0_hw788.2.2

def k0_off1498 (v10503 : BitVec 32) : Fin 1 → Nat :=
  let c1703936_i32_4689 : BitVec 32 := 1703936#32
  let c32_i32_4688 : BitVec 32 := 32#32
  let v10504 : BitVec 32 := Scalar.muli v10503 c32_i32_4688
  let v10505 : BitVec 32 := Scalar.addi c1703936_i32_4689 v10504
  let v10506 : BitVec 32 := v10505
  ![v10506.toNat]

def k0_chk789 (v10503 : BitVec 32) : Prop :=
  (8 ∣ (k0_mult766 v10503).toNat) ∧
  (∀ a, (k0_off1482 v10503) a + S32.size a ≤ S3407872.size a) ∧
  (∀ a, (k0_off1498 v10503) a + S32.size a ≤ S3407872.size a)
theorem k0_mult766_dvd : ∀ (v10503 : BitVec 32) (k0_hw789 : k0_chk789 v10503), 8 ∣ (k0_mult766 v10503).toNat := fun v10503 k0_hw789 => k0_hw789.1
theorem k0_off1482_inb : ∀ (v10503 : BitVec 32) (k0_hw789 : k0_chk789 v10503), ∀ a, (k0_off1482 v10503) a + S32.size a ≤ S3407872.size a := fun v10503 k0_hw789 => k0_hw789.2.1
theorem k0_off1498_inb : ∀ (v10503 : BitVec 32) (k0_hw789 : k0_chk789 v10503), ∀ a, (k0_off1498 v10503) a + S32.size a ≤ S3407872.size a := fun v10503 k0_hw789 => k0_hw789.2.2

def k0_off1499 (v10512 : BitVec 32) : Fin 1 → Nat :=
  let c1703936_i32_4693 : BitVec 32 := 1703936#32
  let c32_i32_4692 : BitVec 32 := 32#32
  let v10513 : BitVec 32 := Scalar.muli v10512 c32_i32_4692
  let v10514 : BitVec 32 := Scalar.addi c1703936_i32_4693 v10513
  let v10515 : BitVec 32 := v10514
  ![v10515.toNat]

def k0_chk790 (v10512 : BitVec 32) : Prop :=
  (8 ∣ (k0_mult767 v10512).toNat) ∧
  (∀ a, (k0_off1483 v10512) a + S32.size a ≤ S3407872.size a) ∧
  (∀ a, (k0_off1499 v10512) a + S32.size a ≤ S3407872.size a)
theorem k0_mult767_dvd : ∀ (v10512 : BitVec 32) (k0_hw790 : k0_chk790 v10512), 8 ∣ (k0_mult767 v10512).toNat := fun v10512 k0_hw790 => k0_hw790.1
theorem k0_off1483_inb : ∀ (v10512 : BitVec 32) (k0_hw790 : k0_chk790 v10512), ∀ a, (k0_off1483 v10512) a + S32.size a ≤ S3407872.size a := fun v10512 k0_hw790 => k0_hw790.2.1
theorem k0_off1499_inb : ∀ (v10512 : BitVec 32) (k0_hw790 : k0_chk790 v10512), ∀ a, (k0_off1499 v10512) a + S32.size a ≤ S3407872.size a := fun v10512 k0_hw790 => k0_hw790.2.2

def k0_off1500 (v10521 : BitVec 32) : Fin 1 → Nat :=
  let c1703936_i32_4697 : BitVec 32 := 1703936#32
  let c32_i32_4696 : BitVec 32 := 32#32
  let v10522 : BitVec 32 := Scalar.muli v10521 c32_i32_4696
  let v10523 : BitVec 32 := Scalar.addi c1703936_i32_4697 v10522
  let v10524 : BitVec 32 := v10523
  ![v10524.toNat]

def k0_chk791 (v10521 : BitVec 32) : Prop :=
  (8 ∣ (k0_mult768 v10521).toNat) ∧
  (∀ a, (k0_off1484 v10521) a + S32.size a ≤ S3407872.size a) ∧
  (∀ a, (k0_off1500 v10521) a + S32.size a ≤ S3407872.size a)
theorem k0_mult768_dvd : ∀ (v10521 : BitVec 32) (k0_hw791 : k0_chk791 v10521), 8 ∣ (k0_mult768 v10521).toNat := fun v10521 k0_hw791 => k0_hw791.1
theorem k0_off1484_inb : ∀ (v10521 : BitVec 32) (k0_hw791 : k0_chk791 v10521), ∀ a, (k0_off1484 v10521) a + S32.size a ≤ S3407872.size a := fun v10521 k0_hw791 => k0_hw791.2.1
theorem k0_off1500_inb : ∀ (v10521 : BitVec 32) (k0_hw791 : k0_chk791 v10521), ∀ a, (k0_off1500 v10521) a + S32.size a ≤ S3407872.size a := fun v10521 k0_hw791 => k0_hw791.2.2

def k0_mult770 (v10605 : BitVec 32) : BitVec 32 :=
  let c999936_i32_4738 : BitVec 32 := 999936#32
  let v10606 : BitVec 32 := Scalar.subi v10605 c999936_i32_4738
  let c32_i32_4739 : BitVec 32 := 32#32
  let v10607 : BitVec 32 := Scalar.muli v10606 c32_i32_4739
  v10607

def k0_off1501 (v10605 : BitVec 32) : Fin 1 → Nat :=
  let c999936_i32_4738 : BitVec 32 := 999936#32
  let v10606 : BitVec 32 := Scalar.subi v10605 c999936_i32_4738
  let c32_i32_4739 : BitVec 32 := 32#32
  let v10607 : BitVec 32 := Scalar.muli v10606 c32_i32_4739
  let v10608 : BitVec 32 := v10607
  ![v10608.toNat]
def k0_mult771 (v10614 : BitVec 32) : BitVec 32 :=
  let c999936_i32_4742 : BitVec 32 := 999936#32
  let v10615 : BitVec 32 := Scalar.subi v10614 c999936_i32_4742
  let c32_i32_4743 : BitVec 32 := 32#32
  let v10616 : BitVec 32 := Scalar.muli v10615 c32_i32_4743
  v10616

def k0_off1502 (v10614 : BitVec 32) : Fin 1 → Nat :=
  let c999936_i32_4742 : BitVec 32 := 999936#32
  let v10615 : BitVec 32 := Scalar.subi v10614 c999936_i32_4742
  let c32_i32_4743 : BitVec 32 := 32#32
  let v10616 : BitVec 32 := Scalar.muli v10615 c32_i32_4743
  let v10617 : BitVec 32 := v10616
  ![v10617.toNat]
def k0_mult772 (v10623 : BitVec 32) : BitVec 32 :=
  let c999936_i32_4746 : BitVec 32 := 999936#32
  let v10624 : BitVec 32 := Scalar.subi v10623 c999936_i32_4746
  let c32_i32_4747 : BitVec 32 := 32#32
  let v10625 : BitVec 32 := Scalar.muli v10624 c32_i32_4747
  v10625

def k0_off1503 (v10623 : BitVec 32) : Fin 1 → Nat :=
  let c999936_i32_4746 : BitVec 32 := 999936#32
  let v10624 : BitVec 32 := Scalar.subi v10623 c999936_i32_4746
  let c32_i32_4747 : BitVec 32 := 32#32
  let v10625 : BitVec 32 := Scalar.muli v10624 c32_i32_4747
  let v10626 : BitVec 32 := v10625
  ![v10626.toNat]
def k0_mult773 (v10632 : BitVec 32) : BitVec 32 :=
  let c999936_i32_4750 : BitVec 32 := 999936#32
  let v10633 : BitVec 32 := Scalar.subi v10632 c999936_i32_4750
  let c32_i32_4751 : BitVec 32 := 32#32
  let v10634 : BitVec 32 := Scalar.muli v10633 c32_i32_4751
  v10634

def k0_off1504 (v10632 : BitVec 32) : Fin 1 → Nat :=
  let c999936_i32_4750 : BitVec 32 := 999936#32
  let v10633 : BitVec 32 := Scalar.subi v10632 c999936_i32_4750
  let c32_i32_4751 : BitVec 32 := 32#32
  let v10634 : BitVec 32 := Scalar.muli v10633 c32_i32_4751
  let v10635 : BitVec 32 := v10634
  ![v10635.toNat]
def k0_mult774 (v10641 : BitVec 32) : BitVec 32 :=
  let c999936_i32_4754 : BitVec 32 := 999936#32
  let v10642 : BitVec 32 := Scalar.subi v10641 c999936_i32_4754
  let c32_i32_4755 : BitVec 32 := 32#32
  let v10643 : BitVec 32 := Scalar.muli v10642 c32_i32_4755
  v10643

def k0_off1505 (v10641 : BitVec 32) : Fin 1 → Nat :=
  let c999936_i32_4754 : BitVec 32 := 999936#32
  let v10642 : BitVec 32 := Scalar.subi v10641 c999936_i32_4754
  let c32_i32_4755 : BitVec 32 := 32#32
  let v10643 : BitVec 32 := Scalar.muli v10642 c32_i32_4755
  let v10644 : BitVec 32 := v10643
  ![v10644.toNat]
def k0_mult775 (v10650 : BitVec 32) : BitVec 32 :=
  let c999936_i32_4758 : BitVec 32 := 999936#32
  let v10651 : BitVec 32 := Scalar.subi v10650 c999936_i32_4758
  let c32_i32_4759 : BitVec 32 := 32#32
  let v10652 : BitVec 32 := Scalar.muli v10651 c32_i32_4759
  v10652

def k0_off1506 (v10650 : BitVec 32) : Fin 1 → Nat :=
  let c999936_i32_4758 : BitVec 32 := 999936#32
  let v10651 : BitVec 32 := Scalar.subi v10650 c999936_i32_4758
  let c32_i32_4759 : BitVec 32 := 32#32
  let v10652 : BitVec 32 := Scalar.muli v10651 c32_i32_4759
  let v10653 : BitVec 32 := v10652
  ![v10653.toNat]
def k0_mult776 (v10659 : BitVec 32) : BitVec 32 :=
  let c999936_i32_4762 : BitVec 32 := 999936#32
  let v10660 : BitVec 32 := Scalar.subi v10659 c999936_i32_4762
  let c32_i32_4763 : BitVec 32 := 32#32
  let v10661 : BitVec 32 := Scalar.muli v10660 c32_i32_4763
  v10661

def k0_off1507 (v10659 : BitVec 32) : Fin 1 → Nat :=
  let c999936_i32_4762 : BitVec 32 := 999936#32
  let v10660 : BitVec 32 := Scalar.subi v10659 c999936_i32_4762
  let c32_i32_4763 : BitVec 32 := 32#32
  let v10661 : BitVec 32 := Scalar.muli v10660 c32_i32_4763
  let v10662 : BitVec 32 := v10661
  ![v10662.toNat]
def k0_mult777 (v10668 : BitVec 32) : BitVec 32 :=
  let c999936_i32_4766 : BitVec 32 := 999936#32
  let v10669 : BitVec 32 := Scalar.subi v10668 c999936_i32_4766
  let c32_i32_4767 : BitVec 32 := 32#32
  let v10670 : BitVec 32 := Scalar.muli v10669 c32_i32_4767
  v10670

def k0_off1508 (v10668 : BitVec 32) : Fin 1 → Nat :=
  let c999936_i32_4766 : BitVec 32 := 999936#32
  let v10669 : BitVec 32 := Scalar.subi v10668 c999936_i32_4766
  let c32_i32_4767 : BitVec 32 := 32#32
  let v10670 : BitVec 32 := Scalar.muli v10669 c32_i32_4767
  let v10671 : BitVec 32 := v10670
  ![v10671.toNat]
def k0_mult778 (v10677 : BitVec 32) : BitVec 32 :=
  let c999936_i32_4770 : BitVec 32 := 999936#32
  let v10678 : BitVec 32 := Scalar.subi v10677 c999936_i32_4770
  let c32_i32_4771 : BitVec 32 := 32#32
  let v10679 : BitVec 32 := Scalar.muli v10678 c32_i32_4771
  v10679

def k0_off1509 (v10677 : BitVec 32) : Fin 1 → Nat :=
  let c999936_i32_4770 : BitVec 32 := 999936#32
  let v10678 : BitVec 32 := Scalar.subi v10677 c999936_i32_4770
  let c32_i32_4771 : BitVec 32 := 32#32
  let v10679 : BitVec 32 := Scalar.muli v10678 c32_i32_4771
  let v10680 : BitVec 32 := v10679
  ![v10680.toNat]
def k0_mult779 (v10686 : BitVec 32) : BitVec 32 :=
  let c999936_i32_4774 : BitVec 32 := 999936#32
  let v10687 : BitVec 32 := Scalar.subi v10686 c999936_i32_4774
  let c32_i32_4775 : BitVec 32 := 32#32
  let v10688 : BitVec 32 := Scalar.muli v10687 c32_i32_4775
  v10688

def k0_off1510 (v10686 : BitVec 32) : Fin 1 → Nat :=
  let c999936_i32_4774 : BitVec 32 := 999936#32
  let v10687 : BitVec 32 := Scalar.subi v10686 c999936_i32_4774
  let c32_i32_4775 : BitVec 32 := 32#32
  let v10688 : BitVec 32 := Scalar.muli v10687 c32_i32_4775
  let v10689 : BitVec 32 := v10688
  ![v10689.toNat]
def k0_mult780 (v10695 : BitVec 32) : BitVec 32 :=
  let c999936_i32_4778 : BitVec 32 := 999936#32
  let v10696 : BitVec 32 := Scalar.subi v10695 c999936_i32_4778
  let c32_i32_4779 : BitVec 32 := 32#32
  let v10697 : BitVec 32 := Scalar.muli v10696 c32_i32_4779
  v10697

def k0_off1511 (v10695 : BitVec 32) : Fin 1 → Nat :=
  let c999936_i32_4778 : BitVec 32 := 999936#32
  let v10696 : BitVec 32 := Scalar.subi v10695 c999936_i32_4778
  let c32_i32_4779 : BitVec 32 := 32#32
  let v10697 : BitVec 32 := Scalar.muli v10696 c32_i32_4779
  let v10698 : BitVec 32 := v10697
  ![v10698.toNat]
def k0_mult781 (v10704 : BitVec 32) : BitVec 32 :=
  let c999936_i32_4782 : BitVec 32 := 999936#32
  let v10705 : BitVec 32 := Scalar.subi v10704 c999936_i32_4782
  let c32_i32_4783 : BitVec 32 := 32#32
  let v10706 : BitVec 32 := Scalar.muli v10705 c32_i32_4783
  v10706

def k0_off1512 (v10704 : BitVec 32) : Fin 1 → Nat :=
  let c999936_i32_4782 : BitVec 32 := 999936#32
  let v10705 : BitVec 32 := Scalar.subi v10704 c999936_i32_4782
  let c32_i32_4783 : BitVec 32 := 32#32
  let v10706 : BitVec 32 := Scalar.muli v10705 c32_i32_4783
  let v10707 : BitVec 32 := v10706
  ![v10707.toNat]
def k0_mult782 (v10713 : BitVec 32) : BitVec 32 :=
  let c999936_i32_4786 : BitVec 32 := 999936#32
  let v10714 : BitVec 32 := Scalar.subi v10713 c999936_i32_4786
  let c32_i32_4787 : BitVec 32 := 32#32
  let v10715 : BitVec 32 := Scalar.muli v10714 c32_i32_4787
  v10715

def k0_off1513 (v10713 : BitVec 32) : Fin 1 → Nat :=
  let c999936_i32_4786 : BitVec 32 := 999936#32
  let v10714 : BitVec 32 := Scalar.subi v10713 c999936_i32_4786
  let c32_i32_4787 : BitVec 32 := 32#32
  let v10715 : BitVec 32 := Scalar.muli v10714 c32_i32_4787
  let v10716 : BitVec 32 := v10715
  ![v10716.toNat]
def k0_mult783 (v10722 : BitVec 32) : BitVec 32 :=
  let c999936_i32_4790 : BitVec 32 := 999936#32
  let v10723 : BitVec 32 := Scalar.subi v10722 c999936_i32_4790
  let c32_i32_4791 : BitVec 32 := 32#32
  let v10724 : BitVec 32 := Scalar.muli v10723 c32_i32_4791
  v10724

def k0_off1514 (v10722 : BitVec 32) : Fin 1 → Nat :=
  let c999936_i32_4790 : BitVec 32 := 999936#32
  let v10723 : BitVec 32 := Scalar.subi v10722 c999936_i32_4790
  let c32_i32_4791 : BitVec 32 := 32#32
  let v10724 : BitVec 32 := Scalar.muli v10723 c32_i32_4791
  let v10725 : BitVec 32 := v10724
  ![v10725.toNat]
def k0_mult784 (v10731 : BitVec 32) : BitVec 32 :=
  let c999936_i32_4794 : BitVec 32 := 999936#32
  let v10732 : BitVec 32 := Scalar.subi v10731 c999936_i32_4794
  let c32_i32_4795 : BitVec 32 := 32#32
  let v10733 : BitVec 32 := Scalar.muli v10732 c32_i32_4795
  v10733

def k0_off1515 (v10731 : BitVec 32) : Fin 1 → Nat :=
  let c999936_i32_4794 : BitVec 32 := 999936#32
  let v10732 : BitVec 32 := Scalar.subi v10731 c999936_i32_4794
  let c32_i32_4795 : BitVec 32 := 32#32
  let v10733 : BitVec 32 := Scalar.muli v10732 c32_i32_4795
  let v10734 : BitVec 32 := v10733
  ![v10734.toNat]
def k0_mult785 (v10740 : BitVec 32) : BitVec 32 :=
  let c999936_i32_4798 : BitVec 32 := 999936#32
  let v10741 : BitVec 32 := Scalar.subi v10740 c999936_i32_4798
  let c32_i32_4799 : BitVec 32 := 32#32
  let v10742 : BitVec 32 := Scalar.muli v10741 c32_i32_4799
  v10742

def k0_off1516 (v10740 : BitVec 32) : Fin 1 → Nat :=
  let c999936_i32_4798 : BitVec 32 := 999936#32
  let v10741 : BitVec 32 := Scalar.subi v10740 c999936_i32_4798
  let c32_i32_4799 : BitVec 32 := 32#32
  let v10742 : BitVec 32 := Scalar.muli v10741 c32_i32_4799
  let v10743 : BitVec 32 := v10742
  ![v10743.toNat]

def k0_chk808 (v10740 : BitVec 32) : Prop :=
  (8 ∣ (k0_mult785 v10740).toNat) ∧
  (∀ a, (k0_off1516 v10740) a + S32.size a ≤ S2048.size a)
theorem k0_mult785_dvd : ∀ (v10740 : BitVec 32) (k0_hw808 : k0_chk808 v10740), 8 ∣ (k0_mult785 v10740).toNat := fun v10740 k0_hw808 => k0_hw808.1
theorem k0_off1516_inb : ∀ (v10740 : BitVec 32) (k0_hw808 : k0_chk808 v10740), ∀ a, (k0_off1516 v10740) a + S32.size a ≤ S2048.size a := fun v10740 k0_hw808 => k0_hw808.2

def k0_off1517 (v10605 : BitVec 32) : Fin 1 → Nat :=
  let c999936_i32_4738 : BitVec 32 := 999936#32
  let v10606 : BitVec 32 := Scalar.subi v10605 c999936_i32_4738
  let c32_i32_4739 : BitVec 32 := 32#32
  let v10607 : BitVec 32 := Scalar.muli v10606 c32_i32_4739
  let v10608 : BitVec 32 := v10607
  ![v10608.toNat]

def k0_chk793 (v10605 : BitVec 32) : Prop :=
  (8 ∣ (k0_mult770 v10605).toNat) ∧
  (∀ a, (k0_off1501 v10605) a + S32.size a ≤ S2048.size a) ∧
  (∀ a, (k0_off1517 v10605) a + S32.size a ≤ S2048.size a)
theorem k0_mult770_dvd : ∀ (v10605 : BitVec 32) (k0_hw793 : k0_chk793 v10605), 8 ∣ (k0_mult770 v10605).toNat := fun v10605 k0_hw793 => k0_hw793.1
theorem k0_off1501_inb : ∀ (v10605 : BitVec 32) (k0_hw793 : k0_chk793 v10605), ∀ a, (k0_off1501 v10605) a + S32.size a ≤ S2048.size a := fun v10605 k0_hw793 => k0_hw793.2.1
theorem k0_off1517_inb : ∀ (v10605 : BitVec 32) (k0_hw793 : k0_chk793 v10605), ∀ a, (k0_off1517 v10605) a + S32.size a ≤ S2048.size a := fun v10605 k0_hw793 => k0_hw793.2.2

def k0_off1518 (v10614 : BitVec 32) : Fin 1 → Nat :=
  let c999936_i32_4742 : BitVec 32 := 999936#32
  let v10615 : BitVec 32 := Scalar.subi v10614 c999936_i32_4742
  let c32_i32_4743 : BitVec 32 := 32#32
  let v10616 : BitVec 32 := Scalar.muli v10615 c32_i32_4743
  let v10617 : BitVec 32 := v10616
  ![v10617.toNat]

def k0_chk794 (v10614 : BitVec 32) : Prop :=
  (8 ∣ (k0_mult771 v10614).toNat) ∧
  (∀ a, (k0_off1502 v10614) a + S32.size a ≤ S2048.size a) ∧
  (∀ a, (k0_off1518 v10614) a + S32.size a ≤ S2048.size a)
theorem k0_mult771_dvd : ∀ (v10614 : BitVec 32) (k0_hw794 : k0_chk794 v10614), 8 ∣ (k0_mult771 v10614).toNat := fun v10614 k0_hw794 => k0_hw794.1
theorem k0_off1502_inb : ∀ (v10614 : BitVec 32) (k0_hw794 : k0_chk794 v10614), ∀ a, (k0_off1502 v10614) a + S32.size a ≤ S2048.size a := fun v10614 k0_hw794 => k0_hw794.2.1
theorem k0_off1518_inb : ∀ (v10614 : BitVec 32) (k0_hw794 : k0_chk794 v10614), ∀ a, (k0_off1518 v10614) a + S32.size a ≤ S2048.size a := fun v10614 k0_hw794 => k0_hw794.2.2

def k0_off1519 (v10623 : BitVec 32) : Fin 1 → Nat :=
  let c999936_i32_4746 : BitVec 32 := 999936#32
  let v10624 : BitVec 32 := Scalar.subi v10623 c999936_i32_4746
  let c32_i32_4747 : BitVec 32 := 32#32
  let v10625 : BitVec 32 := Scalar.muli v10624 c32_i32_4747
  let v10626 : BitVec 32 := v10625
  ![v10626.toNat]

def k0_chk795 (v10623 : BitVec 32) : Prop :=
  (8 ∣ (k0_mult772 v10623).toNat) ∧
  (∀ a, (k0_off1503 v10623) a + S32.size a ≤ S2048.size a) ∧
  (∀ a, (k0_off1519 v10623) a + S32.size a ≤ S2048.size a)
theorem k0_mult772_dvd : ∀ (v10623 : BitVec 32) (k0_hw795 : k0_chk795 v10623), 8 ∣ (k0_mult772 v10623).toNat := fun v10623 k0_hw795 => k0_hw795.1
theorem k0_off1503_inb : ∀ (v10623 : BitVec 32) (k0_hw795 : k0_chk795 v10623), ∀ a, (k0_off1503 v10623) a + S32.size a ≤ S2048.size a := fun v10623 k0_hw795 => k0_hw795.2.1
theorem k0_off1519_inb : ∀ (v10623 : BitVec 32) (k0_hw795 : k0_chk795 v10623), ∀ a, (k0_off1519 v10623) a + S32.size a ≤ S2048.size a := fun v10623 k0_hw795 => k0_hw795.2.2

def k0_off1520 (v10632 : BitVec 32) : Fin 1 → Nat :=
  let c999936_i32_4750 : BitVec 32 := 999936#32
  let v10633 : BitVec 32 := Scalar.subi v10632 c999936_i32_4750
  let c32_i32_4751 : BitVec 32 := 32#32
  let v10634 : BitVec 32 := Scalar.muli v10633 c32_i32_4751
  let v10635 : BitVec 32 := v10634
  ![v10635.toNat]

def k0_chk796 (v10632 : BitVec 32) : Prop :=
  (8 ∣ (k0_mult773 v10632).toNat) ∧
  (∀ a, (k0_off1504 v10632) a + S32.size a ≤ S2048.size a) ∧
  (∀ a, (k0_off1520 v10632) a + S32.size a ≤ S2048.size a)
theorem k0_mult773_dvd : ∀ (v10632 : BitVec 32) (k0_hw796 : k0_chk796 v10632), 8 ∣ (k0_mult773 v10632).toNat := fun v10632 k0_hw796 => k0_hw796.1
theorem k0_off1504_inb : ∀ (v10632 : BitVec 32) (k0_hw796 : k0_chk796 v10632), ∀ a, (k0_off1504 v10632) a + S32.size a ≤ S2048.size a := fun v10632 k0_hw796 => k0_hw796.2.1
theorem k0_off1520_inb : ∀ (v10632 : BitVec 32) (k0_hw796 : k0_chk796 v10632), ∀ a, (k0_off1520 v10632) a + S32.size a ≤ S2048.size a := fun v10632 k0_hw796 => k0_hw796.2.2

def k0_off1521 (v10641 : BitVec 32) : Fin 1 → Nat :=
  let c999936_i32_4754 : BitVec 32 := 999936#32
  let v10642 : BitVec 32 := Scalar.subi v10641 c999936_i32_4754
  let c32_i32_4755 : BitVec 32 := 32#32
  let v10643 : BitVec 32 := Scalar.muli v10642 c32_i32_4755
  let v10644 : BitVec 32 := v10643
  ![v10644.toNat]

def k0_chk797 (v10641 : BitVec 32) : Prop :=
  (8 ∣ (k0_mult774 v10641).toNat) ∧
  (∀ a, (k0_off1505 v10641) a + S32.size a ≤ S2048.size a) ∧
  (∀ a, (k0_off1521 v10641) a + S32.size a ≤ S2048.size a)
theorem k0_mult774_dvd : ∀ (v10641 : BitVec 32) (k0_hw797 : k0_chk797 v10641), 8 ∣ (k0_mult774 v10641).toNat := fun v10641 k0_hw797 => k0_hw797.1
theorem k0_off1505_inb : ∀ (v10641 : BitVec 32) (k0_hw797 : k0_chk797 v10641), ∀ a, (k0_off1505 v10641) a + S32.size a ≤ S2048.size a := fun v10641 k0_hw797 => k0_hw797.2.1
theorem k0_off1521_inb : ∀ (v10641 : BitVec 32) (k0_hw797 : k0_chk797 v10641), ∀ a, (k0_off1521 v10641) a + S32.size a ≤ S2048.size a := fun v10641 k0_hw797 => k0_hw797.2.2

def k0_off1522 (v10650 : BitVec 32) : Fin 1 → Nat :=
  let c999936_i32_4758 : BitVec 32 := 999936#32
  let v10651 : BitVec 32 := Scalar.subi v10650 c999936_i32_4758
  let c32_i32_4759 : BitVec 32 := 32#32
  let v10652 : BitVec 32 := Scalar.muli v10651 c32_i32_4759
  let v10653 : BitVec 32 := v10652
  ![v10653.toNat]

def k0_chk798 (v10650 : BitVec 32) : Prop :=
  (8 ∣ (k0_mult775 v10650).toNat) ∧
  (∀ a, (k0_off1506 v10650) a + S32.size a ≤ S2048.size a) ∧
  (∀ a, (k0_off1522 v10650) a + S32.size a ≤ S2048.size a)
theorem k0_mult775_dvd : ∀ (v10650 : BitVec 32) (k0_hw798 : k0_chk798 v10650), 8 ∣ (k0_mult775 v10650).toNat := fun v10650 k0_hw798 => k0_hw798.1
theorem k0_off1506_inb : ∀ (v10650 : BitVec 32) (k0_hw798 : k0_chk798 v10650), ∀ a, (k0_off1506 v10650) a + S32.size a ≤ S2048.size a := fun v10650 k0_hw798 => k0_hw798.2.1
theorem k0_off1522_inb : ∀ (v10650 : BitVec 32) (k0_hw798 : k0_chk798 v10650), ∀ a, (k0_off1522 v10650) a + S32.size a ≤ S2048.size a := fun v10650 k0_hw798 => k0_hw798.2.2

def k0_off1523 (v10659 : BitVec 32) : Fin 1 → Nat :=
  let c999936_i32_4762 : BitVec 32 := 999936#32
  let v10660 : BitVec 32 := Scalar.subi v10659 c999936_i32_4762
  let c32_i32_4763 : BitVec 32 := 32#32
  let v10661 : BitVec 32 := Scalar.muli v10660 c32_i32_4763
  let v10662 : BitVec 32 := v10661
  ![v10662.toNat]

def k0_chk799 (v10659 : BitVec 32) : Prop :=
  (8 ∣ (k0_mult776 v10659).toNat) ∧
  (∀ a, (k0_off1507 v10659) a + S32.size a ≤ S2048.size a) ∧
  (∀ a, (k0_off1523 v10659) a + S32.size a ≤ S2048.size a)
theorem k0_mult776_dvd : ∀ (v10659 : BitVec 32) (k0_hw799 : k0_chk799 v10659), 8 ∣ (k0_mult776 v10659).toNat := fun v10659 k0_hw799 => k0_hw799.1
theorem k0_off1507_inb : ∀ (v10659 : BitVec 32) (k0_hw799 : k0_chk799 v10659), ∀ a, (k0_off1507 v10659) a + S32.size a ≤ S2048.size a := fun v10659 k0_hw799 => k0_hw799.2.1
theorem k0_off1523_inb : ∀ (v10659 : BitVec 32) (k0_hw799 : k0_chk799 v10659), ∀ a, (k0_off1523 v10659) a + S32.size a ≤ S2048.size a := fun v10659 k0_hw799 => k0_hw799.2.2

def k0_off1524 (v10668 : BitVec 32) : Fin 1 → Nat :=
  let c999936_i32_4766 : BitVec 32 := 999936#32
  let v10669 : BitVec 32 := Scalar.subi v10668 c999936_i32_4766
  let c32_i32_4767 : BitVec 32 := 32#32
  let v10670 : BitVec 32 := Scalar.muli v10669 c32_i32_4767
  let v10671 : BitVec 32 := v10670
  ![v10671.toNat]

def k0_chk800 (v10668 : BitVec 32) : Prop :=
  (8 ∣ (k0_mult777 v10668).toNat) ∧
  (∀ a, (k0_off1508 v10668) a + S32.size a ≤ S2048.size a) ∧
  (∀ a, (k0_off1524 v10668) a + S32.size a ≤ S2048.size a)
theorem k0_mult777_dvd : ∀ (v10668 : BitVec 32) (k0_hw800 : k0_chk800 v10668), 8 ∣ (k0_mult777 v10668).toNat := fun v10668 k0_hw800 => k0_hw800.1
theorem k0_off1508_inb : ∀ (v10668 : BitVec 32) (k0_hw800 : k0_chk800 v10668), ∀ a, (k0_off1508 v10668) a + S32.size a ≤ S2048.size a := fun v10668 k0_hw800 => k0_hw800.2.1
theorem k0_off1524_inb : ∀ (v10668 : BitVec 32) (k0_hw800 : k0_chk800 v10668), ∀ a, (k0_off1524 v10668) a + S32.size a ≤ S2048.size a := fun v10668 k0_hw800 => k0_hw800.2.2

def k0_off1525 (v10677 : BitVec 32) : Fin 1 → Nat :=
  let c999936_i32_4770 : BitVec 32 := 999936#32
  let v10678 : BitVec 32 := Scalar.subi v10677 c999936_i32_4770
  let c32_i32_4771 : BitVec 32 := 32#32
  let v10679 : BitVec 32 := Scalar.muli v10678 c32_i32_4771
  let v10680 : BitVec 32 := v10679
  ![v10680.toNat]

def k0_chk801 (v10677 : BitVec 32) : Prop :=
  (8 ∣ (k0_mult778 v10677).toNat) ∧
  (∀ a, (k0_off1509 v10677) a + S32.size a ≤ S2048.size a) ∧
  (∀ a, (k0_off1525 v10677) a + S32.size a ≤ S2048.size a)
theorem k0_mult778_dvd : ∀ (v10677 : BitVec 32) (k0_hw801 : k0_chk801 v10677), 8 ∣ (k0_mult778 v10677).toNat := fun v10677 k0_hw801 => k0_hw801.1
theorem k0_off1509_inb : ∀ (v10677 : BitVec 32) (k0_hw801 : k0_chk801 v10677), ∀ a, (k0_off1509 v10677) a + S32.size a ≤ S2048.size a := fun v10677 k0_hw801 => k0_hw801.2.1
theorem k0_off1525_inb : ∀ (v10677 : BitVec 32) (k0_hw801 : k0_chk801 v10677), ∀ a, (k0_off1525 v10677) a + S32.size a ≤ S2048.size a := fun v10677 k0_hw801 => k0_hw801.2.2

def k0_off1526 (v10686 : BitVec 32) : Fin 1 → Nat :=
  let c999936_i32_4774 : BitVec 32 := 999936#32
  let v10687 : BitVec 32 := Scalar.subi v10686 c999936_i32_4774
  let c32_i32_4775 : BitVec 32 := 32#32
  let v10688 : BitVec 32 := Scalar.muli v10687 c32_i32_4775
  let v10689 : BitVec 32 := v10688
  ![v10689.toNat]

def k0_chk802 (v10686 : BitVec 32) : Prop :=
  (8 ∣ (k0_mult779 v10686).toNat) ∧
  (∀ a, (k0_off1510 v10686) a + S32.size a ≤ S2048.size a) ∧
  (∀ a, (k0_off1526 v10686) a + S32.size a ≤ S2048.size a)
theorem k0_mult779_dvd : ∀ (v10686 : BitVec 32) (k0_hw802 : k0_chk802 v10686), 8 ∣ (k0_mult779 v10686).toNat := fun v10686 k0_hw802 => k0_hw802.1
theorem k0_off1510_inb : ∀ (v10686 : BitVec 32) (k0_hw802 : k0_chk802 v10686), ∀ a, (k0_off1510 v10686) a + S32.size a ≤ S2048.size a := fun v10686 k0_hw802 => k0_hw802.2.1
theorem k0_off1526_inb : ∀ (v10686 : BitVec 32) (k0_hw802 : k0_chk802 v10686), ∀ a, (k0_off1526 v10686) a + S32.size a ≤ S2048.size a := fun v10686 k0_hw802 => k0_hw802.2.2

def k0_off1527 (v10695 : BitVec 32) : Fin 1 → Nat :=
  let c999936_i32_4778 : BitVec 32 := 999936#32
  let v10696 : BitVec 32 := Scalar.subi v10695 c999936_i32_4778
  let c32_i32_4779 : BitVec 32 := 32#32
  let v10697 : BitVec 32 := Scalar.muli v10696 c32_i32_4779
  let v10698 : BitVec 32 := v10697
  ![v10698.toNat]

def k0_chk803 (v10695 : BitVec 32) : Prop :=
  (8 ∣ (k0_mult780 v10695).toNat) ∧
  (∀ a, (k0_off1511 v10695) a + S32.size a ≤ S2048.size a) ∧
  (∀ a, (k0_off1527 v10695) a + S32.size a ≤ S2048.size a)
theorem k0_mult780_dvd : ∀ (v10695 : BitVec 32) (k0_hw803 : k0_chk803 v10695), 8 ∣ (k0_mult780 v10695).toNat := fun v10695 k0_hw803 => k0_hw803.1
theorem k0_off1511_inb : ∀ (v10695 : BitVec 32) (k0_hw803 : k0_chk803 v10695), ∀ a, (k0_off1511 v10695) a + S32.size a ≤ S2048.size a := fun v10695 k0_hw803 => k0_hw803.2.1
theorem k0_off1527_inb : ∀ (v10695 : BitVec 32) (k0_hw803 : k0_chk803 v10695), ∀ a, (k0_off1527 v10695) a + S32.size a ≤ S2048.size a := fun v10695 k0_hw803 => k0_hw803.2.2

def k0_off1528 (v10704 : BitVec 32) : Fin 1 → Nat :=
  let c999936_i32_4782 : BitVec 32 := 999936#32
  let v10705 : BitVec 32 := Scalar.subi v10704 c999936_i32_4782
  let c32_i32_4783 : BitVec 32 := 32#32
  let v10706 : BitVec 32 := Scalar.muli v10705 c32_i32_4783
  let v10707 : BitVec 32 := v10706
  ![v10707.toNat]

def k0_chk804 (v10704 : BitVec 32) : Prop :=
  (8 ∣ (k0_mult781 v10704).toNat) ∧
  (∀ a, (k0_off1512 v10704) a + S32.size a ≤ S2048.size a) ∧
  (∀ a, (k0_off1528 v10704) a + S32.size a ≤ S2048.size a)
theorem k0_mult781_dvd : ∀ (v10704 : BitVec 32) (k0_hw804 : k0_chk804 v10704), 8 ∣ (k0_mult781 v10704).toNat := fun v10704 k0_hw804 => k0_hw804.1
theorem k0_off1512_inb : ∀ (v10704 : BitVec 32) (k0_hw804 : k0_chk804 v10704), ∀ a, (k0_off1512 v10704) a + S32.size a ≤ S2048.size a := fun v10704 k0_hw804 => k0_hw804.2.1
theorem k0_off1528_inb : ∀ (v10704 : BitVec 32) (k0_hw804 : k0_chk804 v10704), ∀ a, (k0_off1528 v10704) a + S32.size a ≤ S2048.size a := fun v10704 k0_hw804 => k0_hw804.2.2

def k0_off1529 (v10713 : BitVec 32) : Fin 1 → Nat :=
  let c999936_i32_4786 : BitVec 32 := 999936#32
  let v10714 : BitVec 32 := Scalar.subi v10713 c999936_i32_4786
  let c32_i32_4787 : BitVec 32 := 32#32
  let v10715 : BitVec 32 := Scalar.muli v10714 c32_i32_4787
  let v10716 : BitVec 32 := v10715
  ![v10716.toNat]

def k0_chk805 (v10713 : BitVec 32) : Prop :=
  (8 ∣ (k0_mult782 v10713).toNat) ∧
  (∀ a, (k0_off1513 v10713) a + S32.size a ≤ S2048.size a) ∧
  (∀ a, (k0_off1529 v10713) a + S32.size a ≤ S2048.size a)
theorem k0_mult782_dvd : ∀ (v10713 : BitVec 32) (k0_hw805 : k0_chk805 v10713), 8 ∣ (k0_mult782 v10713).toNat := fun v10713 k0_hw805 => k0_hw805.1
theorem k0_off1513_inb : ∀ (v10713 : BitVec 32) (k0_hw805 : k0_chk805 v10713), ∀ a, (k0_off1513 v10713) a + S32.size a ≤ S2048.size a := fun v10713 k0_hw805 => k0_hw805.2.1
theorem k0_off1529_inb : ∀ (v10713 : BitVec 32) (k0_hw805 : k0_chk805 v10713), ∀ a, (k0_off1529 v10713) a + S32.size a ≤ S2048.size a := fun v10713 k0_hw805 => k0_hw805.2.2

def k0_off1530 (v10722 : BitVec 32) : Fin 1 → Nat :=
  let c999936_i32_4790 : BitVec 32 := 999936#32
  let v10723 : BitVec 32 := Scalar.subi v10722 c999936_i32_4790
  let c32_i32_4791 : BitVec 32 := 32#32
  let v10724 : BitVec 32 := Scalar.muli v10723 c32_i32_4791
  let v10725 : BitVec 32 := v10724
  ![v10725.toNat]

def k0_chk806 (v10722 : BitVec 32) : Prop :=
  (8 ∣ (k0_mult783 v10722).toNat) ∧
  (∀ a, (k0_off1514 v10722) a + S32.size a ≤ S2048.size a) ∧
  (∀ a, (k0_off1530 v10722) a + S32.size a ≤ S2048.size a)
theorem k0_mult783_dvd : ∀ (v10722 : BitVec 32) (k0_hw806 : k0_chk806 v10722), 8 ∣ (k0_mult783 v10722).toNat := fun v10722 k0_hw806 => k0_hw806.1
theorem k0_off1514_inb : ∀ (v10722 : BitVec 32) (k0_hw806 : k0_chk806 v10722), ∀ a, (k0_off1514 v10722) a + S32.size a ≤ S2048.size a := fun v10722 k0_hw806 => k0_hw806.2.1
theorem k0_off1530_inb : ∀ (v10722 : BitVec 32) (k0_hw806 : k0_chk806 v10722), ∀ a, (k0_off1530 v10722) a + S32.size a ≤ S2048.size a := fun v10722 k0_hw806 => k0_hw806.2.2

def k0_off1531 (v10731 : BitVec 32) : Fin 1 → Nat :=
  let c999936_i32_4794 : BitVec 32 := 999936#32
  let v10732 : BitVec 32 := Scalar.subi v10731 c999936_i32_4794
  let c32_i32_4795 : BitVec 32 := 32#32
  let v10733 : BitVec 32 := Scalar.muli v10732 c32_i32_4795
  let v10734 : BitVec 32 := v10733
  ![v10734.toNat]

def k0_chk807 (v10731 : BitVec 32) : Prop :=
  (8 ∣ (k0_mult784 v10731).toNat) ∧
  (∀ a, (k0_off1515 v10731) a + S32.size a ≤ S2048.size a) ∧
  (∀ a, (k0_off1531 v10731) a + S32.size a ≤ S2048.size a)
theorem k0_mult784_dvd : ∀ (v10731 : BitVec 32) (k0_hw807 : k0_chk807 v10731), 8 ∣ (k0_mult784 v10731).toNat := fun v10731 k0_hw807 => k0_hw807.1
theorem k0_off1515_inb : ∀ (v10731 : BitVec 32) (k0_hw807 : k0_chk807 v10731), ∀ a, (k0_off1515 v10731) a + S32.size a ≤ S2048.size a := fun v10731 k0_hw807 => k0_hw807.2.1
theorem k0_off1531_inb : ∀ (v10731 : BitVec 32) (k0_hw807 : k0_chk807 v10731), ∀ a, (k0_off1531 v10731) a + S32.size a ≤ S2048.size a := fun v10731 k0_hw807 => k0_hw807.2.2

def k0_mult786 (v10813 : BitVec 32) : BitVec 32 :=
  let c1703936_i32_4835 : BitVec 32 := 1703936#32
  let c32_i32_4834 : BitVec 32 := 32#32
  let v10814 : BitVec 32 := Scalar.muli v10813 c32_i32_4834
  let v10815 : BitVec 32 := Scalar.addi c1703936_i32_4835 v10814
  v10815

def k0_off1532 (v10813 : BitVec 32) : Fin 1 → Nat :=
  let c1703936_i32_4835 : BitVec 32 := 1703936#32
  let c32_i32_4834 : BitVec 32 := 32#32
  let v10814 : BitVec 32 := Scalar.muli v10813 c32_i32_4834
  let v10815 : BitVec 32 := Scalar.addi c1703936_i32_4835 v10814
  let v10816 : BitVec 32 := v10815
  ![v10816.toNat]
def k0_mult787 (v10822 : BitVec 32) : BitVec 32 :=
  let c1703936_i32_4839 : BitVec 32 := 1703936#32
  let c32_i32_4838 : BitVec 32 := 32#32
  let v10823 : BitVec 32 := Scalar.muli v10822 c32_i32_4838
  let v10824 : BitVec 32 := Scalar.addi c1703936_i32_4839 v10823
  v10824

def k0_off1533 (v10822 : BitVec 32) : Fin 1 → Nat :=
  let c1703936_i32_4839 : BitVec 32 := 1703936#32
  let c32_i32_4838 : BitVec 32 := 32#32
  let v10823 : BitVec 32 := Scalar.muli v10822 c32_i32_4838
  let v10824 : BitVec 32 := Scalar.addi c1703936_i32_4839 v10823
  let v10825 : BitVec 32 := v10824
  ![v10825.toNat]
def k0_mult788 (v10831 : BitVec 32) : BitVec 32 :=
  let c1703936_i32_4843 : BitVec 32 := 1703936#32
  let c32_i32_4842 : BitVec 32 := 32#32
  let v10832 : BitVec 32 := Scalar.muli v10831 c32_i32_4842
  let v10833 : BitVec 32 := Scalar.addi c1703936_i32_4843 v10832
  v10833

def k0_off1534 (v10831 : BitVec 32) : Fin 1 → Nat :=
  let c1703936_i32_4843 : BitVec 32 := 1703936#32
  let c32_i32_4842 : BitVec 32 := 32#32
  let v10832 : BitVec 32 := Scalar.muli v10831 c32_i32_4842
  let v10833 : BitVec 32 := Scalar.addi c1703936_i32_4843 v10832
  let v10834 : BitVec 32 := v10833
  ![v10834.toNat]
def k0_mult789 (v10840 : BitVec 32) : BitVec 32 :=
  let c1703936_i32_4847 : BitVec 32 := 1703936#32
  let c32_i32_4846 : BitVec 32 := 32#32
  let v10841 : BitVec 32 := Scalar.muli v10840 c32_i32_4846
  let v10842 : BitVec 32 := Scalar.addi c1703936_i32_4847 v10841
  v10842

def k0_off1535 (v10840 : BitVec 32) : Fin 1 → Nat :=
  let c1703936_i32_4847 : BitVec 32 := 1703936#32
  let c32_i32_4846 : BitVec 32 := 32#32
  let v10841 : BitVec 32 := Scalar.muli v10840 c32_i32_4846
  let v10842 : BitVec 32 := Scalar.addi c1703936_i32_4847 v10841
  let v10843 : BitVec 32 := v10842
  ![v10843.toNat]
def k0_mult790 (v10849 : BitVec 32) : BitVec 32 :=
  let c1703936_i32_4851 : BitVec 32 := 1703936#32
  let c32_i32_4850 : BitVec 32 := 32#32
  let v10850 : BitVec 32 := Scalar.muli v10849 c32_i32_4850
  let v10851 : BitVec 32 := Scalar.addi c1703936_i32_4851 v10850
  v10851

def k0_off1536 (v10849 : BitVec 32) : Fin 1 → Nat :=
  let c1703936_i32_4851 : BitVec 32 := 1703936#32
  let c32_i32_4850 : BitVec 32 := 32#32
  let v10850 : BitVec 32 := Scalar.muli v10849 c32_i32_4850
  let v10851 : BitVec 32 := Scalar.addi c1703936_i32_4851 v10850
  let v10852 : BitVec 32 := v10851
  ![v10852.toNat]
def k0_mult791 (v10858 : BitVec 32) : BitVec 32 :=
  let c1703936_i32_4855 : BitVec 32 := 1703936#32
  let c32_i32_4854 : BitVec 32 := 32#32
  let v10859 : BitVec 32 := Scalar.muli v10858 c32_i32_4854
  let v10860 : BitVec 32 := Scalar.addi c1703936_i32_4855 v10859
  v10860

def k0_off1537 (v10858 : BitVec 32) : Fin 1 → Nat :=
  let c1703936_i32_4855 : BitVec 32 := 1703936#32
  let c32_i32_4854 : BitVec 32 := 32#32
  let v10859 : BitVec 32 := Scalar.muli v10858 c32_i32_4854
  let v10860 : BitVec 32 := Scalar.addi c1703936_i32_4855 v10859
  let v10861 : BitVec 32 := v10860
  ![v10861.toNat]
def k0_mult792 (v10867 : BitVec 32) : BitVec 32 :=
  let c1703936_i32_4859 : BitVec 32 := 1703936#32
  let c32_i32_4858 : BitVec 32 := 32#32
  let v10868 : BitVec 32 := Scalar.muli v10867 c32_i32_4858
  let v10869 : BitVec 32 := Scalar.addi c1703936_i32_4859 v10868
  v10869

def k0_off1538 (v10867 : BitVec 32) : Fin 1 → Nat :=
  let c1703936_i32_4859 : BitVec 32 := 1703936#32
  let c32_i32_4858 : BitVec 32 := 32#32
  let v10868 : BitVec 32 := Scalar.muli v10867 c32_i32_4858
  let v10869 : BitVec 32 := Scalar.addi c1703936_i32_4859 v10868
  let v10870 : BitVec 32 := v10869
  ![v10870.toNat]
def k0_mult793 (v10876 : BitVec 32) : BitVec 32 :=
  let c1703936_i32_4863 : BitVec 32 := 1703936#32
  let c32_i32_4862 : BitVec 32 := 32#32
  let v10877 : BitVec 32 := Scalar.muli v10876 c32_i32_4862
  let v10878 : BitVec 32 := Scalar.addi c1703936_i32_4863 v10877
  v10878

def k0_off1539 (v10876 : BitVec 32) : Fin 1 → Nat :=
  let c1703936_i32_4863 : BitVec 32 := 1703936#32
  let c32_i32_4862 : BitVec 32 := 32#32
  let v10877 : BitVec 32 := Scalar.muli v10876 c32_i32_4862
  let v10878 : BitVec 32 := Scalar.addi c1703936_i32_4863 v10877
  let v10879 : BitVec 32 := v10878
  ![v10879.toNat]
def k0_mult794 (v10885 : BitVec 32) : BitVec 32 :=
  let c1703936_i32_4867 : BitVec 32 := 1703936#32
  let c32_i32_4866 : BitVec 32 := 32#32
  let v10886 : BitVec 32 := Scalar.muli v10885 c32_i32_4866
  let v10887 : BitVec 32 := Scalar.addi c1703936_i32_4867 v10886
  v10887

def k0_off1540 (v10885 : BitVec 32) : Fin 1 → Nat :=
  let c1703936_i32_4867 : BitVec 32 := 1703936#32
  let c32_i32_4866 : BitVec 32 := 32#32
  let v10886 : BitVec 32 := Scalar.muli v10885 c32_i32_4866
  let v10887 : BitVec 32 := Scalar.addi c1703936_i32_4867 v10886
  let v10888 : BitVec 32 := v10887
  ![v10888.toNat]
def k0_mult795 (v10894 : BitVec 32) : BitVec 32 :=
  let c1703936_i32_4871 : BitVec 32 := 1703936#32
  let c32_i32_4870 : BitVec 32 := 32#32
  let v10895 : BitVec 32 := Scalar.muli v10894 c32_i32_4870
  let v10896 : BitVec 32 := Scalar.addi c1703936_i32_4871 v10895
  v10896

def k0_off1541 (v10894 : BitVec 32) : Fin 1 → Nat :=
  let c1703936_i32_4871 : BitVec 32 := 1703936#32
  let c32_i32_4870 : BitVec 32 := 32#32
  let v10895 : BitVec 32 := Scalar.muli v10894 c32_i32_4870
  let v10896 : BitVec 32 := Scalar.addi c1703936_i32_4871 v10895
  let v10897 : BitVec 32 := v10896
  ![v10897.toNat]
def k0_mult796 (v10903 : BitVec 32) : BitVec 32 :=
  let c1703936_i32_4875 : BitVec 32 := 1703936#32
  let c32_i32_4874 : BitVec 32 := 32#32
  let v10904 : BitVec 32 := Scalar.muli v10903 c32_i32_4874
  let v10905 : BitVec 32 := Scalar.addi c1703936_i32_4875 v10904
  v10905

def k0_off1542 (v10903 : BitVec 32) : Fin 1 → Nat :=
  let c1703936_i32_4875 : BitVec 32 := 1703936#32
  let c32_i32_4874 : BitVec 32 := 32#32
  let v10904 : BitVec 32 := Scalar.muli v10903 c32_i32_4874
  let v10905 : BitVec 32 := Scalar.addi c1703936_i32_4875 v10904
  let v10906 : BitVec 32 := v10905
  ![v10906.toNat]
def k0_mult797 (v10912 : BitVec 32) : BitVec 32 :=
  let c1703936_i32_4879 : BitVec 32 := 1703936#32
  let c32_i32_4878 : BitVec 32 := 32#32
  let v10913 : BitVec 32 := Scalar.muli v10912 c32_i32_4878
  let v10914 : BitVec 32 := Scalar.addi c1703936_i32_4879 v10913
  v10914

def k0_off1543 (v10912 : BitVec 32) : Fin 1 → Nat :=
  let c1703936_i32_4879 : BitVec 32 := 1703936#32
  let c32_i32_4878 : BitVec 32 := 32#32
  let v10913 : BitVec 32 := Scalar.muli v10912 c32_i32_4878
  let v10914 : BitVec 32 := Scalar.addi c1703936_i32_4879 v10913
  let v10915 : BitVec 32 := v10914
  ![v10915.toNat]
def k0_mult798 (v10921 : BitVec 32) : BitVec 32 :=
  let c1703936_i32_4883 : BitVec 32 := 1703936#32
  let c32_i32_4882 : BitVec 32 := 32#32
  let v10922 : BitVec 32 := Scalar.muli v10921 c32_i32_4882
  let v10923 : BitVec 32 := Scalar.addi c1703936_i32_4883 v10922
  v10923

def k0_off1544 (v10921 : BitVec 32) : Fin 1 → Nat :=
  let c1703936_i32_4883 : BitVec 32 := 1703936#32
  let c32_i32_4882 : BitVec 32 := 32#32
  let v10922 : BitVec 32 := Scalar.muli v10921 c32_i32_4882
  let v10923 : BitVec 32 := Scalar.addi c1703936_i32_4883 v10922
  let v10924 : BitVec 32 := v10923
  ![v10924.toNat]
def k0_mult799 (v10930 : BitVec 32) : BitVec 32 :=
  let c1703936_i32_4887 : BitVec 32 := 1703936#32
  let c32_i32_4886 : BitVec 32 := 32#32
  let v10931 : BitVec 32 := Scalar.muli v10930 c32_i32_4886
  let v10932 : BitVec 32 := Scalar.addi c1703936_i32_4887 v10931
  v10932

def k0_off1545 (v10930 : BitVec 32) : Fin 1 → Nat :=
  let c1703936_i32_4887 : BitVec 32 := 1703936#32
  let c32_i32_4886 : BitVec 32 := 32#32
  let v10931 : BitVec 32 := Scalar.muli v10930 c32_i32_4886
  let v10932 : BitVec 32 := Scalar.addi c1703936_i32_4887 v10931
  let v10933 : BitVec 32 := v10932
  ![v10933.toNat]
def k0_mult800 (v10939 : BitVec 32) : BitVec 32 :=
  let c1703936_i32_4891 : BitVec 32 := 1703936#32
  let c32_i32_4890 : BitVec 32 := 32#32
  let v10940 : BitVec 32 := Scalar.muli v10939 c32_i32_4890
  let v10941 : BitVec 32 := Scalar.addi c1703936_i32_4891 v10940
  v10941

def k0_off1546 (v10939 : BitVec 32) : Fin 1 → Nat :=
  let c1703936_i32_4891 : BitVec 32 := 1703936#32
  let c32_i32_4890 : BitVec 32 := 32#32
  let v10940 : BitVec 32 := Scalar.muli v10939 c32_i32_4890
  let v10941 : BitVec 32 := Scalar.addi c1703936_i32_4891 v10940
  let v10942 : BitVec 32 := v10941
  ![v10942.toNat]
def k0_mult801 (v10948 : BitVec 32) : BitVec 32 :=
  let c1703936_i32_4895 : BitVec 32 := 1703936#32
  let c32_i32_4894 : BitVec 32 := 32#32
  let v10949 : BitVec 32 := Scalar.muli v10948 c32_i32_4894
  let v10950 : BitVec 32 := Scalar.addi c1703936_i32_4895 v10949
  v10950

def k0_off1547 (v10948 : BitVec 32) : Fin 1 → Nat :=
  let c1703936_i32_4895 : BitVec 32 := 1703936#32
  let c32_i32_4894 : BitVec 32 := 32#32
  let v10949 : BitVec 32 := Scalar.muli v10948 c32_i32_4894
  let v10950 : BitVec 32 := Scalar.addi c1703936_i32_4895 v10949
  let v10951 : BitVec 32 := v10950
  ![v10951.toNat]

def k0_chk824 (v10948 : BitVec 32) : Prop :=
  (8 ∣ (k0_mult801 v10948).toNat) ∧
  (∀ a, (k0_off1547 v10948) a + S32.size a ≤ S3407872.size a)
theorem k0_mult801_dvd : ∀ (v10948 : BitVec 32) (k0_hw824 : k0_chk824 v10948), 8 ∣ (k0_mult801 v10948).toNat := fun v10948 k0_hw824 => k0_hw824.1
theorem k0_off1547_inb : ∀ (v10948 : BitVec 32) (k0_hw824 : k0_chk824 v10948), ∀ a, (k0_off1547 v10948) a + S32.size a ≤ S3407872.size a := fun v10948 k0_hw824 => k0_hw824.2

def k0_off1548 (v10813 : BitVec 32) : Fin 1 → Nat :=
  let c1703936_i32_4835 : BitVec 32 := 1703936#32
  let c32_i32_4834 : BitVec 32 := 32#32
  let v10814 : BitVec 32 := Scalar.muli v10813 c32_i32_4834
  let v10815 : BitVec 32 := Scalar.addi c1703936_i32_4835 v10814
  let v10816 : BitVec 32 := v10815
  ![v10816.toNat]

def k0_chk809 (v10813 : BitVec 32) : Prop :=
  (8 ∣ (k0_mult786 v10813).toNat) ∧
  (∀ a, (k0_off1532 v10813) a + S32.size a ≤ S3407872.size a) ∧
  (∀ a, (k0_off1548 v10813) a + S32.size a ≤ S3407872.size a)
theorem k0_mult786_dvd : ∀ (v10813 : BitVec 32) (k0_hw809 : k0_chk809 v10813), 8 ∣ (k0_mult786 v10813).toNat := fun v10813 k0_hw809 => k0_hw809.1
theorem k0_off1532_inb : ∀ (v10813 : BitVec 32) (k0_hw809 : k0_chk809 v10813), ∀ a, (k0_off1532 v10813) a + S32.size a ≤ S3407872.size a := fun v10813 k0_hw809 => k0_hw809.2.1
theorem k0_off1548_inb : ∀ (v10813 : BitVec 32) (k0_hw809 : k0_chk809 v10813), ∀ a, (k0_off1548 v10813) a + S32.size a ≤ S3407872.size a := fun v10813 k0_hw809 => k0_hw809.2.2

def k0_off1549 (v10822 : BitVec 32) : Fin 1 → Nat :=
  let c1703936_i32_4839 : BitVec 32 := 1703936#32
  let c32_i32_4838 : BitVec 32 := 32#32
  let v10823 : BitVec 32 := Scalar.muli v10822 c32_i32_4838
  let v10824 : BitVec 32 := Scalar.addi c1703936_i32_4839 v10823
  let v10825 : BitVec 32 := v10824
  ![v10825.toNat]

def k0_chk810 (v10822 : BitVec 32) : Prop :=
  (8 ∣ (k0_mult787 v10822).toNat) ∧
  (∀ a, (k0_off1533 v10822) a + S32.size a ≤ S3407872.size a) ∧
  (∀ a, (k0_off1549 v10822) a + S32.size a ≤ S3407872.size a)
theorem k0_mult787_dvd : ∀ (v10822 : BitVec 32) (k0_hw810 : k0_chk810 v10822), 8 ∣ (k0_mult787 v10822).toNat := fun v10822 k0_hw810 => k0_hw810.1
theorem k0_off1533_inb : ∀ (v10822 : BitVec 32) (k0_hw810 : k0_chk810 v10822), ∀ a, (k0_off1533 v10822) a + S32.size a ≤ S3407872.size a := fun v10822 k0_hw810 => k0_hw810.2.1
theorem k0_off1549_inb : ∀ (v10822 : BitVec 32) (k0_hw810 : k0_chk810 v10822), ∀ a, (k0_off1549 v10822) a + S32.size a ≤ S3407872.size a := fun v10822 k0_hw810 => k0_hw810.2.2

def k0_off1550 (v10831 : BitVec 32) : Fin 1 → Nat :=
  let c1703936_i32_4843 : BitVec 32 := 1703936#32
  let c32_i32_4842 : BitVec 32 := 32#32
  let v10832 : BitVec 32 := Scalar.muli v10831 c32_i32_4842
  let v10833 : BitVec 32 := Scalar.addi c1703936_i32_4843 v10832
  let v10834 : BitVec 32 := v10833
  ![v10834.toNat]

def k0_chk811 (v10831 : BitVec 32) : Prop :=
  (8 ∣ (k0_mult788 v10831).toNat) ∧
  (∀ a, (k0_off1534 v10831) a + S32.size a ≤ S3407872.size a) ∧
  (∀ a, (k0_off1550 v10831) a + S32.size a ≤ S3407872.size a)
theorem k0_mult788_dvd : ∀ (v10831 : BitVec 32) (k0_hw811 : k0_chk811 v10831), 8 ∣ (k0_mult788 v10831).toNat := fun v10831 k0_hw811 => k0_hw811.1
theorem k0_off1534_inb : ∀ (v10831 : BitVec 32) (k0_hw811 : k0_chk811 v10831), ∀ a, (k0_off1534 v10831) a + S32.size a ≤ S3407872.size a := fun v10831 k0_hw811 => k0_hw811.2.1
theorem k0_off1550_inb : ∀ (v10831 : BitVec 32) (k0_hw811 : k0_chk811 v10831), ∀ a, (k0_off1550 v10831) a + S32.size a ≤ S3407872.size a := fun v10831 k0_hw811 => k0_hw811.2.2

def k0_off1551 (v10840 : BitVec 32) : Fin 1 → Nat :=
  let c1703936_i32_4847 : BitVec 32 := 1703936#32
  let c32_i32_4846 : BitVec 32 := 32#32
  let v10841 : BitVec 32 := Scalar.muli v10840 c32_i32_4846
  let v10842 : BitVec 32 := Scalar.addi c1703936_i32_4847 v10841
  let v10843 : BitVec 32 := v10842
  ![v10843.toNat]

def k0_chk812 (v10840 : BitVec 32) : Prop :=
  (8 ∣ (k0_mult789 v10840).toNat) ∧
  (∀ a, (k0_off1535 v10840) a + S32.size a ≤ S3407872.size a) ∧
  (∀ a, (k0_off1551 v10840) a + S32.size a ≤ S3407872.size a)
theorem k0_mult789_dvd : ∀ (v10840 : BitVec 32) (k0_hw812 : k0_chk812 v10840), 8 ∣ (k0_mult789 v10840).toNat := fun v10840 k0_hw812 => k0_hw812.1
theorem k0_off1535_inb : ∀ (v10840 : BitVec 32) (k0_hw812 : k0_chk812 v10840), ∀ a, (k0_off1535 v10840) a + S32.size a ≤ S3407872.size a := fun v10840 k0_hw812 => k0_hw812.2.1
theorem k0_off1551_inb : ∀ (v10840 : BitVec 32) (k0_hw812 : k0_chk812 v10840), ∀ a, (k0_off1551 v10840) a + S32.size a ≤ S3407872.size a := fun v10840 k0_hw812 => k0_hw812.2.2

def k0_off1552 (v10849 : BitVec 32) : Fin 1 → Nat :=
  let c1703936_i32_4851 : BitVec 32 := 1703936#32
  let c32_i32_4850 : BitVec 32 := 32#32
  let v10850 : BitVec 32 := Scalar.muli v10849 c32_i32_4850
  let v10851 : BitVec 32 := Scalar.addi c1703936_i32_4851 v10850
  let v10852 : BitVec 32 := v10851
  ![v10852.toNat]

def k0_chk813 (v10849 : BitVec 32) : Prop :=
  (8 ∣ (k0_mult790 v10849).toNat) ∧
  (∀ a, (k0_off1536 v10849) a + S32.size a ≤ S3407872.size a) ∧
  (∀ a, (k0_off1552 v10849) a + S32.size a ≤ S3407872.size a)
theorem k0_mult790_dvd : ∀ (v10849 : BitVec 32) (k0_hw813 : k0_chk813 v10849), 8 ∣ (k0_mult790 v10849).toNat := fun v10849 k0_hw813 => k0_hw813.1
theorem k0_off1536_inb : ∀ (v10849 : BitVec 32) (k0_hw813 : k0_chk813 v10849), ∀ a, (k0_off1536 v10849) a + S32.size a ≤ S3407872.size a := fun v10849 k0_hw813 => k0_hw813.2.1
theorem k0_off1552_inb : ∀ (v10849 : BitVec 32) (k0_hw813 : k0_chk813 v10849), ∀ a, (k0_off1552 v10849) a + S32.size a ≤ S3407872.size a := fun v10849 k0_hw813 => k0_hw813.2.2

def k0_off1553 (v10858 : BitVec 32) : Fin 1 → Nat :=
  let c1703936_i32_4855 : BitVec 32 := 1703936#32
  let c32_i32_4854 : BitVec 32 := 32#32
  let v10859 : BitVec 32 := Scalar.muli v10858 c32_i32_4854
  let v10860 : BitVec 32 := Scalar.addi c1703936_i32_4855 v10859
  let v10861 : BitVec 32 := v10860
  ![v10861.toNat]

def k0_chk814 (v10858 : BitVec 32) : Prop :=
  (8 ∣ (k0_mult791 v10858).toNat) ∧
  (∀ a, (k0_off1537 v10858) a + S32.size a ≤ S3407872.size a) ∧
  (∀ a, (k0_off1553 v10858) a + S32.size a ≤ S3407872.size a)
theorem k0_mult791_dvd : ∀ (v10858 : BitVec 32) (k0_hw814 : k0_chk814 v10858), 8 ∣ (k0_mult791 v10858).toNat := fun v10858 k0_hw814 => k0_hw814.1
theorem k0_off1537_inb : ∀ (v10858 : BitVec 32) (k0_hw814 : k0_chk814 v10858), ∀ a, (k0_off1537 v10858) a + S32.size a ≤ S3407872.size a := fun v10858 k0_hw814 => k0_hw814.2.1
theorem k0_off1553_inb : ∀ (v10858 : BitVec 32) (k0_hw814 : k0_chk814 v10858), ∀ a, (k0_off1553 v10858) a + S32.size a ≤ S3407872.size a := fun v10858 k0_hw814 => k0_hw814.2.2

def k0_off1554 (v10867 : BitVec 32) : Fin 1 → Nat :=
  let c1703936_i32_4859 : BitVec 32 := 1703936#32
  let c32_i32_4858 : BitVec 32 := 32#32
  let v10868 : BitVec 32 := Scalar.muli v10867 c32_i32_4858
  let v10869 : BitVec 32 := Scalar.addi c1703936_i32_4859 v10868
  let v10870 : BitVec 32 := v10869
  ![v10870.toNat]

def k0_chk815 (v10867 : BitVec 32) : Prop :=
  (8 ∣ (k0_mult792 v10867).toNat) ∧
  (∀ a, (k0_off1538 v10867) a + S32.size a ≤ S3407872.size a) ∧
  (∀ a, (k0_off1554 v10867) a + S32.size a ≤ S3407872.size a)
theorem k0_mult792_dvd : ∀ (v10867 : BitVec 32) (k0_hw815 : k0_chk815 v10867), 8 ∣ (k0_mult792 v10867).toNat := fun v10867 k0_hw815 => k0_hw815.1
theorem k0_off1538_inb : ∀ (v10867 : BitVec 32) (k0_hw815 : k0_chk815 v10867), ∀ a, (k0_off1538 v10867) a + S32.size a ≤ S3407872.size a := fun v10867 k0_hw815 => k0_hw815.2.1
theorem k0_off1554_inb : ∀ (v10867 : BitVec 32) (k0_hw815 : k0_chk815 v10867), ∀ a, (k0_off1554 v10867) a + S32.size a ≤ S3407872.size a := fun v10867 k0_hw815 => k0_hw815.2.2

def k0_off1555 (v10876 : BitVec 32) : Fin 1 → Nat :=
  let c1703936_i32_4863 : BitVec 32 := 1703936#32
  let c32_i32_4862 : BitVec 32 := 32#32
  let v10877 : BitVec 32 := Scalar.muli v10876 c32_i32_4862
  let v10878 : BitVec 32 := Scalar.addi c1703936_i32_4863 v10877
  let v10879 : BitVec 32 := v10878
  ![v10879.toNat]

def k0_chk816 (v10876 : BitVec 32) : Prop :=
  (8 ∣ (k0_mult793 v10876).toNat) ∧
  (∀ a, (k0_off1539 v10876) a + S32.size a ≤ S3407872.size a) ∧
  (∀ a, (k0_off1555 v10876) a + S32.size a ≤ S3407872.size a)
theorem k0_mult793_dvd : ∀ (v10876 : BitVec 32) (k0_hw816 : k0_chk816 v10876), 8 ∣ (k0_mult793 v10876).toNat := fun v10876 k0_hw816 => k0_hw816.1
theorem k0_off1539_inb : ∀ (v10876 : BitVec 32) (k0_hw816 : k0_chk816 v10876), ∀ a, (k0_off1539 v10876) a + S32.size a ≤ S3407872.size a := fun v10876 k0_hw816 => k0_hw816.2.1
theorem k0_off1555_inb : ∀ (v10876 : BitVec 32) (k0_hw816 : k0_chk816 v10876), ∀ a, (k0_off1555 v10876) a + S32.size a ≤ S3407872.size a := fun v10876 k0_hw816 => k0_hw816.2.2

def k0_off1556 (v10885 : BitVec 32) : Fin 1 → Nat :=
  let c1703936_i32_4867 : BitVec 32 := 1703936#32
  let c32_i32_4866 : BitVec 32 := 32#32
  let v10886 : BitVec 32 := Scalar.muli v10885 c32_i32_4866
  let v10887 : BitVec 32 := Scalar.addi c1703936_i32_4867 v10886
  let v10888 : BitVec 32 := v10887
  ![v10888.toNat]

def k0_chk817 (v10885 : BitVec 32) : Prop :=
  (8 ∣ (k0_mult794 v10885).toNat) ∧
  (∀ a, (k0_off1540 v10885) a + S32.size a ≤ S3407872.size a) ∧
  (∀ a, (k0_off1556 v10885) a + S32.size a ≤ S3407872.size a)
theorem k0_mult794_dvd : ∀ (v10885 : BitVec 32) (k0_hw817 : k0_chk817 v10885), 8 ∣ (k0_mult794 v10885).toNat := fun v10885 k0_hw817 => k0_hw817.1
theorem k0_off1540_inb : ∀ (v10885 : BitVec 32) (k0_hw817 : k0_chk817 v10885), ∀ a, (k0_off1540 v10885) a + S32.size a ≤ S3407872.size a := fun v10885 k0_hw817 => k0_hw817.2.1
theorem k0_off1556_inb : ∀ (v10885 : BitVec 32) (k0_hw817 : k0_chk817 v10885), ∀ a, (k0_off1556 v10885) a + S32.size a ≤ S3407872.size a := fun v10885 k0_hw817 => k0_hw817.2.2

def k0_off1557 (v10894 : BitVec 32) : Fin 1 → Nat :=
  let c1703936_i32_4871 : BitVec 32 := 1703936#32
  let c32_i32_4870 : BitVec 32 := 32#32
  let v10895 : BitVec 32 := Scalar.muli v10894 c32_i32_4870
  let v10896 : BitVec 32 := Scalar.addi c1703936_i32_4871 v10895
  let v10897 : BitVec 32 := v10896
  ![v10897.toNat]

def k0_chk818 (v10894 : BitVec 32) : Prop :=
  (8 ∣ (k0_mult795 v10894).toNat) ∧
  (∀ a, (k0_off1541 v10894) a + S32.size a ≤ S3407872.size a) ∧
  (∀ a, (k0_off1557 v10894) a + S32.size a ≤ S3407872.size a)
theorem k0_mult795_dvd : ∀ (v10894 : BitVec 32) (k0_hw818 : k0_chk818 v10894), 8 ∣ (k0_mult795 v10894).toNat := fun v10894 k0_hw818 => k0_hw818.1
theorem k0_off1541_inb : ∀ (v10894 : BitVec 32) (k0_hw818 : k0_chk818 v10894), ∀ a, (k0_off1541 v10894) a + S32.size a ≤ S3407872.size a := fun v10894 k0_hw818 => k0_hw818.2.1
theorem k0_off1557_inb : ∀ (v10894 : BitVec 32) (k0_hw818 : k0_chk818 v10894), ∀ a, (k0_off1557 v10894) a + S32.size a ≤ S3407872.size a := fun v10894 k0_hw818 => k0_hw818.2.2

def k0_off1558 (v10903 : BitVec 32) : Fin 1 → Nat :=
  let c1703936_i32_4875 : BitVec 32 := 1703936#32
  let c32_i32_4874 : BitVec 32 := 32#32
  let v10904 : BitVec 32 := Scalar.muli v10903 c32_i32_4874
  let v10905 : BitVec 32 := Scalar.addi c1703936_i32_4875 v10904
  let v10906 : BitVec 32 := v10905
  ![v10906.toNat]

def k0_chk819 (v10903 : BitVec 32) : Prop :=
  (8 ∣ (k0_mult796 v10903).toNat) ∧
  (∀ a, (k0_off1542 v10903) a + S32.size a ≤ S3407872.size a) ∧
  (∀ a, (k0_off1558 v10903) a + S32.size a ≤ S3407872.size a)
theorem k0_mult796_dvd : ∀ (v10903 : BitVec 32) (k0_hw819 : k0_chk819 v10903), 8 ∣ (k0_mult796 v10903).toNat := fun v10903 k0_hw819 => k0_hw819.1
theorem k0_off1542_inb : ∀ (v10903 : BitVec 32) (k0_hw819 : k0_chk819 v10903), ∀ a, (k0_off1542 v10903) a + S32.size a ≤ S3407872.size a := fun v10903 k0_hw819 => k0_hw819.2.1
theorem k0_off1558_inb : ∀ (v10903 : BitVec 32) (k0_hw819 : k0_chk819 v10903), ∀ a, (k0_off1558 v10903) a + S32.size a ≤ S3407872.size a := fun v10903 k0_hw819 => k0_hw819.2.2

def k0_off1559 (v10912 : BitVec 32) : Fin 1 → Nat :=
  let c1703936_i32_4879 : BitVec 32 := 1703936#32
  let c32_i32_4878 : BitVec 32 := 32#32
  let v10913 : BitVec 32 := Scalar.muli v10912 c32_i32_4878
  let v10914 : BitVec 32 := Scalar.addi c1703936_i32_4879 v10913
  let v10915 : BitVec 32 := v10914
  ![v10915.toNat]

def k0_chk820 (v10912 : BitVec 32) : Prop :=
  (8 ∣ (k0_mult797 v10912).toNat) ∧
  (∀ a, (k0_off1543 v10912) a + S32.size a ≤ S3407872.size a) ∧
  (∀ a, (k0_off1559 v10912) a + S32.size a ≤ S3407872.size a)
theorem k0_mult797_dvd : ∀ (v10912 : BitVec 32) (k0_hw820 : k0_chk820 v10912), 8 ∣ (k0_mult797 v10912).toNat := fun v10912 k0_hw820 => k0_hw820.1
theorem k0_off1543_inb : ∀ (v10912 : BitVec 32) (k0_hw820 : k0_chk820 v10912), ∀ a, (k0_off1543 v10912) a + S32.size a ≤ S3407872.size a := fun v10912 k0_hw820 => k0_hw820.2.1
theorem k0_off1559_inb : ∀ (v10912 : BitVec 32) (k0_hw820 : k0_chk820 v10912), ∀ a, (k0_off1559 v10912) a + S32.size a ≤ S3407872.size a := fun v10912 k0_hw820 => k0_hw820.2.2

def k0_off1560 (v10921 : BitVec 32) : Fin 1 → Nat :=
  let c1703936_i32_4883 : BitVec 32 := 1703936#32
  let c32_i32_4882 : BitVec 32 := 32#32
  let v10922 : BitVec 32 := Scalar.muli v10921 c32_i32_4882
  let v10923 : BitVec 32 := Scalar.addi c1703936_i32_4883 v10922
  let v10924 : BitVec 32 := v10923
  ![v10924.toNat]

def k0_chk821 (v10921 : BitVec 32) : Prop :=
  (8 ∣ (k0_mult798 v10921).toNat) ∧
  (∀ a, (k0_off1544 v10921) a + S32.size a ≤ S3407872.size a) ∧
  (∀ a, (k0_off1560 v10921) a + S32.size a ≤ S3407872.size a)
theorem k0_mult798_dvd : ∀ (v10921 : BitVec 32) (k0_hw821 : k0_chk821 v10921), 8 ∣ (k0_mult798 v10921).toNat := fun v10921 k0_hw821 => k0_hw821.1
theorem k0_off1544_inb : ∀ (v10921 : BitVec 32) (k0_hw821 : k0_chk821 v10921), ∀ a, (k0_off1544 v10921) a + S32.size a ≤ S3407872.size a := fun v10921 k0_hw821 => k0_hw821.2.1
theorem k0_off1560_inb : ∀ (v10921 : BitVec 32) (k0_hw821 : k0_chk821 v10921), ∀ a, (k0_off1560 v10921) a + S32.size a ≤ S3407872.size a := fun v10921 k0_hw821 => k0_hw821.2.2

def k0_off1561 (v10930 : BitVec 32) : Fin 1 → Nat :=
  let c1703936_i32_4887 : BitVec 32 := 1703936#32
  let c32_i32_4886 : BitVec 32 := 32#32
  let v10931 : BitVec 32 := Scalar.muli v10930 c32_i32_4886
  let v10932 : BitVec 32 := Scalar.addi c1703936_i32_4887 v10931
  let v10933 : BitVec 32 := v10932
  ![v10933.toNat]

def k0_chk822 (v10930 : BitVec 32) : Prop :=
  (8 ∣ (k0_mult799 v10930).toNat) ∧
  (∀ a, (k0_off1545 v10930) a + S32.size a ≤ S3407872.size a) ∧
  (∀ a, (k0_off1561 v10930) a + S32.size a ≤ S3407872.size a)
theorem k0_mult799_dvd : ∀ (v10930 : BitVec 32) (k0_hw822 : k0_chk822 v10930), 8 ∣ (k0_mult799 v10930).toNat := fun v10930 k0_hw822 => k0_hw822.1
theorem k0_off1545_inb : ∀ (v10930 : BitVec 32) (k0_hw822 : k0_chk822 v10930), ∀ a, (k0_off1545 v10930) a + S32.size a ≤ S3407872.size a := fun v10930 k0_hw822 => k0_hw822.2.1
theorem k0_off1561_inb : ∀ (v10930 : BitVec 32) (k0_hw822 : k0_chk822 v10930), ∀ a, (k0_off1561 v10930) a + S32.size a ≤ S3407872.size a := fun v10930 k0_hw822 => k0_hw822.2.2

def k0_off1562 (v10939 : BitVec 32) : Fin 1 → Nat :=
  let c1703936_i32_4891 : BitVec 32 := 1703936#32
  let c32_i32_4890 : BitVec 32 := 32#32
  let v10940 : BitVec 32 := Scalar.muli v10939 c32_i32_4890
  let v10941 : BitVec 32 := Scalar.addi c1703936_i32_4891 v10940
  let v10942 : BitVec 32 := v10941
  ![v10942.toNat]

def k0_chk823 (v10939 : BitVec 32) : Prop :=
  (8 ∣ (k0_mult800 v10939).toNat) ∧
  (∀ a, (k0_off1546 v10939) a + S32.size a ≤ S3407872.size a) ∧
  (∀ a, (k0_off1562 v10939) a + S32.size a ≤ S3407872.size a)
theorem k0_mult800_dvd : ∀ (v10939 : BitVec 32) (k0_hw823 : k0_chk823 v10939), 8 ∣ (k0_mult800 v10939).toNat := fun v10939 k0_hw823 => k0_hw823.1
theorem k0_off1546_inb : ∀ (v10939 : BitVec 32) (k0_hw823 : k0_chk823 v10939), ∀ a, (k0_off1546 v10939) a + S32.size a ≤ S3407872.size a := fun v10939 k0_hw823 => k0_hw823.2.1
theorem k0_off1562_inb : ∀ (v10939 : BitVec 32) (k0_hw823 : k0_chk823 v10939), ∀ a, (k0_off1562 v10939) a + S32.size a ≤ S3407872.size a := fun v10939 k0_hw823 => k0_hw823.2.2

def k0_mult802 (v11023 : BitVec 32) : BitVec 32 :=
  let c999936_i32_4932 : BitVec 32 := 999936#32
  let v11024 : BitVec 32 := Scalar.subi v11023 c999936_i32_4932
  let c32_i32_4933 : BitVec 32 := 32#32
  let v11025 : BitVec 32 := Scalar.muli v11024 c32_i32_4933
  v11025

def k0_off1563 (v11023 : BitVec 32) : Fin 1 → Nat :=
  let c999936_i32_4932 : BitVec 32 := 999936#32
  let v11024 : BitVec 32 := Scalar.subi v11023 c999936_i32_4932
  let c32_i32_4933 : BitVec 32 := 32#32
  let v11025 : BitVec 32 := Scalar.muli v11024 c32_i32_4933
  let v11026 : BitVec 32 := v11025
  ![v11026.toNat]
def k0_mult803 (v11032 : BitVec 32) : BitVec 32 :=
  let c999936_i32_4936 : BitVec 32 := 999936#32
  let v11033 : BitVec 32 := Scalar.subi v11032 c999936_i32_4936
  let c32_i32_4937 : BitVec 32 := 32#32
  let v11034 : BitVec 32 := Scalar.muli v11033 c32_i32_4937
  v11034

def k0_off1564 (v11032 : BitVec 32) : Fin 1 → Nat :=
  let c999936_i32_4936 : BitVec 32 := 999936#32
  let v11033 : BitVec 32 := Scalar.subi v11032 c999936_i32_4936
  let c32_i32_4937 : BitVec 32 := 32#32
  let v11034 : BitVec 32 := Scalar.muli v11033 c32_i32_4937
  let v11035 : BitVec 32 := v11034
  ![v11035.toNat]
def k0_mult804 (v11041 : BitVec 32) : BitVec 32 :=
  let c999936_i32_4940 : BitVec 32 := 999936#32
  let v11042 : BitVec 32 := Scalar.subi v11041 c999936_i32_4940
  let c32_i32_4941 : BitVec 32 := 32#32
  let v11043 : BitVec 32 := Scalar.muli v11042 c32_i32_4941
  v11043

def k0_off1565 (v11041 : BitVec 32) : Fin 1 → Nat :=
  let c999936_i32_4940 : BitVec 32 := 999936#32
  let v11042 : BitVec 32 := Scalar.subi v11041 c999936_i32_4940
  let c32_i32_4941 : BitVec 32 := 32#32
  let v11043 : BitVec 32 := Scalar.muli v11042 c32_i32_4941
  let v11044 : BitVec 32 := v11043
  ![v11044.toNat]
def k0_mult805 (v11050 : BitVec 32) : BitVec 32 :=
  let c999936_i32_4944 : BitVec 32 := 999936#32
  let v11051 : BitVec 32 := Scalar.subi v11050 c999936_i32_4944
  let c32_i32_4945 : BitVec 32 := 32#32
  let v11052 : BitVec 32 := Scalar.muli v11051 c32_i32_4945
  v11052

def k0_off1566 (v11050 : BitVec 32) : Fin 1 → Nat :=
  let c999936_i32_4944 : BitVec 32 := 999936#32
  let v11051 : BitVec 32 := Scalar.subi v11050 c999936_i32_4944
  let c32_i32_4945 : BitVec 32 := 32#32
  let v11052 : BitVec 32 := Scalar.muli v11051 c32_i32_4945
  let v11053 : BitVec 32 := v11052
  ![v11053.toNat]
def k0_mult806 (v11059 : BitVec 32) : BitVec 32 :=
  let c999936_i32_4948 : BitVec 32 := 999936#32
  let v11060 : BitVec 32 := Scalar.subi v11059 c999936_i32_4948
  let c32_i32_4949 : BitVec 32 := 32#32
  let v11061 : BitVec 32 := Scalar.muli v11060 c32_i32_4949
  v11061

def k0_off1567 (v11059 : BitVec 32) : Fin 1 → Nat :=
  let c999936_i32_4948 : BitVec 32 := 999936#32
  let v11060 : BitVec 32 := Scalar.subi v11059 c999936_i32_4948
  let c32_i32_4949 : BitVec 32 := 32#32
  let v11061 : BitVec 32 := Scalar.muli v11060 c32_i32_4949
  let v11062 : BitVec 32 := v11061
  ![v11062.toNat]
def k0_mult807 (v11068 : BitVec 32) : BitVec 32 :=
  let c999936_i32_4952 : BitVec 32 := 999936#32
  let v11069 : BitVec 32 := Scalar.subi v11068 c999936_i32_4952
  let c32_i32_4953 : BitVec 32 := 32#32
  let v11070 : BitVec 32 := Scalar.muli v11069 c32_i32_4953
  v11070

def k0_off1568 (v11068 : BitVec 32) : Fin 1 → Nat :=
  let c999936_i32_4952 : BitVec 32 := 999936#32
  let v11069 : BitVec 32 := Scalar.subi v11068 c999936_i32_4952
  let c32_i32_4953 : BitVec 32 := 32#32
  let v11070 : BitVec 32 := Scalar.muli v11069 c32_i32_4953
  let v11071 : BitVec 32 := v11070
  ![v11071.toNat]
def k0_mult808 (v11077 : BitVec 32) : BitVec 32 :=
  let c999936_i32_4956 : BitVec 32 := 999936#32
  let v11078 : BitVec 32 := Scalar.subi v11077 c999936_i32_4956
  let c32_i32_4957 : BitVec 32 := 32#32
  let v11079 : BitVec 32 := Scalar.muli v11078 c32_i32_4957
  v11079

def k0_off1569 (v11077 : BitVec 32) : Fin 1 → Nat :=
  let c999936_i32_4956 : BitVec 32 := 999936#32
  let v11078 : BitVec 32 := Scalar.subi v11077 c999936_i32_4956
  let c32_i32_4957 : BitVec 32 := 32#32
  let v11079 : BitVec 32 := Scalar.muli v11078 c32_i32_4957
  let v11080 : BitVec 32 := v11079
  ![v11080.toNat]
def k0_mult809 (v11086 : BitVec 32) : BitVec 32 :=
  let c999936_i32_4960 : BitVec 32 := 999936#32
  let v11087 : BitVec 32 := Scalar.subi v11086 c999936_i32_4960
  let c32_i32_4961 : BitVec 32 := 32#32
  let v11088 : BitVec 32 := Scalar.muli v11087 c32_i32_4961
  v11088

def k0_off1570 (v11086 : BitVec 32) : Fin 1 → Nat :=
  let c999936_i32_4960 : BitVec 32 := 999936#32
  let v11087 : BitVec 32 := Scalar.subi v11086 c999936_i32_4960
  let c32_i32_4961 : BitVec 32 := 32#32
  let v11088 : BitVec 32 := Scalar.muli v11087 c32_i32_4961
  let v11089 : BitVec 32 := v11088
  ![v11089.toNat]
def k0_mult810 (v11095 : BitVec 32) : BitVec 32 :=
  let c999936_i32_4964 : BitVec 32 := 999936#32
  let v11096 : BitVec 32 := Scalar.subi v11095 c999936_i32_4964
  let c32_i32_4965 : BitVec 32 := 32#32
  let v11097 : BitVec 32 := Scalar.muli v11096 c32_i32_4965
  v11097

def k0_off1571 (v11095 : BitVec 32) : Fin 1 → Nat :=
  let c999936_i32_4964 : BitVec 32 := 999936#32
  let v11096 : BitVec 32 := Scalar.subi v11095 c999936_i32_4964
  let c32_i32_4965 : BitVec 32 := 32#32
  let v11097 : BitVec 32 := Scalar.muli v11096 c32_i32_4965
  let v11098 : BitVec 32 := v11097
  ![v11098.toNat]
def k0_mult811 (v11104 : BitVec 32) : BitVec 32 :=
  let c999936_i32_4968 : BitVec 32 := 999936#32
  let v11105 : BitVec 32 := Scalar.subi v11104 c999936_i32_4968
  let c32_i32_4969 : BitVec 32 := 32#32
  let v11106 : BitVec 32 := Scalar.muli v11105 c32_i32_4969
  v11106

def k0_off1572 (v11104 : BitVec 32) : Fin 1 → Nat :=
  let c999936_i32_4968 : BitVec 32 := 999936#32
  let v11105 : BitVec 32 := Scalar.subi v11104 c999936_i32_4968
  let c32_i32_4969 : BitVec 32 := 32#32
  let v11106 : BitVec 32 := Scalar.muli v11105 c32_i32_4969
  let v11107 : BitVec 32 := v11106
  ![v11107.toNat]
def k0_mult812 (v11113 : BitVec 32) : BitVec 32 :=
  let c999936_i32_4972 : BitVec 32 := 999936#32
  let v11114 : BitVec 32 := Scalar.subi v11113 c999936_i32_4972
  let c32_i32_4973 : BitVec 32 := 32#32
  let v11115 : BitVec 32 := Scalar.muli v11114 c32_i32_4973
  v11115

def k0_off1573 (v11113 : BitVec 32) : Fin 1 → Nat :=
  let c999936_i32_4972 : BitVec 32 := 999936#32
  let v11114 : BitVec 32 := Scalar.subi v11113 c999936_i32_4972
  let c32_i32_4973 : BitVec 32 := 32#32
  let v11115 : BitVec 32 := Scalar.muli v11114 c32_i32_4973
  let v11116 : BitVec 32 := v11115
  ![v11116.toNat]
def k0_mult813 (v11122 : BitVec 32) : BitVec 32 :=
  let c999936_i32_4976 : BitVec 32 := 999936#32
  let v11123 : BitVec 32 := Scalar.subi v11122 c999936_i32_4976
  let c32_i32_4977 : BitVec 32 := 32#32
  let v11124 : BitVec 32 := Scalar.muli v11123 c32_i32_4977
  v11124

def k0_off1574 (v11122 : BitVec 32) : Fin 1 → Nat :=
  let c999936_i32_4976 : BitVec 32 := 999936#32
  let v11123 : BitVec 32 := Scalar.subi v11122 c999936_i32_4976
  let c32_i32_4977 : BitVec 32 := 32#32
  let v11124 : BitVec 32 := Scalar.muli v11123 c32_i32_4977
  let v11125 : BitVec 32 := v11124
  ![v11125.toNat]
def k0_mult814 (v11131 : BitVec 32) : BitVec 32 :=
  let c999936_i32_4980 : BitVec 32 := 999936#32
  let v11132 : BitVec 32 := Scalar.subi v11131 c999936_i32_4980
  let c32_i32_4981 : BitVec 32 := 32#32
  let v11133 : BitVec 32 := Scalar.muli v11132 c32_i32_4981
  v11133

def k0_off1575 (v11131 : BitVec 32) : Fin 1 → Nat :=
  let c999936_i32_4980 : BitVec 32 := 999936#32
  let v11132 : BitVec 32 := Scalar.subi v11131 c999936_i32_4980
  let c32_i32_4981 : BitVec 32 := 32#32
  let v11133 : BitVec 32 := Scalar.muli v11132 c32_i32_4981
  let v11134 : BitVec 32 := v11133
  ![v11134.toNat]
def k0_mult815 (v11140 : BitVec 32) : BitVec 32 :=
  let c999936_i32_4984 : BitVec 32 := 999936#32
  let v11141 : BitVec 32 := Scalar.subi v11140 c999936_i32_4984
  let c32_i32_4985 : BitVec 32 := 32#32
  let v11142 : BitVec 32 := Scalar.muli v11141 c32_i32_4985
  v11142

def k0_off1576 (v11140 : BitVec 32) : Fin 1 → Nat :=
  let c999936_i32_4984 : BitVec 32 := 999936#32
  let v11141 : BitVec 32 := Scalar.subi v11140 c999936_i32_4984
  let c32_i32_4985 : BitVec 32 := 32#32
  let v11142 : BitVec 32 := Scalar.muli v11141 c32_i32_4985
  let v11143 : BitVec 32 := v11142
  ![v11143.toNat]
def k0_mult816 (v11149 : BitVec 32) : BitVec 32 :=
  let c999936_i32_4988 : BitVec 32 := 999936#32
  let v11150 : BitVec 32 := Scalar.subi v11149 c999936_i32_4988
  let c32_i32_4989 : BitVec 32 := 32#32
  let v11151 : BitVec 32 := Scalar.muli v11150 c32_i32_4989
  v11151

def k0_off1577 (v11149 : BitVec 32) : Fin 1 → Nat :=
  let c999936_i32_4988 : BitVec 32 := 999936#32
  let v11150 : BitVec 32 := Scalar.subi v11149 c999936_i32_4988
  let c32_i32_4989 : BitVec 32 := 32#32
  let v11151 : BitVec 32 := Scalar.muli v11150 c32_i32_4989
  let v11152 : BitVec 32 := v11151
  ![v11152.toNat]
def k0_mult817 (v11158 : BitVec 32) : BitVec 32 :=
  let c999936_i32_4992 : BitVec 32 := 999936#32
  let v11159 : BitVec 32 := Scalar.subi v11158 c999936_i32_4992
  let c32_i32_4993 : BitVec 32 := 32#32
  let v11160 : BitVec 32 := Scalar.muli v11159 c32_i32_4993
  v11160

def k0_off1578 (v11158 : BitVec 32) : Fin 1 → Nat :=
  let c999936_i32_4992 : BitVec 32 := 999936#32
  let v11159 : BitVec 32 := Scalar.subi v11158 c999936_i32_4992
  let c32_i32_4993 : BitVec 32 := 32#32
  let v11160 : BitVec 32 := Scalar.muli v11159 c32_i32_4993
  let v11161 : BitVec 32 := v11160
  ![v11161.toNat]

def k0_chk840 (v11158 : BitVec 32) : Prop :=
  (8 ∣ (k0_mult817 v11158).toNat) ∧
  (∀ a, (k0_off1578 v11158) a + S32.size a ≤ S2048.size a)
theorem k0_mult817_dvd : ∀ (v11158 : BitVec 32) (k0_hw840 : k0_chk840 v11158), 8 ∣ (k0_mult817 v11158).toNat := fun v11158 k0_hw840 => k0_hw840.1
theorem k0_off1578_inb : ∀ (v11158 : BitVec 32) (k0_hw840 : k0_chk840 v11158), ∀ a, (k0_off1578 v11158) a + S32.size a ≤ S2048.size a := fun v11158 k0_hw840 => k0_hw840.2

def k0_off1579 (v11023 : BitVec 32) : Fin 1 → Nat :=
  let c999936_i32_4932 : BitVec 32 := 999936#32
  let v11024 : BitVec 32 := Scalar.subi v11023 c999936_i32_4932
  let c32_i32_4933 : BitVec 32 := 32#32
  let v11025 : BitVec 32 := Scalar.muli v11024 c32_i32_4933
  let v11026 : BitVec 32 := v11025
  ![v11026.toNat]

def k0_chk825 (v11023 : BitVec 32) : Prop :=
  (8 ∣ (k0_mult802 v11023).toNat) ∧
  (∀ a, (k0_off1563 v11023) a + S32.size a ≤ S2048.size a) ∧
  (∀ a, (k0_off1579 v11023) a + S32.size a ≤ S2048.size a)
theorem k0_mult802_dvd : ∀ (v11023 : BitVec 32) (k0_hw825 : k0_chk825 v11023), 8 ∣ (k0_mult802 v11023).toNat := fun v11023 k0_hw825 => k0_hw825.1
theorem k0_off1563_inb : ∀ (v11023 : BitVec 32) (k0_hw825 : k0_chk825 v11023), ∀ a, (k0_off1563 v11023) a + S32.size a ≤ S2048.size a := fun v11023 k0_hw825 => k0_hw825.2.1
theorem k0_off1579_inb : ∀ (v11023 : BitVec 32) (k0_hw825 : k0_chk825 v11023), ∀ a, (k0_off1579 v11023) a + S32.size a ≤ S2048.size a := fun v11023 k0_hw825 => k0_hw825.2.2

def k0_off1580 (v11032 : BitVec 32) : Fin 1 → Nat :=
  let c999936_i32_4936 : BitVec 32 := 999936#32
  let v11033 : BitVec 32 := Scalar.subi v11032 c999936_i32_4936
  let c32_i32_4937 : BitVec 32 := 32#32
  let v11034 : BitVec 32 := Scalar.muli v11033 c32_i32_4937
  let v11035 : BitVec 32 := v11034
  ![v11035.toNat]

def k0_chk826 (v11032 : BitVec 32) : Prop :=
  (8 ∣ (k0_mult803 v11032).toNat) ∧
  (∀ a, (k0_off1564 v11032) a + S32.size a ≤ S2048.size a) ∧
  (∀ a, (k0_off1580 v11032) a + S32.size a ≤ S2048.size a)
theorem k0_mult803_dvd : ∀ (v11032 : BitVec 32) (k0_hw826 : k0_chk826 v11032), 8 ∣ (k0_mult803 v11032).toNat := fun v11032 k0_hw826 => k0_hw826.1
theorem k0_off1564_inb : ∀ (v11032 : BitVec 32) (k0_hw826 : k0_chk826 v11032), ∀ a, (k0_off1564 v11032) a + S32.size a ≤ S2048.size a := fun v11032 k0_hw826 => k0_hw826.2.1
theorem k0_off1580_inb : ∀ (v11032 : BitVec 32) (k0_hw826 : k0_chk826 v11032), ∀ a, (k0_off1580 v11032) a + S32.size a ≤ S2048.size a := fun v11032 k0_hw826 => k0_hw826.2.2

def k0_off1581 (v11041 : BitVec 32) : Fin 1 → Nat :=
  let c999936_i32_4940 : BitVec 32 := 999936#32
  let v11042 : BitVec 32 := Scalar.subi v11041 c999936_i32_4940
  let c32_i32_4941 : BitVec 32 := 32#32
  let v11043 : BitVec 32 := Scalar.muli v11042 c32_i32_4941
  let v11044 : BitVec 32 := v11043
  ![v11044.toNat]

def k0_chk827 (v11041 : BitVec 32) : Prop :=
  (8 ∣ (k0_mult804 v11041).toNat) ∧
  (∀ a, (k0_off1565 v11041) a + S32.size a ≤ S2048.size a) ∧
  (∀ a, (k0_off1581 v11041) a + S32.size a ≤ S2048.size a)
theorem k0_mult804_dvd : ∀ (v11041 : BitVec 32) (k0_hw827 : k0_chk827 v11041), 8 ∣ (k0_mult804 v11041).toNat := fun v11041 k0_hw827 => k0_hw827.1
theorem k0_off1565_inb : ∀ (v11041 : BitVec 32) (k0_hw827 : k0_chk827 v11041), ∀ a, (k0_off1565 v11041) a + S32.size a ≤ S2048.size a := fun v11041 k0_hw827 => k0_hw827.2.1
theorem k0_off1581_inb : ∀ (v11041 : BitVec 32) (k0_hw827 : k0_chk827 v11041), ∀ a, (k0_off1581 v11041) a + S32.size a ≤ S2048.size a := fun v11041 k0_hw827 => k0_hw827.2.2

def k0_off1582 (v11050 : BitVec 32) : Fin 1 → Nat :=
  let c999936_i32_4944 : BitVec 32 := 999936#32
  let v11051 : BitVec 32 := Scalar.subi v11050 c999936_i32_4944
  let c32_i32_4945 : BitVec 32 := 32#32
  let v11052 : BitVec 32 := Scalar.muli v11051 c32_i32_4945
  let v11053 : BitVec 32 := v11052
  ![v11053.toNat]

def k0_chk828 (v11050 : BitVec 32) : Prop :=
  (8 ∣ (k0_mult805 v11050).toNat) ∧
  (∀ a, (k0_off1566 v11050) a + S32.size a ≤ S2048.size a) ∧
  (∀ a, (k0_off1582 v11050) a + S32.size a ≤ S2048.size a)
theorem k0_mult805_dvd : ∀ (v11050 : BitVec 32) (k0_hw828 : k0_chk828 v11050), 8 ∣ (k0_mult805 v11050).toNat := fun v11050 k0_hw828 => k0_hw828.1
theorem k0_off1566_inb : ∀ (v11050 : BitVec 32) (k0_hw828 : k0_chk828 v11050), ∀ a, (k0_off1566 v11050) a + S32.size a ≤ S2048.size a := fun v11050 k0_hw828 => k0_hw828.2.1
theorem k0_off1582_inb : ∀ (v11050 : BitVec 32) (k0_hw828 : k0_chk828 v11050), ∀ a, (k0_off1582 v11050) a + S32.size a ≤ S2048.size a := fun v11050 k0_hw828 => k0_hw828.2.2

def k0_off1583 (v11059 : BitVec 32) : Fin 1 → Nat :=
  let c999936_i32_4948 : BitVec 32 := 999936#32
  let v11060 : BitVec 32 := Scalar.subi v11059 c999936_i32_4948
  let c32_i32_4949 : BitVec 32 := 32#32
  let v11061 : BitVec 32 := Scalar.muli v11060 c32_i32_4949
  let v11062 : BitVec 32 := v11061
  ![v11062.toNat]

def k0_chk829 (v11059 : BitVec 32) : Prop :=
  (8 ∣ (k0_mult806 v11059).toNat) ∧
  (∀ a, (k0_off1567 v11059) a + S32.size a ≤ S2048.size a) ∧
  (∀ a, (k0_off1583 v11059) a + S32.size a ≤ S2048.size a)
theorem k0_mult806_dvd : ∀ (v11059 : BitVec 32) (k0_hw829 : k0_chk829 v11059), 8 ∣ (k0_mult806 v11059).toNat := fun v11059 k0_hw829 => k0_hw829.1
theorem k0_off1567_inb : ∀ (v11059 : BitVec 32) (k0_hw829 : k0_chk829 v11059), ∀ a, (k0_off1567 v11059) a + S32.size a ≤ S2048.size a := fun v11059 k0_hw829 => k0_hw829.2.1
theorem k0_off1583_inb : ∀ (v11059 : BitVec 32) (k0_hw829 : k0_chk829 v11059), ∀ a, (k0_off1583 v11059) a + S32.size a ≤ S2048.size a := fun v11059 k0_hw829 => k0_hw829.2.2

def k0_off1584 (v11068 : BitVec 32) : Fin 1 → Nat :=
  let c999936_i32_4952 : BitVec 32 := 999936#32
  let v11069 : BitVec 32 := Scalar.subi v11068 c999936_i32_4952
  let c32_i32_4953 : BitVec 32 := 32#32
  let v11070 : BitVec 32 := Scalar.muli v11069 c32_i32_4953
  let v11071 : BitVec 32 := v11070
  ![v11071.toNat]

def k0_chk830 (v11068 : BitVec 32) : Prop :=
  (8 ∣ (k0_mult807 v11068).toNat) ∧
  (∀ a, (k0_off1568 v11068) a + S32.size a ≤ S2048.size a) ∧
  (∀ a, (k0_off1584 v11068) a + S32.size a ≤ S2048.size a)
theorem k0_mult807_dvd : ∀ (v11068 : BitVec 32) (k0_hw830 : k0_chk830 v11068), 8 ∣ (k0_mult807 v11068).toNat := fun v11068 k0_hw830 => k0_hw830.1
theorem k0_off1568_inb : ∀ (v11068 : BitVec 32) (k0_hw830 : k0_chk830 v11068), ∀ a, (k0_off1568 v11068) a + S32.size a ≤ S2048.size a := fun v11068 k0_hw830 => k0_hw830.2.1
theorem k0_off1584_inb : ∀ (v11068 : BitVec 32) (k0_hw830 : k0_chk830 v11068), ∀ a, (k0_off1584 v11068) a + S32.size a ≤ S2048.size a := fun v11068 k0_hw830 => k0_hw830.2.2

def k0_off1585 (v11077 : BitVec 32) : Fin 1 → Nat :=
  let c999936_i32_4956 : BitVec 32 := 999936#32
  let v11078 : BitVec 32 := Scalar.subi v11077 c999936_i32_4956
  let c32_i32_4957 : BitVec 32 := 32#32
  let v11079 : BitVec 32 := Scalar.muli v11078 c32_i32_4957
  let v11080 : BitVec 32 := v11079
  ![v11080.toNat]

def k0_chk831 (v11077 : BitVec 32) : Prop :=
  (8 ∣ (k0_mult808 v11077).toNat) ∧
  (∀ a, (k0_off1569 v11077) a + S32.size a ≤ S2048.size a) ∧
  (∀ a, (k0_off1585 v11077) a + S32.size a ≤ S2048.size a)
theorem k0_mult808_dvd : ∀ (v11077 : BitVec 32) (k0_hw831 : k0_chk831 v11077), 8 ∣ (k0_mult808 v11077).toNat := fun v11077 k0_hw831 => k0_hw831.1
theorem k0_off1569_inb : ∀ (v11077 : BitVec 32) (k0_hw831 : k0_chk831 v11077), ∀ a, (k0_off1569 v11077) a + S32.size a ≤ S2048.size a := fun v11077 k0_hw831 => k0_hw831.2.1
theorem k0_off1585_inb : ∀ (v11077 : BitVec 32) (k0_hw831 : k0_chk831 v11077), ∀ a, (k0_off1585 v11077) a + S32.size a ≤ S2048.size a := fun v11077 k0_hw831 => k0_hw831.2.2

def k0_off1586 (v11086 : BitVec 32) : Fin 1 → Nat :=
  let c999936_i32_4960 : BitVec 32 := 999936#32
  let v11087 : BitVec 32 := Scalar.subi v11086 c999936_i32_4960
  let c32_i32_4961 : BitVec 32 := 32#32
  let v11088 : BitVec 32 := Scalar.muli v11087 c32_i32_4961
  let v11089 : BitVec 32 := v11088
  ![v11089.toNat]

def k0_chk832 (v11086 : BitVec 32) : Prop :=
  (8 ∣ (k0_mult809 v11086).toNat) ∧
  (∀ a, (k0_off1570 v11086) a + S32.size a ≤ S2048.size a) ∧
  (∀ a, (k0_off1586 v11086) a + S32.size a ≤ S2048.size a)
theorem k0_mult809_dvd : ∀ (v11086 : BitVec 32) (k0_hw832 : k0_chk832 v11086), 8 ∣ (k0_mult809 v11086).toNat := fun v11086 k0_hw832 => k0_hw832.1
theorem k0_off1570_inb : ∀ (v11086 : BitVec 32) (k0_hw832 : k0_chk832 v11086), ∀ a, (k0_off1570 v11086) a + S32.size a ≤ S2048.size a := fun v11086 k0_hw832 => k0_hw832.2.1
theorem k0_off1586_inb : ∀ (v11086 : BitVec 32) (k0_hw832 : k0_chk832 v11086), ∀ a, (k0_off1586 v11086) a + S32.size a ≤ S2048.size a := fun v11086 k0_hw832 => k0_hw832.2.2

def k0_off1587 (v11095 : BitVec 32) : Fin 1 → Nat :=
  let c999936_i32_4964 : BitVec 32 := 999936#32
  let v11096 : BitVec 32 := Scalar.subi v11095 c999936_i32_4964
  let c32_i32_4965 : BitVec 32 := 32#32
  let v11097 : BitVec 32 := Scalar.muli v11096 c32_i32_4965
  let v11098 : BitVec 32 := v11097
  ![v11098.toNat]

def k0_chk833 (v11095 : BitVec 32) : Prop :=
  (8 ∣ (k0_mult810 v11095).toNat) ∧
  (∀ a, (k0_off1571 v11095) a + S32.size a ≤ S2048.size a) ∧
  (∀ a, (k0_off1587 v11095) a + S32.size a ≤ S2048.size a)
theorem k0_mult810_dvd : ∀ (v11095 : BitVec 32) (k0_hw833 : k0_chk833 v11095), 8 ∣ (k0_mult810 v11095).toNat := fun v11095 k0_hw833 => k0_hw833.1
theorem k0_off1571_inb : ∀ (v11095 : BitVec 32) (k0_hw833 : k0_chk833 v11095), ∀ a, (k0_off1571 v11095) a + S32.size a ≤ S2048.size a := fun v11095 k0_hw833 => k0_hw833.2.1
theorem k0_off1587_inb : ∀ (v11095 : BitVec 32) (k0_hw833 : k0_chk833 v11095), ∀ a, (k0_off1587 v11095) a + S32.size a ≤ S2048.size a := fun v11095 k0_hw833 => k0_hw833.2.2

def k0_off1588 (v11104 : BitVec 32) : Fin 1 → Nat :=
  let c999936_i32_4968 : BitVec 32 := 999936#32
  let v11105 : BitVec 32 := Scalar.subi v11104 c999936_i32_4968
  let c32_i32_4969 : BitVec 32 := 32#32
  let v11106 : BitVec 32 := Scalar.muli v11105 c32_i32_4969
  let v11107 : BitVec 32 := v11106
  ![v11107.toNat]

def k0_chk834 (v11104 : BitVec 32) : Prop :=
  (8 ∣ (k0_mult811 v11104).toNat) ∧
  (∀ a, (k0_off1572 v11104) a + S32.size a ≤ S2048.size a) ∧
  (∀ a, (k0_off1588 v11104) a + S32.size a ≤ S2048.size a)
theorem k0_mult811_dvd : ∀ (v11104 : BitVec 32) (k0_hw834 : k0_chk834 v11104), 8 ∣ (k0_mult811 v11104).toNat := fun v11104 k0_hw834 => k0_hw834.1
theorem k0_off1572_inb : ∀ (v11104 : BitVec 32) (k0_hw834 : k0_chk834 v11104), ∀ a, (k0_off1572 v11104) a + S32.size a ≤ S2048.size a := fun v11104 k0_hw834 => k0_hw834.2.1
theorem k0_off1588_inb : ∀ (v11104 : BitVec 32) (k0_hw834 : k0_chk834 v11104), ∀ a, (k0_off1588 v11104) a + S32.size a ≤ S2048.size a := fun v11104 k0_hw834 => k0_hw834.2.2

def k0_off1589 (v11113 : BitVec 32) : Fin 1 → Nat :=
  let c999936_i32_4972 : BitVec 32 := 999936#32
  let v11114 : BitVec 32 := Scalar.subi v11113 c999936_i32_4972
  let c32_i32_4973 : BitVec 32 := 32#32
  let v11115 : BitVec 32 := Scalar.muli v11114 c32_i32_4973
  let v11116 : BitVec 32 := v11115
  ![v11116.toNat]

def k0_chk835 (v11113 : BitVec 32) : Prop :=
  (8 ∣ (k0_mult812 v11113).toNat) ∧
  (∀ a, (k0_off1573 v11113) a + S32.size a ≤ S2048.size a) ∧
  (∀ a, (k0_off1589 v11113) a + S32.size a ≤ S2048.size a)
theorem k0_mult812_dvd : ∀ (v11113 : BitVec 32) (k0_hw835 : k0_chk835 v11113), 8 ∣ (k0_mult812 v11113).toNat := fun v11113 k0_hw835 => k0_hw835.1
theorem k0_off1573_inb : ∀ (v11113 : BitVec 32) (k0_hw835 : k0_chk835 v11113), ∀ a, (k0_off1573 v11113) a + S32.size a ≤ S2048.size a := fun v11113 k0_hw835 => k0_hw835.2.1
theorem k0_off1589_inb : ∀ (v11113 : BitVec 32) (k0_hw835 : k0_chk835 v11113), ∀ a, (k0_off1589 v11113) a + S32.size a ≤ S2048.size a := fun v11113 k0_hw835 => k0_hw835.2.2

def k0_off1590 (v11122 : BitVec 32) : Fin 1 → Nat :=
  let c999936_i32_4976 : BitVec 32 := 999936#32
  let v11123 : BitVec 32 := Scalar.subi v11122 c999936_i32_4976
  let c32_i32_4977 : BitVec 32 := 32#32
  let v11124 : BitVec 32 := Scalar.muli v11123 c32_i32_4977
  let v11125 : BitVec 32 := v11124
  ![v11125.toNat]

def k0_chk836 (v11122 : BitVec 32) : Prop :=
  (8 ∣ (k0_mult813 v11122).toNat) ∧
  (∀ a, (k0_off1574 v11122) a + S32.size a ≤ S2048.size a) ∧
  (∀ a, (k0_off1590 v11122) a + S32.size a ≤ S2048.size a)
theorem k0_mult813_dvd : ∀ (v11122 : BitVec 32) (k0_hw836 : k0_chk836 v11122), 8 ∣ (k0_mult813 v11122).toNat := fun v11122 k0_hw836 => k0_hw836.1
theorem k0_off1574_inb : ∀ (v11122 : BitVec 32) (k0_hw836 : k0_chk836 v11122), ∀ a, (k0_off1574 v11122) a + S32.size a ≤ S2048.size a := fun v11122 k0_hw836 => k0_hw836.2.1
theorem k0_off1590_inb : ∀ (v11122 : BitVec 32) (k0_hw836 : k0_chk836 v11122), ∀ a, (k0_off1590 v11122) a + S32.size a ≤ S2048.size a := fun v11122 k0_hw836 => k0_hw836.2.2

def k0_off1591 (v11131 : BitVec 32) : Fin 1 → Nat :=
  let c999936_i32_4980 : BitVec 32 := 999936#32
  let v11132 : BitVec 32 := Scalar.subi v11131 c999936_i32_4980
  let c32_i32_4981 : BitVec 32 := 32#32
  let v11133 : BitVec 32 := Scalar.muli v11132 c32_i32_4981
  let v11134 : BitVec 32 := v11133
  ![v11134.toNat]

def k0_chk837 (v11131 : BitVec 32) : Prop :=
  (8 ∣ (k0_mult814 v11131).toNat) ∧
  (∀ a, (k0_off1575 v11131) a + S32.size a ≤ S2048.size a) ∧
  (∀ a, (k0_off1591 v11131) a + S32.size a ≤ S2048.size a)
theorem k0_mult814_dvd : ∀ (v11131 : BitVec 32) (k0_hw837 : k0_chk837 v11131), 8 ∣ (k0_mult814 v11131).toNat := fun v11131 k0_hw837 => k0_hw837.1
theorem k0_off1575_inb : ∀ (v11131 : BitVec 32) (k0_hw837 : k0_chk837 v11131), ∀ a, (k0_off1575 v11131) a + S32.size a ≤ S2048.size a := fun v11131 k0_hw837 => k0_hw837.2.1
theorem k0_off1591_inb : ∀ (v11131 : BitVec 32) (k0_hw837 : k0_chk837 v11131), ∀ a, (k0_off1591 v11131) a + S32.size a ≤ S2048.size a := fun v11131 k0_hw837 => k0_hw837.2.2

def k0_off1592 (v11140 : BitVec 32) : Fin 1 → Nat :=
  let c999936_i32_4984 : BitVec 32 := 999936#32
  let v11141 : BitVec 32 := Scalar.subi v11140 c999936_i32_4984
  let c32_i32_4985 : BitVec 32 := 32#32
  let v11142 : BitVec 32 := Scalar.muli v11141 c32_i32_4985
  let v11143 : BitVec 32 := v11142
  ![v11143.toNat]

def k0_chk838 (v11140 : BitVec 32) : Prop :=
  (8 ∣ (k0_mult815 v11140).toNat) ∧
  (∀ a, (k0_off1576 v11140) a + S32.size a ≤ S2048.size a) ∧
  (∀ a, (k0_off1592 v11140) a + S32.size a ≤ S2048.size a)
theorem k0_mult815_dvd : ∀ (v11140 : BitVec 32) (k0_hw838 : k0_chk838 v11140), 8 ∣ (k0_mult815 v11140).toNat := fun v11140 k0_hw838 => k0_hw838.1
theorem k0_off1576_inb : ∀ (v11140 : BitVec 32) (k0_hw838 : k0_chk838 v11140), ∀ a, (k0_off1576 v11140) a + S32.size a ≤ S2048.size a := fun v11140 k0_hw838 => k0_hw838.2.1
theorem k0_off1592_inb : ∀ (v11140 : BitVec 32) (k0_hw838 : k0_chk838 v11140), ∀ a, (k0_off1592 v11140) a + S32.size a ≤ S2048.size a := fun v11140 k0_hw838 => k0_hw838.2.2

def k0_off1593 (v11149 : BitVec 32) : Fin 1 → Nat :=
  let c999936_i32_4988 : BitVec 32 := 999936#32
  let v11150 : BitVec 32 := Scalar.subi v11149 c999936_i32_4988
  let c32_i32_4989 : BitVec 32 := 32#32
  let v11151 : BitVec 32 := Scalar.muli v11150 c32_i32_4989
  let v11152 : BitVec 32 := v11151
  ![v11152.toNat]

def k0_chk839 (v11149 : BitVec 32) : Prop :=
  (8 ∣ (k0_mult816 v11149).toNat) ∧
  (∀ a, (k0_off1577 v11149) a + S32.size a ≤ S2048.size a) ∧
  (∀ a, (k0_off1593 v11149) a + S32.size a ≤ S2048.size a)
theorem k0_mult816_dvd : ∀ (v11149 : BitVec 32) (k0_hw839 : k0_chk839 v11149), 8 ∣ (k0_mult816 v11149).toNat := fun v11149 k0_hw839 => k0_hw839.1
theorem k0_off1577_inb : ∀ (v11149 : BitVec 32) (k0_hw839 : k0_chk839 v11149), ∀ a, (k0_off1577 v11149) a + S32.size a ≤ S2048.size a := fun v11149 k0_hw839 => k0_hw839.2.1
theorem k0_off1593_inb : ∀ (v11149 : BitVec 32) (k0_hw839 : k0_chk839 v11149), ∀ a, (k0_off1593 v11149) a + S32.size a ≤ S2048.size a := fun v11149 k0_hw839 => k0_hw839.2.2

def k0_mult818 (v11231 : BitVec 32) : BitVec 32 :=
  let c1703936_i32_5029 : BitVec 32 := 1703936#32
  let c32_i32_5028 : BitVec 32 := 32#32
  let v11232 : BitVec 32 := Scalar.muli v11231 c32_i32_5028
  let v11233 : BitVec 32 := Scalar.addi c1703936_i32_5029 v11232
  v11233

def k0_off1594 (v11231 : BitVec 32) : Fin 1 → Nat :=
  let c1703936_i32_5029 : BitVec 32 := 1703936#32
  let c32_i32_5028 : BitVec 32 := 32#32
  let v11232 : BitVec 32 := Scalar.muli v11231 c32_i32_5028
  let v11233 : BitVec 32 := Scalar.addi c1703936_i32_5029 v11232
  let v11234 : BitVec 32 := v11233
  ![v11234.toNat]
def k0_mult819 (v11240 : BitVec 32) : BitVec 32 :=
  let c1703936_i32_5033 : BitVec 32 := 1703936#32
  let c32_i32_5032 : BitVec 32 := 32#32
  let v11241 : BitVec 32 := Scalar.muli v11240 c32_i32_5032
  let v11242 : BitVec 32 := Scalar.addi c1703936_i32_5033 v11241
  v11242

def k0_off1595 (v11240 : BitVec 32) : Fin 1 → Nat :=
  let c1703936_i32_5033 : BitVec 32 := 1703936#32
  let c32_i32_5032 : BitVec 32 := 32#32
  let v11241 : BitVec 32 := Scalar.muli v11240 c32_i32_5032
  let v11242 : BitVec 32 := Scalar.addi c1703936_i32_5033 v11241
  let v11243 : BitVec 32 := v11242
  ![v11243.toNat]
def k0_mult820 (v11249 : BitVec 32) : BitVec 32 :=
  let c1703936_i32_5037 : BitVec 32 := 1703936#32
  let c32_i32_5036 : BitVec 32 := 32#32
  let v11250 : BitVec 32 := Scalar.muli v11249 c32_i32_5036
  let v11251 : BitVec 32 := Scalar.addi c1703936_i32_5037 v11250
  v11251

def k0_off1596 (v11249 : BitVec 32) : Fin 1 → Nat :=
  let c1703936_i32_5037 : BitVec 32 := 1703936#32
  let c32_i32_5036 : BitVec 32 := 32#32
  let v11250 : BitVec 32 := Scalar.muli v11249 c32_i32_5036
  let v11251 : BitVec 32 := Scalar.addi c1703936_i32_5037 v11250
  let v11252 : BitVec 32 := v11251
  ![v11252.toNat]
def k0_mult821 (v11258 : BitVec 32) : BitVec 32 :=
  let c1703936_i32_5041 : BitVec 32 := 1703936#32
  let c32_i32_5040 : BitVec 32 := 32#32
  let v11259 : BitVec 32 := Scalar.muli v11258 c32_i32_5040
  let v11260 : BitVec 32 := Scalar.addi c1703936_i32_5041 v11259
  v11260

def k0_off1597 (v11258 : BitVec 32) : Fin 1 → Nat :=
  let c1703936_i32_5041 : BitVec 32 := 1703936#32
  let c32_i32_5040 : BitVec 32 := 32#32
  let v11259 : BitVec 32 := Scalar.muli v11258 c32_i32_5040
  let v11260 : BitVec 32 := Scalar.addi c1703936_i32_5041 v11259
  let v11261 : BitVec 32 := v11260
  ![v11261.toNat]
def k0_mult822 (v11267 : BitVec 32) : BitVec 32 :=
  let c1703936_i32_5045 : BitVec 32 := 1703936#32
  let c32_i32_5044 : BitVec 32 := 32#32
  let v11268 : BitVec 32 := Scalar.muli v11267 c32_i32_5044
  let v11269 : BitVec 32 := Scalar.addi c1703936_i32_5045 v11268
  v11269

def k0_off1598 (v11267 : BitVec 32) : Fin 1 → Nat :=
  let c1703936_i32_5045 : BitVec 32 := 1703936#32
  let c32_i32_5044 : BitVec 32 := 32#32
  let v11268 : BitVec 32 := Scalar.muli v11267 c32_i32_5044
  let v11269 : BitVec 32 := Scalar.addi c1703936_i32_5045 v11268
  let v11270 : BitVec 32 := v11269
  ![v11270.toNat]
def k0_mult823 (v11276 : BitVec 32) : BitVec 32 :=
  let c1703936_i32_5049 : BitVec 32 := 1703936#32
  let c32_i32_5048 : BitVec 32 := 32#32
  let v11277 : BitVec 32 := Scalar.muli v11276 c32_i32_5048
  let v11278 : BitVec 32 := Scalar.addi c1703936_i32_5049 v11277
  v11278

def k0_off1599 (v11276 : BitVec 32) : Fin 1 → Nat :=
  let c1703936_i32_5049 : BitVec 32 := 1703936#32
  let c32_i32_5048 : BitVec 32 := 32#32
  let v11277 : BitVec 32 := Scalar.muli v11276 c32_i32_5048
  let v11278 : BitVec 32 := Scalar.addi c1703936_i32_5049 v11277
  let v11279 : BitVec 32 := v11278
  ![v11279.toNat]
def k0_mult824 (v11285 : BitVec 32) : BitVec 32 :=
  let c1703936_i32_5053 : BitVec 32 := 1703936#32
  let c32_i32_5052 : BitVec 32 := 32#32
  let v11286 : BitVec 32 := Scalar.muli v11285 c32_i32_5052
  let v11287 : BitVec 32 := Scalar.addi c1703936_i32_5053 v11286
  v11287

def k0_off1600 (v11285 : BitVec 32) : Fin 1 → Nat :=
  let c1703936_i32_5053 : BitVec 32 := 1703936#32
  let c32_i32_5052 : BitVec 32 := 32#32
  let v11286 : BitVec 32 := Scalar.muli v11285 c32_i32_5052
  let v11287 : BitVec 32 := Scalar.addi c1703936_i32_5053 v11286
  let v11288 : BitVec 32 := v11287
  ![v11288.toNat]
def k0_mult825 (v11294 : BitVec 32) : BitVec 32 :=
  let c1703936_i32_5057 : BitVec 32 := 1703936#32
  let c32_i32_5056 : BitVec 32 := 32#32
  let v11295 : BitVec 32 := Scalar.muli v11294 c32_i32_5056
  let v11296 : BitVec 32 := Scalar.addi c1703936_i32_5057 v11295
  v11296

def k0_off1601 (v11294 : BitVec 32) : Fin 1 → Nat :=
  let c1703936_i32_5057 : BitVec 32 := 1703936#32
  let c32_i32_5056 : BitVec 32 := 32#32
  let v11295 : BitVec 32 := Scalar.muli v11294 c32_i32_5056
  let v11296 : BitVec 32 := Scalar.addi c1703936_i32_5057 v11295
  let v11297 : BitVec 32 := v11296
  ![v11297.toNat]
def k0_mult826 (v11303 : BitVec 32) : BitVec 32 :=
  let c1703936_i32_5061 : BitVec 32 := 1703936#32
  let c32_i32_5060 : BitVec 32 := 32#32
  let v11304 : BitVec 32 := Scalar.muli v11303 c32_i32_5060
  let v11305 : BitVec 32 := Scalar.addi c1703936_i32_5061 v11304
  v11305

def k0_off1602 (v11303 : BitVec 32) : Fin 1 → Nat :=
  let c1703936_i32_5061 : BitVec 32 := 1703936#32
  let c32_i32_5060 : BitVec 32 := 32#32
  let v11304 : BitVec 32 := Scalar.muli v11303 c32_i32_5060
  let v11305 : BitVec 32 := Scalar.addi c1703936_i32_5061 v11304
  let v11306 : BitVec 32 := v11305
  ![v11306.toNat]
def k0_mult827 (v11312 : BitVec 32) : BitVec 32 :=
  let c1703936_i32_5065 : BitVec 32 := 1703936#32
  let c32_i32_5064 : BitVec 32 := 32#32
  let v11313 : BitVec 32 := Scalar.muli v11312 c32_i32_5064
  let v11314 : BitVec 32 := Scalar.addi c1703936_i32_5065 v11313
  v11314

def k0_off1603 (v11312 : BitVec 32) : Fin 1 → Nat :=
  let c1703936_i32_5065 : BitVec 32 := 1703936#32
  let c32_i32_5064 : BitVec 32 := 32#32
  let v11313 : BitVec 32 := Scalar.muli v11312 c32_i32_5064
  let v11314 : BitVec 32 := Scalar.addi c1703936_i32_5065 v11313
  let v11315 : BitVec 32 := v11314
  ![v11315.toNat]
def k0_mult828 (v11321 : BitVec 32) : BitVec 32 :=
  let c1703936_i32_5069 : BitVec 32 := 1703936#32
  let c32_i32_5068 : BitVec 32 := 32#32
  let v11322 : BitVec 32 := Scalar.muli v11321 c32_i32_5068
  let v11323 : BitVec 32 := Scalar.addi c1703936_i32_5069 v11322
  v11323

def k0_off1604 (v11321 : BitVec 32) : Fin 1 → Nat :=
  let c1703936_i32_5069 : BitVec 32 := 1703936#32
  let c32_i32_5068 : BitVec 32 := 32#32
  let v11322 : BitVec 32 := Scalar.muli v11321 c32_i32_5068
  let v11323 : BitVec 32 := Scalar.addi c1703936_i32_5069 v11322
  let v11324 : BitVec 32 := v11323
  ![v11324.toNat]
def k0_mult829 (v11330 : BitVec 32) : BitVec 32 :=
  let c1703936_i32_5073 : BitVec 32 := 1703936#32
  let c32_i32_5072 : BitVec 32 := 32#32
  let v11331 : BitVec 32 := Scalar.muli v11330 c32_i32_5072
  let v11332 : BitVec 32 := Scalar.addi c1703936_i32_5073 v11331
  v11332

def k0_off1605 (v11330 : BitVec 32) : Fin 1 → Nat :=
  let c1703936_i32_5073 : BitVec 32 := 1703936#32
  let c32_i32_5072 : BitVec 32 := 32#32
  let v11331 : BitVec 32 := Scalar.muli v11330 c32_i32_5072
  let v11332 : BitVec 32 := Scalar.addi c1703936_i32_5073 v11331
  let v11333 : BitVec 32 := v11332
  ![v11333.toNat]
def k0_mult830 (v11339 : BitVec 32) : BitVec 32 :=
  let c1703936_i32_5077 : BitVec 32 := 1703936#32
  let c32_i32_5076 : BitVec 32 := 32#32
  let v11340 : BitVec 32 := Scalar.muli v11339 c32_i32_5076
  let v11341 : BitVec 32 := Scalar.addi c1703936_i32_5077 v11340
  v11341

def k0_off1606 (v11339 : BitVec 32) : Fin 1 → Nat :=
  let c1703936_i32_5077 : BitVec 32 := 1703936#32
  let c32_i32_5076 : BitVec 32 := 32#32
  let v11340 : BitVec 32 := Scalar.muli v11339 c32_i32_5076
  let v11341 : BitVec 32 := Scalar.addi c1703936_i32_5077 v11340
  let v11342 : BitVec 32 := v11341
  ![v11342.toNat]
def k0_mult831 (v11348 : BitVec 32) : BitVec 32 :=
  let c1703936_i32_5081 : BitVec 32 := 1703936#32
  let c32_i32_5080 : BitVec 32 := 32#32
  let v11349 : BitVec 32 := Scalar.muli v11348 c32_i32_5080
  let v11350 : BitVec 32 := Scalar.addi c1703936_i32_5081 v11349
  v11350

def k0_off1607 (v11348 : BitVec 32) : Fin 1 → Nat :=
  let c1703936_i32_5081 : BitVec 32 := 1703936#32
  let c32_i32_5080 : BitVec 32 := 32#32
  let v11349 : BitVec 32 := Scalar.muli v11348 c32_i32_5080
  let v11350 : BitVec 32 := Scalar.addi c1703936_i32_5081 v11349
  let v11351 : BitVec 32 := v11350
  ![v11351.toNat]
def k0_mult832 (v11357 : BitVec 32) : BitVec 32 :=
  let c1703936_i32_5085 : BitVec 32 := 1703936#32
  let c32_i32_5084 : BitVec 32 := 32#32
  let v11358 : BitVec 32 := Scalar.muli v11357 c32_i32_5084
  let v11359 : BitVec 32 := Scalar.addi c1703936_i32_5085 v11358
  v11359

def k0_off1608 (v11357 : BitVec 32) : Fin 1 → Nat :=
  let c1703936_i32_5085 : BitVec 32 := 1703936#32
  let c32_i32_5084 : BitVec 32 := 32#32
  let v11358 : BitVec 32 := Scalar.muli v11357 c32_i32_5084
  let v11359 : BitVec 32 := Scalar.addi c1703936_i32_5085 v11358
  let v11360 : BitVec 32 := v11359
  ![v11360.toNat]
def k0_mult833 (v11366 : BitVec 32) : BitVec 32 :=
  let c1703936_i32_5089 : BitVec 32 := 1703936#32
  let c32_i32_5088 : BitVec 32 := 32#32
  let v11367 : BitVec 32 := Scalar.muli v11366 c32_i32_5088
  let v11368 : BitVec 32 := Scalar.addi c1703936_i32_5089 v11367
  v11368

def k0_off1609 (v11366 : BitVec 32) : Fin 1 → Nat :=
  let c1703936_i32_5089 : BitVec 32 := 1703936#32
  let c32_i32_5088 : BitVec 32 := 32#32
  let v11367 : BitVec 32 := Scalar.muli v11366 c32_i32_5088
  let v11368 : BitVec 32 := Scalar.addi c1703936_i32_5089 v11367
  let v11369 : BitVec 32 := v11368
  ![v11369.toNat]

def k0_chk856 (v11366 : BitVec 32) : Prop :=
  (8 ∣ (k0_mult833 v11366).toNat) ∧
  (∀ a, (k0_off1609 v11366) a + S32.size a ≤ S3407872.size a)
theorem k0_mult833_dvd : ∀ (v11366 : BitVec 32) (k0_hw856 : k0_chk856 v11366), 8 ∣ (k0_mult833 v11366).toNat := fun v11366 k0_hw856 => k0_hw856.1
theorem k0_off1609_inb : ∀ (v11366 : BitVec 32) (k0_hw856 : k0_chk856 v11366), ∀ a, (k0_off1609 v11366) a + S32.size a ≤ S3407872.size a := fun v11366 k0_hw856 => k0_hw856.2

def k0_off1610 (v11231 : BitVec 32) : Fin 1 → Nat :=
  let c1703936_i32_5029 : BitVec 32 := 1703936#32
  let c32_i32_5028 : BitVec 32 := 32#32
  let v11232 : BitVec 32 := Scalar.muli v11231 c32_i32_5028
  let v11233 : BitVec 32 := Scalar.addi c1703936_i32_5029 v11232
  let v11234 : BitVec 32 := v11233
  ![v11234.toNat]

def k0_chk841 (v11231 : BitVec 32) : Prop :=
  (8 ∣ (k0_mult818 v11231).toNat) ∧
  (∀ a, (k0_off1594 v11231) a + S32.size a ≤ S3407872.size a) ∧
  (∀ a, (k0_off1610 v11231) a + S32.size a ≤ S3407872.size a)
theorem k0_mult818_dvd : ∀ (v11231 : BitVec 32) (k0_hw841 : k0_chk841 v11231), 8 ∣ (k0_mult818 v11231).toNat := fun v11231 k0_hw841 => k0_hw841.1
theorem k0_off1594_inb : ∀ (v11231 : BitVec 32) (k0_hw841 : k0_chk841 v11231), ∀ a, (k0_off1594 v11231) a + S32.size a ≤ S3407872.size a := fun v11231 k0_hw841 => k0_hw841.2.1
theorem k0_off1610_inb : ∀ (v11231 : BitVec 32) (k0_hw841 : k0_chk841 v11231), ∀ a, (k0_off1610 v11231) a + S32.size a ≤ S3407872.size a := fun v11231 k0_hw841 => k0_hw841.2.2

def k0_off1611 (v11240 : BitVec 32) : Fin 1 → Nat :=
  let c1703936_i32_5033 : BitVec 32 := 1703936#32
  let c32_i32_5032 : BitVec 32 := 32#32
  let v11241 : BitVec 32 := Scalar.muli v11240 c32_i32_5032
  let v11242 : BitVec 32 := Scalar.addi c1703936_i32_5033 v11241
  let v11243 : BitVec 32 := v11242
  ![v11243.toNat]

def k0_chk842 (v11240 : BitVec 32) : Prop :=
  (8 ∣ (k0_mult819 v11240).toNat) ∧
  (∀ a, (k0_off1595 v11240) a + S32.size a ≤ S3407872.size a) ∧
  (∀ a, (k0_off1611 v11240) a + S32.size a ≤ S3407872.size a)
theorem k0_mult819_dvd : ∀ (v11240 : BitVec 32) (k0_hw842 : k0_chk842 v11240), 8 ∣ (k0_mult819 v11240).toNat := fun v11240 k0_hw842 => k0_hw842.1
theorem k0_off1595_inb : ∀ (v11240 : BitVec 32) (k0_hw842 : k0_chk842 v11240), ∀ a, (k0_off1595 v11240) a + S32.size a ≤ S3407872.size a := fun v11240 k0_hw842 => k0_hw842.2.1
theorem k0_off1611_inb : ∀ (v11240 : BitVec 32) (k0_hw842 : k0_chk842 v11240), ∀ a, (k0_off1611 v11240) a + S32.size a ≤ S3407872.size a := fun v11240 k0_hw842 => k0_hw842.2.2

def k0_off1612 (v11249 : BitVec 32) : Fin 1 → Nat :=
  let c1703936_i32_5037 : BitVec 32 := 1703936#32
  let c32_i32_5036 : BitVec 32 := 32#32
  let v11250 : BitVec 32 := Scalar.muli v11249 c32_i32_5036
  let v11251 : BitVec 32 := Scalar.addi c1703936_i32_5037 v11250
  let v11252 : BitVec 32 := v11251
  ![v11252.toNat]

def k0_chk843 (v11249 : BitVec 32) : Prop :=
  (8 ∣ (k0_mult820 v11249).toNat) ∧
  (∀ a, (k0_off1596 v11249) a + S32.size a ≤ S3407872.size a) ∧
  (∀ a, (k0_off1612 v11249) a + S32.size a ≤ S3407872.size a)
theorem k0_mult820_dvd : ∀ (v11249 : BitVec 32) (k0_hw843 : k0_chk843 v11249), 8 ∣ (k0_mult820 v11249).toNat := fun v11249 k0_hw843 => k0_hw843.1
theorem k0_off1596_inb : ∀ (v11249 : BitVec 32) (k0_hw843 : k0_chk843 v11249), ∀ a, (k0_off1596 v11249) a + S32.size a ≤ S3407872.size a := fun v11249 k0_hw843 => k0_hw843.2.1
theorem k0_off1612_inb : ∀ (v11249 : BitVec 32) (k0_hw843 : k0_chk843 v11249), ∀ a, (k0_off1612 v11249) a + S32.size a ≤ S3407872.size a := fun v11249 k0_hw843 => k0_hw843.2.2

def k0_off1613 (v11258 : BitVec 32) : Fin 1 → Nat :=
  let c1703936_i32_5041 : BitVec 32 := 1703936#32
  let c32_i32_5040 : BitVec 32 := 32#32
  let v11259 : BitVec 32 := Scalar.muli v11258 c32_i32_5040
  let v11260 : BitVec 32 := Scalar.addi c1703936_i32_5041 v11259
  let v11261 : BitVec 32 := v11260
  ![v11261.toNat]

def k0_chk844 (v11258 : BitVec 32) : Prop :=
  (8 ∣ (k0_mult821 v11258).toNat) ∧
  (∀ a, (k0_off1597 v11258) a + S32.size a ≤ S3407872.size a) ∧
  (∀ a, (k0_off1613 v11258) a + S32.size a ≤ S3407872.size a)
theorem k0_mult821_dvd : ∀ (v11258 : BitVec 32) (k0_hw844 : k0_chk844 v11258), 8 ∣ (k0_mult821 v11258).toNat := fun v11258 k0_hw844 => k0_hw844.1
theorem k0_off1597_inb : ∀ (v11258 : BitVec 32) (k0_hw844 : k0_chk844 v11258), ∀ a, (k0_off1597 v11258) a + S32.size a ≤ S3407872.size a := fun v11258 k0_hw844 => k0_hw844.2.1
theorem k0_off1613_inb : ∀ (v11258 : BitVec 32) (k0_hw844 : k0_chk844 v11258), ∀ a, (k0_off1613 v11258) a + S32.size a ≤ S3407872.size a := fun v11258 k0_hw844 => k0_hw844.2.2

def k0_off1614 (v11267 : BitVec 32) : Fin 1 → Nat :=
  let c1703936_i32_5045 : BitVec 32 := 1703936#32
  let c32_i32_5044 : BitVec 32 := 32#32
  let v11268 : BitVec 32 := Scalar.muli v11267 c32_i32_5044
  let v11269 : BitVec 32 := Scalar.addi c1703936_i32_5045 v11268
  let v11270 : BitVec 32 := v11269
  ![v11270.toNat]

def k0_chk845 (v11267 : BitVec 32) : Prop :=
  (8 ∣ (k0_mult822 v11267).toNat) ∧
  (∀ a, (k0_off1598 v11267) a + S32.size a ≤ S3407872.size a) ∧
  (∀ a, (k0_off1614 v11267) a + S32.size a ≤ S3407872.size a)
theorem k0_mult822_dvd : ∀ (v11267 : BitVec 32) (k0_hw845 : k0_chk845 v11267), 8 ∣ (k0_mult822 v11267).toNat := fun v11267 k0_hw845 => k0_hw845.1
theorem k0_off1598_inb : ∀ (v11267 : BitVec 32) (k0_hw845 : k0_chk845 v11267), ∀ a, (k0_off1598 v11267) a + S32.size a ≤ S3407872.size a := fun v11267 k0_hw845 => k0_hw845.2.1
theorem k0_off1614_inb : ∀ (v11267 : BitVec 32) (k0_hw845 : k0_chk845 v11267), ∀ a, (k0_off1614 v11267) a + S32.size a ≤ S3407872.size a := fun v11267 k0_hw845 => k0_hw845.2.2

def k0_off1615 (v11276 : BitVec 32) : Fin 1 → Nat :=
  let c1703936_i32_5049 : BitVec 32 := 1703936#32
  let c32_i32_5048 : BitVec 32 := 32#32
  let v11277 : BitVec 32 := Scalar.muli v11276 c32_i32_5048
  let v11278 : BitVec 32 := Scalar.addi c1703936_i32_5049 v11277
  let v11279 : BitVec 32 := v11278
  ![v11279.toNat]

def k0_chk846 (v11276 : BitVec 32) : Prop :=
  (8 ∣ (k0_mult823 v11276).toNat) ∧
  (∀ a, (k0_off1599 v11276) a + S32.size a ≤ S3407872.size a) ∧
  (∀ a, (k0_off1615 v11276) a + S32.size a ≤ S3407872.size a)
theorem k0_mult823_dvd : ∀ (v11276 : BitVec 32) (k0_hw846 : k0_chk846 v11276), 8 ∣ (k0_mult823 v11276).toNat := fun v11276 k0_hw846 => k0_hw846.1
theorem k0_off1599_inb : ∀ (v11276 : BitVec 32) (k0_hw846 : k0_chk846 v11276), ∀ a, (k0_off1599 v11276) a + S32.size a ≤ S3407872.size a := fun v11276 k0_hw846 => k0_hw846.2.1
theorem k0_off1615_inb : ∀ (v11276 : BitVec 32) (k0_hw846 : k0_chk846 v11276), ∀ a, (k0_off1615 v11276) a + S32.size a ≤ S3407872.size a := fun v11276 k0_hw846 => k0_hw846.2.2

def k0_off1616 (v11285 : BitVec 32) : Fin 1 → Nat :=
  let c1703936_i32_5053 : BitVec 32 := 1703936#32
  let c32_i32_5052 : BitVec 32 := 32#32
  let v11286 : BitVec 32 := Scalar.muli v11285 c32_i32_5052
  let v11287 : BitVec 32 := Scalar.addi c1703936_i32_5053 v11286
  let v11288 : BitVec 32 := v11287
  ![v11288.toNat]

def k0_chk847 (v11285 : BitVec 32) : Prop :=
  (8 ∣ (k0_mult824 v11285).toNat) ∧
  (∀ a, (k0_off1600 v11285) a + S32.size a ≤ S3407872.size a) ∧
  (∀ a, (k0_off1616 v11285) a + S32.size a ≤ S3407872.size a)
theorem k0_mult824_dvd : ∀ (v11285 : BitVec 32) (k0_hw847 : k0_chk847 v11285), 8 ∣ (k0_mult824 v11285).toNat := fun v11285 k0_hw847 => k0_hw847.1
theorem k0_off1600_inb : ∀ (v11285 : BitVec 32) (k0_hw847 : k0_chk847 v11285), ∀ a, (k0_off1600 v11285) a + S32.size a ≤ S3407872.size a := fun v11285 k0_hw847 => k0_hw847.2.1
theorem k0_off1616_inb : ∀ (v11285 : BitVec 32) (k0_hw847 : k0_chk847 v11285), ∀ a, (k0_off1616 v11285) a + S32.size a ≤ S3407872.size a := fun v11285 k0_hw847 => k0_hw847.2.2

def k0_off1617 (v11294 : BitVec 32) : Fin 1 → Nat :=
  let c1703936_i32_5057 : BitVec 32 := 1703936#32
  let c32_i32_5056 : BitVec 32 := 32#32
  let v11295 : BitVec 32 := Scalar.muli v11294 c32_i32_5056
  let v11296 : BitVec 32 := Scalar.addi c1703936_i32_5057 v11295
  let v11297 : BitVec 32 := v11296
  ![v11297.toNat]

def k0_chk848 (v11294 : BitVec 32) : Prop :=
  (8 ∣ (k0_mult825 v11294).toNat) ∧
  (∀ a, (k0_off1601 v11294) a + S32.size a ≤ S3407872.size a) ∧
  (∀ a, (k0_off1617 v11294) a + S32.size a ≤ S3407872.size a)
theorem k0_mult825_dvd : ∀ (v11294 : BitVec 32) (k0_hw848 : k0_chk848 v11294), 8 ∣ (k0_mult825 v11294).toNat := fun v11294 k0_hw848 => k0_hw848.1
theorem k0_off1601_inb : ∀ (v11294 : BitVec 32) (k0_hw848 : k0_chk848 v11294), ∀ a, (k0_off1601 v11294) a + S32.size a ≤ S3407872.size a := fun v11294 k0_hw848 => k0_hw848.2.1
theorem k0_off1617_inb : ∀ (v11294 : BitVec 32) (k0_hw848 : k0_chk848 v11294), ∀ a, (k0_off1617 v11294) a + S32.size a ≤ S3407872.size a := fun v11294 k0_hw848 => k0_hw848.2.2

def k0_off1618 (v11303 : BitVec 32) : Fin 1 → Nat :=
  let c1703936_i32_5061 : BitVec 32 := 1703936#32
  let c32_i32_5060 : BitVec 32 := 32#32
  let v11304 : BitVec 32 := Scalar.muli v11303 c32_i32_5060
  let v11305 : BitVec 32 := Scalar.addi c1703936_i32_5061 v11304
  let v11306 : BitVec 32 := v11305
  ![v11306.toNat]

def k0_chk849 (v11303 : BitVec 32) : Prop :=
  (8 ∣ (k0_mult826 v11303).toNat) ∧
  (∀ a, (k0_off1602 v11303) a + S32.size a ≤ S3407872.size a) ∧
  (∀ a, (k0_off1618 v11303) a + S32.size a ≤ S3407872.size a)
theorem k0_mult826_dvd : ∀ (v11303 : BitVec 32) (k0_hw849 : k0_chk849 v11303), 8 ∣ (k0_mult826 v11303).toNat := fun v11303 k0_hw849 => k0_hw849.1
theorem k0_off1602_inb : ∀ (v11303 : BitVec 32) (k0_hw849 : k0_chk849 v11303), ∀ a, (k0_off1602 v11303) a + S32.size a ≤ S3407872.size a := fun v11303 k0_hw849 => k0_hw849.2.1
theorem k0_off1618_inb : ∀ (v11303 : BitVec 32) (k0_hw849 : k0_chk849 v11303), ∀ a, (k0_off1618 v11303) a + S32.size a ≤ S3407872.size a := fun v11303 k0_hw849 => k0_hw849.2.2

def k0_off1619 (v11312 : BitVec 32) : Fin 1 → Nat :=
  let c1703936_i32_5065 : BitVec 32 := 1703936#32
  let c32_i32_5064 : BitVec 32 := 32#32
  let v11313 : BitVec 32 := Scalar.muli v11312 c32_i32_5064
  let v11314 : BitVec 32 := Scalar.addi c1703936_i32_5065 v11313
  let v11315 : BitVec 32 := v11314
  ![v11315.toNat]

def k0_chk850 (v11312 : BitVec 32) : Prop :=
  (8 ∣ (k0_mult827 v11312).toNat) ∧
  (∀ a, (k0_off1603 v11312) a + S32.size a ≤ S3407872.size a) ∧
  (∀ a, (k0_off1619 v11312) a + S32.size a ≤ S3407872.size a)
theorem k0_mult827_dvd : ∀ (v11312 : BitVec 32) (k0_hw850 : k0_chk850 v11312), 8 ∣ (k0_mult827 v11312).toNat := fun v11312 k0_hw850 => k0_hw850.1
theorem k0_off1603_inb : ∀ (v11312 : BitVec 32) (k0_hw850 : k0_chk850 v11312), ∀ a, (k0_off1603 v11312) a + S32.size a ≤ S3407872.size a := fun v11312 k0_hw850 => k0_hw850.2.1
theorem k0_off1619_inb : ∀ (v11312 : BitVec 32) (k0_hw850 : k0_chk850 v11312), ∀ a, (k0_off1619 v11312) a + S32.size a ≤ S3407872.size a := fun v11312 k0_hw850 => k0_hw850.2.2

def k0_off1620 (v11321 : BitVec 32) : Fin 1 → Nat :=
  let c1703936_i32_5069 : BitVec 32 := 1703936#32
  let c32_i32_5068 : BitVec 32 := 32#32
  let v11322 : BitVec 32 := Scalar.muli v11321 c32_i32_5068
  let v11323 : BitVec 32 := Scalar.addi c1703936_i32_5069 v11322
  let v11324 : BitVec 32 := v11323
  ![v11324.toNat]

def k0_chk851 (v11321 : BitVec 32) : Prop :=
  (8 ∣ (k0_mult828 v11321).toNat) ∧
  (∀ a, (k0_off1604 v11321) a + S32.size a ≤ S3407872.size a) ∧
  (∀ a, (k0_off1620 v11321) a + S32.size a ≤ S3407872.size a)
theorem k0_mult828_dvd : ∀ (v11321 : BitVec 32) (k0_hw851 : k0_chk851 v11321), 8 ∣ (k0_mult828 v11321).toNat := fun v11321 k0_hw851 => k0_hw851.1
theorem k0_off1604_inb : ∀ (v11321 : BitVec 32) (k0_hw851 : k0_chk851 v11321), ∀ a, (k0_off1604 v11321) a + S32.size a ≤ S3407872.size a := fun v11321 k0_hw851 => k0_hw851.2.1
theorem k0_off1620_inb : ∀ (v11321 : BitVec 32) (k0_hw851 : k0_chk851 v11321), ∀ a, (k0_off1620 v11321) a + S32.size a ≤ S3407872.size a := fun v11321 k0_hw851 => k0_hw851.2.2

def k0_off1621 (v11330 : BitVec 32) : Fin 1 → Nat :=
  let c1703936_i32_5073 : BitVec 32 := 1703936#32
  let c32_i32_5072 : BitVec 32 := 32#32
  let v11331 : BitVec 32 := Scalar.muli v11330 c32_i32_5072
  let v11332 : BitVec 32 := Scalar.addi c1703936_i32_5073 v11331
  let v11333 : BitVec 32 := v11332
  ![v11333.toNat]

def k0_chk852 (v11330 : BitVec 32) : Prop :=
  (8 ∣ (k0_mult829 v11330).toNat) ∧
  (∀ a, (k0_off1605 v11330) a + S32.size a ≤ S3407872.size a) ∧
  (∀ a, (k0_off1621 v11330) a + S32.size a ≤ S3407872.size a)
theorem k0_mult829_dvd : ∀ (v11330 : BitVec 32) (k0_hw852 : k0_chk852 v11330), 8 ∣ (k0_mult829 v11330).toNat := fun v11330 k0_hw852 => k0_hw852.1
theorem k0_off1605_inb : ∀ (v11330 : BitVec 32) (k0_hw852 : k0_chk852 v11330), ∀ a, (k0_off1605 v11330) a + S32.size a ≤ S3407872.size a := fun v11330 k0_hw852 => k0_hw852.2.1
theorem k0_off1621_inb : ∀ (v11330 : BitVec 32) (k0_hw852 : k0_chk852 v11330), ∀ a, (k0_off1621 v11330) a + S32.size a ≤ S3407872.size a := fun v11330 k0_hw852 => k0_hw852.2.2

def k0_off1622 (v11339 : BitVec 32) : Fin 1 → Nat :=
  let c1703936_i32_5077 : BitVec 32 := 1703936#32
  let c32_i32_5076 : BitVec 32 := 32#32
  let v11340 : BitVec 32 := Scalar.muli v11339 c32_i32_5076
  let v11341 : BitVec 32 := Scalar.addi c1703936_i32_5077 v11340
  let v11342 : BitVec 32 := v11341
  ![v11342.toNat]

def k0_chk853 (v11339 : BitVec 32) : Prop :=
  (8 ∣ (k0_mult830 v11339).toNat) ∧
  (∀ a, (k0_off1606 v11339) a + S32.size a ≤ S3407872.size a) ∧
  (∀ a, (k0_off1622 v11339) a + S32.size a ≤ S3407872.size a)
theorem k0_mult830_dvd : ∀ (v11339 : BitVec 32) (k0_hw853 : k0_chk853 v11339), 8 ∣ (k0_mult830 v11339).toNat := fun v11339 k0_hw853 => k0_hw853.1
theorem k0_off1606_inb : ∀ (v11339 : BitVec 32) (k0_hw853 : k0_chk853 v11339), ∀ a, (k0_off1606 v11339) a + S32.size a ≤ S3407872.size a := fun v11339 k0_hw853 => k0_hw853.2.1
theorem k0_off1622_inb : ∀ (v11339 : BitVec 32) (k0_hw853 : k0_chk853 v11339), ∀ a, (k0_off1622 v11339) a + S32.size a ≤ S3407872.size a := fun v11339 k0_hw853 => k0_hw853.2.2

def k0_off1623 (v11348 : BitVec 32) : Fin 1 → Nat :=
  let c1703936_i32_5081 : BitVec 32 := 1703936#32
  let c32_i32_5080 : BitVec 32 := 32#32
  let v11349 : BitVec 32 := Scalar.muli v11348 c32_i32_5080
  let v11350 : BitVec 32 := Scalar.addi c1703936_i32_5081 v11349
  let v11351 : BitVec 32 := v11350
  ![v11351.toNat]

def k0_chk854 (v11348 : BitVec 32) : Prop :=
  (8 ∣ (k0_mult831 v11348).toNat) ∧
  (∀ a, (k0_off1607 v11348) a + S32.size a ≤ S3407872.size a) ∧
  (∀ a, (k0_off1623 v11348) a + S32.size a ≤ S3407872.size a)
theorem k0_mult831_dvd : ∀ (v11348 : BitVec 32) (k0_hw854 : k0_chk854 v11348), 8 ∣ (k0_mult831 v11348).toNat := fun v11348 k0_hw854 => k0_hw854.1
theorem k0_off1607_inb : ∀ (v11348 : BitVec 32) (k0_hw854 : k0_chk854 v11348), ∀ a, (k0_off1607 v11348) a + S32.size a ≤ S3407872.size a := fun v11348 k0_hw854 => k0_hw854.2.1
theorem k0_off1623_inb : ∀ (v11348 : BitVec 32) (k0_hw854 : k0_chk854 v11348), ∀ a, (k0_off1623 v11348) a + S32.size a ≤ S3407872.size a := fun v11348 k0_hw854 => k0_hw854.2.2

def k0_off1624 (v11357 : BitVec 32) : Fin 1 → Nat :=
  let c1703936_i32_5085 : BitVec 32 := 1703936#32
  let c32_i32_5084 : BitVec 32 := 32#32
  let v11358 : BitVec 32 := Scalar.muli v11357 c32_i32_5084
  let v11359 : BitVec 32 := Scalar.addi c1703936_i32_5085 v11358
  let v11360 : BitVec 32 := v11359
  ![v11360.toNat]

def k0_chk855 (v11357 : BitVec 32) : Prop :=
  (8 ∣ (k0_mult832 v11357).toNat) ∧
  (∀ a, (k0_off1608 v11357) a + S32.size a ≤ S3407872.size a) ∧
  (∀ a, (k0_off1624 v11357) a + S32.size a ≤ S3407872.size a)
theorem k0_mult832_dvd : ∀ (v11357 : BitVec 32) (k0_hw855 : k0_chk855 v11357), 8 ∣ (k0_mult832 v11357).toNat := fun v11357 k0_hw855 => k0_hw855.1
theorem k0_off1608_inb : ∀ (v11357 : BitVec 32) (k0_hw855 : k0_chk855 v11357), ∀ a, (k0_off1608 v11357) a + S32.size a ≤ S3407872.size a := fun v11357 k0_hw855 => k0_hw855.2.1
theorem k0_off1624_inb : ∀ (v11357 : BitVec 32) (k0_hw855 : k0_chk855 v11357), ∀ a, (k0_off1624 v11357) a + S32.size a ≤ S3407872.size a := fun v11357 k0_hw855 => k0_hw855.2.2

def k0_mult834 (v11441 : BitVec 32) : BitVec 32 :=
  let c999936_i32_5126 : BitVec 32 := 999936#32
  let v11442 : BitVec 32 := Scalar.subi v11441 c999936_i32_5126
  let c32_i32_5127 : BitVec 32 := 32#32
  let v11443 : BitVec 32 := Scalar.muli v11442 c32_i32_5127
  v11443

def k0_off1625 (v11441 : BitVec 32) : Fin 1 → Nat :=
  let c999936_i32_5126 : BitVec 32 := 999936#32
  let v11442 : BitVec 32 := Scalar.subi v11441 c999936_i32_5126
  let c32_i32_5127 : BitVec 32 := 32#32
  let v11443 : BitVec 32 := Scalar.muli v11442 c32_i32_5127
  let v11444 : BitVec 32 := v11443
  ![v11444.toNat]
def k0_mult835 (v11450 : BitVec 32) : BitVec 32 :=
  let c999936_i32_5130 : BitVec 32 := 999936#32
  let v11451 : BitVec 32 := Scalar.subi v11450 c999936_i32_5130
  let c32_i32_5131 : BitVec 32 := 32#32
  let v11452 : BitVec 32 := Scalar.muli v11451 c32_i32_5131
  v11452

def k0_off1626 (v11450 : BitVec 32) : Fin 1 → Nat :=
  let c999936_i32_5130 : BitVec 32 := 999936#32
  let v11451 : BitVec 32 := Scalar.subi v11450 c999936_i32_5130
  let c32_i32_5131 : BitVec 32 := 32#32
  let v11452 : BitVec 32 := Scalar.muli v11451 c32_i32_5131
  let v11453 : BitVec 32 := v11452
  ![v11453.toNat]
def k0_mult836 (v11459 : BitVec 32) : BitVec 32 :=
  let c999936_i32_5134 : BitVec 32 := 999936#32
  let v11460 : BitVec 32 := Scalar.subi v11459 c999936_i32_5134
  let c32_i32_5135 : BitVec 32 := 32#32
  let v11461 : BitVec 32 := Scalar.muli v11460 c32_i32_5135
  v11461

def k0_off1627 (v11459 : BitVec 32) : Fin 1 → Nat :=
  let c999936_i32_5134 : BitVec 32 := 999936#32
  let v11460 : BitVec 32 := Scalar.subi v11459 c999936_i32_5134
  let c32_i32_5135 : BitVec 32 := 32#32
  let v11461 : BitVec 32 := Scalar.muli v11460 c32_i32_5135
  let v11462 : BitVec 32 := v11461
  ![v11462.toNat]
def k0_mult837 (v11468 : BitVec 32) : BitVec 32 :=
  let c999936_i32_5138 : BitVec 32 := 999936#32
  let v11469 : BitVec 32 := Scalar.subi v11468 c999936_i32_5138
  let c32_i32_5139 : BitVec 32 := 32#32
  let v11470 : BitVec 32 := Scalar.muli v11469 c32_i32_5139
  v11470

def k0_off1628 (v11468 : BitVec 32) : Fin 1 → Nat :=
  let c999936_i32_5138 : BitVec 32 := 999936#32
  let v11469 : BitVec 32 := Scalar.subi v11468 c999936_i32_5138
  let c32_i32_5139 : BitVec 32 := 32#32
  let v11470 : BitVec 32 := Scalar.muli v11469 c32_i32_5139
  let v11471 : BitVec 32 := v11470
  ![v11471.toNat]
def k0_mult838 (v11477 : BitVec 32) : BitVec 32 :=
  let c999936_i32_5142 : BitVec 32 := 999936#32
  let v11478 : BitVec 32 := Scalar.subi v11477 c999936_i32_5142
  let c32_i32_5143 : BitVec 32 := 32#32
  let v11479 : BitVec 32 := Scalar.muli v11478 c32_i32_5143
  v11479

def k0_off1629 (v11477 : BitVec 32) : Fin 1 → Nat :=
  let c999936_i32_5142 : BitVec 32 := 999936#32
  let v11478 : BitVec 32 := Scalar.subi v11477 c999936_i32_5142
  let c32_i32_5143 : BitVec 32 := 32#32
  let v11479 : BitVec 32 := Scalar.muli v11478 c32_i32_5143
  let v11480 : BitVec 32 := v11479
  ![v11480.toNat]
def k0_mult839 (v11486 : BitVec 32) : BitVec 32 :=
  let c999936_i32_5146 : BitVec 32 := 999936#32
  let v11487 : BitVec 32 := Scalar.subi v11486 c999936_i32_5146
  let c32_i32_5147 : BitVec 32 := 32#32
  let v11488 : BitVec 32 := Scalar.muli v11487 c32_i32_5147
  v11488

def k0_off1630 (v11486 : BitVec 32) : Fin 1 → Nat :=
  let c999936_i32_5146 : BitVec 32 := 999936#32
  let v11487 : BitVec 32 := Scalar.subi v11486 c999936_i32_5146
  let c32_i32_5147 : BitVec 32 := 32#32
  let v11488 : BitVec 32 := Scalar.muli v11487 c32_i32_5147
  let v11489 : BitVec 32 := v11488
  ![v11489.toNat]
def k0_mult840 (v11495 : BitVec 32) : BitVec 32 :=
  let c999936_i32_5150 : BitVec 32 := 999936#32
  let v11496 : BitVec 32 := Scalar.subi v11495 c999936_i32_5150
  let c32_i32_5151 : BitVec 32 := 32#32
  let v11497 : BitVec 32 := Scalar.muli v11496 c32_i32_5151
  v11497

def k0_off1631 (v11495 : BitVec 32) : Fin 1 → Nat :=
  let c999936_i32_5150 : BitVec 32 := 999936#32
  let v11496 : BitVec 32 := Scalar.subi v11495 c999936_i32_5150
  let c32_i32_5151 : BitVec 32 := 32#32
  let v11497 : BitVec 32 := Scalar.muli v11496 c32_i32_5151
  let v11498 : BitVec 32 := v11497
  ![v11498.toNat]
def k0_mult841 (v11504 : BitVec 32) : BitVec 32 :=
  let c999936_i32_5154 : BitVec 32 := 999936#32
  let v11505 : BitVec 32 := Scalar.subi v11504 c999936_i32_5154
  let c32_i32_5155 : BitVec 32 := 32#32
  let v11506 : BitVec 32 := Scalar.muli v11505 c32_i32_5155
  v11506

def k0_off1632 (v11504 : BitVec 32) : Fin 1 → Nat :=
  let c999936_i32_5154 : BitVec 32 := 999936#32
  let v11505 : BitVec 32 := Scalar.subi v11504 c999936_i32_5154
  let c32_i32_5155 : BitVec 32 := 32#32
  let v11506 : BitVec 32 := Scalar.muli v11505 c32_i32_5155
  let v11507 : BitVec 32 := v11506
  ![v11507.toNat]
def k0_mult842 (v11513 : BitVec 32) : BitVec 32 :=
  let c999936_i32_5158 : BitVec 32 := 999936#32
  let v11514 : BitVec 32 := Scalar.subi v11513 c999936_i32_5158
  let c32_i32_5159 : BitVec 32 := 32#32
  let v11515 : BitVec 32 := Scalar.muli v11514 c32_i32_5159
  v11515

def k0_off1633 (v11513 : BitVec 32) : Fin 1 → Nat :=
  let c999936_i32_5158 : BitVec 32 := 999936#32
  let v11514 : BitVec 32 := Scalar.subi v11513 c999936_i32_5158
  let c32_i32_5159 : BitVec 32 := 32#32
  let v11515 : BitVec 32 := Scalar.muli v11514 c32_i32_5159
  let v11516 : BitVec 32 := v11515
  ![v11516.toNat]
def k0_mult843 (v11522 : BitVec 32) : BitVec 32 :=
  let c999936_i32_5162 : BitVec 32 := 999936#32
  let v11523 : BitVec 32 := Scalar.subi v11522 c999936_i32_5162
  let c32_i32_5163 : BitVec 32 := 32#32
  let v11524 : BitVec 32 := Scalar.muli v11523 c32_i32_5163
  v11524

def k0_off1634 (v11522 : BitVec 32) : Fin 1 → Nat :=
  let c999936_i32_5162 : BitVec 32 := 999936#32
  let v11523 : BitVec 32 := Scalar.subi v11522 c999936_i32_5162
  let c32_i32_5163 : BitVec 32 := 32#32
  let v11524 : BitVec 32 := Scalar.muli v11523 c32_i32_5163
  let v11525 : BitVec 32 := v11524
  ![v11525.toNat]
def k0_mult844 (v11531 : BitVec 32) : BitVec 32 :=
  let c999936_i32_5166 : BitVec 32 := 999936#32
  let v11532 : BitVec 32 := Scalar.subi v11531 c999936_i32_5166
  let c32_i32_5167 : BitVec 32 := 32#32
  let v11533 : BitVec 32 := Scalar.muli v11532 c32_i32_5167
  v11533

def k0_off1635 (v11531 : BitVec 32) : Fin 1 → Nat :=
  let c999936_i32_5166 : BitVec 32 := 999936#32
  let v11532 : BitVec 32 := Scalar.subi v11531 c999936_i32_5166
  let c32_i32_5167 : BitVec 32 := 32#32
  let v11533 : BitVec 32 := Scalar.muli v11532 c32_i32_5167
  let v11534 : BitVec 32 := v11533
  ![v11534.toNat]
def k0_mult845 (v11540 : BitVec 32) : BitVec 32 :=
  let c999936_i32_5170 : BitVec 32 := 999936#32
  let v11541 : BitVec 32 := Scalar.subi v11540 c999936_i32_5170
  let c32_i32_5171 : BitVec 32 := 32#32
  let v11542 : BitVec 32 := Scalar.muli v11541 c32_i32_5171
  v11542

def k0_off1636 (v11540 : BitVec 32) : Fin 1 → Nat :=
  let c999936_i32_5170 : BitVec 32 := 999936#32
  let v11541 : BitVec 32 := Scalar.subi v11540 c999936_i32_5170
  let c32_i32_5171 : BitVec 32 := 32#32
  let v11542 : BitVec 32 := Scalar.muli v11541 c32_i32_5171
  let v11543 : BitVec 32 := v11542
  ![v11543.toNat]
def k0_mult846 (v11549 : BitVec 32) : BitVec 32 :=
  let c999936_i32_5174 : BitVec 32 := 999936#32
  let v11550 : BitVec 32 := Scalar.subi v11549 c999936_i32_5174
  let c32_i32_5175 : BitVec 32 := 32#32
  let v11551 : BitVec 32 := Scalar.muli v11550 c32_i32_5175
  v11551

def k0_off1637 (v11549 : BitVec 32) : Fin 1 → Nat :=
  let c999936_i32_5174 : BitVec 32 := 999936#32
  let v11550 : BitVec 32 := Scalar.subi v11549 c999936_i32_5174
  let c32_i32_5175 : BitVec 32 := 32#32
  let v11551 : BitVec 32 := Scalar.muli v11550 c32_i32_5175
  let v11552 : BitVec 32 := v11551
  ![v11552.toNat]
def k0_mult847 (v11558 : BitVec 32) : BitVec 32 :=
  let c999936_i32_5178 : BitVec 32 := 999936#32
  let v11559 : BitVec 32 := Scalar.subi v11558 c999936_i32_5178
  let c32_i32_5179 : BitVec 32 := 32#32
  let v11560 : BitVec 32 := Scalar.muli v11559 c32_i32_5179
  v11560

def k0_off1638 (v11558 : BitVec 32) : Fin 1 → Nat :=
  let c999936_i32_5178 : BitVec 32 := 999936#32
  let v11559 : BitVec 32 := Scalar.subi v11558 c999936_i32_5178
  let c32_i32_5179 : BitVec 32 := 32#32
  let v11560 : BitVec 32 := Scalar.muli v11559 c32_i32_5179
  let v11561 : BitVec 32 := v11560
  ![v11561.toNat]
def k0_mult848 (v11567 : BitVec 32) : BitVec 32 :=
  let c999936_i32_5182 : BitVec 32 := 999936#32
  let v11568 : BitVec 32 := Scalar.subi v11567 c999936_i32_5182
  let c32_i32_5183 : BitVec 32 := 32#32
  let v11569 : BitVec 32 := Scalar.muli v11568 c32_i32_5183
  v11569

def k0_off1639 (v11567 : BitVec 32) : Fin 1 → Nat :=
  let c999936_i32_5182 : BitVec 32 := 999936#32
  let v11568 : BitVec 32 := Scalar.subi v11567 c999936_i32_5182
  let c32_i32_5183 : BitVec 32 := 32#32
  let v11569 : BitVec 32 := Scalar.muli v11568 c32_i32_5183
  let v11570 : BitVec 32 := v11569
  ![v11570.toNat]
def k0_mult849 (v11576 : BitVec 32) : BitVec 32 :=
  let c999936_i32_5186 : BitVec 32 := 999936#32
  let v11577 : BitVec 32 := Scalar.subi v11576 c999936_i32_5186
  let c32_i32_5187 : BitVec 32 := 32#32
  let v11578 : BitVec 32 := Scalar.muli v11577 c32_i32_5187
  v11578

def k0_off1640 (v11576 : BitVec 32) : Fin 1 → Nat :=
  let c999936_i32_5186 : BitVec 32 := 999936#32
  let v11577 : BitVec 32 := Scalar.subi v11576 c999936_i32_5186
  let c32_i32_5187 : BitVec 32 := 32#32
  let v11578 : BitVec 32 := Scalar.muli v11577 c32_i32_5187
  let v11579 : BitVec 32 := v11578
  ![v11579.toNat]

def k0_chk872 (v11576 : BitVec 32) : Prop :=
  (8 ∣ (k0_mult849 v11576).toNat) ∧
  (∀ a, (k0_off1640 v11576) a + S32.size a ≤ S2048.size a)
theorem k0_mult849_dvd : ∀ (v11576 : BitVec 32) (k0_hw872 : k0_chk872 v11576), 8 ∣ (k0_mult849 v11576).toNat := fun v11576 k0_hw872 => k0_hw872.1
theorem k0_off1640_inb : ∀ (v11576 : BitVec 32) (k0_hw872 : k0_chk872 v11576), ∀ a, (k0_off1640 v11576) a + S32.size a ≤ S2048.size a := fun v11576 k0_hw872 => k0_hw872.2

def k0_off1641 (v11441 : BitVec 32) : Fin 1 → Nat :=
  let c999936_i32_5126 : BitVec 32 := 999936#32
  let v11442 : BitVec 32 := Scalar.subi v11441 c999936_i32_5126
  let c32_i32_5127 : BitVec 32 := 32#32
  let v11443 : BitVec 32 := Scalar.muli v11442 c32_i32_5127
  let v11444 : BitVec 32 := v11443
  ![v11444.toNat]

def k0_chk857 (v11441 : BitVec 32) : Prop :=
  (8 ∣ (k0_mult834 v11441).toNat) ∧
  (∀ a, (k0_off1625 v11441) a + S32.size a ≤ S2048.size a) ∧
  (∀ a, (k0_off1641 v11441) a + S32.size a ≤ S2048.size a)
theorem k0_mult834_dvd : ∀ (v11441 : BitVec 32) (k0_hw857 : k0_chk857 v11441), 8 ∣ (k0_mult834 v11441).toNat := fun v11441 k0_hw857 => k0_hw857.1
theorem k0_off1625_inb : ∀ (v11441 : BitVec 32) (k0_hw857 : k0_chk857 v11441), ∀ a, (k0_off1625 v11441) a + S32.size a ≤ S2048.size a := fun v11441 k0_hw857 => k0_hw857.2.1
theorem k0_off1641_inb : ∀ (v11441 : BitVec 32) (k0_hw857 : k0_chk857 v11441), ∀ a, (k0_off1641 v11441) a + S32.size a ≤ S2048.size a := fun v11441 k0_hw857 => k0_hw857.2.2

def k0_off1642 (v11450 : BitVec 32) : Fin 1 → Nat :=
  let c999936_i32_5130 : BitVec 32 := 999936#32
  let v11451 : BitVec 32 := Scalar.subi v11450 c999936_i32_5130
  let c32_i32_5131 : BitVec 32 := 32#32
  let v11452 : BitVec 32 := Scalar.muli v11451 c32_i32_5131
  let v11453 : BitVec 32 := v11452
  ![v11453.toNat]

def k0_chk858 (v11450 : BitVec 32) : Prop :=
  (8 ∣ (k0_mult835 v11450).toNat) ∧
  (∀ a, (k0_off1626 v11450) a + S32.size a ≤ S2048.size a) ∧
  (∀ a, (k0_off1642 v11450) a + S32.size a ≤ S2048.size a)
theorem k0_mult835_dvd : ∀ (v11450 : BitVec 32) (k0_hw858 : k0_chk858 v11450), 8 ∣ (k0_mult835 v11450).toNat := fun v11450 k0_hw858 => k0_hw858.1
theorem k0_off1626_inb : ∀ (v11450 : BitVec 32) (k0_hw858 : k0_chk858 v11450), ∀ a, (k0_off1626 v11450) a + S32.size a ≤ S2048.size a := fun v11450 k0_hw858 => k0_hw858.2.1
theorem k0_off1642_inb : ∀ (v11450 : BitVec 32) (k0_hw858 : k0_chk858 v11450), ∀ a, (k0_off1642 v11450) a + S32.size a ≤ S2048.size a := fun v11450 k0_hw858 => k0_hw858.2.2

def k0_off1643 (v11459 : BitVec 32) : Fin 1 → Nat :=
  let c999936_i32_5134 : BitVec 32 := 999936#32
  let v11460 : BitVec 32 := Scalar.subi v11459 c999936_i32_5134
  let c32_i32_5135 : BitVec 32 := 32#32
  let v11461 : BitVec 32 := Scalar.muli v11460 c32_i32_5135
  let v11462 : BitVec 32 := v11461
  ![v11462.toNat]

def k0_chk859 (v11459 : BitVec 32) : Prop :=
  (8 ∣ (k0_mult836 v11459).toNat) ∧
  (∀ a, (k0_off1627 v11459) a + S32.size a ≤ S2048.size a) ∧
  (∀ a, (k0_off1643 v11459) a + S32.size a ≤ S2048.size a)
theorem k0_mult836_dvd : ∀ (v11459 : BitVec 32) (k0_hw859 : k0_chk859 v11459), 8 ∣ (k0_mult836 v11459).toNat := fun v11459 k0_hw859 => k0_hw859.1
theorem k0_off1627_inb : ∀ (v11459 : BitVec 32) (k0_hw859 : k0_chk859 v11459), ∀ a, (k0_off1627 v11459) a + S32.size a ≤ S2048.size a := fun v11459 k0_hw859 => k0_hw859.2.1
theorem k0_off1643_inb : ∀ (v11459 : BitVec 32) (k0_hw859 : k0_chk859 v11459), ∀ a, (k0_off1643 v11459) a + S32.size a ≤ S2048.size a := fun v11459 k0_hw859 => k0_hw859.2.2

def k0_off1644 (v11468 : BitVec 32) : Fin 1 → Nat :=
  let c999936_i32_5138 : BitVec 32 := 999936#32
  let v11469 : BitVec 32 := Scalar.subi v11468 c999936_i32_5138
  let c32_i32_5139 : BitVec 32 := 32#32
  let v11470 : BitVec 32 := Scalar.muli v11469 c32_i32_5139
  let v11471 : BitVec 32 := v11470
  ![v11471.toNat]

def k0_chk860 (v11468 : BitVec 32) : Prop :=
  (8 ∣ (k0_mult837 v11468).toNat) ∧
  (∀ a, (k0_off1628 v11468) a + S32.size a ≤ S2048.size a) ∧
  (∀ a, (k0_off1644 v11468) a + S32.size a ≤ S2048.size a)
theorem k0_mult837_dvd : ∀ (v11468 : BitVec 32) (k0_hw860 : k0_chk860 v11468), 8 ∣ (k0_mult837 v11468).toNat := fun v11468 k0_hw860 => k0_hw860.1
theorem k0_off1628_inb : ∀ (v11468 : BitVec 32) (k0_hw860 : k0_chk860 v11468), ∀ a, (k0_off1628 v11468) a + S32.size a ≤ S2048.size a := fun v11468 k0_hw860 => k0_hw860.2.1
theorem k0_off1644_inb : ∀ (v11468 : BitVec 32) (k0_hw860 : k0_chk860 v11468), ∀ a, (k0_off1644 v11468) a + S32.size a ≤ S2048.size a := fun v11468 k0_hw860 => k0_hw860.2.2

def k0_off1645 (v11477 : BitVec 32) : Fin 1 → Nat :=
  let c999936_i32_5142 : BitVec 32 := 999936#32
  let v11478 : BitVec 32 := Scalar.subi v11477 c999936_i32_5142
  let c32_i32_5143 : BitVec 32 := 32#32
  let v11479 : BitVec 32 := Scalar.muli v11478 c32_i32_5143
  let v11480 : BitVec 32 := v11479
  ![v11480.toNat]

def k0_chk861 (v11477 : BitVec 32) : Prop :=
  (8 ∣ (k0_mult838 v11477).toNat) ∧
  (∀ a, (k0_off1629 v11477) a + S32.size a ≤ S2048.size a) ∧
  (∀ a, (k0_off1645 v11477) a + S32.size a ≤ S2048.size a)
theorem k0_mult838_dvd : ∀ (v11477 : BitVec 32) (k0_hw861 : k0_chk861 v11477), 8 ∣ (k0_mult838 v11477).toNat := fun v11477 k0_hw861 => k0_hw861.1
theorem k0_off1629_inb : ∀ (v11477 : BitVec 32) (k0_hw861 : k0_chk861 v11477), ∀ a, (k0_off1629 v11477) a + S32.size a ≤ S2048.size a := fun v11477 k0_hw861 => k0_hw861.2.1
theorem k0_off1645_inb : ∀ (v11477 : BitVec 32) (k0_hw861 : k0_chk861 v11477), ∀ a, (k0_off1645 v11477) a + S32.size a ≤ S2048.size a := fun v11477 k0_hw861 => k0_hw861.2.2

def k0_off1646 (v11486 : BitVec 32) : Fin 1 → Nat :=
  let c999936_i32_5146 : BitVec 32 := 999936#32
  let v11487 : BitVec 32 := Scalar.subi v11486 c999936_i32_5146
  let c32_i32_5147 : BitVec 32 := 32#32
  let v11488 : BitVec 32 := Scalar.muli v11487 c32_i32_5147
  let v11489 : BitVec 32 := v11488
  ![v11489.toNat]

def k0_chk862 (v11486 : BitVec 32) : Prop :=
  (8 ∣ (k0_mult839 v11486).toNat) ∧
  (∀ a, (k0_off1630 v11486) a + S32.size a ≤ S2048.size a) ∧
  (∀ a, (k0_off1646 v11486) a + S32.size a ≤ S2048.size a)
theorem k0_mult839_dvd : ∀ (v11486 : BitVec 32) (k0_hw862 : k0_chk862 v11486), 8 ∣ (k0_mult839 v11486).toNat := fun v11486 k0_hw862 => k0_hw862.1
theorem k0_off1630_inb : ∀ (v11486 : BitVec 32) (k0_hw862 : k0_chk862 v11486), ∀ a, (k0_off1630 v11486) a + S32.size a ≤ S2048.size a := fun v11486 k0_hw862 => k0_hw862.2.1
theorem k0_off1646_inb : ∀ (v11486 : BitVec 32) (k0_hw862 : k0_chk862 v11486), ∀ a, (k0_off1646 v11486) a + S32.size a ≤ S2048.size a := fun v11486 k0_hw862 => k0_hw862.2.2

def k0_off1647 (v11495 : BitVec 32) : Fin 1 → Nat :=
  let c999936_i32_5150 : BitVec 32 := 999936#32
  let v11496 : BitVec 32 := Scalar.subi v11495 c999936_i32_5150
  let c32_i32_5151 : BitVec 32 := 32#32
  let v11497 : BitVec 32 := Scalar.muli v11496 c32_i32_5151
  let v11498 : BitVec 32 := v11497
  ![v11498.toNat]

def k0_chk863 (v11495 : BitVec 32) : Prop :=
  (8 ∣ (k0_mult840 v11495).toNat) ∧
  (∀ a, (k0_off1631 v11495) a + S32.size a ≤ S2048.size a) ∧
  (∀ a, (k0_off1647 v11495) a + S32.size a ≤ S2048.size a)
theorem k0_mult840_dvd : ∀ (v11495 : BitVec 32) (k0_hw863 : k0_chk863 v11495), 8 ∣ (k0_mult840 v11495).toNat := fun v11495 k0_hw863 => k0_hw863.1
theorem k0_off1631_inb : ∀ (v11495 : BitVec 32) (k0_hw863 : k0_chk863 v11495), ∀ a, (k0_off1631 v11495) a + S32.size a ≤ S2048.size a := fun v11495 k0_hw863 => k0_hw863.2.1
theorem k0_off1647_inb : ∀ (v11495 : BitVec 32) (k0_hw863 : k0_chk863 v11495), ∀ a, (k0_off1647 v11495) a + S32.size a ≤ S2048.size a := fun v11495 k0_hw863 => k0_hw863.2.2

def k0_off1648 (v11504 : BitVec 32) : Fin 1 → Nat :=
  let c999936_i32_5154 : BitVec 32 := 999936#32
  let v11505 : BitVec 32 := Scalar.subi v11504 c999936_i32_5154
  let c32_i32_5155 : BitVec 32 := 32#32
  let v11506 : BitVec 32 := Scalar.muli v11505 c32_i32_5155
  let v11507 : BitVec 32 := v11506
  ![v11507.toNat]

def k0_chk864 (v11504 : BitVec 32) : Prop :=
  (8 ∣ (k0_mult841 v11504).toNat) ∧
  (∀ a, (k0_off1632 v11504) a + S32.size a ≤ S2048.size a) ∧
  (∀ a, (k0_off1648 v11504) a + S32.size a ≤ S2048.size a)
theorem k0_mult841_dvd : ∀ (v11504 : BitVec 32) (k0_hw864 : k0_chk864 v11504), 8 ∣ (k0_mult841 v11504).toNat := fun v11504 k0_hw864 => k0_hw864.1
theorem k0_off1632_inb : ∀ (v11504 : BitVec 32) (k0_hw864 : k0_chk864 v11504), ∀ a, (k0_off1632 v11504) a + S32.size a ≤ S2048.size a := fun v11504 k0_hw864 => k0_hw864.2.1
theorem k0_off1648_inb : ∀ (v11504 : BitVec 32) (k0_hw864 : k0_chk864 v11504), ∀ a, (k0_off1648 v11504) a + S32.size a ≤ S2048.size a := fun v11504 k0_hw864 => k0_hw864.2.2

def k0_off1649 (v11513 : BitVec 32) : Fin 1 → Nat :=
  let c999936_i32_5158 : BitVec 32 := 999936#32
  let v11514 : BitVec 32 := Scalar.subi v11513 c999936_i32_5158
  let c32_i32_5159 : BitVec 32 := 32#32
  let v11515 : BitVec 32 := Scalar.muli v11514 c32_i32_5159
  let v11516 : BitVec 32 := v11515
  ![v11516.toNat]

def k0_chk865 (v11513 : BitVec 32) : Prop :=
  (8 ∣ (k0_mult842 v11513).toNat) ∧
  (∀ a, (k0_off1633 v11513) a + S32.size a ≤ S2048.size a) ∧
  (∀ a, (k0_off1649 v11513) a + S32.size a ≤ S2048.size a)
theorem k0_mult842_dvd : ∀ (v11513 : BitVec 32) (k0_hw865 : k0_chk865 v11513), 8 ∣ (k0_mult842 v11513).toNat := fun v11513 k0_hw865 => k0_hw865.1
theorem k0_off1633_inb : ∀ (v11513 : BitVec 32) (k0_hw865 : k0_chk865 v11513), ∀ a, (k0_off1633 v11513) a + S32.size a ≤ S2048.size a := fun v11513 k0_hw865 => k0_hw865.2.1
theorem k0_off1649_inb : ∀ (v11513 : BitVec 32) (k0_hw865 : k0_chk865 v11513), ∀ a, (k0_off1649 v11513) a + S32.size a ≤ S2048.size a := fun v11513 k0_hw865 => k0_hw865.2.2

def k0_off1650 (v11522 : BitVec 32) : Fin 1 → Nat :=
  let c999936_i32_5162 : BitVec 32 := 999936#32
  let v11523 : BitVec 32 := Scalar.subi v11522 c999936_i32_5162
  let c32_i32_5163 : BitVec 32 := 32#32
  let v11524 : BitVec 32 := Scalar.muli v11523 c32_i32_5163
  let v11525 : BitVec 32 := v11524
  ![v11525.toNat]

def k0_chk866 (v11522 : BitVec 32) : Prop :=
  (8 ∣ (k0_mult843 v11522).toNat) ∧
  (∀ a, (k0_off1634 v11522) a + S32.size a ≤ S2048.size a) ∧
  (∀ a, (k0_off1650 v11522) a + S32.size a ≤ S2048.size a)
theorem k0_mult843_dvd : ∀ (v11522 : BitVec 32) (k0_hw866 : k0_chk866 v11522), 8 ∣ (k0_mult843 v11522).toNat := fun v11522 k0_hw866 => k0_hw866.1
theorem k0_off1634_inb : ∀ (v11522 : BitVec 32) (k0_hw866 : k0_chk866 v11522), ∀ a, (k0_off1634 v11522) a + S32.size a ≤ S2048.size a := fun v11522 k0_hw866 => k0_hw866.2.1
theorem k0_off1650_inb : ∀ (v11522 : BitVec 32) (k0_hw866 : k0_chk866 v11522), ∀ a, (k0_off1650 v11522) a + S32.size a ≤ S2048.size a := fun v11522 k0_hw866 => k0_hw866.2.2

def k0_off1651 (v11531 : BitVec 32) : Fin 1 → Nat :=
  let c999936_i32_5166 : BitVec 32 := 999936#32
  let v11532 : BitVec 32 := Scalar.subi v11531 c999936_i32_5166
  let c32_i32_5167 : BitVec 32 := 32#32
  let v11533 : BitVec 32 := Scalar.muli v11532 c32_i32_5167
  let v11534 : BitVec 32 := v11533
  ![v11534.toNat]

def k0_chk867 (v11531 : BitVec 32) : Prop :=
  (8 ∣ (k0_mult844 v11531).toNat) ∧
  (∀ a, (k0_off1635 v11531) a + S32.size a ≤ S2048.size a) ∧
  (∀ a, (k0_off1651 v11531) a + S32.size a ≤ S2048.size a)
theorem k0_mult844_dvd : ∀ (v11531 : BitVec 32) (k0_hw867 : k0_chk867 v11531), 8 ∣ (k0_mult844 v11531).toNat := fun v11531 k0_hw867 => k0_hw867.1
theorem k0_off1635_inb : ∀ (v11531 : BitVec 32) (k0_hw867 : k0_chk867 v11531), ∀ a, (k0_off1635 v11531) a + S32.size a ≤ S2048.size a := fun v11531 k0_hw867 => k0_hw867.2.1
theorem k0_off1651_inb : ∀ (v11531 : BitVec 32) (k0_hw867 : k0_chk867 v11531), ∀ a, (k0_off1651 v11531) a + S32.size a ≤ S2048.size a := fun v11531 k0_hw867 => k0_hw867.2.2

def k0_off1652 (v11540 : BitVec 32) : Fin 1 → Nat :=
  let c999936_i32_5170 : BitVec 32 := 999936#32
  let v11541 : BitVec 32 := Scalar.subi v11540 c999936_i32_5170
  let c32_i32_5171 : BitVec 32 := 32#32
  let v11542 : BitVec 32 := Scalar.muli v11541 c32_i32_5171
  let v11543 : BitVec 32 := v11542
  ![v11543.toNat]

def k0_chk868 (v11540 : BitVec 32) : Prop :=
  (8 ∣ (k0_mult845 v11540).toNat) ∧
  (∀ a, (k0_off1636 v11540) a + S32.size a ≤ S2048.size a) ∧
  (∀ a, (k0_off1652 v11540) a + S32.size a ≤ S2048.size a)
theorem k0_mult845_dvd : ∀ (v11540 : BitVec 32) (k0_hw868 : k0_chk868 v11540), 8 ∣ (k0_mult845 v11540).toNat := fun v11540 k0_hw868 => k0_hw868.1
theorem k0_off1636_inb : ∀ (v11540 : BitVec 32) (k0_hw868 : k0_chk868 v11540), ∀ a, (k0_off1636 v11540) a + S32.size a ≤ S2048.size a := fun v11540 k0_hw868 => k0_hw868.2.1
theorem k0_off1652_inb : ∀ (v11540 : BitVec 32) (k0_hw868 : k0_chk868 v11540), ∀ a, (k0_off1652 v11540) a + S32.size a ≤ S2048.size a := fun v11540 k0_hw868 => k0_hw868.2.2

def k0_off1653 (v11549 : BitVec 32) : Fin 1 → Nat :=
  let c999936_i32_5174 : BitVec 32 := 999936#32
  let v11550 : BitVec 32 := Scalar.subi v11549 c999936_i32_5174
  let c32_i32_5175 : BitVec 32 := 32#32
  let v11551 : BitVec 32 := Scalar.muli v11550 c32_i32_5175
  let v11552 : BitVec 32 := v11551
  ![v11552.toNat]

def k0_chk869 (v11549 : BitVec 32) : Prop :=
  (8 ∣ (k0_mult846 v11549).toNat) ∧
  (∀ a, (k0_off1637 v11549) a + S32.size a ≤ S2048.size a) ∧
  (∀ a, (k0_off1653 v11549) a + S32.size a ≤ S2048.size a)
theorem k0_mult846_dvd : ∀ (v11549 : BitVec 32) (k0_hw869 : k0_chk869 v11549), 8 ∣ (k0_mult846 v11549).toNat := fun v11549 k0_hw869 => k0_hw869.1
theorem k0_off1637_inb : ∀ (v11549 : BitVec 32) (k0_hw869 : k0_chk869 v11549), ∀ a, (k0_off1637 v11549) a + S32.size a ≤ S2048.size a := fun v11549 k0_hw869 => k0_hw869.2.1
theorem k0_off1653_inb : ∀ (v11549 : BitVec 32) (k0_hw869 : k0_chk869 v11549), ∀ a, (k0_off1653 v11549) a + S32.size a ≤ S2048.size a := fun v11549 k0_hw869 => k0_hw869.2.2

def k0_off1654 (v11558 : BitVec 32) : Fin 1 → Nat :=
  let c999936_i32_5178 : BitVec 32 := 999936#32
  let v11559 : BitVec 32 := Scalar.subi v11558 c999936_i32_5178
  let c32_i32_5179 : BitVec 32 := 32#32
  let v11560 : BitVec 32 := Scalar.muli v11559 c32_i32_5179
  let v11561 : BitVec 32 := v11560
  ![v11561.toNat]

def k0_chk870 (v11558 : BitVec 32) : Prop :=
  (8 ∣ (k0_mult847 v11558).toNat) ∧
  (∀ a, (k0_off1638 v11558) a + S32.size a ≤ S2048.size a) ∧
  (∀ a, (k0_off1654 v11558) a + S32.size a ≤ S2048.size a)
theorem k0_mult847_dvd : ∀ (v11558 : BitVec 32) (k0_hw870 : k0_chk870 v11558), 8 ∣ (k0_mult847 v11558).toNat := fun v11558 k0_hw870 => k0_hw870.1
theorem k0_off1638_inb : ∀ (v11558 : BitVec 32) (k0_hw870 : k0_chk870 v11558), ∀ a, (k0_off1638 v11558) a + S32.size a ≤ S2048.size a := fun v11558 k0_hw870 => k0_hw870.2.1
theorem k0_off1654_inb : ∀ (v11558 : BitVec 32) (k0_hw870 : k0_chk870 v11558), ∀ a, (k0_off1654 v11558) a + S32.size a ≤ S2048.size a := fun v11558 k0_hw870 => k0_hw870.2.2

def k0_off1655 (v11567 : BitVec 32) : Fin 1 → Nat :=
  let c999936_i32_5182 : BitVec 32 := 999936#32
  let v11568 : BitVec 32 := Scalar.subi v11567 c999936_i32_5182
  let c32_i32_5183 : BitVec 32 := 32#32
  let v11569 : BitVec 32 := Scalar.muli v11568 c32_i32_5183
  let v11570 : BitVec 32 := v11569
  ![v11570.toNat]

def k0_chk871 (v11567 : BitVec 32) : Prop :=
  (8 ∣ (k0_mult848 v11567).toNat) ∧
  (∀ a, (k0_off1639 v11567) a + S32.size a ≤ S2048.size a) ∧
  (∀ a, (k0_off1655 v11567) a + S32.size a ≤ S2048.size a)
theorem k0_mult848_dvd : ∀ (v11567 : BitVec 32) (k0_hw871 : k0_chk871 v11567), 8 ∣ (k0_mult848 v11567).toNat := fun v11567 k0_hw871 => k0_hw871.1
theorem k0_off1639_inb : ∀ (v11567 : BitVec 32) (k0_hw871 : k0_chk871 v11567), ∀ a, (k0_off1639 v11567) a + S32.size a ≤ S2048.size a := fun v11567 k0_hw871 => k0_hw871.2.1
theorem k0_off1655_inb : ∀ (v11567 : BitVec 32) (k0_hw871 : k0_chk871 v11567), ∀ a, (k0_off1655 v11567) a + S32.size a ≤ S2048.size a := fun v11567 k0_hw871 => k0_hw871.2.2

def k0_mult850 (v11649 : BitVec 32) : BitVec 32 :=
  let c1703936_i32_5223 : BitVec 32 := 1703936#32
  let c32_i32_5222 : BitVec 32 := 32#32
  let v11650 : BitVec 32 := Scalar.muli v11649 c32_i32_5222
  let v11651 : BitVec 32 := Scalar.addi c1703936_i32_5223 v11650
  v11651

def k0_off1656 (v11649 : BitVec 32) : Fin 1 → Nat :=
  let c1703936_i32_5223 : BitVec 32 := 1703936#32
  let c32_i32_5222 : BitVec 32 := 32#32
  let v11650 : BitVec 32 := Scalar.muli v11649 c32_i32_5222
  let v11651 : BitVec 32 := Scalar.addi c1703936_i32_5223 v11650
  let v11652 : BitVec 32 := v11651
  ![v11652.toNat]
def k0_mult851 (v11658 : BitVec 32) : BitVec 32 :=
  let c1703936_i32_5227 : BitVec 32 := 1703936#32
  let c32_i32_5226 : BitVec 32 := 32#32
  let v11659 : BitVec 32 := Scalar.muli v11658 c32_i32_5226
  let v11660 : BitVec 32 := Scalar.addi c1703936_i32_5227 v11659
  v11660

def k0_off1657 (v11658 : BitVec 32) : Fin 1 → Nat :=
  let c1703936_i32_5227 : BitVec 32 := 1703936#32
  let c32_i32_5226 : BitVec 32 := 32#32
  let v11659 : BitVec 32 := Scalar.muli v11658 c32_i32_5226
  let v11660 : BitVec 32 := Scalar.addi c1703936_i32_5227 v11659
  let v11661 : BitVec 32 := v11660
  ![v11661.toNat]
def k0_mult852 (v11667 : BitVec 32) : BitVec 32 :=
  let c1703936_i32_5231 : BitVec 32 := 1703936#32
  let c32_i32_5230 : BitVec 32 := 32#32
  let v11668 : BitVec 32 := Scalar.muli v11667 c32_i32_5230
  let v11669 : BitVec 32 := Scalar.addi c1703936_i32_5231 v11668
  v11669

def k0_off1658 (v11667 : BitVec 32) : Fin 1 → Nat :=
  let c1703936_i32_5231 : BitVec 32 := 1703936#32
  let c32_i32_5230 : BitVec 32 := 32#32
  let v11668 : BitVec 32 := Scalar.muli v11667 c32_i32_5230
  let v11669 : BitVec 32 := Scalar.addi c1703936_i32_5231 v11668
  let v11670 : BitVec 32 := v11669
  ![v11670.toNat]
def k0_mult853 (v11676 : BitVec 32) : BitVec 32 :=
  let c1703936_i32_5235 : BitVec 32 := 1703936#32
  let c32_i32_5234 : BitVec 32 := 32#32
  let v11677 : BitVec 32 := Scalar.muli v11676 c32_i32_5234
  let v11678 : BitVec 32 := Scalar.addi c1703936_i32_5235 v11677
  v11678

def k0_off1659 (v11676 : BitVec 32) : Fin 1 → Nat :=
  let c1703936_i32_5235 : BitVec 32 := 1703936#32
  let c32_i32_5234 : BitVec 32 := 32#32
  let v11677 : BitVec 32 := Scalar.muli v11676 c32_i32_5234
  let v11678 : BitVec 32 := Scalar.addi c1703936_i32_5235 v11677
  let v11679 : BitVec 32 := v11678
  ![v11679.toNat]
def k0_mult854 (v11685 : BitVec 32) : BitVec 32 :=
  let c1703936_i32_5239 : BitVec 32 := 1703936#32
  let c32_i32_5238 : BitVec 32 := 32#32
  let v11686 : BitVec 32 := Scalar.muli v11685 c32_i32_5238
  let v11687 : BitVec 32 := Scalar.addi c1703936_i32_5239 v11686
  v11687

def k0_off1660 (v11685 : BitVec 32) : Fin 1 → Nat :=
  let c1703936_i32_5239 : BitVec 32 := 1703936#32
  let c32_i32_5238 : BitVec 32 := 32#32
  let v11686 : BitVec 32 := Scalar.muli v11685 c32_i32_5238
  let v11687 : BitVec 32 := Scalar.addi c1703936_i32_5239 v11686
  let v11688 : BitVec 32 := v11687
  ![v11688.toNat]
def k0_mult855 (v11694 : BitVec 32) : BitVec 32 :=
  let c1703936_i32_5243 : BitVec 32 := 1703936#32
  let c32_i32_5242 : BitVec 32 := 32#32
  let v11695 : BitVec 32 := Scalar.muli v11694 c32_i32_5242
  let v11696 : BitVec 32 := Scalar.addi c1703936_i32_5243 v11695
  v11696

def k0_off1661 (v11694 : BitVec 32) : Fin 1 → Nat :=
  let c1703936_i32_5243 : BitVec 32 := 1703936#32
  let c32_i32_5242 : BitVec 32 := 32#32
  let v11695 : BitVec 32 := Scalar.muli v11694 c32_i32_5242
  let v11696 : BitVec 32 := Scalar.addi c1703936_i32_5243 v11695
  let v11697 : BitVec 32 := v11696
  ![v11697.toNat]
def k0_mult856 (v11703 : BitVec 32) : BitVec 32 :=
  let c1703936_i32_5247 : BitVec 32 := 1703936#32
  let c32_i32_5246 : BitVec 32 := 32#32
  let v11704 : BitVec 32 := Scalar.muli v11703 c32_i32_5246
  let v11705 : BitVec 32 := Scalar.addi c1703936_i32_5247 v11704
  v11705

def k0_off1662 (v11703 : BitVec 32) : Fin 1 → Nat :=
  let c1703936_i32_5247 : BitVec 32 := 1703936#32
  let c32_i32_5246 : BitVec 32 := 32#32
  let v11704 : BitVec 32 := Scalar.muli v11703 c32_i32_5246
  let v11705 : BitVec 32 := Scalar.addi c1703936_i32_5247 v11704
  let v11706 : BitVec 32 := v11705
  ![v11706.toNat]
def k0_mult857 (v11712 : BitVec 32) : BitVec 32 :=
  let c1703936_i32_5251 : BitVec 32 := 1703936#32
  let c32_i32_5250 : BitVec 32 := 32#32
  let v11713 : BitVec 32 := Scalar.muli v11712 c32_i32_5250
  let v11714 : BitVec 32 := Scalar.addi c1703936_i32_5251 v11713
  v11714

def k0_off1663 (v11712 : BitVec 32) : Fin 1 → Nat :=
  let c1703936_i32_5251 : BitVec 32 := 1703936#32
  let c32_i32_5250 : BitVec 32 := 32#32
  let v11713 : BitVec 32 := Scalar.muli v11712 c32_i32_5250
  let v11714 : BitVec 32 := Scalar.addi c1703936_i32_5251 v11713
  let v11715 : BitVec 32 := v11714
  ![v11715.toNat]
def k0_mult858 (v11721 : BitVec 32) : BitVec 32 :=
  let c1703936_i32_5255 : BitVec 32 := 1703936#32
  let c32_i32_5254 : BitVec 32 := 32#32
  let v11722 : BitVec 32 := Scalar.muli v11721 c32_i32_5254
  let v11723 : BitVec 32 := Scalar.addi c1703936_i32_5255 v11722
  v11723

def k0_off1664 (v11721 : BitVec 32) : Fin 1 → Nat :=
  let c1703936_i32_5255 : BitVec 32 := 1703936#32
  let c32_i32_5254 : BitVec 32 := 32#32
  let v11722 : BitVec 32 := Scalar.muli v11721 c32_i32_5254
  let v11723 : BitVec 32 := Scalar.addi c1703936_i32_5255 v11722
  let v11724 : BitVec 32 := v11723
  ![v11724.toNat]
def k0_mult859 (v11730 : BitVec 32) : BitVec 32 :=
  let c1703936_i32_5259 : BitVec 32 := 1703936#32
  let c32_i32_5258 : BitVec 32 := 32#32
  let v11731 : BitVec 32 := Scalar.muli v11730 c32_i32_5258
  let v11732 : BitVec 32 := Scalar.addi c1703936_i32_5259 v11731
  v11732

def k0_off1665 (v11730 : BitVec 32) : Fin 1 → Nat :=
  let c1703936_i32_5259 : BitVec 32 := 1703936#32
  let c32_i32_5258 : BitVec 32 := 32#32
  let v11731 : BitVec 32 := Scalar.muli v11730 c32_i32_5258
  let v11732 : BitVec 32 := Scalar.addi c1703936_i32_5259 v11731
  let v11733 : BitVec 32 := v11732
  ![v11733.toNat]
def k0_mult860 (v11739 : BitVec 32) : BitVec 32 :=
  let c1703936_i32_5263 : BitVec 32 := 1703936#32
  let c32_i32_5262 : BitVec 32 := 32#32
  let v11740 : BitVec 32 := Scalar.muli v11739 c32_i32_5262
  let v11741 : BitVec 32 := Scalar.addi c1703936_i32_5263 v11740
  v11741

def k0_off1666 (v11739 : BitVec 32) : Fin 1 → Nat :=
  let c1703936_i32_5263 : BitVec 32 := 1703936#32
  let c32_i32_5262 : BitVec 32 := 32#32
  let v11740 : BitVec 32 := Scalar.muli v11739 c32_i32_5262
  let v11741 : BitVec 32 := Scalar.addi c1703936_i32_5263 v11740
  let v11742 : BitVec 32 := v11741
  ![v11742.toNat]
def k0_mult861 (v11748 : BitVec 32) : BitVec 32 :=
  let c1703936_i32_5267 : BitVec 32 := 1703936#32
  let c32_i32_5266 : BitVec 32 := 32#32
  let v11749 : BitVec 32 := Scalar.muli v11748 c32_i32_5266
  let v11750 : BitVec 32 := Scalar.addi c1703936_i32_5267 v11749
  v11750

def k0_off1667 (v11748 : BitVec 32) : Fin 1 → Nat :=
  let c1703936_i32_5267 : BitVec 32 := 1703936#32
  let c32_i32_5266 : BitVec 32 := 32#32
  let v11749 : BitVec 32 := Scalar.muli v11748 c32_i32_5266
  let v11750 : BitVec 32 := Scalar.addi c1703936_i32_5267 v11749
  let v11751 : BitVec 32 := v11750
  ![v11751.toNat]
def k0_mult862 (v11757 : BitVec 32) : BitVec 32 :=
  let c1703936_i32_5271 : BitVec 32 := 1703936#32
  let c32_i32_5270 : BitVec 32 := 32#32
  let v11758 : BitVec 32 := Scalar.muli v11757 c32_i32_5270
  let v11759 : BitVec 32 := Scalar.addi c1703936_i32_5271 v11758
  v11759

def k0_off1668 (v11757 : BitVec 32) : Fin 1 → Nat :=
  let c1703936_i32_5271 : BitVec 32 := 1703936#32
  let c32_i32_5270 : BitVec 32 := 32#32
  let v11758 : BitVec 32 := Scalar.muli v11757 c32_i32_5270
  let v11759 : BitVec 32 := Scalar.addi c1703936_i32_5271 v11758
  let v11760 : BitVec 32 := v11759
  ![v11760.toNat]
def k0_mult863 (v11766 : BitVec 32) : BitVec 32 :=
  let c1703936_i32_5275 : BitVec 32 := 1703936#32
  let c32_i32_5274 : BitVec 32 := 32#32
  let v11767 : BitVec 32 := Scalar.muli v11766 c32_i32_5274
  let v11768 : BitVec 32 := Scalar.addi c1703936_i32_5275 v11767
  v11768

def k0_off1669 (v11766 : BitVec 32) : Fin 1 → Nat :=
  let c1703936_i32_5275 : BitVec 32 := 1703936#32
  let c32_i32_5274 : BitVec 32 := 32#32
  let v11767 : BitVec 32 := Scalar.muli v11766 c32_i32_5274
  let v11768 : BitVec 32 := Scalar.addi c1703936_i32_5275 v11767
  let v11769 : BitVec 32 := v11768
  ![v11769.toNat]
def k0_mult864 (v11775 : BitVec 32) : BitVec 32 :=
  let c1703936_i32_5279 : BitVec 32 := 1703936#32
  let c32_i32_5278 : BitVec 32 := 32#32
  let v11776 : BitVec 32 := Scalar.muli v11775 c32_i32_5278
  let v11777 : BitVec 32 := Scalar.addi c1703936_i32_5279 v11776
  v11777

def k0_off1670 (v11775 : BitVec 32) : Fin 1 → Nat :=
  let c1703936_i32_5279 : BitVec 32 := 1703936#32
  let c32_i32_5278 : BitVec 32 := 32#32
  let v11776 : BitVec 32 := Scalar.muli v11775 c32_i32_5278
  let v11777 : BitVec 32 := Scalar.addi c1703936_i32_5279 v11776
  let v11778 : BitVec 32 := v11777
  ![v11778.toNat]
def k0_mult865 (v11784 : BitVec 32) : BitVec 32 :=
  let c1703936_i32_5283 : BitVec 32 := 1703936#32
  let c32_i32_5282 : BitVec 32 := 32#32
  let v11785 : BitVec 32 := Scalar.muli v11784 c32_i32_5282
  let v11786 : BitVec 32 := Scalar.addi c1703936_i32_5283 v11785
  v11786

def k0_off1671 (v11784 : BitVec 32) : Fin 1 → Nat :=
  let c1703936_i32_5283 : BitVec 32 := 1703936#32
  let c32_i32_5282 : BitVec 32 := 32#32
  let v11785 : BitVec 32 := Scalar.muli v11784 c32_i32_5282
  let v11786 : BitVec 32 := Scalar.addi c1703936_i32_5283 v11785
  let v11787 : BitVec 32 := v11786
  ![v11787.toNat]

def k0_chk888 (v11784 : BitVec 32) : Prop :=
  (8 ∣ (k0_mult865 v11784).toNat) ∧
  (∀ a, (k0_off1671 v11784) a + S32.size a ≤ S3407872.size a)
theorem k0_mult865_dvd : ∀ (v11784 : BitVec 32) (k0_hw888 : k0_chk888 v11784), 8 ∣ (k0_mult865 v11784).toNat := fun v11784 k0_hw888 => k0_hw888.1
theorem k0_off1671_inb : ∀ (v11784 : BitVec 32) (k0_hw888 : k0_chk888 v11784), ∀ a, (k0_off1671 v11784) a + S32.size a ≤ S3407872.size a := fun v11784 k0_hw888 => k0_hw888.2

def k0_off1672 (v11649 : BitVec 32) : Fin 1 → Nat :=
  let c1703936_i32_5223 : BitVec 32 := 1703936#32
  let c32_i32_5222 : BitVec 32 := 32#32
  let v11650 : BitVec 32 := Scalar.muli v11649 c32_i32_5222
  let v11651 : BitVec 32 := Scalar.addi c1703936_i32_5223 v11650
  let v11652 : BitVec 32 := v11651
  ![v11652.toNat]

def k0_chk873 (v11649 : BitVec 32) : Prop :=
  (8 ∣ (k0_mult850 v11649).toNat) ∧
  (∀ a, (k0_off1656 v11649) a + S32.size a ≤ S3407872.size a) ∧
  (∀ a, (k0_off1672 v11649) a + S32.size a ≤ S3407872.size a)
theorem k0_mult850_dvd : ∀ (v11649 : BitVec 32) (k0_hw873 : k0_chk873 v11649), 8 ∣ (k0_mult850 v11649).toNat := fun v11649 k0_hw873 => k0_hw873.1
theorem k0_off1656_inb : ∀ (v11649 : BitVec 32) (k0_hw873 : k0_chk873 v11649), ∀ a, (k0_off1656 v11649) a + S32.size a ≤ S3407872.size a := fun v11649 k0_hw873 => k0_hw873.2.1
theorem k0_off1672_inb : ∀ (v11649 : BitVec 32) (k0_hw873 : k0_chk873 v11649), ∀ a, (k0_off1672 v11649) a + S32.size a ≤ S3407872.size a := fun v11649 k0_hw873 => k0_hw873.2.2

def k0_off1673 (v11658 : BitVec 32) : Fin 1 → Nat :=
  let c1703936_i32_5227 : BitVec 32 := 1703936#32
  let c32_i32_5226 : BitVec 32 := 32#32
  let v11659 : BitVec 32 := Scalar.muli v11658 c32_i32_5226
  let v11660 : BitVec 32 := Scalar.addi c1703936_i32_5227 v11659
  let v11661 : BitVec 32 := v11660
  ![v11661.toNat]

def k0_chk874 (v11658 : BitVec 32) : Prop :=
  (8 ∣ (k0_mult851 v11658).toNat) ∧
  (∀ a, (k0_off1657 v11658) a + S32.size a ≤ S3407872.size a) ∧
  (∀ a, (k0_off1673 v11658) a + S32.size a ≤ S3407872.size a)
theorem k0_mult851_dvd : ∀ (v11658 : BitVec 32) (k0_hw874 : k0_chk874 v11658), 8 ∣ (k0_mult851 v11658).toNat := fun v11658 k0_hw874 => k0_hw874.1
theorem k0_off1657_inb : ∀ (v11658 : BitVec 32) (k0_hw874 : k0_chk874 v11658), ∀ a, (k0_off1657 v11658) a + S32.size a ≤ S3407872.size a := fun v11658 k0_hw874 => k0_hw874.2.1
theorem k0_off1673_inb : ∀ (v11658 : BitVec 32) (k0_hw874 : k0_chk874 v11658), ∀ a, (k0_off1673 v11658) a + S32.size a ≤ S3407872.size a := fun v11658 k0_hw874 => k0_hw874.2.2

def k0_off1674 (v11667 : BitVec 32) : Fin 1 → Nat :=
  let c1703936_i32_5231 : BitVec 32 := 1703936#32
  let c32_i32_5230 : BitVec 32 := 32#32
  let v11668 : BitVec 32 := Scalar.muli v11667 c32_i32_5230
  let v11669 : BitVec 32 := Scalar.addi c1703936_i32_5231 v11668
  let v11670 : BitVec 32 := v11669
  ![v11670.toNat]

def k0_chk875 (v11667 : BitVec 32) : Prop :=
  (8 ∣ (k0_mult852 v11667).toNat) ∧
  (∀ a, (k0_off1658 v11667) a + S32.size a ≤ S3407872.size a) ∧
  (∀ a, (k0_off1674 v11667) a + S32.size a ≤ S3407872.size a)
theorem k0_mult852_dvd : ∀ (v11667 : BitVec 32) (k0_hw875 : k0_chk875 v11667), 8 ∣ (k0_mult852 v11667).toNat := fun v11667 k0_hw875 => k0_hw875.1
theorem k0_off1658_inb : ∀ (v11667 : BitVec 32) (k0_hw875 : k0_chk875 v11667), ∀ a, (k0_off1658 v11667) a + S32.size a ≤ S3407872.size a := fun v11667 k0_hw875 => k0_hw875.2.1
theorem k0_off1674_inb : ∀ (v11667 : BitVec 32) (k0_hw875 : k0_chk875 v11667), ∀ a, (k0_off1674 v11667) a + S32.size a ≤ S3407872.size a := fun v11667 k0_hw875 => k0_hw875.2.2

def k0_off1675 (v11676 : BitVec 32) : Fin 1 → Nat :=
  let c1703936_i32_5235 : BitVec 32 := 1703936#32
  let c32_i32_5234 : BitVec 32 := 32#32
  let v11677 : BitVec 32 := Scalar.muli v11676 c32_i32_5234
  let v11678 : BitVec 32 := Scalar.addi c1703936_i32_5235 v11677
  let v11679 : BitVec 32 := v11678
  ![v11679.toNat]

def k0_chk876 (v11676 : BitVec 32) : Prop :=
  (8 ∣ (k0_mult853 v11676).toNat) ∧
  (∀ a, (k0_off1659 v11676) a + S32.size a ≤ S3407872.size a) ∧
  (∀ a, (k0_off1675 v11676) a + S32.size a ≤ S3407872.size a)
theorem k0_mult853_dvd : ∀ (v11676 : BitVec 32) (k0_hw876 : k0_chk876 v11676), 8 ∣ (k0_mult853 v11676).toNat := fun v11676 k0_hw876 => k0_hw876.1
theorem k0_off1659_inb : ∀ (v11676 : BitVec 32) (k0_hw876 : k0_chk876 v11676), ∀ a, (k0_off1659 v11676) a + S32.size a ≤ S3407872.size a := fun v11676 k0_hw876 => k0_hw876.2.1
theorem k0_off1675_inb : ∀ (v11676 : BitVec 32) (k0_hw876 : k0_chk876 v11676), ∀ a, (k0_off1675 v11676) a + S32.size a ≤ S3407872.size a := fun v11676 k0_hw876 => k0_hw876.2.2

def k0_off1676 (v11685 : BitVec 32) : Fin 1 → Nat :=
  let c1703936_i32_5239 : BitVec 32 := 1703936#32
  let c32_i32_5238 : BitVec 32 := 32#32
  let v11686 : BitVec 32 := Scalar.muli v11685 c32_i32_5238
  let v11687 : BitVec 32 := Scalar.addi c1703936_i32_5239 v11686
  let v11688 : BitVec 32 := v11687
  ![v11688.toNat]

def k0_chk877 (v11685 : BitVec 32) : Prop :=
  (8 ∣ (k0_mult854 v11685).toNat) ∧
  (∀ a, (k0_off1660 v11685) a + S32.size a ≤ S3407872.size a) ∧
  (∀ a, (k0_off1676 v11685) a + S32.size a ≤ S3407872.size a)
theorem k0_mult854_dvd : ∀ (v11685 : BitVec 32) (k0_hw877 : k0_chk877 v11685), 8 ∣ (k0_mult854 v11685).toNat := fun v11685 k0_hw877 => k0_hw877.1
theorem k0_off1660_inb : ∀ (v11685 : BitVec 32) (k0_hw877 : k0_chk877 v11685), ∀ a, (k0_off1660 v11685) a + S32.size a ≤ S3407872.size a := fun v11685 k0_hw877 => k0_hw877.2.1
theorem k0_off1676_inb : ∀ (v11685 : BitVec 32) (k0_hw877 : k0_chk877 v11685), ∀ a, (k0_off1676 v11685) a + S32.size a ≤ S3407872.size a := fun v11685 k0_hw877 => k0_hw877.2.2

def k0_off1677 (v11694 : BitVec 32) : Fin 1 → Nat :=
  let c1703936_i32_5243 : BitVec 32 := 1703936#32
  let c32_i32_5242 : BitVec 32 := 32#32
  let v11695 : BitVec 32 := Scalar.muli v11694 c32_i32_5242
  let v11696 : BitVec 32 := Scalar.addi c1703936_i32_5243 v11695
  let v11697 : BitVec 32 := v11696
  ![v11697.toNat]

def k0_chk878 (v11694 : BitVec 32) : Prop :=
  (8 ∣ (k0_mult855 v11694).toNat) ∧
  (∀ a, (k0_off1661 v11694) a + S32.size a ≤ S3407872.size a) ∧
  (∀ a, (k0_off1677 v11694) a + S32.size a ≤ S3407872.size a)
theorem k0_mult855_dvd : ∀ (v11694 : BitVec 32) (k0_hw878 : k0_chk878 v11694), 8 ∣ (k0_mult855 v11694).toNat := fun v11694 k0_hw878 => k0_hw878.1
theorem k0_off1661_inb : ∀ (v11694 : BitVec 32) (k0_hw878 : k0_chk878 v11694), ∀ a, (k0_off1661 v11694) a + S32.size a ≤ S3407872.size a := fun v11694 k0_hw878 => k0_hw878.2.1
theorem k0_off1677_inb : ∀ (v11694 : BitVec 32) (k0_hw878 : k0_chk878 v11694), ∀ a, (k0_off1677 v11694) a + S32.size a ≤ S3407872.size a := fun v11694 k0_hw878 => k0_hw878.2.2

def k0_off1678 (v11703 : BitVec 32) : Fin 1 → Nat :=
  let c1703936_i32_5247 : BitVec 32 := 1703936#32
  let c32_i32_5246 : BitVec 32 := 32#32
  let v11704 : BitVec 32 := Scalar.muli v11703 c32_i32_5246
  let v11705 : BitVec 32 := Scalar.addi c1703936_i32_5247 v11704
  let v11706 : BitVec 32 := v11705
  ![v11706.toNat]

def k0_chk879 (v11703 : BitVec 32) : Prop :=
  (8 ∣ (k0_mult856 v11703).toNat) ∧
  (∀ a, (k0_off1662 v11703) a + S32.size a ≤ S3407872.size a) ∧
  (∀ a, (k0_off1678 v11703) a + S32.size a ≤ S3407872.size a)
theorem k0_mult856_dvd : ∀ (v11703 : BitVec 32) (k0_hw879 : k0_chk879 v11703), 8 ∣ (k0_mult856 v11703).toNat := fun v11703 k0_hw879 => k0_hw879.1
theorem k0_off1662_inb : ∀ (v11703 : BitVec 32) (k0_hw879 : k0_chk879 v11703), ∀ a, (k0_off1662 v11703) a + S32.size a ≤ S3407872.size a := fun v11703 k0_hw879 => k0_hw879.2.1
theorem k0_off1678_inb : ∀ (v11703 : BitVec 32) (k0_hw879 : k0_chk879 v11703), ∀ a, (k0_off1678 v11703) a + S32.size a ≤ S3407872.size a := fun v11703 k0_hw879 => k0_hw879.2.2

def k0_off1679 (v11712 : BitVec 32) : Fin 1 → Nat :=
  let c1703936_i32_5251 : BitVec 32 := 1703936#32
  let c32_i32_5250 : BitVec 32 := 32#32
  let v11713 : BitVec 32 := Scalar.muli v11712 c32_i32_5250
  let v11714 : BitVec 32 := Scalar.addi c1703936_i32_5251 v11713
  let v11715 : BitVec 32 := v11714
  ![v11715.toNat]

def k0_chk880 (v11712 : BitVec 32) : Prop :=
  (8 ∣ (k0_mult857 v11712).toNat) ∧
  (∀ a, (k0_off1663 v11712) a + S32.size a ≤ S3407872.size a) ∧
  (∀ a, (k0_off1679 v11712) a + S32.size a ≤ S3407872.size a)
theorem k0_mult857_dvd : ∀ (v11712 : BitVec 32) (k0_hw880 : k0_chk880 v11712), 8 ∣ (k0_mult857 v11712).toNat := fun v11712 k0_hw880 => k0_hw880.1
theorem k0_off1663_inb : ∀ (v11712 : BitVec 32) (k0_hw880 : k0_chk880 v11712), ∀ a, (k0_off1663 v11712) a + S32.size a ≤ S3407872.size a := fun v11712 k0_hw880 => k0_hw880.2.1
theorem k0_off1679_inb : ∀ (v11712 : BitVec 32) (k0_hw880 : k0_chk880 v11712), ∀ a, (k0_off1679 v11712) a + S32.size a ≤ S3407872.size a := fun v11712 k0_hw880 => k0_hw880.2.2

def k0_off1680 (v11721 : BitVec 32) : Fin 1 → Nat :=
  let c1703936_i32_5255 : BitVec 32 := 1703936#32
  let c32_i32_5254 : BitVec 32 := 32#32
  let v11722 : BitVec 32 := Scalar.muli v11721 c32_i32_5254
  let v11723 : BitVec 32 := Scalar.addi c1703936_i32_5255 v11722
  let v11724 : BitVec 32 := v11723
  ![v11724.toNat]

def k0_chk881 (v11721 : BitVec 32) : Prop :=
  (8 ∣ (k0_mult858 v11721).toNat) ∧
  (∀ a, (k0_off1664 v11721) a + S32.size a ≤ S3407872.size a) ∧
  (∀ a, (k0_off1680 v11721) a + S32.size a ≤ S3407872.size a)
theorem k0_mult858_dvd : ∀ (v11721 : BitVec 32) (k0_hw881 : k0_chk881 v11721), 8 ∣ (k0_mult858 v11721).toNat := fun v11721 k0_hw881 => k0_hw881.1
theorem k0_off1664_inb : ∀ (v11721 : BitVec 32) (k0_hw881 : k0_chk881 v11721), ∀ a, (k0_off1664 v11721) a + S32.size a ≤ S3407872.size a := fun v11721 k0_hw881 => k0_hw881.2.1
theorem k0_off1680_inb : ∀ (v11721 : BitVec 32) (k0_hw881 : k0_chk881 v11721), ∀ a, (k0_off1680 v11721) a + S32.size a ≤ S3407872.size a := fun v11721 k0_hw881 => k0_hw881.2.2

def k0_off1681 (v11730 : BitVec 32) : Fin 1 → Nat :=
  let c1703936_i32_5259 : BitVec 32 := 1703936#32
  let c32_i32_5258 : BitVec 32 := 32#32
  let v11731 : BitVec 32 := Scalar.muli v11730 c32_i32_5258
  let v11732 : BitVec 32 := Scalar.addi c1703936_i32_5259 v11731
  let v11733 : BitVec 32 := v11732
  ![v11733.toNat]

def k0_chk882 (v11730 : BitVec 32) : Prop :=
  (8 ∣ (k0_mult859 v11730).toNat) ∧
  (∀ a, (k0_off1665 v11730) a + S32.size a ≤ S3407872.size a) ∧
  (∀ a, (k0_off1681 v11730) a + S32.size a ≤ S3407872.size a)
theorem k0_mult859_dvd : ∀ (v11730 : BitVec 32) (k0_hw882 : k0_chk882 v11730), 8 ∣ (k0_mult859 v11730).toNat := fun v11730 k0_hw882 => k0_hw882.1
theorem k0_off1665_inb : ∀ (v11730 : BitVec 32) (k0_hw882 : k0_chk882 v11730), ∀ a, (k0_off1665 v11730) a + S32.size a ≤ S3407872.size a := fun v11730 k0_hw882 => k0_hw882.2.1
theorem k0_off1681_inb : ∀ (v11730 : BitVec 32) (k0_hw882 : k0_chk882 v11730), ∀ a, (k0_off1681 v11730) a + S32.size a ≤ S3407872.size a := fun v11730 k0_hw882 => k0_hw882.2.2

def k0_off1682 (v11739 : BitVec 32) : Fin 1 → Nat :=
  let c1703936_i32_5263 : BitVec 32 := 1703936#32
  let c32_i32_5262 : BitVec 32 := 32#32
  let v11740 : BitVec 32 := Scalar.muli v11739 c32_i32_5262
  let v11741 : BitVec 32 := Scalar.addi c1703936_i32_5263 v11740
  let v11742 : BitVec 32 := v11741
  ![v11742.toNat]

def k0_chk883 (v11739 : BitVec 32) : Prop :=
  (8 ∣ (k0_mult860 v11739).toNat) ∧
  (∀ a, (k0_off1666 v11739) a + S32.size a ≤ S3407872.size a) ∧
  (∀ a, (k0_off1682 v11739) a + S32.size a ≤ S3407872.size a)
theorem k0_mult860_dvd : ∀ (v11739 : BitVec 32) (k0_hw883 : k0_chk883 v11739), 8 ∣ (k0_mult860 v11739).toNat := fun v11739 k0_hw883 => k0_hw883.1
theorem k0_off1666_inb : ∀ (v11739 : BitVec 32) (k0_hw883 : k0_chk883 v11739), ∀ a, (k0_off1666 v11739) a + S32.size a ≤ S3407872.size a := fun v11739 k0_hw883 => k0_hw883.2.1
theorem k0_off1682_inb : ∀ (v11739 : BitVec 32) (k0_hw883 : k0_chk883 v11739), ∀ a, (k0_off1682 v11739) a + S32.size a ≤ S3407872.size a := fun v11739 k0_hw883 => k0_hw883.2.2

def k0_off1683 (v11748 : BitVec 32) : Fin 1 → Nat :=
  let c1703936_i32_5267 : BitVec 32 := 1703936#32
  let c32_i32_5266 : BitVec 32 := 32#32
  let v11749 : BitVec 32 := Scalar.muli v11748 c32_i32_5266
  let v11750 : BitVec 32 := Scalar.addi c1703936_i32_5267 v11749
  let v11751 : BitVec 32 := v11750
  ![v11751.toNat]

def k0_chk884 (v11748 : BitVec 32) : Prop :=
  (8 ∣ (k0_mult861 v11748).toNat) ∧
  (∀ a, (k0_off1667 v11748) a + S32.size a ≤ S3407872.size a) ∧
  (∀ a, (k0_off1683 v11748) a + S32.size a ≤ S3407872.size a)
theorem k0_mult861_dvd : ∀ (v11748 : BitVec 32) (k0_hw884 : k0_chk884 v11748), 8 ∣ (k0_mult861 v11748).toNat := fun v11748 k0_hw884 => k0_hw884.1
theorem k0_off1667_inb : ∀ (v11748 : BitVec 32) (k0_hw884 : k0_chk884 v11748), ∀ a, (k0_off1667 v11748) a + S32.size a ≤ S3407872.size a := fun v11748 k0_hw884 => k0_hw884.2.1
theorem k0_off1683_inb : ∀ (v11748 : BitVec 32) (k0_hw884 : k0_chk884 v11748), ∀ a, (k0_off1683 v11748) a + S32.size a ≤ S3407872.size a := fun v11748 k0_hw884 => k0_hw884.2.2

def k0_off1684 (v11757 : BitVec 32) : Fin 1 → Nat :=
  let c1703936_i32_5271 : BitVec 32 := 1703936#32
  let c32_i32_5270 : BitVec 32 := 32#32
  let v11758 : BitVec 32 := Scalar.muli v11757 c32_i32_5270
  let v11759 : BitVec 32 := Scalar.addi c1703936_i32_5271 v11758
  let v11760 : BitVec 32 := v11759
  ![v11760.toNat]

def k0_chk885 (v11757 : BitVec 32) : Prop :=
  (8 ∣ (k0_mult862 v11757).toNat) ∧
  (∀ a, (k0_off1668 v11757) a + S32.size a ≤ S3407872.size a) ∧
  (∀ a, (k0_off1684 v11757) a + S32.size a ≤ S3407872.size a)
theorem k0_mult862_dvd : ∀ (v11757 : BitVec 32) (k0_hw885 : k0_chk885 v11757), 8 ∣ (k0_mult862 v11757).toNat := fun v11757 k0_hw885 => k0_hw885.1
theorem k0_off1668_inb : ∀ (v11757 : BitVec 32) (k0_hw885 : k0_chk885 v11757), ∀ a, (k0_off1668 v11757) a + S32.size a ≤ S3407872.size a := fun v11757 k0_hw885 => k0_hw885.2.1
theorem k0_off1684_inb : ∀ (v11757 : BitVec 32) (k0_hw885 : k0_chk885 v11757), ∀ a, (k0_off1684 v11757) a + S32.size a ≤ S3407872.size a := fun v11757 k0_hw885 => k0_hw885.2.2

def k0_off1685 (v11766 : BitVec 32) : Fin 1 → Nat :=
  let c1703936_i32_5275 : BitVec 32 := 1703936#32
  let c32_i32_5274 : BitVec 32 := 32#32
  let v11767 : BitVec 32 := Scalar.muli v11766 c32_i32_5274
  let v11768 : BitVec 32 := Scalar.addi c1703936_i32_5275 v11767
  let v11769 : BitVec 32 := v11768
  ![v11769.toNat]

def k0_chk886 (v11766 : BitVec 32) : Prop :=
  (8 ∣ (k0_mult863 v11766).toNat) ∧
  (∀ a, (k0_off1669 v11766) a + S32.size a ≤ S3407872.size a) ∧
  (∀ a, (k0_off1685 v11766) a + S32.size a ≤ S3407872.size a)
theorem k0_mult863_dvd : ∀ (v11766 : BitVec 32) (k0_hw886 : k0_chk886 v11766), 8 ∣ (k0_mult863 v11766).toNat := fun v11766 k0_hw886 => k0_hw886.1
theorem k0_off1669_inb : ∀ (v11766 : BitVec 32) (k0_hw886 : k0_chk886 v11766), ∀ a, (k0_off1669 v11766) a + S32.size a ≤ S3407872.size a := fun v11766 k0_hw886 => k0_hw886.2.1
theorem k0_off1685_inb : ∀ (v11766 : BitVec 32) (k0_hw886 : k0_chk886 v11766), ∀ a, (k0_off1685 v11766) a + S32.size a ≤ S3407872.size a := fun v11766 k0_hw886 => k0_hw886.2.2

def k0_off1686 (v11775 : BitVec 32) : Fin 1 → Nat :=
  let c1703936_i32_5279 : BitVec 32 := 1703936#32
  let c32_i32_5278 : BitVec 32 := 32#32
  let v11776 : BitVec 32 := Scalar.muli v11775 c32_i32_5278
  let v11777 : BitVec 32 := Scalar.addi c1703936_i32_5279 v11776
  let v11778 : BitVec 32 := v11777
  ![v11778.toNat]

def k0_chk887 (v11775 : BitVec 32) : Prop :=
  (8 ∣ (k0_mult864 v11775).toNat) ∧
  (∀ a, (k0_off1670 v11775) a + S32.size a ≤ S3407872.size a) ∧
  (∀ a, (k0_off1686 v11775) a + S32.size a ≤ S3407872.size a)
theorem k0_mult864_dvd : ∀ (v11775 : BitVec 32) (k0_hw887 : k0_chk887 v11775), 8 ∣ (k0_mult864 v11775).toNat := fun v11775 k0_hw887 => k0_hw887.1
theorem k0_off1670_inb : ∀ (v11775 : BitVec 32) (k0_hw887 : k0_chk887 v11775), ∀ a, (k0_off1670 v11775) a + S32.size a ≤ S3407872.size a := fun v11775 k0_hw887 => k0_hw887.2.1
theorem k0_off1686_inb : ∀ (v11775 : BitVec 32) (k0_hw887 : k0_chk887 v11775), ∀ a, (k0_off1686 v11775) a + S32.size a ≤ S3407872.size a := fun v11775 k0_hw887 => k0_hw887.2.2

def k0_mult866 (v11859 : BitVec 32) : BitVec 32 :=
  let c999936_i32_5320 : BitVec 32 := 999936#32
  let v11860 : BitVec 32 := Scalar.subi v11859 c999936_i32_5320
  let c32_i32_5321 : BitVec 32 := 32#32
  let v11861 : BitVec 32 := Scalar.muli v11860 c32_i32_5321
  v11861

def k0_off1687 (v11859 : BitVec 32) : Fin 1 → Nat :=
  let c999936_i32_5320 : BitVec 32 := 999936#32
  let v11860 : BitVec 32 := Scalar.subi v11859 c999936_i32_5320
  let c32_i32_5321 : BitVec 32 := 32#32
  let v11861 : BitVec 32 := Scalar.muli v11860 c32_i32_5321
  let v11862 : BitVec 32 := v11861
  ![v11862.toNat]
def k0_mult867 (v11868 : BitVec 32) : BitVec 32 :=
  let c999936_i32_5324 : BitVec 32 := 999936#32
  let v11869 : BitVec 32 := Scalar.subi v11868 c999936_i32_5324
  let c32_i32_5325 : BitVec 32 := 32#32
  let v11870 : BitVec 32 := Scalar.muli v11869 c32_i32_5325
  v11870

def k0_off1688 (v11868 : BitVec 32) : Fin 1 → Nat :=
  let c999936_i32_5324 : BitVec 32 := 999936#32
  let v11869 : BitVec 32 := Scalar.subi v11868 c999936_i32_5324
  let c32_i32_5325 : BitVec 32 := 32#32
  let v11870 : BitVec 32 := Scalar.muli v11869 c32_i32_5325
  let v11871 : BitVec 32 := v11870
  ![v11871.toNat]
def k0_mult868 (v11877 : BitVec 32) : BitVec 32 :=
  let c999936_i32_5328 : BitVec 32 := 999936#32
  let v11878 : BitVec 32 := Scalar.subi v11877 c999936_i32_5328
  let c32_i32_5329 : BitVec 32 := 32#32
  let v11879 : BitVec 32 := Scalar.muli v11878 c32_i32_5329
  v11879

def k0_off1689 (v11877 : BitVec 32) : Fin 1 → Nat :=
  let c999936_i32_5328 : BitVec 32 := 999936#32
  let v11878 : BitVec 32 := Scalar.subi v11877 c999936_i32_5328
  let c32_i32_5329 : BitVec 32 := 32#32
  let v11879 : BitVec 32 := Scalar.muli v11878 c32_i32_5329
  let v11880 : BitVec 32 := v11879
  ![v11880.toNat]
def k0_mult869 (v11886 : BitVec 32) : BitVec 32 :=
  let c999936_i32_5332 : BitVec 32 := 999936#32
  let v11887 : BitVec 32 := Scalar.subi v11886 c999936_i32_5332
  let c32_i32_5333 : BitVec 32 := 32#32
  let v11888 : BitVec 32 := Scalar.muli v11887 c32_i32_5333
  v11888

def k0_off1690 (v11886 : BitVec 32) : Fin 1 → Nat :=
  let c999936_i32_5332 : BitVec 32 := 999936#32
  let v11887 : BitVec 32 := Scalar.subi v11886 c999936_i32_5332
  let c32_i32_5333 : BitVec 32 := 32#32
  let v11888 : BitVec 32 := Scalar.muli v11887 c32_i32_5333
  let v11889 : BitVec 32 := v11888
  ![v11889.toNat]
def k0_mult870 (v11895 : BitVec 32) : BitVec 32 :=
  let c999936_i32_5336 : BitVec 32 := 999936#32
  let v11896 : BitVec 32 := Scalar.subi v11895 c999936_i32_5336
  let c32_i32_5337 : BitVec 32 := 32#32
  let v11897 : BitVec 32 := Scalar.muli v11896 c32_i32_5337
  v11897

def k0_off1691 (v11895 : BitVec 32) : Fin 1 → Nat :=
  let c999936_i32_5336 : BitVec 32 := 999936#32
  let v11896 : BitVec 32 := Scalar.subi v11895 c999936_i32_5336
  let c32_i32_5337 : BitVec 32 := 32#32
  let v11897 : BitVec 32 := Scalar.muli v11896 c32_i32_5337
  let v11898 : BitVec 32 := v11897
  ![v11898.toNat]
def k0_mult871 (v11904 : BitVec 32) : BitVec 32 :=
  let c999936_i32_5340 : BitVec 32 := 999936#32
  let v11905 : BitVec 32 := Scalar.subi v11904 c999936_i32_5340
  let c32_i32_5341 : BitVec 32 := 32#32
  let v11906 : BitVec 32 := Scalar.muli v11905 c32_i32_5341
  v11906

def k0_off1692 (v11904 : BitVec 32) : Fin 1 → Nat :=
  let c999936_i32_5340 : BitVec 32 := 999936#32
  let v11905 : BitVec 32 := Scalar.subi v11904 c999936_i32_5340
  let c32_i32_5341 : BitVec 32 := 32#32
  let v11906 : BitVec 32 := Scalar.muli v11905 c32_i32_5341
  let v11907 : BitVec 32 := v11906
  ![v11907.toNat]
def k0_mult872 (v11913 : BitVec 32) : BitVec 32 :=
  let c999936_i32_5344 : BitVec 32 := 999936#32
  let v11914 : BitVec 32 := Scalar.subi v11913 c999936_i32_5344
  let c32_i32_5345 : BitVec 32 := 32#32
  let v11915 : BitVec 32 := Scalar.muli v11914 c32_i32_5345
  v11915

def k0_off1693 (v11913 : BitVec 32) : Fin 1 → Nat :=
  let c999936_i32_5344 : BitVec 32 := 999936#32
  let v11914 : BitVec 32 := Scalar.subi v11913 c999936_i32_5344
  let c32_i32_5345 : BitVec 32 := 32#32
  let v11915 : BitVec 32 := Scalar.muli v11914 c32_i32_5345
  let v11916 : BitVec 32 := v11915
  ![v11916.toNat]
def k0_mult873 (v11922 : BitVec 32) : BitVec 32 :=
  let c999936_i32_5348 : BitVec 32 := 999936#32
  let v11923 : BitVec 32 := Scalar.subi v11922 c999936_i32_5348
  let c32_i32_5349 : BitVec 32 := 32#32
  let v11924 : BitVec 32 := Scalar.muli v11923 c32_i32_5349
  v11924

def k0_off1694 (v11922 : BitVec 32) : Fin 1 → Nat :=
  let c999936_i32_5348 : BitVec 32 := 999936#32
  let v11923 : BitVec 32 := Scalar.subi v11922 c999936_i32_5348
  let c32_i32_5349 : BitVec 32 := 32#32
  let v11924 : BitVec 32 := Scalar.muli v11923 c32_i32_5349
  let v11925 : BitVec 32 := v11924
  ![v11925.toNat]
def k0_mult874 (v11931 : BitVec 32) : BitVec 32 :=
  let c999936_i32_5352 : BitVec 32 := 999936#32
  let v11932 : BitVec 32 := Scalar.subi v11931 c999936_i32_5352
  let c32_i32_5353 : BitVec 32 := 32#32
  let v11933 : BitVec 32 := Scalar.muli v11932 c32_i32_5353
  v11933

def k0_off1695 (v11931 : BitVec 32) : Fin 1 → Nat :=
  let c999936_i32_5352 : BitVec 32 := 999936#32
  let v11932 : BitVec 32 := Scalar.subi v11931 c999936_i32_5352
  let c32_i32_5353 : BitVec 32 := 32#32
  let v11933 : BitVec 32 := Scalar.muli v11932 c32_i32_5353
  let v11934 : BitVec 32 := v11933
  ![v11934.toNat]
def k0_mult875 (v11940 : BitVec 32) : BitVec 32 :=
  let c999936_i32_5356 : BitVec 32 := 999936#32
  let v11941 : BitVec 32 := Scalar.subi v11940 c999936_i32_5356
  let c32_i32_5357 : BitVec 32 := 32#32
  let v11942 : BitVec 32 := Scalar.muli v11941 c32_i32_5357
  v11942

def k0_off1696 (v11940 : BitVec 32) : Fin 1 → Nat :=
  let c999936_i32_5356 : BitVec 32 := 999936#32
  let v11941 : BitVec 32 := Scalar.subi v11940 c999936_i32_5356
  let c32_i32_5357 : BitVec 32 := 32#32
  let v11942 : BitVec 32 := Scalar.muli v11941 c32_i32_5357
  let v11943 : BitVec 32 := v11942
  ![v11943.toNat]
def k0_mult876 (v11949 : BitVec 32) : BitVec 32 :=
  let c999936_i32_5360 : BitVec 32 := 999936#32
  let v11950 : BitVec 32 := Scalar.subi v11949 c999936_i32_5360
  let c32_i32_5361 : BitVec 32 := 32#32
  let v11951 : BitVec 32 := Scalar.muli v11950 c32_i32_5361
  v11951

def k0_off1697 (v11949 : BitVec 32) : Fin 1 → Nat :=
  let c999936_i32_5360 : BitVec 32 := 999936#32
  let v11950 : BitVec 32 := Scalar.subi v11949 c999936_i32_5360
  let c32_i32_5361 : BitVec 32 := 32#32
  let v11951 : BitVec 32 := Scalar.muli v11950 c32_i32_5361
  let v11952 : BitVec 32 := v11951
  ![v11952.toNat]
def k0_mult877 (v11958 : BitVec 32) : BitVec 32 :=
  let c999936_i32_5364 : BitVec 32 := 999936#32
  let v11959 : BitVec 32 := Scalar.subi v11958 c999936_i32_5364
  let c32_i32_5365 : BitVec 32 := 32#32
  let v11960 : BitVec 32 := Scalar.muli v11959 c32_i32_5365
  v11960

def k0_off1698 (v11958 : BitVec 32) : Fin 1 → Nat :=
  let c999936_i32_5364 : BitVec 32 := 999936#32
  let v11959 : BitVec 32 := Scalar.subi v11958 c999936_i32_5364
  let c32_i32_5365 : BitVec 32 := 32#32
  let v11960 : BitVec 32 := Scalar.muli v11959 c32_i32_5365
  let v11961 : BitVec 32 := v11960
  ![v11961.toNat]
def k0_mult878 (v11967 : BitVec 32) : BitVec 32 :=
  let c999936_i32_5368 : BitVec 32 := 999936#32
  let v11968 : BitVec 32 := Scalar.subi v11967 c999936_i32_5368
  let c32_i32_5369 : BitVec 32 := 32#32
  let v11969 : BitVec 32 := Scalar.muli v11968 c32_i32_5369
  v11969

def k0_off1699 (v11967 : BitVec 32) : Fin 1 → Nat :=
  let c999936_i32_5368 : BitVec 32 := 999936#32
  let v11968 : BitVec 32 := Scalar.subi v11967 c999936_i32_5368
  let c32_i32_5369 : BitVec 32 := 32#32
  let v11969 : BitVec 32 := Scalar.muli v11968 c32_i32_5369
  let v11970 : BitVec 32 := v11969
  ![v11970.toNat]
def k0_mult879 (v11976 : BitVec 32) : BitVec 32 :=
  let c999936_i32_5372 : BitVec 32 := 999936#32
  let v11977 : BitVec 32 := Scalar.subi v11976 c999936_i32_5372
  let c32_i32_5373 : BitVec 32 := 32#32
  let v11978 : BitVec 32 := Scalar.muli v11977 c32_i32_5373
  v11978

def k0_off1700 (v11976 : BitVec 32) : Fin 1 → Nat :=
  let c999936_i32_5372 : BitVec 32 := 999936#32
  let v11977 : BitVec 32 := Scalar.subi v11976 c999936_i32_5372
  let c32_i32_5373 : BitVec 32 := 32#32
  let v11978 : BitVec 32 := Scalar.muli v11977 c32_i32_5373
  let v11979 : BitVec 32 := v11978
  ![v11979.toNat]
def k0_mult880 (v11985 : BitVec 32) : BitVec 32 :=
  let c999936_i32_5376 : BitVec 32 := 999936#32
  let v11986 : BitVec 32 := Scalar.subi v11985 c999936_i32_5376
  let c32_i32_5377 : BitVec 32 := 32#32
  let v11987 : BitVec 32 := Scalar.muli v11986 c32_i32_5377
  v11987

def k0_off1701 (v11985 : BitVec 32) : Fin 1 → Nat :=
  let c999936_i32_5376 : BitVec 32 := 999936#32
  let v11986 : BitVec 32 := Scalar.subi v11985 c999936_i32_5376
  let c32_i32_5377 : BitVec 32 := 32#32
  let v11987 : BitVec 32 := Scalar.muli v11986 c32_i32_5377
  let v11988 : BitVec 32 := v11987
  ![v11988.toNat]
def k0_mult881 (v11994 : BitVec 32) : BitVec 32 :=
  let c999936_i32_5380 : BitVec 32 := 999936#32
  let v11995 : BitVec 32 := Scalar.subi v11994 c999936_i32_5380
  let c32_i32_5381 : BitVec 32 := 32#32
  let v11996 : BitVec 32 := Scalar.muli v11995 c32_i32_5381
  v11996

def k0_off1702 (v11994 : BitVec 32) : Fin 1 → Nat :=
  let c999936_i32_5380 : BitVec 32 := 999936#32
  let v11995 : BitVec 32 := Scalar.subi v11994 c999936_i32_5380
  let c32_i32_5381 : BitVec 32 := 32#32
  let v11996 : BitVec 32 := Scalar.muli v11995 c32_i32_5381
  let v11997 : BitVec 32 := v11996
  ![v11997.toNat]

def k0_chk904 (v11994 : BitVec 32) : Prop :=
  (8 ∣ (k0_mult881 v11994).toNat) ∧
  (∀ a, (k0_off1702 v11994) a + S32.size a ≤ S2048.size a)
theorem k0_mult881_dvd : ∀ (v11994 : BitVec 32) (k0_hw904 : k0_chk904 v11994), 8 ∣ (k0_mult881 v11994).toNat := fun v11994 k0_hw904 => k0_hw904.1
theorem k0_off1702_inb : ∀ (v11994 : BitVec 32) (k0_hw904 : k0_chk904 v11994), ∀ a, (k0_off1702 v11994) a + S32.size a ≤ S2048.size a := fun v11994 k0_hw904 => k0_hw904.2

def k0_off1703 (v11859 : BitVec 32) : Fin 1 → Nat :=
  let c999936_i32_5320 : BitVec 32 := 999936#32
  let v11860 : BitVec 32 := Scalar.subi v11859 c999936_i32_5320
  let c32_i32_5321 : BitVec 32 := 32#32
  let v11861 : BitVec 32 := Scalar.muli v11860 c32_i32_5321
  let v11862 : BitVec 32 := v11861
  ![v11862.toNat]

def k0_chk889 (v11859 : BitVec 32) : Prop :=
  (8 ∣ (k0_mult866 v11859).toNat) ∧
  (∀ a, (k0_off1687 v11859) a + S32.size a ≤ S2048.size a) ∧
  (∀ a, (k0_off1703 v11859) a + S32.size a ≤ S2048.size a)
theorem k0_mult866_dvd : ∀ (v11859 : BitVec 32) (k0_hw889 : k0_chk889 v11859), 8 ∣ (k0_mult866 v11859).toNat := fun v11859 k0_hw889 => k0_hw889.1
theorem k0_off1687_inb : ∀ (v11859 : BitVec 32) (k0_hw889 : k0_chk889 v11859), ∀ a, (k0_off1687 v11859) a + S32.size a ≤ S2048.size a := fun v11859 k0_hw889 => k0_hw889.2.1
theorem k0_off1703_inb : ∀ (v11859 : BitVec 32) (k0_hw889 : k0_chk889 v11859), ∀ a, (k0_off1703 v11859) a + S32.size a ≤ S2048.size a := fun v11859 k0_hw889 => k0_hw889.2.2

def k0_off1704 (v11868 : BitVec 32) : Fin 1 → Nat :=
  let c999936_i32_5324 : BitVec 32 := 999936#32
  let v11869 : BitVec 32 := Scalar.subi v11868 c999936_i32_5324
  let c32_i32_5325 : BitVec 32 := 32#32
  let v11870 : BitVec 32 := Scalar.muli v11869 c32_i32_5325
  let v11871 : BitVec 32 := v11870
  ![v11871.toNat]

def k0_chk890 (v11868 : BitVec 32) : Prop :=
  (8 ∣ (k0_mult867 v11868).toNat) ∧
  (∀ a, (k0_off1688 v11868) a + S32.size a ≤ S2048.size a) ∧
  (∀ a, (k0_off1704 v11868) a + S32.size a ≤ S2048.size a)
theorem k0_mult867_dvd : ∀ (v11868 : BitVec 32) (k0_hw890 : k0_chk890 v11868), 8 ∣ (k0_mult867 v11868).toNat := fun v11868 k0_hw890 => k0_hw890.1
theorem k0_off1688_inb : ∀ (v11868 : BitVec 32) (k0_hw890 : k0_chk890 v11868), ∀ a, (k0_off1688 v11868) a + S32.size a ≤ S2048.size a := fun v11868 k0_hw890 => k0_hw890.2.1
theorem k0_off1704_inb : ∀ (v11868 : BitVec 32) (k0_hw890 : k0_chk890 v11868), ∀ a, (k0_off1704 v11868) a + S32.size a ≤ S2048.size a := fun v11868 k0_hw890 => k0_hw890.2.2

def k0_off1705 (v11877 : BitVec 32) : Fin 1 → Nat :=
  let c999936_i32_5328 : BitVec 32 := 999936#32
  let v11878 : BitVec 32 := Scalar.subi v11877 c999936_i32_5328
  let c32_i32_5329 : BitVec 32 := 32#32
  let v11879 : BitVec 32 := Scalar.muli v11878 c32_i32_5329
  let v11880 : BitVec 32 := v11879
  ![v11880.toNat]

def k0_chk891 (v11877 : BitVec 32) : Prop :=
  (8 ∣ (k0_mult868 v11877).toNat) ∧
  (∀ a, (k0_off1689 v11877) a + S32.size a ≤ S2048.size a) ∧
  (∀ a, (k0_off1705 v11877) a + S32.size a ≤ S2048.size a)
theorem k0_mult868_dvd : ∀ (v11877 : BitVec 32) (k0_hw891 : k0_chk891 v11877), 8 ∣ (k0_mult868 v11877).toNat := fun v11877 k0_hw891 => k0_hw891.1
theorem k0_off1689_inb : ∀ (v11877 : BitVec 32) (k0_hw891 : k0_chk891 v11877), ∀ a, (k0_off1689 v11877) a + S32.size a ≤ S2048.size a := fun v11877 k0_hw891 => k0_hw891.2.1
theorem k0_off1705_inb : ∀ (v11877 : BitVec 32) (k0_hw891 : k0_chk891 v11877), ∀ a, (k0_off1705 v11877) a + S32.size a ≤ S2048.size a := fun v11877 k0_hw891 => k0_hw891.2.2

def k0_off1706 (v11886 : BitVec 32) : Fin 1 → Nat :=
  let c999936_i32_5332 : BitVec 32 := 999936#32
  let v11887 : BitVec 32 := Scalar.subi v11886 c999936_i32_5332
  let c32_i32_5333 : BitVec 32 := 32#32
  let v11888 : BitVec 32 := Scalar.muli v11887 c32_i32_5333
  let v11889 : BitVec 32 := v11888
  ![v11889.toNat]

def k0_chk892 (v11886 : BitVec 32) : Prop :=
  (8 ∣ (k0_mult869 v11886).toNat) ∧
  (∀ a, (k0_off1690 v11886) a + S32.size a ≤ S2048.size a) ∧
  (∀ a, (k0_off1706 v11886) a + S32.size a ≤ S2048.size a)
theorem k0_mult869_dvd : ∀ (v11886 : BitVec 32) (k0_hw892 : k0_chk892 v11886), 8 ∣ (k0_mult869 v11886).toNat := fun v11886 k0_hw892 => k0_hw892.1
theorem k0_off1690_inb : ∀ (v11886 : BitVec 32) (k0_hw892 : k0_chk892 v11886), ∀ a, (k0_off1690 v11886) a + S32.size a ≤ S2048.size a := fun v11886 k0_hw892 => k0_hw892.2.1
theorem k0_off1706_inb : ∀ (v11886 : BitVec 32) (k0_hw892 : k0_chk892 v11886), ∀ a, (k0_off1706 v11886) a + S32.size a ≤ S2048.size a := fun v11886 k0_hw892 => k0_hw892.2.2

def k0_off1707 (v11895 : BitVec 32) : Fin 1 → Nat :=
  let c999936_i32_5336 : BitVec 32 := 999936#32
  let v11896 : BitVec 32 := Scalar.subi v11895 c999936_i32_5336
  let c32_i32_5337 : BitVec 32 := 32#32
  let v11897 : BitVec 32 := Scalar.muli v11896 c32_i32_5337
  let v11898 : BitVec 32 := v11897
  ![v11898.toNat]

def k0_chk893 (v11895 : BitVec 32) : Prop :=
  (8 ∣ (k0_mult870 v11895).toNat) ∧
  (∀ a, (k0_off1691 v11895) a + S32.size a ≤ S2048.size a) ∧
  (∀ a, (k0_off1707 v11895) a + S32.size a ≤ S2048.size a)
theorem k0_mult870_dvd : ∀ (v11895 : BitVec 32) (k0_hw893 : k0_chk893 v11895), 8 ∣ (k0_mult870 v11895).toNat := fun v11895 k0_hw893 => k0_hw893.1
theorem k0_off1691_inb : ∀ (v11895 : BitVec 32) (k0_hw893 : k0_chk893 v11895), ∀ a, (k0_off1691 v11895) a + S32.size a ≤ S2048.size a := fun v11895 k0_hw893 => k0_hw893.2.1
theorem k0_off1707_inb : ∀ (v11895 : BitVec 32) (k0_hw893 : k0_chk893 v11895), ∀ a, (k0_off1707 v11895) a + S32.size a ≤ S2048.size a := fun v11895 k0_hw893 => k0_hw893.2.2

def k0_off1708 (v11904 : BitVec 32) : Fin 1 → Nat :=
  let c999936_i32_5340 : BitVec 32 := 999936#32
  let v11905 : BitVec 32 := Scalar.subi v11904 c999936_i32_5340
  let c32_i32_5341 : BitVec 32 := 32#32
  let v11906 : BitVec 32 := Scalar.muli v11905 c32_i32_5341
  let v11907 : BitVec 32 := v11906
  ![v11907.toNat]

def k0_chk894 (v11904 : BitVec 32) : Prop :=
  (8 ∣ (k0_mult871 v11904).toNat) ∧
  (∀ a, (k0_off1692 v11904) a + S32.size a ≤ S2048.size a) ∧
  (∀ a, (k0_off1708 v11904) a + S32.size a ≤ S2048.size a)
theorem k0_mult871_dvd : ∀ (v11904 : BitVec 32) (k0_hw894 : k0_chk894 v11904), 8 ∣ (k0_mult871 v11904).toNat := fun v11904 k0_hw894 => k0_hw894.1
theorem k0_off1692_inb : ∀ (v11904 : BitVec 32) (k0_hw894 : k0_chk894 v11904), ∀ a, (k0_off1692 v11904) a + S32.size a ≤ S2048.size a := fun v11904 k0_hw894 => k0_hw894.2.1
theorem k0_off1708_inb : ∀ (v11904 : BitVec 32) (k0_hw894 : k0_chk894 v11904), ∀ a, (k0_off1708 v11904) a + S32.size a ≤ S2048.size a := fun v11904 k0_hw894 => k0_hw894.2.2

def k0_off1709 (v11913 : BitVec 32) : Fin 1 → Nat :=
  let c999936_i32_5344 : BitVec 32 := 999936#32
  let v11914 : BitVec 32 := Scalar.subi v11913 c999936_i32_5344
  let c32_i32_5345 : BitVec 32 := 32#32
  let v11915 : BitVec 32 := Scalar.muli v11914 c32_i32_5345
  let v11916 : BitVec 32 := v11915
  ![v11916.toNat]

def k0_chk895 (v11913 : BitVec 32) : Prop :=
  (8 ∣ (k0_mult872 v11913).toNat) ∧
  (∀ a, (k0_off1693 v11913) a + S32.size a ≤ S2048.size a) ∧
  (∀ a, (k0_off1709 v11913) a + S32.size a ≤ S2048.size a)
theorem k0_mult872_dvd : ∀ (v11913 : BitVec 32) (k0_hw895 : k0_chk895 v11913), 8 ∣ (k0_mult872 v11913).toNat := fun v11913 k0_hw895 => k0_hw895.1
theorem k0_off1693_inb : ∀ (v11913 : BitVec 32) (k0_hw895 : k0_chk895 v11913), ∀ a, (k0_off1693 v11913) a + S32.size a ≤ S2048.size a := fun v11913 k0_hw895 => k0_hw895.2.1
theorem k0_off1709_inb : ∀ (v11913 : BitVec 32) (k0_hw895 : k0_chk895 v11913), ∀ a, (k0_off1709 v11913) a + S32.size a ≤ S2048.size a := fun v11913 k0_hw895 => k0_hw895.2.2

def k0_off1710 (v11922 : BitVec 32) : Fin 1 → Nat :=
  let c999936_i32_5348 : BitVec 32 := 999936#32
  let v11923 : BitVec 32 := Scalar.subi v11922 c999936_i32_5348
  let c32_i32_5349 : BitVec 32 := 32#32
  let v11924 : BitVec 32 := Scalar.muli v11923 c32_i32_5349
  let v11925 : BitVec 32 := v11924
  ![v11925.toNat]

def k0_chk896 (v11922 : BitVec 32) : Prop :=
  (8 ∣ (k0_mult873 v11922).toNat) ∧
  (∀ a, (k0_off1694 v11922) a + S32.size a ≤ S2048.size a) ∧
  (∀ a, (k0_off1710 v11922) a + S32.size a ≤ S2048.size a)
theorem k0_mult873_dvd : ∀ (v11922 : BitVec 32) (k0_hw896 : k0_chk896 v11922), 8 ∣ (k0_mult873 v11922).toNat := fun v11922 k0_hw896 => k0_hw896.1
theorem k0_off1694_inb : ∀ (v11922 : BitVec 32) (k0_hw896 : k0_chk896 v11922), ∀ a, (k0_off1694 v11922) a + S32.size a ≤ S2048.size a := fun v11922 k0_hw896 => k0_hw896.2.1
theorem k0_off1710_inb : ∀ (v11922 : BitVec 32) (k0_hw896 : k0_chk896 v11922), ∀ a, (k0_off1710 v11922) a + S32.size a ≤ S2048.size a := fun v11922 k0_hw896 => k0_hw896.2.2

def k0_off1711 (v11931 : BitVec 32) : Fin 1 → Nat :=
  let c999936_i32_5352 : BitVec 32 := 999936#32
  let v11932 : BitVec 32 := Scalar.subi v11931 c999936_i32_5352
  let c32_i32_5353 : BitVec 32 := 32#32
  let v11933 : BitVec 32 := Scalar.muli v11932 c32_i32_5353
  let v11934 : BitVec 32 := v11933
  ![v11934.toNat]

def k0_chk897 (v11931 : BitVec 32) : Prop :=
  (8 ∣ (k0_mult874 v11931).toNat) ∧
  (∀ a, (k0_off1695 v11931) a + S32.size a ≤ S2048.size a) ∧
  (∀ a, (k0_off1711 v11931) a + S32.size a ≤ S2048.size a)
theorem k0_mult874_dvd : ∀ (v11931 : BitVec 32) (k0_hw897 : k0_chk897 v11931), 8 ∣ (k0_mult874 v11931).toNat := fun v11931 k0_hw897 => k0_hw897.1
theorem k0_off1695_inb : ∀ (v11931 : BitVec 32) (k0_hw897 : k0_chk897 v11931), ∀ a, (k0_off1695 v11931) a + S32.size a ≤ S2048.size a := fun v11931 k0_hw897 => k0_hw897.2.1
theorem k0_off1711_inb : ∀ (v11931 : BitVec 32) (k0_hw897 : k0_chk897 v11931), ∀ a, (k0_off1711 v11931) a + S32.size a ≤ S2048.size a := fun v11931 k0_hw897 => k0_hw897.2.2

def k0_off1712 (v11940 : BitVec 32) : Fin 1 → Nat :=
  let c999936_i32_5356 : BitVec 32 := 999936#32
  let v11941 : BitVec 32 := Scalar.subi v11940 c999936_i32_5356
  let c32_i32_5357 : BitVec 32 := 32#32
  let v11942 : BitVec 32 := Scalar.muli v11941 c32_i32_5357
  let v11943 : BitVec 32 := v11942
  ![v11943.toNat]

def k0_chk898 (v11940 : BitVec 32) : Prop :=
  (8 ∣ (k0_mult875 v11940).toNat) ∧
  (∀ a, (k0_off1696 v11940) a + S32.size a ≤ S2048.size a) ∧
  (∀ a, (k0_off1712 v11940) a + S32.size a ≤ S2048.size a)
theorem k0_mult875_dvd : ∀ (v11940 : BitVec 32) (k0_hw898 : k0_chk898 v11940), 8 ∣ (k0_mult875 v11940).toNat := fun v11940 k0_hw898 => k0_hw898.1
theorem k0_off1696_inb : ∀ (v11940 : BitVec 32) (k0_hw898 : k0_chk898 v11940), ∀ a, (k0_off1696 v11940) a + S32.size a ≤ S2048.size a := fun v11940 k0_hw898 => k0_hw898.2.1
theorem k0_off1712_inb : ∀ (v11940 : BitVec 32) (k0_hw898 : k0_chk898 v11940), ∀ a, (k0_off1712 v11940) a + S32.size a ≤ S2048.size a := fun v11940 k0_hw898 => k0_hw898.2.2

def k0_off1713 (v11949 : BitVec 32) : Fin 1 → Nat :=
  let c999936_i32_5360 : BitVec 32 := 999936#32
  let v11950 : BitVec 32 := Scalar.subi v11949 c999936_i32_5360
  let c32_i32_5361 : BitVec 32 := 32#32
  let v11951 : BitVec 32 := Scalar.muli v11950 c32_i32_5361
  let v11952 : BitVec 32 := v11951
  ![v11952.toNat]

def k0_chk899 (v11949 : BitVec 32) : Prop :=
  (8 ∣ (k0_mult876 v11949).toNat) ∧
  (∀ a, (k0_off1697 v11949) a + S32.size a ≤ S2048.size a) ∧
  (∀ a, (k0_off1713 v11949) a + S32.size a ≤ S2048.size a)
theorem k0_mult876_dvd : ∀ (v11949 : BitVec 32) (k0_hw899 : k0_chk899 v11949), 8 ∣ (k0_mult876 v11949).toNat := fun v11949 k0_hw899 => k0_hw899.1
theorem k0_off1697_inb : ∀ (v11949 : BitVec 32) (k0_hw899 : k0_chk899 v11949), ∀ a, (k0_off1697 v11949) a + S32.size a ≤ S2048.size a := fun v11949 k0_hw899 => k0_hw899.2.1
theorem k0_off1713_inb : ∀ (v11949 : BitVec 32) (k0_hw899 : k0_chk899 v11949), ∀ a, (k0_off1713 v11949) a + S32.size a ≤ S2048.size a := fun v11949 k0_hw899 => k0_hw899.2.2

def k0_off1714 (v11958 : BitVec 32) : Fin 1 → Nat :=
  let c999936_i32_5364 : BitVec 32 := 999936#32
  let v11959 : BitVec 32 := Scalar.subi v11958 c999936_i32_5364
  let c32_i32_5365 : BitVec 32 := 32#32
  let v11960 : BitVec 32 := Scalar.muli v11959 c32_i32_5365
  let v11961 : BitVec 32 := v11960
  ![v11961.toNat]

def k0_chk900 (v11958 : BitVec 32) : Prop :=
  (8 ∣ (k0_mult877 v11958).toNat) ∧
  (∀ a, (k0_off1698 v11958) a + S32.size a ≤ S2048.size a) ∧
  (∀ a, (k0_off1714 v11958) a + S32.size a ≤ S2048.size a)
theorem k0_mult877_dvd : ∀ (v11958 : BitVec 32) (k0_hw900 : k0_chk900 v11958), 8 ∣ (k0_mult877 v11958).toNat := fun v11958 k0_hw900 => k0_hw900.1
theorem k0_off1698_inb : ∀ (v11958 : BitVec 32) (k0_hw900 : k0_chk900 v11958), ∀ a, (k0_off1698 v11958) a + S32.size a ≤ S2048.size a := fun v11958 k0_hw900 => k0_hw900.2.1
theorem k0_off1714_inb : ∀ (v11958 : BitVec 32) (k0_hw900 : k0_chk900 v11958), ∀ a, (k0_off1714 v11958) a + S32.size a ≤ S2048.size a := fun v11958 k0_hw900 => k0_hw900.2.2

def k0_off1715 (v11967 : BitVec 32) : Fin 1 → Nat :=
  let c999936_i32_5368 : BitVec 32 := 999936#32
  let v11968 : BitVec 32 := Scalar.subi v11967 c999936_i32_5368
  let c32_i32_5369 : BitVec 32 := 32#32
  let v11969 : BitVec 32 := Scalar.muli v11968 c32_i32_5369
  let v11970 : BitVec 32 := v11969
  ![v11970.toNat]

def k0_chk901 (v11967 : BitVec 32) : Prop :=
  (8 ∣ (k0_mult878 v11967).toNat) ∧
  (∀ a, (k0_off1699 v11967) a + S32.size a ≤ S2048.size a) ∧
  (∀ a, (k0_off1715 v11967) a + S32.size a ≤ S2048.size a)
theorem k0_mult878_dvd : ∀ (v11967 : BitVec 32) (k0_hw901 : k0_chk901 v11967), 8 ∣ (k0_mult878 v11967).toNat := fun v11967 k0_hw901 => k0_hw901.1
theorem k0_off1699_inb : ∀ (v11967 : BitVec 32) (k0_hw901 : k0_chk901 v11967), ∀ a, (k0_off1699 v11967) a + S32.size a ≤ S2048.size a := fun v11967 k0_hw901 => k0_hw901.2.1
theorem k0_off1715_inb : ∀ (v11967 : BitVec 32) (k0_hw901 : k0_chk901 v11967), ∀ a, (k0_off1715 v11967) a + S32.size a ≤ S2048.size a := fun v11967 k0_hw901 => k0_hw901.2.2

def k0_off1716 (v11976 : BitVec 32) : Fin 1 → Nat :=
  let c999936_i32_5372 : BitVec 32 := 999936#32
  let v11977 : BitVec 32 := Scalar.subi v11976 c999936_i32_5372
  let c32_i32_5373 : BitVec 32 := 32#32
  let v11978 : BitVec 32 := Scalar.muli v11977 c32_i32_5373
  let v11979 : BitVec 32 := v11978
  ![v11979.toNat]

def k0_chk902 (v11976 : BitVec 32) : Prop :=
  (8 ∣ (k0_mult879 v11976).toNat) ∧
  (∀ a, (k0_off1700 v11976) a + S32.size a ≤ S2048.size a) ∧
  (∀ a, (k0_off1716 v11976) a + S32.size a ≤ S2048.size a)
theorem k0_mult879_dvd : ∀ (v11976 : BitVec 32) (k0_hw902 : k0_chk902 v11976), 8 ∣ (k0_mult879 v11976).toNat := fun v11976 k0_hw902 => k0_hw902.1
theorem k0_off1700_inb : ∀ (v11976 : BitVec 32) (k0_hw902 : k0_chk902 v11976), ∀ a, (k0_off1700 v11976) a + S32.size a ≤ S2048.size a := fun v11976 k0_hw902 => k0_hw902.2.1
theorem k0_off1716_inb : ∀ (v11976 : BitVec 32) (k0_hw902 : k0_chk902 v11976), ∀ a, (k0_off1716 v11976) a + S32.size a ≤ S2048.size a := fun v11976 k0_hw902 => k0_hw902.2.2

def k0_off1717 (v11985 : BitVec 32) : Fin 1 → Nat :=
  let c999936_i32_5376 : BitVec 32 := 999936#32
  let v11986 : BitVec 32 := Scalar.subi v11985 c999936_i32_5376
  let c32_i32_5377 : BitVec 32 := 32#32
  let v11987 : BitVec 32 := Scalar.muli v11986 c32_i32_5377
  let v11988 : BitVec 32 := v11987
  ![v11988.toNat]

def k0_chk903 (v11985 : BitVec 32) : Prop :=
  (8 ∣ (k0_mult880 v11985).toNat) ∧
  (∀ a, (k0_off1701 v11985) a + S32.size a ≤ S2048.size a) ∧
  (∀ a, (k0_off1717 v11985) a + S32.size a ≤ S2048.size a)
theorem k0_mult880_dvd : ∀ (v11985 : BitVec 32) (k0_hw903 : k0_chk903 v11985), 8 ∣ (k0_mult880 v11985).toNat := fun v11985 k0_hw903 => k0_hw903.1
theorem k0_off1701_inb : ∀ (v11985 : BitVec 32) (k0_hw903 : k0_chk903 v11985), ∀ a, (k0_off1701 v11985) a + S32.size a ≤ S2048.size a := fun v11985 k0_hw903 => k0_hw903.2.1
theorem k0_off1717_inb : ∀ (v11985 : BitVec 32) (k0_hw903 : k0_chk903 v11985), ∀ a, (k0_off1717 v11985) a + S32.size a ≤ S2048.size a := fun v11985 k0_hw903 => k0_hw903.2.2

def k0_mult882 (v12067 : BitVec 32) : BitVec 32 :=
  let c1703936_i32_5417 : BitVec 32 := 1703936#32
  let c32_i32_5416 : BitVec 32 := 32#32
  let v12068 : BitVec 32 := Scalar.muli v12067 c32_i32_5416
  let v12069 : BitVec 32 := Scalar.addi c1703936_i32_5417 v12068
  v12069

def k0_off1718 (v12067 : BitVec 32) : Fin 1 → Nat :=
  let c1703936_i32_5417 : BitVec 32 := 1703936#32
  let c32_i32_5416 : BitVec 32 := 32#32
  let v12068 : BitVec 32 := Scalar.muli v12067 c32_i32_5416
  let v12069 : BitVec 32 := Scalar.addi c1703936_i32_5417 v12068
  let v12070 : BitVec 32 := v12069
  ![v12070.toNat]
def k0_mult883 (v12076 : BitVec 32) : BitVec 32 :=
  let c1703936_i32_5421 : BitVec 32 := 1703936#32
  let c32_i32_5420 : BitVec 32 := 32#32
  let v12077 : BitVec 32 := Scalar.muli v12076 c32_i32_5420
  let v12078 : BitVec 32 := Scalar.addi c1703936_i32_5421 v12077
  v12078

def k0_off1719 (v12076 : BitVec 32) : Fin 1 → Nat :=
  let c1703936_i32_5421 : BitVec 32 := 1703936#32
  let c32_i32_5420 : BitVec 32 := 32#32
  let v12077 : BitVec 32 := Scalar.muli v12076 c32_i32_5420
  let v12078 : BitVec 32 := Scalar.addi c1703936_i32_5421 v12077
  let v12079 : BitVec 32 := v12078
  ![v12079.toNat]
def k0_mult884 (v12085 : BitVec 32) : BitVec 32 :=
  let c1703936_i32_5425 : BitVec 32 := 1703936#32
  let c32_i32_5424 : BitVec 32 := 32#32
  let v12086 : BitVec 32 := Scalar.muli v12085 c32_i32_5424
  let v12087 : BitVec 32 := Scalar.addi c1703936_i32_5425 v12086
  v12087

def k0_off1720 (v12085 : BitVec 32) : Fin 1 → Nat :=
  let c1703936_i32_5425 : BitVec 32 := 1703936#32
  let c32_i32_5424 : BitVec 32 := 32#32
  let v12086 : BitVec 32 := Scalar.muli v12085 c32_i32_5424
  let v12087 : BitVec 32 := Scalar.addi c1703936_i32_5425 v12086
  let v12088 : BitVec 32 := v12087
  ![v12088.toNat]
def k0_mult885 (v12094 : BitVec 32) : BitVec 32 :=
  let c1703936_i32_5429 : BitVec 32 := 1703936#32
  let c32_i32_5428 : BitVec 32 := 32#32
  let v12095 : BitVec 32 := Scalar.muli v12094 c32_i32_5428
  let v12096 : BitVec 32 := Scalar.addi c1703936_i32_5429 v12095
  v12096

def k0_off1721 (v12094 : BitVec 32) : Fin 1 → Nat :=
  let c1703936_i32_5429 : BitVec 32 := 1703936#32
  let c32_i32_5428 : BitVec 32 := 32#32
  let v12095 : BitVec 32 := Scalar.muli v12094 c32_i32_5428
  let v12096 : BitVec 32 := Scalar.addi c1703936_i32_5429 v12095
  let v12097 : BitVec 32 := v12096
  ![v12097.toNat]
def k0_mult886 (v12103 : BitVec 32) : BitVec 32 :=
  let c1703936_i32_5433 : BitVec 32 := 1703936#32
  let c32_i32_5432 : BitVec 32 := 32#32
  let v12104 : BitVec 32 := Scalar.muli v12103 c32_i32_5432
  let v12105 : BitVec 32 := Scalar.addi c1703936_i32_5433 v12104
  v12105

def k0_off1722 (v12103 : BitVec 32) : Fin 1 → Nat :=
  let c1703936_i32_5433 : BitVec 32 := 1703936#32
  let c32_i32_5432 : BitVec 32 := 32#32
  let v12104 : BitVec 32 := Scalar.muli v12103 c32_i32_5432
  let v12105 : BitVec 32 := Scalar.addi c1703936_i32_5433 v12104
  let v12106 : BitVec 32 := v12105
  ![v12106.toNat]
def k0_mult887 (v12112 : BitVec 32) : BitVec 32 :=
  let c1703936_i32_5437 : BitVec 32 := 1703936#32
  let c32_i32_5436 : BitVec 32 := 32#32
  let v12113 : BitVec 32 := Scalar.muli v12112 c32_i32_5436
  let v12114 : BitVec 32 := Scalar.addi c1703936_i32_5437 v12113
  v12114

def k0_off1723 (v12112 : BitVec 32) : Fin 1 → Nat :=
  let c1703936_i32_5437 : BitVec 32 := 1703936#32
  let c32_i32_5436 : BitVec 32 := 32#32
  let v12113 : BitVec 32 := Scalar.muli v12112 c32_i32_5436
  let v12114 : BitVec 32 := Scalar.addi c1703936_i32_5437 v12113
  let v12115 : BitVec 32 := v12114
  ![v12115.toNat]
def k0_mult888 (v12121 : BitVec 32) : BitVec 32 :=
  let c1703936_i32_5441 : BitVec 32 := 1703936#32
  let c32_i32_5440 : BitVec 32 := 32#32
  let v12122 : BitVec 32 := Scalar.muli v12121 c32_i32_5440
  let v12123 : BitVec 32 := Scalar.addi c1703936_i32_5441 v12122
  v12123

def k0_off1724 (v12121 : BitVec 32) : Fin 1 → Nat :=
  let c1703936_i32_5441 : BitVec 32 := 1703936#32
  let c32_i32_5440 : BitVec 32 := 32#32
  let v12122 : BitVec 32 := Scalar.muli v12121 c32_i32_5440
  let v12123 : BitVec 32 := Scalar.addi c1703936_i32_5441 v12122
  let v12124 : BitVec 32 := v12123
  ![v12124.toNat]
def k0_mult889 (v12130 : BitVec 32) : BitVec 32 :=
  let c1703936_i32_5445 : BitVec 32 := 1703936#32
  let c32_i32_5444 : BitVec 32 := 32#32
  let v12131 : BitVec 32 := Scalar.muli v12130 c32_i32_5444
  let v12132 : BitVec 32 := Scalar.addi c1703936_i32_5445 v12131
  v12132

def k0_off1725 (v12130 : BitVec 32) : Fin 1 → Nat :=
  let c1703936_i32_5445 : BitVec 32 := 1703936#32
  let c32_i32_5444 : BitVec 32 := 32#32
  let v12131 : BitVec 32 := Scalar.muli v12130 c32_i32_5444
  let v12132 : BitVec 32 := Scalar.addi c1703936_i32_5445 v12131
  let v12133 : BitVec 32 := v12132
  ![v12133.toNat]
def k0_mult890 (v12139 : BitVec 32) : BitVec 32 :=
  let c1703936_i32_5449 : BitVec 32 := 1703936#32
  let c32_i32_5448 : BitVec 32 := 32#32
  let v12140 : BitVec 32 := Scalar.muli v12139 c32_i32_5448
  let v12141 : BitVec 32 := Scalar.addi c1703936_i32_5449 v12140
  v12141

def k0_off1726 (v12139 : BitVec 32) : Fin 1 → Nat :=
  let c1703936_i32_5449 : BitVec 32 := 1703936#32
  let c32_i32_5448 : BitVec 32 := 32#32
  let v12140 : BitVec 32 := Scalar.muli v12139 c32_i32_5448
  let v12141 : BitVec 32 := Scalar.addi c1703936_i32_5449 v12140
  let v12142 : BitVec 32 := v12141
  ![v12142.toNat]
def k0_mult891 (v12148 : BitVec 32) : BitVec 32 :=
  let c1703936_i32_5453 : BitVec 32 := 1703936#32
  let c32_i32_5452 : BitVec 32 := 32#32
  let v12149 : BitVec 32 := Scalar.muli v12148 c32_i32_5452
  let v12150 : BitVec 32 := Scalar.addi c1703936_i32_5453 v12149
  v12150

def k0_off1727 (v12148 : BitVec 32) : Fin 1 → Nat :=
  let c1703936_i32_5453 : BitVec 32 := 1703936#32
  let c32_i32_5452 : BitVec 32 := 32#32
  let v12149 : BitVec 32 := Scalar.muli v12148 c32_i32_5452
  let v12150 : BitVec 32 := Scalar.addi c1703936_i32_5453 v12149
  let v12151 : BitVec 32 := v12150
  ![v12151.toNat]
def k0_mult892 (v12157 : BitVec 32) : BitVec 32 :=
  let c1703936_i32_5457 : BitVec 32 := 1703936#32
  let c32_i32_5456 : BitVec 32 := 32#32
  let v12158 : BitVec 32 := Scalar.muli v12157 c32_i32_5456
  let v12159 : BitVec 32 := Scalar.addi c1703936_i32_5457 v12158
  v12159

def k0_off1728 (v12157 : BitVec 32) : Fin 1 → Nat :=
  let c1703936_i32_5457 : BitVec 32 := 1703936#32
  let c32_i32_5456 : BitVec 32 := 32#32
  let v12158 : BitVec 32 := Scalar.muli v12157 c32_i32_5456
  let v12159 : BitVec 32 := Scalar.addi c1703936_i32_5457 v12158
  let v12160 : BitVec 32 := v12159
  ![v12160.toNat]
def k0_mult893 (v12166 : BitVec 32) : BitVec 32 :=
  let c1703936_i32_5461 : BitVec 32 := 1703936#32
  let c32_i32_5460 : BitVec 32 := 32#32
  let v12167 : BitVec 32 := Scalar.muli v12166 c32_i32_5460
  let v12168 : BitVec 32 := Scalar.addi c1703936_i32_5461 v12167
  v12168

def k0_off1729 (v12166 : BitVec 32) : Fin 1 → Nat :=
  let c1703936_i32_5461 : BitVec 32 := 1703936#32
  let c32_i32_5460 : BitVec 32 := 32#32
  let v12167 : BitVec 32 := Scalar.muli v12166 c32_i32_5460
  let v12168 : BitVec 32 := Scalar.addi c1703936_i32_5461 v12167
  let v12169 : BitVec 32 := v12168
  ![v12169.toNat]
def k0_mult894 (v12175 : BitVec 32) : BitVec 32 :=
  let c1703936_i32_5465 : BitVec 32 := 1703936#32
  let c32_i32_5464 : BitVec 32 := 32#32
  let v12176 : BitVec 32 := Scalar.muli v12175 c32_i32_5464
  let v12177 : BitVec 32 := Scalar.addi c1703936_i32_5465 v12176
  v12177

def k0_off1730 (v12175 : BitVec 32) : Fin 1 → Nat :=
  let c1703936_i32_5465 : BitVec 32 := 1703936#32
  let c32_i32_5464 : BitVec 32 := 32#32
  let v12176 : BitVec 32 := Scalar.muli v12175 c32_i32_5464
  let v12177 : BitVec 32 := Scalar.addi c1703936_i32_5465 v12176
  let v12178 : BitVec 32 := v12177
  ![v12178.toNat]
def k0_mult895 (v12184 : BitVec 32) : BitVec 32 :=
  let c1703936_i32_5469 : BitVec 32 := 1703936#32
  let c32_i32_5468 : BitVec 32 := 32#32
  let v12185 : BitVec 32 := Scalar.muli v12184 c32_i32_5468
  let v12186 : BitVec 32 := Scalar.addi c1703936_i32_5469 v12185
  v12186

def k0_off1731 (v12184 : BitVec 32) : Fin 1 → Nat :=
  let c1703936_i32_5469 : BitVec 32 := 1703936#32
  let c32_i32_5468 : BitVec 32 := 32#32
  let v12185 : BitVec 32 := Scalar.muli v12184 c32_i32_5468
  let v12186 : BitVec 32 := Scalar.addi c1703936_i32_5469 v12185
  let v12187 : BitVec 32 := v12186
  ![v12187.toNat]
def k0_mult896 (v12193 : BitVec 32) : BitVec 32 :=
  let c1703936_i32_5473 : BitVec 32 := 1703936#32
  let c32_i32_5472 : BitVec 32 := 32#32
  let v12194 : BitVec 32 := Scalar.muli v12193 c32_i32_5472
  let v12195 : BitVec 32 := Scalar.addi c1703936_i32_5473 v12194
  v12195

def k0_off1732 (v12193 : BitVec 32) : Fin 1 → Nat :=
  let c1703936_i32_5473 : BitVec 32 := 1703936#32
  let c32_i32_5472 : BitVec 32 := 32#32
  let v12194 : BitVec 32 := Scalar.muli v12193 c32_i32_5472
  let v12195 : BitVec 32 := Scalar.addi c1703936_i32_5473 v12194
  let v12196 : BitVec 32 := v12195
  ![v12196.toNat]
def k0_mult897 (v12202 : BitVec 32) : BitVec 32 :=
  let c1703936_i32_5477 : BitVec 32 := 1703936#32
  let c32_i32_5476 : BitVec 32 := 32#32
  let v12203 : BitVec 32 := Scalar.muli v12202 c32_i32_5476
  let v12204 : BitVec 32 := Scalar.addi c1703936_i32_5477 v12203
  v12204

def k0_off1733 (v12202 : BitVec 32) : Fin 1 → Nat :=
  let c1703936_i32_5477 : BitVec 32 := 1703936#32
  let c32_i32_5476 : BitVec 32 := 32#32
  let v12203 : BitVec 32 := Scalar.muli v12202 c32_i32_5476
  let v12204 : BitVec 32 := Scalar.addi c1703936_i32_5477 v12203
  let v12205 : BitVec 32 := v12204
  ![v12205.toNat]

def k0_chk920 (v12202 : BitVec 32) : Prop :=
  (8 ∣ (k0_mult897 v12202).toNat) ∧
  (∀ a, (k0_off1733 v12202) a + S32.size a ≤ S3407872.size a)
theorem k0_mult897_dvd : ∀ (v12202 : BitVec 32) (k0_hw920 : k0_chk920 v12202), 8 ∣ (k0_mult897 v12202).toNat := fun v12202 k0_hw920 => k0_hw920.1
theorem k0_off1733_inb : ∀ (v12202 : BitVec 32) (k0_hw920 : k0_chk920 v12202), ∀ a, (k0_off1733 v12202) a + S32.size a ≤ S3407872.size a := fun v12202 k0_hw920 => k0_hw920.2

def k0_off1734 (v12067 : BitVec 32) : Fin 1 → Nat :=
  let c1703936_i32_5417 : BitVec 32 := 1703936#32
  let c32_i32_5416 : BitVec 32 := 32#32
  let v12068 : BitVec 32 := Scalar.muli v12067 c32_i32_5416
  let v12069 : BitVec 32 := Scalar.addi c1703936_i32_5417 v12068
  let v12070 : BitVec 32 := v12069
  ![v12070.toNat]

def k0_chk905 (v12067 : BitVec 32) : Prop :=
  (8 ∣ (k0_mult882 v12067).toNat) ∧
  (∀ a, (k0_off1718 v12067) a + S32.size a ≤ S3407872.size a) ∧
  (∀ a, (k0_off1734 v12067) a + S32.size a ≤ S3407872.size a)
theorem k0_mult882_dvd : ∀ (v12067 : BitVec 32) (k0_hw905 : k0_chk905 v12067), 8 ∣ (k0_mult882 v12067).toNat := fun v12067 k0_hw905 => k0_hw905.1
theorem k0_off1718_inb : ∀ (v12067 : BitVec 32) (k0_hw905 : k0_chk905 v12067), ∀ a, (k0_off1718 v12067) a + S32.size a ≤ S3407872.size a := fun v12067 k0_hw905 => k0_hw905.2.1
theorem k0_off1734_inb : ∀ (v12067 : BitVec 32) (k0_hw905 : k0_chk905 v12067), ∀ a, (k0_off1734 v12067) a + S32.size a ≤ S3407872.size a := fun v12067 k0_hw905 => k0_hw905.2.2

def k0_off1735 (v12076 : BitVec 32) : Fin 1 → Nat :=
  let c1703936_i32_5421 : BitVec 32 := 1703936#32
  let c32_i32_5420 : BitVec 32 := 32#32
  let v12077 : BitVec 32 := Scalar.muli v12076 c32_i32_5420
  let v12078 : BitVec 32 := Scalar.addi c1703936_i32_5421 v12077
  let v12079 : BitVec 32 := v12078
  ![v12079.toNat]

def k0_chk906 (v12076 : BitVec 32) : Prop :=
  (8 ∣ (k0_mult883 v12076).toNat) ∧
  (∀ a, (k0_off1719 v12076) a + S32.size a ≤ S3407872.size a) ∧
  (∀ a, (k0_off1735 v12076) a + S32.size a ≤ S3407872.size a)
theorem k0_mult883_dvd : ∀ (v12076 : BitVec 32) (k0_hw906 : k0_chk906 v12076), 8 ∣ (k0_mult883 v12076).toNat := fun v12076 k0_hw906 => k0_hw906.1
theorem k0_off1719_inb : ∀ (v12076 : BitVec 32) (k0_hw906 : k0_chk906 v12076), ∀ a, (k0_off1719 v12076) a + S32.size a ≤ S3407872.size a := fun v12076 k0_hw906 => k0_hw906.2.1
theorem k0_off1735_inb : ∀ (v12076 : BitVec 32) (k0_hw906 : k0_chk906 v12076), ∀ a, (k0_off1735 v12076) a + S32.size a ≤ S3407872.size a := fun v12076 k0_hw906 => k0_hw906.2.2

def k0_off1736 (v12085 : BitVec 32) : Fin 1 → Nat :=
  let c1703936_i32_5425 : BitVec 32 := 1703936#32
  let c32_i32_5424 : BitVec 32 := 32#32
  let v12086 : BitVec 32 := Scalar.muli v12085 c32_i32_5424
  let v12087 : BitVec 32 := Scalar.addi c1703936_i32_5425 v12086
  let v12088 : BitVec 32 := v12087
  ![v12088.toNat]

def k0_chk907 (v12085 : BitVec 32) : Prop :=
  (8 ∣ (k0_mult884 v12085).toNat) ∧
  (∀ a, (k0_off1720 v12085) a + S32.size a ≤ S3407872.size a) ∧
  (∀ a, (k0_off1736 v12085) a + S32.size a ≤ S3407872.size a)
theorem k0_mult884_dvd : ∀ (v12085 : BitVec 32) (k0_hw907 : k0_chk907 v12085), 8 ∣ (k0_mult884 v12085).toNat := fun v12085 k0_hw907 => k0_hw907.1
theorem k0_off1720_inb : ∀ (v12085 : BitVec 32) (k0_hw907 : k0_chk907 v12085), ∀ a, (k0_off1720 v12085) a + S32.size a ≤ S3407872.size a := fun v12085 k0_hw907 => k0_hw907.2.1
theorem k0_off1736_inb : ∀ (v12085 : BitVec 32) (k0_hw907 : k0_chk907 v12085), ∀ a, (k0_off1736 v12085) a + S32.size a ≤ S3407872.size a := fun v12085 k0_hw907 => k0_hw907.2.2

def k0_off1737 (v12094 : BitVec 32) : Fin 1 → Nat :=
  let c1703936_i32_5429 : BitVec 32 := 1703936#32
  let c32_i32_5428 : BitVec 32 := 32#32
  let v12095 : BitVec 32 := Scalar.muli v12094 c32_i32_5428
  let v12096 : BitVec 32 := Scalar.addi c1703936_i32_5429 v12095
  let v12097 : BitVec 32 := v12096
  ![v12097.toNat]

def k0_chk908 (v12094 : BitVec 32) : Prop :=
  (8 ∣ (k0_mult885 v12094).toNat) ∧
  (∀ a, (k0_off1721 v12094) a + S32.size a ≤ S3407872.size a) ∧
  (∀ a, (k0_off1737 v12094) a + S32.size a ≤ S3407872.size a)
theorem k0_mult885_dvd : ∀ (v12094 : BitVec 32) (k0_hw908 : k0_chk908 v12094), 8 ∣ (k0_mult885 v12094).toNat := fun v12094 k0_hw908 => k0_hw908.1
theorem k0_off1721_inb : ∀ (v12094 : BitVec 32) (k0_hw908 : k0_chk908 v12094), ∀ a, (k0_off1721 v12094) a + S32.size a ≤ S3407872.size a := fun v12094 k0_hw908 => k0_hw908.2.1
theorem k0_off1737_inb : ∀ (v12094 : BitVec 32) (k0_hw908 : k0_chk908 v12094), ∀ a, (k0_off1737 v12094) a + S32.size a ≤ S3407872.size a := fun v12094 k0_hw908 => k0_hw908.2.2

def k0_off1738 (v12103 : BitVec 32) : Fin 1 → Nat :=
  let c1703936_i32_5433 : BitVec 32 := 1703936#32
  let c32_i32_5432 : BitVec 32 := 32#32
  let v12104 : BitVec 32 := Scalar.muli v12103 c32_i32_5432
  let v12105 : BitVec 32 := Scalar.addi c1703936_i32_5433 v12104
  let v12106 : BitVec 32 := v12105
  ![v12106.toNat]

def k0_chk909 (v12103 : BitVec 32) : Prop :=
  (8 ∣ (k0_mult886 v12103).toNat) ∧
  (∀ a, (k0_off1722 v12103) a + S32.size a ≤ S3407872.size a) ∧
  (∀ a, (k0_off1738 v12103) a + S32.size a ≤ S3407872.size a)
theorem k0_mult886_dvd : ∀ (v12103 : BitVec 32) (k0_hw909 : k0_chk909 v12103), 8 ∣ (k0_mult886 v12103).toNat := fun v12103 k0_hw909 => k0_hw909.1
theorem k0_off1722_inb : ∀ (v12103 : BitVec 32) (k0_hw909 : k0_chk909 v12103), ∀ a, (k0_off1722 v12103) a + S32.size a ≤ S3407872.size a := fun v12103 k0_hw909 => k0_hw909.2.1
theorem k0_off1738_inb : ∀ (v12103 : BitVec 32) (k0_hw909 : k0_chk909 v12103), ∀ a, (k0_off1738 v12103) a + S32.size a ≤ S3407872.size a := fun v12103 k0_hw909 => k0_hw909.2.2

def k0_off1739 (v12112 : BitVec 32) : Fin 1 → Nat :=
  let c1703936_i32_5437 : BitVec 32 := 1703936#32
  let c32_i32_5436 : BitVec 32 := 32#32
  let v12113 : BitVec 32 := Scalar.muli v12112 c32_i32_5436
  let v12114 : BitVec 32 := Scalar.addi c1703936_i32_5437 v12113
  let v12115 : BitVec 32 := v12114
  ![v12115.toNat]

def k0_chk910 (v12112 : BitVec 32) : Prop :=
  (8 ∣ (k0_mult887 v12112).toNat) ∧
  (∀ a, (k0_off1723 v12112) a + S32.size a ≤ S3407872.size a) ∧
  (∀ a, (k0_off1739 v12112) a + S32.size a ≤ S3407872.size a)
theorem k0_mult887_dvd : ∀ (v12112 : BitVec 32) (k0_hw910 : k0_chk910 v12112), 8 ∣ (k0_mult887 v12112).toNat := fun v12112 k0_hw910 => k0_hw910.1
theorem k0_off1723_inb : ∀ (v12112 : BitVec 32) (k0_hw910 : k0_chk910 v12112), ∀ a, (k0_off1723 v12112) a + S32.size a ≤ S3407872.size a := fun v12112 k0_hw910 => k0_hw910.2.1
theorem k0_off1739_inb : ∀ (v12112 : BitVec 32) (k0_hw910 : k0_chk910 v12112), ∀ a, (k0_off1739 v12112) a + S32.size a ≤ S3407872.size a := fun v12112 k0_hw910 => k0_hw910.2.2

def k0_off1740 (v12121 : BitVec 32) : Fin 1 → Nat :=
  let c1703936_i32_5441 : BitVec 32 := 1703936#32
  let c32_i32_5440 : BitVec 32 := 32#32
  let v12122 : BitVec 32 := Scalar.muli v12121 c32_i32_5440
  let v12123 : BitVec 32 := Scalar.addi c1703936_i32_5441 v12122
  let v12124 : BitVec 32 := v12123
  ![v12124.toNat]

def k0_chk911 (v12121 : BitVec 32) : Prop :=
  (8 ∣ (k0_mult888 v12121).toNat) ∧
  (∀ a, (k0_off1724 v12121) a + S32.size a ≤ S3407872.size a) ∧
  (∀ a, (k0_off1740 v12121) a + S32.size a ≤ S3407872.size a)
theorem k0_mult888_dvd : ∀ (v12121 : BitVec 32) (k0_hw911 : k0_chk911 v12121), 8 ∣ (k0_mult888 v12121).toNat := fun v12121 k0_hw911 => k0_hw911.1
theorem k0_off1724_inb : ∀ (v12121 : BitVec 32) (k0_hw911 : k0_chk911 v12121), ∀ a, (k0_off1724 v12121) a + S32.size a ≤ S3407872.size a := fun v12121 k0_hw911 => k0_hw911.2.1
theorem k0_off1740_inb : ∀ (v12121 : BitVec 32) (k0_hw911 : k0_chk911 v12121), ∀ a, (k0_off1740 v12121) a + S32.size a ≤ S3407872.size a := fun v12121 k0_hw911 => k0_hw911.2.2

def k0_off1741 (v12130 : BitVec 32) : Fin 1 → Nat :=
  let c1703936_i32_5445 : BitVec 32 := 1703936#32
  let c32_i32_5444 : BitVec 32 := 32#32
  let v12131 : BitVec 32 := Scalar.muli v12130 c32_i32_5444
  let v12132 : BitVec 32 := Scalar.addi c1703936_i32_5445 v12131
  let v12133 : BitVec 32 := v12132
  ![v12133.toNat]

def k0_chk912 (v12130 : BitVec 32) : Prop :=
  (8 ∣ (k0_mult889 v12130).toNat) ∧
  (∀ a, (k0_off1725 v12130) a + S32.size a ≤ S3407872.size a) ∧
  (∀ a, (k0_off1741 v12130) a + S32.size a ≤ S3407872.size a)
theorem k0_mult889_dvd : ∀ (v12130 : BitVec 32) (k0_hw912 : k0_chk912 v12130), 8 ∣ (k0_mult889 v12130).toNat := fun v12130 k0_hw912 => k0_hw912.1
theorem k0_off1725_inb : ∀ (v12130 : BitVec 32) (k0_hw912 : k0_chk912 v12130), ∀ a, (k0_off1725 v12130) a + S32.size a ≤ S3407872.size a := fun v12130 k0_hw912 => k0_hw912.2.1
theorem k0_off1741_inb : ∀ (v12130 : BitVec 32) (k0_hw912 : k0_chk912 v12130), ∀ a, (k0_off1741 v12130) a + S32.size a ≤ S3407872.size a := fun v12130 k0_hw912 => k0_hw912.2.2

def k0_off1742 (v12139 : BitVec 32) : Fin 1 → Nat :=
  let c1703936_i32_5449 : BitVec 32 := 1703936#32
  let c32_i32_5448 : BitVec 32 := 32#32
  let v12140 : BitVec 32 := Scalar.muli v12139 c32_i32_5448
  let v12141 : BitVec 32 := Scalar.addi c1703936_i32_5449 v12140
  let v12142 : BitVec 32 := v12141
  ![v12142.toNat]

def k0_chk913 (v12139 : BitVec 32) : Prop :=
  (8 ∣ (k0_mult890 v12139).toNat) ∧
  (∀ a, (k0_off1726 v12139) a + S32.size a ≤ S3407872.size a) ∧
  (∀ a, (k0_off1742 v12139) a + S32.size a ≤ S3407872.size a)
theorem k0_mult890_dvd : ∀ (v12139 : BitVec 32) (k0_hw913 : k0_chk913 v12139), 8 ∣ (k0_mult890 v12139).toNat := fun v12139 k0_hw913 => k0_hw913.1
theorem k0_off1726_inb : ∀ (v12139 : BitVec 32) (k0_hw913 : k0_chk913 v12139), ∀ a, (k0_off1726 v12139) a + S32.size a ≤ S3407872.size a := fun v12139 k0_hw913 => k0_hw913.2.1
theorem k0_off1742_inb : ∀ (v12139 : BitVec 32) (k0_hw913 : k0_chk913 v12139), ∀ a, (k0_off1742 v12139) a + S32.size a ≤ S3407872.size a := fun v12139 k0_hw913 => k0_hw913.2.2

def k0_off1743 (v12148 : BitVec 32) : Fin 1 → Nat :=
  let c1703936_i32_5453 : BitVec 32 := 1703936#32
  let c32_i32_5452 : BitVec 32 := 32#32
  let v12149 : BitVec 32 := Scalar.muli v12148 c32_i32_5452
  let v12150 : BitVec 32 := Scalar.addi c1703936_i32_5453 v12149
  let v12151 : BitVec 32 := v12150
  ![v12151.toNat]

def k0_chk914 (v12148 : BitVec 32) : Prop :=
  (8 ∣ (k0_mult891 v12148).toNat) ∧
  (∀ a, (k0_off1727 v12148) a + S32.size a ≤ S3407872.size a) ∧
  (∀ a, (k0_off1743 v12148) a + S32.size a ≤ S3407872.size a)
theorem k0_mult891_dvd : ∀ (v12148 : BitVec 32) (k0_hw914 : k0_chk914 v12148), 8 ∣ (k0_mult891 v12148).toNat := fun v12148 k0_hw914 => k0_hw914.1
theorem k0_off1727_inb : ∀ (v12148 : BitVec 32) (k0_hw914 : k0_chk914 v12148), ∀ a, (k0_off1727 v12148) a + S32.size a ≤ S3407872.size a := fun v12148 k0_hw914 => k0_hw914.2.1
theorem k0_off1743_inb : ∀ (v12148 : BitVec 32) (k0_hw914 : k0_chk914 v12148), ∀ a, (k0_off1743 v12148) a + S32.size a ≤ S3407872.size a := fun v12148 k0_hw914 => k0_hw914.2.2

def k0_off1744 (v12157 : BitVec 32) : Fin 1 → Nat :=
  let c1703936_i32_5457 : BitVec 32 := 1703936#32
  let c32_i32_5456 : BitVec 32 := 32#32
  let v12158 : BitVec 32 := Scalar.muli v12157 c32_i32_5456
  let v12159 : BitVec 32 := Scalar.addi c1703936_i32_5457 v12158
  let v12160 : BitVec 32 := v12159
  ![v12160.toNat]

def k0_chk915 (v12157 : BitVec 32) : Prop :=
  (8 ∣ (k0_mult892 v12157).toNat) ∧
  (∀ a, (k0_off1728 v12157) a + S32.size a ≤ S3407872.size a) ∧
  (∀ a, (k0_off1744 v12157) a + S32.size a ≤ S3407872.size a)
theorem k0_mult892_dvd : ∀ (v12157 : BitVec 32) (k0_hw915 : k0_chk915 v12157), 8 ∣ (k0_mult892 v12157).toNat := fun v12157 k0_hw915 => k0_hw915.1
theorem k0_off1728_inb : ∀ (v12157 : BitVec 32) (k0_hw915 : k0_chk915 v12157), ∀ a, (k0_off1728 v12157) a + S32.size a ≤ S3407872.size a := fun v12157 k0_hw915 => k0_hw915.2.1
theorem k0_off1744_inb : ∀ (v12157 : BitVec 32) (k0_hw915 : k0_chk915 v12157), ∀ a, (k0_off1744 v12157) a + S32.size a ≤ S3407872.size a := fun v12157 k0_hw915 => k0_hw915.2.2

def k0_off1745 (v12166 : BitVec 32) : Fin 1 → Nat :=
  let c1703936_i32_5461 : BitVec 32 := 1703936#32
  let c32_i32_5460 : BitVec 32 := 32#32
  let v12167 : BitVec 32 := Scalar.muli v12166 c32_i32_5460
  let v12168 : BitVec 32 := Scalar.addi c1703936_i32_5461 v12167
  let v12169 : BitVec 32 := v12168
  ![v12169.toNat]

def k0_chk916 (v12166 : BitVec 32) : Prop :=
  (8 ∣ (k0_mult893 v12166).toNat) ∧
  (∀ a, (k0_off1729 v12166) a + S32.size a ≤ S3407872.size a) ∧
  (∀ a, (k0_off1745 v12166) a + S32.size a ≤ S3407872.size a)
theorem k0_mult893_dvd : ∀ (v12166 : BitVec 32) (k0_hw916 : k0_chk916 v12166), 8 ∣ (k0_mult893 v12166).toNat := fun v12166 k0_hw916 => k0_hw916.1
theorem k0_off1729_inb : ∀ (v12166 : BitVec 32) (k0_hw916 : k0_chk916 v12166), ∀ a, (k0_off1729 v12166) a + S32.size a ≤ S3407872.size a := fun v12166 k0_hw916 => k0_hw916.2.1
theorem k0_off1745_inb : ∀ (v12166 : BitVec 32) (k0_hw916 : k0_chk916 v12166), ∀ a, (k0_off1745 v12166) a + S32.size a ≤ S3407872.size a := fun v12166 k0_hw916 => k0_hw916.2.2

def k0_off1746 (v12175 : BitVec 32) : Fin 1 → Nat :=
  let c1703936_i32_5465 : BitVec 32 := 1703936#32
  let c32_i32_5464 : BitVec 32 := 32#32
  let v12176 : BitVec 32 := Scalar.muli v12175 c32_i32_5464
  let v12177 : BitVec 32 := Scalar.addi c1703936_i32_5465 v12176
  let v12178 : BitVec 32 := v12177
  ![v12178.toNat]

def k0_chk917 (v12175 : BitVec 32) : Prop :=
  (8 ∣ (k0_mult894 v12175).toNat) ∧
  (∀ a, (k0_off1730 v12175) a + S32.size a ≤ S3407872.size a) ∧
  (∀ a, (k0_off1746 v12175) a + S32.size a ≤ S3407872.size a)
theorem k0_mult894_dvd : ∀ (v12175 : BitVec 32) (k0_hw917 : k0_chk917 v12175), 8 ∣ (k0_mult894 v12175).toNat := fun v12175 k0_hw917 => k0_hw917.1
theorem k0_off1730_inb : ∀ (v12175 : BitVec 32) (k0_hw917 : k0_chk917 v12175), ∀ a, (k0_off1730 v12175) a + S32.size a ≤ S3407872.size a := fun v12175 k0_hw917 => k0_hw917.2.1
theorem k0_off1746_inb : ∀ (v12175 : BitVec 32) (k0_hw917 : k0_chk917 v12175), ∀ a, (k0_off1746 v12175) a + S32.size a ≤ S3407872.size a := fun v12175 k0_hw917 => k0_hw917.2.2

def k0_off1747 (v12184 : BitVec 32) : Fin 1 → Nat :=
  let c1703936_i32_5469 : BitVec 32 := 1703936#32
  let c32_i32_5468 : BitVec 32 := 32#32
  let v12185 : BitVec 32 := Scalar.muli v12184 c32_i32_5468
  let v12186 : BitVec 32 := Scalar.addi c1703936_i32_5469 v12185
  let v12187 : BitVec 32 := v12186
  ![v12187.toNat]

def k0_chk918 (v12184 : BitVec 32) : Prop :=
  (8 ∣ (k0_mult895 v12184).toNat) ∧
  (∀ a, (k0_off1731 v12184) a + S32.size a ≤ S3407872.size a) ∧
  (∀ a, (k0_off1747 v12184) a + S32.size a ≤ S3407872.size a)
theorem k0_mult895_dvd : ∀ (v12184 : BitVec 32) (k0_hw918 : k0_chk918 v12184), 8 ∣ (k0_mult895 v12184).toNat := fun v12184 k0_hw918 => k0_hw918.1
theorem k0_off1731_inb : ∀ (v12184 : BitVec 32) (k0_hw918 : k0_chk918 v12184), ∀ a, (k0_off1731 v12184) a + S32.size a ≤ S3407872.size a := fun v12184 k0_hw918 => k0_hw918.2.1
theorem k0_off1747_inb : ∀ (v12184 : BitVec 32) (k0_hw918 : k0_chk918 v12184), ∀ a, (k0_off1747 v12184) a + S32.size a ≤ S3407872.size a := fun v12184 k0_hw918 => k0_hw918.2.2

def k0_off1748 (v12193 : BitVec 32) : Fin 1 → Nat :=
  let c1703936_i32_5473 : BitVec 32 := 1703936#32
  let c32_i32_5472 : BitVec 32 := 32#32
  let v12194 : BitVec 32 := Scalar.muli v12193 c32_i32_5472
  let v12195 : BitVec 32 := Scalar.addi c1703936_i32_5473 v12194
  let v12196 : BitVec 32 := v12195
  ![v12196.toNat]

def k0_chk919 (v12193 : BitVec 32) : Prop :=
  (8 ∣ (k0_mult896 v12193).toNat) ∧
  (∀ a, (k0_off1732 v12193) a + S32.size a ≤ S3407872.size a) ∧
  (∀ a, (k0_off1748 v12193) a + S32.size a ≤ S3407872.size a)
theorem k0_mult896_dvd : ∀ (v12193 : BitVec 32) (k0_hw919 : k0_chk919 v12193), 8 ∣ (k0_mult896 v12193).toNat := fun v12193 k0_hw919 => k0_hw919.1
theorem k0_off1732_inb : ∀ (v12193 : BitVec 32) (k0_hw919 : k0_chk919 v12193), ∀ a, (k0_off1732 v12193) a + S32.size a ≤ S3407872.size a := fun v12193 k0_hw919 => k0_hw919.2.1
theorem k0_off1748_inb : ∀ (v12193 : BitVec 32) (k0_hw919 : k0_chk919 v12193), ∀ a, (k0_off1748 v12193) a + S32.size a ≤ S3407872.size a := fun v12193 k0_hw919 => k0_hw919.2.2

def k0_mult898 (v12277 : BitVec 32) : BitVec 32 :=
  let c999936_i32_5514 : BitVec 32 := 999936#32
  let v12278 : BitVec 32 := Scalar.subi v12277 c999936_i32_5514
  let c32_i32_5515 : BitVec 32 := 32#32
  let v12279 : BitVec 32 := Scalar.muli v12278 c32_i32_5515
  v12279

def k0_off1749 (v12277 : BitVec 32) : Fin 1 → Nat :=
  let c999936_i32_5514 : BitVec 32 := 999936#32
  let v12278 : BitVec 32 := Scalar.subi v12277 c999936_i32_5514
  let c32_i32_5515 : BitVec 32 := 32#32
  let v12279 : BitVec 32 := Scalar.muli v12278 c32_i32_5515
  let v12280 : BitVec 32 := v12279
  ![v12280.toNat]
def k0_mult899 (v12286 : BitVec 32) : BitVec 32 :=
  let c999936_i32_5518 : BitVec 32 := 999936#32
  let v12287 : BitVec 32 := Scalar.subi v12286 c999936_i32_5518
  let c32_i32_5519 : BitVec 32 := 32#32
  let v12288 : BitVec 32 := Scalar.muli v12287 c32_i32_5519
  v12288

def k0_off1750 (v12286 : BitVec 32) : Fin 1 → Nat :=
  let c999936_i32_5518 : BitVec 32 := 999936#32
  let v12287 : BitVec 32 := Scalar.subi v12286 c999936_i32_5518
  let c32_i32_5519 : BitVec 32 := 32#32
  let v12288 : BitVec 32 := Scalar.muli v12287 c32_i32_5519
  let v12289 : BitVec 32 := v12288
  ![v12289.toNat]
def k0_mult900 (v12295 : BitVec 32) : BitVec 32 :=
  let c999936_i32_5522 : BitVec 32 := 999936#32
  let v12296 : BitVec 32 := Scalar.subi v12295 c999936_i32_5522
  let c32_i32_5523 : BitVec 32 := 32#32
  let v12297 : BitVec 32 := Scalar.muli v12296 c32_i32_5523
  v12297

def k0_off1751 (v12295 : BitVec 32) : Fin 1 → Nat :=
  let c999936_i32_5522 : BitVec 32 := 999936#32
  let v12296 : BitVec 32 := Scalar.subi v12295 c999936_i32_5522
  let c32_i32_5523 : BitVec 32 := 32#32
  let v12297 : BitVec 32 := Scalar.muli v12296 c32_i32_5523
  let v12298 : BitVec 32 := v12297
  ![v12298.toNat]
def k0_mult901 (v12304 : BitVec 32) : BitVec 32 :=
  let c999936_i32_5526 : BitVec 32 := 999936#32
  let v12305 : BitVec 32 := Scalar.subi v12304 c999936_i32_5526
  let c32_i32_5527 : BitVec 32 := 32#32
  let v12306 : BitVec 32 := Scalar.muli v12305 c32_i32_5527
  v12306

def k0_off1752 (v12304 : BitVec 32) : Fin 1 → Nat :=
  let c999936_i32_5526 : BitVec 32 := 999936#32
  let v12305 : BitVec 32 := Scalar.subi v12304 c999936_i32_5526
  let c32_i32_5527 : BitVec 32 := 32#32
  let v12306 : BitVec 32 := Scalar.muli v12305 c32_i32_5527
  let v12307 : BitVec 32 := v12306
  ![v12307.toNat]
def k0_mult902 (v12313 : BitVec 32) : BitVec 32 :=
  let c999936_i32_5530 : BitVec 32 := 999936#32
  let v12314 : BitVec 32 := Scalar.subi v12313 c999936_i32_5530
  let c32_i32_5531 : BitVec 32 := 32#32
  let v12315 : BitVec 32 := Scalar.muli v12314 c32_i32_5531
  v12315

def k0_off1753 (v12313 : BitVec 32) : Fin 1 → Nat :=
  let c999936_i32_5530 : BitVec 32 := 999936#32
  let v12314 : BitVec 32 := Scalar.subi v12313 c999936_i32_5530
  let c32_i32_5531 : BitVec 32 := 32#32
  let v12315 : BitVec 32 := Scalar.muli v12314 c32_i32_5531
  let v12316 : BitVec 32 := v12315
  ![v12316.toNat]
def k0_mult903 (v12322 : BitVec 32) : BitVec 32 :=
  let c999936_i32_5534 : BitVec 32 := 999936#32
  let v12323 : BitVec 32 := Scalar.subi v12322 c999936_i32_5534
  let c32_i32_5535 : BitVec 32 := 32#32
  let v12324 : BitVec 32 := Scalar.muli v12323 c32_i32_5535
  v12324

def k0_off1754 (v12322 : BitVec 32) : Fin 1 → Nat :=
  let c999936_i32_5534 : BitVec 32 := 999936#32
  let v12323 : BitVec 32 := Scalar.subi v12322 c999936_i32_5534
  let c32_i32_5535 : BitVec 32 := 32#32
  let v12324 : BitVec 32 := Scalar.muli v12323 c32_i32_5535
  let v12325 : BitVec 32 := v12324
  ![v12325.toNat]
def k0_mult904 (v12331 : BitVec 32) : BitVec 32 :=
  let c999936_i32_5538 : BitVec 32 := 999936#32
  let v12332 : BitVec 32 := Scalar.subi v12331 c999936_i32_5538
  let c32_i32_5539 : BitVec 32 := 32#32
  let v12333 : BitVec 32 := Scalar.muli v12332 c32_i32_5539
  v12333

def k0_off1755 (v12331 : BitVec 32) : Fin 1 → Nat :=
  let c999936_i32_5538 : BitVec 32 := 999936#32
  let v12332 : BitVec 32 := Scalar.subi v12331 c999936_i32_5538
  let c32_i32_5539 : BitVec 32 := 32#32
  let v12333 : BitVec 32 := Scalar.muli v12332 c32_i32_5539
  let v12334 : BitVec 32 := v12333
  ![v12334.toNat]
def k0_mult905 (v12340 : BitVec 32) : BitVec 32 :=
  let c999936_i32_5542 : BitVec 32 := 999936#32
  let v12341 : BitVec 32 := Scalar.subi v12340 c999936_i32_5542
  let c32_i32_5543 : BitVec 32 := 32#32
  let v12342 : BitVec 32 := Scalar.muli v12341 c32_i32_5543
  v12342

def k0_off1756 (v12340 : BitVec 32) : Fin 1 → Nat :=
  let c999936_i32_5542 : BitVec 32 := 999936#32
  let v12341 : BitVec 32 := Scalar.subi v12340 c999936_i32_5542
  let c32_i32_5543 : BitVec 32 := 32#32
  let v12342 : BitVec 32 := Scalar.muli v12341 c32_i32_5543
  let v12343 : BitVec 32 := v12342
  ![v12343.toNat]
def k0_mult906 (v12349 : BitVec 32) : BitVec 32 :=
  let c999936_i32_5546 : BitVec 32 := 999936#32
  let v12350 : BitVec 32 := Scalar.subi v12349 c999936_i32_5546
  let c32_i32_5547 : BitVec 32 := 32#32
  let v12351 : BitVec 32 := Scalar.muli v12350 c32_i32_5547
  v12351

def k0_off1757 (v12349 : BitVec 32) : Fin 1 → Nat :=
  let c999936_i32_5546 : BitVec 32 := 999936#32
  let v12350 : BitVec 32 := Scalar.subi v12349 c999936_i32_5546
  let c32_i32_5547 : BitVec 32 := 32#32
  let v12351 : BitVec 32 := Scalar.muli v12350 c32_i32_5547
  let v12352 : BitVec 32 := v12351
  ![v12352.toNat]
def k0_mult907 (v12358 : BitVec 32) : BitVec 32 :=
  let c999936_i32_5550 : BitVec 32 := 999936#32
  let v12359 : BitVec 32 := Scalar.subi v12358 c999936_i32_5550
  let c32_i32_5551 : BitVec 32 := 32#32
  let v12360 : BitVec 32 := Scalar.muli v12359 c32_i32_5551
  v12360

def k0_off1758 (v12358 : BitVec 32) : Fin 1 → Nat :=
  let c999936_i32_5550 : BitVec 32 := 999936#32
  let v12359 : BitVec 32 := Scalar.subi v12358 c999936_i32_5550
  let c32_i32_5551 : BitVec 32 := 32#32
  let v12360 : BitVec 32 := Scalar.muli v12359 c32_i32_5551
  let v12361 : BitVec 32 := v12360
  ![v12361.toNat]
def k0_mult908 (v12367 : BitVec 32) : BitVec 32 :=
  let c999936_i32_5554 : BitVec 32 := 999936#32
  let v12368 : BitVec 32 := Scalar.subi v12367 c999936_i32_5554
  let c32_i32_5555 : BitVec 32 := 32#32
  let v12369 : BitVec 32 := Scalar.muli v12368 c32_i32_5555
  v12369

def k0_off1759 (v12367 : BitVec 32) : Fin 1 → Nat :=
  let c999936_i32_5554 : BitVec 32 := 999936#32
  let v12368 : BitVec 32 := Scalar.subi v12367 c999936_i32_5554
  let c32_i32_5555 : BitVec 32 := 32#32
  let v12369 : BitVec 32 := Scalar.muli v12368 c32_i32_5555
  let v12370 : BitVec 32 := v12369
  ![v12370.toNat]
def k0_mult909 (v12376 : BitVec 32) : BitVec 32 :=
  let c999936_i32_5558 : BitVec 32 := 999936#32
  let v12377 : BitVec 32 := Scalar.subi v12376 c999936_i32_5558
  let c32_i32_5559 : BitVec 32 := 32#32
  let v12378 : BitVec 32 := Scalar.muli v12377 c32_i32_5559
  v12378

def k0_off1760 (v12376 : BitVec 32) : Fin 1 → Nat :=
  let c999936_i32_5558 : BitVec 32 := 999936#32
  let v12377 : BitVec 32 := Scalar.subi v12376 c999936_i32_5558
  let c32_i32_5559 : BitVec 32 := 32#32
  let v12378 : BitVec 32 := Scalar.muli v12377 c32_i32_5559
  let v12379 : BitVec 32 := v12378
  ![v12379.toNat]
def k0_mult910 (v12385 : BitVec 32) : BitVec 32 :=
  let c999936_i32_5562 : BitVec 32 := 999936#32
  let v12386 : BitVec 32 := Scalar.subi v12385 c999936_i32_5562
  let c32_i32_5563 : BitVec 32 := 32#32
  let v12387 : BitVec 32 := Scalar.muli v12386 c32_i32_5563
  v12387

def k0_off1761 (v12385 : BitVec 32) : Fin 1 → Nat :=
  let c999936_i32_5562 : BitVec 32 := 999936#32
  let v12386 : BitVec 32 := Scalar.subi v12385 c999936_i32_5562
  let c32_i32_5563 : BitVec 32 := 32#32
  let v12387 : BitVec 32 := Scalar.muli v12386 c32_i32_5563
  let v12388 : BitVec 32 := v12387
  ![v12388.toNat]
def k0_mult911 (v12394 : BitVec 32) : BitVec 32 :=
  let c999936_i32_5566 : BitVec 32 := 999936#32
  let v12395 : BitVec 32 := Scalar.subi v12394 c999936_i32_5566
  let c32_i32_5567 : BitVec 32 := 32#32
  let v12396 : BitVec 32 := Scalar.muli v12395 c32_i32_5567
  v12396

def k0_off1762 (v12394 : BitVec 32) : Fin 1 → Nat :=
  let c999936_i32_5566 : BitVec 32 := 999936#32
  let v12395 : BitVec 32 := Scalar.subi v12394 c999936_i32_5566
  let c32_i32_5567 : BitVec 32 := 32#32
  let v12396 : BitVec 32 := Scalar.muli v12395 c32_i32_5567
  let v12397 : BitVec 32 := v12396
  ![v12397.toNat]
def k0_mult912 (v12403 : BitVec 32) : BitVec 32 :=
  let c999936_i32_5570 : BitVec 32 := 999936#32
  let v12404 : BitVec 32 := Scalar.subi v12403 c999936_i32_5570
  let c32_i32_5571 : BitVec 32 := 32#32
  let v12405 : BitVec 32 := Scalar.muli v12404 c32_i32_5571
  v12405

def k0_off1763 (v12403 : BitVec 32) : Fin 1 → Nat :=
  let c999936_i32_5570 : BitVec 32 := 999936#32
  let v12404 : BitVec 32 := Scalar.subi v12403 c999936_i32_5570
  let c32_i32_5571 : BitVec 32 := 32#32
  let v12405 : BitVec 32 := Scalar.muli v12404 c32_i32_5571
  let v12406 : BitVec 32 := v12405
  ![v12406.toNat]
def k0_mult913 (v12412 : BitVec 32) : BitVec 32 :=
  let c999936_i32_5574 : BitVec 32 := 999936#32
  let v12413 : BitVec 32 := Scalar.subi v12412 c999936_i32_5574
  let c32_i32_5575 : BitVec 32 := 32#32
  let v12414 : BitVec 32 := Scalar.muli v12413 c32_i32_5575
  v12414

def k0_off1764 (v12412 : BitVec 32) : Fin 1 → Nat :=
  let c999936_i32_5574 : BitVec 32 := 999936#32
  let v12413 : BitVec 32 := Scalar.subi v12412 c999936_i32_5574
  let c32_i32_5575 : BitVec 32 := 32#32
  let v12414 : BitVec 32 := Scalar.muli v12413 c32_i32_5575
  let v12415 : BitVec 32 := v12414
  ![v12415.toNat]

def k0_chk936 (v12412 : BitVec 32) : Prop :=
  (8 ∣ (k0_mult913 v12412).toNat) ∧
  (∀ a, (k0_off1764 v12412) a + S32.size a ≤ S2048.size a)
theorem k0_mult913_dvd : ∀ (v12412 : BitVec 32) (k0_hw936 : k0_chk936 v12412), 8 ∣ (k0_mult913 v12412).toNat := fun v12412 k0_hw936 => k0_hw936.1
theorem k0_off1764_inb : ∀ (v12412 : BitVec 32) (k0_hw936 : k0_chk936 v12412), ∀ a, (k0_off1764 v12412) a + S32.size a ≤ S2048.size a := fun v12412 k0_hw936 => k0_hw936.2

def k0_off1765 (v12277 : BitVec 32) : Fin 1 → Nat :=
  let c999936_i32_5514 : BitVec 32 := 999936#32
  let v12278 : BitVec 32 := Scalar.subi v12277 c999936_i32_5514
  let c32_i32_5515 : BitVec 32 := 32#32
  let v12279 : BitVec 32 := Scalar.muli v12278 c32_i32_5515
  let v12280 : BitVec 32 := v12279
  ![v12280.toNat]

def k0_chk921 (v12277 : BitVec 32) : Prop :=
  (8 ∣ (k0_mult898 v12277).toNat) ∧
  (∀ a, (k0_off1749 v12277) a + S32.size a ≤ S2048.size a) ∧
  (∀ a, (k0_off1765 v12277) a + S32.size a ≤ S2048.size a)
theorem k0_mult898_dvd : ∀ (v12277 : BitVec 32) (k0_hw921 : k0_chk921 v12277), 8 ∣ (k0_mult898 v12277).toNat := fun v12277 k0_hw921 => k0_hw921.1
theorem k0_off1749_inb : ∀ (v12277 : BitVec 32) (k0_hw921 : k0_chk921 v12277), ∀ a, (k0_off1749 v12277) a + S32.size a ≤ S2048.size a := fun v12277 k0_hw921 => k0_hw921.2.1
theorem k0_off1765_inb : ∀ (v12277 : BitVec 32) (k0_hw921 : k0_chk921 v12277), ∀ a, (k0_off1765 v12277) a + S32.size a ≤ S2048.size a := fun v12277 k0_hw921 => k0_hw921.2.2

def k0_off1766 (v12286 : BitVec 32) : Fin 1 → Nat :=
  let c999936_i32_5518 : BitVec 32 := 999936#32
  let v12287 : BitVec 32 := Scalar.subi v12286 c999936_i32_5518
  let c32_i32_5519 : BitVec 32 := 32#32
  let v12288 : BitVec 32 := Scalar.muli v12287 c32_i32_5519
  let v12289 : BitVec 32 := v12288
  ![v12289.toNat]

def k0_chk922 (v12286 : BitVec 32) : Prop :=
  (8 ∣ (k0_mult899 v12286).toNat) ∧
  (∀ a, (k0_off1750 v12286) a + S32.size a ≤ S2048.size a) ∧
  (∀ a, (k0_off1766 v12286) a + S32.size a ≤ S2048.size a)
theorem k0_mult899_dvd : ∀ (v12286 : BitVec 32) (k0_hw922 : k0_chk922 v12286), 8 ∣ (k0_mult899 v12286).toNat := fun v12286 k0_hw922 => k0_hw922.1
theorem k0_off1750_inb : ∀ (v12286 : BitVec 32) (k0_hw922 : k0_chk922 v12286), ∀ a, (k0_off1750 v12286) a + S32.size a ≤ S2048.size a := fun v12286 k0_hw922 => k0_hw922.2.1
theorem k0_off1766_inb : ∀ (v12286 : BitVec 32) (k0_hw922 : k0_chk922 v12286), ∀ a, (k0_off1766 v12286) a + S32.size a ≤ S2048.size a := fun v12286 k0_hw922 => k0_hw922.2.2

def k0_off1767 (v12295 : BitVec 32) : Fin 1 → Nat :=
  let c999936_i32_5522 : BitVec 32 := 999936#32
  let v12296 : BitVec 32 := Scalar.subi v12295 c999936_i32_5522
  let c32_i32_5523 : BitVec 32 := 32#32
  let v12297 : BitVec 32 := Scalar.muli v12296 c32_i32_5523
  let v12298 : BitVec 32 := v12297
  ![v12298.toNat]

def k0_chk923 (v12295 : BitVec 32) : Prop :=
  (8 ∣ (k0_mult900 v12295).toNat) ∧
  (∀ a, (k0_off1751 v12295) a + S32.size a ≤ S2048.size a) ∧
  (∀ a, (k0_off1767 v12295) a + S32.size a ≤ S2048.size a)
theorem k0_mult900_dvd : ∀ (v12295 : BitVec 32) (k0_hw923 : k0_chk923 v12295), 8 ∣ (k0_mult900 v12295).toNat := fun v12295 k0_hw923 => k0_hw923.1
theorem k0_off1751_inb : ∀ (v12295 : BitVec 32) (k0_hw923 : k0_chk923 v12295), ∀ a, (k0_off1751 v12295) a + S32.size a ≤ S2048.size a := fun v12295 k0_hw923 => k0_hw923.2.1
theorem k0_off1767_inb : ∀ (v12295 : BitVec 32) (k0_hw923 : k0_chk923 v12295), ∀ a, (k0_off1767 v12295) a + S32.size a ≤ S2048.size a := fun v12295 k0_hw923 => k0_hw923.2.2

def k0_off1768 (v12304 : BitVec 32) : Fin 1 → Nat :=
  let c999936_i32_5526 : BitVec 32 := 999936#32
  let v12305 : BitVec 32 := Scalar.subi v12304 c999936_i32_5526
  let c32_i32_5527 : BitVec 32 := 32#32
  let v12306 : BitVec 32 := Scalar.muli v12305 c32_i32_5527
  let v12307 : BitVec 32 := v12306
  ![v12307.toNat]

def k0_chk924 (v12304 : BitVec 32) : Prop :=
  (8 ∣ (k0_mult901 v12304).toNat) ∧
  (∀ a, (k0_off1752 v12304) a + S32.size a ≤ S2048.size a) ∧
  (∀ a, (k0_off1768 v12304) a + S32.size a ≤ S2048.size a)
theorem k0_mult901_dvd : ∀ (v12304 : BitVec 32) (k0_hw924 : k0_chk924 v12304), 8 ∣ (k0_mult901 v12304).toNat := fun v12304 k0_hw924 => k0_hw924.1
theorem k0_off1752_inb : ∀ (v12304 : BitVec 32) (k0_hw924 : k0_chk924 v12304), ∀ a, (k0_off1752 v12304) a + S32.size a ≤ S2048.size a := fun v12304 k0_hw924 => k0_hw924.2.1
theorem k0_off1768_inb : ∀ (v12304 : BitVec 32) (k0_hw924 : k0_chk924 v12304), ∀ a, (k0_off1768 v12304) a + S32.size a ≤ S2048.size a := fun v12304 k0_hw924 => k0_hw924.2.2

def k0_off1769 (v12313 : BitVec 32) : Fin 1 → Nat :=
  let c999936_i32_5530 : BitVec 32 := 999936#32
  let v12314 : BitVec 32 := Scalar.subi v12313 c999936_i32_5530
  let c32_i32_5531 : BitVec 32 := 32#32
  let v12315 : BitVec 32 := Scalar.muli v12314 c32_i32_5531
  let v12316 : BitVec 32 := v12315
  ![v12316.toNat]

def k0_chk925 (v12313 : BitVec 32) : Prop :=
  (8 ∣ (k0_mult902 v12313).toNat) ∧
  (∀ a, (k0_off1753 v12313) a + S32.size a ≤ S2048.size a) ∧
  (∀ a, (k0_off1769 v12313) a + S32.size a ≤ S2048.size a)
theorem k0_mult902_dvd : ∀ (v12313 : BitVec 32) (k0_hw925 : k0_chk925 v12313), 8 ∣ (k0_mult902 v12313).toNat := fun v12313 k0_hw925 => k0_hw925.1
theorem k0_off1753_inb : ∀ (v12313 : BitVec 32) (k0_hw925 : k0_chk925 v12313), ∀ a, (k0_off1753 v12313) a + S32.size a ≤ S2048.size a := fun v12313 k0_hw925 => k0_hw925.2.1
theorem k0_off1769_inb : ∀ (v12313 : BitVec 32) (k0_hw925 : k0_chk925 v12313), ∀ a, (k0_off1769 v12313) a + S32.size a ≤ S2048.size a := fun v12313 k0_hw925 => k0_hw925.2.2

def k0_off1770 (v12322 : BitVec 32) : Fin 1 → Nat :=
  let c999936_i32_5534 : BitVec 32 := 999936#32
  let v12323 : BitVec 32 := Scalar.subi v12322 c999936_i32_5534
  let c32_i32_5535 : BitVec 32 := 32#32
  let v12324 : BitVec 32 := Scalar.muli v12323 c32_i32_5535
  let v12325 : BitVec 32 := v12324
  ![v12325.toNat]

def k0_chk926 (v12322 : BitVec 32) : Prop :=
  (8 ∣ (k0_mult903 v12322).toNat) ∧
  (∀ a, (k0_off1754 v12322) a + S32.size a ≤ S2048.size a) ∧
  (∀ a, (k0_off1770 v12322) a + S32.size a ≤ S2048.size a)
theorem k0_mult903_dvd : ∀ (v12322 : BitVec 32) (k0_hw926 : k0_chk926 v12322), 8 ∣ (k0_mult903 v12322).toNat := fun v12322 k0_hw926 => k0_hw926.1
theorem k0_off1754_inb : ∀ (v12322 : BitVec 32) (k0_hw926 : k0_chk926 v12322), ∀ a, (k0_off1754 v12322) a + S32.size a ≤ S2048.size a := fun v12322 k0_hw926 => k0_hw926.2.1
theorem k0_off1770_inb : ∀ (v12322 : BitVec 32) (k0_hw926 : k0_chk926 v12322), ∀ a, (k0_off1770 v12322) a + S32.size a ≤ S2048.size a := fun v12322 k0_hw926 => k0_hw926.2.2

def k0_off1771 (v12331 : BitVec 32) : Fin 1 → Nat :=
  let c999936_i32_5538 : BitVec 32 := 999936#32
  let v12332 : BitVec 32 := Scalar.subi v12331 c999936_i32_5538
  let c32_i32_5539 : BitVec 32 := 32#32
  let v12333 : BitVec 32 := Scalar.muli v12332 c32_i32_5539
  let v12334 : BitVec 32 := v12333
  ![v12334.toNat]

def k0_chk927 (v12331 : BitVec 32) : Prop :=
  (8 ∣ (k0_mult904 v12331).toNat) ∧
  (∀ a, (k0_off1755 v12331) a + S32.size a ≤ S2048.size a) ∧
  (∀ a, (k0_off1771 v12331) a + S32.size a ≤ S2048.size a)
theorem k0_mult904_dvd : ∀ (v12331 : BitVec 32) (k0_hw927 : k0_chk927 v12331), 8 ∣ (k0_mult904 v12331).toNat := fun v12331 k0_hw927 => k0_hw927.1
theorem k0_off1755_inb : ∀ (v12331 : BitVec 32) (k0_hw927 : k0_chk927 v12331), ∀ a, (k0_off1755 v12331) a + S32.size a ≤ S2048.size a := fun v12331 k0_hw927 => k0_hw927.2.1
theorem k0_off1771_inb : ∀ (v12331 : BitVec 32) (k0_hw927 : k0_chk927 v12331), ∀ a, (k0_off1771 v12331) a + S32.size a ≤ S2048.size a := fun v12331 k0_hw927 => k0_hw927.2.2

def k0_off1772 (v12340 : BitVec 32) : Fin 1 → Nat :=
  let c999936_i32_5542 : BitVec 32 := 999936#32
  let v12341 : BitVec 32 := Scalar.subi v12340 c999936_i32_5542
  let c32_i32_5543 : BitVec 32 := 32#32
  let v12342 : BitVec 32 := Scalar.muli v12341 c32_i32_5543
  let v12343 : BitVec 32 := v12342
  ![v12343.toNat]

def k0_chk928 (v12340 : BitVec 32) : Prop :=
  (8 ∣ (k0_mult905 v12340).toNat) ∧
  (∀ a, (k0_off1756 v12340) a + S32.size a ≤ S2048.size a) ∧
  (∀ a, (k0_off1772 v12340) a + S32.size a ≤ S2048.size a)
theorem k0_mult905_dvd : ∀ (v12340 : BitVec 32) (k0_hw928 : k0_chk928 v12340), 8 ∣ (k0_mult905 v12340).toNat := fun v12340 k0_hw928 => k0_hw928.1
theorem k0_off1756_inb : ∀ (v12340 : BitVec 32) (k0_hw928 : k0_chk928 v12340), ∀ a, (k0_off1756 v12340) a + S32.size a ≤ S2048.size a := fun v12340 k0_hw928 => k0_hw928.2.1
theorem k0_off1772_inb : ∀ (v12340 : BitVec 32) (k0_hw928 : k0_chk928 v12340), ∀ a, (k0_off1772 v12340) a + S32.size a ≤ S2048.size a := fun v12340 k0_hw928 => k0_hw928.2.2

def k0_off1773 (v12349 : BitVec 32) : Fin 1 → Nat :=
  let c999936_i32_5546 : BitVec 32 := 999936#32
  let v12350 : BitVec 32 := Scalar.subi v12349 c999936_i32_5546
  let c32_i32_5547 : BitVec 32 := 32#32
  let v12351 : BitVec 32 := Scalar.muli v12350 c32_i32_5547
  let v12352 : BitVec 32 := v12351
  ![v12352.toNat]

def k0_chk929 (v12349 : BitVec 32) : Prop :=
  (8 ∣ (k0_mult906 v12349).toNat) ∧
  (∀ a, (k0_off1757 v12349) a + S32.size a ≤ S2048.size a) ∧
  (∀ a, (k0_off1773 v12349) a + S32.size a ≤ S2048.size a)
theorem k0_mult906_dvd : ∀ (v12349 : BitVec 32) (k0_hw929 : k0_chk929 v12349), 8 ∣ (k0_mult906 v12349).toNat := fun v12349 k0_hw929 => k0_hw929.1
theorem k0_off1757_inb : ∀ (v12349 : BitVec 32) (k0_hw929 : k0_chk929 v12349), ∀ a, (k0_off1757 v12349) a + S32.size a ≤ S2048.size a := fun v12349 k0_hw929 => k0_hw929.2.1
theorem k0_off1773_inb : ∀ (v12349 : BitVec 32) (k0_hw929 : k0_chk929 v12349), ∀ a, (k0_off1773 v12349) a + S32.size a ≤ S2048.size a := fun v12349 k0_hw929 => k0_hw929.2.2

def k0_off1774 (v12358 : BitVec 32) : Fin 1 → Nat :=
  let c999936_i32_5550 : BitVec 32 := 999936#32
  let v12359 : BitVec 32 := Scalar.subi v12358 c999936_i32_5550
  let c32_i32_5551 : BitVec 32 := 32#32
  let v12360 : BitVec 32 := Scalar.muli v12359 c32_i32_5551
  let v12361 : BitVec 32 := v12360
  ![v12361.toNat]

def k0_chk930 (v12358 : BitVec 32) : Prop :=
  (8 ∣ (k0_mult907 v12358).toNat) ∧
  (∀ a, (k0_off1758 v12358) a + S32.size a ≤ S2048.size a) ∧
  (∀ a, (k0_off1774 v12358) a + S32.size a ≤ S2048.size a)
theorem k0_mult907_dvd : ∀ (v12358 : BitVec 32) (k0_hw930 : k0_chk930 v12358), 8 ∣ (k0_mult907 v12358).toNat := fun v12358 k0_hw930 => k0_hw930.1
theorem k0_off1758_inb : ∀ (v12358 : BitVec 32) (k0_hw930 : k0_chk930 v12358), ∀ a, (k0_off1758 v12358) a + S32.size a ≤ S2048.size a := fun v12358 k0_hw930 => k0_hw930.2.1
theorem k0_off1774_inb : ∀ (v12358 : BitVec 32) (k0_hw930 : k0_chk930 v12358), ∀ a, (k0_off1774 v12358) a + S32.size a ≤ S2048.size a := fun v12358 k0_hw930 => k0_hw930.2.2

def k0_off1775 (v12367 : BitVec 32) : Fin 1 → Nat :=
  let c999936_i32_5554 : BitVec 32 := 999936#32
  let v12368 : BitVec 32 := Scalar.subi v12367 c999936_i32_5554
  let c32_i32_5555 : BitVec 32 := 32#32
  let v12369 : BitVec 32 := Scalar.muli v12368 c32_i32_5555
  let v12370 : BitVec 32 := v12369
  ![v12370.toNat]

def k0_chk931 (v12367 : BitVec 32) : Prop :=
  (8 ∣ (k0_mult908 v12367).toNat) ∧
  (∀ a, (k0_off1759 v12367) a + S32.size a ≤ S2048.size a) ∧
  (∀ a, (k0_off1775 v12367) a + S32.size a ≤ S2048.size a)
theorem k0_mult908_dvd : ∀ (v12367 : BitVec 32) (k0_hw931 : k0_chk931 v12367), 8 ∣ (k0_mult908 v12367).toNat := fun v12367 k0_hw931 => k0_hw931.1
theorem k0_off1759_inb : ∀ (v12367 : BitVec 32) (k0_hw931 : k0_chk931 v12367), ∀ a, (k0_off1759 v12367) a + S32.size a ≤ S2048.size a := fun v12367 k0_hw931 => k0_hw931.2.1
theorem k0_off1775_inb : ∀ (v12367 : BitVec 32) (k0_hw931 : k0_chk931 v12367), ∀ a, (k0_off1775 v12367) a + S32.size a ≤ S2048.size a := fun v12367 k0_hw931 => k0_hw931.2.2

def k0_off1776 (v12376 : BitVec 32) : Fin 1 → Nat :=
  let c999936_i32_5558 : BitVec 32 := 999936#32
  let v12377 : BitVec 32 := Scalar.subi v12376 c999936_i32_5558
  let c32_i32_5559 : BitVec 32 := 32#32
  let v12378 : BitVec 32 := Scalar.muli v12377 c32_i32_5559
  let v12379 : BitVec 32 := v12378
  ![v12379.toNat]

def k0_chk932 (v12376 : BitVec 32) : Prop :=
  (8 ∣ (k0_mult909 v12376).toNat) ∧
  (∀ a, (k0_off1760 v12376) a + S32.size a ≤ S2048.size a) ∧
  (∀ a, (k0_off1776 v12376) a + S32.size a ≤ S2048.size a)
theorem k0_mult909_dvd : ∀ (v12376 : BitVec 32) (k0_hw932 : k0_chk932 v12376), 8 ∣ (k0_mult909 v12376).toNat := fun v12376 k0_hw932 => k0_hw932.1
theorem k0_off1760_inb : ∀ (v12376 : BitVec 32) (k0_hw932 : k0_chk932 v12376), ∀ a, (k0_off1760 v12376) a + S32.size a ≤ S2048.size a := fun v12376 k0_hw932 => k0_hw932.2.1
theorem k0_off1776_inb : ∀ (v12376 : BitVec 32) (k0_hw932 : k0_chk932 v12376), ∀ a, (k0_off1776 v12376) a + S32.size a ≤ S2048.size a := fun v12376 k0_hw932 => k0_hw932.2.2

def k0_off1777 (v12385 : BitVec 32) : Fin 1 → Nat :=
  let c999936_i32_5562 : BitVec 32 := 999936#32
  let v12386 : BitVec 32 := Scalar.subi v12385 c999936_i32_5562
  let c32_i32_5563 : BitVec 32 := 32#32
  let v12387 : BitVec 32 := Scalar.muli v12386 c32_i32_5563
  let v12388 : BitVec 32 := v12387
  ![v12388.toNat]

def k0_chk933 (v12385 : BitVec 32) : Prop :=
  (8 ∣ (k0_mult910 v12385).toNat) ∧
  (∀ a, (k0_off1761 v12385) a + S32.size a ≤ S2048.size a) ∧
  (∀ a, (k0_off1777 v12385) a + S32.size a ≤ S2048.size a)
theorem k0_mult910_dvd : ∀ (v12385 : BitVec 32) (k0_hw933 : k0_chk933 v12385), 8 ∣ (k0_mult910 v12385).toNat := fun v12385 k0_hw933 => k0_hw933.1
theorem k0_off1761_inb : ∀ (v12385 : BitVec 32) (k0_hw933 : k0_chk933 v12385), ∀ a, (k0_off1761 v12385) a + S32.size a ≤ S2048.size a := fun v12385 k0_hw933 => k0_hw933.2.1
theorem k0_off1777_inb : ∀ (v12385 : BitVec 32) (k0_hw933 : k0_chk933 v12385), ∀ a, (k0_off1777 v12385) a + S32.size a ≤ S2048.size a := fun v12385 k0_hw933 => k0_hw933.2.2

def k0_off1778 (v12394 : BitVec 32) : Fin 1 → Nat :=
  let c999936_i32_5566 : BitVec 32 := 999936#32
  let v12395 : BitVec 32 := Scalar.subi v12394 c999936_i32_5566
  let c32_i32_5567 : BitVec 32 := 32#32
  let v12396 : BitVec 32 := Scalar.muli v12395 c32_i32_5567
  let v12397 : BitVec 32 := v12396
  ![v12397.toNat]

def k0_chk934 (v12394 : BitVec 32) : Prop :=
  (8 ∣ (k0_mult911 v12394).toNat) ∧
  (∀ a, (k0_off1762 v12394) a + S32.size a ≤ S2048.size a) ∧
  (∀ a, (k0_off1778 v12394) a + S32.size a ≤ S2048.size a)
theorem k0_mult911_dvd : ∀ (v12394 : BitVec 32) (k0_hw934 : k0_chk934 v12394), 8 ∣ (k0_mult911 v12394).toNat := fun v12394 k0_hw934 => k0_hw934.1
theorem k0_off1762_inb : ∀ (v12394 : BitVec 32) (k0_hw934 : k0_chk934 v12394), ∀ a, (k0_off1762 v12394) a + S32.size a ≤ S2048.size a := fun v12394 k0_hw934 => k0_hw934.2.1
theorem k0_off1778_inb : ∀ (v12394 : BitVec 32) (k0_hw934 : k0_chk934 v12394), ∀ a, (k0_off1778 v12394) a + S32.size a ≤ S2048.size a := fun v12394 k0_hw934 => k0_hw934.2.2

def k0_off1779 (v12403 : BitVec 32) : Fin 1 → Nat :=
  let c999936_i32_5570 : BitVec 32 := 999936#32
  let v12404 : BitVec 32 := Scalar.subi v12403 c999936_i32_5570
  let c32_i32_5571 : BitVec 32 := 32#32
  let v12405 : BitVec 32 := Scalar.muli v12404 c32_i32_5571
  let v12406 : BitVec 32 := v12405
  ![v12406.toNat]

def k0_chk935 (v12403 : BitVec 32) : Prop :=
  (8 ∣ (k0_mult912 v12403).toNat) ∧
  (∀ a, (k0_off1763 v12403) a + S32.size a ≤ S2048.size a) ∧
  (∀ a, (k0_off1779 v12403) a + S32.size a ≤ S2048.size a)
theorem k0_mult912_dvd : ∀ (v12403 : BitVec 32) (k0_hw935 : k0_chk935 v12403), 8 ∣ (k0_mult912 v12403).toNat := fun v12403 k0_hw935 => k0_hw935.1
theorem k0_off1763_inb : ∀ (v12403 : BitVec 32) (k0_hw935 : k0_chk935 v12403), ∀ a, (k0_off1763 v12403) a + S32.size a ≤ S2048.size a := fun v12403 k0_hw935 => k0_hw935.2.1
theorem k0_off1779_inb : ∀ (v12403 : BitVec 32) (k0_hw935 : k0_chk935 v12403), ∀ a, (k0_off1779 v12403) a + S32.size a ≤ S2048.size a := fun v12403 k0_hw935 => k0_hw935.2.2

def k0_mult914 (v12485 : BitVec 32) : BitVec 32 :=
  let c1703936_i32_5611 : BitVec 32 := 1703936#32
  let c32_i32_5610 : BitVec 32 := 32#32
  let v12486 : BitVec 32 := Scalar.muli v12485 c32_i32_5610
  let v12487 : BitVec 32 := Scalar.addi c1703936_i32_5611 v12486
  v12487

def k0_off1780 (v12485 : BitVec 32) : Fin 1 → Nat :=
  let c1703936_i32_5611 : BitVec 32 := 1703936#32
  let c32_i32_5610 : BitVec 32 := 32#32
  let v12486 : BitVec 32 := Scalar.muli v12485 c32_i32_5610
  let v12487 : BitVec 32 := Scalar.addi c1703936_i32_5611 v12486
  let v12488 : BitVec 32 := v12487
  ![v12488.toNat]
def k0_mult915 (v12494 : BitVec 32) : BitVec 32 :=
  let c1703936_i32_5615 : BitVec 32 := 1703936#32
  let c32_i32_5614 : BitVec 32 := 32#32
  let v12495 : BitVec 32 := Scalar.muli v12494 c32_i32_5614
  let v12496 : BitVec 32 := Scalar.addi c1703936_i32_5615 v12495
  v12496

def k0_off1781 (v12494 : BitVec 32) : Fin 1 → Nat :=
  let c1703936_i32_5615 : BitVec 32 := 1703936#32
  let c32_i32_5614 : BitVec 32 := 32#32
  let v12495 : BitVec 32 := Scalar.muli v12494 c32_i32_5614
  let v12496 : BitVec 32 := Scalar.addi c1703936_i32_5615 v12495
  let v12497 : BitVec 32 := v12496
  ![v12497.toNat]
def k0_mult916 (v12503 : BitVec 32) : BitVec 32 :=
  let c1703936_i32_5619 : BitVec 32 := 1703936#32
  let c32_i32_5618 : BitVec 32 := 32#32
  let v12504 : BitVec 32 := Scalar.muli v12503 c32_i32_5618
  let v12505 : BitVec 32 := Scalar.addi c1703936_i32_5619 v12504
  v12505

def k0_off1782 (v12503 : BitVec 32) : Fin 1 → Nat :=
  let c1703936_i32_5619 : BitVec 32 := 1703936#32
  let c32_i32_5618 : BitVec 32 := 32#32
  let v12504 : BitVec 32 := Scalar.muli v12503 c32_i32_5618
  let v12505 : BitVec 32 := Scalar.addi c1703936_i32_5619 v12504
  let v12506 : BitVec 32 := v12505
  ![v12506.toNat]
def k0_mult917 (v12512 : BitVec 32) : BitVec 32 :=
  let c1703936_i32_5623 : BitVec 32 := 1703936#32
  let c32_i32_5622 : BitVec 32 := 32#32
  let v12513 : BitVec 32 := Scalar.muli v12512 c32_i32_5622
  let v12514 : BitVec 32 := Scalar.addi c1703936_i32_5623 v12513
  v12514

def k0_off1783 (v12512 : BitVec 32) : Fin 1 → Nat :=
  let c1703936_i32_5623 : BitVec 32 := 1703936#32
  let c32_i32_5622 : BitVec 32 := 32#32
  let v12513 : BitVec 32 := Scalar.muli v12512 c32_i32_5622
  let v12514 : BitVec 32 := Scalar.addi c1703936_i32_5623 v12513
  let v12515 : BitVec 32 := v12514
  ![v12515.toNat]
def k0_mult918 (v12521 : BitVec 32) : BitVec 32 :=
  let c1703936_i32_5627 : BitVec 32 := 1703936#32
  let c32_i32_5626 : BitVec 32 := 32#32
  let v12522 : BitVec 32 := Scalar.muli v12521 c32_i32_5626
  let v12523 : BitVec 32 := Scalar.addi c1703936_i32_5627 v12522
  v12523

def k0_off1784 (v12521 : BitVec 32) : Fin 1 → Nat :=
  let c1703936_i32_5627 : BitVec 32 := 1703936#32
  let c32_i32_5626 : BitVec 32 := 32#32
  let v12522 : BitVec 32 := Scalar.muli v12521 c32_i32_5626
  let v12523 : BitVec 32 := Scalar.addi c1703936_i32_5627 v12522
  let v12524 : BitVec 32 := v12523
  ![v12524.toNat]
def k0_mult919 (v12530 : BitVec 32) : BitVec 32 :=
  let c1703936_i32_5631 : BitVec 32 := 1703936#32
  let c32_i32_5630 : BitVec 32 := 32#32
  let v12531 : BitVec 32 := Scalar.muli v12530 c32_i32_5630
  let v12532 : BitVec 32 := Scalar.addi c1703936_i32_5631 v12531
  v12532

def k0_off1785 (v12530 : BitVec 32) : Fin 1 → Nat :=
  let c1703936_i32_5631 : BitVec 32 := 1703936#32
  let c32_i32_5630 : BitVec 32 := 32#32
  let v12531 : BitVec 32 := Scalar.muli v12530 c32_i32_5630
  let v12532 : BitVec 32 := Scalar.addi c1703936_i32_5631 v12531
  let v12533 : BitVec 32 := v12532
  ![v12533.toNat]
def k0_mult920 (v12539 : BitVec 32) : BitVec 32 :=
  let c1703936_i32_5635 : BitVec 32 := 1703936#32
  let c32_i32_5634 : BitVec 32 := 32#32
  let v12540 : BitVec 32 := Scalar.muli v12539 c32_i32_5634
  let v12541 : BitVec 32 := Scalar.addi c1703936_i32_5635 v12540
  v12541

def k0_off1786 (v12539 : BitVec 32) : Fin 1 → Nat :=
  let c1703936_i32_5635 : BitVec 32 := 1703936#32
  let c32_i32_5634 : BitVec 32 := 32#32
  let v12540 : BitVec 32 := Scalar.muli v12539 c32_i32_5634
  let v12541 : BitVec 32 := Scalar.addi c1703936_i32_5635 v12540
  let v12542 : BitVec 32 := v12541
  ![v12542.toNat]
def k0_mult921 (v12548 : BitVec 32) : BitVec 32 :=
  let c1703936_i32_5639 : BitVec 32 := 1703936#32
  let c32_i32_5638 : BitVec 32 := 32#32
  let v12549 : BitVec 32 := Scalar.muli v12548 c32_i32_5638
  let v12550 : BitVec 32 := Scalar.addi c1703936_i32_5639 v12549
  v12550

def k0_off1787 (v12548 : BitVec 32) : Fin 1 → Nat :=
  let c1703936_i32_5639 : BitVec 32 := 1703936#32
  let c32_i32_5638 : BitVec 32 := 32#32
  let v12549 : BitVec 32 := Scalar.muli v12548 c32_i32_5638
  let v12550 : BitVec 32 := Scalar.addi c1703936_i32_5639 v12549
  let v12551 : BitVec 32 := v12550
  ![v12551.toNat]
def k0_mult922 (v12557 : BitVec 32) : BitVec 32 :=
  let c1703936_i32_5643 : BitVec 32 := 1703936#32
  let c32_i32_5642 : BitVec 32 := 32#32
  let v12558 : BitVec 32 := Scalar.muli v12557 c32_i32_5642
  let v12559 : BitVec 32 := Scalar.addi c1703936_i32_5643 v12558
  v12559

def k0_off1788 (v12557 : BitVec 32) : Fin 1 → Nat :=
  let c1703936_i32_5643 : BitVec 32 := 1703936#32
  let c32_i32_5642 : BitVec 32 := 32#32
  let v12558 : BitVec 32 := Scalar.muli v12557 c32_i32_5642
  let v12559 : BitVec 32 := Scalar.addi c1703936_i32_5643 v12558
  let v12560 : BitVec 32 := v12559
  ![v12560.toNat]
def k0_mult923 (v12566 : BitVec 32) : BitVec 32 :=
  let c1703936_i32_5647 : BitVec 32 := 1703936#32
  let c32_i32_5646 : BitVec 32 := 32#32
  let v12567 : BitVec 32 := Scalar.muli v12566 c32_i32_5646
  let v12568 : BitVec 32 := Scalar.addi c1703936_i32_5647 v12567
  v12568

def k0_off1789 (v12566 : BitVec 32) : Fin 1 → Nat :=
  let c1703936_i32_5647 : BitVec 32 := 1703936#32
  let c32_i32_5646 : BitVec 32 := 32#32
  let v12567 : BitVec 32 := Scalar.muli v12566 c32_i32_5646
  let v12568 : BitVec 32 := Scalar.addi c1703936_i32_5647 v12567
  let v12569 : BitVec 32 := v12568
  ![v12569.toNat]
def k0_mult924 (v12575 : BitVec 32) : BitVec 32 :=
  let c1703936_i32_5651 : BitVec 32 := 1703936#32
  let c32_i32_5650 : BitVec 32 := 32#32
  let v12576 : BitVec 32 := Scalar.muli v12575 c32_i32_5650
  let v12577 : BitVec 32 := Scalar.addi c1703936_i32_5651 v12576
  v12577

def k0_off1790 (v12575 : BitVec 32) : Fin 1 → Nat :=
  let c1703936_i32_5651 : BitVec 32 := 1703936#32
  let c32_i32_5650 : BitVec 32 := 32#32
  let v12576 : BitVec 32 := Scalar.muli v12575 c32_i32_5650
  let v12577 : BitVec 32 := Scalar.addi c1703936_i32_5651 v12576
  let v12578 : BitVec 32 := v12577
  ![v12578.toNat]
def k0_mult925 (v12584 : BitVec 32) : BitVec 32 :=
  let c1703936_i32_5655 : BitVec 32 := 1703936#32
  let c32_i32_5654 : BitVec 32 := 32#32
  let v12585 : BitVec 32 := Scalar.muli v12584 c32_i32_5654
  let v12586 : BitVec 32 := Scalar.addi c1703936_i32_5655 v12585
  v12586

def k0_off1791 (v12584 : BitVec 32) : Fin 1 → Nat :=
  let c1703936_i32_5655 : BitVec 32 := 1703936#32
  let c32_i32_5654 : BitVec 32 := 32#32
  let v12585 : BitVec 32 := Scalar.muli v12584 c32_i32_5654
  let v12586 : BitVec 32 := Scalar.addi c1703936_i32_5655 v12585
  let v12587 : BitVec 32 := v12586
  ![v12587.toNat]
def k0_mult926 (v12593 : BitVec 32) : BitVec 32 :=
  let c1703936_i32_5659 : BitVec 32 := 1703936#32
  let c32_i32_5658 : BitVec 32 := 32#32
  let v12594 : BitVec 32 := Scalar.muli v12593 c32_i32_5658
  let v12595 : BitVec 32 := Scalar.addi c1703936_i32_5659 v12594
  v12595

def k0_off1792 (v12593 : BitVec 32) : Fin 1 → Nat :=
  let c1703936_i32_5659 : BitVec 32 := 1703936#32
  let c32_i32_5658 : BitVec 32 := 32#32
  let v12594 : BitVec 32 := Scalar.muli v12593 c32_i32_5658
  let v12595 : BitVec 32 := Scalar.addi c1703936_i32_5659 v12594
  let v12596 : BitVec 32 := v12595
  ![v12596.toNat]
def k0_mult927 (v12602 : BitVec 32) : BitVec 32 :=
  let c1703936_i32_5663 : BitVec 32 := 1703936#32
  let c32_i32_5662 : BitVec 32 := 32#32
  let v12603 : BitVec 32 := Scalar.muli v12602 c32_i32_5662
  let v12604 : BitVec 32 := Scalar.addi c1703936_i32_5663 v12603
  v12604

def k0_off1793 (v12602 : BitVec 32) : Fin 1 → Nat :=
  let c1703936_i32_5663 : BitVec 32 := 1703936#32
  let c32_i32_5662 : BitVec 32 := 32#32
  let v12603 : BitVec 32 := Scalar.muli v12602 c32_i32_5662
  let v12604 : BitVec 32 := Scalar.addi c1703936_i32_5663 v12603
  let v12605 : BitVec 32 := v12604
  ![v12605.toNat]
def k0_mult928 (v12611 : BitVec 32) : BitVec 32 :=
  let c1703936_i32_5667 : BitVec 32 := 1703936#32
  let c32_i32_5666 : BitVec 32 := 32#32
  let v12612 : BitVec 32 := Scalar.muli v12611 c32_i32_5666
  let v12613 : BitVec 32 := Scalar.addi c1703936_i32_5667 v12612
  v12613

def k0_off1794 (v12611 : BitVec 32) : Fin 1 → Nat :=
  let c1703936_i32_5667 : BitVec 32 := 1703936#32
  let c32_i32_5666 : BitVec 32 := 32#32
  let v12612 : BitVec 32 := Scalar.muli v12611 c32_i32_5666
  let v12613 : BitVec 32 := Scalar.addi c1703936_i32_5667 v12612
  let v12614 : BitVec 32 := v12613
  ![v12614.toNat]
def k0_mult929 (v12620 : BitVec 32) : BitVec 32 :=
  let c1703936_i32_5671 : BitVec 32 := 1703936#32
  let c32_i32_5670 : BitVec 32 := 32#32
  let v12621 : BitVec 32 := Scalar.muli v12620 c32_i32_5670
  let v12622 : BitVec 32 := Scalar.addi c1703936_i32_5671 v12621
  v12622

def k0_off1795 (v12620 : BitVec 32) : Fin 1 → Nat :=
  let c1703936_i32_5671 : BitVec 32 := 1703936#32
  let c32_i32_5670 : BitVec 32 := 32#32
  let v12621 : BitVec 32 := Scalar.muli v12620 c32_i32_5670
  let v12622 : BitVec 32 := Scalar.addi c1703936_i32_5671 v12621
  let v12623 : BitVec 32 := v12622
  ![v12623.toNat]

def k0_chk952 (v12620 : BitVec 32) : Prop :=
  (8 ∣ (k0_mult929 v12620).toNat) ∧
  (∀ a, (k0_off1795 v12620) a + S32.size a ≤ S3407872.size a)
theorem k0_mult929_dvd : ∀ (v12620 : BitVec 32) (k0_hw952 : k0_chk952 v12620), 8 ∣ (k0_mult929 v12620).toNat := fun v12620 k0_hw952 => k0_hw952.1
theorem k0_off1795_inb : ∀ (v12620 : BitVec 32) (k0_hw952 : k0_chk952 v12620), ∀ a, (k0_off1795 v12620) a + S32.size a ≤ S3407872.size a := fun v12620 k0_hw952 => k0_hw952.2

def k0_off1796 (v12485 : BitVec 32) : Fin 1 → Nat :=
  let c1703936_i32_5611 : BitVec 32 := 1703936#32
  let c32_i32_5610 : BitVec 32 := 32#32
  let v12486 : BitVec 32 := Scalar.muli v12485 c32_i32_5610
  let v12487 : BitVec 32 := Scalar.addi c1703936_i32_5611 v12486
  let v12488 : BitVec 32 := v12487
  ![v12488.toNat]

def k0_chk937 (v12485 : BitVec 32) : Prop :=
  (8 ∣ (k0_mult914 v12485).toNat) ∧
  (∀ a, (k0_off1780 v12485) a + S32.size a ≤ S3407872.size a) ∧
  (∀ a, (k0_off1796 v12485) a + S32.size a ≤ S3407872.size a)
theorem k0_mult914_dvd : ∀ (v12485 : BitVec 32) (k0_hw937 : k0_chk937 v12485), 8 ∣ (k0_mult914 v12485).toNat := fun v12485 k0_hw937 => k0_hw937.1
theorem k0_off1780_inb : ∀ (v12485 : BitVec 32) (k0_hw937 : k0_chk937 v12485), ∀ a, (k0_off1780 v12485) a + S32.size a ≤ S3407872.size a := fun v12485 k0_hw937 => k0_hw937.2.1
theorem k0_off1796_inb : ∀ (v12485 : BitVec 32) (k0_hw937 : k0_chk937 v12485), ∀ a, (k0_off1796 v12485) a + S32.size a ≤ S3407872.size a := fun v12485 k0_hw937 => k0_hw937.2.2

def k0_off1797 (v12494 : BitVec 32) : Fin 1 → Nat :=
  let c1703936_i32_5615 : BitVec 32 := 1703936#32
  let c32_i32_5614 : BitVec 32 := 32#32
  let v12495 : BitVec 32 := Scalar.muli v12494 c32_i32_5614
  let v12496 : BitVec 32 := Scalar.addi c1703936_i32_5615 v12495
  let v12497 : BitVec 32 := v12496
  ![v12497.toNat]

def k0_chk938 (v12494 : BitVec 32) : Prop :=
  (8 ∣ (k0_mult915 v12494).toNat) ∧
  (∀ a, (k0_off1781 v12494) a + S32.size a ≤ S3407872.size a) ∧
  (∀ a, (k0_off1797 v12494) a + S32.size a ≤ S3407872.size a)
theorem k0_mult915_dvd : ∀ (v12494 : BitVec 32) (k0_hw938 : k0_chk938 v12494), 8 ∣ (k0_mult915 v12494).toNat := fun v12494 k0_hw938 => k0_hw938.1
theorem k0_off1781_inb : ∀ (v12494 : BitVec 32) (k0_hw938 : k0_chk938 v12494), ∀ a, (k0_off1781 v12494) a + S32.size a ≤ S3407872.size a := fun v12494 k0_hw938 => k0_hw938.2.1
theorem k0_off1797_inb : ∀ (v12494 : BitVec 32) (k0_hw938 : k0_chk938 v12494), ∀ a, (k0_off1797 v12494) a + S32.size a ≤ S3407872.size a := fun v12494 k0_hw938 => k0_hw938.2.2

def k0_off1798 (v12503 : BitVec 32) : Fin 1 → Nat :=
  let c1703936_i32_5619 : BitVec 32 := 1703936#32
  let c32_i32_5618 : BitVec 32 := 32#32
  let v12504 : BitVec 32 := Scalar.muli v12503 c32_i32_5618
  let v12505 : BitVec 32 := Scalar.addi c1703936_i32_5619 v12504
  let v12506 : BitVec 32 := v12505
  ![v12506.toNat]

def k0_chk939 (v12503 : BitVec 32) : Prop :=
  (8 ∣ (k0_mult916 v12503).toNat) ∧
  (∀ a, (k0_off1782 v12503) a + S32.size a ≤ S3407872.size a) ∧
  (∀ a, (k0_off1798 v12503) a + S32.size a ≤ S3407872.size a)
theorem k0_mult916_dvd : ∀ (v12503 : BitVec 32) (k0_hw939 : k0_chk939 v12503), 8 ∣ (k0_mult916 v12503).toNat := fun v12503 k0_hw939 => k0_hw939.1
theorem k0_off1782_inb : ∀ (v12503 : BitVec 32) (k0_hw939 : k0_chk939 v12503), ∀ a, (k0_off1782 v12503) a + S32.size a ≤ S3407872.size a := fun v12503 k0_hw939 => k0_hw939.2.1
theorem k0_off1798_inb : ∀ (v12503 : BitVec 32) (k0_hw939 : k0_chk939 v12503), ∀ a, (k0_off1798 v12503) a + S32.size a ≤ S3407872.size a := fun v12503 k0_hw939 => k0_hw939.2.2

def k0_off1799 (v12512 : BitVec 32) : Fin 1 → Nat :=
  let c1703936_i32_5623 : BitVec 32 := 1703936#32
  let c32_i32_5622 : BitVec 32 := 32#32
  let v12513 : BitVec 32 := Scalar.muli v12512 c32_i32_5622
  let v12514 : BitVec 32 := Scalar.addi c1703936_i32_5623 v12513
  let v12515 : BitVec 32 := v12514
  ![v12515.toNat]

def k0_chk940 (v12512 : BitVec 32) : Prop :=
  (8 ∣ (k0_mult917 v12512).toNat) ∧
  (∀ a, (k0_off1783 v12512) a + S32.size a ≤ S3407872.size a) ∧
  (∀ a, (k0_off1799 v12512) a + S32.size a ≤ S3407872.size a)
theorem k0_mult917_dvd : ∀ (v12512 : BitVec 32) (k0_hw940 : k0_chk940 v12512), 8 ∣ (k0_mult917 v12512).toNat := fun v12512 k0_hw940 => k0_hw940.1
theorem k0_off1783_inb : ∀ (v12512 : BitVec 32) (k0_hw940 : k0_chk940 v12512), ∀ a, (k0_off1783 v12512) a + S32.size a ≤ S3407872.size a := fun v12512 k0_hw940 => k0_hw940.2.1
theorem k0_off1799_inb : ∀ (v12512 : BitVec 32) (k0_hw940 : k0_chk940 v12512), ∀ a, (k0_off1799 v12512) a + S32.size a ≤ S3407872.size a := fun v12512 k0_hw940 => k0_hw940.2.2

def k0_off1800 (v12521 : BitVec 32) : Fin 1 → Nat :=
  let c1703936_i32_5627 : BitVec 32 := 1703936#32
  let c32_i32_5626 : BitVec 32 := 32#32
  let v12522 : BitVec 32 := Scalar.muli v12521 c32_i32_5626
  let v12523 : BitVec 32 := Scalar.addi c1703936_i32_5627 v12522
  let v12524 : BitVec 32 := v12523
  ![v12524.toNat]

def k0_chk941 (v12521 : BitVec 32) : Prop :=
  (8 ∣ (k0_mult918 v12521).toNat) ∧
  (∀ a, (k0_off1784 v12521) a + S32.size a ≤ S3407872.size a) ∧
  (∀ a, (k0_off1800 v12521) a + S32.size a ≤ S3407872.size a)
theorem k0_mult918_dvd : ∀ (v12521 : BitVec 32) (k0_hw941 : k0_chk941 v12521), 8 ∣ (k0_mult918 v12521).toNat := fun v12521 k0_hw941 => k0_hw941.1
theorem k0_off1784_inb : ∀ (v12521 : BitVec 32) (k0_hw941 : k0_chk941 v12521), ∀ a, (k0_off1784 v12521) a + S32.size a ≤ S3407872.size a := fun v12521 k0_hw941 => k0_hw941.2.1
theorem k0_off1800_inb : ∀ (v12521 : BitVec 32) (k0_hw941 : k0_chk941 v12521), ∀ a, (k0_off1800 v12521) a + S32.size a ≤ S3407872.size a := fun v12521 k0_hw941 => k0_hw941.2.2

def k0_off1801 (v12530 : BitVec 32) : Fin 1 → Nat :=
  let c1703936_i32_5631 : BitVec 32 := 1703936#32
  let c32_i32_5630 : BitVec 32 := 32#32
  let v12531 : BitVec 32 := Scalar.muli v12530 c32_i32_5630
  let v12532 : BitVec 32 := Scalar.addi c1703936_i32_5631 v12531
  let v12533 : BitVec 32 := v12532
  ![v12533.toNat]

def k0_chk942 (v12530 : BitVec 32) : Prop :=
  (8 ∣ (k0_mult919 v12530).toNat) ∧
  (∀ a, (k0_off1785 v12530) a + S32.size a ≤ S3407872.size a) ∧
  (∀ a, (k0_off1801 v12530) a + S32.size a ≤ S3407872.size a)
theorem k0_mult919_dvd : ∀ (v12530 : BitVec 32) (k0_hw942 : k0_chk942 v12530), 8 ∣ (k0_mult919 v12530).toNat := fun v12530 k0_hw942 => k0_hw942.1
theorem k0_off1785_inb : ∀ (v12530 : BitVec 32) (k0_hw942 : k0_chk942 v12530), ∀ a, (k0_off1785 v12530) a + S32.size a ≤ S3407872.size a := fun v12530 k0_hw942 => k0_hw942.2.1
theorem k0_off1801_inb : ∀ (v12530 : BitVec 32) (k0_hw942 : k0_chk942 v12530), ∀ a, (k0_off1801 v12530) a + S32.size a ≤ S3407872.size a := fun v12530 k0_hw942 => k0_hw942.2.2

def k0_off1802 (v12539 : BitVec 32) : Fin 1 → Nat :=
  let c1703936_i32_5635 : BitVec 32 := 1703936#32
  let c32_i32_5634 : BitVec 32 := 32#32
  let v12540 : BitVec 32 := Scalar.muli v12539 c32_i32_5634
  let v12541 : BitVec 32 := Scalar.addi c1703936_i32_5635 v12540
  let v12542 : BitVec 32 := v12541
  ![v12542.toNat]

def k0_chk943 (v12539 : BitVec 32) : Prop :=
  (8 ∣ (k0_mult920 v12539).toNat) ∧
  (∀ a, (k0_off1786 v12539) a + S32.size a ≤ S3407872.size a) ∧
  (∀ a, (k0_off1802 v12539) a + S32.size a ≤ S3407872.size a)
theorem k0_mult920_dvd : ∀ (v12539 : BitVec 32) (k0_hw943 : k0_chk943 v12539), 8 ∣ (k0_mult920 v12539).toNat := fun v12539 k0_hw943 => k0_hw943.1
theorem k0_off1786_inb : ∀ (v12539 : BitVec 32) (k0_hw943 : k0_chk943 v12539), ∀ a, (k0_off1786 v12539) a + S32.size a ≤ S3407872.size a := fun v12539 k0_hw943 => k0_hw943.2.1
theorem k0_off1802_inb : ∀ (v12539 : BitVec 32) (k0_hw943 : k0_chk943 v12539), ∀ a, (k0_off1802 v12539) a + S32.size a ≤ S3407872.size a := fun v12539 k0_hw943 => k0_hw943.2.2

def k0_off1803 (v12548 : BitVec 32) : Fin 1 → Nat :=
  let c1703936_i32_5639 : BitVec 32 := 1703936#32
  let c32_i32_5638 : BitVec 32 := 32#32
  let v12549 : BitVec 32 := Scalar.muli v12548 c32_i32_5638
  let v12550 : BitVec 32 := Scalar.addi c1703936_i32_5639 v12549
  let v12551 : BitVec 32 := v12550
  ![v12551.toNat]

def k0_chk944 (v12548 : BitVec 32) : Prop :=
  (8 ∣ (k0_mult921 v12548).toNat) ∧
  (∀ a, (k0_off1787 v12548) a + S32.size a ≤ S3407872.size a) ∧
  (∀ a, (k0_off1803 v12548) a + S32.size a ≤ S3407872.size a)
theorem k0_mult921_dvd : ∀ (v12548 : BitVec 32) (k0_hw944 : k0_chk944 v12548), 8 ∣ (k0_mult921 v12548).toNat := fun v12548 k0_hw944 => k0_hw944.1
theorem k0_off1787_inb : ∀ (v12548 : BitVec 32) (k0_hw944 : k0_chk944 v12548), ∀ a, (k0_off1787 v12548) a + S32.size a ≤ S3407872.size a := fun v12548 k0_hw944 => k0_hw944.2.1
theorem k0_off1803_inb : ∀ (v12548 : BitVec 32) (k0_hw944 : k0_chk944 v12548), ∀ a, (k0_off1803 v12548) a + S32.size a ≤ S3407872.size a := fun v12548 k0_hw944 => k0_hw944.2.2

def k0_off1804 (v12557 : BitVec 32) : Fin 1 → Nat :=
  let c1703936_i32_5643 : BitVec 32 := 1703936#32
  let c32_i32_5642 : BitVec 32 := 32#32
  let v12558 : BitVec 32 := Scalar.muli v12557 c32_i32_5642
  let v12559 : BitVec 32 := Scalar.addi c1703936_i32_5643 v12558
  let v12560 : BitVec 32 := v12559
  ![v12560.toNat]

def k0_chk945 (v12557 : BitVec 32) : Prop :=
  (8 ∣ (k0_mult922 v12557).toNat) ∧
  (∀ a, (k0_off1788 v12557) a + S32.size a ≤ S3407872.size a) ∧
  (∀ a, (k0_off1804 v12557) a + S32.size a ≤ S3407872.size a)
theorem k0_mult922_dvd : ∀ (v12557 : BitVec 32) (k0_hw945 : k0_chk945 v12557), 8 ∣ (k0_mult922 v12557).toNat := fun v12557 k0_hw945 => k0_hw945.1
theorem k0_off1788_inb : ∀ (v12557 : BitVec 32) (k0_hw945 : k0_chk945 v12557), ∀ a, (k0_off1788 v12557) a + S32.size a ≤ S3407872.size a := fun v12557 k0_hw945 => k0_hw945.2.1
theorem k0_off1804_inb : ∀ (v12557 : BitVec 32) (k0_hw945 : k0_chk945 v12557), ∀ a, (k0_off1804 v12557) a + S32.size a ≤ S3407872.size a := fun v12557 k0_hw945 => k0_hw945.2.2

def k0_off1805 (v12566 : BitVec 32) : Fin 1 → Nat :=
  let c1703936_i32_5647 : BitVec 32 := 1703936#32
  let c32_i32_5646 : BitVec 32 := 32#32
  let v12567 : BitVec 32 := Scalar.muli v12566 c32_i32_5646
  let v12568 : BitVec 32 := Scalar.addi c1703936_i32_5647 v12567
  let v12569 : BitVec 32 := v12568
  ![v12569.toNat]

def k0_chk946 (v12566 : BitVec 32) : Prop :=
  (8 ∣ (k0_mult923 v12566).toNat) ∧
  (∀ a, (k0_off1789 v12566) a + S32.size a ≤ S3407872.size a) ∧
  (∀ a, (k0_off1805 v12566) a + S32.size a ≤ S3407872.size a)
theorem k0_mult923_dvd : ∀ (v12566 : BitVec 32) (k0_hw946 : k0_chk946 v12566), 8 ∣ (k0_mult923 v12566).toNat := fun v12566 k0_hw946 => k0_hw946.1
theorem k0_off1789_inb : ∀ (v12566 : BitVec 32) (k0_hw946 : k0_chk946 v12566), ∀ a, (k0_off1789 v12566) a + S32.size a ≤ S3407872.size a := fun v12566 k0_hw946 => k0_hw946.2.1
theorem k0_off1805_inb : ∀ (v12566 : BitVec 32) (k0_hw946 : k0_chk946 v12566), ∀ a, (k0_off1805 v12566) a + S32.size a ≤ S3407872.size a := fun v12566 k0_hw946 => k0_hw946.2.2

def k0_off1806 (v12575 : BitVec 32) : Fin 1 → Nat :=
  let c1703936_i32_5651 : BitVec 32 := 1703936#32
  let c32_i32_5650 : BitVec 32 := 32#32
  let v12576 : BitVec 32 := Scalar.muli v12575 c32_i32_5650
  let v12577 : BitVec 32 := Scalar.addi c1703936_i32_5651 v12576
  let v12578 : BitVec 32 := v12577
  ![v12578.toNat]

def k0_chk947 (v12575 : BitVec 32) : Prop :=
  (8 ∣ (k0_mult924 v12575).toNat) ∧
  (∀ a, (k0_off1790 v12575) a + S32.size a ≤ S3407872.size a) ∧
  (∀ a, (k0_off1806 v12575) a + S32.size a ≤ S3407872.size a)
theorem k0_mult924_dvd : ∀ (v12575 : BitVec 32) (k0_hw947 : k0_chk947 v12575), 8 ∣ (k0_mult924 v12575).toNat := fun v12575 k0_hw947 => k0_hw947.1
theorem k0_off1790_inb : ∀ (v12575 : BitVec 32) (k0_hw947 : k0_chk947 v12575), ∀ a, (k0_off1790 v12575) a + S32.size a ≤ S3407872.size a := fun v12575 k0_hw947 => k0_hw947.2.1
theorem k0_off1806_inb : ∀ (v12575 : BitVec 32) (k0_hw947 : k0_chk947 v12575), ∀ a, (k0_off1806 v12575) a + S32.size a ≤ S3407872.size a := fun v12575 k0_hw947 => k0_hw947.2.2

def k0_off1807 (v12584 : BitVec 32) : Fin 1 → Nat :=
  let c1703936_i32_5655 : BitVec 32 := 1703936#32
  let c32_i32_5654 : BitVec 32 := 32#32
  let v12585 : BitVec 32 := Scalar.muli v12584 c32_i32_5654
  let v12586 : BitVec 32 := Scalar.addi c1703936_i32_5655 v12585
  let v12587 : BitVec 32 := v12586
  ![v12587.toNat]

def k0_chk948 (v12584 : BitVec 32) : Prop :=
  (8 ∣ (k0_mult925 v12584).toNat) ∧
  (∀ a, (k0_off1791 v12584) a + S32.size a ≤ S3407872.size a) ∧
  (∀ a, (k0_off1807 v12584) a + S32.size a ≤ S3407872.size a)
theorem k0_mult925_dvd : ∀ (v12584 : BitVec 32) (k0_hw948 : k0_chk948 v12584), 8 ∣ (k0_mult925 v12584).toNat := fun v12584 k0_hw948 => k0_hw948.1
theorem k0_off1791_inb : ∀ (v12584 : BitVec 32) (k0_hw948 : k0_chk948 v12584), ∀ a, (k0_off1791 v12584) a + S32.size a ≤ S3407872.size a := fun v12584 k0_hw948 => k0_hw948.2.1
theorem k0_off1807_inb : ∀ (v12584 : BitVec 32) (k0_hw948 : k0_chk948 v12584), ∀ a, (k0_off1807 v12584) a + S32.size a ≤ S3407872.size a := fun v12584 k0_hw948 => k0_hw948.2.2

def k0_off1808 (v12593 : BitVec 32) : Fin 1 → Nat :=
  let c1703936_i32_5659 : BitVec 32 := 1703936#32
  let c32_i32_5658 : BitVec 32 := 32#32
  let v12594 : BitVec 32 := Scalar.muli v12593 c32_i32_5658
  let v12595 : BitVec 32 := Scalar.addi c1703936_i32_5659 v12594
  let v12596 : BitVec 32 := v12595
  ![v12596.toNat]

def k0_chk949 (v12593 : BitVec 32) : Prop :=
  (8 ∣ (k0_mult926 v12593).toNat) ∧
  (∀ a, (k0_off1792 v12593) a + S32.size a ≤ S3407872.size a) ∧
  (∀ a, (k0_off1808 v12593) a + S32.size a ≤ S3407872.size a)
theorem k0_mult926_dvd : ∀ (v12593 : BitVec 32) (k0_hw949 : k0_chk949 v12593), 8 ∣ (k0_mult926 v12593).toNat := fun v12593 k0_hw949 => k0_hw949.1
theorem k0_off1792_inb : ∀ (v12593 : BitVec 32) (k0_hw949 : k0_chk949 v12593), ∀ a, (k0_off1792 v12593) a + S32.size a ≤ S3407872.size a := fun v12593 k0_hw949 => k0_hw949.2.1
theorem k0_off1808_inb : ∀ (v12593 : BitVec 32) (k0_hw949 : k0_chk949 v12593), ∀ a, (k0_off1808 v12593) a + S32.size a ≤ S3407872.size a := fun v12593 k0_hw949 => k0_hw949.2.2

def k0_off1809 (v12602 : BitVec 32) : Fin 1 → Nat :=
  let c1703936_i32_5663 : BitVec 32 := 1703936#32
  let c32_i32_5662 : BitVec 32 := 32#32
  let v12603 : BitVec 32 := Scalar.muli v12602 c32_i32_5662
  let v12604 : BitVec 32 := Scalar.addi c1703936_i32_5663 v12603
  let v12605 : BitVec 32 := v12604
  ![v12605.toNat]

def k0_chk950 (v12602 : BitVec 32) : Prop :=
  (8 ∣ (k0_mult927 v12602).toNat) ∧
  (∀ a, (k0_off1793 v12602) a + S32.size a ≤ S3407872.size a) ∧
  (∀ a, (k0_off1809 v12602) a + S32.size a ≤ S3407872.size a)
theorem k0_mult927_dvd : ∀ (v12602 : BitVec 32) (k0_hw950 : k0_chk950 v12602), 8 ∣ (k0_mult927 v12602).toNat := fun v12602 k0_hw950 => k0_hw950.1
theorem k0_off1793_inb : ∀ (v12602 : BitVec 32) (k0_hw950 : k0_chk950 v12602), ∀ a, (k0_off1793 v12602) a + S32.size a ≤ S3407872.size a := fun v12602 k0_hw950 => k0_hw950.2.1
theorem k0_off1809_inb : ∀ (v12602 : BitVec 32) (k0_hw950 : k0_chk950 v12602), ∀ a, (k0_off1809 v12602) a + S32.size a ≤ S3407872.size a := fun v12602 k0_hw950 => k0_hw950.2.2

def k0_off1810 (v12611 : BitVec 32) : Fin 1 → Nat :=
  let c1703936_i32_5667 : BitVec 32 := 1703936#32
  let c32_i32_5666 : BitVec 32 := 32#32
  let v12612 : BitVec 32 := Scalar.muli v12611 c32_i32_5666
  let v12613 : BitVec 32 := Scalar.addi c1703936_i32_5667 v12612
  let v12614 : BitVec 32 := v12613
  ![v12614.toNat]

def k0_chk951 (v12611 : BitVec 32) : Prop :=
  (8 ∣ (k0_mult928 v12611).toNat) ∧
  (∀ a, (k0_off1794 v12611) a + S32.size a ≤ S3407872.size a) ∧
  (∀ a, (k0_off1810 v12611) a + S32.size a ≤ S3407872.size a)
theorem k0_mult928_dvd : ∀ (v12611 : BitVec 32) (k0_hw951 : k0_chk951 v12611), 8 ∣ (k0_mult928 v12611).toNat := fun v12611 k0_hw951 => k0_hw951.1
theorem k0_off1794_inb : ∀ (v12611 : BitVec 32) (k0_hw951 : k0_chk951 v12611), ∀ a, (k0_off1794 v12611) a + S32.size a ≤ S3407872.size a := fun v12611 k0_hw951 => k0_hw951.2.1
theorem k0_off1810_inb : ∀ (v12611 : BitVec 32) (k0_hw951 : k0_chk951 v12611), ∀ a, (k0_off1810 v12611) a + S32.size a ≤ S3407872.size a := fun v12611 k0_hw951 => k0_hw951.2.2

def k0_mult930 (v12695 : BitVec 32) : BitVec 32 :=
  let c999936_i32_5708 : BitVec 32 := 999936#32
  let v12696 : BitVec 32 := Scalar.subi v12695 c999936_i32_5708
  let c32_i32_5709 : BitVec 32 := 32#32
  let v12697 : BitVec 32 := Scalar.muli v12696 c32_i32_5709
  v12697

def k0_off1811 (v12695 : BitVec 32) : Fin 1 → Nat :=
  let c999936_i32_5708 : BitVec 32 := 999936#32
  let v12696 : BitVec 32 := Scalar.subi v12695 c999936_i32_5708
  let c32_i32_5709 : BitVec 32 := 32#32
  let v12697 : BitVec 32 := Scalar.muli v12696 c32_i32_5709
  let v12698 : BitVec 32 := v12697
  ![v12698.toNat]
def k0_mult931 (v12704 : BitVec 32) : BitVec 32 :=
  let c999936_i32_5712 : BitVec 32 := 999936#32
  let v12705 : BitVec 32 := Scalar.subi v12704 c999936_i32_5712
  let c32_i32_5713 : BitVec 32 := 32#32
  let v12706 : BitVec 32 := Scalar.muli v12705 c32_i32_5713
  v12706

def k0_off1812 (v12704 : BitVec 32) : Fin 1 → Nat :=
  let c999936_i32_5712 : BitVec 32 := 999936#32
  let v12705 : BitVec 32 := Scalar.subi v12704 c999936_i32_5712
  let c32_i32_5713 : BitVec 32 := 32#32
  let v12706 : BitVec 32 := Scalar.muli v12705 c32_i32_5713
  let v12707 : BitVec 32 := v12706
  ![v12707.toNat]
def k0_mult932 (v12713 : BitVec 32) : BitVec 32 :=
  let c999936_i32_5716 : BitVec 32 := 999936#32
  let v12714 : BitVec 32 := Scalar.subi v12713 c999936_i32_5716
  let c32_i32_5717 : BitVec 32 := 32#32
  let v12715 : BitVec 32 := Scalar.muli v12714 c32_i32_5717
  v12715

def k0_off1813 (v12713 : BitVec 32) : Fin 1 → Nat :=
  let c999936_i32_5716 : BitVec 32 := 999936#32
  let v12714 : BitVec 32 := Scalar.subi v12713 c999936_i32_5716
  let c32_i32_5717 : BitVec 32 := 32#32
  let v12715 : BitVec 32 := Scalar.muli v12714 c32_i32_5717
  let v12716 : BitVec 32 := v12715
  ![v12716.toNat]
def k0_mult933 (v12722 : BitVec 32) : BitVec 32 :=
  let c999936_i32_5720 : BitVec 32 := 999936#32
  let v12723 : BitVec 32 := Scalar.subi v12722 c999936_i32_5720
  let c32_i32_5721 : BitVec 32 := 32#32
  let v12724 : BitVec 32 := Scalar.muli v12723 c32_i32_5721
  v12724

def k0_off1814 (v12722 : BitVec 32) : Fin 1 → Nat :=
  let c999936_i32_5720 : BitVec 32 := 999936#32
  let v12723 : BitVec 32 := Scalar.subi v12722 c999936_i32_5720
  let c32_i32_5721 : BitVec 32 := 32#32
  let v12724 : BitVec 32 := Scalar.muli v12723 c32_i32_5721
  let v12725 : BitVec 32 := v12724
  ![v12725.toNat]
def k0_mult934 (v12731 : BitVec 32) : BitVec 32 :=
  let c999936_i32_5724 : BitVec 32 := 999936#32
  let v12732 : BitVec 32 := Scalar.subi v12731 c999936_i32_5724
  let c32_i32_5725 : BitVec 32 := 32#32
  let v12733 : BitVec 32 := Scalar.muli v12732 c32_i32_5725
  v12733

def k0_off1815 (v12731 : BitVec 32) : Fin 1 → Nat :=
  let c999936_i32_5724 : BitVec 32 := 999936#32
  let v12732 : BitVec 32 := Scalar.subi v12731 c999936_i32_5724
  let c32_i32_5725 : BitVec 32 := 32#32
  let v12733 : BitVec 32 := Scalar.muli v12732 c32_i32_5725
  let v12734 : BitVec 32 := v12733
  ![v12734.toNat]
def k0_mult935 (v12740 : BitVec 32) : BitVec 32 :=
  let c999936_i32_5728 : BitVec 32 := 999936#32
  let v12741 : BitVec 32 := Scalar.subi v12740 c999936_i32_5728
  let c32_i32_5729 : BitVec 32 := 32#32
  let v12742 : BitVec 32 := Scalar.muli v12741 c32_i32_5729
  v12742

def k0_off1816 (v12740 : BitVec 32) : Fin 1 → Nat :=
  let c999936_i32_5728 : BitVec 32 := 999936#32
  let v12741 : BitVec 32 := Scalar.subi v12740 c999936_i32_5728
  let c32_i32_5729 : BitVec 32 := 32#32
  let v12742 : BitVec 32 := Scalar.muli v12741 c32_i32_5729
  let v12743 : BitVec 32 := v12742
  ![v12743.toNat]
def k0_mult936 (v12749 : BitVec 32) : BitVec 32 :=
  let c999936_i32_5732 : BitVec 32 := 999936#32
  let v12750 : BitVec 32 := Scalar.subi v12749 c999936_i32_5732
  let c32_i32_5733 : BitVec 32 := 32#32
  let v12751 : BitVec 32 := Scalar.muli v12750 c32_i32_5733
  v12751

def k0_off1817 (v12749 : BitVec 32) : Fin 1 → Nat :=
  let c999936_i32_5732 : BitVec 32 := 999936#32
  let v12750 : BitVec 32 := Scalar.subi v12749 c999936_i32_5732
  let c32_i32_5733 : BitVec 32 := 32#32
  let v12751 : BitVec 32 := Scalar.muli v12750 c32_i32_5733
  let v12752 : BitVec 32 := v12751
  ![v12752.toNat]
def k0_mult937 (v12758 : BitVec 32) : BitVec 32 :=
  let c999936_i32_5736 : BitVec 32 := 999936#32
  let v12759 : BitVec 32 := Scalar.subi v12758 c999936_i32_5736
  let c32_i32_5737 : BitVec 32 := 32#32
  let v12760 : BitVec 32 := Scalar.muli v12759 c32_i32_5737
  v12760

def k0_off1818 (v12758 : BitVec 32) : Fin 1 → Nat :=
  let c999936_i32_5736 : BitVec 32 := 999936#32
  let v12759 : BitVec 32 := Scalar.subi v12758 c999936_i32_5736
  let c32_i32_5737 : BitVec 32 := 32#32
  let v12760 : BitVec 32 := Scalar.muli v12759 c32_i32_5737
  let v12761 : BitVec 32 := v12760
  ![v12761.toNat]
def k0_mult938 (v12767 : BitVec 32) : BitVec 32 :=
  let c999936_i32_5740 : BitVec 32 := 999936#32
  let v12768 : BitVec 32 := Scalar.subi v12767 c999936_i32_5740
  let c32_i32_5741 : BitVec 32 := 32#32
  let v12769 : BitVec 32 := Scalar.muli v12768 c32_i32_5741
  v12769

def k0_off1819 (v12767 : BitVec 32) : Fin 1 → Nat :=
  let c999936_i32_5740 : BitVec 32 := 999936#32
  let v12768 : BitVec 32 := Scalar.subi v12767 c999936_i32_5740
  let c32_i32_5741 : BitVec 32 := 32#32
  let v12769 : BitVec 32 := Scalar.muli v12768 c32_i32_5741
  let v12770 : BitVec 32 := v12769
  ![v12770.toNat]
def k0_mult939 (v12776 : BitVec 32) : BitVec 32 :=
  let c999936_i32_5744 : BitVec 32 := 999936#32
  let v12777 : BitVec 32 := Scalar.subi v12776 c999936_i32_5744
  let c32_i32_5745 : BitVec 32 := 32#32
  let v12778 : BitVec 32 := Scalar.muli v12777 c32_i32_5745
  v12778

def k0_off1820 (v12776 : BitVec 32) : Fin 1 → Nat :=
  let c999936_i32_5744 : BitVec 32 := 999936#32
  let v12777 : BitVec 32 := Scalar.subi v12776 c999936_i32_5744
  let c32_i32_5745 : BitVec 32 := 32#32
  let v12778 : BitVec 32 := Scalar.muli v12777 c32_i32_5745
  let v12779 : BitVec 32 := v12778
  ![v12779.toNat]
def k0_mult940 (v12785 : BitVec 32) : BitVec 32 :=
  let c999936_i32_5748 : BitVec 32 := 999936#32
  let v12786 : BitVec 32 := Scalar.subi v12785 c999936_i32_5748
  let c32_i32_5749 : BitVec 32 := 32#32
  let v12787 : BitVec 32 := Scalar.muli v12786 c32_i32_5749
  v12787

def k0_off1821 (v12785 : BitVec 32) : Fin 1 → Nat :=
  let c999936_i32_5748 : BitVec 32 := 999936#32
  let v12786 : BitVec 32 := Scalar.subi v12785 c999936_i32_5748
  let c32_i32_5749 : BitVec 32 := 32#32
  let v12787 : BitVec 32 := Scalar.muli v12786 c32_i32_5749
  let v12788 : BitVec 32 := v12787
  ![v12788.toNat]
def k0_mult941 (v12794 : BitVec 32) : BitVec 32 :=
  let c999936_i32_5752 : BitVec 32 := 999936#32
  let v12795 : BitVec 32 := Scalar.subi v12794 c999936_i32_5752
  let c32_i32_5753 : BitVec 32 := 32#32
  let v12796 : BitVec 32 := Scalar.muli v12795 c32_i32_5753
  v12796

def k0_off1822 (v12794 : BitVec 32) : Fin 1 → Nat :=
  let c999936_i32_5752 : BitVec 32 := 999936#32
  let v12795 : BitVec 32 := Scalar.subi v12794 c999936_i32_5752
  let c32_i32_5753 : BitVec 32 := 32#32
  let v12796 : BitVec 32 := Scalar.muli v12795 c32_i32_5753
  let v12797 : BitVec 32 := v12796
  ![v12797.toNat]
def k0_mult942 (v12803 : BitVec 32) : BitVec 32 :=
  let c999936_i32_5756 : BitVec 32 := 999936#32
  let v12804 : BitVec 32 := Scalar.subi v12803 c999936_i32_5756
  let c32_i32_5757 : BitVec 32 := 32#32
  let v12805 : BitVec 32 := Scalar.muli v12804 c32_i32_5757
  v12805

def k0_off1823 (v12803 : BitVec 32) : Fin 1 → Nat :=
  let c999936_i32_5756 : BitVec 32 := 999936#32
  let v12804 : BitVec 32 := Scalar.subi v12803 c999936_i32_5756
  let c32_i32_5757 : BitVec 32 := 32#32
  let v12805 : BitVec 32 := Scalar.muli v12804 c32_i32_5757
  let v12806 : BitVec 32 := v12805
  ![v12806.toNat]
def k0_mult943 (v12812 : BitVec 32) : BitVec 32 :=
  let c999936_i32_5760 : BitVec 32 := 999936#32
  let v12813 : BitVec 32 := Scalar.subi v12812 c999936_i32_5760
  let c32_i32_5761 : BitVec 32 := 32#32
  let v12814 : BitVec 32 := Scalar.muli v12813 c32_i32_5761
  v12814

def k0_off1824 (v12812 : BitVec 32) : Fin 1 → Nat :=
  let c999936_i32_5760 : BitVec 32 := 999936#32
  let v12813 : BitVec 32 := Scalar.subi v12812 c999936_i32_5760
  let c32_i32_5761 : BitVec 32 := 32#32
  let v12814 : BitVec 32 := Scalar.muli v12813 c32_i32_5761
  let v12815 : BitVec 32 := v12814
  ![v12815.toNat]
def k0_mult944 (v12821 : BitVec 32) : BitVec 32 :=
  let c999936_i32_5764 : BitVec 32 := 999936#32
  let v12822 : BitVec 32 := Scalar.subi v12821 c999936_i32_5764
  let c32_i32_5765 : BitVec 32 := 32#32
  let v12823 : BitVec 32 := Scalar.muli v12822 c32_i32_5765
  v12823

def k0_off1825 (v12821 : BitVec 32) : Fin 1 → Nat :=
  let c999936_i32_5764 : BitVec 32 := 999936#32
  let v12822 : BitVec 32 := Scalar.subi v12821 c999936_i32_5764
  let c32_i32_5765 : BitVec 32 := 32#32
  let v12823 : BitVec 32 := Scalar.muli v12822 c32_i32_5765
  let v12824 : BitVec 32 := v12823
  ![v12824.toNat]
def k0_mult945 (v12830 : BitVec 32) : BitVec 32 :=
  let c999936_i32_5768 : BitVec 32 := 999936#32
  let v12831 : BitVec 32 := Scalar.subi v12830 c999936_i32_5768
  let c32_i32_5769 : BitVec 32 := 32#32
  let v12832 : BitVec 32 := Scalar.muli v12831 c32_i32_5769
  v12832

def k0_off1826 (v12830 : BitVec 32) : Fin 1 → Nat :=
  let c999936_i32_5768 : BitVec 32 := 999936#32
  let v12831 : BitVec 32 := Scalar.subi v12830 c999936_i32_5768
  let c32_i32_5769 : BitVec 32 := 32#32
  let v12832 : BitVec 32 := Scalar.muli v12831 c32_i32_5769
  let v12833 : BitVec 32 := v12832
  ![v12833.toNat]

def k0_chk968 (v12830 : BitVec 32) : Prop :=
  (8 ∣ (k0_mult945 v12830).toNat) ∧
  (∀ a, (k0_off1826 v12830) a + S32.size a ≤ S2048.size a)
theorem k0_mult945_dvd : ∀ (v12830 : BitVec 32) (k0_hw968 : k0_chk968 v12830), 8 ∣ (k0_mult945 v12830).toNat := fun v12830 k0_hw968 => k0_hw968.1
theorem k0_off1826_inb : ∀ (v12830 : BitVec 32) (k0_hw968 : k0_chk968 v12830), ∀ a, (k0_off1826 v12830) a + S32.size a ≤ S2048.size a := fun v12830 k0_hw968 => k0_hw968.2

def k0_off1827 (v12695 : BitVec 32) : Fin 1 → Nat :=
  let c999936_i32_5708 : BitVec 32 := 999936#32
  let v12696 : BitVec 32 := Scalar.subi v12695 c999936_i32_5708
  let c32_i32_5709 : BitVec 32 := 32#32
  let v12697 : BitVec 32 := Scalar.muli v12696 c32_i32_5709
  let v12698 : BitVec 32 := v12697
  ![v12698.toNat]

def k0_chk953 (v12695 : BitVec 32) : Prop :=
  (8 ∣ (k0_mult930 v12695).toNat) ∧
  (∀ a, (k0_off1811 v12695) a + S32.size a ≤ S2048.size a) ∧
  (∀ a, (k0_off1827 v12695) a + S32.size a ≤ S2048.size a)
theorem k0_mult930_dvd : ∀ (v12695 : BitVec 32) (k0_hw953 : k0_chk953 v12695), 8 ∣ (k0_mult930 v12695).toNat := fun v12695 k0_hw953 => k0_hw953.1
theorem k0_off1811_inb : ∀ (v12695 : BitVec 32) (k0_hw953 : k0_chk953 v12695), ∀ a, (k0_off1811 v12695) a + S32.size a ≤ S2048.size a := fun v12695 k0_hw953 => k0_hw953.2.1
theorem k0_off1827_inb : ∀ (v12695 : BitVec 32) (k0_hw953 : k0_chk953 v12695), ∀ a, (k0_off1827 v12695) a + S32.size a ≤ S2048.size a := fun v12695 k0_hw953 => k0_hw953.2.2

def k0_off1828 (v12704 : BitVec 32) : Fin 1 → Nat :=
  let c999936_i32_5712 : BitVec 32 := 999936#32
  let v12705 : BitVec 32 := Scalar.subi v12704 c999936_i32_5712
  let c32_i32_5713 : BitVec 32 := 32#32
  let v12706 : BitVec 32 := Scalar.muli v12705 c32_i32_5713
  let v12707 : BitVec 32 := v12706
  ![v12707.toNat]

def k0_chk954 (v12704 : BitVec 32) : Prop :=
  (8 ∣ (k0_mult931 v12704).toNat) ∧
  (∀ a, (k0_off1812 v12704) a + S32.size a ≤ S2048.size a) ∧
  (∀ a, (k0_off1828 v12704) a + S32.size a ≤ S2048.size a)
theorem k0_mult931_dvd : ∀ (v12704 : BitVec 32) (k0_hw954 : k0_chk954 v12704), 8 ∣ (k0_mult931 v12704).toNat := fun v12704 k0_hw954 => k0_hw954.1
theorem k0_off1812_inb : ∀ (v12704 : BitVec 32) (k0_hw954 : k0_chk954 v12704), ∀ a, (k0_off1812 v12704) a + S32.size a ≤ S2048.size a := fun v12704 k0_hw954 => k0_hw954.2.1
theorem k0_off1828_inb : ∀ (v12704 : BitVec 32) (k0_hw954 : k0_chk954 v12704), ∀ a, (k0_off1828 v12704) a + S32.size a ≤ S2048.size a := fun v12704 k0_hw954 => k0_hw954.2.2

def k0_off1829 (v12713 : BitVec 32) : Fin 1 → Nat :=
  let c999936_i32_5716 : BitVec 32 := 999936#32
  let v12714 : BitVec 32 := Scalar.subi v12713 c999936_i32_5716
  let c32_i32_5717 : BitVec 32 := 32#32
  let v12715 : BitVec 32 := Scalar.muli v12714 c32_i32_5717
  let v12716 : BitVec 32 := v12715
  ![v12716.toNat]

def k0_chk955 (v12713 : BitVec 32) : Prop :=
  (8 ∣ (k0_mult932 v12713).toNat) ∧
  (∀ a, (k0_off1813 v12713) a + S32.size a ≤ S2048.size a) ∧
  (∀ a, (k0_off1829 v12713) a + S32.size a ≤ S2048.size a)
theorem k0_mult932_dvd : ∀ (v12713 : BitVec 32) (k0_hw955 : k0_chk955 v12713), 8 ∣ (k0_mult932 v12713).toNat := fun v12713 k0_hw955 => k0_hw955.1
theorem k0_off1813_inb : ∀ (v12713 : BitVec 32) (k0_hw955 : k0_chk955 v12713), ∀ a, (k0_off1813 v12713) a + S32.size a ≤ S2048.size a := fun v12713 k0_hw955 => k0_hw955.2.1
theorem k0_off1829_inb : ∀ (v12713 : BitVec 32) (k0_hw955 : k0_chk955 v12713), ∀ a, (k0_off1829 v12713) a + S32.size a ≤ S2048.size a := fun v12713 k0_hw955 => k0_hw955.2.2

def k0_off1830 (v12722 : BitVec 32) : Fin 1 → Nat :=
  let c999936_i32_5720 : BitVec 32 := 999936#32
  let v12723 : BitVec 32 := Scalar.subi v12722 c999936_i32_5720
  let c32_i32_5721 : BitVec 32 := 32#32
  let v12724 : BitVec 32 := Scalar.muli v12723 c32_i32_5721
  let v12725 : BitVec 32 := v12724
  ![v12725.toNat]

def k0_chk956 (v12722 : BitVec 32) : Prop :=
  (8 ∣ (k0_mult933 v12722).toNat) ∧
  (∀ a, (k0_off1814 v12722) a + S32.size a ≤ S2048.size a) ∧
  (∀ a, (k0_off1830 v12722) a + S32.size a ≤ S2048.size a)
theorem k0_mult933_dvd : ∀ (v12722 : BitVec 32) (k0_hw956 : k0_chk956 v12722), 8 ∣ (k0_mult933 v12722).toNat := fun v12722 k0_hw956 => k0_hw956.1
theorem k0_off1814_inb : ∀ (v12722 : BitVec 32) (k0_hw956 : k0_chk956 v12722), ∀ a, (k0_off1814 v12722) a + S32.size a ≤ S2048.size a := fun v12722 k0_hw956 => k0_hw956.2.1
theorem k0_off1830_inb : ∀ (v12722 : BitVec 32) (k0_hw956 : k0_chk956 v12722), ∀ a, (k0_off1830 v12722) a + S32.size a ≤ S2048.size a := fun v12722 k0_hw956 => k0_hw956.2.2

def k0_off1831 (v12731 : BitVec 32) : Fin 1 → Nat :=
  let c999936_i32_5724 : BitVec 32 := 999936#32
  let v12732 : BitVec 32 := Scalar.subi v12731 c999936_i32_5724
  let c32_i32_5725 : BitVec 32 := 32#32
  let v12733 : BitVec 32 := Scalar.muli v12732 c32_i32_5725
  let v12734 : BitVec 32 := v12733
  ![v12734.toNat]

def k0_chk957 (v12731 : BitVec 32) : Prop :=
  (8 ∣ (k0_mult934 v12731).toNat) ∧
  (∀ a, (k0_off1815 v12731) a + S32.size a ≤ S2048.size a) ∧
  (∀ a, (k0_off1831 v12731) a + S32.size a ≤ S2048.size a)
theorem k0_mult934_dvd : ∀ (v12731 : BitVec 32) (k0_hw957 : k0_chk957 v12731), 8 ∣ (k0_mult934 v12731).toNat := fun v12731 k0_hw957 => k0_hw957.1
theorem k0_off1815_inb : ∀ (v12731 : BitVec 32) (k0_hw957 : k0_chk957 v12731), ∀ a, (k0_off1815 v12731) a + S32.size a ≤ S2048.size a := fun v12731 k0_hw957 => k0_hw957.2.1
theorem k0_off1831_inb : ∀ (v12731 : BitVec 32) (k0_hw957 : k0_chk957 v12731), ∀ a, (k0_off1831 v12731) a + S32.size a ≤ S2048.size a := fun v12731 k0_hw957 => k0_hw957.2.2

def k0_off1832 (v12740 : BitVec 32) : Fin 1 → Nat :=
  let c999936_i32_5728 : BitVec 32 := 999936#32
  let v12741 : BitVec 32 := Scalar.subi v12740 c999936_i32_5728
  let c32_i32_5729 : BitVec 32 := 32#32
  let v12742 : BitVec 32 := Scalar.muli v12741 c32_i32_5729
  let v12743 : BitVec 32 := v12742
  ![v12743.toNat]

def k0_chk958 (v12740 : BitVec 32) : Prop :=
  (8 ∣ (k0_mult935 v12740).toNat) ∧
  (∀ a, (k0_off1816 v12740) a + S32.size a ≤ S2048.size a) ∧
  (∀ a, (k0_off1832 v12740) a + S32.size a ≤ S2048.size a)
theorem k0_mult935_dvd : ∀ (v12740 : BitVec 32) (k0_hw958 : k0_chk958 v12740), 8 ∣ (k0_mult935 v12740).toNat := fun v12740 k0_hw958 => k0_hw958.1
theorem k0_off1816_inb : ∀ (v12740 : BitVec 32) (k0_hw958 : k0_chk958 v12740), ∀ a, (k0_off1816 v12740) a + S32.size a ≤ S2048.size a := fun v12740 k0_hw958 => k0_hw958.2.1
theorem k0_off1832_inb : ∀ (v12740 : BitVec 32) (k0_hw958 : k0_chk958 v12740), ∀ a, (k0_off1832 v12740) a + S32.size a ≤ S2048.size a := fun v12740 k0_hw958 => k0_hw958.2.2

def k0_off1833 (v12749 : BitVec 32) : Fin 1 → Nat :=
  let c999936_i32_5732 : BitVec 32 := 999936#32
  let v12750 : BitVec 32 := Scalar.subi v12749 c999936_i32_5732
  let c32_i32_5733 : BitVec 32 := 32#32
  let v12751 : BitVec 32 := Scalar.muli v12750 c32_i32_5733
  let v12752 : BitVec 32 := v12751
  ![v12752.toNat]

def k0_chk959 (v12749 : BitVec 32) : Prop :=
  (8 ∣ (k0_mult936 v12749).toNat) ∧
  (∀ a, (k0_off1817 v12749) a + S32.size a ≤ S2048.size a) ∧
  (∀ a, (k0_off1833 v12749) a + S32.size a ≤ S2048.size a)
theorem k0_mult936_dvd : ∀ (v12749 : BitVec 32) (k0_hw959 : k0_chk959 v12749), 8 ∣ (k0_mult936 v12749).toNat := fun v12749 k0_hw959 => k0_hw959.1
theorem k0_off1817_inb : ∀ (v12749 : BitVec 32) (k0_hw959 : k0_chk959 v12749), ∀ a, (k0_off1817 v12749) a + S32.size a ≤ S2048.size a := fun v12749 k0_hw959 => k0_hw959.2.1
theorem k0_off1833_inb : ∀ (v12749 : BitVec 32) (k0_hw959 : k0_chk959 v12749), ∀ a, (k0_off1833 v12749) a + S32.size a ≤ S2048.size a := fun v12749 k0_hw959 => k0_hw959.2.2

def k0_off1834 (v12758 : BitVec 32) : Fin 1 → Nat :=
  let c999936_i32_5736 : BitVec 32 := 999936#32
  let v12759 : BitVec 32 := Scalar.subi v12758 c999936_i32_5736
  let c32_i32_5737 : BitVec 32 := 32#32
  let v12760 : BitVec 32 := Scalar.muli v12759 c32_i32_5737
  let v12761 : BitVec 32 := v12760
  ![v12761.toNat]

def k0_chk960 (v12758 : BitVec 32) : Prop :=
  (8 ∣ (k0_mult937 v12758).toNat) ∧
  (∀ a, (k0_off1818 v12758) a + S32.size a ≤ S2048.size a) ∧
  (∀ a, (k0_off1834 v12758) a + S32.size a ≤ S2048.size a)
theorem k0_mult937_dvd : ∀ (v12758 : BitVec 32) (k0_hw960 : k0_chk960 v12758), 8 ∣ (k0_mult937 v12758).toNat := fun v12758 k0_hw960 => k0_hw960.1
theorem k0_off1818_inb : ∀ (v12758 : BitVec 32) (k0_hw960 : k0_chk960 v12758), ∀ a, (k0_off1818 v12758) a + S32.size a ≤ S2048.size a := fun v12758 k0_hw960 => k0_hw960.2.1
theorem k0_off1834_inb : ∀ (v12758 : BitVec 32) (k0_hw960 : k0_chk960 v12758), ∀ a, (k0_off1834 v12758) a + S32.size a ≤ S2048.size a := fun v12758 k0_hw960 => k0_hw960.2.2

def k0_off1835 (v12767 : BitVec 32) : Fin 1 → Nat :=
  let c999936_i32_5740 : BitVec 32 := 999936#32
  let v12768 : BitVec 32 := Scalar.subi v12767 c999936_i32_5740
  let c32_i32_5741 : BitVec 32 := 32#32
  let v12769 : BitVec 32 := Scalar.muli v12768 c32_i32_5741
  let v12770 : BitVec 32 := v12769
  ![v12770.toNat]

def k0_chk961 (v12767 : BitVec 32) : Prop :=
  (8 ∣ (k0_mult938 v12767).toNat) ∧
  (∀ a, (k0_off1819 v12767) a + S32.size a ≤ S2048.size a) ∧
  (∀ a, (k0_off1835 v12767) a + S32.size a ≤ S2048.size a)
theorem k0_mult938_dvd : ∀ (v12767 : BitVec 32) (k0_hw961 : k0_chk961 v12767), 8 ∣ (k0_mult938 v12767).toNat := fun v12767 k0_hw961 => k0_hw961.1
theorem k0_off1819_inb : ∀ (v12767 : BitVec 32) (k0_hw961 : k0_chk961 v12767), ∀ a, (k0_off1819 v12767) a + S32.size a ≤ S2048.size a := fun v12767 k0_hw961 => k0_hw961.2.1
theorem k0_off1835_inb : ∀ (v12767 : BitVec 32) (k0_hw961 : k0_chk961 v12767), ∀ a, (k0_off1835 v12767) a + S32.size a ≤ S2048.size a := fun v12767 k0_hw961 => k0_hw961.2.2

def k0_off1836 (v12776 : BitVec 32) : Fin 1 → Nat :=
  let c999936_i32_5744 : BitVec 32 := 999936#32
  let v12777 : BitVec 32 := Scalar.subi v12776 c999936_i32_5744
  let c32_i32_5745 : BitVec 32 := 32#32
  let v12778 : BitVec 32 := Scalar.muli v12777 c32_i32_5745
  let v12779 : BitVec 32 := v12778
  ![v12779.toNat]

def k0_chk962 (v12776 : BitVec 32) : Prop :=
  (8 ∣ (k0_mult939 v12776).toNat) ∧
  (∀ a, (k0_off1820 v12776) a + S32.size a ≤ S2048.size a) ∧
  (∀ a, (k0_off1836 v12776) a + S32.size a ≤ S2048.size a)
theorem k0_mult939_dvd : ∀ (v12776 : BitVec 32) (k0_hw962 : k0_chk962 v12776), 8 ∣ (k0_mult939 v12776).toNat := fun v12776 k0_hw962 => k0_hw962.1
theorem k0_off1820_inb : ∀ (v12776 : BitVec 32) (k0_hw962 : k0_chk962 v12776), ∀ a, (k0_off1820 v12776) a + S32.size a ≤ S2048.size a := fun v12776 k0_hw962 => k0_hw962.2.1
theorem k0_off1836_inb : ∀ (v12776 : BitVec 32) (k0_hw962 : k0_chk962 v12776), ∀ a, (k0_off1836 v12776) a + S32.size a ≤ S2048.size a := fun v12776 k0_hw962 => k0_hw962.2.2

def k0_off1837 (v12785 : BitVec 32) : Fin 1 → Nat :=
  let c999936_i32_5748 : BitVec 32 := 999936#32
  let v12786 : BitVec 32 := Scalar.subi v12785 c999936_i32_5748
  let c32_i32_5749 : BitVec 32 := 32#32
  let v12787 : BitVec 32 := Scalar.muli v12786 c32_i32_5749
  let v12788 : BitVec 32 := v12787
  ![v12788.toNat]

def k0_chk963 (v12785 : BitVec 32) : Prop :=
  (8 ∣ (k0_mult940 v12785).toNat) ∧
  (∀ a, (k0_off1821 v12785) a + S32.size a ≤ S2048.size a) ∧
  (∀ a, (k0_off1837 v12785) a + S32.size a ≤ S2048.size a)
theorem k0_mult940_dvd : ∀ (v12785 : BitVec 32) (k0_hw963 : k0_chk963 v12785), 8 ∣ (k0_mult940 v12785).toNat := fun v12785 k0_hw963 => k0_hw963.1
theorem k0_off1821_inb : ∀ (v12785 : BitVec 32) (k0_hw963 : k0_chk963 v12785), ∀ a, (k0_off1821 v12785) a + S32.size a ≤ S2048.size a := fun v12785 k0_hw963 => k0_hw963.2.1
theorem k0_off1837_inb : ∀ (v12785 : BitVec 32) (k0_hw963 : k0_chk963 v12785), ∀ a, (k0_off1837 v12785) a + S32.size a ≤ S2048.size a := fun v12785 k0_hw963 => k0_hw963.2.2

def k0_off1838 (v12794 : BitVec 32) : Fin 1 → Nat :=
  let c999936_i32_5752 : BitVec 32 := 999936#32
  let v12795 : BitVec 32 := Scalar.subi v12794 c999936_i32_5752
  let c32_i32_5753 : BitVec 32 := 32#32
  let v12796 : BitVec 32 := Scalar.muli v12795 c32_i32_5753
  let v12797 : BitVec 32 := v12796
  ![v12797.toNat]

def k0_chk964 (v12794 : BitVec 32) : Prop :=
  (8 ∣ (k0_mult941 v12794).toNat) ∧
  (∀ a, (k0_off1822 v12794) a + S32.size a ≤ S2048.size a) ∧
  (∀ a, (k0_off1838 v12794) a + S32.size a ≤ S2048.size a)
theorem k0_mult941_dvd : ∀ (v12794 : BitVec 32) (k0_hw964 : k0_chk964 v12794), 8 ∣ (k0_mult941 v12794).toNat := fun v12794 k0_hw964 => k0_hw964.1
theorem k0_off1822_inb : ∀ (v12794 : BitVec 32) (k0_hw964 : k0_chk964 v12794), ∀ a, (k0_off1822 v12794) a + S32.size a ≤ S2048.size a := fun v12794 k0_hw964 => k0_hw964.2.1
theorem k0_off1838_inb : ∀ (v12794 : BitVec 32) (k0_hw964 : k0_chk964 v12794), ∀ a, (k0_off1838 v12794) a + S32.size a ≤ S2048.size a := fun v12794 k0_hw964 => k0_hw964.2.2

def k0_off1839 (v12803 : BitVec 32) : Fin 1 → Nat :=
  let c999936_i32_5756 : BitVec 32 := 999936#32
  let v12804 : BitVec 32 := Scalar.subi v12803 c999936_i32_5756
  let c32_i32_5757 : BitVec 32 := 32#32
  let v12805 : BitVec 32 := Scalar.muli v12804 c32_i32_5757
  let v12806 : BitVec 32 := v12805
  ![v12806.toNat]

def k0_chk965 (v12803 : BitVec 32) : Prop :=
  (8 ∣ (k0_mult942 v12803).toNat) ∧
  (∀ a, (k0_off1823 v12803) a + S32.size a ≤ S2048.size a) ∧
  (∀ a, (k0_off1839 v12803) a + S32.size a ≤ S2048.size a)
theorem k0_mult942_dvd : ∀ (v12803 : BitVec 32) (k0_hw965 : k0_chk965 v12803), 8 ∣ (k0_mult942 v12803).toNat := fun v12803 k0_hw965 => k0_hw965.1
theorem k0_off1823_inb : ∀ (v12803 : BitVec 32) (k0_hw965 : k0_chk965 v12803), ∀ a, (k0_off1823 v12803) a + S32.size a ≤ S2048.size a := fun v12803 k0_hw965 => k0_hw965.2.1
theorem k0_off1839_inb : ∀ (v12803 : BitVec 32) (k0_hw965 : k0_chk965 v12803), ∀ a, (k0_off1839 v12803) a + S32.size a ≤ S2048.size a := fun v12803 k0_hw965 => k0_hw965.2.2

def k0_off1840 (v12812 : BitVec 32) : Fin 1 → Nat :=
  let c999936_i32_5760 : BitVec 32 := 999936#32
  let v12813 : BitVec 32 := Scalar.subi v12812 c999936_i32_5760
  let c32_i32_5761 : BitVec 32 := 32#32
  let v12814 : BitVec 32 := Scalar.muli v12813 c32_i32_5761
  let v12815 : BitVec 32 := v12814
  ![v12815.toNat]

def k0_chk966 (v12812 : BitVec 32) : Prop :=
  (8 ∣ (k0_mult943 v12812).toNat) ∧
  (∀ a, (k0_off1824 v12812) a + S32.size a ≤ S2048.size a) ∧
  (∀ a, (k0_off1840 v12812) a + S32.size a ≤ S2048.size a)
theorem k0_mult943_dvd : ∀ (v12812 : BitVec 32) (k0_hw966 : k0_chk966 v12812), 8 ∣ (k0_mult943 v12812).toNat := fun v12812 k0_hw966 => k0_hw966.1
theorem k0_off1824_inb : ∀ (v12812 : BitVec 32) (k0_hw966 : k0_chk966 v12812), ∀ a, (k0_off1824 v12812) a + S32.size a ≤ S2048.size a := fun v12812 k0_hw966 => k0_hw966.2.1
theorem k0_off1840_inb : ∀ (v12812 : BitVec 32) (k0_hw966 : k0_chk966 v12812), ∀ a, (k0_off1840 v12812) a + S32.size a ≤ S2048.size a := fun v12812 k0_hw966 => k0_hw966.2.2

def k0_off1841 (v12821 : BitVec 32) : Fin 1 → Nat :=
  let c999936_i32_5764 : BitVec 32 := 999936#32
  let v12822 : BitVec 32 := Scalar.subi v12821 c999936_i32_5764
  let c32_i32_5765 : BitVec 32 := 32#32
  let v12823 : BitVec 32 := Scalar.muli v12822 c32_i32_5765
  let v12824 : BitVec 32 := v12823
  ![v12824.toNat]

def k0_chk967 (v12821 : BitVec 32) : Prop :=
  (8 ∣ (k0_mult944 v12821).toNat) ∧
  (∀ a, (k0_off1825 v12821) a + S32.size a ≤ S2048.size a) ∧
  (∀ a, (k0_off1841 v12821) a + S32.size a ≤ S2048.size a)
theorem k0_mult944_dvd : ∀ (v12821 : BitVec 32) (k0_hw967 : k0_chk967 v12821), 8 ∣ (k0_mult944 v12821).toNat := fun v12821 k0_hw967 => k0_hw967.1
theorem k0_off1825_inb : ∀ (v12821 : BitVec 32) (k0_hw967 : k0_chk967 v12821), ∀ a, (k0_off1825 v12821) a + S32.size a ≤ S2048.size a := fun v12821 k0_hw967 => k0_hw967.2.1
theorem k0_off1841_inb : ∀ (v12821 : BitVec 32) (k0_hw967 : k0_chk967 v12821), ∀ a, (k0_off1841 v12821) a + S32.size a ≤ S2048.size a := fun v12821 k0_hw967 => k0_hw967.2.2

def k0_mult946 (v12903 : BitVec 32) : BitVec 32 :=
  let c1703936_i32_5805 : BitVec 32 := 1703936#32
  let c32_i32_5804 : BitVec 32 := 32#32
  let v12904 : BitVec 32 := Scalar.muli v12903 c32_i32_5804
  let v12905 : BitVec 32 := Scalar.addi c1703936_i32_5805 v12904
  v12905

def k0_off1842 (v12903 : BitVec 32) : Fin 1 → Nat :=
  let c1703936_i32_5805 : BitVec 32 := 1703936#32
  let c32_i32_5804 : BitVec 32 := 32#32
  let v12904 : BitVec 32 := Scalar.muli v12903 c32_i32_5804
  let v12905 : BitVec 32 := Scalar.addi c1703936_i32_5805 v12904
  let v12906 : BitVec 32 := v12905
  ![v12906.toNat]
def k0_mult947 (v12912 : BitVec 32) : BitVec 32 :=
  let c1703936_i32_5809 : BitVec 32 := 1703936#32
  let c32_i32_5808 : BitVec 32 := 32#32
  let v12913 : BitVec 32 := Scalar.muli v12912 c32_i32_5808
  let v12914 : BitVec 32 := Scalar.addi c1703936_i32_5809 v12913
  v12914

def k0_off1843 (v12912 : BitVec 32) : Fin 1 → Nat :=
  let c1703936_i32_5809 : BitVec 32 := 1703936#32
  let c32_i32_5808 : BitVec 32 := 32#32
  let v12913 : BitVec 32 := Scalar.muli v12912 c32_i32_5808
  let v12914 : BitVec 32 := Scalar.addi c1703936_i32_5809 v12913
  let v12915 : BitVec 32 := v12914
  ![v12915.toNat]
def k0_mult948 (v12921 : BitVec 32) : BitVec 32 :=
  let c1703936_i32_5813 : BitVec 32 := 1703936#32
  let c32_i32_5812 : BitVec 32 := 32#32
  let v12922 : BitVec 32 := Scalar.muli v12921 c32_i32_5812
  let v12923 : BitVec 32 := Scalar.addi c1703936_i32_5813 v12922
  v12923

def k0_off1844 (v12921 : BitVec 32) : Fin 1 → Nat :=
  let c1703936_i32_5813 : BitVec 32 := 1703936#32
  let c32_i32_5812 : BitVec 32 := 32#32
  let v12922 : BitVec 32 := Scalar.muli v12921 c32_i32_5812
  let v12923 : BitVec 32 := Scalar.addi c1703936_i32_5813 v12922
  let v12924 : BitVec 32 := v12923
  ![v12924.toNat]
def k0_mult949 (v12930 : BitVec 32) : BitVec 32 :=
  let c1703936_i32_5817 : BitVec 32 := 1703936#32
  let c32_i32_5816 : BitVec 32 := 32#32
  let v12931 : BitVec 32 := Scalar.muli v12930 c32_i32_5816
  let v12932 : BitVec 32 := Scalar.addi c1703936_i32_5817 v12931
  v12932

def k0_off1845 (v12930 : BitVec 32) : Fin 1 → Nat :=
  let c1703936_i32_5817 : BitVec 32 := 1703936#32
  let c32_i32_5816 : BitVec 32 := 32#32
  let v12931 : BitVec 32 := Scalar.muli v12930 c32_i32_5816
  let v12932 : BitVec 32 := Scalar.addi c1703936_i32_5817 v12931
  let v12933 : BitVec 32 := v12932
  ![v12933.toNat]
def k0_mult950 (v12939 : BitVec 32) : BitVec 32 :=
  let c1703936_i32_5821 : BitVec 32 := 1703936#32
  let c32_i32_5820 : BitVec 32 := 32#32
  let v12940 : BitVec 32 := Scalar.muli v12939 c32_i32_5820
  let v12941 : BitVec 32 := Scalar.addi c1703936_i32_5821 v12940
  v12941

def k0_off1846 (v12939 : BitVec 32) : Fin 1 → Nat :=
  let c1703936_i32_5821 : BitVec 32 := 1703936#32
  let c32_i32_5820 : BitVec 32 := 32#32
  let v12940 : BitVec 32 := Scalar.muli v12939 c32_i32_5820
  let v12941 : BitVec 32 := Scalar.addi c1703936_i32_5821 v12940
  let v12942 : BitVec 32 := v12941
  ![v12942.toNat]
def k0_mult951 (v12948 : BitVec 32) : BitVec 32 :=
  let c1703936_i32_5825 : BitVec 32 := 1703936#32
  let c32_i32_5824 : BitVec 32 := 32#32
  let v12949 : BitVec 32 := Scalar.muli v12948 c32_i32_5824
  let v12950 : BitVec 32 := Scalar.addi c1703936_i32_5825 v12949
  v12950

def k0_off1847 (v12948 : BitVec 32) : Fin 1 → Nat :=
  let c1703936_i32_5825 : BitVec 32 := 1703936#32
  let c32_i32_5824 : BitVec 32 := 32#32
  let v12949 : BitVec 32 := Scalar.muli v12948 c32_i32_5824
  let v12950 : BitVec 32 := Scalar.addi c1703936_i32_5825 v12949
  let v12951 : BitVec 32 := v12950
  ![v12951.toNat]
def k0_mult952 (v12957 : BitVec 32) : BitVec 32 :=
  let c1703936_i32_5829 : BitVec 32 := 1703936#32
  let c32_i32_5828 : BitVec 32 := 32#32
  let v12958 : BitVec 32 := Scalar.muli v12957 c32_i32_5828
  let v12959 : BitVec 32 := Scalar.addi c1703936_i32_5829 v12958
  v12959

def k0_off1848 (v12957 : BitVec 32) : Fin 1 → Nat :=
  let c1703936_i32_5829 : BitVec 32 := 1703936#32
  let c32_i32_5828 : BitVec 32 := 32#32
  let v12958 : BitVec 32 := Scalar.muli v12957 c32_i32_5828
  let v12959 : BitVec 32 := Scalar.addi c1703936_i32_5829 v12958
  let v12960 : BitVec 32 := v12959
  ![v12960.toNat]
def k0_mult953 (v12966 : BitVec 32) : BitVec 32 :=
  let c1703936_i32_5833 : BitVec 32 := 1703936#32
  let c32_i32_5832 : BitVec 32 := 32#32
  let v12967 : BitVec 32 := Scalar.muli v12966 c32_i32_5832
  let v12968 : BitVec 32 := Scalar.addi c1703936_i32_5833 v12967
  v12968

def k0_off1849 (v12966 : BitVec 32) : Fin 1 → Nat :=
  let c1703936_i32_5833 : BitVec 32 := 1703936#32
  let c32_i32_5832 : BitVec 32 := 32#32
  let v12967 : BitVec 32 := Scalar.muli v12966 c32_i32_5832
  let v12968 : BitVec 32 := Scalar.addi c1703936_i32_5833 v12967
  let v12969 : BitVec 32 := v12968
  ![v12969.toNat]
def k0_mult954 (v12975 : BitVec 32) : BitVec 32 :=
  let c1703936_i32_5837 : BitVec 32 := 1703936#32
  let c32_i32_5836 : BitVec 32 := 32#32
  let v12976 : BitVec 32 := Scalar.muli v12975 c32_i32_5836
  let v12977 : BitVec 32 := Scalar.addi c1703936_i32_5837 v12976
  v12977

def k0_off1850 (v12975 : BitVec 32) : Fin 1 → Nat :=
  let c1703936_i32_5837 : BitVec 32 := 1703936#32
  let c32_i32_5836 : BitVec 32 := 32#32
  let v12976 : BitVec 32 := Scalar.muli v12975 c32_i32_5836
  let v12977 : BitVec 32 := Scalar.addi c1703936_i32_5837 v12976
  let v12978 : BitVec 32 := v12977
  ![v12978.toNat]
def k0_mult955 (v12984 : BitVec 32) : BitVec 32 :=
  let c1703936_i32_5841 : BitVec 32 := 1703936#32
  let c32_i32_5840 : BitVec 32 := 32#32
  let v12985 : BitVec 32 := Scalar.muli v12984 c32_i32_5840
  let v12986 : BitVec 32 := Scalar.addi c1703936_i32_5841 v12985
  v12986

def k0_off1851 (v12984 : BitVec 32) : Fin 1 → Nat :=
  let c1703936_i32_5841 : BitVec 32 := 1703936#32
  let c32_i32_5840 : BitVec 32 := 32#32
  let v12985 : BitVec 32 := Scalar.muli v12984 c32_i32_5840
  let v12986 : BitVec 32 := Scalar.addi c1703936_i32_5841 v12985
  let v12987 : BitVec 32 := v12986
  ![v12987.toNat]
def k0_mult956 (v12993 : BitVec 32) : BitVec 32 :=
  let c1703936_i32_5845 : BitVec 32 := 1703936#32
  let c32_i32_5844 : BitVec 32 := 32#32
  let v12994 : BitVec 32 := Scalar.muli v12993 c32_i32_5844
  let v12995 : BitVec 32 := Scalar.addi c1703936_i32_5845 v12994
  v12995

def k0_off1852 (v12993 : BitVec 32) : Fin 1 → Nat :=
  let c1703936_i32_5845 : BitVec 32 := 1703936#32
  let c32_i32_5844 : BitVec 32 := 32#32
  let v12994 : BitVec 32 := Scalar.muli v12993 c32_i32_5844
  let v12995 : BitVec 32 := Scalar.addi c1703936_i32_5845 v12994
  let v12996 : BitVec 32 := v12995
  ![v12996.toNat]
def k0_mult957 (v13002 : BitVec 32) : BitVec 32 :=
  let c1703936_i32_5849 : BitVec 32 := 1703936#32
  let c32_i32_5848 : BitVec 32 := 32#32
  let v13003 : BitVec 32 := Scalar.muli v13002 c32_i32_5848
  let v13004 : BitVec 32 := Scalar.addi c1703936_i32_5849 v13003
  v13004

def k0_off1853 (v13002 : BitVec 32) : Fin 1 → Nat :=
  let c1703936_i32_5849 : BitVec 32 := 1703936#32
  let c32_i32_5848 : BitVec 32 := 32#32
  let v13003 : BitVec 32 := Scalar.muli v13002 c32_i32_5848
  let v13004 : BitVec 32 := Scalar.addi c1703936_i32_5849 v13003
  let v13005 : BitVec 32 := v13004
  ![v13005.toNat]
def k0_mult958 (v13011 : BitVec 32) : BitVec 32 :=
  let c1703936_i32_5853 : BitVec 32 := 1703936#32
  let c32_i32_5852 : BitVec 32 := 32#32
  let v13012 : BitVec 32 := Scalar.muli v13011 c32_i32_5852
  let v13013 : BitVec 32 := Scalar.addi c1703936_i32_5853 v13012
  v13013

def k0_off1854 (v13011 : BitVec 32) : Fin 1 → Nat :=
  let c1703936_i32_5853 : BitVec 32 := 1703936#32
  let c32_i32_5852 : BitVec 32 := 32#32
  let v13012 : BitVec 32 := Scalar.muli v13011 c32_i32_5852
  let v13013 : BitVec 32 := Scalar.addi c1703936_i32_5853 v13012
  let v13014 : BitVec 32 := v13013
  ![v13014.toNat]
def k0_mult959 (v13020 : BitVec 32) : BitVec 32 :=
  let c1703936_i32_5857 : BitVec 32 := 1703936#32
  let c32_i32_5856 : BitVec 32 := 32#32
  let v13021 : BitVec 32 := Scalar.muli v13020 c32_i32_5856
  let v13022 : BitVec 32 := Scalar.addi c1703936_i32_5857 v13021
  v13022

def k0_off1855 (v13020 : BitVec 32) : Fin 1 → Nat :=
  let c1703936_i32_5857 : BitVec 32 := 1703936#32
  let c32_i32_5856 : BitVec 32 := 32#32
  let v13021 : BitVec 32 := Scalar.muli v13020 c32_i32_5856
  let v13022 : BitVec 32 := Scalar.addi c1703936_i32_5857 v13021
  let v13023 : BitVec 32 := v13022
  ![v13023.toNat]
def k0_mult960 (v13029 : BitVec 32) : BitVec 32 :=
  let c1703936_i32_5861 : BitVec 32 := 1703936#32
  let c32_i32_5860 : BitVec 32 := 32#32
  let v13030 : BitVec 32 := Scalar.muli v13029 c32_i32_5860
  let v13031 : BitVec 32 := Scalar.addi c1703936_i32_5861 v13030
  v13031

def k0_off1856 (v13029 : BitVec 32) : Fin 1 → Nat :=
  let c1703936_i32_5861 : BitVec 32 := 1703936#32
  let c32_i32_5860 : BitVec 32 := 32#32
  let v13030 : BitVec 32 := Scalar.muli v13029 c32_i32_5860
  let v13031 : BitVec 32 := Scalar.addi c1703936_i32_5861 v13030
  let v13032 : BitVec 32 := v13031
  ![v13032.toNat]
def k0_mult961 (v13038 : BitVec 32) : BitVec 32 :=
  let c1703936_i32_5865 : BitVec 32 := 1703936#32
  let c32_i32_5864 : BitVec 32 := 32#32
  let v13039 : BitVec 32 := Scalar.muli v13038 c32_i32_5864
  let v13040 : BitVec 32 := Scalar.addi c1703936_i32_5865 v13039
  v13040

def k0_off1857 (v13038 : BitVec 32) : Fin 1 → Nat :=
  let c1703936_i32_5865 : BitVec 32 := 1703936#32
  let c32_i32_5864 : BitVec 32 := 32#32
  let v13039 : BitVec 32 := Scalar.muli v13038 c32_i32_5864
  let v13040 : BitVec 32 := Scalar.addi c1703936_i32_5865 v13039
  let v13041 : BitVec 32 := v13040
  ![v13041.toNat]

def k0_chk984 (v13038 : BitVec 32) : Prop :=
  (8 ∣ (k0_mult961 v13038).toNat) ∧
  (∀ a, (k0_off1857 v13038) a + S32.size a ≤ S3407872.size a)
theorem k0_mult961_dvd : ∀ (v13038 : BitVec 32) (k0_hw984 : k0_chk984 v13038), 8 ∣ (k0_mult961 v13038).toNat := fun v13038 k0_hw984 => k0_hw984.1
theorem k0_off1857_inb : ∀ (v13038 : BitVec 32) (k0_hw984 : k0_chk984 v13038), ∀ a, (k0_off1857 v13038) a + S32.size a ≤ S3407872.size a := fun v13038 k0_hw984 => k0_hw984.2

def k0_off1858 (v12903 : BitVec 32) : Fin 1 → Nat :=
  let c1703936_i32_5805 : BitVec 32 := 1703936#32
  let c32_i32_5804 : BitVec 32 := 32#32
  let v12904 : BitVec 32 := Scalar.muli v12903 c32_i32_5804
  let v12905 : BitVec 32 := Scalar.addi c1703936_i32_5805 v12904
  let v12906 : BitVec 32 := v12905
  ![v12906.toNat]

def k0_chk969 (v12903 : BitVec 32) : Prop :=
  (8 ∣ (k0_mult946 v12903).toNat) ∧
  (∀ a, (k0_off1842 v12903) a + S32.size a ≤ S3407872.size a) ∧
  (∀ a, (k0_off1858 v12903) a + S32.size a ≤ S3407872.size a)
theorem k0_mult946_dvd : ∀ (v12903 : BitVec 32) (k0_hw969 : k0_chk969 v12903), 8 ∣ (k0_mult946 v12903).toNat := fun v12903 k0_hw969 => k0_hw969.1
theorem k0_off1842_inb : ∀ (v12903 : BitVec 32) (k0_hw969 : k0_chk969 v12903), ∀ a, (k0_off1842 v12903) a + S32.size a ≤ S3407872.size a := fun v12903 k0_hw969 => k0_hw969.2.1
theorem k0_off1858_inb : ∀ (v12903 : BitVec 32) (k0_hw969 : k0_chk969 v12903), ∀ a, (k0_off1858 v12903) a + S32.size a ≤ S3407872.size a := fun v12903 k0_hw969 => k0_hw969.2.2

def k0_off1859 (v12912 : BitVec 32) : Fin 1 → Nat :=
  let c1703936_i32_5809 : BitVec 32 := 1703936#32
  let c32_i32_5808 : BitVec 32 := 32#32
  let v12913 : BitVec 32 := Scalar.muli v12912 c32_i32_5808
  let v12914 : BitVec 32 := Scalar.addi c1703936_i32_5809 v12913
  let v12915 : BitVec 32 := v12914
  ![v12915.toNat]

def k0_chk970 (v12912 : BitVec 32) : Prop :=
  (8 ∣ (k0_mult947 v12912).toNat) ∧
  (∀ a, (k0_off1843 v12912) a + S32.size a ≤ S3407872.size a) ∧
  (∀ a, (k0_off1859 v12912) a + S32.size a ≤ S3407872.size a)
theorem k0_mult947_dvd : ∀ (v12912 : BitVec 32) (k0_hw970 : k0_chk970 v12912), 8 ∣ (k0_mult947 v12912).toNat := fun v12912 k0_hw970 => k0_hw970.1
theorem k0_off1843_inb : ∀ (v12912 : BitVec 32) (k0_hw970 : k0_chk970 v12912), ∀ a, (k0_off1843 v12912) a + S32.size a ≤ S3407872.size a := fun v12912 k0_hw970 => k0_hw970.2.1
theorem k0_off1859_inb : ∀ (v12912 : BitVec 32) (k0_hw970 : k0_chk970 v12912), ∀ a, (k0_off1859 v12912) a + S32.size a ≤ S3407872.size a := fun v12912 k0_hw970 => k0_hw970.2.2

def k0_off1860 (v12921 : BitVec 32) : Fin 1 → Nat :=
  let c1703936_i32_5813 : BitVec 32 := 1703936#32
  let c32_i32_5812 : BitVec 32 := 32#32
  let v12922 : BitVec 32 := Scalar.muli v12921 c32_i32_5812
  let v12923 : BitVec 32 := Scalar.addi c1703936_i32_5813 v12922
  let v12924 : BitVec 32 := v12923
  ![v12924.toNat]

def k0_chk971 (v12921 : BitVec 32) : Prop :=
  (8 ∣ (k0_mult948 v12921).toNat) ∧
  (∀ a, (k0_off1844 v12921) a + S32.size a ≤ S3407872.size a) ∧
  (∀ a, (k0_off1860 v12921) a + S32.size a ≤ S3407872.size a)
theorem k0_mult948_dvd : ∀ (v12921 : BitVec 32) (k0_hw971 : k0_chk971 v12921), 8 ∣ (k0_mult948 v12921).toNat := fun v12921 k0_hw971 => k0_hw971.1
theorem k0_off1844_inb : ∀ (v12921 : BitVec 32) (k0_hw971 : k0_chk971 v12921), ∀ a, (k0_off1844 v12921) a + S32.size a ≤ S3407872.size a := fun v12921 k0_hw971 => k0_hw971.2.1
theorem k0_off1860_inb : ∀ (v12921 : BitVec 32) (k0_hw971 : k0_chk971 v12921), ∀ a, (k0_off1860 v12921) a + S32.size a ≤ S3407872.size a := fun v12921 k0_hw971 => k0_hw971.2.2

def k0_off1861 (v12930 : BitVec 32) : Fin 1 → Nat :=
  let c1703936_i32_5817 : BitVec 32 := 1703936#32
  let c32_i32_5816 : BitVec 32 := 32#32
  let v12931 : BitVec 32 := Scalar.muli v12930 c32_i32_5816
  let v12932 : BitVec 32 := Scalar.addi c1703936_i32_5817 v12931
  let v12933 : BitVec 32 := v12932
  ![v12933.toNat]

def k0_chk972 (v12930 : BitVec 32) : Prop :=
  (8 ∣ (k0_mult949 v12930).toNat) ∧
  (∀ a, (k0_off1845 v12930) a + S32.size a ≤ S3407872.size a) ∧
  (∀ a, (k0_off1861 v12930) a + S32.size a ≤ S3407872.size a)
theorem k0_mult949_dvd : ∀ (v12930 : BitVec 32) (k0_hw972 : k0_chk972 v12930), 8 ∣ (k0_mult949 v12930).toNat := fun v12930 k0_hw972 => k0_hw972.1
theorem k0_off1845_inb : ∀ (v12930 : BitVec 32) (k0_hw972 : k0_chk972 v12930), ∀ a, (k0_off1845 v12930) a + S32.size a ≤ S3407872.size a := fun v12930 k0_hw972 => k0_hw972.2.1
theorem k0_off1861_inb : ∀ (v12930 : BitVec 32) (k0_hw972 : k0_chk972 v12930), ∀ a, (k0_off1861 v12930) a + S32.size a ≤ S3407872.size a := fun v12930 k0_hw972 => k0_hw972.2.2

def k0_off1862 (v12939 : BitVec 32) : Fin 1 → Nat :=
  let c1703936_i32_5821 : BitVec 32 := 1703936#32
  let c32_i32_5820 : BitVec 32 := 32#32
  let v12940 : BitVec 32 := Scalar.muli v12939 c32_i32_5820
  let v12941 : BitVec 32 := Scalar.addi c1703936_i32_5821 v12940
  let v12942 : BitVec 32 := v12941
  ![v12942.toNat]

def k0_chk973 (v12939 : BitVec 32) : Prop :=
  (8 ∣ (k0_mult950 v12939).toNat) ∧
  (∀ a, (k0_off1846 v12939) a + S32.size a ≤ S3407872.size a) ∧
  (∀ a, (k0_off1862 v12939) a + S32.size a ≤ S3407872.size a)
theorem k0_mult950_dvd : ∀ (v12939 : BitVec 32) (k0_hw973 : k0_chk973 v12939), 8 ∣ (k0_mult950 v12939).toNat := fun v12939 k0_hw973 => k0_hw973.1
theorem k0_off1846_inb : ∀ (v12939 : BitVec 32) (k0_hw973 : k0_chk973 v12939), ∀ a, (k0_off1846 v12939) a + S32.size a ≤ S3407872.size a := fun v12939 k0_hw973 => k0_hw973.2.1
theorem k0_off1862_inb : ∀ (v12939 : BitVec 32) (k0_hw973 : k0_chk973 v12939), ∀ a, (k0_off1862 v12939) a + S32.size a ≤ S3407872.size a := fun v12939 k0_hw973 => k0_hw973.2.2

def k0_off1863 (v12948 : BitVec 32) : Fin 1 → Nat :=
  let c1703936_i32_5825 : BitVec 32 := 1703936#32
  let c32_i32_5824 : BitVec 32 := 32#32
  let v12949 : BitVec 32 := Scalar.muli v12948 c32_i32_5824
  let v12950 : BitVec 32 := Scalar.addi c1703936_i32_5825 v12949
  let v12951 : BitVec 32 := v12950
  ![v12951.toNat]

def k0_chk974 (v12948 : BitVec 32) : Prop :=
  (8 ∣ (k0_mult951 v12948).toNat) ∧
  (∀ a, (k0_off1847 v12948) a + S32.size a ≤ S3407872.size a) ∧
  (∀ a, (k0_off1863 v12948) a + S32.size a ≤ S3407872.size a)
theorem k0_mult951_dvd : ∀ (v12948 : BitVec 32) (k0_hw974 : k0_chk974 v12948), 8 ∣ (k0_mult951 v12948).toNat := fun v12948 k0_hw974 => k0_hw974.1
theorem k0_off1847_inb : ∀ (v12948 : BitVec 32) (k0_hw974 : k0_chk974 v12948), ∀ a, (k0_off1847 v12948) a + S32.size a ≤ S3407872.size a := fun v12948 k0_hw974 => k0_hw974.2.1
theorem k0_off1863_inb : ∀ (v12948 : BitVec 32) (k0_hw974 : k0_chk974 v12948), ∀ a, (k0_off1863 v12948) a + S32.size a ≤ S3407872.size a := fun v12948 k0_hw974 => k0_hw974.2.2

def k0_off1864 (v12957 : BitVec 32) : Fin 1 → Nat :=
  let c1703936_i32_5829 : BitVec 32 := 1703936#32
  let c32_i32_5828 : BitVec 32 := 32#32
  let v12958 : BitVec 32 := Scalar.muli v12957 c32_i32_5828
  let v12959 : BitVec 32 := Scalar.addi c1703936_i32_5829 v12958
  let v12960 : BitVec 32 := v12959
  ![v12960.toNat]

def k0_chk975 (v12957 : BitVec 32) : Prop :=
  (8 ∣ (k0_mult952 v12957).toNat) ∧
  (∀ a, (k0_off1848 v12957) a + S32.size a ≤ S3407872.size a) ∧
  (∀ a, (k0_off1864 v12957) a + S32.size a ≤ S3407872.size a)
theorem k0_mult952_dvd : ∀ (v12957 : BitVec 32) (k0_hw975 : k0_chk975 v12957), 8 ∣ (k0_mult952 v12957).toNat := fun v12957 k0_hw975 => k0_hw975.1
theorem k0_off1848_inb : ∀ (v12957 : BitVec 32) (k0_hw975 : k0_chk975 v12957), ∀ a, (k0_off1848 v12957) a + S32.size a ≤ S3407872.size a := fun v12957 k0_hw975 => k0_hw975.2.1
theorem k0_off1864_inb : ∀ (v12957 : BitVec 32) (k0_hw975 : k0_chk975 v12957), ∀ a, (k0_off1864 v12957) a + S32.size a ≤ S3407872.size a := fun v12957 k0_hw975 => k0_hw975.2.2

def k0_off1865 (v12966 : BitVec 32) : Fin 1 → Nat :=
  let c1703936_i32_5833 : BitVec 32 := 1703936#32
  let c32_i32_5832 : BitVec 32 := 32#32
  let v12967 : BitVec 32 := Scalar.muli v12966 c32_i32_5832
  let v12968 : BitVec 32 := Scalar.addi c1703936_i32_5833 v12967
  let v12969 : BitVec 32 := v12968
  ![v12969.toNat]

def k0_chk976 (v12966 : BitVec 32) : Prop :=
  (8 ∣ (k0_mult953 v12966).toNat) ∧
  (∀ a, (k0_off1849 v12966) a + S32.size a ≤ S3407872.size a) ∧
  (∀ a, (k0_off1865 v12966) a + S32.size a ≤ S3407872.size a)
theorem k0_mult953_dvd : ∀ (v12966 : BitVec 32) (k0_hw976 : k0_chk976 v12966), 8 ∣ (k0_mult953 v12966).toNat := fun v12966 k0_hw976 => k0_hw976.1
theorem k0_off1849_inb : ∀ (v12966 : BitVec 32) (k0_hw976 : k0_chk976 v12966), ∀ a, (k0_off1849 v12966) a + S32.size a ≤ S3407872.size a := fun v12966 k0_hw976 => k0_hw976.2.1
theorem k0_off1865_inb : ∀ (v12966 : BitVec 32) (k0_hw976 : k0_chk976 v12966), ∀ a, (k0_off1865 v12966) a + S32.size a ≤ S3407872.size a := fun v12966 k0_hw976 => k0_hw976.2.2

def k0_off1866 (v12975 : BitVec 32) : Fin 1 → Nat :=
  let c1703936_i32_5837 : BitVec 32 := 1703936#32
  let c32_i32_5836 : BitVec 32 := 32#32
  let v12976 : BitVec 32 := Scalar.muli v12975 c32_i32_5836
  let v12977 : BitVec 32 := Scalar.addi c1703936_i32_5837 v12976
  let v12978 : BitVec 32 := v12977
  ![v12978.toNat]

def k0_chk977 (v12975 : BitVec 32) : Prop :=
  (8 ∣ (k0_mult954 v12975).toNat) ∧
  (∀ a, (k0_off1850 v12975) a + S32.size a ≤ S3407872.size a) ∧
  (∀ a, (k0_off1866 v12975) a + S32.size a ≤ S3407872.size a)
theorem k0_mult954_dvd : ∀ (v12975 : BitVec 32) (k0_hw977 : k0_chk977 v12975), 8 ∣ (k0_mult954 v12975).toNat := fun v12975 k0_hw977 => k0_hw977.1
theorem k0_off1850_inb : ∀ (v12975 : BitVec 32) (k0_hw977 : k0_chk977 v12975), ∀ a, (k0_off1850 v12975) a + S32.size a ≤ S3407872.size a := fun v12975 k0_hw977 => k0_hw977.2.1
theorem k0_off1866_inb : ∀ (v12975 : BitVec 32) (k0_hw977 : k0_chk977 v12975), ∀ a, (k0_off1866 v12975) a + S32.size a ≤ S3407872.size a := fun v12975 k0_hw977 => k0_hw977.2.2

def k0_off1867 (v12984 : BitVec 32) : Fin 1 → Nat :=
  let c1703936_i32_5841 : BitVec 32 := 1703936#32
  let c32_i32_5840 : BitVec 32 := 32#32
  let v12985 : BitVec 32 := Scalar.muli v12984 c32_i32_5840
  let v12986 : BitVec 32 := Scalar.addi c1703936_i32_5841 v12985
  let v12987 : BitVec 32 := v12986
  ![v12987.toNat]

def k0_chk978 (v12984 : BitVec 32) : Prop :=
  (8 ∣ (k0_mult955 v12984).toNat) ∧
  (∀ a, (k0_off1851 v12984) a + S32.size a ≤ S3407872.size a) ∧
  (∀ a, (k0_off1867 v12984) a + S32.size a ≤ S3407872.size a)
theorem k0_mult955_dvd : ∀ (v12984 : BitVec 32) (k0_hw978 : k0_chk978 v12984), 8 ∣ (k0_mult955 v12984).toNat := fun v12984 k0_hw978 => k0_hw978.1
theorem k0_off1851_inb : ∀ (v12984 : BitVec 32) (k0_hw978 : k0_chk978 v12984), ∀ a, (k0_off1851 v12984) a + S32.size a ≤ S3407872.size a := fun v12984 k0_hw978 => k0_hw978.2.1
theorem k0_off1867_inb : ∀ (v12984 : BitVec 32) (k0_hw978 : k0_chk978 v12984), ∀ a, (k0_off1867 v12984) a + S32.size a ≤ S3407872.size a := fun v12984 k0_hw978 => k0_hw978.2.2

def k0_off1868 (v12993 : BitVec 32) : Fin 1 → Nat :=
  let c1703936_i32_5845 : BitVec 32 := 1703936#32
  let c32_i32_5844 : BitVec 32 := 32#32
  let v12994 : BitVec 32 := Scalar.muli v12993 c32_i32_5844
  let v12995 : BitVec 32 := Scalar.addi c1703936_i32_5845 v12994
  let v12996 : BitVec 32 := v12995
  ![v12996.toNat]

def k0_chk979 (v12993 : BitVec 32) : Prop :=
  (8 ∣ (k0_mult956 v12993).toNat) ∧
  (∀ a, (k0_off1852 v12993) a + S32.size a ≤ S3407872.size a) ∧
  (∀ a, (k0_off1868 v12993) a + S32.size a ≤ S3407872.size a)
theorem k0_mult956_dvd : ∀ (v12993 : BitVec 32) (k0_hw979 : k0_chk979 v12993), 8 ∣ (k0_mult956 v12993).toNat := fun v12993 k0_hw979 => k0_hw979.1
theorem k0_off1852_inb : ∀ (v12993 : BitVec 32) (k0_hw979 : k0_chk979 v12993), ∀ a, (k0_off1852 v12993) a + S32.size a ≤ S3407872.size a := fun v12993 k0_hw979 => k0_hw979.2.1
theorem k0_off1868_inb : ∀ (v12993 : BitVec 32) (k0_hw979 : k0_chk979 v12993), ∀ a, (k0_off1868 v12993) a + S32.size a ≤ S3407872.size a := fun v12993 k0_hw979 => k0_hw979.2.2

def k0_off1869 (v13002 : BitVec 32) : Fin 1 → Nat :=
  let c1703936_i32_5849 : BitVec 32 := 1703936#32
  let c32_i32_5848 : BitVec 32 := 32#32
  let v13003 : BitVec 32 := Scalar.muli v13002 c32_i32_5848
  let v13004 : BitVec 32 := Scalar.addi c1703936_i32_5849 v13003
  let v13005 : BitVec 32 := v13004
  ![v13005.toNat]

def k0_chk980 (v13002 : BitVec 32) : Prop :=
  (8 ∣ (k0_mult957 v13002).toNat) ∧
  (∀ a, (k0_off1853 v13002) a + S32.size a ≤ S3407872.size a) ∧
  (∀ a, (k0_off1869 v13002) a + S32.size a ≤ S3407872.size a)
theorem k0_mult957_dvd : ∀ (v13002 : BitVec 32) (k0_hw980 : k0_chk980 v13002), 8 ∣ (k0_mult957 v13002).toNat := fun v13002 k0_hw980 => k0_hw980.1
theorem k0_off1853_inb : ∀ (v13002 : BitVec 32) (k0_hw980 : k0_chk980 v13002), ∀ a, (k0_off1853 v13002) a + S32.size a ≤ S3407872.size a := fun v13002 k0_hw980 => k0_hw980.2.1
theorem k0_off1869_inb : ∀ (v13002 : BitVec 32) (k0_hw980 : k0_chk980 v13002), ∀ a, (k0_off1869 v13002) a + S32.size a ≤ S3407872.size a := fun v13002 k0_hw980 => k0_hw980.2.2

def k0_off1870 (v13011 : BitVec 32) : Fin 1 → Nat :=
  let c1703936_i32_5853 : BitVec 32 := 1703936#32
  let c32_i32_5852 : BitVec 32 := 32#32
  let v13012 : BitVec 32 := Scalar.muli v13011 c32_i32_5852
  let v13013 : BitVec 32 := Scalar.addi c1703936_i32_5853 v13012
  let v13014 : BitVec 32 := v13013
  ![v13014.toNat]

def k0_chk981 (v13011 : BitVec 32) : Prop :=
  (8 ∣ (k0_mult958 v13011).toNat) ∧
  (∀ a, (k0_off1854 v13011) a + S32.size a ≤ S3407872.size a) ∧
  (∀ a, (k0_off1870 v13011) a + S32.size a ≤ S3407872.size a)
theorem k0_mult958_dvd : ∀ (v13011 : BitVec 32) (k0_hw981 : k0_chk981 v13011), 8 ∣ (k0_mult958 v13011).toNat := fun v13011 k0_hw981 => k0_hw981.1
theorem k0_off1854_inb : ∀ (v13011 : BitVec 32) (k0_hw981 : k0_chk981 v13011), ∀ a, (k0_off1854 v13011) a + S32.size a ≤ S3407872.size a := fun v13011 k0_hw981 => k0_hw981.2.1
theorem k0_off1870_inb : ∀ (v13011 : BitVec 32) (k0_hw981 : k0_chk981 v13011), ∀ a, (k0_off1870 v13011) a + S32.size a ≤ S3407872.size a := fun v13011 k0_hw981 => k0_hw981.2.2

def k0_off1871 (v13020 : BitVec 32) : Fin 1 → Nat :=
  let c1703936_i32_5857 : BitVec 32 := 1703936#32
  let c32_i32_5856 : BitVec 32 := 32#32
  let v13021 : BitVec 32 := Scalar.muli v13020 c32_i32_5856
  let v13022 : BitVec 32 := Scalar.addi c1703936_i32_5857 v13021
  let v13023 : BitVec 32 := v13022
  ![v13023.toNat]

def k0_chk982 (v13020 : BitVec 32) : Prop :=
  (8 ∣ (k0_mult959 v13020).toNat) ∧
  (∀ a, (k0_off1855 v13020) a + S32.size a ≤ S3407872.size a) ∧
  (∀ a, (k0_off1871 v13020) a + S32.size a ≤ S3407872.size a)
theorem k0_mult959_dvd : ∀ (v13020 : BitVec 32) (k0_hw982 : k0_chk982 v13020), 8 ∣ (k0_mult959 v13020).toNat := fun v13020 k0_hw982 => k0_hw982.1
theorem k0_off1855_inb : ∀ (v13020 : BitVec 32) (k0_hw982 : k0_chk982 v13020), ∀ a, (k0_off1855 v13020) a + S32.size a ≤ S3407872.size a := fun v13020 k0_hw982 => k0_hw982.2.1
theorem k0_off1871_inb : ∀ (v13020 : BitVec 32) (k0_hw982 : k0_chk982 v13020), ∀ a, (k0_off1871 v13020) a + S32.size a ≤ S3407872.size a := fun v13020 k0_hw982 => k0_hw982.2.2

def k0_off1872 (v13029 : BitVec 32) : Fin 1 → Nat :=
  let c1703936_i32_5861 : BitVec 32 := 1703936#32
  let c32_i32_5860 : BitVec 32 := 32#32
  let v13030 : BitVec 32 := Scalar.muli v13029 c32_i32_5860
  let v13031 : BitVec 32 := Scalar.addi c1703936_i32_5861 v13030
  let v13032 : BitVec 32 := v13031
  ![v13032.toNat]

def k0_chk983 (v13029 : BitVec 32) : Prop :=
  (8 ∣ (k0_mult960 v13029).toNat) ∧
  (∀ a, (k0_off1856 v13029) a + S32.size a ≤ S3407872.size a) ∧
  (∀ a, (k0_off1872 v13029) a + S32.size a ≤ S3407872.size a)
theorem k0_mult960_dvd : ∀ (v13029 : BitVec 32) (k0_hw983 : k0_chk983 v13029), 8 ∣ (k0_mult960 v13029).toNat := fun v13029 k0_hw983 => k0_hw983.1
theorem k0_off1856_inb : ∀ (v13029 : BitVec 32) (k0_hw983 : k0_chk983 v13029), ∀ a, (k0_off1856 v13029) a + S32.size a ≤ S3407872.size a := fun v13029 k0_hw983 => k0_hw983.2.1
theorem k0_off1872_inb : ∀ (v13029 : BitVec 32) (k0_hw983 : k0_chk983 v13029), ∀ a, (k0_off1872 v13029) a + S32.size a ≤ S3407872.size a := fun v13029 k0_hw983 => k0_hw983.2.2

def k0_mult962 (v13113 : BitVec 32) : BitVec 32 :=
  let c999936_i32_5902 : BitVec 32 := 999936#32
  let v13114 : BitVec 32 := Scalar.subi v13113 c999936_i32_5902
  let c32_i32_5903 : BitVec 32 := 32#32
  let v13115 : BitVec 32 := Scalar.muli v13114 c32_i32_5903
  v13115

def k0_off1873 (v13113 : BitVec 32) : Fin 1 → Nat :=
  let c999936_i32_5902 : BitVec 32 := 999936#32
  let v13114 : BitVec 32 := Scalar.subi v13113 c999936_i32_5902
  let c32_i32_5903 : BitVec 32 := 32#32
  let v13115 : BitVec 32 := Scalar.muli v13114 c32_i32_5903
  let v13116 : BitVec 32 := v13115
  ![v13116.toNat]
def k0_mult963 (v13122 : BitVec 32) : BitVec 32 :=
  let c999936_i32_5906 : BitVec 32 := 999936#32
  let v13123 : BitVec 32 := Scalar.subi v13122 c999936_i32_5906
  let c32_i32_5907 : BitVec 32 := 32#32
  let v13124 : BitVec 32 := Scalar.muli v13123 c32_i32_5907
  v13124

def k0_off1874 (v13122 : BitVec 32) : Fin 1 → Nat :=
  let c999936_i32_5906 : BitVec 32 := 999936#32
  let v13123 : BitVec 32 := Scalar.subi v13122 c999936_i32_5906
  let c32_i32_5907 : BitVec 32 := 32#32
  let v13124 : BitVec 32 := Scalar.muli v13123 c32_i32_5907
  let v13125 : BitVec 32 := v13124
  ![v13125.toNat]
def k0_mult964 (v13131 : BitVec 32) : BitVec 32 :=
  let c999936_i32_5910 : BitVec 32 := 999936#32
  let v13132 : BitVec 32 := Scalar.subi v13131 c999936_i32_5910
  let c32_i32_5911 : BitVec 32 := 32#32
  let v13133 : BitVec 32 := Scalar.muli v13132 c32_i32_5911
  v13133

def k0_off1875 (v13131 : BitVec 32) : Fin 1 → Nat :=
  let c999936_i32_5910 : BitVec 32 := 999936#32
  let v13132 : BitVec 32 := Scalar.subi v13131 c999936_i32_5910
  let c32_i32_5911 : BitVec 32 := 32#32
  let v13133 : BitVec 32 := Scalar.muli v13132 c32_i32_5911
  let v13134 : BitVec 32 := v13133
  ![v13134.toNat]
def k0_mult965 (v13140 : BitVec 32) : BitVec 32 :=
  let c999936_i32_5914 : BitVec 32 := 999936#32
  let v13141 : BitVec 32 := Scalar.subi v13140 c999936_i32_5914
  let c32_i32_5915 : BitVec 32 := 32#32
  let v13142 : BitVec 32 := Scalar.muli v13141 c32_i32_5915
  v13142

def k0_off1876 (v13140 : BitVec 32) : Fin 1 → Nat :=
  let c999936_i32_5914 : BitVec 32 := 999936#32
  let v13141 : BitVec 32 := Scalar.subi v13140 c999936_i32_5914
  let c32_i32_5915 : BitVec 32 := 32#32
  let v13142 : BitVec 32 := Scalar.muli v13141 c32_i32_5915
  let v13143 : BitVec 32 := v13142
  ![v13143.toNat]
def k0_mult966 (v13149 : BitVec 32) : BitVec 32 :=
  let c999936_i32_5918 : BitVec 32 := 999936#32
  let v13150 : BitVec 32 := Scalar.subi v13149 c999936_i32_5918
  let c32_i32_5919 : BitVec 32 := 32#32
  let v13151 : BitVec 32 := Scalar.muli v13150 c32_i32_5919
  v13151

def k0_off1877 (v13149 : BitVec 32) : Fin 1 → Nat :=
  let c999936_i32_5918 : BitVec 32 := 999936#32
  let v13150 : BitVec 32 := Scalar.subi v13149 c999936_i32_5918
  let c32_i32_5919 : BitVec 32 := 32#32
  let v13151 : BitVec 32 := Scalar.muli v13150 c32_i32_5919
  let v13152 : BitVec 32 := v13151
  ![v13152.toNat]
def k0_mult967 (v13158 : BitVec 32) : BitVec 32 :=
  let c999936_i32_5922 : BitVec 32 := 999936#32
  let v13159 : BitVec 32 := Scalar.subi v13158 c999936_i32_5922
  let c32_i32_5923 : BitVec 32 := 32#32
  let v13160 : BitVec 32 := Scalar.muli v13159 c32_i32_5923
  v13160

def k0_off1878 (v13158 : BitVec 32) : Fin 1 → Nat :=
  let c999936_i32_5922 : BitVec 32 := 999936#32
  let v13159 : BitVec 32 := Scalar.subi v13158 c999936_i32_5922
  let c32_i32_5923 : BitVec 32 := 32#32
  let v13160 : BitVec 32 := Scalar.muli v13159 c32_i32_5923
  let v13161 : BitVec 32 := v13160
  ![v13161.toNat]
def k0_mult968 (v13167 : BitVec 32) : BitVec 32 :=
  let c999936_i32_5926 : BitVec 32 := 999936#32
  let v13168 : BitVec 32 := Scalar.subi v13167 c999936_i32_5926
  let c32_i32_5927 : BitVec 32 := 32#32
  let v13169 : BitVec 32 := Scalar.muli v13168 c32_i32_5927
  v13169

def k0_off1879 (v13167 : BitVec 32) : Fin 1 → Nat :=
  let c999936_i32_5926 : BitVec 32 := 999936#32
  let v13168 : BitVec 32 := Scalar.subi v13167 c999936_i32_5926
  let c32_i32_5927 : BitVec 32 := 32#32
  let v13169 : BitVec 32 := Scalar.muli v13168 c32_i32_5927
  let v13170 : BitVec 32 := v13169
  ![v13170.toNat]
def k0_mult969 (v13176 : BitVec 32) : BitVec 32 :=
  let c999936_i32_5930 : BitVec 32 := 999936#32
  let v13177 : BitVec 32 := Scalar.subi v13176 c999936_i32_5930
  let c32_i32_5931 : BitVec 32 := 32#32
  let v13178 : BitVec 32 := Scalar.muli v13177 c32_i32_5931
  v13178

def k0_off1880 (v13176 : BitVec 32) : Fin 1 → Nat :=
  let c999936_i32_5930 : BitVec 32 := 999936#32
  let v13177 : BitVec 32 := Scalar.subi v13176 c999936_i32_5930
  let c32_i32_5931 : BitVec 32 := 32#32
  let v13178 : BitVec 32 := Scalar.muli v13177 c32_i32_5931
  let v13179 : BitVec 32 := v13178
  ![v13179.toNat]
def k0_mult970 (v13185 : BitVec 32) : BitVec 32 :=
  let c999936_i32_5934 : BitVec 32 := 999936#32
  let v13186 : BitVec 32 := Scalar.subi v13185 c999936_i32_5934
  let c32_i32_5935 : BitVec 32 := 32#32
  let v13187 : BitVec 32 := Scalar.muli v13186 c32_i32_5935
  v13187

def k0_off1881 (v13185 : BitVec 32) : Fin 1 → Nat :=
  let c999936_i32_5934 : BitVec 32 := 999936#32
  let v13186 : BitVec 32 := Scalar.subi v13185 c999936_i32_5934
  let c32_i32_5935 : BitVec 32 := 32#32
  let v13187 : BitVec 32 := Scalar.muli v13186 c32_i32_5935
  let v13188 : BitVec 32 := v13187
  ![v13188.toNat]
def k0_mult971 (v13194 : BitVec 32) : BitVec 32 :=
  let c999936_i32_5938 : BitVec 32 := 999936#32
  let v13195 : BitVec 32 := Scalar.subi v13194 c999936_i32_5938
  let c32_i32_5939 : BitVec 32 := 32#32
  let v13196 : BitVec 32 := Scalar.muli v13195 c32_i32_5939
  v13196

def k0_off1882 (v13194 : BitVec 32) : Fin 1 → Nat :=
  let c999936_i32_5938 : BitVec 32 := 999936#32
  let v13195 : BitVec 32 := Scalar.subi v13194 c999936_i32_5938
  let c32_i32_5939 : BitVec 32 := 32#32
  let v13196 : BitVec 32 := Scalar.muli v13195 c32_i32_5939
  let v13197 : BitVec 32 := v13196
  ![v13197.toNat]
def k0_mult972 (v13203 : BitVec 32) : BitVec 32 :=
  let c999936_i32_5942 : BitVec 32 := 999936#32
  let v13204 : BitVec 32 := Scalar.subi v13203 c999936_i32_5942
  let c32_i32_5943 : BitVec 32 := 32#32
  let v13205 : BitVec 32 := Scalar.muli v13204 c32_i32_5943
  v13205

def k0_off1883 (v13203 : BitVec 32) : Fin 1 → Nat :=
  let c999936_i32_5942 : BitVec 32 := 999936#32
  let v13204 : BitVec 32 := Scalar.subi v13203 c999936_i32_5942
  let c32_i32_5943 : BitVec 32 := 32#32
  let v13205 : BitVec 32 := Scalar.muli v13204 c32_i32_5943
  let v13206 : BitVec 32 := v13205
  ![v13206.toNat]
def k0_mult973 (v13212 : BitVec 32) : BitVec 32 :=
  let c999936_i32_5946 : BitVec 32 := 999936#32
  let v13213 : BitVec 32 := Scalar.subi v13212 c999936_i32_5946
  let c32_i32_5947 : BitVec 32 := 32#32
  let v13214 : BitVec 32 := Scalar.muli v13213 c32_i32_5947
  v13214

def k0_off1884 (v13212 : BitVec 32) : Fin 1 → Nat :=
  let c999936_i32_5946 : BitVec 32 := 999936#32
  let v13213 : BitVec 32 := Scalar.subi v13212 c999936_i32_5946
  let c32_i32_5947 : BitVec 32 := 32#32
  let v13214 : BitVec 32 := Scalar.muli v13213 c32_i32_5947
  let v13215 : BitVec 32 := v13214
  ![v13215.toNat]
def k0_mult974 (v13221 : BitVec 32) : BitVec 32 :=
  let c999936_i32_5950 : BitVec 32 := 999936#32
  let v13222 : BitVec 32 := Scalar.subi v13221 c999936_i32_5950
  let c32_i32_5951 : BitVec 32 := 32#32
  let v13223 : BitVec 32 := Scalar.muli v13222 c32_i32_5951
  v13223

def k0_off1885 (v13221 : BitVec 32) : Fin 1 → Nat :=
  let c999936_i32_5950 : BitVec 32 := 999936#32
  let v13222 : BitVec 32 := Scalar.subi v13221 c999936_i32_5950
  let c32_i32_5951 : BitVec 32 := 32#32
  let v13223 : BitVec 32 := Scalar.muli v13222 c32_i32_5951
  let v13224 : BitVec 32 := v13223
  ![v13224.toNat]
def k0_mult975 (v13230 : BitVec 32) : BitVec 32 :=
  let c999936_i32_5954 : BitVec 32 := 999936#32
  let v13231 : BitVec 32 := Scalar.subi v13230 c999936_i32_5954
  let c32_i32_5955 : BitVec 32 := 32#32
  let v13232 : BitVec 32 := Scalar.muli v13231 c32_i32_5955
  v13232

def k0_off1886 (v13230 : BitVec 32) : Fin 1 → Nat :=
  let c999936_i32_5954 : BitVec 32 := 999936#32
  let v13231 : BitVec 32 := Scalar.subi v13230 c999936_i32_5954
  let c32_i32_5955 : BitVec 32 := 32#32
  let v13232 : BitVec 32 := Scalar.muli v13231 c32_i32_5955
  let v13233 : BitVec 32 := v13232
  ![v13233.toNat]
def k0_mult976 (v13239 : BitVec 32) : BitVec 32 :=
  let c999936_i32_5958 : BitVec 32 := 999936#32
  let v13240 : BitVec 32 := Scalar.subi v13239 c999936_i32_5958
  let c32_i32_5959 : BitVec 32 := 32#32
  let v13241 : BitVec 32 := Scalar.muli v13240 c32_i32_5959
  v13241

def k0_off1887 (v13239 : BitVec 32) : Fin 1 → Nat :=
  let c999936_i32_5958 : BitVec 32 := 999936#32
  let v13240 : BitVec 32 := Scalar.subi v13239 c999936_i32_5958
  let c32_i32_5959 : BitVec 32 := 32#32
  let v13241 : BitVec 32 := Scalar.muli v13240 c32_i32_5959
  let v13242 : BitVec 32 := v13241
  ![v13242.toNat]
def k0_mult977 (v13248 : BitVec 32) : BitVec 32 :=
  let c999936_i32_5962 : BitVec 32 := 999936#32
  let v13249 : BitVec 32 := Scalar.subi v13248 c999936_i32_5962
  let c32_i32_5963 : BitVec 32 := 32#32
  let v13250 : BitVec 32 := Scalar.muli v13249 c32_i32_5963
  v13250

def k0_off1888 (v13248 : BitVec 32) : Fin 1 → Nat :=
  let c999936_i32_5962 : BitVec 32 := 999936#32
  let v13249 : BitVec 32 := Scalar.subi v13248 c999936_i32_5962
  let c32_i32_5963 : BitVec 32 := 32#32
  let v13250 : BitVec 32 := Scalar.muli v13249 c32_i32_5963
  let v13251 : BitVec 32 := v13250
  ![v13251.toNat]

def k0_chk1000 (v13248 : BitVec 32) : Prop :=
  (8 ∣ (k0_mult977 v13248).toNat) ∧
  (∀ a, (k0_off1888 v13248) a + S32.size a ≤ S2048.size a)
theorem k0_mult977_dvd : ∀ (v13248 : BitVec 32) (k0_hw1000 : k0_chk1000 v13248), 8 ∣ (k0_mult977 v13248).toNat := fun v13248 k0_hw1000 => k0_hw1000.1
theorem k0_off1888_inb : ∀ (v13248 : BitVec 32) (k0_hw1000 : k0_chk1000 v13248), ∀ a, (k0_off1888 v13248) a + S32.size a ≤ S2048.size a := fun v13248 k0_hw1000 => k0_hw1000.2

def k0_off1889 (v13113 : BitVec 32) : Fin 1 → Nat :=
  let c999936_i32_5902 : BitVec 32 := 999936#32
  let v13114 : BitVec 32 := Scalar.subi v13113 c999936_i32_5902
  let c32_i32_5903 : BitVec 32 := 32#32
  let v13115 : BitVec 32 := Scalar.muli v13114 c32_i32_5903
  let v13116 : BitVec 32 := v13115
  ![v13116.toNat]

def k0_chk985 (v13113 : BitVec 32) : Prop :=
  (8 ∣ (k0_mult962 v13113).toNat) ∧
  (∀ a, (k0_off1873 v13113) a + S32.size a ≤ S2048.size a) ∧
  (∀ a, (k0_off1889 v13113) a + S32.size a ≤ S2048.size a)
theorem k0_mult962_dvd : ∀ (v13113 : BitVec 32) (k0_hw985 : k0_chk985 v13113), 8 ∣ (k0_mult962 v13113).toNat := fun v13113 k0_hw985 => k0_hw985.1
theorem k0_off1873_inb : ∀ (v13113 : BitVec 32) (k0_hw985 : k0_chk985 v13113), ∀ a, (k0_off1873 v13113) a + S32.size a ≤ S2048.size a := fun v13113 k0_hw985 => k0_hw985.2.1
theorem k0_off1889_inb : ∀ (v13113 : BitVec 32) (k0_hw985 : k0_chk985 v13113), ∀ a, (k0_off1889 v13113) a + S32.size a ≤ S2048.size a := fun v13113 k0_hw985 => k0_hw985.2.2

def k0_off1890 (v13122 : BitVec 32) : Fin 1 → Nat :=
  let c999936_i32_5906 : BitVec 32 := 999936#32
  let v13123 : BitVec 32 := Scalar.subi v13122 c999936_i32_5906
  let c32_i32_5907 : BitVec 32 := 32#32
  let v13124 : BitVec 32 := Scalar.muli v13123 c32_i32_5907
  let v13125 : BitVec 32 := v13124
  ![v13125.toNat]

def k0_chk986 (v13122 : BitVec 32) : Prop :=
  (8 ∣ (k0_mult963 v13122).toNat) ∧
  (∀ a, (k0_off1874 v13122) a + S32.size a ≤ S2048.size a) ∧
  (∀ a, (k0_off1890 v13122) a + S32.size a ≤ S2048.size a)
theorem k0_mult963_dvd : ∀ (v13122 : BitVec 32) (k0_hw986 : k0_chk986 v13122), 8 ∣ (k0_mult963 v13122).toNat := fun v13122 k0_hw986 => k0_hw986.1
theorem k0_off1874_inb : ∀ (v13122 : BitVec 32) (k0_hw986 : k0_chk986 v13122), ∀ a, (k0_off1874 v13122) a + S32.size a ≤ S2048.size a := fun v13122 k0_hw986 => k0_hw986.2.1
theorem k0_off1890_inb : ∀ (v13122 : BitVec 32) (k0_hw986 : k0_chk986 v13122), ∀ a, (k0_off1890 v13122) a + S32.size a ≤ S2048.size a := fun v13122 k0_hw986 => k0_hw986.2.2

def k0_off1891 (v13131 : BitVec 32) : Fin 1 → Nat :=
  let c999936_i32_5910 : BitVec 32 := 999936#32
  let v13132 : BitVec 32 := Scalar.subi v13131 c999936_i32_5910
  let c32_i32_5911 : BitVec 32 := 32#32
  let v13133 : BitVec 32 := Scalar.muli v13132 c32_i32_5911
  let v13134 : BitVec 32 := v13133
  ![v13134.toNat]

def k0_chk987 (v13131 : BitVec 32) : Prop :=
  (8 ∣ (k0_mult964 v13131).toNat) ∧
  (∀ a, (k0_off1875 v13131) a + S32.size a ≤ S2048.size a) ∧
  (∀ a, (k0_off1891 v13131) a + S32.size a ≤ S2048.size a)
theorem k0_mult964_dvd : ∀ (v13131 : BitVec 32) (k0_hw987 : k0_chk987 v13131), 8 ∣ (k0_mult964 v13131).toNat := fun v13131 k0_hw987 => k0_hw987.1
theorem k0_off1875_inb : ∀ (v13131 : BitVec 32) (k0_hw987 : k0_chk987 v13131), ∀ a, (k0_off1875 v13131) a + S32.size a ≤ S2048.size a := fun v13131 k0_hw987 => k0_hw987.2.1
theorem k0_off1891_inb : ∀ (v13131 : BitVec 32) (k0_hw987 : k0_chk987 v13131), ∀ a, (k0_off1891 v13131) a + S32.size a ≤ S2048.size a := fun v13131 k0_hw987 => k0_hw987.2.2

def k0_off1892 (v13140 : BitVec 32) : Fin 1 → Nat :=
  let c999936_i32_5914 : BitVec 32 := 999936#32
  let v13141 : BitVec 32 := Scalar.subi v13140 c999936_i32_5914
  let c32_i32_5915 : BitVec 32 := 32#32
  let v13142 : BitVec 32 := Scalar.muli v13141 c32_i32_5915
  let v13143 : BitVec 32 := v13142
  ![v13143.toNat]

def k0_chk988 (v13140 : BitVec 32) : Prop :=
  (8 ∣ (k0_mult965 v13140).toNat) ∧
  (∀ a, (k0_off1876 v13140) a + S32.size a ≤ S2048.size a) ∧
  (∀ a, (k0_off1892 v13140) a + S32.size a ≤ S2048.size a)
theorem k0_mult965_dvd : ∀ (v13140 : BitVec 32) (k0_hw988 : k0_chk988 v13140), 8 ∣ (k0_mult965 v13140).toNat := fun v13140 k0_hw988 => k0_hw988.1
theorem k0_off1876_inb : ∀ (v13140 : BitVec 32) (k0_hw988 : k0_chk988 v13140), ∀ a, (k0_off1876 v13140) a + S32.size a ≤ S2048.size a := fun v13140 k0_hw988 => k0_hw988.2.1
theorem k0_off1892_inb : ∀ (v13140 : BitVec 32) (k0_hw988 : k0_chk988 v13140), ∀ a, (k0_off1892 v13140) a + S32.size a ≤ S2048.size a := fun v13140 k0_hw988 => k0_hw988.2.2

def k0_off1893 (v13149 : BitVec 32) : Fin 1 → Nat :=
  let c999936_i32_5918 : BitVec 32 := 999936#32
  let v13150 : BitVec 32 := Scalar.subi v13149 c999936_i32_5918
  let c32_i32_5919 : BitVec 32 := 32#32
  let v13151 : BitVec 32 := Scalar.muli v13150 c32_i32_5919
  let v13152 : BitVec 32 := v13151
  ![v13152.toNat]

def k0_chk989 (v13149 : BitVec 32) : Prop :=
  (8 ∣ (k0_mult966 v13149).toNat) ∧
  (∀ a, (k0_off1877 v13149) a + S32.size a ≤ S2048.size a) ∧
  (∀ a, (k0_off1893 v13149) a + S32.size a ≤ S2048.size a)
theorem k0_mult966_dvd : ∀ (v13149 : BitVec 32) (k0_hw989 : k0_chk989 v13149), 8 ∣ (k0_mult966 v13149).toNat := fun v13149 k0_hw989 => k0_hw989.1
theorem k0_off1877_inb : ∀ (v13149 : BitVec 32) (k0_hw989 : k0_chk989 v13149), ∀ a, (k0_off1877 v13149) a + S32.size a ≤ S2048.size a := fun v13149 k0_hw989 => k0_hw989.2.1
theorem k0_off1893_inb : ∀ (v13149 : BitVec 32) (k0_hw989 : k0_chk989 v13149), ∀ a, (k0_off1893 v13149) a + S32.size a ≤ S2048.size a := fun v13149 k0_hw989 => k0_hw989.2.2

def k0_off1894 (v13158 : BitVec 32) : Fin 1 → Nat :=
  let c999936_i32_5922 : BitVec 32 := 999936#32
  let v13159 : BitVec 32 := Scalar.subi v13158 c999936_i32_5922
  let c32_i32_5923 : BitVec 32 := 32#32
  let v13160 : BitVec 32 := Scalar.muli v13159 c32_i32_5923
  let v13161 : BitVec 32 := v13160
  ![v13161.toNat]

def k0_chk990 (v13158 : BitVec 32) : Prop :=
  (8 ∣ (k0_mult967 v13158).toNat) ∧
  (∀ a, (k0_off1878 v13158) a + S32.size a ≤ S2048.size a) ∧
  (∀ a, (k0_off1894 v13158) a + S32.size a ≤ S2048.size a)
theorem k0_mult967_dvd : ∀ (v13158 : BitVec 32) (k0_hw990 : k0_chk990 v13158), 8 ∣ (k0_mult967 v13158).toNat := fun v13158 k0_hw990 => k0_hw990.1
theorem k0_off1878_inb : ∀ (v13158 : BitVec 32) (k0_hw990 : k0_chk990 v13158), ∀ a, (k0_off1878 v13158) a + S32.size a ≤ S2048.size a := fun v13158 k0_hw990 => k0_hw990.2.1
theorem k0_off1894_inb : ∀ (v13158 : BitVec 32) (k0_hw990 : k0_chk990 v13158), ∀ a, (k0_off1894 v13158) a + S32.size a ≤ S2048.size a := fun v13158 k0_hw990 => k0_hw990.2.2

def k0_off1895 (v13167 : BitVec 32) : Fin 1 → Nat :=
  let c999936_i32_5926 : BitVec 32 := 999936#32
  let v13168 : BitVec 32 := Scalar.subi v13167 c999936_i32_5926
  let c32_i32_5927 : BitVec 32 := 32#32
  let v13169 : BitVec 32 := Scalar.muli v13168 c32_i32_5927
  let v13170 : BitVec 32 := v13169
  ![v13170.toNat]

def k0_chk991 (v13167 : BitVec 32) : Prop :=
  (8 ∣ (k0_mult968 v13167).toNat) ∧
  (∀ a, (k0_off1879 v13167) a + S32.size a ≤ S2048.size a) ∧
  (∀ a, (k0_off1895 v13167) a + S32.size a ≤ S2048.size a)
theorem k0_mult968_dvd : ∀ (v13167 : BitVec 32) (k0_hw991 : k0_chk991 v13167), 8 ∣ (k0_mult968 v13167).toNat := fun v13167 k0_hw991 => k0_hw991.1
theorem k0_off1879_inb : ∀ (v13167 : BitVec 32) (k0_hw991 : k0_chk991 v13167), ∀ a, (k0_off1879 v13167) a + S32.size a ≤ S2048.size a := fun v13167 k0_hw991 => k0_hw991.2.1
theorem k0_off1895_inb : ∀ (v13167 : BitVec 32) (k0_hw991 : k0_chk991 v13167), ∀ a, (k0_off1895 v13167) a + S32.size a ≤ S2048.size a := fun v13167 k0_hw991 => k0_hw991.2.2

def k0_off1896 (v13176 : BitVec 32) : Fin 1 → Nat :=
  let c999936_i32_5930 : BitVec 32 := 999936#32
  let v13177 : BitVec 32 := Scalar.subi v13176 c999936_i32_5930
  let c32_i32_5931 : BitVec 32 := 32#32
  let v13178 : BitVec 32 := Scalar.muli v13177 c32_i32_5931
  let v13179 : BitVec 32 := v13178
  ![v13179.toNat]

def k0_chk992 (v13176 : BitVec 32) : Prop :=
  (8 ∣ (k0_mult969 v13176).toNat) ∧
  (∀ a, (k0_off1880 v13176) a + S32.size a ≤ S2048.size a) ∧
  (∀ a, (k0_off1896 v13176) a + S32.size a ≤ S2048.size a)
theorem k0_mult969_dvd : ∀ (v13176 : BitVec 32) (k0_hw992 : k0_chk992 v13176), 8 ∣ (k0_mult969 v13176).toNat := fun v13176 k0_hw992 => k0_hw992.1
theorem k0_off1880_inb : ∀ (v13176 : BitVec 32) (k0_hw992 : k0_chk992 v13176), ∀ a, (k0_off1880 v13176) a + S32.size a ≤ S2048.size a := fun v13176 k0_hw992 => k0_hw992.2.1
theorem k0_off1896_inb : ∀ (v13176 : BitVec 32) (k0_hw992 : k0_chk992 v13176), ∀ a, (k0_off1896 v13176) a + S32.size a ≤ S2048.size a := fun v13176 k0_hw992 => k0_hw992.2.2

def k0_off1897 (v13185 : BitVec 32) : Fin 1 → Nat :=
  let c999936_i32_5934 : BitVec 32 := 999936#32
  let v13186 : BitVec 32 := Scalar.subi v13185 c999936_i32_5934
  let c32_i32_5935 : BitVec 32 := 32#32
  let v13187 : BitVec 32 := Scalar.muli v13186 c32_i32_5935
  let v13188 : BitVec 32 := v13187
  ![v13188.toNat]

def k0_chk993 (v13185 : BitVec 32) : Prop :=
  (8 ∣ (k0_mult970 v13185).toNat) ∧
  (∀ a, (k0_off1881 v13185) a + S32.size a ≤ S2048.size a) ∧
  (∀ a, (k0_off1897 v13185) a + S32.size a ≤ S2048.size a)
theorem k0_mult970_dvd : ∀ (v13185 : BitVec 32) (k0_hw993 : k0_chk993 v13185), 8 ∣ (k0_mult970 v13185).toNat := fun v13185 k0_hw993 => k0_hw993.1
theorem k0_off1881_inb : ∀ (v13185 : BitVec 32) (k0_hw993 : k0_chk993 v13185), ∀ a, (k0_off1881 v13185) a + S32.size a ≤ S2048.size a := fun v13185 k0_hw993 => k0_hw993.2.1
theorem k0_off1897_inb : ∀ (v13185 : BitVec 32) (k0_hw993 : k0_chk993 v13185), ∀ a, (k0_off1897 v13185) a + S32.size a ≤ S2048.size a := fun v13185 k0_hw993 => k0_hw993.2.2

def k0_off1898 (v13194 : BitVec 32) : Fin 1 → Nat :=
  let c999936_i32_5938 : BitVec 32 := 999936#32
  let v13195 : BitVec 32 := Scalar.subi v13194 c999936_i32_5938
  let c32_i32_5939 : BitVec 32 := 32#32
  let v13196 : BitVec 32 := Scalar.muli v13195 c32_i32_5939
  let v13197 : BitVec 32 := v13196
  ![v13197.toNat]

def k0_chk994 (v13194 : BitVec 32) : Prop :=
  (8 ∣ (k0_mult971 v13194).toNat) ∧
  (∀ a, (k0_off1882 v13194) a + S32.size a ≤ S2048.size a) ∧
  (∀ a, (k0_off1898 v13194) a + S32.size a ≤ S2048.size a)
theorem k0_mult971_dvd : ∀ (v13194 : BitVec 32) (k0_hw994 : k0_chk994 v13194), 8 ∣ (k0_mult971 v13194).toNat := fun v13194 k0_hw994 => k0_hw994.1
theorem k0_off1882_inb : ∀ (v13194 : BitVec 32) (k0_hw994 : k0_chk994 v13194), ∀ a, (k0_off1882 v13194) a + S32.size a ≤ S2048.size a := fun v13194 k0_hw994 => k0_hw994.2.1
theorem k0_off1898_inb : ∀ (v13194 : BitVec 32) (k0_hw994 : k0_chk994 v13194), ∀ a, (k0_off1898 v13194) a + S32.size a ≤ S2048.size a := fun v13194 k0_hw994 => k0_hw994.2.2

def k0_off1899 (v13203 : BitVec 32) : Fin 1 → Nat :=
  let c999936_i32_5942 : BitVec 32 := 999936#32
  let v13204 : BitVec 32 := Scalar.subi v13203 c999936_i32_5942
  let c32_i32_5943 : BitVec 32 := 32#32
  let v13205 : BitVec 32 := Scalar.muli v13204 c32_i32_5943
  let v13206 : BitVec 32 := v13205
  ![v13206.toNat]

def k0_chk995 (v13203 : BitVec 32) : Prop :=
  (8 ∣ (k0_mult972 v13203).toNat) ∧
  (∀ a, (k0_off1883 v13203) a + S32.size a ≤ S2048.size a) ∧
  (∀ a, (k0_off1899 v13203) a + S32.size a ≤ S2048.size a)
theorem k0_mult972_dvd : ∀ (v13203 : BitVec 32) (k0_hw995 : k0_chk995 v13203), 8 ∣ (k0_mult972 v13203).toNat := fun v13203 k0_hw995 => k0_hw995.1
theorem k0_off1883_inb : ∀ (v13203 : BitVec 32) (k0_hw995 : k0_chk995 v13203), ∀ a, (k0_off1883 v13203) a + S32.size a ≤ S2048.size a := fun v13203 k0_hw995 => k0_hw995.2.1
theorem k0_off1899_inb : ∀ (v13203 : BitVec 32) (k0_hw995 : k0_chk995 v13203), ∀ a, (k0_off1899 v13203) a + S32.size a ≤ S2048.size a := fun v13203 k0_hw995 => k0_hw995.2.2

def k0_off1900 (v13212 : BitVec 32) : Fin 1 → Nat :=
  let c999936_i32_5946 : BitVec 32 := 999936#32
  let v13213 : BitVec 32 := Scalar.subi v13212 c999936_i32_5946
  let c32_i32_5947 : BitVec 32 := 32#32
  let v13214 : BitVec 32 := Scalar.muli v13213 c32_i32_5947
  let v13215 : BitVec 32 := v13214
  ![v13215.toNat]

def k0_chk996 (v13212 : BitVec 32) : Prop :=
  (8 ∣ (k0_mult973 v13212).toNat) ∧
  (∀ a, (k0_off1884 v13212) a + S32.size a ≤ S2048.size a) ∧
  (∀ a, (k0_off1900 v13212) a + S32.size a ≤ S2048.size a)
theorem k0_mult973_dvd : ∀ (v13212 : BitVec 32) (k0_hw996 : k0_chk996 v13212), 8 ∣ (k0_mult973 v13212).toNat := fun v13212 k0_hw996 => k0_hw996.1
theorem k0_off1884_inb : ∀ (v13212 : BitVec 32) (k0_hw996 : k0_chk996 v13212), ∀ a, (k0_off1884 v13212) a + S32.size a ≤ S2048.size a := fun v13212 k0_hw996 => k0_hw996.2.1
theorem k0_off1900_inb : ∀ (v13212 : BitVec 32) (k0_hw996 : k0_chk996 v13212), ∀ a, (k0_off1900 v13212) a + S32.size a ≤ S2048.size a := fun v13212 k0_hw996 => k0_hw996.2.2

def k0_off1901 (v13221 : BitVec 32) : Fin 1 → Nat :=
  let c999936_i32_5950 : BitVec 32 := 999936#32
  let v13222 : BitVec 32 := Scalar.subi v13221 c999936_i32_5950
  let c32_i32_5951 : BitVec 32 := 32#32
  let v13223 : BitVec 32 := Scalar.muli v13222 c32_i32_5951
  let v13224 : BitVec 32 := v13223
  ![v13224.toNat]

def k0_chk997 (v13221 : BitVec 32) : Prop :=
  (8 ∣ (k0_mult974 v13221).toNat) ∧
  (∀ a, (k0_off1885 v13221) a + S32.size a ≤ S2048.size a) ∧
  (∀ a, (k0_off1901 v13221) a + S32.size a ≤ S2048.size a)
theorem k0_mult974_dvd : ∀ (v13221 : BitVec 32) (k0_hw997 : k0_chk997 v13221), 8 ∣ (k0_mult974 v13221).toNat := fun v13221 k0_hw997 => k0_hw997.1
theorem k0_off1885_inb : ∀ (v13221 : BitVec 32) (k0_hw997 : k0_chk997 v13221), ∀ a, (k0_off1885 v13221) a + S32.size a ≤ S2048.size a := fun v13221 k0_hw997 => k0_hw997.2.1
theorem k0_off1901_inb : ∀ (v13221 : BitVec 32) (k0_hw997 : k0_chk997 v13221), ∀ a, (k0_off1901 v13221) a + S32.size a ≤ S2048.size a := fun v13221 k0_hw997 => k0_hw997.2.2

def k0_off1902 (v13230 : BitVec 32) : Fin 1 → Nat :=
  let c999936_i32_5954 : BitVec 32 := 999936#32
  let v13231 : BitVec 32 := Scalar.subi v13230 c999936_i32_5954
  let c32_i32_5955 : BitVec 32 := 32#32
  let v13232 : BitVec 32 := Scalar.muli v13231 c32_i32_5955
  let v13233 : BitVec 32 := v13232
  ![v13233.toNat]

def k0_chk998 (v13230 : BitVec 32) : Prop :=
  (8 ∣ (k0_mult975 v13230).toNat) ∧
  (∀ a, (k0_off1886 v13230) a + S32.size a ≤ S2048.size a) ∧
  (∀ a, (k0_off1902 v13230) a + S32.size a ≤ S2048.size a)
theorem k0_mult975_dvd : ∀ (v13230 : BitVec 32) (k0_hw998 : k0_chk998 v13230), 8 ∣ (k0_mult975 v13230).toNat := fun v13230 k0_hw998 => k0_hw998.1
theorem k0_off1886_inb : ∀ (v13230 : BitVec 32) (k0_hw998 : k0_chk998 v13230), ∀ a, (k0_off1886 v13230) a + S32.size a ≤ S2048.size a := fun v13230 k0_hw998 => k0_hw998.2.1
theorem k0_off1902_inb : ∀ (v13230 : BitVec 32) (k0_hw998 : k0_chk998 v13230), ∀ a, (k0_off1902 v13230) a + S32.size a ≤ S2048.size a := fun v13230 k0_hw998 => k0_hw998.2.2

def k0_off1903 (v13239 : BitVec 32) : Fin 1 → Nat :=
  let c999936_i32_5958 : BitVec 32 := 999936#32
  let v13240 : BitVec 32 := Scalar.subi v13239 c999936_i32_5958
  let c32_i32_5959 : BitVec 32 := 32#32
  let v13241 : BitVec 32 := Scalar.muli v13240 c32_i32_5959
  let v13242 : BitVec 32 := v13241
  ![v13242.toNat]

def k0_chk999 (v13239 : BitVec 32) : Prop :=
  (8 ∣ (k0_mult976 v13239).toNat) ∧
  (∀ a, (k0_off1887 v13239) a + S32.size a ≤ S2048.size a) ∧
  (∀ a, (k0_off1903 v13239) a + S32.size a ≤ S2048.size a)
theorem k0_mult976_dvd : ∀ (v13239 : BitVec 32) (k0_hw999 : k0_chk999 v13239), 8 ∣ (k0_mult976 v13239).toNat := fun v13239 k0_hw999 => k0_hw999.1
theorem k0_off1887_inb : ∀ (v13239 : BitVec 32) (k0_hw999 : k0_chk999 v13239), ∀ a, (k0_off1887 v13239) a + S32.size a ≤ S2048.size a := fun v13239 k0_hw999 => k0_hw999.2.1
theorem k0_off1903_inb : ∀ (v13239 : BitVec 32) (k0_hw999 : k0_chk999 v13239), ∀ a, (k0_off1903 v13239) a + S32.size a ≤ S2048.size a := fun v13239 k0_hw999 => k0_hw999.2.2

def k0_mult978 (v13321 : BitVec 32) : BitVec 32 :=
  let c1703936_i32_5999 : BitVec 32 := 1703936#32
  let c32_i32_5998 : BitVec 32 := 32#32
  let v13322 : BitVec 32 := Scalar.muli v13321 c32_i32_5998
  let v13323 : BitVec 32 := Scalar.addi c1703936_i32_5999 v13322
  v13323

def k0_off1904 (v13321 : BitVec 32) : Fin 1 → Nat :=
  let c1703936_i32_5999 : BitVec 32 := 1703936#32
  let c32_i32_5998 : BitVec 32 := 32#32
  let v13322 : BitVec 32 := Scalar.muli v13321 c32_i32_5998
  let v13323 : BitVec 32 := Scalar.addi c1703936_i32_5999 v13322
  let v13324 : BitVec 32 := v13323
  ![v13324.toNat]
def k0_mult979 (v13330 : BitVec 32) : BitVec 32 :=
  let c1703936_i32_6003 : BitVec 32 := 1703936#32
  let c32_i32_6002 : BitVec 32 := 32#32
  let v13331 : BitVec 32 := Scalar.muli v13330 c32_i32_6002
  let v13332 : BitVec 32 := Scalar.addi c1703936_i32_6003 v13331
  v13332

def k0_off1905 (v13330 : BitVec 32) : Fin 1 → Nat :=
  let c1703936_i32_6003 : BitVec 32 := 1703936#32
  let c32_i32_6002 : BitVec 32 := 32#32
  let v13331 : BitVec 32 := Scalar.muli v13330 c32_i32_6002
  let v13332 : BitVec 32 := Scalar.addi c1703936_i32_6003 v13331
  let v13333 : BitVec 32 := v13332
  ![v13333.toNat]
def k0_mult980 (v13339 : BitVec 32) : BitVec 32 :=
  let c1703936_i32_6007 : BitVec 32 := 1703936#32
  let c32_i32_6006 : BitVec 32 := 32#32
  let v13340 : BitVec 32 := Scalar.muli v13339 c32_i32_6006
  let v13341 : BitVec 32 := Scalar.addi c1703936_i32_6007 v13340
  v13341

def k0_off1906 (v13339 : BitVec 32) : Fin 1 → Nat :=
  let c1703936_i32_6007 : BitVec 32 := 1703936#32
  let c32_i32_6006 : BitVec 32 := 32#32
  let v13340 : BitVec 32 := Scalar.muli v13339 c32_i32_6006
  let v13341 : BitVec 32 := Scalar.addi c1703936_i32_6007 v13340
  let v13342 : BitVec 32 := v13341
  ![v13342.toNat]
def k0_mult981 (v13348 : BitVec 32) : BitVec 32 :=
  let c1703936_i32_6011 : BitVec 32 := 1703936#32
  let c32_i32_6010 : BitVec 32 := 32#32
  let v13349 : BitVec 32 := Scalar.muli v13348 c32_i32_6010
  let v13350 : BitVec 32 := Scalar.addi c1703936_i32_6011 v13349
  v13350

def k0_off1907 (v13348 : BitVec 32) : Fin 1 → Nat :=
  let c1703936_i32_6011 : BitVec 32 := 1703936#32
  let c32_i32_6010 : BitVec 32 := 32#32
  let v13349 : BitVec 32 := Scalar.muli v13348 c32_i32_6010
  let v13350 : BitVec 32 := Scalar.addi c1703936_i32_6011 v13349
  let v13351 : BitVec 32 := v13350
  ![v13351.toNat]
def k0_mult982 (v13357 : BitVec 32) : BitVec 32 :=
  let c1703936_i32_6015 : BitVec 32 := 1703936#32
  let c32_i32_6014 : BitVec 32 := 32#32
  let v13358 : BitVec 32 := Scalar.muli v13357 c32_i32_6014
  let v13359 : BitVec 32 := Scalar.addi c1703936_i32_6015 v13358
  v13359

def k0_off1908 (v13357 : BitVec 32) : Fin 1 → Nat :=
  let c1703936_i32_6015 : BitVec 32 := 1703936#32
  let c32_i32_6014 : BitVec 32 := 32#32
  let v13358 : BitVec 32 := Scalar.muli v13357 c32_i32_6014
  let v13359 : BitVec 32 := Scalar.addi c1703936_i32_6015 v13358
  let v13360 : BitVec 32 := v13359
  ![v13360.toNat]
def k0_mult983 (v13366 : BitVec 32) : BitVec 32 :=
  let c1703936_i32_6019 : BitVec 32 := 1703936#32
  let c32_i32_6018 : BitVec 32 := 32#32
  let v13367 : BitVec 32 := Scalar.muli v13366 c32_i32_6018
  let v13368 : BitVec 32 := Scalar.addi c1703936_i32_6019 v13367
  v13368

def k0_off1909 (v13366 : BitVec 32) : Fin 1 → Nat :=
  let c1703936_i32_6019 : BitVec 32 := 1703936#32
  let c32_i32_6018 : BitVec 32 := 32#32
  let v13367 : BitVec 32 := Scalar.muli v13366 c32_i32_6018
  let v13368 : BitVec 32 := Scalar.addi c1703936_i32_6019 v13367
  let v13369 : BitVec 32 := v13368
  ![v13369.toNat]
def k0_mult984 (v13375 : BitVec 32) : BitVec 32 :=
  let c1703936_i32_6023 : BitVec 32 := 1703936#32
  let c32_i32_6022 : BitVec 32 := 32#32
  let v13376 : BitVec 32 := Scalar.muli v13375 c32_i32_6022
  let v13377 : BitVec 32 := Scalar.addi c1703936_i32_6023 v13376
  v13377

def k0_off1910 (v13375 : BitVec 32) : Fin 1 → Nat :=
  let c1703936_i32_6023 : BitVec 32 := 1703936#32
  let c32_i32_6022 : BitVec 32 := 32#32
  let v13376 : BitVec 32 := Scalar.muli v13375 c32_i32_6022
  let v13377 : BitVec 32 := Scalar.addi c1703936_i32_6023 v13376
  let v13378 : BitVec 32 := v13377
  ![v13378.toNat]
def k0_mult985 (v13384 : BitVec 32) : BitVec 32 :=
  let c1703936_i32_6027 : BitVec 32 := 1703936#32
  let c32_i32_6026 : BitVec 32 := 32#32
  let v13385 : BitVec 32 := Scalar.muli v13384 c32_i32_6026
  let v13386 : BitVec 32 := Scalar.addi c1703936_i32_6027 v13385
  v13386

def k0_off1911 (v13384 : BitVec 32) : Fin 1 → Nat :=
  let c1703936_i32_6027 : BitVec 32 := 1703936#32
  let c32_i32_6026 : BitVec 32 := 32#32
  let v13385 : BitVec 32 := Scalar.muli v13384 c32_i32_6026
  let v13386 : BitVec 32 := Scalar.addi c1703936_i32_6027 v13385
  let v13387 : BitVec 32 := v13386
  ![v13387.toNat]
def k0_mult986 (v13393 : BitVec 32) : BitVec 32 :=
  let c1703936_i32_6031 : BitVec 32 := 1703936#32
  let c32_i32_6030 : BitVec 32 := 32#32
  let v13394 : BitVec 32 := Scalar.muli v13393 c32_i32_6030
  let v13395 : BitVec 32 := Scalar.addi c1703936_i32_6031 v13394
  v13395

def k0_off1912 (v13393 : BitVec 32) : Fin 1 → Nat :=
  let c1703936_i32_6031 : BitVec 32 := 1703936#32
  let c32_i32_6030 : BitVec 32 := 32#32
  let v13394 : BitVec 32 := Scalar.muli v13393 c32_i32_6030
  let v13395 : BitVec 32 := Scalar.addi c1703936_i32_6031 v13394
  let v13396 : BitVec 32 := v13395
  ![v13396.toNat]
def k0_mult987 (v13402 : BitVec 32) : BitVec 32 :=
  let c1703936_i32_6035 : BitVec 32 := 1703936#32
  let c32_i32_6034 : BitVec 32 := 32#32
  let v13403 : BitVec 32 := Scalar.muli v13402 c32_i32_6034
  let v13404 : BitVec 32 := Scalar.addi c1703936_i32_6035 v13403
  v13404

def k0_off1913 (v13402 : BitVec 32) : Fin 1 → Nat :=
  let c1703936_i32_6035 : BitVec 32 := 1703936#32
  let c32_i32_6034 : BitVec 32 := 32#32
  let v13403 : BitVec 32 := Scalar.muli v13402 c32_i32_6034
  let v13404 : BitVec 32 := Scalar.addi c1703936_i32_6035 v13403
  let v13405 : BitVec 32 := v13404
  ![v13405.toNat]
def k0_mult988 (v13411 : BitVec 32) : BitVec 32 :=
  let c1703936_i32_6039 : BitVec 32 := 1703936#32
  let c32_i32_6038 : BitVec 32 := 32#32
  let v13412 : BitVec 32 := Scalar.muli v13411 c32_i32_6038
  let v13413 : BitVec 32 := Scalar.addi c1703936_i32_6039 v13412
  v13413

def k0_off1914 (v13411 : BitVec 32) : Fin 1 → Nat :=
  let c1703936_i32_6039 : BitVec 32 := 1703936#32
  let c32_i32_6038 : BitVec 32 := 32#32
  let v13412 : BitVec 32 := Scalar.muli v13411 c32_i32_6038
  let v13413 : BitVec 32 := Scalar.addi c1703936_i32_6039 v13412
  let v13414 : BitVec 32 := v13413
  ![v13414.toNat]
def k0_mult989 (v13420 : BitVec 32) : BitVec 32 :=
  let c1703936_i32_6043 : BitVec 32 := 1703936#32
  let c32_i32_6042 : BitVec 32 := 32#32
  let v13421 : BitVec 32 := Scalar.muli v13420 c32_i32_6042
  let v13422 : BitVec 32 := Scalar.addi c1703936_i32_6043 v13421
  v13422

def k0_off1915 (v13420 : BitVec 32) : Fin 1 → Nat :=
  let c1703936_i32_6043 : BitVec 32 := 1703936#32
  let c32_i32_6042 : BitVec 32 := 32#32
  let v13421 : BitVec 32 := Scalar.muli v13420 c32_i32_6042
  let v13422 : BitVec 32 := Scalar.addi c1703936_i32_6043 v13421
  let v13423 : BitVec 32 := v13422
  ![v13423.toNat]
def k0_mult990 (v13429 : BitVec 32) : BitVec 32 :=
  let c1703936_i32_6047 : BitVec 32 := 1703936#32
  let c32_i32_6046 : BitVec 32 := 32#32
  let v13430 : BitVec 32 := Scalar.muli v13429 c32_i32_6046
  let v13431 : BitVec 32 := Scalar.addi c1703936_i32_6047 v13430
  v13431

def k0_off1916 (v13429 : BitVec 32) : Fin 1 → Nat :=
  let c1703936_i32_6047 : BitVec 32 := 1703936#32
  let c32_i32_6046 : BitVec 32 := 32#32
  let v13430 : BitVec 32 := Scalar.muli v13429 c32_i32_6046
  let v13431 : BitVec 32 := Scalar.addi c1703936_i32_6047 v13430
  let v13432 : BitVec 32 := v13431
  ![v13432.toNat]
def k0_mult991 (v13438 : BitVec 32) : BitVec 32 :=
  let c1703936_i32_6051 : BitVec 32 := 1703936#32
  let c32_i32_6050 : BitVec 32 := 32#32
  let v13439 : BitVec 32 := Scalar.muli v13438 c32_i32_6050
  let v13440 : BitVec 32 := Scalar.addi c1703936_i32_6051 v13439
  v13440

def k0_off1917 (v13438 : BitVec 32) : Fin 1 → Nat :=
  let c1703936_i32_6051 : BitVec 32 := 1703936#32
  let c32_i32_6050 : BitVec 32 := 32#32
  let v13439 : BitVec 32 := Scalar.muli v13438 c32_i32_6050
  let v13440 : BitVec 32 := Scalar.addi c1703936_i32_6051 v13439
  let v13441 : BitVec 32 := v13440
  ![v13441.toNat]
def k0_mult992 (v13447 : BitVec 32) : BitVec 32 :=
  let c1703936_i32_6055 : BitVec 32 := 1703936#32
  let c32_i32_6054 : BitVec 32 := 32#32
  let v13448 : BitVec 32 := Scalar.muli v13447 c32_i32_6054
  let v13449 : BitVec 32 := Scalar.addi c1703936_i32_6055 v13448
  v13449

def k0_off1918 (v13447 : BitVec 32) : Fin 1 → Nat :=
  let c1703936_i32_6055 : BitVec 32 := 1703936#32
  let c32_i32_6054 : BitVec 32 := 32#32
  let v13448 : BitVec 32 := Scalar.muli v13447 c32_i32_6054
  let v13449 : BitVec 32 := Scalar.addi c1703936_i32_6055 v13448
  let v13450 : BitVec 32 := v13449
  ![v13450.toNat]
def k0_mult993 (v13456 : BitVec 32) : BitVec 32 :=
  let c1703936_i32_6059 : BitVec 32 := 1703936#32
  let c32_i32_6058 : BitVec 32 := 32#32
  let v13457 : BitVec 32 := Scalar.muli v13456 c32_i32_6058
  let v13458 : BitVec 32 := Scalar.addi c1703936_i32_6059 v13457
  v13458

def k0_off1919 (v13456 : BitVec 32) : Fin 1 → Nat :=
  let c1703936_i32_6059 : BitVec 32 := 1703936#32
  let c32_i32_6058 : BitVec 32 := 32#32
  let v13457 : BitVec 32 := Scalar.muli v13456 c32_i32_6058
  let v13458 : BitVec 32 := Scalar.addi c1703936_i32_6059 v13457
  let v13459 : BitVec 32 := v13458
  ![v13459.toNat]

def k0_chk1016 (v13456 : BitVec 32) : Prop :=
  (8 ∣ (k0_mult993 v13456).toNat) ∧
  (∀ a, (k0_off1919 v13456) a + S32.size a ≤ S3407872.size a)
theorem k0_mult993_dvd : ∀ (v13456 : BitVec 32) (k0_hw1016 : k0_chk1016 v13456), 8 ∣ (k0_mult993 v13456).toNat := fun v13456 k0_hw1016 => k0_hw1016.1
theorem k0_off1919_inb : ∀ (v13456 : BitVec 32) (k0_hw1016 : k0_chk1016 v13456), ∀ a, (k0_off1919 v13456) a + S32.size a ≤ S3407872.size a := fun v13456 k0_hw1016 => k0_hw1016.2

def k0_off1920 (v13321 : BitVec 32) : Fin 1 → Nat :=
  let c1703936_i32_5999 : BitVec 32 := 1703936#32
  let c32_i32_5998 : BitVec 32 := 32#32
  let v13322 : BitVec 32 := Scalar.muli v13321 c32_i32_5998
  let v13323 : BitVec 32 := Scalar.addi c1703936_i32_5999 v13322
  let v13324 : BitVec 32 := v13323
  ![v13324.toNat]

def k0_chk1001 (v13321 : BitVec 32) : Prop :=
  (8 ∣ (k0_mult978 v13321).toNat) ∧
  (∀ a, (k0_off1904 v13321) a + S32.size a ≤ S3407872.size a) ∧
  (∀ a, (k0_off1920 v13321) a + S32.size a ≤ S3407872.size a)
theorem k0_mult978_dvd : ∀ (v13321 : BitVec 32) (k0_hw1001 : k0_chk1001 v13321), 8 ∣ (k0_mult978 v13321).toNat := fun v13321 k0_hw1001 => k0_hw1001.1
theorem k0_off1904_inb : ∀ (v13321 : BitVec 32) (k0_hw1001 : k0_chk1001 v13321), ∀ a, (k0_off1904 v13321) a + S32.size a ≤ S3407872.size a := fun v13321 k0_hw1001 => k0_hw1001.2.1
theorem k0_off1920_inb : ∀ (v13321 : BitVec 32) (k0_hw1001 : k0_chk1001 v13321), ∀ a, (k0_off1920 v13321) a + S32.size a ≤ S3407872.size a := fun v13321 k0_hw1001 => k0_hw1001.2.2

def k0_off1921 (v13330 : BitVec 32) : Fin 1 → Nat :=
  let c1703936_i32_6003 : BitVec 32 := 1703936#32
  let c32_i32_6002 : BitVec 32 := 32#32
  let v13331 : BitVec 32 := Scalar.muli v13330 c32_i32_6002
  let v13332 : BitVec 32 := Scalar.addi c1703936_i32_6003 v13331
  let v13333 : BitVec 32 := v13332
  ![v13333.toNat]

def k0_chk1002 (v13330 : BitVec 32) : Prop :=
  (8 ∣ (k0_mult979 v13330).toNat) ∧
  (∀ a, (k0_off1905 v13330) a + S32.size a ≤ S3407872.size a) ∧
  (∀ a, (k0_off1921 v13330) a + S32.size a ≤ S3407872.size a)
theorem k0_mult979_dvd : ∀ (v13330 : BitVec 32) (k0_hw1002 : k0_chk1002 v13330), 8 ∣ (k0_mult979 v13330).toNat := fun v13330 k0_hw1002 => k0_hw1002.1
theorem k0_off1905_inb : ∀ (v13330 : BitVec 32) (k0_hw1002 : k0_chk1002 v13330), ∀ a, (k0_off1905 v13330) a + S32.size a ≤ S3407872.size a := fun v13330 k0_hw1002 => k0_hw1002.2.1
theorem k0_off1921_inb : ∀ (v13330 : BitVec 32) (k0_hw1002 : k0_chk1002 v13330), ∀ a, (k0_off1921 v13330) a + S32.size a ≤ S3407872.size a := fun v13330 k0_hw1002 => k0_hw1002.2.2

def k0_off1922 (v13339 : BitVec 32) : Fin 1 → Nat :=
  let c1703936_i32_6007 : BitVec 32 := 1703936#32
  let c32_i32_6006 : BitVec 32 := 32#32
  let v13340 : BitVec 32 := Scalar.muli v13339 c32_i32_6006
  let v13341 : BitVec 32 := Scalar.addi c1703936_i32_6007 v13340
  let v13342 : BitVec 32 := v13341
  ![v13342.toNat]

def k0_chk1003 (v13339 : BitVec 32) : Prop :=
  (8 ∣ (k0_mult980 v13339).toNat) ∧
  (∀ a, (k0_off1906 v13339) a + S32.size a ≤ S3407872.size a) ∧
  (∀ a, (k0_off1922 v13339) a + S32.size a ≤ S3407872.size a)
theorem k0_mult980_dvd : ∀ (v13339 : BitVec 32) (k0_hw1003 : k0_chk1003 v13339), 8 ∣ (k0_mult980 v13339).toNat := fun v13339 k0_hw1003 => k0_hw1003.1
theorem k0_off1906_inb : ∀ (v13339 : BitVec 32) (k0_hw1003 : k0_chk1003 v13339), ∀ a, (k0_off1906 v13339) a + S32.size a ≤ S3407872.size a := fun v13339 k0_hw1003 => k0_hw1003.2.1
theorem k0_off1922_inb : ∀ (v13339 : BitVec 32) (k0_hw1003 : k0_chk1003 v13339), ∀ a, (k0_off1922 v13339) a + S32.size a ≤ S3407872.size a := fun v13339 k0_hw1003 => k0_hw1003.2.2

def k0_off1923 (v13348 : BitVec 32) : Fin 1 → Nat :=
  let c1703936_i32_6011 : BitVec 32 := 1703936#32
  let c32_i32_6010 : BitVec 32 := 32#32
  let v13349 : BitVec 32 := Scalar.muli v13348 c32_i32_6010
  let v13350 : BitVec 32 := Scalar.addi c1703936_i32_6011 v13349
  let v13351 : BitVec 32 := v13350
  ![v13351.toNat]

def k0_chk1004 (v13348 : BitVec 32) : Prop :=
  (8 ∣ (k0_mult981 v13348).toNat) ∧
  (∀ a, (k0_off1907 v13348) a + S32.size a ≤ S3407872.size a) ∧
  (∀ a, (k0_off1923 v13348) a + S32.size a ≤ S3407872.size a)
theorem k0_mult981_dvd : ∀ (v13348 : BitVec 32) (k0_hw1004 : k0_chk1004 v13348), 8 ∣ (k0_mult981 v13348).toNat := fun v13348 k0_hw1004 => k0_hw1004.1
theorem k0_off1907_inb : ∀ (v13348 : BitVec 32) (k0_hw1004 : k0_chk1004 v13348), ∀ a, (k0_off1907 v13348) a + S32.size a ≤ S3407872.size a := fun v13348 k0_hw1004 => k0_hw1004.2.1
theorem k0_off1923_inb : ∀ (v13348 : BitVec 32) (k0_hw1004 : k0_chk1004 v13348), ∀ a, (k0_off1923 v13348) a + S32.size a ≤ S3407872.size a := fun v13348 k0_hw1004 => k0_hw1004.2.2

def k0_off1924 (v13357 : BitVec 32) : Fin 1 → Nat :=
  let c1703936_i32_6015 : BitVec 32 := 1703936#32
  let c32_i32_6014 : BitVec 32 := 32#32
  let v13358 : BitVec 32 := Scalar.muli v13357 c32_i32_6014
  let v13359 : BitVec 32 := Scalar.addi c1703936_i32_6015 v13358
  let v13360 : BitVec 32 := v13359
  ![v13360.toNat]

def k0_chk1005 (v13357 : BitVec 32) : Prop :=
  (8 ∣ (k0_mult982 v13357).toNat) ∧
  (∀ a, (k0_off1908 v13357) a + S32.size a ≤ S3407872.size a) ∧
  (∀ a, (k0_off1924 v13357) a + S32.size a ≤ S3407872.size a)
theorem k0_mult982_dvd : ∀ (v13357 : BitVec 32) (k0_hw1005 : k0_chk1005 v13357), 8 ∣ (k0_mult982 v13357).toNat := fun v13357 k0_hw1005 => k0_hw1005.1
theorem k0_off1908_inb : ∀ (v13357 : BitVec 32) (k0_hw1005 : k0_chk1005 v13357), ∀ a, (k0_off1908 v13357) a + S32.size a ≤ S3407872.size a := fun v13357 k0_hw1005 => k0_hw1005.2.1
theorem k0_off1924_inb : ∀ (v13357 : BitVec 32) (k0_hw1005 : k0_chk1005 v13357), ∀ a, (k0_off1924 v13357) a + S32.size a ≤ S3407872.size a := fun v13357 k0_hw1005 => k0_hw1005.2.2

def k0_off1925 (v13366 : BitVec 32) : Fin 1 → Nat :=
  let c1703936_i32_6019 : BitVec 32 := 1703936#32
  let c32_i32_6018 : BitVec 32 := 32#32
  let v13367 : BitVec 32 := Scalar.muli v13366 c32_i32_6018
  let v13368 : BitVec 32 := Scalar.addi c1703936_i32_6019 v13367
  let v13369 : BitVec 32 := v13368
  ![v13369.toNat]

def k0_chk1006 (v13366 : BitVec 32) : Prop :=
  (8 ∣ (k0_mult983 v13366).toNat) ∧
  (∀ a, (k0_off1909 v13366) a + S32.size a ≤ S3407872.size a) ∧
  (∀ a, (k0_off1925 v13366) a + S32.size a ≤ S3407872.size a)
theorem k0_mult983_dvd : ∀ (v13366 : BitVec 32) (k0_hw1006 : k0_chk1006 v13366), 8 ∣ (k0_mult983 v13366).toNat := fun v13366 k0_hw1006 => k0_hw1006.1
theorem k0_off1909_inb : ∀ (v13366 : BitVec 32) (k0_hw1006 : k0_chk1006 v13366), ∀ a, (k0_off1909 v13366) a + S32.size a ≤ S3407872.size a := fun v13366 k0_hw1006 => k0_hw1006.2.1
theorem k0_off1925_inb : ∀ (v13366 : BitVec 32) (k0_hw1006 : k0_chk1006 v13366), ∀ a, (k0_off1925 v13366) a + S32.size a ≤ S3407872.size a := fun v13366 k0_hw1006 => k0_hw1006.2.2

def k0_off1926 (v13375 : BitVec 32) : Fin 1 → Nat :=
  let c1703936_i32_6023 : BitVec 32 := 1703936#32
  let c32_i32_6022 : BitVec 32 := 32#32
  let v13376 : BitVec 32 := Scalar.muli v13375 c32_i32_6022
  let v13377 : BitVec 32 := Scalar.addi c1703936_i32_6023 v13376
  let v13378 : BitVec 32 := v13377
  ![v13378.toNat]

def k0_chk1007 (v13375 : BitVec 32) : Prop :=
  (8 ∣ (k0_mult984 v13375).toNat) ∧
  (∀ a, (k0_off1910 v13375) a + S32.size a ≤ S3407872.size a) ∧
  (∀ a, (k0_off1926 v13375) a + S32.size a ≤ S3407872.size a)
theorem k0_mult984_dvd : ∀ (v13375 : BitVec 32) (k0_hw1007 : k0_chk1007 v13375), 8 ∣ (k0_mult984 v13375).toNat := fun v13375 k0_hw1007 => k0_hw1007.1
theorem k0_off1910_inb : ∀ (v13375 : BitVec 32) (k0_hw1007 : k0_chk1007 v13375), ∀ a, (k0_off1910 v13375) a + S32.size a ≤ S3407872.size a := fun v13375 k0_hw1007 => k0_hw1007.2.1
theorem k0_off1926_inb : ∀ (v13375 : BitVec 32) (k0_hw1007 : k0_chk1007 v13375), ∀ a, (k0_off1926 v13375) a + S32.size a ≤ S3407872.size a := fun v13375 k0_hw1007 => k0_hw1007.2.2

def k0_off1927 (v13384 : BitVec 32) : Fin 1 → Nat :=
  let c1703936_i32_6027 : BitVec 32 := 1703936#32
  let c32_i32_6026 : BitVec 32 := 32#32
  let v13385 : BitVec 32 := Scalar.muli v13384 c32_i32_6026
  let v13386 : BitVec 32 := Scalar.addi c1703936_i32_6027 v13385
  let v13387 : BitVec 32 := v13386
  ![v13387.toNat]

def k0_chk1008 (v13384 : BitVec 32) : Prop :=
  (8 ∣ (k0_mult985 v13384).toNat) ∧
  (∀ a, (k0_off1911 v13384) a + S32.size a ≤ S3407872.size a) ∧
  (∀ a, (k0_off1927 v13384) a + S32.size a ≤ S3407872.size a)
theorem k0_mult985_dvd : ∀ (v13384 : BitVec 32) (k0_hw1008 : k0_chk1008 v13384), 8 ∣ (k0_mult985 v13384).toNat := fun v13384 k0_hw1008 => k0_hw1008.1
theorem k0_off1911_inb : ∀ (v13384 : BitVec 32) (k0_hw1008 : k0_chk1008 v13384), ∀ a, (k0_off1911 v13384) a + S32.size a ≤ S3407872.size a := fun v13384 k0_hw1008 => k0_hw1008.2.1
theorem k0_off1927_inb : ∀ (v13384 : BitVec 32) (k0_hw1008 : k0_chk1008 v13384), ∀ a, (k0_off1927 v13384) a + S32.size a ≤ S3407872.size a := fun v13384 k0_hw1008 => k0_hw1008.2.2

def k0_off1928 (v13393 : BitVec 32) : Fin 1 → Nat :=
  let c1703936_i32_6031 : BitVec 32 := 1703936#32
  let c32_i32_6030 : BitVec 32 := 32#32
  let v13394 : BitVec 32 := Scalar.muli v13393 c32_i32_6030
  let v13395 : BitVec 32 := Scalar.addi c1703936_i32_6031 v13394
  let v13396 : BitVec 32 := v13395
  ![v13396.toNat]

def k0_chk1009 (v13393 : BitVec 32) : Prop :=
  (8 ∣ (k0_mult986 v13393).toNat) ∧
  (∀ a, (k0_off1912 v13393) a + S32.size a ≤ S3407872.size a) ∧
  (∀ a, (k0_off1928 v13393) a + S32.size a ≤ S3407872.size a)
theorem k0_mult986_dvd : ∀ (v13393 : BitVec 32) (k0_hw1009 : k0_chk1009 v13393), 8 ∣ (k0_mult986 v13393).toNat := fun v13393 k0_hw1009 => k0_hw1009.1
theorem k0_off1912_inb : ∀ (v13393 : BitVec 32) (k0_hw1009 : k0_chk1009 v13393), ∀ a, (k0_off1912 v13393) a + S32.size a ≤ S3407872.size a := fun v13393 k0_hw1009 => k0_hw1009.2.1
theorem k0_off1928_inb : ∀ (v13393 : BitVec 32) (k0_hw1009 : k0_chk1009 v13393), ∀ a, (k0_off1928 v13393) a + S32.size a ≤ S3407872.size a := fun v13393 k0_hw1009 => k0_hw1009.2.2

def k0_off1929 (v13402 : BitVec 32) : Fin 1 → Nat :=
  let c1703936_i32_6035 : BitVec 32 := 1703936#32
  let c32_i32_6034 : BitVec 32 := 32#32
  let v13403 : BitVec 32 := Scalar.muli v13402 c32_i32_6034
  let v13404 : BitVec 32 := Scalar.addi c1703936_i32_6035 v13403
  let v13405 : BitVec 32 := v13404
  ![v13405.toNat]

def k0_chk1010 (v13402 : BitVec 32) : Prop :=
  (8 ∣ (k0_mult987 v13402).toNat) ∧
  (∀ a, (k0_off1913 v13402) a + S32.size a ≤ S3407872.size a) ∧
  (∀ a, (k0_off1929 v13402) a + S32.size a ≤ S3407872.size a)
theorem k0_mult987_dvd : ∀ (v13402 : BitVec 32) (k0_hw1010 : k0_chk1010 v13402), 8 ∣ (k0_mult987 v13402).toNat := fun v13402 k0_hw1010 => k0_hw1010.1
theorem k0_off1913_inb : ∀ (v13402 : BitVec 32) (k0_hw1010 : k0_chk1010 v13402), ∀ a, (k0_off1913 v13402) a + S32.size a ≤ S3407872.size a := fun v13402 k0_hw1010 => k0_hw1010.2.1
theorem k0_off1929_inb : ∀ (v13402 : BitVec 32) (k0_hw1010 : k0_chk1010 v13402), ∀ a, (k0_off1929 v13402) a + S32.size a ≤ S3407872.size a := fun v13402 k0_hw1010 => k0_hw1010.2.2

def k0_off1930 (v13411 : BitVec 32) : Fin 1 → Nat :=
  let c1703936_i32_6039 : BitVec 32 := 1703936#32
  let c32_i32_6038 : BitVec 32 := 32#32
  let v13412 : BitVec 32 := Scalar.muli v13411 c32_i32_6038
  let v13413 : BitVec 32 := Scalar.addi c1703936_i32_6039 v13412
  let v13414 : BitVec 32 := v13413
  ![v13414.toNat]

def k0_chk1011 (v13411 : BitVec 32) : Prop :=
  (8 ∣ (k0_mult988 v13411).toNat) ∧
  (∀ a, (k0_off1914 v13411) a + S32.size a ≤ S3407872.size a) ∧
  (∀ a, (k0_off1930 v13411) a + S32.size a ≤ S3407872.size a)
theorem k0_mult988_dvd : ∀ (v13411 : BitVec 32) (k0_hw1011 : k0_chk1011 v13411), 8 ∣ (k0_mult988 v13411).toNat := fun v13411 k0_hw1011 => k0_hw1011.1
theorem k0_off1914_inb : ∀ (v13411 : BitVec 32) (k0_hw1011 : k0_chk1011 v13411), ∀ a, (k0_off1914 v13411) a + S32.size a ≤ S3407872.size a := fun v13411 k0_hw1011 => k0_hw1011.2.1
theorem k0_off1930_inb : ∀ (v13411 : BitVec 32) (k0_hw1011 : k0_chk1011 v13411), ∀ a, (k0_off1930 v13411) a + S32.size a ≤ S3407872.size a := fun v13411 k0_hw1011 => k0_hw1011.2.2

def k0_off1931 (v13420 : BitVec 32) : Fin 1 → Nat :=
  let c1703936_i32_6043 : BitVec 32 := 1703936#32
  let c32_i32_6042 : BitVec 32 := 32#32
  let v13421 : BitVec 32 := Scalar.muli v13420 c32_i32_6042
  let v13422 : BitVec 32 := Scalar.addi c1703936_i32_6043 v13421
  let v13423 : BitVec 32 := v13422
  ![v13423.toNat]

def k0_chk1012 (v13420 : BitVec 32) : Prop :=
  (8 ∣ (k0_mult989 v13420).toNat) ∧
  (∀ a, (k0_off1915 v13420) a + S32.size a ≤ S3407872.size a) ∧
  (∀ a, (k0_off1931 v13420) a + S32.size a ≤ S3407872.size a)
theorem k0_mult989_dvd : ∀ (v13420 : BitVec 32) (k0_hw1012 : k0_chk1012 v13420), 8 ∣ (k0_mult989 v13420).toNat := fun v13420 k0_hw1012 => k0_hw1012.1
theorem k0_off1915_inb : ∀ (v13420 : BitVec 32) (k0_hw1012 : k0_chk1012 v13420), ∀ a, (k0_off1915 v13420) a + S32.size a ≤ S3407872.size a := fun v13420 k0_hw1012 => k0_hw1012.2.1
theorem k0_off1931_inb : ∀ (v13420 : BitVec 32) (k0_hw1012 : k0_chk1012 v13420), ∀ a, (k0_off1931 v13420) a + S32.size a ≤ S3407872.size a := fun v13420 k0_hw1012 => k0_hw1012.2.2

def k0_off1932 (v13429 : BitVec 32) : Fin 1 → Nat :=
  let c1703936_i32_6047 : BitVec 32 := 1703936#32
  let c32_i32_6046 : BitVec 32 := 32#32
  let v13430 : BitVec 32 := Scalar.muli v13429 c32_i32_6046
  let v13431 : BitVec 32 := Scalar.addi c1703936_i32_6047 v13430
  let v13432 : BitVec 32 := v13431
  ![v13432.toNat]

def k0_chk1013 (v13429 : BitVec 32) : Prop :=
  (8 ∣ (k0_mult990 v13429).toNat) ∧
  (∀ a, (k0_off1916 v13429) a + S32.size a ≤ S3407872.size a) ∧
  (∀ a, (k0_off1932 v13429) a + S32.size a ≤ S3407872.size a)
theorem k0_mult990_dvd : ∀ (v13429 : BitVec 32) (k0_hw1013 : k0_chk1013 v13429), 8 ∣ (k0_mult990 v13429).toNat := fun v13429 k0_hw1013 => k0_hw1013.1
theorem k0_off1916_inb : ∀ (v13429 : BitVec 32) (k0_hw1013 : k0_chk1013 v13429), ∀ a, (k0_off1916 v13429) a + S32.size a ≤ S3407872.size a := fun v13429 k0_hw1013 => k0_hw1013.2.1
theorem k0_off1932_inb : ∀ (v13429 : BitVec 32) (k0_hw1013 : k0_chk1013 v13429), ∀ a, (k0_off1932 v13429) a + S32.size a ≤ S3407872.size a := fun v13429 k0_hw1013 => k0_hw1013.2.2

def k0_off1933 (v13438 : BitVec 32) : Fin 1 → Nat :=
  let c1703936_i32_6051 : BitVec 32 := 1703936#32
  let c32_i32_6050 : BitVec 32 := 32#32
  let v13439 : BitVec 32 := Scalar.muli v13438 c32_i32_6050
  let v13440 : BitVec 32 := Scalar.addi c1703936_i32_6051 v13439
  let v13441 : BitVec 32 := v13440
  ![v13441.toNat]

def k0_chk1014 (v13438 : BitVec 32) : Prop :=
  (8 ∣ (k0_mult991 v13438).toNat) ∧
  (∀ a, (k0_off1917 v13438) a + S32.size a ≤ S3407872.size a) ∧
  (∀ a, (k0_off1933 v13438) a + S32.size a ≤ S3407872.size a)
theorem k0_mult991_dvd : ∀ (v13438 : BitVec 32) (k0_hw1014 : k0_chk1014 v13438), 8 ∣ (k0_mult991 v13438).toNat := fun v13438 k0_hw1014 => k0_hw1014.1
theorem k0_off1917_inb : ∀ (v13438 : BitVec 32) (k0_hw1014 : k0_chk1014 v13438), ∀ a, (k0_off1917 v13438) a + S32.size a ≤ S3407872.size a := fun v13438 k0_hw1014 => k0_hw1014.2.1
theorem k0_off1933_inb : ∀ (v13438 : BitVec 32) (k0_hw1014 : k0_chk1014 v13438), ∀ a, (k0_off1933 v13438) a + S32.size a ≤ S3407872.size a := fun v13438 k0_hw1014 => k0_hw1014.2.2

def k0_off1934 (v13447 : BitVec 32) : Fin 1 → Nat :=
  let c1703936_i32_6055 : BitVec 32 := 1703936#32
  let c32_i32_6054 : BitVec 32 := 32#32
  let v13448 : BitVec 32 := Scalar.muli v13447 c32_i32_6054
  let v13449 : BitVec 32 := Scalar.addi c1703936_i32_6055 v13448
  let v13450 : BitVec 32 := v13449
  ![v13450.toNat]

def k0_chk1015 (v13447 : BitVec 32) : Prop :=
  (8 ∣ (k0_mult992 v13447).toNat) ∧
  (∀ a, (k0_off1918 v13447) a + S32.size a ≤ S3407872.size a) ∧
  (∀ a, (k0_off1934 v13447) a + S32.size a ≤ S3407872.size a)
theorem k0_mult992_dvd : ∀ (v13447 : BitVec 32) (k0_hw1015 : k0_chk1015 v13447), 8 ∣ (k0_mult992 v13447).toNat := fun v13447 k0_hw1015 => k0_hw1015.1
theorem k0_off1918_inb : ∀ (v13447 : BitVec 32) (k0_hw1015 : k0_chk1015 v13447), ∀ a, (k0_off1918 v13447) a + S32.size a ≤ S3407872.size a := fun v13447 k0_hw1015 => k0_hw1015.2.1
theorem k0_off1934_inb : ∀ (v13447 : BitVec 32) (k0_hw1015 : k0_chk1015 v13447), ∀ a, (k0_off1934 v13447) a + S32.size a ≤ S3407872.size a := fun v13447 k0_hw1015 => k0_hw1015.2.2

def k0_mult994 (v13531 : BitVec 32) : BitVec 32 :=
  let c999936_i32_6096 : BitVec 32 := 999936#32
  let v13532 : BitVec 32 := Scalar.subi v13531 c999936_i32_6096
  let c32_i32_6097 : BitVec 32 := 32#32
  let v13533 : BitVec 32 := Scalar.muli v13532 c32_i32_6097
  v13533

def k0_off1935 (v13531 : BitVec 32) : Fin 1 → Nat :=
  let c999936_i32_6096 : BitVec 32 := 999936#32
  let v13532 : BitVec 32 := Scalar.subi v13531 c999936_i32_6096
  let c32_i32_6097 : BitVec 32 := 32#32
  let v13533 : BitVec 32 := Scalar.muli v13532 c32_i32_6097
  let v13534 : BitVec 32 := v13533
  ![v13534.toNat]
def k0_mult995 (v13540 : BitVec 32) : BitVec 32 :=
  let c999936_i32_6100 : BitVec 32 := 999936#32
  let v13541 : BitVec 32 := Scalar.subi v13540 c999936_i32_6100
  let c32_i32_6101 : BitVec 32 := 32#32
  let v13542 : BitVec 32 := Scalar.muli v13541 c32_i32_6101
  v13542

def k0_off1936 (v13540 : BitVec 32) : Fin 1 → Nat :=
  let c999936_i32_6100 : BitVec 32 := 999936#32
  let v13541 : BitVec 32 := Scalar.subi v13540 c999936_i32_6100
  let c32_i32_6101 : BitVec 32 := 32#32
  let v13542 : BitVec 32 := Scalar.muli v13541 c32_i32_6101
  let v13543 : BitVec 32 := v13542
  ![v13543.toNat]
def k0_mult996 (v13549 : BitVec 32) : BitVec 32 :=
  let c999936_i32_6104 : BitVec 32 := 999936#32
  let v13550 : BitVec 32 := Scalar.subi v13549 c999936_i32_6104
  let c32_i32_6105 : BitVec 32 := 32#32
  let v13551 : BitVec 32 := Scalar.muli v13550 c32_i32_6105
  v13551

def k0_off1937 (v13549 : BitVec 32) : Fin 1 → Nat :=
  let c999936_i32_6104 : BitVec 32 := 999936#32
  let v13550 : BitVec 32 := Scalar.subi v13549 c999936_i32_6104
  let c32_i32_6105 : BitVec 32 := 32#32
  let v13551 : BitVec 32 := Scalar.muli v13550 c32_i32_6105
  let v13552 : BitVec 32 := v13551
  ![v13552.toNat]
def k0_mult997 (v13558 : BitVec 32) : BitVec 32 :=
  let c999936_i32_6108 : BitVec 32 := 999936#32
  let v13559 : BitVec 32 := Scalar.subi v13558 c999936_i32_6108
  let c32_i32_6109 : BitVec 32 := 32#32
  let v13560 : BitVec 32 := Scalar.muli v13559 c32_i32_6109
  v13560

def k0_off1938 (v13558 : BitVec 32) : Fin 1 → Nat :=
  let c999936_i32_6108 : BitVec 32 := 999936#32
  let v13559 : BitVec 32 := Scalar.subi v13558 c999936_i32_6108
  let c32_i32_6109 : BitVec 32 := 32#32
  let v13560 : BitVec 32 := Scalar.muli v13559 c32_i32_6109
  let v13561 : BitVec 32 := v13560
  ![v13561.toNat]
def k0_mult998 (v13567 : BitVec 32) : BitVec 32 :=
  let c999936_i32_6112 : BitVec 32 := 999936#32
  let v13568 : BitVec 32 := Scalar.subi v13567 c999936_i32_6112
  let c32_i32_6113 : BitVec 32 := 32#32
  let v13569 : BitVec 32 := Scalar.muli v13568 c32_i32_6113
  v13569

def k0_off1939 (v13567 : BitVec 32) : Fin 1 → Nat :=
  let c999936_i32_6112 : BitVec 32 := 999936#32
  let v13568 : BitVec 32 := Scalar.subi v13567 c999936_i32_6112
  let c32_i32_6113 : BitVec 32 := 32#32
  let v13569 : BitVec 32 := Scalar.muli v13568 c32_i32_6113
  let v13570 : BitVec 32 := v13569
  ![v13570.toNat]
def k0_mult999 (v13576 : BitVec 32) : BitVec 32 :=
  let c999936_i32_6116 : BitVec 32 := 999936#32
  let v13577 : BitVec 32 := Scalar.subi v13576 c999936_i32_6116
  let c32_i32_6117 : BitVec 32 := 32#32
  let v13578 : BitVec 32 := Scalar.muli v13577 c32_i32_6117
  v13578

def k0_off1940 (v13576 : BitVec 32) : Fin 1 → Nat :=
  let c999936_i32_6116 : BitVec 32 := 999936#32
  let v13577 : BitVec 32 := Scalar.subi v13576 c999936_i32_6116
  let c32_i32_6117 : BitVec 32 := 32#32
  let v13578 : BitVec 32 := Scalar.muli v13577 c32_i32_6117
  let v13579 : BitVec 32 := v13578
  ![v13579.toNat]
def k0_mult1000 (v13585 : BitVec 32) : BitVec 32 :=
  let c999936_i32_6120 : BitVec 32 := 999936#32
  let v13586 : BitVec 32 := Scalar.subi v13585 c999936_i32_6120
  let c32_i32_6121 : BitVec 32 := 32#32
  let v13587 : BitVec 32 := Scalar.muli v13586 c32_i32_6121
  v13587

def k0_off1941 (v13585 : BitVec 32) : Fin 1 → Nat :=
  let c999936_i32_6120 : BitVec 32 := 999936#32
  let v13586 : BitVec 32 := Scalar.subi v13585 c999936_i32_6120
  let c32_i32_6121 : BitVec 32 := 32#32
  let v13587 : BitVec 32 := Scalar.muli v13586 c32_i32_6121
  let v13588 : BitVec 32 := v13587
  ![v13588.toNat]
def k0_mult1001 (v13594 : BitVec 32) : BitVec 32 :=
  let c999936_i32_6124 : BitVec 32 := 999936#32
  let v13595 : BitVec 32 := Scalar.subi v13594 c999936_i32_6124
  let c32_i32_6125 : BitVec 32 := 32#32
  let v13596 : BitVec 32 := Scalar.muli v13595 c32_i32_6125
  v13596

def k0_off1942 (v13594 : BitVec 32) : Fin 1 → Nat :=
  let c999936_i32_6124 : BitVec 32 := 999936#32
  let v13595 : BitVec 32 := Scalar.subi v13594 c999936_i32_6124
  let c32_i32_6125 : BitVec 32 := 32#32
  let v13596 : BitVec 32 := Scalar.muli v13595 c32_i32_6125
  let v13597 : BitVec 32 := v13596
  ![v13597.toNat]
def k0_mult1002 (v13603 : BitVec 32) : BitVec 32 :=
  let c999936_i32_6128 : BitVec 32 := 999936#32
  let v13604 : BitVec 32 := Scalar.subi v13603 c999936_i32_6128
  let c32_i32_6129 : BitVec 32 := 32#32
  let v13605 : BitVec 32 := Scalar.muli v13604 c32_i32_6129
  v13605

def k0_off1943 (v13603 : BitVec 32) : Fin 1 → Nat :=
  let c999936_i32_6128 : BitVec 32 := 999936#32
  let v13604 : BitVec 32 := Scalar.subi v13603 c999936_i32_6128
  let c32_i32_6129 : BitVec 32 := 32#32
  let v13605 : BitVec 32 := Scalar.muli v13604 c32_i32_6129
  let v13606 : BitVec 32 := v13605
  ![v13606.toNat]
def k0_mult1003 (v13612 : BitVec 32) : BitVec 32 :=
  let c999936_i32_6132 : BitVec 32 := 999936#32
  let v13613 : BitVec 32 := Scalar.subi v13612 c999936_i32_6132
  let c32_i32_6133 : BitVec 32 := 32#32
  let v13614 : BitVec 32 := Scalar.muli v13613 c32_i32_6133
  v13614

def k0_off1944 (v13612 : BitVec 32) : Fin 1 → Nat :=
  let c999936_i32_6132 : BitVec 32 := 999936#32
  let v13613 : BitVec 32 := Scalar.subi v13612 c999936_i32_6132
  let c32_i32_6133 : BitVec 32 := 32#32
  let v13614 : BitVec 32 := Scalar.muli v13613 c32_i32_6133
  let v13615 : BitVec 32 := v13614
  ![v13615.toNat]
def k0_mult1004 (v13621 : BitVec 32) : BitVec 32 :=
  let c999936_i32_6136 : BitVec 32 := 999936#32
  let v13622 : BitVec 32 := Scalar.subi v13621 c999936_i32_6136
  let c32_i32_6137 : BitVec 32 := 32#32
  let v13623 : BitVec 32 := Scalar.muli v13622 c32_i32_6137
  v13623

def k0_off1945 (v13621 : BitVec 32) : Fin 1 → Nat :=
  let c999936_i32_6136 : BitVec 32 := 999936#32
  let v13622 : BitVec 32 := Scalar.subi v13621 c999936_i32_6136
  let c32_i32_6137 : BitVec 32 := 32#32
  let v13623 : BitVec 32 := Scalar.muli v13622 c32_i32_6137
  let v13624 : BitVec 32 := v13623
  ![v13624.toNat]
def k0_mult1005 (v13630 : BitVec 32) : BitVec 32 :=
  let c999936_i32_6140 : BitVec 32 := 999936#32
  let v13631 : BitVec 32 := Scalar.subi v13630 c999936_i32_6140
  let c32_i32_6141 : BitVec 32 := 32#32
  let v13632 : BitVec 32 := Scalar.muli v13631 c32_i32_6141
  v13632

def k0_off1946 (v13630 : BitVec 32) : Fin 1 → Nat :=
  let c999936_i32_6140 : BitVec 32 := 999936#32
  let v13631 : BitVec 32 := Scalar.subi v13630 c999936_i32_6140
  let c32_i32_6141 : BitVec 32 := 32#32
  let v13632 : BitVec 32 := Scalar.muli v13631 c32_i32_6141
  let v13633 : BitVec 32 := v13632
  ![v13633.toNat]
def k0_mult1006 (v13639 : BitVec 32) : BitVec 32 :=
  let c999936_i32_6144 : BitVec 32 := 999936#32
  let v13640 : BitVec 32 := Scalar.subi v13639 c999936_i32_6144
  let c32_i32_6145 : BitVec 32 := 32#32
  let v13641 : BitVec 32 := Scalar.muli v13640 c32_i32_6145
  v13641

def k0_off1947 (v13639 : BitVec 32) : Fin 1 → Nat :=
  let c999936_i32_6144 : BitVec 32 := 999936#32
  let v13640 : BitVec 32 := Scalar.subi v13639 c999936_i32_6144
  let c32_i32_6145 : BitVec 32 := 32#32
  let v13641 : BitVec 32 := Scalar.muli v13640 c32_i32_6145
  let v13642 : BitVec 32 := v13641
  ![v13642.toNat]
def k0_mult1007 (v13648 : BitVec 32) : BitVec 32 :=
  let c999936_i32_6148 : BitVec 32 := 999936#32
  let v13649 : BitVec 32 := Scalar.subi v13648 c999936_i32_6148
  let c32_i32_6149 : BitVec 32 := 32#32
  let v13650 : BitVec 32 := Scalar.muli v13649 c32_i32_6149
  v13650

def k0_off1948 (v13648 : BitVec 32) : Fin 1 → Nat :=
  let c999936_i32_6148 : BitVec 32 := 999936#32
  let v13649 : BitVec 32 := Scalar.subi v13648 c999936_i32_6148
  let c32_i32_6149 : BitVec 32 := 32#32
  let v13650 : BitVec 32 := Scalar.muli v13649 c32_i32_6149
  let v13651 : BitVec 32 := v13650
  ![v13651.toNat]
def k0_mult1008 (v13657 : BitVec 32) : BitVec 32 :=
  let c999936_i32_6152 : BitVec 32 := 999936#32
  let v13658 : BitVec 32 := Scalar.subi v13657 c999936_i32_6152
  let c32_i32_6153 : BitVec 32 := 32#32
  let v13659 : BitVec 32 := Scalar.muli v13658 c32_i32_6153
  v13659

def k0_off1949 (v13657 : BitVec 32) : Fin 1 → Nat :=
  let c999936_i32_6152 : BitVec 32 := 999936#32
  let v13658 : BitVec 32 := Scalar.subi v13657 c999936_i32_6152
  let c32_i32_6153 : BitVec 32 := 32#32
  let v13659 : BitVec 32 := Scalar.muli v13658 c32_i32_6153
  let v13660 : BitVec 32 := v13659
  ![v13660.toNat]
def k0_mult1009 (v13666 : BitVec 32) : BitVec 32 :=
  let c999936_i32_6156 : BitVec 32 := 999936#32
  let v13667 : BitVec 32 := Scalar.subi v13666 c999936_i32_6156
  let c32_i32_6157 : BitVec 32 := 32#32
  let v13668 : BitVec 32 := Scalar.muli v13667 c32_i32_6157
  v13668

def k0_off1950 (v13666 : BitVec 32) : Fin 1 → Nat :=
  let c999936_i32_6156 : BitVec 32 := 999936#32
  let v13667 : BitVec 32 := Scalar.subi v13666 c999936_i32_6156
  let c32_i32_6157 : BitVec 32 := 32#32
  let v13668 : BitVec 32 := Scalar.muli v13667 c32_i32_6157
  let v13669 : BitVec 32 := v13668
  ![v13669.toNat]

def k0_chk1032 (v13666 : BitVec 32) : Prop :=
  (8 ∣ (k0_mult1009 v13666).toNat) ∧
  (∀ a, (k0_off1950 v13666) a + S32.size a ≤ S2048.size a)
theorem k0_mult1009_dvd : ∀ (v13666 : BitVec 32) (k0_hw1032 : k0_chk1032 v13666), 8 ∣ (k0_mult1009 v13666).toNat := fun v13666 k0_hw1032 => k0_hw1032.1
theorem k0_off1950_inb : ∀ (v13666 : BitVec 32) (k0_hw1032 : k0_chk1032 v13666), ∀ a, (k0_off1950 v13666) a + S32.size a ≤ S2048.size a := fun v13666 k0_hw1032 => k0_hw1032.2

def k0_off1951 (v13531 : BitVec 32) : Fin 1 → Nat :=
  let c999936_i32_6096 : BitVec 32 := 999936#32
  let v13532 : BitVec 32 := Scalar.subi v13531 c999936_i32_6096
  let c32_i32_6097 : BitVec 32 := 32#32
  let v13533 : BitVec 32 := Scalar.muli v13532 c32_i32_6097
  let v13534 : BitVec 32 := v13533
  ![v13534.toNat]

def k0_chk1017 (v13531 : BitVec 32) : Prop :=
  (8 ∣ (k0_mult994 v13531).toNat) ∧
  (∀ a, (k0_off1935 v13531) a + S32.size a ≤ S2048.size a) ∧
  (∀ a, (k0_off1951 v13531) a + S32.size a ≤ S2048.size a)
theorem k0_mult994_dvd : ∀ (v13531 : BitVec 32) (k0_hw1017 : k0_chk1017 v13531), 8 ∣ (k0_mult994 v13531).toNat := fun v13531 k0_hw1017 => k0_hw1017.1
theorem k0_off1935_inb : ∀ (v13531 : BitVec 32) (k0_hw1017 : k0_chk1017 v13531), ∀ a, (k0_off1935 v13531) a + S32.size a ≤ S2048.size a := fun v13531 k0_hw1017 => k0_hw1017.2.1
theorem k0_off1951_inb : ∀ (v13531 : BitVec 32) (k0_hw1017 : k0_chk1017 v13531), ∀ a, (k0_off1951 v13531) a + S32.size a ≤ S2048.size a := fun v13531 k0_hw1017 => k0_hw1017.2.2

def k0_off1952 (v13540 : BitVec 32) : Fin 1 → Nat :=
  let c999936_i32_6100 : BitVec 32 := 999936#32
  let v13541 : BitVec 32 := Scalar.subi v13540 c999936_i32_6100
  let c32_i32_6101 : BitVec 32 := 32#32
  let v13542 : BitVec 32 := Scalar.muli v13541 c32_i32_6101
  let v13543 : BitVec 32 := v13542
  ![v13543.toNat]

def k0_chk1018 (v13540 : BitVec 32) : Prop :=
  (8 ∣ (k0_mult995 v13540).toNat) ∧
  (∀ a, (k0_off1936 v13540) a + S32.size a ≤ S2048.size a) ∧
  (∀ a, (k0_off1952 v13540) a + S32.size a ≤ S2048.size a)
theorem k0_mult995_dvd : ∀ (v13540 : BitVec 32) (k0_hw1018 : k0_chk1018 v13540), 8 ∣ (k0_mult995 v13540).toNat := fun v13540 k0_hw1018 => k0_hw1018.1
theorem k0_off1936_inb : ∀ (v13540 : BitVec 32) (k0_hw1018 : k0_chk1018 v13540), ∀ a, (k0_off1936 v13540) a + S32.size a ≤ S2048.size a := fun v13540 k0_hw1018 => k0_hw1018.2.1
theorem k0_off1952_inb : ∀ (v13540 : BitVec 32) (k0_hw1018 : k0_chk1018 v13540), ∀ a, (k0_off1952 v13540) a + S32.size a ≤ S2048.size a := fun v13540 k0_hw1018 => k0_hw1018.2.2

def k0_off1953 (v13549 : BitVec 32) : Fin 1 → Nat :=
  let c999936_i32_6104 : BitVec 32 := 999936#32
  let v13550 : BitVec 32 := Scalar.subi v13549 c999936_i32_6104
  let c32_i32_6105 : BitVec 32 := 32#32
  let v13551 : BitVec 32 := Scalar.muli v13550 c32_i32_6105
  let v13552 : BitVec 32 := v13551
  ![v13552.toNat]

def k0_chk1019 (v13549 : BitVec 32) : Prop :=
  (8 ∣ (k0_mult996 v13549).toNat) ∧
  (∀ a, (k0_off1937 v13549) a + S32.size a ≤ S2048.size a) ∧
  (∀ a, (k0_off1953 v13549) a + S32.size a ≤ S2048.size a)
theorem k0_mult996_dvd : ∀ (v13549 : BitVec 32) (k0_hw1019 : k0_chk1019 v13549), 8 ∣ (k0_mult996 v13549).toNat := fun v13549 k0_hw1019 => k0_hw1019.1
theorem k0_off1937_inb : ∀ (v13549 : BitVec 32) (k0_hw1019 : k0_chk1019 v13549), ∀ a, (k0_off1937 v13549) a + S32.size a ≤ S2048.size a := fun v13549 k0_hw1019 => k0_hw1019.2.1
theorem k0_off1953_inb : ∀ (v13549 : BitVec 32) (k0_hw1019 : k0_chk1019 v13549), ∀ a, (k0_off1953 v13549) a + S32.size a ≤ S2048.size a := fun v13549 k0_hw1019 => k0_hw1019.2.2

def k0_off1954 (v13558 : BitVec 32) : Fin 1 → Nat :=
  let c999936_i32_6108 : BitVec 32 := 999936#32
  let v13559 : BitVec 32 := Scalar.subi v13558 c999936_i32_6108
  let c32_i32_6109 : BitVec 32 := 32#32
  let v13560 : BitVec 32 := Scalar.muli v13559 c32_i32_6109
  let v13561 : BitVec 32 := v13560
  ![v13561.toNat]

def k0_chk1020 (v13558 : BitVec 32) : Prop :=
  (8 ∣ (k0_mult997 v13558).toNat) ∧
  (∀ a, (k0_off1938 v13558) a + S32.size a ≤ S2048.size a) ∧
  (∀ a, (k0_off1954 v13558) a + S32.size a ≤ S2048.size a)
theorem k0_mult997_dvd : ∀ (v13558 : BitVec 32) (k0_hw1020 : k0_chk1020 v13558), 8 ∣ (k0_mult997 v13558).toNat := fun v13558 k0_hw1020 => k0_hw1020.1
theorem k0_off1938_inb : ∀ (v13558 : BitVec 32) (k0_hw1020 : k0_chk1020 v13558), ∀ a, (k0_off1938 v13558) a + S32.size a ≤ S2048.size a := fun v13558 k0_hw1020 => k0_hw1020.2.1
theorem k0_off1954_inb : ∀ (v13558 : BitVec 32) (k0_hw1020 : k0_chk1020 v13558), ∀ a, (k0_off1954 v13558) a + S32.size a ≤ S2048.size a := fun v13558 k0_hw1020 => k0_hw1020.2.2

def k0_off1955 (v13567 : BitVec 32) : Fin 1 → Nat :=
  let c999936_i32_6112 : BitVec 32 := 999936#32
  let v13568 : BitVec 32 := Scalar.subi v13567 c999936_i32_6112
  let c32_i32_6113 : BitVec 32 := 32#32
  let v13569 : BitVec 32 := Scalar.muli v13568 c32_i32_6113
  let v13570 : BitVec 32 := v13569
  ![v13570.toNat]

def k0_chk1021 (v13567 : BitVec 32) : Prop :=
  (8 ∣ (k0_mult998 v13567).toNat) ∧
  (∀ a, (k0_off1939 v13567) a + S32.size a ≤ S2048.size a) ∧
  (∀ a, (k0_off1955 v13567) a + S32.size a ≤ S2048.size a)
theorem k0_mult998_dvd : ∀ (v13567 : BitVec 32) (k0_hw1021 : k0_chk1021 v13567), 8 ∣ (k0_mult998 v13567).toNat := fun v13567 k0_hw1021 => k0_hw1021.1
theorem k0_off1939_inb : ∀ (v13567 : BitVec 32) (k0_hw1021 : k0_chk1021 v13567), ∀ a, (k0_off1939 v13567) a + S32.size a ≤ S2048.size a := fun v13567 k0_hw1021 => k0_hw1021.2.1
theorem k0_off1955_inb : ∀ (v13567 : BitVec 32) (k0_hw1021 : k0_chk1021 v13567), ∀ a, (k0_off1955 v13567) a + S32.size a ≤ S2048.size a := fun v13567 k0_hw1021 => k0_hw1021.2.2

def k0_off1956 (v13576 : BitVec 32) : Fin 1 → Nat :=
  let c999936_i32_6116 : BitVec 32 := 999936#32
  let v13577 : BitVec 32 := Scalar.subi v13576 c999936_i32_6116
  let c32_i32_6117 : BitVec 32 := 32#32
  let v13578 : BitVec 32 := Scalar.muli v13577 c32_i32_6117
  let v13579 : BitVec 32 := v13578
  ![v13579.toNat]

def k0_chk1022 (v13576 : BitVec 32) : Prop :=
  (8 ∣ (k0_mult999 v13576).toNat) ∧
  (∀ a, (k0_off1940 v13576) a + S32.size a ≤ S2048.size a) ∧
  (∀ a, (k0_off1956 v13576) a + S32.size a ≤ S2048.size a)
theorem k0_mult999_dvd : ∀ (v13576 : BitVec 32) (k0_hw1022 : k0_chk1022 v13576), 8 ∣ (k0_mult999 v13576).toNat := fun v13576 k0_hw1022 => k0_hw1022.1
theorem k0_off1940_inb : ∀ (v13576 : BitVec 32) (k0_hw1022 : k0_chk1022 v13576), ∀ a, (k0_off1940 v13576) a + S32.size a ≤ S2048.size a := fun v13576 k0_hw1022 => k0_hw1022.2.1
theorem k0_off1956_inb : ∀ (v13576 : BitVec 32) (k0_hw1022 : k0_chk1022 v13576), ∀ a, (k0_off1956 v13576) a + S32.size a ≤ S2048.size a := fun v13576 k0_hw1022 => k0_hw1022.2.2

def k0_off1957 (v13585 : BitVec 32) : Fin 1 → Nat :=
  let c999936_i32_6120 : BitVec 32 := 999936#32
  let v13586 : BitVec 32 := Scalar.subi v13585 c999936_i32_6120
  let c32_i32_6121 : BitVec 32 := 32#32
  let v13587 : BitVec 32 := Scalar.muli v13586 c32_i32_6121
  let v13588 : BitVec 32 := v13587
  ![v13588.toNat]

def k0_chk1023 (v13585 : BitVec 32) : Prop :=
  (8 ∣ (k0_mult1000 v13585).toNat) ∧
  (∀ a, (k0_off1941 v13585) a + S32.size a ≤ S2048.size a) ∧
  (∀ a, (k0_off1957 v13585) a + S32.size a ≤ S2048.size a)
theorem k0_mult1000_dvd : ∀ (v13585 : BitVec 32) (k0_hw1023 : k0_chk1023 v13585), 8 ∣ (k0_mult1000 v13585).toNat := fun v13585 k0_hw1023 => k0_hw1023.1
theorem k0_off1941_inb : ∀ (v13585 : BitVec 32) (k0_hw1023 : k0_chk1023 v13585), ∀ a, (k0_off1941 v13585) a + S32.size a ≤ S2048.size a := fun v13585 k0_hw1023 => k0_hw1023.2.1
theorem k0_off1957_inb : ∀ (v13585 : BitVec 32) (k0_hw1023 : k0_chk1023 v13585), ∀ a, (k0_off1957 v13585) a + S32.size a ≤ S2048.size a := fun v13585 k0_hw1023 => k0_hw1023.2.2

def k0_off1958 (v13594 : BitVec 32) : Fin 1 → Nat :=
  let c999936_i32_6124 : BitVec 32 := 999936#32
  let v13595 : BitVec 32 := Scalar.subi v13594 c999936_i32_6124
  let c32_i32_6125 : BitVec 32 := 32#32
  let v13596 : BitVec 32 := Scalar.muli v13595 c32_i32_6125
  let v13597 : BitVec 32 := v13596
  ![v13597.toNat]

def k0_chk1024 (v13594 : BitVec 32) : Prop :=
  (8 ∣ (k0_mult1001 v13594).toNat) ∧
  (∀ a, (k0_off1942 v13594) a + S32.size a ≤ S2048.size a) ∧
  (∀ a, (k0_off1958 v13594) a + S32.size a ≤ S2048.size a)
theorem k0_mult1001_dvd : ∀ (v13594 : BitVec 32) (k0_hw1024 : k0_chk1024 v13594), 8 ∣ (k0_mult1001 v13594).toNat := fun v13594 k0_hw1024 => k0_hw1024.1
theorem k0_off1942_inb : ∀ (v13594 : BitVec 32) (k0_hw1024 : k0_chk1024 v13594), ∀ a, (k0_off1942 v13594) a + S32.size a ≤ S2048.size a := fun v13594 k0_hw1024 => k0_hw1024.2.1
theorem k0_off1958_inb : ∀ (v13594 : BitVec 32) (k0_hw1024 : k0_chk1024 v13594), ∀ a, (k0_off1958 v13594) a + S32.size a ≤ S2048.size a := fun v13594 k0_hw1024 => k0_hw1024.2.2

def k0_off1959 (v13603 : BitVec 32) : Fin 1 → Nat :=
  let c999936_i32_6128 : BitVec 32 := 999936#32
  let v13604 : BitVec 32 := Scalar.subi v13603 c999936_i32_6128
  let c32_i32_6129 : BitVec 32 := 32#32
  let v13605 : BitVec 32 := Scalar.muli v13604 c32_i32_6129
  let v13606 : BitVec 32 := v13605
  ![v13606.toNat]

def k0_chk1025 (v13603 : BitVec 32) : Prop :=
  (8 ∣ (k0_mult1002 v13603).toNat) ∧
  (∀ a, (k0_off1943 v13603) a + S32.size a ≤ S2048.size a) ∧
  (∀ a, (k0_off1959 v13603) a + S32.size a ≤ S2048.size a)
theorem k0_mult1002_dvd : ∀ (v13603 : BitVec 32) (k0_hw1025 : k0_chk1025 v13603), 8 ∣ (k0_mult1002 v13603).toNat := fun v13603 k0_hw1025 => k0_hw1025.1
theorem k0_off1943_inb : ∀ (v13603 : BitVec 32) (k0_hw1025 : k0_chk1025 v13603), ∀ a, (k0_off1943 v13603) a + S32.size a ≤ S2048.size a := fun v13603 k0_hw1025 => k0_hw1025.2.1
theorem k0_off1959_inb : ∀ (v13603 : BitVec 32) (k0_hw1025 : k0_chk1025 v13603), ∀ a, (k0_off1959 v13603) a + S32.size a ≤ S2048.size a := fun v13603 k0_hw1025 => k0_hw1025.2.2

def k0_off1960 (v13612 : BitVec 32) : Fin 1 → Nat :=
  let c999936_i32_6132 : BitVec 32 := 999936#32
  let v13613 : BitVec 32 := Scalar.subi v13612 c999936_i32_6132
  let c32_i32_6133 : BitVec 32 := 32#32
  let v13614 : BitVec 32 := Scalar.muli v13613 c32_i32_6133
  let v13615 : BitVec 32 := v13614
  ![v13615.toNat]

def k0_chk1026 (v13612 : BitVec 32) : Prop :=
  (8 ∣ (k0_mult1003 v13612).toNat) ∧
  (∀ a, (k0_off1944 v13612) a + S32.size a ≤ S2048.size a) ∧
  (∀ a, (k0_off1960 v13612) a + S32.size a ≤ S2048.size a)
theorem k0_mult1003_dvd : ∀ (v13612 : BitVec 32) (k0_hw1026 : k0_chk1026 v13612), 8 ∣ (k0_mult1003 v13612).toNat := fun v13612 k0_hw1026 => k0_hw1026.1
theorem k0_off1944_inb : ∀ (v13612 : BitVec 32) (k0_hw1026 : k0_chk1026 v13612), ∀ a, (k0_off1944 v13612) a + S32.size a ≤ S2048.size a := fun v13612 k0_hw1026 => k0_hw1026.2.1
theorem k0_off1960_inb : ∀ (v13612 : BitVec 32) (k0_hw1026 : k0_chk1026 v13612), ∀ a, (k0_off1960 v13612) a + S32.size a ≤ S2048.size a := fun v13612 k0_hw1026 => k0_hw1026.2.2

def k0_off1961 (v13621 : BitVec 32) : Fin 1 → Nat :=
  let c999936_i32_6136 : BitVec 32 := 999936#32
  let v13622 : BitVec 32 := Scalar.subi v13621 c999936_i32_6136
  let c32_i32_6137 : BitVec 32 := 32#32
  let v13623 : BitVec 32 := Scalar.muli v13622 c32_i32_6137
  let v13624 : BitVec 32 := v13623
  ![v13624.toNat]

def k0_chk1027 (v13621 : BitVec 32) : Prop :=
  (8 ∣ (k0_mult1004 v13621).toNat) ∧
  (∀ a, (k0_off1945 v13621) a + S32.size a ≤ S2048.size a) ∧
  (∀ a, (k0_off1961 v13621) a + S32.size a ≤ S2048.size a)
theorem k0_mult1004_dvd : ∀ (v13621 : BitVec 32) (k0_hw1027 : k0_chk1027 v13621), 8 ∣ (k0_mult1004 v13621).toNat := fun v13621 k0_hw1027 => k0_hw1027.1
theorem k0_off1945_inb : ∀ (v13621 : BitVec 32) (k0_hw1027 : k0_chk1027 v13621), ∀ a, (k0_off1945 v13621) a + S32.size a ≤ S2048.size a := fun v13621 k0_hw1027 => k0_hw1027.2.1
theorem k0_off1961_inb : ∀ (v13621 : BitVec 32) (k0_hw1027 : k0_chk1027 v13621), ∀ a, (k0_off1961 v13621) a + S32.size a ≤ S2048.size a := fun v13621 k0_hw1027 => k0_hw1027.2.2

def k0_off1962 (v13630 : BitVec 32) : Fin 1 → Nat :=
  let c999936_i32_6140 : BitVec 32 := 999936#32
  let v13631 : BitVec 32 := Scalar.subi v13630 c999936_i32_6140
  let c32_i32_6141 : BitVec 32 := 32#32
  let v13632 : BitVec 32 := Scalar.muli v13631 c32_i32_6141
  let v13633 : BitVec 32 := v13632
  ![v13633.toNat]

def k0_chk1028 (v13630 : BitVec 32) : Prop :=
  (8 ∣ (k0_mult1005 v13630).toNat) ∧
  (∀ a, (k0_off1946 v13630) a + S32.size a ≤ S2048.size a) ∧
  (∀ a, (k0_off1962 v13630) a + S32.size a ≤ S2048.size a)
theorem k0_mult1005_dvd : ∀ (v13630 : BitVec 32) (k0_hw1028 : k0_chk1028 v13630), 8 ∣ (k0_mult1005 v13630).toNat := fun v13630 k0_hw1028 => k0_hw1028.1
theorem k0_off1946_inb : ∀ (v13630 : BitVec 32) (k0_hw1028 : k0_chk1028 v13630), ∀ a, (k0_off1946 v13630) a + S32.size a ≤ S2048.size a := fun v13630 k0_hw1028 => k0_hw1028.2.1
theorem k0_off1962_inb : ∀ (v13630 : BitVec 32) (k0_hw1028 : k0_chk1028 v13630), ∀ a, (k0_off1962 v13630) a + S32.size a ≤ S2048.size a := fun v13630 k0_hw1028 => k0_hw1028.2.2

def k0_off1963 (v13639 : BitVec 32) : Fin 1 → Nat :=
  let c999936_i32_6144 : BitVec 32 := 999936#32
  let v13640 : BitVec 32 := Scalar.subi v13639 c999936_i32_6144
  let c32_i32_6145 : BitVec 32 := 32#32
  let v13641 : BitVec 32 := Scalar.muli v13640 c32_i32_6145
  let v13642 : BitVec 32 := v13641
  ![v13642.toNat]

def k0_chk1029 (v13639 : BitVec 32) : Prop :=
  (8 ∣ (k0_mult1006 v13639).toNat) ∧
  (∀ a, (k0_off1947 v13639) a + S32.size a ≤ S2048.size a) ∧
  (∀ a, (k0_off1963 v13639) a + S32.size a ≤ S2048.size a)
theorem k0_mult1006_dvd : ∀ (v13639 : BitVec 32) (k0_hw1029 : k0_chk1029 v13639), 8 ∣ (k0_mult1006 v13639).toNat := fun v13639 k0_hw1029 => k0_hw1029.1
theorem k0_off1947_inb : ∀ (v13639 : BitVec 32) (k0_hw1029 : k0_chk1029 v13639), ∀ a, (k0_off1947 v13639) a + S32.size a ≤ S2048.size a := fun v13639 k0_hw1029 => k0_hw1029.2.1
theorem k0_off1963_inb : ∀ (v13639 : BitVec 32) (k0_hw1029 : k0_chk1029 v13639), ∀ a, (k0_off1963 v13639) a + S32.size a ≤ S2048.size a := fun v13639 k0_hw1029 => k0_hw1029.2.2

def k0_off1964 (v13648 : BitVec 32) : Fin 1 → Nat :=
  let c999936_i32_6148 : BitVec 32 := 999936#32
  let v13649 : BitVec 32 := Scalar.subi v13648 c999936_i32_6148
  let c32_i32_6149 : BitVec 32 := 32#32
  let v13650 : BitVec 32 := Scalar.muli v13649 c32_i32_6149
  let v13651 : BitVec 32 := v13650
  ![v13651.toNat]

def k0_chk1030 (v13648 : BitVec 32) : Prop :=
  (8 ∣ (k0_mult1007 v13648).toNat) ∧
  (∀ a, (k0_off1948 v13648) a + S32.size a ≤ S2048.size a) ∧
  (∀ a, (k0_off1964 v13648) a + S32.size a ≤ S2048.size a)
theorem k0_mult1007_dvd : ∀ (v13648 : BitVec 32) (k0_hw1030 : k0_chk1030 v13648), 8 ∣ (k0_mult1007 v13648).toNat := fun v13648 k0_hw1030 => k0_hw1030.1
theorem k0_off1948_inb : ∀ (v13648 : BitVec 32) (k0_hw1030 : k0_chk1030 v13648), ∀ a, (k0_off1948 v13648) a + S32.size a ≤ S2048.size a := fun v13648 k0_hw1030 => k0_hw1030.2.1
theorem k0_off1964_inb : ∀ (v13648 : BitVec 32) (k0_hw1030 : k0_chk1030 v13648), ∀ a, (k0_off1964 v13648) a + S32.size a ≤ S2048.size a := fun v13648 k0_hw1030 => k0_hw1030.2.2

def k0_off1965 (v13657 : BitVec 32) : Fin 1 → Nat :=
  let c999936_i32_6152 : BitVec 32 := 999936#32
  let v13658 : BitVec 32 := Scalar.subi v13657 c999936_i32_6152
  let c32_i32_6153 : BitVec 32 := 32#32
  let v13659 : BitVec 32 := Scalar.muli v13658 c32_i32_6153
  let v13660 : BitVec 32 := v13659
  ![v13660.toNat]

def k0_chk1031 (v13657 : BitVec 32) : Prop :=
  (8 ∣ (k0_mult1008 v13657).toNat) ∧
  (∀ a, (k0_off1949 v13657) a + S32.size a ≤ S2048.size a) ∧
  (∀ a, (k0_off1965 v13657) a + S32.size a ≤ S2048.size a)
theorem k0_mult1008_dvd : ∀ (v13657 : BitVec 32) (k0_hw1031 : k0_chk1031 v13657), 8 ∣ (k0_mult1008 v13657).toNat := fun v13657 k0_hw1031 => k0_hw1031.1
theorem k0_off1949_inb : ∀ (v13657 : BitVec 32) (k0_hw1031 : k0_chk1031 v13657), ∀ a, (k0_off1949 v13657) a + S32.size a ≤ S2048.size a := fun v13657 k0_hw1031 => k0_hw1031.2.1
theorem k0_off1965_inb : ∀ (v13657 : BitVec 32) (k0_hw1031 : k0_chk1031 v13657), ∀ a, (k0_off1965 v13657) a + S32.size a ≤ S2048.size a := fun v13657 k0_hw1031 => k0_hw1031.2.2

def k0_mult1010 (v13739 : BitVec 32) : BitVec 32 :=
  let c1703936_i32_6193 : BitVec 32 := 1703936#32
  let c32_i32_6192 : BitVec 32 := 32#32
  let v13740 : BitVec 32 := Scalar.muli v13739 c32_i32_6192
  let v13741 : BitVec 32 := Scalar.addi c1703936_i32_6193 v13740
  v13741

def k0_off1966 (v13739 : BitVec 32) : Fin 1 → Nat :=
  let c1703936_i32_6193 : BitVec 32 := 1703936#32
  let c32_i32_6192 : BitVec 32 := 32#32
  let v13740 : BitVec 32 := Scalar.muli v13739 c32_i32_6192
  let v13741 : BitVec 32 := Scalar.addi c1703936_i32_6193 v13740
  let v13742 : BitVec 32 := v13741
  ![v13742.toNat]
def k0_mult1011 (v13748 : BitVec 32) : BitVec 32 :=
  let c1703936_i32_6197 : BitVec 32 := 1703936#32
  let c32_i32_6196 : BitVec 32 := 32#32
  let v13749 : BitVec 32 := Scalar.muli v13748 c32_i32_6196
  let v13750 : BitVec 32 := Scalar.addi c1703936_i32_6197 v13749
  v13750

def k0_off1967 (v13748 : BitVec 32) : Fin 1 → Nat :=
  let c1703936_i32_6197 : BitVec 32 := 1703936#32
  let c32_i32_6196 : BitVec 32 := 32#32
  let v13749 : BitVec 32 := Scalar.muli v13748 c32_i32_6196
  let v13750 : BitVec 32 := Scalar.addi c1703936_i32_6197 v13749
  let v13751 : BitVec 32 := v13750
  ![v13751.toNat]
def k0_mult1012 (v13757 : BitVec 32) : BitVec 32 :=
  let c1703936_i32_6201 : BitVec 32 := 1703936#32
  let c32_i32_6200 : BitVec 32 := 32#32
  let v13758 : BitVec 32 := Scalar.muli v13757 c32_i32_6200
  let v13759 : BitVec 32 := Scalar.addi c1703936_i32_6201 v13758
  v13759

def k0_off1968 (v13757 : BitVec 32) : Fin 1 → Nat :=
  let c1703936_i32_6201 : BitVec 32 := 1703936#32
  let c32_i32_6200 : BitVec 32 := 32#32
  let v13758 : BitVec 32 := Scalar.muli v13757 c32_i32_6200
  let v13759 : BitVec 32 := Scalar.addi c1703936_i32_6201 v13758
  let v13760 : BitVec 32 := v13759
  ![v13760.toNat]
def k0_mult1013 (v13766 : BitVec 32) : BitVec 32 :=
  let c1703936_i32_6205 : BitVec 32 := 1703936#32
  let c32_i32_6204 : BitVec 32 := 32#32
  let v13767 : BitVec 32 := Scalar.muli v13766 c32_i32_6204
  let v13768 : BitVec 32 := Scalar.addi c1703936_i32_6205 v13767
  v13768

def k0_off1969 (v13766 : BitVec 32) : Fin 1 → Nat :=
  let c1703936_i32_6205 : BitVec 32 := 1703936#32
  let c32_i32_6204 : BitVec 32 := 32#32
  let v13767 : BitVec 32 := Scalar.muli v13766 c32_i32_6204
  let v13768 : BitVec 32 := Scalar.addi c1703936_i32_6205 v13767
  let v13769 : BitVec 32 := v13768
  ![v13769.toNat]
def k0_mult1014 (v13775 : BitVec 32) : BitVec 32 :=
  let c1703936_i32_6209 : BitVec 32 := 1703936#32
  let c32_i32_6208 : BitVec 32 := 32#32
  let v13776 : BitVec 32 := Scalar.muli v13775 c32_i32_6208
  let v13777 : BitVec 32 := Scalar.addi c1703936_i32_6209 v13776
  v13777

def k0_off1970 (v13775 : BitVec 32) : Fin 1 → Nat :=
  let c1703936_i32_6209 : BitVec 32 := 1703936#32
  let c32_i32_6208 : BitVec 32 := 32#32
  let v13776 : BitVec 32 := Scalar.muli v13775 c32_i32_6208
  let v13777 : BitVec 32 := Scalar.addi c1703936_i32_6209 v13776
  let v13778 : BitVec 32 := v13777
  ![v13778.toNat]
def k0_mult1015 (v13784 : BitVec 32) : BitVec 32 :=
  let c1703936_i32_6213 : BitVec 32 := 1703936#32
  let c32_i32_6212 : BitVec 32 := 32#32
  let v13785 : BitVec 32 := Scalar.muli v13784 c32_i32_6212
  let v13786 : BitVec 32 := Scalar.addi c1703936_i32_6213 v13785
  v13786

def k0_off1971 (v13784 : BitVec 32) : Fin 1 → Nat :=
  let c1703936_i32_6213 : BitVec 32 := 1703936#32
  let c32_i32_6212 : BitVec 32 := 32#32
  let v13785 : BitVec 32 := Scalar.muli v13784 c32_i32_6212
  let v13786 : BitVec 32 := Scalar.addi c1703936_i32_6213 v13785
  let v13787 : BitVec 32 := v13786
  ![v13787.toNat]
def k0_mult1016 (v13793 : BitVec 32) : BitVec 32 :=
  let c1703936_i32_6217 : BitVec 32 := 1703936#32
  let c32_i32_6216 : BitVec 32 := 32#32
  let v13794 : BitVec 32 := Scalar.muli v13793 c32_i32_6216
  let v13795 : BitVec 32 := Scalar.addi c1703936_i32_6217 v13794
  v13795

def k0_off1972 (v13793 : BitVec 32) : Fin 1 → Nat :=
  let c1703936_i32_6217 : BitVec 32 := 1703936#32
  let c32_i32_6216 : BitVec 32 := 32#32
  let v13794 : BitVec 32 := Scalar.muli v13793 c32_i32_6216
  let v13795 : BitVec 32 := Scalar.addi c1703936_i32_6217 v13794
  let v13796 : BitVec 32 := v13795
  ![v13796.toNat]
def k0_mult1017 (v13802 : BitVec 32) : BitVec 32 :=
  let c1703936_i32_6221 : BitVec 32 := 1703936#32
  let c32_i32_6220 : BitVec 32 := 32#32
  let v13803 : BitVec 32 := Scalar.muli v13802 c32_i32_6220
  let v13804 : BitVec 32 := Scalar.addi c1703936_i32_6221 v13803
  v13804

def k0_off1973 (v13802 : BitVec 32) : Fin 1 → Nat :=
  let c1703936_i32_6221 : BitVec 32 := 1703936#32
  let c32_i32_6220 : BitVec 32 := 32#32
  let v13803 : BitVec 32 := Scalar.muli v13802 c32_i32_6220
  let v13804 : BitVec 32 := Scalar.addi c1703936_i32_6221 v13803
  let v13805 : BitVec 32 := v13804
  ![v13805.toNat]
def k0_mult1018 (v13811 : BitVec 32) : BitVec 32 :=
  let c1703936_i32_6225 : BitVec 32 := 1703936#32
  let c32_i32_6224 : BitVec 32 := 32#32
  let v13812 : BitVec 32 := Scalar.muli v13811 c32_i32_6224
  let v13813 : BitVec 32 := Scalar.addi c1703936_i32_6225 v13812
  v13813

def k0_off1974 (v13811 : BitVec 32) : Fin 1 → Nat :=
  let c1703936_i32_6225 : BitVec 32 := 1703936#32
  let c32_i32_6224 : BitVec 32 := 32#32
  let v13812 : BitVec 32 := Scalar.muli v13811 c32_i32_6224
  let v13813 : BitVec 32 := Scalar.addi c1703936_i32_6225 v13812
  let v13814 : BitVec 32 := v13813
  ![v13814.toNat]
def k0_mult1019 (v13820 : BitVec 32) : BitVec 32 :=
  let c1703936_i32_6229 : BitVec 32 := 1703936#32
  let c32_i32_6228 : BitVec 32 := 32#32
  let v13821 : BitVec 32 := Scalar.muli v13820 c32_i32_6228
  let v13822 : BitVec 32 := Scalar.addi c1703936_i32_6229 v13821
  v13822

def k0_off1975 (v13820 : BitVec 32) : Fin 1 → Nat :=
  let c1703936_i32_6229 : BitVec 32 := 1703936#32
  let c32_i32_6228 : BitVec 32 := 32#32
  let v13821 : BitVec 32 := Scalar.muli v13820 c32_i32_6228
  let v13822 : BitVec 32 := Scalar.addi c1703936_i32_6229 v13821
  let v13823 : BitVec 32 := v13822
  ![v13823.toNat]
def k0_mult1020 (v13829 : BitVec 32) : BitVec 32 :=
  let c1703936_i32_6233 : BitVec 32 := 1703936#32
  let c32_i32_6232 : BitVec 32 := 32#32
  let v13830 : BitVec 32 := Scalar.muli v13829 c32_i32_6232
  let v13831 : BitVec 32 := Scalar.addi c1703936_i32_6233 v13830
  v13831

def k0_off1976 (v13829 : BitVec 32) : Fin 1 → Nat :=
  let c1703936_i32_6233 : BitVec 32 := 1703936#32
  let c32_i32_6232 : BitVec 32 := 32#32
  let v13830 : BitVec 32 := Scalar.muli v13829 c32_i32_6232
  let v13831 : BitVec 32 := Scalar.addi c1703936_i32_6233 v13830
  let v13832 : BitVec 32 := v13831
  ![v13832.toNat]
def k0_mult1021 (v13838 : BitVec 32) : BitVec 32 :=
  let c1703936_i32_6237 : BitVec 32 := 1703936#32
  let c32_i32_6236 : BitVec 32 := 32#32
  let v13839 : BitVec 32 := Scalar.muli v13838 c32_i32_6236
  let v13840 : BitVec 32 := Scalar.addi c1703936_i32_6237 v13839
  v13840

def k0_off1977 (v13838 : BitVec 32) : Fin 1 → Nat :=
  let c1703936_i32_6237 : BitVec 32 := 1703936#32
  let c32_i32_6236 : BitVec 32 := 32#32
  let v13839 : BitVec 32 := Scalar.muli v13838 c32_i32_6236
  let v13840 : BitVec 32 := Scalar.addi c1703936_i32_6237 v13839
  let v13841 : BitVec 32 := v13840
  ![v13841.toNat]
def k0_mult1022 (v13847 : BitVec 32) : BitVec 32 :=
  let c1703936_i32_6241 : BitVec 32 := 1703936#32
  let c32_i32_6240 : BitVec 32 := 32#32
  let v13848 : BitVec 32 := Scalar.muli v13847 c32_i32_6240
  let v13849 : BitVec 32 := Scalar.addi c1703936_i32_6241 v13848
  v13849

def k0_off1978 (v13847 : BitVec 32) : Fin 1 → Nat :=
  let c1703936_i32_6241 : BitVec 32 := 1703936#32
  let c32_i32_6240 : BitVec 32 := 32#32
  let v13848 : BitVec 32 := Scalar.muli v13847 c32_i32_6240
  let v13849 : BitVec 32 := Scalar.addi c1703936_i32_6241 v13848
  let v13850 : BitVec 32 := v13849
  ![v13850.toNat]
def k0_mult1023 (v13856 : BitVec 32) : BitVec 32 :=
  let c1703936_i32_6245 : BitVec 32 := 1703936#32
  let c32_i32_6244 : BitVec 32 := 32#32
  let v13857 : BitVec 32 := Scalar.muli v13856 c32_i32_6244
  let v13858 : BitVec 32 := Scalar.addi c1703936_i32_6245 v13857
  v13858

def k0_off1979 (v13856 : BitVec 32) : Fin 1 → Nat :=
  let c1703936_i32_6245 : BitVec 32 := 1703936#32
  let c32_i32_6244 : BitVec 32 := 32#32
  let v13857 : BitVec 32 := Scalar.muli v13856 c32_i32_6244
  let v13858 : BitVec 32 := Scalar.addi c1703936_i32_6245 v13857
  let v13859 : BitVec 32 := v13858
  ![v13859.toNat]
def k0_mult1024 (v13865 : BitVec 32) : BitVec 32 :=
  let c1703936_i32_6249 : BitVec 32 := 1703936#32
  let c32_i32_6248 : BitVec 32 := 32#32
  let v13866 : BitVec 32 := Scalar.muli v13865 c32_i32_6248
  let v13867 : BitVec 32 := Scalar.addi c1703936_i32_6249 v13866
  v13867

def k0_off1980 (v13865 : BitVec 32) : Fin 1 → Nat :=
  let c1703936_i32_6249 : BitVec 32 := 1703936#32
  let c32_i32_6248 : BitVec 32 := 32#32
  let v13866 : BitVec 32 := Scalar.muli v13865 c32_i32_6248
  let v13867 : BitVec 32 := Scalar.addi c1703936_i32_6249 v13866
  let v13868 : BitVec 32 := v13867
  ![v13868.toNat]
def k0_mult1025 (v13874 : BitVec 32) : BitVec 32 :=
  let c1703936_i32_6253 : BitVec 32 := 1703936#32
  let c32_i32_6252 : BitVec 32 := 32#32
  let v13875 : BitVec 32 := Scalar.muli v13874 c32_i32_6252
  let v13876 : BitVec 32 := Scalar.addi c1703936_i32_6253 v13875
  v13876

def k0_off1981 (v13874 : BitVec 32) : Fin 1 → Nat :=
  let c1703936_i32_6253 : BitVec 32 := 1703936#32
  let c32_i32_6252 : BitVec 32 := 32#32
  let v13875 : BitVec 32 := Scalar.muli v13874 c32_i32_6252
  let v13876 : BitVec 32 := Scalar.addi c1703936_i32_6253 v13875
  let v13877 : BitVec 32 := v13876
  ![v13877.toNat]

def k0_chk1048 (v13874 : BitVec 32) : Prop :=
  (8 ∣ (k0_mult1025 v13874).toNat) ∧
  (∀ a, (k0_off1981 v13874) a + S32.size a ≤ S3407872.size a)
theorem k0_mult1025_dvd : ∀ (v13874 : BitVec 32) (k0_hw1048 : k0_chk1048 v13874), 8 ∣ (k0_mult1025 v13874).toNat := fun v13874 k0_hw1048 => k0_hw1048.1
theorem k0_off1981_inb : ∀ (v13874 : BitVec 32) (k0_hw1048 : k0_chk1048 v13874), ∀ a, (k0_off1981 v13874) a + S32.size a ≤ S3407872.size a := fun v13874 k0_hw1048 => k0_hw1048.2

def k0_off1982 (v13739 : BitVec 32) : Fin 1 → Nat :=
  let c1703936_i32_6193 : BitVec 32 := 1703936#32
  let c32_i32_6192 : BitVec 32 := 32#32
  let v13740 : BitVec 32 := Scalar.muli v13739 c32_i32_6192
  let v13741 : BitVec 32 := Scalar.addi c1703936_i32_6193 v13740
  let v13742 : BitVec 32 := v13741
  ![v13742.toNat]

def k0_chk1033 (v13739 : BitVec 32) : Prop :=
  (8 ∣ (k0_mult1010 v13739).toNat) ∧
  (∀ a, (k0_off1966 v13739) a + S32.size a ≤ S3407872.size a) ∧
  (∀ a, (k0_off1982 v13739) a + S32.size a ≤ S3407872.size a)
theorem k0_mult1010_dvd : ∀ (v13739 : BitVec 32) (k0_hw1033 : k0_chk1033 v13739), 8 ∣ (k0_mult1010 v13739).toNat := fun v13739 k0_hw1033 => k0_hw1033.1
theorem k0_off1966_inb : ∀ (v13739 : BitVec 32) (k0_hw1033 : k0_chk1033 v13739), ∀ a, (k0_off1966 v13739) a + S32.size a ≤ S3407872.size a := fun v13739 k0_hw1033 => k0_hw1033.2.1
theorem k0_off1982_inb : ∀ (v13739 : BitVec 32) (k0_hw1033 : k0_chk1033 v13739), ∀ a, (k0_off1982 v13739) a + S32.size a ≤ S3407872.size a := fun v13739 k0_hw1033 => k0_hw1033.2.2

def k0_off1983 (v13748 : BitVec 32) : Fin 1 → Nat :=
  let c1703936_i32_6197 : BitVec 32 := 1703936#32
  let c32_i32_6196 : BitVec 32 := 32#32
  let v13749 : BitVec 32 := Scalar.muli v13748 c32_i32_6196
  let v13750 : BitVec 32 := Scalar.addi c1703936_i32_6197 v13749
  let v13751 : BitVec 32 := v13750
  ![v13751.toNat]

def k0_chk1034 (v13748 : BitVec 32) : Prop :=
  (8 ∣ (k0_mult1011 v13748).toNat) ∧
  (∀ a, (k0_off1967 v13748) a + S32.size a ≤ S3407872.size a) ∧
  (∀ a, (k0_off1983 v13748) a + S32.size a ≤ S3407872.size a)
theorem k0_mult1011_dvd : ∀ (v13748 : BitVec 32) (k0_hw1034 : k0_chk1034 v13748), 8 ∣ (k0_mult1011 v13748).toNat := fun v13748 k0_hw1034 => k0_hw1034.1
theorem k0_off1967_inb : ∀ (v13748 : BitVec 32) (k0_hw1034 : k0_chk1034 v13748), ∀ a, (k0_off1967 v13748) a + S32.size a ≤ S3407872.size a := fun v13748 k0_hw1034 => k0_hw1034.2.1
theorem k0_off1983_inb : ∀ (v13748 : BitVec 32) (k0_hw1034 : k0_chk1034 v13748), ∀ a, (k0_off1983 v13748) a + S32.size a ≤ S3407872.size a := fun v13748 k0_hw1034 => k0_hw1034.2.2

def k0_off1984 (v13757 : BitVec 32) : Fin 1 → Nat :=
  let c1703936_i32_6201 : BitVec 32 := 1703936#32
  let c32_i32_6200 : BitVec 32 := 32#32
  let v13758 : BitVec 32 := Scalar.muli v13757 c32_i32_6200
  let v13759 : BitVec 32 := Scalar.addi c1703936_i32_6201 v13758
  let v13760 : BitVec 32 := v13759
  ![v13760.toNat]

def k0_chk1035 (v13757 : BitVec 32) : Prop :=
  (8 ∣ (k0_mult1012 v13757).toNat) ∧
  (∀ a, (k0_off1968 v13757) a + S32.size a ≤ S3407872.size a) ∧
  (∀ a, (k0_off1984 v13757) a + S32.size a ≤ S3407872.size a)
theorem k0_mult1012_dvd : ∀ (v13757 : BitVec 32) (k0_hw1035 : k0_chk1035 v13757), 8 ∣ (k0_mult1012 v13757).toNat := fun v13757 k0_hw1035 => k0_hw1035.1
theorem k0_off1968_inb : ∀ (v13757 : BitVec 32) (k0_hw1035 : k0_chk1035 v13757), ∀ a, (k0_off1968 v13757) a + S32.size a ≤ S3407872.size a := fun v13757 k0_hw1035 => k0_hw1035.2.1
theorem k0_off1984_inb : ∀ (v13757 : BitVec 32) (k0_hw1035 : k0_chk1035 v13757), ∀ a, (k0_off1984 v13757) a + S32.size a ≤ S3407872.size a := fun v13757 k0_hw1035 => k0_hw1035.2.2

def k0_off1985 (v13766 : BitVec 32) : Fin 1 → Nat :=
  let c1703936_i32_6205 : BitVec 32 := 1703936#32
  let c32_i32_6204 : BitVec 32 := 32#32
  let v13767 : BitVec 32 := Scalar.muli v13766 c32_i32_6204
  let v13768 : BitVec 32 := Scalar.addi c1703936_i32_6205 v13767
  let v13769 : BitVec 32 := v13768
  ![v13769.toNat]

def k0_chk1036 (v13766 : BitVec 32) : Prop :=
  (8 ∣ (k0_mult1013 v13766).toNat) ∧
  (∀ a, (k0_off1969 v13766) a + S32.size a ≤ S3407872.size a) ∧
  (∀ a, (k0_off1985 v13766) a + S32.size a ≤ S3407872.size a)
theorem k0_mult1013_dvd : ∀ (v13766 : BitVec 32) (k0_hw1036 : k0_chk1036 v13766), 8 ∣ (k0_mult1013 v13766).toNat := fun v13766 k0_hw1036 => k0_hw1036.1
theorem k0_off1969_inb : ∀ (v13766 : BitVec 32) (k0_hw1036 : k0_chk1036 v13766), ∀ a, (k0_off1969 v13766) a + S32.size a ≤ S3407872.size a := fun v13766 k0_hw1036 => k0_hw1036.2.1
theorem k0_off1985_inb : ∀ (v13766 : BitVec 32) (k0_hw1036 : k0_chk1036 v13766), ∀ a, (k0_off1985 v13766) a + S32.size a ≤ S3407872.size a := fun v13766 k0_hw1036 => k0_hw1036.2.2

def k0_off1986 (v13775 : BitVec 32) : Fin 1 → Nat :=
  let c1703936_i32_6209 : BitVec 32 := 1703936#32
  let c32_i32_6208 : BitVec 32 := 32#32
  let v13776 : BitVec 32 := Scalar.muli v13775 c32_i32_6208
  let v13777 : BitVec 32 := Scalar.addi c1703936_i32_6209 v13776
  let v13778 : BitVec 32 := v13777
  ![v13778.toNat]

def k0_chk1037 (v13775 : BitVec 32) : Prop :=
  (8 ∣ (k0_mult1014 v13775).toNat) ∧
  (∀ a, (k0_off1970 v13775) a + S32.size a ≤ S3407872.size a) ∧
  (∀ a, (k0_off1986 v13775) a + S32.size a ≤ S3407872.size a)
theorem k0_mult1014_dvd : ∀ (v13775 : BitVec 32) (k0_hw1037 : k0_chk1037 v13775), 8 ∣ (k0_mult1014 v13775).toNat := fun v13775 k0_hw1037 => k0_hw1037.1
theorem k0_off1970_inb : ∀ (v13775 : BitVec 32) (k0_hw1037 : k0_chk1037 v13775), ∀ a, (k0_off1970 v13775) a + S32.size a ≤ S3407872.size a := fun v13775 k0_hw1037 => k0_hw1037.2.1
theorem k0_off1986_inb : ∀ (v13775 : BitVec 32) (k0_hw1037 : k0_chk1037 v13775), ∀ a, (k0_off1986 v13775) a + S32.size a ≤ S3407872.size a := fun v13775 k0_hw1037 => k0_hw1037.2.2

def k0_off1987 (v13784 : BitVec 32) : Fin 1 → Nat :=
  let c1703936_i32_6213 : BitVec 32 := 1703936#32
  let c32_i32_6212 : BitVec 32 := 32#32
  let v13785 : BitVec 32 := Scalar.muli v13784 c32_i32_6212
  let v13786 : BitVec 32 := Scalar.addi c1703936_i32_6213 v13785
  let v13787 : BitVec 32 := v13786
  ![v13787.toNat]

def k0_chk1038 (v13784 : BitVec 32) : Prop :=
  (8 ∣ (k0_mult1015 v13784).toNat) ∧
  (∀ a, (k0_off1971 v13784) a + S32.size a ≤ S3407872.size a) ∧
  (∀ a, (k0_off1987 v13784) a + S32.size a ≤ S3407872.size a)
theorem k0_mult1015_dvd : ∀ (v13784 : BitVec 32) (k0_hw1038 : k0_chk1038 v13784), 8 ∣ (k0_mult1015 v13784).toNat := fun v13784 k0_hw1038 => k0_hw1038.1
theorem k0_off1971_inb : ∀ (v13784 : BitVec 32) (k0_hw1038 : k0_chk1038 v13784), ∀ a, (k0_off1971 v13784) a + S32.size a ≤ S3407872.size a := fun v13784 k0_hw1038 => k0_hw1038.2.1
theorem k0_off1987_inb : ∀ (v13784 : BitVec 32) (k0_hw1038 : k0_chk1038 v13784), ∀ a, (k0_off1987 v13784) a + S32.size a ≤ S3407872.size a := fun v13784 k0_hw1038 => k0_hw1038.2.2

def k0_off1988 (v13793 : BitVec 32) : Fin 1 → Nat :=
  let c1703936_i32_6217 : BitVec 32 := 1703936#32
  let c32_i32_6216 : BitVec 32 := 32#32
  let v13794 : BitVec 32 := Scalar.muli v13793 c32_i32_6216
  let v13795 : BitVec 32 := Scalar.addi c1703936_i32_6217 v13794
  let v13796 : BitVec 32 := v13795
  ![v13796.toNat]

def k0_chk1039 (v13793 : BitVec 32) : Prop :=
  (8 ∣ (k0_mult1016 v13793).toNat) ∧
  (∀ a, (k0_off1972 v13793) a + S32.size a ≤ S3407872.size a) ∧
  (∀ a, (k0_off1988 v13793) a + S32.size a ≤ S3407872.size a)
theorem k0_mult1016_dvd : ∀ (v13793 : BitVec 32) (k0_hw1039 : k0_chk1039 v13793), 8 ∣ (k0_mult1016 v13793).toNat := fun v13793 k0_hw1039 => k0_hw1039.1
theorem k0_off1972_inb : ∀ (v13793 : BitVec 32) (k0_hw1039 : k0_chk1039 v13793), ∀ a, (k0_off1972 v13793) a + S32.size a ≤ S3407872.size a := fun v13793 k0_hw1039 => k0_hw1039.2.1
theorem k0_off1988_inb : ∀ (v13793 : BitVec 32) (k0_hw1039 : k0_chk1039 v13793), ∀ a, (k0_off1988 v13793) a + S32.size a ≤ S3407872.size a := fun v13793 k0_hw1039 => k0_hw1039.2.2

def k0_off1989 (v13802 : BitVec 32) : Fin 1 → Nat :=
  let c1703936_i32_6221 : BitVec 32 := 1703936#32
  let c32_i32_6220 : BitVec 32 := 32#32
  let v13803 : BitVec 32 := Scalar.muli v13802 c32_i32_6220
  let v13804 : BitVec 32 := Scalar.addi c1703936_i32_6221 v13803
  let v13805 : BitVec 32 := v13804
  ![v13805.toNat]

def k0_chk1040 (v13802 : BitVec 32) : Prop :=
  (8 ∣ (k0_mult1017 v13802).toNat) ∧
  (∀ a, (k0_off1973 v13802) a + S32.size a ≤ S3407872.size a) ∧
  (∀ a, (k0_off1989 v13802) a + S32.size a ≤ S3407872.size a)
theorem k0_mult1017_dvd : ∀ (v13802 : BitVec 32) (k0_hw1040 : k0_chk1040 v13802), 8 ∣ (k0_mult1017 v13802).toNat := fun v13802 k0_hw1040 => k0_hw1040.1
theorem k0_off1973_inb : ∀ (v13802 : BitVec 32) (k0_hw1040 : k0_chk1040 v13802), ∀ a, (k0_off1973 v13802) a + S32.size a ≤ S3407872.size a := fun v13802 k0_hw1040 => k0_hw1040.2.1
theorem k0_off1989_inb : ∀ (v13802 : BitVec 32) (k0_hw1040 : k0_chk1040 v13802), ∀ a, (k0_off1989 v13802) a + S32.size a ≤ S3407872.size a := fun v13802 k0_hw1040 => k0_hw1040.2.2

def k0_off1990 (v13811 : BitVec 32) : Fin 1 → Nat :=
  let c1703936_i32_6225 : BitVec 32 := 1703936#32
  let c32_i32_6224 : BitVec 32 := 32#32
  let v13812 : BitVec 32 := Scalar.muli v13811 c32_i32_6224
  let v13813 : BitVec 32 := Scalar.addi c1703936_i32_6225 v13812
  let v13814 : BitVec 32 := v13813
  ![v13814.toNat]

def k0_chk1041 (v13811 : BitVec 32) : Prop :=
  (8 ∣ (k0_mult1018 v13811).toNat) ∧
  (∀ a, (k0_off1974 v13811) a + S32.size a ≤ S3407872.size a) ∧
  (∀ a, (k0_off1990 v13811) a + S32.size a ≤ S3407872.size a)
theorem k0_mult1018_dvd : ∀ (v13811 : BitVec 32) (k0_hw1041 : k0_chk1041 v13811), 8 ∣ (k0_mult1018 v13811).toNat := fun v13811 k0_hw1041 => k0_hw1041.1
theorem k0_off1974_inb : ∀ (v13811 : BitVec 32) (k0_hw1041 : k0_chk1041 v13811), ∀ a, (k0_off1974 v13811) a + S32.size a ≤ S3407872.size a := fun v13811 k0_hw1041 => k0_hw1041.2.1
theorem k0_off1990_inb : ∀ (v13811 : BitVec 32) (k0_hw1041 : k0_chk1041 v13811), ∀ a, (k0_off1990 v13811) a + S32.size a ≤ S3407872.size a := fun v13811 k0_hw1041 => k0_hw1041.2.2

def k0_off1991 (v13820 : BitVec 32) : Fin 1 → Nat :=
  let c1703936_i32_6229 : BitVec 32 := 1703936#32
  let c32_i32_6228 : BitVec 32 := 32#32
  let v13821 : BitVec 32 := Scalar.muli v13820 c32_i32_6228
  let v13822 : BitVec 32 := Scalar.addi c1703936_i32_6229 v13821
  let v13823 : BitVec 32 := v13822
  ![v13823.toNat]

def k0_chk1042 (v13820 : BitVec 32) : Prop :=
  (8 ∣ (k0_mult1019 v13820).toNat) ∧
  (∀ a, (k0_off1975 v13820) a + S32.size a ≤ S3407872.size a) ∧
  (∀ a, (k0_off1991 v13820) a + S32.size a ≤ S3407872.size a)
theorem k0_mult1019_dvd : ∀ (v13820 : BitVec 32) (k0_hw1042 : k0_chk1042 v13820), 8 ∣ (k0_mult1019 v13820).toNat := fun v13820 k0_hw1042 => k0_hw1042.1
theorem k0_off1975_inb : ∀ (v13820 : BitVec 32) (k0_hw1042 : k0_chk1042 v13820), ∀ a, (k0_off1975 v13820) a + S32.size a ≤ S3407872.size a := fun v13820 k0_hw1042 => k0_hw1042.2.1
theorem k0_off1991_inb : ∀ (v13820 : BitVec 32) (k0_hw1042 : k0_chk1042 v13820), ∀ a, (k0_off1991 v13820) a + S32.size a ≤ S3407872.size a := fun v13820 k0_hw1042 => k0_hw1042.2.2

def k0_off1992 (v13829 : BitVec 32) : Fin 1 → Nat :=
  let c1703936_i32_6233 : BitVec 32 := 1703936#32
  let c32_i32_6232 : BitVec 32 := 32#32
  let v13830 : BitVec 32 := Scalar.muli v13829 c32_i32_6232
  let v13831 : BitVec 32 := Scalar.addi c1703936_i32_6233 v13830
  let v13832 : BitVec 32 := v13831
  ![v13832.toNat]

def k0_chk1043 (v13829 : BitVec 32) : Prop :=
  (8 ∣ (k0_mult1020 v13829).toNat) ∧
  (∀ a, (k0_off1976 v13829) a + S32.size a ≤ S3407872.size a) ∧
  (∀ a, (k0_off1992 v13829) a + S32.size a ≤ S3407872.size a)
theorem k0_mult1020_dvd : ∀ (v13829 : BitVec 32) (k0_hw1043 : k0_chk1043 v13829), 8 ∣ (k0_mult1020 v13829).toNat := fun v13829 k0_hw1043 => k0_hw1043.1
theorem k0_off1976_inb : ∀ (v13829 : BitVec 32) (k0_hw1043 : k0_chk1043 v13829), ∀ a, (k0_off1976 v13829) a + S32.size a ≤ S3407872.size a := fun v13829 k0_hw1043 => k0_hw1043.2.1
theorem k0_off1992_inb : ∀ (v13829 : BitVec 32) (k0_hw1043 : k0_chk1043 v13829), ∀ a, (k0_off1992 v13829) a + S32.size a ≤ S3407872.size a := fun v13829 k0_hw1043 => k0_hw1043.2.2

def k0_off1993 (v13838 : BitVec 32) : Fin 1 → Nat :=
  let c1703936_i32_6237 : BitVec 32 := 1703936#32
  let c32_i32_6236 : BitVec 32 := 32#32
  let v13839 : BitVec 32 := Scalar.muli v13838 c32_i32_6236
  let v13840 : BitVec 32 := Scalar.addi c1703936_i32_6237 v13839
  let v13841 : BitVec 32 := v13840
  ![v13841.toNat]

def k0_chk1044 (v13838 : BitVec 32) : Prop :=
  (8 ∣ (k0_mult1021 v13838).toNat) ∧
  (∀ a, (k0_off1977 v13838) a + S32.size a ≤ S3407872.size a) ∧
  (∀ a, (k0_off1993 v13838) a + S32.size a ≤ S3407872.size a)
theorem k0_mult1021_dvd : ∀ (v13838 : BitVec 32) (k0_hw1044 : k0_chk1044 v13838), 8 ∣ (k0_mult1021 v13838).toNat := fun v13838 k0_hw1044 => k0_hw1044.1
theorem k0_off1977_inb : ∀ (v13838 : BitVec 32) (k0_hw1044 : k0_chk1044 v13838), ∀ a, (k0_off1977 v13838) a + S32.size a ≤ S3407872.size a := fun v13838 k0_hw1044 => k0_hw1044.2.1
theorem k0_off1993_inb : ∀ (v13838 : BitVec 32) (k0_hw1044 : k0_chk1044 v13838), ∀ a, (k0_off1993 v13838) a + S32.size a ≤ S3407872.size a := fun v13838 k0_hw1044 => k0_hw1044.2.2

def k0_off1994 (v13847 : BitVec 32) : Fin 1 → Nat :=
  let c1703936_i32_6241 : BitVec 32 := 1703936#32
  let c32_i32_6240 : BitVec 32 := 32#32
  let v13848 : BitVec 32 := Scalar.muli v13847 c32_i32_6240
  let v13849 : BitVec 32 := Scalar.addi c1703936_i32_6241 v13848
  let v13850 : BitVec 32 := v13849
  ![v13850.toNat]

def k0_chk1045 (v13847 : BitVec 32) : Prop :=
  (8 ∣ (k0_mult1022 v13847).toNat) ∧
  (∀ a, (k0_off1978 v13847) a + S32.size a ≤ S3407872.size a) ∧
  (∀ a, (k0_off1994 v13847) a + S32.size a ≤ S3407872.size a)
theorem k0_mult1022_dvd : ∀ (v13847 : BitVec 32) (k0_hw1045 : k0_chk1045 v13847), 8 ∣ (k0_mult1022 v13847).toNat := fun v13847 k0_hw1045 => k0_hw1045.1
theorem k0_off1978_inb : ∀ (v13847 : BitVec 32) (k0_hw1045 : k0_chk1045 v13847), ∀ a, (k0_off1978 v13847) a + S32.size a ≤ S3407872.size a := fun v13847 k0_hw1045 => k0_hw1045.2.1
theorem k0_off1994_inb : ∀ (v13847 : BitVec 32) (k0_hw1045 : k0_chk1045 v13847), ∀ a, (k0_off1994 v13847) a + S32.size a ≤ S3407872.size a := fun v13847 k0_hw1045 => k0_hw1045.2.2

def k0_off1995 (v13856 : BitVec 32) : Fin 1 → Nat :=
  let c1703936_i32_6245 : BitVec 32 := 1703936#32
  let c32_i32_6244 : BitVec 32 := 32#32
  let v13857 : BitVec 32 := Scalar.muli v13856 c32_i32_6244
  let v13858 : BitVec 32 := Scalar.addi c1703936_i32_6245 v13857
  let v13859 : BitVec 32 := v13858
  ![v13859.toNat]

def k0_chk1046 (v13856 : BitVec 32) : Prop :=
  (8 ∣ (k0_mult1023 v13856).toNat) ∧
  (∀ a, (k0_off1979 v13856) a + S32.size a ≤ S3407872.size a) ∧
  (∀ a, (k0_off1995 v13856) a + S32.size a ≤ S3407872.size a)
theorem k0_mult1023_dvd : ∀ (v13856 : BitVec 32) (k0_hw1046 : k0_chk1046 v13856), 8 ∣ (k0_mult1023 v13856).toNat := fun v13856 k0_hw1046 => k0_hw1046.1
theorem k0_off1979_inb : ∀ (v13856 : BitVec 32) (k0_hw1046 : k0_chk1046 v13856), ∀ a, (k0_off1979 v13856) a + S32.size a ≤ S3407872.size a := fun v13856 k0_hw1046 => k0_hw1046.2.1
theorem k0_off1995_inb : ∀ (v13856 : BitVec 32) (k0_hw1046 : k0_chk1046 v13856), ∀ a, (k0_off1995 v13856) a + S32.size a ≤ S3407872.size a := fun v13856 k0_hw1046 => k0_hw1046.2.2

def k0_off1996 (v13865 : BitVec 32) : Fin 1 → Nat :=
  let c1703936_i32_6249 : BitVec 32 := 1703936#32
  let c32_i32_6248 : BitVec 32 := 32#32
  let v13866 : BitVec 32 := Scalar.muli v13865 c32_i32_6248
  let v13867 : BitVec 32 := Scalar.addi c1703936_i32_6249 v13866
  let v13868 : BitVec 32 := v13867
  ![v13868.toNat]

def k0_chk1047 (v13865 : BitVec 32) : Prop :=
  (8 ∣ (k0_mult1024 v13865).toNat) ∧
  (∀ a, (k0_off1980 v13865) a + S32.size a ≤ S3407872.size a) ∧
  (∀ a, (k0_off1996 v13865) a + S32.size a ≤ S3407872.size a)
theorem k0_mult1024_dvd : ∀ (v13865 : BitVec 32) (k0_hw1047 : k0_chk1047 v13865), 8 ∣ (k0_mult1024 v13865).toNat := fun v13865 k0_hw1047 => k0_hw1047.1
theorem k0_off1980_inb : ∀ (v13865 : BitVec 32) (k0_hw1047 : k0_chk1047 v13865), ∀ a, (k0_off1980 v13865) a + S32.size a ≤ S3407872.size a := fun v13865 k0_hw1047 => k0_hw1047.2.1
theorem k0_off1996_inb : ∀ (v13865 : BitVec 32) (k0_hw1047 : k0_chk1047 v13865), ∀ a, (k0_off1996 v13865) a + S32.size a ≤ S3407872.size a := fun v13865 k0_hw1047 => k0_hw1047.2.2

@[reducible] def k0_t13_loop : Scf.Loop 32 :=
  let c0_i32_6290 : BitVec 32 := 0#32
  let c32_i32_6291 : BitVec 32 := 32#32
  let v13947 : BitVec 32 := Scalar.addi c0_i32_6290 c32_i32_6291
  let c1_i32_6292 : BitVec 32 := 1#32
  ⟨c0_i32_6290, v13947, c1_i32_6292⟩
def k0_off1997 (i : grid0.Coords) (k0_t13 : Fin k0_t13_loop.trips) : Fin 2 → Nat :=
  let c0_i32_6308 : BitVec 32 := 0#32
  let c0_i32_6290 : BitVec 32 := 0#32
  let c1_i32_6292 : BitVec 32 := 1#32
  let arg18 : BitVec 32 := Scf.iv c0_i32_6290 c1_i32_6292 k0_t13
  let v13951 : BitVec 32 := Scalar.addi c0_i32_6308 arg18
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31250_i32 : BitVec 32 := 31250#32
  let v2 : BitVec 32 := Scalar.muli v1 c31250_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v2 c128_i32
  let c0_i32_4 : BitVec 32 := 0#32
  let v17 : BitVec 1 := Scalar.cmpi .ne v16 c0_i32_4
  let v18 : BitVec 1 := Scalar.andi v15 v17
  let v4 : BitVec 32 := Scalar.divsi v2 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c968448_i32 : BitVec 32 := 968448#32
  let v22 : BitVec 32 := Scalar.minsi v21 c968448_i32
  let v23 : BitVec 32 := v22
  ![v13951.toNat, v23.toNat]
@[reducible] def k0_t14_loop : Scf.Loop 32 :=
  let c0_i32_6311 : BitVec 32 := 0#32
  let c112_i32_6312 : BitVec 32 := 112#32
  let v13955 : BitVec 32 := Scalar.addi c0_i32_6311 c112_i32_6312
  let c1_i32_6313 : BitVec 32 := 1#32
  ⟨c0_i32_6311, v13955, c1_i32_6313⟩
def k0_off1998 (k0_t14 : Fin k0_t14_loop.trips) : Fin 1 → Nat :=
  let c0_i32_6311 : BitVec 32 := 0#32
  let c1_i32_6313 : BitVec 32 := 1#32
  let arg19 : BitVec 32 := Scf.iv c0_i32_6311 c1_i32_6313 k0_t14
  let c16_i32 : BitVec 32 := 16#32
  let v13956 : BitVec 32 := Scalar.muli arg19 c16_i32
  let v13957 : Index := Scalar.indexCast v13956
  ![v13957.toNat]

def k0_chk1049 (v13946 : IVec S16 32) (v13958 : IVec S16 32) : Prop :=
  (∀ a x, ((![v13946, v13958] : Fin 2 → IVec S16 32) a x).toNat < S1x31488.size a)
theorem k0_idx49_inb : ∀ (v13946 : IVec S16 32) (v13958 : IVec S16 32) (k0_hw1049 : k0_chk1049 v13946 v13958), ∀ a x, ((![v13946, v13958] : Fin 2 → IVec S16 32) a x).toNat < S1x31488.size a := fun v13946 v13958 k0_hw1049 => k0_hw1049

def k0_chk1050 (v13965 : IVec S16 32) : Prop :=
  (∀ a x, ((![v13965] : Fin 1 → IVec S16 32) a x).toNat < S57344.size a)
theorem k0_idx50_inb : ∀ (v13965 : IVec S16 32) (k0_hw1050 : k0_chk1050 v13965), ∀ a x, ((![v13965] : Fin 1 → IVec S16 32) a x).toNat < S57344.size a := fun v13965 k0_hw1050 => k0_hw1050
@[reducible] def k0_t15_loop : Scf.Loop 32 :=
  let c0_i32_6295 : BitVec 32 := 0#32
  let c112_i32 : BitVec 32 := 112#32
  let v13948 : BitVec 32 := Scalar.addi c0_i32_6295 c112_i32
  let c1_i32_6296 : BitVec 32 := 1#32
  ⟨c0_i32_6295, v13948, c1_i32_6296⟩
def k0_off1999 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32 : BitVec 32 := 16#32
  let v13951 : BitVec 32 := Scalar.muli arg18 c16_i32
  let v13952 : Index := Scalar.indexCast v13951
  ![v13952.toNat]
def k0_mult1026 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6308 : BitVec 32 := 16#32
  let v13954 : BitVec 32 := Scalar.muli arg18 c16_i32_6308
  let c0_i32_6309 : BitVec 32 := 0#32
  let v13955 : BitVec 32 := Scalar.addi v13954 c0_i32_6309
  let c32_i32_6310 : BitVec 32 := 32#32
  let v13956 : BitVec 32 := Scalar.muli v13955 c32_i32_6310
  v13956
def k0_mult1027 (v13959 : BitVec 32) : BitVec 32 :=
  let c0_i32_6312 : BitVec 32 := 0#32
  let c32_i32_6311 : BitVec 32 := 32#32
  let v13960 : BitVec 32 := Scalar.muli v13959 c32_i32_6311
  let v13961 : BitVec 32 := Scalar.addi c0_i32_6312 v13960
  v13961

def k0_off2000 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6308 : BitVec 32 := 16#32
  let v13954 : BitVec 32 := Scalar.muli arg18 c16_i32_6308
  let c0_i32_6309 : BitVec 32 := 0#32
  let v13955 : BitVec 32 := Scalar.addi v13954 c0_i32_6309
  let c32_i32_6310 : BitVec 32 := 32#32
  let v13956 : BitVec 32 := Scalar.muli v13955 c32_i32_6310
  let v13957 : BitVec 32 := v13956
  ![v13957.toNat]
def k0_off2001 (v13959 : BitVec 32) : Fin 1 → Nat :=
  let c0_i32_6312 : BitVec 32 := 0#32
  let c32_i32_6311 : BitVec 32 := 32#32
  let v13960 : BitVec 32 := Scalar.muli v13959 c32_i32_6311
  let v13961 : BitVec 32 := Scalar.addi c0_i32_6312 v13960
  let v13962 : BitVec 32 := v13961
  ![v13962.toNat]
def k0_mult1028 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6313 : BitVec 32 := 16#32
  let v13967 : BitVec 32 := Scalar.muli arg18 c16_i32_6313
  let c1_i32_6314 : BitVec 32 := 1#32
  let v13968 : BitVec 32 := Scalar.addi v13967 c1_i32_6314
  let c32_i32_6315 : BitVec 32 := 32#32
  let v13969 : BitVec 32 := Scalar.muli v13968 c32_i32_6315
  v13969
def k0_mult1029 (v13972 : BitVec 32) : BitVec 32 :=
  let c0_i32_6317 : BitVec 32 := 0#32
  let c32_i32_6316 : BitVec 32 := 32#32
  let v13973 : BitVec 32 := Scalar.muli v13972 c32_i32_6316
  let v13974 : BitVec 32 := Scalar.addi c0_i32_6317 v13973
  v13974

def k0_off2002 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6313 : BitVec 32 := 16#32
  let v13967 : BitVec 32 := Scalar.muli arg18 c16_i32_6313
  let c1_i32_6314 : BitVec 32 := 1#32
  let v13968 : BitVec 32 := Scalar.addi v13967 c1_i32_6314
  let c32_i32_6315 : BitVec 32 := 32#32
  let v13969 : BitVec 32 := Scalar.muli v13968 c32_i32_6315
  let v13970 : BitVec 32 := v13969
  ![v13970.toNat]
def k0_off2003 (v13972 : BitVec 32) : Fin 1 → Nat :=
  let c0_i32_6317 : BitVec 32 := 0#32
  let c32_i32_6316 : BitVec 32 := 32#32
  let v13973 : BitVec 32 := Scalar.muli v13972 c32_i32_6316
  let v13974 : BitVec 32 := Scalar.addi c0_i32_6317 v13973
  let v13975 : BitVec 32 := v13974
  ![v13975.toNat]
def k0_mult1030 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6318 : BitVec 32 := 16#32
  let v13980 : BitVec 32 := Scalar.muli arg18 c16_i32_6318
  let c2_i32_6319 : BitVec 32 := 2#32
  let v13981 : BitVec 32 := Scalar.addi v13980 c2_i32_6319
  let c32_i32_6320 : BitVec 32 := 32#32
  let v13982 : BitVec 32 := Scalar.muli v13981 c32_i32_6320
  v13982
def k0_mult1031 (v13985 : BitVec 32) : BitVec 32 :=
  let c0_i32_6322 : BitVec 32 := 0#32
  let c32_i32_6321 : BitVec 32 := 32#32
  let v13986 : BitVec 32 := Scalar.muli v13985 c32_i32_6321
  let v13987 : BitVec 32 := Scalar.addi c0_i32_6322 v13986
  v13987

def k0_off2004 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6318 : BitVec 32 := 16#32
  let v13980 : BitVec 32 := Scalar.muli arg18 c16_i32_6318
  let c2_i32_6319 : BitVec 32 := 2#32
  let v13981 : BitVec 32 := Scalar.addi v13980 c2_i32_6319
  let c32_i32_6320 : BitVec 32 := 32#32
  let v13982 : BitVec 32 := Scalar.muli v13981 c32_i32_6320
  let v13983 : BitVec 32 := v13982
  ![v13983.toNat]
def k0_off2005 (v13985 : BitVec 32) : Fin 1 → Nat :=
  let c0_i32_6322 : BitVec 32 := 0#32
  let c32_i32_6321 : BitVec 32 := 32#32
  let v13986 : BitVec 32 := Scalar.muli v13985 c32_i32_6321
  let v13987 : BitVec 32 := Scalar.addi c0_i32_6322 v13986
  let v13988 : BitVec 32 := v13987
  ![v13988.toNat]
def k0_mult1032 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6323 : BitVec 32 := 16#32
  let v13993 : BitVec 32 := Scalar.muli arg18 c16_i32_6323
  let c3_i32 : BitVec 32 := 3#32
  let v13994 : BitVec 32 := Scalar.addi v13993 c3_i32
  let c32_i32_6324 : BitVec 32 := 32#32
  let v13995 : BitVec 32 := Scalar.muli v13994 c32_i32_6324
  v13995
def k0_mult1033 (v13998 : BitVec 32) : BitVec 32 :=
  let c0_i32_6326 : BitVec 32 := 0#32
  let c32_i32_6325 : BitVec 32 := 32#32
  let v13999 : BitVec 32 := Scalar.muli v13998 c32_i32_6325
  let v14000 : BitVec 32 := Scalar.addi c0_i32_6326 v13999
  v14000

def k0_off2006 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6323 : BitVec 32 := 16#32
  let v13993 : BitVec 32 := Scalar.muli arg18 c16_i32_6323
  let c3_i32 : BitVec 32 := 3#32
  let v13994 : BitVec 32 := Scalar.addi v13993 c3_i32
  let c32_i32_6324 : BitVec 32 := 32#32
  let v13995 : BitVec 32 := Scalar.muli v13994 c32_i32_6324
  let v13996 : BitVec 32 := v13995
  ![v13996.toNat]
def k0_off2007 (v13998 : BitVec 32) : Fin 1 → Nat :=
  let c0_i32_6326 : BitVec 32 := 0#32
  let c32_i32_6325 : BitVec 32 := 32#32
  let v13999 : BitVec 32 := Scalar.muli v13998 c32_i32_6325
  let v14000 : BitVec 32 := Scalar.addi c0_i32_6326 v13999
  let v14001 : BitVec 32 := v14000
  ![v14001.toNat]
def k0_mult1034 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6327 : BitVec 32 := 16#32
  let v14006 : BitVec 32 := Scalar.muli arg18 c16_i32_6327
  let c4_i32 : BitVec 32 := 4#32
  let v14007 : BitVec 32 := Scalar.addi v14006 c4_i32
  let c32_i32_6328 : BitVec 32 := 32#32
  let v14008 : BitVec 32 := Scalar.muli v14007 c32_i32_6328
  v14008
def k0_mult1035 (v14011 : BitVec 32) : BitVec 32 :=
  let c0_i32_6330 : BitVec 32 := 0#32
  let c32_i32_6329 : BitVec 32 := 32#32
  let v14012 : BitVec 32 := Scalar.muli v14011 c32_i32_6329
  let v14013 : BitVec 32 := Scalar.addi c0_i32_6330 v14012
  v14013

def k0_off2008 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6327 : BitVec 32 := 16#32
  let v14006 : BitVec 32 := Scalar.muli arg18 c16_i32_6327
  let c4_i32 : BitVec 32 := 4#32
  let v14007 : BitVec 32 := Scalar.addi v14006 c4_i32
  let c32_i32_6328 : BitVec 32 := 32#32
  let v14008 : BitVec 32 := Scalar.muli v14007 c32_i32_6328
  let v14009 : BitVec 32 := v14008
  ![v14009.toNat]
def k0_off2009 (v14011 : BitVec 32) : Fin 1 → Nat :=
  let c0_i32_6330 : BitVec 32 := 0#32
  let c32_i32_6329 : BitVec 32 := 32#32
  let v14012 : BitVec 32 := Scalar.muli v14011 c32_i32_6329
  let v14013 : BitVec 32 := Scalar.addi c0_i32_6330 v14012
  let v14014 : BitVec 32 := v14013
  ![v14014.toNat]
def k0_mult1036 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6331 : BitVec 32 := 16#32
  let v14019 : BitVec 32 := Scalar.muli arg18 c16_i32_6331
  let c5_i32 : BitVec 32 := 5#32
  let v14020 : BitVec 32 := Scalar.addi v14019 c5_i32
  let c32_i32_6332 : BitVec 32 := 32#32
  let v14021 : BitVec 32 := Scalar.muli v14020 c32_i32_6332
  v14021
def k0_mult1037 (v14024 : BitVec 32) : BitVec 32 :=
  let c0_i32_6334 : BitVec 32 := 0#32
  let c32_i32_6333 : BitVec 32 := 32#32
  let v14025 : BitVec 32 := Scalar.muli v14024 c32_i32_6333
  let v14026 : BitVec 32 := Scalar.addi c0_i32_6334 v14025
  v14026

def k0_off2010 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6331 : BitVec 32 := 16#32
  let v14019 : BitVec 32 := Scalar.muli arg18 c16_i32_6331
  let c5_i32 : BitVec 32 := 5#32
  let v14020 : BitVec 32 := Scalar.addi v14019 c5_i32
  let c32_i32_6332 : BitVec 32 := 32#32
  let v14021 : BitVec 32 := Scalar.muli v14020 c32_i32_6332
  let v14022 : BitVec 32 := v14021
  ![v14022.toNat]
def k0_off2011 (v14024 : BitVec 32) : Fin 1 → Nat :=
  let c0_i32_6334 : BitVec 32 := 0#32
  let c32_i32_6333 : BitVec 32 := 32#32
  let v14025 : BitVec 32 := Scalar.muli v14024 c32_i32_6333
  let v14026 : BitVec 32 := Scalar.addi c0_i32_6334 v14025
  let v14027 : BitVec 32 := v14026
  ![v14027.toNat]
def k0_mult1038 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6335 : BitVec 32 := 16#32
  let v14032 : BitVec 32 := Scalar.muli arg18 c16_i32_6335
  let c6_i32 : BitVec 32 := 6#32
  let v14033 : BitVec 32 := Scalar.addi v14032 c6_i32
  let c32_i32_6336 : BitVec 32 := 32#32
  let v14034 : BitVec 32 := Scalar.muli v14033 c32_i32_6336
  v14034
def k0_mult1039 (v14037 : BitVec 32) : BitVec 32 :=
  let c0_i32_6338 : BitVec 32 := 0#32
  let c32_i32_6337 : BitVec 32 := 32#32
  let v14038 : BitVec 32 := Scalar.muli v14037 c32_i32_6337
  let v14039 : BitVec 32 := Scalar.addi c0_i32_6338 v14038
  v14039

def k0_off2012 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6335 : BitVec 32 := 16#32
  let v14032 : BitVec 32 := Scalar.muli arg18 c16_i32_6335
  let c6_i32 : BitVec 32 := 6#32
  let v14033 : BitVec 32 := Scalar.addi v14032 c6_i32
  let c32_i32_6336 : BitVec 32 := 32#32
  let v14034 : BitVec 32 := Scalar.muli v14033 c32_i32_6336
  let v14035 : BitVec 32 := v14034
  ![v14035.toNat]
def k0_off2013 (v14037 : BitVec 32) : Fin 1 → Nat :=
  let c0_i32_6338 : BitVec 32 := 0#32
  let c32_i32_6337 : BitVec 32 := 32#32
  let v14038 : BitVec 32 := Scalar.muli v14037 c32_i32_6337
  let v14039 : BitVec 32 := Scalar.addi c0_i32_6338 v14038
  let v14040 : BitVec 32 := v14039
  ![v14040.toNat]
def k0_mult1040 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6339 : BitVec 32 := 16#32
  let v14045 : BitVec 32 := Scalar.muli arg18 c16_i32_6339
  let c7_i32 : BitVec 32 := 7#32
  let v14046 : BitVec 32 := Scalar.addi v14045 c7_i32
  let c32_i32_6340 : BitVec 32 := 32#32
  let v14047 : BitVec 32 := Scalar.muli v14046 c32_i32_6340
  v14047
def k0_mult1041 (v14050 : BitVec 32) : BitVec 32 :=
  let c0_i32_6342 : BitVec 32 := 0#32
  let c32_i32_6341 : BitVec 32 := 32#32
  let v14051 : BitVec 32 := Scalar.muli v14050 c32_i32_6341
  let v14052 : BitVec 32 := Scalar.addi c0_i32_6342 v14051
  v14052

def k0_off2014 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6339 : BitVec 32 := 16#32
  let v14045 : BitVec 32 := Scalar.muli arg18 c16_i32_6339
  let c7_i32 : BitVec 32 := 7#32
  let v14046 : BitVec 32 := Scalar.addi v14045 c7_i32
  let c32_i32_6340 : BitVec 32 := 32#32
  let v14047 : BitVec 32 := Scalar.muli v14046 c32_i32_6340
  let v14048 : BitVec 32 := v14047
  ![v14048.toNat]
def k0_off2015 (v14050 : BitVec 32) : Fin 1 → Nat :=
  let c0_i32_6342 : BitVec 32 := 0#32
  let c32_i32_6341 : BitVec 32 := 32#32
  let v14051 : BitVec 32 := Scalar.muli v14050 c32_i32_6341
  let v14052 : BitVec 32 := Scalar.addi c0_i32_6342 v14051
  let v14053 : BitVec 32 := v14052
  ![v14053.toNat]
def k0_mult1042 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6343 : BitVec 32 := 16#32
  let v14058 : BitVec 32 := Scalar.muli arg18 c16_i32_6343
  let c8_i32 : BitVec 32 := 8#32
  let v14059 : BitVec 32 := Scalar.addi v14058 c8_i32
  let c32_i32_6344 : BitVec 32 := 32#32
  let v14060 : BitVec 32 := Scalar.muli v14059 c32_i32_6344
  v14060
def k0_mult1043 (v14063 : BitVec 32) : BitVec 32 :=
  let c0_i32_6346 : BitVec 32 := 0#32
  let c32_i32_6345 : BitVec 32 := 32#32
  let v14064 : BitVec 32 := Scalar.muli v14063 c32_i32_6345
  let v14065 : BitVec 32 := Scalar.addi c0_i32_6346 v14064
  v14065

def k0_off2016 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6343 : BitVec 32 := 16#32
  let v14058 : BitVec 32 := Scalar.muli arg18 c16_i32_6343
  let c8_i32 : BitVec 32 := 8#32
  let v14059 : BitVec 32 := Scalar.addi v14058 c8_i32
  let c32_i32_6344 : BitVec 32 := 32#32
  let v14060 : BitVec 32 := Scalar.muli v14059 c32_i32_6344
  let v14061 : BitVec 32 := v14060
  ![v14061.toNat]
def k0_off2017 (v14063 : BitVec 32) : Fin 1 → Nat :=
  let c0_i32_6346 : BitVec 32 := 0#32
  let c32_i32_6345 : BitVec 32 := 32#32
  let v14064 : BitVec 32 := Scalar.muli v14063 c32_i32_6345
  let v14065 : BitVec 32 := Scalar.addi c0_i32_6346 v14064
  let v14066 : BitVec 32 := v14065
  ![v14066.toNat]
def k0_mult1044 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6347 : BitVec 32 := 16#32
  let v14071 : BitVec 32 := Scalar.muli arg18 c16_i32_6347
  let c9_i32 : BitVec 32 := 9#32
  let v14072 : BitVec 32 := Scalar.addi v14071 c9_i32
  let c32_i32_6348 : BitVec 32 := 32#32
  let v14073 : BitVec 32 := Scalar.muli v14072 c32_i32_6348
  v14073
def k0_mult1045 (v14076 : BitVec 32) : BitVec 32 :=
  let c0_i32_6350 : BitVec 32 := 0#32
  let c32_i32_6349 : BitVec 32 := 32#32
  let v14077 : BitVec 32 := Scalar.muli v14076 c32_i32_6349
  let v14078 : BitVec 32 := Scalar.addi c0_i32_6350 v14077
  v14078

def k0_off2018 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6347 : BitVec 32 := 16#32
  let v14071 : BitVec 32 := Scalar.muli arg18 c16_i32_6347
  let c9_i32 : BitVec 32 := 9#32
  let v14072 : BitVec 32 := Scalar.addi v14071 c9_i32
  let c32_i32_6348 : BitVec 32 := 32#32
  let v14073 : BitVec 32 := Scalar.muli v14072 c32_i32_6348
  let v14074 : BitVec 32 := v14073
  ![v14074.toNat]
def k0_off2019 (v14076 : BitVec 32) : Fin 1 → Nat :=
  let c0_i32_6350 : BitVec 32 := 0#32
  let c32_i32_6349 : BitVec 32 := 32#32
  let v14077 : BitVec 32 := Scalar.muli v14076 c32_i32_6349
  let v14078 : BitVec 32 := Scalar.addi c0_i32_6350 v14077
  let v14079 : BitVec 32 := v14078
  ![v14079.toNat]
def k0_mult1046 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6351 : BitVec 32 := 16#32
  let v14084 : BitVec 32 := Scalar.muli arg18 c16_i32_6351
  let c10_i32 : BitVec 32 := 10#32
  let v14085 : BitVec 32 := Scalar.addi v14084 c10_i32
  let c32_i32_6352 : BitVec 32 := 32#32
  let v14086 : BitVec 32 := Scalar.muli v14085 c32_i32_6352
  v14086
def k0_mult1047 (v14089 : BitVec 32) : BitVec 32 :=
  let c0_i32_6354 : BitVec 32 := 0#32
  let c32_i32_6353 : BitVec 32 := 32#32
  let v14090 : BitVec 32 := Scalar.muli v14089 c32_i32_6353
  let v14091 : BitVec 32 := Scalar.addi c0_i32_6354 v14090
  v14091

def k0_off2020 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6351 : BitVec 32 := 16#32
  let v14084 : BitVec 32 := Scalar.muli arg18 c16_i32_6351
  let c10_i32 : BitVec 32 := 10#32
  let v14085 : BitVec 32 := Scalar.addi v14084 c10_i32
  let c32_i32_6352 : BitVec 32 := 32#32
  let v14086 : BitVec 32 := Scalar.muli v14085 c32_i32_6352
  let v14087 : BitVec 32 := v14086
  ![v14087.toNat]
def k0_off2021 (v14089 : BitVec 32) : Fin 1 → Nat :=
  let c0_i32_6354 : BitVec 32 := 0#32
  let c32_i32_6353 : BitVec 32 := 32#32
  let v14090 : BitVec 32 := Scalar.muli v14089 c32_i32_6353
  let v14091 : BitVec 32 := Scalar.addi c0_i32_6354 v14090
  let v14092 : BitVec 32 := v14091
  ![v14092.toNat]
def k0_mult1048 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6355 : BitVec 32 := 16#32
  let v14097 : BitVec 32 := Scalar.muli arg18 c16_i32_6355
  let c11_i32 : BitVec 32 := 11#32
  let v14098 : BitVec 32 := Scalar.addi v14097 c11_i32
  let c32_i32_6356 : BitVec 32 := 32#32
  let v14099 : BitVec 32 := Scalar.muli v14098 c32_i32_6356
  v14099
def k0_mult1049 (v14102 : BitVec 32) : BitVec 32 :=
  let c0_i32_6358 : BitVec 32 := 0#32
  let c32_i32_6357 : BitVec 32 := 32#32
  let v14103 : BitVec 32 := Scalar.muli v14102 c32_i32_6357
  let v14104 : BitVec 32 := Scalar.addi c0_i32_6358 v14103
  v14104

def k0_off2022 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6355 : BitVec 32 := 16#32
  let v14097 : BitVec 32 := Scalar.muli arg18 c16_i32_6355
  let c11_i32 : BitVec 32 := 11#32
  let v14098 : BitVec 32 := Scalar.addi v14097 c11_i32
  let c32_i32_6356 : BitVec 32 := 32#32
  let v14099 : BitVec 32 := Scalar.muli v14098 c32_i32_6356
  let v14100 : BitVec 32 := v14099
  ![v14100.toNat]
def k0_off2023 (v14102 : BitVec 32) : Fin 1 → Nat :=
  let c0_i32_6358 : BitVec 32 := 0#32
  let c32_i32_6357 : BitVec 32 := 32#32
  let v14103 : BitVec 32 := Scalar.muli v14102 c32_i32_6357
  let v14104 : BitVec 32 := Scalar.addi c0_i32_6358 v14103
  let v14105 : BitVec 32 := v14104
  ![v14105.toNat]
def k0_mult1050 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6359 : BitVec 32 := 16#32
  let v14110 : BitVec 32 := Scalar.muli arg18 c16_i32_6359
  let c12_i32 : BitVec 32 := 12#32
  let v14111 : BitVec 32 := Scalar.addi v14110 c12_i32
  let c32_i32_6360 : BitVec 32 := 32#32
  let v14112 : BitVec 32 := Scalar.muli v14111 c32_i32_6360
  v14112
def k0_mult1051 (v14115 : BitVec 32) : BitVec 32 :=
  let c0_i32_6362 : BitVec 32 := 0#32
  let c32_i32_6361 : BitVec 32 := 32#32
  let v14116 : BitVec 32 := Scalar.muli v14115 c32_i32_6361
  let v14117 : BitVec 32 := Scalar.addi c0_i32_6362 v14116
  v14117

def k0_off2024 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6359 : BitVec 32 := 16#32
  let v14110 : BitVec 32 := Scalar.muli arg18 c16_i32_6359
  let c12_i32 : BitVec 32 := 12#32
  let v14111 : BitVec 32 := Scalar.addi v14110 c12_i32
  let c32_i32_6360 : BitVec 32 := 32#32
  let v14112 : BitVec 32 := Scalar.muli v14111 c32_i32_6360
  let v14113 : BitVec 32 := v14112
  ![v14113.toNat]
def k0_off2025 (v14115 : BitVec 32) : Fin 1 → Nat :=
  let c0_i32_6362 : BitVec 32 := 0#32
  let c32_i32_6361 : BitVec 32 := 32#32
  let v14116 : BitVec 32 := Scalar.muli v14115 c32_i32_6361
  let v14117 : BitVec 32 := Scalar.addi c0_i32_6362 v14116
  let v14118 : BitVec 32 := v14117
  ![v14118.toNat]
def k0_mult1052 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6363 : BitVec 32 := 16#32
  let v14123 : BitVec 32 := Scalar.muli arg18 c16_i32_6363
  let c13_i32 : BitVec 32 := 13#32
  let v14124 : BitVec 32 := Scalar.addi v14123 c13_i32
  let c32_i32_6364 : BitVec 32 := 32#32
  let v14125 : BitVec 32 := Scalar.muli v14124 c32_i32_6364
  v14125
def k0_mult1053 (v14128 : BitVec 32) : BitVec 32 :=
  let c0_i32_6366 : BitVec 32 := 0#32
  let c32_i32_6365 : BitVec 32 := 32#32
  let v14129 : BitVec 32 := Scalar.muli v14128 c32_i32_6365
  let v14130 : BitVec 32 := Scalar.addi c0_i32_6366 v14129
  v14130

def k0_off2026 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6363 : BitVec 32 := 16#32
  let v14123 : BitVec 32 := Scalar.muli arg18 c16_i32_6363
  let c13_i32 : BitVec 32 := 13#32
  let v14124 : BitVec 32 := Scalar.addi v14123 c13_i32
  let c32_i32_6364 : BitVec 32 := 32#32
  let v14125 : BitVec 32 := Scalar.muli v14124 c32_i32_6364
  let v14126 : BitVec 32 := v14125
  ![v14126.toNat]
def k0_off2027 (v14128 : BitVec 32) : Fin 1 → Nat :=
  let c0_i32_6366 : BitVec 32 := 0#32
  let c32_i32_6365 : BitVec 32 := 32#32
  let v14129 : BitVec 32 := Scalar.muli v14128 c32_i32_6365
  let v14130 : BitVec 32 := Scalar.addi c0_i32_6366 v14129
  let v14131 : BitVec 32 := v14130
  ![v14131.toNat]
def k0_mult1054 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6367 : BitVec 32 := 16#32
  let v14136 : BitVec 32 := Scalar.muli arg18 c16_i32_6367
  let c14_i32 : BitVec 32 := 14#32
  let v14137 : BitVec 32 := Scalar.addi v14136 c14_i32
  let c32_i32_6368 : BitVec 32 := 32#32
  let v14138 : BitVec 32 := Scalar.muli v14137 c32_i32_6368
  v14138
def k0_mult1055 (v14141 : BitVec 32) : BitVec 32 :=
  let c0_i32_6370 : BitVec 32 := 0#32
  let c32_i32_6369 : BitVec 32 := 32#32
  let v14142 : BitVec 32 := Scalar.muli v14141 c32_i32_6369
  let v14143 : BitVec 32 := Scalar.addi c0_i32_6370 v14142
  v14143

def k0_off2028 (k0_t15 : Fin k0_t15_loop.trips) : Fin 1 → Nat :=
  let c0_i32_6295 : BitVec 32 := 0#32
  let c1_i32_6296 : BitVec 32 := 1#32
  let arg18 : BitVec 32 := Scf.iv c0_i32_6295 c1_i32_6296 k0_t15
  let c16_i32_6367 : BitVec 32 := 16#32
  let v14136 : BitVec 32 := Scalar.muli arg18 c16_i32_6367
  let c14_i32 : BitVec 32 := 14#32
  let v14137 : BitVec 32 := Scalar.addi v14136 c14_i32
  let c32_i32_6368 : BitVec 32 := 32#32
  let v14138 : BitVec 32 := Scalar.muli v14137 c32_i32_6368
  let v14139 : BitVec 32 := v14138
  ![v14139.toNat]
def k0_off2029 (v14141 : BitVec 32) : Fin 1 → Nat :=
  let c0_i32_6370 : BitVec 32 := 0#32
  let c32_i32_6369 : BitVec 32 := 32#32
  let v14142 : BitVec 32 := Scalar.muli v14141 c32_i32_6369
  let v14143 : BitVec 32 := Scalar.addi c0_i32_6370 v14142
  let v14144 : BitVec 32 := v14143
  ![v14144.toNat]
def k0_mult1056 (k0_t15 : Fin k0_t15_loop.trips) : BitVec 32 :=
  let c0_i32_6295 : BitVec 32 := 0#32
  let c1_i32_6296 : BitVec 32 := 1#32
  let arg18 : BitVec 32 := Scf.iv c0_i32_6295 c1_i32_6296 k0_t15
  let c16_i32_6371 : BitVec 32 := 16#32
  let v14149 : BitVec 32 := Scalar.muli arg18 c16_i32_6371
  let c15_i32 : BitVec 32 := 15#32
  let v14150 : BitVec 32 := Scalar.addi v14149 c15_i32
  let c32_i32_6372 : BitVec 32 := 32#32
  let v14151 : BitVec 32 := Scalar.muli v14150 c32_i32_6372
  v14151
def k0_mult1057 (v14154 : BitVec 32) : BitVec 32 :=
  let c0_i32_6374 : BitVec 32 := 0#32
  let c32_i32_6373 : BitVec 32 := 32#32
  let v14155 : BitVec 32 := Scalar.muli v14154 c32_i32_6373
  let v14156 : BitVec 32 := Scalar.addi c0_i32_6374 v14155
  v14156

def k0_off2030 (k0_t15 : Fin k0_t15_loop.trips) (c15_i32 : BitVec 32) : Fin 1 → Nat :=
  let c0_i32_6295 : BitVec 32 := 0#32
  let c1_i32_6296 : BitVec 32 := 1#32
  let arg18 : BitVec 32 := Scf.iv c0_i32_6295 c1_i32_6296 k0_t15
  let c16_i32_6371 : BitVec 32 := 16#32
  let v14149 : BitVec 32 := Scalar.muli arg18 c16_i32_6371
  let v14150 : BitVec 32 := Scalar.addi v14149 c15_i32
  let c32_i32_6372 : BitVec 32 := 32#32
  let v14151 : BitVec 32 := Scalar.muli v14150 c32_i32_6372
  let v14152 : BitVec 32 := v14151
  ![v14152.toNat]
def k0_off2031 (v14154 : BitVec 32) : Fin 1 → Nat :=
  let c0_i32_6374 : BitVec 32 := 0#32
  let c32_i32_6373 : BitVec 32 := 32#32
  let v14155 : BitVec 32 := Scalar.muli v14154 c32_i32_6373
  let v14156 : BitVec 32 := Scalar.addi c0_i32_6374 v14155
  let v14157 : BitVec 32 := v14156
  ![v14157.toNat]

def k0_chk1066 (v14154 : BitVec 32) : Prop :=
  (8 ∣ (k0_mult1057 v14154).toNat) ∧
  (∀ a, (k0_off2031 v14154) a + S32.size a ≤ S3407872.size a)
theorem k0_mult1057_dvd : ∀ (v14154 : BitVec 32) (k0_hw1066 : k0_chk1066 v14154), 8 ∣ (k0_mult1057 v14154).toNat := fun v14154 k0_hw1066 => k0_hw1066.1
theorem k0_off2031_inb : ∀ (v14154 : BitVec 32) (k0_hw1066 : k0_chk1066 v14154), ∀ a, (k0_off2031 v14154) a + S32.size a ≤ S3407872.size a := fun v14154 k0_hw1066 => k0_hw1066.2

def k0_off2032 (v13959 : BitVec 32) : Fin 1 → Nat :=
  let c0_i32_6312 : BitVec 32 := 0#32
  let c32_i32_6311 : BitVec 32 := 32#32
  let v13960 : BitVec 32 := Scalar.muli v13959 c32_i32_6311
  let v13961 : BitVec 32 := Scalar.addi c0_i32_6312 v13960
  let v13962 : BitVec 32 := v13961
  ![v13962.toNat]

def k0_chk1051 (v13959 : BitVec 32) : Prop :=
  (8 ∣ (k0_mult1027 v13959).toNat) ∧
  (∀ a, (k0_off2001 v13959) a + S32.size a ≤ S3407872.size a) ∧
  (∀ a, (k0_off2032 v13959) a + S32.size a ≤ S3407872.size a)
theorem k0_mult1027_dvd : ∀ (v13959 : BitVec 32) (k0_hw1051 : k0_chk1051 v13959), 8 ∣ (k0_mult1027 v13959).toNat := fun v13959 k0_hw1051 => k0_hw1051.1
theorem k0_off2001_inb : ∀ (v13959 : BitVec 32) (k0_hw1051 : k0_chk1051 v13959), ∀ a, (k0_off2001 v13959) a + S32.size a ≤ S3407872.size a := fun v13959 k0_hw1051 => k0_hw1051.2.1
theorem k0_off2032_inb : ∀ (v13959 : BitVec 32) (k0_hw1051 : k0_chk1051 v13959), ∀ a, (k0_off2032 v13959) a + S32.size a ≤ S3407872.size a := fun v13959 k0_hw1051 => k0_hw1051.2.2

def k0_off2033 (v13972 : BitVec 32) : Fin 1 → Nat :=
  let c0_i32_6317 : BitVec 32 := 0#32
  let c32_i32_6316 : BitVec 32 := 32#32
  let v13973 : BitVec 32 := Scalar.muli v13972 c32_i32_6316
  let v13974 : BitVec 32 := Scalar.addi c0_i32_6317 v13973
  let v13975 : BitVec 32 := v13974
  ![v13975.toNat]

def k0_chk1052 (v13972 : BitVec 32) : Prop :=
  (8 ∣ (k0_mult1029 v13972).toNat) ∧
  (∀ a, (k0_off2003 v13972) a + S32.size a ≤ S3407872.size a) ∧
  (∀ a, (k0_off2033 v13972) a + S32.size a ≤ S3407872.size a)
theorem k0_mult1029_dvd : ∀ (v13972 : BitVec 32) (k0_hw1052 : k0_chk1052 v13972), 8 ∣ (k0_mult1029 v13972).toNat := fun v13972 k0_hw1052 => k0_hw1052.1
theorem k0_off2003_inb : ∀ (v13972 : BitVec 32) (k0_hw1052 : k0_chk1052 v13972), ∀ a, (k0_off2003 v13972) a + S32.size a ≤ S3407872.size a := fun v13972 k0_hw1052 => k0_hw1052.2.1
theorem k0_off2033_inb : ∀ (v13972 : BitVec 32) (k0_hw1052 : k0_chk1052 v13972), ∀ a, (k0_off2033 v13972) a + S32.size a ≤ S3407872.size a := fun v13972 k0_hw1052 => k0_hw1052.2.2

def k0_off2034 (v13985 : BitVec 32) : Fin 1 → Nat :=
  let c0_i32_6322 : BitVec 32 := 0#32
  let c32_i32_6321 : BitVec 32 := 32#32
  let v13986 : BitVec 32 := Scalar.muli v13985 c32_i32_6321
  let v13987 : BitVec 32 := Scalar.addi c0_i32_6322 v13986
  let v13988 : BitVec 32 := v13987
  ![v13988.toNat]

def k0_chk1053 (v13985 : BitVec 32) : Prop :=
  (8 ∣ (k0_mult1031 v13985).toNat) ∧
  (∀ a, (k0_off2005 v13985) a + S32.size a ≤ S3407872.size a) ∧
  (∀ a, (k0_off2034 v13985) a + S32.size a ≤ S3407872.size a)
theorem k0_mult1031_dvd : ∀ (v13985 : BitVec 32) (k0_hw1053 : k0_chk1053 v13985), 8 ∣ (k0_mult1031 v13985).toNat := fun v13985 k0_hw1053 => k0_hw1053.1
theorem k0_off2005_inb : ∀ (v13985 : BitVec 32) (k0_hw1053 : k0_chk1053 v13985), ∀ a, (k0_off2005 v13985) a + S32.size a ≤ S3407872.size a := fun v13985 k0_hw1053 => k0_hw1053.2.1
theorem k0_off2034_inb : ∀ (v13985 : BitVec 32) (k0_hw1053 : k0_chk1053 v13985), ∀ a, (k0_off2034 v13985) a + S32.size a ≤ S3407872.size a := fun v13985 k0_hw1053 => k0_hw1053.2.2

def k0_off2035 (v13998 : BitVec 32) : Fin 1 → Nat :=
  let c0_i32_6326 : BitVec 32 := 0#32
  let c32_i32_6325 : BitVec 32 := 32#32
  let v13999 : BitVec 32 := Scalar.muli v13998 c32_i32_6325
  let v14000 : BitVec 32 := Scalar.addi c0_i32_6326 v13999
  let v14001 : BitVec 32 := v14000
  ![v14001.toNat]

def k0_chk1054 (v13998 : BitVec 32) : Prop :=
  (8 ∣ (k0_mult1033 v13998).toNat) ∧
  (∀ a, (k0_off2007 v13998) a + S32.size a ≤ S3407872.size a) ∧
  (∀ a, (k0_off2035 v13998) a + S32.size a ≤ S3407872.size a)
theorem k0_mult1033_dvd : ∀ (v13998 : BitVec 32) (k0_hw1054 : k0_chk1054 v13998), 8 ∣ (k0_mult1033 v13998).toNat := fun v13998 k0_hw1054 => k0_hw1054.1
theorem k0_off2007_inb : ∀ (v13998 : BitVec 32) (k0_hw1054 : k0_chk1054 v13998), ∀ a, (k0_off2007 v13998) a + S32.size a ≤ S3407872.size a := fun v13998 k0_hw1054 => k0_hw1054.2.1
theorem k0_off2035_inb : ∀ (v13998 : BitVec 32) (k0_hw1054 : k0_chk1054 v13998), ∀ a, (k0_off2035 v13998) a + S32.size a ≤ S3407872.size a := fun v13998 k0_hw1054 => k0_hw1054.2.2

def k0_off2036 (v14011 : BitVec 32) : Fin 1 → Nat :=
  let c0_i32_6330 : BitVec 32 := 0#32
  let c32_i32_6329 : BitVec 32 := 32#32
  let v14012 : BitVec 32 := Scalar.muli v14011 c32_i32_6329
  let v14013 : BitVec 32 := Scalar.addi c0_i32_6330 v14012
  let v14014 : BitVec 32 := v14013
  ![v14014.toNat]

def k0_chk1055 (v14011 : BitVec 32) : Prop :=
  (8 ∣ (k0_mult1035 v14011).toNat) ∧
  (∀ a, (k0_off2009 v14011) a + S32.size a ≤ S3407872.size a) ∧
  (∀ a, (k0_off2036 v14011) a + S32.size a ≤ S3407872.size a)
theorem k0_mult1035_dvd : ∀ (v14011 : BitVec 32) (k0_hw1055 : k0_chk1055 v14011), 8 ∣ (k0_mult1035 v14011).toNat := fun v14011 k0_hw1055 => k0_hw1055.1
theorem k0_off2009_inb : ∀ (v14011 : BitVec 32) (k0_hw1055 : k0_chk1055 v14011), ∀ a, (k0_off2009 v14011) a + S32.size a ≤ S3407872.size a := fun v14011 k0_hw1055 => k0_hw1055.2.1
theorem k0_off2036_inb : ∀ (v14011 : BitVec 32) (k0_hw1055 : k0_chk1055 v14011), ∀ a, (k0_off2036 v14011) a + S32.size a ≤ S3407872.size a := fun v14011 k0_hw1055 => k0_hw1055.2.2

def k0_off2037 (v14024 : BitVec 32) : Fin 1 → Nat :=
  let c0_i32_6334 : BitVec 32 := 0#32
  let c32_i32_6333 : BitVec 32 := 32#32
  let v14025 : BitVec 32 := Scalar.muli v14024 c32_i32_6333
  let v14026 : BitVec 32 := Scalar.addi c0_i32_6334 v14025
  let v14027 : BitVec 32 := v14026
  ![v14027.toNat]

def k0_chk1056 (v14024 : BitVec 32) : Prop :=
  (8 ∣ (k0_mult1037 v14024).toNat) ∧
  (∀ a, (k0_off2011 v14024) a + S32.size a ≤ S3407872.size a) ∧
  (∀ a, (k0_off2037 v14024) a + S32.size a ≤ S3407872.size a)
theorem k0_mult1037_dvd : ∀ (v14024 : BitVec 32) (k0_hw1056 : k0_chk1056 v14024), 8 ∣ (k0_mult1037 v14024).toNat := fun v14024 k0_hw1056 => k0_hw1056.1
theorem k0_off2011_inb : ∀ (v14024 : BitVec 32) (k0_hw1056 : k0_chk1056 v14024), ∀ a, (k0_off2011 v14024) a + S32.size a ≤ S3407872.size a := fun v14024 k0_hw1056 => k0_hw1056.2.1
theorem k0_off2037_inb : ∀ (v14024 : BitVec 32) (k0_hw1056 : k0_chk1056 v14024), ∀ a, (k0_off2037 v14024) a + S32.size a ≤ S3407872.size a := fun v14024 k0_hw1056 => k0_hw1056.2.2

def k0_off2038 (v14037 : BitVec 32) : Fin 1 → Nat :=
  let c0_i32_6338 : BitVec 32 := 0#32
  let c32_i32_6337 : BitVec 32 := 32#32
  let v14038 : BitVec 32 := Scalar.muli v14037 c32_i32_6337
  let v14039 : BitVec 32 := Scalar.addi c0_i32_6338 v14038
  let v14040 : BitVec 32 := v14039
  ![v14040.toNat]

def k0_chk1057 (v14037 : BitVec 32) : Prop :=
  (8 ∣ (k0_mult1039 v14037).toNat) ∧
  (∀ a, (k0_off2013 v14037) a + S32.size a ≤ S3407872.size a) ∧
  (∀ a, (k0_off2038 v14037) a + S32.size a ≤ S3407872.size a)
theorem k0_mult1039_dvd : ∀ (v14037 : BitVec 32) (k0_hw1057 : k0_chk1057 v14037), 8 ∣ (k0_mult1039 v14037).toNat := fun v14037 k0_hw1057 => k0_hw1057.1
theorem k0_off2013_inb : ∀ (v14037 : BitVec 32) (k0_hw1057 : k0_chk1057 v14037), ∀ a, (k0_off2013 v14037) a + S32.size a ≤ S3407872.size a := fun v14037 k0_hw1057 => k0_hw1057.2.1
theorem k0_off2038_inb : ∀ (v14037 : BitVec 32) (k0_hw1057 : k0_chk1057 v14037), ∀ a, (k0_off2038 v14037) a + S32.size a ≤ S3407872.size a := fun v14037 k0_hw1057 => k0_hw1057.2.2

def k0_off2039 (v14050 : BitVec 32) : Fin 1 → Nat :=
  let c0_i32_6342 : BitVec 32 := 0#32
  let c32_i32_6341 : BitVec 32 := 32#32
  let v14051 : BitVec 32 := Scalar.muli v14050 c32_i32_6341
  let v14052 : BitVec 32 := Scalar.addi c0_i32_6342 v14051
  let v14053 : BitVec 32 := v14052
  ![v14053.toNat]

def k0_chk1058 (v14050 : BitVec 32) : Prop :=
  (8 ∣ (k0_mult1041 v14050).toNat) ∧
  (∀ a, (k0_off2015 v14050) a + S32.size a ≤ S3407872.size a) ∧
  (∀ a, (k0_off2039 v14050) a + S32.size a ≤ S3407872.size a)
theorem k0_mult1041_dvd : ∀ (v14050 : BitVec 32) (k0_hw1058 : k0_chk1058 v14050), 8 ∣ (k0_mult1041 v14050).toNat := fun v14050 k0_hw1058 => k0_hw1058.1
theorem k0_off2015_inb : ∀ (v14050 : BitVec 32) (k0_hw1058 : k0_chk1058 v14050), ∀ a, (k0_off2015 v14050) a + S32.size a ≤ S3407872.size a := fun v14050 k0_hw1058 => k0_hw1058.2.1
theorem k0_off2039_inb : ∀ (v14050 : BitVec 32) (k0_hw1058 : k0_chk1058 v14050), ∀ a, (k0_off2039 v14050) a + S32.size a ≤ S3407872.size a := fun v14050 k0_hw1058 => k0_hw1058.2.2

def k0_off2040 (v14063 : BitVec 32) : Fin 1 → Nat :=
  let c0_i32_6346 : BitVec 32 := 0#32
  let c32_i32_6345 : BitVec 32 := 32#32
  let v14064 : BitVec 32 := Scalar.muli v14063 c32_i32_6345
  let v14065 : BitVec 32 := Scalar.addi c0_i32_6346 v14064
  let v14066 : BitVec 32 := v14065
  ![v14066.toNat]

def k0_chk1059 (v14063 : BitVec 32) : Prop :=
  (8 ∣ (k0_mult1043 v14063).toNat) ∧
  (∀ a, (k0_off2017 v14063) a + S32.size a ≤ S3407872.size a) ∧
  (∀ a, (k0_off2040 v14063) a + S32.size a ≤ S3407872.size a)
theorem k0_mult1043_dvd : ∀ (v14063 : BitVec 32) (k0_hw1059 : k0_chk1059 v14063), 8 ∣ (k0_mult1043 v14063).toNat := fun v14063 k0_hw1059 => k0_hw1059.1
theorem k0_off2017_inb : ∀ (v14063 : BitVec 32) (k0_hw1059 : k0_chk1059 v14063), ∀ a, (k0_off2017 v14063) a + S32.size a ≤ S3407872.size a := fun v14063 k0_hw1059 => k0_hw1059.2.1
theorem k0_off2040_inb : ∀ (v14063 : BitVec 32) (k0_hw1059 : k0_chk1059 v14063), ∀ a, (k0_off2040 v14063) a + S32.size a ≤ S3407872.size a := fun v14063 k0_hw1059 => k0_hw1059.2.2

def k0_off2041 (v14076 : BitVec 32) : Fin 1 → Nat :=
  let c0_i32_6350 : BitVec 32 := 0#32
  let c32_i32_6349 : BitVec 32 := 32#32
  let v14077 : BitVec 32 := Scalar.muli v14076 c32_i32_6349
  let v14078 : BitVec 32 := Scalar.addi c0_i32_6350 v14077
  let v14079 : BitVec 32 := v14078
  ![v14079.toNat]

def k0_chk1060 (v14076 : BitVec 32) : Prop :=
  (8 ∣ (k0_mult1045 v14076).toNat) ∧
  (∀ a, (k0_off2019 v14076) a + S32.size a ≤ S3407872.size a) ∧
  (∀ a, (k0_off2041 v14076) a + S32.size a ≤ S3407872.size a)
theorem k0_mult1045_dvd : ∀ (v14076 : BitVec 32) (k0_hw1060 : k0_chk1060 v14076), 8 ∣ (k0_mult1045 v14076).toNat := fun v14076 k0_hw1060 => k0_hw1060.1
theorem k0_off2019_inb : ∀ (v14076 : BitVec 32) (k0_hw1060 : k0_chk1060 v14076), ∀ a, (k0_off2019 v14076) a + S32.size a ≤ S3407872.size a := fun v14076 k0_hw1060 => k0_hw1060.2.1
theorem k0_off2041_inb : ∀ (v14076 : BitVec 32) (k0_hw1060 : k0_chk1060 v14076), ∀ a, (k0_off2041 v14076) a + S32.size a ≤ S3407872.size a := fun v14076 k0_hw1060 => k0_hw1060.2.2

def k0_off2042 (v14089 : BitVec 32) : Fin 1 → Nat :=
  let c0_i32_6354 : BitVec 32 := 0#32
  let c32_i32_6353 : BitVec 32 := 32#32
  let v14090 : BitVec 32 := Scalar.muli v14089 c32_i32_6353
  let v14091 : BitVec 32 := Scalar.addi c0_i32_6354 v14090
  let v14092 : BitVec 32 := v14091
  ![v14092.toNat]

def k0_chk1061 (v14089 : BitVec 32) : Prop :=
  (8 ∣ (k0_mult1047 v14089).toNat) ∧
  (∀ a, (k0_off2021 v14089) a + S32.size a ≤ S3407872.size a) ∧
  (∀ a, (k0_off2042 v14089) a + S32.size a ≤ S3407872.size a)
theorem k0_mult1047_dvd : ∀ (v14089 : BitVec 32) (k0_hw1061 : k0_chk1061 v14089), 8 ∣ (k0_mult1047 v14089).toNat := fun v14089 k0_hw1061 => k0_hw1061.1
theorem k0_off2021_inb : ∀ (v14089 : BitVec 32) (k0_hw1061 : k0_chk1061 v14089), ∀ a, (k0_off2021 v14089) a + S32.size a ≤ S3407872.size a := fun v14089 k0_hw1061 => k0_hw1061.2.1
theorem k0_off2042_inb : ∀ (v14089 : BitVec 32) (k0_hw1061 : k0_chk1061 v14089), ∀ a, (k0_off2042 v14089) a + S32.size a ≤ S3407872.size a := fun v14089 k0_hw1061 => k0_hw1061.2.2

def k0_off2043 (v14102 : BitVec 32) : Fin 1 → Nat :=
  let c0_i32_6358 : BitVec 32 := 0#32
  let c32_i32_6357 : BitVec 32 := 32#32
  let v14103 : BitVec 32 := Scalar.muli v14102 c32_i32_6357
  let v14104 : BitVec 32 := Scalar.addi c0_i32_6358 v14103
  let v14105 : BitVec 32 := v14104
  ![v14105.toNat]

def k0_chk1062 (v14102 : BitVec 32) : Prop :=
  (8 ∣ (k0_mult1049 v14102).toNat) ∧
  (∀ a, (k0_off2023 v14102) a + S32.size a ≤ S3407872.size a) ∧
  (∀ a, (k0_off2043 v14102) a + S32.size a ≤ S3407872.size a)
theorem k0_mult1049_dvd : ∀ (v14102 : BitVec 32) (k0_hw1062 : k0_chk1062 v14102), 8 ∣ (k0_mult1049 v14102).toNat := fun v14102 k0_hw1062 => k0_hw1062.1
theorem k0_off2023_inb : ∀ (v14102 : BitVec 32) (k0_hw1062 : k0_chk1062 v14102), ∀ a, (k0_off2023 v14102) a + S32.size a ≤ S3407872.size a := fun v14102 k0_hw1062 => k0_hw1062.2.1
theorem k0_off2043_inb : ∀ (v14102 : BitVec 32) (k0_hw1062 : k0_chk1062 v14102), ∀ a, (k0_off2043 v14102) a + S32.size a ≤ S3407872.size a := fun v14102 k0_hw1062 => k0_hw1062.2.2

def k0_off2044 (v14115 : BitVec 32) : Fin 1 → Nat :=
  let c0_i32_6362 : BitVec 32 := 0#32
  let c32_i32_6361 : BitVec 32 := 32#32
  let v14116 : BitVec 32 := Scalar.muli v14115 c32_i32_6361
  let v14117 : BitVec 32 := Scalar.addi c0_i32_6362 v14116
  let v14118 : BitVec 32 := v14117
  ![v14118.toNat]

def k0_chk1063 (v14115 : BitVec 32) : Prop :=
  (8 ∣ (k0_mult1051 v14115).toNat) ∧
  (∀ a, (k0_off2025 v14115) a + S32.size a ≤ S3407872.size a) ∧
  (∀ a, (k0_off2044 v14115) a + S32.size a ≤ S3407872.size a)
theorem k0_mult1051_dvd : ∀ (v14115 : BitVec 32) (k0_hw1063 : k0_chk1063 v14115), 8 ∣ (k0_mult1051 v14115).toNat := fun v14115 k0_hw1063 => k0_hw1063.1
theorem k0_off2025_inb : ∀ (v14115 : BitVec 32) (k0_hw1063 : k0_chk1063 v14115), ∀ a, (k0_off2025 v14115) a + S32.size a ≤ S3407872.size a := fun v14115 k0_hw1063 => k0_hw1063.2.1
theorem k0_off2044_inb : ∀ (v14115 : BitVec 32) (k0_hw1063 : k0_chk1063 v14115), ∀ a, (k0_off2044 v14115) a + S32.size a ≤ S3407872.size a := fun v14115 k0_hw1063 => k0_hw1063.2.2

def k0_off2045 (v14128 : BitVec 32) : Fin 1 → Nat :=
  let c0_i32_6366 : BitVec 32 := 0#32
  let c32_i32_6365 : BitVec 32 := 32#32
  let v14129 : BitVec 32 := Scalar.muli v14128 c32_i32_6365
  let v14130 : BitVec 32 := Scalar.addi c0_i32_6366 v14129
  let v14131 : BitVec 32 := v14130
  ![v14131.toNat]

def k0_chk1064 (v14128 : BitVec 32) : Prop :=
  (8 ∣ (k0_mult1053 v14128).toNat) ∧
  (∀ a, (k0_off2027 v14128) a + S32.size a ≤ S3407872.size a) ∧
  (∀ a, (k0_off2045 v14128) a + S32.size a ≤ S3407872.size a)
theorem k0_mult1053_dvd : ∀ (v14128 : BitVec 32) (k0_hw1064 : k0_chk1064 v14128), 8 ∣ (k0_mult1053 v14128).toNat := fun v14128 k0_hw1064 => k0_hw1064.1
theorem k0_off2027_inb : ∀ (v14128 : BitVec 32) (k0_hw1064 : k0_chk1064 v14128), ∀ a, (k0_off2027 v14128) a + S32.size a ≤ S3407872.size a := fun v14128 k0_hw1064 => k0_hw1064.2.1
theorem k0_off2045_inb : ∀ (v14128 : BitVec 32) (k0_hw1064 : k0_chk1064 v14128), ∀ a, (k0_off2045 v14128) a + S32.size a ≤ S3407872.size a := fun v14128 k0_hw1064 => k0_hw1064.2.2

def k0_off2046 (v14141 : BitVec 32) : Fin 1 → Nat :=
  let c0_i32_6370 : BitVec 32 := 0#32
  let c32_i32_6369 : BitVec 32 := 32#32
  let v14142 : BitVec 32 := Scalar.muli v14141 c32_i32_6369
  let v14143 : BitVec 32 := Scalar.addi c0_i32_6370 v14142
  let v14144 : BitVec 32 := v14143
  ![v14144.toNat]

def k0_chk1065 (v14141 : BitVec 32) : Prop :=
  (8 ∣ (k0_mult1055 v14141).toNat) ∧
  (∀ a, (k0_off2029 v14141) a + S32.size a ≤ S3407872.size a) ∧
  (∀ a, (k0_off2046 v14141) a + S32.size a ≤ S3407872.size a)
theorem k0_mult1055_dvd : ∀ (v14141 : BitVec 32) (k0_hw1065 : k0_chk1065 v14141), 8 ∣ (k0_mult1055 v14141).toNat := fun v14141 k0_hw1065 => k0_hw1065.1
theorem k0_off2029_inb : ∀ (v14141 : BitVec 32) (k0_hw1065 : k0_chk1065 v14141), ∀ a, (k0_off2029 v14141) a + S32.size a ≤ S3407872.size a := fun v14141 k0_hw1065 => k0_hw1065.2.1
theorem k0_off2046_inb : ∀ (v14141 : BitVec 32) (k0_hw1065 : k0_chk1065 v14141), ∀ a, (k0_off2046 v14141) a + S32.size a ≤ S3407872.size a := fun v14141 k0_hw1065 => k0_hw1065.2.2

@[reducible] def k0_t16_loop : Scf.Loop 32 :=
  let c0_i32_6299 : BitVec 32 := 0#32
  let c32_i32_6300 : BitVec 32 := 32#32
  let v13949 : BitVec 32 := Scalar.addi c0_i32_6299 c32_i32_6300
  let c1_i32_6301 : BitVec 32 := 1#32
  ⟨c0_i32_6299, v13949, c1_i32_6301⟩
def k0_off2047 (i : grid0.Coords) (k0_t16 : Fin k0_t16_loop.trips) : Fin 2 → Nat :=
  let c32_i32_6308 : BitVec 32 := 32#32
  let c0_i32_6299 : BitVec 32 := 0#32
  let c1_i32_6301 : BitVec 32 := 1#32
  let arg18 : BitVec 32 := Scf.iv c0_i32_6299 c1_i32_6301 k0_t16
  let v13951 : BitVec 32 := Scalar.addi c32_i32_6308 arg18
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31250_i32 : BitVec 32 := 31250#32
  let v2 : BitVec 32 := Scalar.muli v1 c31250_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v2 c128_i32
  let c0_i32_4 : BitVec 32 := 0#32
  let v17 : BitVec 1 := Scalar.cmpi .ne v16 c0_i32_4
  let v18 : BitVec 1 := Scalar.andi v15 v17
  let v4 : BitVec 32 := Scalar.divsi v2 c128_i32
  let c1_i32 : BitVec 32 := 1#32
  let v19 : BitVec 32 := Scalar.subi v4 c1_i32
  let v20 : BitVec 32 := Scalar.select v18 v19 v4
  let c128_i32_5 : BitVec 32 := 128#32
  let v21 : BitVec 32 := Scalar.muli v20 c128_i32_5
  let c968448_i32 : BitVec 32 := 968448#32
  let v22 : BitVec 32 := Scalar.minsi v21 c968448_i32
  let v23 : BitVec 32 := v22
  ![v13951.toNat, v23.toNat]
@[reducible] def k0_t17_loop : Scf.Loop 32 :=
  let c0_i32_6311 : BitVec 32 := 0#32
  let c112_i32_6312 : BitVec 32 := 112#32
  let v13955 : BitVec 32 := Scalar.addi c0_i32_6311 c112_i32_6312
  let c1_i32_6313 : BitVec 32 := 1#32
  ⟨c0_i32_6311, v13955, c1_i32_6313⟩
def k0_off2048 (k0_t17 : Fin k0_t17_loop.trips) : Fin 1 → Nat :=
  let c0_i32_6311 : BitVec 32 := 0#32
  let c1_i32_6313 : BitVec 32 := 1#32
  let arg19 : BitVec 32 := Scf.iv c0_i32_6311 c1_i32_6313 k0_t17
  let c16_i32 : BitVec 32 := 16#32
  let v13956 : BitVec 32 := Scalar.muli arg19 c16_i32
  let v13957 : Index := Scalar.indexCast v13956
  ![v13957.toNat]

def k0_chk1067 (v13946 : IVec S16 32) (v13958 : IVec S16 32) : Prop :=
  (∀ a x, ((![v13946, v13958] : Fin 2 → IVec S16 32) a x).toNat < S1x31488.size a)
theorem k0_idx51_inb : ∀ (v13946 : IVec S16 32) (v13958 : IVec S16 32) (k0_hw1067 : k0_chk1067 v13946 v13958), ∀ a x, ((![v13946, v13958] : Fin 2 → IVec S16 32) a x).toNat < S1x31488.size a := fun v13946 v13958 k0_hw1067 => k0_hw1067

def k0_chk1068 (v13965 : IVec S16 32) : Prop :=
  (∀ a x, ((![v13965] : Fin 1 → IVec S16 32) a x).toNat < S57344.size a)
theorem k0_idx52_inb : ∀ (v13965 : IVec S16 32) (k0_hw1068 : k0_chk1068 v13965), ∀ a x, ((![v13965] : Fin 1 → IVec S16 32) a x).toNat < S57344.size a := fun v13965 k0_hw1068 => k0_hw1068
@[reducible] def k0_t18_loop : Scf.Loop 32 :=
  let c0_i32_6304 : BitVec 32 := 0#32
  let c112_i32_6305 : BitVec 32 := 112#32
  let v13950 : BitVec 32 := Scalar.addi c0_i32_6304 c112_i32_6305
  let c1_i32_6306 : BitVec 32 := 1#32
  ⟨c0_i32_6304, v13950, c1_i32_6306⟩
def k0_off2049 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32 : BitVec 32 := 16#32
  let v13951 : BitVec 32 := Scalar.muli arg18 c16_i32
  let v13952 : Index := Scalar.indexCast v13951
  ![v13952.toNat]
def k0_mult1058 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6308 : BitVec 32 := 16#32
  let v13954 : BitVec 32 := Scalar.muli arg18 c16_i32_6308
  let c0_i32_6309 : BitVec 32 := 0#32
  let v13955 : BitVec 32 := Scalar.addi v13954 c0_i32_6309
  let c32_i32_6310 : BitVec 32 := 32#32
  let v13956 : BitVec 32 := Scalar.muli v13955 c32_i32_6310
  v13956
def k0_mult1059 (v13959 : BitVec 32) : BitVec 32 :=
  let c1703936_i32_6312 : BitVec 32 := 1703936#32
  let c32_i32_6311 : BitVec 32 := 32#32
  let v13960 : BitVec 32 := Scalar.muli v13959 c32_i32_6311
  let v13961 : BitVec 32 := Scalar.addi c1703936_i32_6312 v13960
  v13961

def k0_off2050 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6308 : BitVec 32 := 16#32
  let v13954 : BitVec 32 := Scalar.muli arg18 c16_i32_6308
  let c0_i32_6309 : BitVec 32 := 0#32
  let v13955 : BitVec 32 := Scalar.addi v13954 c0_i32_6309
  let c32_i32_6310 : BitVec 32 := 32#32
  let v13956 : BitVec 32 := Scalar.muli v13955 c32_i32_6310
  let v13957 : BitVec 32 := v13956
  ![v13957.toNat]
def k0_off2051 (v13959 : BitVec 32) : Fin 1 → Nat :=
  let c1703936_i32_6312 : BitVec 32 := 1703936#32
  let c32_i32_6311 : BitVec 32 := 32#32
  let v13960 : BitVec 32 := Scalar.muli v13959 c32_i32_6311
  let v13961 : BitVec 32 := Scalar.addi c1703936_i32_6312 v13960
  let v13962 : BitVec 32 := v13961
  ![v13962.toNat]
def k0_mult1060 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6313 : BitVec 32 := 16#32
  let v13967 : BitVec 32 := Scalar.muli arg18 c16_i32_6313
  let c1_i32_6314 : BitVec 32 := 1#32
  let v13968 : BitVec 32 := Scalar.addi v13967 c1_i32_6314
  let c32_i32_6315 : BitVec 32 := 32#32
  let v13969 : BitVec 32 := Scalar.muli v13968 c32_i32_6315
  v13969
def k0_mult1061 (v13972 : BitVec 32) : BitVec 32 :=
  let c1703936_i32_6317 : BitVec 32 := 1703936#32
  let c32_i32_6316 : BitVec 32 := 32#32
  let v13973 : BitVec 32 := Scalar.muli v13972 c32_i32_6316
  let v13974 : BitVec 32 := Scalar.addi c1703936_i32_6317 v13973
  v13974

def k0_off2052 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6313 : BitVec 32 := 16#32
  let v13967 : BitVec 32 := Scalar.muli arg18 c16_i32_6313
  let c1_i32_6314 : BitVec 32 := 1#32
  let v13968 : BitVec 32 := Scalar.addi v13967 c1_i32_6314
  let c32_i32_6315 : BitVec 32 := 32#32
  let v13969 : BitVec 32 := Scalar.muli v13968 c32_i32_6315
  let v13970 : BitVec 32 := v13969
  ![v13970.toNat]
def k0_off2053 (v13972 : BitVec 32) : Fin 1 → Nat :=
  let c1703936_i32_6317 : BitVec 32 := 1703936#32
  let c32_i32_6316 : BitVec 32 := 32#32
  let v13973 : BitVec 32 := Scalar.muli v13972 c32_i32_6316
  let v13974 : BitVec 32 := Scalar.addi c1703936_i32_6317 v13973
  let v13975 : BitVec 32 := v13974
  ![v13975.toNat]
def k0_mult1062 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6318 : BitVec 32 := 16#32
  let v13980 : BitVec 32 := Scalar.muli arg18 c16_i32_6318
  let c2_i32_6319 : BitVec 32 := 2#32
  let v13981 : BitVec 32 := Scalar.addi v13980 c2_i32_6319
  let c32_i32_6320 : BitVec 32 := 32#32
  let v13982 : BitVec 32 := Scalar.muli v13981 c32_i32_6320
  v13982
def k0_mult1063 (v13985 : BitVec 32) : BitVec 32 :=
  let c1703936_i32_6322 : BitVec 32 := 1703936#32
  let c32_i32_6321 : BitVec 32 := 32#32
  let v13986 : BitVec 32 := Scalar.muli v13985 c32_i32_6321
  let v13987 : BitVec 32 := Scalar.addi c1703936_i32_6322 v13986
  v13987

def k0_off2054 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6318 : BitVec 32 := 16#32
  let v13980 : BitVec 32 := Scalar.muli arg18 c16_i32_6318
  let c2_i32_6319 : BitVec 32 := 2#32
  let v13981 : BitVec 32 := Scalar.addi v13980 c2_i32_6319
  let c32_i32_6320 : BitVec 32 := 32#32
  let v13982 : BitVec 32 := Scalar.muli v13981 c32_i32_6320
  let v13983 : BitVec 32 := v13982
  ![v13983.toNat]
def k0_off2055 (v13985 : BitVec 32) : Fin 1 → Nat :=
  let c1703936_i32_6322 : BitVec 32 := 1703936#32
  let c32_i32_6321 : BitVec 32 := 32#32
  let v13986 : BitVec 32 := Scalar.muli v13985 c32_i32_6321
  let v13987 : BitVec 32 := Scalar.addi c1703936_i32_6322 v13986
  let v13988 : BitVec 32 := v13987
  ![v13988.toNat]
def k0_mult1064 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6323 : BitVec 32 := 16#32
  let v13993 : BitVec 32 := Scalar.muli arg18 c16_i32_6323
  let c3_i32 : BitVec 32 := 3#32
  let v13994 : BitVec 32 := Scalar.addi v13993 c3_i32
  let c32_i32_6324 : BitVec 32 := 32#32
  let v13995 : BitVec 32 := Scalar.muli v13994 c32_i32_6324
  v13995
def k0_mult1065 (v13998 : BitVec 32) : BitVec 32 :=
  let c1703936_i32_6326 : BitVec 32 := 1703936#32
  let c32_i32_6325 : BitVec 32 := 32#32
  let v13999 : BitVec 32 := Scalar.muli v13998 c32_i32_6325
  let v14000 : BitVec 32 := Scalar.addi c1703936_i32_6326 v13999
  v14000

def k0_off2056 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6323 : BitVec 32 := 16#32
  let v13993 : BitVec 32 := Scalar.muli arg18 c16_i32_6323
  let c3_i32 : BitVec 32 := 3#32
  let v13994 : BitVec 32 := Scalar.addi v13993 c3_i32
  let c32_i32_6324 : BitVec 32 := 32#32
  let v13995 : BitVec 32 := Scalar.muli v13994 c32_i32_6324
  let v13996 : BitVec 32 := v13995
  ![v13996.toNat]
def k0_off2057 (v13998 : BitVec 32) : Fin 1 → Nat :=
  let c1703936_i32_6326 : BitVec 32 := 1703936#32
  let c32_i32_6325 : BitVec 32 := 32#32
  let v13999 : BitVec 32 := Scalar.muli v13998 c32_i32_6325
  let v14000 : BitVec 32 := Scalar.addi c1703936_i32_6326 v13999
  let v14001 : BitVec 32 := v14000
  ![v14001.toNat]
def k0_mult1066 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6327 : BitVec 32 := 16#32
  let v14006 : BitVec 32 := Scalar.muli arg18 c16_i32_6327
  let c4_i32 : BitVec 32 := 4#32
  let v14007 : BitVec 32 := Scalar.addi v14006 c4_i32
  let c32_i32_6328 : BitVec 32 := 32#32
  let v14008 : BitVec 32 := Scalar.muli v14007 c32_i32_6328
  v14008
def k0_mult1067 (v14011 : BitVec 32) : BitVec 32 :=
  let c1703936_i32_6330 : BitVec 32 := 1703936#32
  let c32_i32_6329 : BitVec 32 := 32#32
  let v14012 : BitVec 32 := Scalar.muli v14011 c32_i32_6329
  let v14013 : BitVec 32 := Scalar.addi c1703936_i32_6330 v14012
  v14013

def k0_off2058 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6327 : BitVec 32 := 16#32
  let v14006 : BitVec 32 := Scalar.muli arg18 c16_i32_6327
  let c4_i32 : BitVec 32 := 4#32
  let v14007 : BitVec 32 := Scalar.addi v14006 c4_i32
  let c32_i32_6328 : BitVec 32 := 32#32
  let v14008 : BitVec 32 := Scalar.muli v14007 c32_i32_6328
  let v14009 : BitVec 32 := v14008
  ![v14009.toNat]
def k0_off2059 (v14011 : BitVec 32) : Fin 1 → Nat :=
  let c1703936_i32_6330 : BitVec 32 := 1703936#32
  let c32_i32_6329 : BitVec 32 := 32#32
  let v14012 : BitVec 32 := Scalar.muli v14011 c32_i32_6329
  let v14013 : BitVec 32 := Scalar.addi c1703936_i32_6330 v14012
  let v14014 : BitVec 32 := v14013
  ![v14014.toNat]
def k0_mult1068 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6331 : BitVec 32 := 16#32
  let v14019 : BitVec 32 := Scalar.muli arg18 c16_i32_6331
  let c5_i32 : BitVec 32 := 5#32
  let v14020 : BitVec 32 := Scalar.addi v14019 c5_i32
  let c32_i32_6332 : BitVec 32 := 32#32
  let v14021 : BitVec 32 := Scalar.muli v14020 c32_i32_6332
  v14021
def k0_mult1069 (v14024 : BitVec 32) : BitVec 32 :=
  let c1703936_i32_6334 : BitVec 32 := 1703936#32
  let c32_i32_6333 : BitVec 32 := 32#32
  let v14025 : BitVec 32 := Scalar.muli v14024 c32_i32_6333
  let v14026 : BitVec 32 := Scalar.addi c1703936_i32_6334 v14025
  v14026

def k0_off2060 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6331 : BitVec 32 := 16#32
  let v14019 : BitVec 32 := Scalar.muli arg18 c16_i32_6331
  let c5_i32 : BitVec 32 := 5#32
  let v14020 : BitVec 32 := Scalar.addi v14019 c5_i32
  let c32_i32_6332 : BitVec 32 := 32#32
  let v14021 : BitVec 32 := Scalar.muli v14020 c32_i32_6332
  let v14022 : BitVec 32 := v14021
  ![v14022.toNat]
def k0_off2061 (v14024 : BitVec 32) : Fin 1 → Nat :=
  let c1703936_i32_6334 : BitVec 32 := 1703936#32
  let c32_i32_6333 : BitVec 32 := 32#32
  let v14025 : BitVec 32 := Scalar.muli v14024 c32_i32_6333
  let v14026 : BitVec 32 := Scalar.addi c1703936_i32_6334 v14025
  let v14027 : BitVec 32 := v14026
  ![v14027.toNat]
def k0_mult1070 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6335 : BitVec 32 := 16#32
  let v14032 : BitVec 32 := Scalar.muli arg18 c16_i32_6335
  let c6_i32 : BitVec 32 := 6#32
  let v14033 : BitVec 32 := Scalar.addi v14032 c6_i32
  let c32_i32_6336 : BitVec 32 := 32#32
  let v14034 : BitVec 32 := Scalar.muli v14033 c32_i32_6336
  v14034
def k0_mult1071 (v14037 : BitVec 32) : BitVec 32 :=
  let c1703936_i32_6338 : BitVec 32 := 1703936#32
  let c32_i32_6337 : BitVec 32 := 32#32
  let v14038 : BitVec 32 := Scalar.muli v14037 c32_i32_6337
  let v14039 : BitVec 32 := Scalar.addi c1703936_i32_6338 v14038
  v14039

def k0_off2062 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6335 : BitVec 32 := 16#32
  let v14032 : BitVec 32 := Scalar.muli arg18 c16_i32_6335
  let c6_i32 : BitVec 32 := 6#32
  let v14033 : BitVec 32 := Scalar.addi v14032 c6_i32
  let c32_i32_6336 : BitVec 32 := 32#32
  let v14034 : BitVec 32 := Scalar.muli v14033 c32_i32_6336
  let v14035 : BitVec 32 := v14034
  ![v14035.toNat]
def k0_off2063 (v14037 : BitVec 32) : Fin 1 → Nat :=
  let c1703936_i32_6338 : BitVec 32 := 1703936#32
  let c32_i32_6337 : BitVec 32 := 32#32
  let v14038 : BitVec 32 := Scalar.muli v14037 c32_i32_6337
  let v14039 : BitVec 32 := Scalar.addi c1703936_i32_6338 v14038
  let v14040 : BitVec 32 := v14039
  ![v14040.toNat]
def k0_mult1072 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6339 : BitVec 32 := 16#32
  let v14045 : BitVec 32 := Scalar.muli arg18 c16_i32_6339
  let c7_i32 : BitVec 32 := 7#32
  let v14046 : BitVec 32 := Scalar.addi v14045 c7_i32
  let c32_i32_6340 : BitVec 32 := 32#32
  let v14047 : BitVec 32 := Scalar.muli v14046 c32_i32_6340
  v14047
def k0_mult1073 (v14050 : BitVec 32) : BitVec 32 :=
  let c1703936_i32_6342 : BitVec 32 := 1703936#32
  let c32_i32_6341 : BitVec 32 := 32#32
  let v14051 : BitVec 32 := Scalar.muli v14050 c32_i32_6341
  let v14052 : BitVec 32 := Scalar.addi c1703936_i32_6342 v14051
  v14052

def k0_off2064 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6339 : BitVec 32 := 16#32
  let v14045 : BitVec 32 := Scalar.muli arg18 c16_i32_6339
  let c7_i32 : BitVec 32 := 7#32
  let v14046 : BitVec 32 := Scalar.addi v14045 c7_i32
  let c32_i32_6340 : BitVec 32 := 32#32
  let v14047 : BitVec 32 := Scalar.muli v14046 c32_i32_6340
  let v14048 : BitVec 32 := v14047
  ![v14048.toNat]
def k0_off2065 (v14050 : BitVec 32) : Fin 1 → Nat :=
  let c1703936_i32_6342 : BitVec 32 := 1703936#32
  let c32_i32_6341 : BitVec 32 := 32#32
  let v14051 : BitVec 32 := Scalar.muli v14050 c32_i32_6341
  let v14052 : BitVec 32 := Scalar.addi c1703936_i32_6342 v14051
  let v14053 : BitVec 32 := v14052
  ![v14053.toNat]
def k0_mult1074 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6343 : BitVec 32 := 16#32
  let v14058 : BitVec 32 := Scalar.muli arg18 c16_i32_6343
  let c8_i32 : BitVec 32 := 8#32
  let v14059 : BitVec 32 := Scalar.addi v14058 c8_i32
  let c32_i32_6344 : BitVec 32 := 32#32
  let v14060 : BitVec 32 := Scalar.muli v14059 c32_i32_6344
  v14060
def k0_mult1075 (v14063 : BitVec 32) : BitVec 32 :=
  let c1703936_i32_6346 : BitVec 32 := 1703936#32
  let c32_i32_6345 : BitVec 32 := 32#32
  let v14064 : BitVec 32 := Scalar.muli v14063 c32_i32_6345
  let v14065 : BitVec 32 := Scalar.addi c1703936_i32_6346 v14064
  v14065

def k0_off2066 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6343 : BitVec 32 := 16#32
  let v14058 : BitVec 32 := Scalar.muli arg18 c16_i32_6343
  let c8_i32 : BitVec 32 := 8#32
  let v14059 : BitVec 32 := Scalar.addi v14058 c8_i32
  let c32_i32_6344 : BitVec 32 := 32#32
  let v14060 : BitVec 32 := Scalar.muli v14059 c32_i32_6344
  let v14061 : BitVec 32 := v14060
  ![v14061.toNat]
def k0_off2067 (v14063 : BitVec 32) : Fin 1 → Nat :=
  let c1703936_i32_6346 : BitVec 32 := 1703936#32
  let c32_i32_6345 : BitVec 32 := 32#32
  let v14064 : BitVec 32 := Scalar.muli v14063 c32_i32_6345
  let v14065 : BitVec 32 := Scalar.addi c1703936_i32_6346 v14064
  let v14066 : BitVec 32 := v14065
  ![v14066.toNat]
def k0_mult1076 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6347 : BitVec 32 := 16#32
  let v14071 : BitVec 32 := Scalar.muli arg18 c16_i32_6347
  let c9_i32 : BitVec 32 := 9#32
  let v14072 : BitVec 32 := Scalar.addi v14071 c9_i32
  let c32_i32_6348 : BitVec 32 := 32#32
  let v14073 : BitVec 32 := Scalar.muli v14072 c32_i32_6348
  v14073
def k0_mult1077 (v14076 : BitVec 32) : BitVec 32 :=
  let c1703936_i32_6350 : BitVec 32 := 1703936#32
  let c32_i32_6349 : BitVec 32 := 32#32
  let v14077 : BitVec 32 := Scalar.muli v14076 c32_i32_6349
  let v14078 : BitVec 32 := Scalar.addi c1703936_i32_6350 v14077
  v14078

def k0_off2068 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6347 : BitVec 32 := 16#32
  let v14071 : BitVec 32 := Scalar.muli arg18 c16_i32_6347
  let c9_i32 : BitVec 32 := 9#32
  let v14072 : BitVec 32 := Scalar.addi v14071 c9_i32
  let c32_i32_6348 : BitVec 32 := 32#32
  let v14073 : BitVec 32 := Scalar.muli v14072 c32_i32_6348
  let v14074 : BitVec 32 := v14073
  ![v14074.toNat]
def k0_off2069 (v14076 : BitVec 32) : Fin 1 → Nat :=
  let c1703936_i32_6350 : BitVec 32 := 1703936#32
  let c32_i32_6349 : BitVec 32 := 32#32
  let v14077 : BitVec 32 := Scalar.muli v14076 c32_i32_6349
  let v14078 : BitVec 32 := Scalar.addi c1703936_i32_6350 v14077
  let v14079 : BitVec 32 := v14078
  ![v14079.toNat]
def k0_mult1078 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6351 : BitVec 32 := 16#32
  let v14084 : BitVec 32 := Scalar.muli arg18 c16_i32_6351
  let c10_i32 : BitVec 32 := 10#32
  let v14085 : BitVec 32 := Scalar.addi v14084 c10_i32
  let c32_i32_6352 : BitVec 32 := 32#32
  let v14086 : BitVec 32 := Scalar.muli v14085 c32_i32_6352
  v14086
def k0_mult1079 (v14089 : BitVec 32) : BitVec 32 :=
  let c1703936_i32_6354 : BitVec 32 := 1703936#32
  let c32_i32_6353 : BitVec 32 := 32#32
  let v14090 : BitVec 32 := Scalar.muli v14089 c32_i32_6353
  let v14091 : BitVec 32 := Scalar.addi c1703936_i32_6354 v14090
  v14091

def k0_off2070 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6351 : BitVec 32 := 16#32
  let v14084 : BitVec 32 := Scalar.muli arg18 c16_i32_6351
  let c10_i32 : BitVec 32 := 10#32
  let v14085 : BitVec 32 := Scalar.addi v14084 c10_i32
  let c32_i32_6352 : BitVec 32 := 32#32
  let v14086 : BitVec 32 := Scalar.muli v14085 c32_i32_6352
  let v14087 : BitVec 32 := v14086
  ![v14087.toNat]
def k0_off2071 (v14089 : BitVec 32) : Fin 1 → Nat :=
  let c1703936_i32_6354 : BitVec 32 := 1703936#32
  let c32_i32_6353 : BitVec 32 := 32#32
  let v14090 : BitVec 32 := Scalar.muli v14089 c32_i32_6353
  let v14091 : BitVec 32 := Scalar.addi c1703936_i32_6354 v14090
  let v14092 : BitVec 32 := v14091
  ![v14092.toNat]
def k0_mult1080 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6355 : BitVec 32 := 16#32
  let v14097 : BitVec 32 := Scalar.muli arg18 c16_i32_6355
  let c11_i32 : BitVec 32 := 11#32
  let v14098 : BitVec 32 := Scalar.addi v14097 c11_i32
  let c32_i32_6356 : BitVec 32 := 32#32
  let v14099 : BitVec 32 := Scalar.muli v14098 c32_i32_6356
  v14099
def k0_mult1081 (v14102 : BitVec 32) : BitVec 32 :=
  let c1703936_i32_6358 : BitVec 32 := 1703936#32
  let c32_i32_6357 : BitVec 32 := 32#32
  let v14103 : BitVec 32 := Scalar.muli v14102 c32_i32_6357
  let v14104 : BitVec 32 := Scalar.addi c1703936_i32_6358 v14103
  v14104

def k0_off2072 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6355 : BitVec 32 := 16#32
  let v14097 : BitVec 32 := Scalar.muli arg18 c16_i32_6355
  let c11_i32 : BitVec 32 := 11#32
  let v14098 : BitVec 32 := Scalar.addi v14097 c11_i32
  let c32_i32_6356 : BitVec 32 := 32#32
  let v14099 : BitVec 32 := Scalar.muli v14098 c32_i32_6356
  let v14100 : BitVec 32 := v14099
  ![v14100.toNat]
def k0_off2073 (v14102 : BitVec 32) : Fin 1 → Nat :=
  let c1703936_i32_6358 : BitVec 32 := 1703936#32
  let c32_i32_6357 : BitVec 32 := 32#32
  let v14103 : BitVec 32 := Scalar.muli v14102 c32_i32_6357
  let v14104 : BitVec 32 := Scalar.addi c1703936_i32_6358 v14103
  let v14105 : BitVec 32 := v14104
  ![v14105.toNat]
def k0_mult1082 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6359 : BitVec 32 := 16#32
  let v14110 : BitVec 32 := Scalar.muli arg18 c16_i32_6359
  let c12_i32 : BitVec 32 := 12#32
  let v14111 : BitVec 32 := Scalar.addi v14110 c12_i32
  let c32_i32_6360 : BitVec 32 := 32#32
  let v14112 : BitVec 32 := Scalar.muli v14111 c32_i32_6360
  v14112
def k0_mult1083 (v14115 : BitVec 32) : BitVec 32 :=
  let c1703936_i32_6362 : BitVec 32 := 1703936#32
  let c32_i32_6361 : BitVec 32 := 32#32
  let v14116 : BitVec 32 := Scalar.muli v14115 c32_i32_6361
  let v14117 : BitVec 32 := Scalar.addi c1703936_i32_6362 v14116
  v14117

def k0_off2074 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6359 : BitVec 32 := 16#32
  let v14110 : BitVec 32 := Scalar.muli arg18 c16_i32_6359
  let c12_i32 : BitVec 32 := 12#32
  let v14111 : BitVec 32 := Scalar.addi v14110 c12_i32
  let c32_i32_6360 : BitVec 32 := 32#32
  let v14112 : BitVec 32 := Scalar.muli v14111 c32_i32_6360
  let v14113 : BitVec 32 := v14112
  ![v14113.toNat]
def k0_off2075 (v14115 : BitVec 32) : Fin 1 → Nat :=
  let c1703936_i32_6362 : BitVec 32 := 1703936#32
  let c32_i32_6361 : BitVec 32 := 32#32
  let v14116 : BitVec 32 := Scalar.muli v14115 c32_i32_6361
  let v14117 : BitVec 32 := Scalar.addi c1703936_i32_6362 v14116
  let v14118 : BitVec 32 := v14117
  ![v14118.toNat]
def k0_mult1084 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6363 : BitVec 32 := 16#32
  let v14123 : BitVec 32 := Scalar.muli arg18 c16_i32_6363
  let c13_i32 : BitVec 32 := 13#32
  let v14124 : BitVec 32 := Scalar.addi v14123 c13_i32
  let c32_i32_6364 : BitVec 32 := 32#32
  let v14125 : BitVec 32 := Scalar.muli v14124 c32_i32_6364
  v14125
def k0_mult1085 (v14128 : BitVec 32) : BitVec 32 :=
  let c1703936_i32_6366 : BitVec 32 := 1703936#32
  let c32_i32_6365 : BitVec 32 := 32#32
  let v14129 : BitVec 32 := Scalar.muli v14128 c32_i32_6365
  let v14130 : BitVec 32 := Scalar.addi c1703936_i32_6366 v14129
  v14130

def k0_off2076 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6363 : BitVec 32 := 16#32
  let v14123 : BitVec 32 := Scalar.muli arg18 c16_i32_6363
  let c13_i32 : BitVec 32 := 13#32
  let v14124 : BitVec 32 := Scalar.addi v14123 c13_i32
  let c32_i32_6364 : BitVec 32 := 32#32
  let v14125 : BitVec 32 := Scalar.muli v14124 c32_i32_6364
  let v14126 : BitVec 32 := v14125
  ![v14126.toNat]
def k0_off2077 (v14128 : BitVec 32) : Fin 1 → Nat :=
  let c1703936_i32_6366 : BitVec 32 := 1703936#32
  let c32_i32_6365 : BitVec 32 := 32#32
  let v14129 : BitVec 32 := Scalar.muli v14128 c32_i32_6365
  let v14130 : BitVec 32 := Scalar.addi c1703936_i32_6366 v14129
  let v14131 : BitVec 32 := v14130
  ![v14131.toNat]
def k0_mult1086 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6367 : BitVec 32 := 16#32
  let v14136 : BitVec 32 := Scalar.muli arg18 c16_i32_6367
  let c14_i32 : BitVec 32 := 14#32
  let v14137 : BitVec 32 := Scalar.addi v14136 c14_i32
  let c32_i32_6368 : BitVec 32 := 32#32
  let v14138 : BitVec 32 := Scalar.muli v14137 c32_i32_6368
  v14138
def k0_mult1087 (v14141 : BitVec 32) : BitVec 32 :=
  let c1703936_i32_6370 : BitVec 32 := 1703936#32
  let c32_i32_6369 : BitVec 32 := 32#32
  let v14142 : BitVec 32 := Scalar.muli v14141 c32_i32_6369
  let v14143 : BitVec 32 := Scalar.addi c1703936_i32_6370 v14142
  v14143

def k0_off2078 (k0_t18 : Fin k0_t18_loop.trips) : Fin 1 → Nat :=
  let c0_i32_6304 : BitVec 32 := 0#32
  let c1_i32_6306 : BitVec 32 := 1#32
  let arg18 : BitVec 32 := Scf.iv c0_i32_6304 c1_i32_6306 k0_t18
  let c16_i32_6367 : BitVec 32 := 16#32
  let v14136 : BitVec 32 := Scalar.muli arg18 c16_i32_6367
  let c14_i32 : BitVec 32 := 14#32
  let v14137 : BitVec 32 := Scalar.addi v14136 c14_i32
  let c32_i32_6368 : BitVec 32 := 32#32
  let v14138 : BitVec 32 := Scalar.muli v14137 c32_i32_6368
  let v14139 : BitVec 32 := v14138
  ![v14139.toNat]
def k0_off2079 (v14141 : BitVec 32) : Fin 1 → Nat :=
  let c1703936_i32_6370 : BitVec 32 := 1703936#32
  let c32_i32_6369 : BitVec 32 := 32#32
  let v14142 : BitVec 32 := Scalar.muli v14141 c32_i32_6369
  let v14143 : BitVec 32 := Scalar.addi c1703936_i32_6370 v14142
  let v14144 : BitVec 32 := v14143
  ![v14144.toNat]
def k0_mult1088 (k0_t18 : Fin k0_t18_loop.trips) : BitVec 32 :=
  let c0_i32_6304 : BitVec 32 := 0#32
  let c1_i32_6306 : BitVec 32 := 1#32
  let arg18 : BitVec 32 := Scf.iv c0_i32_6304 c1_i32_6306 k0_t18
  let c16_i32_6371 : BitVec 32 := 16#32
  let v14149 : BitVec 32 := Scalar.muli arg18 c16_i32_6371
  let c15_i32 : BitVec 32 := 15#32
  let v14150 : BitVec 32 := Scalar.addi v14149 c15_i32
  let c32_i32_6372 : BitVec 32 := 32#32
  let v14151 : BitVec 32 := Scalar.muli v14150 c32_i32_6372
  v14151
def k0_mult1089 (v14154 : BitVec 32) : BitVec 32 :=
  let c1703936_i32_6374 : BitVec 32 := 1703936#32
  let c32_i32_6373 : BitVec 32 := 32#32
  let v14155 : BitVec 32 := Scalar.muli v14154 c32_i32_6373
  let v14156 : BitVec 32 := Scalar.addi c1703936_i32_6374 v14155
  v14156

def k0_off2080 (k0_t18 : Fin k0_t18_loop.trips) (c15_i32 : BitVec 32) : Fin 1 → Nat :=
  let c0_i32_6304 : BitVec 32 := 0#32
  let c1_i32_6306 : BitVec 32 := 1#32
  let arg18 : BitVec 32 := Scf.iv c0_i32_6304 c1_i32_6306 k0_t18
  let c16_i32_6371 : BitVec 32 := 16#32
  let v14149 : BitVec 32 := Scalar.muli arg18 c16_i32_6371
  let v14150 : BitVec 32 := Scalar.addi v14149 c15_i32
  let c32_i32_6372 : BitVec 32 := 32#32
  let v14151 : BitVec 32 := Scalar.muli v14150 c32_i32_6372
  let v14152 : BitVec 32 := v14151
  ![v14152.toNat]
def k0_off2081 (v14154 : BitVec 32) : Fin 1 → Nat :=
  let c1703936_i32_6374 : BitVec 32 := 1703936#32
  let c32_i32_6373 : BitVec 32 := 32#32
  let v14155 : BitVec 32 := Scalar.muli v14154 c32_i32_6373
  let v14156 : BitVec 32 := Scalar.addi c1703936_i32_6374 v14155
  let v14157 : BitVec 32 := v14156
  ![v14157.toNat]

def k0_chk1084 (v14154 : BitVec 32) : Prop :=
  (8 ∣ (k0_mult1089 v14154).toNat) ∧
  (∀ a, (k0_off2081 v14154) a + S32.size a ≤ S3407872.size a)
theorem k0_mult1089_dvd : ∀ (v14154 : BitVec 32) (k0_hw1084 : k0_chk1084 v14154), 8 ∣ (k0_mult1089 v14154).toNat := fun v14154 k0_hw1084 => k0_hw1084.1
theorem k0_off2081_inb : ∀ (v14154 : BitVec 32) (k0_hw1084 : k0_chk1084 v14154), ∀ a, (k0_off2081 v14154) a + S32.size a ≤ S3407872.size a := fun v14154 k0_hw1084 => k0_hw1084.2

def k0_off2082 (v13959 : BitVec 32) : Fin 1 → Nat :=
  let c1703936_i32_6312 : BitVec 32 := 1703936#32
  let c32_i32_6311 : BitVec 32 := 32#32
  let v13960 : BitVec 32 := Scalar.muli v13959 c32_i32_6311
  let v13961 : BitVec 32 := Scalar.addi c1703936_i32_6312 v13960
  let v13962 : BitVec 32 := v13961
  ![v13962.toNat]

def k0_chk1069 (v13959 : BitVec 32) : Prop :=
  (8 ∣ (k0_mult1059 v13959).toNat) ∧
  (∀ a, (k0_off2051 v13959) a + S32.size a ≤ S3407872.size a) ∧
  (∀ a, (k0_off2082 v13959) a + S32.size a ≤ S3407872.size a)
theorem k0_mult1059_dvd : ∀ (v13959 : BitVec 32) (k0_hw1069 : k0_chk1069 v13959), 8 ∣ (k0_mult1059 v13959).toNat := fun v13959 k0_hw1069 => k0_hw1069.1
theorem k0_off2051_inb : ∀ (v13959 : BitVec 32) (k0_hw1069 : k0_chk1069 v13959), ∀ a, (k0_off2051 v13959) a + S32.size a ≤ S3407872.size a := fun v13959 k0_hw1069 => k0_hw1069.2.1
theorem k0_off2082_inb : ∀ (v13959 : BitVec 32) (k0_hw1069 : k0_chk1069 v13959), ∀ a, (k0_off2082 v13959) a + S32.size a ≤ S3407872.size a := fun v13959 k0_hw1069 => k0_hw1069.2.2

def k0_off2083 (v13972 : BitVec 32) : Fin 1 → Nat :=
  let c1703936_i32_6317 : BitVec 32 := 1703936#32
  let c32_i32_6316 : BitVec 32 := 32#32
  let v13973 : BitVec 32 := Scalar.muli v13972 c32_i32_6316
  let v13974 : BitVec 32 := Scalar.addi c1703936_i32_6317 v13973
  let v13975 : BitVec 32 := v13974
  ![v13975.toNat]

def k0_chk1070 (v13972 : BitVec 32) : Prop :=
  (8 ∣ (k0_mult1061 v13972).toNat) ∧
  (∀ a, (k0_off2053 v13972) a + S32.size a ≤ S3407872.size a) ∧
  (∀ a, (k0_off2083 v13972) a + S32.size a ≤ S3407872.size a)
theorem k0_mult1061_dvd : ∀ (v13972 : BitVec 32) (k0_hw1070 : k0_chk1070 v13972), 8 ∣ (k0_mult1061 v13972).toNat := fun v13972 k0_hw1070 => k0_hw1070.1
theorem k0_off2053_inb : ∀ (v13972 : BitVec 32) (k0_hw1070 : k0_chk1070 v13972), ∀ a, (k0_off2053 v13972) a + S32.size a ≤ S3407872.size a := fun v13972 k0_hw1070 => k0_hw1070.2.1
theorem k0_off2083_inb : ∀ (v13972 : BitVec 32) (k0_hw1070 : k0_chk1070 v13972), ∀ a, (k0_off2083 v13972) a + S32.size a ≤ S3407872.size a := fun v13972 k0_hw1070 => k0_hw1070.2.2

def k0_off2084 (v13985 : BitVec 32) : Fin 1 → Nat :=
  let c1703936_i32_6322 : BitVec 32 := 1703936#32
  let c32_i32_6321 : BitVec 32 := 32#32
  let v13986 : BitVec 32 := Scalar.muli v13985 c32_i32_6321
  let v13987 : BitVec 32 := Scalar.addi c1703936_i32_6322 v13986
  let v13988 : BitVec 32 := v13987
  ![v13988.toNat]

def k0_chk1071 (v13985 : BitVec 32) : Prop :=
  (8 ∣ (k0_mult1063 v13985).toNat) ∧
  (∀ a, (k0_off2055 v13985) a + S32.size a ≤ S3407872.size a) ∧
  (∀ a, (k0_off2084 v13985) a + S32.size a ≤ S3407872.size a)
theorem k0_mult1063_dvd : ∀ (v13985 : BitVec 32) (k0_hw1071 : k0_chk1071 v13985), 8 ∣ (k0_mult1063 v13985).toNat := fun v13985 k0_hw1071 => k0_hw1071.1
theorem k0_off2055_inb : ∀ (v13985 : BitVec 32) (k0_hw1071 : k0_chk1071 v13985), ∀ a, (k0_off2055 v13985) a + S32.size a ≤ S3407872.size a := fun v13985 k0_hw1071 => k0_hw1071.2.1
theorem k0_off2084_inb : ∀ (v13985 : BitVec 32) (k0_hw1071 : k0_chk1071 v13985), ∀ a, (k0_off2084 v13985) a + S32.size a ≤ S3407872.size a := fun v13985 k0_hw1071 => k0_hw1071.2.2

def k0_off2085 (v13998 : BitVec 32) : Fin 1 → Nat :=
  let c1703936_i32_6326 : BitVec 32 := 1703936#32
  let c32_i32_6325 : BitVec 32 := 32#32
  let v13999 : BitVec 32 := Scalar.muli v13998 c32_i32_6325
  let v14000 : BitVec 32 := Scalar.addi c1703936_i32_6326 v13999
  let v14001 : BitVec 32 := v14000
  ![v14001.toNat]

def k0_chk1072 (v13998 : BitVec 32) : Prop :=
  (8 ∣ (k0_mult1065 v13998).toNat) ∧
  (∀ a, (k0_off2057 v13998) a + S32.size a ≤ S3407872.size a) ∧
  (∀ a, (k0_off2085 v13998) a + S32.size a ≤ S3407872.size a)
theorem k0_mult1065_dvd : ∀ (v13998 : BitVec 32) (k0_hw1072 : k0_chk1072 v13998), 8 ∣ (k0_mult1065 v13998).toNat := fun v13998 k0_hw1072 => k0_hw1072.1
theorem k0_off2057_inb : ∀ (v13998 : BitVec 32) (k0_hw1072 : k0_chk1072 v13998), ∀ a, (k0_off2057 v13998) a + S32.size a ≤ S3407872.size a := fun v13998 k0_hw1072 => k0_hw1072.2.1
theorem k0_off2085_inb : ∀ (v13998 : BitVec 32) (k0_hw1072 : k0_chk1072 v13998), ∀ a, (k0_off2085 v13998) a + S32.size a ≤ S3407872.size a := fun v13998 k0_hw1072 => k0_hw1072.2.2

def k0_off2086 (v14011 : BitVec 32) : Fin 1 → Nat :=
  let c1703936_i32_6330 : BitVec 32 := 1703936#32
  let c32_i32_6329 : BitVec 32 := 32#32
  let v14012 : BitVec 32 := Scalar.muli v14011 c32_i32_6329
  let v14013 : BitVec 32 := Scalar.addi c1703936_i32_6330 v14012
  let v14014 : BitVec 32 := v14013
  ![v14014.toNat]

def k0_chk1073 (v14011 : BitVec 32) : Prop :=
  (8 ∣ (k0_mult1067 v14011).toNat) ∧
  (∀ a, (k0_off2059 v14011) a + S32.size a ≤ S3407872.size a) ∧
  (∀ a, (k0_off2086 v14011) a + S32.size a ≤ S3407872.size a)
theorem k0_mult1067_dvd : ∀ (v14011 : BitVec 32) (k0_hw1073 : k0_chk1073 v14011), 8 ∣ (k0_mult1067 v14011).toNat := fun v14011 k0_hw1073 => k0_hw1073.1
theorem k0_off2059_inb : ∀ (v14011 : BitVec 32) (k0_hw1073 : k0_chk1073 v14011), ∀ a, (k0_off2059 v14011) a + S32.size a ≤ S3407872.size a := fun v14011 k0_hw1073 => k0_hw1073.2.1
theorem k0_off2086_inb : ∀ (v14011 : BitVec 32) (k0_hw1073 : k0_chk1073 v14011), ∀ a, (k0_off2086 v14011) a + S32.size a ≤ S3407872.size a := fun v14011 k0_hw1073 => k0_hw1073.2.2

def k0_off2087 (v14024 : BitVec 32) : Fin 1 → Nat :=
  let c1703936_i32_6334 : BitVec 32 := 1703936#32
  let c32_i32_6333 : BitVec 32 := 32#32
  let v14025 : BitVec 32 := Scalar.muli v14024 c32_i32_6333
  let v14026 : BitVec 32 := Scalar.addi c1703936_i32_6334 v14025
  let v14027 : BitVec 32 := v14026
  ![v14027.toNat]

def k0_chk1074 (v14024 : BitVec 32) : Prop :=
  (8 ∣ (k0_mult1069 v14024).toNat) ∧
  (∀ a, (k0_off2061 v14024) a + S32.size a ≤ S3407872.size a) ∧
  (∀ a, (k0_off2087 v14024) a + S32.size a ≤ S3407872.size a)
theorem k0_mult1069_dvd : ∀ (v14024 : BitVec 32) (k0_hw1074 : k0_chk1074 v14024), 8 ∣ (k0_mult1069 v14024).toNat := fun v14024 k0_hw1074 => k0_hw1074.1
theorem k0_off2061_inb : ∀ (v14024 : BitVec 32) (k0_hw1074 : k0_chk1074 v14024), ∀ a, (k0_off2061 v14024) a + S32.size a ≤ S3407872.size a := fun v14024 k0_hw1074 => k0_hw1074.2.1
theorem k0_off2087_inb : ∀ (v14024 : BitVec 32) (k0_hw1074 : k0_chk1074 v14024), ∀ a, (k0_off2087 v14024) a + S32.size a ≤ S3407872.size a := fun v14024 k0_hw1074 => k0_hw1074.2.2

def k0_off2088 (v14037 : BitVec 32) : Fin 1 → Nat :=
  let c1703936_i32_6338 : BitVec 32 := 1703936#32
  let c32_i32_6337 : BitVec 32 := 32#32
  let v14038 : BitVec 32 := Scalar.muli v14037 c32_i32_6337
  let v14039 : BitVec 32 := Scalar.addi c1703936_i32_6338 v14038
  let v14040 : BitVec 32 := v14039
  ![v14040.toNat]

def k0_chk1075 (v14037 : BitVec 32) : Prop :=
  (8 ∣ (k0_mult1071 v14037).toNat) ∧
  (∀ a, (k0_off2063 v14037) a + S32.size a ≤ S3407872.size a) ∧
  (∀ a, (k0_off2088 v14037) a + S32.size a ≤ S3407872.size a)
theorem k0_mult1071_dvd : ∀ (v14037 : BitVec 32) (k0_hw1075 : k0_chk1075 v14037), 8 ∣ (k0_mult1071 v14037).toNat := fun v14037 k0_hw1075 => k0_hw1075.1
theorem k0_off2063_inb : ∀ (v14037 : BitVec 32) (k0_hw1075 : k0_chk1075 v14037), ∀ a, (k0_off2063 v14037) a + S32.size a ≤ S3407872.size a := fun v14037 k0_hw1075 => k0_hw1075.2.1
theorem k0_off2088_inb : ∀ (v14037 : BitVec 32) (k0_hw1075 : k0_chk1075 v14037), ∀ a, (k0_off2088 v14037) a + S32.size a ≤ S3407872.size a := fun v14037 k0_hw1075 => k0_hw1075.2.2

def k0_off2089 (v14050 : BitVec 32) : Fin 1 → Nat :=
  let c1703936_i32_6342 : BitVec 32 := 1703936#32
  let c32_i32_6341 : BitVec 32 := 32#32
  let v14051 : BitVec 32 := Scalar.muli v14050 c32_i32_6341
  let v14052 : BitVec 32 := Scalar.addi c1703936_i32_6342 v14051
  let v14053 : BitVec 32 := v14052
  ![v14053.toNat]

def k0_chk1076 (v14050 : BitVec 32) : Prop :=
  (8 ∣ (k0_mult1073 v14050).toNat) ∧
  (∀ a, (k0_off2065 v14050) a + S32.size a ≤ S3407872.size a) ∧
  (∀ a, (k0_off2089 v14050) a + S32.size a ≤ S3407872.size a)
theorem k0_mult1073_dvd : ∀ (v14050 : BitVec 32) (k0_hw1076 : k0_chk1076 v14050), 8 ∣ (k0_mult1073 v14050).toNat := fun v14050 k0_hw1076 => k0_hw1076.1
theorem k0_off2065_inb : ∀ (v14050 : BitVec 32) (k0_hw1076 : k0_chk1076 v14050), ∀ a, (k0_off2065 v14050) a + S32.size a ≤ S3407872.size a := fun v14050 k0_hw1076 => k0_hw1076.2.1
theorem k0_off2089_inb : ∀ (v14050 : BitVec 32) (k0_hw1076 : k0_chk1076 v14050), ∀ a, (k0_off2089 v14050) a + S32.size a ≤ S3407872.size a := fun v14050 k0_hw1076 => k0_hw1076.2.2

def k0_off2090 (v14063 : BitVec 32) : Fin 1 → Nat :=
  let c1703936_i32_6346 : BitVec 32 := 1703936#32
  let c32_i32_6345 : BitVec 32 := 32#32
  let v14064 : BitVec 32 := Scalar.muli v14063 c32_i32_6345
  let v14065 : BitVec 32 := Scalar.addi c1703936_i32_6346 v14064
  let v14066 : BitVec 32 := v14065
  ![v14066.toNat]

def k0_chk1077 (v14063 : BitVec 32) : Prop :=
  (8 ∣ (k0_mult1075 v14063).toNat) ∧
  (∀ a, (k0_off2067 v14063) a + S32.size a ≤ S3407872.size a) ∧
  (∀ a, (k0_off2090 v14063) a + S32.size a ≤ S3407872.size a)
theorem k0_mult1075_dvd : ∀ (v14063 : BitVec 32) (k0_hw1077 : k0_chk1077 v14063), 8 ∣ (k0_mult1075 v14063).toNat := fun v14063 k0_hw1077 => k0_hw1077.1
theorem k0_off2067_inb : ∀ (v14063 : BitVec 32) (k0_hw1077 : k0_chk1077 v14063), ∀ a, (k0_off2067 v14063) a + S32.size a ≤ S3407872.size a := fun v14063 k0_hw1077 => k0_hw1077.2.1
theorem k0_off2090_inb : ∀ (v14063 : BitVec 32) (k0_hw1077 : k0_chk1077 v14063), ∀ a, (k0_off2090 v14063) a + S32.size a ≤ S3407872.size a := fun v14063 k0_hw1077 => k0_hw1077.2.2

def k0_off2091 (v14076 : BitVec 32) : Fin 1 → Nat :=
  let c1703936_i32_6350 : BitVec 32 := 1703936#32
  let c32_i32_6349 : BitVec 32 := 32#32
  let v14077 : BitVec 32 := Scalar.muli v14076 c32_i32_6349
  let v14078 : BitVec 32 := Scalar.addi c1703936_i32_6350 v14077
  let v14079 : BitVec 32 := v14078
  ![v14079.toNat]

def k0_chk1078 (v14076 : BitVec 32) : Prop :=
  (8 ∣ (k0_mult1077 v14076).toNat) ∧
  (∀ a, (k0_off2069 v14076) a + S32.size a ≤ S3407872.size a) ∧
  (∀ a, (k0_off2091 v14076) a + S32.size a ≤ S3407872.size a)
theorem k0_mult1077_dvd : ∀ (v14076 : BitVec 32) (k0_hw1078 : k0_chk1078 v14076), 8 ∣ (k0_mult1077 v14076).toNat := fun v14076 k0_hw1078 => k0_hw1078.1
theorem k0_off2069_inb : ∀ (v14076 : BitVec 32) (k0_hw1078 : k0_chk1078 v14076), ∀ a, (k0_off2069 v14076) a + S32.size a ≤ S3407872.size a := fun v14076 k0_hw1078 => k0_hw1078.2.1
theorem k0_off2091_inb : ∀ (v14076 : BitVec 32) (k0_hw1078 : k0_chk1078 v14076), ∀ a, (k0_off2091 v14076) a + S32.size a ≤ S3407872.size a := fun v14076 k0_hw1078 => k0_hw1078.2.2

def k0_off2092 (v14089 : BitVec 32) : Fin 1 → Nat :=
  let c1703936_i32_6354 : BitVec 32 := 1703936#32
  let c32_i32_6353 : BitVec 32 := 32#32
  let v14090 : BitVec 32 := Scalar.muli v14089 c32_i32_6353
  let v14091 : BitVec 32 := Scalar.addi c1703936_i32_6354 v14090
  let v14092 : BitVec 32 := v14091
  ![v14092.toNat]

def k0_chk1079 (v14089 : BitVec 32) : Prop :=
  (8 ∣ (k0_mult1079 v14089).toNat) ∧
  (∀ a, (k0_off2071 v14089) a + S32.size a ≤ S3407872.size a) ∧
  (∀ a, (k0_off2092 v14089) a + S32.size a ≤ S3407872.size a)
theorem k0_mult1079_dvd : ∀ (v14089 : BitVec 32) (k0_hw1079 : k0_chk1079 v14089), 8 ∣ (k0_mult1079 v14089).toNat := fun v14089 k0_hw1079 => k0_hw1079.1
theorem k0_off2071_inb : ∀ (v14089 : BitVec 32) (k0_hw1079 : k0_chk1079 v14089), ∀ a, (k0_off2071 v14089) a + S32.size a ≤ S3407872.size a := fun v14089 k0_hw1079 => k0_hw1079.2.1
theorem k0_off2092_inb : ∀ (v14089 : BitVec 32) (k0_hw1079 : k0_chk1079 v14089), ∀ a, (k0_off2092 v14089) a + S32.size a ≤ S3407872.size a := fun v14089 k0_hw1079 => k0_hw1079.2.2

def k0_off2093 (v14102 : BitVec 32) : Fin 1 → Nat :=
  let c1703936_i32_6358 : BitVec 32 := 1703936#32
  let c32_i32_6357 : BitVec 32 := 32#32
  let v14103 : BitVec 32 := Scalar.muli v14102 c32_i32_6357
  let v14104 : BitVec 32 := Scalar.addi c1703936_i32_6358 v14103
  let v14105 : BitVec 32 := v14104
  ![v14105.toNat]

def k0_chk1080 (v14102 : BitVec 32) : Prop :=
  (8 ∣ (k0_mult1081 v14102).toNat) ∧
  (∀ a, (k0_off2073 v14102) a + S32.size a ≤ S3407872.size a) ∧
  (∀ a, (k0_off2093 v14102) a + S32.size a ≤ S3407872.size a)
theorem k0_mult1081_dvd : ∀ (v14102 : BitVec 32) (k0_hw1080 : k0_chk1080 v14102), 8 ∣ (k0_mult1081 v14102).toNat := fun v14102 k0_hw1080 => k0_hw1080.1
theorem k0_off2073_inb : ∀ (v14102 : BitVec 32) (k0_hw1080 : k0_chk1080 v14102), ∀ a, (k0_off2073 v14102) a + S32.size a ≤ S3407872.size a := fun v14102 k0_hw1080 => k0_hw1080.2.1
theorem k0_off2093_inb : ∀ (v14102 : BitVec 32) (k0_hw1080 : k0_chk1080 v14102), ∀ a, (k0_off2093 v14102) a + S32.size a ≤ S3407872.size a := fun v14102 k0_hw1080 => k0_hw1080.2.2

def k0_off2094 (v14115 : BitVec 32) : Fin 1 → Nat :=
  let c1703936_i32_6362 : BitVec 32 := 1703936#32
  let c32_i32_6361 : BitVec 32 := 32#32
  let v14116 : BitVec 32 := Scalar.muli v14115 c32_i32_6361
  let v14117 : BitVec 32 := Scalar.addi c1703936_i32_6362 v14116
  let v14118 : BitVec 32 := v14117
  ![v14118.toNat]

def k0_chk1081 (v14115 : BitVec 32) : Prop :=
  (8 ∣ (k0_mult1083 v14115).toNat) ∧
  (∀ a, (k0_off2075 v14115) a + S32.size a ≤ S3407872.size a) ∧
  (∀ a, (k0_off2094 v14115) a + S32.size a ≤ S3407872.size a)
theorem k0_mult1083_dvd : ∀ (v14115 : BitVec 32) (k0_hw1081 : k0_chk1081 v14115), 8 ∣ (k0_mult1083 v14115).toNat := fun v14115 k0_hw1081 => k0_hw1081.1
theorem k0_off2075_inb : ∀ (v14115 : BitVec 32) (k0_hw1081 : k0_chk1081 v14115), ∀ a, (k0_off2075 v14115) a + S32.size a ≤ S3407872.size a := fun v14115 k0_hw1081 => k0_hw1081.2.1
theorem k0_off2094_inb : ∀ (v14115 : BitVec 32) (k0_hw1081 : k0_chk1081 v14115), ∀ a, (k0_off2094 v14115) a + S32.size a ≤ S3407872.size a := fun v14115 k0_hw1081 => k0_hw1081.2.2

def k0_off2095 (v14128 : BitVec 32) : Fin 1 → Nat :=
  let c1703936_i32_6366 : BitVec 32 := 1703936#32
  let c32_i32_6365 : BitVec 32 := 32#32
  let v14129 : BitVec 32 := Scalar.muli v14128 c32_i32_6365
  let v14130 : BitVec 32 := Scalar.addi c1703936_i32_6366 v14129
  let v14131 : BitVec 32 := v14130
  ![v14131.toNat]

def k0_chk1082 (v14128 : BitVec 32) : Prop :=
  (8 ∣ (k0_mult1085 v14128).toNat) ∧
  (∀ a, (k0_off2077 v14128) a + S32.size a ≤ S3407872.size a) ∧
  (∀ a, (k0_off2095 v14128) a + S32.size a ≤ S3407872.size a)
theorem k0_mult1085_dvd : ∀ (v14128 : BitVec 32) (k0_hw1082 : k0_chk1082 v14128), 8 ∣ (k0_mult1085 v14128).toNat := fun v14128 k0_hw1082 => k0_hw1082.1
theorem k0_off2077_inb : ∀ (v14128 : BitVec 32) (k0_hw1082 : k0_chk1082 v14128), ∀ a, (k0_off2077 v14128) a + S32.size a ≤ S3407872.size a := fun v14128 k0_hw1082 => k0_hw1082.2.1
theorem k0_off2095_inb : ∀ (v14128 : BitVec 32) (k0_hw1082 : k0_chk1082 v14128), ∀ a, (k0_off2095 v14128) a + S32.size a ≤ S3407872.size a := fun v14128 k0_hw1082 => k0_hw1082.2.2

def k0_off2096 (v14141 : BitVec 32) : Fin 1 → Nat :=
  let c1703936_i32_6370 : BitVec 32 := 1703936#32
  let c32_i32_6369 : BitVec 32 := 32#32
  let v14142 : BitVec 32 := Scalar.muli v14141 c32_i32_6369
  let v14143 : BitVec 32 := Scalar.addi c1703936_i32_6370 v14142
  let v14144 : BitVec 32 := v14143
  ![v14144.toNat]

def k0_chk1083 (v14141 : BitVec 32) : Prop :=
  (8 ∣ (k0_mult1087 v14141).toNat) ∧
  (∀ a, (k0_off2079 v14141) a + S32.size a ≤ S3407872.size a) ∧
  (∀ a, (k0_off2096 v14141) a + S32.size a ≤ S3407872.size a)
theorem k0_mult1087_dvd : ∀ (v14141 : BitVec 32) (k0_hw1083 : k0_chk1083 v14141), 8 ∣ (k0_mult1087 v14141).toNat := fun v14141 k0_hw1083 => k0_hw1083.1
theorem k0_off2079_inb : ∀ (v14141 : BitVec 32) (k0_hw1083 : k0_chk1083 v14141), ∀ a, (k0_off2079 v14141) a + S32.size a ≤ S3407872.size a := fun v14141 k0_hw1083 => k0_hw1083.2.1
theorem k0_off2096_inb : ∀ (v14141 : BitVec 32) (k0_hw1083 : k0_chk1083 v14141), ∀ a, (k0_off2096 v14141) a + S32.size a ≤ S3407872.size a := fun v14141 k0_hw1083 => k0_hw1083.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S49152 : Shape := ⟨1, ![49152]⟩
abbrev S_ : Shape := ⟨0, ![]⟩
abbrev S49152x1 : Shape := ⟨2, ![49152, 1]⟩
abbrev S1 : Shape := ⟨1, ![1]⟩
abbrev S1x1 : Shape := ⟨2, ![1, 1]⟩
abbrev S49152x64 : Shape := ⟨2, ![49152, 64]⟩
abbrev S49152x2x32 : Shape := ⟨3, ![49152, 2, 32]⟩
abbrev S2x49152x32 : Shape := ⟨3, ![2, 49152, 32]⟩

abbrev nBuf : Space → Nat
  | .hbm => 30
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S49152, .i32⟩
  | .hbm, ⟨5, _⟩ => ⟨S_, .i32⟩
  | .hbm, ⟨6, _⟩ => ⟨S49152, .i32⟩
  | .hbm, ⟨7, _⟩ => ⟨S49152, .i1⟩
  | .hbm, ⟨8, _⟩ => ⟨S_, .i32⟩
  | .hbm, ⟨9, _⟩ => ⟨S49152, .i32⟩
  | .hbm, ⟨10, _⟩ => ⟨S49152, .i32⟩
  | .hbm, ⟨11, _⟩ => ⟨S49152, .i32⟩
  | .hbm, ⟨12, _⟩ => ⟨S49152x1, .i32⟩
  | .hbm, ⟨13, _⟩ => ⟨S1, .i32⟩
  | .hbm, ⟨14, _⟩ => ⟨S_, .i32⟩
  | .hbm, ⟨15, _⟩ => ⟨S49152x1, .i32⟩
  | .hbm, ⟨16, _⟩ => ⟨S49152x1, .i1⟩
  | .hbm, ⟨17, _⟩ => ⟨S1x1, .i32⟩
  | .hbm, ⟨18, _⟩ => ⟨S49152x1, .i32⟩
  | .hbm, ⟨19, _⟩ => ⟨S49152x1, .i1⟩
  | .hbm, ⟨20, _⟩ => ⟨S49152x1, .i1⟩
  | .hbm, ⟨21, _⟩ => ⟨S_, .i1⟩
  | .hbm, ⟨22, _⟩ => ⟨S49152, .i1⟩
  | .hbm, ⟨23, _⟩ => ⟨S49152x64, .f32⟩
  | .hbm, ⟨24, _⟩ => ⟨S49152x64, .i1⟩
  | .hbm, ⟨25, _⟩ => ⟨S_, .f32⟩
  | .hbm, ⟨26, _⟩ => ⟨S49152x64, .f32⟩
  | .hbm, ⟨27, _⟩ => ⟨S49152x64, .f32⟩
  | .hbm, ⟨28, _⟩ => ⟨S49152x2x32, .f32⟩
  | .hbm, ⟨29, _⟩ => ⟨S2x49152x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Dense.lean ====
abbrev S3407872 : Shape := ⟨1, ![3407872]⟩
abbrev S128x192 : Shape := ⟨2, ![128, 192]⟩
abbrev S128 : Shape := ⟨1, ![128]⟩
abbrev S128x1 : Shape := ⟨2, ![128, 1]⟩
abbrev S64x128 : Shape := ⟨2, ![64, 128]⟩
abbrev S64 : Shape := ⟨1, ![64]⟩
abbrev S26624x128 : Shape := ⟨2, ![26624, 128]⟩
abbrev S192x128 : Shape := ⟨2, ![192, 128]⟩
abbrev S1x128 : Shape := ⟨2, ![1, 128]⟩
abbrev S128x64 : Shape := ⟨2, ![128, 64]⟩
abbrev S1x64 : Shape := ⟨2, ![1, 64]⟩
abbrev S1024x128 : Shape := ⟨2, ![1024, 128]⟩
abbrev S1024x32 : Shape := ⟨2, ![1024, 32]⟩
abbrev S1024x192 : Shape := ⟨2, ![1024, 192]⟩
abbrev S4096x192 : Shape := ⟨2, ![4096, 192]⟩
abbrev S4096x128 : Shape := ⟨2, ![4096, 128]⟩
abbrev S4096x1 : Shape := ⟨2, ![4096, 1]⟩

abbrev nBuf : Space → Nat
  | .hbm => 12
  | .vmem => 19
  | .smem => 0
  | _ => 0

abbrev bufTy : (tb : Table) → Fin (tcTables nBuf tb) → BufTy
  | .hbm, ⟨0, _⟩ => ⟨S3407872, .f32⟩
  | .hbm, ⟨1, _⟩ => ⟨S128x192, .f32⟩
  | .hbm, ⟨2, _⟩ => ⟨S128, .f32⟩
  | .hbm, ⟨3, _⟩ => ⟨S128x1, .f32⟩
  | .hbm, ⟨4, _⟩ => ⟨S64x128, .f32⟩
  | .hbm, ⟨5, _⟩ => ⟨S64, .f32⟩
  | .hbm, ⟨6, _⟩ => ⟨S26624x128, .f32⟩
  | .hbm, ⟨7, _⟩ => ⟨S192x128, .f32⟩
  | .hbm, ⟨8, _⟩ => ⟨S1x128, .f32⟩
  | .hbm, ⟨9, _⟩ => ⟨S128x64, .f32⟩
  | .hbm, ⟨10, _⟩ => ⟨S1x64, .f32⟩
  | .hbm, ⟨11, _⟩ => ⟨S1x64, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S192x128, .f32⟩
  | .local _ .vmem, ⟨13, _⟩ => ⟨S1x128, .f32⟩
  | .local _ .vmem, ⟨14, _⟩ => ⟨S128x1, .f32⟩
  | .local _ .vmem, ⟨15, _⟩ => ⟨S128x64, .f32⟩
  | .local _ .vmem, ⟨16, _⟩ => ⟨S1x64, .f32⟩
  | .local _ .vmem, ⟨17, _⟩ => ⟨S1x64, .f32⟩
  | .local _ .vmem, ⟨18, _⟩ => ⟨S1x128, .f32⟩
  | _, _ => ⟨S3407872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v77 : BitVec 1 := Scalar.cmpi .eq arg0 c3_i32
  let v78 : BitVec 32 := Scalar.extui v77
  let c0_i32_58 : BitVec 32 := 0#32
  let v79 : BitVec 1 := Scalar.cmpi .ne v78 c0_i32_58
  v79

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c13_i32 : BitVec 32 := 13#32
  let v0 : BitVec 32 := Scalar.addi arg0 c13_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c17_i32 : BitVec 32 := 17#32
  let v0 : BitVec 32 := Scalar.addi arg0 c17_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c21_i32 : BitVec 32 := 21#32
  let v0 : BitVec 32 := Scalar.addi arg0 c21_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DenseReferenceIdeal.lean ====
abbrev S3407872 : Shape := ⟨1, ![3407872]⟩
abbrev S128x192 : Shape := ⟨2, ![128, 192]⟩
abbrev S128 : Shape := ⟨1, ![128]⟩
abbrev S128x1 : Shape := ⟨2, ![128, 1]⟩
abbrev S64x128 : Shape := ⟨2, ![64, 128]⟩
abbrev S64 : Shape := ⟨1, ![64]⟩
abbrev S2x53248x32 : Shape := ⟨3, ![2, 53248, 32]⟩
abbrev S2x49152x32 : Shape := ⟨3, ![2, 49152, 32]⟩
abbrev S49152x2x32 : Shape := ⟨3, ![49152, 2, 32]⟩
abbrev S3x16384x64 : Shape := ⟨3, ![3, 16384, 64]⟩
abbrev S1x16384x64 : Shape := ⟨3, ![1, 16384, 64]⟩
abbrev S16384x64 : Shape := ⟨2, ![16384, 64]⟩
abbrev S16384x192 : Shape := ⟨2, ![16384, 192]⟩
abbrev S192x128 : Shape := ⟨2, ![192, 128]⟩
abbrev S16384x128 : Shape := ⟨2, ![16384, 128]⟩
abbrev S1x128 : Shape := ⟨2, ![1, 128]⟩
abbrev S_ : Shape := ⟨0, ![]⟩
abbrev S16384x1 : Shape := ⟨2, ![16384, 1]⟩
abbrev S128x64 : Shape := ⟨2, ![128, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S3407872, .f32⟩
  | .hbm, ⟨1, _⟩ => ⟨S128x192, .f32⟩
  | .hbm, ⟨2, _⟩ => ⟨S128, .f32⟩
  | .hbm, ⟨3, _⟩ => ⟨S128x1, .f32⟩
  | .hbm, ⟨4, _⟩ => ⟨S64x128, .f32⟩
  | .hbm, ⟨5, _⟩ => ⟨S64, .f32⟩
  | .hbm, ⟨6, _⟩ => ⟨S2x53248x32, .f32⟩
  | .hbm, ⟨7, _⟩ => ⟨S2x49152x32, .f32⟩
  | .hbm, ⟨8, _⟩ => ⟨S49152x2x32, .f32⟩
  | .hbm, ⟨9, _⟩ => ⟨S3x16384x64, .f32⟩
  | .hbm, ⟨10, _⟩ => ⟨S1x16384x64, .f32⟩
  | .hbm, ⟨11, _⟩ => ⟨S16384x64, .f32⟩
  | .hbm, ⟨12, _⟩ => ⟨S1x16384x64, .f32⟩
  | .hbm, ⟨13, _⟩ => ⟨S16384x64, .f32⟩
  | .hbm, ⟨14, _⟩ => ⟨S1x16384x64, .f32⟩
  | .hbm, ⟨15, _⟩ => ⟨S16384x64, .f32⟩
  | .hbm, ⟨16, _⟩ => ⟨S16384x192, .f32⟩
  | .hbm, ⟨17, _⟩ => ⟨S192x128, .f32⟩
  | .hbm, ⟨18, _⟩ => ⟨S16384x128, .f32⟩
  | .hbm, ⟨19, _⟩ => ⟨S1x128, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S16384x1, .f32⟩
  | .hbm, ⟨26, _⟩ => ⟨S16384x1, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S128, .f32⟩
  | .hbm, ⟨31, _⟩ => ⟨S128x64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | _, _ => ⟨S3407872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Setup.lean ====
/-
  The program as the launch theorem sees it, the resource algebra, the tile's memrefs as closed constants, and `Run`: what
  it is for one tile to run a program from an assertion.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
/-- Assertions over this program's machine. -/
abbrev MM (F : FTy → Type) : Type := MT nD τ sig (SparseCore.Cfg.HIx 1) (Elt F) ℕ UU ℕ
abbrev EH : Emb UH (MM F) := embL
abbrev EC : UEmb Counters (MM F) := (UEmb.inr : UEmb Counters (UH × Counters)).trans uEmb

/-! The kernel's operands and scratches, closed. -/
abbrev aE : Memref sig .scVector .hbm S64x1000000 .f32 := Memref.whole main_v1_scv
abbrev aTA : Memref sig .scVector .hbm S2048 .f32 := Memref.whole main_v3_scv
abbrev aTB : Memref sig .scVector .hbm S2048 .f32 := Memref.whole main_v5_scv
abbrev aI : Memref sig .scVector .hbm S49152 .i32 := Memref.whole main_v0_scv
abbrev aO : Memref sig .scVector .hbm S3407872 .f32 := Memref.whole main_v6_scv
abbrev aC : Memref sig .scVector .vmem S4096 .i32 := Memref.whole cc0_scratch0
abbrev aV : Memref sig .scVector .vmem S1792 .i32 := Memref.whole cc0_scratch1
abbrev aJ : Memref sig .scVector .vmem S1792 .i32 := Memref.whole cc0_scratch2
abbrev aTV : Memref sig .scVector .vmem S256 .i32 := Memref.whole cc0_scratch3
abbrev aTJ : Memref sig .scVector .vmem S256 .i32 := Memref.whole cc0_scratch4
abbrev aBlk : Memref sig .scVector .vmem S1x31488 .f32 := Memref.whole cc0_scratch5
abbrev aStg : Memref sig .scVector .vmem S57344 .f32 := Memref.whole cc0_scratch6
abbrev aTb : Memref sig .scVector .vmem S8192 .f32 := Memref.whole cc0_scratch7

section Run
variable [FloatOps F]

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- From `I`, the tile `L` of device `d` runs `p` to `Q`. -/
def Run (d : Dev nD) (L : grid0.Coords) {α : Type} (I : sProp (MM F))
    (p : Prog (TpuEff nD τ sig (Elt F) Λ₀ (.scVector (cV L) (jV L))) α) (Q : α → sProp (MM F)) : Prop :=
  I ⊢ wp frame (wpE (defs₀ (F := F)) 𝒱₀ (thr d L) none) Set.univ p Q

end Run

end Cert.Proof.Gather

end
-- ==== Proof.Copy.lean ====
/-
  Intervals of a rank-one array, and the steps of a batch of copies: a copy whose destination is held through an update of
  the issuer's choosing.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## Rank-one arrays -/

/-- The rank-one array of `n` elements. -/
abbrev V1 (n : ℕ) : Shape := ⟨1, ![n]⟩

/-- Entry `k` of a rank-one array. -/
def i1 {n : ℕ} (k : ℕ) (h : k < n) : (V1 n).Idx := fun a => match a with | 0 => ⟨k, h⟩

theorem i1_zero {n k : ℕ} (h : k < n) : ((i1 k h) 0 : ℕ) = k := rfl

theorem idx1_ext {n : ℕ} {x y : (V1 n).Idx} (h : (x 0 : ℕ) = (y 0 : ℕ)) : x = y := by
  funext a
  match a with | 0 => exact Fin.ext h

theorem i1_eta {n : ℕ} (x : (V1 n).Idx) : i1 (x 0 : ℕ) (x 0).isLt = x := idx1_ext rfl

/-- The `l` elements from `o` on. -/
def seg (n o l : ℕ) : Finset (V1 n).Idx := Finset.univ.filter fun i => o ≤ (i 0 : ℕ) ∧ (i 0 : ℕ) < o + l

theorem mem_seg {n o l : ℕ} {i : (V1 n).Idx} : i ∈ seg n o l ↔ o ≤ (i 0 : ℕ) ∧ (i 0 : ℕ) < o + l := by
  simp [seg]

theorem seg_all (n : ℕ) : seg n 0 n = Finset.univ := by
  ext i; simp only [mem_seg, Finset.mem_univ, iff_true]; exact ⟨Nat.zero_le _, by have := (i 0).isLt; simpa using this⟩

theorem unit_set {n l : ℕ} {off : Fin 1 → ℕ} {h} : (Rect.unit (s := V1 n) off ![l] h).set = seg n (off 0) l := by
  ext i
  rw [Rect.mem_set_unit, mem_seg]
  exact ⟨fun h => h 0, fun h a => match a with | 0 => h⟩

theorem unit_emb {n l : ℕ} {off : Fin 1 → ℕ} {h} (x : (V1 l).Idx) :
    (((Rect.unit (s := V1 n) off ![l] h).emb x) 0 : ℕ) = off 0 + (x 0 : ℕ) := by
  show off 0 + 1 * (x 0 : ℕ) = _
  rw [one_mul]

/-! ## Products over an interval of slots -/

theorem bigSep_Ico_succ {M : Type} [URA M] {a b : ℕ} (h : a < b) (Φ : ℕ → sProp M) :
    bigSep (Finset.Ico a b) Φ = iprop(Φ a ∗ bigSep (Finset.Ico (a + 1) b) Φ) := by
  rw [← Finset.insert_Ico_add_one_left_eq_Ico h]
  exact bigSep_insert (by simp)

theorem bigSep_Ico_append {M : Type} [URA M] {a b c : ℕ} (h : a ≤ b) (h' : b ≤ c) (Φ : ℕ → sProp M) :
    bigSep (Finset.Ico a c) Φ = iprop(bigSep (Finset.Ico a b) Φ ∗ bigSep (Finset.Ico b c) Φ) := by
  rw [← Finset.Ico_union_Ico_eq_Ico h h']
  exact bigSep_union (Finset.Ico_disjoint_Ico_consecutive a b c)

/-- The `n` slots from `a` on, indexed from nought. -/
theorem bigSep_shift {M : Type} [URA M] (n a : ℕ) (Φ : ℕ → sProp M) :
    bigSep (Finset.univ : Finset (Fin n)) (fun t => Φ (a + t.val)) = bigSep (Finset.Ico a (a + n)) Φ := by
  have hinj : Function.Injective fun t : Fin n => a + t.val := fun s t h => Fin.ext (Nat.add_left_cancel h)
  have h : (Finset.univ : Finset (Fin n)).map ⟨fun t : Fin n => a + t.val, hinj⟩ = Finset.Ico a (a + n) := by
    ext i
    simp only [Finset.mem_map, Finset.mem_univ, true_and, Function.Embedding.coeFn_mk, Finset.mem_Ico]
    constructor
    · rintro ⟨t, rfl⟩; have := t.isLt; omega
    · intro h; exact ⟨⟨i - a, by omega⟩, show a + (i - a) = i by omega⟩
  rw [← h, bigSep_map]; rfl

section Batch

variable [FloatOps F] (d : Dev nD) (L : grid0.Coords)

/-- The batch of `n` copies of credit `N`, each delivering its `D t`, on semaphore `sm` of the tile; `j` issued, `u` units waited for. -/
abbrev Bat {n : ℕ} (N : ℕ) (sm : DmaSem sig) (D : Fin n → sProp (MM F)) (j u : ℕ) : sProp (MM F) :=
  Batch EC (thr d L) (.dma sm) (default : SparseCore.Cfg.HIx 1) N D j u

variable {sp sp' : Space} {α : Type} {n : ℕ}

/-- One more copy of a batch, its destination held through a write update. -/
theorem wp_copy {sh : Shape} {e : EltTy} {src : Memref sig .scVector sp sh e} {dst : Memref sig .scVector sp' sh e} {sm : DmaSem sig}
    {hsrc : src.view.WordExact} {hdst : dst.view.WordExact} {hsem : DmaTarget.Typed (nD := nD) (p := .scVector (cV L) (jV L)) sp (.dma sm) (.here dst)}
    {k : PUnit → Prog (TpuEff nD τ sig (Elt F) Λ₀ (.scVector (cV L) (jV L))) α} {Q : α → sProp (MM F)}
    {q : PosShare TreeShare} {fs : Buf (Elt F) (src.view.loc (thr d L))} {R : sProp (MM F)} {D : Fin n → sProp (MM F)} {j u N : ℕ}
    (hN : dst.view.amount (.dma sm) = N) (hj : j < n) (hu : u ≤ j * N)
    (hD : iprop(R ∗ (src.view.loc (thr d L) ↦[src.view.set]{q} fs)) ⊢ D ⟨j, hj⟩) :
    iprop((src.view.loc (thr d L) ↦[src.view.set]{q} fs) ∗ writeUpdate (thr d L) dst.view (src.view.read (Elt F) fs) R ∗ Bat d L N sm D j u)
      ⊢ iprop((Bat d L N sm D (j + 1) u -∗ wp frame (wpE (defs₀ (F := F)) 𝒱₀ (thr d L) none) Set.univ (k ⟨⟩) Q)
        -∗ wp frame (wpE (defs₀ (F := F)) 𝒱₀ (thr d L) none) Set.univ (.op (.enqueueDma src (.here dst) (.dma sm) hsrc hdst hsem) k) Q) := by
  unfold Bat Batch
  iintro ⟨Hs, Hd, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  iapply (wp_enqueueDma 𝒱₀ (thr d L) none Set.univ (default : SparseCore.Cfg.HIx 1) N hN) $$ [Hs Hd] [Ht]
  · isplitl [Hs] <;> iassumption
  · iapply (batch_creditUpdate EC ⟨j, hj⟩ hD)
    isplitr; · iexact Hinv
    iexact Ht
  iintro Hcred'
  iapply Hk
  iexists γ, γ₀, κ
  isplitr; · iexact Hinv
  isplitl [HI]; · iexact HI
  isplitl [H0]; · iexact H0
  rw [show (j + 1) * N - u = (j * N - u) + N by rw [Nat.add_mul, Nat.one_mul]; omega, ← tallyAt_add]
  icombine Hcred Hcred' as H
  iexact H

/-- The write update of an issuer whose destination lies in an invariant beside an alternative `T` that the issuer's
    share `t` of it refutes: the issuer only has to keep that share. -/
theorem dump_update {dst : Memref sig .scVector sp' S32 .f32} {Sd : Finset (Idx (dst.view.loc (thr d L)))} (hS : dst.view.set ⊆ Sd)
    (w : S32.Idx → Elt F .f32) {ι : ℕ} {T t : sProp (MM F)} (hT : iprop(T ∗ t) ⊢ (False : sProp (MM F))) :
    iprop(inv ι iprop((∃ f, dst.view.loc (thr d L) ↦[Sd]{fullShare} f) ∨ T) ∗ t)
      ⊢ writeUpdate (thr d L) dst.view w t := by
  rw [writeUpdate, writeUpdateFrom_def]
  iintro ⟨#Hinv, Ht⟩
  iexists (fun _ => t)
  isplitl [Ht]; · iexact Ht
  isplitr
  · rw [writeSteps_def]
    imodintro
    iintro %M %M' Ht
    imod (inv_acc (Set.mem_univ ι)) $$ Hinv with ⟨Hb, Hclose⟩
    icases Hb with (⟨%f, Hf⟩ | HT)
    · imodintro
      rw [storeSpec_apply]
      iexists Sd, f
      isplitl [Hf]; · iexact Hf
      isplitr; · ipureintro; exact fun i hi => hS (dst.view.setOn_subset_set _ hi)
      iintro Hf
      ihave Hc := Hclose $$ [Hf]
      · ileft; iexists _; iexact Hf
      imod Hc
      imodintro
      iexact Ht
    · iexfalso; iapply hT; isplitl [HT] <;> iassumption
  · iintro H; iexact H

end Batch

end Cert.Proof.Gather

end
-- ==== Proof.Lists.lean ====
/-
  The lists that a tile compacts its share of the indices into, as the numbers that satisfy a predicate: what the running
  sum of a mask gives, where a scatter puts its lanes, and that one group of sixteen indices carries the list on.
-/
module

public import proofs.«01_k».proof.Proof.Copy

@[expose] public section

noncomputable section

namespace Cert.Proof.Gather

open Cert.KernelIdeal Cert.KernelIdeal.Gen

open Idealize.ShloMosaic

variable {F : FTy → Type}

/-! ## Scatters -/

/-- Lane `k` of sixteen. -/
abbrev lane (k : Fin 16) : S16.Idx := Shape.ofLane (d := ![16]) k

theorem lane_zero (k : Fin 16) : ((lane k) 0 : ℕ) = k.val := rfl

theorem lane_eta (x : S16.Idx) : lane (x 0) = x := idx1_ext rfl

/-- A scatter without mask, as the sixteen lanes taken in turn. -/
theorem storeIdx_fold [FloatOps F] {s : Shape} {e : EltTy} (f : Vec F s e) (idxs : Fin s.rank → IVec S16 32) (w : Vec F S16 e)
    (h : ∀ a x, (idxs a x).toNat < s.size a) :
    storeIdx f idxs w (fun _ => 1#1) false h
      = (List.finRange 16).foldl (fun g k => fun j => if (∀ a, (j a).val = (idxs a (lane k)).toNat) then w (lane k) else g j) f := by
  exact congrArg (fun G : Vec F s e → Fin 16 → Vec F s e => (List.finRange 16).foldl G f) (funext fun _ => funext fun _ => by
    simp only [↓reduceIte, Bool.false_eq_true]; rfl)

theorem foldl_miss {s : Shape} {α : Type} (hit : Fin 16 → s.Idx → Prop) [∀ k j, Decidable (hit k j)] (w : Fin 16 → α) (j : s.Idx) :
    ∀ (l : List (Fin 16)) (f : s.Idx → α), (∀ k ∈ l, ¬ hit k j) →
      l.foldl (fun g k => fun j => if hit k j then w k else g j) f j = f j := by
  intro l
  induction l with
  | nil => intro f _; rfl
  | cons k l ih =>
    intro f hm
    rw [List.foldl_cons, ih _ fun k' hk' => hm k' (List.mem_cons_of_mem _ hk')]
    exact if_neg (hm k List.mem_cons_self)

theorem foldl_hit {s : Shape} {α : Type} (hit : Fin 16 → s.Idx → Prop) [∀ k j, Decidable (hit k j)] (w : Fin 16 → α) (j : s.Idx) (k : Fin 16)
    (hk : hit k j) : ∀ (l : List (Fin 16)) (f : s.Idx → α), k ∈ l → l.Nodup → (∀ k' ∈ l, hit k' j → k' = k) →
      l.foldl (fun g k => fun j => if hit k j then w k else g j) f j = w k := by
  intro l
  induction l with
  | nil => intro f h; cases h
  | cons k₀ l ih =>
    intro f hm hnd hu
    rw [List.foldl_cons]
    rcases List.mem_cons.mp hm with rfl | hm'
    · rw [foldl_miss hit w j l _ fun k' hk' hh => ?_]
      · exact if_pos hk
      · exact (List.nodup_cons.mp hnd).1 (hu k' (List.mem_cons_of_mem _ hk') hh ▸ hk')
    · exact ih _ hm' (List.nodup_cons.mp hnd).2 fun k' hk' => hu k' (List.mem_cons_of_mem _ hk')

/-- Where exactly one lane names an entry, the scatter leaves that lane's word there. -/
theorem storeIdx_hit [FloatOps F] {s : Shape} {e : EltTy} (f : Vec F s e) (idxs : Fin s.rank → IVec S16 32) (w : Vec F S16 e)
    (h : ∀ a x, (idxs a x).toNat < s.size a) (j : s.Idx) (k : Fin 16) (hk : ∀ a, (j a).val = (idxs a (lane k)).toNat)
    (hu : ∀ k', (∀ a, (j a).val = (idxs a (lane k')).toNat) → k' = k) :
    storeIdx f idxs w (fun _ => 1#1) false h j = w (lane k) := by
  rw [storeIdx_fold]
  exact foldl_hit (fun k j => ∀ a, (j a).val = (idxs a (lane k)).toNat) (fun k => w (lane k)) j k hk _ f (List.mem_finRange k) (List.nodup_finRange 16)
    fun k' _ => hu k'

/-- Where no lane names an entry, the scatter leaves it alone. -/
theorem storeIdx_miss [FloatOps F] {s : Shape} {e : EltTy} (f : Vec F s e) (idxs : Fin s.rank → IVec S16 32) (w : Vec F S16 e)
    (h : ∀ a x, (idxs a x).toNat < s.size a) (j : s.Idx) (hn : ∀ k, ¬ ∀ a, (j a).val = (idxs a (lane k)).toNat) :
    storeIdx f idxs w (fun _ => 1#1) false h j = f j := by
  rw [storeIdx_fold]
  exact foldl_miss (fun k j => ∀ a, (j a).val = (idxs a (lane k)).toNat) (fun k => w (lane k)) j _ f fun k _ => hn k

/-! ## The running sum -/

theorem scan_sum (v : IVec S16 32) (q : ℕ → Prop) [DecidablePred q] (hv : ∀ k : Fin 16, v (lane k) = BitVec.ofNat 32 (if q k.val then 1 else 0)) (j : Fin 16) :
    scan .sum v (lane j) = BitVec.ofNat 32 (Nat.count q (j.val + 1)) := by
  have key : ∀ n : ℕ, n < 16 → (((List.finRange 16).filter fun k : Fin 16 => decide (0 < k.val ∧ k.val ≤ n)).foldl
      (fun r k => r + v (lane k)) (v (lane 0))) = BitVec.ofNat 32 (Nat.count q (n + 1)) := by
    intro n
    induction n with
    | zero =>
      intro _
      have he : ((List.finRange 16).filter fun k : Fin 16 => decide (0 < k.val ∧ k.val ≤ 0)) = [] := by decide
      rw [he]
      show v (lane 0) = _
      rw [hv, Nat.count_succ, Nat.count_zero, Nat.zero_add]; rfl
    | succ n ih =>
      intro hn
      have hsplit : ∀ m : Fin 15, ((List.finRange 16).filter fun k : Fin 16 => decide (0 < k.val ∧ k.val ≤ m.val + 1))
          = ((List.finRange 16).filter fun k : Fin 16 => decide (0 < k.val ∧ k.val ≤ m.val)) ++ [m.succ] := by decide
      have h15 : n < 15 := by omega
      have hs := hsplit ⟨n, h15⟩
      have hf : ∀ (l : List (Fin 16)) (k : Fin 16), (l ++ [k]).foldl (fun r k => r + v (lane k)) (v (lane 0))
          = l.foldl (fun r k => r + v (lane k)) (v (lane 0)) + v (lane k) := fun l k => by rw [List.foldl_append]; rfl
      refine (congrArg (fun l : List (Fin 16) => l.foldl (fun r k => r + v (lane k)) (v (lane 0))) hs).trans ?_
      refine (hf _ _).trans ?_
      rw [hv (⟨n, h15⟩ : Fin 15).succ, Nat.count_succ q (n + 1), BitVec.ofNat_add]
      exact congrArg (fun z : BitVec 32 => z + BitVec.ofNat 32 (if q (n + 1) then 1 else 0)) (ih (by omega))
  exact key j.val j.isLt

/-! ## The number that an entry of a list stands for -/

/-- The number that satisfies `p` and has `s` such numbers below it; nought if there is none. -/
def nthOf (p : ℕ → Prop) [DecidablePred p] (s : ℕ) : ℕ :=
  open Classical in if h : ∃ j, p j ∧ Nat.count p j = s then Nat.find h else 0

theorem exists_count {p : ℕ → Prop} [DecidablePred p] {n s : ℕ} (h : s < Nat.count p n) : ∃ j < n, p j ∧ Nat.count p j = s := by
  induction n with
  | zero => simp at h
  | succ n ih =>
    by_cases hs : s < Nat.count p n
    · obtain ⟨j, hj, hp⟩ := ih hs; exact ⟨j, by omega, hp⟩
    · rw [Nat.count_succ] at h
      by_cases hp : p n
      · rw [if_pos hp] at h; exact ⟨n, by omega, hp, by omega⟩
      · rw [if_neg hp] at h; omega

theorem nthOf_count {p : ℕ → Prop} [DecidablePred p] {j : ℕ} (hp : p j) : nthOf p (Nat.count p j) = j := by
  classical
  have h : ∃ i, p i ∧ Nat.count p i = Nat.count p j := ⟨j, hp, rfl⟩
  unfold nthOf
  rw [dif_pos h]
  have := Nat.find_spec h
  exact Nat.count_injective this.1 hp this.2

theorem nthOf_spec {p : ℕ → Prop} [DecidablePred p] {n s : ℕ} (h : s < Nat.count p n) :
    nthOf p s < n ∧ p (nthOf p s) ∧ Nat.count p (nthOf p s) = s := by
  obtain ⟨j, hj, hp, rfl⟩ := exists_count h
  rw [nthOf_count hp]; exact ⟨hj, hp, rfl⟩

/-! ## The lists -/

/-- `f` lists, below its last sixteen entries, `val` of the numbers under `n` that satisfy `p`, in order, and `dflt` after them. -/
def LI (cap : ℕ) (p : ℕ → Prop) [DecidablePred p] (n : ℕ) (val : ℕ → BitVec 32) (dflt : BitVec 32) (f : (V1 cap).Idx → BitVec 32) : Prop :=
  ∀ i, (i 0 : ℕ) < cap - 16 → f i = if (i 0 : ℕ) < Nat.count p n then val (nthOf p (i 0)) else dflt

theorem LI.step [FloatOps F] {cap : ℕ} {p : ℕ → Prop} [DecidablePred p] {n : ℕ} {val : ℕ → BitVec 32} {dflt : BitVec 32} {f : Vec F (V1 cap) .i32}
    (hf : LI cap p n val dflt f) (hcap : 16 ≤ cap) (v : IVec S16 32) (w : Vec F S16 .i32) (h : ∀ a x, ((![v] : Fin 1 → IVec S16 32) a x).toNat < (V1 cap).size a)
    (hv : ∀ k : Fin 16, (v (lane k)).toNat = if p (n + k.val) then Nat.count p (n + k.val) else cap - 1)
    (hw : ∀ k : Fin 16, p (n + k.val) → w (lane k) = val (n + k.val)) :
    LI cap p (n + 16) val dflt (storeIdx f ![v] w (fun _ => 1#1) false h) := by
  have hmono : ∀ {a b : ℕ}, a ≤ b → Nat.count p a ≤ Nat.count p b := fun h => Nat.count_monotone p h
  intro i hi
  have key : ∀ k : Fin 16, (∀ a, (i a).val = ((![v] : Fin 1 → IVec S16 32) a (lane k)).toNat) → p (n + k.val) ∧ (i 0 : ℕ) = Nat.count p (n + k.val) := by
    intro k hk
    have := hk 0
    have e : (i 0 : ℕ) = (v (lane k)).toNat := this
    rw [hv k] at e
    by_cases hp : p (n + k.val)
    · exact ⟨hp, by rw [if_pos hp] at e; exact e⟩
    · rw [if_neg hp] at e; omega
  by_cases hex : ∃ k : Fin 16, ∀ a, (i a).val = ((![v] : Fin 1 → IVec S16 32) a (lane k)).toNat
  · obtain ⟨k, hk⟩ := hex
    obtain ⟨hp, hc⟩ := key k hk
    rw [storeIdx_hit f ![v] w h i k hk fun k' hk' => ?_]
    · have hlt : (i 0 : ℕ) < Nat.count p (n + 16) := by
        rw [hc]
        have h1 : Nat.count p (n + k.val + 1) = Nat.count p (n + k.val) + 1 := by rw [Nat.count_succ, if_pos hp]
        have h2 := hmono (a := n + k.val + 1) (b := n + 16) (by have := k.isLt; omega)
        omega
      rw [if_pos hlt, hc, nthOf_count hp]
      exact hw k hp
    · obtain ⟨hp', hc'⟩ := key k' hk'
      have : n + k'.val = n + k.val := Nat.count_injective hp' hp (by rw [← hc, ← hc'])
      exact Fin.ext (by omega)
  · rw [storeIdx_miss f ![v] w h i fun k hk => hex ⟨k, hk⟩, hf i hi]
    by_cases hlt : (i 0 : ℕ) < Nat.count p n
    · rw [if_pos hlt, if_pos (lt_of_lt_of_le hlt (hmono (by omega)))]
    · rw [if_neg hlt, if_neg]
      intro hlt'
      -- the entry would be that of one of the sixteen
      obtain ⟨j, hj, hp, hc⟩ := exists_count hlt'
      have hjn : n ≤ j := by
        by_contra hlt
        have h1 : Nat.count p (j + 1) = Nat.count p j + 1 := by rw [Nat.count_succ, if_pos hp]
        have h2 := hmono (a := j + 1) (b := n) (by omega)
        omega
      obtain ⟨k, rfl⟩ : ∃ k, j = n + k := ⟨j - n, by omega⟩
      refine hex ⟨⟨k, by omega⟩, fun a => ?_⟩
      match a with
      | 0 =>
        show (i 0 : ℕ) = (v (lane ⟨k, _⟩)).toNat
        rw [hv, if_pos hp]; exact hc.symm

/-- After the last sixteen entries are set to `dflt`, and the numbers are no more than the rest of them, every entry is known. -/
def LF (cap : ℕ) (p : ℕ → Prop) [DecidablePred p] (n : ℕ) (val : ℕ → BitVec 32) (dflt : BitVec 32) (f : (V1 cap).Idx → BitVec 32) : Prop :=
  ∀ i, f i = if (i 0 : ℕ) < Nat.count p n then val (nthOf p (i 0)) else dflt

end Cert.Proof.Gather

end
-- ==== Proof.Masks.lean ====
/-
  The tile's words: its bounds as the kernel computes them, and the masks, running sums and slots of one group of sixteen
  indices as numbers.
-/
module

public import proofs.«01_k».proof.Proof.Lists

@[expose] public section

noncomputable section

namespace Cert.Proof.Gather

open Cert.KernelIdeal Cert.KernelIdeal.Gen

open Idealize.ShloMosaic

variable {F : FTy → Type}

/-! ## The tile's share of the vocabulary -/

/-- The tile's number. -/
def widN (L : grid0.Coords) : ℕ := 2 * (L 1).val + (L 0).val
/-- The first index of its share. -/
def loN (L : grid0.Coords) : ℕ := widN L * 31250
/-- The column its block starts at. -/
def a0N (L : grid0.Coords) : ℕ := min (loN L / 128 * 128) 968448

theorem widN_lt (L : grid0.Coords) : widN L < 32 := by
  have h0 : (L 0).val < 2 := (L 0).isLt
  have h1 : (L 1).val < 16 := (L 1).isLt
  unfold widN; omega

/-- Index number `j`; past the last one, a number that no index is. -/
def ixN (ix : S49152.Idx → BitVec 32) (j : ℕ) : ℕ := if h : j < 49152 then (ix (i1 j h)).toNat else 1000000

/-- Index `j` is of the tile's share and in the aligned part of the table. -/
def pM (ix : S49152.Idx → BitVec 32) (L : grid0.Coords) (j : ℕ) : Prop := loN L ≤ ixN ix j ∧ ixN ix j < loN L + 31250 ∧ ixN ix j < 999936
/-- Index `j` is of the tile's share and in the tail. -/
def pT (ix : S49152.Idx → BitVec 32) (L : grid0.Coords) (j : ℕ) : Prop := loN L ≤ ixN ix j ∧ ixN ix j < loN L + 31250 ∧ 999936 ≤ ixN ix j

instance (ix : S49152.Idx → BitVec 32) (L : grid0.Coords) : DecidablePred (pM ix L) := fun _ => by unfold pM; infer_instance
instance (ix : S49152.Idx → BitVec 32) (L : grid0.Coords) : DecidablePred (pT ix L) := fun _ => by unfold pT; infer_instance

/-! ## The words the kernel computes once -/

def wW (L : grid0.Coords) : BitVec 32 := Scalar.addi (Scalar.muli (BitVec.ofNat 32 (L 1).val) 2#32) (BitVec.ofNat 32 (L 0).val)
def loW (L : grid0.Coords) : BitVec 32 := Scalar.muli (wW L) 31250#32
def hiW (L : grid0.Coords) : BitVec 32 := Scalar.addi (loW L) 31250#32
/-- A word divided by 128, rounded down. -/
def fdiv128 (v2 : BitVec 32) : BitVec 32 :=
  Scalar.select
    (Scalar.andi
      (Scalar.cmpi .ne (Scalar.subi (Scalar.extui (Scalar.cmpi .sgt v2 0#32)) (Scalar.extui (Scalar.cmpi .slt v2 0#32)))
        (Scalar.subi (Scalar.extui (Scalar.cmpi .sgt 128#32 0#32)) (Scalar.extui (Scalar.cmpi .slt 128#32 0#32)) : BitVec 32))
      (Scalar.cmpi .ne (Scalar.remsi v2 128#32) 0#32))
    (Scalar.subi (Scalar.divsi v2 128#32) 1#32) (Scalar.divsi v2 128#32)
def a0W (L : grid0.Coords) : BitVec 32 := Scalar.minsi (Scalar.muli (fdiv128 (loW L)) 128#32) 968448#32
/-- The row that filler entries are copied to. -/
def dumpW (L : grid0.Coords) : BitVec 32 := Scalar.addi 49152#32 (wW L)

theorem wW_toNat (L : grid0.Coords) : (wW L).toNat = widN L := by
  have key : ∀ (c : Fin 2) (s : Fin 16), (Scalar.addi (Scalar.muli (BitVec.ofNat 32 s.val) 2#32) (BitVec.ofNat 32 c.val)).toNat = 2 * s.val + c.val := by decide
  exact key (L 0) (L 1)
theorem loW_toNat (L : grid0.Coords) : (loW L).toNat = loN L := by
  have h := widN_lt L
  show (wW L * 31250#32).toNat = _
  rw [BitVec.toNat_mul, wW_toNat]; unfold loN; simp; omega
theorem hiW_toNat (L : grid0.Coords) : (hiW L).toNat = loN L + 31250 := by
  have h := widN_lt L
  show (loW L + 31250#32).toNat = _
  rw [BitVec.toNat_add, loW_toNat]; unfold loN; simp; omega
theorem dumpW_toNat (L : grid0.Coords) : (dumpW L).toNat = 49152 + widN L := by
  have h := widN_lt L
  show (49152#32 + wW L).toNat = _
  rw [BitVec.toNat_add, wW_toNat]; simp; omega
theorem a0W_toNat (L : grid0.Coords) : (a0W L).toNat = a0N L := by
  have key : ∀ w : Fin 32, (Scalar.minsi (Scalar.muli (fdiv128 (Scalar.muli (BitVec.ofNat 32 w.val) 31250#32)) 128#32) 968448#32).toNat
      = min (w.val * 31250 / 128 * 128) 968448 := by decide
  have h := key ⟨widN L, widN_lt L⟩
  have e : wW L = BitVec.ofNat 32 (widN L) := by rw [← wW_toNat, BitVec.ofNat_toNat, BitVec.setWidth_eq]
  unfold a0W loW a0N loN
  rw [e]; exact h

/-! ## Small words compared signed -/

theorem slt_small {a b : BitVec 32} (ha : a.toNat < 2 ^ 31) (hb : b.toNat < 2 ^ 31) : a.slt b = decide (a.toNat < b.toNat) := by
  rw [BitVec.slt_eq_decide, BitVec.toInt_eq_toNat_of_lt (by omega), BitVec.toInt_eq_toNat_of_lt (by omega)]
  simp
theorem sle_small {a b : BitVec 32} (ha : a.toNat < 2 ^ 31) (hb : b.toNat < 2 ^ 31) : a.sle b = decide (a.toNat ≤ b.toNat) := by
  rw [BitVec.sle_eq_decide, BitVec.toInt_eq_toNat_of_lt (by omega), BitVec.toInt_eq_toNat_of_lt (by omega)]
  simp

theorem minsi_small {a b : BitVec 32} (ha : a.toNat < 2 ^ 31) (hb : b.toNat < 2 ^ 31) : (Scalar.minsi a b).toNat = min a.toNat b.toNat := by
  show (if a.slt b then a else b).toNat = _
  rw [slt_small ha hb]
  by_cases h : a.toNat < b.toNat
  · rw [if_pos (by simpa using h)]; omega
  · rw [if_neg (by simpa using h)]; omega

theorem ofBool_and (p q : Prop) [Decidable p] [Decidable q] :
    BitVec.ofBool (decide p) &&& BitVec.ofBool (decide q) = BitVec.ofBool (decide (p ∧ q)) := by
  by_cases hp : p <;> by_cases hq : q <;> simp [hp, hq]

/-! ## The masks -/

/-- The sixteen indices that are in the tile's share. -/
abbrev inShare (vec : IVec S16 32) (v2 v3 : BitVec 32) : IVec S16 1 :=
  andi (cmpi .sge vec (addi (broadcast S16 0#32) (broadcast S16 v2))) (cmpi .slt vec (addi (broadcast S16 0#32) (broadcast S16 v3)))
/-- Those of them in the aligned part of the table; -/
abbrev maskM (vec : IVec S16 32) (v2 v3 : BitVec 32) : IVec S16 1 := andi (inShare vec v2 v3) (cmpi .slt vec (broadcast S16 999936#32))
/-- and those in the tail. -/
abbrev maskT (vec : IVec S16 32) (v2 v3 : BitVec 32) : IVec S16 1 := andi (inShare vec v2 v3) (cmpi .sge vec (broadcast S16 999936#32))

variable (ix : S49152.Idx → BitVec 32) (L : grid0.Coords)

/-- `vec` holds the sixteen indices from `n` on. -/
def VecAt (n : ℕ) (vec : IVec S16 32) : Prop := ∀ k : Fin 16, (vec (lane k)).toNat = ixN ix (n + k.val)

variable {ix L} {n : ℕ} {vec : IVec S16 32}

theorem maskM_lane (hv : VecAt ix n vec) (hlt : ∀ j < 49152, ixN ix j < 1000000) (hn : n + 16 ≤ 49152) (k : Fin 16) :
    maskM vec (loW L) (hiW L) (lane k) = BitVec.ofBool (decide (pM ix L (n + k.val))) := by
  have hk := k.isLt
  have hb := hlt (n + k.val) (by omega)
  have hw := widN_lt L
  have h1 : (0#32 + loW L).toNat = loN L := by rw [BitVec.zero_add, loW_toNat]
  have h2 : (0#32 + hiW L).toNat = loN L + 31250 := by rw [BitVec.zero_add, hiW_toNat]
  have hlo : loN L ≤ 968750 := by unfold loN; omega
  show (BitVec.ofBool ((0#32 + loW L).sle (vec (lane k))) &&& BitVec.ofBool ((vec (lane k)).slt (0#32 + hiW L))) &&& BitVec.ofBool ((vec (lane k)).slt 999936#32) = _
  rw [sle_small (by rw [h1]; omega) (by rw [hv]; omega), slt_small (by rw [hv]; omega) (by rw [h2]; omega), slt_small (by rw [hv]; omega) (by decide), hv, h1, h2,
    ofBool_and, ofBool_and]
  exact congrArg BitVec.ofBool (decide_eq_decide.mpr and_assoc)

theorem maskT_lane (hv : VecAt ix n vec) (hlt : ∀ j < 49152, ixN ix j < 1000000) (hn : n + 16 ≤ 49152) (k : Fin 16) :
    maskT vec (loW L) (hiW L) (lane k) = BitVec.ofBool (decide (pT ix L (n + k.val))) := by
  have hk := k.isLt
  have hb := hlt (n + k.val) (by omega)
  have hw := widN_lt L
  have h1 : (0#32 + loW L).toNat = loN L := by rw [BitVec.zero_add, loW_toNat]
  have h2 : (0#32 + hiW L).toNat = loN L + 31250 := by rw [BitVec.zero_add, hiW_toNat]
  have hlo : loN L ≤ 968750 := by unfold loN; omega
  show (BitVec.ofBool ((0#32 + loW L).sle (vec (lane k))) &&& BitVec.ofBool ((vec (lane k)).slt (0#32 + hiW L))) &&& BitVec.ofBool ((999936#32).sle (vec (lane k))) = _
  rw [sle_small (by rw [h1]; omega) (by rw [hv]; omega), slt_small (by rw [hv]; omega) (by rw [h2]; omega), sle_small (by decide) (by rw [hv]; omega), hv, h1, h2,
    ofBool_and, ofBool_and]
  exact congrArg BitVec.ofBool (decide_eq_decide.mpr and_assoc)

/-- The word of one lane, as the kernel takes it out. -/
theorem lane_get {α : Type} (x : S16.Idx → α) {k : ℕ} (hk : k < 16) {h1 h2} :
    extractAt ![0] (extractStridedSlice S1 ![k] x h1) h2 = x (lane ⟨k, hk⟩) := by
  unfold extractAt extractStridedSlice
  exact congrArg x (idx1_ext (n := 16) rfl)

/-! ## Slots -/

section Slot
variable {p : ℕ → Prop} [DecidablePred p] {m : IVec S16 1}

/-- `m` is the mask of `p` on the sixteen numbers from `n` on. -/
def MaskAt (p : ℕ → Prop) [DecidablePred p] (n : ℕ) (m : IVec S16 1) : Prop := ∀ k : Fin 16, m (lane k) = BitVec.ofBool (decide (p (n + k.val)))

theorem ext_lane (hm : MaskAt p n m) (k : Fin 16) :
    (extui 32 m natLt_1_32) (lane k) = BitVec.ofNat 32 (if p (n + k.val) then 1 else 0) := by
  show (m (lane k)).setWidth 32 = _
  rw [hm k]
  by_cases h : p (n + k.val)
  · rw [if_pos h, decide_eq_true h]; rfl
  · rw [if_neg h, decide_eq_false h]; rfl

theorem sum_lane (hm : MaskAt p n m) (k : Fin 16) :
    scan .sum (extui 32 m natLt_1_32) (lane k) = BitVec.ofNat 32 (Nat.count (fun j => p (n + j)) (k.val + 1)) :=
  scan_sum _ (fun j => p (n + j)) (fun k => ext_lane hm k) k

/-- The slots of the sixteen numbers; `z` for those that `p` leaves out. -/
abbrev slots (m : IVec S16 1) (pos : BitVec 32) (z : BitVec 32) : IVec S16 32 :=
  select m (addi (addi (broadcast S16 0#32) (broadcast S16 pos)) (subi (scan .sum (extui 32 m natLt_1_32)) (extui 32 m natLt_1_32))) (broadcast S16 z)

theorem slots_lane (hm : MaskAt p n m) {pos z : BitVec 32} (hpos : pos.toNat = Nat.count p n) (hsm : Nat.count p (n + 16) < 2 ^ 31) (k : Fin 16) :
    (slots m pos z (lane k)).toNat = if p (n + k.val) then Nat.count p (n + k.val) else z.toNat := by
  have hk := k.isLt
  show (Scalar.select (m (lane k)) ((0#32 + pos) + (scan .sum (extui 32 m natLt_1_32) (lane k) - (extui 32 m natLt_1_32) (lane k))) z).toNat = _
  rw [sum_lane hm, ext_lane hm, hm k]
  by_cases h : p (n + k.val)
  · rw [if_pos h, if_pos h, decide_eq_true h]
    have hc1 : Nat.count (fun j => p (n + j)) (k.val + 1) = Nat.count (fun j => p (n + j)) k.val + 1 := by rw [Nat.count_succ, if_pos h]
    have hc2 : Nat.count p (n + k.val) = Nat.count p n + Nat.count (fun j => p (n + j)) k.val := Nat.count_add p n k.val
    have hc3 : Nat.count p (n + k.val) ≤ Nat.count p (n + 16) := Nat.count_monotone p (by omega)
    have hb : Nat.count (fun j => p (n + j)) k.val ≤ k.val := Nat.count_le _
    show ((0#32 + pos) + (BitVec.ofNat 32 (Nat.count (fun j => p (n + j)) (k.val + 1)) - BitVec.ofNat 32 1)).toNat = _
    rw [hc1, BitVec.zero_add, BitVec.toNat_add, BitVec.toNat_sub, BitVec.toNat_ofNat, BitVec.toNat_ofNat, hpos, hc2]
    omega
  · rw [if_neg h, if_neg h, decide_eq_false h]; rfl

/-- The number of entries after the sixteen. -/
theorem next_pos (hm : MaskAt p n m) {pos z : BitVec 32} (hpos : pos.toNat = Nat.count p n) (hz : z.toNat < 2 ^ 31) (hc : Nat.count p (n + 16) ≤ z.toNat)
    {h1 h2} :
    (Scalar.minsi (Scalar.addi pos (extractAt ![0] (extractStridedSlice S1 ![15] (scan .sum (extui 32 m natLt_1_32)) h1) h2)) z).toNat = Nat.count p (n + 16) := by
  have e : extractAt ![0] (extractStridedSlice S1 ![15] (scan .sum (extui 32 m natLt_1_32)) h1) h2 = BitVec.ofNat 32 (Nat.count (fun j => p (n + j)) 16) := by
    refine Eq.trans ?_ (sum_lane hm (15 : Fin 16))
    exact lane_get _ (by omega)
  have hc2 : Nat.count p (n + 16) = Nat.count p n + Nat.count (fun j => p (n + j)) 16 := Nat.count_add p n 16
  have hb : Nat.count (fun j => p (n + j)) 16 ≤ 16 := Nat.count_le _
  have e2 : (Scalar.addi pos (BitVec.ofNat 32 (Nat.count (fun j => p (n + j)) 16))).toNat = Nat.count p (n + 16) := by
    show (pos + _).toNat = _
    rw [BitVec.toNat_add, BitVec.toNat_ofNat, hpos]; omega
  rw [e, minsi_small (by rw [e2]; omega) hz, e2]; omega

end Slot

/-- What the last sixteen entries' reset makes of the list. -/
theorem LF.of_LI {cap : ℕ} {p : ℕ → Prop} [DecidablePred p] {n : ℕ} {val : ℕ → BitVec 32} {dflt : BitVec 32} {f g : (V1 cap).Idx → BitVec 32}
    (hf : LI cap p n val dflt f) (hc : Nat.count p n ≤ cap - 16) (h1 : ∀ i, (i 0 : ℕ) < cap - 16 → g i = f i)
    (h2 : ∀ i, cap - 16 ≤ (i 0 : ℕ) → g i = dflt) : LF cap p n val dflt g := by
  intro i
  by_cases h : (i 0 : ℕ) < cap - 16
  · rw [h1 i h, hf i h]
  · rw [h2 i (by omega), if_neg (by omega)]

end Cert.Proof.Gather

end
-- ==== Proof.Scan.lean ====
/-
  The scan of the indices: sixteen of them read, compared with the tile's bounds, and scattered to the tile's lists at the
  slots that the running sums of the masks give.
-/
module

public import proofs.«01_k».proof.Proof.Masks

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] (d : Dev nD) (L : grid0.Coords)

/-- A scatter to a whole buffer: its load and its store. -/
theorem wp_scatter {i : Fin (sig.nNear .scVector .vmem)} {hκ : sig.names .scVector .vmem i = true} {α : Type}
    {hl : (Memref.whole ⟨.vmem, i, hκ⟩ : Memref sig .scVector _ _ _).view.LoadsAt (LoadRect.whole _)}
    {w : (sig.tyNear .scVector .vmem i).Contents (Elt F) → (sig.tyNear .scVector .vmem i).Contents (Elt F)}
    {hx : ((Memref.whole ⟨.vmem, i, hκ⟩).access (Rect.whole _) : View sig .scVector _ _ _).Stores Finset.univ}
    {hm : Finset.univ = Finset.univ ∨ ∀ a, (Rect.whole (sig.tyNear .scVector .vmem i).shape).stride a = 1}
    {k : PUnit → Prog (TpuEff nD τ sig (Elt F) Λ₀ (.scVector (cV L) (jV L))) α} {Q : α → sProp 𝕄} {f : Buf (Elt F) ((thr d L).loc ⟨.vmem, i, hκ⟩)} :
    (((thr d L).loc ⟨.vmem, i, hκ⟩) ↦{fullShare} f)
      ⊢ iprop(((((thr d L).loc ⟨.vmem, i, hκ⟩) ↦{fullShare} (w f)) -∗ wp frame (wpE (defs₀ (F := F)) 𝒱₀ (thr d L) none) Set.univ (k ⟨⟩) Q)
        -∗ wp frame (wpE (defs₀ (F := F)) 𝒱₀ (thr d L) none) Set.univ (.op (.load (Memref.whole ⟨.vmem, i, hκ⟩) (.whole _) hl) fun f =>
            .op (.store (Memref.whole ⟨.vmem, i, hκ⟩) (Rect.whole _) (w f) Finset.univ hx hm) k) Q) := by
  iintro H Hk
  iapply (wp_load_whole 𝒱₀ (thr d L) none Set.univ) $$ H
  iintro H
  iapply (wp_store_whole 𝒱₀ (thr d L) none Set.univ) $$ H
  iexact Hk

end

/-! ## The values in the lists -/

def valV (ix : S49152.Idx → BitVec 32) (L : grid0.Coords) (j : ℕ) : BitVec 32 := BitVec.ofNat 32 (ixN ix j) - a0W L
def valT (ix : S49152.Idx → BitVec 32) (j : ℕ) : BitVec 32 := BitVec.ofNat 32 (ixN ix j)
def valJ (j : ℕ) : BitVec 32 := BitVec.ofNat 32 j

/-- What the lists are once the first `n` indices have been looked at. -/
structure Lists (ix : S49152.Idx → BitVec 32) (L : grid0.Coords) (n : ℕ) (f8 f9 : S1792.Idx → BitVec 32) (f10 f11 : S256.Idx → BitVec 32) : Prop where
  v : LI 1792 (pM ix L) n (valV ix L) 0#32 f8
  j : LI 1792 (pM ix L) n valJ (dumpW L) f9
  tv : LI 256 (pT ix L) n (valT ix) 999936#32 f10
  tj : LI 256 (pT ix L) n valJ (dumpW L) f11

/-- The lanes' numbers. -/
abbrev lanes16 : IVec S16 32 := iota .scVector S16 32 [0] iota_S16_d0_w32_scVector

theorem exists_lane (x : S16.Idx) : ∃ k, x = lane k := ⟨x 0, (lane_eta x).symm⟩

theorem lanes16_lane (k : Fin 16) : lanes16 (lane k) = BitVec.ofNat 32 k.val := by
  show BitVec.ofNat 32 (0 * 16 + k.val) = _
  rw [Nat.zero_mul, Nat.zero_add]

/-- What is asked of the indices: each a row of the table, and no more of them in the tile's share than its lists take. -/
structure Fit (ix : S49152.Idx → BitVec 32) (L : grid0.Coords) : Prop where
  lt : ∀ j < 49152, ixN ix j < 1000000
  m : Nat.count (pM ix L) 49152 ≤ 1744
  t : Nat.count (pT ix L) 49152 ≤ 208

section
variable [FloatOps F] (d : Dev nD) (L : grid0.Coords)

theorem stV : ((aV).access (Rect.whole S1792)).Stores Finset.univ := View.stores_vmem_bits_univ h_S1792 rfl
theorem stJ : ((aJ).access (Rect.whole S1792)).Stores Finset.univ := View.stores_vmem_bits_univ h_S1792 rfl
theorem stTV : ((aTV).access (Rect.whole S256)).Stores Finset.univ := View.stores_vmem_bits_univ h_S256 rfl
theorem stTJ : ((aTJ).access (Rect.whole S256)).Stores Finset.univ := View.stores_vmem_bits_univ h_S256 rfl

theorem wp_aV {α : Type} {w : Vec F S1792 .i32 → Vec F S1792 .i32} {k : PUnit → Prog (TpuEff nD τ sig (Elt F) Λ₀ (.scVector (cV L) (jV L))) α}
    {Q : α → sProp 𝕄} {f : Vec F S1792 .i32} :
    ((aV).view.loc (thr d L) ↦{fullShare} (f : Buf (Elt F) ((aV).view.loc (thr d L))) : sProp 𝕄)
      ⊢ iprop((((aV).view.loc (thr d L) ↦{fullShare} (w f : Buf (Elt F) ((aV).view.loc (thr d L))))
          -∗ wp frame (wpE (defs₀ (F := F)) 𝒱₀ (thr d L) none) Set.univ (k ⟨⟩) Q)
        -∗ wp frame (wpE (defs₀ (F := F)) 𝒱₀ (thr d L) none) Set.univ (.op (.load aV (.whole _) (View.loadsAt_rect stV.loads)) fun f =>
            .op (.store aV (.whole _) (w f) Finset.univ stV (.inl rfl)) k) Q) :=
  wp_scatter d L

theorem wp_aJ {α : Type} {w : Vec F S1792 .i32 → Vec F S1792 .i32} {k : PUnit → Prog (TpuEff nD τ sig (Elt F) Λ₀ (.scVector (cV L) (jV L))) α}
    {Q : α → sProp 𝕄} {f : Vec F S1792 .i32} :
    ((aJ).view.loc (thr d L) ↦{fullShare} (f : Buf (Elt F) ((aJ).view.loc (thr d L))) : sProp 𝕄)
      ⊢ iprop((((aJ).view.loc (thr d L) ↦{fullShare} (w f : Buf (Elt F) ((aJ).view.loc (thr d L))))
          -∗ wp frame (wpE (defs₀ (F := F)) 𝒱₀ (thr d L) none) Set.univ (k ⟨⟩) Q)
        -∗ wp frame (wpE (defs₀ (F := F)) 𝒱₀ (thr d L) none) Set.univ (.op (.load aJ (.whole _) (View.loadsAt_rect stJ.loads)) fun f =>
            .op (.store aJ (.whole _) (w f) Finset.univ stJ (.inl rfl)) k) Q) :=
  wp_scatter d L

theorem wp_aTV {α : Type} {w : Vec F S256 .i32 → Vec F S256 .i32} {k : PUnit → Prog (TpuEff nD τ sig (Elt F) Λ₀ (.scVector (cV L) (jV L))) α}
    {Q : α → sProp 𝕄} {f : Vec F S256 .i32} :
    ((aTV).view.loc (thr d L) ↦{fullShare} (f : Buf (Elt F) ((aTV).view.loc (thr d L))) : sProp 𝕄)
      ⊢ iprop((((aTV).view.loc (thr d L) ↦{fullShare} (w f : Buf (Elt F) ((aTV).view.loc (thr d L))))
          -∗ wp frame (wpE (defs₀ (F := F)) 𝒱₀ (thr d L) none) Set.univ (k ⟨⟩) Q)
        -∗ wp frame (wpE (defs₀ (F := F)) 𝒱₀ (thr d L) none) Set.univ (.op (.load aTV (.whole _) (View.loadsAt_rect stTV.loads)) fun f =>
            .op (.store aTV (.whole _) (w f) Finset.univ stTV (.inl rfl)) k) Q) :=
  wp_scatter d L

theorem wp_aTJ {α : Type} {w : Vec F S256 .i32 → Vec F S256 .i32} {k : PUnit → Prog (TpuEff nD τ sig (Elt F) Λ₀ (.scVector (cV L) (jV L))) α}
    {Q : α → sProp 𝕄} {f : Vec F S256 .i32} :
    ((aTJ).view.loc (thr d L) ↦{fullShare} (f : Buf (Elt F) ((aTJ).view.loc (thr d L))) : sProp 𝕄)
      ⊢ iprop((((aTJ).view.loc (thr d L) ↦{fullShare} (w f : Buf (Elt F) ((aTJ).view.loc (thr d L))))
          -∗ wp frame (wpE (defs₀ (F := F)) 𝒱₀ (thr d L) none) Set.univ (k ⟨⟩) Q)
        -∗ wp frame (wpE (defs₀ (F := F)) 𝒱₀ (thr d L) none) Set.univ (.op (.load aTJ (.whole _) (View.loadsAt_rect stTJ.loads)) fun f =>
            .op (.store aTJ (.whole _) (w f) Finset.univ stTJ (.inl rfl)) k) Q) :=
  wp_scatter d L

/-- One trip of the scan, its sixteen indices read; -/
def scanRest (jb iv pos tpos : BitVec 32) (vec : Vec F S16 .i32) : Prog (TpuEff nD τ sig (Elt F) Λ₀ (.scVector (cV L) (jV L))) (BitVec 32 × BitVec 32) :=
  .op (.assume (k0_chk1 (slots (maskM vec (loW L) (hiW L)) pos 1791#32)) (k0_chk1.dec _)) fun h1 =>
  .op (.load aV (.whole _) (View.loadsAt_rect stV.loads)) fun f =>
  .op (.store aV (.whole _) (storeIdx f ![slots (maskM vec (loW L) (hiW L)) pos 1791#32]
      (subi vec (addi (broadcast S16 0#32) (broadcast S16 (a0W L))) : Vec F S16 .i32) (fun _ => 1#1) false (k0_idx1_inb _ h1.down))
      Finset.univ (View.stores_vmem_bits_univ h_S1792 rfl) (.inl rfl)) fun _ =>
  .op (.load aJ (.whole _) (View.loadsAt_rect stJ.loads)) fun f =>
  .op (.store aJ (.whole _) (storeIdx f ![slots (maskM vec (loW L) (hiW L)) pos 1791#32]
      (addi lanes16 (broadcast S16 (Scalar.addi jb (Scalar.muli iv 16#32))) : Vec F S16 .i32) (fun _ => 1#1) false (k0_idx2_inb _ h1.down))
      Finset.univ (View.stores_vmem_bits_univ h_S1792 rfl) (.inl rfl)) fun _ =>
  .op (.assume (k0_chk2 (slots (maskT vec (loW L) (hiW L)) tpos 255#32)) (k0_chk2.dec _)) fun h2 =>
  .op (.load aTV (.whole _) (View.loadsAt_rect stTV.loads)) fun f =>
  .op (.store aTV (.whole _) (storeIdx f ![slots (maskT vec (loW L) (hiW L)) tpos 255#32] vec (fun _ => 1#1) false (k0_idx3_inb _ h2.down))
      Finset.univ (View.stores_vmem_bits_univ h_S256 rfl) (.inl rfl)) fun _ =>
  .op (.load aTJ (.whole _) (View.loadsAt_rect stTJ.loads)) fun f =>
  .op (.store aTJ (.whole _) (storeIdx f ![slots (maskT vec (loW L) (hiW L)) tpos 255#32]
      (addi lanes16 (broadcast S16 (Scalar.addi jb (Scalar.muli iv 16#32))) : Vec F S16 .i32) (fun _ => 1#1) false (k0_idx4_inb _ h2.down))
      Finset.univ (View.stores_vmem_bits_univ h_S256 rfl) (.inl rfl)) fun _ =>
  .ret
    (Scalar.minsi (Scalar.addi pos (extractAt ![0] (extractStridedSlice S1 ![15] (scan .sum (extui 32 (maskM vec (loW L) (hiW L)) natLt_1_32)) slices_S16_o15_S1) inpos_S1_p0)) 1744#32,
     Scalar.minsi (Scalar.addi tpos (extractAt ![0] (extractStridedSlice S1 ![15] (scan .sum (extui 32 (maskT vec (loW L) (hiW L)) natLt_1_32)) slices_S16_o15_S1) inpos_S1_p0)) 208#32)

/-- and the whole of it. -/
def scanProg (jb iv pos tpos : BitVec 32) (off : Fin 1 → ℕ) (hoff : ∀ a, off a + S16.size a ≤ S4096.size a) :
    Prog (TpuEff nD τ sig (Elt F) Λ₀ (.scVector (cV L) (jV L))) (BitVec 32 × BitVec 32) :=
  .op (.load aC (Rect.unit (s := S4096) off S16.size hoff).toLoadRect (View.loadsAt_vmem h_S16)) fun vec => scanRest (F := F) L jb iv pos tpos vec

/-- The tile's buffers, the chunk of indices at `cF`, the lists at the numbers under `n`. -/
def SC (ix : S49152.Idx → BitVec 32) (cF : S4096.Idx → BitVec 32) (n : ℕ) (pt : BitVec 32 × BitVec 32) : sProp 𝕄 :=
  iprop(∃ (f8 f9 : S1792.Idx → BitVec 32) (f10 f11 : S256.Idx → BitVec 32),
    ⌜Lists ix L n f8 f9 f10 f11 ∧ pt.1.toNat = Nat.count (pM ix L) n ∧ pt.2.toNat = Nat.count (pT ix L) n⌝
      ∗ ((aC).view.loc (thr d L) ↦{fullShare} (cF : Buf (Elt F) ((aC).view.loc (thr d L))))
      ∗ ((aV).view.loc (thr d L) ↦{fullShare} (f8 : Buf (Elt F) ((aV).view.loc (thr d L))))
      ∗ ((aJ).view.loc (thr d L) ↦{fullShare} (f9 : Buf (Elt F) ((aJ).view.loc (thr d L))))
      ∗ ((aTV).view.loc (thr d L) ↦{fullShare} (f10 : Buf (Elt F) ((aTV).view.loc (thr d L))))
      ∗ ((aTJ).view.loc (thr d L) ↦{fullShare} (f11 : Buf (Elt F) ((aTJ).view.loc (thr d L)))))

theorem run_scanRest {ix : S49152.Idx → BitVec 32} (hfit : Fit ix L) {cF : S4096.Idx → BitVec 32} {cb t : ℕ} (ht : t < 256) (hcb : cb < 12)
    {jb iv pos tpos : BitVec 32} (hjb : jb.toNat = 4096 * cb) (hiv : iv.toNat = t) {vec : Vec F S16 .i32} (hvec : VecAt ix (4096 * cb + 16 * t) vec) :
    Run d L (SC (F := F) d L ix cF (4096 * cb + 16 * t) (pos, tpos)) (scanRest (F := F) L jb iv pos tpos vec)
      (SC d L ix cF (4096 * cb + 16 * t + 16)) := by
  unfold Run scanRest SC
  iintro ⟨%f8, %f9, %f10, %f11, %hp, HC, H8, H9, H10, H11⟩
  obtain ⟨hL, hpos, htpos⟩ := hp
  change pos.toNat = _ at hpos
  change tpos.toNat = _ at htpos
  have hn : 4096 * cb + 16 * t + 16 ≤ 49152 := by omega
  have hmM : MaskAt (pM ix L) (4096 * cb + 16 * t) (maskM vec (loW L) (hiW L)) := fun k => maskM_lane hvec hfit.lt hn k
  have hmT : MaskAt (pT ix L) (4096 * cb + 16 * t) (maskT vec (loW L) (hiW L)) := fun k => maskT_lane hvec hfit.lt hn k
  have hcM : Nat.count (pM ix L) (4096 * cb + 16 * t + 16) ≤ 1744 := (Nat.count_monotone _ hn).trans hfit.m
  have hcT : Nat.count (pT ix L) (4096 * cb + 16 * t + 16) ≤ 208 := (Nat.count_monotone _ hn).trans hfit.t
  have hsM := fun k => slots_lane hmM (z := 1791#32) hpos (by omega) k
  have hsT := fun k => slots_lane hmT (z := 255#32) htpos (by omega) k
  have hle : ∀ (p : ℕ → Prop) [DecidablePred p] (k : Fin 16), Nat.count p (4096 * cb + 16 * t + k.val) ≤ Nat.count p (4096 * cb + 16 * t + 16) :=
    fun p _ k => Nat.count_monotone p (by have := k.isLt; omega)
  have hb1 : ∀ a x, ((![slots (maskM vec (loW L) (hiW L)) pos 1791#32] : Fin 1 → IVec S16 32) a x).toNat < S1792.size a := by
    intro a x
    match a with
    | 0 =>
      show (slots (maskM vec (loW L) (hiW L)) pos 1791#32 x).toNat < 1792
      obtain ⟨k, rfl⟩ := exists_lane x
      rw [hsM]
      have := hle (pM ix L) k
      split
      · omega
      · decide
  have hb2 : ∀ a x, ((![slots (maskT vec (loW L) (hiW L)) tpos 255#32] : Fin 1 → IVec S16 32) a x).toNat < S256.size a := by
    intro a x
    match a with
    | 0 =>
      show (slots (maskT vec (loW L) (hiW L)) tpos 255#32 x).toNat < 256
      obtain ⟨k, rfl⟩ := exists_lane x
      rw [hsT]
      have := hle (pT ix L) k
      split
      · omega
      · decide
  have hword : ∀ k : Fin 16, vec (lane k) = BitVec.ofNat 32 (ixN ix (4096 * cb + 16 * t + k.val)) := fun k => by
    rw [← hvec k, BitVec.ofNat_toNat, BitVec.setWidth_eq]
  have hj : ∀ k : Fin 16, (addi lanes16 (broadcast S16 (Scalar.addi jb (Scalar.muli iv 16#32)))) (lane k) = valJ (4096 * cb + 16 * t + k.val) := by
    intro k
    show lanes16 (lane k) + (jb + iv * 16#32) = BitVec.ofNat 32 _
    have hk := k.isLt
    rw [lanes16_lane]
    apply BitVec.eq_of_toNat_eq
    simp only [BitVec.toNat_add, BitVec.toNat_mul, BitVec.toNat_ofNat, hjb, hiv]
    omega
  have hv : ∀ k : Fin 16, (subi vec (addi (broadcast S16 0#32) (broadcast S16 (a0W L)))) (lane k) = valV ix L (4096 * cb + 16 * t + k.val) := by
    intro k
    show vec (lane k) - (0#32 + a0W L) = _
    rw [BitVec.zero_add, hword]; rfl
  have hL' : Lists ix L (4096 * cb + 16 * t + 16)
      (storeIdx (F := F) (e := .i32) f8 ![slots (maskM vec (loW L) (hiW L)) pos 1791#32] (subi vec (addi (broadcast S16 0#32) (broadcast S16 (a0W L)))) (fun _ => 1#1) false hb1)
      (storeIdx (F := F) (e := .i32) f9 ![slots (maskM vec (loW L) (hiW L)) pos 1791#32] (addi lanes16 (broadcast S16 (Scalar.addi jb (Scalar.muli iv 16#32)))) (fun _ => 1#1) false hb1)
      (storeIdx (F := F) (e := .i32) f10 ![slots (maskT vec (loW L) (hiW L)) tpos 255#32] vec (fun _ => 1#1) false hb2)
      (storeIdx (F := F) (e := .i32) f11 ![slots (maskT vec (loW L) (hiW L)) tpos 255#32] (addi lanes16 (broadcast S16 (Scalar.addi jb (Scalar.muli iv 16#32)))) (fun _ => 1#1) false hb2) :=
    ⟨LI.step (F := F) hL.v (by decide) _ _ hb1 hsM fun k _ => hv k, LI.step (F := F) hL.j (by decide) _ _ hb1 hsM fun k _ => hj k,
      LI.step (F := F) hL.tv (by decide) _ _ hb2 hsT fun k _ => hword k, LI.step (F := F) hL.tj (by decide) _ _ hb2 hsT fun k _ => hj k⟩
  iapply (wp_assume 𝒱₀ (thr d L) none Set.univ (⟨hb1, hb1⟩ : k0_chk1 (slots (maskM vec (loW L) (hiW L)) pos 1791#32)))
  iapply (wp_aV d L (w := fun f => storeIdx f ![slots (maskM vec (loW L) (hiW L)) pos 1791#32]
      (subi vec (addi (broadcast S16 0#32) (broadcast S16 (a0W L))) : Vec F S16 .i32) (fun _ => 1#1) false hb1)) $$ H8
  iintro H8
  iapply (wp_aJ d L (w := fun f => storeIdx f ![slots (maskM vec (loW L) (hiW L)) pos 1791#32]
      (addi lanes16 (broadcast S16 (Scalar.addi jb (Scalar.muli iv 16#32))) : Vec F S16 .i32) (fun _ => 1#1) false hb1)) $$ H9
  iintro H9
  iapply (wp_assume 𝒱₀ (thr d L) none Set.univ (⟨hb2, hb2⟩ : k0_chk2 (slots (maskT vec (loW L) (hiW L)) tpos 255#32)))
  iapply (wp_aTV d L (w := fun f => storeIdx f ![slots (maskT vec (loW L) (hiW L)) tpos 255#32] vec (fun _ => 1#1) false hb2)) $$ H10
  iintro H10
  iapply (wp_aTJ d L (w := fun f => storeIdx f ![slots (maskT vec (loW L) (hiW L)) tpos 255#32]
      (addi lanes16 (broadcast S16 (Scalar.addi jb (Scalar.muli iv 16#32))) : Vec F S16 .i32) (fun _ => 1#1) false hb2)) $$ H11
  iintro H11
  rw [wp_ret]
  imodintro
  iexists _, _, _, _
  isplitr
  · ipureintro
    exact ⟨hL', next_pos hmM hpos (z := 1744#32) (by decide) hcM, next_pos hmT htpos (z := 208#32) (by decide) hcT⟩
  isplitl [HC]; · iexact HC
  isplitl [H8]; · iexact H8
  isplitl [H9]; · iexact H9
  isplitl [H10]; · iexact H10
  iexact H11

theorem run_scan {ix : S49152.Idx → BitVec 32} (hfit : Fit ix L) {cF : S4096.Idx → BitVec 32} {cb t : ℕ} (ht : t < 256) (hcb : cb < 12)
    (hcF : ∀ x : S4096.Idx, (cF x).toNat = ixN ix (4096 * cb + (x 0).val))
    {jb iv pos tpos : BitVec 32} {off : Fin 1 → ℕ} {hoff : ∀ a, off a + S16.size a ≤ S4096.size a}
    (hjb : jb.toNat = 4096 * cb) (hiv : iv.toNat = t) (ho : off 0 = 16 * t) :
    Run d L (SC (F := F) d L ix cF (4096 * cb + 16 * t) (pos, tpos)) (scanProg (F := F) L jb iv pos tpos off hoff)
      (SC d L ix cF (4096 * cb + 16 * t + 16)) := by
  have hvec : VecAt ix (4096 * cb + 16 * t) ((aC).view.readAt (Elt F) (Rect.unit (s := S4096) off S16.size hoff).toLoadRect cF) := by
    intro k
    have e : ((aC).view.readAt (Elt F) (Rect.unit (s := S4096) off S16.size hoff).toLoadRect cF) (lane k)
        = cF ((Rect.unit (s := S4096) off S16.size hoff).emb (lane k)) := rfl
    rw [e, hcF]
    have e2 : (((Rect.unit (s := S4096) off S16.size hoff).emb (lane k)) 0 : ℕ) = off 0 + k.val := unit_emb (n := 4096) (lane k)
    rw [e2, ho, Nat.add_assoc]
  have hrest := run_scanRest d L hfit (cF := cF) ht hcb (pos := pos) (tpos := tpos) hjb hiv hvec
  unfold Run at hrest ⊢
  unfold scanProg
  refine BIBase.Entails.trans ?_ (show iprop(((aC).view.loc (thr d L) ↦{fullShare} (cF : Buf (Elt F) ((aC).view.loc (thr d L))))
    ∗ (((aC).view.loc (thr d L) ↦{fullShare} (cF : Buf (Elt F) ((aC).view.loc (thr d L)))) -∗ SC (F := F) d L ix cF (4096 * cb + 16 * t) (pos, tpos))) ⊢ _ from ?_)
  · unfold SC
    iintro ⟨%f8, %f9, %f10, %f11, %hp, HC, H⟩
    isplitl [HC]; · iexact HC
    iintro HC
    iexists f8, f9, f10, f11
    isplitr; · ipureintro; exact hp
    isplitl [HC]; · iexact HC
    iexact H
  · iintro ⟨HC, Hk⟩
    iapply (wp_load 𝒱₀ (thr d L) none Set.univ (S := Finset.univ) (Finset.subset_univ _)) $$ HC
    iintro HC
    iapply hrest
    iapply Hk; iexact HC

end

end Cert.Proof.Gather

end
-- ==== Proof.Out.lean ====
/-
  What one tile works with, and the steps of a group of sixteen copies out: sixteen rows of a buffer, each to the result's row
  its list names, or to the tile's spare row.
-/
module

public import proofs.«01_k».proof.Proof.Scan

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

/-- What one tile works with: the device, its coordinates, an invariant's name, what it owes, the contents of the operands, the
    result before and after, and a token. -/
structure Dat (F : FTy → Type) where
  d : Dev nD
  L : grid0.Coords
  ι : ℕ
  O : CellTallies nD τ sig (SparseCore.Cfg.HIx 1)
  ix : S49152.Idx → BitVec 32
  e : S64x1000000.Idx → F .f32
  t : ℕ → S2048.Idx → F .f32
  o0 : S3407872.Idx → F .f32
  oF : S3407872.Idx → F .f32
  ℓT : Loc nD τ sig
  ST : Finset (Idx ℓT)
  fT : Buf (Elt F) ℓT

/-- Row `r` of half `h` of the result. -/
abbrev rowSet (h r : ℕ) : Finset S3407872.Idx := seg 3407872 (h * 1703936 + r * 32) 32

/-- A list of rows to copy out: the buffer they come from, the semaphore, how many, and the row of the result that each goes to. -/
structure OSpec where
  n : ℕ
  src : Memref sig .scVector .vmem (V1 n) .f32
  sem : DmaSem sig
  cnt : ℕ
  row : ℕ → ℕ

/-- The credit of a copy of a row to the result. -/
def NO : ℕ := sig.dmaCredit .scVector (Kind.table .scVector .hbm) (main_v6_scv).idx S32 .f32

theorem NO_pos : 0 < NO := sig.dmaCredit_pos _ _ _ _ _ (by decide)

section
variable [FloatOps F] (G : Dat F) (X : OSpec)

/-- The result, as the tile names it. -/
abbrev ownOut (S : Finset S3407872.Idx) (f : S3407872.Idx → F .f32) : sProp 𝕄 :=
  ((aO).view.loc (thr G.d G.L) ↦[S]{fullShare} (f : Buf (Elt F) ((aO).view.loc (thr G.d G.L))) : sProp 𝕄)

/-- The token. -/
abbrev tok (q : PosShare TreeShare) : sProp 𝕄 := (G.ℓT ↦[G.ST]{q} G.fT : sProp 𝕄)

/-- The tile's two spare rows. -/
abbrev spare : Finset S3407872.Idx := rowSet 0 (49152 + widN G.L) ∪ rowSet 1 (49152 + widN G.L)

/-- The spare rows, unless the token has been paid for them. -/
abbrev dumpInv : sProp 𝕄 :=
  inv G.ι iprop((∃ f : S3407872.Idx → F .f32, ownOut G (spare G) f) ∨ tok G fullShare)

/-- Leave to wait, and what is owed. -/
abbrev Base : sProp 𝕄 := iprop(MayWaits (thr G.d G.L) (default : SparseCore.Cfg.HIx 1) G.O ∗ ∃ W, owes (thr G.d G.L) G.O W)

/-- Row `s` of the buffer. -/
abbrev piece (s : ℕ) (f : Buf (Elt F) (X.src.view.loc (thr G.d G.L))) : sProp 𝕄 :=
  (X.src.view.loc (thr G.d G.L) ↦[(seg X.n (32 * s) 32).map X.src.view.emb]{fullShare} f : sProp 𝕄)

abbrev ownSet (h s : ℕ) : Finset S3407872.Idx := if s < X.cnt then rowSet h (X.row s) else ∅

/-- What a copy out delivers. -/
abbrev Dout (h : ℕ) (f : Buf (Elt F) (X.src.view.loc (thr G.d G.L))) (g : ℕ) (t : Fin 16) : sProp 𝕄 :=
  iprop(piece G X (16 * g + t.val) f ∗ ownOut G (ownSet X h (16 * g + t.val)) G.oF ∗ tok G (shareTokN fullShare t.val))

/-- What makes the copies out right. -/
structure XOk (h : ℕ) (f : Buf (Elt F) (X.src.view.loc (thr G.d G.L))) : Prop where
  hh : h < 2
  tok : G.ST.Nonempty
  dump : ∀ s, X.cnt ≤ s → X.row s = 49152 + widN G.L
  val : ∀ s, s < X.cnt → ∀ (boff : Fin 1 → ℕ) (hb : ∀ a, boff a + S32.size a ≤ (V1 X.n).size a), boff 0 = 32 * s → ∀ (x : S32.Idx) (y : S3407872.Idx),
    (y 0 : ℕ) = h * 1703936 + X.row s * 32 + (x 0 : ℕ) →
    (X.src.slice (Rect.unit (s := V1 X.n) boff S32.size hb) (fun _ => rfl)).view.read (Elt F) f x = G.oF y

/-- `k` of the sixteen copies of group `g` issued. -/
def OSt (h : ℕ) (f : Buf (Elt F) (X.src.view.loc (thr G.d G.L))) (g k : ℕ) (R : sProp 𝕄) : sProp 𝕄 :=
  iprop(bigSep (Finset.Ico (16 * g + k) (16 * g + 16)) (fun s => piece G X s f)
    ∗ bigSep (Finset.Ico (16 * g + k) (16 * g + 16)) (fun s => ownOut G (ownSet X h s) G.o0)
    ∗ tok G (shareDrop fullShare k) ∗ Bat G.d G.L NO X.sem (Dout G X h f g) k 0 ∗ dumpInv G ∗ Base G ∗ R)

/-- All of them issued, `j` waited for. -/
def OWt (h : ℕ) (f : Buf (Elt F) (X.src.view.loc (thr G.d G.L))) (g j : ℕ) (R : sProp 𝕄) : sProp 𝕄 :=
  iprop(tok G (shareDrop fullShare 16) ∗ Bat G.d G.L NO X.sem (Dout G X h f g) 16 (j * NO) ∗ dumpInv G ∗ Base G ∗ R)

/-- All of them done. -/
def OEnd (h : ℕ) (f : Buf (Elt F) (X.src.view.loc (thr G.d G.L))) (g : ℕ) (R : sProp 𝕄) : sProp 𝕄 :=
  iprop(bigSep (Finset.Ico (16 * g) (16 * g + 16)) (fun s => piece G X s f)
    ∗ bigSep (Finset.Ico (16 * g) (16 * g + 16)) (fun s => ownOut G (ownSet X h s) G.oF)
    ∗ tok G fullShare ∗ semVal (thr G.d G.L, .dma X.sem) 0 ∗ dumpInv G ∗ Base G ∗ R)

variable {G X}
variable {h g k j : ℕ} {f : Buf (Elt F) (X.src.view.loc (thr G.d G.L))} {α : Type}

theorem credOut {off : Fin 1 → ℕ} (h2 : ∀ a, off a + S32.size a ≤ S3407872.size a) :
    ((aO).slice (Rect.unit (s := S3407872) off S32.size h2) (fun _ => rfl)).view.dmaCredit = NO := by
  rfl

theorem s_oenq {P' : sProp 𝕄} (hX : XOk G X h f) (hk : k < 16) {boff off : Fin 1 → ℕ} (hb : boff 0 = 32 * (16 * g + k))
    (ho : off 0 = h * 1703936 + X.row (16 * g + k) * 32)
    {h1 : ∀ a, boff a + S32.size a ≤ (V1 X.n).size a} {h2 : ∀ a, off a + S32.size a ≤ S3407872.size a} {h3 h4 h5}
    {kk : PUnit → Prog (TpuEff nD τ sig (Elt F) Λ₀ (.scVector (cV G.L) (jV G.L))) α} {Q : α → sProp 𝕄}
    (H : Run G.d G.L (OSt G X h f g (k + 1) P') (kk ⟨⟩) Q) :
    Run G.d G.L (OSt G X h f g k P') (.op (.enqueueDma (X.src.slice (Rect.unit (s := V1 X.n) boff S32.size h1) (fun _ => rfl))
      (.here ((aO).slice (Rect.unit (s := S3407872) off S32.size h2) (fun _ => rfl))) (.dma X.sem) h3 h4 h5) kk) Q := by
  have hset : (X.src.slice (Rect.unit (s := V1 X.n) boff S32.size h1) (fun _ => rfl)).view.set = (seg X.n (32 * (16 * g + k)) 32).map X.src.view.emb := by
    rw [← hb, ← unit_set (n := X.n) (off := boff) (h := h1)]
    exact View.set_slice _ _
  have hdset : ((aO).slice (Rect.unit (s := S3407872) off S32.size h2) (fun _ => rfl)).view.set = rowSet h (X.row (16 * g + k)) := by
    show _ = seg 3407872 _ 32
    rw [← ho, ← unit_set (n := 3407872) (off := off) (h := h2)]
    exact (View.set_slice _ _).trans (Finset.map_refl)
  unfold Run at H ⊢
  refine BIBase.Entails.trans ?_ (show iprop((piece G X (16 * g + k) f ∗ ownOut G (ownSet X h (16 * g + k)) G.o0
      ∗ tok G (shareDrop fullShare k) ∗ Bat G.d G.L NO X.sem (Dout G X h f g) k 0 ∗ dumpInv G) ∗
      ((tok G (shareDrop fullShare (k + 1)) ∗ Bat G.d G.L NO X.sem (Dout G X h f g) (k + 1) 0 ∗ dumpInv G) -∗ OSt G X h f g (k + 1) P')) ⊢ _ from ?_)
  · unfold OSt
    rw [bigSep_Ico_succ (show 16 * g + k < 16 * g + 16 by omega), bigSep_Ico_succ (show 16 * g + k < 16 * g + 16 by omega)]
    iintro ⟨⟨Hp, Hps⟩, ⟨Ho, Hos⟩, Ht, Hb, #Hi, HB, HR⟩
    isplitl [Hp Ho Ht Hb]
    · isplitl [Hp]; · iexact Hp
      isplitl [Ho]; · iexact Ho
      isplitl [Ht]; · iexact Ht
      isplitl [Hb]; · iexact Hb
      iexact Hi
    iintro ⟨Ht, Hb, -⟩
    isplitl [Hps]; · iexact Hps
    isplitl [Hos]; · iexact Hos
    isplitl [Ht]; · iexact Ht
    isplitl [Hb]; · iexact Hb
    isplitr; · iexact Hi
    isplitl [HB]; · iexact HB
    iexact HR
  · have hw : iprop(ownOut G (ownSet X h (16 * g + k)) G.o0 ∗ dumpInv G ∗ tok G (shareTokN fullShare k))
        ⊢ writeUpdate (thr G.d G.L) ((aO).slice (Rect.unit (s := S3407872) off S32.size h2) (fun _ => rfl)).view
          ((X.src.slice (Rect.unit (s := V1 X.n) boff S32.size h1) (fun _ => rfl)).view.read (Elt F) f)
          (iprop(ownOut G (ownSet X h (16 * g + k)) G.oF ∗ tok G (shareTokN fullShare k)) : sProp 𝕄) := by
      by_cases hc : 16 * g + k < X.cnt
      · have hO : ownSet X h (16 * g + k) = rowSet h (X.row (16 * g + k)) := if_pos hc
        rw [hO]
        have hv : (ownOut G (rowSet h (X.row (16 * g + k))) (((aO).slice (Rect.unit (s := S3407872) off S32.size h2) (fun _ => rfl)).view.write (Elt F) G.o0
            ((X.src.slice (Rect.unit (s := V1 X.n) boff S32.size h1) (fun _ => rfl)).view.read (Elt F) f) Finset.univ) : sProp 𝕄)
            = ownOut G (rowSet h (X.row (16 * g + k))) G.oF := by
          refine pointsTo_congr fun i hi => ?_
          rw [← hdset] at hi
          obtain ⟨x, -, rfl⟩ := Finset.mem_map.mp hi
          rw [View.write_emb]
          rw [if_pos (Finset.mem_univ x)]
          refine hX.val _ hc boff h1 hb x _ ?_
          show off 0 + 1 * (x 0 : ℕ) = _
          rw [ho, one_mul]
        iintro ⟨Ho, -, Ht⟩
        iapply (writeUpdate_frame (thr G.d G.L))
        isplitr [Ht]
        · rw [← hv]
          iapply (pointsTo_writeUpdate (thr G.d G.L) hdset.subset) $$ Ho
        · iexact Ht
      · have hO : ownSet X h (16 * g + k) = ∅ := if_neg hc
        rw [hO]
        have hrow := hX.dump _ (not_lt.mp hc)
        have hsub : ((aO).slice (Rect.unit (s := S3407872) off S32.size h2) (fun _ => rfl)).view.set ⊆ spare G := by
          rw [hdset, hrow]
          have := hX.hh
          interval_cases h
          · exact Finset.subset_union_left
          · exact Finset.subset_union_right
        obtain ⟨i, hi⟩ := hX.tok
        have hd := dump_update (F := F) G.d G.L (dst := (aO).slice (Rect.unit (s := S3407872) off S32.size h2) (fun _ => rfl)) (Sd := spare G) hsub
          ((X.src.slice (Rect.unit (s := V1 X.n) boff S32.size h1) (fun _ => rfl)).view.read (Elt F) f) (ι := G.ι) (T := tok G fullShare)
          (t := tok G (shareTokN fullShare k)) (pointsTo_full_share_false hi hi)
        have e0 : (ownOut G ∅ G.oF : sProp 𝕄) = BI.emp := pointsTo_empty
        have e1 : (iprop(ownOut G ∅ G.oF ∗ tok G (shareTokN fullShare k)) : sProp 𝕄) = tok G (shareTokN fullShare k) := by
          rw [e0]
          have ea : iprop(BI.emp ∗ tok G (shareTokN fullShare k)) ⊢ tok G (shareTokN fullShare k) := by
            iintro ⟨-, H⟩; iexact H
          have eb : tok G (shareTokN fullShare k) ⊢ iprop(BI.emp ∗ tok G (shareTokN fullShare k)) := by
            iintro H
            isplitr; · iempintro
            iexact H
          exact BI.equiv_iff.mp ⟨ea, eb⟩
        rw [e1]
        iintro ⟨-, #Hi, Ht⟩
        iapply hd
        isplitr; · iexact Hi
        iexact Ht
    have hp : piece G X (16 * g + k) f = ((X.src.slice (Rect.unit (s := V1 X.n) boff S32.size h1) (fun _ => rfl)).view.loc (thr G.d G.L)
        ↦[(X.src.slice (Rect.unit (s := V1 X.n) boff S32.size h1) (fun _ => rfl)).view.set]{fullShare} f : sProp 𝕄) := by
      rw [hset]
    have hD : iprop(iprop(ownOut G (ownSet X h (16 * g + k)) G.oF ∗ tok G (shareTokN fullShare k))
        ∗ ((X.src.slice (Rect.unit (s := V1 X.n) boff S32.size h1) (fun _ => rfl)).view.loc (thr G.d G.L)
          ↦[(X.src.slice (Rect.unit (s := V1 X.n) boff S32.size h1) (fun _ => rfl)).view.set]{fullShare} f)) ⊢ Dout G X h f g ⟨k, hk⟩ := by
      iintro ⟨⟨Ho, Ht⟩, Hp⟩
      ihave Hp := (Entails.of_eq hp.symm) $$ Hp
      isplitl [Hp]; · iexact Hp
      isplitl [Ho]; · iexact Ho
      iexact Ht
    iintro ⟨⟨Hp, Ho, Ht, Hb, #Hi⟩, HK⟩
    ihave Ht' := (pointsTo_share (PosShare.mem_left_op_right (shareDrop fullShare k))).1 $$ Ht
    icases Ht' with ⟨Ht, Hk⟩
    ihave Hp := (Entails.of_eq hp) $$ Hp
    iapply (wp_copy G.d G.L (src := X.src.slice (Rect.unit (s := V1 X.n) boff S32.size h1) (fun _ => rfl))
      (dst := (aO).slice (Rect.unit (s := S3407872) off S32.size h2) (fun _ => rfl)) (sm := X.sem) (N := NO) (q := fullShare) (D := Dout G X h f g) (j := k) (u := 0) (fs := f)
      (R := iprop(ownOut G (ownSet X h (16 * g + k)) G.oF ∗ tok G (shareTokN fullShare k)))
      (credOut h2) hk (Nat.zero_le _) hD) $$ [Hp Ho Hk Hb]
    · isplitl [Hp]; · iexact Hp
      isplitr [Hb]
      · iapply hw
        isplitl [Ho]; · iexact Ho
        isplitr; · iexact Hi
        iexact Hk
      · iexact Hb
    iintro Hb
    iapply H
    iapply HK
    isplitl [Ht]; · iexact Ht
    isplitl [Hb]; · iexact Hb
    iexact Hi

theorem OSt.full {P' : sProp 𝕄} : OSt G X h f g 16 P' ⊢ OWt G X h f g 0 P' := by
  unfold OSt OWt
  iintro ⟨-, -, Ht, Hb, Hi, HB, HR⟩
  isplitl [Ht]; · iexact Ht
  isplitl [Hb]; · rw [Nat.zero_mul]; iexact Hb
  isplitl [Hi]; · iexact Hi
  isplitl [HB]; · iexact HB
  iexact HR

theorem s_owait0 {P' : sProp 𝕄} {sp sp' : Space} {s' : Shape} {e' : EltTy} {κ' : Kind} {srcw : Memref sig .scVector sp' s' e'}
    {dstw : Memref sig κ' sp S32 .f32} {h1 h2} {p : DmaSem sig}
    {kk : PUnit → Prog (TpuEff nD τ sig (Elt F) Λ₀ (.scVector (cV G.L) (jV G.L))) α} {Q : α → sProp 𝕄}
    (H : Run G.d G.L (OWt G X h f g 0 P') (.op (.waitDma2 p srcw dstw h1 h2) kk) Q) :
    Run G.d G.L (OSt G X h f g 16 P') (.op (.waitDma2 p srcw dstw h1 h2) kk) Q :=
  BIBase.Entails.trans OSt.full H

/-- A wait that is not the last. -/
theorem s_owait {P' : sProp 𝕄} (hj : j < 15) {sp sp' : Space} {s' : Shape} {e' : EltTy} {κ' : Kind} {srcw : Memref sig .scVector sp' s' e'}
    {dstw : Memref sig κ' sp S32 .f32} {h1 h2} (hN : dstw.view.dmaCredit = NO)
    {kk : PUnit → Prog (TpuEff nD τ sig (Elt F) Λ₀ (.scVector (cV G.L) (jV G.L))) α} {Q : α → sProp 𝕄}
    (H : Run G.d G.L (OWt G X h f g (j + 1) P') (kk ⟨⟩) Q) :
    Run G.d G.L (OWt G X h f g j P') (.op (.waitDma2 X.sem srcw dstw h1 h2) kk) Q := by
  unfold Run at H ⊢
  unfold OWt at H ⊢
  iintro ⟨Ht, Hb, #Hi, ⟨#HM, %W, HO⟩, HR⟩
  iapply (wp_waitBatchO EC 𝒱₀ (thr G.d G.L) none (default : SparseCore.Cfg.HIx 1) hN (n := 16) (u := j * NO) (by have := NO_pos; nlinarith)) $$ [Hb HO]
  · isplitl [Hb]; · iexact Hb
    isplitl [HO]; · iexact HO
    iapply (MayWaits.elim _) $$ HM
  iintro ⟨Hb, HO⟩
  iapply H
  isplitl [Ht]; · iexact Ht
  isplitl [Hb]; · rw [Nat.add_mul, Nat.one_mul]; iexact Hb
  isplitr; · iexact Hi
  isplitl [HO]
  · isplitr; · iexact HM
    iexists _; iexact HO
  iexact HR

/-- The last wait. -/
theorem s_olast {P' : sProp 𝕄} {sp sp' : Space} {s' : Shape} {e' : EltTy} {κ' : Kind} {srcw : Memref sig .scVector sp' s' e'}
    {dstw : Memref sig κ' sp S32 .f32} {h1 h2} (hN : dstw.view.dmaCredit = NO)
    {kk : PUnit → Prog (TpuEff nD τ sig (Elt F) Λ₀ (.scVector (cV G.L) (jV G.L))) α} {Q : α → sProp 𝕄}
    (H : Run G.d G.L (OEnd G X h f g P') (kk ⟨⟩) Q) :
    Run G.d G.L (OWt G X h f g 15 P') (.op (.waitDma2 X.sem srcw dstw h1 h2) kk) Q := by
  have hD : bigSep Finset.univ (Dout G X h f g) = (iprop(bigSep Finset.univ (fun t : Fin 16 => piece G X (16 * g + t.val) f)
      ∗ bigSep Finset.univ (fun t : Fin 16 => ownOut G (ownSet X h (16 * g + t.val)) G.oF)
      ∗ bigSep Finset.univ (fun t : Fin 16 => tok G (shareTokN fullShare t.val))) : sProp 𝕄) := by
    rw [← bigSep_sep', ← bigSep_sep']
  have h1' : bigSep Finset.univ (fun t : Fin 16 => piece G X (16 * g + t.val) f) = bigSep (Finset.Ico (16 * g) (16 * g + 16)) (fun s => piece G X s f) :=
    bigSep_shift 16 (16 * g) (fun s => piece G X s f)
  have h2' : bigSep Finset.univ (fun t : Fin 16 => ownOut G (ownSet X h (16 * g + t.val)) G.oF)
      = bigSep (Finset.Ico (16 * g) (16 * g + 16)) (fun s => ownOut G (ownSet X h s) G.oF) :=
    bigSep_shift 16 (16 * g) (fun s => ownOut G (ownSet X h s) G.oF)
  have h3' : bigSep Finset.univ (fun t : Fin 16 => tok G (shareTokN fullShare t.val)) = bigSep (Finset.range 16) (fun s => tok G (shareTokN fullShare s)) := by
    have := bigSep_shift 16 0 (fun s => tok G (shareTokN fullShare s))
    simp only [Nat.zero_add] at this
    rw [this, Finset.range_eq_Ico]
  rw [h1', h2', h3'] at hD
  unfold Run at H ⊢
  unfold OWt
  iintro ⟨Ht, Hb, #Hi, ⟨#HM, %W, HO⟩, HR⟩
  iapply (wp_waitBatchLastO EC 𝒱₀ (thr G.d G.L) none (default : SparseCore.Cfg.HIx 1) hN NO_pos (n := 16) (u := 15 * NO) (by omega)) $$ [Hb HO]
  · isplitl [Hb]; · iexact Hb
    isplitl [HO]; · iexact HO
    iapply (MayWaits.elim _) $$ HM
  iintro ⟨HD, Hs, HO⟩
  ihave HD := (Entails.of_eq hD) $$ HD
  icases HD with ⟨Hps, Hos, Hts⟩
  iapply H
  unfold OEnd
  isplitl [Hps]; · iexact Hps
  isplitl [Hos]; · iexact Hos
  isplitl [Ht Hts]
  · iapply (pointsTo_toks_range fullShare 16).2
    isplitl [Ht] <;> iassumption
  isplitl [Hs]; · iexact Hs
  isplitr; · iexact Hi
  isplitl [HO]
  · isplitr; · iexact HM
    iexists _; iexact HO
  iexact HR

/-- The start of a group: the sixteen rows of the buffer and what they go to. -/
theorem OSt.start {P' : sProp 𝕄} :
    iprop(bigSep (Finset.Ico (16 * g) (16 * g + 16)) (fun s => piece G X s f)
      ∗ bigSep (Finset.Ico (16 * g) (16 * g + 16)) (fun s => ownOut G (ownSet X h s) G.o0)
      ∗ tok G fullShare ∗ semVal (thr G.d G.L, .dma X.sem) 0 ∗ dumpInv G ∗ Base G ∗ P')
    ⊢ iprop(|={Set.univ}=> OSt G X h f g 0 P') := by
  iintro ⟨Hps, Hos, Ht, Hs, Hi, HB, HR⟩
  imod (batch_alloc' EC (thr G.d G.L) (n := 16) (default : SparseCore.Cfg.HIx 1) NO (Dout G X h f g) (E := Set.univ)) $$ Hs with Hb
  imodintro
  unfold OSt
  isplitl [Hps]; · iexact Hps
  isplitl [Hos]; · iexact Hos
  isplitl [Ht]; · iexact Ht
  isplitl [Hb]; · iexact Hb
  isplitl [Hi]; · iexact Hi
  isplitl [HB]; · iexact HB
  iexact HR

end

end Cert.Proof.Gather

end
-- ==== Proof.In.lean ====
/-
  The tail of the table: the rows that the tile's list names, copied in from the tail's operand and out to the result, sixteen at a
  time.
-/
module

public import proofs.«01_k».proof.Proof.Out

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

def i2 {m n : ℕ} (a b : ℕ) (ha : a < m) (hb : b < n) : (⟨2, ![m, n]⟩ : Shape).Idx := fun x => match x with | 0 => ⟨a, ha⟩ | 1 => ⟨b, hb⟩

/-- The word at a number, the first past the end. -/
def rd {α : Type} (f : S2048.Idx → α) (n : ℕ) : α := if h : n < 2048 then f (i1 n h) else f (i1 0 (by decide))

section
variable [FloatOps F]

/-- What the tile's operands and result are of each other. -/
structure Ok (G : Dat F) : Prop where
  fit : Fit G.ix G.L
  tok : G.ST.Nonempty
  out : ∀ (h x j : ℕ) (hh : h < 2) (hx : x < 32) (hj : j < 49152) (y : S3407872.Idx), (y 0 : ℕ) = h * 1703936 + j * 32 + x →
    G.oF y = G.e (i2 (h * 32 + x) (ixN G.ix j) (by omega) (fit.lt j hj))
  tl : ∀ (h x r : ℕ) (hh : h < 2) (hx : x < 32) (hr : r < 64), rd (G.t h) (r * 32 + x) = G.e (i2 (h * 32 + x) (999936 + r) (by omega) (by omega))

variable (G : Dat F)

@[irreducible] def cntT : ℕ := Nat.count (pT G.ix G.L) 49152
@[irreducible] def cntM : ℕ := Nat.count (pM G.ix G.L) 49152

theorem cntT_eq : cntT G = Nat.count (pT G.ix G.L) 49152 := by unfold cntT; rfl
theorem cntM_eq : cntM G = Nat.count (pM G.ix G.L) 49152 := by unfold cntM; rfl

theorem nthT {s : ℕ} (h : s < cntT G) : nthOf (pT G.ix G.L) s < 49152 ∧ pT G.ix G.L (nthOf (pT G.ix G.L) s) := by
  rw [cntT_eq] at h
  exact ⟨(nthOf_spec h).1, (nthOf_spec h).2.1⟩
theorem nthM {s : ℕ} (h : s < cntM G) : nthOf (pM G.ix G.L) s < 49152 ∧ pM G.ix G.L (nthOf (pM G.ix G.L) s) := by
  rw [cntM_eq] at h
  exact ⟨(nthOf_spec h).1, (nthOf_spec h).2.1⟩

/-- The tail's list: rows of the table, and the result's rows they go to. -/
def tvW (s : ℕ) : BitVec 32 := if s < cntT G then valT G.ix (nthOf (pT G.ix G.L) s) else 999936#32
def tjW (s : ℕ) : BitVec 32 := if s < cntT G then valJ (nthOf (pT G.ix G.L) s) else dumpW G.L

/-- The copies out of the tail. -/
abbrev tailX : OSpec := ⟨8192, aTb, cc0_scratch10.sem, cntT G, fun s => (tjW G s).toNat⟩

/-- The rows of the tail that the list names. -/
def tbF (ct : S2048.Idx → F .f32) : S8192.Idx → F .f32 :=
  fun i => rd ct ((tvW G ((i 0 : ℕ) / 32) - 999936#32).toNat * 32 + (i 0 : ℕ) % 32)

variable {G}

theorem tvW_sub (hG : Ok G) (s : ℕ) : (tvW G s - 999936#32).toNat < 64 := by
  unfold tvW
  split
  · next h =>
    obtain ⟨h1, h2⟩ := nthT G h
    have := hG.fit.lt _ h1
    have h3 := h2.2.2
    show (BitVec.ofNat 32 _ - _).toNat < 64
    rw [BitVec.toNat_sub, BitVec.toNat_ofNat, BitVec.toNat_ofNat]; omega
  · decide

theorem tvW_mul (hG : Ok G) (s : ℕ) : ((tvW G s - 999936#32) * 32#32).toNat = (tvW G s - 999936#32).toNat * 32 := by
  have := tvW_sub hG s
  rw [BitVec.toNat_mul, BitVec.toNat_ofNat]; omega

theorem tjW_lt (s : ℕ) : (tjW G s).toNat < 49184 := by
  unfold tjW
  split
  · next h =>
    obtain ⟨h1, -⟩ := nthT G h
    show (BitVec.ofNat 32 _).toNat < _
    rw [BitVec.toNat_ofNat]; omega
  · rw [dumpW_toNat]; have := widN_lt G.L; omega

theorem tj_off {h : ℕ} {hb : BitVec 32} (hh : h < 2) (hhb : hb.toNat = h * 1703936) {x : BitVec 32} (hx : x.toNat < 49184) :
    (Scalar.addi hb (Scalar.muli x 32#32)).toNat = h * 1703936 + x.toNat * 32 := by
  show (hb + x * 32#32).toNat = _
  rw [BitVec.toNat_add, BitVec.toNat_mul, BitVec.toNat_ofNat, hhb]; omega

/-- Sixteen words of the list. -/
def TvAt (G : Dat F) (g : ℕ) (tv : S16.Idx → BitVec 32) : Prop := ∀ k : Fin 16, tv (lane k) = tvW G (16 * g + k.val)
def TjAt (G : Dat F) (g : ℕ) (tj : S16.Idx → BitVec 32) : Prop := ∀ k : Fin 16, tj (lane k) = tjW G (16 * g + k.val)

theorem tv_get {g : ℕ} {tv : S16.Idx → BitVec 32} (h : TvAt G g tv) {k : ℕ} (hk : k < 16) {h1 h2} :
    extractAt ![0] (extractStridedSlice S1 ![k] tv h1) h2 = tvW G (16 * g + k) := (lane_get tv hk).trans (h ⟨k, hk⟩)
theorem tj_get {g : ℕ} {tj : S16.Idx → BitVec 32} (h : TjAt G g tj) {k : ℕ} (hk : k < 16) {h1 h2} :
    extractAt ![0] (extractStridedSlice S1 ![k] tj h1) h2 = tjW G (16 * g + k) := (lane_get tj hk).trans (h ⟨k, hk⟩)

/-- The side conditions of a copy in, -/
theorem chkIn (hG : Ok G) {g : ℕ} {tv : S16.Idx → BitVec 32} (h : TvAt G g tv) {k : ℕ} (hk : k < 16) {h1 h2} :
    8 ∣ ((extractAt ![0] (extractStridedSlice S1 ![k] tv h1) h2 - 999936#32) * 32#32).toNat
      ∧ ∀ a : Fin 1, (![((extractAt ![0] (extractStridedSlice S1 ![k] tv h1) h2 - 999936#32) * 32#32).toNat] : Fin 1 → ℕ) a + S32.size a ≤ S2048.size a := by
  rw [tv_get h hk, tvW_mul hG]
  have := tvW_sub hG (16 * g + k)
  refine ⟨by omega, fun a => ?_⟩
  match a with
  | 0 =>
    show (tvW G (16 * g + k) - 999936#32).toNat * 32 + 32 ≤ 2048
    omega

/-- and of a copy out. -/
theorem chkOut {h : ℕ} {hb : BitVec 32} (hh : h < 2) (hhb : hb.toNat = h * 1703936) {x : BitVec 32} (hx : x.toNat < 49184) :
    8 ∣ (Scalar.addi hb (Scalar.muli x 32#32)).toNat
      ∧ ∀ a : Fin 1, (![(Scalar.addi hb (Scalar.muli x 32#32)).toNat] : Fin 1 → ℕ) a + S32.size a ≤ S3407872.size a := by
  rw [tj_off hh hhb hx]
  refine ⟨by omega, fun a => ?_⟩
  match a with
  | 0 =>
    show h * 1703936 + x.toNat * 32 + 32 ≤ 3407872
    omega

/-- The credit of a copy of a row to the tile's buffer. -/
def NB : ℕ := sig.dmaCredit .scVector (Kind.table .scVector .vmem) (cc0_scratch7).idx S32 .f32

theorem NB_pos : 0 < NB := sig.dmaCredit_pos _ _ _ _ _ (by decide)

theorem credIn {off : Fin 1 → ℕ} (h2 : ∀ a, off a + S32.size a ≤ S8192.size a) :
    ((aTb).slice (Rect.unit (s := S8192) off S32.size h2) (fun _ => rfl)).view.dmaCredit = NB := rfl

variable (G) (A : Memref sig .scVector .hbm S2048 .f32) (ct : S2048.Idx → F .f32) (cA : Buf (Elt F) (A.view.loc (thr G.d G.L)))

/-- The operand holds `ct`. -/
def Holds : Prop := ∀ (off : Fin 1 → ℕ) (hb : ∀ a, off a + S32.size a ≤ S2048.size a) (x : S32.Idx),
  (A.slice (Rect.unit (s := S2048) off S32.size hb) (fun _ => rfl)).view.read (Elt F) cA x = rd ct (off 0 + (x 0 : ℕ))

/-- What a copy in delivers. -/
abbrev Din (g : ℕ) (t : Fin 16) : sProp 𝕄 := piece G (tailX G) (16 * g + t.val) (tbF G ct)

/-- A share of the operand. -/
abbrev shareOf : sProp 𝕄 := iprop(∃ q, A.view.loc (thr G.d G.L) ↦{q} cA)

abbrev pieceE (s : ℕ) : sProp 𝕄 := iprop(∃ f : S8192.Idx → F .f32, piece G (tailX G) s f)

def ISt (g k : ℕ) (R : sProp 𝕄) : sProp 𝕄 :=
  iprop(bigSep (Finset.Ico (16 * g + k) (16 * g + 16)) (fun s => pieceE G s)
    ∗ shareOf G A cA ∗ Bat G.d G.L NB cc0_scratch9.sem (Din G ct g) k 0 ∗ Base G ∗ R)

def IWt (g j : ℕ) (R : sProp 𝕄) : sProp 𝕄 :=
  iprop(shareOf G A cA ∗ Bat G.d G.L NB cc0_scratch9.sem (Din G ct g) 16 (j * NB) ∗ Base G ∗ R)

def IEnd (g : ℕ) (R : sProp 𝕄) : sProp 𝕄 :=
  iprop(bigSep (Finset.Ico (16 * g) (16 * g + 16)) (fun s => piece G (tailX G) s (tbF G ct))
    ∗ shareOf G A cA ∗ semVal (thr G.d G.L, .dma cc0_scratch9.sem) 0 ∗ Base G ∗ R)

variable {G A ct cA} {g k j : ℕ} {α : Type}

theorem s_ienq {P' : sProp 𝕄} (hA : Holds G A ct cA) (hk : k < 16) {boff off : Fin 1 → ℕ} (hb : boff 0 = 32 * (16 * g + k))
    (ho : off 0 = (tvW G (16 * g + k) - 999936#32).toNat * 32)
    {h1 : ∀ a, off a + S32.size a ≤ S2048.size a} {h2 : ∀ a, boff a + S32.size a ≤ S8192.size a} {h3 h4 h5}
    {kk : PUnit → Prog (TpuEff nD τ sig (Elt F) Λ₀ (.scVector (cV G.L) (jV G.L))) α} {Q : α → sProp 𝕄}
    (H : Run G.d G.L (ISt G A ct cA g (k + 1) P') (kk ⟨⟩) Q) :
    Run G.d G.L (ISt G A ct cA g k P') (.op (.enqueueDma (A.slice (Rect.unit (s := S2048) off S32.size h1) (fun _ => rfl))
      (.here ((aTb).slice (Rect.unit (s := S8192) boff S32.size h2) (fun _ => rfl))) (.dma cc0_scratch9.sem) h3 h4 h5) kk) Q := by
  have hset : ((aTb).slice (Rect.unit (s := S8192) boff S32.size h2) (fun _ => rfl)).view.set
      = (seg 8192 (32 * (16 * g + k)) 32).map (aTb).view.emb := by
    rw [← hb, ← unit_set (n := 8192) (off := boff) (h := h2)]
    exact View.set_slice _ _
  unfold Run at H ⊢
  refine BIBase.Entails.trans ?_ (show iprop((pieceE G (16 * g + k) ∗ shareOf G A cA ∗ Bat G.d G.L NB cc0_scratch9.sem (Din G ct g) k 0) ∗
      ((shareOf G A cA ∗ Bat G.d G.L NB cc0_scratch9.sem (Din G ct g) (k + 1) 0) -∗ ISt G A ct cA g (k + 1) P')) ⊢ _ from ?_)
  · unfold ISt
    rw [bigSep_Ico_succ (show 16 * g + k < 16 * g + 16 by omega)]
    iintro ⟨⟨Hp, Hps⟩, HA, Hb, HB, HR⟩
    isplitl [Hp HA Hb]
    · isplitl [Hp]; · iexact Hp
      isplitl [HA]; · iexact HA
      iexact Hb
    iintro ⟨HA, Hb⟩
    isplitl [Hps]; · iexact Hps
    isplitl [HA]; · iexact HA
    isplitl [Hb]; · iexact Hb
    isplitl [HB]; · iexact HB
    iexact HR
  · have hw : pieceE G (16 * g + k) ⊢ writeUpdate (thr G.d G.L) ((aTb).slice (Rect.unit (s := S8192) boff S32.size h2) (fun _ => rfl)).view
          ((A.slice (Rect.unit (s := S2048) off S32.size h1) (fun _ => rfl)).view.read (Elt F) cA)
          (piece G (tailX G) (16 * g + k) (tbF G ct)) := by
      iintro ⟨%f, Hf⟩
      have hv : (piece G (tailX G) (16 * g + k) (((aTb).slice (Rect.unit (s := S8192) boff S32.size h2) (fun _ => rfl)).view.write (Elt F) f
            ((A.slice (Rect.unit (s := S2048) off S32.size h1) (fun _ => rfl)).view.read (Elt F) cA) Finset.univ) : sProp 𝕄)
            = piece G (tailX G) (16 * g + k) (tbF G ct) := by
        refine pointsTo_congr fun i hi => ?_
        change i ∈ (seg 8192 (32 * (16 * g + k)) 32).map (aTb).view.emb at hi
        rw [← hset] at hi
        obtain ⟨x, -, rfl⟩ := Finset.mem_map.mp hi
        rw [View.write_emb, if_pos (Finset.mem_univ x)]
        refine (hA off h1 x).trans ?_
        have e : ((((aTb).slice (Rect.unit (s := S8192) boff S32.size h2) (fun _ => rfl)).view.emb x) 0 : ℕ) = boff 0 + 1 * (x 0 : ℕ) := rfl
        have hx : (x 0 : ℕ) < 32 := (x 0).isLt
        show _ = rd ct ((tvW G (((((aTb).slice (Rect.unit (s := S8192) boff S32.size h2) (fun _ => rfl)).view.emb x) 0 : ℕ) / 32) - 999936#32).toNat * 32
          + ((((aTb).slice (Rect.unit (s := S8192) boff S32.size h2) (fun _ => rfl)).view.emb x) 0 : ℕ) % 32)
        rw [e, hb, ho, show (32 * (16 * g + k) + 1 * (x 0 : ℕ)) / 32 = 16 * g + k by omega,
          show (32 * (16 * g + k) + 1 * (x 0 : ℕ)) % 32 = (x 0 : ℕ) by omega]
      rw [← hv]
      iapply (pointsTo_writeUpdate (thr G.d G.L) hset.subset) $$ Hf
    have hD : ∀ q' : PosShare TreeShare, iprop(piece G (tailX G) (16 * g + k) (tbF G ct) ∗ ((A.slice (Rect.unit (s := S2048) off S32.size h1) (fun _ => rfl)).view.loc (thr G.d G.L)
        ↦[(A.slice (Rect.unit (s := S2048) off S32.size h1) (fun _ => rfl)).view.set]{q'} cA)) ⊢ Din G ct g ⟨k, hk⟩ := by
      intro q'
      iintro ⟨H, -⟩
      iexact H
    iintro ⟨⟨Hp, ⟨%q, HA⟩, Hb⟩, HK⟩
    ihave HA' := (pointsTo_share (PosShare.mem_left_op_right q)).1 $$ HA
    icases HA' with ⟨HA, HA1⟩
    ihave HA1 := (pointsTo_split_subset (Finset.subset_univ (A.slice (Rect.unit (s := S2048) off S32.size h1) (fun _ => rfl)).view.set)).1 $$ HA1
    icases HA1 with ⟨HA1, -⟩
    iapply (wp_copy G.d G.L (src := A.slice (Rect.unit (s := S2048) off S32.size h1) (fun _ => rfl))
      (dst := (aTb).slice (Rect.unit (s := S8192) boff S32.size h2) (fun _ => rfl)) (sm := cc0_scratch9.sem) (N := NB) (q := q.right) (D := Din G ct g)
      (j := k) (u := 0) (fs := cA) (R := piece G (tailX G) (16 * g + k) (tbF G ct))
      (credIn h2) hk (Nat.zero_le _) (hD q.right)) $$ [Hp HA1 Hb]
    · isplitl [HA1]; · iexact HA1
      isplitr [Hb]
      · iapply hw; iexact Hp
      · iexact Hb
    iintro Hb
    iapply H
    iapply HK
    isplitl [HA]; · iexists _; iexact HA
    iexact Hb

/-- A wait that is not the last. -/
theorem s_iwait0 {P' : sProp 𝕄} {sp sp' : Space} {s' : Shape} {e' : EltTy} {κ' : Kind} {srcw : Memref sig .scVector sp' s' e'}
    {dstw : Memref sig κ' sp S32 .f32} {h1 h2} {p : DmaSem sig}
    {kk : PUnit → Prog (TpuEff nD τ sig (Elt F) Λ₀ (.scVector (cV G.L) (jV G.L))) α} {Q : α → sProp 𝕄}
    (H : Run G.d G.L (IWt G A ct cA g 0 P') (.op (.waitDma2 p srcw dstw h1 h2) kk) Q) :
    Run G.d G.L (ISt G A ct cA g 16 P') (.op (.waitDma2 p srcw dstw h1 h2) kk) Q := by
  refine BIBase.Entails.trans ?_ H
  unfold ISt IWt
  iintro ⟨-, HA, Hb, HB, HR⟩
  isplitl [HA]; · iexact HA
  isplitl [Hb]; · rw [Nat.zero_mul]; iexact Hb
  isplitl [HB]; · iexact HB
  iexact HR

theorem s_iwait {P' : sProp 𝕄} (hj : j < 15) {sp sp' : Space} {s' : Shape} {e' : EltTy} {κ' : Kind} {srcw : Memref sig .scVector sp' s' e'}
    {dstw : Memref sig κ' sp S32 .f32} {h1 h2} (hN : dstw.view.dmaCredit = NB)
    {kk : PUnit → Prog (TpuEff nD τ sig (Elt F) Λ₀ (.scVector (cV G.L) (jV G.L))) α} {Q : α → sProp 𝕄}
    (H : Run G.d G.L (IWt G A ct cA g (j + 1) P') (kk ⟨⟩) Q) :
    Run G.d G.L (IWt G A ct cA g j P') (.op (.waitDma2 cc0_scratch9.sem srcw dstw h1 h2) kk) Q := by
  unfold Run at H ⊢
  unfold IWt at H ⊢
  iintro ⟨HA, Hb, ⟨#HM, %W, HO⟩, HR⟩
  iapply (wp_waitBatchO EC 𝒱₀ (thr G.d G.L) none (default : SparseCore.Cfg.HIx 1) hN (n := 16) (u := j * NB) (by have := NB_pos; nlinarith)) $$ [Hb HO]
  · isplitl [Hb]; · iexact Hb
    isplitl [HO]; · iexact HO
    iapply (MayWaits.elim _) $$ HM
  iintro ⟨Hb, HO⟩
  iapply H
  isplitl [HA]; · iexact HA
  isplitl [Hb]; · rw [Nat.add_mul, Nat.one_mul]; iexact Hb
  isplitl [HO]
  · isplitr; · iexact HM
    iexists _; iexact HO
  iexact HR

/-- The last wait. -/
theorem s_ilast {P' : sProp 𝕄} {sp sp' : Space} {s' : Shape} {e' : EltTy} {κ' : Kind} {srcw : Memref sig .scVector sp' s' e'}
    {dstw : Memref sig κ' sp S32 .f32} {h1 h2} (hN : dstw.view.dmaCredit = NB)
    {kk : PUnit → Prog (TpuEff nD τ sig (Elt F) Λ₀ (.scVector (cV G.L) (jV G.L))) α} {Q : α → sProp 𝕄}
    (H : Run G.d G.L (IEnd G A ct cA g P') (kk ⟨⟩) Q) :
    Run G.d G.L (IWt G A ct cA g 15 P') (.op (.waitDma2 cc0_scratch9.sem srcw dstw h1 h2) kk) Q := by
  have hD : bigSep Finset.univ (Din G ct g) = bigSep (Finset.Ico (16 * g) (16 * g + 16)) (fun s => piece G (tailX G) s (tbF G ct)) :=
    bigSep_shift 16 (16 * g) (fun s => piece G (tailX G) s (tbF G ct))
  unfold Run at H ⊢
  unfold IWt
  iintro ⟨HA, Hb, ⟨#HM, %W, HO⟩, HR⟩
  iapply (wp_waitBatchLastO EC 𝒱₀ (thr G.d G.L) none (default : SparseCore.Cfg.HIx 1) hN NB_pos (n := 16) (u := 15 * NB) (by omega)) $$ [Hb HO]
  · isplitl [Hb]; · iexact Hb
    isplitl [HO]; · iexact HO
    iapply (MayWaits.elim _) $$ HM
  iintro ⟨HD, Hs, HO⟩
  ihave HD := (Entails.of_eq hD) $$ HD
  iapply H
  unfold IEnd
  isplitl [HD]; · iexact HD
  isplitl [HA]; · iexact HA
  isplitl [Hs]; · iexact Hs
  isplitl [HO]
  · isplitr; · iexact HM
    iexists _; iexact HO
  iexact HR

theorem ISt.start {P' : sProp 𝕄} :
    iprop(bigSep (Finset.Ico (16 * g) (16 * g + 16)) (fun s => pieceE G s)
      ∗ shareOf G A cA ∗ semVal (thr G.d G.L, .dma cc0_scratch9.sem) 0 ∗ Base G ∗ P')
    ⊢ iprop(|={Set.univ}=> ISt G A ct cA g 0 P') := by
  iintro ⟨Hps, HA, Hs, HB, HR⟩
  imod (batch_alloc' EC (thr G.d G.L) (n := 16) (default : SparseCore.Cfg.HIx 1) NB (Din G ct g) (E := Set.univ)) $$ Hs with Hb
  imodintro
  unfold ISt
  isplitl [Hps]; · iexact Hps
  isplitl [HA]; · iexact HA
  isplitl [Hb]; · iexact Hb
  isplitl [HB]; · iexact HB
  iexact HR

end

end Cert.Proof.Gather

end
-- ==== Proof.Tail.lean ====
/-
  A group of sixteen of the tail's rows, from one group to the next.
-/
module

public import proofs.«01_k».proof.Proof.In

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] (G : Dat F) (A : Memref sig .scVector .hbm S2048 .f32) (ct : S2048.Idx → F .f32) (cA : Buf (Elt F) (A.view.loc (thr G.d G.L)))

abbrev tvP : sProp 𝕄 := ((aTV).view.loc (thr G.d G.L) ↦{fullShare} ((fun i : S256.Idx => tvW G (i 0)) : Buf (Elt F) ((aTV).view.loc (thr G.d G.L))) : sProp 𝕄)
abbrev tjP : sProp 𝕄 := ((aTJ).view.loc (thr G.d G.L) ↦{fullShare} ((fun i : S256.Idx => tjW G (i 0)) : Buf (Elt F) ((aTJ).view.loc (thr G.d G.L))) : sProp 𝕄)

/-- The result's rows that the list names, from entry `a` to entry `b`. -/
abbrev rowsOf (X : OSpec) (h a b : ℕ) (f : S3407872.Idx → F .f32) : sProp 𝕄 := bigSep (Finset.Ico a b) (fun s => ownOut G (ownSet X h s) f)

abbrev emptyRows (a b : ℕ) : sProp 𝕄 := bigSep (Finset.Ico a b) (fun s => pieceE G s)

/-- Between two groups. -/
def TI (h g : ℕ) (P : sProp 𝕄) : sProp 𝕄 :=
  iprop(tvP G ∗ tjP G ∗ emptyRows G 0 256 ∗ shareOf G A cA ∗ semVal (thr G.d G.L, .dma cc0_scratch9.sem) 0
    ∗ semVal (thr G.d G.L, .dma cc0_scratch10.sem) 0 ∗ tok G fullShare ∗ rowsOf G (tailX G) h (16 * g) 256 G.o0 ∗ rowsOf G (tailX G) h 0 (16 * g) G.oF
    ∗ dumpInv G ∗ Base G ∗ P)

/-- What a group's copies in leave alone, -/
def RI (h g : ℕ) (P : sProp 𝕄) : sProp 𝕄 :=
  iprop(tvP G ∗ tjP G ∗ emptyRows G 0 (16 * g) ∗ emptyRows G (16 * g + 16) 256
    ∗ semVal (thr G.d G.L, .dma cc0_scratch10.sem) 0 ∗ tok G fullShare ∗ rowsOf G (tailX G) h (16 * g) 256 G.o0 ∗ rowsOf G (tailX G) h 0 (16 * g) G.oF
    ∗ dumpInv G ∗ P)

/-- and its copies out. -/
def RO (h g : ℕ) (P : sProp 𝕄) : sProp 𝕄 :=
  iprop(tvP G ∗ tjP G ∗ emptyRows G 0 (16 * g) ∗ emptyRows G (16 * g + 16) 256 ∗ shareOf G A cA
    ∗ semVal (thr G.d G.L, .dma cc0_scratch9.sem) 0 ∗ rowsOf G (tailX G) h (16 * g + 16) 256 G.o0 ∗ rowsOf G (tailX G) h 0 (16 * g) G.oF ∗ P)

variable {G A ct cA} {h g k j : ℕ} {α : Type}

theorem emptyRows_split (hg : g < 16) : emptyRows G 0 256 = iprop(emptyRows G 0 (16 * g) ∗ emptyRows G (16 * g) (16 * g + 16) ∗ emptyRows G (16 * g + 16) 256) := by
  unfold emptyRows
  rw [bigSep_Ico_append (show 0 ≤ 16 * g by omega) (show 16 * g ≤ 256 by omega),
    bigSep_Ico_append (show 16 * g ≤ 16 * g + 16 by omega) (show 16 * g + 16 ≤ 256 by omega)]

theorem rowsOf_append {X : OSpec} {a b c : ℕ} (hab : a ≤ b) (hbc : b ≤ c) {f : S3407872.Idx → F .f32} :
    rowsOf G X h a c f = iprop(rowsOf G X h a b f ∗ rowsOf G X h b c f) := bigSep_Ico_append hab hbc _

theorem Run.fupd {d : Dev nD} {L : grid0.Coords} {I I' : sProp 𝕄} {p : Prog (TpuEff nD τ sig (Elt F) Λ₀ (.scVector (cV L) (jV L))) α} {Q : α → sProp 𝕄}
    (hI : I ⊢ iprop(|={Set.univ}=> I')) (H : Run d L I' p Q) : Run d L I p Q := by
  unfold Run at H ⊢
  iintro HI
  imod hI $$ HI with HI
  iapply H; iexact HI

theorem s_assume {d : Dev nD} {L : grid0.Coords} {I : sProp 𝕄} {P : Prop} {hd : Decidable P} {k : PLift P → Prog (TpuEff nD τ sig (Elt F) Λ₀ (.scVector (cV L) (jV L))) α}
    {Q : α → sProp 𝕄} (h : P) (H : Run d L I (k ⟨h⟩) Q) : Run d L I (.op (.assume P hd) k) Q := by
  unfold Run at H ⊢
  iintro HI
  iapply (wp_assume 𝒱₀ (thr d L) none Set.univ h)
  iapply H; iexact HI

theorem s_tv {P' : sProp 𝕄} {off : Fin 1 → ℕ} (ho : off 0 = 16 * g) {h1 : ∀ a, off a + S16.size a ≤ S256.size a} {h2}
    {kk : Vec F S16 .i32 → Prog (TpuEff nD τ sig (Elt F) Λ₀ (.scVector (cV G.L) (jV G.L))) α} {Q : α → sProp 𝕄}
    (H : ∀ tv : S16.Idx → BitVec 32, TvAt G g tv → Run G.d G.L (TI G A cA h g P') (kk tv) Q) :
    Run G.d G.L (TI G A cA h g P') (.op (.load aTV (Rect.unit (s := S256) off S16.size h1).toLoadRect h2) kk) Q := by
  have hv : TvAt G g ((aTV).view.readAt (Elt F) (Rect.unit (s := S256) off S16.size h1).toLoadRect (fun i : S256.Idx => tvW G (i 0))) := by
    intro k
    have e2 : (((Rect.unit (s := S256) off S16.size h1).emb (lane k)) 0 : ℕ) = off 0 + k.val := unit_emb (n := 256) (lane k)
    have e : ((aTV).view.readAt (Elt F) (Rect.unit (s := S256) off S16.size h1).toLoadRect (fun i : S256.Idx => tvW G (i 0))) (lane k)
        = tvW G (((Rect.unit (s := S256) off S16.size h1).emb (lane k)) 0 : ℕ) := rfl
    rw [e, e2, ho]
  have H' := H _ hv
  unfold Run TI at H' ⊢
  iintro ⟨Htv, HR⟩
  iapply (wp_load 𝒱₀ (thr G.d G.L) none Set.univ (S := Finset.univ) (Finset.subset_univ _)) $$ Htv
  iintro Htv
  iapply H'
  isplitl [Htv]; · iexact Htv
  iexact HR

theorem s_tj {P' : sProp 𝕄} (hg : g < 16) {off : Fin 1 → ℕ} (ho : off 0 = 16 * g) {h1 : ∀ a, off a + S16.size a ≤ S256.size a} {h2}
    {kk : Vec F S16 .i32 → Prog (TpuEff nD τ sig (Elt F) Λ₀ (.scVector (cV G.L) (jV G.L))) α} {Q : α → sProp 𝕄}
    (H : ∀ tj : S16.Idx → BitVec 32, TjAt G g tj → Run G.d G.L (ISt G A ct cA g 0 (RI G h g P')) (kk tj) Q) :
    Run G.d G.L (TI G A cA h g P') (.op (.load aTJ (Rect.unit (s := S256) off S16.size h1).toLoadRect h2) kk) Q := by
  have hv : TjAt G g ((aTJ).view.readAt (Elt F) (Rect.unit (s := S256) off S16.size h1).toLoadRect (fun i : S256.Idx => tjW G (i 0))) := by
    intro k
    have e2 : (((Rect.unit (s := S256) off S16.size h1).emb (lane k)) 0 : ℕ) = off 0 + k.val := unit_emb (n := 256) (lane k)
    have e : ((aTJ).view.readAt (Elt F) (Rect.unit (s := S256) off S16.size h1).toLoadRect (fun i : S256.Idx => tjW G (i 0))) (lane k)
        = tjW G (((Rect.unit (s := S256) off S16.size h1).emb (lane k)) 0 : ℕ) := rfl
    rw [e, e2, ho]
  have H' := Run.fupd ISt.start (H _ hv)
  unfold Run at H' ⊢
  unfold TI
  unfold RI at H'
  rw [emptyRows_split hg]
  iintro ⟨Htv, Htj, ⟨He1, He2, He3⟩, HA, Hs9, Hs10, Ht, Hr1, Hr2, Hi, HB, HP⟩
  iapply (wp_load 𝒱₀ (thr G.d G.L) none Set.univ (S := Finset.univ) (Finset.subset_univ _)) $$ Htj
  iintro Htj
  iapply H'
  isplitl [He2]; · iexact He2
  isplitl [HA]; · iexact HA
  isplitl [Hs9]; · iexact Hs9
  isplitl [HB]; · iexact HB
  isplitl [Htv]; · iexact Htv
  isplitl [Htj]; · iexact Htj
  isplitl [He1]; · iexact He1
  isplitl [He3]; · iexact He3
  isplitl [Hs10]; · iexact Hs10
  isplitl [Ht]; · iexact Ht
  isplitl [Hr1]; · iexact Hr1
  isplitl [Hr2]; · iexact Hr2
  isplitl [Hi]; · iexact Hi
  iexact HP

theorem t_ienq {P' : sProp 𝕄} (hG : Ok G) (hA : Holds G A ct cA) {tv : S16.Idx → BitVec 32} (htv : TvAt G g tv) (hk : k < 16) {boff off : Fin 1 → ℕ}
    (hb : boff 0 = 32 * (16 * g + k)) {h6 h7}
    (ho : off = ![((extractAt ![0] (extractStridedSlice S1 ![k] tv h6) h7 - 999936#32) * 32#32).toNat])
    {h1 : ∀ a, off a + S32.size a ≤ S2048.size a} {h2 : ∀ a, boff a + S32.size a ≤ S8192.size a} {h3 h4 h5}
    {kk : PUnit → Prog (TpuEff nD τ sig (Elt F) Λ₀ (.scVector (cV G.L) (jV G.L))) α} {Q : α → sProp 𝕄}
    (H : Run G.d G.L (ISt G A ct cA g (k + 1) P') (kk ⟨⟩) Q) :
    Run G.d G.L (ISt G A ct cA g k P') (.op (.enqueueDma (A.slice (Rect.unit (s := S2048) off S32.size h1) (fun _ => rfl))
      (.here ((aTb).slice (Rect.unit (s := S8192) boff S32.size h2) (fun _ => rfl))) (.dma cc0_scratch9.sem) h3 h4 h5) kk) Q :=
  s_ienq hA hk hb (by rw [ho, tv_get htv hk]; exact tvW_mul hG _) H

theorem t_ilast {P' : sProp 𝕄} (hg : g < 16) {sp sp' : Space} {s' : Shape} {e' : EltTy} {κ' : Kind} {srcw : Memref sig .scVector sp' s' e'}
    {dstw : Memref sig κ' sp S32 .f32} {h1 h2} (hN : dstw.view.dmaCredit = NB)
    {kk : PUnit → Prog (TpuEff nD τ sig (Elt F) Λ₀ (.scVector (cV G.L) (jV G.L))) α} {Q : α → sProp 𝕄}
    (H : Run G.d G.L (OSt G (tailX G) h (tbF G ct) g 0 (RO G A cA h g P')) (kk ⟨⟩) Q) :
    Run G.d G.L (IWt G A ct cA g 15 (RI G h g P')) (.op (.waitDma2 cc0_scratch9.sem srcw dstw h1 h2) kk) Q := by
  refine s_ilast hN (Run.fupd (BIBase.Entails.trans ?_ OSt.start) H)
  unfold IEnd RI RO
  rw [rowsOf_append (a := 16 * g) (b := 16 * g + 16) (c := 256) (by omega) (by omega)]
  iintro ⟨Hp, HA, Hs9, HB, Htv, Htj, He1, He3, Hs10, Ht, ⟨Hr1, Hr3⟩, Hr2, Hi, HP⟩
  isplitl [Hp]; · iexact Hp
  isplitl [Hr1]; · iexact Hr1
  isplitl [Ht]; · iexact Ht
  isplitl [Hs10]; · iexact Hs10
  isplitl [Hi]; · iexact Hi
  isplitl [HB]; · iexact HB
  isplitl [Htv]; · iexact Htv
  isplitl [Htj]; · iexact Htj
  isplitl [He1]; · iexact He1
  isplitl [He3]; · iexact He3
  isplitl [HA]; · iexact HA
  isplitl [Hs9]; · iexact Hs9
  isplitl [Hr3]; · iexact Hr3
  isplitl [Hr2]; · iexact Hr2
  iexact HP

theorem tailOk (hG : Ok G) (hh : h < 2) : XOk G (tailX G) h (tbF G (G.t h)) where
  hh := hh
  tok := hG.tok
  dump s hs := by
    show (tjW G s).toNat = _
    unfold tjW
    rw [if_neg (by have : cntT G ≤ s := hs
                   omega), dumpW_toNat]
  val s hs boff hb hbo x y hy := by
    change s < cntT G at hs
    have e : ((aTb).slice (Rect.unit (s := S8192) boff S32.size hb) (fun _ => rfl)).view.read (Elt F) (tbF G (G.t h)) x
        = tbF G (G.t h) ((Rect.unit (s := S8192) boff S32.size hb).emb x) := rfl
    refine e.trans ?_
    have e2 : (((Rect.unit (s := S8192) boff S32.size hb).emb x) 0 : ℕ) = boff 0 + (x 0 : ℕ) := unit_emb (n := 8192) x
    have hx : (x 0 : ℕ) < 32 := (x 0).isLt
    unfold tbF
    rw [e2, hbo, show (32 * s + (x 0 : ℕ)) / 32 = s by omega, show (32 * s + (x 0 : ℕ)) % 32 = (x 0 : ℕ) by omega]
    rw [hG.tl h _ _ hh hx (tvW_sub hG s)]
    obtain ⟨n1, n2⟩ := nthT G hs
    have hj : (tjW G s).toNat = nthOf (pT G.ix G.L) s := by
      unfold tjW
      rw [if_pos hs]
      show (BitVec.ofNat 32 _).toNat = _
      rw [BitVec.toNat_ofNat]; omega
    rw [show (tailX G).row s = (tjW G s).toNat from rfl, hj] at hy
    rw [hG.out h _ _ hh hx n1 y hy]
    have hlt := hG.fit.lt _ n1
    have hge := n2.2.2
    have hv : 999936 + (tvW G s - 999936#32).toNat = ixN G.ix (nthOf (pT G.ix G.L) s) := by
      unfold tvW
      rw [if_pos hs]
      show 999936 + (BitVec.ofNat 32 _ - _).toNat = _
      rw [BitVec.toNat_sub, BitVec.toNat_ofNat, BitVec.toNat_ofNat]; omega
    congr 1
    funext a
    match a with
    | 0 => rfl
    | 1 => exact Fin.ext hv

theorem t_oenq {P' : sProp 𝕄} (hG : Ok G) (hh : h < 2) {tj : S16.Idx → BitVec 32} (htj : TjAt G g tj) (hk : k < 16) {boff off : Fin 1 → ℕ}
    (hb : boff 0 = 32 * (16 * g + k)) {hb' : BitVec 32} (hhb : hb'.toNat = h * 1703936) {h6 h7}
    (ho : off = ![(Scalar.addi hb' (Scalar.muli (extractAt ![0] (extractStridedSlice S1 ![k] tj h6) h7) 32#32)).toNat])
    {h1 : ∀ a, boff a + S32.size a ≤ S8192.size a} {h2 : ∀ a, off a + S32.size a ≤ S3407872.size a} {h3 h4 h5}
    {kk : PUnit → Prog (TpuEff nD τ sig (Elt F) Λ₀ (.scVector (cV G.L) (jV G.L))) α} {Q : α → sProp 𝕄}
    (H : Run G.d G.L (OSt G (tailX G) h (tbF G (G.t h)) g (k + 1) P') (kk ⟨⟩) Q) :
    Run G.d G.L (OSt G (tailX G) h (tbF G (G.t h)) g k P') (.op (.enqueueDma ((aTb).slice (Rect.unit (s := S8192) boff S32.size h1) (fun _ => rfl))
      (.here ((aO).slice (Rect.unit (s := S3407872) off S32.size h2) (fun _ => rfl))) (.dma cc0_scratch10.sem) h3 h4 h5) kk) Q :=
  s_oenq (X := tailX G) (tailOk hG hh) hk hb (by rw [ho, tj_get htj hk]; exact tj_off hh hhb (tjW_lt _)) H

theorem t_olast {P' : sProp 𝕄} (hg : g < 16) {sp sp' : Space} {s' : Shape} {e' : EltTy} {κ' : Kind} {srcw : Memref sig .scVector sp' s' e'}
    {dstw : Memref sig κ' sp S32 .f32} {h1 h2} (hN : dstw.view.dmaCredit = NO)
    {kk : PUnit → Prog (TpuEff nD τ sig (Elt F) Λ₀ (.scVector (cV G.L) (jV G.L))) α} {Q : α → sProp 𝕄}
    (H : Run G.d G.L (TI G A cA h (g + 1) P') (kk ⟨⟩) Q) :
    Run G.d G.L (OWt G (tailX G) h (tbF G ct) g 15 (RO G A cA h g P')) (.op (.waitDma2 cc0_scratch10.sem srcw dstw h1 h2) kk) Q := by
  refine s_olast (X := tailX G) hN (BIBase.Entails.trans ?_ H)
  unfold OEnd RO TI
  rw [show 16 * (g + 1) = 16 * g + 16 by omega, emptyRows_split hg, rowsOf_append (a := 0) (b := 16 * g) (c := 16 * g + 16) (by omega) (by omega)]
  have hm : bigSep (Finset.Ico (16 * g) (16 * g + 16)) (fun s => piece G (tailX G) s (tbF G ct)) ⊢ emptyRows G (16 * g) (16 * g + 16) := by
    refine bigSep_mono fun s _ => ?_
    have h : piece G (tailX G) s (tbF G ct) ⊢ pieceE G s := by
      iintro H; iexists _; iexact H
    exact h
  iintro ⟨Hp, Hr1, Ht, Hs10, Hi, HB, Htv, Htj, He1, He3, HA, Hs9, Hr3, Hr2, HP⟩
  isplitl [Htv]; · iexact Htv
  isplitl [Htj]; · iexact Htj
  isplitl [He1 He3 Hp]
  · isplitl [He1]; · iexact He1
    isplitl [Hp]
    · iapply hm; iexact Hp
    iexact He3
  isplitl [HA]; · iexact HA
  isplitl [Hs9]; · iexact Hs9
  isplitl [Hs10]; · iexact Hs10
  isplitl [Ht]; · iexact Ht
  isplitl [Hr3]; · iexact Hr3
  isplitl [Hr1 Hr2]
  · isplitl [Hr2]; · iexact Hr2
    iexact Hr1
  isplitl [Hi]; · iexact Hi
  isplitl [HB]; · iexact HB
  iexact HP

end

end Cert.Proof.Gather

end
-- ==== Proof.Parts.lean ====
/-
  The tail's groups, through the parts of the printed body.
-/
module

public import proofs.«01_k».proof.Proof.Tail

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

/-- Lane `k` of sixteen words, as the body extracts it. -/
abbrev gl (tv : S16.Idx → BitVec 32) (k : ℕ) (h : S16.Slices ![k] S1) : BitVec 32 := extractAt ![0] (extractStridedSlice S1 ![k] tv h) inpos_S1_p0

section
variable [FloatOps F] {G : Dat F}

theorem s_ret {d : Dev nD} {L : grid0.Coords} {α : Type} {I : sProp 𝕄} {r : α} {Q : α → sProp 𝕄} (h : I ⊢ Q r) : Run (F := F) d L I (.ret r) Q := by
  unfold Run
  rw [wp_ret]
  iintro H
  imodintro
  iapply h; iexact H

/-- The tail's first operand. -/
abbrev cTA (G : Dat F) : Buf (Elt F) ((aTA).view.loc (thr G.d G.L)) := G.t 0
abbrev cTB (G : Dat F) : Buf (Elt F) ((aTB).view.loc (thr G.d G.L)) := G.t 1

theorem holdsA : Holds G aTA (G.t 0) (cTA G) := by
  intro off hb x
  have e : ((aTA).slice (Rect.unit (s := S2048) off S32.size hb) (fun _ => rfl)).view.read (Elt F) (cTA G) x
      = G.t 0 ((Rect.unit (s := S2048) off S32.size hb).emb x) := rfl
  have e2 : (((Rect.unit (s := S2048) off S32.size hb).emb x) 0 : ℕ) = off 0 + (x 0 : ℕ) := unit_emb (n := 2048) x
  have h1 : off 0 + (x 0 : ℕ) < 2048 := by
    have h0 : (((Rect.unit (s := S2048) off S32.size hb).emb x) 0 : ℕ) < 2048 := ((Rect.unit (s := S2048) off S32.size hb).emb x 0).isLt
    omega
  rw [e]
  unfold rd
  rw [dif_pos h1]
  exact congrArg _ (idx1_ext e2)

theorem holdsB : Holds G aTB (G.t 1) (cTB G) := by
  intro off hb x
  have e : ((aTB).slice (Rect.unit (s := S2048) off S32.size hb) (fun _ => rfl)).view.read (Elt F) (cTB G) x
      = G.t 1 ((Rect.unit (s := S2048) off S32.size hb).emb x) := rfl
  have e2 : (((Rect.unit (s := S2048) off S32.size hb).emb x) 0 : ℕ) = off 0 + (x 0 : ℕ) := unit_emb (n := 2048) x
  have h1 : off 0 + (x 0 : ℕ) < 2048 := by
    have h0 : (((Rect.unit (s := S2048) off S32.size hb).emb x) 0 : ℕ) < 2048 := ((Rect.unit (s := S2048) off S32.size hb).emb x 0).isLt
    omega
  rw [e]
  unfold rd
  rw [dif_pos h1]
  exact congrArg _ (idx1_ext e2)

theorem slc {k : ℕ} (hk : k < 16) : S16.Slices ![k] S1 := ⟨rfl, fun a => by
  match a with
  | 0 =>
    show k + 1 ≤ 16
    omega⟩

/-- The side conditions of an incoming lane hold. -/
theorem a_in {α : Type} {A : Memref sig .scVector .hbm S2048 .f32} {ct : S2048.Idx → F .f32} {cA : Buf (Elt F) (A.view.loc (thr G.d G.L))} {g k : ℕ} {P' : sProp 𝕄} (hG : Ok G) {tv : S16.Idx → BitVec 32} (htv : TvAt G g tv) (hk : k < 16) {P : Prop} {hd : Decidable P}
    (hP : (8 ∣ ((extractAt ![0] (extractStridedSlice S1 ![k] tv (slc hk)) inpos_S1_p0 - 999936#32) * 32#32).toNat
      ∧ ∀ a : Fin 1, (![((extractAt ![0] (extractStridedSlice S1 ![k] tv (slc hk)) inpos_S1_p0 - 999936#32) * 32#32).toNat] : Fin 1 → ℕ) a + S32.size a ≤ S2048.size a) → P)
    {kk : PLift P → Prog (TpuEff nD τ sig (Elt F) Λ₀ (.scVector (cV G.L) (jV G.L))) α} {Q : α → sProp 𝕄}
    (H : ∀ h : P, Run G.d G.L (ISt G A ct cA g k P') (kk ⟨h⟩) Q) :
    Run G.d G.L (ISt G A ct cA g k P') (.op (.assume P hd) kk) Q := s_assume (hP (chkIn hG htv hk)) (H _)

/-- The side conditions of an outgoing lane hold. -/
theorem a_out {α : Type} {ct : Buf (Elt F) ((tailX G).src.view.loc (thr G.d G.L))} {g k h : ℕ} {P' : sProp 𝕄} (hh : h < 2) {tj : S16.Idx → BitVec 32} (htj : TjAt G g tj) (hk : k < 16) {hb' : BitVec 32} (hhb : hb'.toNat = h * 1703936) {P : Prop} {hd : Decidable P}
    (hP : (8 ∣ (Scalar.addi hb' (Scalar.muli (extractAt ![0] (extractStridedSlice S1 ![k] tj (slc hk)) inpos_S1_p0) 32#32)).toNat
      ∧ ∀ a : Fin 1, (![(Scalar.addi hb' (Scalar.muli (extractAt ![0] (extractStridedSlice S1 ![k] tj (slc hk)) inpos_S1_p0) 32#32)).toNat] : Fin 1 → ℕ) a + S32.size a ≤ S3407872.size a) → P)
    {kk : PLift P → Prog (TpuEff nD τ sig (Elt F) Λ₀ (.scVector (cV G.L) (jV G.L))) α} {Q : α → sProp 𝕄}
    (H : ∀ h' : P, Run G.d G.L (OSt G (tailX G) h ct g k P') (kk ⟨h'⟩) Q) :
    Run G.d G.L (OSt G (tailX G) h ct g k P') (.op (.assume P hd) kk) Q :=
  s_assume (hP (chkOut hh hhb (by rw [tj_get htj hk]; exact tjW_lt _))) (H _)

/-- The program after a bind, kept behind a name while its first half runs. -/
theorem Run.cut {d : Dev nD} {L : grid0.Coords} {α β : Type} {I : sProp 𝕄} {p : Prog (TpuEff nD τ sig (Elt F) Λ₀ (.scVector (cV L) (jV L))) α} {k0 : α → Prog (TpuEff nD τ sig (Elt F) Λ₀ (.scVector (cV L) (jV L))) β} {Q : β → sProp 𝕄}
    (h : ∀ k : α → Prog (TpuEff nD τ sig (Elt F) Λ₀ (.scVector (cV L) (jV L))) β, (∀ (J : sProp 𝕄) (r : α), Run (F := F) d L J (k0 r) Q → Run (F := F) d L J (k r) Q) → Run (F := F) d L I (p >>= k) Q) : Run (F := F) d L I (p >>= k0) Q := h k0 fun _ _ h => h

/-- The same under a second bind. -/
theorem Run.cut2 {d : Dev nD} {L : grid0.Coords} {α β γ : Type} {I : sProp 𝕄} {p : Prog (TpuEff nD τ sig (Elt F) Λ₀ (.scVector (cV L) (jV L))) α} {k0 : α → Prog (TpuEff nD τ sig (Elt F) Λ₀ (.scVector (cV L) (jV L))) β} {k1 : β → Prog (TpuEff nD τ sig (Elt F) Λ₀ (.scVector (cV L) (jV L))) γ} {Q : γ → sProp 𝕄}
    (h : ∀ k : α → Prog (TpuEff nD τ sig (Elt F) Λ₀ (.scVector (cV L) (jV L))) γ, (∀ (J : sProp 𝕄) (r : α), Run (F := F) d L J (k0 r >>= k1) Q → Run (F := F) d L J (k r) Q) → Run (F := F) d L I (p >>= k) Q) : Run (F := F) d L I ((p >>= k0) >>= k1) Q := by
  have e : ((p >>= k0) >>= k1) = (p >>= fun r => (k0 r >>= k1)) := Prog.bind_assoc _ _ _
  rw [e]
  exact h _ fun _ _ h => h

/-- The rest while the first half's rows are copied, -/
def PA (G : Dat F) (R : sProp 𝕄) : sProp 𝕄 := iprop(shareOf G aTB (cTB G) ∗ rowsOf G (tailX G) 1 0 256 G.o0 ∗ R)
/-- and while the second's are. -/
def PB (G : Dat F) (R : sProp 𝕄) : sProp 𝕄 := iprop(shareOf G aTA (cTA G) ∗ rowsOf G (tailX G) 0 0 256 G.oF ∗ R)

/-- From one half to the other. -/
theorem s_switch {α : Type} {R : sProp 𝕄} {p : Prog (TpuEff nD τ sig (Elt F) Λ₀ (.scVector (cV G.L) (jV G.L))) α} {Q : α → sProp 𝕄}
    (H : Run G.d G.L (TI G aTB (cTB G) 1 0 (PB G R)) p Q) : Run G.d G.L (TI G aTA (cTA G) 0 16 (PA G R)) p Q := by
  refine BIBase.Entails.trans ?_ H
  unfold TI PA PB
  iintro ⟨H1, H2, H3, H4, H5, H6, H7, -, H9, H10, H11, H12, H13, H14⟩
  isplitl [H1]; · iexact H1
  isplitl [H2]; · iexact H2
  isplitl [H3]; · iexact H3
  isplitl [H12]; · iexact H12
  isplitl [H5]; · iexact H5
  isplitl [H6]; · iexact H6
  isplitl [H7]; · iexact H7
  isplitl [H13]; · iexact H13
  isplitr [H4 H9 H10 H11 H14]; · rw [Nat.mul_zero, rowsOf, Finset.Ico_self, bigSep_empty]; iempintro
  isplitl [H10]; · iexact H10
  isplitl [H11]; · iexact H11
  isplitl [H4]; · iexact H4
  isplitl [H9]; · iexact H9
  iexact H14

end

end Cert.Proof.Gather

end
-- ==== Proof.Fill.lean ====
/-
  Single copies, and filling buffers with one word.
-/
module

public import proofs.«01_k».proof.Proof.Parts

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {d : Dev nD} {L : grid0.Coords} {α : Type}

/-- A copy on its own on semaphore `sm`, under way; it delivers `D`. -/
abbrev CpW (d : Dev nD) (L : grid0.Coords) (sm : DmaSem sig) (N : ℕ) (D : sProp 𝕄) : sProp 𝕄 := Bat d L N sm (fun _ : Fin 1 => D) 1 0

theorem c_enq {sp sp' : Space} {sh : Shape} {e : EltTy} {src : Memref sig .scVector sp sh e} {dst : Memref sig .scVector sp' sh e} {sm : DmaSem sig} {N : ℕ}
    {D : sProp 𝕄} [Storable (upEmb : UEmb _ 𝕄) D] {q : PosShare TreeShare} {fs : Buf (Elt F) (src.view.loc (thr d L))} {f0 : Buf (Elt F) (dst.view.loc (thr d L))}
    {S : Finset (Idx (dst.view.loc (thr d L)))} {R : sProp 𝕄} {h3 h4 h5}
    {kk : PUnit → Prog (TpuEff nD τ sig (Elt F) Λ₀ (.scVector (cV L) (jV L))) α} {Q : α → sProp 𝕄}
    (hN : dst.view.amount (.dma sm) = N) (hS : dst.view.set ⊆ S)
    (hv : (dst.view.loc (thr d L) ↦[S]{fullShare} (dst.view.write (Elt F) f0 (src.view.read (Elt F) fs) Finset.univ) : sProp 𝕄) ⊢ D)
    (H : Run d L iprop(CpW d L sm N D ∗ R) (kk ⟨⟩) Q) :
    Run d L iprop((src.view.loc (thr d L) ↦[src.view.set]{q} fs) ∗ (dst.view.loc (thr d L) ↦[S]{fullShare} f0) ∗ semVal (thr d L, .dma sm) 0 ∗ R)
      (.op (.enqueueDma src (.here dst) (.dma sm) h3 h4 h5) kk) Q := by
  have hw : (dst.view.loc (thr d L) ↦[S]{fullShare} f0 : sProp 𝕄) ⊢ writeUpdate (thr d L) dst.view (src.view.read (Elt F) fs)
      (dst.view.loc (thr d L) ↦[S]{fullShare} (dst.view.write (Elt F) f0 (src.view.read (Elt F) fs) Finset.univ)) :=
    pointsTo_writeUpdate (thr d L) hS
  have hD : iprop((dst.view.loc (thr d L) ↦[S]{fullShare} (dst.view.write (Elt F) f0 (src.view.read (Elt F) fs) Finset.univ)) ∗ (src.view.loc (thr d L) ↦[src.view.set]{q} fs))
      ⊢ D := by
    iintro ⟨H, -⟩
    iapply hv; iexact H
  unfold Run at H ⊢
  iintro ⟨Hs, Hd, Hv, HR⟩
  imod (batch_alloc' EC (thr d L) (n := 1) (default : SparseCore.Cfg.HIx 1) N (fun _ : Fin 1 => D) (E := Set.univ)) $$ Hv with Hb
  iapply (wp_copy d L (src := src) (dst := dst) (sm := sm) (N := N) (q := q) (D := fun _ : Fin 1 => D) (j := 0) (u := 0) (fs := fs)
    (R := (dst.view.loc (thr d L) ↦[S]{fullShare} (dst.view.write (Elt F) f0 (src.view.read (Elt F) fs) Finset.univ)))
    hN (show (0 : ℕ) < 1 from Nat.zero_lt_one) (Nat.zero_le (0 * N)) hD) $$ [Hs Hd Hb]
  · isplitl [Hs]; · iexact Hs
    isplitr [Hb]
    · iapply hw; iexact Hd
    · iexact Hb
  iintro Hb
  iapply H
  isplitl [Hb]; · iexact Hb
  iexact HR

theorem c_wait {G : Dat F} {sp sp' : Space} {s s' : Shape} {e e' : EltTy} {κ' : Kind} {srcw : Memref sig .scVector sp' s' e'}
    {dstw : Memref sig κ' sp s e} {sm : DmaSem sig} {N : ℕ} {D R : sProp 𝕄} {h1 h2}
    {kk : PUnit → Prog (TpuEff nD τ sig (Elt F) Λ₀ (.scVector (cV G.L) (jV G.L))) α} {Q : α → sProp 𝕄}
    (hN : dstw.view.dmaCredit = N) (hN0 : 0 < N)
    (H : Run G.d G.L iprop(D ∗ semVal (thr G.d G.L, .dma sm) 0 ∗ Base G ∗ R) (kk ⟨⟩) Q) :
    Run G.d G.L iprop(CpW G.d G.L sm N D ∗ Base G ∗ R) (.op (.waitDma2 sm srcw dstw h1 h2) kk) Q := by
  have hD : bigSep Finset.univ (fun _ : Fin 1 => D) ⊢ D := by
    rw [show (Finset.univ : Finset (Fin 1)) = {0} from rfl, bigSep_singleton]
  unfold Run at H ⊢
  iintro ⟨Hb, ⟨#HM, %W, HO⟩, HR⟩
  iapply (wp_waitBatchLastO EC 𝒱₀ (thr G.d G.L) none (default : SparseCore.Cfg.HIx 1) hN hN0 (n := 1) (u := 0) (by omega)) $$ [Hb HO]
  · isplitl [Hb]; · iexact Hb
    isplitl [HO]; · iexact HO
    iapply (MayWaits.elim _) $$ HM
  iintro ⟨HD, Hs, HO⟩
  ihave HD := hD $$ HD
  iapply H
  isplitl [HD]; · iexact HD
  isplitl [Hs]; · iexact Hs
  isplitl [HO]
  · isplitr; · iexact HM
    iexists _; iexact HO
  iexact HR

/-- A load of sixteen words, whatever they are. -/
theorem g_load {n : ℕ} {m : Memref sig .scVector .vmem (V1 n) .i32} {f : Buf (Elt F) (m.view.loc (thr d L))} {off : Fin 1 → ℕ}
    {hr : ∀ a, off a + S16.size a ≤ (V1 n).size a} {h2} {R : sProp 𝕄}
    {kk : Vec F S16 .i32 → Prog (TpuEff nD τ sig (Elt F) Λ₀ (.scVector (cV L) (jV L))) α} {Q : α → sProp 𝕄}
    (H : ∀ x, Run d L iprop((m.view.loc (thr d L) ↦{fullShare} f) ∗ R) (kk x) Q) :
    Run d L iprop((m.view.loc (thr d L) ↦{fullShare} f) ∗ R) (.op (.load m (Rect.unit (s := V1 n) off S16.size hr).toLoadRect h2) kk) Q := by
  have H' := H (m.view.readAt (Elt F) (Rect.unit (s := V1 n) off S16.size hr).toLoadRect f)
  unfold Run at H' ⊢
  iintro ⟨Hm, HR⟩
  iapply (wp_load 𝒱₀ (thr d L) none Set.univ (S := Finset.univ) (Finset.subset_univ _)) $$ Hm
  iintro Hm
  iapply H'
  isplitl [Hm]; · iexact Hm
  iexact HR

/-- A store of one word to sixteen places. -/
theorem g_store {n : ℕ} {m : Memref sig .scVector .vmem (V1 n) .i32} {f : Buf (Elt F) (m.view.loc (thr d L))} {off : Fin 1 → ℕ} {o : ℕ} (ho : off 0 = o)
    {hr : ∀ a, off a + S16.size a ≤ (V1 n).size a} {w : Vec F S16 .i32} {v : BitVec 32} (hw : w = broadcast S16 v) {h1 h2} {R : sProp 𝕄}
    {kk : PUnit → Prog (TpuEff nD τ sig (Elt F) Λ₀ (.scVector (cV L) (jV L))) α} {Q : α → sProp 𝕄}
    (H : ∀ g : Buf (Elt F) (m.view.loc (thr d L)),
      (∀ x : (V1 n).Idx, ((x 0 : ℕ) < o ∨ o + 16 ≤ (x 0 : ℕ)) → m.view.read (Elt F) g x = m.view.read (Elt F) f x)
      → (∀ x : (V1 n).Idx, o ≤ (x 0 : ℕ) → (x 0 : ℕ) < o + 16 → m.view.read (Elt F) g x = v)
      → Run d L iprop((m.view.loc (thr d L) ↦{fullShare} g) ∗ R) (kk ⟨⟩) Q) :
    Run d L iprop((m.view.loc (thr d L) ↦{fullShare} f) ∗ R)
      (.op (.store m (Rect.unit (s := V1 n) off S16.size hr) w Finset.univ h1 h2) kk) Q := by
  have hset : (Rect.unit (s := V1 n) off S16.size hr).set = seg n o 16 := by
    rw [← ho]; exact unit_set (n := n) (off := off) (h := hr)
  have ha : ∀ x : (V1 n).Idx, ((x 0 : ℕ) < o ∨ o + 16 ≤ (x 0 : ℕ)) →
      m.view.read (Elt F) ((m.access (Rect.unit (s := V1 n) off S16.size hr)).write (Elt F) f w Finset.univ) x = m.view.read (Elt F) f x := by
    intro x hx
    rw [View.read_apply, View.read_apply, View.write_of_not_mem]
    intro hm
    have h' : m.view.emb x ∈ (m.view.slice (Rect.unit (s := V1 n) off S16.size hr)).set := hm
    rw [View.set_slice, hset] at h'
    obtain ⟨y, hy, e⟩ := Finset.mem_map.mp h'
    rw [m.view.emb.injective e, mem_seg] at hy
    omega
  have hb : ∀ x : (V1 n).Idx, o ≤ (x 0 : ℕ) → (x 0 : ℕ) < o + 16 →
      m.view.read (Elt F) ((m.access (Rect.unit (s := V1 n) off S16.size hr)).write (Elt F) f w Finset.univ) x = v := by
    intro x hx hx'
    obtain ⟨y, rfl⟩ : ∃ y : S16.Idx, x = (Rect.unit (s := V1 n) off S16.size hr).emb y :=
      ⟨lane ⟨(x 0 : ℕ) - o, by omega⟩, idx1_ext (by
        have e2 : (((Rect.unit (s := V1 n) off S16.size hr).emb (lane ⟨(x 0 : ℕ) - o, by omega⟩)) 0 : ℕ) = off 0 + ((x 0 : ℕ) - o) := unit_emb (n := n) _
        rw [e2, ho]; omega)⟩
    rw [View.read_apply]
    have e := View.write_emb (Val := Elt F) (v := m.access (Rect.unit (s := V1 n) off S16.size hr)) f w Finset.univ y
    rw [if_pos (Finset.mem_univ y)] at e
    refine (congrArg _ e).trans ?_
    rw [hw, cast_cast]
    rfl
  have H' := H _ ha hb
  unfold Run at H' ⊢
  iintro ⟨Hm, HR⟩
  iapply (wp_store 𝒱₀ (thr d L) none Set.univ (m := m) (r := Rect.unit (s := V1 n) off S16.size hr) (w := w) (Mk := Finset.univ) (f := f) (S := Finset.univ) (Finset.subset_univ _)) $$ Hm
  iintro Hm
  iapply H'
  isplitl [Hm]; · iexact Hm
  iexact HR

/-- The first `a` groups of sixteen words of the buffer hold `v`. -/
def Fl (d : Dev nD) (L : grid0.Coords) {n : ℕ} (m : Memref sig .scVector .vmem (V1 n) .i32) (v : BitVec 32) (a : ℕ) : sProp 𝕄 :=
  iprop(∃ f : Buf (Elt F) (m.view.loc (thr d L)), ⌜∀ x : (V1 n).Idx, (x 0 : ℕ) < 16 * a → m.view.read (Elt F) f x = v⌝ ∗ m.view.loc (thr d L) ↦{fullShare} f)

theorem fl_load {n : ℕ} {m : Memref sig .scVector .vmem (V1 n) .i32} {v : BitVec 32} {a : ℕ} {off : Fin 1 → ℕ}
    {hr : ∀ a, off a + S16.size a ≤ (V1 n).size a} {h2} {R : sProp 𝕄}
    {kk : Vec F S16 .i32 → Prog (TpuEff nD τ sig (Elt F) Λ₀ (.scVector (cV L) (jV L))) α} {Q : α → sProp 𝕄}
    (H : ∀ x, Run d L iprop(Fl (F := F) d L m v a ∗ R) (kk x) Q) :
    Run d L iprop(Fl (F := F) d L m v a ∗ R) (.op (.load m (Rect.unit (s := V1 n) off S16.size hr).toLoadRect h2) kk) Q := by
  unfold Run Fl
  iintro ⟨⟨%f, %hf, Hm⟩, HR⟩
  have h0 : Run (F := F) d L iprop((m.view.loc (thr d L) ↦{fullShare} f) ∗ R) (.op (.load m (Rect.unit (s := V1 n) off S16.size hr).toLoadRect h2) kk) Q := by
    refine g_load fun x => ?_
    have H' := H x
    unfold Run Fl at H'
    unfold Run
    iintro ⟨Hm, HR⟩
    iapply H'
    isplitl [Hm]
    · iexists f
      isplitr; · ipureintro; exact hf
      iexact Hm
    iexact HR
  unfold Run at h0
  iapply h0
  isplitl [Hm]; · iexact Hm
  iexact HR

theorem fl_store {n : ℕ} {m : Memref sig .scVector .vmem (V1 n) .i32} {v : BitVec 32} {a : ℕ} {off : Fin 1 → ℕ} (ho : off 0 = 16 * a)
    {hr : ∀ a, off a + S16.size a ≤ (V1 n).size a} {w : Vec F S16 .i32} (hw : w = broadcast S16 v) {h1 h2} {R : sProp 𝕄}
    {kk : PUnit → Prog (TpuEff nD τ sig (Elt F) Λ₀ (.scVector (cV L) (jV L))) α} {Q : α → sProp 𝕄}
    (H : Run d L iprop(Fl (F := F) d L m v (a + 1) ∗ R) (kk ⟨⟩) Q) :
    Run d L iprop(Fl (F := F) d L m v a ∗ R) (.op (.store m (Rect.unit (s := V1 n) off S16.size hr) w Finset.univ h1 h2) kk) Q := by
  unfold Run Fl
  iintro ⟨⟨%f, %hf, Hm⟩, HR⟩
  have h0 : Run (F := F) d L iprop((m.view.loc (thr d L) ↦{fullShare} f) ∗ R) (.op (.store m (Rect.unit (s := V1 n) off S16.size hr) w Finset.univ h1 h2) kk) Q := by
    refine g_store ho hw fun g hg hg' => ?_
    have hgg : ∀ x : (V1 n).Idx, (x 0 : ℕ) < 16 * (a + 1) → m.view.read (Elt F) g x = v := by
      intro x hx
      by_cases hx' : (x 0 : ℕ) < 16 * a
      · rw [hg x (.inl hx'), hf x hx']
      · exact hg' x (by omega) (by omega)
    unfold Run Fl at H
    unfold Run
    iintro ⟨Hm, HR⟩
    iapply H
    isplitl [Hm]
    · iexists g
      isplitr; · ipureintro; exact hgg
      iexact Hm
    iexact HR
  unfold Run at h0
  iapply h0
  isplitl [Hm]; · iexact Hm
  iexact HR

/-- The four lists' buffers while they are filled. -/
def Fil (d : Dev nD) (L : grid0.Coords) (a b c e : ℕ) (P : sProp 𝕄) : sProp 𝕄 :=
  iprop(Fl d L (n := 1792) aV 0#32 a ∗ Fl d L (n := 1792) aJ (dumpW L) b ∗ Fl d L (n := 256) aTV 999936#32 c ∗ Fl d L (n := 256) aTJ (dumpW L) e ∗ P)

theorem Run.mono {I I' : sProp 𝕄} {p : Prog (TpuEff nD τ sig (Elt F) Λ₀ (.scVector (cV L) (jV L))) α} {Q : α → sProp 𝕄} (h : I ⊢ I') (H : Run d L I' p Q) : Run d L I p Q :=
  BIBase.Entails.trans h H

theorem rot {A B C : sProp 𝕄} : iprop(A ∗ B ∗ C) ⊢ iprop(B ∗ A ∗ C) := by
  iintro ⟨H1, H2, H3⟩
  isplitl [H2]; · iexact H2
  isplitl [H1]; · iexact H1
  iexact H3

theorem fil2 {a b c e : ℕ} {P : sProp 𝕄} : Fil d L a b c e P ⊢ iprop(Fl d L (n := 1792) aJ (dumpW L) b ∗ Fl d L (n := 1792) aV 0#32 a ∗ Fl d L (n := 256) aTV 999936#32 c ∗ Fl d L (n := 256) aTJ (dumpW L) e ∗ P) := rot
theorem fil2' {a b c e : ℕ} {P : sProp 𝕄} : iprop(Fl d L (n := 1792) aJ (dumpW L) b ∗ Fl d L (n := 1792) aV 0#32 a ∗ Fl d L (n := 256) aTV 999936#32 c ∗ Fl d L (n := 256) aTJ (dumpW L) e ∗ P) ⊢ Fil d L a b c e P := rot
theorem fil3 {a b c e : ℕ} {P : sProp 𝕄} : Fil d L a b c e P ⊢ iprop(Fl d L (n := 256) aTV 999936#32 c ∗ Fl d L (n := 1792) aV 0#32 a ∗ Fl d L (n := 1792) aJ (dumpW L) b ∗ Fl d L (n := 256) aTJ (dumpW L) e ∗ P) := by
  unfold Fil
  iintro ⟨H1, H2, H3, H4⟩
  isplitl [H3]; · iexact H3
  isplitl [H1]; · iexact H1
  isplitl [H2]; · iexact H2
  iexact H4
theorem fil3' {a b c e : ℕ} {P : sProp 𝕄} : iprop(Fl d L (n := 256) aTV 999936#32 c ∗ Fl d L (n := 1792) aV 0#32 a ∗ Fl d L (n := 1792) aJ (dumpW L) b ∗ Fl d L (n := 256) aTJ (dumpW L) e ∗ P) ⊢ Fil d L a b c e P := by
  unfold Fil
  iintro ⟨H3, H1, H2, H4⟩
  isplitl [H1]; · iexact H1
  isplitl [H2]; · iexact H2
  isplitl [H3]; · iexact H3
  iexact H4
theorem fil4 {a b c e : ℕ} {P : sProp 𝕄} : Fil d L a b c e P ⊢ iprop(Fl d L (n := 256) aTJ (dumpW L) e ∗ Fl d L (n := 1792) aV 0#32 a ∗ Fl d L (n := 1792) aJ (dumpW L) b ∗ Fl d L (n := 256) aTV 999936#32 c ∗ P) := by
  unfold Fil
  iintro ⟨H1, H2, H3, H4, H5⟩
  isplitl [H4]; · iexact H4
  isplitl [H1]; · iexact H1
  isplitl [H2]; · iexact H2
  isplitl [H3]; · iexact H3
  iexact H5
theorem fil4' {a b c e : ℕ} {P : sProp 𝕄} : iprop(Fl d L (n := 256) aTJ (dumpW L) e ∗ Fl d L (n := 1792) aV 0#32 a ∗ Fl d L (n := 1792) aJ (dumpW L) b ∗ Fl d L (n := 256) aTV 999936#32 c ∗ P) ⊢ Fil d L a b c e P := by
  unfold Fil
  iintro ⟨H4, H1, H2, H3, H5⟩
  isplitl [H1]; · iexact H1
  isplitl [H2]; · iexact H2
  isplitl [H3]; · iexact H3
  isplitl [H4]; · iexact H4
  iexact H5

theorem f_l1 {a b c e : ℕ} {P : sProp 𝕄} {off : Fin 1 → ℕ} {Q : α → sProp 𝕄} {kl : Vec F S16 .i32 → Prog (TpuEff nD τ sig (Elt F) Λ₀ (.scVector (cV L) (jV L))) α} {hr : ∀ a, off a + S16.size a ≤ S1792.size a} {h2} (H : ∀ x, Run d L (Fil d L a b c e P) (kl x) Q) :
    Run d L (Fil d L a b c e P) (.op (.load aV (Rect.unit (s := S1792) off S16.size hr).toLoadRect h2) kl) Q := fl_load (n := 1792) H
theorem f_s1 {a b c e : ℕ} {P : sProp 𝕄} {off : Fin 1 → ℕ} {Q : α → sProp 𝕄} {w : Vec F S16 .i32} {kk : PUnit → Prog (TpuEff nD τ sig (Elt F) Λ₀ (.scVector (cV L) (jV L))) α}
    (ho : off 0 = 16 * a) (hw : w = broadcast S16 0#32) {hr : ∀ a, off a + S16.size a ≤ S1792.size a} {h1 h2} (H : Run d L (Fil d L (a + 1) b c e P) (kk ⟨⟩) Q) :
    Run d L (Fil d L a b c e P) (.op (.store aV (Rect.unit (s := S1792) off S16.size hr) w Finset.univ h1 h2) kk) Q := fl_store (n := 1792) ho hw H
theorem f_l2 {a b c e : ℕ} {P : sProp 𝕄} {off : Fin 1 → ℕ} {Q : α → sProp 𝕄} {kl : Vec F S16 .i32 → Prog (TpuEff nD τ sig (Elt F) Λ₀ (.scVector (cV L) (jV L))) α} {hr : ∀ a, off a + S16.size a ≤ S1792.size a} {h2} (H : ∀ x, Run d L (Fil d L a b c e P) (kl x) Q) :
    Run d L (Fil d L a b c e P) (.op (.load aJ (Rect.unit (s := S1792) off S16.size hr).toLoadRect h2) kl) Q := Run.mono fil2 (fl_load (n := 1792) fun x => Run.mono fil2' (H x))
theorem f_s2 {a b c e : ℕ} {P : sProp 𝕄} {off : Fin 1 → ℕ} {Q : α → sProp 𝕄} {w : Vec F S16 .i32} {kk : PUnit → Prog (TpuEff nD τ sig (Elt F) Λ₀ (.scVector (cV L) (jV L))) α}
    (ho : off 0 = 16 * b) (hw : w = broadcast S16 (dumpW L)) {hr : ∀ a, off a + S16.size a ≤ S1792.size a} {h1 h2} (H : Run d L (Fil d L a (b + 1) c e P) (kk ⟨⟩) Q) :
    Run d L (Fil d L a b c e P) (.op (.store aJ (Rect.unit (s := S1792) off S16.size hr) w Finset.univ h1 h2) kk) Q := Run.mono fil2 (fl_store (n := 1792) ho hw (Run.mono fil2' H))
theorem f_l3 {a b c e : ℕ} {P : sProp 𝕄} {off : Fin 1 → ℕ} {Q : α → sProp 𝕄} {kl : Vec F S16 .i32 → Prog (TpuEff nD τ sig (Elt F) Λ₀ (.scVector (cV L) (jV L))) α} {hr : ∀ a, off a + S16.size a ≤ S256.size a} {h2} (H : ∀ x, Run d L (Fil d L a b c e P) (kl x) Q) :
    Run d L (Fil d L a b c e P) (.op (.load aTV (Rect.unit (s := S256) off S16.size hr).toLoadRect h2) kl) Q := Run.mono fil3 (fl_load (n := 256) fun x => Run.mono fil3' (H x))
theorem f_s3 {a b c e : ℕ} {P : sProp 𝕄} {off : Fin 1 → ℕ} {Q : α → sProp 𝕄} {w : Vec F S16 .i32} {kk : PUnit → Prog (TpuEff nD τ sig (Elt F) Λ₀ (.scVector (cV L) (jV L))) α}
    (ho : off 0 = 16 * c) (hw : w = broadcast S16 999936#32) {hr : ∀ a, off a + S16.size a ≤ S256.size a} {h1 h2} (H : Run d L (Fil d L a b (c + 1) e P) (kk ⟨⟩) Q) :
    Run d L (Fil d L a b c e P) (.op (.store aTV (Rect.unit (s := S256) off S16.size hr) w Finset.univ h1 h2) kk) Q := Run.mono fil3 (fl_store (n := 256) ho hw (Run.mono fil3' H))
theorem f_l4 {a b c e : ℕ} {P : sProp 𝕄} {off : Fin 1 → ℕ} {Q : α → sProp 𝕄} {kl : Vec F S16 .i32 → Prog (TpuEff nD τ sig (Elt F) Λ₀ (.scVector (cV L) (jV L))) α} {hr : ∀ a, off a + S16.size a ≤ S256.size a} {h2} (H : ∀ x, Run d L (Fil d L a b c e P) (kl x) Q) :
    Run d L (Fil d L a b c e P) (.op (.load aTJ (Rect.unit (s := S256) off S16.size hr).toLoadRect h2) kl) Q := Run.mono fil4 (fl_load (n := 256) fun x => Run.mono fil4' (H x))
theorem f_s4 {a b c e : ℕ} {P : sProp 𝕄} {off : Fin 1 → ℕ} {Q : α → sProp 𝕄} {w : Vec F S16 .i32} {kk : PUnit → Prog (TpuEff nD τ sig (Elt F) Λ₀ (.scVector (cV L) (jV L))) α}
    (ho : off 0 = 16 * e) (hw : w = broadcast S16 (dumpW L)) {hr : ∀ a, off a + S16.size a ≤ S256.size a} {h1 h2} (H : Run d L (Fil d L a b c (e + 1) P) (kk ⟨⟩) Q) :
    Run d L (Fil d L a b c e P) (.op (.store aTJ (Rect.unit (s := S256) off S16.size hr) w Finset.univ h1 h2) kk) Q := Run.mono fil4 (fl_store (n := 256) ho hw (Run.mono fil4' H))

end

end Cert.Proof.Gather

end
-- ==== Proof.Chunk.lean ====
/-
  The indices, chunk by chunk, and the lists once all of them have been looked at.
-/
module

public import proofs.«01_k».proof.Proof.Fill

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F} {α : Type}

/-- The chunks' semaphores. -/
def smC (t : ℕ) : DmaSem sig := match t with
  | 0 => cc0_scoped0.sem | 1 => cc0_scoped1.sem | 2 => cc0_scoped2.sem | 3 => cc0_scoped3.sem | 4 => cc0_scoped4.sem | 5 => cc0_scoped5.sem
  | 6 => cc0_scoped6.sem | 7 => cc0_scoped7.sem | 8 => cc0_scoped8.sem | 9 => cc0_scoped9.sem | 10 => cc0_scoped10.sem | _ => cc0_scoped11.sem

/-- Chunk `t` of the indices. -/
def chunkF (G : Dat F) (t : ℕ) : S4096.Idx → BitVec 32 := fun x => BitVec.ofNat 32 (ixN G.ix (4096 * t + (x 0 : ℕ)))

def NC : ℕ := sig.dmaCredit .scVector (Kind.table .scVector .vmem) (cc0_scratch0).idx S4096 .i32
theorem NC_pos : 0 < NC := sig.dmaCredit_pos _ _ _ _ _ (by decide)

/-- A share of the indices. -/
abbrev shI (G : Dat F) : sProp 𝕄 := iprop(∃ q, (aI).view.loc (thr G.d G.L) ↦{q} (G.ix : Buf (Elt F) ((aI).view.loc (thr G.d G.L))))

abbrev sC (G : Dat F) (a b : ℕ) : sProp 𝕄 := bigSep (Finset.Ico a b) (fun s => semVal (thr G.d G.L, .dma (smC s)) 0)

abbrev cC (G : Dat F) : sProp 𝕄 := iprop(∃ f : Buf (Elt F) ((aC).view.loc (thr G.d G.L)), (aC).view.loc (thr G.d G.L) ↦{fullShare} f)

/-- The lists at the numbers under `n`. -/
def LS (G : Dat F) (n : ℕ) (pt : BitVec 32 × BitVec 32) : sProp 𝕄 :=
  iprop(∃ (f8 f9 : S1792.Idx → BitVec 32) (f10 f11 : S256.Idx → BitVec 32),
    ⌜Lists G.ix G.L n f8 f9 f10 f11 ∧ pt.1.toNat = Nat.count (pM G.ix G.L) n ∧ pt.2.toNat = Nat.count (pT G.ix G.L) n⌝
      ∗ ((aV).view.loc (thr G.d G.L) ↦{fullShare} (f8 : Buf (Elt F) ((aV).view.loc (thr G.d G.L))))
      ∗ ((aJ).view.loc (thr G.d G.L) ↦{fullShare} (f9 : Buf (Elt F) ((aJ).view.loc (thr G.d G.L))))
      ∗ ((aTV).view.loc (thr G.d G.L) ↦{fullShare} (f10 : Buf (Elt F) ((aTV).view.loc (thr G.d G.L))))
      ∗ ((aTJ).view.loc (thr G.d G.L) ↦{fullShare} (f11 : Buf (Elt F) ((aTJ).view.loc (thr G.d G.L)))))

/-- Before chunk `t`, -/
def C0 (G : Dat F) (pt : BitVec 32 × BitVec 32) (t : ℕ) (R : sProp 𝕄) : sProp 𝕄 :=
  iprop(LS G (4096 * t) pt ∗ cC G ∗ shI G ∗ sC G t 12 ∗ sC G 0 t ∗ Base G ∗ R)
/-- while it is copied, -/
def C1 (G : Dat F) (pt : BitVec 32 × BitVec 32) (t : ℕ) (R : sProp 𝕄) : sProp 𝕄 :=
  iprop(CpW G.d G.L (smC t) NC ((aC).view.loc (thr G.d G.L) ↦{fullShare} (chunkF G t : Buf (Elt F) ((aC).view.loc (thr G.d G.L)))) ∗ Base G
    ∗ LS G (4096 * t) pt ∗ shI G ∗ sC G (t + 1) 12 ∗ sC G 0 t ∗ R)
/-- and once it is there. -/
def C2 (G : Dat F) (pt : BitVec 32 × BitVec 32) (t : ℕ) (R : sProp 𝕄) : sProp 𝕄 :=
  iprop(SC G.d G.L G.ix (chunkF G t) (4096 * t) pt ∗ shI G ∗ sC G (t + 1) 12 ∗ sC G 0 (t + 1) ∗ Base G ∗ R)

theorem chunkF_toNat (hG : Ok G) {t : ℕ} (ht : t < 12) (x : S4096.Idx) : (chunkF G t x).toNat = ixN G.ix (4096 * t + (x 0 : ℕ)) := by
  have hx : (x 0 : ℕ) < 4096 := (x 0).isLt
  have := hG.fit.lt (4096 * t + (x 0 : ℕ)) (by omega)
  unfold chunkF
  rw [BitVec.toNat_ofNat]; omega

theorem sC_succ {a b : ℕ} (h : a < b) : sC G a b = iprop(semVal (thr G.d G.L, .dma (smC a)) 0 ∗ sC G (a + 1) b) := bigSep_Ico_succ h _

theorem sep_emp_eq (A B : sProp 𝕄) : iprop(A ∗ B) = iprop(A ∗ B ∗ BI.emp) := by
  have ea : iprop(A ∗ B) ⊢ iprop(A ∗ B ∗ BI.emp) := by
    iintro ⟨H, H1⟩
    isplitl [H]; · iexact H
    isplitl [H1]; · iexact H1
    iempintro
  have eb : iprop(A ∗ B ∗ BI.emp) ⊢ iprop(A ∗ B) := by
    iintro ⟨H, H1, -⟩
    isplitl [H]; · iexact H
    iexact H1
  exact BI.equiv_iff.mp ⟨ea, eb⟩

theorem sC_snoc {b : ℕ} : sC G 0 (b + 1) = iprop(sC G 0 b ∗ semVal (thr G.d G.L, .dma (smC b)) 0) := by
  unfold sC
  rw [bigSep_Ico_append (Nat.zero_le b) (Nat.le_succ b) (fun s => semVal (thr G.d G.L, .dma (smC s)) 0), bigSep_Ico_succ (Nat.lt_succ_self b)]
  rw [Finset.Ico_self, bigSep_empty]
  exact (sep_emp_eq _ _).symm

theorem k_enq {pt : BitVec 32 × BitVec 32} {t : ℕ} {R : sProp 𝕄} (hG : Ok G) (ht : t < 12) {off : Fin 1 → ℕ} (ho : off 0 = 4096 * t) {sm : DmaSem sig} (hs : sm = smC t)
    {h1 : ∀ a, off a + S4096.size a ≤ S49152.size a} {h3 h4 h5} {kk : PUnit → Prog (TpuEff nD τ sig (Elt F) Λ₀ (.scVector (cV G.L) (jV G.L))) α} {Q : α → sProp 𝕄}
    (H : Run G.d G.L (C1 G pt t R) (kk ⟨⟩) Q) :
    Run G.d G.L (C0 G pt t R) (.op (.enqueueDma (aI.slice (Rect.unit (s := S49152) off S4096.size h1) (fun _ => rfl)) (.here aC) (.dma sm) h3 h4 h5) kk) Q := by
  subst hs
  unfold C0
  have hval : ∀ f0 : Buf (Elt F) ((aC).view.loc (thr G.d G.L)), (aC).view.write (Elt F) f0 ((aI.slice (Rect.unit (s := S49152) off S4096.size h1) (fun _ => rfl)).view.read (Elt F) G.ix) Finset.univ
      = (chunkF G t : Buf (Elt F) ((aC).view.loc (thr G.d G.L))) := by
    intro f0
    funext x
    have e := View.write_emb (Val := Elt F) (v := (aC).view) f0 ((aI.slice (Rect.unit (s := S49152) off S4096.size h1) (fun _ => rfl)).view.read (Elt F) G.ix) Finset.univ x
    rw [if_pos (Finset.mem_univ _)] at e
    refine Eq.trans e ?_
    show G.ix ((Rect.unit (s := S49152) off S4096.size h1).emb x) = _
    have e2 : (((Rect.unit (s := S49152) off S4096.size h1).emb x) 0 : ℕ) = off 0 + (x 0 : ℕ) := unit_emb (n := 49152) x
    have hx : (x 0 : ℕ) < 4096 := (x 0).isLt
    unfold chunkF ixN
    rw [dif_pos (show 4096 * t + (x 0 : ℕ) < 49152 by omega), BitVec.ofNat_toNat, BitVec.setWidth_eq]
    exact congrArg G.ix (idx1_ext (by rw [e2, ho]; rfl))
  have hv : ∀ f0 : Buf (Elt F) ((aC).view.loc (thr G.d G.L)), ((aC).view.loc (thr G.d G.L) ↦[Finset.univ]{fullShare} ((aC).view.write (Elt F) f0 ((aI.slice (Rect.unit (s := S49152) off S4096.size h1) (fun _ => rfl)).view.read (Elt F) G.ix) Finset.univ) : sProp 𝕄)
      ⊢ ((aC).view.loc (thr G.d G.L) ↦{fullShare} (chunkF G t : Buf (Elt F) ((aC).view.loc (thr G.d G.L)))) := fun f0 => Entails.of_eq (by rw [hval])
  unfold Run
  rw [sC_succ ht]
  iintro ⟨HL, ⟨%f0, HC⟩, ⟨%q, HI⟩, ⟨Hs, Hss⟩, Hs', HB, HR⟩
  ihave HI' := (pointsTo_share (PosShare.mem_left_op_right q)).1 $$ HI
  icases HI' with ⟨HI, HI1⟩
  ihave HI1 := (pointsTo_split_subset (Finset.subset_univ (aI.slice (Rect.unit (s := S49152) off S4096.size h1) (fun _ => rfl)).view.set)).1 $$ HI1
  icases HI1 with ⟨HI1, -⟩
  have h0 := c_enq (d := G.d) (L := G.L) (src := aI.slice (Rect.unit (s := S49152) off S4096.size h1) (fun _ => rfl)) (dst := aC) (sm := smC t) (N := NC)
    (D := ((aC).view.loc (thr G.d G.L) ↦{fullShare} (chunkF G t : Buf (Elt F) ((aC).view.loc (thr G.d G.L))))) (q := q.right) (fs := G.ix) (f0 := f0)
    (S := Finset.univ) (R := iprop(Base G ∗ LS G (4096 * t) pt ∗ shI G ∗ sC G (t + 1) 12 ∗ sC G 0 t ∗ R)) (h3 := h3) (h4 := h4) (h5 := h5) (kk := kk) (Q := Q) rfl (Finset.subset_univ _) (hv f0) (by
      exact H)
  unfold Run at h0
  iapply h0
  isplitl [HI1]; · iexact HI1
  isplitl [HC]; · iexact HC
  isplitl [Hs]; · iexact Hs
  isplitl [HB]; · iexact HB
  isplitl [HL]; · iexact HL
  isplitl [HI]; · iexists _; iexact HI
  isplitl [Hss]; · iexact Hss
  isplitl [Hs']; · iexact Hs'
  iexact HR

theorem k_wait {pt : BitVec 32 × BitVec 32} {t : ℕ} {R : sProp 𝕄} {sm : DmaSem sig} (hs : sm = smC t)
    {sp sp' : Space} {s s' : Shape} {e e' : EltTy} {κ' : Kind} {srcw : Memref sig .scVector sp' s' e'}
    {dstw : Memref sig κ' sp s e} (hN : dstw.view.dmaCredit = NC) {h1 h2} {kk : PUnit → Prog (TpuEff nD τ sig (Elt F) Λ₀ (.scVector (cV G.L) (jV G.L))) α} {Q : α → sProp 𝕄}
    (H : Run G.d G.L (C2 G pt t R) (kk ⟨⟩) Q) :
    Run G.d G.L (C1 G pt t R) (.op (.waitDma2 sm srcw dstw h1 h2) kk) Q := by
  subst hs
  refine c_wait (N := NC) hN NC_pos (Run.mono ?_ H)
  unfold C2 LS SC
  rw [sC_snoc]
  iintro ⟨HC, Hs, HB, ⟨%f8, %f9, %f10, %f11, %hp, H1, H2, H3, H4⟩, HI, Hss, Hs', HR⟩
  isplitl [HC H1 H2 H3 H4]
  · iexists f8, f9, f10, f11
    isplitr; · ipureintro; exact hp
    isplitl [HC]; · iexact HC
    isplitl [H1]; · iexact H1
    isplitl [H2]; · iexact H2
    isplitl [H3]; · iexact H3
    iexact H4
  isplitl [HI]; · iexact HI
  isplitl [Hss]; · iexact Hss
  isplitl [Hs Hs']
  · isplitl [Hs']; · iexact Hs'
    iexact Hs
  isplitl [HB]; · iexact HB
  iexact HR

theorem iv_toNat {k : ℕ} (hk : k < 4294967296) : (Scf.iv (0#32) (1#32) k).toNat = k := by
  unfold Scf.iv
  rw [BitVec.toNat_add, BitVec.toNat_mul, BitVec.toNat_ofNat, BitVec.toNat_ofNat, BitVec.toNat_ofNat]
  omega

theorem scan_off {k : ℕ} (hk : k < 256) : (Scalar.indexCast (Scalar.muli (Scf.iv 0#32 1#32 k) 16#32)).toNat = 16 * k := by
  show (Scf.iv (0#32) (1#32) k * 16#32).toNat = _
  rw [BitVec.toNat_mul, iv_toNat (by omega), BitVec.toNat_ofNat]
  omega

/-- The sixteens of a chunk. -/
theorem k_loop {pos tpos : BitVec 32} {t : ℕ} {R : sProp 𝕄} (hG : Ok G) (ht : t < 12) {l : Scf.Loop 32} {hok : l.OK} (hl : l.trips = 256) {jb : BitVec 32} (hjb : jb.toNat = 4096 * t)
    {body : Fin l.trips → BitVec 32 × BitVec 32 → Prog (TpuEff nD τ sig (Elt F) Λ₀ (.scVector (cV G.L) (jV G.L))) (BitVec 32 × BitVec 32)}
    (hbody : ∀ k p q, ∃ off hoff, body k (p, q) = scanProg G.L jb (Scf.iv 0#32 1#32 k.val) p q off hoff ∧ off 0 = (Scalar.indexCast (Scalar.muli (Scf.iv 0#32 1#32 k.val) 16#32)).toNat)
    {kk : BitVec 32 × BitVec 32 → Prog (TpuEff nD τ sig (Elt F) Λ₀ (.scVector (cV G.L) (jV G.L))) α} {Q : α → sProp 𝕄}
    (H : ∀ p q, Run G.d G.L (C0 G (p, q) (t + 1) R) (kk (p, q)) Q) :
    Run G.d G.L (C2 G (pos, tpos) t R) (Scf.Loop.for l hok (pos, tpos) body >>= kk) Q := by
  unfold Run at H ⊢
  unfold C2
  iintro ⟨HS, HR⟩
  have hb : ∀ (k : Fin l.trips) (acc : BitVec 32 × BitVec 32), SC (F := F) G.d G.L G.ix (chunkF G t) (4096 * t + 16 * k.val) acc
      ⊢ wp frame (wpE (defs₀ (F := F)) 𝒱₀ (thr G.d G.L) none) Set.univ (body k acc) (SC G.d G.L G.ix (chunkF G t) (4096 * t + 16 * (k.val + 1))) := by
    rintro k ⟨p, q⟩
    have hk : k.val < 256 := hl ▸ k.isLt
    obtain ⟨off, hoff, e, ho⟩ := hbody k p q
    rw [e, show 4096 * t + 16 * (k.val + 1) = 4096 * t + 16 * k.val + 16 by omega]
    exact run_scan (F := F) G.d G.L hG.fit hk ht (chunkF_toNat hG ht) hjb (iv_toNat (by omega)) (ho.trans (scan_off hk))
  iapply (Scf.wp_for_bind frame (wpE (defs₀ (F := F)) 𝒱₀ (thr G.d G.L) none) Set.univ l.lb l.ub l.st hok (pos, tpos) body
    (fun k acc => SC (F := F) G.d G.L G.ix (chunkF G t) (4096 * t + 16 * k) acc) hb) $$ [HS]
  · rw [Nat.mul_zero, Nat.add_zero]; iexact HS
  iintro %acc HS
  have H' := H acc.1 acc.2
  iapply H'
  unfold C0 LS
  have e : 4096 * t + 16 * Scf.trips l.lb l.ub l.st = 4096 * (t + 1) := by
    have h2 : Scf.trips l.lb l.ub l.st = 256 := hl
    rw [h2]; omega
  rw [e]
  unfold SC
  icases HS with ⟨%f8, %f9, %f10, %f11, %hp, HC, H1, H2, H3, H4⟩
  icases HR with ⟨HI, Hss, Hs', HB, HR⟩
  isplitl [H1 H2 H3 H4]
  · iexists f8, f9, f10, f11
    isplitr; · ipureintro; exact hp
    isplitl [H1]; · iexact H1
    isplitl [H2]; · iexact H2
    isplitl [H3]; · iexact H3
    iexact H4
  isplitl [HC]; · iexists _; iexact HC
  isplitl [HI]; · iexact HI
  isplitl [Hss]; · iexact Hss
  isplitl [Hs']; · iexact Hs'
  isplitl [HB]; · iexact HB
  iexact HR

/-- A step that is over. -/
theorem Run.over {d : Dev nD} {L : grid0.Coords} {β γ : Type} {I : sProp 𝕄} {x : α} {k0 : α → Prog (TpuEff nD τ sig (Elt F) Λ₀ (.scVector (cV L) (jV L))) β} {k1 : β → Prog (TpuEff nD τ sig (Elt F) Λ₀ (.scVector (cV L) (jV L))) γ} {Q : γ → sProp 𝕄}
    (h : Run (F := F) d L I ((k0 x).bind k1) Q) : Run (F := F) d L I (((Prog.ret x).bind k0).bind k1) Q := h

/-- The same where more of the part follows. -/
theorem k_loop2 {β : Type} {pos tpos : BitVec 32} {t : ℕ} {R : sProp 𝕄} (hG : Ok G) (ht : t < 12) {l : Scf.Loop 32} {hok : l.OK} (hl : l.trips = 256)
    {body : Fin l.trips → BitVec 32 × BitVec 32 → Prog (TpuEff nD τ sig (Elt F) Λ₀ (.scVector (cV G.L) (jV G.L))) (BitVec 32 × BitVec 32)}
    (hbody : ∀ k p q, ∃ off hoff, body k (p, q) = scanProg G.L (BitVec.ofNat 32 (4096 * t)) (Scf.iv 0#32 1#32 k.val) p q off hoff ∧ off 0 = (Scalar.indexCast (Scalar.muli (Scf.iv 0#32 1#32 k.val) 16#32)).toNat)
    {k0 : BitVec 32 × BitVec 32 → Prog (TpuEff nD τ sig (Elt F) Λ₀ (.scVector (cV G.L) (jV G.L))) β} {kk : β → Prog (TpuEff nD τ sig (Elt F) Λ₀ (.scVector (cV G.L) (jV G.L))) α} {Q : α → sProp 𝕄}
    (H : ∀ p q, Run G.d G.L (C0 G (p, q) (t + 1) R) (k0 (p, q) >>= kk) Q) :
    Run G.d G.L (C2 G (pos, tpos) t R) ((Scf.Loop.for l hok (pos, tpos) body >>= k0) >>= kk) Q := by
  have e : ((Scf.Loop.for l hok (pos, tpos) body >>= k0) >>= kk) = (Scf.Loop.for l hok (pos, tpos) body >>= fun r => (k0 r >>= kk)) := Prog.bind_assoc _ _ _
  rw [e]
  exact k_loop hG ht hl (by rw [BitVec.toNat_ofNat]; omega) hbody H

/-! ## The lists' last sixteen places, which the numbers that were not of the tile's share went to -/

/-- The tile's list: rows of its block, and the result's rows they go to. -/
def vW (G : Dat F) (s : ℕ) : BitVec 32 := if s < cntM G then valV G.ix G.L (nthOf (pM G.ix G.L) s) else 0#32
def jW (G : Dat F) (s : ℕ) : BitVec 32 := if s < cntM G then valJ (nthOf (pM G.ix G.L) s) else dumpW G.L

abbrev vP (G : Dat F) : sProp 𝕄 := ((aV).view.loc (thr G.d G.L) ↦{fullShare} ((fun i : S1792.Idx => vW G (i 0)) : Buf (Elt F) ((aV).view.loc (thr G.d G.L))) : sProp 𝕄)
abbrev jP (G : Dat F) : sProp 𝕄 := ((aJ).view.loc (thr G.d G.L) ↦{fullShare} ((fun i : S1792.Idx => jW G (i 0)) : Buf (Elt F) ((aJ).view.loc (thr G.d G.L))) : sProp 𝕄)

/-- A list all of whose numbers have been looked at, but whose last sixteen places are not yet right. -/
abbrev Raw (G : Dat F) {n : ℕ} (m : Memref sig .scVector .vmem (V1 n) .i32) (p : ℕ → Prop) [DecidablePred p] (val : ℕ → BitVec 32) (dflt : BitVec 32) : sProp 𝕄 :=
  iprop(∃ f : Buf (Elt F) (m.view.loc (thr G.d G.L)), ⌜LI n p 49152 val dflt (m.view.read (Elt F) f)⌝ ∗ m.view.loc (thr G.d G.L) ↦{fullShare} f)

/-- The four lists, and the rest. -/
def Res (A B C E P : sProp 𝕄) : sProp 𝕄 := iprop(A ∗ B ∗ C ∗ E ∗ P)

abbrev rV (G : Dat F) : sProp 𝕄 := Raw G (n := 1792) aV (pM G.ix G.L) (valV G.ix G.L) 0#32
abbrev rJ (G : Dat F) : sProp 𝕄 := Raw G (n := 1792) aJ (pM G.ix G.L) valJ (dumpW G.L)
abbrev rTV (G : Dat F) : sProp 𝕄 := Raw G (n := 256) aTV (pT G.ix G.L) (valT G.ix) 999936#32
abbrev rTJ (G : Dat F) : sProp 𝕄 := Raw G (n := 256) aTJ (pT G.ix G.L) valJ (dumpW G.L)

theorem raw_load {n : ℕ} {m : Memref sig .scVector .vmem (V1 n) .i32} {p : ℕ → Prop} [DecidablePred p] {val : ℕ → BitVec 32} {dflt : BitVec 32} {off : Fin 1 → ℕ}
    {hr : ∀ a, off a + S16.size a ≤ (V1 n).size a} {h2} {R : sProp 𝕄}
    {kk : Vec F S16 .i32 → Prog (TpuEff nD τ sig (Elt F) Λ₀ (.scVector (cV G.L) (jV G.L))) α} {Q : α → sProp 𝕄}
    (H : ∀ x, Run G.d G.L iprop(Raw G m p val dflt ∗ R) (kk x) Q) :
    Run G.d G.L iprop(Raw G m p val dflt ∗ R) (.op (.load m (Rect.unit (s := V1 n) off S16.size hr).toLoadRect h2) kk) Q := by
  unfold Run
  iintro ⟨⟨%f, %hf, Hm⟩, HR⟩
  have h0 : Run (F := F) G.d G.L iprop((m.view.loc (thr G.d G.L) ↦{fullShare} f) ∗ R) (.op (.load m (Rect.unit (s := V1 n) off S16.size hr).toLoadRect h2) kk) Q := by
    refine g_load fun x => ?_
    have H' := H x
    unfold Run at H' ⊢
    iintro ⟨Hm, HR⟩
    iapply H'
    isplitl [Hm]
    · iexists f
      isplitr; · ipureintro; exact hf
      iexact Hm
    iexact HR
  unfold Run at h0
  iapply h0
  isplitl [Hm]; · iexact Hm
  iexact HR

theorem raw_store {n : ℕ} {m : Memref sig .scVector .vmem (V1 n) .i32} {p : ℕ → Prop} [DecidablePred p] {val : ℕ → BitVec 32} {dflt : BitVec 32} {off : Fin 1 → ℕ}
    (ho : off 0 = n - 16) (hn : 16 ≤ n) (hc : Nat.count p 49152 ≤ n - 16)
    {hr : ∀ a, off a + S16.size a ≤ (V1 n).size a} {w : Vec F S16 .i32} (hw : w = broadcast S16 dflt) {h1 h2} {R A : sProp 𝕄}
    (hA : ∀ f : Buf (Elt F) (m.view.loc (thr G.d G.L)), LF n p 49152 val dflt (m.view.read (Elt F) f) → (m.view.loc (thr G.d G.L) ↦{fullShare} f : sProp 𝕄) ⊢ A)
    {kk : PUnit → Prog (TpuEff nD τ sig (Elt F) Λ₀ (.scVector (cV G.L) (jV G.L))) α} {Q : α → sProp 𝕄}
    (H : Run G.d G.L iprop(A ∗ R) (kk ⟨⟩) Q) :
    Run G.d G.L iprop(Raw G m p val dflt ∗ R) (.op (.store m (Rect.unit (s := V1 n) off S16.size hr) w Finset.univ h1 h2) kk) Q := by
  unfold Run
  iintro ⟨⟨%f, %hf, Hm⟩, HR⟩
  have h0 : Run (F := F) G.d G.L iprop((m.view.loc (thr G.d G.L) ↦{fullShare} f) ∗ R) (.op (.store m (Rect.unit (s := V1 n) off S16.size hr) w Finset.univ h1 h2) kk) Q := by
    refine g_store ho hw fun g hg hg' => ?_
    have hL : LF n p 49152 val dflt (m.view.read (Elt F) g) := LF.of_LI hf hc (fun i hi => hg i (.inl hi))
      (fun i hi => hg' i hi (by have hi' : (i 0 : ℕ) < n := (i 0).isLt; omega))
    have hA' := hA g hL
    unfold Run at H ⊢
    iintro ⟨Hm, HR⟩
    iapply H
    isplitl [Hm]
    · iapply hA'; iexact Hm
    iexact HR
  unfold Run at h0
  iapply h0
  isplitl [Hm]; · iexact Hm
  iexact HR

theorem res2 {A B C : sProp 𝕄} : iprop(A ∗ B ∗ C) ⊢ iprop(B ∗ A ∗ C) := rot
theorem res3 {A B C E : sProp 𝕄} : iprop(A ∗ B ∗ C ∗ E) ⊢ iprop(C ∗ A ∗ B ∗ E) := by
  iintro ⟨H1, H2, H3, H4⟩
  isplitl [H3]; · iexact H3
  isplitl [H1]; · iexact H1
  isplitl [H2]; · iexact H2
  iexact H4
theorem res3' {A B C E : sProp 𝕄} : iprop(C ∗ A ∗ B ∗ E) ⊢ iprop(A ∗ B ∗ C ∗ E) := by
  iintro ⟨H3, H1, H2, H4⟩
  isplitl [H1]; · iexact H1
  isplitl [H2]; · iexact H2
  isplitl [H3]; · iexact H3
  iexact H4
theorem res4 {A B C E P : sProp 𝕄} : iprop(A ∗ B ∗ C ∗ E ∗ P) ⊢ iprop(E ∗ A ∗ B ∗ C ∗ P) := by
  iintro ⟨H1, H2, H3, H4, H5⟩
  isplitl [H4]; · iexact H4
  isplitl [H1]; · iexact H1
  isplitl [H2]; · iexact H2
  isplitl [H3]; · iexact H3
  iexact H5
theorem res4' {A B C E P : sProp 𝕄} : iprop(E ∗ A ∗ B ∗ C ∗ P) ⊢ iprop(A ∗ B ∗ C ∗ E ∗ P) := by
  iintro ⟨H4, H1, H2, H3, H5⟩
  isplitl [H1]; · iexact H1
  isplitl [H2]; · iexact H2
  isplitl [H3]; · iexact H3
  isplitl [H4]; · iexact H4
  iexact H5

theorem r_l1 {B C E P : sProp 𝕄} {off : Fin 1 → ℕ} {hr : ∀ a, off a + S16.size a ≤ S1792.size a} {h2} {kl : Vec F S16 .i32 → Prog (TpuEff nD τ sig (Elt F) Λ₀ (.scVector (cV G.L) (jV G.L))) α} {Q : α → sProp 𝕄}
    (H : ∀ x, Run G.d G.L (Res (rV G) B C E P) (kl x) Q) :
    Run G.d G.L (Res (rV G) B C E P) (.op (.load aV (Rect.unit (s := S1792) off S16.size hr).toLoadRect h2) kl) Q := raw_load (n := 1792) H
theorem r_s1 {B C E P : sProp 𝕄} {off : Fin 1 → ℕ} {hr : ∀ a, off a + S16.size a ≤ S1792.size a} {h1 h2} {w : Vec F S16 .i32} {kk : PUnit → Prog (TpuEff nD τ sig (Elt F) Λ₀ (.scVector (cV G.L) (jV G.L))) α} {Q : α → sProp 𝕄}
    (hG : Ok G) (ho : off 0 = 1776) (hw : w = broadcast S16 0#32) (H : Run G.d G.L (Res (vP G) B C E P) (kk ⟨⟩) Q) :
    Run G.d G.L (Res (rV G) B C E P) (.op (.store aV (Rect.unit (s := S1792) off S16.size hr) w Finset.univ h1 h2) kk) Q :=
  raw_store (n := 1792) ho (by decide) (hG.fit.m.trans (by decide)) hw (fun f hf => by
    have e : f = (fun i : S1792.Idx => vW G (i 0)) := funext fun i => by
      rw [vW, cntM_eq]; exact hf i
    rw [e]) H

theorem r_l2 {A C E P : sProp 𝕄} {off : Fin 1 → ℕ} {hr : ∀ a, off a + S16.size a ≤ S1792.size a} {h2} {kl : Vec F S16 .i32 → Prog (TpuEff nD τ sig (Elt F) Λ₀ (.scVector (cV G.L) (jV G.L))) α} {Q : α → sProp 𝕄}
    (H : ∀ x, Run G.d G.L (Res A (rJ G) C E P) (kl x) Q) :
    Run G.d G.L (Res A (rJ G) C E P) (.op (.load aJ (Rect.unit (s := S1792) off S16.size hr).toLoadRect h2) kl) Q := Run.mono res2 (raw_load (n := 1792) fun x => Run.mono res2 (H x))
theorem r_s2 {A C E P : sProp 𝕄} {off : Fin 1 → ℕ} {hr : ∀ a, off a + S16.size a ≤ S1792.size a} {h1 h2} {w : Vec F S16 .i32} {kk : PUnit → Prog (TpuEff nD τ sig (Elt F) Λ₀ (.scVector (cV G.L) (jV G.L))) α} {Q : α → sProp 𝕄}
    (hG : Ok G) (ho : off 0 = 1776) (hw : w = broadcast S16 (dumpW G.L)) (H : Run G.d G.L (Res A (jP G) C E P) (kk ⟨⟩) Q) :
    Run G.d G.L (Res A (rJ G) C E P) (.op (.store aJ (Rect.unit (s := S1792) off S16.size hr) w Finset.univ h1 h2) kk) Q :=
  Run.mono res2 (raw_store (n := 1792) ho (by decide) (hG.fit.m.trans (by decide)) hw (fun f hf => by
    have e : f = (fun i : S1792.Idx => jW G (i 0)) := funext fun i => by
      rw [jW, cntM_eq]; exact hf i
    rw [e]) (Run.mono res2 H))

theorem r_l3 {A B E P : sProp 𝕄} {off : Fin 1 → ℕ} {hr : ∀ a, off a + S16.size a ≤ S256.size a} {h2} {kl : Vec F S16 .i32 → Prog (TpuEff nD τ sig (Elt F) Λ₀ (.scVector (cV G.L) (jV G.L))) α} {Q : α → sProp 𝕄}
    (H : ∀ x, Run G.d G.L (Res A B (rTV G) E P) (kl x) Q) :
    Run G.d G.L (Res A B (rTV G) E P) (.op (.load aTV (Rect.unit (s := S256) off S16.size hr).toLoadRect h2) kl) Q := Run.mono res3 (raw_load (n := 256) fun x => Run.mono res3' (H x))
theorem r_s3 {A B E P : sProp 𝕄} {off : Fin 1 → ℕ} {hr : ∀ a, off a + S16.size a ≤ S256.size a} {h1 h2} {w : Vec F S16 .i32} {kk : PUnit → Prog (TpuEff nD τ sig (Elt F) Λ₀ (.scVector (cV G.L) (jV G.L))) α} {Q : α → sProp 𝕄}
    (hG : Ok G) (ho : off 0 = 240) (hw : w = broadcast S16 999936#32) (H : Run G.d G.L (Res A B (tvP G) E P) (kk ⟨⟩) Q) :
    Run G.d G.L (Res A B (rTV G) E P) (.op (.store aTV (Rect.unit (s := S256) off S16.size hr) w Finset.univ h1 h2) kk) Q :=
  Run.mono res3 (raw_store (n := 256) ho (by decide) (hG.fit.t.trans (by decide)) hw (fun f hf => by
    have e : f = (fun i : S256.Idx => tvW G (i 0)) := funext fun i => by
      rw [tvW, cntT_eq]; exact hf i
    rw [e]) (Run.mono res3' H))

theorem r_l4 {A B C P : sProp 𝕄} {off : Fin 1 → ℕ} {hr : ∀ a, off a + S16.size a ≤ S256.size a} {h2} {kl : Vec F S16 .i32 → Prog (TpuEff nD τ sig (Elt F) Λ₀ (.scVector (cV G.L) (jV G.L))) α} {Q : α → sProp 𝕄}
    (H : ∀ x, Run G.d G.L (Res A B C (rTJ G) P) (kl x) Q) :
    Run G.d G.L (Res A B C (rTJ G) P) (.op (.load aTJ (Rect.unit (s := S256) off S16.size hr).toLoadRect h2) kl) Q := Run.mono res4 (raw_load (n := 256) fun x => Run.mono res4' (H x))
theorem r_s4 {A B C P : sProp 𝕄} {off : Fin 1 → ℕ} {hr : ∀ a, off a + S16.size a ≤ S256.size a} {h1 h2} {w : Vec F S16 .i32} {kk : PUnit → Prog (TpuEff nD τ sig (Elt F) Λ₀ (.scVector (cV G.L) (jV G.L))) α} {Q : α → sProp 𝕄}
    (hG : Ok G) (ho : off 0 = 240) (hw : w = broadcast S16 (dumpW G.L)) (H : Run G.d G.L (Res A B C (tjP G) P) (kk ⟨⟩) Q) :
    Run G.d G.L (Res A B C (rTJ G) P) (.op (.store aTJ (Rect.unit (s := S256) off S16.size hr) w Finset.univ h1 h2) kk) Q :=
  Run.mono res4 (raw_store (n := 256) ho (by decide) (hG.fit.t.trans (by decide)) hw (fun f hf => by
    have e : f = (fun i : S256.Idx => tjW G (i 0)) := funext fun i => by
      rw [tjW, cntT_eq]; exact hf i
    rw [e]) (Run.mono res4' H))

/-! ## From one stage to the next -/

/-- What the tail's copies work with, besides its lists, -/
def Tl (G : Dat F) : sProp 𝕄 :=
  iprop(emptyRows G 0 256 ∗ shareOf G aTA (cTA G) ∗ semVal (thr G.d G.L, .dma cc0_scratch9.sem) 0
    ∗ semVal (thr G.d G.L, .dma cc0_scratch10.sem) 0 ∗ tok G fullShare ∗ rowsOf G (tailX G) 0 0 256 G.o0
    ∗ dumpInv G ∗ shareOf G aTB (cTB G) ∗ rowsOf G (tailX G) 1 0 256 G.o0)

/-- what is ready before the indices are read, -/
def Ini (G : Dat F) (R : sProp 𝕄) : sProp 𝕄 := iprop(cC G ∗ shI G ∗ sC G 0 12 ∗ Base G ∗ Tl G ∗ R)

/-- and what is left for the tile's own rows. -/
def RM (G : Dat F) (R : sProp 𝕄) : sProp 𝕄 := iprop(vP G ∗ jP G ∗ cC G ∗ shI G ∗ sC G 0 12 ∗ R)

theorem Run.assoc {d : Dev nD} {L : grid0.Coords} {β γ : Type} {I : sProp 𝕄} {p : Prog (TpuEff nD τ sig (Elt F) Λ₀ (.scVector (cV L) (jV L))) α} {k0 : α → Prog (TpuEff nD τ sig (Elt F) Λ₀ (.scVector (cV L) (jV L))) β} {k1 : β → Prog (TpuEff nD τ sig (Elt F) Λ₀ (.scVector (cV L) (jV L))) γ} {Q : γ → sProp 𝕄}
    (h : Run (F := F) d L I (p >>= fun r => (k0 r >>= k1)) Q) : Run (F := F) d L I ((p >>= k0) >>= k1) Q := by
  have e : ((p >>= k0) >>= k1) = (p >>= fun r => (k0 r >>= k1)) := Prog.bind_assoc _ _ _
  rw [e]
  exact h

theorem k_start {R : sProp 𝕄} {a b c e : ℕ} (ha : a = 112) (hb : b = 112) (hc : c = 16) (he : e = 16) {p : Prog (TpuEff nD τ sig (Elt F) Λ₀ (.scVector (cV G.L) (jV G.L))) α} {Q : α → sProp 𝕄}
    (H : Run G.d G.L (C0 G (0#32, 0#32) 0 iprop(Tl G ∗ R)) p Q) : Run G.d G.L (Fil G.d G.L a b c e (Ini G R)) p Q := by
  subst ha hb hc he
  refine Run.mono ?_ H
  unfold Fil Fl Ini C0 LS
  iintro ⟨⟨%f8, %h8, H8⟩, ⟨%f9, %h9, H9⟩, ⟨%f10, %h10, H10⟩, ⟨%f11, %h11, H11⟩, HC, HI, Hs, HB, HR⟩
  have hli : ∀ {n : ℕ} {v : BitVec 32} {m : ℕ} {p : ℕ → Prop} [DecidablePred p] {val : ℕ → BitVec 32} {f : (V1 n).Idx → BitVec 32}, n = 16 * m → (∀ x : (V1 n).Idx, (x 0 : ℕ) < 16 * m → f x = v) → LI n p 0 val v f := by
    intro n v m p _ val f hn hf i hi
    rw [Nat.count_zero, if_neg (Nat.not_lt_zero _)]
    exact hf i (by omega)
  isplitl [H8 H9 H10 H11]
  · iexists f8, f9, f10, f11
    isplitr
    · ipureintro
      refine ⟨⟨hli (m := 112) rfl h8, hli (m := 112) rfl h9, hli (m := 16) rfl h10, hli (m := 16) rfl h11⟩, ?_, ?_⟩
      · rw [Nat.mul_zero, Nat.count_zero]; rfl
      · rw [Nat.mul_zero, Nat.count_zero]; rfl
    isplitl [H8]; · iexact H8
    isplitl [H9]; · iexact H9
    isplitl [H10]; · iexact H10
    iexact H11
  isplitl [HC]; · iexact HC
  isplitl [HI]; · iexact HI
  isplitl [Hs]; · iexact Hs
  isplitr [HB HR]; · rw [sC, Finset.Ico_self, bigSep_empty]; iempintro
  isplitl [HB]; · iexact HB
  iexact HR

theorem k_end {pt : BitVec 32 × BitVec 32} {R : sProp 𝕄} {p : Prog (TpuEff nD τ sig (Elt F) Λ₀ (.scVector (cV G.L) (jV G.L))) α} {Q : α → sProp 𝕄}
    (H : Run G.d G.L (Res (rV G) (rJ G) (rTV G) (rTJ G) iprop(cC G ∗ shI G ∗ sC G 0 12 ∗ Base G ∗ R)) p Q) : Run G.d G.L (C0 G pt 12 R) p Q := by
  refine Run.mono ?_ H
  unfold Res C0 LS
  iintro ⟨⟨%f8, %f9, %f10, %f11, %hp, H8, H9, H10, H11⟩, HC, HI, -, Hs, HB, HR⟩
  obtain ⟨hL, -, -⟩ := hp
  isplitl [H8]
  · iexists f8
    isplitr; · ipureintro; exact hL.v
    iexact H8
  isplitl [H9]
  · iexists f9
    isplitr; · ipureintro; exact hL.j
    iexact H9
  isplitl [H10]
  · iexists f10
    isplitr; · ipureintro; exact hL.tv
    iexact H10
  isplitl [H11]
  · iexists f11
    isplitr; · ipureintro; exact hL.tj
    iexact H11
  isplitl [HC]; · iexact HC
  isplitl [HI]; · iexact HI
  isplitl [Hs]; · iexact Hs
  isplitl [HB]; · iexact HB
  iexact HR

theorem k_tail {R : sProp 𝕄} {p : Prog (TpuEff nD τ sig (Elt F) Λ₀ (.scVector (cV G.L) (jV G.L))) α} {Q : α → sProp 𝕄}
    (H : Run G.d G.L (TI G aTA (cTA G) 0 0 (PA G (RM G R))) p Q) :
    Run G.d G.L (Res (vP G) (jP G) (tvP G) (tjP G) iprop(cC G ∗ shI G ∗ sC G 0 12 ∗ Base G ∗ Tl G ∗ R)) p Q := by
  refine Run.mono ?_ H
  unfold Res Tl TI PA RM
  iintro ⟨Hv, Hj, Htv, Htj, HC, HI, Hs, HB, ⟨He, HA, Hs9, Hs10, Ht, Hr0, Hi, HTB, Hr1⟩, HR⟩
  isplitl [Htv]; · iexact Htv
  isplitl [Htj]; · iexact Htj
  isplitl [He]; · iexact He
  isplitl [HA]; · iexact HA
  isplitl [Hs9]; · iexact Hs9
  isplitl [Hs10]; · iexact Hs10
  isplitl [Ht]; · iexact Ht
  isplitl [Hr0]; · iexact Hr0
  isplitr [Hv Hj HC HI Hs HB Hi HTB Hr1 HR]; · rw [Nat.mul_zero, rowsOf, Finset.Ico_self, bigSep_empty]; iempintro
  isplitl [Hi]; · iexact Hi
  isplitl [HB]; · iexact HB
  isplitl [HTB]; · iexact HTB
  isplitl [Hr1]; · iexact Hr1
  isplitl [Hv]; · iexact Hv
  isplitl [Hj]; · iexact Hj
  isplitl [HC]; · iexact HC
  isplitl [HI]; · iexact HI
  isplitl [Hs]; · iexact Hs
  iexact HR

end

end Cert.Proof.Gather

end
-- ==== Proof.PartZ.lean ====
/-
  The first part of the body: the lists filled, the indices looked at, and the tail's first rows.
-/
module

public import proofs.«01_k».proof.Proof.Chunk

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F} {α : Type}

set_option maxRecDepth 100000
set_option maxHeartbeats 4000000
attribute [local irreducible] Run ISt IWt OSt OWt TI PA PB Fil C0 C1 C2 Res Ini

theorem run_25 {R : sProp 𝕄} {kk : _ → Prog (TpuEff nD τ sig (Elt F) Λ₀ (.scVector (cV G.L) (jV G.L))) α} {Q : α → sProp 𝕄}
    (K : Run G.d G.L (Fil G.d G.L 2 2 0 0 R) (kk ⟨loW G.L, hiW G.L, a0W G.L, dumpW G.L, lanes16, 0#32⟩) Q) :
    Run G.d G.L (Fil G.d G.L 0 0 0 0 R) (k0_part25 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 >>= kk) Q := by
  refine Run.cut fun k₁ h₁ => ?_
  unfold k0_part25
  repeat first
      | refine f_l1 fun x => ?_
      | refine f_s1 rfl rfl ?_
      | refine f_l2 fun x => ?_
      | refine f_s2 rfl rfl ?_
      | refine f_l3 fun x => ?_
      | refine f_s3 rfl rfl ?_
      | refine f_l4 fun x => ?_
      | refine f_s4 rfl rfl ?_
  refine h₁ _ _ ?_
  exact K

end

section
variable [FloatOps F] {G : Dat F} {α : Type}

set_option maxRecDepth 100000
set_option maxHeartbeats 4000000
attribute [local irreducible] Run ISt IWt OSt OWt TI PA PB Fil C0 C1 C2 Res dumpW Ini

theorem run_426 (hG : Ok G) {R : sProp 𝕄} {kk : _ → Prog (TpuEff nD τ sig (Elt F) Λ₀ (.scVector (cV G.L) (jV G.L))) α} {Q : α → sProp 𝕄}
    (K : ∀ tv tj, TvAt G 3 tv → TjAt G 3 tj → ∀ (h121 : k0_chk121 (gl tv 0 slices_S16_o0_S1)) (h122 : k0_chk122 (gl tv 1 slices_S16_o1_S1)) (h123 : k0_chk123 (gl tv 2 slices_S16_o2_S1)) (h124 : k0_chk124 (gl tv 3 slices_S16_o3_S1)),
      Run G.d G.L (ISt G aTA (G.t 0) (cTA G) 3 3 (RI G 0 3 (PA G (RM G R)))) (kk ⟨lanes16, tv, tj, gl tv 0 slices_S16_o0_S1, h121, gl tv 1 slices_S16_o1_S1, h122, gl tv 2 slices_S16_o2_S1, h123, gl tv 3 slices_S16_o3_S1, h124⟩) Q) :
    Run G.d G.L (Fil G.d G.L 0 0 0 0 (Ini G R))
      (k0_part426 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 >>= kk) Q := by
  refine Run.cut fun k₁ h₁ => ?_
  unfold k0_part426
  have hA := holdsA (G := G)
  have hB := holdsB (G := G)
  refine Run.cut2 fun kk hkk => ?_
  refine run_25 ?_
  refine hkk _ _ ?_
  clear hkk kk
  repeat
    refine Run.cut2 fun kk hkk => ?_
    repeat first
      | refine f_l1 fun x => ?_
      | refine f_s1 rfl rfl ?_
      | refine f_l2 fun x => ?_
      | refine f_s2 rfl rfl ?_
      | refine f_l3 fun x => ?_
      | refine f_s3 rfl rfl ?_
      | refine f_l4 fun x => ?_
      | refine f_s4 rfl rfl ?_
      | refine k_start (by rfl) (by rfl) (by rfl) (by rfl) ?_
      | refine s_iwait0 ?_
      | refine a_in hG htv (by decide) (by first | exact fun h => h | exact fun h => ⟨h.1, h.2, h.2⟩) fun hc => ?_
      | refine t_ienq hG hA htv (by decide) rfl rfl ?_
      | refine s_iwait (by decide) (by rfl) ?_
      | refine t_ilast (by decide) (by rfl) ?_
      | refine s_owait0 ?_
      | refine a_out (by decide) htj (by decide) (hb' := 0#32) rfl (by first | exact fun h => h | exact fun h => ⟨h.1, h.2, h.2⟩) fun hc => ?_
      | refine t_oenq hG (by decide) htj (by decide) (hb' := 0#32) rfl rfl rfl ?_
      | refine s_owait (by decide) (by rfl) ?_
      | refine t_olast (by decide) (by rfl) ?_
      | refine s_tv rfl fun tv htv => ?_
      | refine s_tj (h := 0) (ct := G.t 0) (by decide) rfl fun tj htj => ?_
      | (refine k_enq hG ?_ ?_ ?_ ?_; (· decide); (· rfl); (· rfl))
      | (refine k_wait ?_ ?_ ?_; (· rfl); (· rfl))
      | (refine Run.over ?_; refine k_loop2 hG ?_ ?_ ?_ ?_; (· decide); (· decide); (· exact fun k p q => ⟨_, _, rfl, rfl⟩); intro pos tpos)
      | (refine k_loop2 hG ?_ ?_ ?_ ?_; (· decide); (· decide); (· exact fun k p q => ⟨_, _, rfl, rfl⟩); intro pos tpos)
      | refine r_l1 fun x => ?_
      | refine r_s1 hG rfl rfl ?_
      | refine r_l2 fun x => ?_
      | refine r_s2 hG rfl rfl ?_
      | refine r_l3 fun x => ?_
      | refine r_s3 hG rfl rfl ?_
      | refine r_l4 fun x => ?_
      | refine r_s4 hG rfl rfl ?_
      | refine k_end ?_
      | refine k_tail ?_
    refine hkk _ _ ?_
    clear hkk kk
  refine h₁ _ _ ?_
  exact K _ _ htv htj _ _ _ _

end

end Cert.Proof.Gather

end
-- ==== Proof.PartsA.lean ====
/-
  The tail's groups, part by part.
-/
module

public import proofs.«01_k».proof.Proof.Parts

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F} {α : Type}

set_option maxRecDepth 100000
set_option maxHeartbeats 4000000
attribute [local irreducible] Run ISt IWt OSt OWt TI PA PB

theorem run_427 (hG : Ok G) {R : sProp 𝕄} {tv tj : S16.Idx → BitVec 32} (htv : TvAt G 3 tv) (htj : TjAt G 3 tj)
    (h121 : k0_chk121 (gl tv 0 slices_S16_o0_S1)) (h122 : k0_chk122 (gl tv 1 slices_S16_o1_S1)) (h123 : k0_chk123 (gl tv 2 slices_S16_o2_S1)) (h124 : k0_chk124 (gl tv 3 slices_S16_o3_S1))
    {kk : _ → Prog (TpuEff nD τ sig (Elt F) Λ₀ (.scVector (cV G.L) (jV G.L))) α} {Q : α → sProp 𝕄}
    (K : ∀ tv tj, TvAt G 8 tv → TjAt G 8 tj → ∀ (h281 : k0_chk281 (gl tv 0 slices_S16_o0_S1)) (h282 : k0_chk282 (gl tv 1 slices_S16_o1_S1)) (h283 : k0_chk283 (gl tv 2 slices_S16_o2_S1)) (h284 : k0_chk284 (gl tv 3 slices_S16_o3_S1)) (h285 : k0_chk285 (gl tv 4 slices_S16_o4_S1)) (h286 : k0_chk286 (gl tv 5 slices_S16_o5_S1)) (h287 : k0_chk287 (gl tv 6 slices_S16_o6_S1)) (h288 : k0_chk288 (gl tv 7 slices_S16_o7_S1)), Run G.d G.L (ISt G aTA (G.t 0) (cTA G) 8 7 (RI G 0 8 (PA G R))) (kk ⟨tv, tj, gl tv 0 slices_S16_o0_S1, h281, gl tv 1 slices_S16_o1_S1, h282, gl tv 2 slices_S16_o2_S1, h283, gl tv 3 slices_S16_o3_S1, h284, gl tv 4 slices_S16_o4_S1, h285, gl tv 5 slices_S16_o5_S1, h286, gl tv 6 slices_S16_o6_S1, h287, gl tv 7 slices_S16_o7_S1, h288⟩) Q) :
    Run G.d G.L (ISt G aTA (G.t 0) (cTA G) 3 3 (RI G 0 3 (PA G R)))
      (k0_part427 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 tv tj (gl tv 0 slices_S16_o0_S1) h121 (gl tv 1 slices_S16_o1_S1) h122 (gl tv 2 slices_S16_o2_S1) h123 (gl tv 3 slices_S16_o3_S1) h124 >>= kk) Q := by
  refine Run.cut fun k₁ h₁ => ?_
  unfold k0_part427
  have hA := holdsA (G := G)
  have hB := holdsB (G := G)
  repeat
    refine Run.cut2 fun kk hkk => ?_
    repeat first
      | refine s_iwait0 ?_
      | refine a_in hG htv (by decide) (by first | exact fun h => h | exact fun h => ⟨h.1, h.2, h.2⟩) fun hc => ?_
      | refine t_ienq hG hA htv (by decide) rfl rfl ?_
      | refine s_iwait (by decide) (by rfl) ?_
      | refine t_ilast (by decide) (by rfl) ?_
      | refine s_owait0 ?_
      | refine a_out (by decide) htj (by decide) (hb' := 0#32) rfl (by first | exact fun h => h | exact fun h => ⟨h.1, h.2, h.2⟩) fun hc => ?_
      | refine t_oenq hG (by decide) htj (by decide) (hb' := 0#32) rfl rfl rfl ?_
      | refine s_owait (by decide) (by rfl) ?_
      | refine t_olast (by decide) (by rfl) ?_
      | refine s_tv rfl fun tv htv => ?_
      | refine s_tj (h := 0) (ct := G.t 0) (by decide) rfl fun tj htj => ?_
    refine hkk _ _ ?_
    clear hkk kk
  refine h₁ _ _ ?_
  exact K _ _ htv htj _ _ _ _ _ _ _ _

theorem run_428 (hG : Ok G) {R : sProp 𝕄} {tv tj : S16.Idx → BitVec 32} (htv : TvAt G 8 tv) (htj : TjAt G 8 tj)
    (h281 : k0_chk281 (gl tv 0 slices_S16_o0_S1)) (h282 : k0_chk282 (gl tv 1 slices_S16_o1_S1)) (h283 : k0_chk283 (gl tv 2 slices_S16_o2_S1)) (h284 : k0_chk284 (gl tv 3 slices_S16_o3_S1)) (h285 : k0_chk285 (gl tv 4 slices_S16_o4_S1)) (h286 : k0_chk286 (gl tv 5 slices_S16_o5_S1)) (h287 : k0_chk287 (gl tv 6 slices_S16_o6_S1)) (h288 : k0_chk288 (gl tv 7 slices_S16_o7_S1))
    {kk : _ → Prog (TpuEff nD τ sig (Elt F) Λ₀ (.scVector (cV G.L) (jV G.L))) α} {Q : α → sProp 𝕄}
    (K : ∀ tv tj, TvAt G 13 tv → TjAt G 13 tj → ∀ (h441 : k0_chk441 (gl tv 0 slices_S16_o0_S1)) (h442 : k0_chk442 (gl tv 1 slices_S16_o1_S1)) (h443 : k0_chk443 (gl tv 2 slices_S16_o2_S1)) (h444 : k0_chk444 (gl tv 3 slices_S16_o3_S1)) (h445 : k0_chk445 (gl tv 4 slices_S16_o4_S1)) (h446 : k0_chk446 (gl tv 5 slices_S16_o5_S1)) (h447 : k0_chk447 (gl tv 6 slices_S16_o6_S1)) (h448 : k0_chk448 (gl tv 7 slices_S16_o7_S1)) (h449 : k0_chk449 (gl tv 8 slices_S16_o8_S1)) (h450 : k0_chk450 (gl tv 9 slices_S16_o9_S1)) (h451 : k0_chk451 (gl tv 10 slices_S16_o10_S1)) (h452 : k0_chk452 (gl tv 11 slices_S16_o11_S1)), Run G.d G.L (ISt G aTA (G.t 0) (cTA G) 13 11 (RI G 0 13 (PA G R))) (kk ⟨tv, tj, gl tv 0 slices_S16_o0_S1, h441, gl tv 1 slices_S16_o1_S1, h442, gl tv 2 slices_S16_o2_S1, h443, gl tv 3 slices_S16_o3_S1, h444, gl tv 4 slices_S16_o4_S1, h445, gl tv 5 slices_S16_o5_S1, h446, gl tv 6 slices_S16_o6_S1, h447, gl tv 7 slices_S16_o7_S1, h448, gl tv 8 slices_S16_o8_S1, h449, gl tv 9 slices_S16_o9_S1, h450, gl tv 10 slices_S16_o10_S1, h451, gl tv 11 slices_S16_o11_S1, h452⟩) Q) :
    Run G.d G.L (ISt G aTA (G.t 0) (cTA G) 8 7 (RI G 0 8 (PA G R)))
      (k0_part428 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 tv tj (gl tv 0 slices_S16_o0_S1) h281 (gl tv 1 slices_S16_o1_S1) h282 (gl tv 2 slices_S16_o2_S1) h283 (gl tv 3 slices_S16_o3_S1) h284 (gl tv 4 slices_S16_o4_S1) h285 (gl tv 5 slices_S16_o5_S1) h286 (gl tv 6 slices_S16_o6_S1) h287 (gl tv 7 slices_S16_o7_S1) h288 >>= kk) Q := by
  refine Run.cut fun k₁ h₁ => ?_
  unfold k0_part428
  have hA := holdsA (G := G)
  have hB := holdsB (G := G)
  repeat
    refine Run.cut2 fun kk hkk => ?_
    repeat first
      | refine s_iwait0 ?_
      | refine a_in hG htv (by decide) (by first | exact fun h => h | exact fun h => ⟨h.1, h.2, h.2⟩) fun hc => ?_
      | refine t_ienq hG hA htv (by decide) rfl rfl ?_
      | refine s_iwait (by decide) (by rfl) ?_
      | refine t_ilast (by decide) (by rfl) ?_
      | refine s_owait0 ?_
      | refine a_out (by decide) htj (by decide) (hb' := 0#32) rfl (by first | exact fun h => h | exact fun h => ⟨h.1, h.2, h.2⟩) fun hc => ?_
      | refine t_oenq hG (by decide) htj (by decide) (hb' := 0#32) rfl rfl rfl ?_
      | refine s_owait (by decide) (by rfl) ?_
      | refine t_olast (by decide) (by rfl) ?_
      | refine s_tv rfl fun tv htv => ?_
      | refine s_tj (h := 0) (ct := G.t 0) (by decide) rfl fun tj htj => ?_
    refine hkk _ _ ?_
    clear hkk kk
  refine h₁ _ _ ?_
  exact K _ _ htv htj _ _ _ _ _ _ _ _ _ _ _ _

end

end Cert.Proof.Gather

end
-- ==== Proof.PartsB.lean ====
/-
  The tail's groups, part by part.
-/
module

public import proofs.«01_k».proof.Proof.Parts

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F} {α : Type}

set_option maxRecDepth 100000
set_option maxHeartbeats 4000000
attribute [local irreducible] Run ISt IWt OSt OWt TI PA PB

theorem run_429 (hG : Ok G) {R : sProp 𝕄} {tv tj : S16.Idx → BitVec 32} (htv : TvAt G 13 tv) (htj : TjAt G 13 tj)
    (h441 : k0_chk441 (gl tv 0 slices_S16_o0_S1)) (h442 : k0_chk442 (gl tv 1 slices_S16_o1_S1)) (h443 : k0_chk443 (gl tv 2 slices_S16_o2_S1)) (h444 : k0_chk444 (gl tv 3 slices_S16_o3_S1)) (h445 : k0_chk445 (gl tv 4 slices_S16_o4_S1)) (h446 : k0_chk446 (gl tv 5 slices_S16_o5_S1)) (h447 : k0_chk447 (gl tv 6 slices_S16_o6_S1)) (h448 : k0_chk448 (gl tv 7 slices_S16_o7_S1)) (h449 : k0_chk449 (gl tv 8 slices_S16_o8_S1)) (h450 : k0_chk450 (gl tv 9 slices_S16_o9_S1)) (h451 : k0_chk451 (gl tv 10 slices_S16_o10_S1)) (h452 : k0_chk452 (gl tv 11 slices_S16_o11_S1))
    {kk : _ → Prog (TpuEff nD τ sig (Elt F) Λ₀ (.scVector (cV G.L) (jV G.L))) α} {Q : α → sProp 𝕄}
    (K : ∀ tv tj, TvAt G 2 tv → TjAt G 2 tj → ∀ (h601 : k0_chk601 (gl tv 0 slices_S16_o0_S1)) (h602 : k0_chk602 (gl tv 1 slices_S16_o1_S1)) (h603 : k0_chk603 (gl tv 2 slices_S16_o2_S1)) (h604 : k0_chk604 (gl tv 3 slices_S16_o3_S1)) (h605 : k0_chk605 (gl tv 4 slices_S16_o4_S1)) (h606 : k0_chk606 (gl tv 5 slices_S16_o5_S1)) (h607 : k0_chk607 (gl tv 6 slices_S16_o6_S1)) (h608 : k0_chk608 (gl tv 7 slices_S16_o7_S1)) (h609 : k0_chk609 (gl tv 8 slices_S16_o8_S1)) (h610 : k0_chk610 (gl tv 9 slices_S16_o9_S1)) (h611 : k0_chk611 (gl tv 10 slices_S16_o10_S1)) (h612 : k0_chk612 (gl tv 11 slices_S16_o11_S1)) (h613 : k0_chk613 (gl tv 12 slices_S16_o12_S1)) (h614 : k0_chk614 (gl tv 13 slices_S16_o13_S1)) (h615 : k0_chk615 (gl tv 14 slices_S16_o14_S1)) (h616 : k0_chk616 (gl tv 15 slices_S16_o15_S1)), Run G.d G.L (ISt G aTB (G.t 1) (cTB G) 2 15 (RI G 1 2 (PB G R))) (kk ⟨tj, gl tv 0 slices_S16_o0_S1, h601, gl tv 1 slices_S16_o1_S1, h602, gl tv 2 slices_S16_o2_S1, h603, gl tv 3 slices_S16_o3_S1, h604, gl tv 4 slices_S16_o4_S1, h605, gl tv 5 slices_S16_o5_S1, h606, gl tv 6 slices_S16_o6_S1, h607, gl tv 7 slices_S16_o7_S1, h608, gl tv 8 slices_S16_o8_S1, h609, gl tv 9 slices_S16_o9_S1, h610, gl tv 10 slices_S16_o10_S1, h611, gl tv 11 slices_S16_o11_S1, h612, gl tv 12 slices_S16_o12_S1, h613, gl tv 13 slices_S16_o13_S1, h614, gl tv 14 slices_S16_o14_S1, h615, gl tv 15 slices_S16_o15_S1, h616⟩) Q) :
    Run G.d G.L (ISt G aTA (G.t 0) (cTA G) 13 11 (RI G 0 13 (PA G R)))
      (k0_part429 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 tv tj (gl tv 0 slices_S16_o0_S1) h441 (gl tv 1 slices_S16_o1_S1) h442 (gl tv 2 slices_S16_o2_S1) h443 (gl tv 3 slices_S16_o3_S1) h444 (gl tv 4 slices_S16_o4_S1) h445 (gl tv 5 slices_S16_o5_S1) h446 (gl tv 6 slices_S16_o6_S1) h447 (gl tv 7 slices_S16_o7_S1) h448 (gl tv 8 slices_S16_o8_S1) h449 (gl tv 9 slices_S16_o9_S1) h450 (gl tv 10 slices_S16_o10_S1) h451 (gl tv 11 slices_S16_o11_S1) h452 >>= kk) Q := by
  refine Run.cut fun k₁ h₁ => ?_
  unfold k0_part429
  have hA := holdsA (G := G)
  have hB := holdsB (G := G)
  repeat
    refine Run.cut2 fun kk hkk => ?_
    repeat first
      | refine s_iwait0 ?_
      | refine a_in hG htv (by decide) (by first | exact fun h => h | exact fun h => ⟨h.1, h.2, h.2⟩) fun hc => ?_
      | refine t_ienq hG hA htv (by decide) rfl rfl ?_
      | refine s_iwait (by decide) (by rfl) ?_
      | refine t_ilast (by decide) (by rfl) ?_
      | refine s_owait0 ?_
      | refine a_out (by decide) htj (by decide) (hb' := 0#32) rfl (by first | exact fun h => h | exact fun h => ⟨h.1, h.2, h.2⟩) fun hc => ?_
      | refine t_oenq hG (by decide) htj (by decide) (hb' := 0#32) rfl rfl rfl ?_
      | refine s_owait (by decide) (by rfl) ?_
      | refine t_olast (by decide) (by rfl) ?_
      | refine s_tv rfl fun tv htv => ?_
      | refine s_tj (h := 0) (ct := G.t 0) (by decide) rfl fun tj htj => ?_
      | refine s_switch ?_
      | refine t_ienq hG hB htv (by decide) rfl rfl ?_
      | refine a_out (by decide) htj (by decide) (hb' := 1703936#32) rfl (by first | exact fun h => h | exact fun h => ⟨h.1, h.2, h.2⟩) fun hc => ?_
      | refine t_oenq hG (by decide) htj (by decide) (hb' := 1703936#32) rfl rfl rfl ?_
      | refine s_tj (h := 1) (ct := G.t 1) (by decide) rfl fun tj htj => ?_
    refine hkk _ _ ?_
    clear hkk kk
  refine h₁ _ _ ?_
  exact K _ _ htv htj _ _ _ _ _ _ _ _ _ _ _ _ _ _ _ _

theorem run_430 (hG : Ok G) {R : sProp 𝕄} {tv tj : S16.Idx → BitVec 32} (htv : TvAt G 2 tv) (htj : TjAt G 2 tj)
    (h601 : k0_chk601 (gl tv 0 slices_S16_o0_S1)) (h602 : k0_chk602 (gl tv 1 slices_S16_o1_S1)) (h603 : k0_chk603 (gl tv 2 slices_S16_o2_S1)) (h604 : k0_chk604 (gl tv 3 slices_S16_o3_S1)) (h605 : k0_chk605 (gl tv 4 slices_S16_o4_S1)) (h606 : k0_chk606 (gl tv 5 slices_S16_o5_S1)) (h607 : k0_chk607 (gl tv 6 slices_S16_o6_S1)) (h608 : k0_chk608 (gl tv 7 slices_S16_o7_S1)) (h609 : k0_chk609 (gl tv 8 slices_S16_o8_S1)) (h610 : k0_chk610 (gl tv 9 slices_S16_o9_S1)) (h611 : k0_chk611 (gl tv 10 slices_S16_o10_S1)) (h612 : k0_chk612 (gl tv 11 slices_S16_o11_S1)) (h613 : k0_chk613 (gl tv 12 slices_S16_o12_S1)) (h614 : k0_chk614 (gl tv 13 slices_S16_o13_S1)) (h615 : k0_chk615 (gl tv 14 slices_S16_o14_S1)) (h616 : k0_chk616 (gl tv 15 slices_S16_o15_S1))
    {kk : _ → Prog (TpuEff nD τ sig (Elt F) Λ₀ (.scVector (cV G.L) (jV G.L))) α} {Q : α → sProp 𝕄}
    (K : ∀ tv tj, TvAt G 7 tv → TjAt G 7 tj → ∀ (h768 : k0_chk768 (gl tv 7 slices_S16_o7_S1)) (h769 : k0_chk769 (gl tv 8 slices_S16_o8_S1)) (h770 : k0_chk770 (gl tv 9 slices_S16_o9_S1)) (h771 : k0_chk771 (gl tv 10 slices_S16_o10_S1)) (h772 : k0_chk772 (gl tv 11 slices_S16_o11_S1)) (h773 : k0_chk773 (gl tv 12 slices_S16_o12_S1)) (h774 : k0_chk774 (gl tv 13 slices_S16_o13_S1)) (h775 : k0_chk775 (gl tv 14 slices_S16_o14_S1)) (h776 : k0_chk776 (gl tv 15 slices_S16_o15_S1)), Run G.d G.L (IWt G aTB (G.t 1) (cTB G) 7 7 (RI G 1 7 (PB G R))) (kk ⟨tj, gl tv 7 slices_S16_o7_S1, h768, gl tv 8 slices_S16_o8_S1, h769, gl tv 9 slices_S16_o9_S1, h770, gl tv 10 slices_S16_o10_S1, h771, gl tv 11 slices_S16_o11_S1, h772, gl tv 12 slices_S16_o12_S1, h773, gl tv 13 slices_S16_o13_S1, h774, gl tv 14 slices_S16_o14_S1, h775, gl tv 15 slices_S16_o15_S1, h776⟩) Q) :
    Run G.d G.L (ISt G aTB (G.t 1) (cTB G) 2 15 (RI G 1 2 (PB G R)))
      (k0_part430 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 tj (gl tv 0 slices_S16_o0_S1) h601 (gl tv 1 slices_S16_o1_S1) h602 (gl tv 2 slices_S16_o2_S1) h603 (gl tv 3 slices_S16_o3_S1) h604 (gl tv 4 slices_S16_o4_S1) h605 (gl tv 5 slices_S16_o5_S1) h606 (gl tv 6 slices_S16_o6_S1) h607 (gl tv 7 slices_S16_o7_S1) h608 (gl tv 8 slices_S16_o8_S1) h609 (gl tv 9 slices_S16_o9_S1) h610 (gl tv 10 slices_S16_o10_S1) h611 (gl tv 11 slices_S16_o11_S1) h612 (gl tv 12 slices_S16_o12_S1) h613 (gl tv 13 slices_S16_o13_S1) h614 (gl tv 14 slices_S16_o14_S1) h615 (gl tv 15 slices_S16_o15_S1) h616 >>= kk) Q := by
  refine Run.cut fun k₁ h₁ => ?_
  unfold k0_part430
  have hA := holdsA (G := G)
  have hB := holdsB (G := G)
  repeat
    refine Run.cut2 fun kk hkk => ?_
    repeat first
      | refine s_iwait0 ?_
      | refine a_in hG htv (by decide) (by first | exact fun h => h | exact fun h => ⟨h.1, h.2, h.2⟩) fun hc => ?_
      | refine t_ienq hG hB htv (by decide) rfl rfl ?_
      | refine s_iwait (by decide) (by rfl) ?_
      | refine t_ilast (by decide) (by rfl) ?_
      | refine s_owait0 ?_
      | refine a_out (by decide) htj (by decide) (hb' := 1703936#32) rfl (by first | exact fun h => h | exact fun h => ⟨h.1, h.2, h.2⟩) fun hc => ?_
      | refine t_oenq hG (by decide) htj (by decide) (hb' := 1703936#32) rfl rfl rfl ?_
      | refine s_owait (by decide) (by rfl) ?_
      | refine t_olast (by decide) (by rfl) ?_
      | refine s_tv rfl fun tv htv => ?_
      | refine s_tj (h := 1) (ct := G.t 1) (by decide) rfl fun tj htj => ?_
    refine hkk _ _ ?_
    clear hkk kk
  refine h₁ _ _ ?_
  exact K _ _ htv htj _ _ _ _ _ _ _ _ _

end

end Cert.Proof.Gather

end
-- ==== Proof.PartsC.lean ====
/-
  The tail's groups, part by part.
-/
module

public import proofs.«01_k».proof.Proof.Parts

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F} {α : Type}

set_option maxRecDepth 100000
set_option maxHeartbeats 4000000
attribute [local irreducible] Run ISt IWt OSt OWt TI PA PB

theorem run_431 (hG : Ok G) {R : sProp 𝕄} {tv tj : S16.Idx → BitVec 32} (htv : TvAt G 7 tv) (htj : TjAt G 7 tj)
    (h768 : k0_chk768 (gl tv 7 slices_S16_o7_S1)) (h769 : k0_chk769 (gl tv 8 slices_S16_o8_S1)) (h770 : k0_chk770 (gl tv 9 slices_S16_o9_S1)) (h771 : k0_chk771 (gl tv 10 slices_S16_o10_S1)) (h772 : k0_chk772 (gl tv 11 slices_S16_o11_S1)) (h773 : k0_chk773 (gl tv 12 slices_S16_o12_S1)) (h774 : k0_chk774 (gl tv 13 slices_S16_o13_S1)) (h775 : k0_chk775 (gl tv 14 slices_S16_o14_S1)) (h776 : k0_chk776 (gl tv 15 slices_S16_o15_S1))
    {kk : _ → Prog (TpuEff nD τ sig (Elt F) Λ₀ (.scVector (cV G.L) (jV G.L))) α} {Q : α → sProp 𝕄}
    (K : ∀ tv tj, TvAt G 12 tv → TjAt G 12 tj → ∀ (h937 : k0_chk937 (gl tj 0 slices_S16_o0_S1)), Run G.d G.L (OSt G (tailX G) 1 (tbF G (G.t 1)) 12 0 (RO G aTB (cTB G) 1 12 (PB G R))) (kk ⟨tj, gl tj 0 slices_S16_o0_S1, h937⟩) Q) :
    Run G.d G.L (IWt G aTB (G.t 1) (cTB G) 7 7 (RI G 1 7 (PB G R)))
      (k0_part431 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 tj (gl tv 7 slices_S16_o7_S1) h768 (gl tv 8 slices_S16_o8_S1) h769 (gl tv 9 slices_S16_o9_S1) h770 (gl tv 10 slices_S16_o10_S1) h771 (gl tv 11 slices_S16_o11_S1) h772 (gl tv 12 slices_S16_o12_S1) h773 (gl tv 13 slices_S16_o13_S1) h774 (gl tv 14 slices_S16_o14_S1) h775 (gl tv 15 slices_S16_o15_S1) h776 >>= kk) Q := by
  refine Run.cut fun k₁ h₁ => ?_
  unfold k0_part431
  have hA := holdsA (G := G)
  have hB := holdsB (G := G)
  repeat
    refine Run.cut2 fun kk hkk => ?_
    repeat first
      | refine s_iwait0 ?_
      | refine a_in hG htv (by decide) (by first | exact fun h => h | exact fun h => ⟨h.1, h.2, h.2⟩) fun hc => ?_
      | refine t_ienq hG hB htv (by decide) rfl rfl ?_
      | refine s_iwait (by decide) (by rfl) ?_
      | refine t_ilast (by decide) (by rfl) ?_
      | refine s_owait0 ?_
      | refine a_out (by decide) htj (by decide) (hb' := 1703936#32) rfl (by first | exact fun h => h | exact fun h => ⟨h.1, h.2, h.2⟩) fun hc => ?_
      | refine t_oenq hG (by decide) htj (by decide) (hb' := 1703936#32) rfl rfl rfl ?_
      | refine s_owait (by decide) (by rfl) ?_
      | refine t_olast (by decide) (by rfl) ?_
      | refine s_tv rfl fun tv htv => ?_
      | refine s_tj (h := 1) (ct := G.t 1) (by decide) rfl fun tj htj => ?_
    refine hkk _ _ ?_
    clear hkk kk
  refine h₁ _ _ ?_
  exact K _ _ htv htj _

theorem run_432 (hG : Ok G) {R : sProp 𝕄} {tv tj : S16.Idx → BitVec 32} (htv : TvAt G 12 tv) (htj : TjAt G 12 tj)
    (h937 : k0_chk937 (gl tj 0 slices_S16_o0_S1))
    {kk : _ → Prog (TpuEff nD τ sig (Elt F) Λ₀ (.scVector (cV G.L) (jV G.L))) α} {Q : α → sProp 𝕄}
    (K : Run G.d G.L (TI G aTB (cTB G) 1 16 (PB G R)) (kk ⟨broadcast S16 0#32, 0#32⟩) Q) :
    Run G.d G.L (OSt G (tailX G) 1 (tbF G (G.t 1)) 12 0 (RO G aTB (cTB G) 1 12 (PB G R)))
      (k0_part432 (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 tj (gl tj 0 slices_S16_o0_S1) h937 >>= kk) Q := by
  refine Run.cut fun k₁ h₁ => ?_
  unfold k0_part432
  have hA := holdsA (G := G)
  have hB := holdsB (G := G)
  repeat
    refine Run.cut2 fun kk hkk => ?_
    repeat first
      | refine s_iwait0 ?_
      | refine a_in hG htv (by decide) (by first | exact fun h => h | exact fun h => ⟨h.1, h.2, h.2⟩) fun hc => ?_
      | refine t_ienq hG hB htv (by decide) rfl rfl ?_
      | refine s_iwait (by decide) (by rfl) ?_
      | refine t_ilast (by decide) (by rfl) ?_
      | refine s_owait0 ?_
      | refine a_out (by decide) htj (by decide) (hb' := 1703936#32) rfl (by first | exact fun h => h | exact fun h => ⟨h.1, h.2, h.2⟩) fun hc => ?_
      | refine t_oenq hG (by decide) htj (by decide) (hb' := 1703936#32) rfl rfl rfl ?_
      | refine s_owait (by decide) (by rfl) ?_
      | refine t_olast (by decide) (by rfl) ?_
      | refine s_tv rfl fun tv htv => ?_
      | refine s_tj (h := 1) (ct := G.t 1) (by decide) rfl fun tj htj => ?_
    refine hkk _ _ ?_
    clear hkk kk
  refine h₁ _ _ ?_
  exact K

end

end Cert.Proof.Gather

end
-- ==== Proof.Dims.lean ====
/-
  The tile's block, a row of the table at a time: the row is copied in, and the sixteens of the list pick their words from it.
-/
module

public import proofs.«01_k».proof.Proof.Chunk
public import proofs.«01_k».proof.Proof.Parts

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

/-- The table's word at a row and a column, the first past the end. -/
def rdE {α : Type} (e : S64x1000000.Idx → α) (a b : ℕ) : α := if h : a < 64 ∧ b < 1000000 then e (i2 a b h.1 h.2) else e (i2 0 0 (by decide) (by decide))

theorem rdE_pos {α : Type} (e : S64x1000000.Idx → α) {a b : ℕ} (ha : a < 64) (hb : b < 1000000) : rdE e a b = e (i2 a b ha hb) := dif_pos ⟨ha, hb⟩

section
variable [FloatOps F] {G : Dat F} {α : Type}

/-- A loop at the head of a program, with what it leaves alone. -/
theorem l_loop {d : Dev nD} {L : grid0.Coords} {n : ℕ} (I : ℕ → sProp 𝕄) {R : sProp 𝕄} {l : Scf.Loop 32} {hok : l.OK} (hl : l.trips = n)
    {body : Fin l.trips → PUnit → Prog (TpuEff nD τ sig (Elt F) Λ₀ (.scVector (cV L) (jV L))) PUnit}
    (hbody : ∀ k : Fin l.trips, Run d L (I k.val) (body k ⟨⟩) (fun _ => I (k.val + 1)))
    {kk : PUnit → Prog (TpuEff nD τ sig (Elt F) Λ₀ (.scVector (cV L) (jV L))) α} {Q : α → sProp 𝕄}
    (H : Run d L iprop(I n ∗ R) (kk ⟨⟩) Q) :
    Run d L iprop(I 0 ∗ R) (Scf.Loop.for l hok ⟨⟩ body >>= kk) Q := by
  unfold Run at H hbody ⊢
  have hb : ∀ (k : Fin l.trips) (acc : PUnit), I k.val ⊢ wp frame (wpE (defs₀ (F := F)) 𝒱₀ (thr d L) none) Set.univ (body k acc) (fun _ => I (k.val + 1)) :=
    fun k _ => hbody k
  iintro ⟨HI, HR⟩
  iapply (Scf.wp_for_bind frame (wpE (defs₀ (F := F)) 𝒱₀ (thr d L) none) Set.univ l.lb l.ub l.st hok ⟨⟩ body (fun k _ => I k) hb) $$ HI
  iintro %acc HI
  iapply H
  isplitl [HI]
  · have e : Scf.trips l.lb l.ub l.st = n := hl
    rw [← e]; iexact HI
  iexact HR

/-- The words of the block that the list names. -/
def stgF (G : Dat F) (h : ℕ) : S57344.Idx → F .f32 :=
  fun i => rdE G.e (h * 32 + (i 0 : ℕ) % 32) (a0N G.L + (vW G ((i 0 : ℕ) / 32)).toNat)

/-- A row of the block. -/
def rowF (G : Dat F) (r : ℕ) : S1x31488.Idx → F .f32 := fun x => rdE G.e r (a0N G.L + (x 1 : ℕ))

/-- Rows under `E` are in, and the first `g` sixteens of row `E`. -/
def Stg (G : Dat F) (h E g : ℕ) (f : S57344.Idx → F .f32) : Prop :=
  ∀ i, ((i 0 : ℕ) % 32 < E ∨ (i 0 : ℕ) % 32 = E ∧ (i 0 : ℕ) / 32 < 16 * g) → f i = stgF G h i

abbrev stgP (G : Dat F) (h E g : ℕ) : sProp 𝕄 :=
  iprop(∃ f : S57344.Idx → F .f32, ⌜Stg G h E g f⌝ ∗ ((aStg).view.loc (thr G.d G.L) ↦{fullShare} (f : Buf (Elt F) ((aStg).view.loc (thr G.d G.L)))))
abbrev blkP (G : Dat F) (f : S1x31488.Idx → F .f32) : sProp 𝕄 := ((aBlk).view.loc (thr G.d G.L) ↦{fullShare} (f : Buf (Elt F) ((aBlk).view.loc (thr G.d G.L))) : sProp 𝕄)
abbrev shE (G : Dat F) : sProp 𝕄 := iprop(∃ q, (aE).view.loc (thr G.d G.L) ↦{q} (G.e : Buf (Elt F) ((aE).view.loc (thr G.d G.L))))

def IN (G : Dat F) (h E g : ℕ) : sProp 𝕄 := iprop(vP G ∗ blkP G (rowF G (h * 32 + E)) ∗ stgP G h E g)

def VAt (G : Dat F) (g : ℕ) (v : S16.Idx → BitVec 32) : Prop := ∀ k : Fin 16, v (lane k) = vW G (16 * g + k.val)

theorem vW_val (hG : Ok G) {s : ℕ} (h : s < cntM G) : a0N G.L + (vW G s).toNat = ixN G.ix (nthOf (pM G.ix G.L) s) ∧ (vW G s).toNat < 31488 := by
  obtain ⟨h1, h2⟩ := nthM G h
  have hlt := hG.fit.lt _ h1
  have hw := widN_lt G.L
  obtain ⟨p1, p2, p3⟩ := h2
  have ha : a0N G.L ≤ loN G.L ∧ loN G.L ≤ a0N G.L + 31488 ∧ (loN G.L ≤ a0N G.L + 127 ∨ a0N G.L = 968448) := by
    unfold a0N loN; omega
  unfold vW
  rw [if_pos h]
  show a0N G.L + (BitVec.ofNat 32 _ - a0W G.L).toNat = _ ∧ (BitVec.ofNat 32 _ - a0W G.L).toNat < _
  rw [BitVec.toNat_sub, BitVec.toNat_ofNat, a0W_toNat]
  omega

theorem vW_lt (hG : Ok G) (s : ℕ) : (vW G s).toNat < 31488 := by
  by_cases h : s < cntM G
  · exact (vW_val hG h).2
  · unfold vW; rw [if_neg h]; decide

theorem x_load {g : ℕ} {R : sProp 𝕄} {off : Fin 1 → ℕ} (ho : off 0 = 16 * g) {h1 : ∀ a, off a + S16.size a ≤ S1792.size a} {h2}
    {kk : Vec F S16 .i32 → Prog (TpuEff nD τ sig (Elt F) Λ₀ (.scVector (cV G.L) (jV G.L))) α} {Q : α → sProp 𝕄}
    (H : ∀ v : S16.Idx → BitVec 32, VAt G g v → Run G.d G.L iprop(vP G ∗ R) (kk v) Q) :
    Run G.d G.L iprop(vP G ∗ R) (.op (.load aV (Rect.unit (s := S1792) off S16.size h1).toLoadRect h2) kk) Q := by
  have hv : VAt G g ((aV).view.readAt (Elt F) (Rect.unit (s := S1792) off S16.size h1).toLoadRect (fun i : S1792.Idx => vW G (i 0))) := by
    intro k
    have e2 : (((Rect.unit (s := S1792) off S16.size h1).emb (lane k)) 0 : ℕ) = off 0 + k.val := unit_emb (n := 1792) (lane k)
    have e : ((aV).view.readAt (Elt F) (Rect.unit (s := S1792) off S16.size h1).toLoadRect (fun i : S1792.Idx => vW G (i 0))) (lane k)
        = vW G (((Rect.unit (s := S1792) off S16.size h1).emb (lane k)) 0 : ℕ) := rfl
    rw [e, e2, ho]
  have H' := H _ hv
  unfold Run at H' ⊢
  iintro ⟨Htv, HR⟩
  iapply (wp_load 𝒱₀ (thr G.d G.L) none Set.univ (S := Finset.univ) (Finset.subset_univ _)) $$ Htv
  iintro Htv
  iapply H'
  isplitl [Htv]; · iexact Htv
  iexact HR

theorem x_blk {f : S1x31488.Idx → F .f32} {A R : sProp 𝕄} {hl}
    {kk : Vec F S1x31488 .f32 → Prog (TpuEff nD τ sig (Elt F) Λ₀ (.scVector (cV G.L) (jV G.L))) α} {Q : α → sProp 𝕄}
    (H : Run G.d G.L iprop(A ∗ blkP G f ∗ R) (kk f) Q) :
    Run G.d G.L iprop(A ∗ blkP G f ∗ R) (.op (.load aBlk (.whole _) hl) kk) Q := by
  unfold Run at H ⊢
  iintro ⟨HA, HB, HR⟩
  iapply (wp_load_whole 𝒱₀ (thr G.d G.L) none Set.univ) $$ HB
  iintro HB
  iapply H
  isplitl [HA]; · iexact HA
  isplitl [HB]; · iexact HB
  iexact HR

theorem x_stg {f : S57344.Idx → F .f32} {A B : sProp 𝕄} {w : Vec F S57344 .f32 → Vec F S57344 .f32} {hl hx hm}
    {kk : PUnit → Prog (TpuEff nD τ sig (Elt F) Λ₀ (.scVector (cV G.L) (jV G.L))) α} {Q : α → sProp 𝕄}
    (H : Run G.d G.L iprop(A ∗ B ∗ ((aStg).view.loc (thr G.d G.L) ↦{fullShare} (w f : Buf (Elt F) ((aStg).view.loc (thr G.d G.L))))) (kk ⟨⟩) Q) :
    Run G.d G.L iprop(A ∗ B ∗ ((aStg).view.loc (thr G.d G.L) ↦{fullShare} (f : Buf (Elt F) ((aStg).view.loc (thr G.d G.L)))))
      (.op (.load aStg (.whole _) hl) fun f => .op (.store aStg (Rect.whole _) (w f) Finset.univ hx hm) kk) Q := by
  unfold Run at H ⊢
  iintro ⟨HA, HB, HS⟩
  iapply (wp_scatter (F := F) G.d G.L (w := w)) $$ HS
  iintro HS
  iapply H
  isplitl [HA]; · iexact HA
  isplitl [HB]; · iexact HB
  iexact HS

/-- The words that sixteen entries of the list name, put in their places. -/
def dimProg (L : grid0.Coords) (z v25 cv : IVec S16 32) (gv : BitVec 32) (off : Fin 1 → ℕ) (hoff : ∀ a, off a + S16.size a ≤ S1792.size a) :
    Prog (TpuEff nD τ sig (Elt F) Λ₀ (.scVector (cV L) (jV L))) PUnit := do
  let v : Vec F S16 .i32 ← Prog.lift (.load aV (Rect.unit (s := S1792) off S16.size hoff).toLoadRect (View.loadsAt_vmem h_S16))
  have hw : k0_chk1049 z v := (← Prog.lift (TpuEff.assume (k0_chk1049 z v) (k0_chk1049.dec z v))).down
  let w : Vec F S16 .f32 ← SparseCore.vectorLoadIdx aBlk ![z, v] (k0_idx49_inb z v hw) (View.loads_vmem h_S1x31488)
  have kv : IVec S16 32 := addi (muli (addi v25 (broadcast S16 (Scalar.muli gv 16#32))) (broadcast S16 32#32)) cv
  have hw' : k0_chk1050 kv := (← Prog.lift (TpuEff.assume (k0_chk1050 kv) (k0_chk1050.dec kv))).down
  SparseCore.vectorStoreIdx aStg ![kv] w (fun _ => 1#1) false (k0_idx50_inb kv hw') (View.stores_vmem_bits_univ h_S57344 rfl)
  pure ⟨⟩

theorem dim_step (hG : Ok G) {h E g : ℕ} (hh : h < 2) (hE : E < 32) (hg : g < 112) {cv : IVec S16 32} (hcv : ∀ k, (cv (lane k)).toNat = E) {gv : BitVec 32}
    (hgv : gv.toNat = g) {off : Fin 1 → ℕ} {hoff : ∀ a, off a + S16.size a ≤ S1792.size a} (ho : off 0 = 16 * g) :
    Run G.d G.L (IN G h E g) (dimProg G.L (broadcast S16 0#32) lanes16 cv gv off hoff) (fun _ => IN G h E (g + 1)) := by
  unfold IN
  have hkv : ∀ k : Fin 16, ((addi (muli (addi lanes16 (broadcast S16 (Scalar.muli gv 16#32))) (broadcast S16 32#32)) cv : IVec S16 32) (lane k)).toNat = (16 * g + k.val) * 32 + E := by
    intro k
    have hk := k.isLt
    show ((lanes16 (lane k) + gv * 16#32) * 32#32 + cv (lane k)).toNat = _
    rw [lanes16_lane, BitVec.toNat_add, BitVec.toNat_mul, BitVec.toNat_add, BitVec.toNat_mul, BitVec.toNat_ofNat, BitVec.toNat_ofNat, BitVec.toNat_ofNat, hcv, hgv]
    omega
  refine x_load ho fun v hv => ?_
  have hc1 : k0_chk1049 (broadcast S16 0#32) v := by
    intro a x
    obtain ⟨k, rfl⟩ := exists_lane x
    match a with
    | 0 => show (0#32).toNat < 1; decide
    | 1 =>
      show (v (lane k)).toNat < 31488
      rw [hv k]; exact vW_lt hG _
  refine s_assume hc1 ?_
  refine x_blk ?_
  have hc2 : k0_chk1050 (addi (muli (addi lanes16 (broadcast S16 (Scalar.muli gv 16#32))) (broadcast S16 32#32)) cv) := by
    intro a x
    obtain ⟨k, rfl⟩ := exists_lane x
    match a with
    | 0 =>
      show ((addi (muli (addi lanes16 (broadcast S16 (Scalar.muli gv 16#32))) (broadcast S16 32#32)) cv : IVec S16 32) (lane k)).toNat < 57344
      rw [hkv k]; have := k.isLt; omega
  refine s_assume hc2 ?_
  have key : ∀ f : S57344.Idx → F .f32, Stg G h E g f →
      Stg G h E (g + 1) (storeIdx (F := F) (s := S57344) (e := .f32) f ![addi (muli (addi lanes16 (broadcast S16 (Scalar.muli gv 16#32))) (broadcast S16 32#32)) cv]
        (loadIdx (F := F) (s := S1x31488) (e := .f32) (rowF G (h * 32 + E)) ![broadcast S16 0#32, v] (k0_idx49_inb _ v hc1)) (fun _ => 1#1) false (k0_idx50_inb _ hc2)) := by
    intro f hf i hi
    by_cases hit : ∃ k : Fin 16, (i 0 : ℕ) = (16 * g + k.val) * 32 + E
    · obtain ⟨k, hk⟩ := hit
      have hkl := k.isLt
      rw [storeIdx_hit _ _ _ _ i k (fun a => match a with | 0 => hk.trans (hkv k).symm) (fun k' hk' => by
        have h0 : (i 0 : ℕ) = _ := hk' 0
        have h1 : (i 0 : ℕ) = (16 * g + k'.val) * 32 + E := h0.trans (hkv k')
        exact Fin.ext (by omega))]
      show rdE G.e (h * 32 + E) (a0N G.L + (v (lane k)).toNat) = _
      unfold stgF
      rw [hv k, hk, show ((16 * g + k.val) * 32 + E) % 32 = E by omega, show ((16 * g + k.val) * 32 + E) / 32 = 16 * g + k.val by omega]
    · rw [storeIdx_miss _ _ _ _ i (fun k hk => hit ⟨k, by
        have h0 : (i 0 : ℕ) = _ := hk 0
        exact h0.trans (hkv k)⟩)]
      refine hf i ?_
      rcases hi with hi | ⟨h1, h2⟩
      · exact .inl hi
      · refine .inr ⟨h1, ?_⟩
        by_contra hc
        exact hit ⟨⟨(i 0 : ℕ) / 32 - 16 * g, by omega⟩, by show (i 0 : ℕ) = (16 * g + ((i 0 : ℕ) / 32 - 16 * g)) * 32 + E; omega⟩
  have fin : ∀ f : S57344.Idx → F .f32, Stg G h E g f → Run G.d G.L iprop(vP G ∗ blkP G (rowF G (h * 32 + E)) ∗ ((aStg).view.loc (thr G.d G.L) ↦{fullShare} (f : Buf (Elt F) ((aStg).view.loc (thr G.d G.L)))))
      (SparseCore.vectorStoreIdx aStg ![addi (muli (addi lanes16 (broadcast S16 (Scalar.muli gv 16#32))) (broadcast S16 32#32)) cv]
          (loadIdx (F := F) (s := S1x31488) (e := .f32) (rowF G (h * 32 + E)) ![broadcast S16 0#32, v] (k0_idx49_inb _ v hc1)) (fun _ => 1#1) false (k0_idx50_inb _ hc2) (View.stores_vmem_bits_univ h_S57344 rfl) >>= fun _ => Prog.ret PUnit.unit) (fun _ => iprop(vP G ∗ blkP G (rowF G (h * 32 + E)) ∗ stgP G h E (g + 1))) := by
    intro f hf
    refine x_stg (w := fun f => storeIdx (F := F) (s := S57344) (e := .f32) f ![addi (muli (addi lanes16 (broadcast S16 (Scalar.muli gv 16#32))) (broadcast S16 32#32)) cv]
        (loadIdx (F := F) (s := S1x31488) (e := .f32) (rowF G (h * 32 + E)) ![broadcast S16 0#32, v] (k0_idx49_inb _ v hc1)) (fun _ => 1#1) false (k0_idx50_inb _ hc2)) ?_
    refine s_ret ?_
    have hk := key f hf
    iintro ⟨H1, H2, H3⟩
    isplitl [H1]; · iexact H1
    isplitl [H2]; · iexact H2
    iexists _
    isplitr
    · ipureintro; exact hk
    iexact H3
  unfold Run at fin ⊢
  iintro ⟨H1, H2, %f, %hf, H3⟩
  have hF := fin f hf
  iapply hF
  isplitl [H1]; · iexact H1
  isplitl [H2]; · iexact H2
  iexact H3

/-! ## A row of the block -/

def NK : ℕ := sig.dmaCredit .scVector (Kind.table .scVector .vmem) (cc0_scratch5).idx S1x31488 .f32
theorem NK_pos : 0 < NK := sig.dmaCredit_pos _ _ _ _ _ (by decide)

/-- Between two rows, -/
def DN (G : Dat F) (sm : DmaSem sig) (h E : ℕ) : sProp 𝕄 :=
  iprop(vP G ∗ (∃ f, blkP G f) ∗ shE G ∗ semVal (thr G.d G.L, .dma sm) 0 ∗ Base G ∗ stgP G h E 0)
/-- while one is copied. -/
def D1 (G : Dat F) (sm : DmaSem sig) (h E : ℕ) : sProp 𝕄 :=
  iprop(CpW G.d G.L sm NK (blkP G (rowF G (h * 32 + E))) ∗ Base G ∗ vP G ∗ shE G ∗ stgP G h E 0)

theorem d_enq (hG : Ok G) {sm : DmaSem sig} {h E : ℕ} (hh : h < 2) (hE : E < 32) {off : Fin 2 → ℕ} (h0 : off 0 = h * 32 + E) (h1' : off 1 = a0N G.L)
    {h1 : ∀ a, off a + S1x31488.size a ≤ S64x1000000.size a} {h3 h4 h5} {kk : PUnit → Prog (TpuEff nD τ sig (Elt F) Λ₀ (.scVector (cV G.L) (jV G.L))) α} {Q : α → sProp 𝕄}
    (H : Run G.d G.L (D1 G sm h E) (kk ⟨⟩) Q) :
    Run G.d G.L (DN G sm h E) (.op (.enqueueDma (aE.slice (Rect.unit (s := S64x1000000) off S1x31488.size h1) (fun _ => rfl)) (.here aBlk) (.dma sm) h3 h4 h5) kk) Q := by
  unfold DN
  have ha : a0N G.L ≤ 968448 := by unfold a0N; omega
  have hval : ∀ f0 : Buf (Elt F) ((aBlk).view.loc (thr G.d G.L)), (aBlk).view.write (Elt F) f0 ((aE.slice (Rect.unit (s := S64x1000000) off S1x31488.size h1) (fun _ => rfl)).view.read (Elt F) G.e) Finset.univ
      = (rowF G (h * 32 + E) : Buf (Elt F) ((aBlk).view.loc (thr G.d G.L))) := by
    intro f0
    funext x
    have e := View.write_emb (Val := Elt F) (v := (aBlk).view) f0 ((aE.slice (Rect.unit (s := S64x1000000) off S1x31488.size h1) (fun _ => rfl)).view.read (Elt F) G.e) Finset.univ x
    rw [if_pos (Finset.mem_univ _)] at e
    refine Eq.trans e ?_
    show G.e ((Rect.unit (s := S64x1000000) off S1x31488.size h1).emb x) = _
    have hx0 : (x 0 : ℕ) < 1 := (x 0).isLt
    have hx1 : (x 1 : ℕ) < 31488 := (x 1).isLt
    unfold rowF
    rw [rdE_pos _ (show h * 32 + E < 64 by omega) (show a0N G.L + (x 1 : ℕ) < 1000000 by omega)]
    refine congrArg G.e (funext fun a => Fin.ext ?_)
    match a with
    | 0 => show off 0 + 1 * (x 0 : ℕ) = h * 32 + E; omega
    | 1 => show off 1 + 1 * (x 1 : ℕ) = a0N G.L + (x 1 : ℕ); omega
  have hv : ∀ f0 : Buf (Elt F) ((aBlk).view.loc (thr G.d G.L)), ((aBlk).view.loc (thr G.d G.L) ↦[Finset.univ]{fullShare} ((aBlk).view.write (Elt F) f0 ((aE.slice (Rect.unit (s := S64x1000000) off S1x31488.size h1) (fun _ => rfl)).view.read (Elt F) G.e) Finset.univ) : sProp 𝕄)
      ⊢ blkP G (rowF G (h * 32 + E)) := fun f0 => Entails.of_eq (by rw [hval])
  unfold Run
  iintro ⟨HV, ⟨%f0, HC⟩, ⟨%q, HI⟩, Hs, HB, HS⟩
  ihave HI' := (pointsTo_share (PosShare.mem_left_op_right q)).1 $$ HI
  icases HI' with ⟨HI, HI1⟩
  ihave HI1 := (pointsTo_split_subset (Finset.subset_univ (aE.slice (Rect.unit (s := S64x1000000) off S1x31488.size h1) (fun _ => rfl)).view.set)).1 $$ HI1
  icases HI1 with ⟨HI1, -⟩
  have h0 := c_enq (d := G.d) (L := G.L) (src := aE.slice (Rect.unit (s := S64x1000000) off S1x31488.size h1) (fun _ => rfl)) (dst := aBlk) (sm := sm) (N := NK)
    (D := blkP G (rowF G (h * 32 + E))) (q := q.right) (fs := G.e) (f0 := f0)
    (S := Finset.univ) (R := iprop(Base G ∗ vP G ∗ shE G ∗ stgP G h E 0)) (h3 := h3) (h4 := h4) (h5 := h5) (kk := kk) (Q := Q) rfl (Finset.subset_univ _) (hv f0) H
  unfold Run at h0
  iapply h0
  isplitl [HI1]; · iexact HI1
  isplitl [HC]; · iexact HC
  isplitl [Hs]; · iexact Hs
  isplitl [HB]; · iexact HB
  isplitl [HV]; · iexact HV
  isplitl [HI]; · iexists _; iexact HI
  iexact HS

theorem d_wait {sm : DmaSem sig} {h E : ℕ} {sp sp' : Space} {s s' : Shape} {e e' : EltTy} {κ' : Kind} {srcw : Memref sig .scVector sp' s' e'}
    {dstw : Memref sig κ' sp s e} (hN : dstw.view.dmaCredit = NK) {h1 h2} {kk : PUnit → Prog (TpuEff nD τ sig (Elt F) Λ₀ (.scVector (cV G.L) (jV G.L))) α} {Q : α → sProp 𝕄}
    (H : Run G.d G.L iprop(IN G h E 0 ∗ shE G ∗ semVal (thr G.d G.L, .dma sm) 0 ∗ Base G) (kk ⟨⟩) Q) :
    Run G.d G.L (D1 G sm h E) (.op (.waitDma2 sm srcw dstw h1 h2) kk) Q := by
  refine c_wait (N := NK) hN NK_pos (Run.mono ?_ H)
  unfold IN
  iintro ⟨HC, Hs, HB, HV, HE, HS⟩
  isplitl [HC HV HS]
  · isplitl [HV]; · iexact HV
    isplitl [HC]; · iexact HC
    iexact HS
  isplitl [HE]; · iexact HE
  isplitl [Hs]; · iexact Hs
  iexact HB

theorem Stg.next {h E : ℕ} {f : S57344.Idx → F .f32} (hf : Stg G h E 112 f) : Stg G h (E + 1) 0 f := by
  intro i hi
  have hlt : (i 0 : ℕ) < 57344 := (i 0).isLt
  exact hf i (by omega)

theorem d_row {sm : DmaSem sig} {h E : ℕ} {Q : PUnit → sProp 𝕄} {x : PUnit} (hQ : DN G sm h (E + 1) ⊢ Q x) :
    Run G.d G.L iprop(IN G h E 112 ∗ shE G ∗ semVal (thr G.d G.L, .dma sm) 0 ∗ Base G) (Prog.ret x) Q := by
  refine s_ret (BIBase.Entails.trans ?_ hQ)
  unfold IN DN
  iintro ⟨⟨HV, HC, %f, %hf, HS⟩, HE, Hs, HB⟩
  have hf' := hf.next
  isplitl [HV]; · iexact HV
  isplitl [HC]; · iexists _; iexact HC
  isplitl [HE]; · iexact HE
  isplitl [Hs]; · iexact Hs
  isplitl [HB]; · iexact HB
  iexists f
  isplitr; · ipureintro; exact hf'
  iexact HS

end

end Cert.Proof.Gather

end
-- ==== Proof.MainOut.lean ====
/-
  The rows that the tile's list names, from its buffer out to the result, sixteen at a time.
-/
module

public import proofs.«01_k».proof.Proof.Dims

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F} {α : Type}

/-- The copies out of the tile's own rows. -/
abbrev mainX (G : Dat F) : OSpec := ⟨57344, aStg, cc0_scratch8.sem, cntM G, fun s => (jW G s).toNat⟩

theorem jW_lt (s : ℕ) : (jW G s).toNat < 49184 := by
  unfold jW
  split
  · next h =>
    obtain ⟨h1, -⟩ := nthM G h
    show (BitVec.ofNat 32 _).toNat < _
    rw [BitVec.toNat_ofNat]; omega
  · rw [dumpW_toNat]; have := widN_lt G.L; omega

theorem mainOk (hG : Ok G) {h : ℕ} (hh : h < 2) : XOk G (mainX G) h (stgF G h) where
  hh := hh
  tok := hG.tok
  dump s hs := by
    show (jW G s).toNat = _
    unfold jW
    rw [if_neg (by have : cntM G ≤ s := hs
                   omega), dumpW_toNat]
  val s hs boff hb hbo x y hy := by
    change s < cntM G at hs
    have e : ((aStg).slice (Rect.unit (s := S57344) boff S32.size hb) (fun _ => rfl)).view.read (Elt F) (stgF G h) x
        = stgF G h ((Rect.unit (s := S57344) boff S32.size hb).emb x) := rfl
    refine e.trans ?_
    have e2 : (((Rect.unit (s := S57344) boff S32.size hb).emb x) 0 : ℕ) = boff 0 + (x 0 : ℕ) := unit_emb (n := 57344) x
    have hx : (x 0 : ℕ) < 32 := (x 0).isLt
    obtain ⟨hv, hv'⟩ := vW_val hG hs
    obtain ⟨n1, n2⟩ := nthM G hs
    have hlt := hG.fit.lt _ n1
    unfold stgF
    rw [e2, hbo, show (32 * s + (x 0 : ℕ)) / 32 = s by omega, show (32 * s + (x 0 : ℕ)) % 32 = (x 0 : ℕ) by omega, hv, rdE_pos _ (show h * 32 + (x 0 : ℕ) < 64 by omega) hlt]
    have hj : (jW G s).toNat = nthOf (pM G.ix G.L) s := by
      unfold jW
      rw [if_pos hs]
      show (BitVec.ofNat 32 _).toNat = _
      rw [BitVec.toNat_ofNat]; omega
    rw [show (mainX G).row s = (jW G s).toNat from rfl, hj] at hy
    rw [hG.out h _ _ hh hx n1 y hy]

def JAt (G : Dat F) (g : ℕ) (tj : S16.Idx → BitVec 32) : Prop := ∀ k : Fin 16, tj (lane k) = jW G (16 * g + k.val)

theorem mj_get {g : ℕ} {tj : S16.Idx → BitVec 32} (h : JAt G g tj) {k : ℕ} (hk : k < 16) {h1 h2} :
    extractAt ![0] (extractStridedSlice S1 ![k] tj h1) h2 = jW G (16 * g + k) := (lane_get tj hk).trans (h ⟨k, hk⟩)

abbrev stgRows (G : Dat F) (h a b : ℕ) : sProp 𝕄 := bigSep (Finset.Ico a b) (fun s => piece G (mainX G) s (stgF G h))

/-- Between two groups of the tile's own rows, -/
def OM (G : Dat F) (h g : ℕ) : sProp 𝕄 :=
  iprop(jP G ∗ stgRows G h 0 1792 ∗ semVal (thr G.d G.L, .dma cc0_scratch8.sem) 0 ∗ tok G fullShare
    ∗ rowsOf G (mainX G) h (16 * g) 1792 G.o0 ∗ rowsOf G (mainX G) h 0 (16 * g) G.oF ∗ dumpInv G ∗ Base G)
/-- and what a group leaves alone. -/
def RG (G : Dat F) (h g : ℕ) : sProp 𝕄 :=
  iprop(jP G ∗ stgRows G h 0 (16 * g) ∗ stgRows G h (16 * g + 16) 1792 ∗ rowsOf G (mainX G) h (16 * g + 16) 1792 G.o0 ∗ rowsOf G (mainX G) h 0 (16 * g) G.oF)

theorem stgRows_split {h g : ℕ} (hg : g < 112) :
    stgRows G h 0 1792 = iprop(stgRows G h 0 (16 * g) ∗ stgRows G h (16 * g) (16 * g + 16) ∗ stgRows G h (16 * g + 16) 1792) := by
  unfold stgRows
  rw [bigSep_Ico_append (show 0 ≤ 16 * g by omega) (show 16 * g ≤ 1792 by omega),
    bigSep_Ico_append (show 16 * g ≤ 16 * g + 16 by omega) (show 16 * g + 16 ≤ 1792 by omega)]

theorem m_tj {h g : ℕ} (hg : g < 112) {off : Fin 1 → ℕ} (ho : off 0 = (Scalar.indexCast (Scalar.muli (Scf.iv 0#32 1#32 g) 16#32)).toNat) {h1 : ∀ a, off a + S16.size a ≤ S1792.size a} {h2}
    {kk : Vec F S16 .i32 → Prog (TpuEff nD τ sig (Elt F) Λ₀ (.scVector (cV G.L) (jV G.L))) α} {Q : α → sProp 𝕄}
    (H : ∀ tj : S16.Idx → BitVec 32, JAt G g tj → Run G.d G.L (OSt G (mainX G) h (stgF G h) g 0 (RG G h g)) (kk tj) Q) :
    Run G.d G.L (OM G h g) (.op (.load aJ (Rect.unit (s := S1792) off S16.size h1).toLoadRect h2) kk) Q := by
  have hv : JAt G g ((aJ).view.readAt (Elt F) (Rect.unit (s := S1792) off S16.size h1).toLoadRect (fun i : S1792.Idx => jW G (i 0))) := by
    intro k
    have e2 : (((Rect.unit (s := S1792) off S16.size h1).emb (lane k)) 0 : ℕ) = off 0 + k.val := unit_emb (n := 1792) (lane k)
    have e : ((aJ).view.readAt (Elt F) (Rect.unit (s := S1792) off S16.size h1).toLoadRect (fun i : S1792.Idx => jW G (i 0))) (lane k)
        = jW G (((Rect.unit (s := S1792) off S16.size h1).emb (lane k)) 0 : ℕ) := rfl
    rw [e, e2, ho, scan_off (by omega)]
  have H' := Run.fupd OSt.start (H _ hv)
  unfold Run at H' ⊢
  unfold OM
  unfold RG at H'
  rw [stgRows_split hg, rowsOf_append (a := 16 * g) (b := 16 * g + 16) (c := 1792) (by omega) (by omega)]
  iintro ⟨Hj, ⟨Hp1, Hp2, Hp3⟩, Hs, Ht, ⟨Hr0, Hr1⟩, Hr2, Hi, HB⟩
  iapply (wp_load 𝒱₀ (thr G.d G.L) none Set.univ (S := Finset.univ) (Finset.subset_univ _)) $$ Hj
  iintro Hj
  iapply H'
  isplitl [Hp2]; · iexact Hp2
  isplitl [Hr0]; · iexact Hr0
  isplitl [Ht]; · iexact Ht
  isplitl [Hs]; · iexact Hs
  isplitl [Hi]; · iexact Hi
  isplitl [HB]; · iexact HB
  isplitl [Hj]; · iexact Hj
  isplitl [Hp1]; · iexact Hp1
  isplitl [Hp3]; · iexact Hp3
  isplitl [Hr1]; · iexact Hr1
  iexact Hr2

theorem mboff {g k : ℕ} (hg : g < 112) (hk : k < 16) :
    (Scalar.muli (Scalar.addi (Scalar.muli (Scf.iv 0#32 1#32 g) 16#32) (BitVec.ofNat 32 k)) 32#32).toNat = 32 * (16 * g + k) := by
  show ((Scf.iv 0#32 1#32 g * 16#32 + BitVec.ofNat 32 k) * 32#32).toNat = _
  rw [BitVec.toNat_mul, BitVec.toNat_add, BitVec.toNat_mul, iv_toNat (by omega), BitVec.toNat_ofNat, BitVec.toNat_ofNat, BitVec.toNat_ofNat]
  omega

theorem m_out {g k h : ℕ} {P' : sProp 𝕄} (hh : h < 2) {tj : S16.Idx → BitVec 32} (htj : JAt G g tj) (hk : k < 16) {hb' : BitVec 32} (hhb : hb'.toNat = h * 1703936) {P : Prop} {hd : Decidable P}
    (hP : (8 ∣ (Scalar.addi hb' (Scalar.muli (extractAt ![0] (extractStridedSlice S1 ![k] tj (slc hk)) inpos_S1_p0) 32#32)).toNat
      ∧ ∀ a : Fin 1, (![(Scalar.addi hb' (Scalar.muli (extractAt ![0] (extractStridedSlice S1 ![k] tj (slc hk)) inpos_S1_p0) 32#32)).toNat] : Fin 1 → ℕ) a + S32.size a ≤ S3407872.size a) → P)
    {kk : PLift P → Prog (TpuEff nD τ sig (Elt F) Λ₀ (.scVector (cV G.L) (jV G.L))) α} {Q : α → sProp 𝕄}
    (H : ∀ h' : P, Run G.d G.L (OSt G (mainX G) h (stgF G h) g k P') (kk ⟨h'⟩) Q) :
    Run G.d G.L (OSt G (mainX G) h (stgF G h) g k P') (.op (.assume P hd) kk) Q :=
  s_assume (hP (chkOut hh hhb (by rw [mj_get htj hk]; exact jW_lt _))) (H _)

theorem m_oenq {g k h : ℕ} {P' : sProp 𝕄} (hG : Ok G) (hh : h < 2) (hg : g < 112) {tj : S16.Idx → BitVec 32} (htj : JAt G g tj) (hk : k < 16) {boff off : Fin 1 → ℕ}
    (hb : boff = ![(Scalar.muli (Scalar.addi (Scalar.muli (Scf.iv 0#32 1#32 g) 16#32) (BitVec.ofNat 32 k)) 32#32).toNat]) {hb' : BitVec 32} (hhb : hb'.toNat = h * 1703936) {h6 h7}
    (ho : off = ![(Scalar.addi hb' (Scalar.muli (extractAt ![0] (extractStridedSlice S1 ![k] tj h6) h7) 32#32)).toNat])
    {h1 : ∀ a, boff a + S32.size a ≤ S57344.size a} {h2 : ∀ a, off a + S32.size a ≤ S3407872.size a} {h3 h4 h5}
    {kk : PUnit → Prog (TpuEff nD τ sig (Elt F) Λ₀ (.scVector (cV G.L) (jV G.L))) α} {Q : α → sProp 𝕄}
    (H : Run G.d G.L (OSt G (mainX G) h (stgF G h) g (k + 1) P') (kk ⟨⟩) Q) :
    Run G.d G.L (OSt G (mainX G) h (stgF G h) g k P') (.op (.enqueueDma ((aStg).slice (Rect.unit (s := S57344) boff S32.size h1) (fun _ => rfl))
      (.here ((aO).slice (Rect.unit (s := S3407872) off S32.size h2) (fun _ => rfl))) (.dma cc0_scratch8.sem) h3 h4 h5) kk) Q :=
  s_oenq (X := mainX G) (mainOk hG hh) hk (by rw [hb]; exact mboff hg hk) (by rw [ho, mj_get htj hk]; exact tj_off hh hhb (jW_lt _)) H

theorem m_olast {g h : ℕ} (hg : g < 112) {sp sp' : Space} {s' : Shape} {e' : EltTy} {κ' : Kind} {srcw : Memref sig .scVector sp' s' e'}
    {dstw : Memref sig κ' sp S32 .f32} {h1 h2} (hN : dstw.view.dmaCredit = NO)
    {kk : PUnit → Prog (TpuEff nD τ sig (Elt F) Λ₀ (.scVector (cV G.L) (jV G.L))) α} {Q : α → sProp 𝕄}
    (H : Run G.d G.L (OM G h (g + 1)) (kk ⟨⟩) Q) :
    Run G.d G.L (OWt G (mainX G) h (stgF G h) g 15 (RG G h g)) (.op (.waitDma2 cc0_scratch8.sem srcw dstw h1 h2) kk) Q := by
  refine s_olast (X := mainX G) hN (Run.mono ?_ H)
  unfold OEnd RG OM
  rw [show 16 * (g + 1) = 16 * g + 16 by omega, stgRows_split hg, rowsOf_append (a := 0) (b := 16 * g) (c := 16 * g + 16) (by omega) (by omega)]
  iintro ⟨Hp2, Hr1, Ht, Hs, Hi, HB, Hj, Hp1, Hp3, Hr3, Hr2⟩
  isplitl [Hj]; · iexact Hj
  isplitl [Hp1 Hp2 Hp3]
  · isplitl [Hp1]; · iexact Hp1
    isplitl [Hp2]; · iexact Hp2
    iexact Hp3
  isplitl [Hs]; · iexact Hs
  isplitl [Ht]; · iexact Ht
  isplitl [Hr3]; · iexact Hr3
  isplitl [Hr1 Hr2]
  · isplitl [Hr2]; · iexact Hr2
    iexact Hr1
  isplitl [Hi]; · iexact Hi
  iexact HB

theorem rows_disj {X : OSpec} {m : ℕ} :
    ∀ t ∈ Finset.Ico 0 m, ∀ t' ∈ Finset.Ico 0 m, t ≠ t' → Disjoint ((seg X.n (32 * t) 32).map X.src.view.emb) ((seg X.n (32 * t') 32).map X.src.view.emb) := by
  intro t _ t' _ hne
  rw [Finset.disjoint_map, Finset.disjoint_left]
  intro i h1 h2
  rw [mem_seg] at h1 h2
  omega

theorem mem_rows {X : OSpec} {m : ℕ} (hn : X.n = 32 * m) (hset : (Finset.univ : Finset (V1 X.n).Idx).map X.src.view.emb = Finset.univ) {i : X.src.view.ref.ty.shape.Idx} :
    ∃ s ∈ Finset.Ico 0 m, i ∈ (seg X.n (32 * s) 32).map X.src.view.emb := by
  have h := Finset.mem_univ i
  rw [← hset] at h
  obtain ⟨y, -, e⟩ := Finset.mem_map.mp h
  have hy : (y 0 : ℕ) < X.n := (y 0).isLt
  exact ⟨(y 0 : ℕ) / 32, Finset.mem_Ico.mpr ⟨Nat.zero_le _, by omega⟩, Finset.mem_map.mpr ⟨y, mem_seg.mpr (by omega), e⟩⟩

/-- A whole buffer of rows, and its rows one by one. -/
theorem rows_eq {X : OSpec} {m : ℕ} (hn : X.n = 32 * m) (hset : (Finset.univ : Finset (V1 X.n).Idx).map X.src.view.emb = Finset.univ)
    (f : Buf (Elt F) (X.src.view.loc (thr G.d G.L))) :
    (X.src.view.loc (thr G.d G.L) ↦{fullShare} f : sProp 𝕄) = bigSep (Finset.Ico 0 m) (fun s => piece G X s f) := by
  refine Eq.trans ?_ (pointsTo_biUnion (ℓ := X.src.view.loc (thr G.d G.L)) (q := fullShare) (f := f) (Finset.Ico 0 m) (fun s => (seg X.n (32 * s) 32).map X.src.view.emb) rows_disj)
  refine congrArg (fun S => (X.src.view.loc (thr G.d G.L) ↦[S]{fullShare} f : sProp 𝕄)) ?_
  exact (Finset.eq_univ_iff_forall.mpr fun i => Finset.mem_biUnion.mpr (mem_rows hn hset)).symm

/-- Rows each at contents of its own are the whole buffer at some contents. -/
theorem rows_join {X : OSpec} {m : ℕ} (hn : X.n = 32 * m) (hset : (Finset.univ : Finset (V1 X.n).Idx).map X.src.view.emb = Finset.univ)
    (f₀ : Buf (Elt F) (X.src.view.loc (thr G.d G.L))) :
    (bigSep (Finset.Ico 0 m) (fun s => iprop(∃ f, piece G X s f)) : sProp 𝕄) ⊢ iprop(∃ f, X.src.view.loc (thr G.d G.L) ↦{fullShare} f) := by
  have : Nonempty (Buf (Elt F) (X.src.view.loc (thr G.d G.L))) := ⟨f₀⟩
  refine (bigSep_exists_pi (Finset.Ico 0 m) (fun s (f : Buf (Elt F) (X.src.view.loc (thr G.d G.L))) => piece G X s f)).trans ?_
  iintro ⟨%fs, H⟩
  ihave H' := (pointsTo_biUnion_join (ℓ := X.src.view.loc (thr G.d G.L)) (q := fullShare) (Val := Elt F) (Finset.Ico 0 m) (fun s => (seg X.n (32 * s) 32).map X.src.view.emb) fs f₀ rows_disj) $$ H
  icases H' with ⟨%g, -, Hg⟩
  rw [Finset.eq_univ_iff_forall.mpr fun i => Finset.mem_biUnion.mpr (mem_rows hn hset)]
  iexists g; iexact Hg

end

end Cert.Proof.Gather

end
-- ==== Proof.TileRun.lean ====
/-
  What one tile runs, from its filled lists to the last copy.
-/
module

public import proofs.«01_k».proof.Proof.PartZ
public import proofs.«01_k».proof.Proof.PartsA
public import proofs.«01_k».proof.Proof.PartsB
public import proofs.«01_k».proof.Proof.PartsC
public import proofs.«01_k».proof.Proof.MainOut

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

section
variable [FloatOps F] {G : Dat F}

/-- What the tile's own rows take, -/
def MX (G : Dat F) : sProp 𝕄 :=
  iprop(shE G ∗ semVal (thr G.d G.L, .dma cc0_scoped12.sem) 0 ∗ semVal (thr G.d G.L, .dma cc0_scoped13.sem) 0 ∗ semVal (thr G.d G.L, .dma cc0_scratch8.sem) 0
    ∗ (∃ f, blkP G f) ∗ stgP G 0 0 0 ∗ rowsOf G (mainX G) 0 0 1792 G.o0 ∗ rowsOf G (mainX G) 1 0 1792 G.o0)

/-- what the tail's copies are done with, -/
def Done (G : Dat F) : sProp 𝕄 :=
  iprop(tvP G ∗ tjP G ∗ emptyRows G 0 256 ∗ semVal (thr G.d G.L, .dma cc0_scratch9.sem) 0 ∗ semVal (thr G.d G.L, .dma cc0_scratch10.sem) 0
    ∗ rowsOf G (tailX G) 0 0 256 G.oF ∗ rowsOf G (tailX G) 1 0 256 G.oF ∗ cC G ∗ sC G 0 12)

def R0 (G : Dat F) (f0 : S3407872.Idx → F .f32) (sm : DmaSem sig) : sProp 𝕄 :=
  iprop(jP G ∗ semVal (thr G.d G.L, .dma cc0_scratch8.sem) 0 ∗ tok G fullShare ∗ dumpInv G ∗ rowsOf G (mainX G) 0 0 1792 f0 ∗ rowsOf G (mainX G) 1 0 1792 G.o0
    ∗ semVal (thr G.d G.L, .dma sm) 0 ∗ Done G)

def R1 (G : Dat F) : sProp 𝕄 :=
  iprop(vP G ∗ (∃ f, blkP G f) ∗ shE G ∗ semVal (thr G.d G.L, .dma cc0_scoped12.sem) 0 ∗ semVal (thr G.d G.L, .dma cc0_scoped13.sem) 0 ∗ rowsOf G (mainX G) 1 0 1792 G.o0 ∗ Done G)

/-- and everything, once the tile is done. -/
def Fin' (G : Dat F) : sProp 𝕄 :=
  iprop(vP G ∗ jP G ∗ (∃ f, blkP G f) ∗ (∃ f, (aStg).view.loc (thr G.d G.L) ↦{fullShare} (f : Buf (Elt F) ((aStg).view.loc (thr G.d G.L)))) ∗ semVal (thr G.d G.L, .dma cc0_scoped12.sem) 0
    ∗ semVal (thr G.d G.L, .dma cc0_scoped13.sem) 0 ∗ semVal (thr G.d G.L, .dma cc0_scratch8.sem) 0 ∗ tok G fullShare ∗ dumpInv G ∗ Base G
    ∗ rowsOf G (mainX G) 0 0 1792 G.oF ∗ rowsOf G (mainX G) 1 0 1792 G.oF ∗ Done G)

theorem e_432 : TI G aTB (cTB G) 1 16 (PB G (RM G (MX G))) ⊢ iprop(DN G cc0_scoped12.sem 0 0 ∗ R0 G G.o0 cc0_scoped13.sem) := by
  unfold TI PB RM MX DN R0 Done
  iintro ⟨Htv, Htj, He, -, Hs9, Hs10, Ht, -, Hr1, Hi, HB, -, Hr0, Hv, Hj, HC, -, HsC, HE, H12, H13, H8, Hbl, Hst, Hm0, Hm1⟩
  isplitl [Hv HE HB H12 Hbl Hst]
  · isplitl [Hv]; · iexact Hv
    isplitl [Hbl]; · iexact Hbl
    isplitl [HE]; · iexact HE
    isplitl [H12]; · iexact H12
    isplitl [HB]; · iexact HB
    iexact Hst
  isplitl [Hj]; · iexact Hj
  isplitl [H8]; · iexact H8
  isplitl [Ht]; · iexact Ht
  isplitl [Hi]; · iexact Hi
  isplitl [Hm0]; · iexact Hm0
  isplitl [Hm1]; · iexact Hm1
  isplitl [H13]; · iexact H13
  isplitl [Htv]; · iexact Htv
  isplitl [Htj]; · iexact Htj
  isplitl [He]; · iexact He
  isplitl [Hs9]; · iexact Hs9
  isplitl [Hs10]; · iexact Hs10
  isplitl [Hr0]; · iexact Hr0
  isplitl [Hr1]; · iexact Hr1
  isplitl [HC]; · iexact HC
  iexact HsC

theorem stg_rows {h : ℕ} (f : S57344.Idx → F .f32) :
    ((aStg).view.loc (thr G.d G.L) ↦{fullShare} (f : Buf (Elt F) ((aStg).view.loc (thr G.d G.L))) : sProp 𝕄)
      = bigSep (Finset.Ico 0 1792) (fun s => piece G (mainX G) s f) :=
  rows_eq (X := mainX G) (m := 1792) rfl (Finset.map_refl) f

theorem stgP_rows {h : ℕ} : stgP G h 32 0 ⊢ stgRows G h 0 1792 := by
  iintro ⟨%f, %hf, H⟩
  have e : f = stgF G h := funext fun i => hf i (.inl (Nat.mod_lt _ (by decide)))
  subst e
  iapply (Entails.of_eq (stg_rows (h := h) (stgF G h))); iexact H

theorem e_row0 : iprop(DN G cc0_scoped12.sem 0 32 ∗ R0 G G.o0 cc0_scoped13.sem) ⊢ iprop(OM G 0 0 ∗ R1 G) := by
  unfold DN R0 OM R1
  iintro ⟨⟨Hv, Hbl, HE, H12, HB, Hst⟩, Hj, H8, Ht, Hi, Hm0, Hm1, H13, HD⟩
  isplitl [Hj Hst H8 Ht Hm0 Hi HB]
  · isplitl [Hj]; · iexact Hj
    isplitl [Hst]; · iapply stgP_rows; iexact Hst
    isplitl [H8]; · iexact H8
    isplitl [Ht]; · iexact Ht
    isplitl [Hm0]; · iexact Hm0
    isplitr [Hi HB]; · rw [Nat.mul_zero, rowsOf, Finset.Ico_self, bigSep_empty]; iempintro
    isplitl [Hi]; · iexact Hi
    iexact HB
  isplitl [Hv]; · iexact Hv
  isplitl [Hbl]; · iexact Hbl
  isplitl [HE]; · iexact HE
  isplitl [H12]; · iexact H12
  isplitl [H13]; · iexact H13
  isplitl [Hm1]; · iexact Hm1
  iexact HD

theorem e_out0 : iprop(OM G 0 112 ∗ R1 G) ⊢ iprop(DN G cc0_scoped13.sem 1 0 ∗ R0 G G.oF cc0_scoped12.sem) := by
  unfold DN R0 OM R1
  iintro ⟨⟨Hj, Hst, H8, Ht, -, Hm0, Hi, HB⟩, Hv, Hbl, HE, H12, H13, Hm1, HD⟩
  ihave Hst := (Entails.of_eq (stg_rows (h := 0) (stgF G 0)).symm) $$ Hst
  have h0 : Stg G 1 0 0 (stgF G 0) := fun i hi => by omega
  isplitl [Hv HE HB H13 Hbl Hst]
  · isplitl [Hv]; · iexact Hv
    isplitl [Hbl]; · iexact Hbl
    isplitl [HE]; · iexact HE
    isplitl [H13]; · iexact H13
    isplitl [HB]; · iexact HB
    iexists _
    isplitr
    · ipureintro; exact h0
    iexact Hst
  isplitl [Hj]; · iexact Hj
  isplitl [H8]; · iexact H8
  isplitl [Ht]; · iexact Ht
  isplitl [Hi]; · iexact Hi
  isplitl [Hm0]; · iexact Hm0
  isplitl [Hm1]; · iexact Hm1
  isplitl [H12]; · iexact H12
  iexact HD

def R2 (G : Dat F) : sProp 𝕄 :=
  iprop(vP G ∗ (∃ f, blkP G f) ∗ semVal (thr G.d G.L, .dma cc0_scoped12.sem) 0 ∗ semVal (thr G.d G.L, .dma cc0_scoped13.sem) 0 ∗ rowsOf G (mainX G) 0 0 1792 G.oF ∗ Done G)

theorem e_row1 : iprop(DN G cc0_scoped13.sem 1 32 ∗ R0 G G.oF cc0_scoped12.sem) ⊢ iprop(OM G 1 0 ∗ R2 G) := by
  unfold DN R0 OM R2
  iintro ⟨⟨Hv, Hbl, -, H13, HB, Hst⟩, Hj, H8, Ht, Hi, Hm0, Hm1, H12, HD⟩
  isplitl [Hj Hst H8 Ht Hm1 Hi HB]
  · isplitl [Hj]; · iexact Hj
    isplitl [Hst]; · iapply stgP_rows; iexact Hst
    isplitl [H8]; · iexact H8
    isplitl [Ht]; · iexact Ht
    isplitl [Hm1]; · iexact Hm1
    isplitr [Hi HB]; · rw [Nat.mul_zero, rowsOf, Finset.Ico_self, bigSep_empty]; iempintro
    isplitl [Hi]; · iexact Hi
    iexact HB
  isplitl [Hv]; · iexact Hv
  isplitl [Hbl]; · iexact Hbl
  isplitl [H12]; · iexact H12
  isplitl [H13]; · iexact H13
  isplitl [Hm0]; · iexact Hm0
  iexact HD

theorem e_out1 : iprop(OM G 1 112 ∗ R2 G) ⊢ Fin' G := by
  unfold OM R2 Fin'
  iintro ⟨⟨Hj, Hst, H8, Ht, -, Hm1, Hi, HB⟩, Hv, Hbl, H12, H13, Hm0, HD⟩
  ihave Hst := (Entails.of_eq (stg_rows (h := 1) (stgF G 1)).symm) $$ Hst
  isplitl [Hv]; · iexact Hv
  isplitl [Hj]; · iexact Hj
  isplitl [Hbl]; · iexact Hbl
  isplitl [Hst]; · iexists _; iexact Hst
  isplitl [H12]; · iexact H12
  isplitl [H13]; · iexact H13
  isplitl [H8]; · iexact H8
  isplitl [Ht]; · iexact Ht
  isplitl [Hi]; · iexact Hi
  isplitl [HB]; · iexact HB
  isplitl [Hm0]; · iexact Hm0
  isplitl [Hm1]; · iexact Hm1
  iexact HD

set_option maxRecDepth 100000
set_option maxHeartbeats 4000000
attribute [local irreducible] Run ISt IWt OSt OWt TI PA PB Fil C0 C1 C2 Res dumpW Ini OM DN D1 IN RG MX RM R0 R1 R2 Done Fin'

theorem run_k (hG : Ok G) : Run G.d G.L (Fil G.d G.L 0 0 0 0 (Ini G (MX G)))
    (cc0_k (F := F) G.L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) (fun _ => Fin' G) := by
  unfold cc0_k
  refine run_426 hG fun tv tj htv htj h121 h122 h123 h124 => ?_
  refine run_427 hG htv htj h121 h122 h123 h124 fun tv tj htv htj h281 h282 h283 h284 h285 h286 h287 h288 => ?_
  refine run_428 hG htv htj h281 h282 h283 h284 h285 h286 h287 h288 fun tv tj htv htj h441 h442 h443 h444 h445 h446 h447 h448 h449 h450 h451 h452 => ?_
  refine run_429 hG htv htj h441 h442 h443 h444 h445 h446 h447 h448 h449 h450 h451 h452 fun tv tj htv htj h601 h602 h603 h604 h605 h606 h607 h608 h609 h610 h611 h612 h613 h614 h615 h616 => ?_
  refine run_430 hG htv htj h601 h602 h603 h604 h605 h606 h607 h608 h609 h610 h611 h612 h613 h614 h615 h616 fun tv tj htv htj h768 h769 h770 h771 h772 h773 h774 h775 h776 => ?_
  refine run_431 hG htv htj h768 h769 h770 h771 h772 h773 h774 h775 h776 fun tv tj htv htj h937 => ?_
  refine run_432 hG htv htj h937 ?_
  refine Run.mono e_432 ?_
  refine l_loop (fun E => DN G cc0_scoped12.sem 0 E) (n := 32) rfl (fun k => ?_) ?_
  · have hk : k.val < 32 := k.isLt
    have hcv : ∀ j : Fin 16, ((addi (broadcast S16 0#32) (broadcast S16 (Scf.iv 0#32 1#32 k.val)) : IVec S16 32) (lane j)).toNat = k.val := fun j => by
      show (0#32 + Scf.iv 0#32 1#32 k.val).toNat = _
      rw [BitVec.zero_add, iv_toNat (by omega)]
    refine d_enq hG (by decide) hk ?_ (a0W_toNat G.L) ?_
    · show (0#32 + Scf.iv 0#32 1#32 k.val).toNat = _
      rw [BitVec.toNat_add, iv_toNat (by omega), BitVec.toNat_ofNat]; omega
    refine d_wait rfl ?_
    refine l_loop (fun g => IN G 0 k.val g) (n := 112) rfl (fun g => ?_) ?_
    · have hg : g.val < 112 := g.isLt
      exact dim_step hG (by decide) hk hg hcv (iv_toNat (by omega)) (scan_off (by omega))
    · exact d_row (Entails.of_eq rfl)
  refine Run.mono e_row0 ?_
  refine l_loop (fun g => OM G 0 g) (n := 112) rfl (fun k => ?_) ?_
  · have hg : k.val < 112 := k.isLt
    iterate 6
      refine Run.cut fun kk hkk => ?_
      repeat first
        | refine m_tj (h := 0) hg rfl fun tj htj => ?_
        | refine m_out (h := 0) (by decide) htj (by decide) (hb' := 0#32) rfl (by first | exact fun h => h | exact fun h => ⟨h.1, h.2, h.2⟩) fun hc => ?_
        | refine m_oenq (h := 0) hG (by decide) hg htj (by decide) rfl (hb' := 0#32) rfl rfl ?_
        | refine s_owait0 ?_
        | refine s_owait (by decide) (by rfl) ?_
        | refine m_olast hg (by rfl) ?_
      refine hkk _ _ ?_
      clear hkk kk
    iterate 1
      repeat first
        | refine m_tj (h := 0) hg rfl fun tj htj => ?_
        | refine m_out (h := 0) (by decide) htj (by decide) (hb' := 0#32) rfl (by first | exact fun h => h | exact fun h => ⟨h.1, h.2, h.2⟩) fun hc => ?_
        | refine m_oenq (h := 0) hG (by decide) hg htj (by decide) rfl (hb' := 0#32) rfl rfl ?_
        | refine s_owait0 ?_
        | refine s_owait (by decide) (by rfl) ?_
        | refine m_olast hg (by rfl) ?_
    exact s_ret (Entails.of_eq rfl)
  refine Run.mono e_out0 ?_
  refine l_loop (fun E => DN G cc0_scoped13.sem 1 E) (n := 32) rfl (fun k => ?_) ?_
  · have hk : k.val < 32 := k.isLt
    have hcv : ∀ j : Fin 16, ((addi (broadcast S16 0#32) (broadcast S16 (Scf.iv 0#32 1#32 k.val)) : IVec S16 32) (lane j)).toNat = k.val := fun j => by
      show (0#32 + Scf.iv 0#32 1#32 k.val).toNat = _
      rw [BitVec.zero_add, iv_toNat (by omega)]
    refine d_enq hG (by decide) hk ?_ (a0W_toNat G.L) ?_
    · show (32#32 + Scf.iv 0#32 1#32 k.val).toNat = _
      rw [BitVec.toNat_add, iv_toNat (by omega), BitVec.toNat_ofNat]; omega
    refine d_wait rfl ?_
    refine l_loop (fun g => IN G 1 k.val g) (n := 112) rfl (fun g => ?_) ?_
    · have hg : g.val < 112 := g.isLt
      exact dim_step hG (by decide) hk hg hcv (iv_toNat (by omega)) (scan_off (by omega))
    · exact d_row (Entails.of_eq rfl)
  refine Run.mono e_row1 ?_
  refine l_loop (fun g => OM G 1 g) (n := 112) rfl (fun k => ?_) ?_
  · have hg : k.val < 112 := k.isLt
    iterate 6
      refine Run.cut fun kk hkk => ?_
      repeat first
        | refine m_tj (h := 1) hg rfl fun tj htj => ?_
        | refine m_out (h := 1) (by decide) htj (by decide) (hb' := 1703936#32) rfl (by first | exact fun h => h | exact fun h => ⟨h.1, h.2, h.2⟩) fun hc => ?_
        | refine m_oenq (h := 1) hG (by decide) hg htj (by decide) rfl (hb' := 1703936#32) rfl rfl ?_
        | refine s_owait0 ?_
        | refine s_owait (by decide) (by rfl) ?_
        | refine m_olast hg (by rfl) ?_
      refine hkk _ _ ?_
      clear hkk kk
    iterate 1
      repeat first
        | refine m_tj (h := 1) hg rfl fun tj htj => ?_
        | refine m_out (h := 1) (by decide) htj (by decide) (hb' := 1703936#32) rfl (by first | exact fun h => h | exact fun h => ⟨h.1, h.2, h.2⟩) fun hc => ?_
        | refine m_oenq (h := 1) hG (by decide) hg htj (by decide) rfl (hb' := 1703936#32) rfl rfl ?_
        | refine s_owait0 ?_
        | refine s_owait (by decide) (by rfl) ?_
        | refine m_olast hg (by rfl) ?_
    exact s_ret (Entails.of_eq rfl)
  exact s_ret e_out1
end

end Cert.Proof.Gather

end
-- ==== Proof.Own.lean ====
/-
  The result's rows by the tile that owns them.
-/
module

public import proofs.«01_k».proof.Proof.MainOut

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

/-- The row that an element of the result lies in, and the half. -/
def jOf (y : S3407872.Idx) : ℕ := (y 0 : ℕ) % 1703936 / 32
def hOf (y : S3407872.Idx) : ℕ := (y 0 : ℕ) / 1703936

theorem y_lt (y : S3407872.Idx) : (y 0 : ℕ) < 3407872 := (y 0).isLt

/-- The elements that tile `w` gathers, -/
def realS (ix : S49152.Idx → BitVec 32) (w : ℕ) : Finset S3407872.Idx := Finset.univ.filter fun y => jOf y < 49152 ∧ ixN ix (jOf y) / 31250 = w
/-- and, of the others, its spare ones; those from 32 on are nobody's. -/
def restK (w : ℕ) : Finset S3407872.Idx := Finset.univ.filter fun y => 49152 ≤ jOf y ∧ min (jOf y - 49152) 32 = w
/-- The rows of half `h` whose index satisfies `p`. -/
def sel (h : ℕ) (p : ℕ → Prop) [DecidablePred p] : Finset S3407872.Idx := Finset.univ.filter fun y => hOf y = h ∧ jOf y < 49152 ∧ p (jOf y)

theorem mem_realS {ix : S49152.Idx → BitVec 32} {w : ℕ} {y} : y ∈ realS ix w ↔ jOf y < 49152 ∧ ixN ix (jOf y) / 31250 = w := by simp [realS]
theorem mem_restK {w : ℕ} {y} : y ∈ restK w ↔ 49152 ≤ jOf y ∧ min (jOf y - 49152) 32 = w := by simp [restK]
theorem mem_sel {h : ℕ} {p : ℕ → Prop} [DecidablePred p] {y} : y ∈ sel h p ↔ hOf y = h ∧ jOf y < 49152 ∧ p (jOf y) := by simp [sel]

theorem mem_rowSet {h r : ℕ} (hr : r < 53248) {y : S3407872.Idx} : y ∈ rowSet h r ↔ hOf y = h ∧ jOf y = r := by
  have := y_lt y
  rw [mem_seg, hOf, jOf]
  omega

theorem spare_eq (L : grid0.Coords) : rowSet 0 (49152 + widN L) ∪ rowSet 1 (49152 + widN L) = restK (widN L) := by
  have hw := widN_lt L
  ext y
  have := y_lt y
  rw [Finset.mem_union, mem_rowSet (by omega), mem_rowSet (by omega), mem_restK, hOf, jOf]
  omega

theorem real_eq (ix : S49152.Idx → BitVec 32) (L : grid0.Coords) :
    realS ix (widN L) = (sel 0 (pM ix L) ∪ sel 1 (pM ix L)) ∪ (sel 0 (pT ix L) ∪ sel 1 (pT ix L)) := by
  ext y
  have hy := y_lt y
  rw [Finset.mem_union, Finset.mem_union, Finset.mem_union, mem_sel, mem_sel, mem_sel, mem_sel, mem_realS]
  have hh : hOf y = 0 ∨ hOf y = 1 := by rw [hOf]; omega
  unfold pM pT loN
  generalize ixN ix (jOf y) = a
  generalize jOf y = j
  generalize hOf y = h at hh
  generalize widN L = w
  omega

section
variable [FloatOps F] {G : Dat F}

theorem pts_parts {ℓ : Loc nD τ sig} {q : PosShare TreeShare} {f : Buf (Elt F) ℓ} (S : Finset ℕ) (K' : ℕ → Finset (Idx ℓ)) (A : Finset (Idx ℓ))
    (hd : ∀ t ∈ S, ∀ t' ∈ S, t ≠ t' → Disjoint (K' t) (K' t')) (hA : ∀ y, y ∈ A ↔ ∃ t ∈ S, y ∈ K' t) :
    (ℓ ↦[A]{q} f : sProp 𝕄) = bigSep S fun t => ℓ ↦[K' t]{q} f := by
  rw [← pointsTo_biUnion S K' hd]
  exact congrArg (fun A => (ℓ ↦[A]{q} f : sProp 𝕄)) (Finset.ext fun y => (hA y).trans Finset.mem_biUnion.symm)

section
variable {X : OSpec} {p : ℕ → Prop} [DecidablePred p]

theorem mem_ownSet (hc : X.cnt = Nat.count p 49152) (hr : ∀ s < X.cnt, X.row s = nthOf p s) {h s : ℕ} {y : S3407872.Idx} :
    y ∈ ownSet X h s ↔ s < X.cnt ∧ hOf y = h ∧ jOf y = nthOf p s := by
  unfold ownSet
  by_cases h1 : s < X.cnt
  · have := (nthOf_spec (p := p) (n := 49152) (s := s) (by omega)).1
    rw [if_pos h1, hr s h1, mem_rowSet (by omega)]
    exact ⟨fun h => ⟨h1, h⟩, fun h => h.2⟩
  · rw [if_neg h1]
    exact ⟨fun h => absurd h (Finset.notMem_empty _), fun h => absurd h.1 h1⟩

theorem ownSet_disj (hc : X.cnt = Nat.count p 49152) (hr : ∀ s < X.cnt, X.row s = nthOf p s) {h m : ℕ} :
    ∀ t ∈ Finset.Ico 0 m, ∀ t' ∈ Finset.Ico 0 m, t ≠ t' → Disjoint (ownSet X h t) (ownSet X h t') := by
  intro t _ t' _ hne
  rw [Finset.disjoint_left]
  intro y h1 h2
  rw [mem_ownSet hc hr] at h1 h2
  have e1 := (nthOf_spec (p := p) (n := 49152) (s := t) (by omega)).2.2
  have e2 := (nthOf_spec (p := p) (n := 49152) (s := t') (by omega)).2.2
  exact hne (by rw [← e1, ← e2, ← h1.2.2, ← h2.2.2])

theorem sel_iff (hc : X.cnt = Nat.count p 49152) (hr : ∀ s < X.cnt, X.row s = nthOf p s) {m h : ℕ} (hm : X.cnt ≤ m) (y : S3407872.Idx) :
    y ∈ sel h p ↔ ∃ s ∈ Finset.Ico 0 m, y ∈ ownSet X h s := by
  rw [mem_sel]
  constructor
  · rintro ⟨h1, h2, h3⟩
    have hlt : Nat.count p (jOf y) < X.cnt := by rw [hc]; exact Nat.count_strict_mono h3 h2
    exact ⟨Nat.count p (jOf y), Finset.mem_Ico.mpr ⟨Nat.zero_le _, by omega⟩, (mem_ownSet hc hr).mpr ⟨hlt, h1, (nthOf_count h3).symm⟩⟩
  · rintro ⟨s, -, hs⟩
    obtain ⟨h1, h2, h3⟩ := (mem_ownSet hc hr).mp hs
    obtain ⟨n1, n2, -⟩ := nthOf_spec (p := p) (n := 49152) (s := s) (by omega)
    rw [h3]
    exact ⟨h2, n1, n2⟩

end

/-- A list's rows, one by one and as one set. -/
theorem sel_eq {X : OSpec} {p : ℕ → Prop} [DecidablePred p] (hc : X.cnt = Nat.count p 49152) (hr : ∀ s < X.cnt, X.row s = nthOf p s) {m : ℕ} (hm : X.cnt ≤ m)
    (h : ℕ) (f : S3407872.Idx → F .f32) : (ownOut G (sel h p) f : sProp 𝕄) = rowsOf G X h 0 m f := by
  exact pts_parts (ℓ := (aO).view.loc (thr G.d G.L)) (q := fullShare) (f := (f : Buf (Elt F) ((aO).view.loc (thr G.d G.L)))) (Finset.Ico 0 m) (fun s => ownSet X h s) (sel h p)
    (ownSet_disj hc hr) (sel_iff hc hr hm)

theorem sel_disj {h h' : ℕ} {p q : ℕ → Prop} [DecidablePred p] [DecidablePred q] (H : h ≠ h' ∨ ∀ j, p j → ¬ q j) : Disjoint (sel h p) (sel h' q) := by
  rw [Finset.disjoint_left]
  intro y h1 h2
  rw [mem_sel] at h1 h2
  rcases H with H | H
  · exact H (h1.1.symm.trans h2.1)
  · exact H _ h1.2.2 h2.2.2

/-- What a tile gathers, as its four lists of rows. -/
theorem real_rows (hG : Ok G) (f : S3407872.Idx → F .f32) :
    (ownOut G (realS G.ix (widN G.L)) f : sProp 𝕄)
      = iprop((rowsOf G (mainX G) 0 0 1792 f ∗ rowsOf G (mainX G) 1 0 1792 f) ∗ rowsOf G (tailX G) 0 0 256 f ∗ rowsOf G (tailX G) 1 0 256 f) := by
  have hM : ∀ s < (mainX G).cnt, (mainX G).row s = nthOf (pM G.ix G.L) s := fun s hs => by
    obtain ⟨n1, n2⟩ := nthM G hs
    show (jW G s).toNat = _
    unfold jW
    rw [if_pos hs]
    show (BitVec.ofNat 32 _).toNat = _
    rw [BitVec.toNat_ofNat]; omega
  have hT : ∀ s < (tailX G).cnt, (tailX G).row s = nthOf (pT G.ix G.L) s := fun s hs => by
    obtain ⟨n1, n2⟩ := nthT G hs
    show (tjW G s).toNat = _
    unfold tjW
    rw [if_pos hs]
    show (BitVec.ofNat 32 _).toNat = _
    rw [BitVec.toNat_ofNat]; omega
  have cM : (mainX G).cnt ≤ 1792 := by show cntM G ≤ _; rw [cntM_eq]; exact hG.fit.m.trans (by decide)
  have cT : (tailX G).cnt ≤ 256 := by show cntT G ≤ _; rw [cntT_eq]; exact hG.fit.t.trans (by decide)
  have hpq : ∀ j, pM G.ix G.L j → ¬ pT G.ix G.L j := fun j h h' => by unfold pM at h; unfold pT at h'; omega
  have hu : ∀ {S T : Finset S3407872.Idx}, Disjoint S T → (ownOut G (S ∪ T) f : sProp 𝕄) = iprop(ownOut G S f ∗ ownOut G T f) :=
    fun hd => BI.equiv_iff.mp ⟨(pointsTo_union hd).1, (pointsTo_union hd).2⟩
  rw [real_eq, hu (Finset.disjoint_union_left.mpr ⟨Finset.disjoint_union_right.mpr ⟨sel_disj (.inr hpq), sel_disj (.inr hpq)⟩, Finset.disjoint_union_right.mpr ⟨sel_disj (.inr hpq), sel_disj (.inr hpq)⟩⟩),
    hu (sel_disj (.inl (by decide))), hu (sel_disj (.inl (by decide))), sel_eq (cntM_eq G) hM cM, sel_eq (cntM_eq G) hM cM, sel_eq (cntT_eq G) hT cT, sel_eq (cntT_eq G) hT cT]

end

end Cert.Proof.Gather

end
-- ==== Proof.Tile.lean ====
/-
  One tile's task, from what it is handed to what it hands back.
-/
module

public import proofs.«01_k».proof.Proof.TileRun
public import proofs.«01_k».proof.Proof.Own

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

open Idealize.ShloMosaic.SparseCore.Cfg (HIx ownBufs ownSems0 ownCells ownRefs mem_ownCells)

/-! ## The tile's own semaphores and buffers -/

/-- All of the tile's semaphores for copies. -/
def smA (t : ℕ) : DmaSem sig := match t with
  | 12 => cc0_scoped12.sem | 13 => cc0_scoped13.sem | 14 => cc0_scratch8.sem | 15 => cc0_scratch9.sem | 16 => cc0_scratch10.sem | t => smC t

theorem smA_inj : ∀ a < 17, ∀ b < 17, smA a = smA b → a = b := by decide
theorem smA_scoped : ∀ a < 17, (SemLoc.dma (smA a) : SemLoc sig).isScoped .scVector = true := by decide

section
variable (d : Dev nD) (L : grid0.Coords)

abbrev cell (t : ℕ) : GSem nD τ sig := (thr d L, .dma (smA t))

theorem cell_inj : Set.InjOn (cell d L) (Finset.range 17 : Finset ℕ) := by
  intro a ha b hb h
  have h1 : SemLoc.dma (smA a) = (SemLoc.dma (smA b) : SemLoc sig) := (Prod.mk.inj h).2
  exact smA_inj a (Finset.mem_range.mp ha) b (Finset.mem_range.mp hb) (SemLoc.dma.inj h1)

abbrev restCells : Finset (GSem nD τ sig) := ownCells (thr d L) \ (Finset.range 17).image (cell d L)

theorem sems_eq : (ownSems0 (thr d L) : sProp 𝕄)
    = iprop((bigSep (Finset.Ico 0 12) (fun s => semVal (thr d L, .dma (smC s)) 0) ∗ semVal (thr d L, .dma cc0_scoped12.sem) 0 ∗ semVal (thr d L, .dma cc0_scoped13.sem) 0
        ∗ semVal (thr d L, .dma cc0_scratch8.sem) 0 ∗ semVal (thr d L, .dma cc0_scratch9.sem) 0 ∗ semVal (thr d L, .dma cc0_scratch10.sem) 0)
      ∗ bigSep (restCells d L) fun g => semVal g 0) := by
  unfold ownSems0
  have hsub : (Finset.range 17).image (cell d L) ⊆ ownCells (thr d L) := by
    intro g hg
    obtain ⟨t, ht, rfl⟩ := Finset.mem_image.mp hg
    exact mem_ownCells.mpr ⟨rfl, smA_scoped t (Finset.mem_range.mp ht)⟩
  rw [SparseCore.bigSep_sdiff_split' hsub, BI.bigSep_image_of_injOn (cell_inj d L)]
  refine congrArg (fun P : sProp 𝕄 => iprop(P ∗ bigSep (restCells d L) fun g => semVal g 0)) ?_
  rw [show Finset.range 17 = Finset.Ico 0 17 from rfl, bigSep_Ico_append (show 0 ≤ 12 by decide) (show 12 ≤ 17 by decide),
    bigSep_Ico_succ (show 12 < 17 by decide), bigSep_Ico_succ (show 13 < 17 by decide), bigSep_Ico_succ (show 14 < 17 by decide), bigSep_Ico_succ (show 15 < 17 by decide),
    show Finset.Ico 16 17 = {16} from rfl, bigSep_singleton]
  refine congrArg (fun P : sProp 𝕄 => iprop(P ∗ semVal (cell d L 12) 0 ∗ semVal (cell d L 13) 0 ∗ semVal (cell d L 14) 0 ∗ semVal (cell d L 15) 0 ∗ semVal (cell d L 16) 0)) ?_
  refine bigSep_congr fun s hs => ?_
  have h12 : ∀ s < 12, smA s = smC s := by decide
  show (semVal (thr d L, .dma (smA s)) 0 : sProp 𝕄) = _
  rw [h12 s (Finset.mem_Ico.mp hs).2]

def R8 : Finset (Ref sig .scVector) := {cc0_scratch0, cc0_scratch1, cc0_scratch2, cc0_scratch3, cc0_scratch4, cc0_scratch5, cc0_scratch6, cc0_scratch7}

abbrev refEmb : Ref sig .scVector ↪ DevRef τ sig := ⟨(thr d L).2.devRef, Proc.devRef_injective _⟩
abbrev restRefs : Finset (DevRef τ sig) := ownRefs (thr d L).2 \ R8.map (refEmb d L)

theorem R8_owner : ∀ r ∈ R8, ((thr d L).2.devRef r : DevRef τ sig).owner = .proc (thr d L).2 := by
  intro r hr
  unfold R8 at hr
  simp only [Finset.mem_insert, Finset.mem_singleton] at hr
  rcases hr with rfl | rfl | rfl | rfl | rfl | rfl | rfl | rfl <;> rfl

abbrev anyOf (r : Ref sig .scVector) : sProp 𝕄 := iprop(∃ f : Buf (Elt F) ((thr d L).loc r), (thr d L).loc r ↦{fullShare} f)

theorem bufs_eq : (ownBufs (thr d L) : sProp 𝕄)
    = iprop((anyOf d L cc0_scratch0 ∗ anyOf d L cc0_scratch1 ∗ anyOf d L cc0_scratch2 ∗ anyOf d L cc0_scratch3 ∗ anyOf d L cc0_scratch4 ∗ anyOf d L cc0_scratch5
        ∗ anyOf d L cc0_scratch6 ∗ anyOf d L cc0_scratch7)
      ∗ bigSep (restRefs d L) fun b => iprop(∃ f, ((d, b) : Loc nD τ sig) ↦{fullShare} f)) := by
  unfold ownBufs
  have hsub : R8.map (refEmb d L) ⊆ ownRefs (thr d L).2 := by
    intro b hb
    obtain ⟨r, hr, rfl⟩ := Finset.mem_map.mp hb
    exact SparseCore.Cfg.mem_ownRefs_of_owner (R8_owner d L r hr)
  rw [SparseCore.bigSep_sdiff_split' hsub]
  refine congrArg (fun P : sProp 𝕄 => iprop(P ∗ bigSep (restRefs d L) fun b => iprop(∃ f, ((d, b) : Loc nD τ sig) ↦{fullShare} f))) ?_
  rw [bigSep_map]
  unfold R8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

end

/-! ## The task -/

section
variable [FloatOps F]

/-- What a tile is handed, -/
def Go (G : Dat F) : sProp 𝕄 :=
  iprop(shI G ∗ shE G ∗ shareOf G aTA (cTA G) ∗ shareOf G aTB (cTB G) ∗ tok G fullShare ∗ ownOut G (realS G.ix (widN G.L)) G.o0 ∗ ownOut G (restK (widN G.L)) G.o0)

/-- and what it hands back. -/
def Td (G : Dat F) : sProp 𝕄 :=
  iprop(ownOut G (realS G.ix (widN G.L)) G.oF ∗ ∃ f : S3407872.Idx → F .f32, ownOut G (restK (widN G.L)) f)

theorem fl_any {d : Dev nD} {L : grid0.Coords} {n : ℕ} {m : Memref sig .scVector .vmem (V1 n) .i32} {v : BitVec 32} :
    iprop(∃ f : Buf (Elt F) (m.view.loc (thr d L)), m.view.loc (thr d L) ↦{fullShare} f) ⊢ (Fl d L m v 0 : sProp 𝕄) := by
  unfold Fl
  have h0 : ∀ f : Buf (Elt F) (m.view.loc (thr d L)), ∀ x : (V1 n).Idx, (x 0 : ℕ) < 16 * 0 → m.view.read (Elt F) f x = v := fun f x hx => by omega
  iintro ⟨%f, H⟩
  iexists f
  isplitr; · ipureintro; exact h0 f
  iexact H

theorem rest0 (G : Dat F) (f : S3407872.Idx → F .f32) : (ownOut G (restK (widN G.L)) f : sProp 𝕄) = ownOut G (spare G) f := by
  rw [← spare_eq]

/-- The token for the spare rows. -/
theorem dump_back (G : Dat F) (hT : G.ST.Nonempty) : iprop(dumpInv G ∗ tok G fullShare) ⊢ (iprop(|={Set.univ}=> ∃ f : S3407872.Idx → F .f32, ownOut G (spare G) f) : sProp 𝕄) := by
  obtain ⟨i, hi⟩ := hT
  iintro ⟨#Hi, Ht⟩
  imod (inv_acc (Set.mem_univ G.ι)) $$ Hi with ⟨Hb, Hc⟩
  icases Hb with (Hd | Ht')
  · ihave Hc' := Hc $$ [Ht]
    · iright; iexact Ht
    imod Hc' with -
    imodintro
    iexact Hd
  · iexfalso
    iapply (pointsTo_full_share_false hi hi) $$ [Ht Ht']
    isplitl [Ht] <;> iassumption

/-- The task. -/
def task (L : grid0.Coords) : Prog (TpuEff nD τ sig (Elt F) Λ₀ (.scVector (cV L) (jV L))) PUnit :=
  cc0_k (F := F) L aE (Memref.isWhole_whole _) aTA (Memref.isWhole_whole _) aTB (Memref.isWhole_whole _) aI (Memref.isWhole_whole _) aO (Memref.isWhole_whole _) aC (Memref.isWhole_whole _) aV (Memref.isWhole_whole _) aJ (Memref.isWhole_whole _) aTV (Memref.isWhole_whole _) aTJ (Memref.isWhole_whole _) aBlk (Memref.isWhole_whole _) aStg (Memref.isWhole_whole _) aTb (Memref.isWhole_whole _) cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13

theorem run_task {G : Dat F} (hG : Ok G) : Run G.d G.L (Fil G.d G.L 0 0 0 0 (Ini G (MX G))) (task G.L) (fun _ => Fin' G) := run_k hG

/-- The tile's buffers, -/
abbrev B8 (G : Dat F) : sProp 𝕄 :=
  iprop(anyOf G.d G.L cc0_scratch0 ∗ anyOf G.d G.L cc0_scratch1 ∗ anyOf G.d G.L cc0_scratch2 ∗ anyOf G.d G.L cc0_scratch3 ∗ anyOf G.d G.L cc0_scratch4
    ∗ anyOf G.d G.L cc0_scratch5 ∗ anyOf G.d G.L cc0_scratch6 ∗ anyOf G.d G.L cc0_scratch7)
/-- and its semaphores. -/
abbrev S17 (G : Dat F) : sProp 𝕄 :=
  iprop(sC G 0 12 ∗ semVal (thr G.d G.L, .dma cc0_scoped12.sem) 0 ∗ semVal (thr G.d G.L, .dma cc0_scoped13.sem) 0
    ∗ semVal (thr G.d G.L, .dma cc0_scratch8.sem) 0 ∗ semVal (thr G.d G.L, .dma cc0_scratch9.sem) 0 ∗ semVal (thr G.d G.L, .dma cc0_scratch10.sem) 0)

theorem tb_rows (G : Dat F) : anyOf G.d G.L cc0_scratch7 ⊢ (emptyRows G 0 256 : sProp 𝕄) := by
  have h (f : S8192.Idx → F .f32) : (aTb.view.loc (thr G.d G.L) ↦{fullShare} (f : Buf (Elt F) (aTb.view.loc (thr G.d G.L))) : sProp 𝕄) ⊢ emptyRows G 0 256 := by
    refine (Entails.of_eq (rows_eq (G := G) (X := tailX G) (m := 256) rfl Finset.map_refl f)).trans (bigSep_mono fun s _ => ?_)
    show (piece G (tailX G) s f : sProp 𝕄) ⊢ pieceE G s
    iintro H; iexists f; iexact H
  iintro ⟨%f, H⟩
  iapply (h f); iexact H

theorem rows_tb (G : Dat F) (f₀ : S8192.Idx → F .f32) : (emptyRows G 0 256 : sProp 𝕄) ⊢ anyOf G.d G.L cc0_scratch7 :=
  rows_join (G := G) (X := tailX G) (m := 256) rfl Finset.map_refl f₀

theorem ini_of {G : Dat F} (hG : Ok G) :
    iprop(dumpInv G ∗ (shI G ∗ shE G ∗ shareOf G aTA (cTA G) ∗ shareOf G aTB (cTB G) ∗ tok G fullShare ∗ ownOut G (realS G.ix (widN G.L)) G.o0)
      ∗ B8 G ∗ S17 G ∗ Base G) ⊢ (Fil G.d G.L 0 0 0 0 (Ini G (MX G)) : sProp 𝕄) := by
  rw [real_rows hG]
  unfold Fil Ini Tl MX
  iintro ⟨#Hinv, ⟨HI, HE, HTA, HTB, Ht, ⟨Hm0, Hm1⟩, Ht0, Ht1⟩, ⟨HC, HV, HJ, HTV, HTJ, HB, HS, Htb⟩, ⟨Hs, Hs12, Hs13, Hs8, Hs9, Hs10⟩, Hbase⟩
  isplitl [HV]; · iapply fl_any; iexact HV
  isplitl [HJ]; · iapply fl_any; iexact HJ
  isplitl [HTV]; · iapply fl_any; iexact HTV
  isplitl [HTJ]; · iapply fl_any; iexact HTJ
  isplitl [HC]; · iexact HC
  isplitl [HI]; · iexact HI
  isplitl [Hs]; · iexact Hs
  isplitl [Hbase]; · iexact Hbase
  isplitl [Htb HTA Hs9 Hs10 Ht Ht0 HTB Ht1]
  · isplitl [Htb]; · iapply tb_rows; iexact Htb
    isplitl [HTA]; · iexact HTA
    isplitl [Hs9]; · iexact Hs9
    isplitl [Hs10]; · iexact Hs10
    isplitl [Ht]; · iexact Ht
    isplitl [Ht0]; · iexact Ht0
    isplitr; · iexact Hinv
    isplitl [HTB]; · iexact HTB
    iexact Ht1
  isplitl [HE]; · iexact HE
  isplitl [Hs12]; · iexact Hs12
  isplitl [Hs13]; · iexact Hs13
  isplitl [Hs8]; · iexact Hs8
  isplitl [HB]; · iexact HB
  isplitl [HS]
  · have h0 : ∀ f : S57344.Idx → F .f32, Stg G 0 0 0 f := fun f i hi => by omega
    icases HS with ⟨%f, HS⟩
    iexists f
    isplitr; · ipureintro; exact h0 f
    iexact HS
  isplitl [Hm0]; · iexact Hm0
  iexact Hm1

theorem of_fin {G : Dat F} (hG : Ok G) (f₀ : S8192.Idx → F .f32) :
    (Fin' G : sProp 𝕄) ⊢ iprop(|={Set.univ}=> iprop(Td G ∗ B8 G ∗ S17 G ∗ ∃ W, owes (thr G.d G.L) G.O W)) := by
  unfold Fin' Done Td
  rw [real_rows hG]
  iintro ⟨HV, HJ, HB, HS, Hs12, Hs13, Hs8, Ht, #Hinv, ⟨-, Hw⟩, Hm0, Hm1, HTV, HTJ, Htb, Hs9, Hs10, Ht0, Ht1, HC, Hs⟩
  imod (dump_back G hG.tok) $$ [Ht] with ⟨%f, Hd⟩
  · isplitr; · iexact Hinv
    iexact Ht
  imodintro
  isplitl [Hd Hm0 Hm1 Ht0 Ht1]
  · isplitl [Hm0 Hm1 Ht0 Ht1]
    · isplitl [Hm0 Hm1]
      · isplitl [Hm0]; · iexact Hm0
        iexact Hm1
      isplitl [Ht0]; · iexact Ht0
      iexact Ht1
    iexists f
    iapply (Entails.of_eq (rest0 G f).symm) $$ Hd
  isplitl [HC HV HJ HTV HTJ HB HS Htb]
  · isplitl [HC]; · iexact HC
    isplitl [HV]; · iexists _; iexact HV
    isplitl [HJ]; · iexists _; iexact HJ
    isplitl [HTV]; · iexists _; iexact HTV
    isplitl [HTJ]; · iexists _; iexact HTJ
    isplitl [HB]; · iexact HB
    isplitl [HS]; · iexact HS
    iapply (rows_tb G f₀); iexact Htb
  isplitr [Hw]
  · isplitl [Hs]; · iexact Hs
    isplitl [Hs12]; · iexact Hs12
    isplitl [Hs13]; · iexact Hs13
    isplitl [Hs8]; · iexact Hs8
    isplitl [Hs9]; · iexact Hs9
    iexact Hs10
  iexact Hw

/-- A last update of what a run ends with. -/
theorem Run.post {d : Dev nD} {L : grid0.Coords} {α : Type} {I : sProp 𝕄} {p : Prog (TpuEff nD τ sig (Elt F) Λ₀ (.scVector (cV L) (jV L))) α} {Q Q' : α → sProp 𝕄}
    (h : Run d L I p Q) (H : ∀ a, Q a ⊢ iprop(|={Set.univ}=> Q' a)) : Run d L I p Q' := by
  unfold Run at *
  exact h.trans ((wp_mono frame _ Set.univ H).trans (wp_fupd frame _ Set.univ p Q'))

theorem Run.out {d : Dev nD} {L : grid0.Coords} {α : Type} {I : sProp 𝕄} {p : Prog (TpuEff nD τ sig (Elt F) Λ₀ (.scVector (cV L) (jV L))) α} {Q : α → sProp 𝕄}
    (h : Run d L I p Q) : I ⊢ wp frame (wpE (defs₀ (F := F)) 𝒱₀ (thr d L) none) Set.univ p Q := h

/-- The tile's task once the spare rows are in common. -/
theorem run_fin {G : Dat F} (hG : Ok G) (f₀ : S8192.Idx → F .f32) :
    Run G.d G.L iprop(dumpInv G ∗ (shI G ∗ shE G ∗ shareOf G aTA (cTA G) ∗ shareOf G aTB (cTB G) ∗ tok G fullShare ∗ ownOut G (realS G.ix (widN G.L)) G.o0)
      ∗ B8 G ∗ S17 G ∗ Base G) (task G.L) (fun _ => iprop(Td G ∗ B8 G ∗ S17 G ∗ ∃ W, owes (thr G.d G.L) G.O W)) :=
  Run.post (Run.mono (ini_of hG) (run_task hG)) fun _ => of_fin hG f₀

theorem tile_body {G : Dat F} (hG : Ok G) (f₀ : S8192.Idx → F .f32) (hF : (K (F := F)).Facts) (W : Waits sig (HIx 1)) (hO : ∀ g, G.O g none = 0) :
    iprop(levAts (K (F := F)).L (K (F := F)).lev ∗ emp ∗ Go G
        ∗ scopedBufs (thr G.d G.L) ∗ scopedSems0 (thr G.d G.L) ∗ owes (thr G.d G.L) G.O W)
      ⊢ wp frame (wpE (defs₀ (F := F)) 𝒱₀ (thr G.d G.L) none) Set.univ
      (task G.L)
          fun _ => iprop(Td G ∗ scopedBufs (thr G.d G.L) ∗ scopedSems0 (thr G.d G.L)
            ∗ ∃ W', ⌜∀ p ∈ W', p ∈ W ∨ p.2 = none ∨ p.2 = some (0 : Fin 1)⌝ ∗ owes (thr G.d G.L) G.O W') := by
  rw [(K (F := F)).scopedBufs_V hF G.d (cV G.L) (jV G.L), SparseCore.Cfg.scopedSems0_V (Val := Elt F) G.d (cV G.L) (jV G.L), sems_eq, bufs_eq]
  unfold Go
  rw [rest0 G G.o0]
  iintro ⟨#Hlv, -, ⟨HI, HE, HTA, HTB, Ht, Hreal, Hsp⟩, ⟨Hb, Hbr⟩, ⟨Hs, Hsr⟩, HO⟩
  ihave Hmw := (show levAts (K (F := F)).L (K (F := F)).lev ⊢ Transfers.MayWaits (thr G.d G.L) (default : HIx 1) G.O from
    (K (F := F)).mayWaits_none (thr := thr G.d G.L) hO) $$ Hlv
  imod (inv_alloc (E := Set.univ) (P := iprop((∃ f : S3407872.Idx → F .f32, ownOut G (spare G) f) ∨ tok G fullShare))) $$ [Hsp] with ⟨%ι, #Hinv⟩
  · ileft; iexists G.o0; iexact Hsp
  iapply (wp_wand _ _ _) $$ [HI HE HTA HTB Ht Hreal Hb Hs HO Hmw]
  · iapply (Run.out (run_fin (G := { G with ι := ι }) ⟨hG.fit, hG.tok, hG.out, hG.tl⟩ f₀)) $$ [HI HE HTA HTB Ht Hreal Hb Hs HO Hmw]
    isplitr; · iexact Hinv
    isplitl [HI HE HTA HTB Ht Hreal]
    · isplitl [HI]; · iexact HI
      isplitl [HE]; · iexact HE
      isplitl [HTA]; · iexact HTA
      isplitl [HTB]; · iexact HTB
      isplitl [Ht]; · iexact Ht
      iexact Hreal
    isplitl [Hb]; · iexact Hb
    isplitl [Hs]; · iexact Hs
    isplitl [Hmw]; · iexact Hmw
    iexists W; iexact HO
  iintro %a ⟨Htd, Hb, Hs, %W', HO⟩
  isplitl [Htd]; · iexact Htd
  isplitl [Hb Hbr]; · isplitl [Hb] <;> iassumption
  isplitl [Hs Hsr]; · isplitl [Hs] <;> iassumption
  iexists W'; isplitr
  swap; · iexact HO
  ipureintro; intro p _
  rcases p.2 with _ | q
  · exact .inr (.inl rfl)
  · exact .inr (.inr (congrArg some (Subsingleton.elim q 0)))

end

end Cert.Proof.Gather

end
-- ==== Proof.Data.lean ====
/-
  The contents of the arrays the tiles are handed, as functions of the arguments, and of what the tiles leave.
-/
module

public import proofs.«01_k».proof.Proof.Tile
public import Idealize.ShloMosaic.Lib.ValueLayout

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

variable (m : (ℓ : Loc nD τ sig) → Buf (Elt F) ℓ) (d : Dev nD)

/-- The table. -/
abbrev tabM : S1000000x64.Idx → F .f32 := m ((SparseCore.T d).loc main_arg3)

/-- The indices, end to end. -/
def ixM : S49152.Idx → BitVec 32 :=
  concatenate S49152 0 [⟨S16384, (m ((SparseCore.T d).loc main_arg0) : (⟨S16384, .i32⟩ : BufTy).Contents (Elt F))⟩, ⟨S16384, (m ((SparseCore.T d).loc main_arg1) : (⟨S16384, .i32⟩ : BufTy).Contents (Elt F))⟩, ⟨S16384, (m ((SparseCore.T d).loc main_arg2) : (⟨S16384, .i32⟩ : BufTy).Contents (Elt F))⟩] concatenates_S16384_S16384_S16384_S49152_d0

/-- The table by columns, -/
def eM : S64x1000000.Idx → F .f32 := transpose S64x1000000 [1, 0] (tabM m d) transposes_S1000000x64_S64x1000000_1_0
/-- and the two halves of its last rows. -/
def slA : S64x32.Idx → F .f32 := extractStridedSlice S64x32 ![999936, 0] (tabM m d) slices_S1000000x64_S64x32_999936_0
def slB : S64x32.Idx → F .f32 := extractStridedSlice S64x32 ![999936, 32] (tabM m d) slices_S1000000x64_S64x32_999936_32
def tM (h : ℕ) : S2048.Idx → F .f32 :=
  if h = 0 then shapeCast S2048 (slA m d) shapeCasts_S64x32_S2048 else shapeCast S2048 (slB m d) shapeCasts_S64x32_S2048

/-- An index of the table, whatever the numbers. -/
def at2 (a b : ℕ) : S1000000x64.Idx := i2 (a % 1000000) (b % 64) (Nat.mod_lt _ (by decide)) (Nat.mod_lt _ (by decide))

/-- The gathered rows as the tiles lay them out, -/
def oFM : S3407872.Idx → F .f32 := fun y => tabM m d (at2 (ixN (ixM m d) (jOf y)) (hOf y * 32 + (y 0 : ℕ) % 32))
/-- and as the result has them. -/
def outM : S2x49152x32.Idx → F .f32 := fun y => tabM m d (at2 (ixN (ixM m d) (y 1)) ((y 0 : ℕ) * 32 + (y 2 : ℕ)))

/-- A row of the first of the halves stands for the spare rows while they are in common. -/
def tokSet (w : ℕ) : Finset S64x32.Idx := Finset.univ.filter fun y => (y 0 : ℕ) = w

/-- What one tile works on. -/
def datM (L : grid0.Coords) (O : CellTallies nD τ sig (SparseCore.Cfg.HIx 1)) : Dat F where
  d := d
  L := L
  ι := 0
  O := O
  ix := ixM m d
  e := eM m d
  t := tM m d
  o0 := m ((SparseCore.T d).loc main_v6)
  oF := oFM m d
  ℓT := (SparseCore.T d).loc main_v2
  ST := tokSet (widN L)
  fT := slA m d

theorem eM_at {a b : ℕ} (ha : a < 64) (hb : b < 1000000) : eM m d (i2 a b ha hb) = tabM m d (at2 b a) := by
  unfold eM
  refine transpose_apply _ (tabM m d) _ _ _ fun c => ?_
  match c with
  | ⟨0, _⟩ => exact Nat.mod_eq_of_lt ha
  | ⟨1, _⟩ => exact Nat.mod_eq_of_lt hb

theorem tM_at {h r x : ℕ} (hh : h < 2) (hr : r < 64) (hx : x < 32) : rd (tM m d h) (r * 32 + x) = tabM m d (at2 (999936 + r) (h * 32 + x)) := by
  have hlt : r * 32 + x < 2048 := by omega
  have key (f : S64x32.Idx → F .f32) : shapeCast S2048 f shapeCasts_S64x32_S2048 (i1 (r * 32 + x) hlt) = f (i2 r x hr hx) := by
    refine shapeCast_apply f _ _ _ ?_
    rw [Shape.rowMajor_val_one, Shape.rowMajor_val_two]
    rfl
  unfold rd
  rw [dif_pos hlt]
  have hh' : h = 0 ∨ h = 1 := by omega
  unfold tM
  rcases hh' with rfl | rfl
  · rw [if_pos rfl, key]
    unfold slA extractStridedSlice at2
    refine congrArg (tabM m d) (funext fun c => Fin.ext ?_)
    match c with
    | ⟨0, _⟩ => show 999936 + r = (999936 + r) % 1000000; omega
    | ⟨1, _⟩ => show 0 + x = (0 * 32 + x) % 64; omega
  · rw [if_neg (by decide), key]
    unfold slB extractStridedSlice at2
    refine congrArg (tabM m d) (funext fun c => Fin.ext ?_)
    match c with
    | ⟨0, _⟩ => show 999936 + r = (999936 + r) % 1000000; omega
    | ⟨1, _⟩ => show 32 + x = (1 * 32 + x) % 64; omega

theorem ok_dat {L : grid0.Coords} (hfit : Fit (ixM m d) L) (O : CellTallies nD τ sig (SparseCore.Cfg.HIx 1)) : Ok (datM m d L O) where
  fit := hfit
  tok := ⟨i2 (widN L) 0 (by have := widN_lt L; omega) (by decide), by
    show i2 (widN L) 0 _ _ ∈ tokSet (widN L)
    exact Finset.mem_filter.mpr ⟨Finset.mem_univ _, rfl⟩⟩
  out h x j hh hx hj y hy := by
    show oFM m d y = eM m d _
    rw [eM_at]
    unfold oFM
    have e1 : jOf y = j := by unfold jOf; omega
    have e2 : hOf y * 32 + (y 0 : ℕ) % 32 = h * 32 + x := by unfold hOf; omega
    rw [e1, e2]
    rfl
  tl h x r hh hx hr := by
    show rd (tM m d h) _ = eM m d _
    rw [eM_at, tM_at m d hh hr hx]

/-- The result from what the tiles leave. -/
theorem out_of (f : S3407872.Idx → F .f32) (hf : ∀ y, jOf y < 49152 → f y = oFM m d y) :
    extractStridedSlice S2x49152x32 ![0, 0, 0] (shapeCast S2x53248x32 f shapeCasts_S3407872_S2x53248x32) slices_S2x53248x32_S2x49152x32_0_0_0 = outM m d := by
  funext y
  have h0 : (y 0 : ℕ) < 2 := (y 0).isLt
  have h1 : (y 1 : ℕ) < 49152 := (y 1).isLt
  have h2 : (y 2 : ℕ) < 32 := (y 2).isLt
  have hlt : ((y 0 : ℕ) * 53248 + (y 1 : ℕ)) * 32 + (y 2 : ℕ) < 3407872 := by omega
  unfold extractStridedSlice
  rw [shapeCast_apply f _ _ (i1 (((y 0 : ℕ) * 53248 + (y 1 : ℕ)) * 32 + (y 2 : ℕ)) hlt) (by
    rw [Shape.rowMajor_val_one, Shape.rowMajor_val_three]
    show _ = ((0 + (y 0 : ℕ)) * 53248 + (0 + (y 1 : ℕ))) * 32 + (0 + (y 2 : ℕ))
    simp only [zero_add]
    rfl)]
  have e1 : jOf (i1 (((y 0 : ℕ) * 53248 + (y 1 : ℕ)) * 32 + (y 2 : ℕ)) hlt) = (y 1 : ℕ) := by
    show (((y 0 : ℕ) * 53248 + (y 1 : ℕ)) * 32 + (y 2 : ℕ)) % 1703936 / 32 = _; omega
  have e2 : hOf (i1 (((y 0 : ℕ) * 53248 + (y 1 : ℕ)) * 32 + (y 2 : ℕ)) hlt) = (y 0 : ℕ) := by
    show (((y 0 : ℕ) * 53248 + (y 1 : ℕ)) * 32 + (y 2 : ℕ)) / 1703936 = _; omega
  rw [hf _ (by rw [e1]; exact h1)]
  unfold oFM outM
  rw [e1, e2]
  have e3 : ((i1 (((y 0 : ℕ) * 53248 + (y 1 : ℕ)) * 32 + (y 2 : ℕ)) hlt : S3407872.Idx) 0 : ℕ) % 32 = (y 2 : ℕ) := by
    show (((y 0 : ℕ) * 53248 + (y 1 : ℕ)) * 32 + (y 2 : ℕ)) % 32 = _; omega
  rw [e3]

end Cert.Proof.Gather

end
-- ==== Proof.Deal.lean ====
/-
  What the call hands to each tile and takes back, and the shares that @main's arrays are cut into for it.
-/
module

public import proofs.«01_k».proof.Proof.Data
public import Idealize.ShloMosaic.Lib.SparseCore.Launch

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

open Idealize.ShloMosaic.SparseCore.Cfg (HIx)

variable (m : (ℓ : Loc nD τ sig) → Buf (Elt F) ℓ) (d : Dev nD)

abbrev oLoc : Loc nD τ sig := (SparseCore.T d).loc main_v6

/-- A share of an array at `f`. -/
abbrev shr (ℓ : Loc nD τ sig) (f : Buf (Elt F) ℓ) : sProp 𝕄 := iprop(∃ q, ℓ ↦{q} f)

/-- What tile `w` is handed, -/
def goW (w : ℕ) : sProp 𝕄 :=
  iprop(shr ((SparseCore.T d).loc main_v0) (ixM m d) ∗ shr ((SparseCore.T d).loc main_v1) (eM m d) ∗ shr ((SparseCore.T d).loc main_v3) (tM m d 0)
    ∗ shr ((SparseCore.T d).loc main_v5) (tM m d 1) ∗ ((SparseCore.T d).loc main_v2 ↦[tokSet w]{fullShare} slA m d)
    ∗ (oLoc d ↦[realS (ixM m d) w]{fullShare} m (oLoc d)) ∗ (oLoc d ↦[restK w]{fullShare} m (oLoc d)))
/-- and what it hands back. -/
def tdW (w : ℕ) : sProp 𝕄 :=
  iprop((oLoc d ↦[realS (ixM m d) w]{fullShare} oFM m d) ∗ ∃ f : Buf (Elt F) (oLoc d), oLoc d ↦[restK w]{fullShare} f)

instance goW_storable (w : ℕ) : BI.Storable (upEmb : UEmb _ 𝕄) (goW m d w) := by unfold goW; infer_instance
instance tdW_storable (w : ℕ) : BI.Storable (upEmb : UEmb _ 𝕄) (tdW m d w) := by unfold tdW; infer_instance

section
variable [FloatOps F]

theorem go_eq (L : grid0.Coords) (O : CellTallies nD τ sig (HIx 1)) : (goW m d (widN L) : sProp 𝕄) = Go (datM m d L O) := rfl
theorem td_eq (L : grid0.Coords) (O : CellTallies nD τ sig (HIx 1)) : (tdW m d (widN L) : sProp 𝕄) = Td (datM m d L O) := rfl

end

/-- The payloads of the call. -/
def P : (K (F := F)).Pay (nD := nD) (Val := Elt F) (Name := ℕ) (U := UU) where
  st := fun q d c => match q with | 0 => bigSep Finset.univ fun i : Fin 16 => goW m d (2 * i.val + c.val)
  dn := fun q d c => match q with | 0 => bigSep Finset.univ fun i : Fin 16 => tdW m d (2 * i.val + c.val)
  go := fun q d c i => match q with | 0 => goW m d (2 * i.val + c.val)
  td := fun q d c i => match q with | 0 => tdW m d (2 * i.val + c.val)
  x := fun _ _ => iprop(emp)

instance P_storable : (P (F := F) m).IsStorable where
  st q d c := match q with
    | 0 => (inferInstance : BI.Storable (upEmb : UEmb _ 𝕄) (bigSep Finset.univ fun i : Fin 16 => goW m d (2 * i.val + c.val)))
  dn q d c := match q with
    | 0 => (inferInstance : BI.Storable (upEmb : UEmb _ 𝕄) (bigSep Finset.univ fun i : Fin 16 => tdW m d (2 * i.val + c.val)))
  go q d c i := match q with
    | 0 => (inferInstance : BI.Storable (upEmb : UEmb _ 𝕄) (goW m d (2 * i.val + c.val)))
  td q d c i := match q with
    | 0 => (inferInstance : BI.Storable (upEmb : UEmb _ 𝕄) (tdW m d (2 * i.val + c.val)))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section
variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => task (F := F) (coordsV c s)) ⟨⟩ c s := rfl

attribute [local irreducible] task

theorem tileObl (hfit : ∀ d L, Fit (ixM m d) L) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body (G := datM m d (coordsV ⟨_, hci.1⟩ ⟨_, hci.2⟩) O) (ok_dat m d (hfit d _) O) (fun _ => tM m d 0 (i1 0 (by decide))) facts W hO
  exact h

theorem vecSplit : (K (F := F)).VecSplit' (P m) 0 := by
  intro d c
  show (bigSep Finset.univ fun i : Fin 16 => goW m d (2 * i.val + c.val)) ⊢ |={Set.univ}=> iprop(
      (bigSep Finset.univ fun i : Fin 16 => goW m d (2 * i.val + c.val))
      ∗ ((bigSep Finset.univ fun i : Fin 16 => tdW m d (2 * i.val + c.val)) -∗ bigSep Finset.univ fun i : Fin 16 => tdW m d (2 * i.val + c.val)))
  iintro H; imodintro
  isplitl [H]; · iexact H
  iintro H; iexact H

end

/-! ## The tiles by their number -/

theorem tiles_eq (Φ : ℕ → sProp 𝕄) :
    (bigSep Finset.univ fun c : Fin 2 => bigSep Finset.univ fun i : Fin 16 => Φ (2 * i.val + c.val)) = bigSep (Finset.range 32) Φ := by
  have hi : Set.InjOn (fun p : Fin 2 × Fin 16 => 2 * p.2.val + p.1.val) (Finset.univ : Finset (Fin 2 × Fin 16)) := by
    intro a _ b _ h
    have h' : 2 * a.2.val + a.1.val = 2 * b.2.val + b.1.val := h
    have := a.1.isLt; have := b.1.isLt
    exact Prod.ext (Fin.ext (by omega)) (Fin.ext (by omega))
  rw [show Finset.range 32 = (Finset.univ : Finset (Fin 2 × Fin 16)).image (fun p => 2 * p.2.val + p.1.val) by decide,
    BI.bigSep_image_of_injOn hi]
  exact (bigSep_univ_prod (fun p : Fin 2 × Fin 16 => Φ (2 * p.2.val + p.1.val))).symm

/-! ## Sets of one array -/

theorem parts_join {ℓ : Loc nD τ sig} {q : PosShare TreeShare} (S : Finset ℕ) (K' : ℕ → Finset (Idx ℓ)) (B : Finset (Idx ℓ))
    (hd : ∀ t ∈ S, ∀ t' ∈ S, t ≠ t' → Disjoint (K' t) (K' t')) (hB : ∀ y, y ∈ B ↔ ∃ t ∈ S, y ∈ K' t) (f₀ : Buf (Elt F) ℓ) :
    (bigSep S (fun t => iprop(∃ f : Buf (Elt F) ℓ, ℓ ↦[K' t]{q} f)) : sProp 𝕄) ⊢ iprop(∃ f : Buf (Elt F) ℓ, ℓ ↦[B]{q} f) := by
  have : Nonempty (Buf (Elt F) ℓ) := ⟨f₀⟩
  have hB' : S.biUnion K' = B := by ext y; rw [hB, Finset.mem_biUnion]
  refine (bigSep_exists_pi S (fun t (f : Buf (Elt F) ℓ) => (ℓ ↦[K' t]{q} f : sProp 𝕄))).trans ?_
  iintro ⟨%fs, H⟩
  ihave H' := (pointsTo_biUnion_join (ℓ := ℓ) (q := q) (Val := Elt F) S K' fs f₀ hd) $$ H
  icases H' with ⟨%g, -, Hg⟩
  rw [hB']
  iexists g; iexact Hg

theorem two_join {ℓ : Loc nD τ sig} {q : PosShare TreeShare} (A B : Finset (Idx ℓ)) (hAB : ∀ y, y ∈ A ↔ y ∉ B) (f : Buf (Elt F) ℓ) :
    (iprop((ℓ ↦[A]{q} f) ∗ ∃ g : Buf (Elt F) ℓ, ℓ ↦[B]{q} g) : sProp 𝕄) ⊢ iprop(∃ g : Buf (Elt F) ℓ, ⌜∀ y ∈ A, g y = f y⌝ ∗ ℓ ↦{q} g) := by
  have hd : Disjoint A B := Finset.disjoint_left.mpr fun y hy => (hAB y).mp hy
  have hu : A ∪ B = Finset.univ := Finset.eq_univ_iff_forall.mpr fun y => by
    rw [Finset.mem_union]
    by_cases h : y ∈ B
    · exact .inr h
    · exact .inl ((hAB y).mpr h)
  iintro ⟨HA, %g, HB⟩
  ihave H := (pointsTo_join hd) $$ [HA HB]
  · isplitl [HA] <;> iassumption
  rw [hu]
  have hp : ∀ y ∈ A, B.piecewise g f y = f y := fun y hy => Finset.piecewise_eq_of_notMem _ _ _ ((hAB y).mp hy)
  iexists (B.piecewise g f)
  isplitr; · ipureintro; exact hp
  iexact H

theorem two_split {ℓ : Loc nD τ sig} {q : PosShare TreeShare} (A B : Finset (Idx ℓ)) (hAB : ∀ y, y ∈ A ↔ y ∉ B) (f : Buf (Elt F) ℓ) :
    (ℓ ↦{q} f : sProp 𝕄) ⊢ iprop((ℓ ↦[A]{q} f) ∗ ℓ ↦[B]{q} f) := by
  have hu : Finset.univ \ A = B := by
    ext y
    rw [Finset.mem_sdiff, hAB]
    simp
  refine (pointsTo_split_subset (Finset.subset_univ A)).1.trans ?_
  rw [hu]

theorem shares {ℓ : Loc nD τ sig} (f : Buf (Elt F) ℓ) : (ℓ ↦{fullShare} f : sProp 𝕄) ⊢ bigSep (Finset.range 32) (fun _ => shr ℓ f) := by
  refine (pointsTo_toks_range fullShare 32).1.trans ?_
  iintro ⟨-, H⟩
  have h (i : ℕ) : (ℓ ↦{shareTokN fullShare i} f : sProp 𝕄) ⊢ shr ℓ f := by iintro H; iexists _; iexact H
  iapply (show (bigSep (Finset.range 32) (fun i => ℓ ↦{shareTokN fullShare i} f) : sProp 𝕄) ⊢ _ from bigSep_mono fun i _ => h i)
  iexact H

theorem parts_sub {ℓ : Loc nD τ sig} {q : PosShare TreeShare} {f : Buf (Elt F) ℓ} (S : Finset ℕ) (K' : ℕ → Finset (Idx ℓ))
    (hd : ∀ t ∈ S, ∀ t' ∈ S, t ≠ t' → Disjoint (K' t) (K' t')) : (ℓ ↦{q} f : sProp 𝕄) ⊢ bigSep S fun t => ℓ ↦[K' t]{q} f := by
  rw [← pointsTo_biUnion S K' hd]
  refine (pointsTo_split_subset (Finset.subset_univ (S.biUnion K'))).1.trans ?_
  iintro ⟨H, -⟩
  iexact H

/-! ## The result's elements -/

def realAll : Finset S3407872.Idx := Finset.univ.filter fun y => jOf y < 49152
def restAll : Finset S3407872.Idx := Finset.univ.filter fun y => 49152 ≤ jOf y

theorem real_rest (y : S3407872.Idx) : y ∈ realAll ↔ y ∉ restAll := by simp [realAll, restAll]

theorem realS_disj (ix : S49152.Idx → BitVec 32) : ∀ t ∈ Finset.range 32, ∀ t' ∈ Finset.range 32, t ≠ t' → Disjoint (realS ix t) (realS ix t') := by
  intro t _ t' _ h
  exact Finset.disjoint_left.mpr fun y h1 h2 => h ((mem_realS.mp h1).2.symm.trans (mem_realS.mp h2).2)
theorem restK_disj : ∀ t ∈ Finset.range 33, ∀ t' ∈ Finset.range 33, t ≠ t' → Disjoint (restK t) (restK t') := by
  intro t _ t' _ h
  exact Finset.disjoint_left.mpr fun y h1 h2 => h ((mem_restK.mp h1).2.symm.trans (mem_restK.mp h2).2)
theorem tok_disj : ∀ t ∈ Finset.range 32, ∀ t' ∈ Finset.range 32, t ≠ t' → Disjoint (tokSet t) (tokSet t') := by
  intro t _ t' _ h
  exact Finset.disjoint_left.mpr fun y h1 h2 => h ((Finset.mem_filter.mp h1).2.symm.trans (Finset.mem_filter.mp h2).2)

theorem mem_realAll {ix : S49152.Idx → BitVec 32} (hlt : ∀ j < 49152, ixN ix j < 1000000) (y : S3407872.Idx) :
    y ∈ realAll ↔ ∃ t ∈ Finset.range 32, y ∈ realS ix t := by
  simp only [realAll, mem_realS, Finset.mem_filter, Finset.mem_univ, true_and, Finset.mem_range]
  constructor
  · intro h
    have := hlt _ h
    exact ⟨_, by omega, h, rfl⟩
  · rintro ⟨t, -, h, -⟩; exact h
theorem mem_restAll (y : S3407872.Idx) : y ∈ restAll ↔ ∃ t ∈ Finset.range 33, y ∈ restK t := by
  simp only [restAll, mem_restK, Finset.mem_filter, Finset.mem_univ, true_and, Finset.mem_range]
  constructor
  · intro h; exact ⟨_, by omega, h, rfl⟩
  · rintro ⟨t, -, h, -⟩; exact h

section
variable [FloatOps F]

/-! ## All the tiles -/

/-- The rows that are nobody's. -/
abbrev noRows : sProp 𝕄 := (oLoc d ↦[restK 32]{fullShare} m (oLoc d) : sProp 𝕄)

theorem range33 (Φ : ℕ → sProp 𝕄) : bigSep (Finset.range 33) Φ = iprop(Φ 32 ∗ bigSep (Finset.range 32) Φ) := by
  rw [Finset.range_add_one, SparseCore.bigSep_insert' Finset.notMem_range_self]

theorem gos (hlt : ∀ j < 49152, ixN (ixM m d) j < 1000000) :
    iprop(((SparseCore.T d).loc main_v0 ↦{fullShare} ixM m d) ∗ ((SparseCore.T d).loc main_v1 ↦{fullShare} eM m d) ∗ ((SparseCore.T d).loc main_v3 ↦{fullShare} tM m d 0)
      ∗ ((SparseCore.T d).loc main_v5 ↦{fullShare} tM m d 1) ∗ ((SparseCore.T d).loc main_v2 ↦{fullShare} slA m d) ∗ (oLoc d ↦{fullShare} m (oLoc d)))
    ⊢ (iprop(bigSep (Finset.range 32) (goW m d) ∗ noRows m d) : sProp 𝕄) := by
  unfold goW
  rw [bigSep_sep', bigSep_sep', bigSep_sep', bigSep_sep', bigSep_sep', bigSep_sep']
  iintro ⟨H0, H1, H3, H5, H2, H6⟩
  ihave H := (two_split (ℓ := oLoc d) (q := fullShare) realAll restAll real_rest (m (oLoc d))) $$ H6
  icases H with ⟨HA, HB⟩
  ihave HA' := (Entails.of_eq (pts_parts (ℓ := oLoc d) (q := fullShare) (f := m (oLoc d)) (Finset.range 32) (realS (ixM m d)) realAll (realS_disj _) (mem_realAll hlt))) $$ HA
  ihave HB' := (Entails.of_eq ((pts_parts (ℓ := oLoc d) (q := fullShare) (f := m (oLoc d)) (Finset.range 33) restK restAll restK_disj mem_restAll).trans (range33 _))) $$ HB
  icases HB' with ⟨HN, HB'⟩
  isplitr [HN]
  · isplitl [H0]; · iapply shares; iexact H0
    isplitl [H1]; · iapply shares; iexact H1
    isplitl [H3]; · iapply shares; iexact H3
    isplitl [H5]; · iapply shares; iexact H5
    isplitl [H2]; · iapply (parts_sub (ℓ := (SparseCore.T d).loc main_v2) (Finset.range 32) tokSet tok_disj); iexact H2
    isplitl [HA']; · iexact HA'
    iexact HB'
  iexact HN

theorem tds (hlt : ∀ j < 49152, ixN (ixM m d) j < 1000000) :
    (iprop(bigSep (Finset.range 32) (tdW m d) ∗ noRows m d) : sProp 𝕄)
      ⊢ iprop(∃ g : Buf (Elt F) (oLoc d), ⌜∀ y ∈ realAll, g y = oFM m d y⌝ ∗ oLoc d ↦{fullShare} g) := by
  unfold tdW
  rw [bigSep_sep']
  iintro ⟨⟨HA, HB⟩, HN⟩
  iapply (two_join (ℓ := oLoc d) (q := fullShare) realAll restAll real_rest (oFM m d))
  isplitl [HA]
  · iapply (Entails.of_eq (pts_parts (ℓ := oLoc d) (q := fullShare) (f := oFM m d) (Finset.range 32) (realS (ixM m d)) realAll (realS_disj _) (mem_realAll hlt)).symm)
    iexact HA
  iapply (parts_join (ℓ := oLoc d) (q := fullShare) (Finset.range 33) restK restAll restK_disj mem_restAll (m (oLoc d)))
  iapply (Entails.of_eq (range33 (fun t => iprop(∃ f : Buf (Elt F) (oLoc d), oLoc d ↦[restK t]{fullShare} f))).symm)
  isplitl [HN]; · iexists _; iexact HN
  iexact HB

end

end Cert.Proof.Gather

end
-- ==== Proof.Launch.lean ====
/-
  @main's run: the host's operations around the call, and the program's run from the tiles'.
-/
module

public import proofs.«01_k».proof.Proof.Deal

@[expose] public section

noncomputable section

namespace Cert.Proof.Gather

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MM F

open Idealize.ShloMosaic.StableHlo (held after)
open Idealize.ShloMosaic.SparseCore.Cfg (HIx)

variable (m : (ℓ : Loc nD τ sig) → Buf (Elt F) ℓ) (ρ : Dev nD → PrngReg)

abbrev b_arg0 : DevRef τ sig := Proc.devRef .tc (main_arg0 : Ref sig .tc)
abbrev b_arg1 : DevRef τ sig := Proc.devRef .tc (main_arg1 : Ref sig .tc)
abbrev b_arg2 : DevRef τ sig := Proc.devRef .tc (main_arg2 : Ref sig .tc)
abbrev b_arg3 : DevRef τ sig := Proc.devRef .tc (main_arg3 : Ref sig .tc)
abbrev b_v0 : DevRef τ sig := Proc.devRef .tc (main_v0 : Ref sig .tc)
abbrev b_v1 : DevRef τ sig := Proc.devRef .tc (main_v1 : Ref sig .tc)
abbrev b_v2 : DevRef τ sig := Proc.devRef .tc (main_v2 : Ref sig .tc)
abbrev b_v3 : DevRef τ sig := Proc.devRef .tc (main_v3 : Ref sig .tc)
abbrev b_v4 : DevRef τ sig := Proc.devRef .tc (main_v4 : Ref sig .tc)
abbrev b_v5 : DevRef τ sig := Proc.devRef .tc (main_v5 : Ref sig .tc)
abbrev b_v6 : DevRef τ sig := Proc.devRef .tc (main_v6 : Ref sig .tc)
abbrev b_v7 : DevRef τ sig := Proc.devRef .tc (main_v7 : Ref sig .tc)
abbrev b_v8 : DevRef τ sig := Proc.devRef .tc (main_v8 : Ref sig .tc)

/-- The TensorCore's arrays. -/
abbrev S13 : Finset (DevRef τ sig) := {b_arg0, b_arg1, b_arg2, b_arg3, b_v0, b_v1, b_v2, b_v3, b_v4, b_v5, b_v6, b_v7, b_v8}
/-- The result, from the call's on. -/
abbrev S3 : Finset (DevRef τ sig) := {b_v6, b_v7, b_v8}

/-- The operations before the call -/
abbrev preOps : List (HloOp τ sig (Elt F)) :=
  [ StableHlo.nary ![main_arg0, main_arg1, main_arg2] main_v0 (fun u => (concatenate S49152 0 [⟨S16384, (u 0 : (⟨S16384, .i32⟩ : BufTy).Contents (Elt F))⟩, ⟨S16384, (u 1 : (⟨S16384, .i32⟩ : BufTy).Contents (Elt F))⟩, ⟨S16384, (u 2 : (⟨S16384, .i32⟩ : BufTy).Contents (Elt F))⟩] concatenates_S16384_S16384_S16384_S49152_d0 : (⟨S49152, .i32⟩ : BufTy).Contents (Elt F))),
    StableHlo.unary main_arg3 main_v1 ((transpose S64x1000000 [1, 0] · transposes_S1000000x64_S64x1000000_1_0) : (⟨S1000000x64, .f32⟩ : BufTy).Contents (Elt F) → (⟨S64x1000000, .f32⟩ : BufTy).Contents (Elt F)),
    StableHlo.unary main_arg3 main_v2 ((extractStridedSlice S64x32 ![999936, 0] · slices_S1000000x64_S64x32_999936_0) : (⟨S1000000x64, .f32⟩ : BufTy).Contents (Elt F) → (⟨S64x32, .f32⟩ : BufTy).Contents (Elt F)),
    StableHlo.reshape main_v2 main_v3 (rfl : (.f32 : EltTy) = .f32) shapeCasts_S64x32_S2048,
    StableHlo.unary main_arg3 main_v4 ((extractStridedSlice S64x32 ![999936, 32] · slices_S1000000x64_S64x32_999936_32) : (⟨S1000000x64, .f32⟩ : BufTy).Contents (Elt F) → (⟨S64x32, .f32⟩ : BufTy).Contents (Elt F)),
    StableHlo.reshape main_v4 main_v5 (rfl : (.f32 : EltTy) = .f32) shapeCasts_S64x32_S2048 ]
/-- and after it. -/
abbrev postOps : List (HloOp τ sig (Elt F)) :=
  [ StableHlo.reshape main_v6 main_v7 (rfl : (.f32 : EltTy) = .f32) shapeCasts_S3407872_S2x53248x32,
    StableHlo.unary main_v7 main_v8 ((extractStridedSlice S2x49152x32 ![0, 0, 0] · slices_S2x53248x32_S2x49152x32_0_0_0) : (⟨S2x53248x32, .f32⟩ : BufTy).Contents (Elt F) → (⟨S2x49152x32, .f32⟩ : BufTy).Contents (Elt F)) ]

theorem pre_sub : ∀ op ∈ preOps (F := F), op.bufs ⊆ S13 := by
  intro op h
  simp only [preOps, List.mem_cons, List.not_mem_nil, or_false] at h
  rcases h with rfl | rfl | rfl | rfl | rfl | rfl
  · show insert b_v0 (Finset.univ.image fun i : Fin 3 => _) ⊆ S13; decide
  · show ({b_arg3, b_v1} : Finset (DevRef τ sig)) ⊆ S13; decide
  · show ({b_arg3, b_v2} : Finset (DevRef τ sig)) ⊆ S13; decide
  · show ({b_v2, b_v3} : Finset (DevRef τ sig)) ⊆ S13; decide
  · show ({b_arg3, b_v4} : Finset (DevRef τ sig)) ⊆ S13; decide
  · show ({b_v4, b_v5} : Finset (DevRef τ sig)) ⊆ S13; decide
theorem post_sub : ∀ op ∈ postOps (F := F), op.bufs ⊆ S3 := by
  intro op h
  simp only [postOps, List.mem_cons, List.not_mem_nil, or_false] at h
  rcases h with rfl | rfl
  · show ({b_v6, b_v7} : Finset (DevRef τ sig)) ⊆ S3; decide
  · show ({b_v7, b_v8} : Finset (DevRef τ sig)) ⊆ S3; decide
theorem pre_fresh : ∀ op ∈ preOps (F := F), op.fresh = ∅ := by
  intro op h
  simp only [preOps, List.mem_cons, List.not_mem_nil, or_false] at h
  rcases h with rfl | rfl | rfl | rfl | rfl | rfl <;> rfl
theorem post_fresh : ∀ op ∈ postOps (F := F), op.fresh = ∅ := by
  intro op h
  simp only [postOps, List.mem_cons, List.not_mem_nil, or_false] at h
  rcases h with rfl | rfl <;> rfl

theorem held_S13 (d : Dev nD) (W : Valuation τ sig (Elt F)) :
    (held (T d) S13 W : sProp 𝕄) = iprop(((SparseCore.T d).loc main_arg0 ↦{fullShare} W b_arg0) ∗ ((SparseCore.T d).loc main_arg1 ↦{fullShare} W b_arg1) ∗ ((SparseCore.T d).loc main_arg2 ↦{fullShare} W b_arg2) ∗ ((SparseCore.T d).loc main_arg3 ↦{fullShare} W b_arg3) ∗ ((SparseCore.T d).loc main_v0 ↦{fullShare} W b_v0) ∗ ((SparseCore.T d).loc main_v1 ↦{fullShare} W b_v1) ∗ ((SparseCore.T d).loc main_v2 ↦{fullShare} W b_v2) ∗ ((SparseCore.T d).loc main_v3 ↦{fullShare} W b_v3) ∗ ((SparseCore.T d).loc main_v4 ↦{fullShare} W b_v4) ∗ ((SparseCore.T d).loc main_v5 ↦{fullShare} W b_v5) ∗ ((SparseCore.T d).loc main_v6 ↦{fullShare} W b_v6) ∗ ((SparseCore.T d).loc main_v7 ↦{fullShare} W b_v7) ∗ ((SparseCore.T d).loc main_v8 ↦{fullShare} W b_v8)) := by
  unfold held S13
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
theorem held_S3 (d : Dev nD) (W : Valuation τ sig (Elt F)) :
    (held (T d) S3 W : sProp 𝕄) = iprop(((SparseCore.T d).loc main_v6 ↦{fullShare} W b_v6) ∗ ((SparseCore.T d).loc main_v7 ↦{fullShare} W b_v7) ∗ ((SparseCore.T d).loc main_v8 ↦{fullShare} W b_v8)) := by
  unfold held S3
  rw [SparseCore.bigSep_insert' (by decide), SparseCore.bigSep_insert' (by decide), bigSep_singleton]
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7) ∗ ((SparseCore.T d).loc main_v8 ↦{fullShare} W main_v8)) := by
  unfold unscopedBufs
  rw [show (Finset.univ.filter fun b : Ref sig .tc => ¬ b.isScoped) = {main_arg0, main_arg1, main_arg2, main_arg3, main_v0, main_v1, main_v2, main_v3, main_v4, main_v5, main_v6, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

def V0 (d : Dev nD) : Valuation τ sig (Elt F) := fun b => m (d, b)
def V6 (d : Dev nD) : Valuation τ sig (Elt F) := after preOps (V0 m d)
def V7 (d : Dev nD) (f : Buf (Elt F) (oLoc d)) : Valuation τ sig (Elt F) := Function.update (V6 m d) b_v6 f

theorem unscoped_held (d : Dev nD) : (unscopedBufs d (fun b => m ((SparseCore.T d).loc b)) : sProp 𝕄) = held (T d) S13 (V0 m d) := by
  rw [unscopedBufs_eq, held_S13]; rfl

section
variable [FloatOps F]

theorem main_eq (d : Dev nD) : main (F := F) d = StableHlo.seq preOps >>= fun _ => (K (F := F)).run d 0 >>= fun _ => StableHlo.seq postOps >>= fun _ => pure ⟨⟩ := rfl

end

theorem V6_v0 (d : Dev nD) : V6 m d b_v0 = ixM m d := by unfold V6; after_results; rfl
theorem V6_v1 (d : Dev nD) : V6 m d b_v1 = eM m d := by unfold V6; after_results; rfl
theorem V6_v2 (d : Dev nD) : V6 m d b_v2 = slA m d := by unfold V6; after_results; rfl
theorem V6_v3 (d : Dev nD) : V6 m d b_v3 = tM m d 0 := by unfold V6; after_results; rfl
theorem V6_v5 (d : Dev nD) : V6 m d b_v5 = tM m d 1 := by unfold V6; after_results; rfl
theorem V6_v6 (d : Dev nD) : V6 m d b_v6 = m (oLoc d) := by unfold V6; after_results; rfl
theorem V6_arg0 (d : Dev nD) : V6 m d b_arg0 = m ((SparseCore.T d).loc main_arg0) := by unfold V6; after_results; rfl
theorem V6_arg1 (d : Dev nD) : V6 m d b_arg1 = m ((SparseCore.T d).loc main_arg1) := by unfold V6; after_results; rfl
theorem V6_arg2 (d : Dev nD) : V6 m d b_arg2 = m ((SparseCore.T d).loc main_arg2) := by unfold V6; after_results; rfl
theorem V6_arg3 (d : Dev nD) : V6 m d b_arg3 = m ((SparseCore.T d).loc main_arg3) := by unfold V6; after_results; rfl
theorem V7_v6 (d : Dev nD) (f : Buf (Elt F) (oLoc d)) : V7 m d f b_v6 = f := Function.update_self _ _ _
theorem V7_v7 (d : Dev nD) (f : Buf (Elt F) (oLoc d)) : V7 m d f b_v7 = V6 m d b_v7 := Function.update_of_ne (show b_v7 ≠ b_v6 by decide) _ _
theorem V7_v8 (d : Dev nD) (f : Buf (Elt F) (oLoc d)) : V7 m d f b_v8 = V6 m d b_v8 := Function.update_of_ne (show b_v8 ≠ b_v6 by decide) _ _
theorem V9_v8 (d : Dev nD) (f : Buf (Elt F) (oLoc d)) (hf : ∀ y ∈ realAll, f y = oFM m d y) : after postOps (V7 m d f) b_v8 = outM m d := by
  after_results
  rw [V7_v6]
  exact out_of m d f fun y hy => hf y (Finset.mem_filter.mpr ⟨Finset.mem_univ _, hy⟩)

/-! ## The launch's element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main -/

theorem st0_eq (d : Dev nD) : (bigSep Finset.univ fun c : Fin ((K (F := F)).nCore 0) => (P m).st 0 d c) = bigSep (Finset.range 32) (goW m d) :=
  tiles_eq (goW m d)
theorem dn0_eq (d : Dev nD) : (bigSep Finset.univ fun c : Fin ((K (F := F)).nCore 0) => (P m).dn 0 d c) = bigSep (Finset.range 32) (tdW m d) :=
  tiles_eq (tdW m d)

abbrev atM (d : Dev nD) (b : Ref sig .tc) : sProp 𝕄 := ((SparseCore.T d).loc b ↦{fullShare} m ((SparseCore.T d).loc b) : sProp 𝕄)

/-- What @main leaves. -/
def FIN (d : Dev nD) : sProp 𝕄 :=
  iprop(atM m d main_arg0 ∗ atM m d main_arg1 ∗ atM m d main_arg2 ∗ atM m d main_arg3 ∗ ((SparseCore.T d).loc main_v8 ↦{fullShare} outM m d))

section
variable [FloatOps F]

theorem hmain (hlt : ∀ d, ∀ j < 49152, ixN (ixM m d) j < 1000000) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d S13 _ preOps pre_sub pre_fresh (V0 m d)) $$ [Hb Hheld]
  · isplitl [Hb] <;> iassumption
  iintro ⟨Hb, Hheld⟩
  ihave Hh := (show (held d.tc S13 (after preOps (V0 m d)) : sProp 𝕄) ⊢ _ from Entails.of_eq (held_S13 (F := F) d (V6 m d))) $$ Hheld
  rw [V6_arg0, V6_arg1, V6_arg2, V6_arg3, V6_v0, V6_v1, V6_v2, V6_v3, V6_v5, V6_v6]
  icases Hh with ⟨Ha0, Ha1, Ha2, Ha3, H0, H1, H2, H3, -, H5, H6, H7, H8⟩
  ihave Hg := (gos m d (hlt d)) $$ [H0 H1 H2 H3 H5 H6]
  · isplitl [H0]; · iexact H0
    isplitl [H1]; · iexact H1
    isplitl [H3]; · iexact H3
    isplitl [H5]; · iexact H5
    isplitl [H2]; · iexact H2
    iexact H6
  icases Hg with ⟨Hg, Hn⟩
  rw [wp_bind]
  iapply ((K (F := F)).wp_run (D (F := F)) 𝒱 (EH := EH) (P := P m) κ d 0) $$ [Hst Hg Hn Hb Hts H7 H8 Ha0 Ha1 Ha2 Ha3]
  isplitr; · iexact Hctx
  isplitl [Hst]; · iexact Hst
  isplitl [Hg]
  · iapply (Entails.of_eq (st0_eq m d).symm); iexact Hg
  iintro ⟨Hst, Hdn⟩
  ihave Hdn' := (Entails.of_eq (dn0_eq m d)) $$ Hdn
  ihave Hq := (tds m d (hlt d)) $$ [Hdn' Hn]
  · isplitl [Hdn'] <;> iassumption
  icases Hq with ⟨%g, %hg, H6⟩
  iapply (StableHlo.wp_seq 𝒱 none Set.univ d S3 _ postOps post_sub post_fresh (V7 m d g)) $$ [Hb H6 H7 H8]
  · isplitl [Hb]; · iexact Hb
    rw [held_S3, V7_v6, V7_v7, V7_v8]
    isplitl [H6]; · iexact H6
    isplitl [H7]; · iexact H7
    iexact H8
  iintro ⟨Hb, Hheld⟩
  ihave Hh := (show (held d.tc S3 (after postOps (V7 m d g)) : sProp 𝕄) ⊢ _ from Entails.of_eq (held_S3 (F := F) d _)) $$ Hheld
  rw [V9_v8 m d g hg]
  icases Hh with ⟨-, -, H8⟩
  rw [wp_pure]
  imodintro
  isplitl [Hst]; · iexact Hst
  isplitr [Hb Hts]
  · unfold FIN
    isplitl [Ha0]; · iexact Ha0
    isplitl [Ha1]; · iexact Ha1
    isplitl [Ha2]; · iexact Ha2
    isplitl [Ha3]; · iexact Ha3
    iexact H8
  isplitl [Hb] <;> iassumption

end

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v8) = outM m d

theorem agree (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  have h' : s'.mem.mem ℓ = f := funext fun i => h i (Finset.mem_univ i)
  isplitr; · ipureintro; exact h'
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H8⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ihave H := (agree s' _ _) $$ [HSI H8]
  · isplitl [HSI] <;> iassumption
  icases H with ⟨%h8, -⟩
  ipureintro; exact ⟨h0, h1, h2, h3, h8⟩

/-! ## The program's run -/

def QC : PUnit × MemSt nD τ sig (Elt F) → Prop := fun r => (∀ c : Dev nD,
  r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_v8) = outM m c) ∧ r.2.sem = fun _ => 0

theorem run_main [FloatOps F] [∀ e, Nonempty (Elt F e)] (hfit : ∀ d L, Fit (ixM m d) L) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hfit)
    (fun q _ => match q with | 0 => SparseCore.Cfg.VecSplit.of_plain (vecSplit m))
    m ρ main (fun _ => iprop(emp)) (FIN m) (u₀ (F := F)) (sep_elim_left.trans (hu₀ m))
    (hmain m ρ fun d => (hfit d (coordsV ⟨0, by decide⟩ ⟨0, by decide⟩)).lt) (fq m) (hfin m) (QC m) (fun _ h hz => ⟨h, hz⟩)

end Cert.Proof.Gather

end
-- ==== Proof.Same.lean ====
/-
  The two programs have one text, so they are one program: part by part for the longest of it, then whole; what is proved of a
  run of the one is proved of the other.
-/
module

public import proofs.«01_k».proof.Kernel
public import proofs.«01_k».proof.KernelIdeal
public import proofs.«01_k».proof.Proof.Gen.Kernel
public import proofs.«01_k».proof.Proof.Gen.KernelIdeal
public import Idealize.ShloMosaic.Adequacy

@[expose] public section

set_option maxHeartbeats 0
set_option maxRecDepth 100000

noncomputable section

namespace Cert.Proof.Same

open Idealize.ShloMosaic Idealize.SL.Sem

variable {F : FTy → Type} [FloatOps F]

/-! The parts that call others, -/

theorem part426 : @Cert.Kernel.k0_part426 F _ _ = @Cert.KernelIdeal.k0_part426 F _ _ := rfl
theorem part427 : @Cert.Kernel.k0_part427 F _ = @Cert.KernelIdeal.k0_part427 F _ := rfl
theorem part428 : @Cert.Kernel.k0_part428 F _ = @Cert.KernelIdeal.k0_part428 F _ := rfl
theorem part429 : @Cert.Kernel.k0_part429 F _ = @Cert.KernelIdeal.k0_part429 F _ := rfl
theorem part430 : @Cert.Kernel.k0_part430 F _ = @Cert.KernelIdeal.k0_part430 F _ := rfl
theorem part431 : @Cert.Kernel.k0_part431 F _ = @Cert.KernelIdeal.k0_part431 F _ := rfl
theorem part432 : @Cert.Kernel.k0_part432 F _ = @Cert.KernelIdeal.k0_part432 F _ := rfl

attribute [local irreducible] Cert.Kernel.k0_part426 Cert.KernelIdeal.k0_part426 Cert.Kernel.k0_part427 Cert.KernelIdeal.k0_part427 Cert.Kernel.k0_part428 Cert.KernelIdeal.k0_part428 Cert.Kernel.k0_part429 Cert.KernelIdeal.k0_part429 Cert.Kernel.k0_part430 Cert.KernelIdeal.k0_part430 Cert.Kernel.k0_part431 Cert.KernelIdeal.k0_part431 Cert.Kernel.k0_part432 Cert.KernelIdeal.k0_part432

/-- the task that calls them, -/
theorem body : @Cert.Kernel.cc0_k F _ _ = @Cert.KernelIdeal.cc0_k F _ _ := by
  unfold Cert.Kernel.cc0_k Cert.KernelIdeal.cc0_k
  rw [part426, part427, part428, part429, part430, part431, part432]
  rfl

/-- the table of bodies, -/
theorem table : @Cert.Kernel.defs₀ F _ _ = @Cert.KernelIdeal.defs₀ F _ _ := by
  unfold Cert.Kernel.defs₀ Cert.KernelIdeal.defs₀
  rw [body]
  rfl

attribute [local irreducible] Cert.Kernel.cc0_k Cert.KernelIdeal.cc0_k Cert.Kernel.defs₀ Cert.KernelIdeal.defs₀

theorem defs : @Cert.Kernel.defs F _ _ = @Cert.KernelIdeal.defs F _ _ := by
  unfold Cert.Kernel.defs Cert.KernelIdeal.defs
  rw [table]
  rfl

attribute [local irreducible] Cert.Kernel.defs Cert.KernelIdeal.defs

/-- and a run. -/
theorem run {m : MemSt Cert.KernelIdeal.nD Cert.KernelIdeal.τ Cert.KernelIdeal.sig (Elt F)} {Q : PUnit × MemSt Cert.KernelIdeal.nD Cert.KernelIdeal.τ Cert.KernelIdeal.sig (Elt F) → Prop}
    (h : θ_run (Cert.KernelIdeal.defs (F := F)) (Cert.KernelIdeal.threads (F := F)) m Q) : θ_run (Cert.Kernel.defs (F := F)) (Cert.Kernel.threads (F := F)) m Q := by
  rw [defs]
  exact h

end Cert.Proof.Same

end
-- ==== Proof.Fits.lean ====
/-
  What the precondition says of the indices: they are of the table, and no tile's share of them, aligned or of the tail, is
  more than its buffers hold.
-/
module

public import proofs.«01_k».proof.Proof.Scan
public import proofs.«01_k».proof.Pre_fits
public import Idealize.ShloMosaic.Lib.StableHlo.Predicate
public import Idealize.ShloMosaic.Lib.IndicatorCount
public import Idealize.ShloMosaic.Lib.Affine

@[expose] public section

noncomputable section

namespace Cert.Proof.Gather

open Idealize.ShloMosaic
open Idealize.ShloMosaic.StableHlo.Predicate (ij i1q bcast_of_row bcast_of_col bcast_row1 bcast_col1 toNat_reduce_count_cols sle_iff_toNat slt_iff_toNat sge_iff_toNat)

/-- A word that is not negative and less than a million. -/
theorem word_lt {v : BitVec 32} (h0 : IntOp.cmpi .sge v 0#32 = 1#1) (h1 : IntOp.cmpi .slt v 1000000#32 = 1#1) : v.toNat < 1000000 := by
  have h : 2 * v.toNat < 2 ^ 32 := by
    rw [IntOp.cmpi_sge, show (0#32 : BitVec 32).toInt = 0 from by decide] at h0
    exact BitVec.toInt_pos_iff.mp h0
  exact (slt_iff_toNat (b := 1000000#32) (by omega) (by decide)).mp h1

theorem fin_eq {n : ℕ} (q : Fin n) : (Shape.Idx.ofFin q : (V1 n).Idx) = i1 q.val q.isLt := by
  funext a
  have : a = 0 := Subsingleton.elim _ _
  subst this
  rfl

/-- A count of the numbers below 49152 is at most a count of the same as indices. -/
theorem count_le {p : ℕ → Prop} [DecidablePred p] {p' : Fin 49152 → Prop} [DecidablePred p'] (h : ∀ q : Fin 49152, p q.val → p' q) :
    Nat.count p 49152 ≤ (Finset.univ.filter p').card := by
  rw [Nat.count_eq_card_filter_range]
  refine Finset.card_le_card_of_injOn (fun j => (⟨j % 49152, Nat.mod_lt _ (by decide)⟩ : Fin 49152)) ?_ ?_
  · intro j hj
    obtain ⟨h1, h2⟩ := Finset.mem_filter.mp hj
    have h1' := Finset.mem_range.mp h1
    refine Finset.mem_filter.mpr ⟨Finset.mem_univ _, h _ ?_⟩
    show p (j % 49152)
    rw [Nat.mod_eq_of_lt h1']; exact h2
  · intro j hj k hk e
    have hj' := Finset.mem_range.mp (Finset.mem_filter.mp hj).1
    have hk' := Finset.mem_range.mp (Finset.mem_filter.mp hk).1
    have e' : j % 49152 = k % 49152 := congrArg Fin.val e
    omega

section
variable [Pre_fits.Facts] {F : FTy → Type} [FloatOps F]
open Pre_fits Pre_fits.Facts

/-- The indices, end to end. -/
abbrev ixP (a0 a1 a2 : IVec Pre_fits.S16384 32) : IVec Pre_fits.S49152 32 :=
  concatenate Pre_fits.S49152 0 [⟨Pre_fits.S16384, a0⟩, ⟨Pre_fits.S16384, a1⟩, ⟨Pre_fits.S16384, a2⟩] concatenates_S16384_S16384_S16384_S49152_d0

/-- The first row of a tile's share, tile by tile, -/
def loV : IVec Pre_fits.S32x1 32 :=
  muli (broadcastInDim Pre_fits.S32x1 ![] bcast_S_S32x1 (constantI Pre_fits.S_ 32 31250#32)) (broadcastInDim Pre_fits.S32x1 ![0] bcast_S32_S32x1_0 (iotaInDim Pre_fits.S32 32 0))
/-- the indices, a row of them, and that row for each tile, -/
def rowV (ix : IVec Pre_fits.S49152 32) : IVec Pre_fits.S1x49152 32 := broadcastInDim Pre_fits.S1x49152 ![1] bcast_S49152_S1x49152_1 ix
def rowsV (ix : IVec Pre_fits.S49152 32) : IVec Pre_fits.S32x49152 32 := broadcastInDim Pre_fits.S32x49152 ![0, 1] bcast_S1x49152_S32x49152_0_1 (rowV ix)
/-- which index is an aligned one of which tile's share, -/
def maskV (ix : IVec Pre_fits.S49152 32) : IVec Pre_fits.S32x49152 1 :=
  andi (andi (cmpi .sge (rowsV ix) (broadcastInDim Pre_fits.S32x49152 ![0, 1] bcast_S32x1_S32x49152_0_1 loV))
    (cmpi .slt (rowsV ix) (broadcastInDim Pre_fits.S32x49152 ![0, 1] bcast_S32x1_S32x49152_0_1 (addi loV (broadcastInDim Pre_fits.S32x1 ![] bcast_S_S32x1 (constantI Pre_fits.S_ 32 31250#32))))))
    (broadcastInDim Pre_fits.S32x49152 ![0, 1] bcast_S1x49152_S32x49152_0_1 (cmpi .slt (rowV ix) (broadcastInDim Pre_fits.S1x49152 ![] bcast_S_S1x49152 (constantI Pre_fits.S_ 32 999936#32))))
/-- and which is of the tail. -/
def tailV (ix : IVec Pre_fits.S49152 32) : IVec Pre_fits.S49152 1 :=
  cmpi .sge ix (broadcastInDim Pre_fits.S49152 ![] bcast_S_S49152 (constantI Pre_fits.S_ 32 999936#32))

theorem rowV_apply (ix : IVec Pre_fits.S49152 32) (q : Fin 49152) : rowV ix (i1q q) = ix (Shape.Idx.ofFin q) := bcast_row1 _ _ _
theorem rowsV_apply (ix : IVec Pre_fits.S49152 32) (p : Fin 32) (q : Fin 49152) : rowsV ix (ij p q) = ix (Shape.Idx.ofFin q) :=
  (bcast_of_row _ _ _ _).trans (rowV_apply ix q)
theorem loV_apply (p : Fin 32) : loV (StableHlo.Predicate.ixP p) = 31250#32 * BitVec.ofNat 32 p.val := by
  show IntOp.muli _ (broadcastInDim Pre_fits.S32x1 ![0] bcast_S32_S32x1_0 (iotaInDim Pre_fits.S32 32 0) (StableHlo.Predicate.ixP p)) = _
  rw [bcast_col1]
  rfl
theorem loV_toNat (p : Fin 32) : (loV (StableHlo.Predicate.ixP p)).toNat = p.val * 31250 := by
  have := p.isLt
  rw [loV_apply, BitVec.toNat_mul, BitVec.toNat_ofNat, BitVec.toNat_ofNat]
  omega

/-- An index that is an aligned one of a tile's share is marked so. -/
theorem maskV_one {ix : IVec Pre_fits.S49152 32} (p : Fin 32) (q : Fin 49152) (h0 : p.val * 31250 ≤ (ix (Shape.Idx.ofFin q)).toNat) (h1 : (ix (Shape.Idx.ofFin q)).toNat < p.val * 31250 + 31250)
    (h2 : (ix (Shape.Idx.ofFin q)).toNat < 999936) : maskV ix (ij p q) = 1#1 := by
  have hp := p.isLt
  have hl := loV_toNat p
  have hu : (IntOp.addi (loV (StableHlo.Predicate.ixP p)) 31250#32).toNat = p.val * 31250 + 31250 := by
    show (loV (StableHlo.Predicate.ixP p) + 31250#32).toNat = _
    rw [BitVec.toNat_add, hl, BitVec.toNat_ofNat]
    omega
  have ea : broadcastInDim Pre_fits.S32x49152 ![0, 1] bcast_S32x1_S32x49152_0_1 loV (ij p q) = loV (StableHlo.Predicate.ixP p) := bcast_of_col _ _ _ _
  have eb : broadcastInDim Pre_fits.S32x49152 ![0, 1] bcast_S32x1_S32x49152_0_1 (addi loV (broadcastInDim Pre_fits.S32x1 ![] bcast_S_S32x1 (constantI Pre_fits.S_ 32 31250#32))) (ij p q)
      = IntOp.addi (loV (StableHlo.Predicate.ixP p)) 31250#32 := bcast_of_col _ _ _ _
  have ec : broadcastInDim Pre_fits.S32x49152 ![0, 1] bcast_S1x49152_S32x49152_0_1 (cmpi .slt (rowV ix) (broadcastInDim Pre_fits.S1x49152 ![] bcast_S_S1x49152 (constantI Pre_fits.S_ 32 999936#32))) (ij p q)
      = IntOp.cmpi .slt (rowV ix (i1q q)) 999936#32 := bcast_of_row _ _ _ _
  have e3 (a b c : BitVec 1) (h : IntOp.andi (IntOp.andi a b) c = 1#1) (A B C : IVec Pre_fits.S32x49152 1) (hA : A (ij p q) = a) (hB : B (ij p q) = b) (hC : C (ij p q) = c) :
      andi (andi A B) C (ij p q) = 1#1 := by
    subst hA hB hC
    exact h
  have e2 (P : CmpIPredicate) (A B : IVec Pre_fits.S32x49152 32) {a b : BitVec 32} (hA : A (ij p q) = a) (hB : B (ij p q) = b) : cmpi P A B (ij p q) = IntOp.cmpi P a b := by
    subst hA hB
    rfl
  rw [rowV_apply] at ec
  refine e3 _ _ _ ?_ _ _ _ (e2 .sge _ _ (rowsV_apply ix p q) ea) (e2 .slt _ _ (rowsV_apply ix p q) eb) ec
  refine IntOp.andi_eq_one.mpr ⟨IntOp.andi_eq_one.mpr ⟨(sge_iff_toNat (by omega) (by omega)).mpr (by omega), ?_⟩, ?_⟩
  · exact (slt_iff_toNat (by omega) (by omega)).mpr (by omega)
  · exact (slt_iff_toNat (b := 999936#32) (by omega) (by decide)).mpr h2

theorem ixN_fin (ix : IVec Pre_fits.S49152 32) (q : Fin 49152) : ixN ix q.val = (ix (Shape.Idx.ofFin q)).toNat := by
  unfold ixN
  rw [dif_pos q.isLt, fin_eq]

theorem fit_of {a0 a1 a2 : IVec Pre_fits.S16384 32} {a3 : FVec F Pre_fits.S1000000x64 .f32}
    (h : (Pre_fits.fn (F := F) a0 a1 a2 a3).1 = (fun _ => 1#1) ∧ (Pre_fits.fn (F := F) a0 a1 a2 a3).2.1 = (fun _ => 1#1) ∧ (Pre_fits.fn (F := F) a0 a1 a2 a3).2.2 = (fun _ => 1#1))
    (L : Cert.KernelIdeal.grid0.Coords) : Fit (ixP a0 a1 a2) L := by
  obtain ⟨h1, h2, h3⟩ := h
  unfold Pre_fits.fn Pre_fits.fn_part1 at h1 h2 h3
  dsimp only at h1 h2 h3
  unfold ixP
  generalize concatenate Pre_fits.S49152 0 [⟨Pre_fits.S16384, a0⟩, ⟨Pre_fits.S16384, a1⟩, ⟨Pre_fits.S16384, a2⟩] concatenates_S16384_S16384_S16384_S49152_d0 = ix at h1 h2 h3 ⊢
  have hk (k : Pre_fits.S49152.Idx) : (ix k).toNat < 1000000 := by
    have e : IntOp.andi (IntOp.cmpi .sge (ix k) 0#32) (IntOp.cmpi .slt (ix k) 1000000#32) = 1#1 := congrFun h1 k
    obtain ⟨e1, e2⟩ := IntOp.andi_eq_one.mp e
    exact word_lt e1 e2
  have hlt : ∀ j < 49152, ixN ix j < 1000000 := by
    intro j hj
    unfold ixN
    rw [dif_pos hj]
    exact hk _
  have hw := widN_lt L
  refine ⟨hlt, ?_, ?_⟩
  · have e := congrFun h2 (i1 (widN L) hw)
    change IntOp.cmpi .sle (Host.reduce IntOp.addi (extui 32 (maskV ix) natLt_1_32) (constantI Pre_fits.S_ 32 0#32) reducesTo_S32x49152_S32_d1 h_S_ (i1 (widN L) hw)) 1744#32 = 1#1 at e
    have hc := toNat_reduce_count_cols (n := 32) (m := 49152) (by decide) (maskV ix) natLt_1_32 reducesTo_S32x49152_S32_d1 h_S_ (i1 (widN L) hw)
    have hb := Finset.card_le_univ (Finset.univ.filter fun q : Fin 49152 => maskV ix (ij ((i1 (widN L) hw : (V1 32).Idx) 0) q) = 1#1)
    rw [Fintype.card_fin] at hb
    have hr := (sle_iff_toNat (b := 1744#32) (by rw [hc]; omega) (by decide)).mp e
    rw [hc] at hr
    refine le_trans (count_le fun q hq => ?_) hr
    obtain ⟨g0, g1, g2⟩ := hq
    rw [ixN_fin] at g0 g1 g2
    exact maskV_one ⟨widN L, hw⟩ q g0 g1 g2
  · have e := congrFun h3 (Shape.Idx.first h_S_)
    change IntOp.cmpi .sle (Host.reduce IntOp.addi (extui 32 (tailV ix) natLt_1_32) (constantI Pre_fits.S_ 32 0#32) reducesTo_S49152_S_d0 h_S_ (Shape.Idx.first h_S_)) 208#32 = 1#1 at e
    have hc : Host.reduce IntOp.addi (extui 32 (tailV ix) natLt_1_32) (constantI Pre_fits.S_ 32 0#32) reducesTo_S49152_S_d0 h_S_ (Shape.Idx.first h_S_)
        = BitVec.ofNat 32 ((Finset.univ.filter fun i : Pre_fits.S49152.Idx => tailV ix i = 1#1)).card := by
      rw [Host.reduce_eq_fold, Finset.filter_true_of_mem (fun i _ => Subsingleton.elim _ _)]
      exact IndicatorCount.fold_addi_setWidth_eq_card _ _
    have hcard : (Finset.univ.filter fun i : Pre_fits.S49152.Idx => tailV ix i = 1#1).card = (Finset.univ.filter fun q : Fin 49152 => tailV ix (Shape.Idx.ofFin q) = 1#1).card := by
      refine Finset.card_bij' (fun i _ => (i 0 : Fin 49152)) (fun q _ => (Shape.Idx.ofFin q : Pre_fits.S49152.Idx)) ?_ ?_ ?_ ?_
      · intro i hi
        refine Finset.mem_filter.mpr ⟨Finset.mem_univ _, ?_⟩
        have : (Shape.Idx.ofFin (i 0 : Fin 49152) : Pre_fits.S49152.Idx) = i := by
          funext a
          match a with
          | ⟨0, _⟩ => rfl
        rw [this]
        exact (Finset.mem_filter.mp hi).2
      · intro q hq
        exact Finset.mem_filter.mpr ⟨Finset.mem_univ _, (Finset.mem_filter.mp hq).2⟩
      · intro i _
        funext a
        match a with
        | ⟨0, _⟩ => rfl
      · intro q _
        rfl
    rw [hc, hcard] at e
    have hb := Finset.card_le_univ (Finset.univ.filter fun q : Fin 49152 => tailV ix (Shape.Idx.ofFin q) = 1#1)
    rw [Fintype.card_fin] at hb
    have hn : (BitVec.ofNat 32 (Finset.univ.filter fun q : Fin 49152 => tailV ix (Shape.Idx.ofFin q) = 1#1).card).toNat = (Finset.univ.filter fun q : Fin 49152 => tailV ix (Shape.Idx.ofFin q) = 1#1).card := by
      rw [BitVec.toNat_ofNat]
      omega
    have hr := (sle_iff_toNat (b := 208#32) (by rw [hn]; omega) (by decide)).mp e
    rw [hn] at hr
    refine le_trans (count_le fun q hq => ?_) hr
    obtain ⟨-, -, g2⟩ := hq
    rw [ixN_fin] at g2
    have := hk (Shape.Idx.ofFin q)
    show IntOp.cmpi .sge (ix (Shape.Idx.ofFin q)) 999936#32 = 1#1
    exact (sge_iff_toNat (b := 999936#32) (by omega) (by decide)).mpr g2

end

/-- What the precondition's operations ask of their shapes. -/
theorem preFacts : Pre_fits.Facts where
  concatenates_S16384_S16384_S16384_S49152_d0 := by decide
  bcast_S32_S32x1_0 := by decide
  bcast_S_S32x1 := by decide
  bcast_S49152_S1x49152_1 := by decide
  bcast_S1x49152_S32x49152_0_1 := by decide
  bcast_S32x1_S32x49152_0_1 := by decide
  bcast_S_S1x49152 := by decide
  bcast_S_S49152 := by decide
  natLt_1_32 := by decide
  reducesTo_S32x49152_S32_d1 := by decide
  h_S_ := by decide
  bcast_S_S32 := by decide
  reducesTo_S49152_S_d0 := by decide

end Cert.Proof.Gather

end
-- ==== Proof.RefVal.lean ====
/-
  The reference's result, element by element, where the indices are of the table.
-/
module

public import proofs.«01_k».proof.Proof.Gen.ReferenceIdeal.Run
public import Idealize.ShloMosaic.Lib.Routing.Ops
public import Idealize.ShloMosaic.Lib.ReduceAll
public import Idealize.ShloMosaic.Lib.ValueLayout
public import Idealize.ShloMosaic.PureOps.Ideal
public import Idealize.ShloMosaic.Lib.StableHlo.Predicate

@[expose] public section

noncomputable section

namespace Cert.Proof.Ref

open Idealize.ShloMosaic Idealize.SL.Sem Cert.ReferenceIdeal Cert.ReferenceIdeal.Gen Cert.ReferenceIdeal.Value
open Idealize.ShloMosaic.ValueIdx (ix2)
open Idealize.ShloMosaic.StableHlo.Predicate (sle_iff_toNat slt_iff_toNat sge_iff_toNat)

section
variable {F : FTy → Type} [FloatOps F]

/-- The index column that the reference gathers at, -/
def col (ix : IVec S49152 32) : IVec S49152x1 32 :=
  broadcastInDim S49152x1 ![0] bcast_S49152_S49152x1_0 (select (cmpi .slt ix (broadcastInDim S49152 ![] bcast_S_S49152 (constantI S_ 32 0#32))) (addi ix (broadcastInDim S49152 ![] bcast_S_S49152 (constantI S_ 32 1000000#32))) ix)
/-- and its result, of the table and the indices. -/
def refF (tab : FVec F S1000000x64 .f32) (ix : IVec S49152 32) : FVec F S2x49152x32 .f32 :=
  transpose S2x49152x32 [1, 0, 2] (shapeCast S49152x2x32 (select (broadcastInDim S49152x64 ![0] bcast_S49152_S49152x64_0 (Host.reduce IntOp.andi (andi (cmpi .sge (col ix) (broadcastInDim S49152x1 ![] bcast_S_S49152x1 (constantI S_ 32 0#32))) (cmpi .sle (col ix) (broadcastInDim S49152x1 ![0, 1] bcast_S1x1_S49152x1_0_1 (broadcastInDim S1x1 ![1] bcast_S1_S1x1_1 (constantI S1 32 999999#32))))) (constantI S_ 1 1#1) reducesTo_S49152x1_S49152_d1 h_S_)) (Host.gather gather_S1000000x64_S49152x1_S49152x64_1_0_n_n_0_1_164 tab (col ix)) (broadcastInDim S49152x64 ![] bcast_S_S49152x64 (constant S_ .f32 0x7FC00000#32))) shapeCasts_S49152x64_S49152x2x32) transposes_S49152x2x32_S2x49152x32_1_0_2

def ixR (m : (ℓ : Loc nD τ sig) → Buf (Elt F) ℓ) (c : Dev nD) : IVec S49152 32 :=
  concatenate S49152 0 [⟨S16384, ((m ((c.tc : Thread nD τ).loc main_arg0)) : (⟨S16384, .i32⟩ : BufTy).Contents (Elt F))⟩, ⟨S16384, ((m ((c.tc : Thread nD τ).loc main_arg1)) : (⟨S16384, .i32⟩ : BufTy).Contents (Elt F))⟩, ⟨S16384, ((m ((c.tc : Thread nD τ).loc main_arg2)) : (⟨S16384, .i32⟩ : BufTy).Contents (Elt F))⟩] concatenates_S16384_S16384_S16384_S49152_d0

theorem res_eq (m : (ℓ : Loc nD τ sig) → Buf (Elt F) ℓ) (c : Dev nD) : res_out0 m c = refF (m ((c.tc : Thread nD τ).loc main_arg3)) (ixR m c) := by
  unfold res_out0 res_main_v3 refF col ixR
  rfl

/-- The index of an index. -/
def jx (j : ℕ) (h : j < 49152) : S49152.Idx := fun a => match a with | 0 => ⟨j, h⟩

theorem col_apply {ix : IVec S49152 32} (hlt : ∀ k, (ix k).toNat < 1000000) (z : S49152x1.Idx) : ∃ k : S49152.Idx, (k 0 : ℕ) = (z 0 : ℕ) ∧ col ix z = ix k := by
  refine ⟨fun a => match a with | 0 => ⟨(z 0).val, (z 0).isLt⟩, rfl, ?_⟩
  have e (k : S49152.Idx) : (select (cmpi .slt ix (broadcastInDim S49152 ![] bcast_S_S49152 (constantI S_ 32 0#32))) (addi ix (broadcastInDim S49152 ![] bcast_S_S49152 (constantI S_ 32 1000000#32))) ix) k = ix k := by
    have hb : IntOp.cmpi .slt (ix k) 0#32 = 0#1 := by
      refine ValueIdx.eq_zero_of_ne_one fun h => ?_
      have := hlt k
      have h' := (slt_iff_toNat (a := ix k) (b := 0#32) (by omega) (by decide)).mp h
      exact absurd h' (by simp)
    show Scalar.select (IntOp.cmpi .slt (ix k) 0#32) _ (ix k) = ix k
    rw [hb]; rfl
  unfold col broadcastInDim
  refine (e _).trans (congrArg ix (funext fun a => ?_))
  match a with
  | ⟨0, _⟩ => rfl

theorem refF_apply {tab : FVec F S1000000x64 .f32} {ix : IVec S49152 32} (hlt : ∀ k, (ix k).toNat < 1000000) (y : S2x49152x32.Idx) (k : S49152.Idx) (hk : (k 0 : ℕ) = (y 1 : ℕ))
    (z : S1000000x64.Idx) (h0 : (z 0 : ℕ) = (ix k).toNat) (h1 : (z 1 : ℕ) = (y 0 : ℕ) * 32 + (y 2 : ℕ)) : refF tab ix y = tab z := by
  have g0 : (y 0 : ℕ) < 2 := (y 0).isLt
  have g1 : (y 1 : ℕ) < 49152 := (y 1).isLt
  have g2 : (y 2 : ℕ) < 32 := (y 2).isLt
  unfold refF
  rw [transpose_apply _ _ _ y (fun a => match a with | 0 => ⟨(y 1).val, g1⟩ | 1 => ⟨(y 0).val, g0⟩ | 2 => ⟨(y 2).val, g2⟩ : S49152x2x32.Idx) (fun b => by
    match b with
    | ⟨0, _⟩ => rfl
    | ⟨1, _⟩ => rfl
    | ⟨2, _⟩ => rfl)]
  rw [shapeCast_apply _ _ _ (ix2 (⟨(y 1).val, g1⟩ : Fin 49152) (⟨(y 0).val * 32 + (y 2).val, by omega⟩ : Fin 64)) (by
    rw [Shape.rowMajor_val_two, Shape.rowMajor_val_three]
    show (y 1 : ℕ) * 64 + ((y 0 : ℕ) * 32 + (y 2 : ℕ)) = ((y 1 : ℕ) * 2 + (y 0 : ℕ)) * 32 + (y 2 : ℕ)
    omega)]
  have hm (w : S49152.Idx) : Host.reduce IntOp.andi (andi (cmpi .sge (col ix) (broadcastInDim S49152x1 ![] bcast_S_S49152x1 (constantI S_ 32 0#32))) (cmpi .sle (col ix) (broadcastInDim S49152x1 ![0, 1] bcast_S1x1_S49152x1_0_1 (broadcastInDim S1x1 ![1] bcast_S1_S1x1_1 (constantI S1 32 999999#32))))) (constantI S_ 1 1#1) reducesTo_S49152x1_S49152_d1 h_S_ w = 1#1 := by
    refine Host.reduce_andi_one _ _ _ _ _ rfl fun i => ?_
    show IntOp.andi (IntOp.cmpi .sge (col ix i) 0#32) (IntOp.cmpi .sle (col ix i) 999999#32) = 1#1
    obtain ⟨k', -, e⟩ := col_apply hlt i
    rw [e]
    have := hlt k'
    exact IntOp.andi_eq_one.mpr ⟨(sge_iff_toNat (by omega) (by decide)).mpr (Nat.zero_le _), (sle_iff_toNat (b := 999999#32) (by omega) (by decide)).mpr (by show (ix k').toNat ≤ 999999; omega)⟩
  show Scalar.select (Host.reduce IntOp.andi _ _ _ _ _) (Host.gather _ tab (col ix) _) _ = tab z
  rw [hm, ValueIdx.select_one]
  obtain ⟨k', hk', e⟩ := col_apply hlt (ix2 (⟨(y 1).val, g1⟩ : Fin 49152) (0 : Fin 1))
  have hkk : k' = k := by
    funext a
    match a with
    | ⟨0, _⟩ => exact Fin.ext (hk'.trans hk.symm)
  rw [hkk] at e
  have hl := hlt k
  rw [Routing.gather_row gather_S1000000x64_S49152x1_S49152x64_1_0_n_n_0_1_164 rfl rfl rfl rfl rfl tab (col ix) ⟨(y 1).val, g1⟩ ⟨(y 0).val * 32 + (y 2).val, by omega⟩ ⟨(ix k).toNat, hl⟩
    (by rw [e]; exact (BitVec.ofNat_toNat 32 (ix k)).symm ▸ by simp) (by decide)]
  refine congrArg tab (funext fun a => Fin.ext ?_)
  match a with
  | ⟨0, _⟩ => exact h0.symm
  | ⟨1, _⟩ => exact h1.symm

end

/-- The reference's run, its counters included. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, sem_eq_zero_of_no_sems (by decide) r.2⟩) (Value.run m ρ)

end Cert.Proof.Ref

end
-- ==== Proof.DenseMath.lean ====
/-
  What the dense call computes, as plain mathematics over the extended reals: one term for each batch row, summed over
  the rows, and the same sum in the order the kernel's four grid points take the rows.
-/
module

public import Idealize.ShloMosaic.PureOps.Ideal
public import Idealize.ShloMosaic.Lib.ValueIdxCore

@[expose] public section

noncomputable section

namespace Cert.Proof.DenseMath

open Idealize.ShloMosaic
open Idealize.ShloMosaic.ValueIdx (ix1 ix2)
open scoped BigOperators

/-- Where entry `k` of batch row `b` lies in the flat array: half `k / 32 % 2`, gathered row `(k / 64) * 16384 + b`, lane `k % 32`. -/
theorem pos_lt (b : Fin 16384) (k : Fin 192) : k.val / 32 % 2 * 1703936 + (k.val / 64 * 16384 + b.val) * 32 + k.val % 32 < 3407872 := by
  have := b.isLt; have := k.isLt; omega

variable (f : (⟨1, ![3407872]⟩ : Shape).Idx → EReal) (W : (⟨2, ![128, 192]⟩ : Shape).Idx → EReal) (bc : (⟨1, ![128]⟩ : Shape).Idx → EReal)
  (att : (⟨2, ![128, 1]⟩ : Shape).Idx → EReal) (Wl : (⟨2, ![64, 128]⟩ : Shape).Idx → EReal) (bl : (⟨1, ![64]⟩ : Shape).Idx → EReal)

/-- Entry `k` of batch row `b`. -/
def X (b : Fin 16384) (k : Fin 192) : EReal := f (ix1 ⟨_, pos_lt b k⟩)
/-- The hidden layer of a row `x`, -/
def hid (x : Fin 192 → EReal) (d : Fin 128) : EReal := max ((∑ k, x k * W (ix2 d k)) + bc (ix1 d)) 0
/-- and what the row adds to the sum. -/
def term (x : Fin 192 → EReal) (d : Fin 128) : EReal :=
  hid W bc x d * Ideal.tanh (∑ e, hid W bc x e * att (ix2 e 0))
/-- The sum over the batch, -/
def total (d : Fin 128) : EReal := ∑ b, term W bc att (X f b) d
/-- and the result. -/
def out (o : Fin 64) : EReal := Ideal.tanh ((∑ d, total f W bc att d * Wl (ix2 o d)) + bl (ix1 o))

/-- The batch row that grid point `t` holds in row `q` of its block. -/
def row (t : Fin 4) (q : Fin 4096) : Fin 16384 := ⟨4 * (t.val * 1024 + q.val % 1024) + q.val / 1024, by have := t.isLt; have := q.isLt; omega⟩

/-- The four points' rows are all the batch rows, each once. -/
def rowEquiv : Fin 4 × Fin 4096 ≃ Fin 16384 where
  toFun p := row p.1 p.2
  invFun b := (⟨b.val / 4096, by have := b.isLt; omega⟩, ⟨b.val % 4 * 1024 + b.val / 4 % 1024, by omega⟩)
  left_inv p := by
    obtain ⟨t, q⟩ := p
    have ht := t.isLt
    have hq := q.isLt
    have e4 : (4 * (t.val * 1024 + q.val % 1024) + q.val / 1024) / 4 = t.val * 1024 + q.val % 1024 := by omega
    have em : (4 * (t.val * 1024 + q.val % 1024) + q.val / 1024) % 4 = q.val / 1024 := by omega
    refine Prod.ext (Fin.ext ?_) (Fin.ext ?_)
    · show (4 * (t.val * 1024 + q.val % 1024) + q.val / 1024) / 4096 = t.val
      omega
    · show (4 * (t.val * 1024 + q.val % 1024) + q.val / 1024) % 4 * 1024 + (4 * (t.val * 1024 + q.val % 1024) + q.val / 1024) / 4 % 1024 = q.val
      rw [e4, em]; omega
  right_inv b := by
    have hb := b.isLt
    have ed : (b.val % 4 * 1024 + b.val / 4 % 1024) / 1024 = b.val % 4 := by omega
    have em : (b.val % 4 * 1024 + b.val / 4 % 1024) % 1024 = b.val / 4 % 1024 := by omega
    refine Fin.ext ?_
    show 4 * (b.val / 4096 * 1024 + (b.val % 4 * 1024 + b.val / 4 % 1024) % 1024) + (b.val % 4 * 1024 + b.val / 4 % 1024) / 1024 = b.val
    rw [ed, em]; omega

theorem rowEquiv_apply (t : Fin 4) (q : Fin 4096) : rowEquiv (t, q) = row t q := rfl

/-- What grid point `t` adds. -/
def part (t : Fin 4) (d : Fin 128) : EReal := ∑ q, term W bc att (X f (row t q)) d

/-- The four points' sums, added in the points' order, are the sum over the batch. -/
theorem parts_eq (d : Fin 128) :
    0 + part f W bc att 0 d + part f W bc att 1 d + part f W bc att 2 d + part f W bc att 3 d = total f W bc att d := by
  unfold total
  rw [← Equiv.sum_comp rowEquiv, Fintype.sum_prod_type, Fin.sum_univ_four, zero_add]
  simp only [part, rowEquiv_apply]

end Cert.Proof.DenseMath

end
-- ==== Proof.DensePay.lean ====
/-
  What the dense kernel's body computes at a grid point, element by element: the sum it carries grows by one term for
  each of the point's rows, and the last point's output is the last layer of that sum.
-/
module

public import proofs.«01_k».proof.Proof.DenseMath
public import proofs.«01_k».proof.Proof.Gen.DenseIdeal.Skeleton
public import Idealize.ShloMosaic.Lib.Pipeline.Value
public import Idealize.ShloMosaic.Lib.MatmulPlain
public import Idealize.ShloMosaic.Lib.ValueIdx
public import Idealize.ShloMosaic.PureOps.Ideal.Laws

@[expose] public section

noncomputable section

namespace Cert.Proof.DensePay

open Idealize.ShloMosaic Idealize.SL.Sem Cert.DenseIdeal Cert.DenseIdeal.Gen
open Idealize.ShloMosaic.ValueIdx (ix1 ix2)
open Cert.Proof.DenseMath
open scoped BigOperators

theorem zero_word : (FloatOps.ofBits .f32 0x00000000#32 : Ideal .f32) = 0 := Ideal.ofBits_zero_f32

/-- A product into a zero accumulator, read at an index. -/
theorem mm {M K N : ℕ} (lhs : FVec Ideal ⟨2, ![M, K]⟩ .f32) (rhs : FVec Ideal ⟨2, ![K, N]⟩ .f32) (r : Fin M) (c : Fin N) :
    FloatOps.matmul (DotDims.plain M K N) none lhs rhs (constant ⟨2, ![M, N]⟩ .f32 0x00000000#32) (ix2 r c) = ∑ k : Fin K, lhs (ix2 r k) * rhs (ix2 k c) := by
  rw [Ideal.matmul_plain_apply]
  show (FloatOps.ofBits .f32 0x00000000#32 : Ideal .f32) + _ = _
  rw [zero_word, zero_add]

theorem pay1_apply (v62 : FVec Ideal S4096x128 .f32) (v65 : Vec Ideal S128x1 .f32) (v68 : Vec Ideal S1x128 .f32) (d : Fin 128) :
    k0_pay1 v62 v65 v68 (ix2 (0 : Fin 1) d)
      = (v68 (ix2 (0 : Fin 1) d) : EReal) + ∑ q : Fin 4096, max (v62 (ix2 q d) : EReal) 0 * Ideal.tanh (∑ e : Fin 128, max (v62 (ix2 q e) : EReal) 0 * v65 (ix2 e (0 : Fin 1))) := by
  have hR : S4096x128.Reduces [0] S128 := by decide
  have hm (q : Fin 4096) (e : Fin 128) : maximumf v62 (broadcast S4096x128 (Scalar.ofBits .f32 0x00000000#32)) (ix2 q e) = max (v62 (ix2 q e) : EReal) 0 := by
    show max (v62 (ix2 q e) : EReal) (FloatOps.ofBits .f32 0x00000000#32 : Ideal .f32) = _
    rw [zero_word]
  unfold k0_pay1
  dsimp only
  rw [shapeCast_self]
  refine congrArg ((v68 (ix2 (0 : Fin 1) d) : EReal) + ·) ?_
  rw [shapeCast_apply _ _ _ (ix1 d) (by
    rw [Shape.rowMajor_val_one, Shape.rowMajor_val_two]
    show d.val = 0 * 128 + d.val
    omega)]
  refine (Ideal.multiReduction_add_single _ _ hR _ _ (ix1 d)).trans (Finset.sum_congr rfl fun q _ => ?_)
  have el : hR.lift (ix1 d) q = ix2 q d := by
    funext a
    match a with
    | ⟨0, _⟩ => rfl
    | ⟨1, _⟩ => rfl
  rw [el]
  refine congrArg₂ (fun a b : EReal => a * b) (hm q d) ?_
  refine (broadcastTo_apply (s := S4096x1) (t := S4096x128) _ _ _ (ix2 q (0 : Fin 1)) (fun a => by
    match a with
    | ⟨0, _⟩ => rfl
    | ⟨1, _⟩ => rfl)).trans ?_
  refine congrArg Ideal.tanh ((mm _ v65 q 0).trans (Finset.sum_congr rfl fun e _ => ?_))
  exact congrArg (fun a : EReal => a * v65 (ix2 e (0 : Fin 1))) (hm q e)

theorem pay2_apply (v80 : Vec Ideal S1x128 .f32) (v81 : Vec Ideal S128x64 .f32) (v84 : Vec Ideal S1x64 .f32) (o : Fin 64) :
    k0_pay2 v80 v81 v84 (ix2 (0 : Fin 1) o)
      = Ideal.tanh ((∑ d : Fin 128, (v80 (ix2 (0 : Fin 1) d) : EReal) * v81 (ix2 d o)) + v84 (ix2 (0 : Fin 1) o)) := by
  unfold k0_pay2
  rw [shapeCast_self, shapeCast_self]
  exact congrArg Ideal.tanh (congrArg (fun a : EReal => a + v84 (ix2 (0 : Fin 1) o)) (mm v80 v81 0 o))

theorem pay3_apply (d : Fin 128) : (k0_pay3 (F := Ideal)) (ix2 (0 : Fin 1) d) = (0 : EReal) := by
  unfold k0_pay3
  rw [shapeCast_self]
  exact zero_word

/-- Six blocks of thirty-two columns side by side: column `k` is column `k % 32` of block `k / 32`. -/
theorem cat6_apply (v : Fin 6 → FVec Ideal S1024x32 .f32) (r : Fin 1024) (k : Fin 192) (h : k.val / 32 < 6) (h' : k.val % 32 < 32) :
    concatenate S1024x192 1 [⟨S1024x32, v 0⟩, ⟨S1024x32, v 1⟩, ⟨S1024x32, v 2⟩, ⟨S1024x32, v 3⟩, ⟨S1024x32, v 4⟩, ⟨S1024x32, v 5⟩] concatenates_S1024x32_S1024x32_S1024x32_S1024x32_S1024x32_S1024x32_S1024x192_d1 (ix2 r k)
      = v ⟨k.val / 32, h⟩ (ix2 r ⟨k.val % 32, h'⟩) := by
  have off : ∀ a : Fin 2, a.cast (rfl : 2 = 2) ≠ (1 : Fin 2) → ((ix2 r ⟨k.val % 32, h'⟩ : S1024x32.Idx) a).val = ((ix2 r k : S1024x192.Idx) a).val := fun a ha => by
    match a with
    | ⟨0, _⟩ => rfl
    | ⟨1, _⟩ => exact absurd rfl ha
  have key (w : Fin 6) (e : k.val / 32 = w.val) : v w (ix2 r ⟨k.val % 32, h'⟩) = v ⟨k.val / 32, h⟩ (ix2 r ⟨k.val % 32, h'⟩) := by
    rw [show w = ⟨k.val / 32, h⟩ from Fin.ext e.symm]
  rcases (by omega : k.val / 32 = 0 ∨ k.val / 32 = 1 ∨ k.val / 32 = 2 ∨ k.val / 32 = 3 ∨ k.val / 32 = 4 ∨ k.val / 32 = 5) with e | e | e | e | e | e
  · exact Eq.trans (concatenate_apply_piece (t := S1024x192) 1 _ _ _ 0 (by show 0 < 6; decide) S1024x32 (v 0) rfl rfl 0 rfl (ix2 r ⟨k.val % 32, h'⟩) off (by show 0 + k.val % 32 = k.val; omega)) (key 0 e)
  · exact Eq.trans (concatenate_apply_piece (t := S1024x192) 1 _ _ _ 1 (by show 1 < 6; decide) S1024x32 (v 1) rfl rfl 32 rfl (ix2 r ⟨k.val % 32, h'⟩) off (by show 32 + k.val % 32 = k.val; omega)) (key 1 e)
  · exact Eq.trans (concatenate_apply_piece (t := S1024x192) 1 _ _ _ 2 (by show 2 < 6; decide) S1024x32 (v 2) rfl rfl 64 rfl (ix2 r ⟨k.val % 32, h'⟩) off (by show 64 + k.val % 32 = k.val; omega)) (key 2 e)
  · exact Eq.trans (concatenate_apply_piece (t := S1024x192) 1 _ _ _ 3 (by show 3 < 6; decide) S1024x32 (v 3) rfl rfl 96 rfl (ix2 r ⟨k.val % 32, h'⟩) off (by show 96 + k.val % 32 = k.val; omega)) (key 3 e)
  · exact Eq.trans (concatenate_apply_piece (t := S1024x192) 1 _ _ _ 4 (by show 4 < 6; decide) S1024x32 (v 4) rfl rfl 128 rfl (ix2 r ⟨k.val % 32, h'⟩) off (by show 128 + k.val % 32 = k.val; omega)) (key 4 e)
  · exact Eq.trans (concatenate_apply_piece (t := S1024x192) 1 _ _ _ 5 (by show 5 < 6; decide) S1024x32 (v 5) rfl rfl 160 rfl (ix2 r ⟨k.val % 32, h'⟩) off (by show 160 + k.val % 32 = k.val; omega)) (key 5 e)

/-- Four blocks of 1024 rows, one below the other: row `q` is row `q % 1024` of block `q / 1024`. -/
theorem cat4_apply (v : Fin 4 → FVec Ideal S1024x192 .f32) (q : Fin 4096) (k : Fin 192) (h : q.val / 1024 < 4) (h' : q.val % 1024 < 1024) :
    concatenate S4096x192 0 [⟨S1024x192, v 0⟩, ⟨S1024x192, v 1⟩, ⟨S1024x192, v 2⟩, ⟨S1024x192, v 3⟩] concatenates_S1024x192_S1024x192_S1024x192_S1024x192_S4096x192_d0 (ix2 q k)
      = v ⟨q.val / 1024, h⟩ (ix2 ⟨q.val % 1024, h'⟩ k) := by
  have off : ∀ a : Fin 2, a.cast (rfl : 2 = 2) ≠ (0 : Fin 2) → ((ix2 ⟨q.val % 1024, h'⟩ k : S1024x192.Idx) a).val = ((ix2 q k : S4096x192.Idx) a).val := fun a ha => by
    match a with
    | ⟨0, _⟩ => exact absurd rfl ha
    | ⟨1, _⟩ => rfl
  have key (w : Fin 4) (e : q.val / 1024 = w.val) : v w (ix2 ⟨q.val % 1024, h'⟩ k) = v ⟨q.val / 1024, h⟩ (ix2 ⟨q.val % 1024, h'⟩ k) := by
    rw [show w = ⟨q.val / 1024, h⟩ from Fin.ext e.symm]
  rcases (by omega : q.val / 1024 = 0 ∨ q.val / 1024 = 1 ∨ q.val / 1024 = 2 ∨ q.val / 1024 = 3) with e | e | e | e
  · exact Eq.trans (concatenate_apply_piece (t := S4096x192) 0 _ _ _ 0 (by show 0 < 4; decide) S1024x192 (v 0) rfl rfl 0 rfl (ix2 ⟨q.val % 1024, h'⟩ k) off (by show 0 + q.val % 1024 = q.val; omega)) (key 0 e)
  · exact Eq.trans (concatenate_apply_piece (t := S4096x192) 0 _ _ _ 1 (by show 1 < 4; decide) S1024x192 (v 1) rfl rfl 1024 rfl (ix2 ⟨q.val % 1024, h'⟩ k) off (by show 1024 + q.val % 1024 = q.val; omega)) (key 1 e)
  · exact Eq.trans (concatenate_apply_piece (t := S4096x192) 0 _ _ _ 2 (by show 2 < 4; decide) S1024x192 (v 2) rfl rfl 2048 rfl (ix2 ⟨q.val % 1024, h'⟩ k) off (by show 2048 + q.val % 1024 = q.val; omega)) (key 2 e)
  · exact Eq.trans (concatenate_apply_piece (t := S4096x192) 0 _ _ _ 3 (by show 3 < 4; decide) S1024x192 (v 3) rfl rfl 3072 rfl (ix2 ⟨q.val % 1024, h'⟩ k) off (by show 3072 + q.val % 1024 = q.val; omega)) (key 3 e)

/-- The product with the first layer's weights, of the six column blocks at each of four column offsets (`u c w`). -/
theorem pay6_apply (u : Fin 4 → Fin 6 → FVec Ideal S1024x32 .f32) (wc : Vec Ideal S192x128 .f32) (b : Vec Ideal S1x128 .f32) (q : Fin 4096) (d : Fin 128)
    (hq : q.val / 1024 < 4) (hq' : q.val % 1024 < 1024) (hk : ∀ k : Fin 192, k.val / 32 < 6) (hk' : ∀ k : Fin 192, k.val % 32 < 32) :
    k0_pay6 (k0_pay4 (u 0 0) (u 0 1) (u 0 2) (u 0 3) (u 0 4) (u 0 5)) (k0_pay5 (u 1 0) (u 1 1) (u 1 2) (u 1 3) (u 1 4) (u 1 5))
        (u 2 0) (u 2 1) (u 2 2) (u 2 3) (u 2 4) (u 2 5) (u 3 0) (u 3 1) (u 3 2) (u 3 3) (u 3 4) (u 3 5) wc b (ix2 q d)
      = (∑ k : Fin 192, (u ⟨q.val / 1024, hq⟩ ⟨k.val / 32, hk k⟩ (ix2 ⟨q.val % 1024, hq'⟩ ⟨k.val % 32, hk' k⟩) : EReal) * wc (ix2 k d)) + b (ix2 (0 : Fin 1) d) := by
  unfold k0_pay6 k0_pay4 k0_pay5
  dsimp only
  refine congrArg₂ (fun x y : EReal => x + y) (Eq.trans (mm _ _ q d) (Finset.sum_congr rfl fun k _ => congrArg₂ (fun x y : EReal => x * y) ?_ (congrFun (shapeCast_self wc _) (ix2 k d)))) ?_
  · let u' : Fin 4 → Fin 6 → FVec Ideal S1024x32 .f32 := fun c w => shapeCast S1024x32 (u c w) shapeCasts_S1024x32_S1024x32
    let v : Fin 4 → FVec Ideal S1024x192 .f32 := fun c => concatenate S1024x192 1 [⟨S1024x32, u' c 0⟩, ⟨S1024x32, u' c 1⟩, ⟨S1024x32, u' c 2⟩, ⟨S1024x32, u' c 3⟩, ⟨S1024x32, u' c 4⟩, ⟨S1024x32, u' c 5⟩] concatenates_S1024x32_S1024x32_S1024x32_S1024x32_S1024x32_S1024x32_S1024x192_d1
    refine ((cat4_apply v q k hq hq').trans (cat6_apply (u' ⟨q.val / 1024, hq⟩) ⟨q.val % 1024, hq'⟩ k (hk k) (hk' k))).trans ?_
    exact congrFun (shapeCast_self (u ⟨q.val / 1024, hq⟩ ⟨k.val / 32, hk k⟩) _) _
  · refine (broadcastTo_apply _ _ _ (ix2 (0 : Fin 1) d) (fun a => by
      match a with
      | ⟨0, _⟩ => rfl
      | ⟨1, _⟩ => rfl)).trans ?_
    exact congrFun (shapeCast_self b _) _

end Cert.Proof.DensePay

end
-- ==== Proof.DenseRun.lean ====
/-
  What a grid point of the dense kernel leaves in the carried sum and, at the last point, in the result.
-/
module

public import proofs.«01_k».proof.Proof.Gen.DenseIdeal.Value
public import Idealize.ShloMosaic.Lib.Pipeline.Value
public import Idealize.ShloMosaic.Lib.Pipeline.ValueKit.Tiles
public import Idealize.ShloMosaic.Lib.Tactic
public import Idealize.ShloMosaic.Lib.ValueIdx

@[expose] public section

noncomputable section

namespace Cert.Proof.DenseRun

open Idealize.ShloMosaic Idealize.ShloMosaic.TcCoe Idealize.SL.Sem Cert.DenseIdeal Cert.DenseIdeal.Gen
open Idealize.ShloMosaic.ValueIdx (ix1 ix2)

variable {F : FTy → Type} [FloatOps F]

theorem hz : (![0, 0] : Fin 2 → Nat) = fun _ => 0 := funext fun a => by fin_cases a <;> rfl

/-- Thirty-two columns of a block, from column `o`. -/
def col (X : Vec F S1024x128 .f32) (o : ℕ) : Vec F S1024x32 .f32 := fun j => X (ix2 (j 0) ⟨(o + (j 1).val) % 128, Nat.mod_lt _ (by decide)⟩)

theorem ld_col (X : Vec F S1024x128 .f32) (o : ℕ) (inb) : View.ld X (Rect.unit ![0, o] ![1024, 32] inb) = col X o := by
  have hb : o + 32 ≤ 128 := inb 1
  funext j
  have hj : (j 1).val < 32 := (j 1).isLt
  refine View.ld_unit_apply_of X _ _ inb j _ fun a => ?_
  match a with
  | ⟨0, _⟩ => exact (Nat.zero_add _).symm
  | ⟨1, _⟩ => exact Nat.mod_eq_of_lt (by omega)

/-- The sum after a point: the sum before it and the point's terms. -/
def step (x0 x1 x2 x3 x4 x5 : Vec F S1024x128 .f32) (x6 : Vec F S192x128 .f32) (x7 : Vec F S1x128 .f32) (x8 : Vec F S128x1 .f32) (acc : Vec F S1x128 .f32) : Vec F S1x128 .f32 :=
  k0_pay1 (k0_pay6 (k0_pay4 (col x0 0) (col x1 0) (col x2 0) (col x3 0) (col x4 0) (col x5 0)) (k0_pay5 (col x0 32) (col x1 32) (col x2 32) (col x3 32) (col x4 32) (col x5 32))
    (col x0 64) (col x1 64) (col x2 64) (col x3 64) (col x4 64) (col x5 64) (col x0 96) (col x1 96) (col x2 96) (col x3 96) (col x4 96) (col x5 96) x6 x7) x8 acc

variable (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S192x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x128 .f32) (harg13 : arg13.IsWhole)
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S192x128 .f32) (x7 : Vec F S1x128 .f32) (x8 : Vec F S128x1 .f32) (x9 : Vec F S128x64 .f32) (x10 : Vec F S1x64 .f32) (xs0 : Vec F S1x128 .f32)

set_option maxHeartbeats 1000000 in
/-- A middle point adds its terms to the sum. -/
theorem sout_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = step x0 x1 x2 x3 x4 x5 x6 x7 x8 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_B
  dsimp only
  sl_unfold_words
  rw [View.canon_unit_zero hz]
  unfold step
  simp only [View.readAt_eq_ld, harg1.read_unread, harg2.read_unread, harg3.read_unread, harg4.read_unread, harg5.read_unread, harg6.read_unread, harg7.read_unread, harg8.read_unread, harg9.read_unread, harg13.read_unread,
    View.ld_unit_zero (S := S192x128) hz, View.ld_unit_zero (S := S1x128) hz, View.ld_unit_zero (S := S128x1) hz, ld_col]

set_option maxHeartbeats 1000000 in
/-- The first point starts the sum at zero. -/
theorem sout_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10
      = step x0 x1 x2 x3 x4 x5 x6 x7 x8 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10)]
  unfold kernelRun0_A
  dsimp only
  sl_unfold_words
  rw [View.canon_cons_unit_zero (S := S1x128) hz, View.readCov_unit_zero (S := S1x128) _ hz]
  unfold step
  simp only [View.readAt_eq_ld, harg1.read_unread, harg2.read_unread, harg3.read_unread, harg4.read_unread, harg5.read_unread, harg6.read_unread, harg7.read_unread, harg8.read_unread, harg9.read_unread,
    View.ld_unit_zero (S := S192x128) hz, View.ld_unit_zero (S := S1x128) hz, View.ld_unit_zero (S := S128x1) hz, ld_col]

set_option maxHeartbeats 1000000 in
/-- The last point's result is the last layer of the whole sum. -/
theorem out_C (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay2 (step x0 x1 x2 x3 x4 x5 x6 x7 x8 xs0) x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero hz, View.readCov_unit_zero (S := S1x128) _ hz]
  unfold step
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread,
    View.ld_unit_zero (S := S192x128) hz, View.ld_unit_zero (S := S1x128) hz, View.ld_unit_zero (S := S128x1) hz, View.ld_unit_zero (S := S128x64) hz, View.ld_unit_zero (S := S1x64) hz, ld_col]

end Cert.Proof.DenseRun

end
-- ==== Proof.DenseBlk.lean ====
/-
  What the dense kernel's windows hold at a grid point, in terms of the call's arguments.
-/
module

public import proofs.«01_k».proof.Proof.Gen.DenseIdeal.Value
public import Idealize.ShloMosaic.Lib.Pipeline.Value
public import Idealize.ShloMosaic.Lib.StableHlo.Run
public import Idealize.ShloMosaic.Lib.Tactic
public import Idealize.ShloMosaic.Lib.ValueIdx

@[expose] public section

noncomputable section

namespace Cert.Proof.DenseBlk

open Idealize.ShloMosaic Idealize.ShloMosaic.TcCoe Idealize.SL.Sem Cert.DenseIdeal Cert.DenseIdeal.Gen
open Idealize.ShloMosaic.ValueIdx (ix1 ix2)

variable {F : FTy → Type} [FloatOps F]
variable (m : (ℓ : Loc nD τ sig) → Buf (Elt F) ℓ) (c : Dev nD)

/-! ## The arrays the host's lines make -/

theorem V0 : V m c main_v0 = shapeCast S26624x128 (m ((c : Thread nD τ).loc main_arg0)) shapeCasts_S3407872_S26624x128 := by
  unfold V hostOps0
  after_results
  rfl
theorem V1 : V m c main_v1 = transpose S192x128 [1, 0] (m ((c : Thread nD τ).loc main_arg1)) transposes_S128x192_S192x128_1_0 := by
  unfold V hostOps0
  after_results
theorem V2 : V m c main_v2 = shapeCast S1x128 (m ((c : Thread nD τ).loc main_arg2)) shapeCasts_S128_S1x128 := by
  unfold V hostOps0
  after_results
  rfl
theorem V3 : V m c main_v3 = transpose S128x64 [1, 0] (m ((c : Thread nD τ).loc main_arg4)) transposes_S64x128_S128x64_1_0 := by
  unfold V hostOps0
  after_results
theorem V4 : V m c main_v4 = shapeCast S1x64 (m ((c : Thread nD τ).loc main_arg5)) shapeCasts_S64_S1x64 := by
  unfold V hostOps0
  after_results
  rfl

/-- A place of the gathered rows, laid out in lines of 128. -/
theorem V0_apply (r : Fin 26624) (l : Fin 128) (h : r.val * 128 + l.val < 3407872) :
    V m c main_v0 (ix2 r l) = m ((c : Thread nD τ).loc main_arg0) (ix1 ⟨r.val * 128 + l.val, h⟩) := by
  rw [V0]
  exact shapeCast_apply (s := S3407872) (t := S26624x128) _ _ (ix2 r l) (ix1 ⟨r.val * 128 + l.val, h⟩) (by
    rw [Shape.rowMajor_val_one, Shape.rowMajor_val_two]
    rfl)
theorem V1_apply (k : Fin 192) (d : Fin 128) : V m c main_v1 (ix2 k d) = m ((c : Thread nD τ).loc main_arg1) (ix2 d k) := by
  rw [V1]
  exact transpose_apply (s := S128x192) (t := S192x128) _ _ _ _ _ (fun a => by
    match a with
    | ⟨0, _⟩ => rfl
    | ⟨1, _⟩ => rfl)
theorem V2_apply (d : Fin 128) : V m c main_v2 (ix2 (0 : Fin 1) d) = m ((c : Thread nD τ).loc main_arg2) (ix1 d) := by
  rw [V2]
  exact shapeCast_apply (s := S128) (t := S1x128) _ _ (ix2 (0 : Fin 1) d) (ix1 d) (by
    rw [Shape.rowMajor_val_one, Shape.rowMajor_val_two]
    show d.val = 0 * 128 + d.val
    omega)
theorem V3_apply (d : Fin 128) (o : Fin 64) : V m c main_v3 (ix2 d o) = m ((c : Thread nD τ).loc main_arg4) (ix2 o d) := by
  rw [V3]
  exact transpose_apply (s := S64x128) (t := S128x64) _ _ _ _ _ (fun a => by
    match a with
    | ⟨0, _⟩ => rfl
    | ⟨1, _⟩ => rfl)
theorem V4_apply (o : Fin 64) : V m c main_v4 (ix2 (0 : Fin 1) o) = m ((c : Thread nD τ).loc main_arg5) (ix1 o) := by
  rw [V4]
  exact shapeCast_apply (s := S64) (t := S1x64) _ _ (ix2 (0 : Fin 1) o) (ix1 o) (by
    rw [Shape.rowMajor_val_one, Shape.rowMajor_val_two]
    show o.val = 0 * 64 + o.val
    omega)

/-! ## The windows' blocks -/

/-- Window `w`'s first block, of the gathered rows' 26. -/
def off (w : Fin 6) : ℕ := w.val % 2 * 13 + w.val / 2 * 4

/-- The place of the gathered rows a block's place is. -/
theorem lines {b : ℕ} {r : Fin 1024} {l : Fin 128} (h : b * 1024 + r.val < 26624) {ix : Fin 2 → ℕ} (hi : ix 0 = b ∧ ix 1 = 0)
    {i : S26624x128.Idx} (h0 : (i 0).val = ix 0 * 1024 + 1 * r.val) (h1 : (i 1).val = ix 1 * 128 + 1 * l.val) : i = ix2 ⟨b * 1024 + r.val, h⟩ l := by
  funext a
  apply Fin.ext
  match a with
  | ⟨0, _⟩ => refine h0.trans ?_; rw [hi.1, Nat.one_mul]
  | ⟨1, _⟩ => refine h1.trans ?_; rw [hi.2, Nat.one_mul, Nat.zero_mul, Nat.zero_add]

/-- A block that is the whole array. -/
theorem whole {A B : ℕ} {ix : Fin 2 → ℕ} (hi : ix 0 = 0 ∧ ix 1 = 0) {i j : (⟨2, ![A, B]⟩ : Shape).Idx}
    (h0 : (i 0).val = ix 0 * A + 1 * (j 0).val) (h1 : (i 1).val = ix 1 * B + 1 * (j 1).val) : i = j := by
  funext a
  apply Fin.ext
  match a with
  | ⟨0, _⟩ => refine h0.trans ?_; rw [hi.1, Nat.one_mul, Nat.zero_mul, Nat.zero_add]; rfl
  | ⟨1, _⟩ => refine h1.trans ?_; rw [hi.2, Nat.one_mul, Nat.zero_mul, Nat.zero_add]; rfl

theorem place0 (t : Fin cfg0.N) : win0_0.index t 0 = off 0 + t.val ∧ win0_0.index t 1 = 0 := by
  rcases fin_N0 t with rfl | rfl | rfl | rfl <;> decide
theorem place1 (t : Fin cfg0.N) : win0_1.index t 0 = off 1 + t.val ∧ win0_1.index t 1 = 0 := by
  rcases fin_N0 t with rfl | rfl | rfl | rfl <;> decide
theorem place2 (t : Fin cfg0.N) : win0_2.index t 0 = off 2 + t.val ∧ win0_2.index t 1 = 0 := by
  rcases fin_N0 t with rfl | rfl | rfl | rfl <;> decide
theorem place3 (t : Fin cfg0.N) : win0_3.index t 0 = off 3 + t.val ∧ win0_3.index t 1 = 0 := by
  rcases fin_N0 t with rfl | rfl | rfl | rfl <;> decide
theorem place4 (t : Fin cfg0.N) : win0_4.index t 0 = off 4 + t.val ∧ win0_4.index t 1 = 0 := by
  rcases fin_N0 t with rfl | rfl | rfl | rfl <;> decide
theorem place5 (t : Fin cfg0.N) : win0_5.index t 0 = off 5 + t.val ∧ win0_5.index t 1 = 0 := by
  rcases fin_N0 t with rfl | rfl | rfl | rfl <;> decide

/-- The six windows on the gathered rows. -/
def rowsBlk (t : Fin cfg0.N) : Fin 6 → Vec F S1024x128 .f32 := fun
  | 0 => iblk m c 0 t | 1 => iblk m c 1 t | 2 => iblk m c 2 t | 3 => iblk m c 3 t | 4 => iblk m c 4 t | 5 => iblk m c 5 t

theorem rowsBlk_apply (t : Fin cfg0.N) (w : Fin 6) (r : Fin 1024) (l : Fin 128) (h : (off w + t.val) * 1024 + r.val < 26624) :
    rowsBlk m c t w (ix2 r l) = V m c main_v0 (ix2 ⟨(off w + t.val) * 1024 + r.val, h⟩ l) := by
  match w, h with
  | 0, h => exact congrArg (V m c main_v0) (lines h (place0 t) rfl rfl)
  | 1, h => exact congrArg (V m c main_v0) (lines h (place1 t) rfl rfl)
  | 2, h => exact congrArg (V m c main_v0) (lines h (place2 t) rfl rfl)
  | 3, h => exact congrArg (V m c main_v0) (lines h (place3 t) rfl rfl)
  | 4, h => exact congrArg (V m c main_v0) (lines h (place4 t) rfl rfl)
  | 5, h => exact congrArg (V m c main_v0) (lines h (place5 t) rfl rfl)

theorem blk6 (t : Fin cfg0.N) : (iblk m c 6 t : Vec F S192x128 .f32) = V m c main_v1 := by
  have hi : win0_6.index t 0 = 0 ∧ win0_6.index t 1 = 0 := by
    rcases fin_N0 t with rfl | rfl | rfl | rfl <;> decide
  exact funext fun j => congrArg (V m c main_v1) (whole hi rfl rfl)
theorem blk7 (t : Fin cfg0.N) : (iblk m c 7 t : Vec F S1x128 .f32) = V m c main_v2 := by
  have hi : win0_7.index t 0 = 0 ∧ win0_7.index t 1 = 0 := by
    rcases fin_N0 t with rfl | rfl | rfl | rfl <;> decide
  exact funext fun j => congrArg (V m c main_v2) (whole hi rfl rfl)
theorem blk8 (t : Fin cfg0.N) : (iblk m c 8 t : Vec F S128x1 .f32) = V m c main_arg3 := by
  have hi : win0_8.index t 0 = 0 ∧ win0_8.index t 1 = 0 := by
    rcases fin_N0 t with rfl | rfl | rfl | rfl <;> decide
  exact funext fun j => congrArg (V m c main_arg3) (whole hi rfl rfl)
theorem blk9 (t : Fin cfg0.N) : (iblk m c 9 t : Vec F S128x64 .f32) = V m c main_v3 := by
  have hi : win0_9.index t 0 = 0 ∧ win0_9.index t 1 = 0 := by
    rcases fin_N0 t with rfl | rfl | rfl | rfl <;> decide
  exact funext fun j => congrArg (V m c main_v3) (whole hi rfl rfl)
theorem blk10 (t : Fin cfg0.N) : (iblk m c 10 t : Vec F S1x64 .f32) = V m c main_v4 := by
  have hi : win0_10.index t 0 = 0 ∧ win0_10.index t 1 = 0 := by
    rcases fin_N0 t with rfl | rfl | rfl | rfl <;> decide
  exact funext fun j => congrArg (V m c main_v4) (whole hi rfl rfl)

end Cert.Proof.DenseBlk

end
-- ==== Proof.DenseVal.lean ====
/-
  The dense kernel's result, element by element, is the plain mathematics of the dense call.
-/
module

public import proofs.«01_k».proof.Proof.DensePay
public import proofs.«01_k».proof.Proof.DenseRun
public import proofs.«01_k».proof.Proof.DenseBlk

@[expose] public section

noncomputable section

namespace Cert.Proof.DenseVal

open Idealize.ShloMosaic Idealize.ShloMosaic.TcCoe Idealize.SL.Sem Cert.DenseIdeal Cert.DenseIdeal.Gen
open Idealize.ShloMosaic.ValueIdx (ix1 ix2)
open Cert.Proof.DenseMath Cert.Proof.DenseRun Cert.Proof.DenseBlk Cert.Proof.DensePay
open scoped BigOperators

variable (m : (ℓ : Loc nD τ sig) → Buf (Elt Ideal) ℓ) (c : Dev nD)

/-- The call's arguments. -/
abbrev fA : S3407872.Idx → EReal := m ((c : Thread nD τ).loc main_arg0)
abbrev WA : S128x192.Idx → EReal := m ((c : Thread nD τ).loc main_arg1)
abbrev bA : S128.Idx → EReal := m ((c : Thread nD τ).loc main_arg2)
abbrev aA : S128x1.Idx → EReal := m ((c : Thread nD τ).loc main_arg3)
abbrev LA : S64x128.Idx → EReal := m ((c : Thread nD τ).loc main_arg4)
abbrev lA : S64.Idx → EReal := m ((c : Thread nD τ).loc main_arg5)

/-- A grid point as one of four. -/
def pt (t : Fin cfg0.N) : Fin 4 := ⟨t.val, lt_of_lt_of_eq t.isLt N_0⟩

/-- What the point's column block holds: an entry of one of its batch rows. -/
theorem entry (t : Fin cfg0.N) (q : Fin 4096) (k : Fin 192) (hw : k.val / 32 < 6) (hq : q.val % 1024 < 1024) (hk : k.val % 32 < 32) :
    col (rowsBlk m c t ⟨k.val / 32, hw⟩) (32 * (q.val / 1024)) (ix2 ⟨q.val % 1024, hq⟩ ⟨k.val % 32, hk⟩) = X (fA m c) (row (pt t) q) k := by
  have ht : t.val < 4 := lt_of_lt_of_eq t.isLt N_0
  have hq4 : q.val < 4096 := q.isLt
  have hk2 : k.val < 192 := k.isLt
  have e1 : (32 * (q.val / 1024) + k.val % 32) % 128 = 32 * (q.val / 1024) + k.val % 32 := Nat.mod_eq_of_lt (by omega)
  have e2 : k.val / 32 / 2 = k.val / 64 := by omega
  have hr : (off ⟨k.val / 32, hw⟩ + t.val) * 1024 + q.val % 1024 < 26624 := by
    show (k.val / 32 % 2 * 13 + k.val / 32 / 2 * 4 + t.val) * 1024 + q.val % 1024 < 26624
    omega
  have e3 : ((off ⟨k.val / 32, hw⟩ + t.val) * 1024 + q.val % 1024) * 128 + (32 * (q.val / 1024) + k.val % 32) % 128
      = k.val / 32 % 2 * 1703936 + (k.val / 64 * 16384 + (row (pt t) q).val) * 32 + k.val % 32 := by
    rw [e1]
    show ((k.val / 32 % 2 * 13 + k.val / 32 / 2 * 4 + t.val) * 1024 + q.val % 1024) * 128 + (32 * (q.val / 1024) + k.val % 32)
      = k.val / 32 % 2 * 1703936 + (k.val / 64 * 16384 + (4 * (t.val * 1024 + q.val % 1024) + q.val / 1024)) * 32 + k.val % 32
    rw [e2]
    ring
  show rowsBlk m c t ⟨k.val / 32, hw⟩ (ix2 ⟨q.val % 1024, hq⟩ ⟨(32 * (q.val / 1024) + k.val % 32) % 128, _⟩) = _
  rw [rowsBlk_apply m c t _ _ _ hr, V0_apply m c _ _ (by rw [e3]; exact pos_lt _ _)]
  unfold X
  exact congrArg (m ((c : Thread nD τ).loc main_arg0)) (congrArg ix1 (Fin.ext e3))

/-- The sum after a point is the sum before it and the point's part. -/
theorem step_apply (t : Fin cfg0.N) (acc : Vec Ideal S1x128 .f32) (d : Fin 128) :
    step (iblk m c 0 t) (iblk m c 1 t) (iblk m c 2 t) (iblk m c 3 t) (iblk m c 4 t) (iblk m c 5 t) (iblk m c 6 t) (iblk m c 7 t) (iblk m c 8 t) acc (ix2 (0 : Fin 1) d)
      = (acc (ix2 (0 : Fin 1) d) : EReal) + part (fA m c) (WA m c) (bA m c) (aA m c) (pt t) d := by
  have hid_eq (q : Fin 4096) (e : Fin 128) : max (k0_pay6 (k0_pay4 (col (iblk m c 0 t) 0) (col (iblk m c 1 t) 0) (col (iblk m c 2 t) 0) (col (iblk m c 3 t) 0) (col (iblk m c 4 t) 0) (col (iblk m c 5 t) 0)) (k0_pay5 (col (iblk m c 0 t) 32) (col (iblk m c 1 t) 32) (col (iblk m c 2 t) 32) (col (iblk m c 3 t) 32) (col (iblk m c 4 t) 32) (col (iblk m c 5 t) 32))
      (col (iblk m c 0 t) 64) (col (iblk m c 1 t) 64) (col (iblk m c 2 t) 64) (col (iblk m c 3 t) 64) (col (iblk m c 4 t) 64) (col (iblk m c 5 t) 64) (col (iblk m c 0 t) 96) (col (iblk m c 1 t) 96) (col (iblk m c 2 t) 96) (col (iblk m c 3 t) 96) (col (iblk m c 4 t) 96) (col (iblk m c 5 t) 96) (iblk m c 6 t) (iblk m c 7 t) (ix2 q e) : EReal) 0
      = hid (WA m c) (bA m c) (X (fA m c) (row (pt t) q)) e := by
    have hq := q.isLt
    have h := pay6_apply (fun a w => col (rowsBlk m c t w) (32 * a.val)) (iblk m c 6 t) (iblk m c 7 t) q e (by omega) (Nat.mod_lt _ (by decide)) (fun k => by have := k.isLt; omega) (fun k => Nat.mod_lt _ (by decide))
    refine congrArg (fun z : EReal => max z 0) (Eq.trans h ?_)
    refine congrArg₂ (fun a b : EReal => a + b) (Finset.sum_congr rfl fun k _ => congrArg₂ (fun a b : EReal => a * b) (entry m c t q k _ _ _) ?_) ?_
    · rw [blk6]; exact V1_apply m c k e
    · rw [blk7]; exact V2_apply m c e
  unfold step
  refine (pay1_apply _ _ acc d).trans (congrArg (fun z : EReal => (acc (ix2 (0 : Fin 1) d) : EReal) + z) ?_)
  unfold part term
  refine Finset.sum_congr rfl fun q _ => congrArg₂ (fun a b : EReal => a * b) (hid_eq q d) (congrArg Ideal.tanh (Finset.sum_congr rfl fun e _ => congrArg₂ (fun a b : EReal => a * b) (hid_eq q e) ?_))
  rw [blk8, V_main_arg3]

/-- The sum the first point leaves. -/
theorem sum0 (h : 0 < cfg0.N) (d : Fin 128) : ((outsAt0 m c 0 h).2 (ix2 (0 : Fin 1) d) : EReal) = 0 + part (fA m c) (WA m c) (bA m c) (aA m c) 0 d := by
  have e := outsAt0_A m c ⟨0, h⟩ rfl (by show ¬0 % 4 = 3; decide)
  rw [show outsAt0 m c 0 h = _ from e]
  dsimp only
  rw [sout_A, step_apply m c ⟨0, h⟩, pay3_apply]
  rfl

/-- The sum a middle point leaves. -/
theorem sumS (n : ℕ) (hn : n + 1 < 3) (h : n + 1 < cfg0.N) (d : Fin 128) :
    ((outsAt0 m c (n + 1) h).2 (ix2 (0 : Fin 1) d) : EReal)
      = (outsAt0 m c n (Nat.lt_of_succ_lt h)).2 (ix2 (0 : Fin 1) d) + part (fA m c) (WA m c) (bA m c) (aA m c) ⟨n + 1, by omega⟩ d := by
  have e := outsAt0_B m c ⟨n + 1, h⟩ (by dsimp only; omega) (by dsimp only; omega)
  rw [show outsAt0 m c (n + 1) h = _ from e]
  dsimp only
  rw [sout_B, step_apply m c ⟨n + 1, h⟩]
  rfl

/-- The kernel's result at a place of its one row. -/
theorem G_apply (o : Fin 64) : (Cert.DenseIdeal.Value.G11 m c (ix2 (0 : Fin 1) o) : EReal) = out (fA m c) (WA m c) (bA m c) (aA m c) (LA m c) (lA m c) o := by
  have h3 : 3 < cfg0.N := lt_of_lt_of_eq (by decide) N_0.symm
  have e := outsAt0_C m c ⟨3, h3⟩ (by show ¬3 % 4 = 0; decide) rfl
  have g : Cert.DenseIdeal.Value.G11 m c = (outsAt0 m c 3 h3).1 :=
    (Cert.DenseIdeal.Value.G11_last m c).trans (congrArg Prod.fst (Cert.DenseIdeal.Value.outsAt0_sweep m c 3 h3)).symm
  rw [g, show outsAt0 m c 3 h3 = _ from e]
  dsimp only
  rw [out_C, pay2_apply]
  unfold out
  refine congrArg Ideal.tanh (congrArg₂ (fun a b : EReal => a + b) (Finset.sum_congr rfl fun d _ => congrArg₂ (fun a b : EReal => a * b) ?_ ?_) ?_)
  · rw [step_apply m c ⟨3, h3⟩, ← parts_eq]
    refine congrArg (fun z : EReal => z + part (fA m c) (WA m c) (bA m c) (aA m c) 3 d) ?_
    refine (sumS m c 1 (by decide) _ d).trans (congrArg (fun z : EReal => z + part (fA m c) (WA m c) (bA m c) (aA m c) 2 d) ?_)
    refine (sumS m c 0 (by decide) _ d).trans (congrArg (fun z : EReal => z + part (fA m c) (WA m c) (bA m c) (aA m c) 1 d) ?_)
    exact sum0 m c _ d
  · rw [blk9]; exact V3_apply m c d o
  · rw [blk10]; exact V4_apply m c o

end Cert.Proof.DenseVal

end
-- ==== Proof.DenseRef.lean ====
/-
  The dense reference's result, element by element, is the plain mathematics of the dense call.
-/
module

public import proofs.«01_k».proof.Proof.DenseMath
public import proofs.«01_k».proof.Proof.Gen.DenseReferenceIdeal.Run
public import Idealize.ShloMosaic.Lib.Pipeline.Value
public import Idealize.ShloMosaic.Lib.StackMember
public import Idealize.ShloMosaic.Lib.ValueIdx
public import Idealize.ShloMosaic.PureOps.Ideal.Laws

@[expose] public section

noncomputable section

namespace Cert.Proof.DenseRef

open Idealize.ShloMosaic Idealize.SL.Sem Cert.DenseReferenceIdeal Cert.DenseReferenceIdeal.Gen Cert.DenseReferenceIdeal.Value
open Idealize.ShloMosaic.ValueIdx (ix1 ix2 ix3 contrEquiv1 contrEquiv1_symm_val)
open Cert.Proof.DenseMath
open scoped BigOperators

variable (f : FVec Ideal S3407872 .f32) (W : FVec Ideal S128x192 .f32) (bc : FVec Ideal S128 .f32) (att : FVec Ideal S128x1 .f32)
  (Wl : FVec Ideal S64x128 .f32) (bl : FVec Ideal S64 .f32)

/-- The three gathered arrays, a row for each batch row, -/
def rows3 : FVec Ideal S3x16384x64 .f32 :=
  shapeCast _ (transpose S49152x2x32 [1, 0, 2] (extractStridedSlice S2x49152x32 ![0, 0, 0] (shapeCast _ f shapeCasts_S3407872_S2x53248x32) slices_S2x53248x32_S2x49152x32_0_0_0) transposes_S2x49152x32_S49152x2x32_1_0_2) shapeCasts_S49152x2x32_S3x16384x64
/-- side by side, -/
def xcat : FVec Ideal S16384x192 .f32 :=
  concatenate S16384x192 1 [⟨S16384x64, ((shapeCast _ (extractStridedSlice S1x16384x64 ![0, 0, 0] (rows3 f) slices_S3x16384x64_S1x16384x64_0_0_0) shapeCasts_S1x16384x64_S16384x64) : (⟨S16384x64, .f32⟩ : BufTy).Contents (Elt Ideal))⟩, ⟨S16384x64, ((shapeCast _ (extractStridedSlice S1x16384x64 ![1, 0, 0] (rows3 f) slices_S3x16384x64_S1x16384x64_1_0_0) shapeCasts_S1x16384x64_S16384x64) : (⟨S16384x64, .f32⟩ : BufTy).Contents (Elt Ideal))⟩, ⟨S16384x64, ((shapeCast _ (extractStridedSlice S1x16384x64 ![2, 0, 0] (rows3 f) slices_S3x16384x64_S1x16384x64_2_0_0) shapeCasts_S1x16384x64_S16384x64) : (⟨S16384x64, .f32⟩ : BufTy).Contents (Elt Ideal))⟩] concatenates_S16384x64_S16384x64_S16384x64_S16384x192_d1
/-- the hidden layer of these, -/
def hidR (x : FVec Ideal S16384x192 .f32) : FVec Ideal S16384x128 .f32 :=
  maximumf (addf (Host.dotGeneral dot_S16384x192_S192x128_S16384x128_1_0_0_1_n_n none x (transpose S192x128 [1, 0] W transposes_S128x192_S192x128_1_0)) (broadcastInDim S16384x128 ![0, 1] bcast_S1x128_S16384x128_0_1 (broadcastInDim S1x128 ![1] bcast_S128_S1x128_1 bc))) (broadcastInDim S16384x128 ![] bcast_S_S16384x128 (constant S_ .f32 0x00000000#32))
/-- the weighted rows' sum, -/
def sumR (h : FVec Ideal S16384x128 .f32) : FVec Ideal S128 .f32 :=
  Host.reduceAdd (mulf h (broadcastInDim S16384x128 ![0, 1] bcast_S16384x1_S16384x128_0_1 (Host.tanh (Host.dotGeneral dot_S16384x128_S128x1_S16384x1_1_0_0_1_n_n none h att)))) (constant S_ .f32 0x00000000#32) reducesTo_S16384x128_S128_d0 h_S_
/-- and the last layer. -/
def lastR (s : FVec Ideal S128 .f32) : FVec Ideal S1x64 .f32 :=
  shapeCast _ (Host.tanh (addf (Host.dotGeneral dot_S128_S128x64_S64_0_0_n_1_n_n none s (transpose S128x64 [1, 0] Wl transposes_S64x128_S128x64_1_0)) bl)) shapeCasts_S64_S1x64

theorem res_eq (m : (ℓ : Loc nD τ sig) → Buf (Elt Ideal) ℓ) (c : Dev nD) : res_out0 m c
    = lastR (m ((c.tc : Thread nD τ).loc main_arg4)) (m ((c.tc : Thread nD τ).loc main_arg5))
        (sumR (m ((c.tc : Thread nD τ).loc main_arg3)) (hidR (m ((c.tc : Thread nD τ).loc main_arg1)) (m ((c.tc : Thread nD τ).loc main_arg2)) (xcat (m ((c.tc : Thread nD τ).loc main_arg0))))) := by
  unfold res_out0 res_main_v26 lastR sumR hidR xcat rows3
  rfl

theorem rows3_apply (p : Fin 3) (b : Fin 16384) (e : Fin 64) (h : e.val / 32 * 1703936 + (p.val * 16384 + b.val) * 32 + e.val % 32 < 3407872) :
    rows3 f (ix3 p b e) = f (ix1 ⟨_, h⟩) := by
  have hp := p.isLt
  have hb := b.isLt
  have he := e.isLt
  have h1 : p.val * 16384 + b.val < 49152 := by clear h; omega
  have h2 : p.val * 16384 + b.val < 53248 := by clear h; omega
  unfold rows3
  rw [shapeCast_apply _ _ _ (ix3 (⟨p.val * 16384 + b.val, h1⟩ : Fin 49152) (⟨e.val / 32, by omega⟩ : Fin 2) (⟨e.val % 32, by omega⟩ : Fin 32)) (by
    rw [Shape.rowMajor_val_three, Shape.rowMajor_val_three]
    show ((p.val * 16384 + b.val) * 2 + e.val / 32) * 32 + e.val % 32 = (p.val * 16384 + b.val) * 64 + e.val
    omega)]
  rw [transpose_apply _ _ _ _ (ix3 (⟨e.val / 32, by omega⟩ : Fin 2) (⟨p.val * 16384 + b.val, h1⟩ : Fin 49152) (⟨e.val % 32, by omega⟩ : Fin 32)) (fun a => by
    match a with
    | ⟨0, _⟩ => rfl
    | ⟨1, _⟩ => rfl
    | ⟨2, _⟩ => rfl)]
  rw [extractStridedSlice_apply _ _ _ _ (ix3 (⟨e.val / 32, by omega⟩ : Fin 2) (⟨p.val * 16384 + b.val, h2⟩ : Fin 53248) (⟨e.val % 32, by omega⟩ : Fin 32)) (fun a => by
    match a with
    | ⟨0, _⟩ => exact (Nat.zero_add _).symm
    | ⟨1, _⟩ => exact (Nat.zero_add _).symm
    | ⟨2, _⟩ => exact (Nat.zero_add _).symm)]
  exact shapeCast_apply _ _ _ _ (by
    rw [Shape.rowMajor_val_one, Shape.rowMajor_val_three]
    show e.val / 32 * 1703936 + (p.val * 16384 + b.val) * 32 + e.val % 32 = (e.val / 32 * 53248 + (p.val * 16384 + b.val)) * 32 + e.val % 32
    omega)

/-- One of the three arrays, read. -/
theorem piece_apply (p : Fin 3) (r : FVec Ideal S3x16384x64 .f32) (h : S3x16384x64.Slices ![p.val, 0, 0] S1x16384x64) (b : Fin 16384) (e : Fin 64) :
    (shapeCast S16384x64 (extractStridedSlice S1x16384x64 ![p.val, 0, 0] r h) shapeCasts_S1x16384x64_S16384x64) (ix2 b e) = r (ix3 p b e) := by
  rw [shapeCast_apply _ _ _ (ix3 (0 : Fin 1) b e) (by
    rw [Shape.rowMajor_val_two, Shape.rowMajor_val_three]
    show (0 * 16384 + b.val) * 64 + e.val = b.val * 64 + e.val
    omega)]
  exact extractStridedSlice_apply _ _ _ _ _ (fun a => by
    match a with
    | ⟨0, _⟩ => rfl
    | ⟨1, _⟩ => exact (Nat.zero_add _).symm
    | ⟨2, _⟩ => exact (Nat.zero_add _).symm)

theorem xcat_apply (b : Fin 16384) (k : Fin 192) : xcat f (ix2 b k) = X f b k := by
  have hb := b.isLt
  have hk := k.isLt
  have he : k.val % 64 < 64 := Nat.mod_lt _ (by decide)
  have key (p : Fin 3) (hp : k.val / 64 = p.val) : rows3 f (ix3 p b ⟨k.val % 64, he⟩) = X f b k := by
    have e : (⟨k.val % 64, he⟩ : Fin 64).val / 32 * 1703936 + (p.val * 16384 + b.val) * 32 + (⟨k.val % 64, he⟩ : Fin 64).val % 32
        = k.val / 32 % 2 * 1703936 + (k.val / 64 * 16384 + b.val) * 32 + k.val % 32 := by
      show k.val % 64 / 32 * 1703936 + (p.val * 16384 + b.val) * 32 + k.val % 64 % 32 = _
      rw [hp]; omega
    rw [rows3_apply f p b _ (by rw [e]; exact pos_lt b k)]
    unfold X
    exact congrArg f (congrArg ix1 (Fin.ext e))
  have off (x : S16384x64.Idx) (h0 : (x 0).val = b.val) : ∀ a : Fin 2, a.cast (rfl : 2 = 2) ≠ (1 : Fin 2) → (x a).val = ((ix2 b k : S16384x192.Idx) a).val := fun a ha => by
    match a with
    | ⟨0, _⟩ => exact h0
    | ⟨1, _⟩ => exact absurd rfl ha
  unfold xcat
  rcases (by omega : k.val / 64 = 0 ∨ k.val / 64 = 1 ∨ k.val / 64 = 2) with h | h | h
  · exact Eq.trans (concatenate_apply_piece (t := S16384x192) 1 _ _ _ 0 (by show 0 < 3; decide) S16384x64 _ rfl rfl 0 rfl (ix2 b ⟨k.val % 64, he⟩) (off _ rfl) (by show 0 + k.val % 64 = k.val; omega)) ((piece_apply 0 _ _ _ _).trans (key 0 h))
  · exact Eq.trans (concatenate_apply_piece (t := S16384x192) 1 _ _ _ 1 (by show 1 < 3; decide) S16384x64 _ rfl rfl 64 rfl (ix2 b ⟨k.val % 64, he⟩) (off _ rfl) (by show 64 + k.val % 64 = k.val; omega)) ((piece_apply 1 _ _ _ _).trans (key 1 h))
  · exact Eq.trans (concatenate_apply_piece (t := S16384x192) 1 _ _ _ 2 (by show 2 < 3; decide) S16384x64 _ rfl rfl 128 rfl (ix2 b ⟨k.val % 64, he⟩) (off _ rfl) (by show 128 + k.val % 64 = k.val; omega)) ((piece_apply 2 _ _ _ _).trans (key 2 h))

theorem zero_word : (FloatOps.ofBits .f32 0x00000000#32 : Ideal .f32) = 0 := Ideal.ofBits_zero_f32

theorem hidR_apply (x : FVec Ideal S16384x192 .f32) (b : Fin 16384) (d : Fin 128) : hidR W bc x (ix2 b d) = hid W bc (fun k => x (ix2 b k)) d := by
  have e1 : Host.dotGeneral dot_S16384x192_S192x128_S16384x128_1_0_0_1_n_n none x (transpose S192x128 [1, 0] W transposes_S128x192_S192x128_1_0) (ix2 b d) = ∑ k : Fin 192, x (ix2 b k) * W (ix2 d k) := by
    refine (StackMember.dotGeneral_plain_apply none x _ b d).trans (Finset.sum_congr rfl fun k _ => congrArg (x (ix2 b k) * ·) ?_)
    exact transpose_apply _ _ _ _ _ (fun a => by
      match a with
      | ⟨0, _⟩ => rfl
      | ⟨1, _⟩ => rfl)
  have e2 : broadcastInDim S16384x128 ![0, 1] bcast_S1x128_S16384x128_0_1 (broadcastInDim S1x128 ![1] bcast_S128_S1x128_1 bc) (ix2 b d) = bc (ix1 d) := by
    refine (broadcastInDim_apply (s := S1x128) (t := S16384x128) _ _ _ _ (ix2 (0 : Fin 1) d) (fun a => by
      match a with
      | ⟨0, _⟩ => rfl
      | ⟨1, _⟩ => rfl)).trans ?_
    exact broadcastInDim_apply (s := S128) (t := S1x128) _ _ _ _ _ (fun a => by
      match a with
      | ⟨0, _⟩ => rfl)
  exact congrArg₂ max (congrArg₂ (fun a b : EReal => a + b) e1 e2) zero_word

theorem sumR_apply (h : FVec Ideal S16384x128 .f32) (d : Fin 128) :
    sumR att h (ix1 d) = ∑ b : Fin 16384, h (ix2 b d) * Ideal.tanh (∑ e : Fin 128, h (ix2 b e) * att (ix2 e 0)) := by
  have hR : S16384x128.Reduces [0] S128 := by decide
  show Ideal.hostReduceAdd _ _ _ (ix1 d) = _
  rw [Ideal.hostReduceAdd_single _ hR]
  show (FloatOps.ofBits .f32 0x00000000#32 : Ideal .f32) + _ = _
  rw [zero_word, zero_add]
  refine Finset.sum_congr rfl fun b _ => ?_
  have el : hR.lift (ix1 d) b = ix2 b d := by
    funext a
    match a with
    | ⟨0, _⟩ => rfl
    | ⟨1, _⟩ => rfl
  rw [el]
  refine congrArg (h (ix2 b d) * ·) ((broadcastInDim_apply (s := S16384x1) (t := S16384x128) _ _ _ _ (ix2 b (0 : Fin 1)) (fun a => by
    match a with
    | ⟨0, _⟩ => rfl
    | ⟨1, _⟩ => rfl)).trans (congrArg Ideal.tanh ?_))
  exact StackMember.dotGeneral_plain_apply none h att b 0

theorem lastR_apply (s : FVec Ideal S128 .f32) (o : Fin 64) :
    lastR Wl bl s (ix2 (0 : Fin 1) o) = Ideal.tanh ((∑ d : Fin 128, s (ix1 d) * Wl (ix2 o d)) + bl (ix1 o)) := by
  unfold lastR
  rw [shapeCast_apply _ _ _ (ix1 o) (by
    rw [Shape.rowMajor_val_one, Shape.rowMajor_val_two]
    show o.val = 0 * 64 + o.val
    omega)]
  refine congrArg Ideal.tanh (congrArg (· + bl (ix1 o)) ?_)
  show FloatOps.dotGeneral _ _ _ s _ (ix1 o) = _
  rw [Ideal.dotGeneral_apply, ← Equiv.sum_comp (contrEquiv1 dot_S128_S128x64_S64_0_0_n_1_n_n 128 rfl rfl).symm]
  refine Finset.sum_congr rfl fun k _ => ?_
  have ck := contrEquiv1_symm_val dot_S128_S128x64_S64_0_0_n_1_n_n 128 rfl rfl k
  have l : dot_S128_S128x64_S64_0_0_n_1_n_n.lhsIdx (ix1 o) ((contrEquiv1 _ 128 rfl rfl).symm k) = ix1 k := by
    funext a; apply Fin.ext
    match a with
    | ⟨0, _⟩ => exact ck
  rw [l]
  refine congrArg (s (ix1 k) * ·) (transpose_apply _ _ _ _ _ (fun a => ?_))
  match a with
  | ⟨0, _⟩ => exact ck.symm
  | ⟨1, _⟩ => rfl

/-- The reference's result at a place of its one row. -/
theorem res_apply (m : (ℓ : Loc nD τ sig) → Buf (Elt Ideal) ℓ) (c : Dev nD) (o : Fin 64) : res_out0 m c (ix2 (0 : Fin 1) o)
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) o := by
  rw [res_eq, lastR_apply]
  unfold out total term
  simp only [sumR_apply, hidR_apply, xcat_apply]

end Cert.Proof.DenseRef

end
-- ==== Proof.lean ====
/- The ten claims of `Cert.Claim` (proofs.«01_k».proof.Defs). Of the gather: both frames of the kernel are its one run
   (`Launch`), read at the two kinds of number; the reference's is its own run; the result of either is the table's rows at
   the indices. Of the dense call: the frames are the generated runs; the result of either is `DenseMath.out` of the arguments. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Dense.Frame
public import proofs.«01_k».proof.Proof.Gen.DenseIdeal.Value
public import proofs.«01_k».proof.Proof.Gen.DenseReferenceIdeal.Run
public import proofs.«01_k».proof.Proof.Launch
public import proofs.«01_k».proof.Proof.Same
public import proofs.«01_k».proof.Proof.Fits
public import proofs.«01_k».proof.Proof.RefVal
public import proofs.«01_k».proof.Proof.DenseVal
public import proofs.«01_k».proof.Proof.DenseRef
public import Idealize.ShloMosaic.Adequacy
public import Idealize.ShloMosaic.Init
public import Idealize.ShloMosaic.Lib.Quiescent

@[expose] public section

noncomputable section

namespace Cert.Proof

open Idealize.ShloMosaic Idealize.SL.Sem

instance : Cert.Pre_fits.Facts := Gather.preFacts

/-- The indices of a memory of which the precondition holds fit every tile. -/
theorem fits_ideal {m : (ℓ : Loc Cert.KernelIdeal.nD Cert.KernelIdeal.τ Cert.KernelIdeal.sig) → Buf (Elt Ideal) ℓ} (h : Cert.Pre_KernelIdeal m) :
    ∀ d L, Gather.Fit (Gather.ixM m d) L := fun d L => Gather.fit_of (F := Ideal) (h d) L

/-- The same at the machine's own numbers. -/
theorem fits_bits {m : (ℓ : Loc Cert.Kernel.nD Cert.Kernel.τ Cert.Kernel.sig) → Buf (Elt Bits) ℓ} (h : Cert.Pre_Kernel m) :
    ∀ d L, Gather.Fit (Gather.ixM (F := Bits) m d) L := fun d L => Gather.fit_of (F := Bits) (h d) L

theorem frame_kernel : Cert.quiescent_Kernel := fun m ρ h =>
  Same.run ((θ_run (Cert.KernelIdeal.defs (F := Bits)) _ _).mono (fun _ h => ⟨fun c => ⟨(h.1 c).1, (h.1 c).2.1, (h.1 c).2.2.1, (h.1 c).2.2.2.1⟩, h.2⟩)
    (Gather.run_main (F := Bits) m ρ (fits_bits h)))

theorem frame_kernelIdeal : Cert.quiescent_KernelIdeal := fun m ρ h =>
  (θ_run (Cert.KernelIdeal.defs (F := Ideal)) _ _).mono (fun _ h => ⟨fun c => ⟨(h.1 c).1, (h.1 c).2.1, (h.1 c).2.2.1, (h.1 c).2.2.2.1⟩, h.2⟩)
    (Gather.run_main (F := Ideal) m ρ (fits_ideal h))

theorem frame_reference : Cert.quiescent_ReferenceIdeal := fun m ρ _ => Ref.frame m ρ

theorem algebraic : Cert.algebraic_KernelIdeal_ReferenceIdeal := by
  intro m g m' g' hp hm
  have hfit := fits_ideal hp
  refine ⟨fun c => Gather.outM m c, ?_, ?_⟩
  · exact (θ_run (Cert.KernelIdeal.defs (F := Ideal)) _ _).mono (fun _ h c => ⟨(h.1 c).2.2.2.2, (h.1 c).1, (h.1 c).2.1, (h.1 c).2.2.1, (h.1 c).2.2.2.1⟩)
      (Gather.run_main (F := Ideal) m g hfit)
  · refine (θ_run (Cert.ReferenceIdeal.defs (F := Ideal)) _ _).mono (fun r h c => ⟨(h c).1.trans ?_, (h c).2⟩) (Cert.ReferenceIdeal.Value.run m' g')
    obtain ⟨h0, h1, h2, h3⟩ := hm c
    have hix : Ref.ixR m' c = Gather.ixM m c := by
      unfold Ref.ixR
      rw [h0, h1, h2]
      rfl
    have hlt : ∀ k, (Ref.ixR m' c k).toNat < 1000000 := by
      intro k
      rw [hix]
      have := (hfit c (Gather.coordsV ⟨0, by decide⟩ ⟨0, by decide⟩)).lt (k 0).val (k 0).isLt
      exact lt_of_eq_of_lt (congrArg (fun k => (Gather.ixM m c k).toNat) (by
        funext a
        match a with
        | ⟨0, _⟩ => rfl)) (lt_of_eq_of_lt (Gather.ixN_fin (Gather.ixM m c) (k 0)).symm this)
    refine (Ref.res_eq m' c).trans (funext fun y => ?_)
    have g0 : (y 0 : ℕ) < 2 := (y 0).isLt
    have g1 : (y 1 : ℕ) < 49152 := (y 1).isLt
    have g2 : (y 2 : ℕ) < 32 := (y 2).isLt
    have e0 : Gather.ixN (Gather.ixM m c) (y 1 : ℕ) = (Ref.ixR m' c (Shape.Idx.ofFin (y 1 : Fin 49152))).toNat := by
      rw [hix]
      exact Gather.ixN_fin (Gather.ixM m c) (y 1)
    refine (Ref.refF_apply hlt y (Shape.Idx.ofFin (y 1 : Fin 49152)) rfl
      (Gather.at2 (Gather.ixN (Gather.ixM m c) (y 1)) ((y 0 : ℕ) * 32 + (y 2 : ℕ))) ?_ ?_).trans (congrFun h3 _)
    · show Gather.ixN (Gather.ixM m c) (y 1) % 1000000 = _
      rw [e0]
      exact Nat.mod_eq_of_lt (hlt _)
    · show ((y 0 : ℕ) * 32 + (y 2 : ℕ)) % 64 = _
      omega

theorem frame_dense : Cert.quiescent_Dense := fun m ρ _ => Cert.Dense.Gen.frame m ρ

theorem frame_denseIdeal : Cert.quiescent_DenseIdeal := fun m ρ _ => Cert.DenseIdeal.Gen.frame m ρ

theorem frame_denseReference : Cert.quiescent_DenseReferenceIdeal := fun m ρ _ =>
  (θ_run (Cert.DenseReferenceIdeal.defs (F := Ideal)) _ _).mono (fun r h => ⟨fun c => (h c).2, sem_eq_zero_of_no_sems (by decide) r.2⟩)
    (Cert.DenseReferenceIdeal.Value.run m ρ)

/-- A place of an array of one row is a place of the row. -/
theorem row_idx (y : (⟨2, ![1, 64]⟩ : Shape).Idx) : y = ValueIdx.ix2 (0 : Fin 1) (y 1) := by
  have h0 : (y 0 : ℕ) < 1 := (y 0).isLt
  funext a
  match a with
  | ⟨0, _⟩ => exact Fin.ext (Nat.lt_one_iff.mp h0)
  | ⟨1, _⟩ => rfl

theorem algebraic_dense : Cert.algebraic_DenseIdeal_DenseReferenceIdeal := by
  intro m g m' g' _ hm
  refine ⟨fun c => Cert.DenseIdeal.Value.G11 m c, Cert.DenseIdeal.Value.run m g, ?_⟩
  refine (θ_run (Cert.DenseReferenceIdeal.defs (F := Ideal)) _ _).mono (fun r h c => ⟨(h c).1.trans ?_, (h c).2⟩) (Cert.DenseReferenceIdeal.Value.run m' g')
  obtain ⟨h0, h1, h2, h3, h4, h5⟩ := hm c
  refine funext fun y => ?_
  rw [row_idx y]
  refine (DenseRef.res_apply m' c (y 1)).trans (Eq.trans ?_ (DenseVal.G_apply m c (y 1)).symm)
  rw [h0, h1, h2, h3, h4, h5]

theorem claim : Cert.Claim :=
  ⟨Cert.Kernel.Gen.facts, Cert.KernelIdeal.Gen.facts, Cert.ReferenceIdeal.Gen.facts, Cert.Dense.Gen.facts, Cert.DenseIdeal.Gen.facts, Cert.DenseReferenceIdeal.Gen.facts, Gather.preFacts,
    frame_kernel, frame_kernelIdeal, frame_reference, frame_dense, frame_denseIdeal, frame_denseReference,
    trivial, algebraic, trivial, algebraic_dense⟩

end Cert.Proof

end
